-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_not_negative [hPre_batch_not_negative : Cert.Pre_batch_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_batch_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_not_negative [hPre_batch_not_negative : Cert.Pre_batch_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_batch_not_negative [hKernelIdeal : Cert.KernelIdeal.Facts] [hPre_batch_not_negative : Cert.Pre_batch_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_not_negative m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_batch_not_negative [hReferenceIdeal : Cert.ReferenceIdeal.Facts] [hPre_batch_not_negative : Cert.Pre_batch_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_tables_hold_pre_batch_not_negative [hKernelIdeal : Cert.KernelIdeal.Facts] [hReferenceIdeal : Cert.ReferenceIdeal.Facts] [hPre_batch_not_negative : Cert.Pre_batch_not_negative.Facts] [hOn_tables_hold : Cert.On_tables_hold.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (Cert.KernelIdeal.threads (F := Ideal)) ⟨m, fun _ => 0, g⟩ (fun r => ∀ c : Dev Cert.KernelIdeal.nD,
          (∀ i : (⟨4, ![1000, 768, 7, 7]⟩ : Shape).Idx, (Cert.On_tables_hold.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v134) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![1000, 768, 7, 7]⟩ : Shape).Idx, (Cert.On_tables_hold.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v135) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_batch_not_negative : Cert.Pre_batch_not_negative.Facts) (hOn_tables_hold : Cert.On_tables_hold.Facts),
    quiescent_Kernel (hKernel := hKernel)
    ∧ quiescent_KernelIdeal (hKernelIdeal := hKernelIdeal)
    ∧ quiescent_KernelIdeal_pre_batch_not_negative (hKernelIdeal := hKernelIdeal) (hPre_batch_not_negative := hPre_batch_not_negative)
    ∧ quiescent_ReferenceIdeal (hReferenceIdeal := hReferenceIdeal)
    ∧ quiescent_ReferenceIdeal_pre_batch_not_negative (hReferenceIdeal := hReferenceIdeal) (hPre_batch_not_negative := hPre_batch_not_negative)
    ∧ preserves_Kernel_KernelIdeal
    ∧ algebraic_KernelIdeal_ReferenceIdeal_on_tables_hold_pre_batch_not_negative (hKernelIdeal := hKernelIdeal) (hReferenceIdeal := hReferenceIdeal) (hPre_batch_not_negative := hPre_batch_not_negative) (hOn_tables_hold := hOn_tables_hold)
-- ==== On_tables_hold.lean ====
abbrev S2x768x14x14 : Shape := ⟨4, ![2, 768, 14, 14]⟩
abbrev S1000x5 : Shape := ⟨2, ![1000, 5]⟩
abbrev S7 : Shape := ⟨1, ![7]⟩
abbrev S1x7 : Shape := ⟨2, ![1, 7]⟩
abbrev S1000x1 : Shape := ⟨2, ![1000, 1]⟩
abbrev S1000 : Shape := ⟨1, ![1000]⟩
abbrev S_ : Shape := ⟨0, ![]⟩
abbrev S1000x7 : Shape := ⟨2, ![1000, 7]⟩
abbrev S1000x1x7x1 : Shape := ⟨4, ![1000, 1, 7, 1]⟩
abbrev S1000x1x1x7 : Shape := ⟨4, ![1000, 1, 1, 7]⟩
abbrev S1000x1x7x7 : Shape := ⟨4, ![1000, 1, 7, 7]⟩
abbrev S1000x768x7x7 : Shape := ⟨4, ![1000, 768, 7, 7]⟩

class Facts : Prop where
  bcast_S7_S1x7_1 : S7.BroadcastsInDim S1x7 (![1] : Fin 1 → Fin S1x7.rank)
  slices_S1000x5_S1000x1_0_1 : S1000x5.Slices ![0, 1] S1000x1
  shapeCasts_S1000x1_S1000 : S1000x1.ShapeCasts S1000
  bcast_S_S1000 : S_.BroadcastsInDim S1000 (![] : Fin 0 → Fin S1000.rank)
  slices_S1000x5_S1000x1_0_3 : S1000x5.Slices ![0, 3] S1000x1
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S_S1x7 : S_.BroadcastsInDim S1x7 (![] : Fin 0 → Fin S1x7.rank)
  bcast_S1000x1_S1000x7_0_1 : S1000x1.BroadcastsInDim S1000x7 (![0, 1] : Fin 2 → Fin S1000x7.rank)
  bcast_S1x7_S1000x7_0_1 : S1x7.BroadcastsInDim S1000x7 (![0, 1] : Fin 2 → Fin S1000x7.rank)
  slices_S1000x5_S1000x1_0_2 : S1000x5.Slices ![0, 2] S1000x1
  slices_S1000x5_S1000x1_0_4 : S1000x5.Slices ![0, 4] S1000x1
  bcast_S1000x7_S1000x1x7x1_0_2 : S1000x7.BroadcastsInDim S1000x1x7x1 (![0, 2] : Fin 2 → Fin S1000x1x7x1.rank)
  bcast_S1000x7_S1000x1x1x7_0_3 : S1000x7.BroadcastsInDim S1000x1x1x7 (![0, 3] : Fin 2 → Fin S1000x1x1x7.rank)
  bcast_S1000x1x7x1_S1000x1x7x7_0_1_2_3 : S1000x1x7x1.BroadcastsInDim S1000x1x7x7 (![0, 1, 2, 3] : Fin 4 → Fin S1000x1x7x7.rank)
  bcast_S1000x1x1x7_S1000x1x7x7_0_1_2_3 : S1000x1x1x7.BroadcastsInDim S1000x1x7x7 (![0, 1, 2, 3] : Fin 4 → Fin S1000x1x7x7.rank)
  bcast_S1000x1x7x7_S1000x768x7x7_0_1_2_3 : S1000x1x7x7.BroadcastsInDim S1000x768x7x7 (![0, 1, 2, 3] : Fin 4 → Fin S1000x768x7x7.rank)

variable [Facts]

def fn_round {F : FTy → Type} [FloatOps F] (arg0 : FVec F S1000 .f32) : FVec F S1000 .f32 :=
  let v0 : FVec F S1000 .f32 := Host.roundeven arg0
  v0

def fn_part5 {F : FTy → Type} [FloatOps F] (main_v54 : IVec S1000x7 1) (main_v72 : IVec S1000x1 32) (main_v73 : IVec S1000x1 32) (main_v86 : IVec S1000x7 1) (main_v93 : IVec S1000x7 1) (main_v95 : IVec S1000x1 1) : IVec S1000x768x7x7 1 :=
  let main_c_22 : IVec S_ 32 := constantI S_ 32 14#32
  let main_v96 : IVec S1000x1 32 := broadcastInDim S1000x1 ![] bcast_S_S1000x1 main_c_22
  let main_v97 : IVec S1000x1 1 := cmpi .sgt main_v73 main_v96
  let main_v98 : IVec S1000x1 1 := ori main_v95 main_v97
  let main_v99 : IVec S1000x7 1 := broadcastInDim S1000x7 ![0, 1] bcast_S1000x1_S1000x7_0_1 main_v98
  let main_v100 : IVec S1000x7 1 := andi main_v93 main_v99
  let main_c_23 : IVec S_ 32 := constantI S_ 32 15#32
  let main_v101 : IVec S1000x1 32 := broadcastInDim S1000x1 ![] bcast_S_S1000x1 main_c_23
  let main_v102 : IVec S1000x1 1 := cmpi .sle main_v72 main_v101
  let main_v103 : IVec S1000x7 1 := noti main_v86
  let main_v104 : IVec S1000x7 1 := broadcastInDim S1000x7 ![0, 1] bcast_S1000x1_S1000x7_0_1 main_v102
  let main_v105 : IVec S1000x7 1 := andi main_v104 main_v103
  let main_v106 : IVec S1000x7 1 := noti main_v100
  let main_v107 : IVec S1000x7 1 := andi main_v105 main_v106
  let main_v108 : IVec S1000x1x7x1 1 := broadcastInDim S1000x1x7x1 ![0, 2] bcast_S1000x7_S1000x1x7x1_0_2 main_v107
  let main_v109 : IVec S1000x1x1x7 1 := broadcastInDim S1000x1x1x7 ![0, 3] bcast_S1000x7_S1000x1x1x7_0_3 main_v54
  let main_v110 : IVec S1000x1x7x7 1 := broadcastInDim S1000x1x7x7 ![0, 1, 2, 3] bcast_S1000x1x7x1_S1000x1x7x7_0_1_2_3 main_v108
  let main_v111 : IVec S1000x1x7x7 1 := broadcastInDim S1000x1x7x7 ![0, 1, 2, 3] bcast_S1000x1x1x7_S1000x1x7x7_0_1_2_3 main_v109
  let main_v112 : IVec S1000x1x7x7 1 := andi main_v110 main_v111
  let main_v113 : IVec S1000x768x7x7 1 := broadcastInDim S1000x768x7x7 ![0, 1, 2, 3] bcast_S1000x1x7x7_S1000x768x7x7_0_1_2_3 main_v112
  main_v113

def fn_part4 {F : FTy → Type} [FloatOps F] (main_v1 : IVec S1x7 32) (main_v54 : IVec S1000x7 1) (main_v72 : IVec S1000x1 32) (main_v73 : IVec S1000x1 32) (main_v75 : IVec S1000x1 1) (main_v76 : IVec S1000x1 32) : IVec S1000x768x7x7 1 :=
  let main_v77 : IVec S1000x1 1 := cmpi .eq main_v72 main_v76
  let main_v78 : IVec S1000x1 1 := ori main_v75 main_v77
  let main_c_17 : IVec S_ 32 := constantI S_ 32 2#32
  let main_v79 : IVec S1x7 32 := broadcastInDim S1x7 ![] bcast_S_S1x7 main_c_17
  let main_v80 : IVec S1x7 1 := cmpi .eq main_v1 main_v79
  let main_c_18 : IVec S_ 32 := constantI S_ 32 5#32
  let main_v81 : IVec S1x7 32 := broadcastInDim S1x7 ![] bcast_S_S1x7 main_c_18
  let main_v82 : IVec S1x7 1 := cmpi .eq main_v1 main_v81
  let main_v83 : IVec S1x7 1 := ori main_v80 main_v82
  let main_v84 : IVec S1000x7 1 := broadcastInDim S1000x7 ![0, 1] bcast_S1000x1_S1000x7_0_1 main_v78
  let main_v85 : IVec S1000x7 1 := broadcastInDim S1000x7 ![0, 1] bcast_S1x7_S1000x7_0_1 main_v83
  let main_v86 : IVec S1000x7 1 := andi main_v84 main_v85
  let main_c_19 : IVec S_ 32 := constantI S_ 32 15#32
  let main_v87 : IVec S1000x1 32 := broadcastInDim S1000x1 ![] bcast_S_S1000x1 main_c_19
  let main_v88 : IVec S1000x1 1 := cmpi .eq main_v72 main_v87
  let main_c_20 : IVec S_ 32 := constantI S_ 32 6#32
  let main_v89 : IVec S1x7 32 := broadcastInDim S1x7 ![] bcast_S_S1x7 main_c_20
  let main_v90 : IVec S1x7 1 := cmpi .eq main_v1 main_v89
  let main_v91 : IVec S1000x7 1 := broadcastInDim S1000x7 ![0, 1] bcast_S1000x1_S1000x7_0_1 main_v88
  let main_v92 : IVec S1000x7 1 := broadcastInDim S1000x7 ![0, 1] bcast_S1x7_S1000x7_0_1 main_v90
  let main_v93 : IVec S1000x7 1 := andi main_v91 main_v92
  let main_c_21 : IVec S_ 32 := constantI S_ 32 0#32
  let main_v94 : IVec S1000x1 32 := broadcastInDim S1000x1 ![] bcast_S_S1000x1 main_c_21
  let main_v95 : IVec S1000x1 1 := cmpi .slt main_v73 main_v94
  fn_part5 (F := F) main_v54 main_v72 main_v73 main_v86 main_v93 main_v95

def fn_part3 {F : FTy → Type} [FloatOps F] (main_arg1 : FVec F S1000x5 .f32) (main_v1 : IVec S1x7 32) (main_v54 : IVec S1000x7 1) (main_v56 : FVec F S1000 .f32) (main_v57 : FVec F S1000 .f32) : IVec S1000x768x7x7 1 :=
  let main_v58 : FVec F S1000 .f32 := mulf main_v56 main_v57
  let main_v59 : FVec F S1000 .f32 := fn_round (F := F) main_v58
  let main_v60 : IVec S1000 32 := fptosi 32 main_v59
  let main_v61 : FVec F S1000x1 .f32 := (extractStridedSlice S1000x1 ![0, 4] · slices_S1000x5_S1000x1_0_4) main_arg1
  let main_v62 : FVec F S1000 .f32 := shapeCast S1000 main_v61 shapeCasts_S1000x1_S1000
  let main_cst_12 : FVec F S_ .f32 := constant S_ .f32 0x3D800000#32
  let main_v63 : FVec F S1000 .f32 := broadcastInDim S1000 ![] bcast_S_S1000 main_cst_12
  let main_v64 : FVec F S1000 .f32 := mulf main_v62 main_v63
  let main_v65 : FVec F S1000 .f32 := fn_round (F := F) main_v64
  let main_v66 : IVec S1000 32 := fptosi 32 main_v65
  let main_v67 : IVec S1000 32 := subi main_v66 main_v60
  let main_c_13 : IVec S_ 32 := constantI S_ 32 1#32
  let main_v68 : IVec S1000 32 := broadcastInDim S1000 ![] bcast_S_S1000 main_c_13
  let main_v69 : IVec S1000 32 := addi main_v67 main_v68
  let main_c_14 : IVec S_ 32 := constantI S_ 32 1#32
  let main_v70 : IVec S1000 32 := broadcastInDim S1000 ![] bcast_S_S1000 main_c_14
  let main_v71 : IVec S1000 32 := maxsi main_v69 main_v70
  let main_v72 : IVec S1000x1 32 := broadcastInDim S1000x1 ![0] bcast_S1000_S1000x1_0 main_v71
  let main_v73 : IVec S1000x1 32 := broadcastInDim S1000x1 ![0] bcast_S1000_S1000x1_0 main_v60
  let main_c_15 : IVec S_ 32 := constantI S_ 32 7#32
  let main_v74 : IVec S1000x1 32 := broadcastInDim S1000x1 ![] bcast_S_S1000x1 main_c_15
  let main_v75 : IVec S1000x1 1 := cmpi .eq main_v72 main_v74
  let main_c_16 : IVec S_ 32 := constantI S_ 32 14#32
  let main_v76 : IVec S1000x1 32 := broadcastInDim S1000x1 ![] bcast_S_S1000x1 main_c_16
  fn_part4 (F := F) main_v1 main_v54 main_v72 main_v73 main_v75 main_v76

def fn_part2 {F : FTy → Type} [FloatOps F] (main_arg1 : FVec F S1000x5 .f32) (main_v1 : IVec S1x7 32) (main_v19 : IVec S1000x1 32) (main_v20 : IVec S1000x1 32) (main_v33 : IVec S1000x7 1) (main_v35 : IVec S1000x1 1) (main_v37 : IVec S1x7 1) : IVec S1000x768x7x7 1 :=
  let main_v38 : IVec S1000x7 1 := broadcastInDim S1000x7 ![0, 1] bcast_S1000x1_S1000x7_0_1 main_v35
  let main_v39 : IVec S1000x7 1 := broadcastInDim S1000x7 ![0, 1] bcast_S1x7_S1000x7_0_1 main_v37
  let main_v40 : IVec S1000x7 1 := andi main_v38 main_v39
  let main_c_8 : IVec S_ 32 := constantI S_ 32 0#32
  let main_v41 : IVec S1000x1 32 := broadcastInDim S1000x1 ![] bcast_S_S1000x1 main_c_8
  let main_v42 : IVec S1000x1 1 := cmpi .slt main_v20 main_v41
  let main_c_9 : IVec S_ 32 := constantI S_ 32 14#32
  let main_v43 : IVec S1000x1 32 := broadcastInDim S1000x1 ![] bcast_S_S1000x1 main_c_9
  let main_v44 : IVec S1000x1 1 := cmpi .sgt main_v20 main_v43
  let main_v45 : IVec S1000x1 1 := ori main_v42 main_v44
  let main_v46 : IVec S1000x7 1 := broadcastInDim S1000x7 ![0, 1] bcast_S1000x1_S1000x7_0_1 main_v45
  let main_v47 : IVec S1000x7 1 := andi main_v40 main_v46
  let main_c_10 : IVec S_ 32 := constantI S_ 32 15#32
  let main_v48 : IVec S1000x1 32 := broadcastInDim S1000x1 ![] bcast_S_S1000x1 main_c_10
  let main_v49 : IVec S1000x1 1 := cmpi .sle main_v19 main_v48
  let main_v50 : IVec S1000x7 1 := noti main_v33
  let main_v51 : IVec S1000x7 1 := broadcastInDim S1000x7 ![0, 1] bcast_S1000x1_S1000x7_0_1 main_v49
  let main_v52 : IVec S1000x7 1 := andi main_v51 main_v50
  let main_v53 : IVec S1000x7 1 := noti main_v47
  let main_v54 : IVec S1000x7 1 := andi main_v52 main_v53
  let main_v55 : FVec F S1000x1 .f32 := (extractStridedSlice S1000x1 ![0, 2] · slices_S1000x5_S1000x1_0_2) main_arg1
  let main_v56 : FVec F S1000 .f32 := shapeCast S1000 main_v55 shapeCasts_S1000x1_S1000
  let main_cst_11 : FVec F S_ .f32 := constant S_ .f32 0x3D800000#32
  let main_v57 : FVec F S1000 .f32 := broadcastInDim S1000 ![] bcast_S_S1000 main_cst_11
  fn_part3 (F := F) main_arg1 main_v1 main_v54 main_v56 main_v57

def fn_part1 {F : FTy → Type} [FloatOps F] (main_arg1 : FVec F S1000x5 .f32) (main_v1 : IVec S1x7 32) (main_v7 : IVec S1000 32) (main_v19 : IVec S1000x1 32) : IVec S1000x768x7x7 1 :=
  let main_v20 : IVec S1000x1 32 := broadcastInDim S1000x1 ![0] bcast_S1000_S1000x1_0 main_v7
  let main_c_2 : IVec S_ 32 := constantI S_ 32 7#32
  let main_v21 : IVec S1000x1 32 := broadcastInDim S1000x1 ![] bcast_S_S1000x1 main_c_2
  let main_v22 : IVec S1000x1 1 := cmpi .eq main_v19 main_v21
  let main_c_3 : IVec S_ 32 := constantI S_ 32 14#32
  let main_v23 : IVec S1000x1 32 := broadcastInDim S1000x1 ![] bcast_S_S1000x1 main_c_3
  let main_v24 : IVec S1000x1 1 := cmpi .eq main_v19 main_v23
  let main_v25 : IVec S1000x1 1 := ori main_v22 main_v24
  let main_c_4 : IVec S_ 32 := constantI S_ 32 2#32
  let main_v26 : IVec S1x7 32 := broadcastInDim S1x7 ![] bcast_S_S1x7 main_c_4
  let main_v27 : IVec S1x7 1 := cmpi .eq main_v1 main_v26
  let main_c_5 : IVec S_ 32 := constantI S_ 32 5#32
  let main_v28 : IVec S1x7 32 := broadcastInDim S1x7 ![] bcast_S_S1x7 main_c_5
  let main_v29 : IVec S1x7 1 := cmpi .eq main_v1 main_v28
  let main_v30 : IVec S1x7 1 := ori main_v27 main_v29
  let main_v31 : IVec S1000x7 1 := broadcastInDim S1000x7 ![0, 1] bcast_S1000x1_S1000x7_0_1 main_v25
  let main_v32 : IVec S1000x7 1 := broadcastInDim S1000x7 ![0, 1] bcast_S1x7_S1000x7_0_1 main_v30
  let main_v33 : IVec S1000x7 1 := andi main_v31 main_v32
  let main_c_6 : IVec S_ 32 := constantI S_ 32 15#32
  let main_v34 : IVec S1000x1 32 := broadcastInDim S1000x1 ![] bcast_S_S1000x1 main_c_6
  let main_v35 : IVec S1000x1 1 := cmpi .eq main_v19 main_v34
  let main_c_7 : IVec S_ 32 := constantI S_ 32 6#32
  let main_v36 : IVec S1x7 32 := broadcastInDim S1x7 ![] bcast_S_S1x7 main_c_7
  let main_v37 : IVec S1x7 1 := cmpi .eq main_v1 main_v36
  fn_part2 (F := F) main_arg1 main_v1 main_v19 main_v20 main_v33 main_v35 main_v37

def fn {F : FTy → Type} [FloatOps F] (main_arg0 : FVec F S2x768x14x14 .f32) (main_arg1 : FVec F S1000x5 .f32) : IVec S1000x768x7x7 1 :=
  let main_v0 : IVec S7 32 := iotaInDim S7 32 0
  let main_v1 : IVec S1x7 32 := broadcastInDim S1x7 ![1] bcast_S7_S1x7_1 main_v0
  let main_v2 : FVec F S1000x1 .f32 := (extractStridedSlice S1000x1 ![0, 1] · slices_S1000x5_S1000x1_0_1) main_arg1
  let main_v3 : FVec F S1000 .f32 := shapeCast S1000 main_v2 shapeCasts_S1000x1_S1000
  let main_cst : FVec F S_ .f32 := constant S_ .f32 0x3D800000#32
  let main_v4 : FVec F S1000 .f32 := broadcastInDim S1000 ![] bcast_S_S1000 main_cst
  let main_v5 : FVec F S1000 .f32 := mulf main_v3 main_v4
  let main_v6 : FVec F S1000 .f32 := fn_round (F := F) main_v5
  let main_v7 : IVec S1000 32 := fptosi 32 main_v6
  let main_v8 : FVec F S1000x1 .f32 := (extractStridedSlice S1000x1 ![0, 3] · slices_S1000x5_S1000x1_0_3) main_arg1
  let main_v9 : FVec F S1000 .f32 := shapeCast S1000 main_v8 shapeCasts_S1000x1_S1000
  let main_cst_0 : FVec F S_ .f32 := constant S_ .f32 0x3D800000#32
  let main_v10 : FVec F S1000 .f32 := broadcastInDim S1000 ![] bcast_S_S1000 main_cst_0
  let main_v11 : FVec F S1000 .f32 := mulf main_v9 main_v10
  let main_v12 : FVec F S1000 .f32 := fn_round (F := F) main_v11
  let main_v13 : IVec S1000 32 := fptosi 32 main_v12
  let main_v14 : IVec S1000 32 := subi main_v13 main_v7
  let main_c : IVec S_ 32 := constantI S_ 32 1#32
  let main_v15 : IVec S1000 32 := broadcastInDim S1000 ![] bcast_S_S1000 main_c
  let main_v16 : IVec S1000 32 := addi main_v14 main_v15
  let main_c_1 : IVec S_ 32 := constantI S_ 32 1#32
  let main_v17 : IVec S1000 32 := broadcastInDim S1000 ![] bcast_S_S1000 main_c_1
  let main_v18 : IVec S1000 32 := maxsi main_v16 main_v17
  let main_v19 : IVec S1000x1 32 := broadcastInDim S1000x1 ![0] bcast_S1000_S1000x1_0 main_v18
  fn_part1 (F := F) main_arg1 main_v1 main_v7 main_v19
-- ==== Pre_batch_not_negative.lean ====
abbrev S2x768x14x14 : Shape := ⟨4, ![2, 768, 14, 14]⟩
abbrev S1000x5 : Shape := ⟨2, ![1000, 5]⟩
abbrev S1000x1 : Shape := ⟨2, ![1000, 1]⟩
abbrev S1000 : Shape := ⟨1, ![1000]⟩
abbrev S_ : Shape := ⟨0, ![]⟩

class Facts : Prop where
  slices_S1000x5_S1000x1_0_0 : S1000x5.Slices ![0, 0] S1000x1
  shapeCasts_S1000x1_S1000 : S1000x1.ShapeCasts S1000
  bcast_S_S1000 : S_.BroadcastsInDim S1000 (![] : Fin 0 → Fin S1000.rank)

variable [Facts]

def fn {F : FTy → Type} [FloatOps F] (main_arg0 : FVec F S2x768x14x14 .f32) (main_arg1 : FVec F S1000x5 .f32) : IVec S1000 1 :=
  let main_v0 : FVec F S1000x1 .f32 := (extractStridedSlice S1000x1 ![0, 0] · slices_S1000x5_S1000x1_0_0) main_arg1
  let main_v1 : FVec F S1000 .f32 := shapeCast S1000 main_v0 shapeCasts_S1000x1_S1000
  let main_v2 : IVec S1000 32 := fptosi 32 main_v1
  let main_c : IVec S_ 32 := constantI S_ 32 0#32
  let main_v3 : IVec S1000 32 := broadcastInDim S1000 ![] bcast_S_S1000 main_c
  let main_v4 : IVec S1000 1 := cmpi .sge main_v2 main_v3
  main_v4
-- ==== Kernel.lean ====
abbrev S2x768x14x14 : Shape := ⟨4, ![2, 768, 14, 14]⟩
abbrev S1000x5 : Shape := ⟨2, ![1000, 5]⟩
abbrev S7x16 : Shape := ⟨2, ![7, 16]⟩
abbrev S1000x1 : Shape := ⟨2, ![1000, 1]⟩
abbrev S1000 : Shape := ⟨1, ![1000]⟩
abbrev S_ : Shape := ⟨0, ![]⟩
abbrev S7x1000 : Shape := ⟨2, ![7, 1000]⟩
abbrev S1000x7 : Shape := ⟨2, ![1000, 7]⟩
abbrev S1000x7x1 : Shape := ⟨3, ![1000, 7, 1]⟩
abbrev S1000x1x7 : Shape := ⟨3, ![1000, 1, 7]⟩
abbrev S1000x7x7 : Shape := ⟨3, ![1000, 7, 7]⟩
abbrev S1000x7x16 : Shape := ⟨3, ![1000, 7, 16]⟩
abbrev S1000x14 : Shape := ⟨2, ![1000, 14]⟩
abbrev S1000x16 : Shape := ⟨2, ![1000, 16]⟩
abbrev S1000x1x16 : Shape := ⟨3, ![1000, 1, 16]⟩
abbrev S1000x8x16 : Shape := ⟨3, ![1000, 8, 16]⟩
abbrev S1024x8x16 : Shape := ⟨3, ![1024, 8, 16]⟩
abbrev S2x14x14x768 : Shape := ⟨4, ![2, 14, 14, 768]⟩
abbrev S2x196x2x384 : Shape := ⟨4, ![2, 196, 2, 384]⟩
abbrev S2x2x196x384 : Shape := ⟨4, ![2, 2, 196, 384]⟩
abbrev S1000x37632 : Shape := ⟨2, ![1000, 37632]⟩
abbrev S196x384 : Shape := ⟨2, ![196, 384]⟩
abbrev S32x8x16 : Shape := ⟨3, ![32, 8, 16]⟩
abbrev S18816 : Shape := ⟨1, ![18816]⟩
abbrev S16 : Shape := ⟨1, ![16]⟩
abbrev S1x1x16 : Shape := ⟨3, ![1, 1, 16]⟩
abbrev S1 : Shape := ⟨1, ![1]⟩
abbrev S1x1x196x384 : Shape := ⟨4, ![1, 1, 196, 384]⟩
abbrev S1x16 : Shape := ⟨2, ![1, 16]⟩
abbrev S1x18816 : Shape := ⟨2, ![1, 18816]⟩
abbrev S1000x768x7x7 : Shape := ⟨4, ![1000, 768, 7, 7]⟩

abbrev nBuf : Table → Nat
  | .hbm => 210
  | .local .scVector .vmem => 3
  | _ => 0

abbrev hbmTy0_0 (i : Nat) : BufTy := match i % 128 with
  | 0 => ⟨S2x768x14x14, .f32⟩
  | 1 => ⟨S1000x5, .f32⟩
  | 2 => ⟨S7x16, .i32⟩
  | 3 => ⟨S7x16, .i32⟩
  | 4 => ⟨S1000x1, .f32⟩
  | 5 => ⟨S1000, .f32⟩
  | 6 => ⟨S1000, .i32⟩
  | 7 => ⟨S1000x1, .f32⟩
  | 8 => ⟨S1000, .f32⟩
  | 9 => ⟨S_, .f32⟩
  | 10 => ⟨S1000, .f32⟩
  | 11 => ⟨S1000, .f32⟩
  | 12 => ⟨S1000, .f32⟩
  | 13 => ⟨S1000, .i32⟩
  | 14 => ⟨S1000x1, .f32⟩
  | 15 => ⟨S1000, .f32⟩
  | 16 => ⟨S_, .f32⟩
  | 17 => ⟨S1000, .f32⟩
  | 18 => ⟨S1000, .f32⟩
  | 19 => ⟨S1000, .f32⟩
  | 20 => ⟨S1000, .i32⟩
  | 21 => ⟨S1000x1, .f32⟩
  | 22 => ⟨S1000, .f32⟩
  | 23 => ⟨S_, .f32⟩
  | 24 => ⟨S1000, .f32⟩
  | 25 => ⟨S1000, .f32⟩
  | 26 => ⟨S1000, .f32⟩
  | 27 => ⟨S1000, .i32⟩
  | 28 => ⟨S1000x1, .f32⟩
  | 29 => ⟨S1000, .f32⟩
  | 30 => ⟨S_, .f32⟩
  | 31 => ⟨S1000, .f32⟩
  | 32 => ⟨S1000, .f32⟩
  | 33 => ⟨S1000, .f32⟩
  | 34 => ⟨S1000, .i32⟩
  | 35 => ⟨S1000, .i32⟩
  | 36 => ⟨S_, .i32⟩
  | 37 => ⟨S1000, .i32⟩
  | 38 => ⟨S1000, .i32⟩
  | 39 => ⟨S_, .i32⟩
  | 40 => ⟨S_, .i32⟩
  | 41 => ⟨S_, .i32⟩
  | 42 => ⟨S1000, .i32⟩
  | 43 => ⟨S1000, .i32⟩
  | 44 => ⟨S_, .i32⟩
  | 45 => ⟨S1000, .i32⟩
  | 46 => ⟨S1000, .i32⟩
  | 47 => ⟨S1000, .i32⟩
  | 48 => ⟨S_, .i32⟩
  | 49 => ⟨S1000, .i32⟩
  | 50 => ⟨S1000, .i32⟩
  | 51 => ⟨S_, .i32⟩
  | 52 => ⟨S_, .i32⟩
  | 53 => ⟨S_, .i32⟩
  | 54 => ⟨S1000, .i32⟩
  | 55 => ⟨S1000, .i32⟩
  | 56 => ⟨S_, .i32⟩
  | 57 => ⟨S1000, .i32⟩
  | 58 => ⟨S1000, .i32⟩
  | 59 => ⟨S_, .i32⟩
  | 60 => ⟨S1000, .i32⟩
  | 61 => ⟨S1000, .i1⟩
  | 62 => ⟨S_, .i32⟩
  | 63 => ⟨S1000, .i32⟩
  | 64 => ⟨S1000, .i32⟩
  | 65 => ⟨S1000, .i32⟩
  | 66 => ⟨S1000x1, .i32⟩
  | 67 => ⟨S7x1000, .i32⟩
  | 68 => ⟨S1000x7, .i32⟩
  | 69 => ⟨S1000x1, .i32⟩
  | 70 => ⟨S1000x7, .i32⟩
  | 71 => ⟨S1000x7, .i32⟩
  | 72 => ⟨S_, .i32⟩
  | 73 => ⟨S_, .i32⟩
  | 74 => ⟨S_, .i32⟩
  | 75 => ⟨S1000x7, .i32⟩
  | 76 => ⟨S1000x7, .i32⟩
  | 77 => ⟨S_, .i32⟩
  | 78 => ⟨S1000x7, .i32⟩
  | 79 => ⟨S1000x7, .i32⟩
  | 80 => ⟨S_, .i32⟩
  | 81 => ⟨S1000, .i32⟩
  | 82 => ⟨S1000, .i1⟩
  | 83 => ⟨S_, .i32⟩
  | 84 => ⟨S1000, .i32⟩
  | 85 => ⟨S1000, .i32⟩
  | 86 => ⟨S1000, .i32⟩
  | 87 => ⟨S1000x1, .i32⟩
  | 88 => ⟨S7x1000, .i32⟩
  | 89 => ⟨S1000x7, .i32⟩
  | 90 => ⟨S1000x1, .i32⟩
  | 91 => ⟨S1000x7, .i32⟩
  | 92 => ⟨S1000x7, .i32⟩
  | 93 => ⟨S_, .i32⟩
  | 94 => ⟨S_, .i32⟩
  | 95 => ⟨S_, .i32⟩
  | 96 => ⟨S1000x7, .i32⟩
  | 97 => ⟨S1000x7, .i32⟩
  | 98 => ⟨S_, .i32⟩
  | 99 => ⟨S1000x7, .i32⟩
  | 100 => ⟨S1000x7, .i32⟩
  | 101 => ⟨S_, .i32⟩
  | 102 => ⟨S1000, .i32⟩
  | 103 => ⟨S1000, .i1⟩
  | 104 => ⟨S_, .i32⟩
  | 105 => ⟨S1000, .i32⟩
  | 106 => ⟨S1000, .i32⟩
  | 107 => ⟨S1000, .i32⟩
  | 108 => ⟨S1000x1, .i32⟩
  | 109 => ⟨S7x1000, .i32⟩
  | 110 => ⟨S1000x7, .i32⟩
  | 111 => ⟨S1000x1, .i32⟩
  | 112 => ⟨S1000x7, .i32⟩
  | 113 => ⟨S1000x7, .i32⟩
  | 114 => ⟨S_, .i32⟩
  | 115 => ⟨S_, .i32⟩
  | 116 => ⟨S_, .i32⟩
  | 117 => ⟨S1000x7, .i32⟩
  | 118 => ⟨S1000x7, .i32⟩
  | 119 => ⟨S_, .i32⟩
  | 120 => ⟨S1000x7, .i32⟩
  | 121 => ⟨S1000x7, .i32⟩
  | 122 => ⟨S_, .i32⟩
  | 123 => ⟨S1000, .i32⟩
  | 124 => ⟨S1000, .i1⟩
  | 125 => ⟨S_, .i32⟩
  | 126 => ⟨S1000, .i32⟩
  | 127 => ⟨S1000, .i32⟩
  | _ => ⟨S2x768x14x14, .f32⟩

abbrev hbmTy0_1 (i : Nat) : BufTy := match i % 128 with
  | 0 => ⟨S1000, .i32⟩
  | 1 => ⟨S1000x1, .i32⟩
  | 2 => ⟨S7x1000, .i32⟩
  | 3 => ⟨S1000x7, .i32⟩
  | 4 => ⟨S1000x1, .i32⟩
  | 5 => ⟨S1000x7, .i32⟩
  | 6 => ⟨S1000x7, .i32⟩
  | 7 => ⟨S_, .i32⟩
  | 8 => ⟨S_, .i32⟩
  | 9 => ⟨S_, .i32⟩
  | 10 => ⟨S1000x7, .i32⟩
  | 11 => ⟨S1000x7, .i32⟩
  | 12 => ⟨S_, .i32⟩
  | 13 => ⟨S1000x7, .i32⟩
  | 14 => ⟨S1000x7, .i32⟩
  | 15 => ⟨S1000, .i32⟩
  | 16 => ⟨S1000, .i32⟩
  | 17 => ⟨S1000, .i32⟩
  | 18 => ⟨S_, .i32⟩
  | 19 => ⟨S1000, .i32⟩
  | 20 => ⟨S1000, .i1⟩
  | 21 => ⟨S1000, .i32⟩
  | 22 => ⟨S_, .i32⟩
  | 23 => ⟨S_, .i32⟩
  | 24 => ⟨S_, .i32⟩
  | 25 => ⟨S1000, .i32⟩
  | 26 => ⟨S1000, .i1⟩
  | 27 => ⟨S_, .i32⟩
  | 28 => ⟨S1000, .i32⟩
  | 29 => ⟨S1000, .i32⟩
  | 30 => ⟨S1000, .i32⟩
  | 31 => ⟨S1000x1, .i32⟩
  | 32 => ⟨S1000x7, .i32⟩
  | 33 => ⟨S_, .i32⟩
  | 34 => ⟨S1000, .i32⟩
  | 35 => ⟨S1000, .i1⟩
  | 36 => ⟨S_, .i32⟩
  | 37 => ⟨S1000, .i32⟩
  | 38 => ⟨S1000, .i32⟩
  | 39 => ⟨S1000, .i32⟩
  | 40 => ⟨S1000x1, .i32⟩
  | 41 => ⟨S1000x7, .i32⟩
  | 42 => ⟨S_, .i32⟩
  | 43 => ⟨S1000, .i32⟩
  | 44 => ⟨S1000, .i1⟩
  | 45 => ⟨S_, .i32⟩
  | 46 => ⟨S1000, .i32⟩
  | 47 => ⟨S1000, .i32⟩
  | 48 => ⟨S1000, .i32⟩
  | 49 => ⟨S1000x1, .i32⟩
  | 50 => ⟨S1000x7, .i32⟩
  | 51 => ⟨S_, .i32⟩
  | 52 => ⟨S1000, .i32⟩
  | 53 => ⟨S1000, .i1⟩
  | 54 => ⟨S_, .i32⟩
  | 55 => ⟨S1000, .i32⟩
  | 56 => ⟨S1000, .i32⟩
  | 57 => ⟨S1000, .i32⟩
  | 58 => ⟨S1000x1, .i32⟩
  | 59 => ⟨S1000x7, .i32⟩
  | 60 => ⟨S1000x7x1, .i32⟩
  | 61 => ⟨S1000x7x1, .i32⟩
  | 62 => ⟨S1000x1x7, .i32⟩
  | 63 => ⟨S1000x7x7, .i32⟩
  | 64 => ⟨S1000x1x7, .i32⟩
  | 65 => ⟨S1000x7x7, .i32⟩
  | 66 => ⟨S1000x7x16, .i32⟩
  | 67 => ⟨S1000x1, .i32⟩
  | 68 => ⟨S1000x1, .i32⟩
  | 69 => ⟨S_, .i32⟩
  | 70 => ⟨S1000x14, .i32⟩
  | 71 => ⟨S1000x16, .i32⟩
  | 72 => ⟨S1000x1x16, .i32⟩
  | 73 => ⟨S1000x8x16, .i32⟩
  | 74 => ⟨S_, .i32⟩
  | 75 => ⟨S_, .i32⟩
  | 76 => ⟨S1024x8x16, .i32⟩
  | 77 => ⟨S2x14x14x768, .f32⟩
  | 78 => ⟨S2x196x2x384, .f32⟩
  | 79 => ⟨S2x2x196x384, .f32⟩
  | 80 => ⟨S1000x37632, .f32⟩
  | 81 => ⟨S1000x768x7x7, .f32⟩
  | _ => ⟨S2x768x14x14, .f32⟩

abbrev hbmTy (i : Nat) : BufTy := match i / 128 with
  | 0 => hbmTy0_0 i
  | 1 => hbmTy0_1 i
  | _ => ⟨S2x768x14x14, .f32⟩

abbrev bufTy : (tb : Table) → Fin (nBuf tb) → BufTy
  | .hbm, ⟨i, _⟩ => hbmTy i
  | .local .scVector .vmem, ⟨0, _⟩ => ⟨S196x384, .f32⟩
  | .local .scVector .vmem, ⟨1, _⟩ => ⟨S32x8x16, .i32⟩
  | .local .scVector .vmem, ⟨2, _⟩ => ⟨S18816, .f32⟩
  | _, _ => ⟨S2x768x14x14, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v29 : Ref sig .tc := ⟨.hbm, 38, rfl⟩
abbrev main_c_5 : Ref sig .tc := ⟨.hbm, 39, rfl⟩
abbrev main_c_6 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_c_9 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_c_13 : Ref sig .tc := ⟨.hbm, 73, rfl⟩
abbrev main_call6_v0 : Ref sig .tc := ⟨.hbm, 74, rfl⟩
abbrev main_call6_v1 : Ref sig .tc := ⟨.hbm, 75, rfl⟩
abbrev main_call6_v2 : Ref sig .tc := ⟨.hbm, 76, rfl⟩
abbrev main_call6_v3 : Ref sig .tc := ⟨.hbm, 77, rfl⟩
abbrev main_call6_v4 : Ref sig .tc := ⟨.hbm, 78, rfl⟩
abbrev main_v46 : Ref sig .tc := ⟨.hbm, 79, rfl⟩
abbrev main_c_14 : Ref sig .tc := ⟨.hbm, 80, rfl⟩
abbrev main_v47 : Ref sig .tc := ⟨.hbm, 81, rfl⟩
abbrev main_v48 : Ref sig .tc := ⟨.hbm, 82, rfl⟩
abbrev main_c_15 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_16 : Ref sig .tc := ⟨.hbm, 93, rfl⟩
abbrev main_c_17 : Ref sig .tc := ⟨.hbm, 94, rfl⟩
abbrev main_call7_v0 : Ref sig .tc := ⟨.hbm, 95, rfl⟩
abbrev main_call7_v1 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_v58 : Ref sig .tc := ⟨.hbm, 100, rfl⟩
abbrev main_c_18 : Ref sig .tc := ⟨.hbm, 101, rfl⟩
abbrev main_v59 : Ref sig .tc := ⟨.hbm, 102, rfl⟩
abbrev main_v60 : Ref sig .tc := ⟨.hbm, 103, rfl⟩
abbrev main_c_19 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_20 : Ref sig .tc := ⟨.hbm, 114, rfl⟩
abbrev main_c_21 : Ref sig .tc := ⟨.hbm, 115, rfl⟩
abbrev main_call8_v0 : Ref sig .tc := ⟨.hbm, 116, rfl⟩
abbrev main_call8_v1 : Ref sig .tc := ⟨.hbm, 117, rfl⟩
abbrev main_call8_v2 : Ref sig .tc := ⟨.hbm, 118, rfl⟩
abbrev main_call8_v3 : Ref sig .tc := ⟨.hbm, 119, rfl⟩
abbrev main_call8_v4 : Ref sig .tc := ⟨.hbm, 120, rfl⟩
abbrev main_v70 : Ref sig .tc := ⟨.hbm, 121, rfl⟩
abbrev main_c_22 : Ref sig .tc := ⟨.hbm, 122, rfl⟩
abbrev main_v71 : Ref sig .tc := ⟨.hbm, 123, rfl⟩
abbrev main_v72 : Ref sig .tc := ⟨.hbm, 124, rfl⟩
abbrev main_c_23 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_24 : Ref sig .tc := ⟨.hbm, 135, rfl⟩
abbrev main_c_25 : Ref sig .tc := ⟨.hbm, 136, rfl⟩
abbrev main_call9_v0 : Ref sig .tc := ⟨.hbm, 137, rfl⟩
abbrev main_call9_v1 : Ref sig .tc := ⟨.hbm, 138, rfl⟩
abbrev main_call9_v2 : Ref sig .tc := ⟨.hbm, 139, rfl⟩
abbrev main_call9_v3 : Ref sig .tc := ⟨.hbm, 140, rfl⟩
abbrev main_call9_v4 : Ref sig .tc := ⟨.hbm, 141, rfl⟩
abbrev main_v82 : Ref sig .tc := ⟨.hbm, 142, rfl⟩
abbrev main_call10_v0 : Ref sig .tc := ⟨.hbm, 143, rfl⟩
abbrev main_call10_v1_0 : Ref sig .tc := ⟨.hbm, 144, rfl⟩
abbrev main_v83 : Ref sig .tc := ⟨.hbm, 145, rfl⟩
abbrev main_c_26 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_c_27 : Ref sig .tc := ⟨.hbm, 150, rfl⟩
abbrev main_v87 : Ref sig .tc := ⟨.hbm, 151, rfl⟩
abbrev main_c_28 : Ref sig .tc := ⟨.hbm, 152, rfl⟩
abbrev main_v88 : Ref sig .tc := ⟨.hbm, 153, rfl⟩
abbrev main_v89 : Ref sig .tc := ⟨.hbm, 154, rfl⟩
abbrev main_c_29 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_c_30 : Ref sig .tc := ⟨.hbm, 161, rfl⟩
abbrev main_v95 : Ref sig .tc := ⟨.hbm, 162, rfl⟩
abbrev main_v96 : Ref sig .tc := ⟨.hbm, 163, rfl⟩
abbrev main_c_31 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_c_32 : Ref sig .tc := ⟨.hbm, 170, rfl⟩
abbrev main_v102 : Ref sig .tc := ⟨.hbm, 171, rfl⟩
abbrev main_v103 : Ref sig .tc := ⟨.hbm, 172, rfl⟩
abbrev main_c_33 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_c_34 : Ref sig .tc := ⟨.hbm, 179, rfl⟩
abbrev main_v109 : Ref sig .tc := ⟨.hbm, 180, rfl⟩
abbrev main_v110 : Ref sig .tc := ⟨.hbm, 181, rfl⟩
abbrev main_c_35 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_c_36 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_c_37 : Ref sig .tc := ⟨.hbm, 202, rfl⟩
abbrev main_call11_v0 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v132_scv : Ref sig .scVector := ⟨.hbm, 207, rfl⟩
abbrev main_v129_scv : Ref sig .scVector := ⟨.hbm, 204, rfl⟩
abbrev main_v133_scv : Ref sig .scVector := ⟨.hbm, 208, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7_r0 : BitVec 32 := 0#32
  let c0_i32_8_r0 : BitVec 32 := 0#32
  ![v2.toNat, 0, 0]
@[reducible] def k0_t1_loop : Scf.Loop 32 :=
  let c0_i32_4 : BitVec 32 := 0#32
  let c2_i32_5 : BitVec 32 := 2#32
  let v17 : BitVec 32 := Scalar.addi c0_i32_4 c2_i32_5
  let c1_i32 : BitVec 32 := 1#32
  ⟨c0_i32_4, v17, c1_i32⟩
def k0_off2 (k0_t1 : Fin k0_t1_loop.trips) : Fin 4 → Nat :=
  let c0_i32_10 : BitVec 32 := 0#32
  let c0_i32_4 : BitVec 32 := 0#32
  let c1_i32 : BitVec 32 := 1#32
  let arg8 : BitVec 32 := Scf.iv c0_i32_4 c1_i32 k0_t1
  let c0_i32_16_r1 : BitVec 32 := 0#32
  let c0_i32_17_r1 : BitVec 32 := 0#32
  ![0, arg8.toNat, 0, 0]
@[reducible] def k0_t2_loop (i : grid0.Coords) (v10 : BitVec 32) : Scf.Loop 32 :=
  let c0_i32_12 : BitVec 32 := 0#32
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let v24 : BitVec 32 := Scalar.subi v13 c0_i32_12
  let c1_i32_13 : BitVec 32 := 1#32
  let v26 : BitVec 32 := Scalar.divsi v24 c1_i32_13
  let v27 : BitVec 32 := Scalar.muli v26 c1_i32_13
  let v28 : BitVec 32 := Scalar.addi c0_i32_12 v27
  let c1_i32_14 : BitVec 32 := 1#32
  ⟨c0_i32_12, v28, c1_i32_14⟩
def k0_cond1 (i : grid0.Coords) (v10 : BitVec 32) : BitVec 1 :=
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let c0_i32_7 : BitVec 32 := 0#32
  let v18 : BitVec 1 := Scalar.cmpi .sgt v13 c0_i32_7
  let v19 : BitVec 32 := Scalar.extui v18
  let c0_i32_8 : BitVec 32 := 0#32
  let v20 : BitVec 1 := Scalar.cmpi .ne v19 c0_i32_8
  v20

@[reducible] def k0_t3_loop : Scf.Loop 32 :=
  let c0_i32_17 : BitVec 32 := 0#32
  let c7_i32_18 : BitVec 32 := 7#32
  let v29 : BitVec 32 := Scalar.addi c0_i32_17 c7_i32_18
  let c1_i32_19 : BitVec 32 := 1#32
  ⟨c0_i32_17, v29, c1_i32_19⟩
def k0_off3 (i : grid0.Coords) (v10 : BitVec 32) (k0_t2 : Fin (k0_t2_loop i v10).trips) (k0_t3 : Fin k0_t3_loop.trips) : Fin 3 → Nat :=
  let c0_i32_12 : BitVec 32 := 0#32
  let c1_i32_14 : BitVec 32 := 1#32
  let arg9 : BitVec 32 := Scf.iv c0_i32_12 c1_i32_14 k0_t2
  let v37 : Index := Scalar.indexCast arg9
  let c0_i32_17 : BitVec 32 := 0#32
  let c1_i32_19 : BitVec 32 := 1#32
  let arg10 : BitVec 32 := Scf.iv c0_i32_17 c1_i32_19 k0_t3
  let v38 : Index := Scalar.indexCast arg10
  let c0_24 : Index := 0#32
  ![v37.toNat, v38.toNat, 0]
@[reducible] def k0_t4_loop (v41 : BitVec 32) (v43 : BitVec 32) : Scf.Loop 32 :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_26 : BitVec 32 := 1#32
  ⟨v41, v53, c1_i32_26⟩

@[reducible] def k0_t5_loop (v45 : BitVec 32) (v47 : BitVec 32) : Scf.Loop 32 :=
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_376 : BitVec 32 := 1#32
  ⟨v45, v1008, c1_i32_376⟩

def k0_off4 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1012 : Index := Scalar.indexCast v1011
  let c0_378 : Index := 0#32
  ![v1012.toNat, 0]
def k0_off5 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1015 : Index := Scalar.indexCast v1011
  let c16 : Index := 16#32
  ![v1015.toNat, 16]
def k0_off6 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1018 : Index := Scalar.indexCast v1011
  let c32 : Index := 32#32
  ![v1018.toNat, 32]
def k0_off7 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1021 : Index := Scalar.indexCast v1011
  let c48 : Index := 48#32
  ![v1021.toNat, 48]
def k0_off8 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1024 : Index := Scalar.indexCast v1011
  let c64 : Index := 64#32
  ![v1024.toNat, 64]
def k0_off9 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1027 : Index := Scalar.indexCast v1011
  let c80 : Index := 80#32
  ![v1027.toNat, 80]
def k0_off10 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1030 : Index := Scalar.indexCast v1011
  let c96 : Index := 96#32
  ![v1030.toNat, 96]
def k0_off11 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1033 : Index := Scalar.indexCast v1011
  let c112 : Index := 112#32
  ![v1033.toNat, 112]
def k0_off12 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1036 : Index := Scalar.indexCast v1011
  let c128 : Index := 128#32
  ![v1036.toNat, 128]
def k0_off13 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1039 : Index := Scalar.indexCast v1011
  let c144 : Index := 144#32
  ![v1039.toNat, 144]
def k0_off14 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1042 : Index := Scalar.indexCast v1011
  let c160 : Index := 160#32
  ![v1042.toNat, 160]
def k0_off15 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1045 : Index := Scalar.indexCast v1011
  let c176 : Index := 176#32
  ![v1045.toNat, 176]
def k0_off16 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1048 : Index := Scalar.indexCast v1011
  let c192 : Index := 192#32
  ![v1048.toNat, 192]
def k0_off17 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1051 : Index := Scalar.indexCast v1011
  let c208 : Index := 208#32
  ![v1051.toNat, 208]
def k0_off18 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1054 : Index := Scalar.indexCast v1011
  let c224 : Index := 224#32
  ![v1054.toNat, 224]
def k0_off19 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1057 : Index := Scalar.indexCast v1011
  let c240 : Index := 240#32
  ![v1057.toNat, 240]
def k0_off20 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1060 : Index := Scalar.indexCast v1011
  let c256 : Index := 256#32
  ![v1060.toNat, 256]
def k0_off21 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1063 : Index := Scalar.indexCast v1011
  let c272 : Index := 272#32
  ![v1063.toNat, 272]
def k0_off22 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1066 : Index := Scalar.indexCast v1011
  let c288 : Index := 288#32
  ![v1066.toNat, 288]
def k0_off23 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1069 : Index := Scalar.indexCast v1011
  let c304 : Index := 304#32
  ![v1069.toNat, 304]
def k0_off24 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1072 : Index := Scalar.indexCast v1011
  let c320 : Index := 320#32
  ![v1072.toNat, 320]
def k0_off25 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1075 : Index := Scalar.indexCast v1011
  let c336 : Index := 336#32
  ![v1075.toNat, 336]
def k0_off26 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1078 : Index := Scalar.indexCast v1011
  let c352 : Index := 352#32
  ![v1078.toNat, 352]
def k0_off27 (v41 : BitVec 32) (v43 : BitVec 32) (v45 : BitVec 32) (v47 : BitVec 32) (k0_t4 : Fin (k0_t4_loop v41 v43).trips) (k0_t5 : Fin (k0_t5_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let c1_i32_376 : BitVec 32 := 1#32
  let arg36 : BitVec 32 := Scf.iv v45 c1_i32_376 k0_t5
  let v1011 : BitVec 32 := Scalar.addi v1003 arg36
  let v1081 : Index := Scalar.indexCast v1011
  let c368 : Index := 368#32
  ![v1081.toNat, 368]
@[reducible] def k0_t6_loop (v45 : BitVec 32) (v47 : BitVec 32) : Scf.Loop 32 :=
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let v1005 : BitVec 32 := Scalar.addi v45 v1004
  let c1_i32_377 : BitVec 32 := 1#32
  ⟨v1008, v1005, c1_i32_377⟩
def k0_off28 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1012 : Index := Scalar.indexCast v1011
  let c0_378 : Index := 0#32
  ![v1012.toNat, 0]
def k0_off29 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1015 : Index := Scalar.indexCast v1011
  let c16 : Index := 16#32
  ![v1015.toNat, 16]
def k0_off30 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1018 : Index := Scalar.indexCast v1011
  let c32 : Index := 32#32
  ![v1018.toNat, 32]
def k0_off31 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1021 : Index := Scalar.indexCast v1011
  let c48 : Index := 48#32
  ![v1021.toNat, 48]
def k0_off32 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1024 : Index := Scalar.indexCast v1011
  let c64 : Index := 64#32
  ![v1024.toNat, 64]
def k0_off33 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1027 : Index := Scalar.indexCast v1011
  let c80 : Index := 80#32
  ![v1027.toNat, 80]
def k0_off34 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1030 : Index := Scalar.indexCast v1011
  let c96 : Index := 96#32
  ![v1030.toNat, 96]
def k0_off35 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1033 : Index := Scalar.indexCast v1011
  let c112 : Index := 112#32
  ![v1033.toNat, 112]
def k0_off36 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1036 : Index := Scalar.indexCast v1011
  let c128 : Index := 128#32
  ![v1036.toNat, 128]
def k0_off37 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1039 : Index := Scalar.indexCast v1011
  let c144 : Index := 144#32
  ![v1039.toNat, 144]
def k0_off38 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1042 : Index := Scalar.indexCast v1011
  let c160 : Index := 160#32
  ![v1042.toNat, 160]
def k0_off39 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1045 : Index := Scalar.indexCast v1011
  let c176 : Index := 176#32
  ![v1045.toNat, 176]
def k0_off40 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1048 : Index := Scalar.indexCast v1011
  let c192 : Index := 192#32
  ![v1048.toNat, 192]
def k0_off41 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1051 : Index := Scalar.indexCast v1011
  let c208 : Index := 208#32
  ![v1051.toNat, 208]
def k0_off42 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1054 : Index := Scalar.indexCast v1011
  let c224 : Index := 224#32
  ![v1054.toNat, 224]
def k0_off43 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1057 : Index := Scalar.indexCast v1011
  let c240 : Index := 240#32
  ![v1057.toNat, 240]
def k0_off44 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1060 : Index := Scalar.indexCast v1011
  let c256 : Index := 256#32
  ![v1060.toNat, 256]
def k0_off45 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1063 : Index := Scalar.indexCast v1011
  let c272 : Index := 272#32
  ![v1063.toNat, 272]
def k0_off46 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1066 : Index := Scalar.indexCast v1011
  let c288 : Index := 288#32
  ![v1066.toNat, 288]
def k0_off47 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1069 : Index := Scalar.indexCast v1011
  let c304 : Index := 304#32
  ![v1069.toNat, 304]
def k0_off48 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1072 : Index := Scalar.indexCast v1011
  let c320 : Index := 320#32
  ![v1072.toNat, 320]
def k0_off49 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1075 : Index := Scalar.indexCast v1011
  let c336 : Index := 336#32
  ![v1075.toNat, 336]
def k0_off50 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1078 : Index := Scalar.indexCast v1011
  let c352 : Index := 352#32
  ![v1078.toNat, 352]
def k0_off51 (v41 : BitVec 32) (v43 : BitVec 32) (v45 : BitVec 32) (v47 : BitVec 32) (k0_t4 : Fin (k0_t4_loop v41 v43).trips) (k0_t6 : Fin (k0_t6_loop v45 v47).trips) : Fin 2 → Nat :=
  let c1_i32_26 : BitVec 32 := 1#32
  let arg11 : BitVec 32 := Scf.iv v41 c1_i32_26 k0_t4
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t6
  let v1011 : BitVec 32 := Scalar.addi v1003 arg36
  let v1081 : Index := Scalar.indexCast v1011
  let c368 : Index := 368#32
  ![v1081.toNat, 368]
@[reducible] def k0_t7_loop (v41 : BitVec 32) (v43 : BitVec 32) : Scf.Loop 32 :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let v50 : BitVec 32 := Scalar.addi v41 v49
  let c1_i32_27 : BitVec 32 := 1#32
  ⟨v53, v50, c1_i32_27⟩
@[reducible] def k0_t8_loop (v45 : BitVec 32) (v47 : BitVec 32) : Scf.Loop 32 :=
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_376 : BitVec 32 := 1#32
  ⟨v45, v1008, c1_i32_376⟩
def k0_off52 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1012 : Index := Scalar.indexCast v1011
  let c0_378 : Index := 0#32
  ![v1012.toNat, 0]
def k0_off53 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1015 : Index := Scalar.indexCast v1011
  let c16 : Index := 16#32
  ![v1015.toNat, 16]
def k0_off54 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1018 : Index := Scalar.indexCast v1011
  let c32 : Index := 32#32
  ![v1018.toNat, 32]
def k0_off55 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1021 : Index := Scalar.indexCast v1011
  let c48 : Index := 48#32
  ![v1021.toNat, 48]
def k0_off56 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1024 : Index := Scalar.indexCast v1011
  let c64 : Index := 64#32
  ![v1024.toNat, 64]
def k0_off57 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1027 : Index := Scalar.indexCast v1011
  let c80 : Index := 80#32
  ![v1027.toNat, 80]
def k0_off58 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1030 : Index := Scalar.indexCast v1011
  let c96 : Index := 96#32
  ![v1030.toNat, 96]
def k0_off59 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1033 : Index := Scalar.indexCast v1011
  let c112 : Index := 112#32
  ![v1033.toNat, 112]
def k0_off60 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1036 : Index := Scalar.indexCast v1011
  let c128 : Index := 128#32
  ![v1036.toNat, 128]
def k0_off61 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1039 : Index := Scalar.indexCast v1011
  let c144 : Index := 144#32
  ![v1039.toNat, 144]
def k0_off62 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1042 : Index := Scalar.indexCast v1011
  let c160 : Index := 160#32
  ![v1042.toNat, 160]
def k0_off63 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1045 : Index := Scalar.indexCast v1011
  let c176 : Index := 176#32
  ![v1045.toNat, 176]
def k0_off64 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1048 : Index := Scalar.indexCast v1011
  let c192 : Index := 192#32
  ![v1048.toNat, 192]
def k0_off65 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1051 : Index := Scalar.indexCast v1011
  let c208 : Index := 208#32
  ![v1051.toNat, 208]
def k0_off66 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1054 : Index := Scalar.indexCast v1011
  let c224 : Index := 224#32
  ![v1054.toNat, 224]
def k0_off67 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1057 : Index := Scalar.indexCast v1011
  let c240 : Index := 240#32
  ![v1057.toNat, 240]
def k0_off68 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1060 : Index := Scalar.indexCast v1011
  let c256 : Index := 256#32
  ![v1060.toNat, 256]
def k0_off69 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1063 : Index := Scalar.indexCast v1011
  let c272 : Index := 272#32
  ![v1063.toNat, 272]
def k0_off70 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1066 : Index := Scalar.indexCast v1011
  let c288 : Index := 288#32
  ![v1066.toNat, 288]
def k0_off71 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1069 : Index := Scalar.indexCast v1011
  let c304 : Index := 304#32
  ![v1069.toNat, 304]
def k0_off72 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1072 : Index := Scalar.indexCast v1011
  let c320 : Index := 320#32
  ![v1072.toNat, 320]
def k0_off73 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1075 : Index := Scalar.indexCast v1011
  let c336 : Index := 336#32
  ![v1075.toNat, 336]
def k0_off74 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1078 : Index := Scalar.indexCast v1011
  let c352 : Index := 352#32
  ![v1078.toNat, 352]
def k0_off75 (v41 : BitVec 32) (v43 : BitVec 32) (v45 : BitVec 32) (v47 : BitVec 32) (k0_t7 : Fin (k0_t7_loop v41 v43).trips) (k0_t8 : Fin (k0_t8_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let c1_i32_376 : BitVec 32 := 1#32
  let arg36 : BitVec 32 := Scf.iv v45 c1_i32_376 k0_t8
  let v1011 : BitVec 32 := Scalar.addi v1003 arg36
  let v1081 : Index := Scalar.indexCast v1011
  let c368 : Index := 368#32
  ![v1081.toNat, 368]
@[reducible] def k0_t9_loop (v45 : BitVec 32) (v47 : BitVec 32) : Scf.Loop 32 :=
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let v1005 : BitVec 32 := Scalar.addi v45 v1004
  let c1_i32_377 : BitVec 32 := 1#32
  ⟨v1008, v1005, c1_i32_377⟩
def k0_off76 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1012 : Index := Scalar.indexCast v1011
  let c0_378 : Index := 0#32
  ![v1012.toNat, 0]
def k0_off77 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1015 : Index := Scalar.indexCast v1011
  let c16 : Index := 16#32
  ![v1015.toNat, 16]
def k0_off78 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1018 : Index := Scalar.indexCast v1011
  let c32 : Index := 32#32
  ![v1018.toNat, 32]
def k0_off79 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1021 : Index := Scalar.indexCast v1011
  let c48 : Index := 48#32
  ![v1021.toNat, 48]
def k0_off80 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1024 : Index := Scalar.indexCast v1011
  let c64 : Index := 64#32
  ![v1024.toNat, 64]
def k0_off81 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1027 : Index := Scalar.indexCast v1011
  let c80 : Index := 80#32
  ![v1027.toNat, 80]
def k0_off82 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1030 : Index := Scalar.indexCast v1011
  let c96 : Index := 96#32
  ![v1030.toNat, 96]
def k0_off83 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1033 : Index := Scalar.indexCast v1011
  let c112 : Index := 112#32
  ![v1033.toNat, 112]
def k0_off84 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1036 : Index := Scalar.indexCast v1011
  let c128 : Index := 128#32
  ![v1036.toNat, 128]
def k0_off85 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1039 : Index := Scalar.indexCast v1011
  let c144 : Index := 144#32
  ![v1039.toNat, 144]
def k0_off86 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1042 : Index := Scalar.indexCast v1011
  let c160 : Index := 160#32
  ![v1042.toNat, 160]
def k0_off87 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1045 : Index := Scalar.indexCast v1011
  let c176 : Index := 176#32
  ![v1045.toNat, 176]
def k0_off88 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1048 : Index := Scalar.indexCast v1011
  let c192 : Index := 192#32
  ![v1048.toNat, 192]
def k0_off89 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1051 : Index := Scalar.indexCast v1011
  let c208 : Index := 208#32
  ![v1051.toNat, 208]
def k0_off90 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1054 : Index := Scalar.indexCast v1011
  let c224 : Index := 224#32
  ![v1054.toNat, 224]
def k0_off91 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1057 : Index := Scalar.indexCast v1011
  let c240 : Index := 240#32
  ![v1057.toNat, 240]
def k0_off92 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1060 : Index := Scalar.indexCast v1011
  let c256 : Index := 256#32
  ![v1060.toNat, 256]
def k0_off93 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1063 : Index := Scalar.indexCast v1011
  let c272 : Index := 272#32
  ![v1063.toNat, 272]
def k0_off94 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1066 : Index := Scalar.indexCast v1011
  let c288 : Index := 288#32
  ![v1066.toNat, 288]
def k0_off95 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1069 : Index := Scalar.indexCast v1011
  let c304 : Index := 304#32
  ![v1069.toNat, 304]
def k0_off96 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1072 : Index := Scalar.indexCast v1011
  let c320 : Index := 320#32
  ![v1072.toNat, 320]
def k0_off97 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1075 : Index := Scalar.indexCast v1011
  let c336 : Index := 336#32
  ![v1075.toNat, 336]
def k0_off98 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1078 : Index := Scalar.indexCast v1011
  let c352 : Index := 352#32
  ![v1078.toNat, 352]
def k0_off99 (v41 : BitVec 32) (v43 : BitVec 32) (v45 : BitVec 32) (v47 : BitVec 32) (k0_t7 : Fin (k0_t7_loop v41 v43).trips) (k0_t9 : Fin (k0_t9_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t7
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t9
  let v1011 : BitVec 32 := Scalar.addi v1003 arg36
  let v1081 : Index := Scalar.indexCast v1011
  let c368 : Index := 368#32
  ![v1081.toNat, 368]

def k0_chk3_0 (i : grid0.Coords) (v10 : BitVec 32) (v41 : BitVec 32) (v43 : BitVec 32) (v45 : BitVec 32) (v47 : BitVec 32) : Prop :=
  (∀ k0_t4 : Fin (k0_t4_loop v41 v43).trips, ∀ (k0_h1 : k0_cond1 i v10 = 1#1), (k0_t5_loop v45 v47).OK) ∧
  (∀ (k0_t4 : Fin (k0_t4_loop v41 v43).trips) (k0_t5 : Fin (k0_t5_loop v45 v47).trips), ∀ (k0_h1 : k0_cond1 i v10 = 1#1), ∀ a, (k0_off4 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off5 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off6 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off7 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off8 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off9 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off10 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off11 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off12 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off13 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off14 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off15 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off16 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off17 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off18 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off19 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off20 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off21 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off22 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off23 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off24 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off25 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off26 v41 v43 v45 v47 k0_t4 k0_t5) a + S1x16.size a ≤ S196x384.size a) ∧
  (∀ (k0_t4 : Fin (k0_t4_loop v41 v43).trips) (k0_t5 : Fin (k0_t5_loop v45 v47).trips), ∀ (k0_h1 : k0_cond1 i v10 = 1#1), ∀ a, (k0_off27 v41 v43 v45 v47 k0_t4 k0_t5) a + S1x16.size a ≤ S196x384.size a) ∧
  (∀ k0_t4 : Fin (k0_t4_loop v41 v43).trips, ∀ (k0_h1 : k0_cond1 i v10 = 1#1), (k0_t6_loop v45 v47).OK) ∧
  (∀ (k0_t4 : Fin (k0_t4_loop v41 v43).trips) (k0_t6 : Fin (k0_t6_loop v45 v47).trips), ∀ (k0_h1 : k0_cond1 i v10 = 1#1), ∀ a, (k0_off28 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off29 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off30 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off31 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off32 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off33 v41 v43 v45 v47 k0_t4 k0_t6) a + S1x16.size a ≤ S196x384.size a)
def k0_chk3_1 (i : grid0.Coords) (v10 : BitVec 32) (v41 : BitVec 32) (v43 : BitVec 32) (v45 : BitVec 32) (v47 : BitVec 32) : Prop :=
  (∀ (k0_t4 : Fin (k0_t4_loop v41 v43).trips) (k0_t6 : Fin (k0_t6_loop v45 v47).trips), ∀ (k0_h1 : k0_cond1 i v10 = 1#1), ∀ a, (k0_off34 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off35 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off36 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off37 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off38 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off39 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off40 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off41 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off42 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off43 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off44 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off45 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off46 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off47 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off48 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off49 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off50 v41 v43 v45 v47 k0_t4 k0_t6) a + S1x16.size a ≤ S196x384.size a) ∧
  (∀ (k0_t4 : Fin (k0_t4_loop v41 v43).trips) (k0_t6 : Fin (k0_t6_loop v45 v47).trips), ∀ (k0_h1 : k0_cond1 i v10 = 1#1), ∀ a, (k0_off51 v41 v43 v45 v47 k0_t4 k0_t6) a + S1x16.size a ≤ S196x384.size a) ∧
  (∀ k0_t7 : Fin (k0_t7_loop v41 v43).trips, ∀ (k0_h1 : k0_cond1 i v10 = 1#1), (k0_t8_loop v45 v47).OK) ∧
  (∀ (k0_t7 : Fin (k0_t7_loop v41 v43).trips) (k0_t8 : Fin (k0_t8_loop v45 v47).trips), ∀ (k0_h1 : k0_cond1 i v10 = 1#1), ∀ a, (k0_off52 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off53 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off54 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off55 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off56 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off57 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off58 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off59 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off60 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off61 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off62 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off63 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off64 v41 v43 v45 v47 k0_t7 k0_t8) a + S1x16.size a ≤ S196x384.size a)
def k0_chk3_2 (i : grid0.Coords) (v10 : BitVec 32) (v41 : BitVec 32) (v43 : BitVec 32) (v45 : BitVec 32) (v47 : BitVec 32) : Prop :=
  (∀ (k0_t7 : Fin (k0_t7_loop v41 v43).trips) (k0_t8 : Fin (k0_t8_loop v45 v47).trips), ∀ (k0_h1 : k0_cond1 i v10 = 1#1), ∀ a, (k0_off65 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off66 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off67 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off68 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off69 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off70 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off71 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off72 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off73 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off74 v41 v43 v45 v47 k0_t7 k0_t8) a + S1x16.size a ≤ S196x384.size a) ∧
  (∀ (k0_t7 : Fin (k0_t7_loop v41 v43).trips) (k0_t8 : Fin (k0_t8_loop v45 v47).trips), ∀ (k0_h1 : k0_cond1 i v10 = 1#1), ∀ a, (k0_off75 v41 v43 v45 v47 k0_t7 k0_t8) a + S1x16.size a ≤ S196x384.size a) ∧
  (∀ k0_t7 : Fin (k0_t7_loop v41 v43).trips, ∀ (k0_h1 : k0_cond1 i v10 = 1#1), (k0_t9_loop v45 v47).OK) ∧
  (∀ (k0_t7 : Fin (k0_t7_loop v41 v43).trips) (k0_t9 : Fin (k0_t9_loop v45 v47).trips), ∀ (k0_h1 : k0_cond1 i v10 = 1#1), ∀ a, (k0_off76 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off77 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off78 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off79 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off80 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off81 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off82 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off83 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off84 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off85 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off86 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off87 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off88 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off89 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off90 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off91 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off92 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off93 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off94 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off95 v41 v43 v45 v47 k0_t7 k0_t9) a + S1x16.size a ≤ S196x384.size a)
def k0_chk3_3 (i : grid0.Coords) (v10 : BitVec 32) (v41 : BitVec 32) (v43 : BitVec 32) (v45 : BitVec 32) (v47 : BitVec 32) : Prop :=
  (∀ (k0_t7 : Fin (k0_t7_loop v41 v43).trips) (k0_t9 : Fin (k0_t9_loop v45 v47).trips), ∀ (k0_h1 : k0_cond1 i v10 = 1#1), ∀ a, (k0_off96 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off97 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off98 v41 v43 v45 v47 k0_t7 k0_t9) a + S1x16.size a ≤ S196x384.size a) ∧
  (∀ (k0_t7 : Fin (k0_t7_loop v41 v43).trips) (k0_t9 : Fin (k0_t9_loop v45 v47).trips), ∀ (k0_h1 : k0_cond1 i v10 = 1#1), ∀ a, (k0_off99 v41 v43 v45 v47 k0_t7 k0_t9) a + S1x16.size a ≤ S196x384.size a)
def k0_chk3 (i : grid0.Coords) (v10 : BitVec 32) (v41 : BitVec 32) (v43 : BitVec 32) (v45 : BitVec 32) (v47 : BitVec 32) : Prop :=
  k0_chk3_0 i v10 v41 v43 v45 v47 ∧
  k0_chk3_1 i v10 v41 v43 v45 v47 ∧
  k0_chk3_2 i v10 v41 v43 v45 v47 ∧
  k0_chk3_3 i v10 v41 v43 v45 v47
theorem k0_t5_ok : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips), ∀ (k0_h1 : k0_cond1 i v10 = 1#1), (k0_t5_loop v45 v47).OK := fun i v10 v41 v43 v45 v47 k0_hw3 k0_t4 k0_h1 => k0_hw3.1.1 k0_t4 k0_h1
theorem k0_off4_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off4 v41 v43 v45 v47 k0_t4 k0_t5) a + S1x16.size a ≤ S196x384.size a := fun i v10 v41 v43 v45 v47 k0_hw3 k0_t4 k0_t5 k0_h1 => k0_hw3.1.2.1 k0_t4 k0_t5 k0_h1
theorem k0_off5_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off5 v41 v43 v45 v47 k0_t4 k0_t5) a + S1x16.size a ≤ S196x384.size a := fun i v10 v41 v43 v45 v47 k0_hw3 k0_t4 k0_t5 k0_h1 => k0_hw3.1.2.2.1 k0_t4 k0_t5 k0_h1
theorem k0_off6_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off6 v41 v43 v45 v47 k0_t4 k0_t5) a + S1x16.size a ≤ S196x384.size a := fun i v10 v41 v43 v45 v47 k0_hw3 k0_t4 k0_t5 k0_h1 => k0_hw3.1.2.2.2.1 k0_t4 k0_t5 k0_h1
theorem k0_off7_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off7 v41 v43 v45 v47 k0_t4 k0_t5) a + S1x16.size a ≤ S196x384.size a := fun i v10 v41 v43 v45 v47 k0_hw3 k0_t4 k0_t5 k0_h1 => k0_hw3.1.2.2.2.2.1 k0_t4 k0_t5 k0_h1
theorem k0_off8_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off8 v41 v43 v45 v47 k0_t4 k0_t5) a + S1x16.size a ≤ S196x384.size a := fun i v10 v41 v43 v45 v47 k0_hw3 k0_t4 k0_t5 k0_h1 => k0_hw3.1.2.2.2.2.2.1 k0_t4 k0_t5 k0_h1
theorem k0_off9_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off9 v41 v43 v45 v47 k0_t4 k0_t5) a + S1x16.size a ≤ S196x384.size a := fun i v10 v41 v43 v45 v47 k0_hw3 k0_t4 k0_t5 k0_h1 => k0_hw3.1.2.2.2.2.2.2.1 k0_t4 k0_t5 k0_h1
theorem k0_off10_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off10 v41 v43 v45 v47 k0_t4 k0_t5) a + S1x16.size a ≤ S196x384.size a := fun i v10 v41 v43 v45 v47 k0_hw3 k0_t4 k0_t5 k0_h1 => k0_hw3.1.2.2.2.2.2.2.2.1 k0_t4 k0_t5 k0_h1
theorem k0_off11_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off11 v41 v43 v45 v47 k0_t4 k0_t5) a + S1x16.size a ≤ S196x384.size a := fun i v10 v41 v43 v45 v47 k0_hw3 k0_t4 k0_t5 k0_h1 => k0_hw3.1.2.2.2.2.2.2.2.2.1 k0_t4 k0_t5 k0_h1
theorem k0_off12_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off12 v41 v43 v45 v47 k0_t4 k0_t5) a + S1x16.size a ≤ S196x384.size a := fun i v10 v41 v43 v45 v47 k0_hw3 k0_t4 k0_t5 k0_h1 => k0_hw3.1.2.2.2.2.2.2.2.2.2.1 k0_t4 k0_t5 k0_h1
theorem k0_off13_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off13 v41 v43 v45 v47 k0_t4 k0_t5) a + S1x16.size a ≤ S196x384.size a := fun i v10 v41 v43 v45 v47 k0_hw3 k0_t4 k0_t5 k0_h1 => k0_hw3.1.2.2.2.2.2.2.2.2.2.2.1 k0_t4 k0_t5 k0_h1
theorem k0_off14_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off14 v41 v43 v45 v47 k0_t4 k0_t5) a + S1x16.size a ≤ S196x384.size a := fun i v10 v41 v43 v45 v47 k0_hw3 k0_t4 k0_t5 k0_h1 => k0_hw3.1.2.2.2.2.2.2.2.2.2.2.2.1 k0_t4 k0_t5 k0_h1
theorem k0_off15_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off15 v41 v43 v45 v47 k0_t4 k0_t5) a + S1x16.size a ≤ S196x384.size a := fun i v10 v41 v43 v45 v47 k0_hw3 k0_t4 k0_t5 k0_h1 => k0_hw3.1.2.2.2.2.2.2.2.2.2.2.2.2.1 k0_t4 k0_t5 k0_h1
theorem k0_off16_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off16 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.1 k0_t4 k0_t5 k0_h1
theorem k0_off17_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off17 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.1 k0_t4 k0_t5 k0_h1
theorem k0_off18_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off18 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.1 k0_t4 k0_t5 k0_h1
theorem k0_off19_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off19 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.2.1 k0_t4 k0_t5 k0_h1
theorem k0_off20_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off20 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.2.2.1 k0_t4 k0_t5 k0_h1
theorem k0_off21_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off21 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.2.2.2.1 k0_t4 k0_t5 k0_h1
theorem k0_off22_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off22 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.2.2.2.2.1 k0_t4 k0_t5 k0_h1
theorem k0_off23_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off23 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.2.2.2.2.2.1 k0_t4 k0_t5 k0_h1
theorem k0_off24_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off24 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.2.2.2.2.2.2.1 k0_t4 k0_t5 k0_h1
theorem k0_off25_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off25 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.2.2.2.2.2.2.2.1 k0_t4 k0_t5 k0_h1
theorem k0_off26_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off26 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.2.2.2.2.2.2.2.2.1 k0_t4 k0_t5 k0_h1
theorem k0_off27_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t5 : Fin (k0_t5_loop v45 v47).trips), ∀ (k0_h1 : k0_cond1 i v10 = 1#1), ∀ a, (k0_off27 v41 v43 v45 v47 k0_t4 k0_t5) a + S1x16.size a ≤ S196x384.size a := fun i v10 v41 v43 v45 v47 k0_hw3 k0_t4 k0_t5 k0_h1 => k0_hw3.1.2.2.2.2.2.2.2.2.2.2.2.2.2.2.2.2.2.2.2.2.2.2.2.2.1 k0_t4 k0_t5 k0_h1
theorem k0_t6_ok : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips), ∀ (k0_h1 : k0_cond1 i v10 = 1#1), (k0_t6_loop v45 v47).OK := fun i v10 v41 v43 v45 v47 k0_hw3 k0_t4 k0_h1 => k0_hw3.1.2.2.2.2.2.2.2.2.2.2.2.2.2.2.2.2.2.2.2.2.2.2.2.2.2.1 k0_t4 k0_h1
theorem k0_off28_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off28 v41 v43 v45 v47 k0_t4 k0_t6) a + S1x16.size a ≤ S196x384.size a := fun i v10 v41 v43 v45 v47 k0_hw3 k0_t4 k0_t6 k0_h1 => k0_hw3.1.2.2.2.2.2.2.2.2.2.2.2.2.2.2.2.2.2.2.2.2.2.2.2.2.2.2.1 k0_t4 k0_t6 k0_h1
theorem k0_off29_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off29 v41 v43 v45 v47 k0_t4 k0_t6) a + S1x16.size a ≤ S196x384.size a := fun i v10 v41 v43 v45 v47 k0_hw3 k0_t4 k0_t6 k0_h1 => k0_hw3.1.2.2.2.2.2.2.2.2.2.2.2.2.2.2.2.2.2.2.2.2.2.2.2.2.2.2.2.1 k0_t4 k0_t6 k0_h1
theorem k0_off30_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off30 v41 v43 v45 v47 k0_t4 k0_t6) a + S1x16.size a ≤ S196x384.size a := fun i v10 v41 v43 v45 v47 k0_hw3 k0_t4 k0_t6 k0_h1 => k0_hw3.1.2.2.2.2.2.2.2.2.2.2.2.2.2.2.2.2.2.2.2.2.2.2.2.2.2.2.2.2.1 k0_t4 k0_t6 k0_h1
theorem k0_off31_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off31 v41 v43 v45 v47 k0_t4 k0_t6) a + S1x16.size a ≤ S196x384.size a := fun i v10 v41 v43 v45 v47 k0_hw3 k0_t4 k0_t6 k0_h1 => k0_hw3.1.2.2.2.2.2.2.2.2.2.2.2.2.2.2.2.2.2.2.2.2.2.2.2.2.2.2.2.2.2.1 k0_t4 k0_t6 k0_h1
theorem k0_off32_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off32 v41 v43 v45 v47 k0_t4 k0_t6) a + S1x16.size a ≤ S196x384.size a := fun i v10 v41 v43 v45 v47 k0_hw3 k0_t4 k0_t6 k0_h1 => k0_hw3.1.2.2.2.2.2.2.2.2.2.2.2.2.2.2.2.2.2.2.2.2.2.2.2.2.2.2.2.2.2.2.1 k0_t4 k0_t6 k0_h1
theorem k0_off33_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off33 v41 v43 v45 v47 k0_t4 k0_t6) a + S1x16.size a ≤ S196x384.size a := fun i v10 v41 v43 v45 v47 k0_hw3 k0_t4 k0_t6 k0_h1 => k0_hw3.1.2.2.2.2.2.2.2.2.2.2.2.2.2.2.2.2.2.2.2.2.2.2.2.2.2.2.2.2.2.2.2 k0_t4 k0_t6 k0_h1
theorem k0_off34_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off34 v41 v43 v45 v47 k0_t4 k0_t6) a + S1x16.size a ≤ S196x384.size a := fun i v10 v41 v43 v45 v47 k0_hw3 k0_t4 k0_t6 k0_h1 => k0_hw3.2.1.1 k0_t4 k0_t6 k0_h1
theorem k0_off35_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off35 v41 v43 v45 v47 k0_t4 k0_t6) a + S1x16.size a ≤ S196x384.size a := fun i v10 v41 v43 v45 v47 k0_hw3 k0_t4 k0_t6 k0_h1 => k0_hw3.2.1.2.1 k0_t4 k0_t6 k0_h1
theorem k0_off36_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off36 v41 v43 v45 v47 k0_t4 k0_t6) a + S1x16.size a ≤ S196x384.size a := fun i v10 v41 v43 v45 v47 k0_hw3 k0_t4 k0_t6 k0_h1 => k0_hw3.2.1.2.2.1 k0_t4 k0_t6 k0_h1
theorem k0_off37_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off37 v41 v43 v45 v47 k0_t4 k0_t6) a + S1x16.size a ≤ S196x384.size a := fun i v10 v41 v43 v45 v47 k0_hw3 k0_t4 k0_t6 k0_h1 => k0_hw3.2.1.2.2.2.1 k0_t4 k0_t6 k0_h1
theorem k0_off38_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off38 v41 v43 v45 v47 k0_t4 k0_t6) a + S1x16.size a ≤ S196x384.size a := fun i v10 v41 v43 v45 v47 k0_hw3 k0_t4 k0_t6 k0_h1 => k0_hw3.2.1.2.2.2.2.1 k0_t4 k0_t6 k0_h1
theorem k0_off39_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off39 v41 v43 v45 v47 k0_t4 k0_t6) a + S1x16.size a ≤ S196x384.size a := fun i v10 v41 v43 v45 v47 k0_hw3 k0_t4 k0_t6 k0_h1 => k0_hw3.2.1.2.2.2.2.2.1 k0_t4 k0_t6 k0_h1
theorem k0_off40_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off40 v41 v43 v45 v47 k0_t4 k0_t6) a + S1x16.size a ≤ S196x384.size a := fun i v10 v41 v43 v45 v47 k0_hw3 k0_t4 k0_t6 k0_h1 => k0_hw3.2.1.2.2.2.2.2.2.1 k0_t4 k0_t6 k0_h1
theorem k0_off41_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off41 v41 v43 v45 v47 k0_t4 k0_t6) a + S1x16.size a ≤ S196x384.size a := fun i v10 v41 v43 v45 v47 k0_hw3 k0_t4 k0_t6 k0_h1 => k0_hw3.2.1.2.2.2.2.2.2.2.1 k0_t4 k0_t6 k0_h1
theorem k0_off42_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off42 v41 v43 v45 v47 k0_t4 k0_t6) a + S1x16.size a ≤ S196x384.size a := fun i v10 v41 v43 v45 v47 k0_hw3 k0_t4 k0_t6 k0_h1 => k0_hw3.2.1.2.2.2.2.2.2.2.2.1 k0_t4 k0_t6 k0_h1
theorem k0_off43_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off43 v41 v43 v45 v47 k0_t4 k0_t6) a + S1x16.size a ≤ S196x384.size a := fun i v10 v41 v43 v45 v47 k0_hw3 k0_t4 k0_t6 k0_h1 => k0_hw3.2.1.2.2.2.2.2.2.2.2.2.1 k0_t4 k0_t6 k0_h1
theorem k0_off44_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off44 v41 v43 v45 v47 k0_t4 k0_t6) a + S1x16.size a ≤ S196x384.size a := fun i v10 v41 v43 v45 v47 k0_hw3 k0_t4 k0_t6 k0_h1 => k0_hw3.2.1.2.2.2.2.2.2.2.2.2.2.1 k0_t4 k0_t6 k0_h1
theorem k0_off45_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off45 v41 v43 v45 v47 k0_t4 k0_t6) a + S1x16.size a ≤ S196x384.size a := fun i v10 v41 v43 v45 v47 k0_hw3 k0_t4 k0_t6 k0_h1 => k0_hw3.2.1.2.2.2.2.2.2.2.2.2.2.2.1 k0_t4 k0_t6 k0_h1
theorem k0_off46_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off46 v41 v43 v45 v47 k0_t4 k0_t6) a + S1x16.size a ≤ S196x384.size a := fun i v10 v41 v43 v45 v47 k0_hw3 k0_t4 k0_t6 k0_h1 => k0_hw3.2.1.2.2.2.2.2.2.2.2.2.2.2.2.1 k0_t4 k0_t6 k0_h1
theorem k0_off47_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off47 v41 v43 v45 v47 k0_t4 k0_t6) a + S1x16.size a ≤ S196x384.size a := fun i v10 v41 v43 v45 v47 k0_hw3 k0_t4 k0_t6 k0_h1 => k0_hw3.2.1.2.2.2.2.2.2.2.2.2.2.2.2.2.1 k0_t4 k0_t6 k0_h1
theorem k0_off48_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off48 v41 v43 v45 v47 k0_t4 k0_t6) a + S1x16.size a ≤ S196x384.size a := fun i v10 v41 v43 v45 v47 k0_hw3 k0_t4 k0_t6 k0_h1 => k0_hw3.2.1.2.2.2.2.2.2.2.2.2.2.2.2.2.2.1 k0_t4 k0_t6 k0_h1
theorem k0_off49_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off49 v41 v43 v45 v47 k0_t4 k0_t6) a + S1x16.size a ≤ S196x384.size a := fun i v10 v41 v43 v45 v47 k0_hw3 k0_t4 k0_t6 k0_h1 => k0_hw3.2.1.2.2.2.2.2.2.2.2.2.2.2.2.2.2.2.1 k0_t4 k0_t6 k0_h1
theorem k0_off50_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off50 v41 v43 v45 v47 k0_t4 k0_t6) a + S1x16.size a ≤ S196x384.size a := fun i v10 v41 v43 v45 v47 k0_hw3 k0_t4 k0_t6 k0_h1 => k0_hw3.2.1.2.2.2.2.2.2.2.2.2.2.2.2.2.2.2.2.1 k0_t4 k0_t6 k0_h1
theorem k0_off51_inb : ∀ (i : grid0.Coords) (v10 : BitVec 32) (v41 : BitVec 32) (v43 : BitVec 32) (v45 : BitVec 32) (v47 : BitVec 32) (k0_hw3 : k0_chk3 i v10 v41 v43 v45 v47) (k0_t4 : Fin (k0_t4_loop v41 v43).trips) (k0_t6 : Fin (k0_t6_loop v45 v47).trips), ∀ (k0_h1 : k0_cond1 i v10 = 1#1), ∀ a, (k0_off51 v41 v43 v45 v47 k0_t4 k0_t6) a + S1x16.size a ≤ S196x384.size a := fun i v10 v41 v43 v45 v47 k0_hw3 k0_t4 k0_t6 k0_h1 => k0_hw3.2.1.2.2.2.2.2.2.2.2.2.2.2.2.2.2.2.2.2.1 k0_t4 k0_t6 k0_h1
theorem k0_t8_ok : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips), ∀ (k0_h1 : k0_cond1 i v10 = 1#1), (k0_t8_loop v45 v47).OK := fun i v10 v41 v43 v45 v47 k0_hw3 k0_t7 k0_h1 => k0_hw3.2.1.2.2.2.2.2.2.2.2.2.2.2.2.2.2.2.2.2.2.1 k0_t7 k0_h1
theorem k0_off52_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off52 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.1 k0_t7 k0_t8 k0_h1
theorem k0_off53_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off53 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.1 k0_t7 k0_t8 k0_h1
theorem k0_off54_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off54 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.1 k0_t7 k0_t8 k0_h1
theorem k0_off55_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off55 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.1 k0_t7 k0_t8 k0_h1
theorem k0_off56_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off56 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.2.1 k0_t7 k0_t8 k0_h1
theorem k0_off57_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off57 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.2.2.1 k0_t7 k0_t8 k0_h1
theorem k0_off58_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off58 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.2.2.2.1 k0_t7 k0_t8 k0_h1
theorem k0_off59_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off59 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.2.2.2.2.1 k0_t7 k0_t8 k0_h1
theorem k0_off60_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off60 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.2.2.2.2.2.1 k0_t7 k0_t8 k0_h1
theorem k0_off61_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off61 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.2.2.2.2.2.2.1 k0_t7 k0_t8 k0_h1
theorem k0_off62_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off62 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.2.2.2.2.2.2.2.1 k0_t7 k0_t8 k0_h1
theorem k0_off63_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off63 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.2.2.2.2.2.2.2.2.1 k0_t7 k0_t8 k0_h1
theorem k0_off64_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off64 v41 v43 v45 v47 k0_t7 k0_t8) a + S1x16.size a ≤ S196x384.size a := fun i v10 v41 v43 v45 v47 k0_hw3 k0_t7 k0_t8 k0_h1 => k0_hw3.2.1.2.2.2.2.2.2.2.2.2.2.2.2.2.2.2.2.2.2.2.2.2.2.2.2.2.2.2.2.2.2.2 k0_t7 k0_t8 k0_h1
theorem k0_off65_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off65 v41 v43 v45 v47 k0_t7 k0_t8) a + S1x16.size a ≤ S196x384.size a := fun i v10 v41 v43 v45 v47 k0_hw3 k0_t7 k0_t8 k0_h1 => k0_hw3.2.2.1.1 k0_t7 k0_t8 k0_h1
theorem k0_off66_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off66 v41 v43 v45 v47 k0_t7 k0_t8) a + S1x16.size a ≤ S196x384.size a := fun i v10 v41 v43 v45 v47 k0_hw3 k0_t7 k0_t8 k0_h1 => k0_hw3.2.2.1.2.1 k0_t7 k0_t8 k0_h1
theorem k0_off67_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off67 v41 v43 v45 v47 k0_t7 k0_t8) a + S1x16.size a ≤ S196x384.size a := fun i v10 v41 v43 v45 v47 k0_hw3 k0_t7 k0_t8 k0_h1 => k0_hw3.2.2.1.2.2.1 k0_t7 k0_t8 k0_h1
theorem k0_off68_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off68 v41 v43 v45 v47 k0_t7 k0_t8) a + S1x16.size a ≤ S196x384.size a := fun i v10 v41 v43 v45 v47 k0_hw3 k0_t7 k0_t8 k0_h1 => k0_hw3.2.2.1.2.2.2.1 k0_t7 k0_t8 k0_h1
theorem k0_off69_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off69 v41 v43 v45 v47 k0_t7 k0_t8) a + S1x16.size a ≤ S196x384.size a := fun i v10 v41 v43 v45 v47 k0_hw3 k0_t7 k0_t8 k0_h1 => k0_hw3.2.2.1.2.2.2.2.1 k0_t7 k0_t8 k0_h1
theorem k0_off70_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off70 v41 v43 v45 v47 k0_t7 k0_t8) a + S1x16.size a ≤ S196x384.size a := fun i v10 v41 v43 v45 v47 k0_hw3 k0_t7 k0_t8 k0_h1 => k0_hw3.2.2.1.2.2.2.2.2.1 k0_t7 k0_t8 k0_h1
theorem k0_off71_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off71 v41 v43 v45 v47 k0_t7 k0_t8) a + S1x16.size a ≤ S196x384.size a := fun i v10 v41 v43 v45 v47 k0_hw3 k0_t7 k0_t8 k0_h1 => k0_hw3.2.2.1.2.2.2.2.2.2.1 k0_t7 k0_t8 k0_h1
theorem k0_off72_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off72 v41 v43 v45 v47 k0_t7 k0_t8) a + S1x16.size a ≤ S196x384.size a := fun i v10 v41 v43 v45 v47 k0_hw3 k0_t7 k0_t8 k0_h1 => k0_hw3.2.2.1.2.2.2.2.2.2.2.1 k0_t7 k0_t8 k0_h1
theorem k0_off73_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off73 v41 v43 v45 v47 k0_t7 k0_t8) a + S1x16.size a ≤ S196x384.size a := fun i v10 v41 v43 v45 v47 k0_hw3 k0_t7 k0_t8 k0_h1 => k0_hw3.2.2.1.2.2.2.2.2.2.2.2.1 k0_t7 k0_t8 k0_h1
theorem k0_off74_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off74 v41 v43 v45 v47 k0_t7 k0_t8) a + S1x16.size a ≤ S196x384.size a := fun i v10 v41 v43 v45 v47 k0_hw3 k0_t7 k0_t8 k0_h1 => k0_hw3.2.2.1.2.2.2.2.2.2.2.2.2.1 k0_t7 k0_t8 k0_h1
theorem k0_off75_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t8 : Fin (k0_t8_loop v45 v47).trips), ∀ (k0_h1 : k0_cond1 i v10 = 1#1), ∀ a, (k0_off75 v41 v43 v45 v47 k0_t7 k0_t8) a + S1x16.size a ≤ S196x384.size a := fun i v10 v41 v43 v45 v47 k0_hw3 k0_t7 k0_t8 k0_h1 => k0_hw3.2.2.1.2.2.2.2.2.2.2.2.2.2.1 k0_t7 k0_t8 k0_h1
theorem k0_t9_ok : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips), ∀ (k0_h1 : k0_cond1 i v10 = 1#1), (k0_t9_loop v45 v47).OK := fun i v10 v41 v43 v45 v47 k0_hw3 k0_t7 k0_h1 => k0_hw3.2.2.1.2.2.2.2.2.2.2.2.2.2.2.1 k0_t7 k0_h1
theorem k0_off76_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off76 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.1 k0_t7 k0_t9 k0_h1
theorem k0_off77_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off77 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.1 k0_t7 k0_t9 k0_h1
theorem k0_off78_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off78 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.1 k0_t7 k0_t9 k0_h1
theorem k0_off79_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off79 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.1 k0_t7 k0_t9 k0_h1
theorem k0_off80_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off80 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.1 k0_t7 k0_t9 k0_h1
theorem k0_off81_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off81 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.1 k0_t7 k0_t9 k0_h1
theorem k0_off82_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off82 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.1 k0_t7 k0_t9 k0_h1
theorem k0_off83_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off83 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.1 k0_t7 k0_t9 k0_h1
theorem k0_off84_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off84 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.1 k0_t7 k0_t9 k0_h1
theorem k0_off85_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off85 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.1 k0_t7 k0_t9 k0_h1
theorem k0_off86_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off86 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.1 k0_t7 k0_t9 k0_h1
theorem k0_off87_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off87 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.2.1 k0_t7 k0_t9 k0_h1
theorem k0_off88_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off88 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.2.2.1 k0_t7 k0_t9 k0_h1
theorem k0_off89_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off89 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.2.2.2.1 k0_t7 k0_t9 k0_h1
theorem k0_off90_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off90 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.2.2.2.2.1 k0_t7 k0_t9 k0_h1
theorem k0_off91_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off91 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.2.2.2.2.2.1 k0_t7 k0_t9 k0_h1
theorem k0_off92_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off92 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.2.2.2.2.2.2.1 k0_t7 k0_t9 k0_h1
theorem k0_off93_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off93 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.2.2.2.2.2.2.2.1 k0_t7 k0_t9 k0_h1
theorem k0_off94_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off94 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.2.2.2.2.2.2.2.2.1 k0_t7 k0_t9 k0_h1
theorem k0_off95_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off95 v41 v43 v45 v47 k0_t7 k0_t9) a + S1x16.size a ≤ S196x384.size a := fun i v10 v41 v43 v45 v47 k0_hw3 k0_t7 k0_t9 k0_h1 => k0_hw3.2.2.1.2.2.2.2.2.2.2.2.2.2.2.2.2.2.2.2.2.2.2.2.2.2.2.2.2.2.2.2.2.2.2 k0_t7 k0_t9 k0_h1
theorem k0_off96_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off96 v41 v43 v45 v47 k0_t7 k0_t9) a + S1x16.size a ≤ S196x384.size a := fun i v10 v41 v43 v45 v47 k0_hw3 k0_t7 k0_t9 k0_h1 => k0_hw3.2.2.2.1 k0_t7 k0_t9 k0_h1
theorem k0_off97_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off97 v41 v43 v45 v47 k0_t7 k0_t9) a + S1x16.size a ≤ S196x384.size a := fun i v10 v41 v43 v45 v47 k0_hw3 k0_t7 k0_t9 k0_h1 => k0_hw3.2.2.2.2.1 k0_t7 k0_t9 k0_h1
theorem k0_off98_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off98 v41 v43 v45 v47 k0_t7 k0_t9) a + S1x16.size a ≤ S196x384.size a := fun i v10 v41 v43 v45 v47 k0_hw3 k0_t7 k0_t9 k0_h1 => k0_hw3.2.2.2.2.2.1 k0_t7 k0_t9 k0_h1
theorem k0_off99_inb : ∀ (i : grid0.Coords) (v10 : BitVec 32) (v41 : BitVec 32) (v43 : BitVec 32) (v45 : BitVec 32) (v47 : BitVec 32) (k0_hw3 : k0_chk3 i v10 v41 v43 v45 v47) (k0_t7 : Fin (k0_t7_loop v41 v43).trips) (k0_t9 : Fin (k0_t9_loop v45 v47).trips), ∀ (k0_h1 : k0_cond1 i v10 = 1#1), ∀ a, (k0_off99 v41 v43 v45 v47 k0_t7 k0_t9) a + S1x16.size a ≤ S196x384.size a := fun i v10 v41 v43 v45 v47 k0_hw3 k0_t7 k0_t9 k0_h1 => k0_hw3.2.2.2.2.2.2 k0_t7 k0_t9 k0_h1

def k0_chk4 (i : grid0.Coords) (v10 : BitVec 32) (v65 : IVec S16 32) : Prop :=
  (∀ (k0_h1 : k0_cond1 i v10 = 1#1), ∀ a x, ((![v65] : Fin 1 → IVec S16 32) a x).toNat < S18816.size a)
theorem k0_idx1_inb : ∀ (i : grid0.Coords) (v10 : BitVec 32) (v65 : IVec S16 32) (k0_hw4 : k0_chk4 i v10 v65), ∀ (k0_h1 : k0_cond1 i v10 = 1#1), ∀ a x, ((![v65] : Fin 1 → IVec S16 32) a x).toNat < S18816.size a := fun i v10 v65 k0_hw4 k0_h1 => k0_hw4 k0_h1

def k0_chk5 (i : grid0.Coords) (v10 : BitVec 32) (v70 : IVec S16 32) : Prop :=
  (∀ (k0_h1 : k0_cond1 i v10 = 1#1), ∀ a x, ((![v70] : Fin 1 → IVec S16 32) a x).toNat < S18816.size a)
theorem k0_idx2_inb : ∀ (i : grid0.Coords) (v10 : BitVec 32) (v70 : IVec S16 32) (k0_hw5 : k0_chk5 i v10 v70), ∀ (k0_h1 : k0_cond1 i v10 = 1#1), ∀ a x, ((![v70] : Fin 1 → IVec S16 32) a x).toNat < S18816.size a := fun i v10 v70 k0_hw5 k0_h1 => k0_hw5 k0_h1

def k0_chk6 (i : grid0.Coords) (v10 : BitVec 32) (v75 : IVec S16 32) : Prop :=
  (∀ (k0_h1 : k0_cond1 i v10 = 1#1), ∀ a x, ((![v75] : Fin 1 → IVec S16 32) a x).toNat < S18816.size a)
theorem k0_idx3_inb : ∀ (i : grid0.Coords) (v10 : BitVec 32) (v75 : IVec S16 32) (k0_hw6 : k0_chk6 i v10 v75), ∀ (k0_h1 : k0_cond1 i v10 = 1#1), ∀ a x, ((![v75] : Fin 1 → IVec S16 32) a x).toNat < S18816.size a := fun i v10 v75 k0_hw6 k0_h1 => k0_hw6 k0_h1

def k0_chk7 (i : grid0.Coords) (v10 : BitVec 32) (v80 : IVec S16 32) : Prop :=
  (∀ (k0_h1 : k0_cond1 i v10 = 1#1), ∀ a x, ((![v80] : Fin 1 → IVec S16 32) a x).toNat < S18816.size a)
theorem k0_idx4_inb : ∀ (i : grid0.Coords) (v10 : BitVec 32) (v80 : IVec S16 32) (k0_hw7 : k0_chk7 i v10 v80), ∀ (k0_h1 : k0_cond1 i v10 = 1#1), ∀ a x, ((![v80] : Fin 1 → IVec S16 32) a x).toNat < S18816.size a := fun i v10 v80 k0_hw7 k0_h1 => k0_hw7 k0_h1

def k0_chk8 (i : grid0.Coords) (v10 : BitVec 32) (v85 : IVec S16 32) : Prop :=
  (∀ (k0_h1 : k0_cond1 i v10 = 1#1), ∀ a x, ((![v85] : Fin 1 → IVec S16 32) a x).toNat < S18816.size a)
theorem k0_idx5_inb : ∀ (i : grid0.Coords) (v10 : BitVec 32) (v85 : IVec S16 32) (k0_hw8 : k0_chk8 i v10 v85), ∀ (k0_h1 : k0_cond1 i v10 = 1#1), ∀ a x, ((![v85] : Fin 1 → IVec S16 32) a x).toNat < S18816.size a := fun i v10 v85 k0_hw8 k0_h1 => k0_hw8 k0_h1

def k0_chk9 (i : grid0.Coords) (v10 : BitVec 32) (v90 : IVec S16 32) : Prop :=
  (∀ (k0_h1 : k0_cond1 i v10 = 1#1), ∀ a x, ((![v90] : Fin 1 → IVec S16 32) a x).toNat < S18816.size a)
theorem k0_idx6_inb : ∀ (i : grid0.Coords) (v10 : BitVec 32) (v90 : IVec S16 32) (k0_hw9 : k0_chk9 i v10 v90), ∀ (k0_h1 : k0_cond1 i v10 = 1#1), ∀ a x, ((![v90] : Fin 1 → IVec S16 32) a x).toNat < S18816.size a := fun i v10 v90 k0_hw9 k0_h1 => k0_hw9 k0_h1

def k0_chk10 (i : grid0.Coords) (v10 : BitVec 32) (v95 : IVec S16 32) : Prop :=
  (∀ (k0_h1 : k0_cond1 i v10 = 1#1), ∀ a x, ((![v95] : Fin 1 → IVec S16 32) a x).toNat < S18816.size a)
theorem k0_idx7_inb : ∀ (i : grid0.Coords) (v10 : BitVec 32) (v95 : IVec S16 32) (k0_hw10 : k0_chk10 i v10 v95), ∀ (k0_h1 : k0_cond1 i v10 = 1#1), ∀ a x, ((![v95] : Fin 1 → IVec S16 32) a x).toNat < S18816.size a := fun i v10 v95 k0_hw10 k0_h1 => k0_hw10 k0_h1

def k0_chk11 (i : grid0.Coords) (v10 : BitVec 32) (v100 : IVec S16 32) : Prop :=
  (∀ (k0_h1 : k0_cond1 i v10 = 1#1), ∀ a x, ((![v100] : Fin 1 → IVec S16 32) a x).toNat < S18816.size a)
theorem k0_idx8_inb : ∀ (i : grid0.Coords) (v10 : BitVec 32) (v100 : IVec S16 32) (k0_hw11 : k0_chk11 i v10 v100), ∀ (k0_h1 : k0_cond1 i v10 = 1#1), ∀ a x, ((![v100] : Fin 1 → IVec S16 32) a x).toNat < S18816.size a := fun i v10 v100 k0_hw11 k0_h1 => k0_hw11 k0_h1

def k0_chk12 (i : grid0.Coords) (v10 : BitVec 32) (v105 : IVec S16 32) : Prop :=
  (∀ (k0_h1 : k0_cond1 i v10 = 1#1), ∀ a x, ((![v105] : Fin 1 → IVec S16 32) a x).toNat < S18816.size a)
theorem k0_idx9_inb : ∀ (i : grid0.Coords) (v10 : BitVec 32) (v105 : IVec S16 32) (k0_hw12 : k0_chk12 i v10 v105), ∀ (k0_h1 : k0_cond1 i v10 = 1#1), ∀ a x, ((![v105] : Fin 1 → IVec S16 32) a x).toNat < S18816.size a := fun i v10 v105 k0_hw12 k0_h1 => k0_hw12 k0_h1

def k0_chk13 (i : grid0.Coords) (v10 : BitVec 32) (v110 : IVec S16 32) : Prop :=
  (∀ (k0_h1 : k0_cond1 i v10 = 1#1), ∀ a x, ((![v110] : Fin 1 → IVec S16 32) a x).toNat < S18816.size a)
theorem k0_idx10_inb : ∀ (i : grid0.Coords) (v10 : BitVec 32) (v110 : IVec S16 32) (k0_hw13 : k0_chk13 i v10 v110), ∀ (k0_h1 : k0_cond1 i v10 = 1#1), ∀ a x, ((![v110] : Fin 1 → IVec S16 32) a x).toNat < S18816.size a := fun i v10 v110 k0_hw13 k0_h1 => k0_hw13 k0_h1

def k0_chk14 (i : grid0.Coords) (v10 : BitVec 32) (v115 : IVec S16 32) : Prop :=
  (∀ (k0_h1 : k0_cond1 i v10 = 1#1), ∀ a x, ((![v115] : Fin 1 → IVec S16 32) a x).toNat < S18816.size a)
theorem k0_idx11_inb : ∀ (i : grid0.Coords) (v10 : BitVec 32) (v115 : IVec S16 32) (k0_hw14 : k0_chk14 i v10 v115), ∀ (k0_h1 : k0_cond1 i v10 = 1#1), ∀ a x, ((![v115] : Fin 1 → IVec S16 32) a x).toNat < S18816.size a := fun i v10 v115 k0_hw14 k0_h1 => k0_hw14 k0_h1

def k0_chk15 (i : grid0.Coords) (v10 : BitVec 32) (v120 : IVec S16 32) : Prop :=
  (∀ (k0_h1 : k0_cond1 i v10 = 1#1), ∀ a x, ((![v120] : Fin 1 → IVec S16 32) a x).toNat < S18816.size a)
theorem k0_idx12_inb : ∀ (i : grid0.Coords) (v10 : BitVec 32) (v120 : IVec S16 32) (k0_hw15 : k0_chk15 i v10 v120), ∀ (k0_h1 : k0_cond1 i v10 = 1#1), ∀ a x, ((![v120] : Fin 1 → IVec S16 32) a x).toNat < S18816.size a := fun i v10 v120 k0_hw15 k0_h1 => k0_hw15 k0_h1

def k0_chk16 (i : grid0.Coords) (v10 : BitVec 32) (v125 : IVec S16 32) : Prop :=
  (∀ (k0_h1 : k0_cond1 i v10 = 1#1), ∀ a x, ((![v125] : Fin 1 → IVec S16 32) a x).toNat < S18816.size a)
theorem k0_idx13_inb : ∀ (i : grid0.Coords) (v10 : BitVec 32) (v125 : IVec S16 32) (k0_hw16 : k0_chk16 i v10 v125), ∀ (k0_h1 : k0_cond1 i v10 = 1#1), ∀ a x, ((![v125] : Fin 1 → IVec S16 32) a x).toNat < S18816.size a := fun i v10 v125 k0_hw16 k0_h1 => k0_hw16 k0_h1

def k0_chk17 (i : grid0.Coords) (v10 : BitVec 32) (v130 : IVec S16 32) : Prop :=
  (∀ (k0_h1 : k0_cond1 i v10 = 1#1), ∀ a x, ((![v130] : Fin 1 → IVec S16 32) a x).toNat < S18816.size a)
theorem k0_idx14_inb : ∀ (i : grid0.Coords) (v10 : BitVec 32) (v130 : IVec S16 32) (k0_hw17 : k0_chk17 i v10 v130), ∀ (k0_h1 : k0_cond1 i v10 = 1#1), ∀ a x, ((![v130] : Fin 1 → IVec S16 32) a x).toNat < S18816.size a := fun i v10 v130 k0_hw17 k0_h1 => k0_hw17 k0_h1

def k0_chk18 (i : grid0.Coords) (v10 : BitVec 32) (v135 : IVec S16 32) : Prop :=
  (∀ (k0_h1 : k0_cond1 i v10 = 1#1), ∀ a x, ((![v135] : Fin 1 → IVec S16 32) a x).toNat < S18816.size a)
theorem k0_idx15_inb : ∀ (i : grid0.Coords) (v10 : BitVec 32) (v135 : IVec S16 32) (k0_hw18 : k0_chk18 i v10 v135), ∀ (k0_h1 : k0_cond1 i v10 = 1#1), ∀ a x, ((![v135] : Fin 1 → IVec S16 32) a x).toNat < S18816.size a := fun i v10 v135 k0_hw18 k0_h1 => k0_hw18 k0_h1

def k0_chk19 (i : grid0.Coords) (v10 : BitVec 32) (v140 : IVec S16 32) : Prop :=
  (∀ (k0_h1 : k0_cond1 i v10 = 1#1), ∀ a x, ((![v140] : Fin 1 → IVec S16 32) a x).toNat < S18816.size a)
theorem k0_idx16_inb : ∀ (i : grid0.Coords) (v10 : BitVec 32) (v140 : IVec S16 32) (k0_hw19 : k0_chk19 i v10 v140), ∀ (k0_h1 : k0_cond1 i v10 = 1#1), ∀ a x, ((![v140] : Fin 1 → IVec S16 32) a x).toNat < S18816.size a := fun i v10 v140 k0_hw19 k0_h1 => k0_hw19 k0_h1

def k0_chk20 (i : grid0.Coords) (v10 : BitVec 32) (v145 : IVec S16 32) : Prop :=
  (∀ (k0_h1 : k0_cond1 i v10 = 1#1), ∀ a x, ((![v145] : Fin 1 → IVec S16 32) a x).toNat < S18816.size a)
theorem k0_idx17_inb : ∀ (i : grid0.Coords) (v10 : BitVec 32) (v145 : IVec S16 32) (k0_hw20 : k0_chk20 i v10 v145), ∀ (k0_h1 : k0_cond1 i v10 = 1#1), ∀ a x, ((![v145] : Fin 1 → IVec S16 32) a x).toNat < S18816.size a := fun i v10 v145 k0_hw20 k0_h1 => k0_hw20 k0_h1

def k0_chk21 (i : grid0.Coords) (v10 : BitVec 32) (v150 : IVec S16 32) : Prop :=
  (∀ (k0_h1 : k0_cond1 i v10 = 1#1), ∀ a x, ((![v150] : Fin 1 → IVec S16 32) a x).toNat < S18816.size a)
theorem k0_idx18_inb : ∀ (i : grid0.Coords) (v10 : BitVec 32) (v150 : IVec S16 32) (k0_hw21 : k0_chk21 i v10 v150), ∀ (k0_h1 : k0_cond1 i v10 = 1#1), ∀ a x, ((![v150] : Fin 1 → IVec S16 32) a x).toNat < S18816.size a := fun i v10 v150 k0_hw21 k0_h1 => k0_hw21 k0_h1

def k0_chk22 (i : grid0.Coords) (v10 : BitVec 32) (v155 : IVec S16 32) : Prop :=
  (∀ (k0_h1 : k0_cond1 i v10 = 1#1), ∀ a x, ((![v155] : Fin 1 → IVec S16 32) a x).toNat < S18816.size a)
theorem k0_idx19_inb : ∀ (i : grid0.Coords) (v10 : BitVec 32) (v155 : IVec S16 32) (k0_hw22 : k0_chk22 i v10 v155), ∀ (k0_h1 : k0_cond1 i v10 = 1#1), ∀ a x, ((![v155] : Fin 1 → IVec S16 32) a x).toNat < S18816.size a := fun i v10 v155 k0_hw22 k0_h1 => k0_hw22 k0_h1

def k0_chk23 (i : grid0.Coords) (v10 : BitVec 32) (v160 : IVec S16 32) : Prop :=
  (∀ (k0_h1 : k0_cond1 i v10 = 1#1), ∀ a x, ((![v160] : Fin 1 → IVec S16 32) a x).toNat < S18816.size a)
theorem k0_idx20_inb : ∀ (i : grid0.Coords) (v10 : BitVec 32) (v160 : IVec S16 32) (k0_hw23 : k0_chk23 i v10 v160), ∀ (k0_h1 : k0_cond1 i v10 = 1#1), ∀ a x, ((![v160] : Fin 1 → IVec S16 32) a x).toNat < S18816.size a := fun i v10 v160 k0_hw23 k0_h1 => k0_hw23 k0_h1

def k0_chk24 (i : grid0.Coords) (v10 : BitVec 32) (v165 : IVec S16 32) : Prop :=
  (∀ (k0_h1 : k0_cond1 i v10 = 1#1), ∀ a x, ((![v165] : Fin 1 → IVec S16 32) a x).toNat < S18816.size a)
theorem k0_idx21_inb : ∀ (i : grid0.Coords) (v10 : BitVec 32) (v165 : IVec S16 32) (k0_hw24 : k0_chk24 i v10 v165), ∀ (k0_h1 : k0_cond1 i v10 = 1#1), ∀ a x, ((![v165] : Fin 1 → IVec S16 32) a x).toNat < S18816.size a := fun i v10 v165 k0_hw24 k0_h1 => k0_hw24 k0_h1

def k0_chk25 (i : grid0.Coords) (v10 : BitVec 32) (v170 : IVec S16 32) : Prop :=
  (∀ (k0_h1 : k0_cond1 i v10 = 1#1), ∀ a x, ((![v170] : Fin 1 → IVec S16 32) a x).toNat < S18816.size a)
theorem k0_idx22_inb : ∀ (i : grid0.Coords) (v10 : BitVec 32) (v170 : IVec S16 32) (k0_hw25 : k0_chk25 i v10 v170), ∀ (k0_h1 : k0_cond1 i v10 = 1#1), ∀ a x, ((![v170] : Fin 1 → IVec S16 32) a x).toNat < S18816.size a := fun i v10 v170 k0_hw25 k0_h1 => k0_hw25 k0_h1

def k0_chk26 (i : grid0.Coords) (v10 : BitVec 32) (v175 : IVec S16 32) : Prop :=
  (∀ (k0_h1 : k0_cond1 i v10 = 1#1), ∀ a x, ((![v175] : Fin 1 → IVec S16 32) a x).toNat < S18816.size a)
theorem k0_idx23_inb : ∀ (i : grid0.Coords) (v10 : BitVec 32) (v175 : IVec S16 32) (k0_hw26 : k0_chk26 i v10 v175), ∀ (k0_h1 : k0_cond1 i v10 = 1#1), ∀ a x, ((![v175] : Fin 1 → IVec S16 32) a x).toNat < S18816.size a := fun i v10 v175 k0_hw26 k0_h1 => k0_hw26 k0_h1

def k0_chk27 (i : grid0.Coords) (v10 : BitVec 32) (v180 : IVec S16 32) : Prop :=
  (∀ (k0_h1 : k0_cond1 i v10 = 1#1), ∀ a x, ((![v180] : Fin 1 → IVec S16 32) a x).toNat < S18816.size a)
theorem k0_idx24_inb : ∀ (i : grid0.Coords) (v10 : BitVec 32) (v180 : IVec S16 32) (k0_hw27 : k0_chk27 i v10 v180), ∀ (k0_h1 : k0_cond1 i v10 = 1#1), ∀ a x, ((![v180] : Fin 1 → IVec S16 32) a x).toNat < S18816.size a := fun i v10 v180 k0_hw27 k0_h1 => k0_hw27 k0_h1
@[reducible] def k0_t10_loop (v41 : BitVec 32) (v43 : BitVec 32) : Scf.Loop 32 :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_57 : BitVec 32 := 1#32
  ⟨v41, v190, c1_i32_57⟩
@[reducible] def k0_t11_loop (v182 : BitVec 32) (v184 : BitVec 32) : Scf.Loop 32 :=
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_376 : BitVec 32 := 1#32
  ⟨v182, v1008, c1_i32_376⟩

def k0_off100 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1012 : Index := Scalar.indexCast v1011
  let c0_378 : Index := 0#32
  ![v1012.toNat, 0]
def k0_off101 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1015 : Index := Scalar.indexCast v1011
  let c16 : Index := 16#32
  ![v1015.toNat, 16]
def k0_off102 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1018 : Index := Scalar.indexCast v1011
  let c32 : Index := 32#32
  ![v1018.toNat, 32]
def k0_off103 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1021 : Index := Scalar.indexCast v1011
  let c48 : Index := 48#32
  ![v1021.toNat, 48]
def k0_off104 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1024 : Index := Scalar.indexCast v1011
  let c64 : Index := 64#32
  ![v1024.toNat, 64]
def k0_off105 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1027 : Index := Scalar.indexCast v1011
  let c80 : Index := 80#32
  ![v1027.toNat, 80]
def k0_off106 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1030 : Index := Scalar.indexCast v1011
  let c96 : Index := 96#32
  ![v1030.toNat, 96]
def k0_off107 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1033 : Index := Scalar.indexCast v1011
  let c112 : Index := 112#32
  ![v1033.toNat, 112]
def k0_off108 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1036 : Index := Scalar.indexCast v1011
  let c128 : Index := 128#32
  ![v1036.toNat, 128]
def k0_off109 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1039 : Index := Scalar.indexCast v1011
  let c144 : Index := 144#32
  ![v1039.toNat, 144]
def k0_off110 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1042 : Index := Scalar.indexCast v1011
  let c160 : Index := 160#32
  ![v1042.toNat, 160]
def k0_off111 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1045 : Index := Scalar.indexCast v1011
  let c176 : Index := 176#32
  ![v1045.toNat, 176]
def k0_off112 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1048 : Index := Scalar.indexCast v1011
  let c192 : Index := 192#32
  ![v1048.toNat, 192]
def k0_off113 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1051 : Index := Scalar.indexCast v1011
  let c208 : Index := 208#32
  ![v1051.toNat, 208]
def k0_off114 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1054 : Index := Scalar.indexCast v1011
  let c224 : Index := 224#32
  ![v1054.toNat, 224]
def k0_off115 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1057 : Index := Scalar.indexCast v1011
  let c240 : Index := 240#32
  ![v1057.toNat, 240]
def k0_off116 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1060 : Index := Scalar.indexCast v1011
  let c256 : Index := 256#32
  ![v1060.toNat, 256]
def k0_off117 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1063 : Index := Scalar.indexCast v1011
  let c272 : Index := 272#32
  ![v1063.toNat, 272]
def k0_off118 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1066 : Index := Scalar.indexCast v1011
  let c288 : Index := 288#32
  ![v1066.toNat, 288]
def k0_off119 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1069 : Index := Scalar.indexCast v1011
  let c304 : Index := 304#32
  ![v1069.toNat, 304]
def k0_off120 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1072 : Index := Scalar.indexCast v1011
  let c320 : Index := 320#32
  ![v1072.toNat, 320]
def k0_off121 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1075 : Index := Scalar.indexCast v1011
  let c336 : Index := 336#32
  ![v1075.toNat, 336]
def k0_off122 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1078 : Index := Scalar.indexCast v1011
  let c352 : Index := 352#32
  ![v1078.toNat, 352]
def k0_off123 (v41 : BitVec 32) (v43 : BitVec 32) (v182 : BitVec 32) (v184 : BitVec 32) (k0_t10 : Fin (k0_t10_loop v41 v43).trips) (k0_t11 : Fin (k0_t11_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let c1_i32_376 : BitVec 32 := 1#32
  let arg36 : BitVec 32 := Scf.iv v182 c1_i32_376 k0_t11
  let v1011 : BitVec 32 := Scalar.addi v1003 arg36
  let v1081 : Index := Scalar.indexCast v1011
  let c368 : Index := 368#32
  ![v1081.toNat, 368]
@[reducible] def k0_t12_loop (v182 : BitVec 32) (v184 : BitVec 32) : Scf.Loop 32 :=
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let v1005 : BitVec 32 := Scalar.addi v182 v1004
  let c1_i32_377 : BitVec 32 := 1#32
  ⟨v1008, v1005, c1_i32_377⟩
def k0_off124 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1012 : Index := Scalar.indexCast v1011
  let c0_378 : Index := 0#32
  ![v1012.toNat, 0]
def k0_off125 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1015 : Index := Scalar.indexCast v1011
  let c16 : Index := 16#32
  ![v1015.toNat, 16]
def k0_off126 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1018 : Index := Scalar.indexCast v1011
  let c32 : Index := 32#32
  ![v1018.toNat, 32]
def k0_off127 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1021 : Index := Scalar.indexCast v1011
  let c48 : Index := 48#32
  ![v1021.toNat, 48]
def k0_off128 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1024 : Index := Scalar.indexCast v1011
  let c64 : Index := 64#32
  ![v1024.toNat, 64]
def k0_off129 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1027 : Index := Scalar.indexCast v1011
  let c80 : Index := 80#32
  ![v1027.toNat, 80]
def k0_off130 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1030 : Index := Scalar.indexCast v1011
  let c96 : Index := 96#32
  ![v1030.toNat, 96]
def k0_off131 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1033 : Index := Scalar.indexCast v1011
  let c112 : Index := 112#32
  ![v1033.toNat, 112]
def k0_off132 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1036 : Index := Scalar.indexCast v1011
  let c128 : Index := 128#32
  ![v1036.toNat, 128]
def k0_off133 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1039 : Index := Scalar.indexCast v1011
  let c144 : Index := 144#32
  ![v1039.toNat, 144]
def k0_off134 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1042 : Index := Scalar.indexCast v1011
  let c160 : Index := 160#32
  ![v1042.toNat, 160]
def k0_off135 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1045 : Index := Scalar.indexCast v1011
  let c176 : Index := 176#32
  ![v1045.toNat, 176]
def k0_off136 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1048 : Index := Scalar.indexCast v1011
  let c192 : Index := 192#32
  ![v1048.toNat, 192]
def k0_off137 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1051 : Index := Scalar.indexCast v1011
  let c208 : Index := 208#32
  ![v1051.toNat, 208]
def k0_off138 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1054 : Index := Scalar.indexCast v1011
  let c224 : Index := 224#32
  ![v1054.toNat, 224]
def k0_off139 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1057 : Index := Scalar.indexCast v1011
  let c240 : Index := 240#32
  ![v1057.toNat, 240]
def k0_off140 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1060 : Index := Scalar.indexCast v1011
  let c256 : Index := 256#32
  ![v1060.toNat, 256]
def k0_off141 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1063 : Index := Scalar.indexCast v1011
  let c272 : Index := 272#32
  ![v1063.toNat, 272]
def k0_off142 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1066 : Index := Scalar.indexCast v1011
  let c288 : Index := 288#32
  ![v1066.toNat, 288]
def k0_off143 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1069 : Index := Scalar.indexCast v1011
  let c304 : Index := 304#32
  ![v1069.toNat, 304]
def k0_off144 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1072 : Index := Scalar.indexCast v1011
  let c320 : Index := 320#32
  ![v1072.toNat, 320]
def k0_off145 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1075 : Index := Scalar.indexCast v1011
  let c336 : Index := 336#32
  ![v1075.toNat, 336]
def k0_off146 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1078 : Index := Scalar.indexCast v1011
  let c352 : Index := 352#32
  ![v1078.toNat, 352]
def k0_off147 (v41 : BitVec 32) (v43 : BitVec 32) (v182 : BitVec 32) (v184 : BitVec 32) (k0_t10 : Fin (k0_t10_loop v41 v43).trips) (k0_t12 : Fin (k0_t12_loop v182 v184).trips) : Fin 2 → Nat :=
  let c1_i32_57 : BitVec 32 := 1#32
  let arg11 : BitVec 32 := Scf.iv v41 c1_i32_57 k0_t10
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t12
  let v1011 : BitVec 32 := Scalar.addi v1003 arg36
  let v1081 : Index := Scalar.indexCast v1011
  let c368 : Index := 368#32
  ![v1081.toNat, 368]
@[reducible] def k0_t13_loop (v41 : BitVec 32) (v43 : BitVec 32) : Scf.Loop 32 :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let v187 : BitVec 32 := Scalar.addi v41 v186
  let c1_i32_58 : BitVec 32 := 1#32
  ⟨v190, v187, c1_i32_58⟩
@[reducible] def k0_t14_loop (v182 : BitVec 32) (v184 : BitVec 32) : Scf.Loop 32 :=
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_376 : BitVec 32 := 1#32
  ⟨v182, v1008, c1_i32_376⟩
def k0_off148 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1012 : Index := Scalar.indexCast v1011
  let c0_378 : Index := 0#32
  ![v1012.toNat, 0]
def k0_off149 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1015 : Index := Scalar.indexCast v1011
  let c16 : Index := 16#32
  ![v1015.toNat, 16]
def k0_off150 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1018 : Index := Scalar.indexCast v1011
  let c32 : Index := 32#32
  ![v1018.toNat, 32]
def k0_off151 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1021 : Index := Scalar.indexCast v1011
  let c48 : Index := 48#32
  ![v1021.toNat, 48]
def k0_off152 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1024 : Index := Scalar.indexCast v1011
  let c64 : Index := 64#32
  ![v1024.toNat, 64]
def k0_off153 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1027 : Index := Scalar.indexCast v1011
  let c80 : Index := 80#32
  ![v1027.toNat, 80]
def k0_off154 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1030 : Index := Scalar.indexCast v1011
  let c96 : Index := 96#32
  ![v1030.toNat, 96]
def k0_off155 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1033 : Index := Scalar.indexCast v1011
  let c112 : Index := 112#32
  ![v1033.toNat, 112]
def k0_off156 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1036 : Index := Scalar.indexCast v1011
  let c128 : Index := 128#32
  ![v1036.toNat, 128]
def k0_off157 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1039 : Index := Scalar.indexCast v1011
  let c144 : Index := 144#32
  ![v1039.toNat, 144]
def k0_off158 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1042 : Index := Scalar.indexCast v1011
  let c160 : Index := 160#32
  ![v1042.toNat, 160]
def k0_off159 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1045 : Index := Scalar.indexCast v1011
  let c176 : Index := 176#32
  ![v1045.toNat, 176]
def k0_off160 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1048 : Index := Scalar.indexCast v1011
  let c192 : Index := 192#32
  ![v1048.toNat, 192]
def k0_off161 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1051 : Index := Scalar.indexCast v1011
  let c208 : Index := 208#32
  ![v1051.toNat, 208]
def k0_off162 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1054 : Index := Scalar.indexCast v1011
  let c224 : Index := 224#32
  ![v1054.toNat, 224]
def k0_off163 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1057 : Index := Scalar.indexCast v1011
  let c240 : Index := 240#32
  ![v1057.toNat, 240]
def k0_off164 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1060 : Index := Scalar.indexCast v1011
  let c256 : Index := 256#32
  ![v1060.toNat, 256]
def k0_off165 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1063 : Index := Scalar.indexCast v1011
  let c272 : Index := 272#32
  ![v1063.toNat, 272]
def k0_off166 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1066 : Index := Scalar.indexCast v1011
  let c288 : Index := 288#32
  ![v1066.toNat, 288]
def k0_off167 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1069 : Index := Scalar.indexCast v1011
  let c304 : Index := 304#32
  ![v1069.toNat, 304]
def k0_off168 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1072 : Index := Scalar.indexCast v1011
  let c320 : Index := 320#32
  ![v1072.toNat, 320]
def k0_off169 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1075 : Index := Scalar.indexCast v1011
  let c336 : Index := 336#32
  ![v1075.toNat, 336]
def k0_off170 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1078 : Index := Scalar.indexCast v1011
  let c352 : Index := 352#32
  ![v1078.toNat, 352]
def k0_off171 (v41 : BitVec 32) (v43 : BitVec 32) (v182 : BitVec 32) (v184 : BitVec 32) (k0_t13 : Fin (k0_t13_loop v41 v43).trips) (k0_t14 : Fin (k0_t14_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let c1_i32_376 : BitVec 32 := 1#32
  let arg36 : BitVec 32 := Scf.iv v182 c1_i32_376 k0_t14
  let v1011 : BitVec 32 := Scalar.addi v1003 arg36
  let v1081 : Index := Scalar.indexCast v1011
  let c368 : Index := 368#32
  ![v1081.toNat, 368]
@[reducible] def k0_t15_loop (v182 : BitVec 32) (v184 : BitVec 32) : Scf.Loop 32 :=
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let v1005 : BitVec 32 := Scalar.addi v182 v1004
  let c1_i32_377 : BitVec 32 := 1#32
  ⟨v1008, v1005, c1_i32_377⟩
def k0_off172 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1012 : Index := Scalar.indexCast v1011
  let c0_378 : Index := 0#32
  ![v1012.toNat, 0]
def k0_off173 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1015 : Index := Scalar.indexCast v1011
  let c16 : Index := 16#32
  ![v1015.toNat, 16]
def k0_off174 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1018 : Index := Scalar.indexCast v1011
  let c32 : Index := 32#32
  ![v1018.toNat, 32]
def k0_off175 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1021 : Index := Scalar.indexCast v1011
  let c48 : Index := 48#32
  ![v1021.toNat, 48]
def k0_off176 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1024 : Index := Scalar.indexCast v1011
  let c64 : Index := 64#32
  ![v1024.toNat, 64]
def k0_off177 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1027 : Index := Scalar.indexCast v1011
  let c80 : Index := 80#32
  ![v1027.toNat, 80]
def k0_off178 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1030 : Index := Scalar.indexCast v1011
  let c96 : Index := 96#32
  ![v1030.toNat, 96]
def k0_off179 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1033 : Index := Scalar.indexCast v1011
  let c112 : Index := 112#32
  ![v1033.toNat, 112]
def k0_off180 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1036 : Index := Scalar.indexCast v1011
  let c128 : Index := 128#32
  ![v1036.toNat, 128]
def k0_off181 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1039 : Index := Scalar.indexCast v1011
  let c144 : Index := 144#32
  ![v1039.toNat, 144]
def k0_off182 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1042 : Index := Scalar.indexCast v1011
  let c160 : Index := 160#32
  ![v1042.toNat, 160]
def k0_off183 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1045 : Index := Scalar.indexCast v1011
  let c176 : Index := 176#32
  ![v1045.toNat, 176]
def k0_off184 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1048 : Index := Scalar.indexCast v1011
  let c192 : Index := 192#32
  ![v1048.toNat, 192]
def k0_off185 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1051 : Index := Scalar.indexCast v1011
  let c208 : Index := 208#32
  ![v1051.toNat, 208]
def k0_off186 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1054 : Index := Scalar.indexCast v1011
  let c224 : Index := 224#32
  ![v1054.toNat, 224]
def k0_off187 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1057 : Index := Scalar.indexCast v1011
  let c240 : Index := 240#32
  ![v1057.toNat, 240]
def k0_off188 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1060 : Index := Scalar.indexCast v1011
  let c256 : Index := 256#32
  ![v1060.toNat, 256]
def k0_off189 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1063 : Index := Scalar.indexCast v1011
  let c272 : Index := 272#32
  ![v1063.toNat, 272]
def k0_off190 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1066 : Index := Scalar.indexCast v1011
  let c288 : Index := 288#32
  ![v1066.toNat, 288]
def k0_off191 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1069 : Index := Scalar.indexCast v1011
  let c304 : Index := 304#32
  ![v1069.toNat, 304]
def k0_off192 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1072 : Index := Scalar.indexCast v1011
  let c320 : Index := 320#32
  ![v1072.toNat, 320]
def k0_off193 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1075 : Index := Scalar.indexCast v1011
  let c336 : Index := 336#32
  ![v1075.toNat, 336]
def k0_off194 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1078 : Index := Scalar.indexCast v1011
  let c352 : Index := 352#32
  ![v1078.toNat, 352]
def k0_off195 (v41 : BitVec 32) (v43 : BitVec 32) (v182 : BitVec 32) (v184 : BitVec 32) (k0_t13 : Fin (k0_t13_loop v41 v43).trips) (k0_t15 : Fin (k0_t15_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t13
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t15
  let v1011 : BitVec 32 := Scalar.addi v1003 arg36
  let v1081 : Index := Scalar.indexCast v1011
  let c368 : Index := 368#32
  ![v1081.toNat, 368]

def k0_chk28_0 (i : grid0.Coords) (v10 : BitVec 32) (v41 : BitVec 32) (v43 : BitVec 32) (v182 : BitVec 32) (v184 : BitVec 32) : Prop :=
  (∀ k0_t10 : Fin (k0_t10_loop v41 v43).trips, ∀ (k0_h1 : k0_cond1 i v10 = 1#1), (k0_t11_loop v182 v184).OK) ∧
  (∀ (k0_t10 : Fin (k0_t10_loop v41 v43).trips) (k0_t11 : Fin (k0_t11_loop v182 v184).trips), ∀ (k0_h1 : k0_cond1 i v10 = 1#1), ∀ a, (k0_off100 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off101 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off102 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off103 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off104 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off105 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off106 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off107 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off108 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off109 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off110 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off111 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off112 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off113 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off114 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off115 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off116 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off117 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off118 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off119 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off120 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off121 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off122 v41 v43 v182 v184 k0_t10 k0_t11) a + S1x16.size a ≤ S196x384.size a) ∧
  (∀ (k0_t10 : Fin (k0_t10_loop v41 v43).trips) (k0_t11 : Fin (k0_t11_loop v182 v184).trips), ∀ (k0_h1 : k0_cond1 i v10 = 1#1), ∀ a, (k0_off123 v41 v43 v182 v184 k0_t10 k0_t11) a + S1x16.size a ≤ S196x384.size a) ∧
  (∀ k0_t10 : Fin (k0_t10_loop v41 v43).trips, ∀ (k0_h1 : k0_cond1 i v10 = 1#1), (k0_t12_loop v182 v184).OK) ∧
  (∀ (k0_t10 : Fin (k0_t10_loop v41 v43).trips) (k0_t12 : Fin (k0_t12_loop v182 v184).trips), ∀ (k0_h1 : k0_cond1 i v10 = 1#1), ∀ a, (k0_off124 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off125 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off126 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off127 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off128 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off129 v41 v43 v182 v184 k0_t10 k0_t12) a + S1x16.size a ≤ S196x384.size a)
def k0_chk28_1 (i : grid0.Coords) (v10 : BitVec 32) (v41 : BitVec 32) (v43 : BitVec 32) (v182 : BitVec 32) (v184 : BitVec 32) : Prop :=
  (∀ (k0_t10 : Fin (k0_t10_loop v41 v43).trips) (k0_t12 : Fin (k0_t12_loop v182 v184).trips), ∀ (k0_h1 : k0_cond1 i v10 = 1#1), ∀ a, (k0_off130 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off131 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off132 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off133 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off134 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off135 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off136 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off137 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off138 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off139 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off140 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off141 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off142 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off143 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off144 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off145 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off146 v41 v43 v182 v184 k0_t10 k0_t12) a + S1x16.size a ≤ S196x384.size a) ∧
  (∀ (k0_t10 : Fin (k0_t10_loop v41 v43).trips) (k0_t12 : Fin (k0_t12_loop v182 v184).trips), ∀ (k0_h1 : k0_cond1 i v10 = 1#1), ∀ a, (k0_off147 v41 v43 v182 v184 k0_t10 k0_t12) a + S1x16.size a ≤ S196x384.size a) ∧
  (∀ k0_t13 : Fin (k0_t13_loop v41 v43).trips, ∀ (k0_h1 : k0_cond1 i v10 = 1#1), (k0_t14_loop v182 v184).OK) ∧
  (∀ (k0_t13 : Fin (k0_t13_loop v41 v43).trips) (k0_t14 : Fin (k0_t14_loop v182 v184).trips), ∀ (k0_h1 : k0_cond1 i v10 = 1#1), ∀ a, (k0_off148 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off149 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off150 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off151 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off152 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off153 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off154 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off155 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off156 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off157 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off158 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off159 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off160 v41 v43 v182 v184 k0_t13 k0_t14) a + S1x16.size a ≤ S196x384.size a)
def k0_chk28_2 (i : grid0.Coords) (v10 : BitVec 32) (v41 : BitVec 32) (v43 : BitVec 32) (v182 : BitVec 32) (v184 : BitVec 32) : Prop :=
  (∀ (k0_t13 : Fin (k0_t13_loop v41 v43).trips) (k0_t14 : Fin (k0_t14_loop v182 v184).trips), ∀ (k0_h1 : k0_cond1 i v10 = 1#1), ∀ a, (k0_off161 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off162 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off163 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off164 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off165 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off166 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off167 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off168 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off169 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off170 v41 v43 v182 v184 k0_t13 k0_t14) a + S1x16.size a ≤ S196x384.size a) ∧
  (∀ (k0_t13 : Fin (k0_t13_loop v41 v43).trips) (k0_t14 : Fin (k0_t14_loop v182 v184).trips), ∀ (k0_h1 : k0_cond1 i v10 = 1#1), ∀ a, (k0_off171 v41 v43 v182 v184 k0_t13 k0_t14) a + S1x16.size a ≤ S196x384.size a) ∧
  (∀ k0_t13 : Fin (k0_t13_loop v41 v43).trips, ∀ (k0_h1 : k0_cond1 i v10 = 1#1), (k0_t15_loop v182 v184).OK) ∧
  (∀ (k0_t13 : Fin (k0_t13_loop v41 v43).trips) (k0_t15 : Fin (k0_t15_loop v182 v184).trips), ∀ (k0_h1 : k0_cond1 i v10 = 1#1), ∀ a, (k0_off172 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off173 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off174 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off175 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off176 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off177 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off178 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off179 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off180 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off181 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off182 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off183 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off184 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off185 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off186 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off187 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off188 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off189 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off190 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off191 v41 v43 v182 v184 k0_t13 k0_t15) a + S1x16.size a ≤ S196x384.size a)
def k0_chk28_3 (i : grid0.Coords) (v10 : BitVec 32) (v41 : BitVec 32) (v43 : BitVec 32) (v182 : BitVec 32) (v184 : BitVec 32) : Prop :=
  (∀ (k0_t13 : Fin (k0_t13_loop v41 v43).trips) (k0_t15 : Fin (k0_t15_loop v182 v184).trips), ∀ (k0_h1 : k0_cond1 i v10 = 1#1), ∀ a, (k0_off192 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off193 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off194 v41 v43 v182 v184 k0_t13 k0_t15) a + S1x16.size a ≤ S196x384.size a) ∧
  (∀ (k0_t13 : Fin (k0_t13_loop v41 v43).trips) (k0_t15 : Fin (k0_t15_loop v182 v184).trips), ∀ (k0_h1 : k0_cond1 i v10 = 1#1), ∀ a, (k0_off195 v41 v43 v182 v184 k0_t13 k0_t15) a + S1x16.size a ≤ S196x384.size a)
def k0_chk28 (i : grid0.Coords) (v10 : BitVec 32) (v41 : BitVec 32) (v43 : BitVec 32) (v182 : BitVec 32) (v184 : BitVec 32) : Prop :=
  k0_chk28_0 i v10 v41 v43 v182 v184 ∧
  k0_chk28_1 i v10 v41 v43 v182 v184 ∧
  k0_chk28_2 i v10 v41 v43 v182 v184 ∧
  k0_chk28_3 i v10 v41 v43 v182 v184
theorem k0_t11_ok : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips), ∀ (k0_h1 : k0_cond1 i v10 = 1#1), (k0_t11_loop v182 v184).OK := fun i v10 v41 v43 v182 v184 k0_hw28 k0_t10 k0_h1 => k0_hw28.1.1 k0_t10 k0_h1
theorem k0_off100_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off100 v41 v43 v182 v184 k0_t10 k0_t11) a + S1x16.size a ≤ S196x384.size a := fun i v10 v41 v43 v182 v184 k0_hw28 k0_t10 k0_t11 k0_h1 => k0_hw28.1.2.1 k0_t10 k0_t11 k0_h1
theorem k0_off101_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off101 v41 v43 v182 v184 k0_t10 k0_t11) a + S1x16.size a ≤ S196x384.size a := fun i v10 v41 v43 v182 v184 k0_hw28 k0_t10 k0_t11 k0_h1 => k0_hw28.1.2.2.1 k0_t10 k0_t11 k0_h1
theorem k0_off102_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off102 v41 v43 v182 v184 k0_t10 k0_t11) a + S1x16.size a ≤ S196x384.size a := fun i v10 v41 v43 v182 v184 k0_hw28 k0_t10 k0_t11 k0_h1 => k0_hw28.1.2.2.2.1 k0_t10 k0_t11 k0_h1
theorem k0_off103_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off103 v41 v43 v182 v184 k0_t10 k0_t11) a + S1x16.size a ≤ S196x384.size a := fun i v10 v41 v43 v182 v184 k0_hw28 k0_t10 k0_t11 k0_h1 => k0_hw28.1.2.2.2.2.1 k0_t10 k0_t11 k0_h1
theorem k0_off104_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off104 v41 v43 v182 v184 k0_t10 k0_t11) a + S1x16.size a ≤ S196x384.size a := fun i v10 v41 v43 v182 v184 k0_hw28 k0_t10 k0_t11 k0_h1 => k0_hw28.1.2.2.2.2.2.1 k0_t10 k0_t11 k0_h1
theorem k0_off105_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off105 v41 v43 v182 v184 k0_t10 k0_t11) a + S1x16.size a ≤ S196x384.size a := fun i v10 v41 v43 v182 v184 k0_hw28 k0_t10 k0_t11 k0_h1 => k0_hw28.1.2.2.2.2.2.2.1 k0_t10 k0_t11 k0_h1
theorem k0_off106_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off106 v41 v43 v182 v184 k0_t10 k0_t11) a + S1x16.size a ≤ S196x384.size a := fun i v10 v41 v43 v182 v184 k0_hw28 k0_t10 k0_t11 k0_h1 => k0_hw28.1.2.2.2.2.2.2.2.1 k0_t10 k0_t11 k0_h1
theorem k0_off107_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off107 v41 v43 v182 v184 k0_t10 k0_t11) a + S1x16.size a ≤ S196x384.size a := fun i v10 v41 v43 v182 v184 k0_hw28 k0_t10 k0_t11 k0_h1 => k0_hw28.1.2.2.2.2.2.2.2.2.1 k0_t10 k0_t11 k0_h1
theorem k0_off108_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off108 v41 v43 v182 v184 k0_t10 k0_t11) a + S1x16.size a ≤ S196x384.size a := fun i v10 v41 v43 v182 v184 k0_hw28 k0_t10 k0_t11 k0_h1 => k0_hw28.1.2.2.2.2.2.2.2.2.2.1 k0_t10 k0_t11 k0_h1
theorem k0_off109_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off109 v41 v43 v182 v184 k0_t10 k0_t11) a + S1x16.size a ≤ S196x384.size a := fun i v10 v41 v43 v182 v184 k0_hw28 k0_t10 k0_t11 k0_h1 => k0_hw28.1.2.2.2.2.2.2.2.2.2.2.1 k0_t10 k0_t11 k0_h1
theorem k0_off110_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off110 v41 v43 v182 v184 k0_t10 k0_t11) a + S1x16.size a ≤ S196x384.size a := fun i v10 v41 v43 v182 v184 k0_hw28 k0_t10 k0_t11 k0_h1 => k0_hw28.1.2.2.2.2.2.2.2.2.2.2.2.1 k0_t10 k0_t11 k0_h1
theorem k0_off111_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off111 v41 v43 v182 v184 k0_t10 k0_t11) a + S1x16.size a ≤ S196x384.size a := fun i v10 v41 v43 v182 v184 k0_hw28 k0_t10 k0_t11 k0_h1 => k0_hw28.1.2.2.2.2.2.2.2.2.2.2.2.2.1 k0_t10 k0_t11 k0_h1
theorem k0_off112_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off112 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.1 k0_t10 k0_t11 k0_h1
theorem k0_off113_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off113 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.1 k0_t10 k0_t11 k0_h1
theorem k0_off114_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off114 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.1 k0_t10 k0_t11 k0_h1
theorem k0_off115_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off115 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.2.1 k0_t10 k0_t11 k0_h1
theorem k0_off116_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off116 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.2.2.1 k0_t10 k0_t11 k0_h1
theorem k0_off117_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off117 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.2.2.2.1 k0_t10 k0_t11 k0_h1
theorem k0_off118_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off118 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.2.2.2.2.1 k0_t10 k0_t11 k0_h1
theorem k0_off119_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off119 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.2.2.2.2.2.1 k0_t10 k0_t11 k0_h1
theorem k0_off120_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off120 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.2.2.2.2.2.2.1 k0_t10 k0_t11 k0_h1
theorem k0_off121_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off121 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.2.2.2.2.2.2.2.1 k0_t10 k0_t11 k0_h1
theorem k0_off122_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off122 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.2.2.2.2.2.2.2.2.1 k0_t10 k0_t11 k0_h1
theorem k0_off123_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t11 : Fin (k0_t11_loop v182 v184).trips), ∀ (k0_h1 : k0_cond1 i v10 = 1#1), ∀ a, (k0_off123 v41 v43 v182 v184 k0_t10 k0_t11) a + S1x16.size a ≤ S196x384.size a := fun i v10 v41 v43 v182 v184 k0_hw28 k0_t10 k0_t11 k0_h1 => k0_hw28.1.2.2.2.2.2.2.2.2.2.2.2.2.2.2.2.2.2.2.2.2.2.2.2.2.1 k0_t10 k0_t11 k0_h1
theorem k0_t12_ok : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips), ∀ (k0_h1 : k0_cond1 i v10 = 1#1), (k0_t12_loop v182 v184).OK := fun i v10 v41 v43 v182 v184 k0_hw28 k0_t10 k0_h1 => k0_hw28.1.2.2.2.2.2.2.2.2.2.2.2.2.2.2.2.2.2.2.2.2.2.2.2.2.2.1 k0_t10 k0_h1
theorem k0_off124_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off124 v41 v43 v182 v184 k0_t10 k0_t12) a + S1x16.size a ≤ S196x384.size a := fun i v10 v41 v43 v182 v184 k0_hw28 k0_t10 k0_t12 k0_h1 => k0_hw28.1.2.2.2.2.2.2.2.2.2.2.2.2.2.2.2.2.2.2.2.2.2.2.2.2.2.2.1 k0_t10 k0_t12 k0_h1
theorem k0_off125_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off125 v41 v43 v182 v184 k0_t10 k0_t12) a + S1x16.size a ≤ S196x384.size a := fun i v10 v41 v43 v182 v184 k0_hw28 k0_t10 k0_t12 k0_h1 => k0_hw28.1.2.2.2.2.2.2.2.2.2.2.2.2.2.2.2.2.2.2.2.2.2.2.2.2.2.2.2.1 k0_t10 k0_t12 k0_h1
theorem k0_off126_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off126 v41 v43 v182 v184 k0_t10 k0_t12) a + S1x16.size a ≤ S196x384.size a := fun i v10 v41 v43 v182 v184 k0_hw28 k0_t10 k0_t12 k0_h1 => k0_hw28.1.2.2.2.2.2.2.2.2.2.2.2.2.2.2.2.2.2.2.2.2.2.2.2.2.2.2.2.2.1 k0_t10 k0_t12 k0_h1
theorem k0_off127_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off127 v41 v43 v182 v184 k0_t10 k0_t12) a + S1x16.size a ≤ S196x384.size a := fun i v10 v41 v43 v182 v184 k0_hw28 k0_t10 k0_t12 k0_h1 => k0_hw28.1.2.2.2.2.2.2.2.2.2.2.2.2.2.2.2.2.2.2.2.2.2.2.2.2.2.2.2.2.2.1 k0_t10 k0_t12 k0_h1
theorem k0_off128_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off128 v41 v43 v182 v184 k0_t10 k0_t12) a + S1x16.size a ≤ S196x384.size a := fun i v10 v41 v43 v182 v184 k0_hw28 k0_t10 k0_t12 k0_h1 => k0_hw28.1.2.2.2.2.2.2.2.2.2.2.2.2.2.2.2.2.2.2.2.2.2.2.2.2.2.2.2.2.2.2.1 k0_t10 k0_t12 k0_h1
theorem k0_off129_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off129 v41 v43 v182 v184 k0_t10 k0_t12) a + S1x16.size a ≤ S196x384.size a := fun i v10 v41 v43 v182 v184 k0_hw28 k0_t10 k0_t12 k0_h1 => k0_hw28.1.2.2.2.2.2.2.2.2.2.2.2.2.2.2.2.2.2.2.2.2.2.2.2.2.2.2.2.2.2.2.2 k0_t10 k0_t12 k0_h1
theorem k0_off130_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off130 v41 v43 v182 v184 k0_t10 k0_t12) a + S1x16.size a ≤ S196x384.size a := fun i v10 v41 v43 v182 v184 k0_hw28 k0_t10 k0_t12 k0_h1 => k0_hw28.2.1.1 k0_t10 k0_t12 k0_h1
theorem k0_off131_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off131 v41 v43 v182 v184 k0_t10 k0_t12) a + S1x16.size a ≤ S196x384.size a := fun i v10 v41 v43 v182 v184 k0_hw28 k0_t10 k0_t12 k0_h1 => k0_hw28.2.1.2.1 k0_t10 k0_t12 k0_h1
theorem k0_off132_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off132 v41 v43 v182 v184 k0_t10 k0_t12) a + S1x16.size a ≤ S196x384.size a := fun i v10 v41 v43 v182 v184 k0_hw28 k0_t10 k0_t12 k0_h1 => k0_hw28.2.1.2.2.1 k0_t10 k0_t12 k0_h1
theorem k0_off133_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off133 v41 v43 v182 v184 k0_t10 k0_t12) a + S1x16.size a ≤ S196x384.size a := fun i v10 v41 v43 v182 v184 k0_hw28 k0_t10 k0_t12 k0_h1 => k0_hw28.2.1.2.2.2.1 k0_t10 k0_t12 k0_h1
theorem k0_off134_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off134 v41 v43 v182 v184 k0_t10 k0_t12) a + S1x16.size a ≤ S196x384.size a := fun i v10 v41 v43 v182 v184 k0_hw28 k0_t10 k0_t12 k0_h1 => k0_hw28.2.1.2.2.2.2.1 k0_t10 k0_t12 k0_h1
theorem k0_off135_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off135 v41 v43 v182 v184 k0_t10 k0_t12) a + S1x16.size a ≤ S196x384.size a := fun i v10 v41 v43 v182 v184 k0_hw28 k0_t10 k0_t12 k0_h1 => k0_hw28.2.1.2.2.2.2.2.1 k0_t10 k0_t12 k0_h1
theorem k0_off136_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off136 v41 v43 v182 v184 k0_t10 k0_t12) a + S1x16.size a ≤ S196x384.size a := fun i v10 v41 v43 v182 v184 k0_hw28 k0_t10 k0_t12 k0_h1 => k0_hw28.2.1.2.2.2.2.2.2.1 k0_t10 k0_t12 k0_h1
theorem k0_off137_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off137 v41 v43 v182 v184 k0_t10 k0_t12) a + S1x16.size a ≤ S196x384.size a := fun i v10 v41 v43 v182 v184 k0_hw28 k0_t10 k0_t12 k0_h1 => k0_hw28.2.1.2.2.2.2.2.2.2.1 k0_t10 k0_t12 k0_h1
theorem k0_off138_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off138 v41 v43 v182 v184 k0_t10 k0_t12) a + S1x16.size a ≤ S196x384.size a := fun i v10 v41 v43 v182 v184 k0_hw28 k0_t10 k0_t12 k0_h1 => k0_hw28.2.1.2.2.2.2.2.2.2.2.1 k0_t10 k0_t12 k0_h1
theorem k0_off139_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off139 v41 v43 v182 v184 k0_t10 k0_t12) a + S1x16.size a ≤ S196x384.size a := fun i v10 v41 v43 v182 v184 k0_hw28 k0_t10 k0_t12 k0_h1 => k0_hw28.2.1.2.2.2.2.2.2.2.2.2.1 k0_t10 k0_t12 k0_h1
theorem k0_off140_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off140 v41 v43 v182 v184 k0_t10 k0_t12) a + S1x16.size a ≤ S196x384.size a := fun i v10 v41 v43 v182 v184 k0_hw28 k0_t10 k0_t12 k0_h1 => k0_hw28.2.1.2.2.2.2.2.2.2.2.2.2.1 k0_t10 k0_t12 k0_h1
theorem k0_off141_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off141 v41 v43 v182 v184 k0_t10 k0_t12) a + S1x16.size a ≤ S196x384.size a := fun i v10 v41 v43 v182 v184 k0_hw28 k0_t10 k0_t12 k0_h1 => k0_hw28.2.1.2.2.2.2.2.2.2.2.2.2.2.1 k0_t10 k0_t12 k0_h1
theorem k0_off142_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off142 v41 v43 v182 v184 k0_t10 k0_t12) a + S1x16.size a ≤ S196x384.size a := fun i v10 v41 v43 v182 v184 k0_hw28 k0_t10 k0_t12 k0_h1 => k0_hw28.2.1.2.2.2.2.2.2.2.2.2.2.2.2.1 k0_t10 k0_t12 k0_h1
theorem k0_off143_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off143 v41 v43 v182 v184 k0_t10 k0_t12) a + S1x16.size a ≤ S196x384.size a := fun i v10 v41 v43 v182 v184 k0_hw28 k0_t10 k0_t12 k0_h1 => k0_hw28.2.1.2.2.2.2.2.2.2.2.2.2.2.2.2.1 k0_t10 k0_t12 k0_h1
theorem k0_off144_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off144 v41 v43 v182 v184 k0_t10 k0_t12) a + S1x16.size a ≤ S196x384.size a := fun i v10 v41 v43 v182 v184 k0_hw28 k0_t10 k0_t12 k0_h1 => k0_hw28.2.1.2.2.2.2.2.2.2.2.2.2.2.2.2.2.1 k0_t10 k0_t12 k0_h1
theorem k0_off145_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off145 v41 v43 v182 v184 k0_t10 k0_t12) a + S1x16.size a ≤ S196x384.size a := fun i v10 v41 v43 v182 v184 k0_hw28 k0_t10 k0_t12 k0_h1 => k0_hw28.2.1.2.2.2.2.2.2.2.2.2.2.2.2.2.2.2.1 k0_t10 k0_t12 k0_h1
theorem k0_off146_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off146 v41 v43 v182 v184 k0_t10 k0_t12) a + S1x16.size a ≤ S196x384.size a := fun i v10 v41 v43 v182 v184 k0_hw28 k0_t10 k0_t12 k0_h1 => k0_hw28.2.1.2.2.2.2.2.2.2.2.2.2.2.2.2.2.2.2.1 k0_t10 k0_t12 k0_h1
theorem k0_off147_inb : ∀ (i : grid0.Coords) (v10 : BitVec 32) (v41 : BitVec 32) (v43 : BitVec 32) (v182 : BitVec 32) (v184 : BitVec 32) (k0_hw28 : k0_chk28 i v10 v41 v43 v182 v184) (k0_t10 : Fin (k0_t10_loop v41 v43).trips) (k0_t12 : Fin (k0_t12_loop v182 v184).trips), ∀ (k0_h1 : k0_cond1 i v10 = 1#1), ∀ a, (k0_off147 v41 v43 v182 v184 k0_t10 k0_t12) a + S1x16.size a ≤ S196x384.size a := fun i v10 v41 v43 v182 v184 k0_hw28 k0_t10 k0_t12 k0_h1 => k0_hw28.2.1.2.2.2.2.2.2.2.2.2.2.2.2.2.2.2.2.2.1 k0_t10 k0_t12 k0_h1
theorem k0_t14_ok : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips), ∀ (k0_h1 : k0_cond1 i v10 = 1#1), (k0_t14_loop v182 v184).OK := fun i v10 v41 v43 v182 v184 k0_hw28 k0_t13 k0_h1 => k0_hw28.2.1.2.2.2.2.2.2.2.2.2.2.2.2.2.2.2.2.2.2.1 k0_t13 k0_h1
theorem k0_off148_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off148 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.1 k0_t13 k0_t14 k0_h1
theorem k0_off149_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off149 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.1 k0_t13 k0_t14 k0_h1
theorem k0_off150_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off150 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.1 k0_t13 k0_t14 k0_h1
theorem k0_off151_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off151 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.1 k0_t13 k0_t14 k0_h1
theorem k0_off152_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off152 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.2.1 k0_t13 k0_t14 k0_h1
theorem k0_off153_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off153 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.2.2.1 k0_t13 k0_t14 k0_h1
theorem k0_off154_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off154 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.2.2.2.1 k0_t13 k0_t14 k0_h1
theorem k0_off155_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off155 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.2.2.2.2.1 k0_t13 k0_t14 k0_h1
theorem k0_off156_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off156 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.2.2.2.2.2.1 k0_t13 k0_t14 k0_h1
theorem k0_off157_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off157 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.2.2.2.2.2.2.1 k0_t13 k0_t14 k0_h1
theorem k0_off158_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off158 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.2.2.2.2.2.2.2.1 k0_t13 k0_t14 k0_h1
theorem k0_off159_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off159 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.2.2.2.2.2.2.2.2.1 k0_t13 k0_t14 k0_h1
theorem k0_off160_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off160 v41 v43 v182 v184 k0_t13 k0_t14) a + S1x16.size a ≤ S196x384.size a := fun i v10 v41 v43 v182 v184 k0_hw28 k0_t13 k0_t14 k0_h1 => k0_hw28.2.1.2.2.2.2.2.2.2.2.2.2.2.2.2.2.2.2.2.2.2.2.2.2.2.2.2.2.2.2.2.2.2 k0_t13 k0_t14 k0_h1
theorem k0_off161_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off161 v41 v43 v182 v184 k0_t13 k0_t14) a + S1x16.size a ≤ S196x384.size a := fun i v10 v41 v43 v182 v184 k0_hw28 k0_t13 k0_t14 k0_h1 => k0_hw28.2.2.1.1 k0_t13 k0_t14 k0_h1
theorem k0_off162_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off162 v41 v43 v182 v184 k0_t13 k0_t14) a + S1x16.size a ≤ S196x384.size a := fun i v10 v41 v43 v182 v184 k0_hw28 k0_t13 k0_t14 k0_h1 => k0_hw28.2.2.1.2.1 k0_t13 k0_t14 k0_h1
theorem k0_off163_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off163 v41 v43 v182 v184 k0_t13 k0_t14) a + S1x16.size a ≤ S196x384.size a := fun i v10 v41 v43 v182 v184 k0_hw28 k0_t13 k0_t14 k0_h1 => k0_hw28.2.2.1.2.2.1 k0_t13 k0_t14 k0_h1
theorem k0_off164_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off164 v41 v43 v182 v184 k0_t13 k0_t14) a + S1x16.size a ≤ S196x384.size a := fun i v10 v41 v43 v182 v184 k0_hw28 k0_t13 k0_t14 k0_h1 => k0_hw28.2.2.1.2.2.2.1 k0_t13 k0_t14 k0_h1
theorem k0_off165_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off165 v41 v43 v182 v184 k0_t13 k0_t14) a + S1x16.size a ≤ S196x384.size a := fun i v10 v41 v43 v182 v184 k0_hw28 k0_t13 k0_t14 k0_h1 => k0_hw28.2.2.1.2.2.2.2.1 k0_t13 k0_t14 k0_h1
theorem k0_off166_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off166 v41 v43 v182 v184 k0_t13 k0_t14) a + S1x16.size a ≤ S196x384.size a := fun i v10 v41 v43 v182 v184 k0_hw28 k0_t13 k0_t14 k0_h1 => k0_hw28.2.2.1.2.2.2.2.2.1 k0_t13 k0_t14 k0_h1
theorem k0_off167_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off167 v41 v43 v182 v184 k0_t13 k0_t14) a + S1x16.size a ≤ S196x384.size a := fun i v10 v41 v43 v182 v184 k0_hw28 k0_t13 k0_t14 k0_h1 => k0_hw28.2.2.1.2.2.2.2.2.2.1 k0_t13 k0_t14 k0_h1
theorem k0_off168_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off168 v41 v43 v182 v184 k0_t13 k0_t14) a + S1x16.size a ≤ S196x384.size a := fun i v10 v41 v43 v182 v184 k0_hw28 k0_t13 k0_t14 k0_h1 => k0_hw28.2.2.1.2.2.2.2.2.2.2.1 k0_t13 k0_t14 k0_h1
theorem k0_off169_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off169 v41 v43 v182 v184 k0_t13 k0_t14) a + S1x16.size a ≤ S196x384.size a := fun i v10 v41 v43 v182 v184 k0_hw28 k0_t13 k0_t14 k0_h1 => k0_hw28.2.2.1.2.2.2.2.2.2.2.2.1 k0_t13 k0_t14 k0_h1
theorem k0_off170_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off170 v41 v43 v182 v184 k0_t13 k0_t14) a + S1x16.size a ≤ S196x384.size a := fun i v10 v41 v43 v182 v184 k0_hw28 k0_t13 k0_t14 k0_h1 => k0_hw28.2.2.1.2.2.2.2.2.2.2.2.2.1 k0_t13 k0_t14 k0_h1
theorem k0_off171_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t14 : Fin (k0_t14_loop v182 v184).trips), ∀ (k0_h1 : k0_cond1 i v10 = 1#1), ∀ a, (k0_off171 v41 v43 v182 v184 k0_t13 k0_t14) a + S1x16.size a ≤ S196x384.size a := fun i v10 v41 v43 v182 v184 k0_hw28 k0_t13 k0_t14 k0_h1 => k0_hw28.2.2.1.2.2.2.2.2.2.2.2.2.2.1 k0_t13 k0_t14 k0_h1
theorem k0_t15_ok : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips), ∀ (k0_h1 : k0_cond1 i v10 = 1#1), (k0_t15_loop v182 v184).OK := fun i v10 v41 v43 v182 v184 k0_hw28 k0_t13 k0_h1 => k0_hw28.2.2.1.2.2.2.2.2.2.2.2.2.2.2.1 k0_t13 k0_h1
theorem k0_off172_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off172 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.1 k0_t13 k0_t15 k0_h1
theorem k0_off173_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off173 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.1 k0_t13 k0_t15 k0_h1
theorem k0_off174_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off174 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.1 k0_t13 k0_t15 k0_h1
theorem k0_off175_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off175 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.1 k0_t13 k0_t15 k0_h1
theorem k0_off176_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off176 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.1 k0_t13 k0_t15 k0_h1
theorem k0_off177_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off177 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.1 k0_t13 k0_t15 k0_h1
theorem k0_off178_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off178 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.1 k0_t13 k0_t15 k0_h1
theorem k0_off179_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off179 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.1 k0_t13 k0_t15 k0_h1
theorem k0_off180_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off180 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.1 k0_t13 k0_t15 k0_h1
theorem k0_off181_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off181 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.1 k0_t13 k0_t15 k0_h1
theorem k0_off182_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off182 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.1 k0_t13 k0_t15 k0_h1
theorem k0_off183_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off183 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.2.1 k0_t13 k0_t15 k0_h1
theorem k0_off184_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off184 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.2.2.1 k0_t13 k0_t15 k0_h1
theorem k0_off185_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off185 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.2.2.2.1 k0_t13 k0_t15 k0_h1
theorem k0_off186_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off186 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.2.2.2.2.1 k0_t13 k0_t15 k0_h1
theorem k0_off187_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off187 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.2.2.2.2.2.1 k0_t13 k0_t15 k0_h1
theorem k0_off188_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off188 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.2.2.2.2.2.2.1 k0_t13 k0_t15 k0_h1
theorem k0_off189_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off189 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.2.2.2.2.2.2.2.1 k0_t13 k0_t15 k0_h1
theorem k0_off190_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off190 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.2.2.2.2.2.2.2.2.1 k0_t13 k0_t15 k0_h1
theorem k0_off191_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off191 v41 v43 v182 v184 k0_t13 k0_t15) a + S1x16.size a ≤ S196x384.size a := fun i v10 v41 v43 v182 v184 k0_hw28 k0_t13 k0_t15 k0_h1 => k0_hw28.2.2.1.2.2.2.2.2.2.2.2.2.2.2.2.2.2.2.2.2.2.2.2.2.2.2.2.2.2.2.2.2.2.2 k0_t13 k0_t15 k0_h1
theorem k0_off192_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off192 v41 v43 v182 v184 k0_t13 k0_t15) a + S1x16.size a ≤ S196x384.size a := fun i v10 v41 v43 v182 v184 k0_hw28 k0_t13 k0_t15 k0_h1 => k0_hw28.2.2.2.1 k0_t13 k0_t15 k0_h1
theorem k0_off193_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off193 v41 v43 v182 v184 k0_t13 k0_t15) a + S1x16.size a ≤ S196x384.size a := fun i v10 v41 v43 v182 v184 k0_hw28 k0_t13 k0_t15 k0_h1 => k0_hw28.2.2.2.2.1 k0_t13 k0_t15 k0_h1
theorem k0_off194_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off194 v41 v43 v182 v184 k0_t13 k0_t15) a + S1x16.size a ≤ S196x384.size a := fun i v10 v41 v43 v182 v184 k0_hw28 k0_t13 k0_t15 k0_h1 => k0_hw28.2.2.2.2.2.1 k0_t13 k0_t15 k0_h1
theorem k0_off195_inb : ∀ (i : grid0.Coords) (v10 : BitVec 32) (v41 : BitVec 32) (v43 : BitVec 32) (v182 : BitVec 32) (v184 : BitVec 32) (k0_hw28 : k0_chk28 i v10 v41 v43 v182 v184) (k0_t13 : Fin (k0_t13_loop v41 v43).trips) (k0_t15 : Fin (k0_t15_loop v182 v184).trips), ∀ (k0_h1 : k0_cond1 i v10 = 1#1), ∀ a, (k0_off195 v41 v43 v182 v184 k0_t13 k0_t15) a + S1x16.size a ≤ S196x384.size a := fun i v10 v41 v43 v182 v184 k0_hw28 k0_t13 k0_t15 k0_h1 => k0_hw28.2.2.2.2.2.2 k0_t13 k0_t15 k0_h1

def k0_chk29 (i : grid0.Coords) (v10 : BitVec 32) (v202 : IVec S16 32) : Prop :=
  (∀ (k0_h1 : k0_cond1 i v10 = 1#1), ∀ a x, ((![v202] : Fin 1 → IVec S16 32) a x).toNat < S18816.size a)
theorem k0_idx25_inb : ∀ (i : grid0.Coords) (v10 : BitVec 32) (v202 : IVec S16 32) (k0_hw29 : k0_chk29 i v10 v202), ∀ (k0_h1 : k0_cond1 i v10 = 1#1), ∀ a x, ((![v202] : Fin 1 → IVec S16 32) a x).toNat < S18816.size a := fun i v10 v202 k0_hw29 k0_h1 => k0_hw29 k0_h1

def k0_chk30 (i : grid0.Coords) (v10 : BitVec 32) (v207 : IVec S16 32) : Prop :=
  (∀ (k0_h1 : k0_cond1 i v10 = 1#1), ∀ a x, ((![v207] : Fin 1 → IVec S16 32) a x).toNat < S18816.size a)
theorem k0_idx26_inb : ∀ (i : grid0.Coords) (v10 : BitVec 32) (v207 : IVec S16 32) (k0_hw30 : k0_chk30 i v10 v207), ∀ (k0_h1 : k0_cond1 i v10 = 1#1), ∀ a x, ((![v207] : Fin 1 → IVec S16 32) a x).toNat < S18816.size a := fun i v10 v207 k0_hw30 k0_h1 => k0_hw30 k0_h1

def k0_chk31 (i : grid0.Coords) (v10 : BitVec 32) (v212 : IVec S16 32) : Prop :=
  (∀ (k0_h1 : k0_cond1 i v10 = 1#1), ∀ a x, ((![v212] : Fin 1 → IVec S16 32) a x).toNat < S18816.size a)
theorem k0_idx27_inb : ∀ (i : grid0.Coords) (v10 : BitVec 32) (v212 : IVec S16 32) (k0_hw31 : k0_chk31 i v10 v212), ∀ (k0_h1 : k0_cond1 i v10 = 1#1), ∀ a x, ((![v212] : Fin 1 → IVec S16 32) a x).toNat < S18816.size a := fun i v10 v212 k0_hw31 k0_h1 => k0_hw31 k0_h1

def k0_chk32 (i : grid0.Coords) (v10 : BitVec 32) (v217 : IVec S16 32) : Prop :=
  (∀ (k0_h1 : k0_cond1 i v10 = 1#1), ∀ a x, ((![v217] : Fin 1 → IVec S16 32) a x).toNat < S18816.size a)
theorem k0_idx28_inb : ∀ (i : grid0.Coords) (v10 : BitVec 32) (v217 : IVec S16 32) (k0_hw32 : k0_chk32 i v10 v217), ∀ (k0_h1 : k0_cond1 i v10 = 1#1), ∀ a x, ((![v217] : Fin 1 → IVec S16 32) a x).toNat < S18816.size a := fun i v10 v217 k0_hw32 k0_h1 => k0_hw32 k0_h1

def k0_chk33 (i : grid0.Coords) (v10 : BitVec 32) (v222 : IVec S16 32) : Prop :=
  (∀ (k0_h1 : k0_cond1 i v10 = 1#1), ∀ a x, ((![v222] : Fin 1 → IVec S16 32) a x).toNat < S18816.size a)
theorem k0_idx29_inb : ∀ (i : grid0.Coords) (v10 : BitVec 32) (v222 : IVec S16 32) (k0_hw33 : k0_chk33 i v10 v222), ∀ (k0_h1 : k0_cond1 i v10 = 1#1), ∀ a x, ((![v222] : Fin 1 → IVec S16 32) a x).toNat < S18816.size a := fun i v10 v222 k0_hw33 k0_h1 => k0_hw33 k0_h1

def k0_chk34 (i : grid0.Coords) (v10 : BitVec 32) (v227 : IVec S16 32) : Prop :=
  (∀ (k0_h1 : k0_cond1 i v10 = 1#1), ∀ a x, ((![v227] : Fin 1 → IVec S16 32) a x).toNat < S18816.size a)
theorem k0_idx30_inb : ∀ (i : grid0.Coords) (v10 : BitVec 32) (v227 : IVec S16 32) (k0_hw34 : k0_chk34 i v10 v227), ∀ (k0_h1 : k0_cond1 i v10 = 1#1), ∀ a x, ((![v227] : Fin 1 → IVec S16 32) a x).toNat < S18816.size a := fun i v10 v227 k0_hw34 k0_h1 => k0_hw34 k0_h1

def k0_chk35 (i : grid0.Coords) (v10 : BitVec 32) (v232 : IVec S16 32) : Prop :=
  (∀ (k0_h1 : k0_cond1 i v10 = 1#1), ∀ a x, ((![v232] : Fin 1 → IVec S16 32) a x).toNat < S18816.size a)
theorem k0_idx31_inb : ∀ (i : grid0.Coords) (v10 : BitVec 32) (v232 : IVec S16 32) (k0_hw35 : k0_chk35 i v10 v232), ∀ (k0_h1 : k0_cond1 i v10 = 1#1), ∀ a x, ((![v232] : Fin 1 → IVec S16 32) a x).toNat < S18816.size a := fun i v10 v232 k0_hw35 k0_h1 => k0_hw35 k0_h1

def k0_chk36 (i : grid0.Coords) (v10 : BitVec 32) (v237 : IVec S16 32) : Prop :=
  (∀ (k0_h1 : k0_cond1 i v10 = 1#1), ∀ a x, ((![v237] : Fin 1 → IVec S16 32) a x).toNat < S18816.size a)
theorem k0_idx32_inb : ∀ (i : grid0.Coords) (v10 : BitVec 32) (v237 : IVec S16 32) (k0_hw36 : k0_chk36 i v10 v237), ∀ (k0_h1 : k0_cond1 i v10 = 1#1), ∀ a x, ((![v237] : Fin 1 → IVec S16 32) a x).toNat < S18816.size a := fun i v10 v237 k0_hw36 k0_h1 => k0_hw36 k0_h1

def k0_chk37 (i : grid0.Coords) (v10 : BitVec 32) (v242 : IVec S16 32) : Prop :=
  (∀ (k0_h1 : k0_cond1 i v10 = 1#1), ∀ a x, ((![v242] : Fin 1 → IVec S16 32) a x).toNat < S18816.size a)
theorem k0_idx33_inb : ∀ (i : grid0.Coords) (v10 : BitVec 32) (v242 : IVec S16 32) (k0_hw37 : k0_chk37 i v10 v242), ∀ (k0_h1 : k0_cond1 i v10 = 1#1), ∀ a x, ((![v242] : Fin 1 → IVec S16 32) a x).toNat < S18816.size a := fun i v10 v242 k0_hw37 k0_h1 => k0_hw37 k0_h1

def k0_chk38 (i : grid0.Coords) (v10 : BitVec 32) (v247 : IVec S16 32) : Prop :=
  (∀ (k0_h1 : k0_cond1 i v10 = 1#1), ∀ a x, ((![v247] : Fin 1 → IVec S16 32) a x).toNat < S18816.size a)
theorem k0_idx34_inb : ∀ (i : grid0.Coords) (v10 : BitVec 32) (v247 : IVec S16 32) (k0_hw38 : k0_chk38 i v10 v247), ∀ (k0_h1 : k0_cond1 i v10 = 1#1), ∀ a x, ((![v247] : Fin 1 → IVec S16 32) a x).toNat < S18816.size a := fun i v10 v247 k0_hw38 k0_h1 => k0_hw38 k0_h1

def k0_chk39 (i : grid0.Coords) (v10 : BitVec 32) (v252 : IVec S16 32) : Prop :=
  (∀ (k0_h1 : k0_cond1 i v10 = 1#1), ∀ a x, ((![v252] : Fin 1 → IVec S16 32) a x).toNat < S18816.size a)
theorem k0_idx35_inb : ∀ (i : grid0.Coords) (v10 : BitVec 32) (v252 : IVec S16 32) (k0_hw39 : k0_chk39 i v10 v252), ∀ (k0_h1 : k0_cond1 i v10 = 1#1), ∀ a x, ((![v252] : Fin 1 → IVec S16 32) a x).toNat < S18816.size a := fun i v10 v252 k0_hw39 k0_h1 => k0_hw39 k0_h1

def k0_chk40 (i : grid0.Coords) (v10 : BitVec 32) (v257 : IVec S16 32) : Prop :=
  (∀ (k0_h1 : k0_cond1 i v10 = 1#1), ∀ a x, ((![v257] : Fin 1 → IVec S16 32) a x).toNat < S18816.size a)
theorem k0_idx36_inb : ∀ (i : grid0.Coords) (v10 : BitVec 32) (v257 : IVec S16 32) (k0_hw40 : k0_chk40 i v10 v257), ∀ (k0_h1 : k0_cond1 i v10 = 1#1), ∀ a x, ((![v257] : Fin 1 → IVec S16 32) a x).toNat < S18816.size a := fun i v10 v257 k0_hw40 k0_h1 => k0_hw40 k0_h1

def k0_chk41 (i : grid0.Coords) (v10 : BitVec 32) (v262 : IVec S16 32) : Prop :=
  (∀ (k0_h1 : k0_cond1 i v10 = 1#1), ∀ a x, ((![v262] : Fin 1 → IVec S16 32) a x).toNat < S18816.size a)
theorem k0_idx37_inb : ∀ (i : grid0.Coords) (v10 : BitVec 32) (v262 : IVec S16 32) (k0_hw41 : k0_chk41 i v10 v262), ∀ (k0_h1 : k0_cond1 i v10 = 1#1), ∀ a x, ((![v262] : Fin 1 → IVec S16 32) a x).toNat < S18816.size a := fun i v10 v262 k0_hw41 k0_h1 => k0_hw41 k0_h1

def k0_chk42 (i : grid0.Coords) (v10 : BitVec 32) (v267 : IVec S16 32) : Prop :=
  (∀ (k0_h1 : k0_cond1 i v10 = 1#1), ∀ a x, ((![v267] : Fin 1 → IVec S16 32) a x).toNat < S18816.size a)
theorem k0_idx38_inb : ∀ (i : grid0.Coords) (v10 : BitVec 32) (v267 : IVec S16 32) (k0_hw42 : k0_chk42 i v10 v267), ∀ (k0_h1 : k0_cond1 i v10 = 1#1), ∀ a x, ((![v267] : Fin 1 → IVec S16 32) a x).toNat < S18816.size a := fun i v10 v267 k0_hw42 k0_h1 => k0_hw42 k0_h1

def k0_chk43 (i : grid0.Coords) (v10 : BitVec 32) (v272 : IVec S16 32) : Prop :=
  (∀ (k0_h1 : k0_cond1 i v10 = 1#1), ∀ a x, ((![v272] : Fin 1 → IVec S16 32) a x).toNat < S18816.size a)
theorem k0_idx39_inb : ∀ (i : grid0.Coords) (v10 : BitVec 32) (v272 : IVec S16 32) (k0_hw43 : k0_chk43 i v10 v272), ∀ (k0_h1 : k0_cond1 i v10 = 1#1), ∀ a x, ((![v272] : Fin 1 → IVec S16 32) a x).toNat < S18816.size a := fun i v10 v272 k0_hw43 k0_h1 => k0_hw43 k0_h1

def k0_chk44 (i : grid0.Coords) (v10 : BitVec 32) (v277 : IVec S16 32) : Prop :=
  (∀ (k0_h1 : k0_cond1 i v10 = 1#1), ∀ a x, ((![v277] : Fin 1 → IVec S16 32) a x).toNat < S18816.size a)
theorem k0_idx40_inb : ∀ (i : grid0.Coords) (v10 : BitVec 32) (v277 : IVec S16 32) (k0_hw44 : k0_chk44 i v10 v277), ∀ (k0_h1 : k0_cond1 i v10 = 1#1), ∀ a x, ((![v277] : Fin 1 → IVec S16 32) a x).toNat < S18816.size a := fun i v10 v277 k0_hw44 k0_h1 => k0_hw44 k0_h1

def k0_chk45 (i : grid0.Coords) (v10 : BitVec 32) (v282 : IVec S16 32) : Prop :=
  (∀ (k0_h1 : k0_cond1 i v10 = 1#1), ∀ a x, ((![v282] : Fin 1 → IVec S16 32) a x).toNat < S18816.size a)
theorem k0_idx41_inb : ∀ (i : grid0.Coords) (v10 : BitVec 32) (v282 : IVec S16 32) (k0_hw45 : k0_chk45 i v10 v282), ∀ (k0_h1 : k0_cond1 i v10 = 1#1), ∀ a x, ((![v282] : Fin 1 → IVec S16 32) a x).toNat < S18816.size a := fun i v10 v282 k0_hw45 k0_h1 => k0_hw45 k0_h1

def k0_chk46 (i : grid0.Coords) (v10 : BitVec 32) (v287 : IVec S16 32) : Prop :=
  (∀ (k0_h1 : k0_cond1 i v10 = 1#1), ∀ a x, ((![v287] : Fin 1 → IVec S16 32) a x).toNat < S18816.size a)
theorem k0_idx42_inb : ∀ (i : grid0.Coords) (v10 : BitVec 32) (v287 : IVec S16 32) (k0_hw46 : k0_chk46 i v10 v287), ∀ (k0_h1 : k0_cond1 i v10 = 1#1), ∀ a x, ((![v287] : Fin 1 → IVec S16 32) a x).toNat < S18816.size a := fun i v10 v287 k0_hw46 k0_h1 => k0_hw46 k0_h1

def k0_chk47 (i : grid0.Coords) (v10 : BitVec 32) (v292 : IVec S16 32) : Prop :=
  (∀ (k0_h1 : k0_cond1 i v10 = 1#1), ∀ a x, ((![v292] : Fin 1 → IVec S16 32) a x).toNat < S18816.size a)
theorem k0_idx43_inb : ∀ (i : grid0.Coords) (v10 : BitVec 32) (v292 : IVec S16 32) (k0_hw47 : k0_chk47 i v10 v292), ∀ (k0_h1 : k0_cond1 i v10 = 1#1), ∀ a x, ((![v292] : Fin 1 → IVec S16 32) a x).toNat < S18816.size a := fun i v10 v292 k0_hw47 k0_h1 => k0_hw47 k0_h1

def k0_chk48 (i : grid0.Coords) (v10 : BitVec 32) (v297 : IVec S16 32) : Prop :=
  (∀ (k0_h1 : k0_cond1 i v10 = 1#1), ∀ a x, ((![v297] : Fin 1 → IVec S16 32) a x).toNat < S18816.size a)
theorem k0_idx44_inb : ∀ (i : grid0.Coords) (v10 : BitVec 32) (v297 : IVec S16 32) (k0_hw48 : k0_chk48 i v10 v297), ∀ (k0_h1 : k0_cond1 i v10 = 1#1), ∀ a x, ((![v297] : Fin 1 → IVec S16 32) a x).toNat < S18816.size a := fun i v10 v297 k0_hw48 k0_h1 => k0_hw48 k0_h1

def k0_chk49 (i : grid0.Coords) (v10 : BitVec 32) (v302 : IVec S16 32) : Prop :=
  (∀ (k0_h1 : k0_cond1 i v10 = 1#1), ∀ a x, ((![v302] : Fin 1 → IVec S16 32) a x).toNat < S18816.size a)
theorem k0_idx45_inb : ∀ (i : grid0.Coords) (v10 : BitVec 32) (v302 : IVec S16 32) (k0_hw49 : k0_chk49 i v10 v302), ∀ (k0_h1 : k0_cond1 i v10 = 1#1), ∀ a x, ((![v302] : Fin 1 → IVec S16 32) a x).toNat < S18816.size a := fun i v10 v302 k0_hw49 k0_h1 => k0_hw49 k0_h1

def k0_chk50 (i : grid0.Coords) (v10 : BitVec 32) (v307 : IVec S16 32) : Prop :=
  (∀ (k0_h1 : k0_cond1 i v10 = 1#1), ∀ a x, ((![v307] : Fin 1 → IVec S16 32) a x).toNat < S18816.size a)
theorem k0_idx46_inb : ∀ (i : grid0.Coords) (v10 : BitVec 32) (v307 : IVec S16 32) (k0_hw50 : k0_chk50 i v10 v307), ∀ (k0_h1 : k0_cond1 i v10 = 1#1), ∀ a x, ((![v307] : Fin 1 → IVec S16 32) a x).toNat < S18816.size a := fun i v10 v307 k0_hw50 k0_h1 => k0_hw50 k0_h1

def k0_chk51 (i : grid0.Coords) (v10 : BitVec 32) (v312 : IVec S16 32) : Prop :=
  (∀ (k0_h1 : k0_cond1 i v10 = 1#1), ∀ a x, ((![v312] : Fin 1 → IVec S16 32) a x).toNat < S18816.size a)
theorem k0_idx47_inb : ∀ (i : grid0.Coords) (v10 : BitVec 32) (v312 : IVec S16 32) (k0_hw51 : k0_chk51 i v10 v312), ∀ (k0_h1 : k0_cond1 i v10 = 1#1), ∀ a x, ((![v312] : Fin 1 → IVec S16 32) a x).toNat < S18816.size a := fun i v10 v312 k0_hw51 k0_h1 => k0_hw51 k0_h1

def k0_chk52 (i : grid0.Coords) (v10 : BitVec 32) (v317 : IVec S16 32) : Prop :=
  (∀ (k0_h1 : k0_cond1 i v10 = 1#1), ∀ a x, ((![v317] : Fin 1 → IVec S16 32) a x).toNat < S18816.size a)
theorem k0_idx48_inb : ∀ (i : grid0.Coords) (v10 : BitVec 32) (v317 : IVec S16 32) (k0_hw52 : k0_chk52 i v10 v317), ∀ (k0_h1 : k0_cond1 i v10 = 1#1), ∀ a x, ((![v317] : Fin 1 → IVec S16 32) a x).toNat < S18816.size a := fun i v10 v317 k0_hw52 k0_h1 => k0_hw52 k0_h1
@[reducible] def k0_t16_loop (v41 : BitVec 32) (v43 : BitVec 32) : Scf.Loop 32 :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_111 : BitVec 32 := 1#32
  ⟨v41, v327, c1_i32_111⟩
@[reducible] def k0_t17_loop (v319 : BitVec 32) (v321 : BitVec 32) : Scf.Loop 32 :=
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_376 : BitVec 32 := 1#32
  ⟨v319, v1008, c1_i32_376⟩

def k0_off196 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1012 : Index := Scalar.indexCast v1011
  let c0_378 : Index := 0#32
  ![v1012.toNat, 0]
def k0_off197 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1015 : Index := Scalar.indexCast v1011
  let c16 : Index := 16#32
  ![v1015.toNat, 16]
def k0_off198 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1018 : Index := Scalar.indexCast v1011
  let c32 : Index := 32#32
  ![v1018.toNat, 32]
def k0_off199 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1021 : Index := Scalar.indexCast v1011
  let c48 : Index := 48#32
  ![v1021.toNat, 48]
def k0_off200 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1024 : Index := Scalar.indexCast v1011
  let c64 : Index := 64#32
  ![v1024.toNat, 64]
def k0_off201 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1027 : Index := Scalar.indexCast v1011
  let c80 : Index := 80#32
  ![v1027.toNat, 80]
def k0_off202 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1030 : Index := Scalar.indexCast v1011
  let c96 : Index := 96#32
  ![v1030.toNat, 96]
def k0_off203 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1033 : Index := Scalar.indexCast v1011
  let c112 : Index := 112#32
  ![v1033.toNat, 112]
def k0_off204 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1036 : Index := Scalar.indexCast v1011
  let c128 : Index := 128#32
  ![v1036.toNat, 128]
def k0_off205 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1039 : Index := Scalar.indexCast v1011
  let c144 : Index := 144#32
  ![v1039.toNat, 144]
def k0_off206 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1042 : Index := Scalar.indexCast v1011
  let c160 : Index := 160#32
  ![v1042.toNat, 160]
def k0_off207 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1045 : Index := Scalar.indexCast v1011
  let c176 : Index := 176#32
  ![v1045.toNat, 176]
def k0_off208 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1048 : Index := Scalar.indexCast v1011
  let c192 : Index := 192#32
  ![v1048.toNat, 192]
def k0_off209 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1051 : Index := Scalar.indexCast v1011
  let c208 : Index := 208#32
  ![v1051.toNat, 208]
def k0_off210 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1054 : Index := Scalar.indexCast v1011
  let c224 : Index := 224#32
  ![v1054.toNat, 224]
def k0_off211 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1057 : Index := Scalar.indexCast v1011
  let c240 : Index := 240#32
  ![v1057.toNat, 240]
def k0_off212 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1060 : Index := Scalar.indexCast v1011
  let c256 : Index := 256#32
  ![v1060.toNat, 256]
def k0_off213 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1063 : Index := Scalar.indexCast v1011
  let c272 : Index := 272#32
  ![v1063.toNat, 272]
def k0_off214 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1066 : Index := Scalar.indexCast v1011
  let c288 : Index := 288#32
  ![v1066.toNat, 288]
def k0_off215 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1069 : Index := Scalar.indexCast v1011
  let c304 : Index := 304#32
  ![v1069.toNat, 304]
def k0_off216 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1072 : Index := Scalar.indexCast v1011
  let c320 : Index := 320#32
  ![v1072.toNat, 320]
def k0_off217 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1075 : Index := Scalar.indexCast v1011
  let c336 : Index := 336#32
  ![v1075.toNat, 336]
def k0_off218 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1078 : Index := Scalar.indexCast v1011
  let c352 : Index := 352#32
  ![v1078.toNat, 352]
def k0_off219 (v41 : BitVec 32) (v43 : BitVec 32) (v319 : BitVec 32) (v321 : BitVec 32) (k0_t16 : Fin (k0_t16_loop v41 v43).trips) (k0_t17 : Fin (k0_t17_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let c1_i32_376 : BitVec 32 := 1#32
  let arg36 : BitVec 32 := Scf.iv v319 c1_i32_376 k0_t17
  let v1011 : BitVec 32 := Scalar.addi v1003 arg36
  let v1081 : Index := Scalar.indexCast v1011
  let c368 : Index := 368#32
  ![v1081.toNat, 368]
@[reducible] def k0_t18_loop (v319 : BitVec 32) (v321 : BitVec 32) : Scf.Loop 32 :=
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let v1005 : BitVec 32 := Scalar.addi v319 v1004
  let c1_i32_377 : BitVec 32 := 1#32
  ⟨v1008, v1005, c1_i32_377⟩
def k0_off220 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1012 : Index := Scalar.indexCast v1011
  let c0_378 : Index := 0#32
  ![v1012.toNat, 0]
def k0_off221 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1015 : Index := Scalar.indexCast v1011
  let c16 : Index := 16#32
  ![v1015.toNat, 16]
def k0_off222 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1018 : Index := Scalar.indexCast v1011
  let c32 : Index := 32#32
  ![v1018.toNat, 32]
def k0_off223 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1021 : Index := Scalar.indexCast v1011
  let c48 : Index := 48#32
  ![v1021.toNat, 48]
def k0_off224 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1024 : Index := Scalar.indexCast v1011
  let c64 : Index := 64#32
  ![v1024.toNat, 64]
def k0_off225 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1027 : Index := Scalar.indexCast v1011
  let c80 : Index := 80#32
  ![v1027.toNat, 80]
def k0_off226 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1030 : Index := Scalar.indexCast v1011
  let c96 : Index := 96#32
  ![v1030.toNat, 96]
def k0_off227 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1033 : Index := Scalar.indexCast v1011
  let c112 : Index := 112#32
  ![v1033.toNat, 112]
def k0_off228 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1036 : Index := Scalar.indexCast v1011
  let c128 : Index := 128#32
  ![v1036.toNat, 128]
def k0_off229 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1039 : Index := Scalar.indexCast v1011
  let c144 : Index := 144#32
  ![v1039.toNat, 144]
def k0_off230 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1042 : Index := Scalar.indexCast v1011
  let c160 : Index := 160#32
  ![v1042.toNat, 160]
def k0_off231 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1045 : Index := Scalar.indexCast v1011
  let c176 : Index := 176#32
  ![v1045.toNat, 176]
def k0_off232 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1048 : Index := Scalar.indexCast v1011
  let c192 : Index := 192#32
  ![v1048.toNat, 192]
def k0_off233 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1051 : Index := Scalar.indexCast v1011
  let c208 : Index := 208#32
  ![v1051.toNat, 208]
def k0_off234 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1054 : Index := Scalar.indexCast v1011
  let c224 : Index := 224#32
  ![v1054.toNat, 224]
def k0_off235 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1057 : Index := Scalar.indexCast v1011
  let c240 : Index := 240#32
  ![v1057.toNat, 240]
def k0_off236 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1060 : Index := Scalar.indexCast v1011
  let c256 : Index := 256#32
  ![v1060.toNat, 256]
def k0_off237 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1063 : Index := Scalar.indexCast v1011
  let c272 : Index := 272#32
  ![v1063.toNat, 272]
def k0_off238 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1066 : Index := Scalar.indexCast v1011
  let c288 : Index := 288#32
  ![v1066.toNat, 288]
def k0_off239 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1069 : Index := Scalar.indexCast v1011
  let c304 : Index := 304#32
  ![v1069.toNat, 304]
def k0_off240 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1072 : Index := Scalar.indexCast v1011
  let c320 : Index := 320#32
  ![v1072.toNat, 320]
def k0_off241 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1075 : Index := Scalar.indexCast v1011
  let c336 : Index := 336#32
  ![v1075.toNat, 336]
def k0_off242 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1078 : Index := Scalar.indexCast v1011
  let c352 : Index := 352#32
  ![v1078.toNat, 352]
def k0_off243 (v41 : BitVec 32) (v43 : BitVec 32) (v319 : BitVec 32) (v321 : BitVec 32) (k0_t16 : Fin (k0_t16_loop v41 v43).trips) (k0_t18 : Fin (k0_t18_loop v319 v321).trips) : Fin 2 → Nat :=
  let c1_i32_111 : BitVec 32 := 1#32
  let arg11 : BitVec 32 := Scf.iv v41 c1_i32_111 k0_t16
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t18
  let v1011 : BitVec 32 := Scalar.addi v1003 arg36
  let v1081 : Index := Scalar.indexCast v1011
  let c368 : Index := 368#32
  ![v1081.toNat, 368]
@[reducible] def k0_t19_loop (v41 : BitVec 32) (v43 : BitVec 32) : Scf.Loop 32 :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let v324 : BitVec 32 := Scalar.addi v41 v323
  let c1_i32_112 : BitVec 32 := 1#32
  ⟨v327, v324, c1_i32_112⟩
@[reducible] def k0_t20_loop (v319 : BitVec 32) (v321 : BitVec 32) : Scf.Loop 32 :=
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_376 : BitVec 32 := 1#32
  ⟨v319, v1008, c1_i32_376⟩
def k0_off244 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1012 : Index := Scalar.indexCast v1011
  let c0_378 : Index := 0#32
  ![v1012.toNat, 0]
def k0_off245 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1015 : Index := Scalar.indexCast v1011
  let c16 : Index := 16#32
  ![v1015.toNat, 16]
def k0_off246 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1018 : Index := Scalar.indexCast v1011
  let c32 : Index := 32#32
  ![v1018.toNat, 32]
def k0_off247 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1021 : Index := Scalar.indexCast v1011
  let c48 : Index := 48#32
  ![v1021.toNat, 48]
def k0_off248 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1024 : Index := Scalar.indexCast v1011
  let c64 : Index := 64#32
  ![v1024.toNat, 64]
def k0_off249 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1027 : Index := Scalar.indexCast v1011
  let c80 : Index := 80#32
  ![v1027.toNat, 80]
def k0_off250 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1030 : Index := Scalar.indexCast v1011
  let c96 : Index := 96#32
  ![v1030.toNat, 96]
def k0_off251 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1033 : Index := Scalar.indexCast v1011
  let c112 : Index := 112#32
  ![v1033.toNat, 112]
def k0_off252 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1036 : Index := Scalar.indexCast v1011
  let c128 : Index := 128#32
  ![v1036.toNat, 128]
def k0_off253 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1039 : Index := Scalar.indexCast v1011
  let c144 : Index := 144#32
  ![v1039.toNat, 144]
def k0_off254 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1042 : Index := Scalar.indexCast v1011
  let c160 : Index := 160#32
  ![v1042.toNat, 160]
def k0_off255 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1045 : Index := Scalar.indexCast v1011
  let c176 : Index := 176#32
  ![v1045.toNat, 176]
def k0_off256 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1048 : Index := Scalar.indexCast v1011
  let c192 : Index := 192#32
  ![v1048.toNat, 192]
def k0_off257 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1051 : Index := Scalar.indexCast v1011
  let c208 : Index := 208#32
  ![v1051.toNat, 208]
def k0_off258 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1054 : Index := Scalar.indexCast v1011
  let c224 : Index := 224#32
  ![v1054.toNat, 224]
def k0_off259 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1057 : Index := Scalar.indexCast v1011
  let c240 : Index := 240#32
  ![v1057.toNat, 240]
def k0_off260 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1060 : Index := Scalar.indexCast v1011
  let c256 : Index := 256#32
  ![v1060.toNat, 256]
def k0_off261 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1063 : Index := Scalar.indexCast v1011
  let c272 : Index := 272#32
  ![v1063.toNat, 272]
def k0_off262 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1066 : Index := Scalar.indexCast v1011
  let c288 : Index := 288#32
  ![v1066.toNat, 288]
def k0_off263 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1069 : Index := Scalar.indexCast v1011
  let c304 : Index := 304#32
  ![v1069.toNat, 304]
def k0_off264 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1072 : Index := Scalar.indexCast v1011
  let c320 : Index := 320#32
  ![v1072.toNat, 320]
def k0_off265 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1075 : Index := Scalar.indexCast v1011
  let c336 : Index := 336#32
  ![v1075.toNat, 336]
def k0_off266 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1078 : Index := Scalar.indexCast v1011
  let c352 : Index := 352#32
  ![v1078.toNat, 352]
def k0_off267 (v41 : BitVec 32) (v43 : BitVec 32) (v319 : BitVec 32) (v321 : BitVec 32) (k0_t19 : Fin (k0_t19_loop v41 v43).trips) (k0_t20 : Fin (k0_t20_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let c1_i32_376 : BitVec 32 := 1#32
  let arg36 : BitVec 32 := Scf.iv v319 c1_i32_376 k0_t20
  let v1011 : BitVec 32 := Scalar.addi v1003 arg36
  let v1081 : Index := Scalar.indexCast v1011
  let c368 : Index := 368#32
  ![v1081.toNat, 368]
@[reducible] def k0_t21_loop (v319 : BitVec 32) (v321 : BitVec 32) : Scf.Loop 32 :=
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let v1005 : BitVec 32 := Scalar.addi v319 v1004
  let c1_i32_377 : BitVec 32 := 1#32
  ⟨v1008, v1005, c1_i32_377⟩
def k0_off268 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1012 : Index := Scalar.indexCast v1011
  let c0_378 : Index := 0#32
  ![v1012.toNat, 0]
def k0_off269 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1015 : Index := Scalar.indexCast v1011
  let c16 : Index := 16#32
  ![v1015.toNat, 16]
def k0_off270 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1018 : Index := Scalar.indexCast v1011
  let c32 : Index := 32#32
  ![v1018.toNat, 32]
def k0_off271 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1021 : Index := Scalar.indexCast v1011
  let c48 : Index := 48#32
  ![v1021.toNat, 48]
def k0_off272 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1024 : Index := Scalar.indexCast v1011
  let c64 : Index := 64#32
  ![v1024.toNat, 64]
def k0_off273 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1027 : Index := Scalar.indexCast v1011
  let c80 : Index := 80#32
  ![v1027.toNat, 80]
def k0_off274 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1030 : Index := Scalar.indexCast v1011
  let c96 : Index := 96#32
  ![v1030.toNat, 96]
def k0_off275 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1033 : Index := Scalar.indexCast v1011
  let c112 : Index := 112#32
  ![v1033.toNat, 112]
def k0_off276 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1036 : Index := Scalar.indexCast v1011
  let c128 : Index := 128#32
  ![v1036.toNat, 128]
def k0_off277 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1039 : Index := Scalar.indexCast v1011
  let c144 : Index := 144#32
  ![v1039.toNat, 144]
def k0_off278 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1042 : Index := Scalar.indexCast v1011
  let c160 : Index := 160#32
  ![v1042.toNat, 160]
def k0_off279 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1045 : Index := Scalar.indexCast v1011
  let c176 : Index := 176#32
  ![v1045.toNat, 176]
def k0_off280 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1048 : Index := Scalar.indexCast v1011
  let c192 : Index := 192#32
  ![v1048.toNat, 192]
def k0_off281 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1051 : Index := Scalar.indexCast v1011
  let c208 : Index := 208#32
  ![v1051.toNat, 208]
def k0_off282 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1054 : Index := Scalar.indexCast v1011
  let c224 : Index := 224#32
  ![v1054.toNat, 224]
def k0_off283 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1057 : Index := Scalar.indexCast v1011
  let c240 : Index := 240#32
  ![v1057.toNat, 240]
def k0_off284 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1060 : Index := Scalar.indexCast v1011
  let c256 : Index := 256#32
  ![v1060.toNat, 256]
def k0_off285 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1063 : Index := Scalar.indexCast v1011
  let c272 : Index := 272#32
  ![v1063.toNat, 272]
def k0_off286 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1066 : Index := Scalar.indexCast v1011
  let c288 : Index := 288#32
  ![v1066.toNat, 288]
def k0_off287 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1069 : Index := Scalar.indexCast v1011
  let c304 : Index := 304#32
  ![v1069.toNat, 304]
def k0_off288 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1072 : Index := Scalar.indexCast v1011
  let c320 : Index := 320#32
  ![v1072.toNat, 320]
def k0_off289 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1075 : Index := Scalar.indexCast v1011
  let c336 : Index := 336#32
  ![v1075.toNat, 336]
def k0_off290 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1078 : Index := Scalar.indexCast v1011
  let c352 : Index := 352#32
  ![v1078.toNat, 352]
def k0_off291 (v41 : BitVec 32) (v43 : BitVec 32) (v319 : BitVec 32) (v321 : BitVec 32) (k0_t19 : Fin (k0_t19_loop v41 v43).trips) (k0_t21 : Fin (k0_t21_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t19
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t21
  let v1011 : BitVec 32 := Scalar.addi v1003 arg36
  let v1081 : Index := Scalar.indexCast v1011
  let c368 : Index := 368#32
  ![v1081.toNat, 368]

def k0_chk53_0 (i : grid0.Coords) (v10 : BitVec 32) (v41 : BitVec 32) (v43 : BitVec 32) (v319 : BitVec 32) (v321 : BitVec 32) : Prop :=
  (∀ k0_t16 : Fin (k0_t16_loop v41 v43).trips, ∀ (k0_h1 : k0_cond1 i v10 = 1#1), (k0_t17_loop v319 v321).OK) ∧
  (∀ (k0_t16 : Fin (k0_t16_loop v41 v43).trips) (k0_t17 : Fin (k0_t17_loop v319 v321).trips), ∀ (k0_h1 : k0_cond1 i v10 = 1#1), ∀ a, (k0_off196 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off197 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off198 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off199 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off200 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off201 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off202 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off203 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off204 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off205 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off206 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off207 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off208 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off209 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off210 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off211 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off212 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off213 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off214 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off215 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off216 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off217 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off218 v41 v43 v319 v321 k0_t16 k0_t17) a + S1x16.size a ≤ S196x384.size a) ∧
  (∀ (k0_t16 : Fin (k0_t16_loop v41 v43).trips) (k0_t17 : Fin (k0_t17_loop v319 v321).trips), ∀ (k0_h1 : k0_cond1 i v10 = 1#1), ∀ a, (k0_off219 v41 v43 v319 v321 k0_t16 k0_t17) a + S1x16.size a ≤ S196x384.size a) ∧
  (∀ k0_t16 : Fin (k0_t16_loop v41 v43).trips, ∀ (k0_h1 : k0_cond1 i v10 = 1#1), (k0_t18_loop v319 v321).OK) ∧
  (∀ (k0_t16 : Fin (k0_t16_loop v41 v43).trips) (k0_t18 : Fin (k0_t18_loop v319 v321).trips), ∀ (k0_h1 : k0_cond1 i v10 = 1#1), ∀ a, (k0_off220 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off221 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off222 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off223 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off224 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off225 v41 v43 v319 v321 k0_t16 k0_t18) a + S1x16.size a ≤ S196x384.size a)
def k0_chk53_1 (i : grid0.Coords) (v10 : BitVec 32) (v41 : BitVec 32) (v43 : BitVec 32) (v319 : BitVec 32) (v321 : BitVec 32) : Prop :=
  (∀ (k0_t16 : Fin (k0_t16_loop v41 v43).trips) (k0_t18 : Fin (k0_t18_loop v319 v321).trips), ∀ (k0_h1 : k0_cond1 i v10 = 1#1), ∀ a, (k0_off226 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off227 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off228 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off229 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off230 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off231 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off232 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off233 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off234 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off235 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off236 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off237 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off238 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off239 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off240 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off241 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off242 v41 v43 v319 v321 k0_t16 k0_t18) a + S1x16.size a ≤ S196x384.size a) ∧
  (∀ (k0_t16 : Fin (k0_t16_loop v41 v43).trips) (k0_t18 : Fin (k0_t18_loop v319 v321).trips), ∀ (k0_h1 : k0_cond1 i v10 = 1#1), ∀ a, (k0_off243 v41 v43 v319 v321 k0_t16 k0_t18) a + S1x16.size a ≤ S196x384.size a) ∧
  (∀ k0_t19 : Fin (k0_t19_loop v41 v43).trips, ∀ (k0_h1 : k0_cond1 i v10 = 1#1), (k0_t20_loop v319 v321).OK) ∧
  (∀ (k0_t19 : Fin (k0_t19_loop v41 v43).trips) (k0_t20 : Fin (k0_t20_loop v319 v321).trips), ∀ (k0_h1 : k0_cond1 i v10 = 1#1), ∀ a, (k0_off244 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off245 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off246 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off247 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off248 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off249 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off250 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off251 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off252 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off253 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off254 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off255 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off256 v41 v43 v319 v321 k0_t19 k0_t20) a + S1x16.size a ≤ S196x384.size a)
def k0_chk53_2 (i : grid0.Coords) (v10 : BitVec 32) (v41 : BitVec 32) (v43 : BitVec 32) (v319 : BitVec 32) (v321 : BitVec 32) : Prop :=
  (∀ (k0_t19 : Fin (k0_t19_loop v41 v43).trips) (k0_t20 : Fin (k0_t20_loop v319 v321).trips), ∀ (k0_h1 : k0_cond1 i v10 = 1#1), ∀ a, (k0_off257 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off258 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off259 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off260 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off261 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off262 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off263 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off264 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off265 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off266 v41 v43 v319 v321 k0_t19 k0_t20) a + S1x16.size a ≤ S196x384.size a) ∧
  (∀ (k0_t19 : Fin (k0_t19_loop v41 v43).trips) (k0_t20 : Fin (k0_t20_loop v319 v321).trips), ∀ (k0_h1 : k0_cond1 i v10 = 1#1), ∀ a, (k0_off267 v41 v43 v319 v321 k0_t19 k0_t20) a + S1x16.size a ≤ S196x384.size a) ∧
  (∀ k0_t19 : Fin (k0_t19_loop v41 v43).trips, ∀ (k0_h1 : k0_cond1 i v10 = 1#1), (k0_t21_loop v319 v321).OK) ∧
  (∀ (k0_t19 : Fin (k0_t19_loop v41 v43).trips) (k0_t21 : Fin (k0_t21_loop v319 v321).trips), ∀ (k0_h1 : k0_cond1 i v10 = 1#1), ∀ a, (k0_off268 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off269 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off270 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off271 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off272 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off273 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off274 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off275 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off276 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off277 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off278 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off279 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off280 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off281 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off282 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off283 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off284 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off285 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off286 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off287 v41 v43 v319 v321 k0_t19 k0_t21) a + S1x16.size a ≤ S196x384.size a)
def k0_chk53_3 (i : grid0.Coords) (v10 : BitVec 32) (v41 : BitVec 32) (v43 : BitVec 32) (v319 : BitVec 32) (v321 : BitVec 32) : Prop :=
  (∀ (k0_t19 : Fin (k0_t19_loop v41 v43).trips) (k0_t21 : Fin (k0_t21_loop v319 v321).trips), ∀ (k0_h1 : k0_cond1 i v10 = 1#1), ∀ a, (k0_off288 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off289 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off290 v41 v43 v319 v321 k0_t19 k0_t21) a + S1x16.size a ≤ S196x384.size a) ∧
  (∀ (k0_t19 : Fin (k0_t19_loop v41 v43).trips) (k0_t21 : Fin (k0_t21_loop v319 v321).trips), ∀ (k0_h1 : k0_cond1 i v10 = 1#1), ∀ a, (k0_off291 v41 v43 v319 v321 k0_t19 k0_t21) a + S1x16.size a ≤ S196x384.size a)
def k0_chk53 (i : grid0.Coords) (v10 : BitVec 32) (v41 : BitVec 32) (v43 : BitVec 32) (v319 : BitVec 32) (v321 : BitVec 32) : Prop :=
  k0_chk53_0 i v10 v41 v43 v319 v321 ∧
  k0_chk53_1 i v10 v41 v43 v319 v321 ∧
  k0_chk53_2 i v10 v41 v43 v319 v321 ∧
  k0_chk53_3 i v10 v41 v43 v319 v321
theorem k0_t17_ok : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips), ∀ (k0_h1 : k0_cond1 i v10 = 1#1), (k0_t17_loop v319 v321).OK := fun i v10 v41 v43 v319 v321 k0_hw53 k0_t16 k0_h1 => k0_hw53.1.1 k0_t16 k0_h1
theorem k0_off196_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off196 v41 v43 v319 v321 k0_t16 k0_t17) a + S1x16.size a ≤ S196x384.size a := fun i v10 v41 v43 v319 v321 k0_hw53 k0_t16 k0_t17 k0_h1 => k0_hw53.1.2.1 k0_t16 k0_t17 k0_h1
theorem k0_off197_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off197 v41 v43 v319 v321 k0_t16 k0_t17) a + S1x16.size a ≤ S196x384.size a := fun i v10 v41 v43 v319 v321 k0_hw53 k0_t16 k0_t17 k0_h1 => k0_hw53.1.2.2.1 k0_t16 k0_t17 k0_h1
theorem k0_off198_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off198 v41 v43 v319 v321 k0_t16 k0_t17) a + S1x16.size a ≤ S196x384.size a := fun i v10 v41 v43 v319 v321 k0_hw53 k0_t16 k0_t17 k0_h1 => k0_hw53.1.2.2.2.1 k0_t16 k0_t17 k0_h1
theorem k0_off199_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off199 v41 v43 v319 v321 k0_t16 k0_t17) a + S1x16.size a ≤ S196x384.size a := fun i v10 v41 v43 v319 v321 k0_hw53 k0_t16 k0_t17 k0_h1 => k0_hw53.1.2.2.2.2.1 k0_t16 k0_t17 k0_h1
theorem k0_off200_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off200 v41 v43 v319 v321 k0_t16 k0_t17) a + S1x16.size a ≤ S196x384.size a := fun i v10 v41 v43 v319 v321 k0_hw53 k0_t16 k0_t17 k0_h1 => k0_hw53.1.2.2.2.2.2.1 k0_t16 k0_t17 k0_h1
theorem k0_off201_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off201 v41 v43 v319 v321 k0_t16 k0_t17) a + S1x16.size a ≤ S196x384.size a := fun i v10 v41 v43 v319 v321 k0_hw53 k0_t16 k0_t17 k0_h1 => k0_hw53.1.2.2.2.2.2.2.1 k0_t16 k0_t17 k0_h1
theorem k0_off202_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off202 v41 v43 v319 v321 k0_t16 k0_t17) a + S1x16.size a ≤ S196x384.size a := fun i v10 v41 v43 v319 v321 k0_hw53 k0_t16 k0_t17 k0_h1 => k0_hw53.1.2.2.2.2.2.2.2.1 k0_t16 k0_t17 k0_h1
theorem k0_off203_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off203 v41 v43 v319 v321 k0_t16 k0_t17) a + S1x16.size a ≤ S196x384.size a := fun i v10 v41 v43 v319 v321 k0_hw53 k0_t16 k0_t17 k0_h1 => k0_hw53.1.2.2.2.2.2.2.2.2.1 k0_t16 k0_t17 k0_h1
theorem k0_off204_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off204 v41 v43 v319 v321 k0_t16 k0_t17) a + S1x16.size a ≤ S196x384.size a := fun i v10 v41 v43 v319 v321 k0_hw53 k0_t16 k0_t17 k0_h1 => k0_hw53.1.2.2.2.2.2.2.2.2.2.1 k0_t16 k0_t17 k0_h1
theorem k0_off205_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off205 v41 v43 v319 v321 k0_t16 k0_t17) a + S1x16.size a ≤ S196x384.size a := fun i v10 v41 v43 v319 v321 k0_hw53 k0_t16 k0_t17 k0_h1 => k0_hw53.1.2.2.2.2.2.2.2.2.2.2.1 k0_t16 k0_t17 k0_h1
theorem k0_off206_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off206 v41 v43 v319 v321 k0_t16 k0_t17) a + S1x16.size a ≤ S196x384.size a := fun i v10 v41 v43 v319 v321 k0_hw53 k0_t16 k0_t17 k0_h1 => k0_hw53.1.2.2.2.2.2.2.2.2.2.2.2.1 k0_t16 k0_t17 k0_h1
theorem k0_off207_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off207 v41 v43 v319 v321 k0_t16 k0_t17) a + S1x16.size a ≤ S196x384.size a := fun i v10 v41 v43 v319 v321 k0_hw53 k0_t16 k0_t17 k0_h1 => k0_hw53.1.2.2.2.2.2.2.2.2.2.2.2.2.1 k0_t16 k0_t17 k0_h1
theorem k0_off208_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off208 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.1 k0_t16 k0_t17 k0_h1
theorem k0_off209_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off209 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.1 k0_t16 k0_t17 k0_h1
theorem k0_off210_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off210 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.1 k0_t16 k0_t17 k0_h1
theorem k0_off211_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off211 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.2.1 k0_t16 k0_t17 k0_h1
theorem k0_off212_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off212 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.2.2.1 k0_t16 k0_t17 k0_h1
theorem k0_off213_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off213 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.2.2.2.1 k0_t16 k0_t17 k0_h1
theorem k0_off214_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off214 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.2.2.2.2.1 k0_t16 k0_t17 k0_h1
theorem k0_off215_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off215 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.2.2.2.2.2.1 k0_t16 k0_t17 k0_h1
theorem k0_off216_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off216 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.2.2.2.2.2.2.1 k0_t16 k0_t17 k0_h1
theorem k0_off217_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off217 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.2.2.2.2.2.2.2.1 k0_t16 k0_t17 k0_h1
theorem k0_off218_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off218 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.2.2.2.2.2.2.2.2.1 k0_t16 k0_t17 k0_h1
theorem k0_off219_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t17 : Fin (k0_t17_loop v319 v321).trips), ∀ (k0_h1 : k0_cond1 i v10 = 1#1), ∀ a, (k0_off219 v41 v43 v319 v321 k0_t16 k0_t17) a + S1x16.size a ≤ S196x384.size a := fun i v10 v41 v43 v319 v321 k0_hw53 k0_t16 k0_t17 k0_h1 => k0_hw53.1.2.2.2.2.2.2.2.2.2.2.2.2.2.2.2.2.2.2.2.2.2.2.2.2.1 k0_t16 k0_t17 k0_h1
theorem k0_t18_ok : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips), ∀ (k0_h1 : k0_cond1 i v10 = 1#1), (k0_t18_loop v319 v321).OK := fun i v10 v41 v43 v319 v321 k0_hw53 k0_t16 k0_h1 => k0_hw53.1.2.2.2.2.2.2.2.2.2.2.2.2.2.2.2.2.2.2.2.2.2.2.2.2.2.1 k0_t16 k0_h1
theorem k0_off220_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off220 v41 v43 v319 v321 k0_t16 k0_t18) a + S1x16.size a ≤ S196x384.size a := fun i v10 v41 v43 v319 v321 k0_hw53 k0_t16 k0_t18 k0_h1 => k0_hw53.1.2.2.2.2.2.2.2.2.2.2.2.2.2.2.2.2.2.2.2.2.2.2.2.2.2.2.1 k0_t16 k0_t18 k0_h1
theorem k0_off221_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off221 v41 v43 v319 v321 k0_t16 k0_t18) a + S1x16.size a ≤ S196x384.size a := fun i v10 v41 v43 v319 v321 k0_hw53 k0_t16 k0_t18 k0_h1 => k0_hw53.1.2.2.2.2.2.2.2.2.2.2.2.2.2.2.2.2.2.2.2.2.2.2.2.2.2.2.2.1 k0_t16 k0_t18 k0_h1
theorem k0_off222_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off222 v41 v43 v319 v321 k0_t16 k0_t18) a + S1x16.size a ≤ S196x384.size a := fun i v10 v41 v43 v319 v321 k0_hw53 k0_t16 k0_t18 k0_h1 => k0_hw53.1.2.2.2.2.2.2.2.2.2.2.2.2.2.2.2.2.2.2.2.2.2.2.2.2.2.2.2.2.1 k0_t16 k0_t18 k0_h1
theorem k0_off223_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off223 v41 v43 v319 v321 k0_t16 k0_t18) a + S1x16.size a ≤ S196x384.size a := fun i v10 v41 v43 v319 v321 k0_hw53 k0_t16 k0_t18 k0_h1 => k0_hw53.1.2.2.2.2.2.2.2.2.2.2.2.2.2.2.2.2.2.2.2.2.2.2.2.2.2.2.2.2.2.1 k0_t16 k0_t18 k0_h1
theorem k0_off224_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off224 v41 v43 v319 v321 k0_t16 k0_t18) a + S1x16.size a ≤ S196x384.size a := fun i v10 v41 v43 v319 v321 k0_hw53 k0_t16 k0_t18 k0_h1 => k0_hw53.1.2.2.2.2.2.2.2.2.2.2.2.2.2.2.2.2.2.2.2.2.2.2.2.2.2.2.2.2.2.2.1 k0_t16 k0_t18 k0_h1
theorem k0_off225_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off225 v41 v43 v319 v321 k0_t16 k0_t18) a + S1x16.size a ≤ S196x384.size a := fun i v10 v41 v43 v319 v321 k0_hw53 k0_t16 k0_t18 k0_h1 => k0_hw53.1.2.2.2.2.2.2.2.2.2.2.2.2.2.2.2.2.2.2.2.2.2.2.2.2.2.2.2.2.2.2.2 k0_t16 k0_t18 k0_h1
theorem k0_off226_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off226 v41 v43 v319 v321 k0_t16 k0_t18) a + S1x16.size a ≤ S196x384.size a := fun i v10 v41 v43 v319 v321 k0_hw53 k0_t16 k0_t18 k0_h1 => k0_hw53.2.1.1 k0_t16 k0_t18 k0_h1
theorem k0_off227_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off227 v41 v43 v319 v321 k0_t16 k0_t18) a + S1x16.size a ≤ S196x384.size a := fun i v10 v41 v43 v319 v321 k0_hw53 k0_t16 k0_t18 k0_h1 => k0_hw53.2.1.2.1 k0_t16 k0_t18 k0_h1
theorem k0_off228_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off228 v41 v43 v319 v321 k0_t16 k0_t18) a + S1x16.size a ≤ S196x384.size a := fun i v10 v41 v43 v319 v321 k0_hw53 k0_t16 k0_t18 k0_h1 => k0_hw53.2.1.2.2.1 k0_t16 k0_t18 k0_h1
theorem k0_off229_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off229 v41 v43 v319 v321 k0_t16 k0_t18) a + S1x16.size a ≤ S196x384.size a := fun i v10 v41 v43 v319 v321 k0_hw53 k0_t16 k0_t18 k0_h1 => k0_hw53.2.1.2.2.2.1 k0_t16 k0_t18 k0_h1
theorem k0_off230_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off230 v41 v43 v319 v321 k0_t16 k0_t18) a + S1x16.size a ≤ S196x384.size a := fun i v10 v41 v43 v319 v321 k0_hw53 k0_t16 k0_t18 k0_h1 => k0_hw53.2.1.2.2.2.2.1 k0_t16 k0_t18 k0_h1
theorem k0_off231_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off231 v41 v43 v319 v321 k0_t16 k0_t18) a + S1x16.size a ≤ S196x384.size a := fun i v10 v41 v43 v319 v321 k0_hw53 k0_t16 k0_t18 k0_h1 => k0_hw53.2.1.2.2.2.2.2.1 k0_t16 k0_t18 k0_h1
theorem k0_off232_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off232 v41 v43 v319 v321 k0_t16 k0_t18) a + S1x16.size a ≤ S196x384.size a := fun i v10 v41 v43 v319 v321 k0_hw53 k0_t16 k0_t18 k0_h1 => k0_hw53.2.1.2.2.2.2.2.2.1 k0_t16 k0_t18 k0_h1
theorem k0_off233_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off233 v41 v43 v319 v321 k0_t16 k0_t18) a + S1x16.size a ≤ S196x384.size a := fun i v10 v41 v43 v319 v321 k0_hw53 k0_t16 k0_t18 k0_h1 => k0_hw53.2.1.2.2.2.2.2.2.2.1 k0_t16 k0_t18 k0_h1
theorem k0_off234_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off234 v41 v43 v319 v321 k0_t16 k0_t18) a + S1x16.size a ≤ S196x384.size a := fun i v10 v41 v43 v319 v321 k0_hw53 k0_t16 k0_t18 k0_h1 => k0_hw53.2.1.2.2.2.2.2.2.2.2.1 k0_t16 k0_t18 k0_h1
theorem k0_off235_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off235 v41 v43 v319 v321 k0_t16 k0_t18) a + S1x16.size a ≤ S196x384.size a := fun i v10 v41 v43 v319 v321 k0_hw53 k0_t16 k0_t18 k0_h1 => k0_hw53.2.1.2.2.2.2.2.2.2.2.2.1 k0_t16 k0_t18 k0_h1
theorem k0_off236_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off236 v41 v43 v319 v321 k0_t16 k0_t18) a + S1x16.size a ≤ S196x384.size a := fun i v10 v41 v43 v319 v321 k0_hw53 k0_t16 k0_t18 k0_h1 => k0_hw53.2.1.2.2.2.2.2.2.2.2.2.2.1 k0_t16 k0_t18 k0_h1
theorem k0_off237_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off237 v41 v43 v319 v321 k0_t16 k0_t18) a + S1x16.size a ≤ S196x384.size a := fun i v10 v41 v43 v319 v321 k0_hw53 k0_t16 k0_t18 k0_h1 => k0_hw53.2.1.2.2.2.2.2.2.2.2.2.2.2.1 k0_t16 k0_t18 k0_h1
theorem k0_off238_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off238 v41 v43 v319 v321 k0_t16 k0_t18) a + S1x16.size a ≤ S196x384.size a := fun i v10 v41 v43 v319 v321 k0_hw53 k0_t16 k0_t18 k0_h1 => k0_hw53.2.1.2.2.2.2.2.2.2.2.2.2.2.2.1 k0_t16 k0_t18 k0_h1
theorem k0_off239_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off239 v41 v43 v319 v321 k0_t16 k0_t18) a + S1x16.size a ≤ S196x384.size a := fun i v10 v41 v43 v319 v321 k0_hw53 k0_t16 k0_t18 k0_h1 => k0_hw53.2.1.2.2.2.2.2.2.2.2.2.2.2.2.2.1 k0_t16 k0_t18 k0_h1
theorem k0_off240_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off240 v41 v43 v319 v321 k0_t16 k0_t18) a + S1x16.size a ≤ S196x384.size a := fun i v10 v41 v43 v319 v321 k0_hw53 k0_t16 k0_t18 k0_h1 => k0_hw53.2.1.2.2.2.2.2.2.2.2.2.2.2.2.2.2.1 k0_t16 k0_t18 k0_h1
theorem k0_off241_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off241 v41 v43 v319 v321 k0_t16 k0_t18) a + S1x16.size a ≤ S196x384.size a := fun i v10 v41 v43 v319 v321 k0_hw53 k0_t16 k0_t18 k0_h1 => k0_hw53.2.1.2.2.2.2.2.2.2.2.2.2.2.2.2.2.2.1 k0_t16 k0_t18 k0_h1
theorem k0_off242_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off242 v41 v43 v319 v321 k0_t16 k0_t18) a + S1x16.size a ≤ S196x384.size a := fun i v10 v41 v43 v319 v321 k0_hw53 k0_t16 k0_t18 k0_h1 => k0_hw53.2.1.2.2.2.2.2.2.2.2.2.2.2.2.2.2.2.2.1 k0_t16 k0_t18 k0_h1
theorem k0_off243_inb : ∀ (i : grid0.Coords) (v10 : BitVec 32) (v41 : BitVec 32) (v43 : BitVec 32) (v319 : BitVec 32) (v321 : BitVec 32) (k0_hw53 : k0_chk53 i v10 v41 v43 v319 v321) (k0_t16 : Fin (k0_t16_loop v41 v43).trips) (k0_t18 : Fin (k0_t18_loop v319 v321).trips), ∀ (k0_h1 : k0_cond1 i v10 = 1#1), ∀ a, (k0_off243 v41 v43 v319 v321 k0_t16 k0_t18) a + S1x16.size a ≤ S196x384.size a := fun i v10 v41 v43 v319 v321 k0_hw53 k0_t16 k0_t18 k0_h1 => k0_hw53.2.1.2.2.2.2.2.2.2.2.2.2.2.2.2.2.2.2.2.1 k0_t16 k0_t18 k0_h1
theorem k0_t20_ok : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips), ∀ (k0_h1 : k0_cond1 i v10 = 1#1), (k0_t20_loop v319 v321).OK := fun i v10 v41 v43 v319 v321 k0_hw53 k0_t19 k0_h1 => k0_hw53.2.1.2.2.2.2.2.2.2.2.2.2.2.2.2.2.2.2.2.2.1 k0_t19 k0_h1
theorem k0_off244_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off244 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.1 k0_t19 k0_t20 k0_h1
theorem k0_off245_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off245 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.1 k0_t19 k0_t20 k0_h1
theorem k0_off246_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off246 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.1 k0_t19 k0_t20 k0_h1
theorem k0_off247_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off247 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.1 k0_t19 k0_t20 k0_h1
theorem k0_off248_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off248 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.2.1 k0_t19 k0_t20 k0_h1
theorem k0_off249_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off249 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.2.2.1 k0_t19 k0_t20 k0_h1
theorem k0_off250_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off250 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.2.2.2.1 k0_t19 k0_t20 k0_h1
theorem k0_off251_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off251 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.2.2.2.2.1 k0_t19 k0_t20 k0_h1
theorem k0_off252_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off252 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.2.2.2.2.2.1 k0_t19 k0_t20 k0_h1
theorem k0_off253_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off253 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.2.2.2.2.2.2.1 k0_t19 k0_t20 k0_h1
theorem k0_off254_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off254 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.2.2.2.2.2.2.2.1 k0_t19 k0_t20 k0_h1
theorem k0_off255_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off255 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.2.2.2.2.2.2.2.2.1 k0_t19 k0_t20 k0_h1
theorem k0_off256_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off256 v41 v43 v319 v321 k0_t19 k0_t20) a + S1x16.size a ≤ S196x384.size a := fun i v10 v41 v43 v319 v321 k0_hw53 k0_t19 k0_t20 k0_h1 => k0_hw53.2.1.2.2.2.2.2.2.2.2.2.2.2.2.2.2.2.2.2.2.2.2.2.2.2.2.2.2.2.2.2.2.2 k0_t19 k0_t20 k0_h1
theorem k0_off257_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off257 v41 v43 v319 v321 k0_t19 k0_t20) a + S1x16.size a ≤ S196x384.size a := fun i v10 v41 v43 v319 v321 k0_hw53 k0_t19 k0_t20 k0_h1 => k0_hw53.2.2.1.1 k0_t19 k0_t20 k0_h1
theorem k0_off258_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off258 v41 v43 v319 v321 k0_t19 k0_t20) a + S1x16.size a ≤ S196x384.size a := fun i v10 v41 v43 v319 v321 k0_hw53 k0_t19 k0_t20 k0_h1 => k0_hw53.2.2.1.2.1 k0_t19 k0_t20 k0_h1
theorem k0_off259_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off259 v41 v43 v319 v321 k0_t19 k0_t20) a + S1x16.size a ≤ S196x384.size a := fun i v10 v41 v43 v319 v321 k0_hw53 k0_t19 k0_t20 k0_h1 => k0_hw53.2.2.1.2.2.1 k0_t19 k0_t20 k0_h1
theorem k0_off260_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off260 v41 v43 v319 v321 k0_t19 k0_t20) a + S1x16.size a ≤ S196x384.size a := fun i v10 v41 v43 v319 v321 k0_hw53 k0_t19 k0_t20 k0_h1 => k0_hw53.2.2.1.2.2.2.1 k0_t19 k0_t20 k0_h1
theorem k0_off261_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off261 v41 v43 v319 v321 k0_t19 k0_t20) a + S1x16.size a ≤ S196x384.size a := fun i v10 v41 v43 v319 v321 k0_hw53 k0_t19 k0_t20 k0_h1 => k0_hw53.2.2.1.2.2.2.2.1 k0_t19 k0_t20 k0_h1
theorem k0_off262_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off262 v41 v43 v319 v321 k0_t19 k0_t20) a + S1x16.size a ≤ S196x384.size a := fun i v10 v41 v43 v319 v321 k0_hw53 k0_t19 k0_t20 k0_h1 => k0_hw53.2.2.1.2.2.2.2.2.1 k0_t19 k0_t20 k0_h1
theorem k0_off263_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off263 v41 v43 v319 v321 k0_t19 k0_t20) a + S1x16.size a ≤ S196x384.size a := fun i v10 v41 v43 v319 v321 k0_hw53 k0_t19 k0_t20 k0_h1 => k0_hw53.2.2.1.2.2.2.2.2.2.1 k0_t19 k0_t20 k0_h1
theorem k0_off264_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off264 v41 v43 v319 v321 k0_t19 k0_t20) a + S1x16.size a ≤ S196x384.size a := fun i v10 v41 v43 v319 v321 k0_hw53 k0_t19 k0_t20 k0_h1 => k0_hw53.2.2.1.2.2.2.2.2.2.2.1 k0_t19 k0_t20 k0_h1
theorem k0_off265_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off265 v41 v43 v319 v321 k0_t19 k0_t20) a + S1x16.size a ≤ S196x384.size a := fun i v10 v41 v43 v319 v321 k0_hw53 k0_t19 k0_t20 k0_h1 => k0_hw53.2.2.1.2.2.2.2.2.2.2.2.1 k0_t19 k0_t20 k0_h1
theorem k0_off266_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off266 v41 v43 v319 v321 k0_t19 k0_t20) a + S1x16.size a ≤ S196x384.size a := fun i v10 v41 v43 v319 v321 k0_hw53 k0_t19 k0_t20 k0_h1 => k0_hw53.2.2.1.2.2.2.2.2.2.2.2.2.1 k0_t19 k0_t20 k0_h1
theorem k0_off267_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t20 : Fin (k0_t20_loop v319 v321).trips), ∀ (k0_h1 : k0_cond1 i v10 = 1#1), ∀ a, (k0_off267 v41 v43 v319 v321 k0_t19 k0_t20) a + S1x16.size a ≤ S196x384.size a := fun i v10 v41 v43 v319 v321 k0_hw53 k0_t19 k0_t20 k0_h1 => k0_hw53.2.2.1.2.2.2.2.2.2.2.2.2.2.1 k0_t19 k0_t20 k0_h1
theorem k0_t21_ok : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips), ∀ (k0_h1 : k0_cond1 i v10 = 1#1), (k0_t21_loop v319 v321).OK := fun i v10 v41 v43 v319 v321 k0_hw53 k0_t19 k0_h1 => k0_hw53.2.2.1.2.2.2.2.2.2.2.2.2.2.2.1 k0_t19 k0_h1
theorem k0_off268_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off268 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.1 k0_t19 k0_t21 k0_h1
theorem k0_off269_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off269 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.1 k0_t19 k0_t21 k0_h1
theorem k0_off270_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off270 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.1 k0_t19 k0_t21 k0_h1
theorem k0_off271_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off271 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.1 k0_t19 k0_t21 k0_h1
theorem k0_off272_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off272 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.1 k0_t19 k0_t21 k0_h1
theorem k0_off273_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off273 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.1 k0_t19 k0_t21 k0_h1
theorem k0_off274_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off274 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.1 k0_t19 k0_t21 k0_h1
theorem k0_off275_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off275 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.1 k0_t19 k0_t21 k0_h1
theorem k0_off276_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off276 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.1 k0_t19 k0_t21 k0_h1
theorem k0_off277_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off277 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.1 k0_t19 k0_t21 k0_h1
theorem k0_off278_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off278 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.1 k0_t19 k0_t21 k0_h1
theorem k0_off279_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off279 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.2.1 k0_t19 k0_t21 k0_h1
theorem k0_off280_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off280 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.2.2.1 k0_t19 k0_t21 k0_h1
theorem k0_off281_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off281 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.2.2.2.1 k0_t19 k0_t21 k0_h1
theorem k0_off282_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off282 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.2.2.2.2.1 k0_t19 k0_t21 k0_h1
theorem k0_off283_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off283 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.2.2.2.2.2.1 k0_t19 k0_t21 k0_h1
theorem k0_off284_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off284 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.2.2.2.2.2.2.1 k0_t19 k0_t21 k0_h1
theorem k0_off285_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off285 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.2.2.2.2.2.2.2.1 k0_t19 k0_t21 k0_h1
theorem k0_off286_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off286 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.2.2.2.2.2.2.2.2.1 k0_t19 k0_t21 k0_h1
theorem k0_off287_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off287 v41 v43 v319 v321 k0_t19 k0_t21) a + S1x16.size a ≤ S196x384.size a := fun i v10 v41 v43 v319 v321 k0_hw53 k0_t19 k0_t21 k0_h1 => k0_hw53.2.2.1.2.2.2.2.2.2.2.2.2.2.2.2.2.2.2.2.2.2.2.2.2.2.2.2.2.2.2.2.2.2.2 k0_t19 k0_t21 k0_h1
theorem k0_off288_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off288 v41 v43 v319 v321 k0_t19 k0_t21) a + S1x16.size a ≤ S196x384.size a := fun i v10 v41 v43 v319 v321 k0_hw53 k0_t19 k0_t21 k0_h1 => k0_hw53.2.2.2.1 k0_t19 k0_t21 k0_h1
theorem k0_off289_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off289 v41 v43 v319 v321 k0_t19 k0_t21) a + S1x16.size a ≤ S196x384.size a := fun i v10 v41 v43 v319 v321 k0_hw53 k0_t19 k0_t21 k0_h1 => k0_hw53.2.2.2.2.1 k0_t19 k0_t21 k0_h1
theorem k0_off290_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off290 v41 v43 v319 v321 k0_t19 k0_t21) a + S1x16.size a ≤ S196x384.size a := fun i v10 v41 v43 v319 v321 k0_hw53 k0_t19 k0_t21 k0_h1 => k0_hw53.2.2.2.2.2.1 k0_t19 k0_t21 k0_h1
theorem k0_off291_inb : ∀ (i : grid0.Coords) (v10 : BitVec 32) (v41 : BitVec 32) (v43 : BitVec 32) (v319 : BitVec 32) (v321 : BitVec 32) (k0_hw53 : k0_chk53 i v10 v41 v43 v319 v321) (k0_t19 : Fin (k0_t19_loop v41 v43).trips) (k0_t21 : Fin (k0_t21_loop v319 v321).trips), ∀ (k0_h1 : k0_cond1 i v10 = 1#1), ∀ a, (k0_off291 v41 v43 v319 v321 k0_t19 k0_t21) a + S1x16.size a ≤ S196x384.size a := fun i v10 v41 v43 v319 v321 k0_hw53 k0_t19 k0_t21 k0_h1 => k0_hw53.2.2.2.2.2.2 k0_t19 k0_t21 k0_h1

def k0_chk54 (i : grid0.Coords) (v10 : BitVec 32) (v339 : IVec S16 32) : Prop :=
  (∀ (k0_h1 : k0_cond1 i v10 = 1#1), ∀ a x, ((![v339] : Fin 1 → IVec S16 32) a x).toNat < S18816.size a)
theorem k0_idx49_inb : ∀ (i : grid0.Coords) (v10 : BitVec 32) (v339 : IVec S16 32) (k0_hw54 : k0_chk54 i v10 v339), ∀ (k0_h1 : k0_cond1 i v10 = 1#1), ∀ a x, ((![v339] : Fin 1 → IVec S16 32) a x).toNat < S18816.size a := fun i v10 v339 k0_hw54 k0_h1 => k0_hw54 k0_h1

def k0_chk55 (i : grid0.Coords) (v10 : BitVec 32) (v344 : IVec S16 32) : Prop :=
  (∀ (k0_h1 : k0_cond1 i v10 = 1#1), ∀ a x, ((![v344] : Fin 1 → IVec S16 32) a x).toNat < S18816.size a)
theorem k0_idx50_inb : ∀ (i : grid0.Coords) (v10 : BitVec 32) (v344 : IVec S16 32) (k0_hw55 : k0_chk55 i v10 v344), ∀ (k0_h1 : k0_cond1 i v10 = 1#1), ∀ a x, ((![v344] : Fin 1 → IVec S16 32) a x).toNat < S18816.size a := fun i v10 v344 k0_hw55 k0_h1 => k0_hw55 k0_h1

def k0_chk56 (i : grid0.Coords) (v10 : BitVec 32) (v349 : IVec S16 32) : Prop :=
  (∀ (k0_h1 : k0_cond1 i v10 = 1#1), ∀ a x, ((![v349] : Fin 1 → IVec S16 32) a x).toNat < S18816.size a)
theorem k0_idx51_inb : ∀ (i : grid0.Coords) (v10 : BitVec 32) (v349 : IVec S16 32) (k0_hw56 : k0_chk56 i v10 v349), ∀ (k0_h1 : k0_cond1 i v10 = 1#1), ∀ a x, ((![v349] : Fin 1 → IVec S16 32) a x).toNat < S18816.size a := fun i v10 v349 k0_hw56 k0_h1 => k0_hw56 k0_h1

def k0_chk57 (i : grid0.Coords) (v10 : BitVec 32) (v354 : IVec S16 32) : Prop :=
  (∀ (k0_h1 : k0_cond1 i v10 = 1#1), ∀ a x, ((![v354] : Fin 1 → IVec S16 32) a x).toNat < S18816.size a)
theorem k0_idx52_inb : ∀ (i : grid0.Coords) (v10 : BitVec 32) (v354 : IVec S16 32) (k0_hw57 : k0_chk57 i v10 v354), ∀ (k0_h1 : k0_cond1 i v10 = 1#1), ∀ a x, ((![v354] : Fin 1 → IVec S16 32) a x).toNat < S18816.size a := fun i v10 v354 k0_hw57 k0_h1 => k0_hw57 k0_h1

def k0_chk58 (i : grid0.Coords) (v10 : BitVec 32) (v359 : IVec S16 32) : Prop :=
  (∀ (k0_h1 : k0_cond1 i v10 = 1#1), ∀ a x, ((![v359] : Fin 1 → IVec S16 32) a x).toNat < S18816.size a)
theorem k0_idx53_inb : ∀ (i : grid0.Coords) (v10 : BitVec 32) (v359 : IVec S16 32) (k0_hw58 : k0_chk58 i v10 v359), ∀ (k0_h1 : k0_cond1 i v10 = 1#1), ∀ a x, ((![v359] : Fin 1 → IVec S16 32) a x).toNat < S18816.size a := fun i v10 v359 k0_hw58 k0_h1 => k0_hw58 k0_h1

def k0_chk59 (i : grid0.Coords) (v10 : BitVec 32) (v364 : IVec S16 32) : Prop :=
  (∀ (k0_h1 : k0_cond1 i v10 = 1#1), ∀ a x, ((![v364] : Fin 1 → IVec S16 32) a x).toNat < S18816.size a)
theorem k0_idx54_inb : ∀ (i : grid0.Coords) (v10 : BitVec 32) (v364 : IVec S16 32) (k0_hw59 : k0_chk59 i v10 v364), ∀ (k0_h1 : k0_cond1 i v10 = 1#1), ∀ a x, ((![v364] : Fin 1 → IVec S16 32) a x).toNat < S18816.size a := fun i v10 v364 k0_hw59 k0_h1 => k0_hw59 k0_h1

def k0_chk60 (i : grid0.Coords) (v10 : BitVec 32) (v369 : IVec S16 32) : Prop :=
  (∀ (k0_h1 : k0_cond1 i v10 = 1#1), ∀ a x, ((![v369] : Fin 1 → IVec S16 32) a x).toNat < S18816.size a)
theorem k0_idx55_inb : ∀ (i : grid0.Coords) (v10 : BitVec 32) (v369 : IVec S16 32) (k0_hw60 : k0_chk60 i v10 v369), ∀ (k0_h1 : k0_cond1 i v10 = 1#1), ∀ a x, ((![v369] : Fin 1 → IVec S16 32) a x).toNat < S18816.size a := fun i v10 v369 k0_hw60 k0_h1 => k0_hw60 k0_h1

def k0_chk61 (i : grid0.Coords) (v10 : BitVec 32) (v374 : IVec S16 32) : Prop :=
  (∀ (k0_h1 : k0_cond1 i v10 = 1#1), ∀ a x, ((![v374] : Fin 1 → IVec S16 32) a x).toNat < S18816.size a)
theorem k0_idx56_inb : ∀ (i : grid0.Coords) (v10 : BitVec 32) (v374 : IVec S16 32) (k0_hw61 : k0_chk61 i v10 v374), ∀ (k0_h1 : k0_cond1 i v10 = 1#1), ∀ a x, ((![v374] : Fin 1 → IVec S16 32) a x).toNat < S18816.size a := fun i v10 v374 k0_hw61 k0_h1 => k0_hw61 k0_h1

def k0_chk62 (i : grid0.Coords) (v10 : BitVec 32) (v379 : IVec S16 32) : Prop :=
  (∀ (k0_h1 : k0_cond1 i v10 = 1#1), ∀ a x, ((![v379] : Fin 1 → IVec S16 32) a x).toNat < S18816.size a)
theorem k0_idx57_inb : ∀ (i : grid0.Coords) (v10 : BitVec 32) (v379 : IVec S16 32) (k0_hw62 : k0_chk62 i v10 v379), ∀ (k0_h1 : k0_cond1 i v10 = 1#1), ∀ a x, ((![v379] : Fin 1 → IVec S16 32) a x).toNat < S18816.size a := fun i v10 v379 k0_hw62 k0_h1 => k0_hw62 k0_h1

def k0_chk63 (i : grid0.Coords) (v10 : BitVec 32) (v384 : IVec S16 32) : Prop :=
  (∀ (k0_h1 : k0_cond1 i v10 = 1#1), ∀ a x, ((![v384] : Fin 1 → IVec S16 32) a x).toNat < S18816.size a)
theorem k0_idx58_inb : ∀ (i : grid0.Coords) (v10 : BitVec 32) (v384 : IVec S16 32) (k0_hw63 : k0_chk63 i v10 v384), ∀ (k0_h1 : k0_cond1 i v10 = 1#1), ∀ a x, ((![v384] : Fin 1 → IVec S16 32) a x).toNat < S18816.size a := fun i v10 v384 k0_hw63 k0_h1 => k0_hw63 k0_h1

def k0_chk64 (i : grid0.Coords) (v10 : BitVec 32) (v389 : IVec S16 32) : Prop :=
  (∀ (k0_h1 : k0_cond1 i v10 = 1#1), ∀ a x, ((![v389] : Fin 1 → IVec S16 32) a x).toNat < S18816.size a)
theorem k0_idx59_inb : ∀ (i : grid0.Coords) (v10 : BitVec 32) (v389 : IVec S16 32) (k0_hw64 : k0_chk64 i v10 v389), ∀ (k0_h1 : k0_cond1 i v10 = 1#1), ∀ a x, ((![v389] : Fin 1 → IVec S16 32) a x).toNat < S18816.size a := fun i v10 v389 k0_hw64 k0_h1 => k0_hw64 k0_h1

def k0_chk65 (i : grid0.Coords) (v10 : BitVec 32) (v394 : IVec S16 32) : Prop :=
  (∀ (k0_h1 : k0_cond1 i v10 = 1#1), ∀ a x, ((![v394] : Fin 1 → IVec S16 32) a x).toNat < S18816.size a)
theorem k0_idx60_inb : ∀ (i : grid0.Coords) (v10 : BitVec 32) (v394 : IVec S16 32) (k0_hw65 : k0_chk65 i v10 v394), ∀ (k0_h1 : k0_cond1 i v10 = 1#1), ∀ a x, ((![v394] : Fin 1 → IVec S16 32) a x).toNat < S18816.size a := fun i v10 v394 k0_hw65 k0_h1 => k0_hw65 k0_h1

def k0_chk66 (i : grid0.Coords) (v10 : BitVec 32) (v399 : IVec S16 32) : Prop :=
  (∀ (k0_h1 : k0_cond1 i v10 = 1#1), ∀ a x, ((![v399] : Fin 1 → IVec S16 32) a x).toNat < S18816.size a)
theorem k0_idx61_inb : ∀ (i : grid0.Coords) (v10 : BitVec 32) (v399 : IVec S16 32) (k0_hw66 : k0_chk66 i v10 v399), ∀ (k0_h1 : k0_cond1 i v10 = 1#1), ∀ a x, ((![v399] : Fin 1 → IVec S16 32) a x).toNat < S18816.size a := fun i v10 v399 k0_hw66 k0_h1 => k0_hw66 k0_h1

def k0_chk67 (i : grid0.Coords) (v10 : BitVec 32) (v404 : IVec S16 32) : Prop :=
  (∀ (k0_h1 : k0_cond1 i v10 = 1#1), ∀ a x, ((![v404] : Fin 1 → IVec S16 32) a x).toNat < S18816.size a)
theorem k0_idx62_inb : ∀ (i : grid0.Coords) (v10 : BitVec 32) (v404 : IVec S16 32) (k0_hw67 : k0_chk67 i v10 v404), ∀ (k0_h1 : k0_cond1 i v10 = 1#1), ∀ a x, ((![v404] : Fin 1 → IVec S16 32) a x).toNat < S18816.size a := fun i v10 v404 k0_hw67 k0_h1 => k0_hw67 k0_h1

def k0_chk68 (i : grid0.Coords) (v10 : BitVec 32) (v409 : IVec S16 32) : Prop :=
  (∀ (k0_h1 : k0_cond1 i v10 = 1#1), ∀ a x, ((![v409] : Fin 1 → IVec S16 32) a x).toNat < S18816.size a)
theorem k0_idx63_inb : ∀ (i : grid0.Coords) (v10 : BitVec 32) (v409 : IVec S16 32) (k0_hw68 : k0_chk68 i v10 v409), ∀ (k0_h1 : k0_cond1 i v10 = 1#1), ∀ a x, ((![v409] : Fin 1 → IVec S16 32) a x).toNat < S18816.size a := fun i v10 v409 k0_hw68 k0_h1 => k0_hw68 k0_h1

def k0_chk69 (i : grid0.Coords) (v10 : BitVec 32) (v414 : IVec S16 32) : Prop :=
  (∀ (k0_h1 : k0_cond1 i v10 = 1#1), ∀ a x, ((![v414] : Fin 1 → IVec S16 32) a x).toNat < S18816.size a)
theorem k0_idx64_inb : ∀ (i : grid0.Coords) (v10 : BitVec 32) (v414 : IVec S16 32) (k0_hw69 : k0_chk69 i v10 v414), ∀ (k0_h1 : k0_cond1 i v10 = 1#1), ∀ a x, ((![v414] : Fin 1 → IVec S16 32) a x).toNat < S18816.size a := fun i v10 v414 k0_hw69 k0_h1 => k0_hw69 k0_h1

def k0_chk70 (i : grid0.Coords) (v10 : BitVec 32) (v419 : IVec S16 32) : Prop :=
  (∀ (k0_h1 : k0_cond1 i v10 = 1#1), ∀ a x, ((![v419] : Fin 1 → IVec S16 32) a x).toNat < S18816.size a)
theorem k0_idx65_inb : ∀ (i : grid0.Coords) (v10 : BitVec 32) (v419 : IVec S16 32) (k0_hw70 : k0_chk70 i v10 v419), ∀ (k0_h1 : k0_cond1 i v10 = 1#1), ∀ a x, ((![v419] : Fin 1 → IVec S16 32) a x).toNat < S18816.size a := fun i v10 v419 k0_hw70 k0_h1 => k0_hw70 k0_h1

def k0_chk71 (i : grid0.Coords) (v10 : BitVec 32) (v424 : IVec S16 32) : Prop :=
  (∀ (k0_h1 : k0_cond1 i v10 = 1#1), ∀ a x, ((![v424] : Fin 1 → IVec S16 32) a x).toNat < S18816.size a)
theorem k0_idx66_inb : ∀ (i : grid0.Coords) (v10 : BitVec 32) (v424 : IVec S16 32) (k0_hw71 : k0_chk71 i v10 v424), ∀ (k0_h1 : k0_cond1 i v10 = 1#1), ∀ a x, ((![v424] : Fin 1 → IVec S16 32) a x).toNat < S18816.size a := fun i v10 v424 k0_hw71 k0_h1 => k0_hw71 k0_h1

def k0_chk72 (i : grid0.Coords) (v10 : BitVec 32) (v429 : IVec S16 32) : Prop :=
  (∀ (k0_h1 : k0_cond1 i v10 = 1#1), ∀ a x, ((![v429] : Fin 1 → IVec S16 32) a x).toNat < S18816.size a)
theorem k0_idx67_inb : ∀ (i : grid0.Coords) (v10 : BitVec 32) (v429 : IVec S16 32) (k0_hw72 : k0_chk72 i v10 v429), ∀ (k0_h1 : k0_cond1 i v10 = 1#1), ∀ a x, ((![v429] : Fin 1 → IVec S16 32) a x).toNat < S18816.size a := fun i v10 v429 k0_hw72 k0_h1 => k0_hw72 k0_h1

def k0_chk73 (i : grid0.Coords) (v10 : BitVec 32) (v434 : IVec S16 32) : Prop :=
  (∀ (k0_h1 : k0_cond1 i v10 = 1#1), ∀ a x, ((![v434] : Fin 1 → IVec S16 32) a x).toNat < S18816.size a)
theorem k0_idx68_inb : ∀ (i : grid0.Coords) (v10 : BitVec 32) (v434 : IVec S16 32) (k0_hw73 : k0_chk73 i v10 v434), ∀ (k0_h1 : k0_cond1 i v10 = 1#1), ∀ a x, ((![v434] : Fin 1 → IVec S16 32) a x).toNat < S18816.size a := fun i v10 v434 k0_hw73 k0_h1 => k0_hw73 k0_h1

def k0_chk74 (i : grid0.Coords) (v10 : BitVec 32) (v439 : IVec S16 32) : Prop :=
  (∀ (k0_h1 : k0_cond1 i v10 = 1#1), ∀ a x, ((![v439] : Fin 1 → IVec S16 32) a x).toNat < S18816.size a)
theorem k0_idx69_inb : ∀ (i : grid0.Coords) (v10 : BitVec 32) (v439 : IVec S16 32) (k0_hw74 : k0_chk74 i v10 v439), ∀ (k0_h1 : k0_cond1 i v10 = 1#1), ∀ a x, ((![v439] : Fin 1 → IVec S16 32) a x).toNat < S18816.size a := fun i v10 v439 k0_hw74 k0_h1 => k0_hw74 k0_h1

def k0_chk75 (i : grid0.Coords) (v10 : BitVec 32) (v444 : IVec S16 32) : Prop :=
  (∀ (k0_h1 : k0_cond1 i v10 = 1#1), ∀ a x, ((![v444] : Fin 1 → IVec S16 32) a x).toNat < S18816.size a)
theorem k0_idx70_inb : ∀ (i : grid0.Coords) (v10 : BitVec 32) (v444 : IVec S16 32) (k0_hw75 : k0_chk75 i v10 v444), ∀ (k0_h1 : k0_cond1 i v10 = 1#1), ∀ a x, ((![v444] : Fin 1 → IVec S16 32) a x).toNat < S18816.size a := fun i v10 v444 k0_hw75 k0_h1 => k0_hw75 k0_h1

def k0_chk76 (i : grid0.Coords) (v10 : BitVec 32) (v449 : IVec S16 32) : Prop :=
  (∀ (k0_h1 : k0_cond1 i v10 = 1#1), ∀ a x, ((![v449] : Fin 1 → IVec S16 32) a x).toNat < S18816.size a)
theorem k0_idx71_inb : ∀ (i : grid0.Coords) (v10 : BitVec 32) (v449 : IVec S16 32) (k0_hw76 : k0_chk76 i v10 v449), ∀ (k0_h1 : k0_cond1 i v10 = 1#1), ∀ a x, ((![v449] : Fin 1 → IVec S16 32) a x).toNat < S18816.size a := fun i v10 v449 k0_hw76 k0_h1 => k0_hw76 k0_h1

def k0_chk77 (i : grid0.Coords) (v10 : BitVec 32) (v454 : IVec S16 32) : Prop :=
  (∀ (k0_h1 : k0_cond1 i v10 = 1#1), ∀ a x, ((![v454] : Fin 1 → IVec S16 32) a x).toNat < S18816.size a)
theorem k0_idx72_inb : ∀ (i : grid0.Coords) (v10 : BitVec 32) (v454 : IVec S16 32) (k0_hw77 : k0_chk77 i v10 v454), ∀ (k0_h1 : k0_cond1 i v10 = 1#1), ∀ a x, ((![v454] : Fin 1 → IVec S16 32) a x).toNat < S18816.size a := fun i v10 v454 k0_hw77 k0_h1 => k0_hw77 k0_h1
@[reducible] def k0_t22_loop (v41 : BitVec 32) (v43 : BitVec 32) : Scf.Loop 32 :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_165 : BitVec 32 := 1#32
  ⟨v41, v464, c1_i32_165⟩
@[reducible] def k0_t23_loop (v456 : BitVec 32) (v458 : BitVec 32) : Scf.Loop 32 :=
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_376 : BitVec 32 := 1#32
  ⟨v456, v1008, c1_i32_376⟩

def k0_off292 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1012 : Index := Scalar.indexCast v1011
  let c0_378 : Index := 0#32
  ![v1012.toNat, 0]
def k0_off293 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1015 : Index := Scalar.indexCast v1011
  let c16 : Index := 16#32
  ![v1015.toNat, 16]
def k0_off294 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1018 : Index := Scalar.indexCast v1011
  let c32 : Index := 32#32
  ![v1018.toNat, 32]
def k0_off295 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1021 : Index := Scalar.indexCast v1011
  let c48 : Index := 48#32
  ![v1021.toNat, 48]
def k0_off296 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1024 : Index := Scalar.indexCast v1011
  let c64 : Index := 64#32
  ![v1024.toNat, 64]
def k0_off297 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1027 : Index := Scalar.indexCast v1011
  let c80 : Index := 80#32
  ![v1027.toNat, 80]
def k0_off298 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1030 : Index := Scalar.indexCast v1011
  let c96 : Index := 96#32
  ![v1030.toNat, 96]
def k0_off299 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1033 : Index := Scalar.indexCast v1011
  let c112 : Index := 112#32
  ![v1033.toNat, 112]
def k0_off300 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1036 : Index := Scalar.indexCast v1011
  let c128 : Index := 128#32
  ![v1036.toNat, 128]
def k0_off301 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1039 : Index := Scalar.indexCast v1011
  let c144 : Index := 144#32
  ![v1039.toNat, 144]
def k0_off302 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1042 : Index := Scalar.indexCast v1011
  let c160 : Index := 160#32
  ![v1042.toNat, 160]
def k0_off303 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1045 : Index := Scalar.indexCast v1011
  let c176 : Index := 176#32
  ![v1045.toNat, 176]
def k0_off304 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1048 : Index := Scalar.indexCast v1011
  let c192 : Index := 192#32
  ![v1048.toNat, 192]
def k0_off305 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1051 : Index := Scalar.indexCast v1011
  let c208 : Index := 208#32
  ![v1051.toNat, 208]
def k0_off306 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1054 : Index := Scalar.indexCast v1011
  let c224 : Index := 224#32
  ![v1054.toNat, 224]
def k0_off307 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1057 : Index := Scalar.indexCast v1011
  let c240 : Index := 240#32
  ![v1057.toNat, 240]
def k0_off308 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1060 : Index := Scalar.indexCast v1011
  let c256 : Index := 256#32
  ![v1060.toNat, 256]
def k0_off309 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1063 : Index := Scalar.indexCast v1011
  let c272 : Index := 272#32
  ![v1063.toNat, 272]
def k0_off310 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1066 : Index := Scalar.indexCast v1011
  let c288 : Index := 288#32
  ![v1066.toNat, 288]
def k0_off311 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1069 : Index := Scalar.indexCast v1011
  let c304 : Index := 304#32
  ![v1069.toNat, 304]
def k0_off312 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1072 : Index := Scalar.indexCast v1011
  let c320 : Index := 320#32
  ![v1072.toNat, 320]
def k0_off313 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1075 : Index := Scalar.indexCast v1011
  let c336 : Index := 336#32
  ![v1075.toNat, 336]
def k0_off314 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1078 : Index := Scalar.indexCast v1011
  let c352 : Index := 352#32
  ![v1078.toNat, 352]
def k0_off315 (v41 : BitVec 32) (v43 : BitVec 32) (v456 : BitVec 32) (v458 : BitVec 32) (k0_t22 : Fin (k0_t22_loop v41 v43).trips) (k0_t23 : Fin (k0_t23_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let c1_i32_376 : BitVec 32 := 1#32
  let arg36 : BitVec 32 := Scf.iv v456 c1_i32_376 k0_t23
  let v1011 : BitVec 32 := Scalar.addi v1003 arg36
  let v1081 : Index := Scalar.indexCast v1011
  let c368 : Index := 368#32
  ![v1081.toNat, 368]
@[reducible] def k0_t24_loop (v456 : BitVec 32) (v458 : BitVec 32) : Scf.Loop 32 :=
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let v1005 : BitVec 32 := Scalar.addi v456 v1004
  let c1_i32_377 : BitVec 32 := 1#32
  ⟨v1008, v1005, c1_i32_377⟩
def k0_off316 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1012 : Index := Scalar.indexCast v1011
  let c0_378 : Index := 0#32
  ![v1012.toNat, 0]
def k0_off317 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1015 : Index := Scalar.indexCast v1011
  let c16 : Index := 16#32
  ![v1015.toNat, 16]
def k0_off318 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1018 : Index := Scalar.indexCast v1011
  let c32 : Index := 32#32
  ![v1018.toNat, 32]
def k0_off319 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1021 : Index := Scalar.indexCast v1011
  let c48 : Index := 48#32
  ![v1021.toNat, 48]
def k0_off320 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1024 : Index := Scalar.indexCast v1011
  let c64 : Index := 64#32
  ![v1024.toNat, 64]
def k0_off321 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1027 : Index := Scalar.indexCast v1011
  let c80 : Index := 80#32
  ![v1027.toNat, 80]
def k0_off322 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1030 : Index := Scalar.indexCast v1011
  let c96 : Index := 96#32
  ![v1030.toNat, 96]
def k0_off323 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1033 : Index := Scalar.indexCast v1011
  let c112 : Index := 112#32
  ![v1033.toNat, 112]
def k0_off324 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1036 : Index := Scalar.indexCast v1011
  let c128 : Index := 128#32
  ![v1036.toNat, 128]
def k0_off325 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1039 : Index := Scalar.indexCast v1011
  let c144 : Index := 144#32
  ![v1039.toNat, 144]
def k0_off326 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1042 : Index := Scalar.indexCast v1011
  let c160 : Index := 160#32
  ![v1042.toNat, 160]
def k0_off327 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1045 : Index := Scalar.indexCast v1011
  let c176 : Index := 176#32
  ![v1045.toNat, 176]
def k0_off328 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1048 : Index := Scalar.indexCast v1011
  let c192 : Index := 192#32
  ![v1048.toNat, 192]
def k0_off329 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1051 : Index := Scalar.indexCast v1011
  let c208 : Index := 208#32
  ![v1051.toNat, 208]
def k0_off330 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1054 : Index := Scalar.indexCast v1011
  let c224 : Index := 224#32
  ![v1054.toNat, 224]
def k0_off331 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1057 : Index := Scalar.indexCast v1011
  let c240 : Index := 240#32
  ![v1057.toNat, 240]
def k0_off332 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1060 : Index := Scalar.indexCast v1011
  let c256 : Index := 256#32
  ![v1060.toNat, 256]
def k0_off333 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1063 : Index := Scalar.indexCast v1011
  let c272 : Index := 272#32
  ![v1063.toNat, 272]
def k0_off334 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1066 : Index := Scalar.indexCast v1011
  let c288 : Index := 288#32
  ![v1066.toNat, 288]
def k0_off335 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1069 : Index := Scalar.indexCast v1011
  let c304 : Index := 304#32
  ![v1069.toNat, 304]
def k0_off336 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1072 : Index := Scalar.indexCast v1011
  let c320 : Index := 320#32
  ![v1072.toNat, 320]
def k0_off337 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1075 : Index := Scalar.indexCast v1011
  let c336 : Index := 336#32
  ![v1075.toNat, 336]
def k0_off338 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1078 : Index := Scalar.indexCast v1011
  let c352 : Index := 352#32
  ![v1078.toNat, 352]
def k0_off339 (v41 : BitVec 32) (v43 : BitVec 32) (v456 : BitVec 32) (v458 : BitVec 32) (k0_t22 : Fin (k0_t22_loop v41 v43).trips) (k0_t24 : Fin (k0_t24_loop v456 v458).trips) : Fin 2 → Nat :=
  let c1_i32_165 : BitVec 32 := 1#32
  let arg11 : BitVec 32 := Scf.iv v41 c1_i32_165 k0_t22
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t24
  let v1011 : BitVec 32 := Scalar.addi v1003 arg36
  let v1081 : Index := Scalar.indexCast v1011
  let c368 : Index := 368#32
  ![v1081.toNat, 368]
@[reducible] def k0_t25_loop (v41 : BitVec 32) (v43 : BitVec 32) : Scf.Loop 32 :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let v461 : BitVec 32 := Scalar.addi v41 v460
  let c1_i32_166 : BitVec 32 := 1#32
  ⟨v464, v461, c1_i32_166⟩
@[reducible] def k0_t26_loop (v456 : BitVec 32) (v458 : BitVec 32) : Scf.Loop 32 :=
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_376 : BitVec 32 := 1#32
  ⟨v456, v1008, c1_i32_376⟩
def k0_off340 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1012 : Index := Scalar.indexCast v1011
  let c0_378 : Index := 0#32
  ![v1012.toNat, 0]
def k0_off341 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1015 : Index := Scalar.indexCast v1011
  let c16 : Index := 16#32
  ![v1015.toNat, 16]
def k0_off342 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1018 : Index := Scalar.indexCast v1011
  let c32 : Index := 32#32
  ![v1018.toNat, 32]
def k0_off343 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1021 : Index := Scalar.indexCast v1011
  let c48 : Index := 48#32
  ![v1021.toNat, 48]
def k0_off344 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1024 : Index := Scalar.indexCast v1011
  let c64 : Index := 64#32
  ![v1024.toNat, 64]
def k0_off345 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1027 : Index := Scalar.indexCast v1011
  let c80 : Index := 80#32
  ![v1027.toNat, 80]
def k0_off346 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1030 : Index := Scalar.indexCast v1011
  let c96 : Index := 96#32
  ![v1030.toNat, 96]
def k0_off347 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1033 : Index := Scalar.indexCast v1011
  let c112 : Index := 112#32
  ![v1033.toNat, 112]
def k0_off348 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1036 : Index := Scalar.indexCast v1011
  let c128 : Index := 128#32
  ![v1036.toNat, 128]
def k0_off349 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1039 : Index := Scalar.indexCast v1011
  let c144 : Index := 144#32
  ![v1039.toNat, 144]
def k0_off350 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1042 : Index := Scalar.indexCast v1011
  let c160 : Index := 160#32
  ![v1042.toNat, 160]
def k0_off351 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1045 : Index := Scalar.indexCast v1011
  let c176 : Index := 176#32
  ![v1045.toNat, 176]
def k0_off352 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1048 : Index := Scalar.indexCast v1011
  let c192 : Index := 192#32
  ![v1048.toNat, 192]
def k0_off353 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1051 : Index := Scalar.indexCast v1011
  let c208 : Index := 208#32
  ![v1051.toNat, 208]
def k0_off354 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1054 : Index := Scalar.indexCast v1011
  let c224 : Index := 224#32
  ![v1054.toNat, 224]
def k0_off355 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1057 : Index := Scalar.indexCast v1011
  let c240 : Index := 240#32
  ![v1057.toNat, 240]
def k0_off356 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1060 : Index := Scalar.indexCast v1011
  let c256 : Index := 256#32
  ![v1060.toNat, 256]
def k0_off357 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1063 : Index := Scalar.indexCast v1011
  let c272 : Index := 272#32
  ![v1063.toNat, 272]
def k0_off358 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1066 : Index := Scalar.indexCast v1011
  let c288 : Index := 288#32
  ![v1066.toNat, 288]
def k0_off359 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1069 : Index := Scalar.indexCast v1011
  let c304 : Index := 304#32
  ![v1069.toNat, 304]
def k0_off360 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1072 : Index := Scalar.indexCast v1011
  let c320 : Index := 320#32
  ![v1072.toNat, 320]
def k0_off361 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1075 : Index := Scalar.indexCast v1011
  let c336 : Index := 336#32
  ![v1075.toNat, 336]
def k0_off362 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1078 : Index := Scalar.indexCast v1011
  let c352 : Index := 352#32
  ![v1078.toNat, 352]
def k0_off363 (v41 : BitVec 32) (v43 : BitVec 32) (v456 : BitVec 32) (v458 : BitVec 32) (k0_t25 : Fin (k0_t25_loop v41 v43).trips) (k0_t26 : Fin (k0_t26_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let c1_i32_376 : BitVec 32 := 1#32
  let arg36 : BitVec 32 := Scf.iv v456 c1_i32_376 k0_t26
  let v1011 : BitVec 32 := Scalar.addi v1003 arg36
  let v1081 : Index := Scalar.indexCast v1011
  let c368 : Index := 368#32
  ![v1081.toNat, 368]
@[reducible] def k0_t27_loop (v456 : BitVec 32) (v458 : BitVec 32) : Scf.Loop 32 :=
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let v1005 : BitVec 32 := Scalar.addi v456 v1004
  let c1_i32_377 : BitVec 32 := 1#32
  ⟨v1008, v1005, c1_i32_377⟩
def k0_off364 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1012 : Index := Scalar.indexCast v1011
  let c0_378 : Index := 0#32
  ![v1012.toNat, 0]
def k0_off365 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1015 : Index := Scalar.indexCast v1011
  let c16 : Index := 16#32
  ![v1015.toNat, 16]
def k0_off366 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1018 : Index := Scalar.indexCast v1011
  let c32 : Index := 32#32
  ![v1018.toNat, 32]
def k0_off367 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1021 : Index := Scalar.indexCast v1011
  let c48 : Index := 48#32
  ![v1021.toNat, 48]
def k0_off368 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1024 : Index := Scalar.indexCast v1011
  let c64 : Index := 64#32
  ![v1024.toNat, 64]
def k0_off369 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1027 : Index := Scalar.indexCast v1011
  let c80 : Index := 80#32
  ![v1027.toNat, 80]
def k0_off370 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1030 : Index := Scalar.indexCast v1011
  let c96 : Index := 96#32
  ![v1030.toNat, 96]
def k0_off371 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1033 : Index := Scalar.indexCast v1011
  let c112 : Index := 112#32
  ![v1033.toNat, 112]
def k0_off372 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1036 : Index := Scalar.indexCast v1011
  let c128 : Index := 128#32
  ![v1036.toNat, 128]
def k0_off373 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1039 : Index := Scalar.indexCast v1011
  let c144 : Index := 144#32
  ![v1039.toNat, 144]
def k0_off374 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1042 : Index := Scalar.indexCast v1011
  let c160 : Index := 160#32
  ![v1042.toNat, 160]
def k0_off375 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1045 : Index := Scalar.indexCast v1011
  let c176 : Index := 176#32
  ![v1045.toNat, 176]
def k0_off376 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1048 : Index := Scalar.indexCast v1011
  let c192 : Index := 192#32
  ![v1048.toNat, 192]
def k0_off377 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1051 : Index := Scalar.indexCast v1011
  let c208 : Index := 208#32
  ![v1051.toNat, 208]
def k0_off378 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1054 : Index := Scalar.indexCast v1011
  let c224 : Index := 224#32
  ![v1054.toNat, 224]
def k0_off379 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1057 : Index := Scalar.indexCast v1011
  let c240 : Index := 240#32
  ![v1057.toNat, 240]
def k0_off380 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1060 : Index := Scalar.indexCast v1011
  let c256 : Index := 256#32
  ![v1060.toNat, 256]
def k0_off381 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1063 : Index := Scalar.indexCast v1011
  let c272 : Index := 272#32
  ![v1063.toNat, 272]
def k0_off382 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1066 : Index := Scalar.indexCast v1011
  let c288 : Index := 288#32
  ![v1066.toNat, 288]
def k0_off383 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1069 : Index := Scalar.indexCast v1011
  let c304 : Index := 304#32
  ![v1069.toNat, 304]
def k0_off384 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1072 : Index := Scalar.indexCast v1011
  let c320 : Index := 320#32
  ![v1072.toNat, 320]
def k0_off385 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1075 : Index := Scalar.indexCast v1011
  let c336 : Index := 336#32
  ![v1075.toNat, 336]
def k0_off386 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1078 : Index := Scalar.indexCast v1011
  let c352 : Index := 352#32
  ![v1078.toNat, 352]
def k0_off387 (v41 : BitVec 32) (v43 : BitVec 32) (v456 : BitVec 32) (v458 : BitVec 32) (k0_t25 : Fin (k0_t25_loop v41 v43).trips) (k0_t27 : Fin (k0_t27_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t25
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t27
  let v1011 : BitVec 32 := Scalar.addi v1003 arg36
  let v1081 : Index := Scalar.indexCast v1011
  let c368 : Index := 368#32
  ![v1081.toNat, 368]

def k0_chk78_0 (i : grid0.Coords) (v10 : BitVec 32) (v41 : BitVec 32) (v43 : BitVec 32) (v456 : BitVec 32) (v458 : BitVec 32) : Prop :=
  (∀ k0_t22 : Fin (k0_t22_loop v41 v43).trips, ∀ (k0_h1 : k0_cond1 i v10 = 1#1), (k0_t23_loop v456 v458).OK) ∧
  (∀ (k0_t22 : Fin (k0_t22_loop v41 v43).trips) (k0_t23 : Fin (k0_t23_loop v456 v458).trips), ∀ (k0_h1 : k0_cond1 i v10 = 1#1), ∀ a, (k0_off292 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off293 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off294 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off295 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off296 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off297 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off298 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off299 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off300 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off301 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off302 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off303 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off304 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off305 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off306 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off307 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off308 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off309 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off310 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off311 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off312 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off313 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off314 v41 v43 v456 v458 k0_t22 k0_t23) a + S1x16.size a ≤ S196x384.size a) ∧
  (∀ (k0_t22 : Fin (k0_t22_loop v41 v43).trips) (k0_t23 : Fin (k0_t23_loop v456 v458).trips), ∀ (k0_h1 : k0_cond1 i v10 = 1#1), ∀ a, (k0_off315 v41 v43 v456 v458 k0_t22 k0_t23) a + S1x16.size a ≤ S196x384.size a) ∧
  (∀ k0_t22 : Fin (k0_t22_loop v41 v43).trips, ∀ (k0_h1 : k0_cond1 i v10 = 1#1), (k0_t24_loop v456 v458).OK) ∧
  (∀ (k0_t22 : Fin (k0_t22_loop v41 v43).trips) (k0_t24 : Fin (k0_t24_loop v456 v458).trips), ∀ (k0_h1 : k0_cond1 i v10 = 1#1), ∀ a, (k0_off316 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off317 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off318 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off319 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off320 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off321 v41 v43 v456 v458 k0_t22 k0_t24) a + S1x16.size a ≤ S196x384.size a)
def k0_chk78_1 (i : grid0.Coords) (v10 : BitVec 32) (v41 : BitVec 32) (v43 : BitVec 32) (v456 : BitVec 32) (v458 : BitVec 32) : Prop :=
  (∀ (k0_t22 : Fin (k0_t22_loop v41 v43).trips) (k0_t24 : Fin (k0_t24_loop v456 v458).trips), ∀ (k0_h1 : k0_cond1 i v10 = 1#1), ∀ a, (k0_off322 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off323 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off324 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off325 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off326 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off327 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off328 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off329 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off330 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off331 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off332 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off333 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off334 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off335 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off336 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off337 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off338 v41 v43 v456 v458 k0_t22 k0_t24) a + S1x16.size a ≤ S196x384.size a) ∧
  (∀ (k0_t22 : Fin (k0_t22_loop v41 v43).trips) (k0_t24 : Fin (k0_t24_loop v456 v458).trips), ∀ (k0_h1 : k0_cond1 i v10 = 1#1), ∀ a, (k0_off339 v41 v43 v456 v458 k0_t22 k0_t24) a + S1x16.size a ≤ S196x384.size a) ∧
  (∀ k0_t25 : Fin (k0_t25_loop v41 v43).trips, ∀ (k0_h1 : k0_cond1 i v10 = 1#1), (k0_t26_loop v456 v458).OK) ∧
  (∀ (k0_t25 : Fin (k0_t25_loop v41 v43).trips) (k0_t26 : Fin (k0_t26_loop v456 v458).trips), ∀ (k0_h1 : k0_cond1 i v10 = 1#1), ∀ a, (k0_off340 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off341 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off342 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off343 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off344 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off345 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off346 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off347 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off348 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off349 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off350 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off351 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off352 v41 v43 v456 v458 k0_t25 k0_t26) a + S1x16.size a ≤ S196x384.size a)
def k0_chk78_2 (i : grid0.Coords) (v10 : BitVec 32) (v41 : BitVec 32) (v43 : BitVec 32) (v456 : BitVec 32) (v458 : BitVec 32) : Prop :=
  (∀ (k0_t25 : Fin (k0_t25_loop v41 v43).trips) (k0_t26 : Fin (k0_t26_loop v456 v458).trips), ∀ (k0_h1 : k0_cond1 i v10 = 1#1), ∀ a, (k0_off353 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off354 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off355 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off356 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off357 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off358 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off359 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off360 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off361 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off362 v41 v43 v456 v458 k0_t25 k0_t26) a + S1x16.size a ≤ S196x384.size a) ∧
  (∀ (k0_t25 : Fin (k0_t25_loop v41 v43).trips) (k0_t26 : Fin (k0_t26_loop v456 v458).trips), ∀ (k0_h1 : k0_cond1 i v10 = 1#1), ∀ a, (k0_off363 v41 v43 v456 v458 k0_t25 k0_t26) a + S1x16.size a ≤ S196x384.size a) ∧
  (∀ k0_t25 : Fin (k0_t25_loop v41 v43).trips, ∀ (k0_h1 : k0_cond1 i v10 = 1#1), (k0_t27_loop v456 v458).OK) ∧
  (∀ (k0_t25 : Fin (k0_t25_loop v41 v43).trips) (k0_t27 : Fin (k0_t27_loop v456 v458).trips), ∀ (k0_h1 : k0_cond1 i v10 = 1#1), ∀ a, (k0_off364 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off365 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off366 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off367 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off368 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off369 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off370 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off371 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off372 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off373 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off374 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off375 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off376 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off377 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off378 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off379 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off380 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off381 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off382 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off383 v41 v43 v456 v458 k0_t25 k0_t27) a + S1x16.size a ≤ S196x384.size a)
def k0_chk78_3 (i : grid0.Coords) (v10 : BitVec 32) (v41 : BitVec 32) (v43 : BitVec 32) (v456 : BitVec 32) (v458 : BitVec 32) : Prop :=
  (∀ (k0_t25 : Fin (k0_t25_loop v41 v43).trips) (k0_t27 : Fin (k0_t27_loop v456 v458).trips), ∀ (k0_h1 : k0_cond1 i v10 = 1#1), ∀ a, (k0_off384 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off385 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off386 v41 v43 v456 v458 k0_t25 k0_t27) a + S1x16.size a ≤ S196x384.size a) ∧
  (∀ (k0_t25 : Fin (k0_t25_loop v41 v43).trips) (k0_t27 : Fin (k0_t27_loop v456 v458).trips), ∀ (k0_h1 : k0_cond1 i v10 = 1#1), ∀ a, (k0_off387 v41 v43 v456 v458 k0_t25 k0_t27) a + S1x16.size a ≤ S196x384.size a)
def k0_chk78 (i : grid0.Coords) (v10 : BitVec 32) (v41 : BitVec 32) (v43 : BitVec 32) (v456 : BitVec 32) (v458 : BitVec 32) : Prop :=
  k0_chk78_0 i v10 v41 v43 v456 v458 ∧
  k0_chk78_1 i v10 v41 v43 v456 v458 ∧
  k0_chk78_2 i v10 v41 v43 v456 v458 ∧
  k0_chk78_3 i v10 v41 v43 v456 v458
theorem k0_t23_ok : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips), ∀ (k0_h1 : k0_cond1 i v10 = 1#1), (k0_t23_loop v456 v458).OK := fun i v10 v41 v43 v456 v458 k0_hw78 k0_t22 k0_h1 => k0_hw78.1.1 k0_t22 k0_h1
theorem k0_off292_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off292 v41 v43 v456 v458 k0_t22 k0_t23) a + S1x16.size a ≤ S196x384.size a := fun i v10 v41 v43 v456 v458 k0_hw78 k0_t22 k0_t23 k0_h1 => k0_hw78.1.2.1 k0_t22 k0_t23 k0_h1
theorem k0_off293_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off293 v41 v43 v456 v458 k0_t22 k0_t23) a + S1x16.size a ≤ S196x384.size a := fun i v10 v41 v43 v456 v458 k0_hw78 k0_t22 k0_t23 k0_h1 => k0_hw78.1.2.2.1 k0_t22 k0_t23 k0_h1
theorem k0_off294_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off294 v41 v43 v456 v458 k0_t22 k0_t23) a + S1x16.size a ≤ S196x384.size a := fun i v10 v41 v43 v456 v458 k0_hw78 k0_t22 k0_t23 k0_h1 => k0_hw78.1.2.2.2.1 k0_t22 k0_t23 k0_h1
theorem k0_off295_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off295 v41 v43 v456 v458 k0_t22 k0_t23) a + S1x16.size a ≤ S196x384.size a := fun i v10 v41 v43 v456 v458 k0_hw78 k0_t22 k0_t23 k0_h1 => k0_hw78.1.2.2.2.2.1 k0_t22 k0_t23 k0_h1
theorem k0_off296_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off296 v41 v43 v456 v458 k0_t22 k0_t23) a + S1x16.size a ≤ S196x384.size a := fun i v10 v41 v43 v456 v458 k0_hw78 k0_t22 k0_t23 k0_h1 => k0_hw78.1.2.2.2.2.2.1 k0_t22 k0_t23 k0_h1
theorem k0_off297_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off297 v41 v43 v456 v458 k0_t22 k0_t23) a + S1x16.size a ≤ S196x384.size a := fun i v10 v41 v43 v456 v458 k0_hw78 k0_t22 k0_t23 k0_h1 => k0_hw78.1.2.2.2.2.2.2.1 k0_t22 k0_t23 k0_h1
theorem k0_off298_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off298 v41 v43 v456 v458 k0_t22 k0_t23) a + S1x16.size a ≤ S196x384.size a := fun i v10 v41 v43 v456 v458 k0_hw78 k0_t22 k0_t23 k0_h1 => k0_hw78.1.2.2.2.2.2.2.2.1 k0_t22 k0_t23 k0_h1
theorem k0_off299_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off299 v41 v43 v456 v458 k0_t22 k0_t23) a + S1x16.size a ≤ S196x384.size a := fun i v10 v41 v43 v456 v458 k0_hw78 k0_t22 k0_t23 k0_h1 => k0_hw78.1.2.2.2.2.2.2.2.2.1 k0_t22 k0_t23 k0_h1
theorem k0_off300_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off300 v41 v43 v456 v458 k0_t22 k0_t23) a + S1x16.size a ≤ S196x384.size a := fun i v10 v41 v43 v456 v458 k0_hw78 k0_t22 k0_t23 k0_h1 => k0_hw78.1.2.2.2.2.2.2.2.2.2.1 k0_t22 k0_t23 k0_h1
theorem k0_off301_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off301 v41 v43 v456 v458 k0_t22 k0_t23) a + S1x16.size a ≤ S196x384.size a := fun i v10 v41 v43 v456 v458 k0_hw78 k0_t22 k0_t23 k0_h1 => k0_hw78.1.2.2.2.2.2.2.2.2.2.2.1 k0_t22 k0_t23 k0_h1
theorem k0_off302_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off302 v41 v43 v456 v458 k0_t22 k0_t23) a + S1x16.size a ≤ S196x384.size a := fun i v10 v41 v43 v456 v458 k0_hw78 k0_t22 k0_t23 k0_h1 => k0_hw78.1.2.2.2.2.2.2.2.2.2.2.2.1 k0_t22 k0_t23 k0_h1
theorem k0_off303_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off303 v41 v43 v456 v458 k0_t22 k0_t23) a + S1x16.size a ≤ S196x384.size a := fun i v10 v41 v43 v456 v458 k0_hw78 k0_t22 k0_t23 k0_h1 => k0_hw78.1.2.2.2.2.2.2.2.2.2.2.2.2.1 k0_t22 k0_t23 k0_h1
theorem k0_off304_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off304 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.1 k0_t22 k0_t23 k0_h1
theorem k0_off305_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off305 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.1 k0_t22 k0_t23 k0_h1
theorem k0_off306_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off306 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.1 k0_t22 k0_t23 k0_h1
theorem k0_off307_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off307 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.2.1 k0_t22 k0_t23 k0_h1
theorem k0_off308_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off308 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.2.2.1 k0_t22 k0_t23 k0_h1
theorem k0_off309_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off309 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.2.2.2.1 k0_t22 k0_t23 k0_h1
theorem k0_off310_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off310 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.2.2.2.2.1 k0_t22 k0_t23 k0_h1
theorem k0_off311_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off311 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.2.2.2.2.2.1 k0_t22 k0_t23 k0_h1
theorem k0_off312_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off312 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.2.2.2.2.2.2.1 k0_t22 k0_t23 k0_h1
theorem k0_off313_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off313 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.2.2.2.2.2.2.2.1 k0_t22 k0_t23 k0_h1
theorem k0_off314_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off314 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.2.2.2.2.2.2.2.2.1 k0_t22 k0_t23 k0_h1
theorem k0_off315_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t23 : Fin (k0_t23_loop v456 v458).trips), ∀ (k0_h1 : k0_cond1 i v10 = 1#1), ∀ a, (k0_off315 v41 v43 v456 v458 k0_t22 k0_t23) a + S1x16.size a ≤ S196x384.size a := fun i v10 v41 v43 v456 v458 k0_hw78 k0_t22 k0_t23 k0_h1 => k0_hw78.1.2.2.2.2.2.2.2.2.2.2.2.2.2.2.2.2.2.2.2.2.2.2.2.2.1 k0_t22 k0_t23 k0_h1
theorem k0_t24_ok : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips), ∀ (k0_h1 : k0_cond1 i v10 = 1#1), (k0_t24_loop v456 v458).OK := fun i v10 v41 v43 v456 v458 k0_hw78 k0_t22 k0_h1 => k0_hw78.1.2.2.2.2.2.2.2.2.2.2.2.2.2.2.2.2.2.2.2.2.2.2.2.2.2.1 k0_t22 k0_h1
theorem k0_off316_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off316 v41 v43 v456 v458 k0_t22 k0_t24) a + S1x16.size a ≤ S196x384.size a := fun i v10 v41 v43 v456 v458 k0_hw78 k0_t22 k0_t24 k0_h1 => k0_hw78.1.2.2.2.2.2.2.2.2.2.2.2.2.2.2.2.2.2.2.2.2.2.2.2.2.2.2.1 k0_t22 k0_t24 k0_h1
theorem k0_off317_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off317 v41 v43 v456 v458 k0_t22 k0_t24) a + S1x16.size a ≤ S196x384.size a := fun i v10 v41 v43 v456 v458 k0_hw78 k0_t22 k0_t24 k0_h1 => k0_hw78.1.2.2.2.2.2.2.2.2.2.2.2.2.2.2.2.2.2.2.2.2.2.2.2.2.2.2.2.1 k0_t22 k0_t24 k0_h1
theorem k0_off318_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off318 v41 v43 v456 v458 k0_t22 k0_t24) a + S1x16.size a ≤ S196x384.size a := fun i v10 v41 v43 v456 v458 k0_hw78 k0_t22 k0_t24 k0_h1 => k0_hw78.1.2.2.2.2.2.2.2.2.2.2.2.2.2.2.2.2.2.2.2.2.2.2.2.2.2.2.2.2.1 k0_t22 k0_t24 k0_h1
theorem k0_off319_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off319 v41 v43 v456 v458 k0_t22 k0_t24) a + S1x16.size a ≤ S196x384.size a := fun i v10 v41 v43 v456 v458 k0_hw78 k0_t22 k0_t24 k0_h1 => k0_hw78.1.2.2.2.2.2.2.2.2.2.2.2.2.2.2.2.2.2.2.2.2.2.2.2.2.2.2.2.2.2.1 k0_t22 k0_t24 k0_h1
theorem k0_off320_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off320 v41 v43 v456 v458 k0_t22 k0_t24) a + S1x16.size a ≤ S196x384.size a := fun i v10 v41 v43 v456 v458 k0_hw78 k0_t22 k0_t24 k0_h1 => k0_hw78.1.2.2.2.2.2.2.2.2.2.2.2.2.2.2.2.2.2.2.2.2.2.2.2.2.2.2.2.2.2.2.1 k0_t22 k0_t24 k0_h1
theorem k0_off321_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off321 v41 v43 v456 v458 k0_t22 k0_t24) a + S1x16.size a ≤ S196x384.size a := fun i v10 v41 v43 v456 v458 k0_hw78 k0_t22 k0_t24 k0_h1 => k0_hw78.1.2.2.2.2.2.2.2.2.2.2.2.2.2.2.2.2.2.2.2.2.2.2.2.2.2.2.2.2.2.2.2 k0_t22 k0_t24 k0_h1
theorem k0_off322_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off322 v41 v43 v456 v458 k0_t22 k0_t24) a + S1x16.size a ≤ S196x384.size a := fun i v10 v41 v43 v456 v458 k0_hw78 k0_t22 k0_t24 k0_h1 => k0_hw78.2.1.1 k0_t22 k0_t24 k0_h1
theorem k0_off323_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off323 v41 v43 v456 v458 k0_t22 k0_t24) a + S1x16.size a ≤ S196x384.size a := fun i v10 v41 v43 v456 v458 k0_hw78 k0_t22 k0_t24 k0_h1 => k0_hw78.2.1.2.1 k0_t22 k0_t24 k0_h1
theorem k0_off324_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off324 v41 v43 v456 v458 k0_t22 k0_t24) a + S1x16.size a ≤ S196x384.size a := fun i v10 v41 v43 v456 v458 k0_hw78 k0_t22 k0_t24 k0_h1 => k0_hw78.2.1.2.2.1 k0_t22 k0_t24 k0_h1
theorem k0_off325_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off325 v41 v43 v456 v458 k0_t22 k0_t24) a + S1x16.size a ≤ S196x384.size a := fun i v10 v41 v43 v456 v458 k0_hw78 k0_t22 k0_t24 k0_h1 => k0_hw78.2.1.2.2.2.1 k0_t22 k0_t24 k0_h1
theorem k0_off326_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off326 v41 v43 v456 v458 k0_t22 k0_t24) a + S1x16.size a ≤ S196x384.size a := fun i v10 v41 v43 v456 v458 k0_hw78 k0_t22 k0_t24 k0_h1 => k0_hw78.2.1.2.2.2.2.1 k0_t22 k0_t24 k0_h1
theorem k0_off327_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off327 v41 v43 v456 v458 k0_t22 k0_t24) a + S1x16.size a ≤ S196x384.size a := fun i v10 v41 v43 v456 v458 k0_hw78 k0_t22 k0_t24 k0_h1 => k0_hw78.2.1.2.2.2.2.2.1 k0_t22 k0_t24 k0_h1
theorem k0_off328_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off328 v41 v43 v456 v458 k0_t22 k0_t24) a + S1x16.size a ≤ S196x384.size a := fun i v10 v41 v43 v456 v458 k0_hw78 k0_t22 k0_t24 k0_h1 => k0_hw78.2.1.2.2.2.2.2.2.1 k0_t22 k0_t24 k0_h1
theorem k0_off329_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off329 v41 v43 v456 v458 k0_t22 k0_t24) a + S1x16.size a ≤ S196x384.size a := fun i v10 v41 v43 v456 v458 k0_hw78 k0_t22 k0_t24 k0_h1 => k0_hw78.2.1.2.2.2.2.2.2.2.1 k0_t22 k0_t24 k0_h1
theorem k0_off330_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off330 v41 v43 v456 v458 k0_t22 k0_t24) a + S1x16.size a ≤ S196x384.size a := fun i v10 v41 v43 v456 v458 k0_hw78 k0_t22 k0_t24 k0_h1 => k0_hw78.2.1.2.2.2.2.2.2.2.2.1 k0_t22 k0_t24 k0_h1
theorem k0_off331_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off331 v41 v43 v456 v458 k0_t22 k0_t24) a + S1x16.size a ≤ S196x384.size a := fun i v10 v41 v43 v456 v458 k0_hw78 k0_t22 k0_t24 k0_h1 => k0_hw78.2.1.2.2.2.2.2.2.2.2.2.1 k0_t22 k0_t24 k0_h1
theorem k0_off332_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off332 v41 v43 v456 v458 k0_t22 k0_t24) a + S1x16.size a ≤ S196x384.size a := fun i v10 v41 v43 v456 v458 k0_hw78 k0_t22 k0_t24 k0_h1 => k0_hw78.2.1.2.2.2.2.2.2.2.2.2.2.1 k0_t22 k0_t24 k0_h1
theorem k0_off333_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off333 v41 v43 v456 v458 k0_t22 k0_t24) a + S1x16.size a ≤ S196x384.size a := fun i v10 v41 v43 v456 v458 k0_hw78 k0_t22 k0_t24 k0_h1 => k0_hw78.2.1.2.2.2.2.2.2.2.2.2.2.2.1 k0_t22 k0_t24 k0_h1
theorem k0_off334_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off334 v41 v43 v456 v458 k0_t22 k0_t24) a + S1x16.size a ≤ S196x384.size a := fun i v10 v41 v43 v456 v458 k0_hw78 k0_t22 k0_t24 k0_h1 => k0_hw78.2.1.2.2.2.2.2.2.2.2.2.2.2.2.1 k0_t22 k0_t24 k0_h1
theorem k0_off335_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off335 v41 v43 v456 v458 k0_t22 k0_t24) a + S1x16.size a ≤ S196x384.size a := fun i v10 v41 v43 v456 v458 k0_hw78 k0_t22 k0_t24 k0_h1 => k0_hw78.2.1.2.2.2.2.2.2.2.2.2.2.2.2.2.1 k0_t22 k0_t24 k0_h1
theorem k0_off336_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off336 v41 v43 v456 v458 k0_t22 k0_t24) a + S1x16.size a ≤ S196x384.size a := fun i v10 v41 v43 v456 v458 k0_hw78 k0_t22 k0_t24 k0_h1 => k0_hw78.2.1.2.2.2.2.2.2.2.2.2.2.2.2.2.2.1 k0_t22 k0_t24 k0_h1
theorem k0_off337_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off337 v41 v43 v456 v458 k0_t22 k0_t24) a + S1x16.size a ≤ S196x384.size a := fun i v10 v41 v43 v456 v458 k0_hw78 k0_t22 k0_t24 k0_h1 => k0_hw78.2.1.2.2.2.2.2.2.2.2.2.2.2.2.2.2.2.1 k0_t22 k0_t24 k0_h1
theorem k0_off338_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off338 v41 v43 v456 v458 k0_t22 k0_t24) a + S1x16.size a ≤ S196x384.size a := fun i v10 v41 v43 v456 v458 k0_hw78 k0_t22 k0_t24 k0_h1 => k0_hw78.2.1.2.2.2.2.2.2.2.2.2.2.2.2.2.2.2.2.1 k0_t22 k0_t24 k0_h1
theorem k0_off339_inb : ∀ (i : grid0.Coords) (v10 : BitVec 32) (v41 : BitVec 32) (v43 : BitVec 32) (v456 : BitVec 32) (v458 : BitVec 32) (k0_hw78 : k0_chk78 i v10 v41 v43 v456 v458) (k0_t22 : Fin (k0_t22_loop v41 v43).trips) (k0_t24 : Fin (k0_t24_loop v456 v458).trips), ∀ (k0_h1 : k0_cond1 i v10 = 1#1), ∀ a, (k0_off339 v41 v43 v456 v458 k0_t22 k0_t24) a + S1x16.size a ≤ S196x384.size a := fun i v10 v41 v43 v456 v458 k0_hw78 k0_t22 k0_t24 k0_h1 => k0_hw78.2.1.2.2.2.2.2.2.2.2.2.2.2.2.2.2.2.2.2.1 k0_t22 k0_t24 k0_h1
theorem k0_t26_ok : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips), ∀ (k0_h1 : k0_cond1 i v10 = 1#1), (k0_t26_loop v456 v458).OK := fun i v10 v41 v43 v456 v458 k0_hw78 k0_t25 k0_h1 => k0_hw78.2.1.2.2.2.2.2.2.2.2.2.2.2.2.2.2.2.2.2.2.1 k0_t25 k0_h1
theorem k0_off340_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off340 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.1 k0_t25 k0_t26 k0_h1
theorem k0_off341_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off341 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.1 k0_t25 k0_t26 k0_h1
theorem k0_off342_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off342 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.1 k0_t25 k0_t26 k0_h1
theorem k0_off343_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off343 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.1 k0_t25 k0_t26 k0_h1
theorem k0_off344_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off344 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.2.1 k0_t25 k0_t26 k0_h1
theorem k0_off345_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off345 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.2.2.1 k0_t25 k0_t26 k0_h1
theorem k0_off346_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off346 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.2.2.2.1 k0_t25 k0_t26 k0_h1
theorem k0_off347_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off347 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.2.2.2.2.1 k0_t25 k0_t26 k0_h1
theorem k0_off348_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off348 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.2.2.2.2.2.1 k0_t25 k0_t26 k0_h1
theorem k0_off349_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off349 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.2.2.2.2.2.2.1 k0_t25 k0_t26 k0_h1
theorem k0_off350_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off350 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.2.2.2.2.2.2.2.1 k0_t25 k0_t26 k0_h1
theorem k0_off351_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off351 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.2.2.2.2.2.2.2.2.1 k0_t25 k0_t26 k0_h1
theorem k0_off352_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off352 v41 v43 v456 v458 k0_t25 k0_t26) a + S1x16.size a ≤ S196x384.size a := fun i v10 v41 v43 v456 v458 k0_hw78 k0_t25 k0_t26 k0_h1 => k0_hw78.2.1.2.2.2.2.2.2.2.2.2.2.2.2.2.2.2.2.2.2.2.2.2.2.2.2.2.2.2.2.2.2.2 k0_t25 k0_t26 k0_h1
theorem k0_off353_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off353 v41 v43 v456 v458 k0_t25 k0_t26) a + S1x16.size a ≤ S196x384.size a := fun i v10 v41 v43 v456 v458 k0_hw78 k0_t25 k0_t26 k0_h1 => k0_hw78.2.2.1.1 k0_t25 k0_t26 k0_h1
theorem k0_off354_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off354 v41 v43 v456 v458 k0_t25 k0_t26) a + S1x16.size a ≤ S196x384.size a := fun i v10 v41 v43 v456 v458 k0_hw78 k0_t25 k0_t26 k0_h1 => k0_hw78.2.2.1.2.1 k0_t25 k0_t26 k0_h1
theorem k0_off355_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off355 v41 v43 v456 v458 k0_t25 k0_t26) a + S1x16.size a ≤ S196x384.size a := fun i v10 v41 v43 v456 v458 k0_hw78 k0_t25 k0_t26 k0_h1 => k0_hw78.2.2.1.2.2.1 k0_t25 k0_t26 k0_h1
theorem k0_off356_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off356 v41 v43 v456 v458 k0_t25 k0_t26) a + S1x16.size a ≤ S196x384.size a := fun i v10 v41 v43 v456 v458 k0_hw78 k0_t25 k0_t26 k0_h1 => k0_hw78.2.2.1.2.2.2.1 k0_t25 k0_t26 k0_h1
theorem k0_off357_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off357 v41 v43 v456 v458 k0_t25 k0_t26) a + S1x16.size a ≤ S196x384.size a := fun i v10 v41 v43 v456 v458 k0_hw78 k0_t25 k0_t26 k0_h1 => k0_hw78.2.2.1.2.2.2.2.1 k0_t25 k0_t26 k0_h1
theorem k0_off358_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off358 v41 v43 v456 v458 k0_t25 k0_t26) a + S1x16.size a ≤ S196x384.size a := fun i v10 v41 v43 v456 v458 k0_hw78 k0_t25 k0_t26 k0_h1 => k0_hw78.2.2.1.2.2.2.2.2.1 k0_t25 k0_t26 k0_h1
theorem k0_off359_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off359 v41 v43 v456 v458 k0_t25 k0_t26) a + S1x16.size a ≤ S196x384.size a := fun i v10 v41 v43 v456 v458 k0_hw78 k0_t25 k0_t26 k0_h1 => k0_hw78.2.2.1.2.2.2.2.2.2.1 k0_t25 k0_t26 k0_h1
theorem k0_off360_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off360 v41 v43 v456 v458 k0_t25 k0_t26) a + S1x16.size a ≤ S196x384.size a := fun i v10 v41 v43 v456 v458 k0_hw78 k0_t25 k0_t26 k0_h1 => k0_hw78.2.2.1.2.2.2.2.2.2.2.1 k0_t25 k0_t26 k0_h1
theorem k0_off361_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off361 v41 v43 v456 v458 k0_t25 k0_t26) a + S1x16.size a ≤ S196x384.size a := fun i v10 v41 v43 v456 v458 k0_hw78 k0_t25 k0_t26 k0_h1 => k0_hw78.2.2.1.2.2.2.2.2.2.2.2.1 k0_t25 k0_t26 k0_h1
theorem k0_off362_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off362 v41 v43 v456 v458 k0_t25 k0_t26) a + S1x16.size a ≤ S196x384.size a := fun i v10 v41 v43 v456 v458 k0_hw78 k0_t25 k0_t26 k0_h1 => k0_hw78.2.2.1.2.2.2.2.2.2.2.2.2.1 k0_t25 k0_t26 k0_h1
theorem k0_off363_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t26 : Fin (k0_t26_loop v456 v458).trips), ∀ (k0_h1 : k0_cond1 i v10 = 1#1), ∀ a, (k0_off363 v41 v43 v456 v458 k0_t25 k0_t26) a + S1x16.size a ≤ S196x384.size a := fun i v10 v41 v43 v456 v458 k0_hw78 k0_t25 k0_t26 k0_h1 => k0_hw78.2.2.1.2.2.2.2.2.2.2.2.2.2.1 k0_t25 k0_t26 k0_h1
theorem k0_t27_ok : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips), ∀ (k0_h1 : k0_cond1 i v10 = 1#1), (k0_t27_loop v456 v458).OK := fun i v10 v41 v43 v456 v458 k0_hw78 k0_t25 k0_h1 => k0_hw78.2.2.1.2.2.2.2.2.2.2.2.2.2.2.1 k0_t25 k0_h1
theorem k0_off364_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off364 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.1 k0_t25 k0_t27 k0_h1
theorem k0_off365_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off365 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.1 k0_t25 k0_t27 k0_h1
theorem k0_off366_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off366 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.1 k0_t25 k0_t27 k0_h1
theorem k0_off367_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off367 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.1 k0_t25 k0_t27 k0_h1
theorem k0_off368_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off368 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.1 k0_t25 k0_t27 k0_h1
theorem k0_off369_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off369 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.1 k0_t25 k0_t27 k0_h1
theorem k0_off370_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off370 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.1 k0_t25 k0_t27 k0_h1
theorem k0_off371_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off371 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.1 k0_t25 k0_t27 k0_h1
theorem k0_off372_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off372 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.1 k0_t25 k0_t27 k0_h1
theorem k0_off373_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off373 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.1 k0_t25 k0_t27 k0_h1
theorem k0_off374_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off374 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.1 k0_t25 k0_t27 k0_h1
theorem k0_off375_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off375 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.2.1 k0_t25 k0_t27 k0_h1
theorem k0_off376_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off376 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.2.2.1 k0_t25 k0_t27 k0_h1
theorem k0_off377_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off377 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.2.2.2.1 k0_t25 k0_t27 k0_h1
theorem k0_off378_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off378 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.2.2.2.2.1 k0_t25 k0_t27 k0_h1
theorem k0_off379_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off379 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.2.2.2.2.2.1 k0_t25 k0_t27 k0_h1
theorem k0_off380_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off380 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.2.2.2.2.2.2.1 k0_t25 k0_t27 k0_h1
theorem k0_off381_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off381 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.2.2.2.2.2.2.2.1 k0_t25 k0_t27 k0_h1
theorem k0_off382_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off382 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.2.2.2.2.2.2.2.2.1 k0_t25 k0_t27 k0_h1
theorem k0_off383_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off383 v41 v43 v456 v458 k0_t25 k0_t27) a + S1x16.size a ≤ S196x384.size a := fun i v10 v41 v43 v456 v458 k0_hw78 k0_t25 k0_t27 k0_h1 => k0_hw78.2.2.1.2.2.2.2.2.2.2.2.2.2.2.2.2.2.2.2.2.2.2.2.2.2.2.2.2.2.2.2.2.2.2 k0_t25 k0_t27 k0_h1
theorem k0_off384_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off384 v41 v43 v456 v458 k0_t25 k0_t27) a + S1x16.size a ≤ S196x384.size a := fun i v10 v41 v43 v456 v458 k0_hw78 k0_t25 k0_t27 k0_h1 => k0_hw78.2.2.2.1 k0_t25 k0_t27 k0_h1
theorem k0_off385_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off385 v41 v43 v456 v458 k0_t25 k0_t27) a + S1x16.size a ≤ S196x384.size a := fun i v10 v41 v43 v456 v458 k0_hw78 k0_t25 k0_t27 k0_h1 => k0_hw78.2.2.2.2.1 k0_t25 k0_t27 k0_h1
theorem k0_off386_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off386 v41 v43 v456 v458 k0_t25 k0_t27) a + S1x16.size a ≤ S196x384.size a := fun i v10 v41 v43 v456 v458 k0_hw78 k0_t25 k0_t27 k0_h1 => k0_hw78.2.2.2.2.2.1 k0_t25 k0_t27 k0_h1
theorem k0_off387_inb : ∀ (i : grid0.Coords) (v10 : BitVec 32) (v41 : BitVec 32) (v43 : BitVec 32) (v456 : BitVec 32) (v458 : BitVec 32) (k0_hw78 : k0_chk78 i v10 v41 v43 v456 v458) (k0_t25 : Fin (k0_t25_loop v41 v43).trips) (k0_t27 : Fin (k0_t27_loop v456 v458).trips), ∀ (k0_h1 : k0_cond1 i v10 = 1#1), ∀ a, (k0_off387 v41 v43 v456 v458 k0_t25 k0_t27) a + S1x16.size a ≤ S196x384.size a := fun i v10 v41 v43 v456 v458 k0_hw78 k0_t25 k0_t27 k0_h1 => k0_hw78.2.2.2.2.2.2 k0_t25 k0_t27 k0_h1

def k0_chk79 (i : grid0.Coords) (v10 : BitVec 32) (v476 : IVec S16 32) : Prop :=
  (∀ (k0_h1 : k0_cond1 i v10 = 1#1), ∀ a x, ((![v476] : Fin 1 → IVec S16 32) a x).toNat < S18816.size a)
theorem k0_idx73_inb : ∀ (i : grid0.Coords) (v10 : BitVec 32) (v476 : IVec S16 32) (k0_hw79 : k0_chk79 i v10 v476), ∀ (k0_h1 : k0_cond1 i v10 = 1#1), ∀ a x, ((![v476] : Fin 1 → IVec S16 32) a x).toNat < S18816.size a := fun i v10 v476 k0_hw79 k0_h1 => k0_hw79 k0_h1

def k0_chk80 (i : grid0.Coords) (v10 : BitVec 32) (v481 : IVec S16 32) : Prop :=
  (∀ (k0_h1 : k0_cond1 i v10 = 1#1), ∀ a x, ((![v481] : Fin 1 → IVec S16 32) a x).toNat < S18816.size a)
theorem k0_idx74_inb : ∀ (i : grid0.Coords) (v10 : BitVec 32) (v481 : IVec S16 32) (k0_hw80 : k0_chk80 i v10 v481), ∀ (k0_h1 : k0_cond1 i v10 = 1#1), ∀ a x, ((![v481] : Fin 1 → IVec S16 32) a x).toNat < S18816.size a := fun i v10 v481 k0_hw80 k0_h1 => k0_hw80 k0_h1

def k0_chk81 (i : grid0.Coords) (v10 : BitVec 32) (v486 : IVec S16 32) : Prop :=
  (∀ (k0_h1 : k0_cond1 i v10 = 1#1), ∀ a x, ((![v486] : Fin 1 → IVec S16 32) a x).toNat < S18816.size a)
theorem k0_idx75_inb : ∀ (i : grid0.Coords) (v10 : BitVec 32) (v486 : IVec S16 32) (k0_hw81 : k0_chk81 i v10 v486), ∀ (k0_h1 : k0_cond1 i v10 = 1#1), ∀ a x, ((![v486] : Fin 1 → IVec S16 32) a x).toNat < S18816.size a := fun i v10 v486 k0_hw81 k0_h1 => k0_hw81 k0_h1

def k0_chk82 (i : grid0.Coords) (v10 : BitVec 32) (v491 : IVec S16 32) : Prop :=
  (∀ (k0_h1 : k0_cond1 i v10 = 1#1), ∀ a x, ((![v491] : Fin 1 → IVec S16 32) a x).toNat < S18816.size a)
theorem k0_idx76_inb : ∀ (i : grid0.Coords) (v10 : BitVec 32) (v491 : IVec S16 32) (k0_hw82 : k0_chk82 i v10 v491), ∀ (k0_h1 : k0_cond1 i v10 = 1#1), ∀ a x, ((![v491] : Fin 1 → IVec S16 32) a x).toNat < S18816.size a := fun i v10 v491 k0_hw82 k0_h1 => k0_hw82 k0_h1

def k0_chk83 (i : grid0.Coords) (v10 : BitVec 32) (v496 : IVec S16 32) : Prop :=
  (∀ (k0_h1 : k0_cond1 i v10 = 1#1), ∀ a x, ((![v496] : Fin 1 → IVec S16 32) a x).toNat < S18816.size a)
theorem k0_idx77_inb : ∀ (i : grid0.Coords) (v10 : BitVec 32) (v496 : IVec S16 32) (k0_hw83 : k0_chk83 i v10 v496), ∀ (k0_h1 : k0_cond1 i v10 = 1#1), ∀ a x, ((![v496] : Fin 1 → IVec S16 32) a x).toNat < S18816.size a := fun i v10 v496 k0_hw83 k0_h1 => k0_hw83 k0_h1

def k0_chk84 (i : grid0.Coords) (v10 : BitVec 32) (v501 : IVec S16 32) : Prop :=
  (∀ (k0_h1 : k0_cond1 i v10 = 1#1), ∀ a x, ((![v501] : Fin 1 → IVec S16 32) a x).toNat < S18816.size a)
theorem k0_idx78_inb : ∀ (i : grid0.Coords) (v10 : BitVec 32) (v501 : IVec S16 32) (k0_hw84 : k0_chk84 i v10 v501), ∀ (k0_h1 : k0_cond1 i v10 = 1#1), ∀ a x, ((![v501] : Fin 1 → IVec S16 32) a x).toNat < S18816.size a := fun i v10 v501 k0_hw84 k0_h1 => k0_hw84 k0_h1

def k0_chk85 (i : grid0.Coords) (v10 : BitVec 32) (v506 : IVec S16 32) : Prop :=
  (∀ (k0_h1 : k0_cond1 i v10 = 1#1), ∀ a x, ((![v506] : Fin 1 → IVec S16 32) a x).toNat < S18816.size a)
theorem k0_idx79_inb : ∀ (i : grid0.Coords) (v10 : BitVec 32) (v506 : IVec S16 32) (k0_hw85 : k0_chk85 i v10 v506), ∀ (k0_h1 : k0_cond1 i v10 = 1#1), ∀ a x, ((![v506] : Fin 1 → IVec S16 32) a x).toNat < S18816.size a := fun i v10 v506 k0_hw85 k0_h1 => k0_hw85 k0_h1

def k0_chk86 (i : grid0.Coords) (v10 : BitVec 32) (v511 : IVec S16 32) : Prop :=
  (∀ (k0_h1 : k0_cond1 i v10 = 1#1), ∀ a x, ((![v511] : Fin 1 → IVec S16 32) a x).toNat < S18816.size a)
theorem k0_idx80_inb : ∀ (i : grid0.Coords) (v10 : BitVec 32) (v511 : IVec S16 32) (k0_hw86 : k0_chk86 i v10 v511), ∀ (k0_h1 : k0_cond1 i v10 = 1#1), ∀ a x, ((![v511] : Fin 1 → IVec S16 32) a x).toNat < S18816.size a := fun i v10 v511 k0_hw86 k0_h1 => k0_hw86 k0_h1

def k0_chk87 (i : grid0.Coords) (v10 : BitVec 32) (v516 : IVec S16 32) : Prop :=
  (∀ (k0_h1 : k0_cond1 i v10 = 1#1), ∀ a x, ((![v516] : Fin 1 → IVec S16 32) a x).toNat < S18816.size a)
theorem k0_idx81_inb : ∀ (i : grid0.Coords) (v10 : BitVec 32) (v516 : IVec S16 32) (k0_hw87 : k0_chk87 i v10 v516), ∀ (k0_h1 : k0_cond1 i v10 = 1#1), ∀ a x, ((![v516] : Fin 1 → IVec S16 32) a x).toNat < S18816.size a := fun i v10 v516 k0_hw87 k0_h1 => k0_hw87 k0_h1

def k0_chk88 (i : grid0.Coords) (v10 : BitVec 32) (v521 : IVec S16 32) : Prop :=
  (∀ (k0_h1 : k0_cond1 i v10 = 1#1), ∀ a x, ((![v521] : Fin 1 → IVec S16 32) a x).toNat < S18816.size a)
theorem k0_idx82_inb : ∀ (i : grid0.Coords) (v10 : BitVec 32) (v521 : IVec S16 32) (k0_hw88 : k0_chk88 i v10 v521), ∀ (k0_h1 : k0_cond1 i v10 = 1#1), ∀ a x, ((![v521] : Fin 1 → IVec S16 32) a x).toNat < S18816.size a := fun i v10 v521 k0_hw88 k0_h1 => k0_hw88 k0_h1

def k0_chk89 (i : grid0.Coords) (v10 : BitVec 32) (v526 : IVec S16 32) : Prop :=
  (∀ (k0_h1 : k0_cond1 i v10 = 1#1), ∀ a x, ((![v526] : Fin 1 → IVec S16 32) a x).toNat < S18816.size a)
theorem k0_idx83_inb : ∀ (i : grid0.Coords) (v10 : BitVec 32) (v526 : IVec S16 32) (k0_hw89 : k0_chk89 i v10 v526), ∀ (k0_h1 : k0_cond1 i v10 = 1#1), ∀ a x, ((![v526] : Fin 1 → IVec S16 32) a x).toNat < S18816.size a := fun i v10 v526 k0_hw89 k0_h1 => k0_hw89 k0_h1

def k0_chk90 (i : grid0.Coords) (v10 : BitVec 32) (v531 : IVec S16 32) : Prop :=
  (∀ (k0_h1 : k0_cond1 i v10 = 1#1), ∀ a x, ((![v531] : Fin 1 → IVec S16 32) a x).toNat < S18816.size a)
theorem k0_idx84_inb : ∀ (i : grid0.Coords) (v10 : BitVec 32) (v531 : IVec S16 32) (k0_hw90 : k0_chk90 i v10 v531), ∀ (k0_h1 : k0_cond1 i v10 = 1#1), ∀ a x, ((![v531] : Fin 1 → IVec S16 32) a x).toNat < S18816.size a := fun i v10 v531 k0_hw90 k0_h1 => k0_hw90 k0_h1

def k0_chk91 (i : grid0.Coords) (v10 : BitVec 32) (v536 : IVec S16 32) : Prop :=
  (∀ (k0_h1 : k0_cond1 i v10 = 1#1), ∀ a x, ((![v536] : Fin 1 → IVec S16 32) a x).toNat < S18816.size a)
theorem k0_idx85_inb : ∀ (i : grid0.Coords) (v10 : BitVec 32) (v536 : IVec S16 32) (k0_hw91 : k0_chk91 i v10 v536), ∀ (k0_h1 : k0_cond1 i v10 = 1#1), ∀ a x, ((![v536] : Fin 1 → IVec S16 32) a x).toNat < S18816.size a := fun i v10 v536 k0_hw91 k0_h1 => k0_hw91 k0_h1

def k0_chk92 (i : grid0.Coords) (v10 : BitVec 32) (v541 : IVec S16 32) : Prop :=
  (∀ (k0_h1 : k0_cond1 i v10 = 1#1), ∀ a x, ((![v541] : Fin 1 → IVec S16 32) a x).toNat < S18816.size a)
theorem k0_idx86_inb : ∀ (i : grid0.Coords) (v10 : BitVec 32) (v541 : IVec S16 32) (k0_hw92 : k0_chk92 i v10 v541), ∀ (k0_h1 : k0_cond1 i v10 = 1#1), ∀ a x, ((![v541] : Fin 1 → IVec S16 32) a x).toNat < S18816.size a := fun i v10 v541 k0_hw92 k0_h1 => k0_hw92 k0_h1

def k0_chk93 (i : grid0.Coords) (v10 : BitVec 32) (v546 : IVec S16 32) : Prop :=
  (∀ (k0_h1 : k0_cond1 i v10 = 1#1), ∀ a x, ((![v546] : Fin 1 → IVec S16 32) a x).toNat < S18816.size a)
theorem k0_idx87_inb : ∀ (i : grid0.Coords) (v10 : BitVec 32) (v546 : IVec S16 32) (k0_hw93 : k0_chk93 i v10 v546), ∀ (k0_h1 : k0_cond1 i v10 = 1#1), ∀ a x, ((![v546] : Fin 1 → IVec S16 32) a x).toNat < S18816.size a := fun i v10 v546 k0_hw93 k0_h1 => k0_hw93 k0_h1

def k0_chk94 (i : grid0.Coords) (v10 : BitVec 32) (v551 : IVec S16 32) : Prop :=
  (∀ (k0_h1 : k0_cond1 i v10 = 1#1), ∀ a x, ((![v551] : Fin 1 → IVec S16 32) a x).toNat < S18816.size a)
theorem k0_idx88_inb : ∀ (i : grid0.Coords) (v10 : BitVec 32) (v551 : IVec S16 32) (k0_hw94 : k0_chk94 i v10 v551), ∀ (k0_h1 : k0_cond1 i v10 = 1#1), ∀ a x, ((![v551] : Fin 1 → IVec S16 32) a x).toNat < S18816.size a := fun i v10 v551 k0_hw94 k0_h1 => k0_hw94 k0_h1

def k0_chk95 (i : grid0.Coords) (v10 : BitVec 32) (v556 : IVec S16 32) : Prop :=
  (∀ (k0_h1 : k0_cond1 i v10 = 1#1), ∀ a x, ((![v556] : Fin 1 → IVec S16 32) a x).toNat < S18816.size a)
theorem k0_idx89_inb : ∀ (i : grid0.Coords) (v10 : BitVec 32) (v556 : IVec S16 32) (k0_hw95 : k0_chk95 i v10 v556), ∀ (k0_h1 : k0_cond1 i v10 = 1#1), ∀ a x, ((![v556] : Fin 1 → IVec S16 32) a x).toNat < S18816.size a := fun i v10 v556 k0_hw95 k0_h1 => k0_hw95 k0_h1

def k0_chk96 (i : grid0.Coords) (v10 : BitVec 32) (v561 : IVec S16 32) : Prop :=
  (∀ (k0_h1 : k0_cond1 i v10 = 1#1), ∀ a x, ((![v561] : Fin 1 → IVec S16 32) a x).toNat < S18816.size a)
theorem k0_idx90_inb : ∀ (i : grid0.Coords) (v10 : BitVec 32) (v561 : IVec S16 32) (k0_hw96 : k0_chk96 i v10 v561), ∀ (k0_h1 : k0_cond1 i v10 = 1#1), ∀ a x, ((![v561] : Fin 1 → IVec S16 32) a x).toNat < S18816.size a := fun i v10 v561 k0_hw96 k0_h1 => k0_hw96 k0_h1

def k0_chk97 (i : grid0.Coords) (v10 : BitVec 32) (v566 : IVec S16 32) : Prop :=
  (∀ (k0_h1 : k0_cond1 i v10 = 1#1), ∀ a x, ((![v566] : Fin 1 → IVec S16 32) a x).toNat < S18816.size a)
theorem k0_idx91_inb : ∀ (i : grid0.Coords) (v10 : BitVec 32) (v566 : IVec S16 32) (k0_hw97 : k0_chk97 i v10 v566), ∀ (k0_h1 : k0_cond1 i v10 = 1#1), ∀ a x, ((![v566] : Fin 1 → IVec S16 32) a x).toNat < S18816.size a := fun i v10 v566 k0_hw97 k0_h1 => k0_hw97 k0_h1

def k0_chk98 (i : grid0.Coords) (v10 : BitVec 32) (v571 : IVec S16 32) : Prop :=
  (∀ (k0_h1 : k0_cond1 i v10 = 1#1), ∀ a x, ((![v571] : Fin 1 → IVec S16 32) a x).toNat < S18816.size a)
theorem k0_idx92_inb : ∀ (i : grid0.Coords) (v10 : BitVec 32) (v571 : IVec S16 32) (k0_hw98 : k0_chk98 i v10 v571), ∀ (k0_h1 : k0_cond1 i v10 = 1#1), ∀ a x, ((![v571] : Fin 1 → IVec S16 32) a x).toNat < S18816.size a := fun i v10 v571 k0_hw98 k0_h1 => k0_hw98 k0_h1

def k0_chk99 (i : grid0.Coords) (v10 : BitVec 32) (v576 : IVec S16 32) : Prop :=
  (∀ (k0_h1 : k0_cond1 i v10 = 1#1), ∀ a x, ((![v576] : Fin 1 → IVec S16 32) a x).toNat < S18816.size a)
theorem k0_idx93_inb : ∀ (i : grid0.Coords) (v10 : BitVec 32) (v576 : IVec S16 32) (k0_hw99 : k0_chk99 i v10 v576), ∀ (k0_h1 : k0_cond1 i v10 = 1#1), ∀ a x, ((![v576] : Fin 1 → IVec S16 32) a x).toNat < S18816.size a := fun i v10 v576 k0_hw99 k0_h1 => k0_hw99 k0_h1

def k0_chk100 (i : grid0.Coords) (v10 : BitVec 32) (v581 : IVec S16 32) : Prop :=
  (∀ (k0_h1 : k0_cond1 i v10 = 1#1), ∀ a x, ((![v581] : Fin 1 → IVec S16 32) a x).toNat < S18816.size a)
theorem k0_idx94_inb : ∀ (i : grid0.Coords) (v10 : BitVec 32) (v581 : IVec S16 32) (k0_hw100 : k0_chk100 i v10 v581), ∀ (k0_h1 : k0_cond1 i v10 = 1#1), ∀ a x, ((![v581] : Fin 1 → IVec S16 32) a x).toNat < S18816.size a := fun i v10 v581 k0_hw100 k0_h1 => k0_hw100 k0_h1

def k0_chk101 (i : grid0.Coords) (v10 : BitVec 32) (v586 : IVec S16 32) : Prop :=
  (∀ (k0_h1 : k0_cond1 i v10 = 1#1), ∀ a x, ((![v586] : Fin 1 → IVec S16 32) a x).toNat < S18816.size a)
theorem k0_idx95_inb : ∀ (i : grid0.Coords) (v10 : BitVec 32) (v586 : IVec S16 32) (k0_hw101 : k0_chk101 i v10 v586), ∀ (k0_h1 : k0_cond1 i v10 = 1#1), ∀ a x, ((![v586] : Fin 1 → IVec S16 32) a x).toNat < S18816.size a := fun i v10 v586 k0_hw101 k0_h1 => k0_hw101 k0_h1

def k0_chk102 (i : grid0.Coords) (v10 : BitVec 32) (v591 : IVec S16 32) : Prop :=
  (∀ (k0_h1 : k0_cond1 i v10 = 1#1), ∀ a x, ((![v591] : Fin 1 → IVec S16 32) a x).toNat < S18816.size a)
theorem k0_idx96_inb : ∀ (i : grid0.Coords) (v10 : BitVec 32) (v591 : IVec S16 32) (k0_hw102 : k0_chk102 i v10 v591), ∀ (k0_h1 : k0_cond1 i v10 = 1#1), ∀ a x, ((![v591] : Fin 1 → IVec S16 32) a x).toNat < S18816.size a := fun i v10 v591 k0_hw102 k0_h1 => k0_hw102 k0_h1
@[reducible] def k0_t28_loop (v41 : BitVec 32) (v43 : BitVec 32) : Scf.Loop 32 :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_218 : BitVec 32 := 1#32
  ⟨v41, v601, c1_i32_218⟩
@[reducible] def k0_t29_loop (v593 : BitVec 32) (v595 : BitVec 32) : Scf.Loop 32 :=
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_376 : BitVec 32 := 1#32
  ⟨v593, v1008, c1_i32_376⟩

def k0_off388 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1012 : Index := Scalar.indexCast v1011
  let c0_378 : Index := 0#32
  ![v1012.toNat, 0]
def k0_off389 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1015 : Index := Scalar.indexCast v1011
  let c16 : Index := 16#32
  ![v1015.toNat, 16]
def k0_off390 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1018 : Index := Scalar.indexCast v1011
  let c32 : Index := 32#32
  ![v1018.toNat, 32]
def k0_off391 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1021 : Index := Scalar.indexCast v1011
  let c48 : Index := 48#32
  ![v1021.toNat, 48]
def k0_off392 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1024 : Index := Scalar.indexCast v1011
  let c64 : Index := 64#32
  ![v1024.toNat, 64]
def k0_off393 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1027 : Index := Scalar.indexCast v1011
  let c80 : Index := 80#32
  ![v1027.toNat, 80]
def k0_off394 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1030 : Index := Scalar.indexCast v1011
  let c96 : Index := 96#32
  ![v1030.toNat, 96]
def k0_off395 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1033 : Index := Scalar.indexCast v1011
  let c112 : Index := 112#32
  ![v1033.toNat, 112]
def k0_off396 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1036 : Index := Scalar.indexCast v1011
  let c128 : Index := 128#32
  ![v1036.toNat, 128]
def k0_off397 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1039 : Index := Scalar.indexCast v1011
  let c144 : Index := 144#32
  ![v1039.toNat, 144]
def k0_off398 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1042 : Index := Scalar.indexCast v1011
  let c160 : Index := 160#32
  ![v1042.toNat, 160]
def k0_off399 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1045 : Index := Scalar.indexCast v1011
  let c176 : Index := 176#32
  ![v1045.toNat, 176]
def k0_off400 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1048 : Index := Scalar.indexCast v1011
  let c192 : Index := 192#32
  ![v1048.toNat, 192]
def k0_off401 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1051 : Index := Scalar.indexCast v1011
  let c208 : Index := 208#32
  ![v1051.toNat, 208]
def k0_off402 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1054 : Index := Scalar.indexCast v1011
  let c224 : Index := 224#32
  ![v1054.toNat, 224]
def k0_off403 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1057 : Index := Scalar.indexCast v1011
  let c240 : Index := 240#32
  ![v1057.toNat, 240]
def k0_off404 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1060 : Index := Scalar.indexCast v1011
  let c256 : Index := 256#32
  ![v1060.toNat, 256]
def k0_off405 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1063 : Index := Scalar.indexCast v1011
  let c272 : Index := 272#32
  ![v1063.toNat, 272]
def k0_off406 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1066 : Index := Scalar.indexCast v1011
  let c288 : Index := 288#32
  ![v1066.toNat, 288]
def k0_off407 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1069 : Index := Scalar.indexCast v1011
  let c304 : Index := 304#32
  ![v1069.toNat, 304]
def k0_off408 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1072 : Index := Scalar.indexCast v1011
  let c320 : Index := 320#32
  ![v1072.toNat, 320]
def k0_off409 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1075 : Index := Scalar.indexCast v1011
  let c336 : Index := 336#32
  ![v1075.toNat, 336]
def k0_off410 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1078 : Index := Scalar.indexCast v1011
  let c352 : Index := 352#32
  ![v1078.toNat, 352]
def k0_off411 (v41 : BitVec 32) (v43 : BitVec 32) (v593 : BitVec 32) (v595 : BitVec 32) (k0_t28 : Fin (k0_t28_loop v41 v43).trips) (k0_t29 : Fin (k0_t29_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let c1_i32_376 : BitVec 32 := 1#32
  let arg36 : BitVec 32 := Scf.iv v593 c1_i32_376 k0_t29
  let v1011 : BitVec 32 := Scalar.addi v1003 arg36
  let v1081 : Index := Scalar.indexCast v1011
  let c368 : Index := 368#32
  ![v1081.toNat, 368]
@[reducible] def k0_t30_loop (v593 : BitVec 32) (v595 : BitVec 32) : Scf.Loop 32 :=
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let v1005 : BitVec 32 := Scalar.addi v593 v1004
  let c1_i32_377 : BitVec 32 := 1#32
  ⟨v1008, v1005, c1_i32_377⟩
def k0_off412 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1012 : Index := Scalar.indexCast v1011
  let c0_378 : Index := 0#32
  ![v1012.toNat, 0]
def k0_off413 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1015 : Index := Scalar.indexCast v1011
  let c16 : Index := 16#32
  ![v1015.toNat, 16]
def k0_off414 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1018 : Index := Scalar.indexCast v1011
  let c32 : Index := 32#32
  ![v1018.toNat, 32]
def k0_off415 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1021 : Index := Scalar.indexCast v1011
  let c48 : Index := 48#32
  ![v1021.toNat, 48]
def k0_off416 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1024 : Index := Scalar.indexCast v1011
  let c64 : Index := 64#32
  ![v1024.toNat, 64]
def k0_off417 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1027 : Index := Scalar.indexCast v1011
  let c80 : Index := 80#32
  ![v1027.toNat, 80]
def k0_off418 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1030 : Index := Scalar.indexCast v1011
  let c96 : Index := 96#32
  ![v1030.toNat, 96]
def k0_off419 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1033 : Index := Scalar.indexCast v1011
  let c112 : Index := 112#32
  ![v1033.toNat, 112]
def k0_off420 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1036 : Index := Scalar.indexCast v1011
  let c128 : Index := 128#32
  ![v1036.toNat, 128]
def k0_off421 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1039 : Index := Scalar.indexCast v1011
  let c144 : Index := 144#32
  ![v1039.toNat, 144]
def k0_off422 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1042 : Index := Scalar.indexCast v1011
  let c160 : Index := 160#32
  ![v1042.toNat, 160]
def k0_off423 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1045 : Index := Scalar.indexCast v1011
  let c176 : Index := 176#32
  ![v1045.toNat, 176]
def k0_off424 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1048 : Index := Scalar.indexCast v1011
  let c192 : Index := 192#32
  ![v1048.toNat, 192]
def k0_off425 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1051 : Index := Scalar.indexCast v1011
  let c208 : Index := 208#32
  ![v1051.toNat, 208]
def k0_off426 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1054 : Index := Scalar.indexCast v1011
  let c224 : Index := 224#32
  ![v1054.toNat, 224]
def k0_off427 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1057 : Index := Scalar.indexCast v1011
  let c240 : Index := 240#32
  ![v1057.toNat, 240]
def k0_off428 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1060 : Index := Scalar.indexCast v1011
  let c256 : Index := 256#32
  ![v1060.toNat, 256]
def k0_off429 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1063 : Index := Scalar.indexCast v1011
  let c272 : Index := 272#32
  ![v1063.toNat, 272]
def k0_off430 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1066 : Index := Scalar.indexCast v1011
  let c288 : Index := 288#32
  ![v1066.toNat, 288]
def k0_off431 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1069 : Index := Scalar.indexCast v1011
  let c304 : Index := 304#32
  ![v1069.toNat, 304]
def k0_off432 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1072 : Index := Scalar.indexCast v1011
  let c320 : Index := 320#32
  ![v1072.toNat, 320]
def k0_off433 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1075 : Index := Scalar.indexCast v1011
  let c336 : Index := 336#32
  ![v1075.toNat, 336]
def k0_off434 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1078 : Index := Scalar.indexCast v1011
  let c352 : Index := 352#32
  ![v1078.toNat, 352]
def k0_off435 (v41 : BitVec 32) (v43 : BitVec 32) (v593 : BitVec 32) (v595 : BitVec 32) (k0_t28 : Fin (k0_t28_loop v41 v43).trips) (k0_t30 : Fin (k0_t30_loop v593 v595).trips) : Fin 2 → Nat :=
  let c1_i32_218 : BitVec 32 := 1#32
  let arg11 : BitVec 32 := Scf.iv v41 c1_i32_218 k0_t28
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t30
  let v1011 : BitVec 32 := Scalar.addi v1003 arg36
  let v1081 : Index := Scalar.indexCast v1011
  let c368 : Index := 368#32
  ![v1081.toNat, 368]
@[reducible] def k0_t31_loop (v41 : BitVec 32) (v43 : BitVec 32) : Scf.Loop 32 :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let v598 : BitVec 32 := Scalar.addi v41 v597
  let c1_i32_219 : BitVec 32 := 1#32
  ⟨v601, v598, c1_i32_219⟩
@[reducible] def k0_t32_loop (v593 : BitVec 32) (v595 : BitVec 32) : Scf.Loop 32 :=
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_376 : BitVec 32 := 1#32
  ⟨v593, v1008, c1_i32_376⟩
def k0_off436 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1012 : Index := Scalar.indexCast v1011
  let c0_378 : Index := 0#32
  ![v1012.toNat, 0]
def k0_off437 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1015 : Index := Scalar.indexCast v1011
  let c16 : Index := 16#32
  ![v1015.toNat, 16]
def k0_off438 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1018 : Index := Scalar.indexCast v1011
  let c32 : Index := 32#32
  ![v1018.toNat, 32]
def k0_off439 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1021 : Index := Scalar.indexCast v1011
  let c48 : Index := 48#32
  ![v1021.toNat, 48]
def k0_off440 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1024 : Index := Scalar.indexCast v1011
  let c64 : Index := 64#32
  ![v1024.toNat, 64]
def k0_off441 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1027 : Index := Scalar.indexCast v1011
  let c80 : Index := 80#32
  ![v1027.toNat, 80]
def k0_off442 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1030 : Index := Scalar.indexCast v1011
  let c96 : Index := 96#32
  ![v1030.toNat, 96]
def k0_off443 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1033 : Index := Scalar.indexCast v1011
  let c112 : Index := 112#32
  ![v1033.toNat, 112]
def k0_off444 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1036 : Index := Scalar.indexCast v1011
  let c128 : Index := 128#32
  ![v1036.toNat, 128]
def k0_off445 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1039 : Index := Scalar.indexCast v1011
  let c144 : Index := 144#32
  ![v1039.toNat, 144]
def k0_off446 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1042 : Index := Scalar.indexCast v1011
  let c160 : Index := 160#32
  ![v1042.toNat, 160]
def k0_off447 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1045 : Index := Scalar.indexCast v1011
  let c176 : Index := 176#32
  ![v1045.toNat, 176]
def k0_off448 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1048 : Index := Scalar.indexCast v1011
  let c192 : Index := 192#32
  ![v1048.toNat, 192]
def k0_off449 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1051 : Index := Scalar.indexCast v1011
  let c208 : Index := 208#32
  ![v1051.toNat, 208]
def k0_off450 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1054 : Index := Scalar.indexCast v1011
  let c224 : Index := 224#32
  ![v1054.toNat, 224]
def k0_off451 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1057 : Index := Scalar.indexCast v1011
  let c240 : Index := 240#32
  ![v1057.toNat, 240]
def k0_off452 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1060 : Index := Scalar.indexCast v1011
  let c256 : Index := 256#32
  ![v1060.toNat, 256]
def k0_off453 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1063 : Index := Scalar.indexCast v1011
  let c272 : Index := 272#32
  ![v1063.toNat, 272]
def k0_off454 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1066 : Index := Scalar.indexCast v1011
  let c288 : Index := 288#32
  ![v1066.toNat, 288]
def k0_off455 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1069 : Index := Scalar.indexCast v1011
  let c304 : Index := 304#32
  ![v1069.toNat, 304]
def k0_off456 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1072 : Index := Scalar.indexCast v1011
  let c320 : Index := 320#32
  ![v1072.toNat, 320]
def k0_off457 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1075 : Index := Scalar.indexCast v1011
  let c336 : Index := 336#32
  ![v1075.toNat, 336]
def k0_off458 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1078 : Index := Scalar.indexCast v1011
  let c352 : Index := 352#32
  ![v1078.toNat, 352]
def k0_off459 (v41 : BitVec 32) (v43 : BitVec 32) (v593 : BitVec 32) (v595 : BitVec 32) (k0_t31 : Fin (k0_t31_loop v41 v43).trips) (k0_t32 : Fin (k0_t32_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let c1_i32_376 : BitVec 32 := 1#32
  let arg36 : BitVec 32 := Scf.iv v593 c1_i32_376 k0_t32
  let v1011 : BitVec 32 := Scalar.addi v1003 arg36
  let v1081 : Index := Scalar.indexCast v1011
  let c368 : Index := 368#32
  ![v1081.toNat, 368]
@[reducible] def k0_t33_loop (v593 : BitVec 32) (v595 : BitVec 32) : Scf.Loop 32 :=
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let v1005 : BitVec 32 := Scalar.addi v593 v1004
  let c1_i32_377 : BitVec 32 := 1#32
  ⟨v1008, v1005, c1_i32_377⟩
def k0_off460 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1012 : Index := Scalar.indexCast v1011
  let c0_378 : Index := 0#32
  ![v1012.toNat, 0]
def k0_off461 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1015 : Index := Scalar.indexCast v1011
  let c16 : Index := 16#32
  ![v1015.toNat, 16]
def k0_off462 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1018 : Index := Scalar.indexCast v1011
  let c32 : Index := 32#32
  ![v1018.toNat, 32]
def k0_off463 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1021 : Index := Scalar.indexCast v1011
  let c48 : Index := 48#32
  ![v1021.toNat, 48]
def k0_off464 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1024 : Index := Scalar.indexCast v1011
  let c64 : Index := 64#32
  ![v1024.toNat, 64]
def k0_off465 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1027 : Index := Scalar.indexCast v1011
  let c80 : Index := 80#32
  ![v1027.toNat, 80]
def k0_off466 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1030 : Index := Scalar.indexCast v1011
  let c96 : Index := 96#32
  ![v1030.toNat, 96]
def k0_off467 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1033 : Index := Scalar.indexCast v1011
  let c112 : Index := 112#32
  ![v1033.toNat, 112]
def k0_off468 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1036 : Index := Scalar.indexCast v1011
  let c128 : Index := 128#32
  ![v1036.toNat, 128]
def k0_off469 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1039 : Index := Scalar.indexCast v1011
  let c144 : Index := 144#32
  ![v1039.toNat, 144]
def k0_off470 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1042 : Index := Scalar.indexCast v1011
  let c160 : Index := 160#32
  ![v1042.toNat, 160]
def k0_off471 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1045 : Index := Scalar.indexCast v1011
  let c176 : Index := 176#32
  ![v1045.toNat, 176]
def k0_off472 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1048 : Index := Scalar.indexCast v1011
  let c192 : Index := 192#32
  ![v1048.toNat, 192]
def k0_off473 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1051 : Index := Scalar.indexCast v1011
  let c208 : Index := 208#32
  ![v1051.toNat, 208]
def k0_off474 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1054 : Index := Scalar.indexCast v1011
  let c224 : Index := 224#32
  ![v1054.toNat, 224]
def k0_off475 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1057 : Index := Scalar.indexCast v1011
  let c240 : Index := 240#32
  ![v1057.toNat, 240]
def k0_off476 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1060 : Index := Scalar.indexCast v1011
  let c256 : Index := 256#32
  ![v1060.toNat, 256]
def k0_off477 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1063 : Index := Scalar.indexCast v1011
  let c272 : Index := 272#32
  ![v1063.toNat, 272]
def k0_off478 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1066 : Index := Scalar.indexCast v1011
  let c288 : Index := 288#32
  ![v1066.toNat, 288]
def k0_off479 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1069 : Index := Scalar.indexCast v1011
  let c304 : Index := 304#32
  ![v1069.toNat, 304]
def k0_off480 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1072 : Index := Scalar.indexCast v1011
  let c320 : Index := 320#32
  ![v1072.toNat, 320]
def k0_off481 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1075 : Index := Scalar.indexCast v1011
  let c336 : Index := 336#32
  ![v1075.toNat, 336]
def k0_off482 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1078 : Index := Scalar.indexCast v1011
  let c352 : Index := 352#32
  ![v1078.toNat, 352]
def k0_off483 (v41 : BitVec 32) (v43 : BitVec 32) (v593 : BitVec 32) (v595 : BitVec 32) (k0_t31 : Fin (k0_t31_loop v41 v43).trips) (k0_t33 : Fin (k0_t33_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t31
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t33
  let v1011 : BitVec 32 := Scalar.addi v1003 arg36
  let v1081 : Index := Scalar.indexCast v1011
  let c368 : Index := 368#32
  ![v1081.toNat, 368]

def k0_chk103_0 (i : grid0.Coords) (v10 : BitVec 32) (v41 : BitVec 32) (v43 : BitVec 32) (v593 : BitVec 32) (v595 : BitVec 32) : Prop :=
  (∀ k0_t28 : Fin (k0_t28_loop v41 v43).trips, ∀ (k0_h1 : k0_cond1 i v10 = 1#1), (k0_t29_loop v593 v595).OK) ∧
  (∀ (k0_t28 : Fin (k0_t28_loop v41 v43).trips) (k0_t29 : Fin (k0_t29_loop v593 v595).trips), ∀ (k0_h1 : k0_cond1 i v10 = 1#1), ∀ a, (k0_off388 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off389 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off390 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off391 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off392 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off393 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off394 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off395 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off396 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off397 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off398 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off399 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off400 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off401 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off402 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off403 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off404 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off405 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off406 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off407 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off408 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off409 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off410 v41 v43 v593 v595 k0_t28 k0_t29) a + S1x16.size a ≤ S196x384.size a) ∧
  (∀ (k0_t28 : Fin (k0_t28_loop v41 v43).trips) (k0_t29 : Fin (k0_t29_loop v593 v595).trips), ∀ (k0_h1 : k0_cond1 i v10 = 1#1), ∀ a, (k0_off411 v41 v43 v593 v595 k0_t28 k0_t29) a + S1x16.size a ≤ S196x384.size a) ∧
  (∀ k0_t28 : Fin (k0_t28_loop v41 v43).trips, ∀ (k0_h1 : k0_cond1 i v10 = 1#1), (k0_t30_loop v593 v595).OK) ∧
  (∀ (k0_t28 : Fin (k0_t28_loop v41 v43).trips) (k0_t30 : Fin (k0_t30_loop v593 v595).trips), ∀ (k0_h1 : k0_cond1 i v10 = 1#1), ∀ a, (k0_off412 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off413 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off414 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off415 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off416 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off417 v41 v43 v593 v595 k0_t28 k0_t30) a + S1x16.size a ≤ S196x384.size a)
def k0_chk103_1 (i : grid0.Coords) (v10 : BitVec 32) (v41 : BitVec 32) (v43 : BitVec 32) (v593 : BitVec 32) (v595 : BitVec 32) : Prop :=
  (∀ (k0_t28 : Fin (k0_t28_loop v41 v43).trips) (k0_t30 : Fin (k0_t30_loop v593 v595).trips), ∀ (k0_h1 : k0_cond1 i v10 = 1#1), ∀ a, (k0_off418 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off419 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off420 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off421 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off422 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off423 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off424 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off425 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off426 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off427 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off428 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off429 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off430 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off431 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off432 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off433 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off434 v41 v43 v593 v595 k0_t28 k0_t30) a + S1x16.size a ≤ S196x384.size a) ∧
  (∀ (k0_t28 : Fin (k0_t28_loop v41 v43).trips) (k0_t30 : Fin (k0_t30_loop v593 v595).trips), ∀ (k0_h1 : k0_cond1 i v10 = 1#1), ∀ a, (k0_off435 v41 v43 v593 v595 k0_t28 k0_t30) a + S1x16.size a ≤ S196x384.size a) ∧
  (∀ k0_t31 : Fin (k0_t31_loop v41 v43).trips, ∀ (k0_h1 : k0_cond1 i v10 = 1#1), (k0_t32_loop v593 v595).OK) ∧
  (∀ (k0_t31 : Fin (k0_t31_loop v41 v43).trips) (k0_t32 : Fin (k0_t32_loop v593 v595).trips), ∀ (k0_h1 : k0_cond1 i v10 = 1#1), ∀ a, (k0_off436 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off437 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off438 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off439 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off440 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off441 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off442 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off443 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off444 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off445 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off446 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off447 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off448 v41 v43 v593 v595 k0_t31 k0_t32) a + S1x16.size a ≤ S196x384.size a)
def k0_chk103_2 (i : grid0.Coords) (v10 : BitVec 32) (v41 : BitVec 32) (v43 : BitVec 32) (v593 : BitVec 32) (v595 : BitVec 32) : Prop :=
  (∀ (k0_t31 : Fin (k0_t31_loop v41 v43).trips) (k0_t32 : Fin (k0_t32_loop v593 v595).trips), ∀ (k0_h1 : k0_cond1 i v10 = 1#1), ∀ a, (k0_off449 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off450 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off451 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off452 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off453 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off454 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off455 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off456 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off457 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off458 v41 v43 v593 v595 k0_t31 k0_t32) a + S1x16.size a ≤ S196x384.size a) ∧
  (∀ (k0_t31 : Fin (k0_t31_loop v41 v43).trips) (k0_t32 : Fin (k0_t32_loop v593 v595).trips), ∀ (k0_h1 : k0_cond1 i v10 = 1#1), ∀ a, (k0_off459 v41 v43 v593 v595 k0_t31 k0_t32) a + S1x16.size a ≤ S196x384.size a) ∧
  (∀ k0_t31 : Fin (k0_t31_loop v41 v43).trips, ∀ (k0_h1 : k0_cond1 i v10 = 1#1), (k0_t33_loop v593 v595).OK) ∧
  (∀ (k0_t31 : Fin (k0_t31_loop v41 v43).trips) (k0_t33 : Fin (k0_t33_loop v593 v595).trips), ∀ (k0_h1 : k0_cond1 i v10 = 1#1), ∀ a, (k0_off460 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off461 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off462 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off463 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off464 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off465 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off466 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off467 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off468 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off469 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off470 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off471 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off472 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off473 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off474 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off475 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off476 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off477 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off478 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off479 v41 v43 v593 v595 k0_t31 k0_t33) a + S1x16.size a ≤ S196x384.size a)
def k0_chk103_3 (i : grid0.Coords) (v10 : BitVec 32) (v41 : BitVec 32) (v43 : BitVec 32) (v593 : BitVec 32) (v595 : BitVec 32) : Prop :=
  (∀ (k0_t31 : Fin (k0_t31_loop v41 v43).trips) (k0_t33 : Fin (k0_t33_loop v593 v595).trips), ∀ (k0_h1 : k0_cond1 i v10 = 1#1), ∀ a, (k0_off480 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off481 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off482 v41 v43 v593 v595 k0_t31 k0_t33) a + S1x16.size a ≤ S196x384.size a) ∧
  (∀ (k0_t31 : Fin (k0_t31_loop v41 v43).trips) (k0_t33 : Fin (k0_t33_loop v593 v595).trips), ∀ (k0_h1 : k0_cond1 i v10 = 1#1), ∀ a, (k0_off483 v41 v43 v593 v595 k0_t31 k0_t33) a + S1x16.size a ≤ S196x384.size a)
def k0_chk103 (i : grid0.Coords) (v10 : BitVec 32) (v41 : BitVec 32) (v43 : BitVec 32) (v593 : BitVec 32) (v595 : BitVec 32) : Prop :=
  k0_chk103_0 i v10 v41 v43 v593 v595 ∧
  k0_chk103_1 i v10 v41 v43 v593 v595 ∧
  k0_chk103_2 i v10 v41 v43 v593 v595 ∧
  k0_chk103_3 i v10 v41 v43 v593 v595
theorem k0_t29_ok : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips), ∀ (k0_h1 : k0_cond1 i v10 = 1#1), (k0_t29_loop v593 v595).OK := fun i v10 v41 v43 v593 v595 k0_hw103 k0_t28 k0_h1 => k0_hw103.1.1 k0_t28 k0_h1
theorem k0_off388_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off388 v41 v43 v593 v595 k0_t28 k0_t29) a + S1x16.size a ≤ S196x384.size a := fun i v10 v41 v43 v593 v595 k0_hw103 k0_t28 k0_t29 k0_h1 => k0_hw103.1.2.1 k0_t28 k0_t29 k0_h1
theorem k0_off389_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off389 v41 v43 v593 v595 k0_t28 k0_t29) a + S1x16.size a ≤ S196x384.size a := fun i v10 v41 v43 v593 v595 k0_hw103 k0_t28 k0_t29 k0_h1 => k0_hw103.1.2.2.1 k0_t28 k0_t29 k0_h1
theorem k0_off390_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off390 v41 v43 v593 v595 k0_t28 k0_t29) a + S1x16.size a ≤ S196x384.size a := fun i v10 v41 v43 v593 v595 k0_hw103 k0_t28 k0_t29 k0_h1 => k0_hw103.1.2.2.2.1 k0_t28 k0_t29 k0_h1
theorem k0_off391_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off391 v41 v43 v593 v595 k0_t28 k0_t29) a + S1x16.size a ≤ S196x384.size a := fun i v10 v41 v43 v593 v595 k0_hw103 k0_t28 k0_t29 k0_h1 => k0_hw103.1.2.2.2.2.1 k0_t28 k0_t29 k0_h1
theorem k0_off392_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off392 v41 v43 v593 v595 k0_t28 k0_t29) a + S1x16.size a ≤ S196x384.size a := fun i v10 v41 v43 v593 v595 k0_hw103 k0_t28 k0_t29 k0_h1 => k0_hw103.1.2.2.2.2.2.1 k0_t28 k0_t29 k0_h1
theorem k0_off393_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off393 v41 v43 v593 v595 k0_t28 k0_t29) a + S1x16.size a ≤ S196x384.size a := fun i v10 v41 v43 v593 v595 k0_hw103 k0_t28 k0_t29 k0_h1 => k0_hw103.1.2.2.2.2.2.2.1 k0_t28 k0_t29 k0_h1
theorem k0_off394_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off394 v41 v43 v593 v595 k0_t28 k0_t29) a + S1x16.size a ≤ S196x384.size a := fun i v10 v41 v43 v593 v595 k0_hw103 k0_t28 k0_t29 k0_h1 => k0_hw103.1.2.2.2.2.2.2.2.1 k0_t28 k0_t29 k0_h1
theorem k0_off395_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off395 v41 v43 v593 v595 k0_t28 k0_t29) a + S1x16.size a ≤ S196x384.size a := fun i v10 v41 v43 v593 v595 k0_hw103 k0_t28 k0_t29 k0_h1 => k0_hw103.1.2.2.2.2.2.2.2.2.1 k0_t28 k0_t29 k0_h1
theorem k0_off396_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off396 v41 v43 v593 v595 k0_t28 k0_t29) a + S1x16.size a ≤ S196x384.size a := fun i v10 v41 v43 v593 v595 k0_hw103 k0_t28 k0_t29 k0_h1 => k0_hw103.1.2.2.2.2.2.2.2.2.2.1 k0_t28 k0_t29 k0_h1
theorem k0_off397_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off397 v41 v43 v593 v595 k0_t28 k0_t29) a + S1x16.size a ≤ S196x384.size a := fun i v10 v41 v43 v593 v595 k0_hw103 k0_t28 k0_t29 k0_h1 => k0_hw103.1.2.2.2.2.2.2.2.2.2.2.1 k0_t28 k0_t29 k0_h1
theorem k0_off398_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off398 v41 v43 v593 v595 k0_t28 k0_t29) a + S1x16.size a ≤ S196x384.size a := fun i v10 v41 v43 v593 v595 k0_hw103 k0_t28 k0_t29 k0_h1 => k0_hw103.1.2.2.2.2.2.2.2.2.2.2.2.1 k0_t28 k0_t29 k0_h1
theorem k0_off399_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off399 v41 v43 v593 v595 k0_t28 k0_t29) a + S1x16.size a ≤ S196x384.size a := fun i v10 v41 v43 v593 v595 k0_hw103 k0_t28 k0_t29 k0_h1 => k0_hw103.1.2.2.2.2.2.2.2.2.2.2.2.2.1 k0_t28 k0_t29 k0_h1
theorem k0_off400_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off400 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.1 k0_t28 k0_t29 k0_h1
theorem k0_off401_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off401 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.1 k0_t28 k0_t29 k0_h1
theorem k0_off402_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off402 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.1 k0_t28 k0_t29 k0_h1
theorem k0_off403_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off403 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.2.1 k0_t28 k0_t29 k0_h1
theorem k0_off404_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off404 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.2.2.1 k0_t28 k0_t29 k0_h1
theorem k0_off405_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off405 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.2.2.2.1 k0_t28 k0_t29 k0_h1
theorem k0_off406_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off406 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.2.2.2.2.1 k0_t28 k0_t29 k0_h1
theorem k0_off407_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off407 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.2.2.2.2.2.1 k0_t28 k0_t29 k0_h1
theorem k0_off408_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off408 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.2.2.2.2.2.2.1 k0_t28 k0_t29 k0_h1
theorem k0_off409_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off409 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.2.2.2.2.2.2.2.1 k0_t28 k0_t29 k0_h1
theorem k0_off410_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off410 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.2.2.2.2.2.2.2.2.1 k0_t28 k0_t29 k0_h1
theorem k0_off411_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t29 : Fin (k0_t29_loop v593 v595).trips), ∀ (k0_h1 : k0_cond1 i v10 = 1#1), ∀ a, (k0_off411 v41 v43 v593 v595 k0_t28 k0_t29) a + S1x16.size a ≤ S196x384.size a := fun i v10 v41 v43 v593 v595 k0_hw103 k0_t28 k0_t29 k0_h1 => k0_hw103.1.2.2.2.2.2.2.2.2.2.2.2.2.2.2.2.2.2.2.2.2.2.2.2.2.1 k0_t28 k0_t29 k0_h1
theorem k0_t30_ok : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips), ∀ (k0_h1 : k0_cond1 i v10 = 1#1), (k0_t30_loop v593 v595).OK := fun i v10 v41 v43 v593 v595 k0_hw103 k0_t28 k0_h1 => k0_hw103.1.2.2.2.2.2.2.2.2.2.2.2.2.2.2.2.2.2.2.2.2.2.2.2.2.2.1 k0_t28 k0_h1
theorem k0_off412_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off412 v41 v43 v593 v595 k0_t28 k0_t30) a + S1x16.size a ≤ S196x384.size a := fun i v10 v41 v43 v593 v595 k0_hw103 k0_t28 k0_t30 k0_h1 => k0_hw103.1.2.2.2.2.2.2.2.2.2.2.2.2.2.2.2.2.2.2.2.2.2.2.2.2.2.2.1 k0_t28 k0_t30 k0_h1
theorem k0_off413_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off413 v41 v43 v593 v595 k0_t28 k0_t30) a + S1x16.size a ≤ S196x384.size a := fun i v10 v41 v43 v593 v595 k0_hw103 k0_t28 k0_t30 k0_h1 => k0_hw103.1.2.2.2.2.2.2.2.2.2.2.2.2.2.2.2.2.2.2.2.2.2.2.2.2.2.2.2.1 k0_t28 k0_t30 k0_h1
theorem k0_off414_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off414 v41 v43 v593 v595 k0_t28 k0_t30) a + S1x16.size a ≤ S196x384.size a := fun i v10 v41 v43 v593 v595 k0_hw103 k0_t28 k0_t30 k0_h1 => k0_hw103.1.2.2.2.2.2.2.2.2.2.2.2.2.2.2.2.2.2.2.2.2.2.2.2.2.2.2.2.2.1 k0_t28 k0_t30 k0_h1
theorem k0_off415_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off415 v41 v43 v593 v595 k0_t28 k0_t30) a + S1x16.size a ≤ S196x384.size a := fun i v10 v41 v43 v593 v595 k0_hw103 k0_t28 k0_t30 k0_h1 => k0_hw103.1.2.2.2.2.2.2.2.2.2.2.2.2.2.2.2.2.2.2.2.2.2.2.2.2.2.2.2.2.2.1 k0_t28 k0_t30 k0_h1
theorem k0_off416_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off416 v41 v43 v593 v595 k0_t28 k0_t30) a + S1x16.size a ≤ S196x384.size a := fun i v10 v41 v43 v593 v595 k0_hw103 k0_t28 k0_t30 k0_h1 => k0_hw103.1.2.2.2.2.2.2.2.2.2.2.2.2.2.2.2.2.2.2.2.2.2.2.2.2.2.2.2.2.2.2.1 k0_t28 k0_t30 k0_h1
theorem k0_off417_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off417 v41 v43 v593 v595 k0_t28 k0_t30) a + S1x16.size a ≤ S196x384.size a := fun i v10 v41 v43 v593 v595 k0_hw103 k0_t28 k0_t30 k0_h1 => k0_hw103.1.2.2.2.2.2.2.2.2.2.2.2.2.2.2.2.2.2.2.2.2.2.2.2.2.2.2.2.2.2.2.2 k0_t28 k0_t30 k0_h1
theorem k0_off418_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off418 v41 v43 v593 v595 k0_t28 k0_t30) a + S1x16.size a ≤ S196x384.size a := fun i v10 v41 v43 v593 v595 k0_hw103 k0_t28 k0_t30 k0_h1 => k0_hw103.2.1.1 k0_t28 k0_t30 k0_h1
theorem k0_off419_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off419 v41 v43 v593 v595 k0_t28 k0_t30) a + S1x16.size a ≤ S196x384.size a := fun i v10 v41 v43 v593 v595 k0_hw103 k0_t28 k0_t30 k0_h1 => k0_hw103.2.1.2.1 k0_t28 k0_t30 k0_h1
theorem k0_off420_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off420 v41 v43 v593 v595 k0_t28 k0_t30) a + S1x16.size a ≤ S196x384.size a := fun i v10 v41 v43 v593 v595 k0_hw103 k0_t28 k0_t30 k0_h1 => k0_hw103.2.1.2.2.1 k0_t28 k0_t30 k0_h1
theorem k0_off421_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off421 v41 v43 v593 v595 k0_t28 k0_t30) a + S1x16.size a ≤ S196x384.size a := fun i v10 v41 v43 v593 v595 k0_hw103 k0_t28 k0_t30 k0_h1 => k0_hw103.2.1.2.2.2.1 k0_t28 k0_t30 k0_h1
theorem k0_off422_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off422 v41 v43 v593 v595 k0_t28 k0_t30) a + S1x16.size a ≤ S196x384.size a := fun i v10 v41 v43 v593 v595 k0_hw103 k0_t28 k0_t30 k0_h1 => k0_hw103.2.1.2.2.2.2.1 k0_t28 k0_t30 k0_h1
theorem k0_off423_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off423 v41 v43 v593 v595 k0_t28 k0_t30) a + S1x16.size a ≤ S196x384.size a := fun i v10 v41 v43 v593 v595 k0_hw103 k0_t28 k0_t30 k0_h1 => k0_hw103.2.1.2.2.2.2.2.1 k0_t28 k0_t30 k0_h1
theorem k0_off424_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off424 v41 v43 v593 v595 k0_t28 k0_t30) a + S1x16.size a ≤ S196x384.size a := fun i v10 v41 v43 v593 v595 k0_hw103 k0_t28 k0_t30 k0_h1 => k0_hw103.2.1.2.2.2.2.2.2.1 k0_t28 k0_t30 k0_h1
theorem k0_off425_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off425 v41 v43 v593 v595 k0_t28 k0_t30) a + S1x16.size a ≤ S196x384.size a := fun i v10 v41 v43 v593 v595 k0_hw103 k0_t28 k0_t30 k0_h1 => k0_hw103.2.1.2.2.2.2.2.2.2.1 k0_t28 k0_t30 k0_h1
theorem k0_off426_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off426 v41 v43 v593 v595 k0_t28 k0_t30) a + S1x16.size a ≤ S196x384.size a := fun i v10 v41 v43 v593 v595 k0_hw103 k0_t28 k0_t30 k0_h1 => k0_hw103.2.1.2.2.2.2.2.2.2.2.1 k0_t28 k0_t30 k0_h1
theorem k0_off427_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off427 v41 v43 v593 v595 k0_t28 k0_t30) a + S1x16.size a ≤ S196x384.size a := fun i v10 v41 v43 v593 v595 k0_hw103 k0_t28 k0_t30 k0_h1 => k0_hw103.2.1.2.2.2.2.2.2.2.2.2.1 k0_t28 k0_t30 k0_h1
theorem k0_off428_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off428 v41 v43 v593 v595 k0_t28 k0_t30) a + S1x16.size a ≤ S196x384.size a := fun i v10 v41 v43 v593 v595 k0_hw103 k0_t28 k0_t30 k0_h1 => k0_hw103.2.1.2.2.2.2.2.2.2.2.2.2.1 k0_t28 k0_t30 k0_h1
theorem k0_off429_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off429 v41 v43 v593 v595 k0_t28 k0_t30) a + S1x16.size a ≤ S196x384.size a := fun i v10 v41 v43 v593 v595 k0_hw103 k0_t28 k0_t30 k0_h1 => k0_hw103.2.1.2.2.2.2.2.2.2.2.2.2.2.1 k0_t28 k0_t30 k0_h1
theorem k0_off430_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off430 v41 v43 v593 v595 k0_t28 k0_t30) a + S1x16.size a ≤ S196x384.size a := fun i v10 v41 v43 v593 v595 k0_hw103 k0_t28 k0_t30 k0_h1 => k0_hw103.2.1.2.2.2.2.2.2.2.2.2.2.2.2.1 k0_t28 k0_t30 k0_h1
theorem k0_off431_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off431 v41 v43 v593 v595 k0_t28 k0_t30) a + S1x16.size a ≤ S196x384.size a := fun i v10 v41 v43 v593 v595 k0_hw103 k0_t28 k0_t30 k0_h1 => k0_hw103.2.1.2.2.2.2.2.2.2.2.2.2.2.2.2.1 k0_t28 k0_t30 k0_h1
theorem k0_off432_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off432 v41 v43 v593 v595 k0_t28 k0_t30) a + S1x16.size a ≤ S196x384.size a := fun i v10 v41 v43 v593 v595 k0_hw103 k0_t28 k0_t30 k0_h1 => k0_hw103.2.1.2.2.2.2.2.2.2.2.2.2.2.2.2.2.1 k0_t28 k0_t30 k0_h1
theorem k0_off433_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off433 v41 v43 v593 v595 k0_t28 k0_t30) a + S1x16.size a ≤ S196x384.size a := fun i v10 v41 v43 v593 v595 k0_hw103 k0_t28 k0_t30 k0_h1 => k0_hw103.2.1.2.2.2.2.2.2.2.2.2.2.2.2.2.2.2.1 k0_t28 k0_t30 k0_h1
theorem k0_off434_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off434 v41 v43 v593 v595 k0_t28 k0_t30) a + S1x16.size a ≤ S196x384.size a := fun i v10 v41 v43 v593 v595 k0_hw103 k0_t28 k0_t30 k0_h1 => k0_hw103.2.1.2.2.2.2.2.2.2.2.2.2.2.2.2.2.2.2.1 k0_t28 k0_t30 k0_h1
theorem k0_off435_inb : ∀ (i : grid0.Coords) (v10 : BitVec 32) (v41 : BitVec 32) (v43 : BitVec 32) (v593 : BitVec 32) (v595 : BitVec 32) (k0_hw103 : k0_chk103 i v10 v41 v43 v593 v595) (k0_t28 : Fin (k0_t28_loop v41 v43).trips) (k0_t30 : Fin (k0_t30_loop v593 v595).trips), ∀ (k0_h1 : k0_cond1 i v10 = 1#1), ∀ a, (k0_off435 v41 v43 v593 v595 k0_t28 k0_t30) a + S1x16.size a ≤ S196x384.size a := fun i v10 v41 v43 v593 v595 k0_hw103 k0_t28 k0_t30 k0_h1 => k0_hw103.2.1.2.2.2.2.2.2.2.2.2.2.2.2.2.2.2.2.2.1 k0_t28 k0_t30 k0_h1
theorem k0_t32_ok : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips), ∀ (k0_h1 : k0_cond1 i v10 = 1#1), (k0_t32_loop v593 v595).OK := fun i v10 v41 v43 v593 v595 k0_hw103 k0_t31 k0_h1 => k0_hw103.2.1.2.2.2.2.2.2.2.2.2.2.2.2.2.2.2.2.2.2.1 k0_t31 k0_h1
theorem k0_off436_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off436 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.1 k0_t31 k0_t32 k0_h1
theorem k0_off437_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off437 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.1 k0_t31 k0_t32 k0_h1
theorem k0_off438_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off438 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.1 k0_t31 k0_t32 k0_h1
theorem k0_off439_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off439 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.1 k0_t31 k0_t32 k0_h1
theorem k0_off440_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off440 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.2.1 k0_t31 k0_t32 k0_h1
theorem k0_off441_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off441 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.2.2.1 k0_t31 k0_t32 k0_h1
theorem k0_off442_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off442 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.2.2.2.1 k0_t31 k0_t32 k0_h1
theorem k0_off443_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off443 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.2.2.2.2.1 k0_t31 k0_t32 k0_h1
theorem k0_off444_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off444 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.2.2.2.2.2.1 k0_t31 k0_t32 k0_h1
theorem k0_off445_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off445 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.2.2.2.2.2.2.1 k0_t31 k0_t32 k0_h1
theorem k0_off446_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off446 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.2.2.2.2.2.2.2.1 k0_t31 k0_t32 k0_h1
theorem k0_off447_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off447 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.2.2.2.2.2.2.2.2.1 k0_t31 k0_t32 k0_h1
theorem k0_off448_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off448 v41 v43 v593 v595 k0_t31 k0_t32) a + S1x16.size a ≤ S196x384.size a := fun i v10 v41 v43 v593 v595 k0_hw103 k0_t31 k0_t32 k0_h1 => k0_hw103.2.1.2.2.2.2.2.2.2.2.2.2.2.2.2.2.2.2.2.2.2.2.2.2.2.2.2.2.2.2.2.2.2 k0_t31 k0_t32 k0_h1
theorem k0_off449_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off449 v41 v43 v593 v595 k0_t31 k0_t32) a + S1x16.size a ≤ S196x384.size a := fun i v10 v41 v43 v593 v595 k0_hw103 k0_t31 k0_t32 k0_h1 => k0_hw103.2.2.1.1 k0_t31 k0_t32 k0_h1
theorem k0_off450_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off450 v41 v43 v593 v595 k0_t31 k0_t32) a + S1x16.size a ≤ S196x384.size a := fun i v10 v41 v43 v593 v595 k0_hw103 k0_t31 k0_t32 k0_h1 => k0_hw103.2.2.1.2.1 k0_t31 k0_t32 k0_h1
theorem k0_off451_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off451 v41 v43 v593 v595 k0_t31 k0_t32) a + S1x16.size a ≤ S196x384.size a := fun i v10 v41 v43 v593 v595 k0_hw103 k0_t31 k0_t32 k0_h1 => k0_hw103.2.2.1.2.2.1 k0_t31 k0_t32 k0_h1
theorem k0_off452_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off452 v41 v43 v593 v595 k0_t31 k0_t32) a + S1x16.size a ≤ S196x384.size a := fun i v10 v41 v43 v593 v595 k0_hw103 k0_t31 k0_t32 k0_h1 => k0_hw103.2.2.1.2.2.2.1 k0_t31 k0_t32 k0_h1
theorem k0_off453_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off453 v41 v43 v593 v595 k0_t31 k0_t32) a + S1x16.size a ≤ S196x384.size a := fun i v10 v41 v43 v593 v595 k0_hw103 k0_t31 k0_t32 k0_h1 => k0_hw103.2.2.1.2.2.2.2.1 k0_t31 k0_t32 k0_h1
theorem k0_off454_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off454 v41 v43 v593 v595 k0_t31 k0_t32) a + S1x16.size a ≤ S196x384.size a := fun i v10 v41 v43 v593 v595 k0_hw103 k0_t31 k0_t32 k0_h1 => k0_hw103.2.2.1.2.2.2.2.2.1 k0_t31 k0_t32 k0_h1
theorem k0_off455_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off455 v41 v43 v593 v595 k0_t31 k0_t32) a + S1x16.size a ≤ S196x384.size a := fun i v10 v41 v43 v593 v595 k0_hw103 k0_t31 k0_t32 k0_h1 => k0_hw103.2.2.1.2.2.2.2.2.2.1 k0_t31 k0_t32 k0_h1
theorem k0_off456_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off456 v41 v43 v593 v595 k0_t31 k0_t32) a + S1x16.size a ≤ S196x384.size a := fun i v10 v41 v43 v593 v595 k0_hw103 k0_t31 k0_t32 k0_h1 => k0_hw103.2.2.1.2.2.2.2.2.2.2.1 k0_t31 k0_t32 k0_h1
theorem k0_off457_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off457 v41 v43 v593 v595 k0_t31 k0_t32) a + S1x16.size a ≤ S196x384.size a := fun i v10 v41 v43 v593 v595 k0_hw103 k0_t31 k0_t32 k0_h1 => k0_hw103.2.2.1.2.2.2.2.2.2.2.2.1 k0_t31 k0_t32 k0_h1
theorem k0_off458_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off458 v41 v43 v593 v595 k0_t31 k0_t32) a + S1x16.size a ≤ S196x384.size a := fun i v10 v41 v43 v593 v595 k0_hw103 k0_t31 k0_t32 k0_h1 => k0_hw103.2.2.1.2.2.2.2.2.2.2.2.2.1 k0_t31 k0_t32 k0_h1
theorem k0_off459_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t32 : Fin (k0_t32_loop v593 v595).trips), ∀ (k0_h1 : k0_cond1 i v10 = 1#1), ∀ a, (k0_off459 v41 v43 v593 v595 k0_t31 k0_t32) a + S1x16.size a ≤ S196x384.size a := fun i v10 v41 v43 v593 v595 k0_hw103 k0_t31 k0_t32 k0_h1 => k0_hw103.2.2.1.2.2.2.2.2.2.2.2.2.2.1 k0_t31 k0_t32 k0_h1
theorem k0_t33_ok : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips), ∀ (k0_h1 : k0_cond1 i v10 = 1#1), (k0_t33_loop v593 v595).OK := fun i v10 v41 v43 v593 v595 k0_hw103 k0_t31 k0_h1 => k0_hw103.2.2.1.2.2.2.2.2.2.2.2.2.2.2.1 k0_t31 k0_h1
theorem k0_off460_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off460 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.1 k0_t31 k0_t33 k0_h1
theorem k0_off461_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off461 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.1 k0_t31 k0_t33 k0_h1
theorem k0_off462_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off462 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.1 k0_t31 k0_t33 k0_h1
theorem k0_off463_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off463 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.1 k0_t31 k0_t33 k0_h1
theorem k0_off464_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off464 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.1 k0_t31 k0_t33 k0_h1
theorem k0_off465_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off465 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.1 k0_t31 k0_t33 k0_h1
theorem k0_off466_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off466 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.1 k0_t31 k0_t33 k0_h1
theorem k0_off467_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off467 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.1 k0_t31 k0_t33 k0_h1
theorem k0_off468_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off468 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.1 k0_t31 k0_t33 k0_h1
theorem k0_off469_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off469 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.1 k0_t31 k0_t33 k0_h1
theorem k0_off470_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off470 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.1 k0_t31 k0_t33 k0_h1
theorem k0_off471_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off471 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.2.1 k0_t31 k0_t33 k0_h1
theorem k0_off472_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off472 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.2.2.1 k0_t31 k0_t33 k0_h1
theorem k0_off473_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off473 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.2.2.2.1 k0_t31 k0_t33 k0_h1
theorem k0_off474_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off474 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.2.2.2.2.1 k0_t31 k0_t33 k0_h1
theorem k0_off475_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off475 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.2.2.2.2.2.1 k0_t31 k0_t33 k0_h1
theorem k0_off476_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off476 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.2.2.2.2.2.2.1 k0_t31 k0_t33 k0_h1
theorem k0_off477_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off477 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.2.2.2.2.2.2.2.1 k0_t31 k0_t33 k0_h1
theorem k0_off478_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off478 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.2.2.2.2.2.2.2.2.1 k0_t31 k0_t33 k0_h1
theorem k0_off479_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off479 v41 v43 v593 v595 k0_t31 k0_t33) a + S1x16.size a ≤ S196x384.size a := fun i v10 v41 v43 v593 v595 k0_hw103 k0_t31 k0_t33 k0_h1 => k0_hw103.2.2.1.2.2.2.2.2.2.2.2.2.2.2.2.2.2.2.2.2.2.2.2.2.2.2.2.2.2.2.2.2.2.2 k0_t31 k0_t33 k0_h1
theorem k0_off480_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off480 v41 v43 v593 v595 k0_t31 k0_t33) a + S1x16.size a ≤ S196x384.size a := fun i v10 v41 v43 v593 v595 k0_hw103 k0_t31 k0_t33 k0_h1 => k0_hw103.2.2.2.1 k0_t31 k0_t33 k0_h1
theorem k0_off481_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off481 v41 v43 v593 v595 k0_t31 k0_t33) a + S1x16.size a ≤ S196x384.size a := fun i v10 v41 v43 v593 v595 k0_hw103 k0_t31 k0_t33 k0_h1 => k0_hw103.2.2.2.2.1 k0_t31 k0_t33 k0_h1
theorem k0_off482_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off482 v41 v43 v593 v595 k0_t31 k0_t33) a + S1x16.size a ≤ S196x384.size a := fun i v10 v41 v43 v593 v595 k0_hw103 k0_t31 k0_t33 k0_h1 => k0_hw103.2.2.2.2.2.1 k0_t31 k0_t33 k0_h1
theorem k0_off483_inb : ∀ (i : grid0.Coords) (v10 : BitVec 32) (v41 : BitVec 32) (v43 : BitVec 32) (v593 : BitVec 32) (v595 : BitVec 32) (k0_hw103 : k0_chk103 i v10 v41 v43 v593 v595) (k0_t31 : Fin (k0_t31_loop v41 v43).trips) (k0_t33 : Fin (k0_t33_loop v593 v595).trips), ∀ (k0_h1 : k0_cond1 i v10 = 1#1), ∀ a, (k0_off483 v41 v43 v593 v595 k0_t31 k0_t33) a + S1x16.size a ≤ S196x384.size a := fun i v10 v41 v43 v593 v595 k0_hw103 k0_t31 k0_t33 k0_h1 => k0_hw103.2.2.2.2.2.2 k0_t31 k0_t33 k0_h1

def k0_chk104 (i : grid0.Coords) (v10 : BitVec 32) (v613 : IVec S16 32) : Prop :=
  (∀ (k0_h1 : k0_cond1 i v10 = 1#1), ∀ a x, ((![v613] : Fin 1 → IVec S16 32) a x).toNat < S18816.size a)
theorem k0_idx97_inb : ∀ (i : grid0.Coords) (v10 : BitVec 32) (v613 : IVec S16 32) (k0_hw104 : k0_chk104 i v10 v613), ∀ (k0_h1 : k0_cond1 i v10 = 1#1), ∀ a x, ((![v613] : Fin 1 → IVec S16 32) a x).toNat < S18816.size a := fun i v10 v613 k0_hw104 k0_h1 => k0_hw104 k0_h1

def k0_chk105 (i : grid0.Coords) (v10 : BitVec 32) (v618 : IVec S16 32) : Prop :=
  (∀ (k0_h1 : k0_cond1 i v10 = 1#1), ∀ a x, ((![v618] : Fin 1 → IVec S16 32) a x).toNat < S18816.size a)
theorem k0_idx98_inb : ∀ (i : grid0.Coords) (v10 : BitVec 32) (v618 : IVec S16 32) (k0_hw105 : k0_chk105 i v10 v618), ∀ (k0_h1 : k0_cond1 i v10 = 1#1), ∀ a x, ((![v618] : Fin 1 → IVec S16 32) a x).toNat < S18816.size a := fun i v10 v618 k0_hw105 k0_h1 => k0_hw105 k0_h1

def k0_chk106 (i : grid0.Coords) (v10 : BitVec 32) (v623 : IVec S16 32) : Prop :=
  (∀ (k0_h1 : k0_cond1 i v10 = 1#1), ∀ a x, ((![v623] : Fin 1 → IVec S16 32) a x).toNat < S18816.size a)
theorem k0_idx99_inb : ∀ (i : grid0.Coords) (v10 : BitVec 32) (v623 : IVec S16 32) (k0_hw106 : k0_chk106 i v10 v623), ∀ (k0_h1 : k0_cond1 i v10 = 1#1), ∀ a x, ((![v623] : Fin 1 → IVec S16 32) a x).toNat < S18816.size a := fun i v10 v623 k0_hw106 k0_h1 => k0_hw106 k0_h1

def k0_chk107 (i : grid0.Coords) (v10 : BitVec 32) (v628 : IVec S16 32) : Prop :=
  (∀ (k0_h1 : k0_cond1 i v10 = 1#1), ∀ a x, ((![v628] : Fin 1 → IVec S16 32) a x).toNat < S18816.size a)
theorem k0_idx100_inb : ∀ (i : grid0.Coords) (v10 : BitVec 32) (v628 : IVec S16 32) (k0_hw107 : k0_chk107 i v10 v628), ∀ (k0_h1 : k0_cond1 i v10 = 1#1), ∀ a x, ((![v628] : Fin 1 → IVec S16 32) a x).toNat < S18816.size a := fun i v10 v628 k0_hw107 k0_h1 => k0_hw107 k0_h1

def k0_chk108 (i : grid0.Coords) (v10 : BitVec 32) (v633 : IVec S16 32) : Prop :=
  (∀ (k0_h1 : k0_cond1 i v10 = 1#1), ∀ a x, ((![v633] : Fin 1 → IVec S16 32) a x).toNat < S18816.size a)
theorem k0_idx101_inb : ∀ (i : grid0.Coords) (v10 : BitVec 32) (v633 : IVec S16 32) (k0_hw108 : k0_chk108 i v10 v633), ∀ (k0_h1 : k0_cond1 i v10 = 1#1), ∀ a x, ((![v633] : Fin 1 → IVec S16 32) a x).toNat < S18816.size a := fun i v10 v633 k0_hw108 k0_h1 => k0_hw108 k0_h1

def k0_chk109 (i : grid0.Coords) (v10 : BitVec 32) (v638 : IVec S16 32) : Prop :=
  (∀ (k0_h1 : k0_cond1 i v10 = 1#1), ∀ a x, ((![v638] : Fin 1 → IVec S16 32) a x).toNat < S18816.size a)
theorem k0_idx102_inb : ∀ (i : grid0.Coords) (v10 : BitVec 32) (v638 : IVec S16 32) (k0_hw109 : k0_chk109 i v10 v638), ∀ (k0_h1 : k0_cond1 i v10 = 1#1), ∀ a x, ((![v638] : Fin 1 → IVec S16 32) a x).toNat < S18816.size a := fun i v10 v638 k0_hw109 k0_h1 => k0_hw109 k0_h1

def k0_chk110 (i : grid0.Coords) (v10 : BitVec 32) (v643 : IVec S16 32) : Prop :=
  (∀ (k0_h1 : k0_cond1 i v10 = 1#1), ∀ a x, ((![v643] : Fin 1 → IVec S16 32) a x).toNat < S18816.size a)
theorem k0_idx103_inb : ∀ (i : grid0.Coords) (v10 : BitVec 32) (v643 : IVec S16 32) (k0_hw110 : k0_chk110 i v10 v643), ∀ (k0_h1 : k0_cond1 i v10 = 1#1), ∀ a x, ((![v643] : Fin 1 → IVec S16 32) a x).toNat < S18816.size a := fun i v10 v643 k0_hw110 k0_h1 => k0_hw110 k0_h1

def k0_chk111 (i : grid0.Coords) (v10 : BitVec 32) (v648 : IVec S16 32) : Prop :=
  (∀ (k0_h1 : k0_cond1 i v10 = 1#1), ∀ a x, ((![v648] : Fin 1 → IVec S16 32) a x).toNat < S18816.size a)
theorem k0_idx104_inb : ∀ (i : grid0.Coords) (v10 : BitVec 32) (v648 : IVec S16 32) (k0_hw111 : k0_chk111 i v10 v648), ∀ (k0_h1 : k0_cond1 i v10 = 1#1), ∀ a x, ((![v648] : Fin 1 → IVec S16 32) a x).toNat < S18816.size a := fun i v10 v648 k0_hw111 k0_h1 => k0_hw111 k0_h1

def k0_chk112 (i : grid0.Coords) (v10 : BitVec 32) (v653 : IVec S16 32) : Prop :=
  (∀ (k0_h1 : k0_cond1 i v10 = 1#1), ∀ a x, ((![v653] : Fin 1 → IVec S16 32) a x).toNat < S18816.size a)
theorem k0_idx105_inb : ∀ (i : grid0.Coords) (v10 : BitVec 32) (v653 : IVec S16 32) (k0_hw112 : k0_chk112 i v10 v653), ∀ (k0_h1 : k0_cond1 i v10 = 1#1), ∀ a x, ((![v653] : Fin 1 → IVec S16 32) a x).toNat < S18816.size a := fun i v10 v653 k0_hw112 k0_h1 => k0_hw112 k0_h1

def k0_chk113 (i : grid0.Coords) (v10 : BitVec 32) (v658 : IVec S16 32) : Prop :=
  (∀ (k0_h1 : k0_cond1 i v10 = 1#1), ∀ a x, ((![v658] : Fin 1 → IVec S16 32) a x).toNat < S18816.size a)
theorem k0_idx106_inb : ∀ (i : grid0.Coords) (v10 : BitVec 32) (v658 : IVec S16 32) (k0_hw113 : k0_chk113 i v10 v658), ∀ (k0_h1 : k0_cond1 i v10 = 1#1), ∀ a x, ((![v658] : Fin 1 → IVec S16 32) a x).toNat < S18816.size a := fun i v10 v658 k0_hw113 k0_h1 => k0_hw113 k0_h1

def k0_chk114 (i : grid0.Coords) (v10 : BitVec 32) (v663 : IVec S16 32) : Prop :=
  (∀ (k0_h1 : k0_cond1 i v10 = 1#1), ∀ a x, ((![v663] : Fin 1 → IVec S16 32) a x).toNat < S18816.size a)
theorem k0_idx107_inb : ∀ (i : grid0.Coords) (v10 : BitVec 32) (v663 : IVec S16 32) (k0_hw114 : k0_chk114 i v10 v663), ∀ (k0_h1 : k0_cond1 i v10 = 1#1), ∀ a x, ((![v663] : Fin 1 → IVec S16 32) a x).toNat < S18816.size a := fun i v10 v663 k0_hw114 k0_h1 => k0_hw114 k0_h1

def k0_chk115 (i : grid0.Coords) (v10 : BitVec 32) (v668 : IVec S16 32) : Prop :=
  (∀ (k0_h1 : k0_cond1 i v10 = 1#1), ∀ a x, ((![v668] : Fin 1 → IVec S16 32) a x).toNat < S18816.size a)
theorem k0_idx108_inb : ∀ (i : grid0.Coords) (v10 : BitVec 32) (v668 : IVec S16 32) (k0_hw115 : k0_chk115 i v10 v668), ∀ (k0_h1 : k0_cond1 i v10 = 1#1), ∀ a x, ((![v668] : Fin 1 → IVec S16 32) a x).toNat < S18816.size a := fun i v10 v668 k0_hw115 k0_h1 => k0_hw115 k0_h1

def k0_chk116 (i : grid0.Coords) (v10 : BitVec 32) (v673 : IVec S16 32) : Prop :=
  (∀ (k0_h1 : k0_cond1 i v10 = 1#1), ∀ a x, ((![v673] : Fin 1 → IVec S16 32) a x).toNat < S18816.size a)
theorem k0_idx109_inb : ∀ (i : grid0.Coords) (v10 : BitVec 32) (v673 : IVec S16 32) (k0_hw116 : k0_chk116 i v10 v673), ∀ (k0_h1 : k0_cond1 i v10 = 1#1), ∀ a x, ((![v673] : Fin 1 → IVec S16 32) a x).toNat < S18816.size a := fun i v10 v673 k0_hw116 k0_h1 => k0_hw116 k0_h1

def k0_chk117 (i : grid0.Coords) (v10 : BitVec 32) (v678 : IVec S16 32) : Prop :=
  (∀ (k0_h1 : k0_cond1 i v10 = 1#1), ∀ a x, ((![v678] : Fin 1 → IVec S16 32) a x).toNat < S18816.size a)
theorem k0_idx110_inb : ∀ (i : grid0.Coords) (v10 : BitVec 32) (v678 : IVec S16 32) (k0_hw117 : k0_chk117 i v10 v678), ∀ (k0_h1 : k0_cond1 i v10 = 1#1), ∀ a x, ((![v678] : Fin 1 → IVec S16 32) a x).toNat < S18816.size a := fun i v10 v678 k0_hw117 k0_h1 => k0_hw117 k0_h1

def k0_chk118 (i : grid0.Coords) (v10 : BitVec 32) (v683 : IVec S16 32) : Prop :=
  (∀ (k0_h1 : k0_cond1 i v10 = 1#1), ∀ a x, ((![v683] : Fin 1 → IVec S16 32) a x).toNat < S18816.size a)
theorem k0_idx111_inb : ∀ (i : grid0.Coords) (v10 : BitVec 32) (v683 : IVec S16 32) (k0_hw118 : k0_chk118 i v10 v683), ∀ (k0_h1 : k0_cond1 i v10 = 1#1), ∀ a x, ((![v683] : Fin 1 → IVec S16 32) a x).toNat < S18816.size a := fun i v10 v683 k0_hw118 k0_h1 => k0_hw118 k0_h1

def k0_chk119 (i : grid0.Coords) (v10 : BitVec 32) (v688 : IVec S16 32) : Prop :=
  (∀ (k0_h1 : k0_cond1 i v10 = 1#1), ∀ a x, ((![v688] : Fin 1 → IVec S16 32) a x).toNat < S18816.size a)
theorem k0_idx112_inb : ∀ (i : grid0.Coords) (v10 : BitVec 32) (v688 : IVec S16 32) (k0_hw119 : k0_chk119 i v10 v688), ∀ (k0_h1 : k0_cond1 i v10 = 1#1), ∀ a x, ((![v688] : Fin 1 → IVec S16 32) a x).toNat < S18816.size a := fun i v10 v688 k0_hw119 k0_h1 => k0_hw119 k0_h1

def k0_chk120 (i : grid0.Coords) (v10 : BitVec 32) (v693 : IVec S16 32) : Prop :=
  (∀ (k0_h1 : k0_cond1 i v10 = 1#1), ∀ a x, ((![v693] : Fin 1 → IVec S16 32) a x).toNat < S18816.size a)
theorem k0_idx113_inb : ∀ (i : grid0.Coords) (v10 : BitVec 32) (v693 : IVec S16 32) (k0_hw120 : k0_chk120 i v10 v693), ∀ (k0_h1 : k0_cond1 i v10 = 1#1), ∀ a x, ((![v693] : Fin 1 → IVec S16 32) a x).toNat < S18816.size a := fun i v10 v693 k0_hw120 k0_h1 => k0_hw120 k0_h1

def k0_chk121 (i : grid0.Coords) (v10 : BitVec 32) (v698 : IVec S16 32) : Prop :=
  (∀ (k0_h1 : k0_cond1 i v10 = 1#1), ∀ a x, ((![v698] : Fin 1 → IVec S16 32) a x).toNat < S18816.size a)
theorem k0_idx114_inb : ∀ (i : grid0.Coords) (v10 : BitVec 32) (v698 : IVec S16 32) (k0_hw121 : k0_chk121 i v10 v698), ∀ (k0_h1 : k0_cond1 i v10 = 1#1), ∀ a x, ((![v698] : Fin 1 → IVec S16 32) a x).toNat < S18816.size a := fun i v10 v698 k0_hw121 k0_h1 => k0_hw121 k0_h1

def k0_chk122 (i : grid0.Coords) (v10 : BitVec 32) (v703 : IVec S16 32) : Prop :=
  (∀ (k0_h1 : k0_cond1 i v10 = 1#1), ∀ a x, ((![v703] : Fin 1 → IVec S16 32) a x).toNat < S18816.size a)
theorem k0_idx115_inb : ∀ (i : grid0.Coords) (v10 : BitVec 32) (v703 : IVec S16 32) (k0_hw122 : k0_chk122 i v10 v703), ∀ (k0_h1 : k0_cond1 i v10 = 1#1), ∀ a x, ((![v703] : Fin 1 → IVec S16 32) a x).toNat < S18816.size a := fun i v10 v703 k0_hw122 k0_h1 => k0_hw122 k0_h1

def k0_chk123 (i : grid0.Coords) (v10 : BitVec 32) (v708 : IVec S16 32) : Prop :=
  (∀ (k0_h1 : k0_cond1 i v10 = 1#1), ∀ a x, ((![v708] : Fin 1 → IVec S16 32) a x).toNat < S18816.size a)
theorem k0_idx116_inb : ∀ (i : grid0.Coords) (v10 : BitVec 32) (v708 : IVec S16 32) (k0_hw123 : k0_chk123 i v10 v708), ∀ (k0_h1 : k0_cond1 i v10 = 1#1), ∀ a x, ((![v708] : Fin 1 → IVec S16 32) a x).toNat < S18816.size a := fun i v10 v708 k0_hw123 k0_h1 => k0_hw123 k0_h1

def k0_chk124 (i : grid0.Coords) (v10 : BitVec 32) (v713 : IVec S16 32) : Prop :=
  (∀ (k0_h1 : k0_cond1 i v10 = 1#1), ∀ a x, ((![v713] : Fin 1 → IVec S16 32) a x).toNat < S18816.size a)
theorem k0_idx117_inb : ∀ (i : grid0.Coords) (v10 : BitVec 32) (v713 : IVec S16 32) (k0_hw124 : k0_chk124 i v10 v713), ∀ (k0_h1 : k0_cond1 i v10 = 1#1), ∀ a x, ((![v713] : Fin 1 → IVec S16 32) a x).toNat < S18816.size a := fun i v10 v713 k0_hw124 k0_h1 => k0_hw124 k0_h1

def k0_chk125 (i : grid0.Coords) (v10 : BitVec 32) (v718 : IVec S16 32) : Prop :=
  (∀ (k0_h1 : k0_cond1 i v10 = 1#1), ∀ a x, ((![v718] : Fin 1 → IVec S16 32) a x).toNat < S18816.size a)
theorem k0_idx118_inb : ∀ (i : grid0.Coords) (v10 : BitVec 32) (v718 : IVec S16 32) (k0_hw125 : k0_chk125 i v10 v718), ∀ (k0_h1 : k0_cond1 i v10 = 1#1), ∀ a x, ((![v718] : Fin 1 → IVec S16 32) a x).toNat < S18816.size a := fun i v10 v718 k0_hw125 k0_h1 => k0_hw125 k0_h1

def k0_chk126 (i : grid0.Coords) (v10 : BitVec 32) (v723 : IVec S16 32) : Prop :=
  (∀ (k0_h1 : k0_cond1 i v10 = 1#1), ∀ a x, ((![v723] : Fin 1 → IVec S16 32) a x).toNat < S18816.size a)
theorem k0_idx119_inb : ∀ (i : grid0.Coords) (v10 : BitVec 32) (v723 : IVec S16 32) (k0_hw126 : k0_chk126 i v10 v723), ∀ (k0_h1 : k0_cond1 i v10 = 1#1), ∀ a x, ((![v723] : Fin 1 → IVec S16 32) a x).toNat < S18816.size a := fun i v10 v723 k0_hw126 k0_h1 => k0_hw126 k0_h1

def k0_chk127 (i : grid0.Coords) (v10 : BitVec 32) (v728 : IVec S16 32) : Prop :=
  (∀ (k0_h1 : k0_cond1 i v10 = 1#1), ∀ a x, ((![v728] : Fin 1 → IVec S16 32) a x).toNat < S18816.size a)
theorem k0_idx120_inb : ∀ (i : grid0.Coords) (v10 : BitVec 32) (v728 : IVec S16 32) (k0_hw127 : k0_chk127 i v10 v728), ∀ (k0_h1 : k0_cond1 i v10 = 1#1), ∀ a x, ((![v728] : Fin 1 → IVec S16 32) a x).toNat < S18816.size a := fun i v10 v728 k0_hw127 k0_h1 => k0_hw127 k0_h1
@[reducible] def k0_t34_loop (v41 : BitVec 32) (v43 : BitVec 32) : Scf.Loop 32 :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_271 : BitVec 32 := 1#32
  ⟨v41, v738, c1_i32_271⟩
@[reducible] def k0_t35_loop (v730 : BitVec 32) (v732 : BitVec 32) : Scf.Loop 32 :=
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_376 : BitVec 32 := 1#32
  ⟨v730, v1008, c1_i32_376⟩

def k0_off484 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1012 : Index := Scalar.indexCast v1011
  let c0_378 : Index := 0#32
  ![v1012.toNat, 0]
def k0_off485 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1015 : Index := Scalar.indexCast v1011
  let c16 : Index := 16#32
  ![v1015.toNat, 16]
def k0_off486 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1018 : Index := Scalar.indexCast v1011
  let c32 : Index := 32#32
  ![v1018.toNat, 32]
def k0_off487 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1021 : Index := Scalar.indexCast v1011
  let c48 : Index := 48#32
  ![v1021.toNat, 48]
def k0_off488 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1024 : Index := Scalar.indexCast v1011
  let c64 : Index := 64#32
  ![v1024.toNat, 64]
def k0_off489 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1027 : Index := Scalar.indexCast v1011
  let c80 : Index := 80#32
  ![v1027.toNat, 80]
def k0_off490 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1030 : Index := Scalar.indexCast v1011
  let c96 : Index := 96#32
  ![v1030.toNat, 96]
def k0_off491 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1033 : Index := Scalar.indexCast v1011
  let c112 : Index := 112#32
  ![v1033.toNat, 112]
def k0_off492 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1036 : Index := Scalar.indexCast v1011
  let c128 : Index := 128#32
  ![v1036.toNat, 128]
def k0_off493 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1039 : Index := Scalar.indexCast v1011
  let c144 : Index := 144#32
  ![v1039.toNat, 144]
def k0_off494 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1042 : Index := Scalar.indexCast v1011
  let c160 : Index := 160#32
  ![v1042.toNat, 160]
def k0_off495 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1045 : Index := Scalar.indexCast v1011
  let c176 : Index := 176#32
  ![v1045.toNat, 176]
def k0_off496 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1048 : Index := Scalar.indexCast v1011
  let c192 : Index := 192#32
  ![v1048.toNat, 192]
def k0_off497 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1051 : Index := Scalar.indexCast v1011
  let c208 : Index := 208#32
  ![v1051.toNat, 208]
def k0_off498 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1054 : Index := Scalar.indexCast v1011
  let c224 : Index := 224#32
  ![v1054.toNat, 224]
def k0_off499 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1057 : Index := Scalar.indexCast v1011
  let c240 : Index := 240#32
  ![v1057.toNat, 240]
def k0_off500 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1060 : Index := Scalar.indexCast v1011
  let c256 : Index := 256#32
  ![v1060.toNat, 256]
def k0_off501 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1063 : Index := Scalar.indexCast v1011
  let c272 : Index := 272#32
  ![v1063.toNat, 272]
def k0_off502 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1066 : Index := Scalar.indexCast v1011
  let c288 : Index := 288#32
  ![v1066.toNat, 288]
def k0_off503 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1069 : Index := Scalar.indexCast v1011
  let c304 : Index := 304#32
  ![v1069.toNat, 304]
def k0_off504 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1072 : Index := Scalar.indexCast v1011
  let c320 : Index := 320#32
  ![v1072.toNat, 320]
def k0_off505 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1075 : Index := Scalar.indexCast v1011
  let c336 : Index := 336#32
  ![v1075.toNat, 336]
def k0_off506 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1078 : Index := Scalar.indexCast v1011
  let c352 : Index := 352#32
  ![v1078.toNat, 352]
def k0_off507 (v41 : BitVec 32) (v43 : BitVec 32) (v730 : BitVec 32) (v732 : BitVec 32) (k0_t34 : Fin (k0_t34_loop v41 v43).trips) (k0_t35 : Fin (k0_t35_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let c1_i32_376 : BitVec 32 := 1#32
  let arg36 : BitVec 32 := Scf.iv v730 c1_i32_376 k0_t35
  let v1011 : BitVec 32 := Scalar.addi v1003 arg36
  let v1081 : Index := Scalar.indexCast v1011
  let c368 : Index := 368#32
  ![v1081.toNat, 368]
@[reducible] def k0_t36_loop (v730 : BitVec 32) (v732 : BitVec 32) : Scf.Loop 32 :=
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let v1005 : BitVec 32 := Scalar.addi v730 v1004
  let c1_i32_377 : BitVec 32 := 1#32
  ⟨v1008, v1005, c1_i32_377⟩
def k0_off508 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1012 : Index := Scalar.indexCast v1011
  let c0_378 : Index := 0#32
  ![v1012.toNat, 0]
def k0_off509 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1015 : Index := Scalar.indexCast v1011
  let c16 : Index := 16#32
  ![v1015.toNat, 16]
def k0_off510 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1018 : Index := Scalar.indexCast v1011
  let c32 : Index := 32#32
  ![v1018.toNat, 32]
def k0_off511 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1021 : Index := Scalar.indexCast v1011
  let c48 : Index := 48#32
  ![v1021.toNat, 48]
def k0_off512 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1024 : Index := Scalar.indexCast v1011
  let c64 : Index := 64#32
  ![v1024.toNat, 64]
def k0_off513 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1027 : Index := Scalar.indexCast v1011
  let c80 : Index := 80#32
  ![v1027.toNat, 80]
def k0_off514 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1030 : Index := Scalar.indexCast v1011
  let c96 : Index := 96#32
  ![v1030.toNat, 96]
def k0_off515 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1033 : Index := Scalar.indexCast v1011
  let c112 : Index := 112#32
  ![v1033.toNat, 112]
def k0_off516 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1036 : Index := Scalar.indexCast v1011
  let c128 : Index := 128#32
  ![v1036.toNat, 128]
def k0_off517 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1039 : Index := Scalar.indexCast v1011
  let c144 : Index := 144#32
  ![v1039.toNat, 144]
def k0_off518 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1042 : Index := Scalar.indexCast v1011
  let c160 : Index := 160#32
  ![v1042.toNat, 160]
def k0_off519 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1045 : Index := Scalar.indexCast v1011
  let c176 : Index := 176#32
  ![v1045.toNat, 176]
def k0_off520 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1048 : Index := Scalar.indexCast v1011
  let c192 : Index := 192#32
  ![v1048.toNat, 192]
def k0_off521 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1051 : Index := Scalar.indexCast v1011
  let c208 : Index := 208#32
  ![v1051.toNat, 208]
def k0_off522 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1054 : Index := Scalar.indexCast v1011
  let c224 : Index := 224#32
  ![v1054.toNat, 224]
def k0_off523 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1057 : Index := Scalar.indexCast v1011
  let c240 : Index := 240#32
  ![v1057.toNat, 240]
def k0_off524 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1060 : Index := Scalar.indexCast v1011
  let c256 : Index := 256#32
  ![v1060.toNat, 256]
def k0_off525 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1063 : Index := Scalar.indexCast v1011
  let c272 : Index := 272#32
  ![v1063.toNat, 272]
def k0_off526 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1066 : Index := Scalar.indexCast v1011
  let c288 : Index := 288#32
  ![v1066.toNat, 288]
def k0_off527 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1069 : Index := Scalar.indexCast v1011
  let c304 : Index := 304#32
  ![v1069.toNat, 304]
def k0_off528 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1072 : Index := Scalar.indexCast v1011
  let c320 : Index := 320#32
  ![v1072.toNat, 320]
def k0_off529 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1075 : Index := Scalar.indexCast v1011
  let c336 : Index := 336#32
  ![v1075.toNat, 336]
def k0_off530 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1078 : Index := Scalar.indexCast v1011
  let c352 : Index := 352#32
  ![v1078.toNat, 352]
def k0_off531 (v41 : BitVec 32) (v43 : BitVec 32) (v730 : BitVec 32) (v732 : BitVec 32) (k0_t34 : Fin (k0_t34_loop v41 v43).trips) (k0_t36 : Fin (k0_t36_loop v730 v732).trips) : Fin 2 → Nat :=
  let c1_i32_271 : BitVec 32 := 1#32
  let arg11 : BitVec 32 := Scf.iv v41 c1_i32_271 k0_t34
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t36
  let v1011 : BitVec 32 := Scalar.addi v1003 arg36
  let v1081 : Index := Scalar.indexCast v1011
  let c368 : Index := 368#32
  ![v1081.toNat, 368]
@[reducible] def k0_t37_loop (v41 : BitVec 32) (v43 : BitVec 32) : Scf.Loop 32 :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let v735 : BitVec 32 := Scalar.addi v41 v734
  let c1_i32_272 : BitVec 32 := 1#32
  ⟨v738, v735, c1_i32_272⟩
@[reducible] def k0_t38_loop (v730 : BitVec 32) (v732 : BitVec 32) : Scf.Loop 32 :=
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_376 : BitVec 32 := 1#32
  ⟨v730, v1008, c1_i32_376⟩
def k0_off532 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1012 : Index := Scalar.indexCast v1011
  let c0_378 : Index := 0#32
  ![v1012.toNat, 0]
def k0_off533 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1015 : Index := Scalar.indexCast v1011
  let c16 : Index := 16#32
  ![v1015.toNat, 16]
def k0_off534 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1018 : Index := Scalar.indexCast v1011
  let c32 : Index := 32#32
  ![v1018.toNat, 32]
def k0_off535 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1021 : Index := Scalar.indexCast v1011
  let c48 : Index := 48#32
  ![v1021.toNat, 48]
def k0_off536 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1024 : Index := Scalar.indexCast v1011
  let c64 : Index := 64#32
  ![v1024.toNat, 64]
def k0_off537 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1027 : Index := Scalar.indexCast v1011
  let c80 : Index := 80#32
  ![v1027.toNat, 80]
def k0_off538 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1030 : Index := Scalar.indexCast v1011
  let c96 : Index := 96#32
  ![v1030.toNat, 96]
def k0_off539 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1033 : Index := Scalar.indexCast v1011
  let c112 : Index := 112#32
  ![v1033.toNat, 112]
def k0_off540 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1036 : Index := Scalar.indexCast v1011
  let c128 : Index := 128#32
  ![v1036.toNat, 128]
def k0_off541 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1039 : Index := Scalar.indexCast v1011
  let c144 : Index := 144#32
  ![v1039.toNat, 144]
def k0_off542 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1042 : Index := Scalar.indexCast v1011
  let c160 : Index := 160#32
  ![v1042.toNat, 160]
def k0_off543 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1045 : Index := Scalar.indexCast v1011
  let c176 : Index := 176#32
  ![v1045.toNat, 176]
def k0_off544 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1048 : Index := Scalar.indexCast v1011
  let c192 : Index := 192#32
  ![v1048.toNat, 192]
def k0_off545 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1051 : Index := Scalar.indexCast v1011
  let c208 : Index := 208#32
  ![v1051.toNat, 208]
def k0_off546 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1054 : Index := Scalar.indexCast v1011
  let c224 : Index := 224#32
  ![v1054.toNat, 224]
def k0_off547 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1057 : Index := Scalar.indexCast v1011
  let c240 : Index := 240#32
  ![v1057.toNat, 240]
def k0_off548 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1060 : Index := Scalar.indexCast v1011
  let c256 : Index := 256#32
  ![v1060.toNat, 256]
def k0_off549 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1063 : Index := Scalar.indexCast v1011
  let c272 : Index := 272#32
  ![v1063.toNat, 272]
def k0_off550 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1066 : Index := Scalar.indexCast v1011
  let c288 : Index := 288#32
  ![v1066.toNat, 288]
def k0_off551 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1069 : Index := Scalar.indexCast v1011
  let c304 : Index := 304#32
  ![v1069.toNat, 304]
def k0_off552 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1072 : Index := Scalar.indexCast v1011
  let c320 : Index := 320#32
  ![v1072.toNat, 320]
def k0_off553 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1075 : Index := Scalar.indexCast v1011
  let c336 : Index := 336#32
  ![v1075.toNat, 336]
def k0_off554 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1078 : Index := Scalar.indexCast v1011
  let c352 : Index := 352#32
  ![v1078.toNat, 352]
def k0_off555 (v41 : BitVec 32) (v43 : BitVec 32) (v730 : BitVec 32) (v732 : BitVec 32) (k0_t37 : Fin (k0_t37_loop v41 v43).trips) (k0_t38 : Fin (k0_t38_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let c1_i32_376 : BitVec 32 := 1#32
  let arg36 : BitVec 32 := Scf.iv v730 c1_i32_376 k0_t38
  let v1011 : BitVec 32 := Scalar.addi v1003 arg36
  let v1081 : Index := Scalar.indexCast v1011
  let c368 : Index := 368#32
  ![v1081.toNat, 368]
@[reducible] def k0_t39_loop (v730 : BitVec 32) (v732 : BitVec 32) : Scf.Loop 32 :=
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let v1005 : BitVec 32 := Scalar.addi v730 v1004
  let c1_i32_377 : BitVec 32 := 1#32
  ⟨v1008, v1005, c1_i32_377⟩
def k0_off556 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1012 : Index := Scalar.indexCast v1011
  let c0_378 : Index := 0#32
  ![v1012.toNat, 0]
def k0_off557 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1015 : Index := Scalar.indexCast v1011
  let c16 : Index := 16#32
  ![v1015.toNat, 16]
def k0_off558 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1018 : Index := Scalar.indexCast v1011
  let c32 : Index := 32#32
  ![v1018.toNat, 32]
def k0_off559 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1021 : Index := Scalar.indexCast v1011
  let c48 : Index := 48#32
  ![v1021.toNat, 48]
def k0_off560 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1024 : Index := Scalar.indexCast v1011
  let c64 : Index := 64#32
  ![v1024.toNat, 64]
def k0_off561 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1027 : Index := Scalar.indexCast v1011
  let c80 : Index := 80#32
  ![v1027.toNat, 80]
def k0_off562 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1030 : Index := Scalar.indexCast v1011
  let c96 : Index := 96#32
  ![v1030.toNat, 96]
def k0_off563 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1033 : Index := Scalar.indexCast v1011
  let c112 : Index := 112#32
  ![v1033.toNat, 112]
def k0_off564 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1036 : Index := Scalar.indexCast v1011
  let c128 : Index := 128#32
  ![v1036.toNat, 128]
def k0_off565 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1039 : Index := Scalar.indexCast v1011
  let c144 : Index := 144#32
  ![v1039.toNat, 144]
def k0_off566 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1042 : Index := Scalar.indexCast v1011
  let c160 : Index := 160#32
  ![v1042.toNat, 160]
def k0_off567 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1045 : Index := Scalar.indexCast v1011
  let c176 : Index := 176#32
  ![v1045.toNat, 176]
def k0_off568 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1048 : Index := Scalar.indexCast v1011
  let c192 : Index := 192#32
  ![v1048.toNat, 192]
def k0_off569 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1051 : Index := Scalar.indexCast v1011
  let c208 : Index := 208#32
  ![v1051.toNat, 208]
def k0_off570 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1054 : Index := Scalar.indexCast v1011
  let c224 : Index := 224#32
  ![v1054.toNat, 224]
def k0_off571 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1057 : Index := Scalar.indexCast v1011
  let c240 : Index := 240#32
  ![v1057.toNat, 240]
def k0_off572 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1060 : Index := Scalar.indexCast v1011
  let c256 : Index := 256#32
  ![v1060.toNat, 256]
def k0_off573 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1063 : Index := Scalar.indexCast v1011
  let c272 : Index := 272#32
  ![v1063.toNat, 272]
def k0_off574 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1066 : Index := Scalar.indexCast v1011
  let c288 : Index := 288#32
  ![v1066.toNat, 288]
def k0_off575 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1069 : Index := Scalar.indexCast v1011
  let c304 : Index := 304#32
  ![v1069.toNat, 304]
def k0_off576 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1072 : Index := Scalar.indexCast v1011
  let c320 : Index := 320#32
  ![v1072.toNat, 320]
def k0_off577 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1075 : Index := Scalar.indexCast v1011
  let c336 : Index := 336#32
  ![v1075.toNat, 336]
def k0_off578 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1078 : Index := Scalar.indexCast v1011
  let c352 : Index := 352#32
  ![v1078.toNat, 352]
def k0_off579 (v41 : BitVec 32) (v43 : BitVec 32) (v730 : BitVec 32) (v732 : BitVec 32) (k0_t37 : Fin (k0_t37_loop v41 v43).trips) (k0_t39 : Fin (k0_t39_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t37
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t39
  let v1011 : BitVec 32 := Scalar.addi v1003 arg36
  let v1081 : Index := Scalar.indexCast v1011
  let c368 : Index := 368#32
  ![v1081.toNat, 368]

def k0_chk128_0 (i : grid0.Coords) (v10 : BitVec 32) (v41 : BitVec 32) (v43 : BitVec 32) (v730 : BitVec 32) (v732 : BitVec 32) : Prop :=
  (∀ k0_t34 : Fin (k0_t34_loop v41 v43).trips, ∀ (k0_h1 : k0_cond1 i v10 = 1#1), (k0_t35_loop v730 v732).OK) ∧
  (∀ (k0_t34 : Fin (k0_t34_loop v41 v43).trips) (k0_t35 : Fin (k0_t35_loop v730 v732).trips), ∀ (k0_h1 : k0_cond1 i v10 = 1#1), ∀ a, (k0_off484 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off485 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off486 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off487 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off488 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off489 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off490 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off491 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off492 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off493 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off494 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off495 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off496 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off497 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off498 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off499 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off500 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off501 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off502 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off503 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off504 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off505 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off506 v41 v43 v730 v732 k0_t34 k0_t35) a + S1x16.size a ≤ S196x384.size a) ∧
  (∀ (k0_t34 : Fin (k0_t34_loop v41 v43).trips) (k0_t35 : Fin (k0_t35_loop v730 v732).trips), ∀ (k0_h1 : k0_cond1 i v10 = 1#1), ∀ a, (k0_off507 v41 v43 v730 v732 k0_t34 k0_t35) a + S1x16.size a ≤ S196x384.size a) ∧
  (∀ k0_t34 : Fin (k0_t34_loop v41 v43).trips, ∀ (k0_h1 : k0_cond1 i v10 = 1#1), (k0_t36_loop v730 v732).OK) ∧
  (∀ (k0_t34 : Fin (k0_t34_loop v41 v43).trips) (k0_t36 : Fin (k0_t36_loop v730 v732).trips), ∀ (k0_h1 : k0_cond1 i v10 = 1#1), ∀ a, (k0_off508 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off509 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off510 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off511 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off512 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off513 v41 v43 v730 v732 k0_t34 k0_t36) a + S1x16.size a ≤ S196x384.size a)
def k0_chk128_1 (i : grid0.Coords) (v10 : BitVec 32) (v41 : BitVec 32) (v43 : BitVec 32) (v730 : BitVec 32) (v732 : BitVec 32) : Prop :=
  (∀ (k0_t34 : Fin (k0_t34_loop v41 v43).trips) (k0_t36 : Fin (k0_t36_loop v730 v732).trips), ∀ (k0_h1 : k0_cond1 i v10 = 1#1), ∀ a, (k0_off514 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off515 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off516 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off517 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off518 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off519 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off520 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off521 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off522 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off523 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off524 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off525 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off526 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off527 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off528 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off529 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off530 v41 v43 v730 v732 k0_t34 k0_t36) a + S1x16.size a ≤ S196x384.size a) ∧
  (∀ (k0_t34 : Fin (k0_t34_loop v41 v43).trips) (k0_t36 : Fin (k0_t36_loop v730 v732).trips), ∀ (k0_h1 : k0_cond1 i v10 = 1#1), ∀ a, (k0_off531 v41 v43 v730 v732 k0_t34 k0_t36) a + S1x16.size a ≤ S196x384.size a) ∧
  (∀ k0_t37 : Fin (k0_t37_loop v41 v43).trips, ∀ (k0_h1 : k0_cond1 i v10 = 1#1), (k0_t38_loop v730 v732).OK) ∧
  (∀ (k0_t37 : Fin (k0_t37_loop v41 v43).trips) (k0_t38 : Fin (k0_t38_loop v730 v732).trips), ∀ (k0_h1 : k0_cond1 i v10 = 1#1), ∀ a, (k0_off532 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off533 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off534 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off535 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off536 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off537 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off538 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off539 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off540 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off541 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off542 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off543 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off544 v41 v43 v730 v732 k0_t37 k0_t38) a + S1x16.size a ≤ S196x384.size a)
def k0_chk128_2 (i : grid0.Coords) (v10 : BitVec 32) (v41 : BitVec 32) (v43 : BitVec 32) (v730 : BitVec 32) (v732 : BitVec 32) : Prop :=
  (∀ (k0_t37 : Fin (k0_t37_loop v41 v43).trips) (k0_t38 : Fin (k0_t38_loop v730 v732).trips), ∀ (k0_h1 : k0_cond1 i v10 = 1#1), ∀ a, (k0_off545 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off546 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off547 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off548 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off549 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off550 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off551 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off552 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off553 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off554 v41 v43 v730 v732 k0_t37 k0_t38) a + S1x16.size a ≤ S196x384.size a) ∧
  (∀ (k0_t37 : Fin (k0_t37_loop v41 v43).trips) (k0_t38 : Fin (k0_t38_loop v730 v732).trips), ∀ (k0_h1 : k0_cond1 i v10 = 1#1), ∀ a, (k0_off555 v41 v43 v730 v732 k0_t37 k0_t38) a + S1x16.size a ≤ S196x384.size a) ∧
  (∀ k0_t37 : Fin (k0_t37_loop v41 v43).trips, ∀ (k0_h1 : k0_cond1 i v10 = 1#1), (k0_t39_loop v730 v732).OK) ∧
  (∀ (k0_t37 : Fin (k0_t37_loop v41 v43).trips) (k0_t39 : Fin (k0_t39_loop v730 v732).trips), ∀ (k0_h1 : k0_cond1 i v10 = 1#1), ∀ a, (k0_off556 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off557 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off558 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off559 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off560 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off561 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off562 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off563 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off564 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off565 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off566 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off567 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off568 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off569 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off570 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off571 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off572 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off573 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off574 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off575 v41 v43 v730 v732 k0_t37 k0_t39) a + S1x16.size a ≤ S196x384.size a)
def k0_chk128_3 (i : grid0.Coords) (v10 : BitVec 32) (v41 : BitVec 32) (v43 : BitVec 32) (v730 : BitVec 32) (v732 : BitVec 32) : Prop :=
  (∀ (k0_t37 : Fin (k0_t37_loop v41 v43).trips) (k0_t39 : Fin (k0_t39_loop v730 v732).trips), ∀ (k0_h1 : k0_cond1 i v10 = 1#1), ∀ a, (k0_off576 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off577 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off578 v41 v43 v730 v732 k0_t37 k0_t39) a + S1x16.size a ≤ S196x384.size a) ∧
  (∀ (k0_t37 : Fin (k0_t37_loop v41 v43).trips) (k0_t39 : Fin (k0_t39_loop v730 v732).trips), ∀ (k0_h1 : k0_cond1 i v10 = 1#1), ∀ a, (k0_off579 v41 v43 v730 v732 k0_t37 k0_t39) a + S1x16.size a ≤ S196x384.size a)
def k0_chk128 (i : grid0.Coords) (v10 : BitVec 32) (v41 : BitVec 32) (v43 : BitVec 32) (v730 : BitVec 32) (v732 : BitVec 32) : Prop :=
  k0_chk128_0 i v10 v41 v43 v730 v732 ∧
  k0_chk128_1 i v10 v41 v43 v730 v732 ∧
  k0_chk128_2 i v10 v41 v43 v730 v732 ∧
  k0_chk128_3 i v10 v41 v43 v730 v732
theorem k0_t35_ok : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips), ∀ (k0_h1 : k0_cond1 i v10 = 1#1), (k0_t35_loop v730 v732).OK := fun i v10 v41 v43 v730 v732 k0_hw128 k0_t34 k0_h1 => k0_hw128.1.1 k0_t34 k0_h1
theorem k0_off484_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off484 v41 v43 v730 v732 k0_t34 k0_t35) a + S1x16.size a ≤ S196x384.size a := fun i v10 v41 v43 v730 v732 k0_hw128 k0_t34 k0_t35 k0_h1 => k0_hw128.1.2.1 k0_t34 k0_t35 k0_h1
theorem k0_off485_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off485 v41 v43 v730 v732 k0_t34 k0_t35) a + S1x16.size a ≤ S196x384.size a := fun i v10 v41 v43 v730 v732 k0_hw128 k0_t34 k0_t35 k0_h1 => k0_hw128.1.2.2.1 k0_t34 k0_t35 k0_h1
theorem k0_off486_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off486 v41 v43 v730 v732 k0_t34 k0_t35) a + S1x16.size a ≤ S196x384.size a := fun i v10 v41 v43 v730 v732 k0_hw128 k0_t34 k0_t35 k0_h1 => k0_hw128.1.2.2.2.1 k0_t34 k0_t35 k0_h1
theorem k0_off487_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off487 v41 v43 v730 v732 k0_t34 k0_t35) a + S1x16.size a ≤ S196x384.size a := fun i v10 v41 v43 v730 v732 k0_hw128 k0_t34 k0_t35 k0_h1 => k0_hw128.1.2.2.2.2.1 k0_t34 k0_t35 k0_h1
theorem k0_off488_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off488 v41 v43 v730 v732 k0_t34 k0_t35) a + S1x16.size a ≤ S196x384.size a := fun i v10 v41 v43 v730 v732 k0_hw128 k0_t34 k0_t35 k0_h1 => k0_hw128.1.2.2.2.2.2.1 k0_t34 k0_t35 k0_h1
theorem k0_off489_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off489 v41 v43 v730 v732 k0_t34 k0_t35) a + S1x16.size a ≤ S196x384.size a := fun i v10 v41 v43 v730 v732 k0_hw128 k0_t34 k0_t35 k0_h1 => k0_hw128.1.2.2.2.2.2.2.1 k0_t34 k0_t35 k0_h1
theorem k0_off490_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off490 v41 v43 v730 v732 k0_t34 k0_t35) a + S1x16.size a ≤ S196x384.size a := fun i v10 v41 v43 v730 v732 k0_hw128 k0_t34 k0_t35 k0_h1 => k0_hw128.1.2.2.2.2.2.2.2.1 k0_t34 k0_t35 k0_h1
theorem k0_off491_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off491 v41 v43 v730 v732 k0_t34 k0_t35) a + S1x16.size a ≤ S196x384.size a := fun i v10 v41 v43 v730 v732 k0_hw128 k0_t34 k0_t35 k0_h1 => k0_hw128.1.2.2.2.2.2.2.2.2.1 k0_t34 k0_t35 k0_h1
theorem k0_off492_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off492 v41 v43 v730 v732 k0_t34 k0_t35) a + S1x16.size a ≤ S196x384.size a := fun i v10 v41 v43 v730 v732 k0_hw128 k0_t34 k0_t35 k0_h1 => k0_hw128.1.2.2.2.2.2.2.2.2.2.1 k0_t34 k0_t35 k0_h1
theorem k0_off493_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off493 v41 v43 v730 v732 k0_t34 k0_t35) a + S1x16.size a ≤ S196x384.size a := fun i v10 v41 v43 v730 v732 k0_hw128 k0_t34 k0_t35 k0_h1 => k0_hw128.1.2.2.2.2.2.2.2.2.2.2.1 k0_t34 k0_t35 k0_h1
theorem k0_off494_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off494 v41 v43 v730 v732 k0_t34 k0_t35) a + S1x16.size a ≤ S196x384.size a := fun i v10 v41 v43 v730 v732 k0_hw128 k0_t34 k0_t35 k0_h1 => k0_hw128.1.2.2.2.2.2.2.2.2.2.2.2.1 k0_t34 k0_t35 k0_h1
theorem k0_off495_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off495 v41 v43 v730 v732 k0_t34 k0_t35) a + S1x16.size a ≤ S196x384.size a := fun i v10 v41 v43 v730 v732 k0_hw128 k0_t34 k0_t35 k0_h1 => k0_hw128.1.2.2.2.2.2.2.2.2.2.2.2.2.1 k0_t34 k0_t35 k0_h1
theorem k0_off496_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off496 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.1 k0_t34 k0_t35 k0_h1
theorem k0_off497_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off497 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.1 k0_t34 k0_t35 k0_h1
theorem k0_off498_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off498 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.1 k0_t34 k0_t35 k0_h1
theorem k0_off499_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off499 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.2.1 k0_t34 k0_t35 k0_h1
theorem k0_off500_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off500 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.2.2.1 k0_t34 k0_t35 k0_h1
theorem k0_off501_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off501 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.2.2.2.1 k0_t34 k0_t35 k0_h1
theorem k0_off502_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off502 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.2.2.2.2.1 k0_t34 k0_t35 k0_h1
theorem k0_off503_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off503 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.2.2.2.2.2.1 k0_t34 k0_t35 k0_h1
theorem k0_off504_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off504 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.2.2.2.2.2.2.1 k0_t34 k0_t35 k0_h1
theorem k0_off505_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off505 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.2.2.2.2.2.2.2.1 k0_t34 k0_t35 k0_h1
theorem k0_off506_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off506 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.2.2.2.2.2.2.2.2.1 k0_t34 k0_t35 k0_h1
theorem k0_off507_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t35 : Fin (k0_t35_loop v730 v732).trips), ∀ (k0_h1 : k0_cond1 i v10 = 1#1), ∀ a, (k0_off507 v41 v43 v730 v732 k0_t34 k0_t35) a + S1x16.size a ≤ S196x384.size a := fun i v10 v41 v43 v730 v732 k0_hw128 k0_t34 k0_t35 k0_h1 => k0_hw128.1.2.2.2.2.2.2.2.2.2.2.2.2.2.2.2.2.2.2.2.2.2.2.2.2.1 k0_t34 k0_t35 k0_h1
theorem k0_t36_ok : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips), ∀ (k0_h1 : k0_cond1 i v10 = 1#1), (k0_t36_loop v730 v732).OK := fun i v10 v41 v43 v730 v732 k0_hw128 k0_t34 k0_h1 => k0_hw128.1.2.2.2.2.2.2.2.2.2.2.2.2.2.2.2.2.2.2.2.2.2.2.2.2.2.1 k0_t34 k0_h1
theorem k0_off508_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off508 v41 v43 v730 v732 k0_t34 k0_t36) a + S1x16.size a ≤ S196x384.size a := fun i v10 v41 v43 v730 v732 k0_hw128 k0_t34 k0_t36 k0_h1 => k0_hw128.1.2.2.2.2.2.2.2.2.2.2.2.2.2.2.2.2.2.2.2.2.2.2.2.2.2.2.1 k0_t34 k0_t36 k0_h1
theorem k0_off509_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off509 v41 v43 v730 v732 k0_t34 k0_t36) a + S1x16.size a ≤ S196x384.size a := fun i v10 v41 v43 v730 v732 k0_hw128 k0_t34 k0_t36 k0_h1 => k0_hw128.1.2.2.2.2.2.2.2.2.2.2.2.2.2.2.2.2.2.2.2.2.2.2.2.2.2.2.2.1 k0_t34 k0_t36 k0_h1
theorem k0_off510_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off510 v41 v43 v730 v732 k0_t34 k0_t36) a + S1x16.size a ≤ S196x384.size a := fun i v10 v41 v43 v730 v732 k0_hw128 k0_t34 k0_t36 k0_h1 => k0_hw128.1.2.2.2.2.2.2.2.2.2.2.2.2.2.2.2.2.2.2.2.2.2.2.2.2.2.2.2.2.1 k0_t34 k0_t36 k0_h1
theorem k0_off511_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off511 v41 v43 v730 v732 k0_t34 k0_t36) a + S1x16.size a ≤ S196x384.size a := fun i v10 v41 v43 v730 v732 k0_hw128 k0_t34 k0_t36 k0_h1 => k0_hw128.1.2.2.2.2.2.2.2.2.2.2.2.2.2.2.2.2.2.2.2.2.2.2.2.2.2.2.2.2.2.1 k0_t34 k0_t36 k0_h1
theorem k0_off512_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off512 v41 v43 v730 v732 k0_t34 k0_t36) a + S1x16.size a ≤ S196x384.size a := fun i v10 v41 v43 v730 v732 k0_hw128 k0_t34 k0_t36 k0_h1 => k0_hw128.1.2.2.2.2.2.2.2.2.2.2.2.2.2.2.2.2.2.2.2.2.2.2.2.2.2.2.2.2.2.2.1 k0_t34 k0_t36 k0_h1
theorem k0_off513_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off513 v41 v43 v730 v732 k0_t34 k0_t36) a + S1x16.size a ≤ S196x384.size a := fun i v10 v41 v43 v730 v732 k0_hw128 k0_t34 k0_t36 k0_h1 => k0_hw128.1.2.2.2.2.2.2.2.2.2.2.2.2.2.2.2.2.2.2.2.2.2.2.2.2.2.2.2.2.2.2.2 k0_t34 k0_t36 k0_h1
theorem k0_off514_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off514 v41 v43 v730 v732 k0_t34 k0_t36) a + S1x16.size a ≤ S196x384.size a := fun i v10 v41 v43 v730 v732 k0_hw128 k0_t34 k0_t36 k0_h1 => k0_hw128.2.1.1 k0_t34 k0_t36 k0_h1
theorem k0_off515_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off515 v41 v43 v730 v732 k0_t34 k0_t36) a + S1x16.size a ≤ S196x384.size a := fun i v10 v41 v43 v730 v732 k0_hw128 k0_t34 k0_t36 k0_h1 => k0_hw128.2.1.2.1 k0_t34 k0_t36 k0_h1
theorem k0_off516_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off516 v41 v43 v730 v732 k0_t34 k0_t36) a + S1x16.size a ≤ S196x384.size a := fun i v10 v41 v43 v730 v732 k0_hw128 k0_t34 k0_t36 k0_h1 => k0_hw128.2.1.2.2.1 k0_t34 k0_t36 k0_h1
theorem k0_off517_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off517 v41 v43 v730 v732 k0_t34 k0_t36) a + S1x16.size a ≤ S196x384.size a := fun i v10 v41 v43 v730 v732 k0_hw128 k0_t34 k0_t36 k0_h1 => k0_hw128.2.1.2.2.2.1 k0_t34 k0_t36 k0_h1
theorem k0_off518_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off518 v41 v43 v730 v732 k0_t34 k0_t36) a + S1x16.size a ≤ S196x384.size a := fun i v10 v41 v43 v730 v732 k0_hw128 k0_t34 k0_t36 k0_h1 => k0_hw128.2.1.2.2.2.2.1 k0_t34 k0_t36 k0_h1
theorem k0_off519_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off519 v41 v43 v730 v732 k0_t34 k0_t36) a + S1x16.size a ≤ S196x384.size a := fun i v10 v41 v43 v730 v732 k0_hw128 k0_t34 k0_t36 k0_h1 => k0_hw128.2.1.2.2.2.2.2.1 k0_t34 k0_t36 k0_h1
theorem k0_off520_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off520 v41 v43 v730 v732 k0_t34 k0_t36) a + S1x16.size a ≤ S196x384.size a := fun i v10 v41 v43 v730 v732 k0_hw128 k0_t34 k0_t36 k0_h1 => k0_hw128.2.1.2.2.2.2.2.2.1 k0_t34 k0_t36 k0_h1
theorem k0_off521_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off521 v41 v43 v730 v732 k0_t34 k0_t36) a + S1x16.size a ≤ S196x384.size a := fun i v10 v41 v43 v730 v732 k0_hw128 k0_t34 k0_t36 k0_h1 => k0_hw128.2.1.2.2.2.2.2.2.2.1 k0_t34 k0_t36 k0_h1
theorem k0_off522_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off522 v41 v43 v730 v732 k0_t34 k0_t36) a + S1x16.size a ≤ S196x384.size a := fun i v10 v41 v43 v730 v732 k0_hw128 k0_t34 k0_t36 k0_h1 => k0_hw128.2.1.2.2.2.2.2.2.2.2.1 k0_t34 k0_t36 k0_h1
theorem k0_off523_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off523 v41 v43 v730 v732 k0_t34 k0_t36) a + S1x16.size a ≤ S196x384.size a := fun i v10 v41 v43 v730 v732 k0_hw128 k0_t34 k0_t36 k0_h1 => k0_hw128.2.1.2.2.2.2.2.2.2.2.2.1 k0_t34 k0_t36 k0_h1
theorem k0_off524_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off524 v41 v43 v730 v732 k0_t34 k0_t36) a + S1x16.size a ≤ S196x384.size a := fun i v10 v41 v43 v730 v732 k0_hw128 k0_t34 k0_t36 k0_h1 => k0_hw128.2.1.2.2.2.2.2.2.2.2.2.2.1 k0_t34 k0_t36 k0_h1
theorem k0_off525_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off525 v41 v43 v730 v732 k0_t34 k0_t36) a + S1x16.size a ≤ S196x384.size a := fun i v10 v41 v43 v730 v732 k0_hw128 k0_t34 k0_t36 k0_h1 => k0_hw128.2.1.2.2.2.2.2.2.2.2.2.2.2.1 k0_t34 k0_t36 k0_h1
theorem k0_off526_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off526 v41 v43 v730 v732 k0_t34 k0_t36) a + S1x16.size a ≤ S196x384.size a := fun i v10 v41 v43 v730 v732 k0_hw128 k0_t34 k0_t36 k0_h1 => k0_hw128.2.1.2.2.2.2.2.2.2.2.2.2.2.2.1 k0_t34 k0_t36 k0_h1
theorem k0_off527_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off527 v41 v43 v730 v732 k0_t34 k0_t36) a + S1x16.size a ≤ S196x384.size a := fun i v10 v41 v43 v730 v732 k0_hw128 k0_t34 k0_t36 k0_h1 => k0_hw128.2.1.2.2.2.2.2.2.2.2.2.2.2.2.2.1 k0_t34 k0_t36 k0_h1
theorem k0_off528_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off528 v41 v43 v730 v732 k0_t34 k0_t36) a + S1x16.size a ≤ S196x384.size a := fun i v10 v41 v43 v730 v732 k0_hw128 k0_t34 k0_t36 k0_h1 => k0_hw128.2.1.2.2.2.2.2.2.2.2.2.2.2.2.2.2.1 k0_t34 k0_t36 k0_h1
theorem k0_off529_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off529 v41 v43 v730 v732 k0_t34 k0_t36) a + S1x16.size a ≤ S196x384.size a := fun i v10 v41 v43 v730 v732 k0_hw128 k0_t34 k0_t36 k0_h1 => k0_hw128.2.1.2.2.2.2.2.2.2.2.2.2.2.2.2.2.2.1 k0_t34 k0_t36 k0_h1
theorem k0_off530_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off530 v41 v43 v730 v732 k0_t34 k0_t36) a + S1x16.size a ≤ S196x384.size a := fun i v10 v41 v43 v730 v732 k0_hw128 k0_t34 k0_t36 k0_h1 => k0_hw128.2.1.2.2.2.2.2.2.2.2.2.2.2.2.2.2.2.2.1 k0_t34 k0_t36 k0_h1
theorem k0_off531_inb : ∀ (i : grid0.Coords) (v10 : BitVec 32) (v41 : BitVec 32) (v43 : BitVec 32) (v730 : BitVec 32) (v732 : BitVec 32) (k0_hw128 : k0_chk128 i v10 v41 v43 v730 v732) (k0_t34 : Fin (k0_t34_loop v41 v43).trips) (k0_t36 : Fin (k0_t36_loop v730 v732).trips), ∀ (k0_h1 : k0_cond1 i v10 = 1#1), ∀ a, (k0_off531 v41 v43 v730 v732 k0_t34 k0_t36) a + S1x16.size a ≤ S196x384.size a := fun i v10 v41 v43 v730 v732 k0_hw128 k0_t34 k0_t36 k0_h1 => k0_hw128.2.1.2.2.2.2.2.2.2.2.2.2.2.2.2.2.2.2.2.1 k0_t34 k0_t36 k0_h1
theorem k0_t38_ok : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips), ∀ (k0_h1 : k0_cond1 i v10 = 1#1), (k0_t38_loop v730 v732).OK := fun i v10 v41 v43 v730 v732 k0_hw128 k0_t37 k0_h1 => k0_hw128.2.1.2.2.2.2.2.2.2.2.2.2.2.2.2.2.2.2.2.2.1 k0_t37 k0_h1
theorem k0_off532_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off532 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.1 k0_t37 k0_t38 k0_h1
theorem k0_off533_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off533 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.1 k0_t37 k0_t38 k0_h1
theorem k0_off534_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off534 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.1 k0_t37 k0_t38 k0_h1
theorem k0_off535_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off535 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.1 k0_t37 k0_t38 k0_h1
theorem k0_off536_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off536 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.2.1 k0_t37 k0_t38 k0_h1
theorem k0_off537_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off537 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.2.2.1 k0_t37 k0_t38 k0_h1
theorem k0_off538_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off538 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.2.2.2.1 k0_t37 k0_t38 k0_h1
theorem k0_off539_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off539 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.2.2.2.2.1 k0_t37 k0_t38 k0_h1
theorem k0_off540_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off540 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.2.2.2.2.2.1 k0_t37 k0_t38 k0_h1
theorem k0_off541_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off541 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.2.2.2.2.2.2.1 k0_t37 k0_t38 k0_h1
theorem k0_off542_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off542 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.2.2.2.2.2.2.2.1 k0_t37 k0_t38 k0_h1
theorem k0_off543_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off543 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.2.2.2.2.2.2.2.2.1 k0_t37 k0_t38 k0_h1
theorem k0_off544_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off544 v41 v43 v730 v732 k0_t37 k0_t38) a + S1x16.size a ≤ S196x384.size a := fun i v10 v41 v43 v730 v732 k0_hw128 k0_t37 k0_t38 k0_h1 => k0_hw128.2.1.2.2.2.2.2.2.2.2.2.2.2.2.2.2.2.2.2.2.2.2.2.2.2.2.2.2.2.2.2.2.2 k0_t37 k0_t38 k0_h1
theorem k0_off545_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off545 v41 v43 v730 v732 k0_t37 k0_t38) a + S1x16.size a ≤ S196x384.size a := fun i v10 v41 v43 v730 v732 k0_hw128 k0_t37 k0_t38 k0_h1 => k0_hw128.2.2.1.1 k0_t37 k0_t38 k0_h1
theorem k0_off546_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off546 v41 v43 v730 v732 k0_t37 k0_t38) a + S1x16.size a ≤ S196x384.size a := fun i v10 v41 v43 v730 v732 k0_hw128 k0_t37 k0_t38 k0_h1 => k0_hw128.2.2.1.2.1 k0_t37 k0_t38 k0_h1
theorem k0_off547_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off547 v41 v43 v730 v732 k0_t37 k0_t38) a + S1x16.size a ≤ S196x384.size a := fun i v10 v41 v43 v730 v732 k0_hw128 k0_t37 k0_t38 k0_h1 => k0_hw128.2.2.1.2.2.1 k0_t37 k0_t38 k0_h1
theorem k0_off548_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off548 v41 v43 v730 v732 k0_t37 k0_t38) a + S1x16.size a ≤ S196x384.size a := fun i v10 v41 v43 v730 v732 k0_hw128 k0_t37 k0_t38 k0_h1 => k0_hw128.2.2.1.2.2.2.1 k0_t37 k0_t38 k0_h1
theorem k0_off549_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off549 v41 v43 v730 v732 k0_t37 k0_t38) a + S1x16.size a ≤ S196x384.size a := fun i v10 v41 v43 v730 v732 k0_hw128 k0_t37 k0_t38 k0_h1 => k0_hw128.2.2.1.2.2.2.2.1 k0_t37 k0_t38 k0_h1
theorem k0_off550_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off550 v41 v43 v730 v732 k0_t37 k0_t38) a + S1x16.size a ≤ S196x384.size a := fun i v10 v41 v43 v730 v732 k0_hw128 k0_t37 k0_t38 k0_h1 => k0_hw128.2.2.1.2.2.2.2.2.1 k0_t37 k0_t38 k0_h1
theorem k0_off551_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off551 v41 v43 v730 v732 k0_t37 k0_t38) a + S1x16.size a ≤ S196x384.size a := fun i v10 v41 v43 v730 v732 k0_hw128 k0_t37 k0_t38 k0_h1 => k0_hw128.2.2.1.2.2.2.2.2.2.1 k0_t37 k0_t38 k0_h1
theorem k0_off552_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off552 v41 v43 v730 v732 k0_t37 k0_t38) a + S1x16.size a ≤ S196x384.size a := fun i v10 v41 v43 v730 v732 k0_hw128 k0_t37 k0_t38 k0_h1 => k0_hw128.2.2.1.2.2.2.2.2.2.2.1 k0_t37 k0_t38 k0_h1
theorem k0_off553_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off553 v41 v43 v730 v732 k0_t37 k0_t38) a + S1x16.size a ≤ S196x384.size a := fun i v10 v41 v43 v730 v732 k0_hw128 k0_t37 k0_t38 k0_h1 => k0_hw128.2.2.1.2.2.2.2.2.2.2.2.1 k0_t37 k0_t38 k0_h1
theorem k0_off554_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off554 v41 v43 v730 v732 k0_t37 k0_t38) a + S1x16.size a ≤ S196x384.size a := fun i v10 v41 v43 v730 v732 k0_hw128 k0_t37 k0_t38 k0_h1 => k0_hw128.2.2.1.2.2.2.2.2.2.2.2.2.1 k0_t37 k0_t38 k0_h1
theorem k0_off555_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t38 : Fin (k0_t38_loop v730 v732).trips), ∀ (k0_h1 : k0_cond1 i v10 = 1#1), ∀ a, (k0_off555 v41 v43 v730 v732 k0_t37 k0_t38) a + S1x16.size a ≤ S196x384.size a := fun i v10 v41 v43 v730 v732 k0_hw128 k0_t37 k0_t38 k0_h1 => k0_hw128.2.2.1.2.2.2.2.2.2.2.2.2.2.1 k0_t37 k0_t38 k0_h1
theorem k0_t39_ok : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips), ∀ (k0_h1 : k0_cond1 i v10 = 1#1), (k0_t39_loop v730 v732).OK := fun i v10 v41 v43 v730 v732 k0_hw128 k0_t37 k0_h1 => k0_hw128.2.2.1.2.2.2.2.2.2.2.2.2.2.2.1 k0_t37 k0_h1
theorem k0_off556_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off556 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.1 k0_t37 k0_t39 k0_h1
theorem k0_off557_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off557 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.1 k0_t37 k0_t39 k0_h1
theorem k0_off558_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off558 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.1 k0_t37 k0_t39 k0_h1
theorem k0_off559_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off559 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.1 k0_t37 k0_t39 k0_h1
theorem k0_off560_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off560 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.1 k0_t37 k0_t39 k0_h1
theorem k0_off561_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off561 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.1 k0_t37 k0_t39 k0_h1
theorem k0_off562_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off562 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.1 k0_t37 k0_t39 k0_h1
theorem k0_off563_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off563 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.1 k0_t37 k0_t39 k0_h1
theorem k0_off564_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off564 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.1 k0_t37 k0_t39 k0_h1
theorem k0_off565_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off565 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.1 k0_t37 k0_t39 k0_h1
theorem k0_off566_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off566 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.1 k0_t37 k0_t39 k0_h1
theorem k0_off567_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off567 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.2.1 k0_t37 k0_t39 k0_h1
theorem k0_off568_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off568 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.2.2.1 k0_t37 k0_t39 k0_h1
theorem k0_off569_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off569 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.2.2.2.1 k0_t37 k0_t39 k0_h1
theorem k0_off570_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off570 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.2.2.2.2.1 k0_t37 k0_t39 k0_h1
theorem k0_off571_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off571 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.2.2.2.2.2.1 k0_t37 k0_t39 k0_h1
theorem k0_off572_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off572 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.2.2.2.2.2.2.1 k0_t37 k0_t39 k0_h1
theorem k0_off573_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off573 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.2.2.2.2.2.2.2.1 k0_t37 k0_t39 k0_h1
theorem k0_off574_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off574 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.2.2.2.2.2.2.2.2.1 k0_t37 k0_t39 k0_h1
theorem k0_off575_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off575 v41 v43 v730 v732 k0_t37 k0_t39) a + S1x16.size a ≤ S196x384.size a := fun i v10 v41 v43 v730 v732 k0_hw128 k0_t37 k0_t39 k0_h1 => k0_hw128.2.2.1.2.2.2.2.2.2.2.2.2.2.2.2.2.2.2.2.2.2.2.2.2.2.2.2.2.2.2.2.2.2.2 k0_t37 k0_t39 k0_h1
theorem k0_off576_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off576 v41 v43 v730 v732 k0_t37 k0_t39) a + S1x16.size a ≤ S196x384.size a := fun i v10 v41 v43 v730 v732 k0_hw128 k0_t37 k0_t39 k0_h1 => k0_hw128.2.2.2.1 k0_t37 k0_t39 k0_h1
theorem k0_off577_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off577 v41 v43 v730 v732 k0_t37 k0_t39) a + S1x16.size a ≤ S196x384.size a := fun i v10 v41 v43 v730 v732 k0_hw128 k0_t37 k0_t39 k0_h1 => k0_hw128.2.2.2.2.1 k0_t37 k0_t39 k0_h1
theorem k0_off578_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off578 v41 v43 v730 v732 k0_t37 k0_t39) a + S1x16.size a ≤ S196x384.size a := fun i v10 v41 v43 v730 v732 k0_hw128 k0_t37 k0_t39 k0_h1 => k0_hw128.2.2.2.2.2.1 k0_t37 k0_t39 k0_h1
theorem k0_off579_inb : ∀ (i : grid0.Coords) (v10 : BitVec 32) (v41 : BitVec 32) (v43 : BitVec 32) (v730 : BitVec 32) (v732 : BitVec 32) (k0_hw128 : k0_chk128 i v10 v41 v43 v730 v732) (k0_t37 : Fin (k0_t37_loop v41 v43).trips) (k0_t39 : Fin (k0_t39_loop v730 v732).trips), ∀ (k0_h1 : k0_cond1 i v10 = 1#1), ∀ a, (k0_off579 v41 v43 v730 v732 k0_t37 k0_t39) a + S1x16.size a ≤ S196x384.size a := fun i v10 v41 v43 v730 v732 k0_hw128 k0_t37 k0_t39 k0_h1 => k0_hw128.2.2.2.2.2.2 k0_t37 k0_t39 k0_h1

def k0_chk129 (i : grid0.Coords) (v10 : BitVec 32) (v750 : IVec S16 32) : Prop :=
  (∀ (k0_h1 : k0_cond1 i v10 = 1#1), ∀ a x, ((![v750] : Fin 1 → IVec S16 32) a x).toNat < S18816.size a)
theorem k0_idx121_inb : ∀ (i : grid0.Coords) (v10 : BitVec 32) (v750 : IVec S16 32) (k0_hw129 : k0_chk129 i v10 v750), ∀ (k0_h1 : k0_cond1 i v10 = 1#1), ∀ a x, ((![v750] : Fin 1 → IVec S16 32) a x).toNat < S18816.size a := fun i v10 v750 k0_hw129 k0_h1 => k0_hw129 k0_h1

def k0_chk130 (i : grid0.Coords) (v10 : BitVec 32) (v755 : IVec S16 32) : Prop :=
  (∀ (k0_h1 : k0_cond1 i v10 = 1#1), ∀ a x, ((![v755] : Fin 1 → IVec S16 32) a x).toNat < S18816.size a)
theorem k0_idx122_inb : ∀ (i : grid0.Coords) (v10 : BitVec 32) (v755 : IVec S16 32) (k0_hw130 : k0_chk130 i v10 v755), ∀ (k0_h1 : k0_cond1 i v10 = 1#1), ∀ a x, ((![v755] : Fin 1 → IVec S16 32) a x).toNat < S18816.size a := fun i v10 v755 k0_hw130 k0_h1 => k0_hw130 k0_h1

def k0_chk131 (i : grid0.Coords) (v10 : BitVec 32) (v760 : IVec S16 32) : Prop :=
  (∀ (k0_h1 : k0_cond1 i v10 = 1#1), ∀ a x, ((![v760] : Fin 1 → IVec S16 32) a x).toNat < S18816.size a)
theorem k0_idx123_inb : ∀ (i : grid0.Coords) (v10 : BitVec 32) (v760 : IVec S16 32) (k0_hw131 : k0_chk131 i v10 v760), ∀ (k0_h1 : k0_cond1 i v10 = 1#1), ∀ a x, ((![v760] : Fin 1 → IVec S16 32) a x).toNat < S18816.size a := fun i v10 v760 k0_hw131 k0_h1 => k0_hw131 k0_h1

def k0_chk132 (i : grid0.Coords) (v10 : BitVec 32) (v765 : IVec S16 32) : Prop :=
  (∀ (k0_h1 : k0_cond1 i v10 = 1#1), ∀ a x, ((![v765] : Fin 1 → IVec S16 32) a x).toNat < S18816.size a)
theorem k0_idx124_inb : ∀ (i : grid0.Coords) (v10 : BitVec 32) (v765 : IVec S16 32) (k0_hw132 : k0_chk132 i v10 v765), ∀ (k0_h1 : k0_cond1 i v10 = 1#1), ∀ a x, ((![v765] : Fin 1 → IVec S16 32) a x).toNat < S18816.size a := fun i v10 v765 k0_hw132 k0_h1 => k0_hw132 k0_h1

def k0_chk133 (i : grid0.Coords) (v10 : BitVec 32) (v770 : IVec S16 32) : Prop :=
  (∀ (k0_h1 : k0_cond1 i v10 = 1#1), ∀ a x, ((![v770] : Fin 1 → IVec S16 32) a x).toNat < S18816.size a)
theorem k0_idx125_inb : ∀ (i : grid0.Coords) (v10 : BitVec 32) (v770 : IVec S16 32) (k0_hw133 : k0_chk133 i v10 v770), ∀ (k0_h1 : k0_cond1 i v10 = 1#1), ∀ a x, ((![v770] : Fin 1 → IVec S16 32) a x).toNat < S18816.size a := fun i v10 v770 k0_hw133 k0_h1 => k0_hw133 k0_h1

def k0_chk134 (i : grid0.Coords) (v10 : BitVec 32) (v775 : IVec S16 32) : Prop :=
  (∀ (k0_h1 : k0_cond1 i v10 = 1#1), ∀ a x, ((![v775] : Fin 1 → IVec S16 32) a x).toNat < S18816.size a)
theorem k0_idx126_inb : ∀ (i : grid0.Coords) (v10 : BitVec 32) (v775 : IVec S16 32) (k0_hw134 : k0_chk134 i v10 v775), ∀ (k0_h1 : k0_cond1 i v10 = 1#1), ∀ a x, ((![v775] : Fin 1 → IVec S16 32) a x).toNat < S18816.size a := fun i v10 v775 k0_hw134 k0_h1 => k0_hw134 k0_h1

def k0_chk135 (i : grid0.Coords) (v10 : BitVec 32) (v780 : IVec S16 32) : Prop :=
  (∀ (k0_h1 : k0_cond1 i v10 = 1#1), ∀ a x, ((![v780] : Fin 1 → IVec S16 32) a x).toNat < S18816.size a)
theorem k0_idx127_inb : ∀ (i : grid0.Coords) (v10 : BitVec 32) (v780 : IVec S16 32) (k0_hw135 : k0_chk135 i v10 v780), ∀ (k0_h1 : k0_cond1 i v10 = 1#1), ∀ a x, ((![v780] : Fin 1 → IVec S16 32) a x).toNat < S18816.size a := fun i v10 v780 k0_hw135 k0_h1 => k0_hw135 k0_h1

def k0_chk136 (i : grid0.Coords) (v10 : BitVec 32) (v785 : IVec S16 32) : Prop :=
  (∀ (k0_h1 : k0_cond1 i v10 = 1#1), ∀ a x, ((![v785] : Fin 1 → IVec S16 32) a x).toNat < S18816.size a)
theorem k0_idx128_inb : ∀ (i : grid0.Coords) (v10 : BitVec 32) (v785 : IVec S16 32) (k0_hw136 : k0_chk136 i v10 v785), ∀ (k0_h1 : k0_cond1 i v10 = 1#1), ∀ a x, ((![v785] : Fin 1 → IVec S16 32) a x).toNat < S18816.size a := fun i v10 v785 k0_hw136 k0_h1 => k0_hw136 k0_h1

def k0_chk137 (i : grid0.Coords) (v10 : BitVec 32) (v790 : IVec S16 32) : Prop :=
  (∀ (k0_h1 : k0_cond1 i v10 = 1#1), ∀ a x, ((![v790] : Fin 1 → IVec S16 32) a x).toNat < S18816.size a)
theorem k0_idx129_inb : ∀ (i : grid0.Coords) (v10 : BitVec 32) (v790 : IVec S16 32) (k0_hw137 : k0_chk137 i v10 v790), ∀ (k0_h1 : k0_cond1 i v10 = 1#1), ∀ a x, ((![v790] : Fin 1 → IVec S16 32) a x).toNat < S18816.size a := fun i v10 v790 k0_hw137 k0_h1 => k0_hw137 k0_h1

def k0_chk138 (i : grid0.Coords) (v10 : BitVec 32) (v795 : IVec S16 32) : Prop :=
  (∀ (k0_h1 : k0_cond1 i v10 = 1#1), ∀ a x, ((![v795] : Fin 1 → IVec S16 32) a x).toNat < S18816.size a)
theorem k0_idx130_inb : ∀ (i : grid0.Coords) (v10 : BitVec 32) (v795 : IVec S16 32) (k0_hw138 : k0_chk138 i v10 v795), ∀ (k0_h1 : k0_cond1 i v10 = 1#1), ∀ a x, ((![v795] : Fin 1 → IVec S16 32) a x).toNat < S18816.size a := fun i v10 v795 k0_hw138 k0_h1 => k0_hw138 k0_h1

def k0_chk139 (i : grid0.Coords) (v10 : BitVec 32) (v800 : IVec S16 32) : Prop :=
  (∀ (k0_h1 : k0_cond1 i v10 = 1#1), ∀ a x, ((![v800] : Fin 1 → IVec S16 32) a x).toNat < S18816.size a)
theorem k0_idx131_inb : ∀ (i : grid0.Coords) (v10 : BitVec 32) (v800 : IVec S16 32) (k0_hw139 : k0_chk139 i v10 v800), ∀ (k0_h1 : k0_cond1 i v10 = 1#1), ∀ a x, ((![v800] : Fin 1 → IVec S16 32) a x).toNat < S18816.size a := fun i v10 v800 k0_hw139 k0_h1 => k0_hw139 k0_h1

def k0_chk140 (i : grid0.Coords) (v10 : BitVec 32) (v805 : IVec S16 32) : Prop :=
  (∀ (k0_h1 : k0_cond1 i v10 = 1#1), ∀ a x, ((![v805] : Fin 1 → IVec S16 32) a x).toNat < S18816.size a)
theorem k0_idx132_inb : ∀ (i : grid0.Coords) (v10 : BitVec 32) (v805 : IVec S16 32) (k0_hw140 : k0_chk140 i v10 v805), ∀ (k0_h1 : k0_cond1 i v10 = 1#1), ∀ a x, ((![v805] : Fin 1 → IVec S16 32) a x).toNat < S18816.size a := fun i v10 v805 k0_hw140 k0_h1 => k0_hw140 k0_h1

def k0_chk141 (i : grid0.Coords) (v10 : BitVec 32) (v810 : IVec S16 32) : Prop :=
  (∀ (k0_h1 : k0_cond1 i v10 = 1#1), ∀ a x, ((![v810] : Fin 1 → IVec S16 32) a x).toNat < S18816.size a)
theorem k0_idx133_inb : ∀ (i : grid0.Coords) (v10 : BitVec 32) (v810 : IVec S16 32) (k0_hw141 : k0_chk141 i v10 v810), ∀ (k0_h1 : k0_cond1 i v10 = 1#1), ∀ a x, ((![v810] : Fin 1 → IVec S16 32) a x).toNat < S18816.size a := fun i v10 v810 k0_hw141 k0_h1 => k0_hw141 k0_h1

def k0_chk142 (i : grid0.Coords) (v10 : BitVec 32) (v815 : IVec S16 32) : Prop :=
  (∀ (k0_h1 : k0_cond1 i v10 = 1#1), ∀ a x, ((![v815] : Fin 1 → IVec S16 32) a x).toNat < S18816.size a)
theorem k0_idx134_inb : ∀ (i : grid0.Coords) (v10 : BitVec 32) (v815 : IVec S16 32) (k0_hw142 : k0_chk142 i v10 v815), ∀ (k0_h1 : k0_cond1 i v10 = 1#1), ∀ a x, ((![v815] : Fin 1 → IVec S16 32) a x).toNat < S18816.size a := fun i v10 v815 k0_hw142 k0_h1 => k0_hw142 k0_h1

def k0_chk143 (i : grid0.Coords) (v10 : BitVec 32) (v820 : IVec S16 32) : Prop :=
  (∀ (k0_h1 : k0_cond1 i v10 = 1#1), ∀ a x, ((![v820] : Fin 1 → IVec S16 32) a x).toNat < S18816.size a)
theorem k0_idx135_inb : ∀ (i : grid0.Coords) (v10 : BitVec 32) (v820 : IVec S16 32) (k0_hw143 : k0_chk143 i v10 v820), ∀ (k0_h1 : k0_cond1 i v10 = 1#1), ∀ a x, ((![v820] : Fin 1 → IVec S16 32) a x).toNat < S18816.size a := fun i v10 v820 k0_hw143 k0_h1 => k0_hw143 k0_h1

def k0_chk144 (i : grid0.Coords) (v10 : BitVec 32) (v825 : IVec S16 32) : Prop :=
  (∀ (k0_h1 : k0_cond1 i v10 = 1#1), ∀ a x, ((![v825] : Fin 1 → IVec S16 32) a x).toNat < S18816.size a)
theorem k0_idx136_inb : ∀ (i : grid0.Coords) (v10 : BitVec 32) (v825 : IVec S16 32) (k0_hw144 : k0_chk144 i v10 v825), ∀ (k0_h1 : k0_cond1 i v10 = 1#1), ∀ a x, ((![v825] : Fin 1 → IVec S16 32) a x).toNat < S18816.size a := fun i v10 v825 k0_hw144 k0_h1 => k0_hw144 k0_h1

def k0_chk145 (i : grid0.Coords) (v10 : BitVec 32) (v830 : IVec S16 32) : Prop :=
  (∀ (k0_h1 : k0_cond1 i v10 = 1#1), ∀ a x, ((![v830] : Fin 1 → IVec S16 32) a x).toNat < S18816.size a)
theorem k0_idx137_inb : ∀ (i : grid0.Coords) (v10 : BitVec 32) (v830 : IVec S16 32) (k0_hw145 : k0_chk145 i v10 v830), ∀ (k0_h1 : k0_cond1 i v10 = 1#1), ∀ a x, ((![v830] : Fin 1 → IVec S16 32) a x).toNat < S18816.size a := fun i v10 v830 k0_hw145 k0_h1 => k0_hw145 k0_h1

def k0_chk146 (i : grid0.Coords) (v10 : BitVec 32) (v835 : IVec S16 32) : Prop :=
  (∀ (k0_h1 : k0_cond1 i v10 = 1#1), ∀ a x, ((![v835] : Fin 1 → IVec S16 32) a x).toNat < S18816.size a)
theorem k0_idx138_inb : ∀ (i : grid0.Coords) (v10 : BitVec 32) (v835 : IVec S16 32) (k0_hw146 : k0_chk146 i v10 v835), ∀ (k0_h1 : k0_cond1 i v10 = 1#1), ∀ a x, ((![v835] : Fin 1 → IVec S16 32) a x).toNat < S18816.size a := fun i v10 v835 k0_hw146 k0_h1 => k0_hw146 k0_h1

def k0_chk147 (i : grid0.Coords) (v10 : BitVec 32) (v840 : IVec S16 32) : Prop :=
  (∀ (k0_h1 : k0_cond1 i v10 = 1#1), ∀ a x, ((![v840] : Fin 1 → IVec S16 32) a x).toNat < S18816.size a)
theorem k0_idx139_inb : ∀ (i : grid0.Coords) (v10 : BitVec 32) (v840 : IVec S16 32) (k0_hw147 : k0_chk147 i v10 v840), ∀ (k0_h1 : k0_cond1 i v10 = 1#1), ∀ a x, ((![v840] : Fin 1 → IVec S16 32) a x).toNat < S18816.size a := fun i v10 v840 k0_hw147 k0_h1 => k0_hw147 k0_h1

def k0_chk148 (i : grid0.Coords) (v10 : BitVec 32) (v845 : IVec S16 32) : Prop :=
  (∀ (k0_h1 : k0_cond1 i v10 = 1#1), ∀ a x, ((![v845] : Fin 1 → IVec S16 32) a x).toNat < S18816.size a)
theorem k0_idx140_inb : ∀ (i : grid0.Coords) (v10 : BitVec 32) (v845 : IVec S16 32) (k0_hw148 : k0_chk148 i v10 v845), ∀ (k0_h1 : k0_cond1 i v10 = 1#1), ∀ a x, ((![v845] : Fin 1 → IVec S16 32) a x).toNat < S18816.size a := fun i v10 v845 k0_hw148 k0_h1 => k0_hw148 k0_h1

def k0_chk149 (i : grid0.Coords) (v10 : BitVec 32) (v850 : IVec S16 32) : Prop :=
  (∀ (k0_h1 : k0_cond1 i v10 = 1#1), ∀ a x, ((![v850] : Fin 1 → IVec S16 32) a x).toNat < S18816.size a)
theorem k0_idx141_inb : ∀ (i : grid0.Coords) (v10 : BitVec 32) (v850 : IVec S16 32) (k0_hw149 : k0_chk149 i v10 v850), ∀ (k0_h1 : k0_cond1 i v10 = 1#1), ∀ a x, ((![v850] : Fin 1 → IVec S16 32) a x).toNat < S18816.size a := fun i v10 v850 k0_hw149 k0_h1 => k0_hw149 k0_h1

def k0_chk150 (i : grid0.Coords) (v10 : BitVec 32) (v855 : IVec S16 32) : Prop :=
  (∀ (k0_h1 : k0_cond1 i v10 = 1#1), ∀ a x, ((![v855] : Fin 1 → IVec S16 32) a x).toNat < S18816.size a)
theorem k0_idx142_inb : ∀ (i : grid0.Coords) (v10 : BitVec 32) (v855 : IVec S16 32) (k0_hw150 : k0_chk150 i v10 v855), ∀ (k0_h1 : k0_cond1 i v10 = 1#1), ∀ a x, ((![v855] : Fin 1 → IVec S16 32) a x).toNat < S18816.size a := fun i v10 v855 k0_hw150 k0_h1 => k0_hw150 k0_h1

def k0_chk151 (i : grid0.Coords) (v10 : BitVec 32) (v860 : IVec S16 32) : Prop :=
  (∀ (k0_h1 : k0_cond1 i v10 = 1#1), ∀ a x, ((![v860] : Fin 1 → IVec S16 32) a x).toNat < S18816.size a)
theorem k0_idx143_inb : ∀ (i : grid0.Coords) (v10 : BitVec 32) (v860 : IVec S16 32) (k0_hw151 : k0_chk151 i v10 v860), ∀ (k0_h1 : k0_cond1 i v10 = 1#1), ∀ a x, ((![v860] : Fin 1 → IVec S16 32) a x).toNat < S18816.size a := fun i v10 v860 k0_hw151 k0_h1 => k0_hw151 k0_h1

def k0_chk152 (i : grid0.Coords) (v10 : BitVec 32) (v865 : IVec S16 32) : Prop :=
  (∀ (k0_h1 : k0_cond1 i v10 = 1#1), ∀ a x, ((![v865] : Fin 1 → IVec S16 32) a x).toNat < S18816.size a)
theorem k0_idx144_inb : ∀ (i : grid0.Coords) (v10 : BitVec 32) (v865 : IVec S16 32) (k0_hw152 : k0_chk152 i v10 v865), ∀ (k0_h1 : k0_cond1 i v10 = 1#1), ∀ a x, ((![v865] : Fin 1 → IVec S16 32) a x).toNat < S18816.size a := fun i v10 v865 k0_hw152 k0_h1 => k0_hw152 k0_h1
@[reducible] def k0_t40_loop (v41 : BitVec 32) (v43 : BitVec 32) : Scf.Loop 32 :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_324 : BitVec 32 := 1#32
  ⟨v41, v875, c1_i32_324⟩
@[reducible] def k0_t41_loop (v867 : BitVec 32) (v869 : BitVec 32) : Scf.Loop 32 :=
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_376 : BitVec 32 := 1#32
  ⟨v867, v1008, c1_i32_376⟩

def k0_off580 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1012 : Index := Scalar.indexCast v1011
  let c0_378 : Index := 0#32
  ![v1012.toNat, 0]
def k0_off581 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1015 : Index := Scalar.indexCast v1011
  let c16 : Index := 16#32
  ![v1015.toNat, 16]
def k0_off582 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1018 : Index := Scalar.indexCast v1011
  let c32 : Index := 32#32
  ![v1018.toNat, 32]
def k0_off583 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1021 : Index := Scalar.indexCast v1011
  let c48 : Index := 48#32
  ![v1021.toNat, 48]
def k0_off584 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1024 : Index := Scalar.indexCast v1011
  let c64 : Index := 64#32
  ![v1024.toNat, 64]
def k0_off585 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1027 : Index := Scalar.indexCast v1011
  let c80 : Index := 80#32
  ![v1027.toNat, 80]
def k0_off586 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1030 : Index := Scalar.indexCast v1011
  let c96 : Index := 96#32
  ![v1030.toNat, 96]
def k0_off587 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1033 : Index := Scalar.indexCast v1011
  let c112 : Index := 112#32
  ![v1033.toNat, 112]
def k0_off588 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1036 : Index := Scalar.indexCast v1011
  let c128 : Index := 128#32
  ![v1036.toNat, 128]
def k0_off589 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1039 : Index := Scalar.indexCast v1011
  let c144 : Index := 144#32
  ![v1039.toNat, 144]
def k0_off590 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1042 : Index := Scalar.indexCast v1011
  let c160 : Index := 160#32
  ![v1042.toNat, 160]
def k0_off591 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1045 : Index := Scalar.indexCast v1011
  let c176 : Index := 176#32
  ![v1045.toNat, 176]
def k0_off592 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1048 : Index := Scalar.indexCast v1011
  let c192 : Index := 192#32
  ![v1048.toNat, 192]
def k0_off593 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1051 : Index := Scalar.indexCast v1011
  let c208 : Index := 208#32
  ![v1051.toNat, 208]
def k0_off594 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1054 : Index := Scalar.indexCast v1011
  let c224 : Index := 224#32
  ![v1054.toNat, 224]
def k0_off595 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1057 : Index := Scalar.indexCast v1011
  let c240 : Index := 240#32
  ![v1057.toNat, 240]
def k0_off596 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1060 : Index := Scalar.indexCast v1011
  let c256 : Index := 256#32
  ![v1060.toNat, 256]
def k0_off597 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1063 : Index := Scalar.indexCast v1011
  let c272 : Index := 272#32
  ![v1063.toNat, 272]
def k0_off598 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1066 : Index := Scalar.indexCast v1011
  let c288 : Index := 288#32
  ![v1066.toNat, 288]
def k0_off599 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1069 : Index := Scalar.indexCast v1011
  let c304 : Index := 304#32
  ![v1069.toNat, 304]
def k0_off600 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1072 : Index := Scalar.indexCast v1011
  let c320 : Index := 320#32
  ![v1072.toNat, 320]
def k0_off601 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1075 : Index := Scalar.indexCast v1011
  let c336 : Index := 336#32
  ![v1075.toNat, 336]
def k0_off602 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1078 : Index := Scalar.indexCast v1011
  let c352 : Index := 352#32
  ![v1078.toNat, 352]
def k0_off603 (v41 : BitVec 32) (v43 : BitVec 32) (v867 : BitVec 32) (v869 : BitVec 32) (k0_t40 : Fin (k0_t40_loop v41 v43).trips) (k0_t41 : Fin (k0_t41_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let c1_i32_376 : BitVec 32 := 1#32
  let arg36 : BitVec 32 := Scf.iv v867 c1_i32_376 k0_t41
  let v1011 : BitVec 32 := Scalar.addi v1003 arg36
  let v1081 : Index := Scalar.indexCast v1011
  let c368 : Index := 368#32
  ![v1081.toNat, 368]
@[reducible] def k0_t42_loop (v867 : BitVec 32) (v869 : BitVec 32) : Scf.Loop 32 :=
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let v1005 : BitVec 32 := Scalar.addi v867 v1004
  let c1_i32_377 : BitVec 32 := 1#32
  ⟨v1008, v1005, c1_i32_377⟩
def k0_off604 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1012 : Index := Scalar.indexCast v1011
  let c0_378 : Index := 0#32
  ![v1012.toNat, 0]
def k0_off605 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1015 : Index := Scalar.indexCast v1011
  let c16 : Index := 16#32
  ![v1015.toNat, 16]
def k0_off606 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1018 : Index := Scalar.indexCast v1011
  let c32 : Index := 32#32
  ![v1018.toNat, 32]
def k0_off607 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1021 : Index := Scalar.indexCast v1011
  let c48 : Index := 48#32
  ![v1021.toNat, 48]
def k0_off608 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1024 : Index := Scalar.indexCast v1011
  let c64 : Index := 64#32
  ![v1024.toNat, 64]
def k0_off609 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1027 : Index := Scalar.indexCast v1011
  let c80 : Index := 80#32
  ![v1027.toNat, 80]
def k0_off610 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1030 : Index := Scalar.indexCast v1011
  let c96 : Index := 96#32
  ![v1030.toNat, 96]
def k0_off611 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1033 : Index := Scalar.indexCast v1011
  let c112 : Index := 112#32
  ![v1033.toNat, 112]
def k0_off612 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1036 : Index := Scalar.indexCast v1011
  let c128 : Index := 128#32
  ![v1036.toNat, 128]
def k0_off613 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1039 : Index := Scalar.indexCast v1011
  let c144 : Index := 144#32
  ![v1039.toNat, 144]
def k0_off614 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1042 : Index := Scalar.indexCast v1011
  let c160 : Index := 160#32
  ![v1042.toNat, 160]
def k0_off615 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1045 : Index := Scalar.indexCast v1011
  let c176 : Index := 176#32
  ![v1045.toNat, 176]
def k0_off616 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1048 : Index := Scalar.indexCast v1011
  let c192 : Index := 192#32
  ![v1048.toNat, 192]
def k0_off617 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1051 : Index := Scalar.indexCast v1011
  let c208 : Index := 208#32
  ![v1051.toNat, 208]
def k0_off618 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1054 : Index := Scalar.indexCast v1011
  let c224 : Index := 224#32
  ![v1054.toNat, 224]
def k0_off619 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1057 : Index := Scalar.indexCast v1011
  let c240 : Index := 240#32
  ![v1057.toNat, 240]
def k0_off620 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1060 : Index := Scalar.indexCast v1011
  let c256 : Index := 256#32
  ![v1060.toNat, 256]
def k0_off621 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1063 : Index := Scalar.indexCast v1011
  let c272 : Index := 272#32
  ![v1063.toNat, 272]
def k0_off622 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1066 : Index := Scalar.indexCast v1011
  let c288 : Index := 288#32
  ![v1066.toNat, 288]
def k0_off623 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1069 : Index := Scalar.indexCast v1011
  let c304 : Index := 304#32
  ![v1069.toNat, 304]
def k0_off624 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1072 : Index := Scalar.indexCast v1011
  let c320 : Index := 320#32
  ![v1072.toNat, 320]
def k0_off625 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1075 : Index := Scalar.indexCast v1011
  let c336 : Index := 336#32
  ![v1075.toNat, 336]
def k0_off626 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1078 : Index := Scalar.indexCast v1011
  let c352 : Index := 352#32
  ![v1078.toNat, 352]
def k0_off627 (v41 : BitVec 32) (v43 : BitVec 32) (v867 : BitVec 32) (v869 : BitVec 32) (k0_t40 : Fin (k0_t40_loop v41 v43).trips) (k0_t42 : Fin (k0_t42_loop v867 v869).trips) : Fin 2 → Nat :=
  let c1_i32_324 : BitVec 32 := 1#32
  let arg11 : BitVec 32 := Scf.iv v41 c1_i32_324 k0_t40
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t42
  let v1011 : BitVec 32 := Scalar.addi v1003 arg36
  let v1081 : Index := Scalar.indexCast v1011
  let c368 : Index := 368#32
  ![v1081.toNat, 368]
@[reducible] def k0_t43_loop (v41 : BitVec 32) (v43 : BitVec 32) : Scf.Loop 32 :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let v872 : BitVec 32 := Scalar.addi v41 v871
  let c1_i32_325 : BitVec 32 := 1#32
  ⟨v875, v872, c1_i32_325⟩

def k0_chk2 (i : grid0.Coords) (v10 : BitVec 32) (v41 : BitVec 32) (v43 : BitVec 32) : Prop :=
  (∀ (k0_h1 : k0_cond1 i v10 = 1#1), (k0_t4_loop v41 v43).OK) ∧
  (∀ (k0_h1 : k0_cond1 i v10 = 1#1), (k0_t7_loop v41 v43).OK) ∧
  (∀ (k0_h1 : k0_cond1 i v10 = 1#1), (k0_t10_loop v41 v43).OK) ∧
  (∀ (k0_h1 : k0_cond1 i v10 = 1#1), (k0_t13_loop v41 v43).OK) ∧
  (∀ (k0_h1 : k0_cond1 i v10 = 1#1), (k0_t16_loop v41 v43).OK) ∧
  (∀ (k0_h1 : k0_cond1 i v10 = 1#1), (k0_t19_loop v41 v43).OK) ∧
  (∀ (k0_h1 : k0_cond1 i v10 = 1#1), (k0_t22_loop v41 v43).OK) ∧
  (∀ (k0_h1 : k0_cond1 i v10 = 1#1), (k0_t25_loop v41 v43).OK) ∧
  (∀ (k0_h1 : k0_cond1 i v10 = 1#1), (k0_t28_loop v41 v43).OK) ∧
  (∀ (k0_h1 : k0_cond1 i v10 = 1#1), (k0_t31_loop v41 v43).OK) ∧
  (∀ (k0_h1 : k0_cond1 i v10 = 1#1), (k0_t34_loop v41 v43).OK) ∧
  (∀ (k0_h1 : k0_cond1 i v10 = 1#1), (k0_t37_loop v41 v43).OK) ∧
  (∀ (k0_h1 : k0_cond1 i v10 = 1#1), (k0_t40_loop v41 v43).OK) ∧
  (∀ (k0_h1 : k0_cond1 i v10 = 1#1), (k0_t43_loop v41 v43).OK)
theorem k0_t4_ok : ∀ (i : grid0.Coords) (v10 : BitVec 32) (v41 : BitVec 32) (v43 : BitVec 32) (k0_hw2 : k0_chk2 i v10 v41 v43), ∀ (k0_h1 : k0_cond1 i v10 = 1#1), (k0_t4_loop v41 v43).OK := fun i v10 v41 v43 k0_hw2 k0_h1 => k0_hw2.1 k0_h1
theorem k0_t7_ok : ∀ (i : grid0.Coords) (v10 : BitVec 32) (v41 : BitVec 32) (v43 : BitVec 32) (k0_hw2 : k0_chk2 i v10 v41 v43), ∀ (k0_h1 : k0_cond1 i v10 = 1#1), (k0_t7_loop v41 v43).OK := fun i v10 v41 v43 k0_hw2 k0_h1 => k0_hw2.2.1 k0_h1
theorem k0_t10_ok : ∀ (i : grid0.Coords) (v10 : BitVec 32) (v41 : BitVec 32) (v43 : BitVec 32) (k0_hw2 : k0_chk2 i v10 v41 v43), ∀ (k0_h1 : k0_cond1 i v10 = 1#1), (k0_t10_loop v41 v43).OK := fun i v10 v41 v43 k0_hw2 k0_h1 => k0_hw2.2.2.1 k0_h1
theorem k0_t13_ok : ∀ (i : grid0.Coords) (v10 : BitVec 32) (v41 : BitVec 32) (v43 : BitVec 32) (k0_hw2 : k0_chk2 i v10 v41 v43), ∀ (k0_h1 : k0_cond1 i v10 = 1#1), (k0_t13_loop v41 v43).OK := fun i v10 v41 v43 k0_hw2 k0_h1 => k0_hw2.2.2.2.1 k0_h1
theorem k0_t16_ok : ∀ (i : grid0.Coords) (v10 : BitVec 32) (v41 : BitVec 32) (v43 : BitVec 32) (k0_hw2 : k0_chk2 i v10 v41 v43), ∀ (k0_h1 : k0_cond1 i v10 = 1#1), (k0_t16_loop v41 v43).OK := fun i v10 v41 v43 k0_hw2 k0_h1 => k0_hw2.2.2.2.2.1 k0_h1
theorem k0_t19_ok : ∀ (i : grid0.Coords) (v10 : BitVec 32) (v41 : BitVec 32) (v43 : BitVec 32) (k0_hw2 : k0_chk2 i v10 v41 v43), ∀ (k0_h1 : k0_cond1 i v10 = 1#1), (k0_t19_loop v41 v43).OK := fun i v10 v41 v43 k0_hw2 k0_h1 => k0_hw2.2.2.2.2.2.1 k0_h1
theorem k0_t22_ok : ∀ (i : grid0.Coords) (v10 : BitVec 32) (v41 : BitVec 32) (v43 : BitVec 32) (k0_hw2 : k0_chk2 i v10 v41 v43), ∀ (k0_h1 : k0_cond1 i v10 = 1#1), (k0_t22_loop v41 v43).OK := fun i v10 v41 v43 k0_hw2 k0_h1 => k0_hw2.2.2.2.2.2.2.1 k0_h1
theorem k0_t25_ok : ∀ (i : grid0.Coords) (v10 : BitVec 32) (v41 : BitVec 32) (v43 : BitVec 32) (k0_hw2 : k0_chk2 i v10 v41 v43), ∀ (k0_h1 : k0_cond1 i v10 = 1#1), (k0_t25_loop v41 v43).OK := fun i v10 v41 v43 k0_hw2 k0_h1 => k0_hw2.2.2.2.2.2.2.2.1 k0_h1
theorem k0_t28_ok : ∀ (i : grid0.Coords) (v10 : BitVec 32) (v41 : BitVec 32) (v43 : BitVec 32) (k0_hw2 : k0_chk2 i v10 v41 v43), ∀ (k0_h1 : k0_cond1 i v10 = 1#1), (k0_t28_loop v41 v43).OK := fun i v10 v41 v43 k0_hw2 k0_h1 => k0_hw2.2.2.2.2.2.2.2.2.1 k0_h1
theorem k0_t31_ok : ∀ (i : grid0.Coords) (v10 : BitVec 32) (v41 : BitVec 32) (v43 : BitVec 32) (k0_hw2 : k0_chk2 i v10 v41 v43), ∀ (k0_h1 : k0_cond1 i v10 = 1#1), (k0_t31_loop v41 v43).OK := fun i v10 v41 v43 k0_hw2 k0_h1 => k0_hw2.2.2.2.2.2.2.2.2.2.1 k0_h1
theorem k0_t34_ok : ∀ (i : grid0.Coords) (v10 : BitVec 32) (v41 : BitVec 32) (v43 : BitVec 32) (k0_hw2 : k0_chk2 i v10 v41 v43), ∀ (k0_h1 : k0_cond1 i v10 = 1#1), (k0_t34_loop v41 v43).OK := fun i v10 v41 v43 k0_hw2 k0_h1 => k0_hw2.2.2.2.2.2.2.2.2.2.2.1 k0_h1
theorem k0_t37_ok : ∀ (i : grid0.Coords) (v10 : BitVec 32) (v41 : BitVec 32) (v43 : BitVec 32) (k0_hw2 : k0_chk2 i v10 v41 v43), ∀ (k0_h1 : k0_cond1 i v10 = 1#1), (k0_t37_loop v41 v43).OK := fun i v10 v41 v43 k0_hw2 k0_h1 => k0_hw2.2.2.2.2.2.2.2.2.2.2.2.1 k0_h1
theorem k0_t40_ok : ∀ (i : grid0.Coords) (v10 : BitVec 32) (v41 : BitVec 32) (v43 : BitVec 32) (k0_hw2 : k0_chk2 i v10 v41 v43), ∀ (k0_h1 : k0_cond1 i v10 = 1#1), (k0_t40_loop v41 v43).OK := fun i v10 v41 v43 k0_hw2 k0_h1 => k0_hw2.2.2.2.2.2.2.2.2.2.2.2.2.1 k0_h1
theorem k0_t43_ok : ∀ (i : grid0.Coords) (v10 : BitVec 32) (v41 : BitVec 32) (v43 : BitVec 32) (k0_hw2 : k0_chk2 i v10 v41 v43), ∀ (k0_h1 : k0_cond1 i v10 = 1#1), (k0_t43_loop v41 v43).OK := fun i v10 v41 v43 k0_hw2 k0_h1 => k0_hw2.2.2.2.2.2.2.2.2.2.2.2.2.2 k0_h1

@[reducible] def k0_t44_loop (v867 : BitVec 32) (v869 : BitVec 32) : Scf.Loop 32 :=
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_376 : BitVec 32 := 1#32
  ⟨v867, v1008, c1_i32_376⟩
def k0_off628 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1012 : Index := Scalar.indexCast v1011
  let c0_378 : Index := 0#32
  ![v1012.toNat, 0]
def k0_off629 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1015 : Index := Scalar.indexCast v1011
  let c16 : Index := 16#32
  ![v1015.toNat, 16]
def k0_off630 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1018 : Index := Scalar.indexCast v1011
  let c32 : Index := 32#32
  ![v1018.toNat, 32]
def k0_off631 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1021 : Index := Scalar.indexCast v1011
  let c48 : Index := 48#32
  ![v1021.toNat, 48]
def k0_off632 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1024 : Index := Scalar.indexCast v1011
  let c64 : Index := 64#32
  ![v1024.toNat, 64]
def k0_off633 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1027 : Index := Scalar.indexCast v1011
  let c80 : Index := 80#32
  ![v1027.toNat, 80]
def k0_off634 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1030 : Index := Scalar.indexCast v1011
  let c96 : Index := 96#32
  ![v1030.toNat, 96]
def k0_off635 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1033 : Index := Scalar.indexCast v1011
  let c112 : Index := 112#32
  ![v1033.toNat, 112]
def k0_off636 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1036 : Index := Scalar.indexCast v1011
  let c128 : Index := 128#32
  ![v1036.toNat, 128]
def k0_off637 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1039 : Index := Scalar.indexCast v1011
  let c144 : Index := 144#32
  ![v1039.toNat, 144]
def k0_off638 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1042 : Index := Scalar.indexCast v1011
  let c160 : Index := 160#32
  ![v1042.toNat, 160]
def k0_off639 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1045 : Index := Scalar.indexCast v1011
  let c176 : Index := 176#32
  ![v1045.toNat, 176]
def k0_off640 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1048 : Index := Scalar.indexCast v1011
  let c192 : Index := 192#32
  ![v1048.toNat, 192]
def k0_off641 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1051 : Index := Scalar.indexCast v1011
  let c208 : Index := 208#32
  ![v1051.toNat, 208]
def k0_off642 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1054 : Index := Scalar.indexCast v1011
  let c224 : Index := 224#32
  ![v1054.toNat, 224]
def k0_off643 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1057 : Index := Scalar.indexCast v1011
  let c240 : Index := 240#32
  ![v1057.toNat, 240]
def k0_off644 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1060 : Index := Scalar.indexCast v1011
  let c256 : Index := 256#32
  ![v1060.toNat, 256]
def k0_off645 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1063 : Index := Scalar.indexCast v1011
  let c272 : Index := 272#32
  ![v1063.toNat, 272]
def k0_off646 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1066 : Index := Scalar.indexCast v1011
  let c288 : Index := 288#32
  ![v1066.toNat, 288]
def k0_off647 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1069 : Index := Scalar.indexCast v1011
  let c304 : Index := 304#32
  ![v1069.toNat, 304]
def k0_off648 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1072 : Index := Scalar.indexCast v1011
  let c320 : Index := 320#32
  ![v1072.toNat, 320]
def k0_off649 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1075 : Index := Scalar.indexCast v1011
  let c336 : Index := 336#32
  ![v1075.toNat, 336]
def k0_off650 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1078 : Index := Scalar.indexCast v1011
  let c352 : Index := 352#32
  ![v1078.toNat, 352]
def k0_off651 (v41 : BitVec 32) (v43 : BitVec 32) (v867 : BitVec 32) (v869 : BitVec 32) (k0_t43 : Fin (k0_t43_loop v41 v43).trips) (k0_t44 : Fin (k0_t44_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let c1_i32_376 : BitVec 32 := 1#32
  let arg36 : BitVec 32 := Scf.iv v867 c1_i32_376 k0_t44
  let v1011 : BitVec 32 := Scalar.addi v1003 arg36
  let v1081 : Index := Scalar.indexCast v1011
  let c368 : Index := 368#32
  ![v1081.toNat, 368]
@[reducible] def k0_t45_loop (v867 : BitVec 32) (v869 : BitVec 32) : Scf.Loop 32 :=
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let v1005 : BitVec 32 := Scalar.addi v867 v1004
  let c1_i32_377 : BitVec 32 := 1#32
  ⟨v1008, v1005, c1_i32_377⟩
def k0_off652 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1012 : Index := Scalar.indexCast v1011
  let c0_378 : Index := 0#32
  ![v1012.toNat, 0]
def k0_off653 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1015 : Index := Scalar.indexCast v1011
  let c16 : Index := 16#32
  ![v1015.toNat, 16]
def k0_off654 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1018 : Index := Scalar.indexCast v1011
  let c32 : Index := 32#32
  ![v1018.toNat, 32]
def k0_off655 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1021 : Index := Scalar.indexCast v1011
  let c48 : Index := 48#32
  ![v1021.toNat, 48]
def k0_off656 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1024 : Index := Scalar.indexCast v1011
  let c64 : Index := 64#32
  ![v1024.toNat, 64]
def k0_off657 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1027 : Index := Scalar.indexCast v1011
  let c80 : Index := 80#32
  ![v1027.toNat, 80]
def k0_off658 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1030 : Index := Scalar.indexCast v1011
  let c96 : Index := 96#32
  ![v1030.toNat, 96]
def k0_off659 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1033 : Index := Scalar.indexCast v1011
  let c112 : Index := 112#32
  ![v1033.toNat, 112]
def k0_off660 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1036 : Index := Scalar.indexCast v1011
  let c128 : Index := 128#32
  ![v1036.toNat, 128]
def k0_off661 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1039 : Index := Scalar.indexCast v1011
  let c144 : Index := 144#32
  ![v1039.toNat, 144]
def k0_off662 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1042 : Index := Scalar.indexCast v1011
  let c160 : Index := 160#32
  ![v1042.toNat, 160]
def k0_off663 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1045 : Index := Scalar.indexCast v1011
  let c176 : Index := 176#32
  ![v1045.toNat, 176]
def k0_off664 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1048 : Index := Scalar.indexCast v1011
  let c192 : Index := 192#32
  ![v1048.toNat, 192]
def k0_off665 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1051 : Index := Scalar.indexCast v1011
  let c208 : Index := 208#32
  ![v1051.toNat, 208]
def k0_off666 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1054 : Index := Scalar.indexCast v1011
  let c224 : Index := 224#32
  ![v1054.toNat, 224]
def k0_off667 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1057 : Index := Scalar.indexCast v1011
  let c240 : Index := 240#32
  ![v1057.toNat, 240]
def k0_off668 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1060 : Index := Scalar.indexCast v1011
  let c256 : Index := 256#32
  ![v1060.toNat, 256]
def k0_off669 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1063 : Index := Scalar.indexCast v1011
  let c272 : Index := 272#32
  ![v1063.toNat, 272]
def k0_off670 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1066 : Index := Scalar.indexCast v1011
  let c288 : Index := 288#32
  ![v1066.toNat, 288]
def k0_off671 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1069 : Index := Scalar.indexCast v1011
  let c304 : Index := 304#32
  ![v1069.toNat, 304]
def k0_off672 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1072 : Index := Scalar.indexCast v1011
  let c320 : Index := 320#32
  ![v1072.toNat, 320]
def k0_off673 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1075 : Index := Scalar.indexCast v1011
  let c336 : Index := 336#32
  ![v1075.toNat, 336]
def k0_off674 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1078 : Index := Scalar.indexCast v1011
  let c352 : Index := 352#32
  ![v1078.toNat, 352]
def k0_off675 (v41 : BitVec 32) (v43 : BitVec 32) (v867 : BitVec 32) (v869 : BitVec 32) (k0_t43 : Fin (k0_t43_loop v41 v43).trips) (k0_t45 : Fin (k0_t45_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t43
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t45
  let v1011 : BitVec 32 := Scalar.addi v1003 arg36
  let v1081 : Index := Scalar.indexCast v1011
  let c368 : Index := 368#32
  ![v1081.toNat, 368]

def k0_chk153_0 (i : grid0.Coords) (v10 : BitVec 32) (v41 : BitVec 32) (v43 : BitVec 32) (v867 : BitVec 32) (v869 : BitVec 32) : Prop :=
  (∀ k0_t40 : Fin (k0_t40_loop v41 v43).trips, ∀ (k0_h1 : k0_cond1 i v10 = 1#1), (k0_t41_loop v867 v869).OK) ∧
  (∀ (k0_t40 : Fin (k0_t40_loop v41 v43).trips) (k0_t41 : Fin (k0_t41_loop v867 v869).trips), ∀ (k0_h1 : k0_cond1 i v10 = 1#1), ∀ a, (k0_off580 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off581 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off582 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off583 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off584 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off585 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off586 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off587 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off588 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off589 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off590 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off591 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off592 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off593 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off594 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off595 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off596 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off597 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off598 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off599 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off600 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off601 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off602 v41 v43 v867 v869 k0_t40 k0_t41) a + S1x16.size a ≤ S196x384.size a) ∧
  (∀ (k0_t40 : Fin (k0_t40_loop v41 v43).trips) (k0_t41 : Fin (k0_t41_loop v867 v869).trips), ∀ (k0_h1 : k0_cond1 i v10 = 1#1), ∀ a, (k0_off603 v41 v43 v867 v869 k0_t40 k0_t41) a + S1x16.size a ≤ S196x384.size a) ∧
  (∀ k0_t40 : Fin (k0_t40_loop v41 v43).trips, ∀ (k0_h1 : k0_cond1 i v10 = 1#1), (k0_t42_loop v867 v869).OK) ∧
  (∀ (k0_t40 : Fin (k0_t40_loop v41 v43).trips) (k0_t42 : Fin (k0_t42_loop v867 v869).trips), ∀ (k0_h1 : k0_cond1 i v10 = 1#1), ∀ a, (k0_off604 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off605 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off606 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off607 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off608 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off609 v41 v43 v867 v869 k0_t40 k0_t42) a + S1x16.size a ≤ S196x384.size a)
def k0_chk153_1 (i : grid0.Coords) (v10 : BitVec 32) (v41 : BitVec 32) (v43 : BitVec 32) (v867 : BitVec 32) (v869 : BitVec 32) : Prop :=
  (∀ (k0_t40 : Fin (k0_t40_loop v41 v43).trips) (k0_t42 : Fin (k0_t42_loop v867 v869).trips), ∀ (k0_h1 : k0_cond1 i v10 = 1#1), ∀ a, (k0_off610 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off611 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off612 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off613 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off614 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off615 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off616 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off617 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off618 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off619 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off620 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off621 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off622 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off623 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off624 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off625 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off626 v41 v43 v867 v869 k0_t40 k0_t42) a + S1x16.size a ≤ S196x384.size a) ∧
  (∀ (k0_t40 : Fin (k0_t40_loop v41 v43).trips) (k0_t42 : Fin (k0_t42_loop v867 v869).trips), ∀ (k0_h1 : k0_cond1 i v10 = 1#1), ∀ a, (k0_off627 v41 v43 v867 v869 k0_t40 k0_t42) a + S1x16.size a ≤ S196x384.size a) ∧
  (∀ k0_t43 : Fin (k0_t43_loop v41 v43).trips, ∀ (k0_h1 : k0_cond1 i v10 = 1#1), (k0_t44_loop v867 v869).OK) ∧
  (∀ (k0_t43 : Fin (k0_t43_loop v41 v43).trips) (k0_t44 : Fin (k0_t44_loop v867 v869).trips), ∀ (k0_h1 : k0_cond1 i v10 = 1#1), ∀ a, (k0_off628 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off629 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off630 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off631 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off632 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off633 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off634 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off635 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off636 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off637 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off638 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off639 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off640 v41 v43 v867 v869 k0_t43 k0_t44) a + S1x16.size a ≤ S196x384.size a)
def k0_chk153_2 (i : grid0.Coords) (v10 : BitVec 32) (v41 : BitVec 32) (v43 : BitVec 32) (v867 : BitVec 32) (v869 : BitVec 32) : Prop :=
  (∀ (k0_t43 : Fin (k0_t43_loop v41 v43).trips) (k0_t44 : Fin (k0_t44_loop v867 v869).trips), ∀ (k0_h1 : k0_cond1 i v10 = 1#1), ∀ a, (k0_off641 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off642 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off643 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off644 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off645 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off646 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off647 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off648 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off649 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off650 v41 v43 v867 v869 k0_t43 k0_t44) a + S1x16.size a ≤ S196x384.size a) ∧
  (∀ (k0_t43 : Fin (k0_t43_loop v41 v43).trips) (k0_t44 : Fin (k0_t44_loop v867 v869).trips), ∀ (k0_h1 : k0_cond1 i v10 = 1#1), ∀ a, (k0_off651 v41 v43 v867 v869 k0_t43 k0_t44) a + S1x16.size a ≤ S196x384.size a) ∧
  (∀ k0_t43 : Fin (k0_t43_loop v41 v43).trips, ∀ (k0_h1 : k0_cond1 i v10 = 1#1), (k0_t45_loop v867 v869).OK) ∧
  (∀ (k0_t43 : Fin (k0_t43_loop v41 v43).trips) (k0_t45 : Fin (k0_t45_loop v867 v869).trips), ∀ (k0_h1 : k0_cond1 i v10 = 1#1), ∀ a, (k0_off652 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off653 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off654 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off655 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off656 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off657 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off658 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off659 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off660 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off661 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off662 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off663 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off664 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off665 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off666 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off667 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off668 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off669 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off670 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off671 v41 v43 v867 v869 k0_t43 k0_t45) a + S1x16.size a ≤ S196x384.size a)
def k0_chk153_3 (i : grid0.Coords) (v10 : BitVec 32) (v41 : BitVec 32) (v43 : BitVec 32) (v867 : BitVec 32) (v869 : BitVec 32) : Prop :=
  (∀ (k0_t43 : Fin (k0_t43_loop v41 v43).trips) (k0_t45 : Fin (k0_t45_loop v867 v869).trips), ∀ (k0_h1 : k0_cond1 i v10 = 1#1), ∀ a, (k0_off672 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off673 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off674 v41 v43 v867 v869 k0_t43 k0_t45) a + S1x16.size a ≤ S196x384.size a) ∧
  (∀ (k0_t43 : Fin (k0_t43_loop v41 v43).trips) (k0_t45 : Fin (k0_t45_loop v867 v869).trips), ∀ (k0_h1 : k0_cond1 i v10 = 1#1), ∀ a, (k0_off675 v41 v43 v867 v869 k0_t43 k0_t45) a + S1x16.size a ≤ S196x384.size a)
def k0_chk153 (i : grid0.Coords) (v10 : BitVec 32) (v41 : BitVec 32) (v43 : BitVec 32) (v867 : BitVec 32) (v869 : BitVec 32) : Prop :=
  k0_chk153_0 i v10 v41 v43 v867 v869 ∧
  k0_chk153_1 i v10 v41 v43 v867 v869 ∧
  k0_chk153_2 i v10 v41 v43 v867 v869 ∧
  k0_chk153_3 i v10 v41 v43 v867 v869
theorem k0_t41_ok : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips), ∀ (k0_h1 : k0_cond1 i v10 = 1#1), (k0_t41_loop v867 v869).OK := fun i v10 v41 v43 v867 v869 k0_hw153 k0_t40 k0_h1 => k0_hw153.1.1 k0_t40 k0_h1
theorem k0_off580_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off580 v41 v43 v867 v869 k0_t40 k0_t41) a + S1x16.size a ≤ S196x384.size a := fun i v10 v41 v43 v867 v869 k0_hw153 k0_t40 k0_t41 k0_h1 => k0_hw153.1.2.1 k0_t40 k0_t41 k0_h1
theorem k0_off581_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off581 v41 v43 v867 v869 k0_t40 k0_t41) a + S1x16.size a ≤ S196x384.size a := fun i v10 v41 v43 v867 v869 k0_hw153 k0_t40 k0_t41 k0_h1 => k0_hw153.1.2.2.1 k0_t40 k0_t41 k0_h1
theorem k0_off582_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off582 v41 v43 v867 v869 k0_t40 k0_t41) a + S1x16.size a ≤ S196x384.size a := fun i v10 v41 v43 v867 v869 k0_hw153 k0_t40 k0_t41 k0_h1 => k0_hw153.1.2.2.2.1 k0_t40 k0_t41 k0_h1
theorem k0_off583_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off583 v41 v43 v867 v869 k0_t40 k0_t41) a + S1x16.size a ≤ S196x384.size a := fun i v10 v41 v43 v867 v869 k0_hw153 k0_t40 k0_t41 k0_h1 => k0_hw153.1.2.2.2.2.1 k0_t40 k0_t41 k0_h1
theorem k0_off584_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off584 v41 v43 v867 v869 k0_t40 k0_t41) a + S1x16.size a ≤ S196x384.size a := fun i v10 v41 v43 v867 v869 k0_hw153 k0_t40 k0_t41 k0_h1 => k0_hw153.1.2.2.2.2.2.1 k0_t40 k0_t41 k0_h1
theorem k0_off585_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off585 v41 v43 v867 v869 k0_t40 k0_t41) a + S1x16.size a ≤ S196x384.size a := fun i v10 v41 v43 v867 v869 k0_hw153 k0_t40 k0_t41 k0_h1 => k0_hw153.1.2.2.2.2.2.2.1 k0_t40 k0_t41 k0_h1
theorem k0_off586_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off586 v41 v43 v867 v869 k0_t40 k0_t41) a + S1x16.size a ≤ S196x384.size a := fun i v10 v41 v43 v867 v869 k0_hw153 k0_t40 k0_t41 k0_h1 => k0_hw153.1.2.2.2.2.2.2.2.1 k0_t40 k0_t41 k0_h1
theorem k0_off587_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off587 v41 v43 v867 v869 k0_t40 k0_t41) a + S1x16.size a ≤ S196x384.size a := fun i v10 v41 v43 v867 v869 k0_hw153 k0_t40 k0_t41 k0_h1 => k0_hw153.1.2.2.2.2.2.2.2.2.1 k0_t40 k0_t41 k0_h1
theorem k0_off588_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off588 v41 v43 v867 v869 k0_t40 k0_t41) a + S1x16.size a ≤ S196x384.size a := fun i v10 v41 v43 v867 v869 k0_hw153 k0_t40 k0_t41 k0_h1 => k0_hw153.1.2.2.2.2.2.2.2.2.2.1 k0_t40 k0_t41 k0_h1
theorem k0_off589_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off589 v41 v43 v867 v869 k0_t40 k0_t41) a + S1x16.size a ≤ S196x384.size a := fun i v10 v41 v43 v867 v869 k0_hw153 k0_t40 k0_t41 k0_h1 => k0_hw153.1.2.2.2.2.2.2.2.2.2.2.1 k0_t40 k0_t41 k0_h1
theorem k0_off590_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off590 v41 v43 v867 v869 k0_t40 k0_t41) a + S1x16.size a ≤ S196x384.size a := fun i v10 v41 v43 v867 v869 k0_hw153 k0_t40 k0_t41 k0_h1 => k0_hw153.1.2.2.2.2.2.2.2.2.2.2.2.1 k0_t40 k0_t41 k0_h1
theorem k0_off591_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off591 v41 v43 v867 v869 k0_t40 k0_t41) a + S1x16.size a ≤ S196x384.size a := fun i v10 v41 v43 v867 v869 k0_hw153 k0_t40 k0_t41 k0_h1 => k0_hw153.1.2.2.2.2.2.2.2.2.2.2.2.2.1 k0_t40 k0_t41 k0_h1
theorem k0_off592_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off592 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.1 k0_t40 k0_t41 k0_h1
theorem k0_off593_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off593 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.1 k0_t40 k0_t41 k0_h1
theorem k0_off594_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off594 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.1 k0_t40 k0_t41 k0_h1
theorem k0_off595_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off595 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.2.1 k0_t40 k0_t41 k0_h1
theorem k0_off596_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off596 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.2.2.1 k0_t40 k0_t41 k0_h1
theorem k0_off597_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off597 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.2.2.2.1 k0_t40 k0_t41 k0_h1
theorem k0_off598_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off598 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.2.2.2.2.1 k0_t40 k0_t41 k0_h1
theorem k0_off599_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off599 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.2.2.2.2.2.1 k0_t40 k0_t41 k0_h1
theorem k0_off600_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off600 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.2.2.2.2.2.2.1 k0_t40 k0_t41 k0_h1
theorem k0_off601_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off601 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.2.2.2.2.2.2.2.1 k0_t40 k0_t41 k0_h1
theorem k0_off602_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off602 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.2.2.2.2.2.2.2.2.1 k0_t40 k0_t41 k0_h1
theorem k0_off603_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t41 : Fin (k0_t41_loop v867 v869).trips), ∀ (k0_h1 : k0_cond1 i v10 = 1#1), ∀ a, (k0_off603 v41 v43 v867 v869 k0_t40 k0_t41) a + S1x16.size a ≤ S196x384.size a := fun i v10 v41 v43 v867 v869 k0_hw153 k0_t40 k0_t41 k0_h1 => k0_hw153.1.2.2.2.2.2.2.2.2.2.2.2.2.2.2.2.2.2.2.2.2.2.2.2.2.1 k0_t40 k0_t41 k0_h1
theorem k0_t42_ok : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips), ∀ (k0_h1 : k0_cond1 i v10 = 1#1), (k0_t42_loop v867 v869).OK := fun i v10 v41 v43 v867 v869 k0_hw153 k0_t40 k0_h1 => k0_hw153.1.2.2.2.2.2.2.2.2.2.2.2.2.2.2.2.2.2.2.2.2.2.2.2.2.2.1 k0_t40 k0_h1
theorem k0_off604_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off604 v41 v43 v867 v869 k0_t40 k0_t42) a + S1x16.size a ≤ S196x384.size a := fun i v10 v41 v43 v867 v869 k0_hw153 k0_t40 k0_t42 k0_h1 => k0_hw153.1.2.2.2.2.2.2.2.2.2.2.2.2.2.2.2.2.2.2.2.2.2.2.2.2.2.2.1 k0_t40 k0_t42 k0_h1
theorem k0_off605_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off605 v41 v43 v867 v869 k0_t40 k0_t42) a + S1x16.size a ≤ S196x384.size a := fun i v10 v41 v43 v867 v869 k0_hw153 k0_t40 k0_t42 k0_h1 => k0_hw153.1.2.2.2.2.2.2.2.2.2.2.2.2.2.2.2.2.2.2.2.2.2.2.2.2.2.2.2.1 k0_t40 k0_t42 k0_h1
theorem k0_off606_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off606 v41 v43 v867 v869 k0_t40 k0_t42) a + S1x16.size a ≤ S196x384.size a := fun i v10 v41 v43 v867 v869 k0_hw153 k0_t40 k0_t42 k0_h1 => k0_hw153.1.2.2.2.2.2.2.2.2.2.2.2.2.2.2.2.2.2.2.2.2.2.2.2.2.2.2.2.2.1 k0_t40 k0_t42 k0_h1
theorem k0_off607_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off607 v41 v43 v867 v869 k0_t40 k0_t42) a + S1x16.size a ≤ S196x384.size a := fun i v10 v41 v43 v867 v869 k0_hw153 k0_t40 k0_t42 k0_h1 => k0_hw153.1.2.2.2.2.2.2.2.2.2.2.2.2.2.2.2.2.2.2.2.2.2.2.2.2.2.2.2.2.2.1 k0_t40 k0_t42 k0_h1
theorem k0_off608_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off608 v41 v43 v867 v869 k0_t40 k0_t42) a + S1x16.size a ≤ S196x384.size a := fun i v10 v41 v43 v867 v869 k0_hw153 k0_t40 k0_t42 k0_h1 => k0_hw153.1.2.2.2.2.2.2.2.2.2.2.2.2.2.2.2.2.2.2.2.2.2.2.2.2.2.2.2.2.2.2.1 k0_t40 k0_t42 k0_h1
theorem k0_off609_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off609 v41 v43 v867 v869 k0_t40 k0_t42) a + S1x16.size a ≤ S196x384.size a := fun i v10 v41 v43 v867 v869 k0_hw153 k0_t40 k0_t42 k0_h1 => k0_hw153.1.2.2.2.2.2.2.2.2.2.2.2.2.2.2.2.2.2.2.2.2.2.2.2.2.2.2.2.2.2.2.2 k0_t40 k0_t42 k0_h1
theorem k0_off610_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off610 v41 v43 v867 v869 k0_t40 k0_t42) a + S1x16.size a ≤ S196x384.size a := fun i v10 v41 v43 v867 v869 k0_hw153 k0_t40 k0_t42 k0_h1 => k0_hw153.2.1.1 k0_t40 k0_t42 k0_h1
theorem k0_off611_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off611 v41 v43 v867 v869 k0_t40 k0_t42) a + S1x16.size a ≤ S196x384.size a := fun i v10 v41 v43 v867 v869 k0_hw153 k0_t40 k0_t42 k0_h1 => k0_hw153.2.1.2.1 k0_t40 k0_t42 k0_h1
theorem k0_off612_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off612 v41 v43 v867 v869 k0_t40 k0_t42) a + S1x16.size a ≤ S196x384.size a := fun i v10 v41 v43 v867 v869 k0_hw153 k0_t40 k0_t42 k0_h1 => k0_hw153.2.1.2.2.1 k0_t40 k0_t42 k0_h1
theorem k0_off613_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off613 v41 v43 v867 v869 k0_t40 k0_t42) a + S1x16.size a ≤ S196x384.size a := fun i v10 v41 v43 v867 v869 k0_hw153 k0_t40 k0_t42 k0_h1 => k0_hw153.2.1.2.2.2.1 k0_t40 k0_t42 k0_h1
theorem k0_off614_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off614 v41 v43 v867 v869 k0_t40 k0_t42) a + S1x16.size a ≤ S196x384.size a := fun i v10 v41 v43 v867 v869 k0_hw153 k0_t40 k0_t42 k0_h1 => k0_hw153.2.1.2.2.2.2.1 k0_t40 k0_t42 k0_h1
theorem k0_off615_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off615 v41 v43 v867 v869 k0_t40 k0_t42) a + S1x16.size a ≤ S196x384.size a := fun i v10 v41 v43 v867 v869 k0_hw153 k0_t40 k0_t42 k0_h1 => k0_hw153.2.1.2.2.2.2.2.1 k0_t40 k0_t42 k0_h1
theorem k0_off616_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off616 v41 v43 v867 v869 k0_t40 k0_t42) a + S1x16.size a ≤ S196x384.size a := fun i v10 v41 v43 v867 v869 k0_hw153 k0_t40 k0_t42 k0_h1 => k0_hw153.2.1.2.2.2.2.2.2.1 k0_t40 k0_t42 k0_h1
theorem k0_off617_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off617 v41 v43 v867 v869 k0_t40 k0_t42) a + S1x16.size a ≤ S196x384.size a := fun i v10 v41 v43 v867 v869 k0_hw153 k0_t40 k0_t42 k0_h1 => k0_hw153.2.1.2.2.2.2.2.2.2.1 k0_t40 k0_t42 k0_h1
theorem k0_off618_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off618 v41 v43 v867 v869 k0_t40 k0_t42) a + S1x16.size a ≤ S196x384.size a := fun i v10 v41 v43 v867 v869 k0_hw153 k0_t40 k0_t42 k0_h1 => k0_hw153.2.1.2.2.2.2.2.2.2.2.1 k0_t40 k0_t42 k0_h1
theorem k0_off619_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off619 v41 v43 v867 v869 k0_t40 k0_t42) a + S1x16.size a ≤ S196x384.size a := fun i v10 v41 v43 v867 v869 k0_hw153 k0_t40 k0_t42 k0_h1 => k0_hw153.2.1.2.2.2.2.2.2.2.2.2.1 k0_t40 k0_t42 k0_h1
theorem k0_off620_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off620 v41 v43 v867 v869 k0_t40 k0_t42) a + S1x16.size a ≤ S196x384.size a := fun i v10 v41 v43 v867 v869 k0_hw153 k0_t40 k0_t42 k0_h1 => k0_hw153.2.1.2.2.2.2.2.2.2.2.2.2.1 k0_t40 k0_t42 k0_h1
theorem k0_off621_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off621 v41 v43 v867 v869 k0_t40 k0_t42) a + S1x16.size a ≤ S196x384.size a := fun i v10 v41 v43 v867 v869 k0_hw153 k0_t40 k0_t42 k0_h1 => k0_hw153.2.1.2.2.2.2.2.2.2.2.2.2.2.1 k0_t40 k0_t42 k0_h1
theorem k0_off622_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off622 v41 v43 v867 v869 k0_t40 k0_t42) a + S1x16.size a ≤ S196x384.size a := fun i v10 v41 v43 v867 v869 k0_hw153 k0_t40 k0_t42 k0_h1 => k0_hw153.2.1.2.2.2.2.2.2.2.2.2.2.2.2.1 k0_t40 k0_t42 k0_h1
theorem k0_off623_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off623 v41 v43 v867 v869 k0_t40 k0_t42) a + S1x16.size a ≤ S196x384.size a := fun i v10 v41 v43 v867 v869 k0_hw153 k0_t40 k0_t42 k0_h1 => k0_hw153.2.1.2.2.2.2.2.2.2.2.2.2.2.2.2.1 k0_t40 k0_t42 k0_h1
theorem k0_off624_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off624 v41 v43 v867 v869 k0_t40 k0_t42) a + S1x16.size a ≤ S196x384.size a := fun i v10 v41 v43 v867 v869 k0_hw153 k0_t40 k0_t42 k0_h1 => k0_hw153.2.1.2.2.2.2.2.2.2.2.2.2.2.2.2.2.1 k0_t40 k0_t42 k0_h1
theorem k0_off625_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off625 v41 v43 v867 v869 k0_t40 k0_t42) a + S1x16.size a ≤ S196x384.size a := fun i v10 v41 v43 v867 v869 k0_hw153 k0_t40 k0_t42 k0_h1 => k0_hw153.2.1.2.2.2.2.2.2.2.2.2.2.2.2.2.2.2.1 k0_t40 k0_t42 k0_h1
theorem k0_off626_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off626 v41 v43 v867 v869 k0_t40 k0_t42) a + S1x16.size a ≤ S196x384.size a := fun i v10 v41 v43 v867 v869 k0_hw153 k0_t40 k0_t42 k0_h1 => k0_hw153.2.1.2.2.2.2.2.2.2.2.2.2.2.2.2.2.2.2.1 k0_t40 k0_t42 k0_h1
theorem k0_off627_inb : ∀ (i : grid0.Coords) (v10 : BitVec 32) (v41 : BitVec 32) (v43 : BitVec 32) (v867 : BitVec 32) (v869 : BitVec 32) (k0_hw153 : k0_chk153 i v10 v41 v43 v867 v869) (k0_t40 : Fin (k0_t40_loop v41 v43).trips) (k0_t42 : Fin (k0_t42_loop v867 v869).trips), ∀ (k0_h1 : k0_cond1 i v10 = 1#1), ∀ a, (k0_off627 v41 v43 v867 v869 k0_t40 k0_t42) a + S1x16.size a ≤ S196x384.size a := fun i v10 v41 v43 v867 v869 k0_hw153 k0_t40 k0_t42 k0_h1 => k0_hw153.2.1.2.2.2.2.2.2.2.2.2.2.2.2.2.2.2.2.2.1 k0_t40 k0_t42 k0_h1
theorem k0_t44_ok : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips), ∀ (k0_h1 : k0_cond1 i v10 = 1#1), (k0_t44_loop v867 v869).OK := fun i v10 v41 v43 v867 v869 k0_hw153 k0_t43 k0_h1 => k0_hw153.2.1.2.2.2.2.2.2.2.2.2.2.2.2.2.2.2.2.2.2.1 k0_t43 k0_h1
theorem k0_off628_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off628 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.1 k0_t43 k0_t44 k0_h1
theorem k0_off629_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off629 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.1 k0_t43 k0_t44 k0_h1
theorem k0_off630_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off630 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.1 k0_t43 k0_t44 k0_h1
theorem k0_off631_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off631 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.1 k0_t43 k0_t44 k0_h1
theorem k0_off632_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off632 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.2.1 k0_t43 k0_t44 k0_h1
theorem k0_off633_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off633 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.2.2.1 k0_t43 k0_t44 k0_h1
theorem k0_off634_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off634 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.2.2.2.1 k0_t43 k0_t44 k0_h1
theorem k0_off635_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off635 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.2.2.2.2.1 k0_t43 k0_t44 k0_h1
theorem k0_off636_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off636 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.2.2.2.2.2.1 k0_t43 k0_t44 k0_h1
theorem k0_off637_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off637 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.2.2.2.2.2.2.1 k0_t43 k0_t44 k0_h1
theorem k0_off638_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off638 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.2.2.2.2.2.2.2.1 k0_t43 k0_t44 k0_h1
theorem k0_off639_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off639 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.2.2.2.2.2.2.2.2.1 k0_t43 k0_t44 k0_h1
theorem k0_off640_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off640 v41 v43 v867 v869 k0_t43 k0_t44) a + S1x16.size a ≤ S196x384.size a := fun i v10 v41 v43 v867 v869 k0_hw153 k0_t43 k0_t44 k0_h1 => k0_hw153.2.1.2.2.2.2.2.2.2.2.2.2.2.2.2.2.2.2.2.2.2.2.2.2.2.2.2.2.2.2.2.2.2 k0_t43 k0_t44 k0_h1
theorem k0_off641_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off641 v41 v43 v867 v869 k0_t43 k0_t44) a + S1x16.size a ≤ S196x384.size a := fun i v10 v41 v43 v867 v869 k0_hw153 k0_t43 k0_t44 k0_h1 => k0_hw153.2.2.1.1 k0_t43 k0_t44 k0_h1
theorem k0_off642_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off642 v41 v43 v867 v869 k0_t43 k0_t44) a + S1x16.size a ≤ S196x384.size a := fun i v10 v41 v43 v867 v869 k0_hw153 k0_t43 k0_t44 k0_h1 => k0_hw153.2.2.1.2.1 k0_t43 k0_t44 k0_h1
theorem k0_off643_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off643 v41 v43 v867 v869 k0_t43 k0_t44) a + S1x16.size a ≤ S196x384.size a := fun i v10 v41 v43 v867 v869 k0_hw153 k0_t43 k0_t44 k0_h1 => k0_hw153.2.2.1.2.2.1 k0_t43 k0_t44 k0_h1
theorem k0_off644_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off644 v41 v43 v867 v869 k0_t43 k0_t44) a + S1x16.size a ≤ S196x384.size a := fun i v10 v41 v43 v867 v869 k0_hw153 k0_t43 k0_t44 k0_h1 => k0_hw153.2.2.1.2.2.2.1 k0_t43 k0_t44 k0_h1
theorem k0_off645_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off645 v41 v43 v867 v869 k0_t43 k0_t44) a + S1x16.size a ≤ S196x384.size a := fun i v10 v41 v43 v867 v869 k0_hw153 k0_t43 k0_t44 k0_h1 => k0_hw153.2.2.1.2.2.2.2.1 k0_t43 k0_t44 k0_h1
theorem k0_off646_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off646 v41 v43 v867 v869 k0_t43 k0_t44) a + S1x16.size a ≤ S196x384.size a := fun i v10 v41 v43 v867 v869 k0_hw153 k0_t43 k0_t44 k0_h1 => k0_hw153.2.2.1.2.2.2.2.2.1 k0_t43 k0_t44 k0_h1
theorem k0_off647_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off647 v41 v43 v867 v869 k0_t43 k0_t44) a + S1x16.size a ≤ S196x384.size a := fun i v10 v41 v43 v867 v869 k0_hw153 k0_t43 k0_t44 k0_h1 => k0_hw153.2.2.1.2.2.2.2.2.2.1 k0_t43 k0_t44 k0_h1
theorem k0_off648_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off648 v41 v43 v867 v869 k0_t43 k0_t44) a + S1x16.size a ≤ S196x384.size a := fun i v10 v41 v43 v867 v869 k0_hw153 k0_t43 k0_t44 k0_h1 => k0_hw153.2.2.1.2.2.2.2.2.2.2.1 k0_t43 k0_t44 k0_h1
theorem k0_off649_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off649 v41 v43 v867 v869 k0_t43 k0_t44) a + S1x16.size a ≤ S196x384.size a := fun i v10 v41 v43 v867 v869 k0_hw153 k0_t43 k0_t44 k0_h1 => k0_hw153.2.2.1.2.2.2.2.2.2.2.2.1 k0_t43 k0_t44 k0_h1
theorem k0_off650_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off650 v41 v43 v867 v869 k0_t43 k0_t44) a + S1x16.size a ≤ S196x384.size a := fun i v10 v41 v43 v867 v869 k0_hw153 k0_t43 k0_t44 k0_h1 => k0_hw153.2.2.1.2.2.2.2.2.2.2.2.2.1 k0_t43 k0_t44 k0_h1
theorem k0_off651_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t44 : Fin (k0_t44_loop v867 v869).trips), ∀ (k0_h1 : k0_cond1 i v10 = 1#1), ∀ a, (k0_off651 v41 v43 v867 v869 k0_t43 k0_t44) a + S1x16.size a ≤ S196x384.size a := fun i v10 v41 v43 v867 v869 k0_hw153 k0_t43 k0_t44 k0_h1 => k0_hw153.2.2.1.2.2.2.2.2.2.2.2.2.2.1 k0_t43 k0_t44 k0_h1
theorem k0_t45_ok : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips), ∀ (k0_h1 : k0_cond1 i v10 = 1#1), (k0_t45_loop v867 v869).OK := fun i v10 v41 v43 v867 v869 k0_hw153 k0_t43 k0_h1 => k0_hw153.2.2.1.2.2.2.2.2.2.2.2.2.2.2.1 k0_t43 k0_h1
theorem k0_off652_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off652 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.1 k0_t43 k0_t45 k0_h1
theorem k0_off653_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off653 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.1 k0_t43 k0_t45 k0_h1
theorem k0_off654_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off654 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.1 k0_t43 k0_t45 k0_h1
theorem k0_off655_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off655 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.1 k0_t43 k0_t45 k0_h1
theorem k0_off656_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off656 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.1 k0_t43 k0_t45 k0_h1
theorem k0_off657_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off657 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.1 k0_t43 k0_t45 k0_h1
theorem k0_off658_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off658 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.1 k0_t43 k0_t45 k0_h1
theorem k0_off659_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off659 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.1 k0_t43 k0_t45 k0_h1
theorem k0_off660_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off660 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.1 k0_t43 k0_t45 k0_h1
theorem k0_off661_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off661 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.1 k0_t43 k0_t45 k0_h1
theorem k0_off662_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off662 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.1 k0_t43 k0_t45 k0_h1
theorem k0_off663_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off663 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.2.1 k0_t43 k0_t45 k0_h1
theorem k0_off664_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off664 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.2.2.1 k0_t43 k0_t45 k0_h1
theorem k0_off665_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off665 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.2.2.2.1 k0_t43 k0_t45 k0_h1
theorem k0_off666_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off666 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.2.2.2.2.1 k0_t43 k0_t45 k0_h1
theorem k0_off667_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off667 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.2.2.2.2.2.1 k0_t43 k0_t45 k0_h1
theorem k0_off668_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off668 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.2.2.2.2.2.2.1 k0_t43 k0_t45 k0_h1
theorem k0_off669_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off669 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.2.2.2.2.2.2.2.1 k0_t43 k0_t45 k0_h1
theorem k0_off670_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off670 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.2.2.2.2.2.2.2.2.1 k0_t43 k0_t45 k0_h1
theorem k0_off671_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off671 v41 v43 v867 v869 k0_t43 k0_t45) a + S1x16.size a ≤ S196x384.size a := fun i v10 v41 v43 v867 v869 k0_hw153 k0_t43 k0_t45 k0_h1 => k0_hw153.2.2.1.2.2.2.2.2.2.2.2.2.2.2.2.2.2.2.2.2.2.2.2.2.2.2.2.2.2.2.2.2.2.2 k0_t43 k0_t45 k0_h1
theorem k0_off672_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off672 v41 v43 v867 v869 k0_t43 k0_t45) a + S1x16.size a ≤ S196x384.size a := fun i v10 v41 v43 v867 v869 k0_hw153 k0_t43 k0_t45 k0_h1 => k0_hw153.2.2.2.1 k0_t43 k0_t45 k0_h1
theorem k0_off673_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off673 v41 v43 v867 v869 k0_t43 k0_t45) a + S1x16.size a ≤ S196x384.size a := fun i v10 v41 v43 v867 v869 k0_hw153 k0_t43 k0_t45 k0_h1 => k0_hw153.2.2.2.2.1 k0_t43 k0_t45 k0_h1
theorem k0_off674_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off674 v41 v43 v867 v869 k0_t43 k0_t45) a + S1x16.size a ≤ S196x384.size a := fun i v10 v41 v43 v867 v869 k0_hw153 k0_t43 k0_t45 k0_h1 => k0_hw153.2.2.2.2.2.1 k0_t43 k0_t45 k0_h1
theorem k0_off675_inb : ∀ (i : grid0.Coords) (v10 : BitVec 32) (v41 : BitVec 32) (v43 : BitVec 32) (v867 : BitVec 32) (v869 : BitVec 32) (k0_hw153 : k0_chk153 i v10 v41 v43 v867 v869) (k0_t43 : Fin (k0_t43_loop v41 v43).trips) (k0_t45 : Fin (k0_t45_loop v867 v869).trips), ∀ (k0_h1 : k0_cond1 i v10 = 1#1), ∀ a, (k0_off675 v41 v43 v867 v869 k0_t43 k0_t45) a + S1x16.size a ≤ S196x384.size a := fun i v10 v41 v43 v867 v869 k0_hw153 k0_t43 k0_t45 k0_h1 => k0_hw153.2.2.2.2.2.2 k0_t43 k0_t45 k0_h1

def k0_chk154 (i : grid0.Coords) (v10 : BitVec 32) (v887 : IVec S16 32) : Prop :=
  (∀ (k0_h1 : k0_cond1 i v10 = 1#1), ∀ a x, ((![v887] : Fin 1 → IVec S16 32) a x).toNat < S18816.size a)
theorem k0_idx145_inb : ∀ (i : grid0.Coords) (v10 : BitVec 32) (v887 : IVec S16 32) (k0_hw154 : k0_chk154 i v10 v887), ∀ (k0_h1 : k0_cond1 i v10 = 1#1), ∀ a x, ((![v887] : Fin 1 → IVec S16 32) a x).toNat < S18816.size a := fun i v10 v887 k0_hw154 k0_h1 => k0_hw154 k0_h1

def k0_chk155 (i : grid0.Coords) (v10 : BitVec 32) (v892 : IVec S16 32) : Prop :=
  (∀ (k0_h1 : k0_cond1 i v10 = 1#1), ∀ a x, ((![v892] : Fin 1 → IVec S16 32) a x).toNat < S18816.size a)
theorem k0_idx146_inb : ∀ (i : grid0.Coords) (v10 : BitVec 32) (v892 : IVec S16 32) (k0_hw155 : k0_chk155 i v10 v892), ∀ (k0_h1 : k0_cond1 i v10 = 1#1), ∀ a x, ((![v892] : Fin 1 → IVec S16 32) a x).toNat < S18816.size a := fun i v10 v892 k0_hw155 k0_h1 => k0_hw155 k0_h1

def k0_chk156 (i : grid0.Coords) (v10 : BitVec 32) (v897 : IVec S16 32) : Prop :=
  (∀ (k0_h1 : k0_cond1 i v10 = 1#1), ∀ a x, ((![v897] : Fin 1 → IVec S16 32) a x).toNat < S18816.size a)
theorem k0_idx147_inb : ∀ (i : grid0.Coords) (v10 : BitVec 32) (v897 : IVec S16 32) (k0_hw156 : k0_chk156 i v10 v897), ∀ (k0_h1 : k0_cond1 i v10 = 1#1), ∀ a x, ((![v897] : Fin 1 → IVec S16 32) a x).toNat < S18816.size a := fun i v10 v897 k0_hw156 k0_h1 => k0_hw156 k0_h1

def k0_chk157 (i : grid0.Coords) (v10 : BitVec 32) (v902 : IVec S16 32) : Prop :=
  (∀ (k0_h1 : k0_cond1 i v10 = 1#1), ∀ a x, ((![v902] : Fin 1 → IVec S16 32) a x).toNat < S18816.size a)
theorem k0_idx148_inb : ∀ (i : grid0.Coords) (v10 : BitVec 32) (v902 : IVec S16 32) (k0_hw157 : k0_chk157 i v10 v902), ∀ (k0_h1 : k0_cond1 i v10 = 1#1), ∀ a x, ((![v902] : Fin 1 → IVec S16 32) a x).toNat < S18816.size a := fun i v10 v902 k0_hw157 k0_h1 => k0_hw157 k0_h1

def k0_chk158 (i : grid0.Coords) (v10 : BitVec 32) (v907 : IVec S16 32) : Prop :=
  (∀ (k0_h1 : k0_cond1 i v10 = 1#1), ∀ a x, ((![v907] : Fin 1 → IVec S16 32) a x).toNat < S18816.size a)
theorem k0_idx149_inb : ∀ (i : grid0.Coords) (v10 : BitVec 32) (v907 : IVec S16 32) (k0_hw158 : k0_chk158 i v10 v907), ∀ (k0_h1 : k0_cond1 i v10 = 1#1), ∀ a x, ((![v907] : Fin 1 → IVec S16 32) a x).toNat < S18816.size a := fun i v10 v907 k0_hw158 k0_h1 => k0_hw158 k0_h1

def k0_chk159 (i : grid0.Coords) (v10 : BitVec 32) (v912 : IVec S16 32) : Prop :=
  (∀ (k0_h1 : k0_cond1 i v10 = 1#1), ∀ a x, ((![v912] : Fin 1 → IVec S16 32) a x).toNat < S18816.size a)
theorem k0_idx150_inb : ∀ (i : grid0.Coords) (v10 : BitVec 32) (v912 : IVec S16 32) (k0_hw159 : k0_chk159 i v10 v912), ∀ (k0_h1 : k0_cond1 i v10 = 1#1), ∀ a x, ((![v912] : Fin 1 → IVec S16 32) a x).toNat < S18816.size a := fun i v10 v912 k0_hw159 k0_h1 => k0_hw159 k0_h1

def k0_chk160 (i : grid0.Coords) (v10 : BitVec 32) (v917 : IVec S16 32) : Prop :=
  (∀ (k0_h1 : k0_cond1 i v10 = 1#1), ∀ a x, ((![v917] : Fin 1 → IVec S16 32) a x).toNat < S18816.size a)
theorem k0_idx151_inb : ∀ (i : grid0.Coords) (v10 : BitVec 32) (v917 : IVec S16 32) (k0_hw160 : k0_chk160 i v10 v917), ∀ (k0_h1 : k0_cond1 i v10 = 1#1), ∀ a x, ((![v917] : Fin 1 → IVec S16 32) a x).toNat < S18816.size a := fun i v10 v917 k0_hw160 k0_h1 => k0_hw160 k0_h1

def k0_chk161 (i : grid0.Coords) (v10 : BitVec 32) (v922 : IVec S16 32) : Prop :=
  (∀ (k0_h1 : k0_cond1 i v10 = 1#1), ∀ a x, ((![v922] : Fin 1 → IVec S16 32) a x).toNat < S18816.size a)
theorem k0_idx152_inb : ∀ (i : grid0.Coords) (v10 : BitVec 32) (v922 : IVec S16 32) (k0_hw161 : k0_chk161 i v10 v922), ∀ (k0_h1 : k0_cond1 i v10 = 1#1), ∀ a x, ((![v922] : Fin 1 → IVec S16 32) a x).toNat < S18816.size a := fun i v10 v922 k0_hw161 k0_h1 => k0_hw161 k0_h1

def k0_chk162 (i : grid0.Coords) (v10 : BitVec 32) (v927 : IVec S16 32) : Prop :=
  (∀ (k0_h1 : k0_cond1 i v10 = 1#1), ∀ a x, ((![v927] : Fin 1 → IVec S16 32) a x).toNat < S18816.size a)
theorem k0_idx153_inb : ∀ (i : grid0.Coords) (v10 : BitVec 32) (v927 : IVec S16 32) (k0_hw162 : k0_chk162 i v10 v927), ∀ (k0_h1 : k0_cond1 i v10 = 1#1), ∀ a x, ((![v927] : Fin 1 → IVec S16 32) a x).toNat < S18816.size a := fun i v10 v927 k0_hw162 k0_h1 => k0_hw162 k0_h1

def k0_chk163 (i : grid0.Coords) (v10 : BitVec 32) (v932 : IVec S16 32) : Prop :=
  (∀ (k0_h1 : k0_cond1 i v10 = 1#1), ∀ a x, ((![v932] : Fin 1 → IVec S16 32) a x).toNat < S18816.size a)
theorem k0_idx154_inb : ∀ (i : grid0.Coords) (v10 : BitVec 32) (v932 : IVec S16 32) (k0_hw163 : k0_chk163 i v10 v932), ∀ (k0_h1 : k0_cond1 i v10 = 1#1), ∀ a x, ((![v932] : Fin 1 → IVec S16 32) a x).toNat < S18816.size a := fun i v10 v932 k0_hw163 k0_h1 => k0_hw163 k0_h1

def k0_chk164 (i : grid0.Coords) (v10 : BitVec 32) (v937 : IVec S16 32) : Prop :=
  (∀ (k0_h1 : k0_cond1 i v10 = 1#1), ∀ a x, ((![v937] : Fin 1 → IVec S16 32) a x).toNat < S18816.size a)
theorem k0_idx155_inb : ∀ (i : grid0.Coords) (v10 : BitVec 32) (v937 : IVec S16 32) (k0_hw164 : k0_chk164 i v10 v937), ∀ (k0_h1 : k0_cond1 i v10 = 1#1), ∀ a x, ((![v937] : Fin 1 → IVec S16 32) a x).toNat < S18816.size a := fun i v10 v937 k0_hw164 k0_h1 => k0_hw164 k0_h1

def k0_chk165 (i : grid0.Coords) (v10 : BitVec 32) (v942 : IVec S16 32) : Prop :=
  (∀ (k0_h1 : k0_cond1 i v10 = 1#1), ∀ a x, ((![v942] : Fin 1 → IVec S16 32) a x).toNat < S18816.size a)
theorem k0_idx156_inb : ∀ (i : grid0.Coords) (v10 : BitVec 32) (v942 : IVec S16 32) (k0_hw165 : k0_chk165 i v10 v942), ∀ (k0_h1 : k0_cond1 i v10 = 1#1), ∀ a x, ((![v942] : Fin 1 → IVec S16 32) a x).toNat < S18816.size a := fun i v10 v942 k0_hw165 k0_h1 => k0_hw165 k0_h1

def k0_chk166 (i : grid0.Coords) (v10 : BitVec 32) (v947 : IVec S16 32) : Prop :=
  (∀ (k0_h1 : k0_cond1 i v10 = 1#1), ∀ a x, ((![v947] : Fin 1 → IVec S16 32) a x).toNat < S18816.size a)
theorem k0_idx157_inb : ∀ (i : grid0.Coords) (v10 : BitVec 32) (v947 : IVec S16 32) (k0_hw166 : k0_chk166 i v10 v947), ∀ (k0_h1 : k0_cond1 i v10 = 1#1), ∀ a x, ((![v947] : Fin 1 → IVec S16 32) a x).toNat < S18816.size a := fun i v10 v947 k0_hw166 k0_h1 => k0_hw166 k0_h1

def k0_chk167 (i : grid0.Coords) (v10 : BitVec 32) (v952 : IVec S16 32) : Prop :=
  (∀ (k0_h1 : k0_cond1 i v10 = 1#1), ∀ a x, ((![v952] : Fin 1 → IVec S16 32) a x).toNat < S18816.size a)
theorem k0_idx158_inb : ∀ (i : grid0.Coords) (v10 : BitVec 32) (v952 : IVec S16 32) (k0_hw167 : k0_chk167 i v10 v952), ∀ (k0_h1 : k0_cond1 i v10 = 1#1), ∀ a x, ((![v952] : Fin 1 → IVec S16 32) a x).toNat < S18816.size a := fun i v10 v952 k0_hw167 k0_h1 => k0_hw167 k0_h1

def k0_chk168 (i : grid0.Coords) (v10 : BitVec 32) (v957 : IVec S16 32) : Prop :=
  (∀ (k0_h1 : k0_cond1 i v10 = 1#1), ∀ a x, ((![v957] : Fin 1 → IVec S16 32) a x).toNat < S18816.size a)
theorem k0_idx159_inb : ∀ (i : grid0.Coords) (v10 : BitVec 32) (v957 : IVec S16 32) (k0_hw168 : k0_chk168 i v10 v957), ∀ (k0_h1 : k0_cond1 i v10 = 1#1), ∀ a x, ((![v957] : Fin 1 → IVec S16 32) a x).toNat < S18816.size a := fun i v10 v957 k0_hw168 k0_h1 => k0_hw168 k0_h1

def k0_chk169 (i : grid0.Coords) (v10 : BitVec 32) (v962 : IVec S16 32) : Prop :=
  (∀ (k0_h1 : k0_cond1 i v10 = 1#1), ∀ a x, ((![v962] : Fin 1 → IVec S16 32) a x).toNat < S18816.size a)
theorem k0_idx160_inb : ∀ (i : grid0.Coords) (v10 : BitVec 32) (v962 : IVec S16 32) (k0_hw169 : k0_chk169 i v10 v962), ∀ (k0_h1 : k0_cond1 i v10 = 1#1), ∀ a x, ((![v962] : Fin 1 → IVec S16 32) a x).toNat < S18816.size a := fun i v10 v962 k0_hw169 k0_h1 => k0_hw169 k0_h1

def k0_chk170 (i : grid0.Coords) (v10 : BitVec 32) (v967 : IVec S16 32) : Prop :=
  (∀ (k0_h1 : k0_cond1 i v10 = 1#1), ∀ a x, ((![v967] : Fin 1 → IVec S16 32) a x).toNat < S18816.size a)
theorem k0_idx161_inb : ∀ (i : grid0.Coords) (v10 : BitVec 32) (v967 : IVec S16 32) (k0_hw170 : k0_chk170 i v10 v967), ∀ (k0_h1 : k0_cond1 i v10 = 1#1), ∀ a x, ((![v967] : Fin 1 → IVec S16 32) a x).toNat < S18816.size a := fun i v10 v967 k0_hw170 k0_h1 => k0_hw170 k0_h1

def k0_chk171 (i : grid0.Coords) (v10 : BitVec 32) (v972 : IVec S16 32) : Prop :=
  (∀ (k0_h1 : k0_cond1 i v10 = 1#1), ∀ a x, ((![v972] : Fin 1 → IVec S16 32) a x).toNat < S18816.size a)
theorem k0_idx162_inb : ∀ (i : grid0.Coords) (v10 : BitVec 32) (v972 : IVec S16 32) (k0_hw171 : k0_chk171 i v10 v972), ∀ (k0_h1 : k0_cond1 i v10 = 1#1), ∀ a x, ((![v972] : Fin 1 → IVec S16 32) a x).toNat < S18816.size a := fun i v10 v972 k0_hw171 k0_h1 => k0_hw171 k0_h1

def k0_chk172 (i : grid0.Coords) (v10 : BitVec 32) (v977 : IVec S16 32) : Prop :=
  (∀ (k0_h1 : k0_cond1 i v10 = 1#1), ∀ a x, ((![v977] : Fin 1 → IVec S16 32) a x).toNat < S18816.size a)
theorem k0_idx163_inb : ∀ (i : grid0.Coords) (v10 : BitVec 32) (v977 : IVec S16 32) (k0_hw172 : k0_chk172 i v10 v977), ∀ (k0_h1 : k0_cond1 i v10 = 1#1), ∀ a x, ((![v977] : Fin 1 → IVec S16 32) a x).toNat < S18816.size a := fun i v10 v977 k0_hw172 k0_h1 => k0_hw172 k0_h1

def k0_chk173 (i : grid0.Coords) (v10 : BitVec 32) (v982 : IVec S16 32) : Prop :=
  (∀ (k0_h1 : k0_cond1 i v10 = 1#1), ∀ a x, ((![v982] : Fin 1 → IVec S16 32) a x).toNat < S18816.size a)
theorem k0_idx164_inb : ∀ (i : grid0.Coords) (v10 : BitVec 32) (v982 : IVec S16 32) (k0_hw173 : k0_chk173 i v10 v982), ∀ (k0_h1 : k0_cond1 i v10 = 1#1), ∀ a x, ((![v982] : Fin 1 → IVec S16 32) a x).toNat < S18816.size a := fun i v10 v982 k0_hw173 k0_h1 => k0_hw173 k0_h1

def k0_chk174 (i : grid0.Coords) (v10 : BitVec 32) (v987 : IVec S16 32) : Prop :=
  (∀ (k0_h1 : k0_cond1 i v10 = 1#1), ∀ a x, ((![v987] : Fin 1 → IVec S16 32) a x).toNat < S18816.size a)
theorem k0_idx165_inb : ∀ (i : grid0.Coords) (v10 : BitVec 32) (v987 : IVec S16 32) (k0_hw174 : k0_chk174 i v10 v987), ∀ (k0_h1 : k0_cond1 i v10 = 1#1), ∀ a x, ((![v987] : Fin 1 → IVec S16 32) a x).toNat < S18816.size a := fun i v10 v987 k0_hw174 k0_h1 => k0_hw174 k0_h1

def k0_chk175 (i : grid0.Coords) (v10 : BitVec 32) (v992 : IVec S16 32) : Prop :=
  (∀ (k0_h1 : k0_cond1 i v10 = 1#1), ∀ a x, ((![v992] : Fin 1 → IVec S16 32) a x).toNat < S18816.size a)
theorem k0_idx166_inb : ∀ (i : grid0.Coords) (v10 : BitVec 32) (v992 : IVec S16 32) (k0_hw175 : k0_chk175 i v10 v992), ∀ (k0_h1 : k0_cond1 i v10 = 1#1), ∀ a x, ((![v992] : Fin 1 → IVec S16 32) a x).toNat < S18816.size a := fun i v10 v992 k0_hw175 k0_h1 => k0_hw175 k0_h1

def k0_chk176 (i : grid0.Coords) (v10 : BitVec 32) (v997 : IVec S16 32) : Prop :=
  (∀ (k0_h1 : k0_cond1 i v10 = 1#1), ∀ a x, ((![v997] : Fin 1 → IVec S16 32) a x).toNat < S18816.size a)
theorem k0_idx167_inb : ∀ (i : grid0.Coords) (v10 : BitVec 32) (v997 : IVec S16 32) (k0_hw176 : k0_chk176 i v10 v997), ∀ (k0_h1 : k0_cond1 i v10 = 1#1), ∀ a x, ((![v997] : Fin 1 → IVec S16 32) a x).toNat < S18816.size a := fun i v10 v997 k0_hw176 k0_h1 => k0_hw176 k0_h1

def k0_chk177 (i : grid0.Coords) (v10 : BitVec 32) (v1002 : IVec S16 32) : Prop :=
  (∀ (k0_h1 : k0_cond1 i v10 = 1#1), ∀ a x, ((![v1002] : Fin 1 → IVec S16 32) a x).toNat < S18816.size a)
theorem k0_idx168_inb : ∀ (i : grid0.Coords) (v10 : BitVec 32) (v1002 : IVec S16 32) (k0_hw177 : k0_chk177 i v10 v1002), ∀ (k0_h1 : k0_cond1 i v10 = 1#1), ∀ a x, ((![v1002] : Fin 1 → IVec S16 32) a x).toNat < S18816.size a := fun i v10 v1002 k0_hw177 k0_h1 => k0_hw177 k0_h1
def k0_off676 (i : grid0.Coords) (v10 : BitVec 32) (k0_t2 : Fin (k0_t2_loop i v10).trips) : Fin 3 → Nat :=
  let c0_i32_12 : BitVec 32 := 0#32
  let c1_i32_14 : BitVec 32 := 1#32
  let arg9 : BitVec 32 := Scf.iv c0_i32_12 c1_i32_14 k0_t2
  let v30 : Index := Scalar.indexCast arg9
  let c7_i32_21 : BitVec 32 := 7#32
  let v31 : Index := Scalar.indexCast c7_i32_21
  let c0_22 : Index := 0#32
  ![v30.toNat, 7, 0]
def k0_off677 (k0_t1 : Fin k0_t1_loop.trips) (v34 : BitVec 32) : Fin 2 → Nat :=
  let c0_i32_4 : BitVec 32 := 0#32
  let c1_i32 : BitVec 32 := 1#32
  let arg8 : BitVec 32 := Scf.iv c0_i32_4 c1_i32 k0_t1
  let c384_i32 : BitVec 32 := 384#32
  let v35 : BitVec 32 := Scalar.muli arg8 c384_i32
  let c49_i32_23 : BitVec 32 := 49#32
  let v36 : BitVec 32 := Scalar.muli v35 c49_i32_23
  ![v34.toNat, v36.toNat]

def k0_chk178 (i : grid0.Coords) (v10 : BitVec 32) (k0_t1 : Fin k0_t1_loop.trips) (v34 : BitVec 32) : Prop :=
  (∀ (k0_h1 : k0_cond1 i v10 = 1#1), ∀ a, (k0_off677 k0_t1 v34) a + S1x18816.size a ≤ S1000x37632.size a)
theorem k0_off677_inb : ∀ (i : grid0.Coords) (v10 : BitVec 32) (k0_t1 : Fin k0_t1_loop.trips) (v34 : BitVec 32) (k0_hw178 : k0_chk178 i v10 k0_t1 v34), ∀ (k0_h1 : k0_cond1 i v10 = 1#1), ∀ a, (k0_off677 k0_t1 v34) a + S1x18816.size a ≤ S1000x37632.size a := fun i v10 k0_t1 v34 k0_hw178 k0_h1 => k0_hw178 k0_h1

@[reducible] def k0_t46_loop (i : grid0.Coords) (v10 : BitVec 32) : Scf.Loop 32 :=
  let c0_i32_12 : BitVec 32 := 0#32
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let v24 : BitVec 32 := Scalar.subi v13 c0_i32_12
  let c1_i32_13 : BitVec 32 := 1#32
  let v26 : BitVec 32 := Scalar.divsi v24 c1_i32_13
  let v27 : BitVec 32 := Scalar.muli v26 c1_i32_13
  let v28 : BitVec 32 := Scalar.addi c0_i32_12 v27
  let v25 : BitVec 32 := Scalar.addi c0_i32_12 v24
  let c1_i32_15 : BitVec 32 := 1#32
  ⟨v28, v25, c1_i32_15⟩
@[reducible] def k0_t47_loop : Scf.Loop 32 :=
  let c0_i32_17 : BitVec 32 := 0#32
  let c7_i32_18 : BitVec 32 := 7#32
  let v29 : BitVec 32 := Scalar.addi c0_i32_17 c7_i32_18
  let c1_i32_19 : BitVec 32 := 1#32
  ⟨c0_i32_17, v29, c1_i32_19⟩
def k0_off678 (i : grid0.Coords) (v10 : BitVec 32) (k0_t46 : Fin (k0_t46_loop i v10).trips) (k0_t47 : Fin k0_t47_loop.trips) : Fin 3 → Nat :=
  let c0_i32_12 : BitVec 32 := 0#32
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let v24 : BitVec 32 := Scalar.subi v13 c0_i32_12
  let c1_i32_13 : BitVec 32 := 1#32
  let v26 : BitVec 32 := Scalar.divsi v24 c1_i32_13
  let v27 : BitVec 32 := Scalar.muli v26 c1_i32_13
  let v28 : BitVec 32 := Scalar.addi c0_i32_12 v27
  let c1_i32_15 : BitVec 32 := 1#32
  let arg9 : BitVec 32 := Scf.iv v28 c1_i32_15 k0_t46
  let v37 : Index := Scalar.indexCast arg9
  let c0_i32_17 : BitVec 32 := 0#32
  let c1_i32_19 : BitVec 32 := 1#32
  let arg10 : BitVec 32 := Scf.iv c0_i32_17 c1_i32_19 k0_t47
  let v38 : Index := Scalar.indexCast arg10
  let c0_24 : Index := 0#32
  ![v37.toNat, v38.toNat, 0]
@[reducible] def k0_t48_loop (v41 : BitVec 32) (v43 : BitVec 32) : Scf.Loop 32 :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_26 : BitVec 32 := 1#32
  ⟨v41, v53, c1_i32_26⟩

@[reducible] def k0_t49_loop (v45 : BitVec 32) (v47 : BitVec 32) : Scf.Loop 32 :=
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_376 : BitVec 32 := 1#32
  ⟨v45, v1008, c1_i32_376⟩

def k0_off679 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1012 : Index := Scalar.indexCast v1011
  let c0_378 : Index := 0#32
  ![v1012.toNat, 0]
def k0_off680 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1015 : Index := Scalar.indexCast v1011
  let c16 : Index := 16#32
  ![v1015.toNat, 16]
def k0_off681 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1018 : Index := Scalar.indexCast v1011
  let c32 : Index := 32#32
  ![v1018.toNat, 32]
def k0_off682 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1021 : Index := Scalar.indexCast v1011
  let c48 : Index := 48#32
  ![v1021.toNat, 48]
def k0_off683 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1024 : Index := Scalar.indexCast v1011
  let c64 : Index := 64#32
  ![v1024.toNat, 64]
def k0_off684 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1027 : Index := Scalar.indexCast v1011
  let c80 : Index := 80#32
  ![v1027.toNat, 80]
def k0_off685 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1030 : Index := Scalar.indexCast v1011
  let c96 : Index := 96#32
  ![v1030.toNat, 96]
def k0_off686 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1033 : Index := Scalar.indexCast v1011
  let c112 : Index := 112#32
  ![v1033.toNat, 112]
def k0_off687 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1036 : Index := Scalar.indexCast v1011
  let c128 : Index := 128#32
  ![v1036.toNat, 128]
def k0_off688 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1039 : Index := Scalar.indexCast v1011
  let c144 : Index := 144#32
  ![v1039.toNat, 144]
def k0_off689 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1042 : Index := Scalar.indexCast v1011
  let c160 : Index := 160#32
  ![v1042.toNat, 160]
def k0_off690 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1045 : Index := Scalar.indexCast v1011
  let c176 : Index := 176#32
  ![v1045.toNat, 176]
def k0_off691 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1048 : Index := Scalar.indexCast v1011
  let c192 : Index := 192#32
  ![v1048.toNat, 192]
def k0_off692 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1051 : Index := Scalar.indexCast v1011
  let c208 : Index := 208#32
  ![v1051.toNat, 208]
def k0_off693 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1054 : Index := Scalar.indexCast v1011
  let c224 : Index := 224#32
  ![v1054.toNat, 224]
def k0_off694 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1057 : Index := Scalar.indexCast v1011
  let c240 : Index := 240#32
  ![v1057.toNat, 240]
def k0_off695 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1060 : Index := Scalar.indexCast v1011
  let c256 : Index := 256#32
  ![v1060.toNat, 256]
def k0_off696 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1063 : Index := Scalar.indexCast v1011
  let c272 : Index := 272#32
  ![v1063.toNat, 272]
def k0_off697 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1066 : Index := Scalar.indexCast v1011
  let c288 : Index := 288#32
  ![v1066.toNat, 288]
def k0_off698 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1069 : Index := Scalar.indexCast v1011
  let c304 : Index := 304#32
  ![v1069.toNat, 304]
def k0_off699 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1072 : Index := Scalar.indexCast v1011
  let c320 : Index := 320#32
  ![v1072.toNat, 320]
def k0_off700 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1075 : Index := Scalar.indexCast v1011
  let c336 : Index := 336#32
  ![v1075.toNat, 336]
def k0_off701 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1078 : Index := Scalar.indexCast v1011
  let c352 : Index := 352#32
  ![v1078.toNat, 352]
def k0_off702 (v41 : BitVec 32) (v43 : BitVec 32) (v45 : BitVec 32) (v47 : BitVec 32) (k0_t48 : Fin (k0_t48_loop v41 v43).trips) (k0_t49 : Fin (k0_t49_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let c1_i32_376 : BitVec 32 := 1#32
  let arg36 : BitVec 32 := Scf.iv v45 c1_i32_376 k0_t49
  let v1011 : BitVec 32 := Scalar.addi v1003 arg36
  let v1081 : Index := Scalar.indexCast v1011
  let c368 : Index := 368#32
  ![v1081.toNat, 368]
@[reducible] def k0_t50_loop (v45 : BitVec 32) (v47 : BitVec 32) : Scf.Loop 32 :=
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let v1005 : BitVec 32 := Scalar.addi v45 v1004
  let c1_i32_377 : BitVec 32 := 1#32
  ⟨v1008, v1005, c1_i32_377⟩
def k0_off703 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1012 : Index := Scalar.indexCast v1011
  let c0_378 : Index := 0#32
  ![v1012.toNat, 0]
def k0_off704 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1015 : Index := Scalar.indexCast v1011
  let c16 : Index := 16#32
  ![v1015.toNat, 16]
def k0_off705 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1018 : Index := Scalar.indexCast v1011
  let c32 : Index := 32#32
  ![v1018.toNat, 32]
def k0_off706 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1021 : Index := Scalar.indexCast v1011
  let c48 : Index := 48#32
  ![v1021.toNat, 48]
def k0_off707 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1024 : Index := Scalar.indexCast v1011
  let c64 : Index := 64#32
  ![v1024.toNat, 64]
def k0_off708 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1027 : Index := Scalar.indexCast v1011
  let c80 : Index := 80#32
  ![v1027.toNat, 80]
def k0_off709 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1030 : Index := Scalar.indexCast v1011
  let c96 : Index := 96#32
  ![v1030.toNat, 96]
def k0_off710 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1033 : Index := Scalar.indexCast v1011
  let c112 : Index := 112#32
  ![v1033.toNat, 112]
def k0_off711 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1036 : Index := Scalar.indexCast v1011
  let c128 : Index := 128#32
  ![v1036.toNat, 128]
def k0_off712 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1039 : Index := Scalar.indexCast v1011
  let c144 : Index := 144#32
  ![v1039.toNat, 144]
def k0_off713 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1042 : Index := Scalar.indexCast v1011
  let c160 : Index := 160#32
  ![v1042.toNat, 160]
def k0_off714 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1045 : Index := Scalar.indexCast v1011
  let c176 : Index := 176#32
  ![v1045.toNat, 176]
def k0_off715 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1048 : Index := Scalar.indexCast v1011
  let c192 : Index := 192#32
  ![v1048.toNat, 192]
def k0_off716 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1051 : Index := Scalar.indexCast v1011
  let c208 : Index := 208#32
  ![v1051.toNat, 208]
def k0_off717 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1054 : Index := Scalar.indexCast v1011
  let c224 : Index := 224#32
  ![v1054.toNat, 224]
def k0_off718 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1057 : Index := Scalar.indexCast v1011
  let c240 : Index := 240#32
  ![v1057.toNat, 240]
def k0_off719 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1060 : Index := Scalar.indexCast v1011
  let c256 : Index := 256#32
  ![v1060.toNat, 256]
def k0_off720 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1063 : Index := Scalar.indexCast v1011
  let c272 : Index := 272#32
  ![v1063.toNat, 272]
def k0_off721 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1066 : Index := Scalar.indexCast v1011
  let c288 : Index := 288#32
  ![v1066.toNat, 288]
def k0_off722 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1069 : Index := Scalar.indexCast v1011
  let c304 : Index := 304#32
  ![v1069.toNat, 304]
def k0_off723 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1072 : Index := Scalar.indexCast v1011
  let c320 : Index := 320#32
  ![v1072.toNat, 320]
def k0_off724 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1075 : Index := Scalar.indexCast v1011
  let c336 : Index := 336#32
  ![v1075.toNat, 336]
def k0_off725 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1078 : Index := Scalar.indexCast v1011
  let c352 : Index := 352#32
  ![v1078.toNat, 352]
def k0_off726 (v41 : BitVec 32) (v43 : BitVec 32) (v45 : BitVec 32) (v47 : BitVec 32) (k0_t48 : Fin (k0_t48_loop v41 v43).trips) (k0_t50 : Fin (k0_t50_loop v45 v47).trips) : Fin 2 → Nat :=
  let c1_i32_26 : BitVec 32 := 1#32
  let arg11 : BitVec 32 := Scf.iv v41 c1_i32_26 k0_t48
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t50
  let v1011 : BitVec 32 := Scalar.addi v1003 arg36
  let v1081 : Index := Scalar.indexCast v1011
  let c368 : Index := 368#32
  ![v1081.toNat, 368]
@[reducible] def k0_t51_loop (v41 : BitVec 32) (v43 : BitVec 32) : Scf.Loop 32 :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let v50 : BitVec 32 := Scalar.addi v41 v49
  let c1_i32_27 : BitVec 32 := 1#32
  ⟨v53, v50, c1_i32_27⟩
@[reducible] def k0_t52_loop (v45 : BitVec 32) (v47 : BitVec 32) : Scf.Loop 32 :=
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_376 : BitVec 32 := 1#32
  ⟨v45, v1008, c1_i32_376⟩
def k0_off727 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1012 : Index := Scalar.indexCast v1011
  let c0_378 : Index := 0#32
  ![v1012.toNat, 0]
def k0_off728 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1015 : Index := Scalar.indexCast v1011
  let c16 : Index := 16#32
  ![v1015.toNat, 16]
def k0_off729 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1018 : Index := Scalar.indexCast v1011
  let c32 : Index := 32#32
  ![v1018.toNat, 32]
def k0_off730 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1021 : Index := Scalar.indexCast v1011
  let c48 : Index := 48#32
  ![v1021.toNat, 48]
def k0_off731 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1024 : Index := Scalar.indexCast v1011
  let c64 : Index := 64#32
  ![v1024.toNat, 64]
def k0_off732 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1027 : Index := Scalar.indexCast v1011
  let c80 : Index := 80#32
  ![v1027.toNat, 80]
def k0_off733 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1030 : Index := Scalar.indexCast v1011
  let c96 : Index := 96#32
  ![v1030.toNat, 96]
def k0_off734 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1033 : Index := Scalar.indexCast v1011
  let c112 : Index := 112#32
  ![v1033.toNat, 112]
def k0_off735 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1036 : Index := Scalar.indexCast v1011
  let c128 : Index := 128#32
  ![v1036.toNat, 128]
def k0_off736 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1039 : Index := Scalar.indexCast v1011
  let c144 : Index := 144#32
  ![v1039.toNat, 144]
def k0_off737 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1042 : Index := Scalar.indexCast v1011
  let c160 : Index := 160#32
  ![v1042.toNat, 160]
def k0_off738 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1045 : Index := Scalar.indexCast v1011
  let c176 : Index := 176#32
  ![v1045.toNat, 176]
def k0_off739 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1048 : Index := Scalar.indexCast v1011
  let c192 : Index := 192#32
  ![v1048.toNat, 192]
def k0_off740 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1051 : Index := Scalar.indexCast v1011
  let c208 : Index := 208#32
  ![v1051.toNat, 208]
def k0_off741 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1054 : Index := Scalar.indexCast v1011
  let c224 : Index := 224#32
  ![v1054.toNat, 224]
def k0_off742 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1057 : Index := Scalar.indexCast v1011
  let c240 : Index := 240#32
  ![v1057.toNat, 240]
def k0_off743 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1060 : Index := Scalar.indexCast v1011
  let c256 : Index := 256#32
  ![v1060.toNat, 256]
def k0_off744 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1063 : Index := Scalar.indexCast v1011
  let c272 : Index := 272#32
  ![v1063.toNat, 272]
def k0_off745 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1066 : Index := Scalar.indexCast v1011
  let c288 : Index := 288#32
  ![v1066.toNat, 288]
def k0_off746 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1069 : Index := Scalar.indexCast v1011
  let c304 : Index := 304#32
  ![v1069.toNat, 304]
def k0_off747 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1072 : Index := Scalar.indexCast v1011
  let c320 : Index := 320#32
  ![v1072.toNat, 320]
def k0_off748 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1075 : Index := Scalar.indexCast v1011
  let c336 : Index := 336#32
  ![v1075.toNat, 336]
def k0_off749 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1078 : Index := Scalar.indexCast v1011
  let c352 : Index := 352#32
  ![v1078.toNat, 352]
def k0_off750 (v41 : BitVec 32) (v43 : BitVec 32) (v45 : BitVec 32) (v47 : BitVec 32) (k0_t51 : Fin (k0_t51_loop v41 v43).trips) (k0_t52 : Fin (k0_t52_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let c1_i32_376 : BitVec 32 := 1#32
  let arg36 : BitVec 32 := Scf.iv v45 c1_i32_376 k0_t52
  let v1011 : BitVec 32 := Scalar.addi v1003 arg36
  let v1081 : Index := Scalar.indexCast v1011
  let c368 : Index := 368#32
  ![v1081.toNat, 368]
@[reducible] def k0_t53_loop (v45 : BitVec 32) (v47 : BitVec 32) : Scf.Loop 32 :=
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let v1005 : BitVec 32 := Scalar.addi v45 v1004
  let c1_i32_377 : BitVec 32 := 1#32
  ⟨v1008, v1005, c1_i32_377⟩
def k0_off751 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1012 : Index := Scalar.indexCast v1011
  let c0_378 : Index := 0#32
  ![v1012.toNat, 0]
def k0_off752 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1015 : Index := Scalar.indexCast v1011
  let c16 : Index := 16#32
  ![v1015.toNat, 16]
def k0_off753 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1018 : Index := Scalar.indexCast v1011
  let c32 : Index := 32#32
  ![v1018.toNat, 32]
def k0_off754 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1021 : Index := Scalar.indexCast v1011
  let c48 : Index := 48#32
  ![v1021.toNat, 48]
def k0_off755 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1024 : Index := Scalar.indexCast v1011
  let c64 : Index := 64#32
  ![v1024.toNat, 64]
def k0_off756 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1027 : Index := Scalar.indexCast v1011
  let c80 : Index := 80#32
  ![v1027.toNat, 80]
def k0_off757 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1030 : Index := Scalar.indexCast v1011
  let c96 : Index := 96#32
  ![v1030.toNat, 96]
def k0_off758 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1033 : Index := Scalar.indexCast v1011
  let c112 : Index := 112#32
  ![v1033.toNat, 112]
def k0_off759 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1036 : Index := Scalar.indexCast v1011
  let c128 : Index := 128#32
  ![v1036.toNat, 128]
def k0_off760 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1039 : Index := Scalar.indexCast v1011
  let c144 : Index := 144#32
  ![v1039.toNat, 144]
def k0_off761 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1042 : Index := Scalar.indexCast v1011
  let c160 : Index := 160#32
  ![v1042.toNat, 160]
def k0_off762 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1045 : Index := Scalar.indexCast v1011
  let c176 : Index := 176#32
  ![v1045.toNat, 176]
def k0_off763 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1048 : Index := Scalar.indexCast v1011
  let c192 : Index := 192#32
  ![v1048.toNat, 192]
def k0_off764 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1051 : Index := Scalar.indexCast v1011
  let c208 : Index := 208#32
  ![v1051.toNat, 208]
def k0_off765 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1054 : Index := Scalar.indexCast v1011
  let c224 : Index := 224#32
  ![v1054.toNat, 224]
def k0_off766 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1057 : Index := Scalar.indexCast v1011
  let c240 : Index := 240#32
  ![v1057.toNat, 240]
def k0_off767 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1060 : Index := Scalar.indexCast v1011
  let c256 : Index := 256#32
  ![v1060.toNat, 256]
def k0_off768 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1063 : Index := Scalar.indexCast v1011
  let c272 : Index := 272#32
  ![v1063.toNat, 272]
def k0_off769 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1066 : Index := Scalar.indexCast v1011
  let c288 : Index := 288#32
  ![v1066.toNat, 288]
def k0_off770 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1069 : Index := Scalar.indexCast v1011
  let c304 : Index := 304#32
  ![v1069.toNat, 304]
def k0_off771 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1072 : Index := Scalar.indexCast v1011
  let c320 : Index := 320#32
  ![v1072.toNat, 320]
def k0_off772 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1075 : Index := Scalar.indexCast v1011
  let c336 : Index := 336#32
  ![v1075.toNat, 336]
def k0_off773 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1078 : Index := Scalar.indexCast v1011
  let c352 : Index := 352#32
  ![v1078.toNat, 352]
def k0_off774 (v41 : BitVec 32) (v43 : BitVec 32) (v45 : BitVec 32) (v47 : BitVec 32) (k0_t51 : Fin (k0_t51_loop v41 v43).trips) (k0_t53 : Fin (k0_t53_loop v45 v47).trips) : Fin 2 → Nat :=
  let v49 : BitVec 32 := Scalar.subi v43 v41
  let c1_i32_25 : BitVec 32 := 1#32
  let v51 : BitVec 32 := Scalar.divsi v49 c1_i32_25
  let v52 : BitVec 32 := Scalar.muli v51 c1_i32_25
  let v53 : BitVec 32 := Scalar.addi v41 v52
  let c1_i32_27 : BitVec 32 := 1#32
  let arg11 : BitVec 32 := Scf.iv v53 c1_i32_27 k0_t51
  let c14_i32 : BitVec 32 := 14#32
  let v1003 : BitVec 32 := Scalar.muli arg11 c14_i32
  let v1004 : BitVec 32 := Scalar.subi v47 v45
  let c1_i32_375 : BitVec 32 := 1#32
  let v1006 : BitVec 32 := Scalar.divsi v1004 c1_i32_375
  let v1007 : BitVec 32 := Scalar.muli v1006 c1_i32_375
  let v1008 : BitVec 32 := Scalar.addi v45 v1007
  let c1_i32_377 : BitVec 32 := 1#32
  let arg36 : BitVec 32 := Scf.iv v1008 c1_i32_377 k0_t53
  let v1011 : BitVec 32 := Scalar.addi v1003 arg36
  let v1081 : Index := Scalar.indexCast v1011
  let c368 : Index := 368#32
  ![v1081.toNat, 368]

def k0_chk180_0 (i : grid0.Coords) (v10 : BitVec 32) (v41 : BitVec 32) (v43 : BitVec 32) (v45 : BitVec 32) (v47 : BitVec 32) : Prop :=
  (∀ k0_t48 : Fin (k0_t48_loop v41 v43).trips, ∀ (k0_h1 : k0_cond1 i v10 = 1#1), (k0_t49_loop v45 v47).OK) ∧
  (∀ (k0_t48 : Fin (k0_t48_loop v41 v43).trips) (k0_t49 : Fin (k0_t49_loop v45 v47).trips), ∀ (k0_h1 : k0_cond1 i v10 = 1#1), ∀ a, (k0_off679 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off680 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off681 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off682 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off683 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off684 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off685 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off686 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off687 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off688 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off689 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off690 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off691 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off692 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off693 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off694 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off695 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off696 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off697 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off698 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off699 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off700 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off701 v41 v43 v45 v47 k0_t48 k0_t49) a + S1x16.size a ≤ S196x384.size a) ∧
  (∀ (k0_t48 : Fin (k0_t48_loop v41 v43).trips) (k0_t49 : Fin (k0_t49_loop v45 v47).trips), ∀ (k0_h1 : k0_cond1 i v10 = 1#1), ∀ a, (k0_off702 v41 v43 v45 v47 k0_t48 k0_t49) a + S1x16.size a ≤ S196x384.size a) ∧
  (∀ k0_t48 : Fin (k0_t48_loop v41 v43).trips, ∀ (k0_h1 : k0_cond1 i v10 = 1#1), (k0_t50_loop v45 v47).OK) ∧
  (∀ (k0_t48 : Fin (k0_t48_loop v41 v43).trips) (k0_t50 : Fin (k0_t50_loop v45 v47).trips), ∀ (k0_h1 : k0_cond1 i v10 = 1#1), ∀ a, (k0_off703 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off704 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off705 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off706 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off707 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off708 v41 v43 v45 v47 k0_t48 k0_t50) a + S1x16.size a ≤ S196x384.size a)
def k0_chk180_1 (i : grid0.Coords) (v10 : BitVec 32) (v41 : BitVec 32) (v43 : BitVec 32) (v45 : BitVec 32) (v47 : BitVec 32) : Prop :=
  (∀ (k0_t48 : Fin (k0_t48_loop v41 v43).trips) (k0_t50 : Fin (k0_t50_loop v45 v47).trips), ∀ (k0_h1 : k0_cond1 i v10 = 1#1), ∀ a, (k0_off709 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off710 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off711 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off712 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off713 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off714 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off715 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off716 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off717 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off718 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off719 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off720 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off721 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off722 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off723 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off724 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off725 v41 v43 v45 v47 k0_t48 k0_t50) a + S1x16.size a ≤ S196x384.size a) ∧
  (∀ (k0_t48 : Fin (k0_t48_loop v41 v43).trips) (k0_t50 : Fin (k0_t50_loop v45 v47).trips), ∀ (k0_h1 : k0_cond1 i v10 = 1#1), ∀ a, (k0_off726 v41 v43 v45 v47 k0_t48 k0_t50) a + S1x16.size a ≤ S196x384.size a) ∧
  (∀ k0_t51 : Fin (k0_t51_loop v41 v43).trips, ∀ (k0_h1 : k0_cond1 i v10 = 1#1), (k0_t52_loop v45 v47).OK) ∧
  (∀ (k0_t51 : Fin (k0_t51_loop v41 v43).trips) (k0_t52 : Fin (k0_t52_loop v45 v47).trips), ∀ (k0_h1 : k0_cond1 i v10 = 1#1), ∀ a, (k0_off727 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off728 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off729 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off730 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off731 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off732 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off733 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off734 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off735 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off736 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off737 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off738 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off739 v41 v43 v45 v47 k0_t51 k0_t52) a + S1x16.size a ≤ S196x384.size a)
def k0_chk180_2 (i : grid0.Coords) (v10 : BitVec 32) (v41 : BitVec 32) (v43 : BitVec 32) (v45 : BitVec 32) (v47 : BitVec 32) : Prop :=
  (∀ (k0_t51 : Fin (k0_t51_loop v41 v43).trips) (k0_t52 : Fin (k0_t52_loop v45 v47).trips), ∀ (k0_h1 : k0_cond1 i v10 = 1#1), ∀ a, (k0_off740 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off741 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off742 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off743 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off744 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off745 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off746 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off747 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off748 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off749 v41 v43 v45 v47 k0_t51 k0_t52) a + S1x16.size a ≤ S196x384.size a) ∧
  (∀ (k0_t51 : Fin (k0_t51_loop v41 v43).trips) (k0_t52 : Fin (k0_t52_loop v45 v47).trips), ∀ (k0_h1 : k0_cond1 i v10 = 1#1), ∀ a, (k0_off750 v41 v43 v45 v47 k0_t51 k0_t52) a + S1x16.size a ≤ S196x384.size a) ∧
  (∀ k0_t51 : Fin (k0_t51_loop v41 v43).trips, ∀ (k0_h1 : k0_cond1 i v10 = 1#1), (k0_t53_loop v45 v47).OK) ∧
  (∀ (k0_t51 : Fin (k0_t51_loop v41 v43).trips) (k0_t53 : Fin (k0_t53_loop v45 v47).trips), ∀ (k0_h1 : k0_cond1 i v10 = 1#1), ∀ a, (k0_off751 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off752 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off753 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off754 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off755 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off756 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off757 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off758 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off759 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off760 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off761 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off762 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off763 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off764 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off765 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off766 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off767 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off768 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off769 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off770 v41 v43 v45 v47 k0_t51 k0_t53) a + S1x16.size a ≤ S196x384.size a)
def k0_chk180_3 (i : grid0.Coords) (v10 : BitVec 32) (v41 : BitVec 32) (v43 : BitVec 32) (v45 : BitVec 32) (v47 : BitVec 32) : Prop :=
  (∀ (k0_t51 : Fin (k0_t51_loop v41 v43).trips) (k0_t53 : Fin (k0_t53_loop v45 v47).trips), ∀ (k0_h1 : k0_cond1 i v10 = 1#1), ∀ a, (k0_off771 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off772 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off773 v41 v43 v45 v47 k0_t51 k0_t53) a + S1x16.size a ≤ S196x384.size a) ∧
  (∀ (k0_t51 : Fin (k0_t51_loop v41 v43).trips) (k0_t53 : Fin (k0_t53_loop v45 v47).trips), ∀ (k0_h1 : k0_cond1 i v10 = 1#1), ∀ a, (k0_off774 v41 v43 v45 v47 k0_t51 k0_t53) a + S1x16.size a ≤ S196x384.size a)
def k0_chk180 (i : grid0.Coords) (v10 : BitVec 32) (v41 : BitVec 32) (v43 : BitVec 32) (v45 : BitVec 32) (v47 : BitVec 32) : Prop :=
  k0_chk180_0 i v10 v41 v43 v45 v47 ∧
  k0_chk180_1 i v10 v41 v43 v45 v47 ∧
  k0_chk180_2 i v10 v41 v43 v45 v47 ∧
  k0_chk180_3 i v10 v41 v43 v45 v47
theorem k0_t49_ok : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips), ∀ (k0_h1 : k0_cond1 i v10 = 1#1), (k0_t49_loop v45 v47).OK := fun i v10 v41 v43 v45 v47 k0_hw180 k0_t48 k0_h1 => k0_hw180.1.1 k0_t48 k0_h1
theorem k0_off679_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off679 v41 v43 v45 v47 k0_t48 k0_t49) a + S1x16.size a ≤ S196x384.size a := fun i v10 v41 v43 v45 v47 k0_hw180 k0_t48 k0_t49 k0_h1 => k0_hw180.1.2.1 k0_t48 k0_t49 k0_h1
theorem k0_off680_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off680 v41 v43 v45 v47 k0_t48 k0_t49) a + S1x16.size a ≤ S196x384.size a := fun i v10 v41 v43 v45 v47 k0_hw180 k0_t48 k0_t49 k0_h1 => k0_hw180.1.2.2.1 k0_t48 k0_t49 k0_h1
theorem k0_off681_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off681 v41 v43 v45 v47 k0_t48 k0_t49) a + S1x16.size a ≤ S196x384.size a := fun i v10 v41 v43 v45 v47 k0_hw180 k0_t48 k0_t49 k0_h1 => k0_hw180.1.2.2.2.1 k0_t48 k0_t49 k0_h1
theorem k0_off682_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off682 v41 v43 v45 v47 k0_t48 k0_t49) a + S1x16.size a ≤ S196x384.size a := fun i v10 v41 v43 v45 v47 k0_hw180 k0_t48 k0_t49 k0_h1 => k0_hw180.1.2.2.2.2.1 k0_t48 k0_t49 k0_h1
theorem k0_off683_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off683 v41 v43 v45 v47 k0_t48 k0_t49) a + S1x16.size a ≤ S196x384.size a := fun i v10 v41 v43 v45 v47 k0_hw180 k0_t48 k0_t49 k0_h1 => k0_hw180.1.2.2.2.2.2.1 k0_t48 k0_t49 k0_h1
theorem k0_off684_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off684 v41 v43 v45 v47 k0_t48 k0_t49) a + S1x16.size a ≤ S196x384.size a := fun i v10 v41 v43 v45 v47 k0_hw180 k0_t48 k0_t49 k0_h1 => k0_hw180.1.2.2.2.2.2.2.1 k0_t48 k0_t49 k0_h1
theorem k0_off685_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off685 v41 v43 v45 v47 k0_t48 k0_t49) a + S1x16.size a ≤ S196x384.size a := fun i v10 v41 v43 v45 v47 k0_hw180 k0_t48 k0_t49 k0_h1 => k0_hw180.1.2.2.2.2.2.2.2.1 k0_t48 k0_t49 k0_h1
theorem k0_off686_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off686 v41 v43 v45 v47 k0_t48 k0_t49) a + S1x16.size a ≤ S196x384.size a := fun i v10 v41 v43 v45 v47 k0_hw180 k0_t48 k0_t49 k0_h1 => k0_hw180.1.2.2.2.2.2.2.2.2.1 k0_t48 k0_t49 k0_h1
theorem k0_off687_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off687 v41 v43 v45 v47 k0_t48 k0_t49) a + S1x16.size a ≤ S196x384.size a := fun i v10 v41 v43 v45 v47 k0_hw180 k0_t48 k0_t49 k0_h1 => k0_hw180.1.2.2.2.2.2.2.2.2.2.1 k0_t48 k0_t49 k0_h1
theorem k0_off688_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off688 v41 v43 v45 v47 k0_t48 k0_t49) a + S1x16.size a ≤ S196x384.size a := fun i v10 v41 v43 v45 v47 k0_hw180 k0_t48 k0_t49 k0_h1 => k0_hw180.1.2.2.2.2.2.2.2.2.2.2.1 k0_t48 k0_t49 k0_h1
theorem k0_off689_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off689 v41 v43 v45 v47 k0_t48 k0_t49) a + S1x16.size a ≤ S196x384.size a := fun i v10 v41 v43 v45 v47 k0_hw180 k0_t48 k0_t49 k0_h1 => k0_hw180.1.2.2.2.2.2.2.2.2.2.2.2.1 k0_t48 k0_t49 k0_h1
theorem k0_off690_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off690 v41 v43 v45 v47 k0_t48 k0_t49) a + S1x16.size a ≤ S196x384.size a := fun i v10 v41 v43 v45 v47 k0_hw180 k0_t48 k0_t49 k0_h1 => k0_hw180.1.2.2.2.2.2.2.2.2.2.2.2.2.1 k0_t48 k0_t49 k0_h1
theorem k0_off691_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off691 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.1 k0_t48 k0_t49 k0_h1
theorem k0_off692_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off692 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.1 k0_t48 k0_t49 k0_h1
theorem k0_off693_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off693 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.1 k0_t48 k0_t49 k0_h1
theorem k0_off694_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off694 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.2.1 k0_t48 k0_t49 k0_h1
theorem k0_off695_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off695 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.2.2.1 k0_t48 k0_t49 k0_h1
theorem k0_off696_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off696 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.2.2.2.1 k0_t48 k0_t49 k0_h1
theorem k0_off697_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off697 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.2.2.2.2.1 k0_t48 k0_t49 k0_h1
theorem k0_off698_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off698 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.2.2.2.2.2.1 k0_t48 k0_t49 k0_h1
theorem k0_off699_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off699 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.2.2.2.2.2.2.1 k0_t48 k0_t49 k0_h1
theorem k0_off700_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off700 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.2.2.2.2.2.2.2.1 k0_t48 k0_t49 k0_h1
theorem k0_off701_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off701 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.2.2.2.2.2.2.2.2.1 k0_t48 k0_t49 k0_h1
theorem k0_off702_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t49 : Fin (k0_t49_loop v45 v47).trips), ∀ (k0_h1 : k0_cond1 i v10 = 1#1), ∀ a, (k0_off702 v41 v43 v45 v47 k0_t48 k0_t49) a + S1x16.size a ≤ S196x384.size a := fun i v10 v41 v43 v45 v47 k0_hw180 k0_t48 k0_t49 k0_h1 => k0_hw180.1.2.2.2.2.2.2.2.2.2.2.2.2.2.2.2.2.2.2.2.2.2.2.2.2.1 k0_t48 k0_t49 k0_h1
theorem k0_t50_ok : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips), ∀ (k0_h1 : k0_cond1 i v10 = 1#1), (k0_t50_loop v45 v47).OK := fun i v10 v41 v43 v45 v47 k0_hw180 k0_t48 k0_h1 => k0_hw180.1.2.2.2.2.2.2.2.2.2.2.2.2.2.2.2.2.2.2.2.2.2.2.2.2.2.1 k0_t48 k0_h1
theorem k0_off703_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off703 v41 v43 v45 v47 k0_t48 k0_t50) a + S1x16.size a ≤ S196x384.size a := fun i v10 v41 v43 v45 v47 k0_hw180 k0_t48 k0_t50 k0_h1 => k0_hw180.1.2.2.2.2.2.2.2.2.2.2.2.2.2.2.2.2.2.2.2.2.2.2.2.2.2.2.1 k0_t48 k0_t50 k0_h1
theorem k0_off704_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off704 v41 v43 v45 v47 k0_t48 k0_t50) a + S1x16.size a ≤ S196x384.size a := fun i v10 v41 v43 v45 v47 k0_hw180 k0_t48 k0_t50 k0_h1 => k0_hw180.1.2.2.2.2.2.2.2.2.2.2.2.2.2.2.2.2.2.2.2.2.2.2.2.2.2.2.2.1 k0_t48 k0_t50 k0_h1
theorem k0_off705_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off705 v41 v43 v45 v47 k0_t48 k0_t50) a + S1x16.size a ≤ S196x384.size a := fun i v10 v41 v43 v45 v47 k0_hw180 k0_t48 k0_t50 k0_h1 => k0_hw180.1.2.2.2.2.2.2.2.2.2.2.2.2.2.2.2.2.2.2.2.2.2.2.2.2.2.2.2.2.1 k0_t48 k0_t50 k0_h1
theorem k0_off706_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off706 v41 v43 v45 v47 k0_t48 k0_t50) a + S1x16.size a ≤ S196x384.size a := fun i v10 v41 v43 v45 v47 k0_hw180 k0_t48 k0_t50 k0_h1 => k0_hw180.1.2.2.2.2.2.2.2.2.2.2.2.2.2.2.2.2.2.2.2.2.2.2.2.2.2.2.2.2.2.1 k0_t48 k0_t50 k0_h1
theorem k0_off707_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off707 v41 v43 v45 v47 k0_t48 k0_t50) a + S1x16.size a ≤ S196x384.size a := fun i v10 v41 v43 v45 v47 k0_hw180 k0_t48 k0_t50 k0_h1 => k0_hw180.1.2.2.2.2.2.2.2.2.2.2.2.2.2.2.2.2.2.2.2.2.2.2.2.2.2.2.2.2.2.2.1 k0_t48 k0_t50 k0_h1
theorem k0_off708_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off708 v41 v43 v45 v47 k0_t48 k0_t50) a + S1x16.size a ≤ S196x384.size a := fun i v10 v41 v43 v45 v47 k0_hw180 k0_t48 k0_t50 k0_h1 => k0_hw180.1.2.2.2.2.2.2.2.2.2.2.2.2.2.2.2.2.2.2.2.2.2.2.2.2.2.2.2.2.2.2.2 k0_t48 k0_t50 k0_h1
theorem k0_off709_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off709 v41 v43 v45 v47 k0_t48 k0_t50) a + S1x16.size a ≤ S196x384.size a := fun i v10 v41 v43 v45 v47 k0_hw180 k0_t48 k0_t50 k0_h1 => k0_hw180.2.1.1 k0_t48 k0_t50 k0_h1
theorem k0_off710_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off710 v41 v43 v45 v47 k0_t48 k0_t50) a + S1x16.size a ≤ S196x384.size a := fun i v10 v41 v43 v45 v47 k0_hw180 k0_t48 k0_t50 k0_h1 => k0_hw180.2.1.2.1 k0_t48 k0_t50 k0_h1
theorem k0_off711_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off711 v41 v43 v45 v47 k0_t48 k0_t50) a + S1x16.size a ≤ S196x384.size a := fun i v10 v41 v43 v45 v47 k0_hw180 k0_t48 k0_t50 k0_h1 => k0_hw180.2.1.2.2.1 k0_t48 k0_t50 k0_h1
theorem k0_off712_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off712 v41 v43 v45 v47 k0_t48 k0_t50) a + S1x16.size a ≤ S196x384.size a := fun i v10 v41 v43 v45 v47 k0_hw180 k0_t48 k0_t50 k0_h1 => k0_hw180.2.1.2.2.2.1 k0_t48 k0_t50 k0_h1
theorem k0_off713_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off713 v41 v43 v45 v47 k0_t48 k0_t50) a + S1x16.size a ≤ S196x384.size a := fun i v10 v41 v43 v45 v47 k0_hw180 k0_t48 k0_t50 k0_h1 => k0_hw180.2.1.2.2.2.2.1 k0_t48 k0_t50 k0_h1
theorem k0_off714_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off714 v41 v43 v45 v47 k0_t48 k0_t50) a + S1x16.size a ≤ S196x384.size a := fun i v10 v41 v43 v45 v47 k0_hw180 k0_t48 k0_t50 k0_h1 => k0_hw180.2.1.2.2.2.2.2.1 k0_t48 k0_t50 k0_h1
theorem k0_off715_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off715 v41 v43 v45 v47 k0_t48 k0_t50) a + S1x16.size a ≤ S196x384.size a := fun i v10 v41 v43 v45 v47 k0_hw180 k0_t48 k0_t50 k0_h1 => k0_hw180.2.1.2.2.2.2.2.2.1 k0_t48 k0_t50 k0_h1
theorem k0_off716_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off716 v41 v43 v45 v47 k0_t48 k0_t50) a + S1x16.size a ≤ S196x384.size a := fun i v10 v41 v43 v45 v47 k0_hw180 k0_t48 k0_t50 k0_h1 => k0_hw180.2.1.2.2.2.2.2.2.2.1 k0_t48 k0_t50 k0_h1
theorem k0_off717_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off717 v41 v43 v45 v47 k0_t48 k0_t50) a + S1x16.size a ≤ S196x384.size a := fun i v10 v41 v43 v45 v47 k0_hw180 k0_t48 k0_t50 k0_h1 => k0_hw180.2.1.2.2.2.2.2.2.2.2.1 k0_t48 k0_t50 k0_h1
theorem k0_off718_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off718 v41 v43 v45 v47 k0_t48 k0_t50) a + S1x16.size a ≤ S196x384.size a := fun i v10 v41 v43 v45 v47 k0_hw180 k0_t48 k0_t50 k0_h1 => k0_hw180.2.1.2.2.2.2.2.2.2.2.2.1 k0_t48 k0_t50 k0_h1
theorem k0_off719_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off719 v41 v43 v45 v47 k0_t48 k0_t50) a + S1x16.size a ≤ S196x384.size a := fun i v10 v41 v43 v45 v47 k0_hw180 k0_t48 k0_t50 k0_h1 => k0_hw180.2.1.2.2.2.2.2.2.2.2.2.2.1 k0_t48 k0_t50 k0_h1
theorem k0_off720_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off720 v41 v43 v45 v47 k0_t48 k0_t50) a + S1x16.size a ≤ S196x384.size a := fun i v10 v41 v43 v45 v47 k0_hw180 k0_t48 k0_t50 k0_h1 => k0_hw180.2.1.2.2.2.2.2.2.2.2.2.2.2.1 k0_t48 k0_t50 k0_h1
theorem k0_off721_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off721 v41 v43 v45 v47 k0_t48 k0_t50) a + S1x16.size a ≤ S196x384.size a := fun i v10 v41 v43 v45 v47 k0_hw180 k0_t48 k0_t50 k0_h1 => k0_hw180.2.1.2.2.2.2.2.2.2.2.2.2.2.2.1 k0_t48 k0_t50 k0_h1
theorem k0_off722_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off722 v41 v43 v45 v47 k0_t48 k0_t50) a + S1x16.size a ≤ S196x384.size a := fun i v10 v41 v43 v45 v47 k0_hw180 k0_t48 k0_t50 k0_h1 => k0_hw180.2.1.2.2.2.2.2.2.2.2.2.2.2.2.2.1 k0_t48 k0_t50 k0_h1
theorem k0_off723_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off723 v41 v43 v45 v47 k0_t48 k0_t50) a + S1x16.size a ≤ S196x384.size a := fun i v10 v41 v43 v45 v47 k0_hw180 k0_t48 k0_t50 k0_h1 => k0_hw180.2.1.2.2.2.2.2.2.2.2.2.2.2.2.2.2.1 k0_t48 k0_t50 k0_h1
theorem k0_off724_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off724 v41 v43 v45 v47 k0_t48 k0_t50) a + S1x16.size a ≤ S196x384.size a := fun i v10 v41 v43 v45 v47 k0_hw180 k0_t48 k0_t50 k0_h1 => k0_hw180.2.1.2.2.2.2.2.2.2.2.2.2.2.2.2.2.2.1 k0_t48 k0_t50 k0_h1
theorem k0_off725_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off725 v41 v43 v45 v47 k0_t48 k0_t50) a + S1x16.size a ≤ S196x384.size a := fun i v10 v41 v43 v45 v47 k0_hw180 k0_t48 k0_t50 k0_h1 => k0_hw180.2.1.2.2.2.2.2.2.2.2.2.2.2.2.2.2.2.2.1 k0_t48 k0_t50 k0_h1
theorem k0_off726_inb : ∀ (i : grid0.Coords) (v10 : BitVec 32) (v41 : BitVec 32) (v43 : BitVec 32) (v45 : BitVec 32) (v47 : BitVec 32) (k0_hw180 : k0_chk180 i v10 v41 v43 v45 v47) (k0_t48 : Fin (k0_t48_loop v41 v43).trips) (k0_t50 : Fin (k0_t50_loop v45 v47).trips), ∀ (k0_h1 : k0_cond1 i v10 = 1#1), ∀ a, (k0_off726 v41 v43 v45 v47 k0_t48 k0_t50) a + S1x16.size a ≤ S196x384.size a := fun i v10 v41 v43 v45 v47 k0_hw180 k0_t48 k0_t50 k0_h1 => k0_hw180.2.1.2.2.2.2.2.2.2.2.2.2.2.2.2.2.2.2.2.1 k0_t48 k0_t50 k0_h1
theorem k0_t52_ok : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips), ∀ (k0_h1 : k0_cond1 i v10 = 1#1), (k0_t52_loop v45 v47).OK := fun i v10 v41 v43 v45 v47 k0_hw180 k0_t51 k0_h1 => k0_hw180.2.1.2.2.2.2.2.2.2.2.2.2.2.2.2.2.2.2.2.2.1 k0_t51 k0_h1
theorem k0_off727_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off727 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.1 k0_t51 k0_t52 k0_h1
theorem k0_off728_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off728 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.1 k0_t51 k0_t52 k0_h1
theorem k0_off729_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off729 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.1 k0_t51 k0_t52 k0_h1
theorem k0_off730_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off730 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.1 k0_t51 k0_t52 k0_h1
theorem k0_off731_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off731 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.2.1 k0_t51 k0_t52 k0_h1
theorem k0_off732_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off732 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.2.2.1 k0_t51 k0_t52 k0_h1
theorem k0_off733_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off733 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.2.2.2.1 k0_t51 k0_t52 k0_h1
theorem k0_off734_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off734 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.2.2.2.2.1 k0_t51 k0_t52 k0_h1
theorem k0_off735_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off735 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.2.2.2.2.2.1 k0_t51 k0_t52 k0_h1
theorem k0_off736_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off736 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.2.2.2.2.2.2.1 k0_t51 k0_t52 k0_h1
theorem k0_off737_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off737 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.2.2.2.2.2.2.2.1 k0_t51 k0_t52 k0_h1
theorem k0_off738_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off738 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.2.2.2.2.2.2.2.2.1 k0_t51 k0_t52 k0_h1
theorem k0_off739_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off739 v41 v43 v45 v47 k0_t51 k0_t52) a + S1x16.size a ≤ S196x384.size a := fun i v10 v41 v43 v45 v47 k0_hw180 k0_t51 k0_t52 k0_h1 => k0_hw180.2.1.2.2.2.2.2.2.2.2.2.2.2.2.2.2.2.2.2.2.2.2.2.2.2.2.2.2.2.2.2.2.2 k0_t51 k0_t52 k0_h1
theorem k0_off740_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off740 v41 v43 v45 v47 k0_t51 k0_t52) a + S1x16.size a ≤ S196x384.size a := fun i v10 v41 v43 v45 v47 k0_hw180 k0_t51 k0_t52 k0_h1 => k0_hw180.2.2.1.1 k0_t51 k0_t52 k0_h1
theorem k0_off741_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off741 v41 v43 v45 v47 k0_t51 k0_t52) a + S1x16.size a ≤ S196x384.size a := fun i v10 v41 v43 v45 v47 k0_hw180 k0_t51 k0_t52 k0_h1 => k0_hw180.2.2.1.2.1 k0_t51 k0_t52 k0_h1
theorem k0_off742_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off742 v41 v43 v45 v47 k0_t51 k0_t52) a + S1x16.size a ≤ S196x384.size a := fun i v10 v41 v43 v45 v47 k0_hw180 k0_t51 k0_t52 k0_h1 => k0_hw180.2.2.1.2.2.1 k0_t51 k0_t52 k0_h1
theorem k0_off743_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off743 v41 v43 v45 v47 k0_t51 k0_t52) a + S1x16.size a ≤ S196x384.size a := fun i v10 v41 v43 v45 v47 k0_hw180 k0_t51 k0_t52 k0_h1 => k0_hw180.2.2.1.2.2.2.1 k0_t51 k0_t52 k0_h1
theorem k0_off744_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off744 v41 v43 v45 v47 k0_t51 k0_t52) a + S1x16.size a ≤ S196x384.size a := fun i v10 v41 v43 v45 v47 k0_hw180 k0_t51 k0_t52 k0_h1 => k0_hw180.2.2.1.2.2.2.2.1 k0_t51 k0_t52 k0_h1
theorem k0_off745_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off745 v41 v43 v45 v47 k0_t51 k0_t52) a + S1x16.size a ≤ S196x384.size a := fun i v10 v41 v43 v45 v47 k0_hw180 k0_t51 k0_t52 k0_h1 => k0_hw180.2.2.1.2.2.2.2.2.1 k0_t51 k0_t52 k0_h1
theorem k0_off746_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off746 v41 v43 v45 v47 k0_t51 k0_t52) a + S1x16.size a ≤ S196x384.size a := fun i v10 v41 v43 v45 v47 k0_hw180 k0_t51 k0_t52 k0_h1 => k0_hw180.2.2.1.2.2.2.2.2.2.1 k0_t51 k0_t52 k0_h1
theorem k0_off747_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off747 v41 v43 v45 v47 k0_t51 k0_t52) a + S1x16.size a ≤ S196x384.size a := fun i v10 v41 v43 v45 v47 k0_hw180 k0_t51 k0_t52 k0_h1 => k0_hw180.2.2.1.2.2.2.2.2.2.2.1 k0_t51 k0_t52 k0_h1
theorem k0_off748_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off748 v41 v43 v45 v47 k0_t51 k0_t52) a + S1x16.size a ≤ S196x384.size a := fun i v10 v41 v43 v45 v47 k0_hw180 k0_t51 k0_t52 k0_h1 => k0_hw180.2.2.1.2.2.2.2.2.2.2.2.1 k0_t51 k0_t52 k0_h1
theorem k0_off749_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off749 v41 v43 v45 v47 k0_t51 k0_t52) a + S1x16.size a ≤ S196x384.size a := fun i v10 v41 v43 v45 v47 k0_hw180 k0_t51 k0_t52 k0_h1 => k0_hw180.2.2.1.2.2.2.2.2.2.2.2.2.1 k0_t51 k0_t52 k0_h1
theorem k0_off750_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t52 : Fin (k0_t52_loop v45 v47).trips), ∀ (k0_h1 : k0_cond1 i v10 = 1#1), ∀ a, (k0_off750 v41 v43 v45 v47 k0_t51 k0_t52) a + S1x16.size a ≤ S196x384.size a := fun i v10 v41 v43 v45 v47 k0_hw180 k0_t51 k0_t52 k0_h1 => k0_hw180.2.2.1.2.2.2.2.2.2.2.2.2.2.1 k0_t51 k0_t52 k0_h1
theorem k0_t53_ok : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips), ∀ (k0_h1 : k0_cond1 i v10 = 1#1), (k0_t53_loop v45 v47).OK := fun i v10 v41 v43 v45 v47 k0_hw180 k0_t51 k0_h1 => k0_hw180.2.2.1.2.2.2.2.2.2.2.2.2.2.2.1 k0_t51 k0_h1
theorem k0_off751_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off751 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.1 k0_t51 k0_t53 k0_h1
theorem k0_off752_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off752 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.1 k0_t51 k0_t53 k0_h1
theorem k0_off753_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off753 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.1 k0_t51 k0_t53 k0_h1
theorem k0_off754_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off754 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.1 k0_t51 k0_t53 k0_h1
theorem k0_off755_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off755 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.1 k0_t51 k0_t53 k0_h1
theorem k0_off756_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off756 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.1 k0_t51 k0_t53 k0_h1
theorem k0_off757_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off757 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.1 k0_t51 k0_t53 k0_h1
theorem k0_off758_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off758 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.1 k0_t51 k0_t53 k0_h1
theorem k0_off759_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off759 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.1 k0_t51 k0_t53 k0_h1
theorem k0_off760_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off760 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.1 k0_t51 k0_t53 k0_h1
theorem k0_off761_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off761 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.1 k0_t51 k0_t53 k0_h1
theorem k0_off762_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off762 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.2.1 k0_t51 k0_t53 k0_h1
theorem k0_off763_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off763 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.2.2.1 k0_t51 k0_t53 k0_h1
theorem k0_off764_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off764 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.2.2.2.1 k0_t51 k0_t53 k0_h1
theorem k0_off765_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off765 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.2.2.2.2.1 k0_t51 k0_t53 k0_h1
theorem k0_off766_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off766 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.2.2.2.2.2.1 k0_t51 k0_t53 k0_h1
theorem k0_off767_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off767 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.2.2.2.2.2.2.1 k0_t51 k0_t53 k0_h1
theorem k0_off768_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off768 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.2.2.2.2.2.2.2.1 k0_t51 k0_t53 k0_h1
theorem k0_off769_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off769 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.2.2.2.2.2.2.2.2.1 k0_t51 k0_t53 k0_h1
theorem k0_off770_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off770 v41 v43 v45 v47 k0_t51 k0_t53) a + S1x16.size a ≤ S196x384.size a := fun i v10 v41 v43 v45 v47 k0_hw180 k0_t51 k0_t53 k0_h1 => k0_hw180.2.2.1.2.2.2.2.2.2.2.2.2.2.2.2.2.2.2.2.2.2.2.2.2.2.2.2.2.2.2.2.2.2.2 k0_t51 k0_t53 k0_h1
theorem k0_off771_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off771 v41 v43 v45 v47 k0_t51 k0_t53) a + S1x16.size a ≤ S196x384.size a := fun i v10 v41 v43 v45 v47 k0_hw180 k0_t51 k0_t53 k0_h1 => k0_hw180.2.2.2.1 k0_t51 k0_t53 k0_h1
theorem k0_off772_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off772 v41 v43 v45 v47 k0_t51 k0_t53) a + S1x16.size a ≤ S196x384.size a := fun i v10 v41 v43 v45 v47 k0_hw180 k0_t51 k0_t53 k0_h1 => k0_hw180.2.2.2.2.1 k0_t51 k0_t53 k0_h1
theorem k0_off773_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off773 v41 v43 v45 v47 k0_t51 k0_t53) a + S1x16.size a ≤ S196x384.size a := fun i v10 v41 v43 v45 v47 k0_hw180 k0_t51 k0_t53 k0_h1 => k0_hw180.2.2.2.2.2.1 k0_t51 k0_t53 k0_h1
theorem k0_off774_inb : ∀ (i : grid0.Coords) (v10 : BitVec 32) (v41 : BitVec 32) (v43 : BitVec 32) (v45 : BitVec 32) (v47 : BitVec 32) (k0_hw180 : k0_chk180 i v10 v41 v43 v45 v47) (k0_t51 : Fin (k0_t51_loop v41 v43).trips) (k0_t53 : Fin (k0_t53_loop v45 v47).trips), ∀ (k0_h1 : k0_cond1 i v10 = 1#1), ∀ a, (k0_off774 v41 v43 v45 v47 k0_t51 k0_t53) a + S1x16.size a ≤ S196x384.size a := fun i v10 v41 v43 v45 v47 k0_hw180 k0_t51 k0_t53 k0_h1 => k0_hw180.2.2.2.2.2.2 k0_t51 k0_t53 k0_h1

def k0_chk181 (i : grid0.Coords) (v10 : BitVec 32) (v65 : IVec S16 32) : Prop :=
  (∀ (k0_h1 : k0_cond1 i v10 = 1#1), ∀ a x, ((![v65] : Fin 1 → IVec S16 32) a x).toNat < S18816.size a)
theorem k0_idx169_inb : ∀ (i : grid0.Coords) (v10 : BitVec 32) (v65 : IVec S16 32) (k0_hw181 : k0_chk181 i v10 v65), ∀ (k0_h1 : k0_cond1 i v10 = 1#1), ∀ a x, ((![v65] : Fin 1 → IVec S16 32) a x).toNat < S18816.size a := fun i v10 v65 k0_hw181 k0_h1 => k0_hw181 k0_h1

def k0_chk182 (i : grid0.Coords) (v10 : BitVec 32) (v70 : IVec S16 32) : Prop :=
  (∀ (k0_h1 : k0_cond1 i v10 = 1#1), ∀ a x, ((![v70] : Fin 1 → IVec S16 32) a x).toNat < S18816.size a)
theorem k0_idx170_inb : ∀ (i : grid0.Coords) (v10 : BitVec 32) (v70 : IVec S16 32) (k0_hw182 : k0_chk182 i v10 v70), ∀ (k0_h1 : k0_cond1 i v10 = 1#1), ∀ a x, ((![v70] : Fin 1 → IVec S16 32) a x).toNat < S18816.size a := fun i v10 v70 k0_hw182 k0_h1 => k0_hw182 k0_h1

def k0_chk183 (i : grid0.Coords) (v10 : BitVec 32) (v75 : IVec S16 32) : Prop :=
  (∀ (k0_h1 : k0_cond1 i v10 = 1#1), ∀ a x, ((![v75] : Fin 1 → IVec S16 32) a x).toNat < S18816.size a)
theorem k0_idx171_inb : ∀ (i : grid0.Coords) (v10 : BitVec 32) (v75 : IVec S16 32) (k0_hw183 : k0_chk183 i v10 v75), ∀ (k0_h1 : k0_cond1 i v10 = 1#1), ∀ a x, ((![v75] : Fin 1 → IVec S16 32) a x).toNat < S18816.size a := fun i v10 v75 k0_hw183 k0_h1 => k0_hw183 k0_h1

def k0_chk184 (i : grid0.Coords) (v10 : BitVec 32) (v80 : IVec S16 32) : Prop :=
  (∀ (k0_h1 : k0_cond1 i v10 = 1#1), ∀ a x, ((![v80] : Fin 1 → IVec S16 32) a x).toNat < S18816.size a)
theorem k0_idx172_inb : ∀ (i : grid0.Coords) (v10 : BitVec 32) (v80 : IVec S16 32) (k0_hw184 : k0_chk184 i v10 v80), ∀ (k0_h1 : k0_cond1 i v10 = 1#1), ∀ a x, ((![v80] : Fin 1 → IVec S16 32) a x).toNat < S18816.size a := fun i v10 v80 k0_hw184 k0_h1 => k0_hw184 k0_h1

def k0_chk185 (i : grid0.Coords) (v10 : BitVec 32) (v85 : IVec S16 32) : Prop :=
  (∀ (k0_h1 : k0_cond1 i v10 = 1#1), ∀ a x, ((![v85] : Fin 1 → IVec S16 32) a x).toNat < S18816.size a)
theorem k0_idx173_inb : ∀ (i : grid0.Coords) (v10 : BitVec 32) (v85 : IVec S16 32) (k0_hw185 : k0_chk185 i v10 v85), ∀ (k0_h1 : k0_cond1 i v10 = 1#1), ∀ a x, ((![v85] : Fin 1 → IVec S16 32) a x).toNat < S18816.size a := fun i v10 v85 k0_hw185 k0_h1 => k0_hw185 k0_h1

def k0_chk186 (i : grid0.Coords) (v10 : BitVec 32) (v90 : IVec S16 32) : Prop :=
  (∀ (k0_h1 : k0_cond1 i v10 = 1#1), ∀ a x, ((![v90] : Fin 1 → IVec S16 32) a x).toNat < S18816.size a)
theorem k0_idx174_inb : ∀ (i : grid0.Coords) (v10 : BitVec 32) (v90 : IVec S16 32) (k0_hw186 : k0_chk186 i v10 v90), ∀ (k0_h1 : k0_cond1 i v10 = 1#1), ∀ a x, ((![v90] : Fin 1 → IVec S16 32) a x).toNat < S18816.size a := fun i v10 v90 k0_hw186 k0_h1 => k0_hw186 k0_h1

def k0_chk187 (i : grid0.Coords) (v10 : BitVec 32) (v95 : IVec S16 32) : Prop :=
  (∀ (k0_h1 : k0_cond1 i v10 = 1#1), ∀ a x, ((![v95] : Fin 1 → IVec S16 32) a x).toNat < S18816.size a)
theorem k0_idx175_inb : ∀ (i : grid0.Coords) (v10 : BitVec 32) (v95 : IVec S16 32) (k0_hw187 : k0_chk187 i v10 v95), ∀ (k0_h1 : k0_cond1 i v10 = 1#1), ∀ a x, ((![v95] : Fin 1 → IVec S16 32) a x).toNat < S18816.size a := fun i v10 v95 k0_hw187 k0_h1 => k0_hw187 k0_h1

def k0_chk188 (i : grid0.Coords) (v10 : BitVec 32) (v100 : IVec S16 32) : Prop :=
  (∀ (k0_h1 : k0_cond1 i v10 = 1#1), ∀ a x, ((![v100] : Fin 1 → IVec S16 32) a x).toNat < S18816.size a)
theorem k0_idx176_inb : ∀ (i : grid0.Coords) (v10 : BitVec 32) (v100 : IVec S16 32) (k0_hw188 : k0_chk188 i v10 v100), ∀ (k0_h1 : k0_cond1 i v10 = 1#1), ∀ a x, ((![v100] : Fin 1 → IVec S16 32) a x).toNat < S18816.size a := fun i v10 v100 k0_hw188 k0_h1 => k0_hw188 k0_h1

def k0_chk189 (i : grid0.Coords) (v10 : BitVec 32) (v105 : IVec S16 32) : Prop :=
  (∀ (k0_h1 : k0_cond1 i v10 = 1#1), ∀ a x, ((![v105] : Fin 1 → IVec S16 32) a x).toNat < S18816.size a)
theorem k0_idx177_inb : ∀ (i : grid0.Coords) (v10 : BitVec 32) (v105 : IVec S16 32) (k0_hw189 : k0_chk189 i v10 v105), ∀ (k0_h1 : k0_cond1 i v10 = 1#1), ∀ a x, ((![v105] : Fin 1 → IVec S16 32) a x).toNat < S18816.size a := fun i v10 v105 k0_hw189 k0_h1 => k0_hw189 k0_h1

def k0_chk190 (i : grid0.Coords) (v10 : BitVec 32) (v110 : IVec S16 32) : Prop :=
  (∀ (k0_h1 : k0_cond1 i v10 = 1#1), ∀ a x, ((![v110] : Fin 1 → IVec S16 32) a x).toNat < S18816.size a)
theorem k0_idx178_inb : ∀ (i : grid0.Coords) (v10 : BitVec 32) (v110 : IVec S16 32) (k0_hw190 : k0_chk190 i v10 v110), ∀ (k0_h1 : k0_cond1 i v10 = 1#1), ∀ a x, ((![v110] : Fin 1 → IVec S16 32) a x).toNat < S18816.size a := fun i v10 v110 k0_hw190 k0_h1 => k0_hw190 k0_h1

def k0_chk191 (i : grid0.Coords) (v10 : BitVec 32) (v115 : IVec S16 32) : Prop :=
  (∀ (k0_h1 : k0_cond1 i v10 = 1#1), ∀ a x, ((![v115] : Fin 1 → IVec S16 32) a x).toNat < S18816.size a)
theorem k0_idx179_inb : ∀ (i : grid0.Coords) (v10 : BitVec 32) (v115 : IVec S16 32) (k0_hw191 : k0_chk191 i v10 v115), ∀ (k0_h1 : k0_cond1 i v10 = 1#1), ∀ a x, ((![v115] : Fin 1 → IVec S16 32) a x).toNat < S18816.size a := fun i v10 v115 k0_hw191 k0_h1 => k0_hw191 k0_h1

def k0_chk192 (i : grid0.Coords) (v10 : BitVec 32) (v120 : IVec S16 32) : Prop :=
  (∀ (k0_h1 : k0_cond1 i v10 = 1#1), ∀ a x, ((![v120] : Fin 1 → IVec S16 32) a x).toNat < S18816.size a)
theorem k0_idx180_inb : ∀ (i : grid0.Coords) (v10 : BitVec 32) (v120 : IVec S16 32) (k0_hw192 : k0_chk192 i v10 v120), ∀ (k0_h1 : k0_cond1 i v10 = 1#1), ∀ a x, ((![v120] : Fin 1 → IVec S16 32) a x).toNat < S18816.size a := fun i v10 v120 k0_hw192 k0_h1 => k0_hw192 k0_h1

def k0_chk193 (i : grid0.Coords) (v10 : BitVec 32) (v125 : IVec S16 32) : Prop :=
  (∀ (k0_h1 : k0_cond1 i v10 = 1#1), ∀ a x, ((![v125] : Fin 1 → IVec S16 32) a x).toNat < S18816.size a)
theorem k0_idx181_inb : ∀ (i : grid0.Coords) (v10 : BitVec 32) (v125 : IVec S16 32) (k0_hw193 : k0_chk193 i v10 v125), ∀ (k0_h1 : k0_cond1 i v10 = 1#1), ∀ a x, ((![v125] : Fin 1 → IVec S16 32) a x).toNat < S18816.size a := fun i v10 v125 k0_hw193 k0_h1 => k0_hw193 k0_h1

def k0_chk194 (i : grid0.Coords) (v10 : BitVec 32) (v130 : IVec S16 32) : Prop :=
  (∀ (k0_h1 : k0_cond1 i v10 = 1#1), ∀ a x, ((![v130] : Fin 1 → IVec S16 32) a x).toNat < S18816.size a)
theorem k0_idx182_inb : ∀ (i : grid0.Coords) (v10 : BitVec 32) (v130 : IVec S16 32) (k0_hw194 : k0_chk194 i v10 v130), ∀ (k0_h1 : k0_cond1 i v10 = 1#1), ∀ a x, ((![v130] : Fin 1 → IVec S16 32) a x).toNat < S18816.size a := fun i v10 v130 k0_hw194 k0_h1 => k0_hw194 k0_h1

def k0_chk195 (i : grid0.Coords) (v10 : BitVec 32) (v135 : IVec S16 32) : Prop :=
  (∀ (k0_h1 : k0_cond1 i v10 = 1#1), ∀ a x, ((![v135] : Fin 1 → IVec S16 32) a x).toNat < S18816.size a)
theorem k0_idx183_inb : ∀ (i : grid0.Coords) (v10 : BitVec 32) (v135 : IVec S16 32) (k0_hw195 : k0_chk195 i v10 v135), ∀ (k0_h1 : k0_cond1 i v10 = 1#1), ∀ a x, ((![v135] : Fin 1 → IVec S16 32) a x).toNat < S18816.size a := fun i v10 v135 k0_hw195 k0_h1 => k0_hw195 k0_h1

def k0_chk196 (i : grid0.Coords) (v10 : BitVec 32) (v140 : IVec S16 32) : Prop :=
  (∀ (k0_h1 : k0_cond1 i v10 = 1#1), ∀ a x, ((![v140] : Fin 1 → IVec S16 32) a x).toNat < S18816.size a)
theorem k0_idx184_inb : ∀ (i : grid0.Coords) (v10 : BitVec 32) (v140 : IVec S16 32) (k0_hw196 : k0_chk196 i v10 v140), ∀ (k0_h1 : k0_cond1 i v10 = 1#1), ∀ a x, ((![v140] : Fin 1 → IVec S16 32) a x).toNat < S18816.size a := fun i v10 v140 k0_hw196 k0_h1 => k0_hw196 k0_h1

def k0_chk197 (i : grid0.Coords) (v10 : BitVec 32) (v145 : IVec S16 32) : Prop :=
  (∀ (k0_h1 : k0_cond1 i v10 = 1#1), ∀ a x, ((![v145] : Fin 1 → IVec S16 32) a x).toNat < S18816.size a)
theorem k0_idx185_inb : ∀ (i : grid0.Coords) (v10 : BitVec 32) (v145 : IVec S16 32) (k0_hw197 : k0_chk197 i v10 v145), ∀ (k0_h1 : k0_cond1 i v10 = 1#1), ∀ a x, ((![v145] : Fin 1 → IVec S16 32) a x).toNat < S18816.size a := fun i v10 v145 k0_hw197 k0_h1 => k0_hw197 k0_h1

def k0_chk198 (i : grid0.Coords) (v10 : BitVec 32) (v150 : IVec S16 32) : Prop :=
  (∀ (k0_h1 : k0_cond1 i v10 = 1#1), ∀ a x, ((![v150] : Fin 1 → IVec S16 32) a x).toNat < S18816.size a)
theorem k0_idx186_inb : ∀ (i : grid0.Coords) (v10 : BitVec 32) (v150 : IVec S16 32) (k0_hw198 : k0_chk198 i v10 v150), ∀ (k0_h1 : k0_cond1 i v10 = 1#1), ∀ a x, ((![v150] : Fin 1 → IVec S16 32) a x).toNat < S18816.size a := fun i v10 v150 k0_hw198 k0_h1 => k0_hw198 k0_h1

def k0_chk199 (i : grid0.Coords) (v10 : BitVec 32) (v155 : IVec S16 32) : Prop :=
  (∀ (k0_h1 : k0_cond1 i v10 = 1#1), ∀ a x, ((![v155] : Fin 1 → IVec S16 32) a x).toNat < S18816.size a)
theorem k0_idx187_inb : ∀ (i : grid0.Coords) (v10 : BitVec 32) (v155 : IVec S16 32) (k0_hw199 : k0_chk199 i v10 v155), ∀ (k0_h1 : k0_cond1 i v10 = 1#1), ∀ a x, ((![v155] : Fin 1 → IVec S16 32) a x).toNat < S18816.size a := fun i v10 v155 k0_hw199 k0_h1 => k0_hw199 k0_h1

def k0_chk200 (i : grid0.Coords) (v10 : BitVec 32) (v160 : IVec S16 32) : Prop :=
  (∀ (k0_h1 : k0_cond1 i v10 = 1#1), ∀ a x, ((![v160] : Fin 1 → IVec S16 32) a x).toNat < S18816.size a)
theorem k0_idx188_inb : ∀ (i : grid0.Coords) (v10 : BitVec 32) (v160 : IVec S16 32) (k0_hw200 : k0_chk200 i v10 v160), ∀ (k0_h1 : k0_cond1 i v10 = 1#1), ∀ a x, ((![v160] : Fin 1 → IVec S16 32) a x).toNat < S18816.size a := fun i v10 v160 k0_hw200 k0_h1 => k0_hw200 k0_h1

def k0_chk201 (i : grid0.Coords) (v10 : BitVec 32) (v165 : IVec S16 32) : Prop :=
  (∀ (k0_h1 : k0_cond1 i v10 = 1#1), ∀ a x, ((![v165] : Fin 1 → IVec S16 32) a x).toNat < S18816.size a)
theorem k0_idx189_inb : ∀ (i : grid0.Coords) (v10 : BitVec 32) (v165 : IVec S16 32) (k0_hw201 : k0_chk201 i v10 v165), ∀ (k0_h1 : k0_cond1 i v10 = 1#1), ∀ a x, ((![v165] : Fin 1 → IVec S16 32) a x).toNat < S18816.size a := fun i v10 v165 k0_hw201 k0_h1 => k0_hw201 k0_h1

def k0_chk202 (i : grid0.Coords) (v10 : BitVec 32) (v170 : IVec S16 32) : Prop :=
  (∀ (k0_h1 : k0_cond1 i v10 = 1#1), ∀ a x, ((![v170] : Fin 1 → IVec S16 32) a x).toNat < S18816.size a)
theorem k0_idx190_inb : ∀ (i : grid0.Coords) (v10 : BitVec 32) (v170 : IVec S16 32) (k0_hw202 : k0_chk202 i v10 v170), ∀ (k0_h1 : k0_cond1 i v10 = 1#1), ∀ a x, ((![v170] : Fin 1 → IVec S16 32) a x).toNat < S18816.size a := fun i v10 v170 k0_hw202 k0_h1 => k0_hw202 k0_h1

def k0_chk203 (i : grid0.Coords) (v10 : BitVec 32) (v175 : IVec S16 32) : Prop :=
  (∀ (k0_h1 : k0_cond1 i v10 = 1#1), ∀ a x, ((![v175] : Fin 1 → IVec S16 32) a x).toNat < S18816.size a)
theorem k0_idx191_inb : ∀ (i : grid0.Coords) (v10 : BitVec 32) (v175 : IVec S16 32) (k0_hw203 : k0_chk203 i v10 v175), ∀ (k0_h1 : k0_cond1 i v10 = 1#1), ∀ a x, ((![v175] : Fin 1 → IVec S16 32) a x).toNat < S18816.size a := fun i v10 v175 k0_hw203 k0_h1 => k0_hw203 k0_h1

def k0_chk204 (i : grid0.Coords) (v10 : BitVec 32) (v180 : IVec S16 32) : Prop :=
  (∀ (k0_h1 : k0_cond1 i v10 = 1#1), ∀ a x, ((![v180] : Fin 1 → IVec S16 32) a x).toNat < S18816.size a)
theorem k0_idx192_inb : ∀ (i : grid0.Coords) (v10 : BitVec 32) (v180 : IVec S16 32) (k0_hw204 : k0_chk204 i v10 v180), ∀ (k0_h1 : k0_cond1 i v10 = 1#1), ∀ a x, ((![v180] : Fin 1 → IVec S16 32) a x).toNat < S18816.size a := fun i v10 v180 k0_hw204 k0_h1 => k0_hw204 k0_h1
@[reducible] def k0_t54_loop (v41 : BitVec 32) (v43 : BitVec 32) : Scf.Loop 32 :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_57 : BitVec 32 := 1#32
  ⟨v41, v190, c1_i32_57⟩
@[reducible] def k0_t55_loop (v182 : BitVec 32) (v184 : BitVec 32) : Scf.Loop 32 :=
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_376 : BitVec 32 := 1#32
  ⟨v182, v1008, c1_i32_376⟩

def k0_off775 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1012 : Index := Scalar.indexCast v1011
  let c0_378 : Index := 0#32
  ![v1012.toNat, 0]
def k0_off776 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1015 : Index := Scalar.indexCast v1011
  let c16 : Index := 16#32
  ![v1015.toNat, 16]
def k0_off777 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1018 : Index := Scalar.indexCast v1011
  let c32 : Index := 32#32
  ![v1018.toNat, 32]
def k0_off778 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1021 : Index := Scalar.indexCast v1011
  let c48 : Index := 48#32
  ![v1021.toNat, 48]
def k0_off779 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1024 : Index := Scalar.indexCast v1011
  let c64 : Index := 64#32
  ![v1024.toNat, 64]
def k0_off780 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1027 : Index := Scalar.indexCast v1011
  let c80 : Index := 80#32
  ![v1027.toNat, 80]
def k0_off781 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1030 : Index := Scalar.indexCast v1011
  let c96 : Index := 96#32
  ![v1030.toNat, 96]
def k0_off782 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1033 : Index := Scalar.indexCast v1011
  let c112 : Index := 112#32
  ![v1033.toNat, 112]
def k0_off783 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1036 : Index := Scalar.indexCast v1011
  let c128 : Index := 128#32
  ![v1036.toNat, 128]
def k0_off784 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1039 : Index := Scalar.indexCast v1011
  let c144 : Index := 144#32
  ![v1039.toNat, 144]
def k0_off785 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1042 : Index := Scalar.indexCast v1011
  let c160 : Index := 160#32
  ![v1042.toNat, 160]
def k0_off786 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1045 : Index := Scalar.indexCast v1011
  let c176 : Index := 176#32
  ![v1045.toNat, 176]
def k0_off787 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1048 : Index := Scalar.indexCast v1011
  let c192 : Index := 192#32
  ![v1048.toNat, 192]
def k0_off788 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1051 : Index := Scalar.indexCast v1011
  let c208 : Index := 208#32
  ![v1051.toNat, 208]
def k0_off789 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1054 : Index := Scalar.indexCast v1011
  let c224 : Index := 224#32
  ![v1054.toNat, 224]
def k0_off790 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1057 : Index := Scalar.indexCast v1011
  let c240 : Index := 240#32
  ![v1057.toNat, 240]
def k0_off791 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1060 : Index := Scalar.indexCast v1011
  let c256 : Index := 256#32
  ![v1060.toNat, 256]
def k0_off792 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1063 : Index := Scalar.indexCast v1011
  let c272 : Index := 272#32
  ![v1063.toNat, 272]
def k0_off793 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1066 : Index := Scalar.indexCast v1011
  let c288 : Index := 288#32
  ![v1066.toNat, 288]
def k0_off794 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1069 : Index := Scalar.indexCast v1011
  let c304 : Index := 304#32
  ![v1069.toNat, 304]
def k0_off795 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1072 : Index := Scalar.indexCast v1011
  let c320 : Index := 320#32
  ![v1072.toNat, 320]
def k0_off796 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1075 : Index := Scalar.indexCast v1011
  let c336 : Index := 336#32
  ![v1075.toNat, 336]
def k0_off797 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1078 : Index := Scalar.indexCast v1011
  let c352 : Index := 352#32
  ![v1078.toNat, 352]
def k0_off798 (v41 : BitVec 32) (v43 : BitVec 32) (v182 : BitVec 32) (v184 : BitVec 32) (k0_t54 : Fin (k0_t54_loop v41 v43).trips) (k0_t55 : Fin (k0_t55_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let c1_i32_376 : BitVec 32 := 1#32
  let arg36 : BitVec 32 := Scf.iv v182 c1_i32_376 k0_t55
  let v1011 : BitVec 32 := Scalar.addi v1003 arg36
  let v1081 : Index := Scalar.indexCast v1011
  let c368 : Index := 368#32
  ![v1081.toNat, 368]
@[reducible] def k0_t56_loop (v182 : BitVec 32) (v184 : BitVec 32) : Scf.Loop 32 :=
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let v1005 : BitVec 32 := Scalar.addi v182 v1004
  let c1_i32_377 : BitVec 32 := 1#32
  ⟨v1008, v1005, c1_i32_377⟩
def k0_off799 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1012 : Index := Scalar.indexCast v1011
  let c0_378 : Index := 0#32
  ![v1012.toNat, 0]
def k0_off800 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1015 : Index := Scalar.indexCast v1011
  let c16 : Index := 16#32
  ![v1015.toNat, 16]
def k0_off801 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1018 : Index := Scalar.indexCast v1011
  let c32 : Index := 32#32
  ![v1018.toNat, 32]
def k0_off802 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1021 : Index := Scalar.indexCast v1011
  let c48 : Index := 48#32
  ![v1021.toNat, 48]
def k0_off803 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1024 : Index := Scalar.indexCast v1011
  let c64 : Index := 64#32
  ![v1024.toNat, 64]
def k0_off804 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1027 : Index := Scalar.indexCast v1011
  let c80 : Index := 80#32
  ![v1027.toNat, 80]
def k0_off805 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1030 : Index := Scalar.indexCast v1011
  let c96 : Index := 96#32
  ![v1030.toNat, 96]
def k0_off806 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1033 : Index := Scalar.indexCast v1011
  let c112 : Index := 112#32
  ![v1033.toNat, 112]
def k0_off807 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1036 : Index := Scalar.indexCast v1011
  let c128 : Index := 128#32
  ![v1036.toNat, 128]
def k0_off808 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1039 : Index := Scalar.indexCast v1011
  let c144 : Index := 144#32
  ![v1039.toNat, 144]
def k0_off809 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1042 : Index := Scalar.indexCast v1011
  let c160 : Index := 160#32
  ![v1042.toNat, 160]
def k0_off810 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1045 : Index := Scalar.indexCast v1011
  let c176 : Index := 176#32
  ![v1045.toNat, 176]
def k0_off811 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1048 : Index := Scalar.indexCast v1011
  let c192 : Index := 192#32
  ![v1048.toNat, 192]
def k0_off812 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1051 : Index := Scalar.indexCast v1011
  let c208 : Index := 208#32
  ![v1051.toNat, 208]
def k0_off813 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1054 : Index := Scalar.indexCast v1011
  let c224 : Index := 224#32
  ![v1054.toNat, 224]
def k0_off814 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1057 : Index := Scalar.indexCast v1011
  let c240 : Index := 240#32
  ![v1057.toNat, 240]
def k0_off815 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1060 : Index := Scalar.indexCast v1011
  let c256 : Index := 256#32
  ![v1060.toNat, 256]
def k0_off816 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1063 : Index := Scalar.indexCast v1011
  let c272 : Index := 272#32
  ![v1063.toNat, 272]
def k0_off817 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1066 : Index := Scalar.indexCast v1011
  let c288 : Index := 288#32
  ![v1066.toNat, 288]
def k0_off818 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1069 : Index := Scalar.indexCast v1011
  let c304 : Index := 304#32
  ![v1069.toNat, 304]
def k0_off819 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1072 : Index := Scalar.indexCast v1011
  let c320 : Index := 320#32
  ![v1072.toNat, 320]
def k0_off820 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1075 : Index := Scalar.indexCast v1011
  let c336 : Index := 336#32
  ![v1075.toNat, 336]
def k0_off821 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1078 : Index := Scalar.indexCast v1011
  let c352 : Index := 352#32
  ![v1078.toNat, 352]
def k0_off822 (v41 : BitVec 32) (v43 : BitVec 32) (v182 : BitVec 32) (v184 : BitVec 32) (k0_t54 : Fin (k0_t54_loop v41 v43).trips) (k0_t56 : Fin (k0_t56_loop v182 v184).trips) : Fin 2 → Nat :=
  let c1_i32_57 : BitVec 32 := 1#32
  let arg11 : BitVec 32 := Scf.iv v41 c1_i32_57 k0_t54
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t56
  let v1011 : BitVec 32 := Scalar.addi v1003 arg36
  let v1081 : Index := Scalar.indexCast v1011
  let c368 : Index := 368#32
  ![v1081.toNat, 368]
@[reducible] def k0_t57_loop (v41 : BitVec 32) (v43 : BitVec 32) : Scf.Loop 32 :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let v187 : BitVec 32 := Scalar.addi v41 v186
  let c1_i32_58 : BitVec 32 := 1#32
  ⟨v190, v187, c1_i32_58⟩
@[reducible] def k0_t58_loop (v182 : BitVec 32) (v184 : BitVec 32) : Scf.Loop 32 :=
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_376 : BitVec 32 := 1#32
  ⟨v182, v1008, c1_i32_376⟩
def k0_off823 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1012 : Index := Scalar.indexCast v1011
  let c0_378 : Index := 0#32
  ![v1012.toNat, 0]
def k0_off824 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1015 : Index := Scalar.indexCast v1011
  let c16 : Index := 16#32
  ![v1015.toNat, 16]
def k0_off825 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1018 : Index := Scalar.indexCast v1011
  let c32 : Index := 32#32
  ![v1018.toNat, 32]
def k0_off826 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1021 : Index := Scalar.indexCast v1011
  let c48 : Index := 48#32
  ![v1021.toNat, 48]
def k0_off827 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1024 : Index := Scalar.indexCast v1011
  let c64 : Index := 64#32
  ![v1024.toNat, 64]
def k0_off828 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1027 : Index := Scalar.indexCast v1011
  let c80 : Index := 80#32
  ![v1027.toNat, 80]
def k0_off829 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1030 : Index := Scalar.indexCast v1011
  let c96 : Index := 96#32
  ![v1030.toNat, 96]
def k0_off830 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1033 : Index := Scalar.indexCast v1011
  let c112 : Index := 112#32
  ![v1033.toNat, 112]
def k0_off831 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1036 : Index := Scalar.indexCast v1011
  let c128 : Index := 128#32
  ![v1036.toNat, 128]
def k0_off832 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1039 : Index := Scalar.indexCast v1011
  let c144 : Index := 144#32
  ![v1039.toNat, 144]
def k0_off833 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1042 : Index := Scalar.indexCast v1011
  let c160 : Index := 160#32
  ![v1042.toNat, 160]
def k0_off834 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1045 : Index := Scalar.indexCast v1011
  let c176 : Index := 176#32
  ![v1045.toNat, 176]
def k0_off835 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1048 : Index := Scalar.indexCast v1011
  let c192 : Index := 192#32
  ![v1048.toNat, 192]
def k0_off836 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1051 : Index := Scalar.indexCast v1011
  let c208 : Index := 208#32
  ![v1051.toNat, 208]
def k0_off837 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1054 : Index := Scalar.indexCast v1011
  let c224 : Index := 224#32
  ![v1054.toNat, 224]
def k0_off838 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1057 : Index := Scalar.indexCast v1011
  let c240 : Index := 240#32
  ![v1057.toNat, 240]
def k0_off839 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1060 : Index := Scalar.indexCast v1011
  let c256 : Index := 256#32
  ![v1060.toNat, 256]
def k0_off840 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1063 : Index := Scalar.indexCast v1011
  let c272 : Index := 272#32
  ![v1063.toNat, 272]
def k0_off841 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1066 : Index := Scalar.indexCast v1011
  let c288 : Index := 288#32
  ![v1066.toNat, 288]
def k0_off842 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1069 : Index := Scalar.indexCast v1011
  let c304 : Index := 304#32
  ![v1069.toNat, 304]
def k0_off843 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1072 : Index := Scalar.indexCast v1011
  let c320 : Index := 320#32
  ![v1072.toNat, 320]
def k0_off844 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1075 : Index := Scalar.indexCast v1011
  let c336 : Index := 336#32
  ![v1075.toNat, 336]
def k0_off845 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1078 : Index := Scalar.indexCast v1011
  let c352 : Index := 352#32
  ![v1078.toNat, 352]
def k0_off846 (v41 : BitVec 32) (v43 : BitVec 32) (v182 : BitVec 32) (v184 : BitVec 32) (k0_t57 : Fin (k0_t57_loop v41 v43).trips) (k0_t58 : Fin (k0_t58_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let c1_i32_376 : BitVec 32 := 1#32
  let arg36 : BitVec 32 := Scf.iv v182 c1_i32_376 k0_t58
  let v1011 : BitVec 32 := Scalar.addi v1003 arg36
  let v1081 : Index := Scalar.indexCast v1011
  let c368 : Index := 368#32
  ![v1081.toNat, 368]
@[reducible] def k0_t59_loop (v182 : BitVec 32) (v184 : BitVec 32) : Scf.Loop 32 :=
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let v1005 : BitVec 32 := Scalar.addi v182 v1004
  let c1_i32_377 : BitVec 32 := 1#32
  ⟨v1008, v1005, c1_i32_377⟩
def k0_off847 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1012 : Index := Scalar.indexCast v1011
  let c0_378 : Index := 0#32
  ![v1012.toNat, 0]
def k0_off848 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1015 : Index := Scalar.indexCast v1011
  let c16 : Index := 16#32
  ![v1015.toNat, 16]
def k0_off849 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1018 : Index := Scalar.indexCast v1011
  let c32 : Index := 32#32
  ![v1018.toNat, 32]
def k0_off850 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1021 : Index := Scalar.indexCast v1011
  let c48 : Index := 48#32
  ![v1021.toNat, 48]
def k0_off851 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1024 : Index := Scalar.indexCast v1011
  let c64 : Index := 64#32
  ![v1024.toNat, 64]
def k0_off852 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1027 : Index := Scalar.indexCast v1011
  let c80 : Index := 80#32
  ![v1027.toNat, 80]
def k0_off853 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1030 : Index := Scalar.indexCast v1011
  let c96 : Index := 96#32
  ![v1030.toNat, 96]
def k0_off854 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1033 : Index := Scalar.indexCast v1011
  let c112 : Index := 112#32
  ![v1033.toNat, 112]
def k0_off855 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1036 : Index := Scalar.indexCast v1011
  let c128 : Index := 128#32
  ![v1036.toNat, 128]
def k0_off856 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1039 : Index := Scalar.indexCast v1011
  let c144 : Index := 144#32
  ![v1039.toNat, 144]
def k0_off857 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1042 : Index := Scalar.indexCast v1011
  let c160 : Index := 160#32
  ![v1042.toNat, 160]
def k0_off858 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1045 : Index := Scalar.indexCast v1011
  let c176 : Index := 176#32
  ![v1045.toNat, 176]
def k0_off859 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1048 : Index := Scalar.indexCast v1011
  let c192 : Index := 192#32
  ![v1048.toNat, 192]
def k0_off860 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1051 : Index := Scalar.indexCast v1011
  let c208 : Index := 208#32
  ![v1051.toNat, 208]
def k0_off861 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1054 : Index := Scalar.indexCast v1011
  let c224 : Index := 224#32
  ![v1054.toNat, 224]
def k0_off862 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1057 : Index := Scalar.indexCast v1011
  let c240 : Index := 240#32
  ![v1057.toNat, 240]
def k0_off863 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1060 : Index := Scalar.indexCast v1011
  let c256 : Index := 256#32
  ![v1060.toNat, 256]
def k0_off864 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1063 : Index := Scalar.indexCast v1011
  let c272 : Index := 272#32
  ![v1063.toNat, 272]
def k0_off865 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1066 : Index := Scalar.indexCast v1011
  let c288 : Index := 288#32
  ![v1066.toNat, 288]
def k0_off866 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1069 : Index := Scalar.indexCast v1011
  let c304 : Index := 304#32
  ![v1069.toNat, 304]
def k0_off867 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1072 : Index := Scalar.indexCast v1011
  let c320 : Index := 320#32
  ![v1072.toNat, 320]
def k0_off868 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1075 : Index := Scalar.indexCast v1011
  let c336 : Index := 336#32
  ![v1075.toNat, 336]
def k0_off869 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1078 : Index := Scalar.indexCast v1011
  let c352 : Index := 352#32
  ![v1078.toNat, 352]
def k0_off870 (v41 : BitVec 32) (v43 : BitVec 32) (v182 : BitVec 32) (v184 : BitVec 32) (k0_t57 : Fin (k0_t57_loop v41 v43).trips) (k0_t59 : Fin (k0_t59_loop v182 v184).trips) : Fin 2 → Nat :=
  let v186 : BitVec 32 := Scalar.subi v43 v41
  let c1_i32_56 : BitVec 32 := 1#32
  let v188 : BitVec 32 := Scalar.divsi v186 c1_i32_56
  let v189 : BitVec 32 := Scalar.muli v188 c1_i32_56
  let v190 : BitVec 32 := Scalar.addi v41 v189
  let c1_i32_58 : BitVec 32 := 1#32
  let arg11 : BitVec 32 := Scf.iv v190 c1_i32_58 k0_t57
  let c14_i32 : BitVec 32 := 14#32
  let v1003 : BitVec 32 := Scalar.muli arg11 c14_i32
  let v1004 : BitVec 32 := Scalar.subi v184 v182
  let c1_i32_375 : BitVec 32 := 1#32
  let v1006 : BitVec 32 := Scalar.divsi v1004 c1_i32_375
  let v1007 : BitVec 32 := Scalar.muli v1006 c1_i32_375
  let v1008 : BitVec 32 := Scalar.addi v182 v1007
  let c1_i32_377 : BitVec 32 := 1#32
  let arg36 : BitVec 32 := Scf.iv v1008 c1_i32_377 k0_t59
  let v1011 : BitVec 32 := Scalar.addi v1003 arg36
  let v1081 : Index := Scalar.indexCast v1011
  let c368 : Index := 368#32
  ![v1081.toNat, 368]

def k0_chk205_0 (i : grid0.Coords) (v10 : BitVec 32) (v41 : BitVec 32) (v43 : BitVec 32) (v182 : BitVec 32) (v184 : BitVec 32) : Prop :=
  (∀ k0_t54 : Fin (k0_t54_loop v41 v43).trips, ∀ (k0_h1 : k0_cond1 i v10 = 1#1), (k0_t55_loop v182 v184).OK) ∧
  (∀ (k0_t54 : Fin (k0_t54_loop v41 v43).trips) (k0_t55 : Fin (k0_t55_loop v182 v184).trips), ∀ (k0_h1 : k0_cond1 i v10 = 1#1), ∀ a, (k0_off775 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off776 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off777 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off778 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off779 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off780 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off781 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off782 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off783 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off784 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off785 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off786 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off787 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off788 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off789 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off790 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off791 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off792 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off793 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off794 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off795 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off796 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off797 v41 v43 v182 v184 k0_t54 k0_t55) a + S1x16.size a ≤ S196x384.size a) ∧
  (∀ (k0_t54 : Fin (k0_t54_loop v41 v43).trips) (k0_t55 : Fin (k0_t55_loop v182 v184).trips), ∀ (k0_h1 : k0_cond1 i v10 = 1#1), ∀ a, (k0_off798 v41 v43 v182 v184 k0_t54 k0_t55) a + S1x16.size a ≤ S196x384.size a) ∧
  (∀ k0_t54 : Fin (k0_t54_loop v41 v43).trips, ∀ (k0_h1 : k0_cond1 i v10 = 1#1), (k0_t56_loop v182 v184).OK) ∧
  (∀ (k0_t54 : Fin (k0_t54_loop v41 v43).trips) (k0_t56 : Fin (k0_t56_loop v182 v184).trips), ∀ (k0_h1 : k0_cond1 i v10 = 1#1), ∀ a, (k0_off799 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off800 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off801 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off802 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off803 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off804 v41 v43 v182 v184 k0_t54 k0_t56) a + S1x16.size a ≤ S196x384.size a)
def k0_chk205_1 (i : grid0.Coords) (v10 : BitVec 32) (v41 : BitVec 32) (v43 : BitVec 32) (v182 : BitVec 32) (v184 : BitVec 32) : Prop :=
  (∀ (k0_t54 : Fin (k0_t54_loop v41 v43).trips) (k0_t56 : Fin (k0_t56_loop v182 v184).trips), ∀ (k0_h1 : k0_cond1 i v10 = 1#1), ∀ a, (k0_off805 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off806 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off807 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off808 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off809 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off810 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off811 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off812 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off813 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off814 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off815 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off816 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off817 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off818 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off819 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off820 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off821 v41 v43 v182 v184 k0_t54 k0_t56) a + S1x16.size a ≤ S196x384.size a) ∧
  (∀ (k0_t54 : Fin (k0_t54_loop v41 v43).trips) (k0_t56 : Fin (k0_t56_loop v182 v184).trips), ∀ (k0_h1 : k0_cond1 i v10 = 1#1), ∀ a, (k0_off822 v41 v43 v182 v184 k0_t54 k0_t56) a + S1x16.size a ≤ S196x384.size a) ∧
  (∀ k0_t57 : Fin (k0_t57_loop v41 v43).trips, ∀ (k0_h1 : k0_cond1 i v10 = 1#1), (k0_t58_loop v182 v184).OK) ∧
  (∀ (k0_t57 : Fin (k0_t57_loop v41 v43).trips) (k0_t58 : Fin (k0_t58_loop v182 v184).trips), ∀ (k0_h1 : k0_cond1 i v10 = 1#1), ∀ a, (k0_off823 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off824 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off825 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off826 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off827 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off828 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off829 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off830 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off831 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off832 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off833 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off834 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off835 v41 v43 v182 v184 k0_t57 k0_t58) a + S1x16.size a ≤ S196x384.size a)
def k0_chk205_2 (i : grid0.Coords) (v10 : BitVec 32) (v41 : BitVec 32) (v43 : BitVec 32) (v182 : BitVec 32) (v184 : BitVec 32) : Prop :=
  (∀ (k0_t57 : Fin (k0_t57_loop v41 v43).trips) (k0_t58 : Fin (k0_t58_loop v182 v184).trips), ∀ (k0_h1 : k0_cond1 i v10 = 1#1), ∀ a, (k0_off836 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off837 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off838 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off839 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off840 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off841 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off842 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off843 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off844 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off845 v41 v43 v182 v184 k0_t57 k0_t58) a + S1x16.size a ≤ S196x384.size a) ∧
  (∀ (k0_t57 : Fin (k0_t57_loop v41 v43).trips) (k0_t58 : Fin (k0_t58_loop v182 v184).trips), ∀ (k0_h1 : k0_cond1 i v10 = 1#1), ∀ a, (k0_off846 v41 v43 v182 v184 k0_t57 k0_t58) a + S1x16.size a ≤ S196x384.size a) ∧
  (∀ k0_t57 : Fin (k0_t57_loop v41 v43).trips, ∀ (k0_h1 : k0_cond1 i v10 = 1#1), (k0_t59_loop v182 v184).OK) ∧
  (∀ (k0_t57 : Fin (k0_t57_loop v41 v43).trips) (k0_t59 : Fin (k0_t59_loop v182 v184).trips), ∀ (k0_h1 : k0_cond1 i v10 = 1#1), ∀ a, (k0_off847 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off848 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off849 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off850 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off851 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off852 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off853 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off854 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off855 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off856 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off857 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off858 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off859 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off860 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off861 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off862 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off863 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off864 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off865 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off866 v41 v43 v182 v184 k0_t57 k0_t59) a + S1x16.size a ≤ S196x384.size a)
def k0_chk205_3 (i : grid0.Coords) (v10 : BitVec 32) (v41 : BitVec 32) (v43 : BitVec 32) (v182 : BitVec 32) (v184 : BitVec 32) : Prop :=
  (∀ (k0_t57 : Fin (k0_t57_loop v41 v43).trips) (k0_t59 : Fin (k0_t59_loop v182 v184).trips), ∀ (k0_h1 : k0_cond1 i v10 = 1#1), ∀ a, (k0_off867 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off868 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off869 v41 v43 v182 v184 k0_t57 k0_t59) a + S1x16.size a ≤ S196x384.size a) ∧
  (∀ (k0_t57 : Fin (k0_t57_loop v41 v43).trips) (k0_t59 : Fin (k0_t59_loop v182 v184).trips), ∀ (k0_h1 : k0_cond1 i v10 = 1#1), ∀ a, (k0_off870 v41 v43 v182 v184 k0_t57 k0_t59) a + S1x16.size a ≤ S196x384.size a)
def k0_chk205 (i : grid0.Coords) (v10 : BitVec 32) (v41 : BitVec 32) (v43 : BitVec 32) (v182 : BitVec 32) (v184 : BitVec 32) : Prop :=
  k0_chk205_0 i v10 v41 v43 v182 v184 ∧
  k0_chk205_1 i v10 v41 v43 v182 v184 ∧
  k0_chk205_2 i v10 v41 v43 v182 v184 ∧
  k0_chk205_3 i v10 v41 v43 v182 v184
theorem k0_t55_ok : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips), ∀ (k0_h1 : k0_cond1 i v10 = 1#1), (k0_t55_loop v182 v184).OK := fun i v10 v41 v43 v182 v184 k0_hw205 k0_t54 k0_h1 => k0_hw205.1.1 k0_t54 k0_h1
theorem k0_off775_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off775 v41 v43 v182 v184 k0_t54 k0_t55) a + S1x16.size a ≤ S196x384.size a := fun i v10 v41 v43 v182 v184 k0_hw205 k0_t54 k0_t55 k0_h1 => k0_hw205.1.2.1 k0_t54 k0_t55 k0_h1
theorem k0_off776_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off776 v41 v43 v182 v184 k0_t54 k0_t55) a + S1x16.size a ≤ S196x384.size a := fun i v10 v41 v43 v182 v184 k0_hw205 k0_t54 k0_t55 k0_h1 => k0_hw205.1.2.2.1 k0_t54 k0_t55 k0_h1
theorem k0_off777_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off777 v41 v43 v182 v184 k0_t54 k0_t55) a + S1x16.size a ≤ S196x384.size a := fun i v10 v41 v43 v182 v184 k0_hw205 k0_t54 k0_t55 k0_h1 => k0_hw205.1.2.2.2.1 k0_t54 k0_t55 k0_h1
theorem k0_off778_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off778 v41 v43 v182 v184 k0_t54 k0_t55) a + S1x16.size a ≤ S196x384.size a := fun i v10 v41 v43 v182 v184 k0_hw205 k0_t54 k0_t55 k0_h1 => k0_hw205.1.2.2.2.2.1 k0_t54 k0_t55 k0_h1
theorem k0_off779_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off779 v41 v43 v182 v184 k0_t54 k0_t55) a + S1x16.size a ≤ S196x384.size a := fun i v10 v41 v43 v182 v184 k0_hw205 k0_t54 k0_t55 k0_h1 => k0_hw205.1.2.2.2.2.2.1 k0_t54 k0_t55 k0_h1
theorem k0_off780_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off780 v41 v43 v182 v184 k0_t54 k0_t55) a + S1x16.size a ≤ S196x384.size a := fun i v10 v41 v43 v182 v184 k0_hw205 k0_t54 k0_t55 k0_h1 => k0_hw205.1.2.2.2.2.2.2.1 k0_t54 k0_t55 k0_h1
theorem k0_off781_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off781 v41 v43 v182 v184 k0_t54 k0_t55) a + S1x16.size a ≤ S196x384.size a := fun i v10 v41 v43 v182 v184 k0_hw205 k0_t54 k0_t55 k0_h1 => k0_hw205.1.2.2.2.2.2.2.2.1 k0_t54 k0_t55 k0_h1
theorem k0_off782_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off782 v41 v43 v182 v184 k0_t54 k0_t55) a + S1x16.size a ≤ S196x384.size a := fun i v10 v41 v43 v182 v184 k0_hw205 k0_t54 k0_t55 k0_h1 => k0_hw205.1.2.2.2.2.2.2.2.2.1 k0_t54 k0_t55 k0_h1
theorem k0_off783_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off783 v41 v43 v182 v184 k0_t54 k0_t55) a + S1x16.size a ≤ S196x384.size a := fun i v10 v41 v43 v182 v184 k0_hw205 k0_t54 k0_t55 k0_h1 => k0_hw205.1.2.2.2.2.2.2.2.2.2.1 k0_t54 k0_t55 k0_h1
theorem k0_off784_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off784 v41 v43 v182 v184 k0_t54 k0_t55) a + S1x16.size a ≤ S196x384.size a := fun i v10 v41 v43 v182 v184 k0_hw205 k0_t54 k0_t55 k0_h1 => k0_hw205.1.2.2.2.2.2.2.2.2.2.2.1 k0_t54 k0_t55 k0_h1
theorem k0_off785_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off785 v41 v43 v182 v184 k0_t54 k0_t55) a + S1x16.size a ≤ S196x384.size a := fun i v10 v41 v43 v182 v184 k0_hw205 k0_t54 k0_t55 k0_h1 => k0_hw205.1.2.2.2.2.2.2.2.2.2.2.2.1 k0_t54 k0_t55 k0_h1
theorem k0_off786_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off786 v41 v43 v182 v184 k0_t54 k0_t55) a + S1x16.size a ≤ S196x384.size a := fun i v10 v41 v43 v182 v184 k0_hw205 k0_t54 k0_t55 k0_h1 => k0_hw205.1.2.2.2.2.2.2.2.2.2.2.2.2.1 k0_t54 k0_t55 k0_h1
theorem k0_off787_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off787 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.1 k0_t54 k0_t55 k0_h1
theorem k0_off788_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off788 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.1 k0_t54 k0_t55 k0_h1
theorem k0_off789_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off789 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.1 k0_t54 k0_t55 k0_h1
theorem k0_off790_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off790 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.2.1 k0_t54 k0_t55 k0_h1
theorem k0_off791_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off791 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.2.2.1 k0_t54 k0_t55 k0_h1
theorem k0_off792_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off792 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.2.2.2.1 k0_t54 k0_t55 k0_h1
theorem k0_off793_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off793 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.2.2.2.2.1 k0_t54 k0_t55 k0_h1
theorem k0_off794_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off794 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.2.2.2.2.2.1 k0_t54 k0_t55 k0_h1
theorem k0_off795_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off795 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.2.2.2.2.2.2.1 k0_t54 k0_t55 k0_h1
theorem k0_off796_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off796 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.2.2.2.2.2.2.2.1 k0_t54 k0_t55 k0_h1
theorem k0_off797_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off797 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.2.2.2.2.2.2.2.2.1 k0_t54 k0_t55 k0_h1
theorem k0_off798_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t55 : Fin (k0_t55_loop v182 v184).trips), ∀ (k0_h1 : k0_cond1 i v10 = 1#1), ∀ a, (k0_off798 v41 v43 v182 v184 k0_t54 k0_t55) a + S1x16.size a ≤ S196x384.size a := fun i v10 v41 v43 v182 v184 k0_hw205 k0_t54 k0_t55 k0_h1 => k0_hw205.1.2.2.2.2.2.2.2.2.2.2.2.2.2.2.2.2.2.2.2.2.2.2.2.2.1 k0_t54 k0_t55 k0_h1
theorem k0_t56_ok : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips), ∀ (k0_h1 : k0_cond1 i v10 = 1#1), (k0_t56_loop v182 v184).OK := fun i v10 v41 v43 v182 v184 k0_hw205 k0_t54 k0_h1 => k0_hw205.1.2.2.2.2.2.2.2.2.2.2.2.2.2.2.2.2.2.2.2.2.2.2.2.2.2.1 k0_t54 k0_h1
theorem k0_off799_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off799 v41 v43 v182 v184 k0_t54 k0_t56) a + S1x16.size a ≤ S196x384.size a := fun i v10 v41 v43 v182 v184 k0_hw205 k0_t54 k0_t56 k0_h1 => k0_hw205.1.2.2.2.2.2.2.2.2.2.2.2.2.2.2.2.2.2.2.2.2.2.2.2.2.2.2.1 k0_t54 k0_t56 k0_h1
theorem k0_off800_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off800 v41 v43 v182 v184 k0_t54 k0_t56) a + S1x16.size a ≤ S196x384.size a := fun i v10 v41 v43 v182 v184 k0_hw205 k0_t54 k0_t56 k0_h1 => k0_hw205.1.2.2.2.2.2.2.2.2.2.2.2.2.2.2.2.2.2.2.2.2.2.2.2.2.2.2.2.1 k0_t54 k0_t56 k0_h1
theorem k0_off801_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off801 v41 v43 v182 v184 k0_t54 k0_t56) a + S1x16.size a ≤ S196x384.size a := fun i v10 v41 v43 v182 v184 k0_hw205 k0_t54 k0_t56 k0_h1 => k0_hw205.1.2.2.2.2.2.2.2.2.2.2.2.2.2.2.2.2.2.2.2.2.2.2.2.2.2.2.2.2.1 k0_t54 k0_t56 k0_h1
theorem k0_off802_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off802 v41 v43 v182 v184 k0_t54 k0_t56) a + S1x16.size a ≤ S196x384.size a := fun i v10 v41 v43 v182 v184 k0_hw205 k0_t54 k0_t56 k0_h1 => k0_hw205.1.2.2.2.2.2.2.2.2.2.2.2.2.2.2.2.2.2.2.2.2.2.2.2.2.2.2.2.2.2.1 k0_t54 k0_t56 k0_h1
theorem k0_off803_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off803 v41 v43 v182 v184 k0_t54 k0_t56) a + S1x16.size a ≤ S196x384.size a := fun i v10 v41 v43 v182 v184 k0_hw205 k0_t54 k0_t56 k0_h1 => k0_hw205.1.2.2.2.2.2.2.2.2.2.2.2.2.2.2.2.2.2.2.2.2.2.2.2.2.2.2.2.2.2.2.1 k0_t54 k0_t56 k0_h1
theorem k0_off804_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off804 v41 v43 v182 v184 k0_t54 k0_t56) a + S1x16.size a ≤ S196x384.size a := fun i v10 v41 v43 v182 v184 k0_hw205 k0_t54 k0_t56 k0_h1 => k0_hw205.1.2.2.2.2.2.2.2.2.2.2.2.2.2.2.2.2.2.2.2.2.2.2.2.2.2.2.2.2.2.2.2 k0_t54 k0_t56 k0_h1
theorem k0_off805_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off805 v41 v43 v182 v184 k0_t54 k0_t56) a + S1x16.size a ≤ S196x384.size a := fun i v10 v41 v43 v182 v184 k0_hw205 k0_t54 k0_t56 k0_h1 => k0_hw205.2.1.1 k0_t54 k0_t56 k0_h1
theorem k0_off806_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off806 v41 v43 v182 v184 k0_t54 k0_t56) a + S1x16.size a ≤ S196x384.size a := fun i v10 v41 v43 v182 v184 k0_hw205 k0_t54 k0_t56 k0_h1 => k0_hw205.2.1.2.1 k0_t54 k0_t56 k0_h1
theorem k0_off807_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off807 v41 v43 v182 v184 k0_t54 k0_t56) a + S1x16.size a ≤ S196x384.size a := fun i v10 v41 v43 v182 v184 k0_hw205 k0_t54 k0_t56 k0_h1 => k0_hw205.2.1.2.2.1 k0_t54 k0_t56 k0_h1
theorem k0_off808_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off808 v41 v43 v182 v184 k0_t54 k0_t56) a + S1x16.size a ≤ S196x384.size a := fun i v10 v41 v43 v182 v184 k0_hw205 k0_t54 k0_t56 k0_h1 => k0_hw205.2.1.2.2.2.1 k0_t54 k0_t56 k0_h1
theorem k0_off809_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off809 v41 v43 v182 v184 k0_t54 k0_t56) a + S1x16.size a ≤ S196x384.size a := fun i v10 v41 v43 v182 v184 k0_hw205 k0_t54 k0_t56 k0_h1 => k0_hw205.2.1.2.2.2.2.1 k0_t54 k0_t56 k0_h1
theorem k0_off810_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off810 v41 v43 v182 v184 k0_t54 k0_t56) a + S1x16.size a ≤ S196x384.size a := fun i v10 v41 v43 v182 v184 k0_hw205 k0_t54 k0_t56 k0_h1 => k0_hw205.2.1.2.2.2.2.2.1 k0_t54 k0_t56 k0_h1
theorem k0_off811_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off811 v41 v43 v182 v184 k0_t54 k0_t56) a + S1x16.size a ≤ S196x384.size a := fun i v10 v41 v43 v182 v184 k0_hw205 k0_t54 k0_t56 k0_h1 => k0_hw205.2.1.2.2.2.2.2.2.1 k0_t54 k0_t56 k0_h1
theorem k0_off812_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off812 v41 v43 v182 v184 k0_t54 k0_t56) a + S1x16.size a ≤ S196x384.size a := fun i v10 v41 v43 v182 v184 k0_hw205 k0_t54 k0_t56 k0_h1 => k0_hw205.2.1.2.2.2.2.2.2.2.1 k0_t54 k0_t56 k0_h1
theorem k0_off813_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off813 v41 v43 v182 v184 k0_t54 k0_t56) a + S1x16.size a ≤ S196x384.size a := fun i v10 v41 v43 v182 v184 k0_hw205 k0_t54 k0_t56 k0_h1 => k0_hw205.2.1.2.2.2.2.2.2.2.2.1 k0_t54 k0_t56 k0_h1
theorem k0_off814_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off814 v41 v43 v182 v184 k0_t54 k0_t56) a + S1x16.size a ≤ S196x384.size a := fun i v10 v41 v43 v182 v184 k0_hw205 k0_t54 k0_t56 k0_h1 => k0_hw205.2.1.2.2.2.2.2.2.2.2.2.1 k0_t54 k0_t56 k0_h1
theorem k0_off815_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off815 v41 v43 v182 v184 k0_t54 k0_t56) a + S1x16.size a ≤ S196x384.size a := fun i v10 v41 v43 v182 v184 k0_hw205 k0_t54 k0_t56 k0_h1 => k0_hw205.2.1.2.2.2.2.2.2.2.2.2.2.1 k0_t54 k0_t56 k0_h1
theorem k0_off816_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off816 v41 v43 v182 v184 k0_t54 k0_t56) a + S1x16.size a ≤ S196x384.size a := fun i v10 v41 v43 v182 v184 k0_hw205 k0_t54 k0_t56 k0_h1 => k0_hw205.2.1.2.2.2.2.2.2.2.2.2.2.2.1 k0_t54 k0_t56 k0_h1
theorem k0_off817_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off817 v41 v43 v182 v184 k0_t54 k0_t56) a + S1x16.size a ≤ S196x384.size a := fun i v10 v41 v43 v182 v184 k0_hw205 k0_t54 k0_t56 k0_h1 => k0_hw205.2.1.2.2.2.2.2.2.2.2.2.2.2.2.1 k0_t54 k0_t56 k0_h1
theorem k0_off818_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off818 v41 v43 v182 v184 k0_t54 k0_t56) a + S1x16.size a ≤ S196x384.size a := fun i v10 v41 v43 v182 v184 k0_hw205 k0_t54 k0_t56 k0_h1 => k0_hw205.2.1.2.2.2.2.2.2.2.2.2.2.2.2.2.1 k0_t54 k0_t56 k0_h1
theorem k0_off819_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off819 v41 v43 v182 v184 k0_t54 k0_t56) a + S1x16.size a ≤ S196x384.size a := fun i v10 v41 v43 v182 v184 k0_hw205 k0_t54 k0_t56 k0_h1 => k0_hw205.2.1.2.2.2.2.2.2.2.2.2.2.2.2.2.2.1 k0_t54 k0_t56 k0_h1
theorem k0_off820_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off820 v41 v43 v182 v184 k0_t54 k0_t56) a + S1x16.size a ≤ S196x384.size a := fun i v10 v41 v43 v182 v184 k0_hw205 k0_t54 k0_t56 k0_h1 => k0_hw205.2.1.2.2.2.2.2.2.2.2.2.2.2.2.2.2.2.1 k0_t54 k0_t56 k0_h1
theorem k0_off821_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off821 v41 v43 v182 v184 k0_t54 k0_t56) a + S1x16.size a ≤ S196x384.size a := fun i v10 v41 v43 v182 v184 k0_hw205 k0_t54 k0_t56 k0_h1 => k0_hw205.2.1.2.2.2.2.2.2.2.2.2.2.2.2.2.2.2.2.1 k0_t54 k0_t56 k0_h1
theorem k0_off822_inb : ∀ (i : grid0.Coords) (v10 : BitVec 32) (v41 : BitVec 32) (v43 : BitVec 32) (v182 : BitVec 32) (v184 : BitVec 32) (k0_hw205 : k0_chk205 i v10 v41 v43 v182 v184) (k0_t54 : Fin (k0_t54_loop v41 v43).trips) (k0_t56 : Fin (k0_t56_loop v182 v184).trips), ∀ (k0_h1 : k0_cond1 i v10 = 1#1), ∀ a, (k0_off822 v41 v43 v182 v184 k0_t54 k0_t56) a + S1x16.size a ≤ S196x384.size a := fun i v10 v41 v43 v182 v184 k0_hw205 k0_t54 k0_t56 k0_h1 => k0_hw205.2.1.2.2.2.2.2.2.2.2.2.2.2.2.2.2.2.2.2.1 k0_t54 k0_t56 k0_h1
theorem k0_t58_ok : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips), ∀ (k0_h1 : k0_cond1 i v10 = 1#1), (k0_t58_loop v182 v184).OK := fun i v10 v41 v43 v182 v184 k0_hw205 k0_t57 k0_h1 => k0_hw205.2.1.2.2.2.2.2.2.2.2.2.2.2.2.2.2.2.2.2.2.1 k0_t57 k0_h1
theorem k0_off823_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off823 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.1 k0_t57 k0_t58 k0_h1
theorem k0_off824_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off824 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.1 k0_t57 k0_t58 k0_h1
theorem k0_off825_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off825 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.1 k0_t57 k0_t58 k0_h1
theorem k0_off826_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off826 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.1 k0_t57 k0_t58 k0_h1
theorem k0_off827_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off827 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.2.1 k0_t57 k0_t58 k0_h1
theorem k0_off828_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off828 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.2.2.1 k0_t57 k0_t58 k0_h1
theorem k0_off829_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off829 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.2.2.2.1 k0_t57 k0_t58 k0_h1
theorem k0_off830_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off830 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.2.2.2.2.1 k0_t57 k0_t58 k0_h1
theorem k0_off831_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off831 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.2.2.2.2.2.1 k0_t57 k0_t58 k0_h1
theorem k0_off832_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off832 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.2.2.2.2.2.2.1 k0_t57 k0_t58 k0_h1
theorem k0_off833_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off833 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.2.2.2.2.2.2.2.1 k0_t57 k0_t58 k0_h1
theorem k0_off834_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off834 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.2.2.2.2.2.2.2.2.1 k0_t57 k0_t58 k0_h1
theorem k0_off835_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off835 v41 v43 v182 v184 k0_t57 k0_t58) a + S1x16.size a ≤ S196x384.size a := fun i v10 v41 v43 v182 v184 k0_hw205 k0_t57 k0_t58 k0_h1 => k0_hw205.2.1.2.2.2.2.2.2.2.2.2.2.2.2.2.2.2.2.2.2.2.2.2.2.2.2.2.2.2.2.2.2.2 k0_t57 k0_t58 k0_h1
theorem k0_off836_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off836 v41 v43 v182 v184 k0_t57 k0_t58) a + S1x16.size a ≤ S196x384.size a := fun i v10 v41 v43 v182 v184 k0_hw205 k0_t57 k0_t58 k0_h1 => k0_hw205.2.2.1.1 k0_t57 k0_t58 k0_h1
theorem k0_off837_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off837 v41 v43 v182 v184 k0_t57 k0_t58) a + S1x16.size a ≤ S196x384.size a := fun i v10 v41 v43 v182 v184 k0_hw205 k0_t57 k0_t58 k0_h1 => k0_hw205.2.2.1.2.1 k0_t57 k0_t58 k0_h1
theorem k0_off838_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off838 v41 v43 v182 v184 k0_t57 k0_t58) a + S1x16.size a ≤ S196x384.size a := fun i v10 v41 v43 v182 v184 k0_hw205 k0_t57 k0_t58 k0_h1 => k0_hw205.2.2.1.2.2.1 k0_t57 k0_t58 k0_h1
theorem k0_off839_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off839 v41 v43 v182 v184 k0_t57 k0_t58) a + S1x16.size a ≤ S196x384.size a := fun i v10 v41 v43 v182 v184 k0_hw205 k0_t57 k0_t58 k0_h1 => k0_hw205.2.2.1.2.2.2.1 k0_t57 k0_t58 k0_h1
theorem k0_off840_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off840 v41 v43 v182 v184 k0_t57 k0_t58) a + S1x16.size a ≤ S196x384.size a := fun i v10 v41 v43 v182 v184 k0_hw205 k0_t57 k0_t58 k0_h1 => k0_hw205.2.2.1.2.2.2.2.1 k0_t57 k0_t58 k0_h1
theorem k0_off841_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off841 v41 v43 v182 v184 k0_t57 k0_t58) a + S1x16.size a ≤ S196x384.size a := fun i v10 v41 v43 v182 v184 k0_hw205 k0_t57 k0_t58 k0_h1 => k0_hw205.2.2.1.2.2.2.2.2.1 k0_t57 k0_t58 k0_h1
theorem k0_off842_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off842 v41 v43 v182 v184 k0_t57 k0_t58) a + S1x16.size a ≤ S196x384.size a := fun i v10 v41 v43 v182 v184 k0_hw205 k0_t57 k0_t58 k0_h1 => k0_hw205.2.2.1.2.2.2.2.2.2.1 k0_t57 k0_t58 k0_h1
theorem k0_off843_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off843 v41 v43 v182 v184 k0_t57 k0_t58) a + S1x16.size a ≤ S196x384.size a := fun i v10 v41 v43 v182 v184 k0_hw205 k0_t57 k0_t58 k0_h1 => k0_hw205.2.2.1.2.2.2.2.2.2.2.1 k0_t57 k0_t58 k0_h1
theorem k0_off844_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off844 v41 v43 v182 v184 k0_t57 k0_t58) a + S1x16.size a ≤ S196x384.size a := fun i v10 v41 v43 v182 v184 k0_hw205 k0_t57 k0_t58 k0_h1 => k0_hw205.2.2.1.2.2.2.2.2.2.2.2.1 k0_t57 k0_t58 k0_h1
theorem k0_off845_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off845 v41 v43 v182 v184 k0_t57 k0_t58) a + S1x16.size a ≤ S196x384.size a := fun i v10 v41 v43 v182 v184 k0_hw205 k0_t57 k0_t58 k0_h1 => k0_hw205.2.2.1.2.2.2.2.2.2.2.2.2.1 k0_t57 k0_t58 k0_h1
theorem k0_off846_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t58 : Fin (k0_t58_loop v182 v184).trips), ∀ (k0_h1 : k0_cond1 i v10 = 1#1), ∀ a, (k0_off846 v41 v43 v182 v184 k0_t57 k0_t58) a + S1x16.size a ≤ S196x384.size a := fun i v10 v41 v43 v182 v184 k0_hw205 k0_t57 k0_t58 k0_h1 => k0_hw205.2.2.1.2.2.2.2.2.2.2.2.2.2.1 k0_t57 k0_t58 k0_h1
theorem k0_t59_ok : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips), ∀ (k0_h1 : k0_cond1 i v10 = 1#1), (k0_t59_loop v182 v184).OK := fun i v10 v41 v43 v182 v184 k0_hw205 k0_t57 k0_h1 => k0_hw205.2.2.1.2.2.2.2.2.2.2.2.2.2.2.1 k0_t57 k0_h1
theorem k0_off847_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off847 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.1 k0_t57 k0_t59 k0_h1
theorem k0_off848_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off848 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.1 k0_t57 k0_t59 k0_h1
theorem k0_off849_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off849 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.1 k0_t57 k0_t59 k0_h1
theorem k0_off850_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off850 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.1 k0_t57 k0_t59 k0_h1
theorem k0_off851_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off851 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.1 k0_t57 k0_t59 k0_h1
theorem k0_off852_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off852 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.1 k0_t57 k0_t59 k0_h1
theorem k0_off853_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off853 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.1 k0_t57 k0_t59 k0_h1
theorem k0_off854_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off854 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.1 k0_t57 k0_t59 k0_h1
theorem k0_off855_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off855 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.1 k0_t57 k0_t59 k0_h1
theorem k0_off856_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off856 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.1 k0_t57 k0_t59 k0_h1
theorem k0_off857_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off857 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.1 k0_t57 k0_t59 k0_h1
theorem k0_off858_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off858 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.2.1 k0_t57 k0_t59 k0_h1
theorem k0_off859_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off859 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.2.2.1 k0_t57 k0_t59 k0_h1
theorem k0_off860_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off860 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.2.2.2.1 k0_t57 k0_t59 k0_h1
theorem k0_off861_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off861 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.2.2.2.2.1 k0_t57 k0_t59 k0_h1
theorem k0_off862_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off862 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.2.2.2.2.2.1 k0_t57 k0_t59 k0_h1
theorem k0_off863_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off863 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.2.2.2.2.2.2.1 k0_t57 k0_t59 k0_h1
theorem k0_off864_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off864 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.2.2.2.2.2.2.2.1 k0_t57 k0_t59 k0_h1
theorem k0_off865_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off865 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.2.2.2.2.2.2.2.2.1 k0_t57 k0_t59 k0_h1
theorem k0_off866_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off866 v41 v43 v182 v184 k0_t57 k0_t59) a + S1x16.size a ≤ S196x384.size a := fun i v10 v41 v43 v182 v184 k0_hw205 k0_t57 k0_t59 k0_h1 => k0_hw205.2.2.1.2.2.2.2.2.2.2.2.2.2.2.2.2.2.2.2.2.2.2.2.2.2.2.2.2.2.2.2.2.2.2 k0_t57 k0_t59 k0_h1
theorem k0_off867_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off867 v41 v43 v182 v184 k0_t57 k0_t59) a + S1x16.size a ≤ S196x384.size a := fun i v10 v41 v43 v182 v184 k0_hw205 k0_t57 k0_t59 k0_h1 => k0_hw205.2.2.2.1 k0_t57 k0_t59 k0_h1
theorem k0_off868_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off868 v41 v43 v182 v184 k0_t57 k0_t59) a + S1x16.size a ≤ S196x384.size a := fun i v10 v41 v43 v182 v184 k0_hw205 k0_t57 k0_t59 k0_h1 => k0_hw205.2.2.2.2.1 k0_t57 k0_t59 k0_h1
theorem k0_off869_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off869 v41 v43 v182 v184 k0_t57 k0_t59) a + S1x16.size a ≤ S196x384.size a := fun i v10 v41 v43 v182 v184 k0_hw205 k0_t57 k0_t59 k0_h1 => k0_hw205.2.2.2.2.2.1 k0_t57 k0_t59 k0_h1
theorem k0_off870_inb : ∀ (i : grid0.Coords) (v10 : BitVec 32) (v41 : BitVec 32) (v43 : BitVec 32) (v182 : BitVec 32) (v184 : BitVec 32) (k0_hw205 : k0_chk205 i v10 v41 v43 v182 v184) (k0_t57 : Fin (k0_t57_loop v41 v43).trips) (k0_t59 : Fin (k0_t59_loop v182 v184).trips), ∀ (k0_h1 : k0_cond1 i v10 = 1#1), ∀ a, (k0_off870 v41 v43 v182 v184 k0_t57 k0_t59) a + S1x16.size a ≤ S196x384.size a := fun i v10 v41 v43 v182 v184 k0_hw205 k0_t57 k0_t59 k0_h1 => k0_hw205.2.2.2.2.2.2 k0_t57 k0_t59 k0_h1

def k0_chk206 (i : grid0.Coords) (v10 : BitVec 32) (v202 : IVec S16 32) : Prop :=
  (∀ (k0_h1 : k0_cond1 i v10 = 1#1), ∀ a x, ((![v202] : Fin 1 → IVec S16 32) a x).toNat < S18816.size a)
theorem k0_idx193_inb : ∀ (i : grid0.Coords) (v10 : BitVec 32) (v202 : IVec S16 32) (k0_hw206 : k0_chk206 i v10 v202), ∀ (k0_h1 : k0_cond1 i v10 = 1#1), ∀ a x, ((![v202] : Fin 1 → IVec S16 32) a x).toNat < S18816.size a := fun i v10 v202 k0_hw206 k0_h1 => k0_hw206 k0_h1

def k0_chk207 (i : grid0.Coords) (v10 : BitVec 32) (v207 : IVec S16 32) : Prop :=
  (∀ (k0_h1 : k0_cond1 i v10 = 1#1), ∀ a x, ((![v207] : Fin 1 → IVec S16 32) a x).toNat < S18816.size a)
theorem k0_idx194_inb : ∀ (i : grid0.Coords) (v10 : BitVec 32) (v207 : IVec S16 32) (k0_hw207 : k0_chk207 i v10 v207), ∀ (k0_h1 : k0_cond1 i v10 = 1#1), ∀ a x, ((![v207] : Fin 1 → IVec S16 32) a x).toNat < S18816.size a := fun i v10 v207 k0_hw207 k0_h1 => k0_hw207 k0_h1

def k0_chk208 (i : grid0.Coords) (v10 : BitVec 32) (v212 : IVec S16 32) : Prop :=
  (∀ (k0_h1 : k0_cond1 i v10 = 1#1), ∀ a x, ((![v212] : Fin 1 → IVec S16 32) a x).toNat < S18816.size a)
theorem k0_idx195_inb : ∀ (i : grid0.Coords) (v10 : BitVec 32) (v212 : IVec S16 32) (k0_hw208 : k0_chk208 i v10 v212), ∀ (k0_h1 : k0_cond1 i v10 = 1#1), ∀ a x, ((![v212] : Fin 1 → IVec S16 32) a x).toNat < S18816.size a := fun i v10 v212 k0_hw208 k0_h1 => k0_hw208 k0_h1

def k0_chk209 (i : grid0.Coords) (v10 : BitVec 32) (v217 : IVec S16 32) : Prop :=
  (∀ (k0_h1 : k0_cond1 i v10 = 1#1), ∀ a x, ((![v217] : Fin 1 → IVec S16 32) a x).toNat < S18816.size a)
theorem k0_idx196_inb : ∀ (i : grid0.Coords) (v10 : BitVec 32) (v217 : IVec S16 32) (k0_hw209 : k0_chk209 i v10 v217), ∀ (k0_h1 : k0_cond1 i v10 = 1#1), ∀ a x, ((![v217] : Fin 1 → IVec S16 32) a x).toNat < S18816.size a := fun i v10 v217 k0_hw209 k0_h1 => k0_hw209 k0_h1

def k0_chk210 (i : grid0.Coords) (v10 : BitVec 32) (v222 : IVec S16 32) : Prop :=
  (∀ (k0_h1 : k0_cond1 i v10 = 1#1), ∀ a x, ((![v222] : Fin 1 → IVec S16 32) a x).toNat < S18816.size a)
theorem k0_idx197_inb : ∀ (i : grid0.Coords) (v10 : BitVec 32) (v222 : IVec S16 32) (k0_hw210 : k0_chk210 i v10 v222), ∀ (k0_h1 : k0_cond1 i v10 = 1#1), ∀ a x, ((![v222] : Fin 1 → IVec S16 32) a x).toNat < S18816.size a := fun i v10 v222 k0_hw210 k0_h1 => k0_hw210 k0_h1

def k0_chk211 (i : grid0.Coords) (v10 : BitVec 32) (v227 : IVec S16 32) : Prop :=
  (∀ (k0_h1 : k0_cond1 i v10 = 1#1), ∀ a x, ((![v227] : Fin 1 → IVec S16 32) a x).toNat < S18816.size a)
theorem k0_idx198_inb : ∀ (i : grid0.Coords) (v10 : BitVec 32) (v227 : IVec S16 32) (k0_hw211 : k0_chk211 i v10 v227), ∀ (k0_h1 : k0_cond1 i v10 = 1#1), ∀ a x, ((![v227] : Fin 1 → IVec S16 32) a x).toNat < S18816.size a := fun i v10 v227 k0_hw211 k0_h1 => k0_hw211 k0_h1

def k0_chk212 (i : grid0.Coords) (v10 : BitVec 32) (v232 : IVec S16 32) : Prop :=
  (∀ (k0_h1 : k0_cond1 i v10 = 1#1), ∀ a x, ((![v232] : Fin 1 → IVec S16 32) a x).toNat < S18816.size a)
theorem k0_idx199_inb : ∀ (i : grid0.Coords) (v10 : BitVec 32) (v232 : IVec S16 32) (k0_hw212 : k0_chk212 i v10 v232), ∀ (k0_h1 : k0_cond1 i v10 = 1#1), ∀ a x, ((![v232] : Fin 1 → IVec S16 32) a x).toNat < S18816.size a := fun i v10 v232 k0_hw212 k0_h1 => k0_hw212 k0_h1

def k0_chk213 (i : grid0.Coords) (v10 : BitVec 32) (v237 : IVec S16 32) : Prop :=
  (∀ (k0_h1 : k0_cond1 i v10 = 1#1), ∀ a x, ((![v237] : Fin 1 → IVec S16 32) a x).toNat < S18816.size a)
theorem k0_idx200_inb : ∀ (i : grid0.Coords) (v10 : BitVec 32) (v237 : IVec S16 32) (k0_hw213 : k0_chk213 i v10 v237), ∀ (k0_h1 : k0_cond1 i v10 = 1#1), ∀ a x, ((![v237] : Fin 1 → IVec S16 32) a x).toNat < S18816.size a := fun i v10 v237 k0_hw213 k0_h1 => k0_hw213 k0_h1

def k0_chk214 (i : grid0.Coords) (v10 : BitVec 32) (v242 : IVec S16 32) : Prop :=
  (∀ (k0_h1 : k0_cond1 i v10 = 1#1), ∀ a x, ((![v242] : Fin 1 → IVec S16 32) a x).toNat < S18816.size a)
theorem k0_idx201_inb : ∀ (i : grid0.Coords) (v10 : BitVec 32) (v242 : IVec S16 32) (k0_hw214 : k0_chk214 i v10 v242), ∀ (k0_h1 : k0_cond1 i v10 = 1#1), ∀ a x, ((![v242] : Fin 1 → IVec S16 32) a x).toNat < S18816.size a := fun i v10 v242 k0_hw214 k0_h1 => k0_hw214 k0_h1

def k0_chk215 (i : grid0.Coords) (v10 : BitVec 32) (v247 : IVec S16 32) : Prop :=
  (∀ (k0_h1 : k0_cond1 i v10 = 1#1), ∀ a x, ((![v247] : Fin 1 → IVec S16 32) a x).toNat < S18816.size a)
theorem k0_idx202_inb : ∀ (i : grid0.Coords) (v10 : BitVec 32) (v247 : IVec S16 32) (k0_hw215 : k0_chk215 i v10 v247), ∀ (k0_h1 : k0_cond1 i v10 = 1#1), ∀ a x, ((![v247] : Fin 1 → IVec S16 32) a x).toNat < S18816.size a := fun i v10 v247 k0_hw215 k0_h1 => k0_hw215 k0_h1

def k0_chk216 (i : grid0.Coords) (v10 : BitVec 32) (v252 : IVec S16 32) : Prop :=
  (∀ (k0_h1 : k0_cond1 i v10 = 1#1), ∀ a x, ((![v252] : Fin 1 → IVec S16 32) a x).toNat < S18816.size a)
theorem k0_idx203_inb : ∀ (i : grid0.Coords) (v10 : BitVec 32) (v252 : IVec S16 32) (k0_hw216 : k0_chk216 i v10 v252), ∀ (k0_h1 : k0_cond1 i v10 = 1#1), ∀ a x, ((![v252] : Fin 1 → IVec S16 32) a x).toNat < S18816.size a := fun i v10 v252 k0_hw216 k0_h1 => k0_hw216 k0_h1

def k0_chk217 (i : grid0.Coords) (v10 : BitVec 32) (v257 : IVec S16 32) : Prop :=
  (∀ (k0_h1 : k0_cond1 i v10 = 1#1), ∀ a x, ((![v257] : Fin 1 → IVec S16 32) a x).toNat < S18816.size a)
theorem k0_idx204_inb : ∀ (i : grid0.Coords) (v10 : BitVec 32) (v257 : IVec S16 32) (k0_hw217 : k0_chk217 i v10 v257), ∀ (k0_h1 : k0_cond1 i v10 = 1#1), ∀ a x, ((![v257] : Fin 1 → IVec S16 32) a x).toNat < S18816.size a := fun i v10 v257 k0_hw217 k0_h1 => k0_hw217 k0_h1

variable {F : FTy → Type} [FloatOps F]

def k0_chk218 (i : grid0.Coords) (v10 : BitVec 32) (v262 : IVec S16 32) : Prop :=
  (∀ (k0_h1 : k0_cond1 i v10 = 1#1), ∀ a x, ((![v262] : Fin 1 → IVec S16 32) a x).toNat < S18816.size a)
theorem k0_idx205_inb : ∀ (i : grid0.Coords) (v10 : BitVec 32) (v262 : IVec S16 32) (k0_hw218 : k0_chk218 i v10 v262), ∀ (k0_h1 : k0_cond1 i v10 = 1#1), ∀ a x, ((![v262] : Fin 1 → IVec S16 32) a x).toNat < S18816.size a := fun i v10 v262 k0_hw218 k0_h1 => k0_hw218 k0_h1

def k0_chk219 (i : grid0.Coords) (v10 : BitVec 32) (v267 : IVec S16 32) : Prop :=
  (∀ (k0_h1 : k0_cond1 i v10 = 1#1), ∀ a x, ((![v267] : Fin 1 → IVec S16 32) a x).toNat < S18816.size a)
theorem k0_idx206_inb : ∀ (i : grid0.Coords) (v10 : BitVec 32) (v267 : IVec S16 32) (k0_hw219 : k0_chk219 i v10 v267), ∀ (k0_h1 : k0_cond1 i v10 = 1#1), ∀ a x, ((![v267] : Fin 1 → IVec S16 32) a x).toNat < S18816.size a := fun i v10 v267 k0_hw219 k0_h1 => k0_hw219 k0_h1

def k0_chk220 (i : grid0.Coords) (v10 : BitVec 32) (v272 : IVec S16 32) : Prop :=
  (∀ (k0_h1 : k0_cond1 i v10 = 1#1), ∀ a x, ((![v272] : Fin 1 → IVec S16 32) a x).toNat < S18816.size a)
theorem k0_idx207_inb : ∀ (i : grid0.Coords) (v10 : BitVec 32) (v272 : IVec S16 32) (k0_hw220 : k0_chk220 i v10 v272), ∀ (k0_h1 : k0_cond1 i v10 = 1#1), ∀ a x, ((![v272] : Fin 1 → IVec S16 32) a x).toNat < S18816.size a := fun i v10 v272 k0_hw220 k0_h1 => k0_hw220 k0_h1

def k0_chk221 (i : grid0.Coords) (v10 : BitVec 32) (v277 : IVec S16 32) : Prop :=
  (∀ (k0_h1 : k0_cond1 i v10 = 1#1), ∀ a x, ((![v277] : Fin 1 → IVec S16 32) a x).toNat < S18816.size a)
theorem k0_idx208_inb : ∀ (i : grid0.Coords) (v10 : BitVec 32) (v277 : IVec S16 32) (k0_hw221 : k0_chk221 i v10 v277), ∀ (k0_h1 : k0_cond1 i v10 = 1#1), ∀ a x, ((![v277] : Fin 1 → IVec S16 32) a x).toNat < S18816.size a := fun i v10 v277 k0_hw221 k0_h1 => k0_hw221 k0_h1

def k0_chk222 (i : grid0.Coords) (v10 : BitVec 32) (v282 : IVec S16 32) : Prop :=
  (∀ (k0_h1 : k0_cond1 i v10 = 1#1), ∀ a x, ((![v282] : Fin 1 → IVec S16 32) a x).toNat < S18816.size a)
theorem k0_idx209_inb : ∀ (i : grid0.Coords) (v10 : BitVec 32) (v282 : IVec S16 32) (k0_hw222 : k0_chk222 i v10 v282), ∀ (k0_h1 : k0_cond1 i v10 = 1#1), ∀ a x, ((![v282] : Fin 1 → IVec S16 32) a x).toNat < S18816.size a := fun i v10 v282 k0_hw222 k0_h1 => k0_hw222 k0_h1

def k0_chk223 (i : grid0.Coords) (v10 : BitVec 32) (v287 : IVec S16 32) : Prop :=
  (∀ (k0_h1 : k0_cond1 i v10 = 1#1), ∀ a x, ((![v287] : Fin 1 → IVec S16 32) a x).toNat < S18816.size a)
theorem k0_idx210_inb : ∀ (i : grid0.Coords) (v10 : BitVec 32) (v287 : IVec S16 32) (k0_hw223 : k0_chk223 i v10 v287), ∀ (k0_h1 : k0_cond1 i v10 = 1#1), ∀ a x, ((![v287] : Fin 1 → IVec S16 32) a x).toNat < S18816.size a := fun i v10 v287 k0_hw223 k0_h1 => k0_hw223 k0_h1

def k0_chk224 (i : grid0.Coords) (v10 : BitVec 32) (v292 : IVec S16 32) : Prop :=
  (∀ (k0_h1 : k0_cond1 i v10 = 1#1), ∀ a x, ((![v292] : Fin 1 → IVec S16 32) a x).toNat < S18816.size a)
theorem k0_idx211_inb : ∀ (i : grid0.Coords) (v10 : BitVec 32) (v292 : IVec S16 32) (k0_hw224 : k0_chk224 i v10 v292), ∀ (k0_h1 : k0_cond1 i v10 = 1#1), ∀ a x, ((![v292] : Fin 1 → IVec S16 32) a x).toNat < S18816.size a := fun i v10 v292 k0_hw224 k0_h1 => k0_hw224 k0_h1

def k0_chk225 (i : grid0.Coords) (v10 : BitVec 32) (v297 : IVec S16 32) : Prop :=
  (∀ (k0_h1 : k0_cond1 i v10 = 1#1), ∀ a x, ((![v297] : Fin 1 → IVec S16 32) a x).toNat < S18816.size a)
theorem k0_idx212_inb : ∀ (i : grid0.Coords) (v10 : BitVec 32) (v297 : IVec S16 32) (k0_hw225 : k0_chk225 i v10 v297), ∀ (k0_h1 : k0_cond1 i v10 = 1#1), ∀ a x, ((![v297] : Fin 1 → IVec S16 32) a x).toNat < S18816.size a := fun i v10 v297 k0_hw225 k0_h1 => k0_hw225 k0_h1

def k0_chk226 (i : grid0.Coords) (v10 : BitVec 32) (v302 : IVec S16 32) : Prop :=
  (∀ (k0_h1 : k0_cond1 i v10 = 1#1), ∀ a x, ((![v302] : Fin 1 → IVec S16 32) a x).toNat < S18816.size a)
theorem k0_idx213_inb : ∀ (i : grid0.Coords) (v10 : BitVec 32) (v302 : IVec S16 32) (k0_hw226 : k0_chk226 i v10 v302), ∀ (k0_h1 : k0_cond1 i v10 = 1#1), ∀ a x, ((![v302] : Fin 1 → IVec S16 32) a x).toNat < S18816.size a := fun i v10 v302 k0_hw226 k0_h1 => k0_hw226 k0_h1

def k0_chk227 (i : grid0.Coords) (v10 : BitVec 32) (v307 : IVec S16 32) : Prop :=
  (∀ (k0_h1 : k0_cond1 i v10 = 1#1), ∀ a x, ((![v307] : Fin 1 → IVec S16 32) a x).toNat < S18816.size a)
theorem k0_idx214_inb : ∀ (i : grid0.Coords) (v10 : BitVec 32) (v307 : IVec S16 32) (k0_hw227 : k0_chk227 i v10 v307), ∀ (k0_h1 : k0_cond1 i v10 = 1#1), ∀ a x, ((![v307] : Fin 1 → IVec S16 32) a x).toNat < S18816.size a := fun i v10 v307 k0_hw227 k0_h1 => k0_hw227 k0_h1

def k0_chk228 (i : grid0.Coords) (v10 : BitVec 32) (v312 : IVec S16 32) : Prop :=
  (∀ (k0_h1 : k0_cond1 i v10 = 1#1), ∀ a x, ((![v312] : Fin 1 → IVec S16 32) a x).toNat < S18816.size a)
theorem k0_idx215_inb : ∀ (i : grid0.Coords) (v10 : BitVec 32) (v312 : IVec S16 32) (k0_hw228 : k0_chk228 i v10 v312), ∀ (k0_h1 : k0_cond1 i v10 = 1#1), ∀ a x, ((![v312] : Fin 1 → IVec S16 32) a x).toNat < S18816.size a := fun i v10 v312 k0_hw228 k0_h1 => k0_hw228 k0_h1

def k0_chk229 (i : grid0.Coords) (v10 : BitVec 32) (v317 : IVec S16 32) : Prop :=
  (∀ (k0_h1 : k0_cond1 i v10 = 1#1), ∀ a x, ((![v317] : Fin 1 → IVec S16 32) a x).toNat < S18816.size a)
theorem k0_idx216_inb : ∀ (i : grid0.Coords) (v10 : BitVec 32) (v317 : IVec S16 32) (k0_hw229 : k0_chk229 i v10 v317), ∀ (k0_h1 : k0_cond1 i v10 = 1#1), ∀ a x, ((![v317] : Fin 1 → IVec S16 32) a x).toNat < S18816.size a := fun i v10 v317 k0_hw229 k0_h1 => k0_hw229 k0_h1
@[reducible] def k0_t60_loop (v41 : BitVec 32) (v43 : BitVec 32) : Scf.Loop 32 :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_111 : BitVec 32 := 1#32
  ⟨v41, v327, c1_i32_111⟩
@[reducible] def k0_t61_loop (v319 : BitVec 32) (v321 : BitVec 32) : Scf.Loop 32 :=
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_376 : BitVec 32 := 1#32
  ⟨v319, v1008, c1_i32_376⟩

def k0_off871 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1012 : Index := Scalar.indexCast v1011
  let c0_378 : Index := 0#32
  ![v1012.toNat, 0]
def k0_off872 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1015 : Index := Scalar.indexCast v1011
  let c16 : Index := 16#32
  ![v1015.toNat, 16]
def k0_off873 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1018 : Index := Scalar.indexCast v1011
  let c32 : Index := 32#32
  ![v1018.toNat, 32]
def k0_off874 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1021 : Index := Scalar.indexCast v1011
  let c48 : Index := 48#32
  ![v1021.toNat, 48]
def k0_off875 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1024 : Index := Scalar.indexCast v1011
  let c64 : Index := 64#32
  ![v1024.toNat, 64]
def k0_off876 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1027 : Index := Scalar.indexCast v1011
  let c80 : Index := 80#32
  ![v1027.toNat, 80]
def k0_off877 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1030 : Index := Scalar.indexCast v1011
  let c96 : Index := 96#32
  ![v1030.toNat, 96]
def k0_off878 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1033 : Index := Scalar.indexCast v1011
  let c112 : Index := 112#32
  ![v1033.toNat, 112]
def k0_off879 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1036 : Index := Scalar.indexCast v1011
  let c128 : Index := 128#32
  ![v1036.toNat, 128]
def k0_off880 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1039 : Index := Scalar.indexCast v1011
  let c144 : Index := 144#32
  ![v1039.toNat, 144]
def k0_off881 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1042 : Index := Scalar.indexCast v1011
  let c160 : Index := 160#32
  ![v1042.toNat, 160]
def k0_off882 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1045 : Index := Scalar.indexCast v1011
  let c176 : Index := 176#32
  ![v1045.toNat, 176]
def k0_off883 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1048 : Index := Scalar.indexCast v1011
  let c192 : Index := 192#32
  ![v1048.toNat, 192]
def k0_off884 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1051 : Index := Scalar.indexCast v1011
  let c208 : Index := 208#32
  ![v1051.toNat, 208]
def k0_off885 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1054 : Index := Scalar.indexCast v1011
  let c224 : Index := 224#32
  ![v1054.toNat, 224]
def k0_off886 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1057 : Index := Scalar.indexCast v1011
  let c240 : Index := 240#32
  ![v1057.toNat, 240]
def k0_off887 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1060 : Index := Scalar.indexCast v1011
  let c256 : Index := 256#32
  ![v1060.toNat, 256]
def k0_off888 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1063 : Index := Scalar.indexCast v1011
  let c272 : Index := 272#32
  ![v1063.toNat, 272]
def k0_off889 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1066 : Index := Scalar.indexCast v1011
  let c288 : Index := 288#32
  ![v1066.toNat, 288]
def k0_off890 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1069 : Index := Scalar.indexCast v1011
  let c304 : Index := 304#32
  ![v1069.toNat, 304]
def k0_off891 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1072 : Index := Scalar.indexCast v1011
  let c320 : Index := 320#32
  ![v1072.toNat, 320]
def k0_off892 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1075 : Index := Scalar.indexCast v1011
  let c336 : Index := 336#32
  ![v1075.toNat, 336]
def k0_off893 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1078 : Index := Scalar.indexCast v1011
  let c352 : Index := 352#32
  ![v1078.toNat, 352]
def k0_off894 (v41 : BitVec 32) (v43 : BitVec 32) (v319 : BitVec 32) (v321 : BitVec 32) (k0_t60 : Fin (k0_t60_loop v41 v43).trips) (k0_t61 : Fin (k0_t61_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let c1_i32_376 : BitVec 32 := 1#32
  let arg36 : BitVec 32 := Scf.iv v319 c1_i32_376 k0_t61
  let v1011 : BitVec 32 := Scalar.addi v1003 arg36
  let v1081 : Index := Scalar.indexCast v1011
  let c368 : Index := 368#32
  ![v1081.toNat, 368]
@[reducible] def k0_t62_loop (v319 : BitVec 32) (v321 : BitVec 32) : Scf.Loop 32 :=
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let v1005 : BitVec 32 := Scalar.addi v319 v1004
  let c1_i32_377 : BitVec 32 := 1#32
  ⟨v1008, v1005, c1_i32_377⟩
def k0_off895 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1012 : Index := Scalar.indexCast v1011
  let c0_378 : Index := 0#32
  ![v1012.toNat, 0]
def k0_off896 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1015 : Index := Scalar.indexCast v1011
  let c16 : Index := 16#32
  ![v1015.toNat, 16]
def k0_off897 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1018 : Index := Scalar.indexCast v1011
  let c32 : Index := 32#32
  ![v1018.toNat, 32]
def k0_off898 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1021 : Index := Scalar.indexCast v1011
  let c48 : Index := 48#32
  ![v1021.toNat, 48]
def k0_off899 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1024 : Index := Scalar.indexCast v1011
  let c64 : Index := 64#32
  ![v1024.toNat, 64]
def k0_off900 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1027 : Index := Scalar.indexCast v1011
  let c80 : Index := 80#32
  ![v1027.toNat, 80]
def k0_off901 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1030 : Index := Scalar.indexCast v1011
  let c96 : Index := 96#32
  ![v1030.toNat, 96]
def k0_off902 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1033 : Index := Scalar.indexCast v1011
  let c112 : Index := 112#32
  ![v1033.toNat, 112]
def k0_off903 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1036 : Index := Scalar.indexCast v1011
  let c128 : Index := 128#32
  ![v1036.toNat, 128]
def k0_off904 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1039 : Index := Scalar.indexCast v1011
  let c144 : Index := 144#32
  ![v1039.toNat, 144]
def k0_off905 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1042 : Index := Scalar.indexCast v1011
  let c160 : Index := 160#32
  ![v1042.toNat, 160]
def k0_off906 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1045 : Index := Scalar.indexCast v1011
  let c176 : Index := 176#32
  ![v1045.toNat, 176]
def k0_off907 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1048 : Index := Scalar.indexCast v1011
  let c192 : Index := 192#32
  ![v1048.toNat, 192]
def k0_off908 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1051 : Index := Scalar.indexCast v1011
  let c208 : Index := 208#32
  ![v1051.toNat, 208]
def k0_off909 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1054 : Index := Scalar.indexCast v1011
  let c224 : Index := 224#32
  ![v1054.toNat, 224]
def k0_off910 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1057 : Index := Scalar.indexCast v1011
  let c240 : Index := 240#32
  ![v1057.toNat, 240]
def k0_off911 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1060 : Index := Scalar.indexCast v1011
  let c256 : Index := 256#32
  ![v1060.toNat, 256]
def k0_off912 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1063 : Index := Scalar.indexCast v1011
  let c272 : Index := 272#32
  ![v1063.toNat, 272]
def k0_off913 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1066 : Index := Scalar.indexCast v1011
  let c288 : Index := 288#32
  ![v1066.toNat, 288]
def k0_off914 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1069 : Index := Scalar.indexCast v1011
  let c304 : Index := 304#32
  ![v1069.toNat, 304]
def k0_off915 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1072 : Index := Scalar.indexCast v1011
  let c320 : Index := 320#32
  ![v1072.toNat, 320]
def k0_off916 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1075 : Index := Scalar.indexCast v1011
  let c336 : Index := 336#32
  ![v1075.toNat, 336]
def k0_off917 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1078 : Index := Scalar.indexCast v1011
  let c352 : Index := 352#32
  ![v1078.toNat, 352]
def k0_off918 (v41 : BitVec 32) (v43 : BitVec 32) (v319 : BitVec 32) (v321 : BitVec 32) (k0_t60 : Fin (k0_t60_loop v41 v43).trips) (k0_t62 : Fin (k0_t62_loop v319 v321).trips) : Fin 2 → Nat :=
  let c1_i32_111 : BitVec 32 := 1#32
  let arg11 : BitVec 32 := Scf.iv v41 c1_i32_111 k0_t60
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t62
  let v1011 : BitVec 32 := Scalar.addi v1003 arg36
  let v1081 : Index := Scalar.indexCast v1011
  let c368 : Index := 368#32
  ![v1081.toNat, 368]
@[reducible] def k0_t63_loop (v41 : BitVec 32) (v43 : BitVec 32) : Scf.Loop 32 :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let v324 : BitVec 32 := Scalar.addi v41 v323
  let c1_i32_112 : BitVec 32 := 1#32
  ⟨v327, v324, c1_i32_112⟩
@[reducible] def k0_t64_loop (v319 : BitVec 32) (v321 : BitVec 32) : Scf.Loop 32 :=
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_376 : BitVec 32 := 1#32
  ⟨v319, v1008, c1_i32_376⟩
def k0_off919 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1012 : Index := Scalar.indexCast v1011
  let c0_378 : Index := 0#32
  ![v1012.toNat, 0]
def k0_off920 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1015 : Index := Scalar.indexCast v1011
  let c16 : Index := 16#32
  ![v1015.toNat, 16]
def k0_off921 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1018 : Index := Scalar.indexCast v1011
  let c32 : Index := 32#32
  ![v1018.toNat, 32]
def k0_off922 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1021 : Index := Scalar.indexCast v1011
  let c48 : Index := 48#32
  ![v1021.toNat, 48]
def k0_off923 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1024 : Index := Scalar.indexCast v1011
  let c64 : Index := 64#32
  ![v1024.toNat, 64]
def k0_off924 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1027 : Index := Scalar.indexCast v1011
  let c80 : Index := 80#32
  ![v1027.toNat, 80]
def k0_off925 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1030 : Index := Scalar.indexCast v1011
  let c96 : Index := 96#32
  ![v1030.toNat, 96]
def k0_off926 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1033 : Index := Scalar.indexCast v1011
  let c112 : Index := 112#32
  ![v1033.toNat, 112]
def k0_off927 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1036 : Index := Scalar.indexCast v1011
  let c128 : Index := 128#32
  ![v1036.toNat, 128]
def k0_off928 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1039 : Index := Scalar.indexCast v1011
  let c144 : Index := 144#32
  ![v1039.toNat, 144]
def k0_off929 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1042 : Index := Scalar.indexCast v1011
  let c160 : Index := 160#32
  ![v1042.toNat, 160]
def k0_off930 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1045 : Index := Scalar.indexCast v1011
  let c176 : Index := 176#32
  ![v1045.toNat, 176]
def k0_off931 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1048 : Index := Scalar.indexCast v1011
  let c192 : Index := 192#32
  ![v1048.toNat, 192]
def k0_off932 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1051 : Index := Scalar.indexCast v1011
  let c208 : Index := 208#32
  ![v1051.toNat, 208]
def k0_off933 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1054 : Index := Scalar.indexCast v1011
  let c224 : Index := 224#32
  ![v1054.toNat, 224]
def k0_off934 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1057 : Index := Scalar.indexCast v1011
  let c240 : Index := 240#32
  ![v1057.toNat, 240]
def k0_off935 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1060 : Index := Scalar.indexCast v1011
  let c256 : Index := 256#32
  ![v1060.toNat, 256]
def k0_off936 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1063 : Index := Scalar.indexCast v1011
  let c272 : Index := 272#32
  ![v1063.toNat, 272]
def k0_off937 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1066 : Index := Scalar.indexCast v1011
  let c288 : Index := 288#32
  ![v1066.toNat, 288]
def k0_off938 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1069 : Index := Scalar.indexCast v1011
  let c304 : Index := 304#32
  ![v1069.toNat, 304]
def k0_off939 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1072 : Index := Scalar.indexCast v1011
  let c320 : Index := 320#32
  ![v1072.toNat, 320]
def k0_off940 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1075 : Index := Scalar.indexCast v1011
  let c336 : Index := 336#32
  ![v1075.toNat, 336]
def k0_off941 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1078 : Index := Scalar.indexCast v1011
  let c352 : Index := 352#32
  ![v1078.toNat, 352]
def k0_off942 (v41 : BitVec 32) (v43 : BitVec 32) (v319 : BitVec 32) (v321 : BitVec 32) (k0_t63 : Fin (k0_t63_loop v41 v43).trips) (k0_t64 : Fin (k0_t64_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let c1_i32_376 : BitVec 32 := 1#32
  let arg36 : BitVec 32 := Scf.iv v319 c1_i32_376 k0_t64
  let v1011 : BitVec 32 := Scalar.addi v1003 arg36
  let v1081 : Index := Scalar.indexCast v1011
  let c368 : Index := 368#32
  ![v1081.toNat, 368]
@[reducible] def k0_t65_loop (v319 : BitVec 32) (v321 : BitVec 32) : Scf.Loop 32 :=
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let v1005 : BitVec 32 := Scalar.addi v319 v1004
  let c1_i32_377 : BitVec 32 := 1#32
  ⟨v1008, v1005, c1_i32_377⟩
def k0_off943 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1012 : Index := Scalar.indexCast v1011
  let c0_378 : Index := 0#32
  ![v1012.toNat, 0]
def k0_off944 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1015 : Index := Scalar.indexCast v1011
  let c16 : Index := 16#32
  ![v1015.toNat, 16]
def k0_off945 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1018 : Index := Scalar.indexCast v1011
  let c32 : Index := 32#32
  ![v1018.toNat, 32]
def k0_off946 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1021 : Index := Scalar.indexCast v1011
  let c48 : Index := 48#32
  ![v1021.toNat, 48]
def k0_off947 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1024 : Index := Scalar.indexCast v1011
  let c64 : Index := 64#32
  ![v1024.toNat, 64]
def k0_off948 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1027 : Index := Scalar.indexCast v1011
  let c80 : Index := 80#32
  ![v1027.toNat, 80]
def k0_off949 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1030 : Index := Scalar.indexCast v1011
  let c96 : Index := 96#32
  ![v1030.toNat, 96]
def k0_off950 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1033 : Index := Scalar.indexCast v1011
  let c112 : Index := 112#32
  ![v1033.toNat, 112]
def k0_off951 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1036 : Index := Scalar.indexCast v1011
  let c128 : Index := 128#32
  ![v1036.toNat, 128]
def k0_off952 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1039 : Index := Scalar.indexCast v1011
  let c144 : Index := 144#32
  ![v1039.toNat, 144]
def k0_off953 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1042 : Index := Scalar.indexCast v1011
  let c160 : Index := 160#32
  ![v1042.toNat, 160]
def k0_off954 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1045 : Index := Scalar.indexCast v1011
  let c176 : Index := 176#32
  ![v1045.toNat, 176]
def k0_off955 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1048 : Index := Scalar.indexCast v1011
  let c192 : Index := 192#32
  ![v1048.toNat, 192]
def k0_off956 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1051 : Index := Scalar.indexCast v1011
  let c208 : Index := 208#32
  ![v1051.toNat, 208]
def k0_off957 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1054 : Index := Scalar.indexCast v1011
  let c224 : Index := 224#32
  ![v1054.toNat, 224]
def k0_off958 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1057 : Index := Scalar.indexCast v1011
  let c240 : Index := 240#32
  ![v1057.toNat, 240]
def k0_off959 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1060 : Index := Scalar.indexCast v1011
  let c256 : Index := 256#32
  ![v1060.toNat, 256]
def k0_off960 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1063 : Index := Scalar.indexCast v1011
  let c272 : Index := 272#32
  ![v1063.toNat, 272]
def k0_off961 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1066 : Index := Scalar.indexCast v1011
  let c288 : Index := 288#32
  ![v1066.toNat, 288]
def k0_off962 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1069 : Index := Scalar.indexCast v1011
  let c304 : Index := 304#32
  ![v1069.toNat, 304]
def k0_off963 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1072 : Index := Scalar.indexCast v1011
  let c320 : Index := 320#32
  ![v1072.toNat, 320]
def k0_off964 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1075 : Index := Scalar.indexCast v1011
  let c336 : Index := 336#32
  ![v1075.toNat, 336]
def k0_off965 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1078 : Index := Scalar.indexCast v1011
  let c352 : Index := 352#32
  ![v1078.toNat, 352]
def k0_off966 (v41 : BitVec 32) (v43 : BitVec 32) (v319 : BitVec 32) (v321 : BitVec 32) (k0_t63 : Fin (k0_t63_loop v41 v43).trips) (k0_t65 : Fin (k0_t65_loop v319 v321).trips) : Fin 2 → Nat :=
  let v323 : BitVec 32 := Scalar.subi v43 v41
  let c1_i32_110 : BitVec 32 := 1#32
  let v325 : BitVec 32 := Scalar.divsi v323 c1_i32_110
  let v326 : BitVec 32 := Scalar.muli v325 c1_i32_110
  let v327 : BitVec 32 := Scalar.addi v41 v326
  let c1_i32_112 : BitVec 32 := 1#32
  let arg11 : BitVec 32 := Scf.iv v327 c1_i32_112 k0_t63
  let c14_i32 : BitVec 32 := 14#32
  let v1003 : BitVec 32 := Scalar.muli arg11 c14_i32
  let v1004 : BitVec 32 := Scalar.subi v321 v319
  let c1_i32_375 : BitVec 32 := 1#32
  let v1006 : BitVec 32 := Scalar.divsi v1004 c1_i32_375
  let v1007 : BitVec 32 := Scalar.muli v1006 c1_i32_375
  let v1008 : BitVec 32 := Scalar.addi v319 v1007
  let c1_i32_377 : BitVec 32 := 1#32
  let arg36 : BitVec 32 := Scf.iv v1008 c1_i32_377 k0_t65
  let v1011 : BitVec 32 := Scalar.addi v1003 arg36
  let v1081 : Index := Scalar.indexCast v1011
  let c368 : Index := 368#32
  ![v1081.toNat, 368]

def k0_chk230_0 (i : grid0.Coords) (v10 : BitVec 32) (v41 : BitVec 32) (v43 : BitVec 32) (v319 : BitVec 32) (v321 : BitVec 32) : Prop :=
  (∀ k0_t60 : Fin (k0_t60_loop v41 v43).trips, ∀ (k0_h1 : k0_cond1 i v10 = 1#1), (k0_t61_loop v319 v321).OK) ∧
  (∀ (k0_t60 : Fin (k0_t60_loop v41 v43).trips) (k0_t61 : Fin (k0_t61_loop v319 v321).trips), ∀ (k0_h1 : k0_cond1 i v10 = 1#1), ∀ a, (k0_off871 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off872 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off873 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off874 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off875 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off876 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off877 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off878 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off879 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off880 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off881 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off882 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off883 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off884 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off885 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off886 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off887 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off888 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off889 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off890 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off891 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off892 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off893 v41 v43 v319 v321 k0_t60 k0_t61) a + S1x16.size a ≤ S196x384.size a) ∧
  (∀ (k0_t60 : Fin (k0_t60_loop v41 v43).trips) (k0_t61 : Fin (k0_t61_loop v319 v321).trips), ∀ (k0_h1 : k0_cond1 i v10 = 1#1), ∀ a, (k0_off894 v41 v43 v319 v321 k0_t60 k0_t61) a + S1x16.size a ≤ S196x384.size a) ∧
  (∀ k0_t60 : Fin (k0_t60_loop v41 v43).trips, ∀ (k0_h1 : k0_cond1 i v10 = 1#1), (k0_t62_loop v319 v321).OK) ∧
  (∀ (k0_t60 : Fin (k0_t60_loop v41 v43).trips) (k0_t62 : Fin (k0_t62_loop v319 v321).trips), ∀ (k0_h1 : k0_cond1 i v10 = 1#1), ∀ a, (k0_off895 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off896 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off897 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off898 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off899 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off900 v41 v43 v319 v321 k0_t60 k0_t62) a + S1x16.size a ≤ S196x384.size a)
def k0_chk230_1 (i : grid0.Coords) (v10 : BitVec 32) (v41 : BitVec 32) (v43 : BitVec 32) (v319 : BitVec 32) (v321 : BitVec 32) : Prop :=
  (∀ (k0_t60 : Fin (k0_t60_loop v41 v43).trips) (k0_t62 : Fin (k0_t62_loop v319 v321).trips), ∀ (k0_h1 : k0_cond1 i v10 = 1#1), ∀ a, (k0_off901 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off902 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off903 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off904 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off905 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off906 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off907 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off908 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off909 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off910 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off911 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off912 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off913 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off914 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off915 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off916 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off917 v41 v43 v319 v321 k0_t60 k0_t62) a + S1x16.size a ≤ S196x384.size a) ∧
  (∀ (k0_t60 : Fin (k0_t60_loop v41 v43).trips) (k0_t62 : Fin (k0_t62_loop v319 v321).trips), ∀ (k0_h1 : k0_cond1 i v10 = 1#1), ∀ a, (k0_off918 v41 v43 v319 v321 k0_t60 k0_t62) a + S1x16.size a ≤ S196x384.size a) ∧
  (∀ k0_t63 : Fin (k0_t63_loop v41 v43).trips, ∀ (k0_h1 : k0_cond1 i v10 = 1#1), (k0_t64_loop v319 v321).OK) ∧
  (∀ (k0_t63 : Fin (k0_t63_loop v41 v43).trips) (k0_t64 : Fin (k0_t64_loop v319 v321).trips), ∀ (k0_h1 : k0_cond1 i v10 = 1#1), ∀ a, (k0_off919 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off920 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off921 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off922 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off923 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off924 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off925 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off926 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off927 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off928 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off929 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off930 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off931 v41 v43 v319 v321 k0_t63 k0_t64) a + S1x16.size a ≤ S196x384.size a)
def k0_chk230_2 (i : grid0.Coords) (v10 : BitVec 32) (v41 : BitVec 32) (v43 : BitVec 32) (v319 : BitVec 32) (v321 : BitVec 32) : Prop :=
  (∀ (k0_t63 : Fin (k0_t63_loop v41 v43).trips) (k0_t64 : Fin (k0_t64_loop v319 v321).trips), ∀ (k0_h1 : k0_cond1 i v10 = 1#1), ∀ a, (k0_off932 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off933 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off934 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off935 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off936 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off937 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off938 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off939 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off940 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off941 v41 v43 v319 v321 k0_t63 k0_t64) a + S1x16.size a ≤ S196x384.size a) ∧
  (∀ (k0_t63 : Fin (k0_t63_loop v41 v43).trips) (k0_t64 : Fin (k0_t64_loop v319 v321).trips), ∀ (k0_h1 : k0_cond1 i v10 = 1#1), ∀ a, (k0_off942 v41 v43 v319 v321 k0_t63 k0_t64) a + S1x16.size a ≤ S196x384.size a) ∧
  (∀ k0_t63 : Fin (k0_t63_loop v41 v43).trips, ∀ (k0_h1 : k0_cond1 i v10 = 1#1), (k0_t65_loop v319 v321).OK) ∧
  (∀ (k0_t63 : Fin (k0_t63_loop v41 v43).trips) (k0_t65 : Fin (k0_t65_loop v319 v321).trips), ∀ (k0_h1 : k0_cond1 i v10 = 1#1), ∀ a, (k0_off943 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off944 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off945 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off946 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off947 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off948 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off949 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off950 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off951 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off952 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off953 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off954 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off955 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off956 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off957 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off958 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off959 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off960 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off961 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off962 v41 v43 v319 v321 k0_t63 k0_t65) a + S1x16.size a ≤ S196x384.size a)
def k0_chk230_3 (i : grid0.Coords) (v10 : BitVec 32) (v41 : BitVec 32) (v43 : BitVec 32) (v319 : BitVec 32) (v321 : BitVec 32) : Prop :=
  (∀ (k0_t63 : Fin (k0_t63_loop v41 v43).trips) (k0_t65 : Fin (k0_t65_loop v319 v321).trips), ∀ (k0_h1 : k0_cond1 i v10 = 1#1), ∀ a, (k0_off963 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off964 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off965 v41 v43 v319 v321 k0_t63 k0_t65) a + S1x16.size a ≤ S196x384.size a) ∧
  (∀ (k0_t63 : Fin (k0_t63_loop v41 v43).trips) (k0_t65 : Fin (k0_t65_loop v319 v321).trips), ∀ (k0_h1 : k0_cond1 i v10 = 1#1), ∀ a, (k0_off966 v41 v43 v319 v321 k0_t63 k0_t65) a + S1x16.size a ≤ S196x384.size a)
def k0_chk230 (i : grid0.Coords) (v10 : BitVec 32) (v41 : BitVec 32) (v43 : BitVec 32) (v319 : BitVec 32) (v321 : BitVec 32) : Prop :=
  k0_chk230_0 i v10 v41 v43 v319 v321 ∧
  k0_chk230_1 i v10 v41 v43 v319 v321 ∧
  k0_chk230_2 i v10 v41 v43 v319 v321 ∧
  k0_chk230_3 i v10 v41 v43 v319 v321
theorem k0_t61_ok : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips), ∀ (k0_h1 : k0_cond1 i v10 = 1#1), (k0_t61_loop v319 v321).OK := fun i v10 v41 v43 v319 v321 k0_hw230 k0_t60 k0_h1 => k0_hw230.1.1 k0_t60 k0_h1
theorem k0_off871_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off871 v41 v43 v319 v321 k0_t60 k0_t61) a + S1x16.size a ≤ S196x384.size a := fun i v10 v41 v43 v319 v321 k0_hw230 k0_t60 k0_t61 k0_h1 => k0_hw230.1.2.1 k0_t60 k0_t61 k0_h1
theorem k0_off872_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off872 v41 v43 v319 v321 k0_t60 k0_t61) a + S1x16.size a ≤ S196x384.size a := fun i v10 v41 v43 v319 v321 k0_hw230 k0_t60 k0_t61 k0_h1 => k0_hw230.1.2.2.1 k0_t60 k0_t61 k0_h1
theorem k0_off873_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off873 v41 v43 v319 v321 k0_t60 k0_t61) a + S1x16.size a ≤ S196x384.size a := fun i v10 v41 v43 v319 v321 k0_hw230 k0_t60 k0_t61 k0_h1 => k0_hw230.1.2.2.2.1 k0_t60 k0_t61 k0_h1
theorem k0_off874_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off874 v41 v43 v319 v321 k0_t60 k0_t61) a + S1x16.size a ≤ S196x384.size a := fun i v10 v41 v43 v319 v321 k0_hw230 k0_t60 k0_t61 k0_h1 => k0_hw230.1.2.2.2.2.1 k0_t60 k0_t61 k0_h1
theorem k0_off875_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off875 v41 v43 v319 v321 k0_t60 k0_t61) a + S1x16.size a ≤ S196x384.size a := fun i v10 v41 v43 v319 v321 k0_hw230 k0_t60 k0_t61 k0_h1 => k0_hw230.1.2.2.2.2.2.1 k0_t60 k0_t61 k0_h1
theorem k0_off876_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off876 v41 v43 v319 v321 k0_t60 k0_t61) a + S1x16.size a ≤ S196x384.size a := fun i v10 v41 v43 v319 v321 k0_hw230 k0_t60 k0_t61 k0_h1 => k0_hw230.1.2.2.2.2.2.2.1 k0_t60 k0_t61 k0_h1
theorem k0_off877_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off877 v41 v43 v319 v321 k0_t60 k0_t61) a + S1x16.size a ≤ S196x384.size a := fun i v10 v41 v43 v319 v321 k0_hw230 k0_t60 k0_t61 k0_h1 => k0_hw230.1.2.2.2.2.2.2.2.1 k0_t60 k0_t61 k0_h1
theorem k0_off878_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off878 v41 v43 v319 v321 k0_t60 k0_t61) a + S1x16.size a ≤ S196x384.size a := fun i v10 v41 v43 v319 v321 k0_hw230 k0_t60 k0_t61 k0_h1 => k0_hw230.1.2.2.2.2.2.2.2.2.1 k0_t60 k0_t61 k0_h1
theorem k0_off879_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off879 v41 v43 v319 v321 k0_t60 k0_t61) a + S1x16.size a ≤ S196x384.size a := fun i v10 v41 v43 v319 v321 k0_hw230 k0_t60 k0_t61 k0_h1 => k0_hw230.1.2.2.2.2.2.2.2.2.2.1 k0_t60 k0_t61 k0_h1
theorem k0_off880_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off880 v41 v43 v319 v321 k0_t60 k0_t61) a + S1x16.size a ≤ S196x384.size a := fun i v10 v41 v43 v319 v321 k0_hw230 k0_t60 k0_t61 k0_h1 => k0_hw230.1.2.2.2.2.2.2.2.2.2.2.1 k0_t60 k0_t61 k0_h1
theorem k0_off881_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off881 v41 v43 v319 v321 k0_t60 k0_t61) a + S1x16.size a ≤ S196x384.size a := fun i v10 v41 v43 v319 v321 k0_hw230 k0_t60 k0_t61 k0_h1 => k0_hw230.1.2.2.2.2.2.2.2.2.2.2.2.1 k0_t60 k0_t61 k0_h1
theorem k0_off882_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off882 v41 v43 v319 v321 k0_t60 k0_t61) a + S1x16.size a ≤ S196x384.size a := fun i v10 v41 v43 v319 v321 k0_hw230 k0_t60 k0_t61 k0_h1 => k0_hw230.1.2.2.2.2.2.2.2.2.2.2.2.2.1 k0_t60 k0_t61 k0_h1
theorem k0_off883_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off883 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.1 k0_t60 k0_t61 k0_h1
theorem k0_off884_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off884 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.1 k0_t60 k0_t61 k0_h1
theorem k0_off885_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off885 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.1 k0_t60 k0_t61 k0_h1
theorem k0_off886_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off886 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.2.1 k0_t60 k0_t61 k0_h1
theorem k0_off887_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off887 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.2.2.1 k0_t60 k0_t61 k0_h1
theorem k0_off888_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off888 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.2.2.2.1 k0_t60 k0_t61 k0_h1
theorem k0_off889_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off889 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.2.2.2.2.1 k0_t60 k0_t61 k0_h1
theorem k0_off890_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off890 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.2.2.2.2.2.1 k0_t60 k0_t61 k0_h1
theorem k0_off891_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off891 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.2.2.2.2.2.2.1 k0_t60 k0_t61 k0_h1
theorem k0_off892_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off892 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.2.2.2.2.2.2.2.1 k0_t60 k0_t61 k0_h1
theorem k0_off893_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off893 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.2.2.2.2.2.2.2.2.1 k0_t60 k0_t61 k0_h1
theorem k0_off894_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t61 : Fin (k0_t61_loop v319 v321).trips), ∀ (k0_h1 : k0_cond1 i v10 = 1#1), ∀ a, (k0_off894 v41 v43 v319 v321 k0_t60 k0_t61) a + S1x16.size a ≤ S196x384.size a := fun i v10 v41 v43 v319 v321 k0_hw230 k0_t60 k0_t61 k0_h1 => k0_hw230.1.2.2.2.2.2.2.2.2.2.2.2.2.2.2.2.2.2.2.2.2.2.2.2.2.1 k0_t60 k0_t61 k0_h1
theorem k0_t62_ok : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips), ∀ (k0_h1 : k0_cond1 i v10 = 1#1), (k0_t62_loop v319 v321).OK := fun i v10 v41 v43 v319 v321 k0_hw230 k0_t60 k0_h1 => k0_hw230.1.2.2.2.2.2.2.2.2.2.2.2.2.2.2.2.2.2.2.2.2.2.2.2.2.2.1 k0_t60 k0_h1
theorem k0_off895_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off895 v41 v43 v319 v321 k0_t60 k0_t62) a + S1x16.size a ≤ S196x384.size a := fun i v10 v41 v43 v319 v321 k0_hw230 k0_t60 k0_t62 k0_h1 => k0_hw230.1.2.2.2.2.2.2.2.2.2.2.2.2.2.2.2.2.2.2.2.2.2.2.2.2.2.2.1 k0_t60 k0_t62 k0_h1
theorem k0_off896_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off896 v41 v43 v319 v321 k0_t60 k0_t62) a + S1x16.size a ≤ S196x384.size a := fun i v10 v41 v43 v319 v321 k0_hw230 k0_t60 k0_t62 k0_h1 => k0_hw230.1.2.2.2.2.2.2.2.2.2.2.2.2.2.2.2.2.2.2.2.2.2.2.2.2.2.2.2.1 k0_t60 k0_t62 k0_h1
theorem k0_off897_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off897 v41 v43 v319 v321 k0_t60 k0_t62) a + S1x16.size a ≤ S196x384.size a := fun i v10 v41 v43 v319 v321 k0_hw230 k0_t60 k0_t62 k0_h1 => k0_hw230.1.2.2.2.2.2.2.2.2.2.2.2.2.2.2.2.2.2.2.2.2.2.2.2.2.2.2.2.2.1 k0_t60 k0_t62 k0_h1
theorem k0_off898_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off898 v41 v43 v319 v321 k0_t60 k0_t62) a + S1x16.size a ≤ S196x384.size a := fun i v10 v41 v43 v319 v321 k0_hw230 k0_t60 k0_t62 k0_h1 => k0_hw230.1.2.2.2.2.2.2.2.2.2.2.2.2.2.2.2.2.2.2.2.2.2.2.2.2.2.2.2.2.2.1 k0_t60 k0_t62 k0_h1
theorem k0_off899_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off899 v41 v43 v319 v321 k0_t60 k0_t62) a + S1x16.size a ≤ S196x384.size a := fun i v10 v41 v43 v319 v321 k0_hw230 k0_t60 k0_t62 k0_h1 => k0_hw230.1.2.2.2.2.2.2.2.2.2.2.2.2.2.2.2.2.2.2.2.2.2.2.2.2.2.2.2.2.2.2.1 k0_t60 k0_t62 k0_h1
theorem k0_off900_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off900 v41 v43 v319 v321 k0_t60 k0_t62) a + S1x16.size a ≤ S196x384.size a := fun i v10 v41 v43 v319 v321 k0_hw230 k0_t60 k0_t62 k0_h1 => k0_hw230.1.2.2.2.2.2.2.2.2.2.2.2.2.2.2.2.2.2.2.2.2.2.2.2.2.2.2.2.2.2.2.2 k0_t60 k0_t62 k0_h1
theorem k0_off901_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off901 v41 v43 v319 v321 k0_t60 k0_t62) a + S1x16.size a ≤ S196x384.size a := fun i v10 v41 v43 v319 v321 k0_hw230 k0_t60 k0_t62 k0_h1 => k0_hw230.2.1.1 k0_t60 k0_t62 k0_h1
theorem k0_off902_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off902 v41 v43 v319 v321 k0_t60 k0_t62) a + S1x16.size a ≤ S196x384.size a := fun i v10 v41 v43 v319 v321 k0_hw230 k0_t60 k0_t62 k0_h1 => k0_hw230.2.1.2.1 k0_t60 k0_t62 k0_h1
theorem k0_off903_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off903 v41 v43 v319 v321 k0_t60 k0_t62) a + S1x16.size a ≤ S196x384.size a := fun i v10 v41 v43 v319 v321 k0_hw230 k0_t60 k0_t62 k0_h1 => k0_hw230.2.1.2.2.1 k0_t60 k0_t62 k0_h1
theorem k0_off904_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off904 v41 v43 v319 v321 k0_t60 k0_t62) a + S1x16.size a ≤ S196x384.size a := fun i v10 v41 v43 v319 v321 k0_hw230 k0_t60 k0_t62 k0_h1 => k0_hw230.2.1.2.2.2.1 k0_t60 k0_t62 k0_h1
theorem k0_off905_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off905 v41 v43 v319 v321 k0_t60 k0_t62) a + S1x16.size a ≤ S196x384.size a := fun i v10 v41 v43 v319 v321 k0_hw230 k0_t60 k0_t62 k0_h1 => k0_hw230.2.1.2.2.2.2.1 k0_t60 k0_t62 k0_h1
theorem k0_off906_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off906 v41 v43 v319 v321 k0_t60 k0_t62) a + S1x16.size a ≤ S196x384.size a := fun i v10 v41 v43 v319 v321 k0_hw230 k0_t60 k0_t62 k0_h1 => k0_hw230.2.1.2.2.2.2.2.1 k0_t60 k0_t62 k0_h1
theorem k0_off907_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off907 v41 v43 v319 v321 k0_t60 k0_t62) a + S1x16.size a ≤ S196x384.size a := fun i v10 v41 v43 v319 v321 k0_hw230 k0_t60 k0_t62 k0_h1 => k0_hw230.2.1.2.2.2.2.2.2.1 k0_t60 k0_t62 k0_h1
theorem k0_off908_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off908 v41 v43 v319 v321 k0_t60 k0_t62) a + S1x16.size a ≤ S196x384.size a := fun i v10 v41 v43 v319 v321 k0_hw230 k0_t60 k0_t62 k0_h1 => k0_hw230.2.1.2.2.2.2.2.2.2.1 k0_t60 k0_t62 k0_h1
theorem k0_off909_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off909 v41 v43 v319 v321 k0_t60 k0_t62) a + S1x16.size a ≤ S196x384.size a := fun i v10 v41 v43 v319 v321 k0_hw230 k0_t60 k0_t62 k0_h1 => k0_hw230.2.1.2.2.2.2.2.2.2.2.1 k0_t60 k0_t62 k0_h1
theorem k0_off910_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off910 v41 v43 v319 v321 k0_t60 k0_t62) a + S1x16.size a ≤ S196x384.size a := fun i v10 v41 v43 v319 v321 k0_hw230 k0_t60 k0_t62 k0_h1 => k0_hw230.2.1.2.2.2.2.2.2.2.2.2.1 k0_t60 k0_t62 k0_h1
theorem k0_off911_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off911 v41 v43 v319 v321 k0_t60 k0_t62) a + S1x16.size a ≤ S196x384.size a := fun i v10 v41 v43 v319 v321 k0_hw230 k0_t60 k0_t62 k0_h1 => k0_hw230.2.1.2.2.2.2.2.2.2.2.2.2.1 k0_t60 k0_t62 k0_h1
theorem k0_off912_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off912 v41 v43 v319 v321 k0_t60 k0_t62) a + S1x16.size a ≤ S196x384.size a := fun i v10 v41 v43 v319 v321 k0_hw230 k0_t60 k0_t62 k0_h1 => k0_hw230.2.1.2.2.2.2.2.2.2.2.2.2.2.1 k0_t60 k0_t62 k0_h1
theorem k0_off913_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off913 v41 v43 v319 v321 k0_t60 k0_t62) a + S1x16.size a ≤ S196x384.size a := fun i v10 v41 v43 v319 v321 k0_hw230 k0_t60 k0_t62 k0_h1 => k0_hw230.2.1.2.2.2.2.2.2.2.2.2.2.2.2.1 k0_t60 k0_t62 k0_h1
theorem k0_off914_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off914 v41 v43 v319 v321 k0_t60 k0_t62) a + S1x16.size a ≤ S196x384.size a := fun i v10 v41 v43 v319 v321 k0_hw230 k0_t60 k0_t62 k0_h1 => k0_hw230.2.1.2.2.2.2.2.2.2.2.2.2.2.2.2.1 k0_t60 k0_t62 k0_h1
theorem k0_off915_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off915 v41 v43 v319 v321 k0_t60 k0_t62) a + S1x16.size a ≤ S196x384.size a := fun i v10 v41 v43 v319 v321 k0_hw230 k0_t60 k0_t62 k0_h1 => k0_hw230.2.1.2.2.2.2.2.2.2.2.2.2.2.2.2.2.1 k0_t60 k0_t62 k0_h1
theorem k0_off916_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off916 v41 v43 v319 v321 k0_t60 k0_t62) a + S1x16.size a ≤ S196x384.size a := fun i v10 v41 v43 v319 v321 k0_hw230 k0_t60 k0_t62 k0_h1 => k0_hw230.2.1.2.2.2.2.2.2.2.2.2.2.2.2.2.2.2.1 k0_t60 k0_t62 k0_h1
theorem k0_off917_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off917 v41 v43 v319 v321 k0_t60 k0_t62) a + S1x16.size a ≤ S196x384.size a := fun i v10 v41 v43 v319 v321 k0_hw230 k0_t60 k0_t62 k0_h1 => k0_hw230.2.1.2.2.2.2.2.2.2.2.2.2.2.2.2.2.2.2.1 k0_t60 k0_t62 k0_h1
theorem k0_off918_inb : ∀ (i : grid0.Coords) (v10 : BitVec 32) (v41 : BitVec 32) (v43 : BitVec 32) (v319 : BitVec 32) (v321 : BitVec 32) (k0_hw230 : k0_chk230 i v10 v41 v43 v319 v321) (k0_t60 : Fin (k0_t60_loop v41 v43).trips) (k0_t62 : Fin (k0_t62_loop v319 v321).trips), ∀ (k0_h1 : k0_cond1 i v10 = 1#1), ∀ a, (k0_off918 v41 v43 v319 v321 k0_t60 k0_t62) a + S1x16.size a ≤ S196x384.size a := fun i v10 v41 v43 v319 v321 k0_hw230 k0_t60 k0_t62 k0_h1 => k0_hw230.2.1.2.2.2.2.2.2.2.2.2.2.2.2.2.2.2.2.2.1 k0_t60 k0_t62 k0_h1
theorem k0_t64_ok : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips), ∀ (k0_h1 : k0_cond1 i v10 = 1#1), (k0_t64_loop v319 v321).OK := fun i v10 v41 v43 v319 v321 k0_hw230 k0_t63 k0_h1 => k0_hw230.2.1.2.2.2.2.2.2.2.2.2.2.2.2.2.2.2.2.2.2.1 k0_t63 k0_h1
theorem k0_off919_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off919 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.1 k0_t63 k0_t64 k0_h1
theorem k0_off920_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off920 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.1 k0_t63 k0_t64 k0_h1
theorem k0_off921_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off921 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.1 k0_t63 k0_t64 k0_h1
theorem k0_off922_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off922 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.1 k0_t63 k0_t64 k0_h1
theorem k0_off923_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off923 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.2.1 k0_t63 k0_t64 k0_h1
theorem k0_off924_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off924 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.2.2.1 k0_t63 k0_t64 k0_h1
theorem k0_off925_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off925 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.2.2.2.1 k0_t63 k0_t64 k0_h1
theorem k0_off926_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off926 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.2.2.2.2.1 k0_t63 k0_t64 k0_h1
theorem k0_off927_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off927 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.2.2.2.2.2.1 k0_t63 k0_t64 k0_h1
theorem k0_off928_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off928 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.2.2.2.2.2.2.1 k0_t63 k0_t64 k0_h1
theorem k0_off929_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off929 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.2.2.2.2.2.2.2.1 k0_t63 k0_t64 k0_h1
theorem k0_off930_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off930 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.2.2.2.2.2.2.2.2.1 k0_t63 k0_t64 k0_h1
theorem k0_off931_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off931 v41 v43 v319 v321 k0_t63 k0_t64) a + S1x16.size a ≤ S196x384.size a := fun i v10 v41 v43 v319 v321 k0_hw230 k0_t63 k0_t64 k0_h1 => k0_hw230.2.1.2.2.2.2.2.2.2.2.2.2.2.2.2.2.2.2.2.2.2.2.2.2.2.2.2.2.2.2.2.2.2 k0_t63 k0_t64 k0_h1
theorem k0_off932_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off932 v41 v43 v319 v321 k0_t63 k0_t64) a + S1x16.size a ≤ S196x384.size a := fun i v10 v41 v43 v319 v321 k0_hw230 k0_t63 k0_t64 k0_h1 => k0_hw230.2.2.1.1 k0_t63 k0_t64 k0_h1
theorem k0_off933_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off933 v41 v43 v319 v321 k0_t63 k0_t64) a + S1x16.size a ≤ S196x384.size a := fun i v10 v41 v43 v319 v321 k0_hw230 k0_t63 k0_t64 k0_h1 => k0_hw230.2.2.1.2.1 k0_t63 k0_t64 k0_h1
theorem k0_off934_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off934 v41 v43 v319 v321 k0_t63 k0_t64) a + S1x16.size a ≤ S196x384.size a := fun i v10 v41 v43 v319 v321 k0_hw230 k0_t63 k0_t64 k0_h1 => k0_hw230.2.2.1.2.2.1 k0_t63 k0_t64 k0_h1
theorem k0_off935_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off935 v41 v43 v319 v321 k0_t63 k0_t64) a + S1x16.size a ≤ S196x384.size a := fun i v10 v41 v43 v319 v321 k0_hw230 k0_t63 k0_t64 k0_h1 => k0_hw230.2.2.1.2.2.2.1 k0_t63 k0_t64 k0_h1
theorem k0_off936_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off936 v41 v43 v319 v321 k0_t63 k0_t64) a + S1x16.size a ≤ S196x384.size a := fun i v10 v41 v43 v319 v321 k0_hw230 k0_t63 k0_t64 k0_h1 => k0_hw230.2.2.1.2.2.2.2.1 k0_t63 k0_t64 k0_h1
theorem k0_off937_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off937 v41 v43 v319 v321 k0_t63 k0_t64) a + S1x16.size a ≤ S196x384.size a := fun i v10 v41 v43 v319 v321 k0_hw230 k0_t63 k0_t64 k0_h1 => k0_hw230.2.2.1.2.2.2.2.2.1 k0_t63 k0_t64 k0_h1
theorem k0_off938_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off938 v41 v43 v319 v321 k0_t63 k0_t64) a + S1x16.size a ≤ S196x384.size a := fun i v10 v41 v43 v319 v321 k0_hw230 k0_t63 k0_t64 k0_h1 => k0_hw230.2.2.1.2.2.2.2.2.2.1 k0_t63 k0_t64 k0_h1
theorem k0_off939_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off939 v41 v43 v319 v321 k0_t63 k0_t64) a + S1x16.size a ≤ S196x384.size a := fun i v10 v41 v43 v319 v321 k0_hw230 k0_t63 k0_t64 k0_h1 => k0_hw230.2.2.1.2.2.2.2.2.2.2.1 k0_t63 k0_t64 k0_h1
theorem k0_off940_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off940 v41 v43 v319 v321 k0_t63 k0_t64) a + S1x16.size a ≤ S196x384.size a := fun i v10 v41 v43 v319 v321 k0_hw230 k0_t63 k0_t64 k0_h1 => k0_hw230.2.2.1.2.2.2.2.2.2.2.2.1 k0_t63 k0_t64 k0_h1
theorem k0_off941_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off941 v41 v43 v319 v321 k0_t63 k0_t64) a + S1x16.size a ≤ S196x384.size a := fun i v10 v41 v43 v319 v321 k0_hw230 k0_t63 k0_t64 k0_h1 => k0_hw230.2.2.1.2.2.2.2.2.2.2.2.2.1 k0_t63 k0_t64 k0_h1
theorem k0_off942_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t64 : Fin (k0_t64_loop v319 v321).trips), ∀ (k0_h1 : k0_cond1 i v10 = 1#1), ∀ a, (k0_off942 v41 v43 v319 v321 k0_t63 k0_t64) a + S1x16.size a ≤ S196x384.size a := fun i v10 v41 v43 v319 v321 k0_hw230 k0_t63 k0_t64 k0_h1 => k0_hw230.2.2.1.2.2.2.2.2.2.2.2.2.2.1 k0_t63 k0_t64 k0_h1
theorem k0_t65_ok : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips), ∀ (k0_h1 : k0_cond1 i v10 = 1#1), (k0_t65_loop v319 v321).OK := fun i v10 v41 v43 v319 v321 k0_hw230 k0_t63 k0_h1 => k0_hw230.2.2.1.2.2.2.2.2.2.2.2.2.2.2.1 k0_t63 k0_h1
theorem k0_off943_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off943 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.1 k0_t63 k0_t65 k0_h1
theorem k0_off944_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off944 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.1 k0_t63 k0_t65 k0_h1
theorem k0_off945_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off945 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.1 k0_t63 k0_t65 k0_h1
theorem k0_off946_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off946 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.1 k0_t63 k0_t65 k0_h1
theorem k0_off947_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off947 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.1 k0_t63 k0_t65 k0_h1
theorem k0_off948_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off948 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.1 k0_t63 k0_t65 k0_h1
theorem k0_off949_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off949 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.1 k0_t63 k0_t65 k0_h1
theorem k0_off950_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off950 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.1 k0_t63 k0_t65 k0_h1
theorem k0_off951_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off951 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.1 k0_t63 k0_t65 k0_h1
theorem k0_off952_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off952 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.1 k0_t63 k0_t65 k0_h1
theorem k0_off953_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off953 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.1 k0_t63 k0_t65 k0_h1
theorem k0_off954_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off954 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.2.1 k0_t63 k0_t65 k0_h1
theorem k0_off955_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off955 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.2.2.1 k0_t63 k0_t65 k0_h1
theorem k0_off956_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off956 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.2.2.2.1 k0_t63 k0_t65 k0_h1
theorem k0_off957_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off957 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.2.2.2.2.1 k0_t63 k0_t65 k0_h1
theorem k0_off958_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off958 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.2.2.2.2.2.1 k0_t63 k0_t65 k0_h1
theorem k0_off959_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off959 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.2.2.2.2.2.2.1 k0_t63 k0_t65 k0_h1
theorem k0_off960_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off960 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.2.2.2.2.2.2.2.1 k0_t63 k0_t65 k0_h1
theorem k0_off961_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off961 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.2.2.2.2.2.2.2.2.1 k0_t63 k0_t65 k0_h1
theorem k0_off962_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off962 v41 v43 v319 v321 k0_t63 k0_t65) a + S1x16.size a ≤ S196x384.size a := fun i v10 v41 v43 v319 v321 k0_hw230 k0_t63 k0_t65 k0_h1 => k0_hw230.2.2.1.2.2.2.2.2.2.2.2.2.2.2.2.2.2.2.2.2.2.2.2.2.2.2.2.2.2.2.2.2.2.2 k0_t63 k0_t65 k0_h1
theorem k0_off963_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off963 v41 v43 v319 v321 k0_t63 k0_t65) a + S1x16.size a ≤ S196x384.size a := fun i v10 v41 v43 v319 v321 k0_hw230 k0_t63 k0_t65 k0_h1 => k0_hw230.2.2.2.1 k0_t63 k0_t65 k0_h1
theorem k0_off964_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off964 v41 v43 v319 v321 k0_t63 k0_t65) a + S1x16.size a ≤ S196x384.size a := fun i v10 v41 v43 v319 v321 k0_hw230 k0_t63 k0_t65 k0_h1 => k0_hw230.2.2.2.2.1 k0_t63 k0_t65 k0_h1
theorem k0_off965_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off965 v41 v43 v319 v321 k0_t63 k0_t65) a + S1x16.size a ≤ S196x384.size a := fun i v10 v41 v43 v319 v321 k0_hw230 k0_t63 k0_t65 k0_h1 => k0_hw230.2.2.2.2.2.1 k0_t63 k0_t65 k0_h1
theorem k0_off966_inb : ∀ (i : grid0.Coords) (v10 : BitVec 32) (v41 : BitVec 32) (v43 : BitVec 32) (v319 : BitVec 32) (v321 : BitVec 32) (k0_hw230 : k0_chk230 i v10 v41 v43 v319 v321) (k0_t63 : Fin (k0_t63_loop v41 v43).trips) (k0_t65 : Fin (k0_t65_loop v319 v321).trips), ∀ (k0_h1 : k0_cond1 i v10 = 1#1), ∀ a, (k0_off966 v41 v43 v319 v321 k0_t63 k0_t65) a + S1x16.size a ≤ S196x384.size a := fun i v10 v41 v43 v319 v321 k0_hw230 k0_t63 k0_t65 k0_h1 => k0_hw230.2.2.2.2.2.2 k0_t63 k0_t65 k0_h1

def k0_chk231 (i : grid0.Coords) (v10 : BitVec 32) (v339 : IVec S16 32) : Prop :=
  (∀ (k0_h1 : k0_cond1 i v10 = 1#1), ∀ a x, ((![v339] : Fin 1 → IVec S16 32) a x).toNat < S18816.size a)
theorem k0_idx217_inb : ∀ (i : grid0.Coords) (v10 : BitVec 32) (v339 : IVec S16 32) (k0_hw231 : k0_chk231 i v10 v339), ∀ (k0_h1 : k0_cond1 i v10 = 1#1), ∀ a x, ((![v339] : Fin 1 → IVec S16 32) a x).toNat < S18816.size a := fun i v10 v339 k0_hw231 k0_h1 => k0_hw231 k0_h1

def k0_chk232 (i : grid0.Coords) (v10 : BitVec 32) (v344 : IVec S16 32) : Prop :=
  (∀ (k0_h1 : k0_cond1 i v10 = 1#1), ∀ a x, ((![v344] : Fin 1 → IVec S16 32) a x).toNat < S18816.size a)
theorem k0_idx218_inb : ∀ (i : grid0.Coords) (v10 : BitVec 32) (v344 : IVec S16 32) (k0_hw232 : k0_chk232 i v10 v344), ∀ (k0_h1 : k0_cond1 i v10 = 1#1), ∀ a x, ((![v344] : Fin 1 → IVec S16 32) a x).toNat < S18816.size a := fun i v10 v344 k0_hw232 k0_h1 => k0_hw232 k0_h1

def k0_chk233 (i : grid0.Coords) (v10 : BitVec 32) (v349 : IVec S16 32) : Prop :=
  (∀ (k0_h1 : k0_cond1 i v10 = 1#1), ∀ a x, ((![v349] : Fin 1 → IVec S16 32) a x).toNat < S18816.size a)
theorem k0_idx219_inb : ∀ (i : grid0.Coords) (v10 : BitVec 32) (v349 : IVec S16 32) (k0_hw233 : k0_chk233 i v10 v349), ∀ (k0_h1 : k0_cond1 i v10 = 1#1), ∀ a x, ((![v349] : Fin 1 → IVec S16 32) a x).toNat < S18816.size a := fun i v10 v349 k0_hw233 k0_h1 => k0_hw233 k0_h1

def k0_chk234 (i : grid0.Coords) (v10 : BitVec 32) (v354 : IVec S16 32) : Prop :=
  (∀ (k0_h1 : k0_cond1 i v10 = 1#1), ∀ a x, ((![v354] : Fin 1 → IVec S16 32) a x).toNat < S18816.size a)
theorem k0_idx220_inb : ∀ (i : grid0.Coords) (v10 : BitVec 32) (v354 : IVec S16 32) (k0_hw234 : k0_chk234 i v10 v354), ∀ (k0_h1 : k0_cond1 i v10 = 1#1), ∀ a x, ((![v354] : Fin 1 → IVec S16 32) a x).toNat < S18816.size a := fun i v10 v354 k0_hw234 k0_h1 => k0_hw234 k0_h1

def k0_chk235 (i : grid0.Coords) (v10 : BitVec 32) (v359 : IVec S16 32) : Prop :=
  (∀ (k0_h1 : k0_cond1 i v10 = 1#1), ∀ a x, ((![v359] : Fin 1 → IVec S16 32) a x).toNat < S18816.size a)
theorem k0_idx221_inb : ∀ (i : grid0.Coords) (v10 : BitVec 32) (v359 : IVec S16 32) (k0_hw235 : k0_chk235 i v10 v359), ∀ (k0_h1 : k0_cond1 i v10 = 1#1), ∀ a x, ((![v359] : Fin 1 → IVec S16 32) a x).toNat < S18816.size a := fun i v10 v359 k0_hw235 k0_h1 => k0_hw235 k0_h1

def k0_chk236 (i : grid0.Coords) (v10 : BitVec 32) (v364 : IVec S16 32) : Prop :=
  (∀ (k0_h1 : k0_cond1 i v10 = 1#1), ∀ a x, ((![v364] : Fin 1 → IVec S16 32) a x).toNat < S18816.size a)
theorem k0_idx222_inb : ∀ (i : grid0.Coords) (v10 : BitVec 32) (v364 : IVec S16 32) (k0_hw236 : k0_chk236 i v10 v364), ∀ (k0_h1 : k0_cond1 i v10 = 1#1), ∀ a x, ((![v364] : Fin 1 → IVec S16 32) a x).toNat < S18816.size a := fun i v10 v364 k0_hw236 k0_h1 => k0_hw236 k0_h1

def k0_chk237 (i : grid0.Coords) (v10 : BitVec 32) (v369 : IVec S16 32) : Prop :=
  (∀ (k0_h1 : k0_cond1 i v10 = 1#1), ∀ a x, ((![v369] : Fin 1 → IVec S16 32) a x).toNat < S18816.size a)
theorem k0_idx223_inb : ∀ (i : grid0.Coords) (v10 : BitVec 32) (v369 : IVec S16 32) (k0_hw237 : k0_chk237 i v10 v369), ∀ (k0_h1 : k0_cond1 i v10 = 1#1), ∀ a x, ((![v369] : Fin 1 → IVec S16 32) a x).toNat < S18816.size a := fun i v10 v369 k0_hw237 k0_h1 => k0_hw237 k0_h1

def k0_chk238 (i : grid0.Coords) (v10 : BitVec 32) (v374 : IVec S16 32) : Prop :=
  (∀ (k0_h1 : k0_cond1 i v10 = 1#1), ∀ a x, ((![v374] : Fin 1 → IVec S16 32) a x).toNat < S18816.size a)
theorem k0_idx224_inb : ∀ (i : grid0.Coords) (v10 : BitVec 32) (v374 : IVec S16 32) (k0_hw238 : k0_chk238 i v10 v374), ∀ (k0_h1 : k0_cond1 i v10 = 1#1), ∀ a x, ((![v374] : Fin 1 → IVec S16 32) a x).toNat < S18816.size a := fun i v10 v374 k0_hw238 k0_h1 => k0_hw238 k0_h1

def k0_chk239 (i : grid0.Coords) (v10 : BitVec 32) (v379 : IVec S16 32) : Prop :=
  (∀ (k0_h1 : k0_cond1 i v10 = 1#1), ∀ a x, ((![v379] : Fin 1 → IVec S16 32) a x).toNat < S18816.size a)
theorem k0_idx225_inb : ∀ (i : grid0.Coords) (v10 : BitVec 32) (v379 : IVec S16 32) (k0_hw239 : k0_chk239 i v10 v379), ∀ (k0_h1 : k0_cond1 i v10 = 1#1), ∀ a x, ((![v379] : Fin 1 → IVec S16 32) a x).toNat < S18816.size a := fun i v10 v379 k0_hw239 k0_h1 => k0_hw239 k0_h1

def k0_chk240 (i : grid0.Coords) (v10 : BitVec 32) (v384 : IVec S16 32) : Prop :=
  (∀ (k0_h1 : k0_cond1 i v10 = 1#1), ∀ a x, ((![v384] : Fin 1 → IVec S16 32) a x).toNat < S18816.size a)
theorem k0_idx226_inb : ∀ (i : grid0.Coords) (v10 : BitVec 32) (v384 : IVec S16 32) (k0_hw240 : k0_chk240 i v10 v384), ∀ (k0_h1 : k0_cond1 i v10 = 1#1), ∀ a x, ((![v384] : Fin 1 → IVec S16 32) a x).toNat < S18816.size a := fun i v10 v384 k0_hw240 k0_h1 => k0_hw240 k0_h1

def k0_chk241 (i : grid0.Coords) (v10 : BitVec 32) (v389 : IVec S16 32) : Prop :=
  (∀ (k0_h1 : k0_cond1 i v10 = 1#1), ∀ a x, ((![v389] : Fin 1 → IVec S16 32) a x).toNat < S18816.size a)
theorem k0_idx227_inb : ∀ (i : grid0.Coords) (v10 : BitVec 32) (v389 : IVec S16 32) (k0_hw241 : k0_chk241 i v10 v389), ∀ (k0_h1 : k0_cond1 i v10 = 1#1), ∀ a x, ((![v389] : Fin 1 → IVec S16 32) a x).toNat < S18816.size a := fun i v10 v389 k0_hw241 k0_h1 => k0_hw241 k0_h1

def k0_chk242 (i : grid0.Coords) (v10 : BitVec 32) (v394 : IVec S16 32) : Prop :=
  (∀ (k0_h1 : k0_cond1 i v10 = 1#1), ∀ a x, ((![v394] : Fin 1 → IVec S16 32) a x).toNat < S18816.size a)
theorem k0_idx228_inb : ∀ (i : grid0.Coords) (v10 : BitVec 32) (v394 : IVec S16 32) (k0_hw242 : k0_chk242 i v10 v394), ∀ (k0_h1 : k0_cond1 i v10 = 1#1), ∀ a x, ((![v394] : Fin 1 → IVec S16 32) a x).toNat < S18816.size a := fun i v10 v394 k0_hw242 k0_h1 => k0_hw242 k0_h1

def k0_chk243 (i : grid0.Coords) (v10 : BitVec 32) (v399 : IVec S16 32) : Prop :=
  (∀ (k0_h1 : k0_cond1 i v10 = 1#1), ∀ a x, ((![v399] : Fin 1 → IVec S16 32) a x).toNat < S18816.size a)
theorem k0_idx229_inb : ∀ (i : grid0.Coords) (v10 : BitVec 32) (v399 : IVec S16 32) (k0_hw243 : k0_chk243 i v10 v399), ∀ (k0_h1 : k0_cond1 i v10 = 1#1), ∀ a x, ((![v399] : Fin 1 → IVec S16 32) a x).toNat < S18816.size a := fun i v10 v399 k0_hw243 k0_h1 => k0_hw243 k0_h1

def k0_chk244 (i : grid0.Coords) (v10 : BitVec 32) (v404 : IVec S16 32) : Prop :=
  (∀ (k0_h1 : k0_cond1 i v10 = 1#1), ∀ a x, ((![v404] : Fin 1 → IVec S16 32) a x).toNat < S18816.size a)
theorem k0_idx230_inb : ∀ (i : grid0.Coords) (v10 : BitVec 32) (v404 : IVec S16 32) (k0_hw244 : k0_chk244 i v10 v404), ∀ (k0_h1 : k0_cond1 i v10 = 1#1), ∀ a x, ((![v404] : Fin 1 → IVec S16 32) a x).toNat < S18816.size a := fun i v10 v404 k0_hw244 k0_h1 => k0_hw244 k0_h1

def k0_chk245 (i : grid0.Coords) (v10 : BitVec 32) (v409 : IVec S16 32) : Prop :=
  (∀ (k0_h1 : k0_cond1 i v10 = 1#1), ∀ a x, ((![v409] : Fin 1 → IVec S16 32) a x).toNat < S18816.size a)
theorem k0_idx231_inb : ∀ (i : grid0.Coords) (v10 : BitVec 32) (v409 : IVec S16 32) (k0_hw245 : k0_chk245 i v10 v409), ∀ (k0_h1 : k0_cond1 i v10 = 1#1), ∀ a x, ((![v409] : Fin 1 → IVec S16 32) a x).toNat < S18816.size a := fun i v10 v409 k0_hw245 k0_h1 => k0_hw245 k0_h1

def k0_chk246 (i : grid0.Coords) (v10 : BitVec 32) (v414 : IVec S16 32) : Prop :=
  (∀ (k0_h1 : k0_cond1 i v10 = 1#1), ∀ a x, ((![v414] : Fin 1 → IVec S16 32) a x).toNat < S18816.size a)
theorem k0_idx232_inb : ∀ (i : grid0.Coords) (v10 : BitVec 32) (v414 : IVec S16 32) (k0_hw246 : k0_chk246 i v10 v414), ∀ (k0_h1 : k0_cond1 i v10 = 1#1), ∀ a x, ((![v414] : Fin 1 → IVec S16 32) a x).toNat < S18816.size a := fun i v10 v414 k0_hw246 k0_h1 => k0_hw246 k0_h1

def k0_chk247 (i : grid0.Coords) (v10 : BitVec 32) (v419 : IVec S16 32) : Prop :=
  (∀ (k0_h1 : k0_cond1 i v10 = 1#1), ∀ a x, ((![v419] : Fin 1 → IVec S16 32) a x).toNat < S18816.size a)
theorem k0_idx233_inb : ∀ (i : grid0.Coords) (v10 : BitVec 32) (v419 : IVec S16 32) (k0_hw247 : k0_chk247 i v10 v419), ∀ (k0_h1 : k0_cond1 i v10 = 1#1), ∀ a x, ((![v419] : Fin 1 → IVec S16 32) a x).toNat < S18816.size a := fun i v10 v419 k0_hw247 k0_h1 => k0_hw247 k0_h1

def k0_chk248 (i : grid0.Coords) (v10 : BitVec 32) (v424 : IVec S16 32) : Prop :=
  (∀ (k0_h1 : k0_cond1 i v10 = 1#1), ∀ a x, ((![v424] : Fin 1 → IVec S16 32) a x).toNat < S18816.size a)
theorem k0_idx234_inb : ∀ (i : grid0.Coords) (v10 : BitVec 32) (v424 : IVec S16 32) (k0_hw248 : k0_chk248 i v10 v424), ∀ (k0_h1 : k0_cond1 i v10 = 1#1), ∀ a x, ((![v424] : Fin 1 → IVec S16 32) a x).toNat < S18816.size a := fun i v10 v424 k0_hw248 k0_h1 => k0_hw248 k0_h1

def k0_chk249 (i : grid0.Coords) (v10 : BitVec 32) (v429 : IVec S16 32) : Prop :=
  (∀ (k0_h1 : k0_cond1 i v10 = 1#1), ∀ a x, ((![v429] : Fin 1 → IVec S16 32) a x).toNat < S18816.size a)
theorem k0_idx235_inb : ∀ (i : grid0.Coords) (v10 : BitVec 32) (v429 : IVec S16 32) (k0_hw249 : k0_chk249 i v10 v429), ∀ (k0_h1 : k0_cond1 i v10 = 1#1), ∀ a x, ((![v429] : Fin 1 → IVec S16 32) a x).toNat < S18816.size a := fun i v10 v429 k0_hw249 k0_h1 => k0_hw249 k0_h1

def k0_chk250 (i : grid0.Coords) (v10 : BitVec 32) (v434 : IVec S16 32) : Prop :=
  (∀ (k0_h1 : k0_cond1 i v10 = 1#1), ∀ a x, ((![v434] : Fin 1 → IVec S16 32) a x).toNat < S18816.size a)
theorem k0_idx236_inb : ∀ (i : grid0.Coords) (v10 : BitVec 32) (v434 : IVec S16 32) (k0_hw250 : k0_chk250 i v10 v434), ∀ (k0_h1 : k0_cond1 i v10 = 1#1), ∀ a x, ((![v434] : Fin 1 → IVec S16 32) a x).toNat < S18816.size a := fun i v10 v434 k0_hw250 k0_h1 => k0_hw250 k0_h1

def k0_chk251 (i : grid0.Coords) (v10 : BitVec 32) (v439 : IVec S16 32) : Prop :=
  (∀ (k0_h1 : k0_cond1 i v10 = 1#1), ∀ a x, ((![v439] : Fin 1 → IVec S16 32) a x).toNat < S18816.size a)
theorem k0_idx237_inb : ∀ (i : grid0.Coords) (v10 : BitVec 32) (v439 : IVec S16 32) (k0_hw251 : k0_chk251 i v10 v439), ∀ (k0_h1 : k0_cond1 i v10 = 1#1), ∀ a x, ((![v439] : Fin 1 → IVec S16 32) a x).toNat < S18816.size a := fun i v10 v439 k0_hw251 k0_h1 => k0_hw251 k0_h1

def k0_chk252 (i : grid0.Coords) (v10 : BitVec 32) (v444 : IVec S16 32) : Prop :=
  (∀ (k0_h1 : k0_cond1 i v10 = 1#1), ∀ a x, ((![v444] : Fin 1 → IVec S16 32) a x).toNat < S18816.size a)
theorem k0_idx238_inb : ∀ (i : grid0.Coords) (v10 : BitVec 32) (v444 : IVec S16 32) (k0_hw252 : k0_chk252 i v10 v444), ∀ (k0_h1 : k0_cond1 i v10 = 1#1), ∀ a x, ((![v444] : Fin 1 → IVec S16 32) a x).toNat < S18816.size a := fun i v10 v444 k0_hw252 k0_h1 => k0_hw252 k0_h1

def k0_chk253 (i : grid0.Coords) (v10 : BitVec 32) (v449 : IVec S16 32) : Prop :=
  (∀ (k0_h1 : k0_cond1 i v10 = 1#1), ∀ a x, ((![v449] : Fin 1 → IVec S16 32) a x).toNat < S18816.size a)
theorem k0_idx239_inb : ∀ (i : grid0.Coords) (v10 : BitVec 32) (v449 : IVec S16 32) (k0_hw253 : k0_chk253 i v10 v449), ∀ (k0_h1 : k0_cond1 i v10 = 1#1), ∀ a x, ((![v449] : Fin 1 → IVec S16 32) a x).toNat < S18816.size a := fun i v10 v449 k0_hw253 k0_h1 => k0_hw253 k0_h1

def k0_chk254 (i : grid0.Coords) (v10 : BitVec 32) (v454 : IVec S16 32) : Prop :=
  (∀ (k0_h1 : k0_cond1 i v10 = 1#1), ∀ a x, ((![v454] : Fin 1 → IVec S16 32) a x).toNat < S18816.size a)
theorem k0_idx240_inb : ∀ (i : grid0.Coords) (v10 : BitVec 32) (v454 : IVec S16 32) (k0_hw254 : k0_chk254 i v10 v454), ∀ (k0_h1 : k0_cond1 i v10 = 1#1), ∀ a x, ((![v454] : Fin 1 → IVec S16 32) a x).toNat < S18816.size a := fun i v10 v454 k0_hw254 k0_h1 => k0_hw254 k0_h1
@[reducible] def k0_t66_loop (v41 : BitVec 32) (v43 : BitVec 32) : Scf.Loop 32 :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_165 : BitVec 32 := 1#32
  ⟨v41, v464, c1_i32_165⟩
@[reducible] def k0_t67_loop (v456 : BitVec 32) (v458 : BitVec 32) : Scf.Loop 32 :=
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_376 : BitVec 32 := 1#32
  ⟨v456, v1008, c1_i32_376⟩

def k0_off967 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1012 : Index := Scalar.indexCast v1011
  let c0_378 : Index := 0#32
  ![v1012.toNat, 0]
def k0_off968 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1015 : Index := Scalar.indexCast v1011
  let c16 : Index := 16#32
  ![v1015.toNat, 16]
def k0_off969 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1018 : Index := Scalar.indexCast v1011
  let c32 : Index := 32#32
  ![v1018.toNat, 32]
def k0_off970 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1021 : Index := Scalar.indexCast v1011
  let c48 : Index := 48#32
  ![v1021.toNat, 48]
def k0_off971 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1024 : Index := Scalar.indexCast v1011
  let c64 : Index := 64#32
  ![v1024.toNat, 64]
def k0_off972 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1027 : Index := Scalar.indexCast v1011
  let c80 : Index := 80#32
  ![v1027.toNat, 80]
def k0_off973 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1030 : Index := Scalar.indexCast v1011
  let c96 : Index := 96#32
  ![v1030.toNat, 96]
def k0_off974 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1033 : Index := Scalar.indexCast v1011
  let c112 : Index := 112#32
  ![v1033.toNat, 112]
def k0_off975 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1036 : Index := Scalar.indexCast v1011
  let c128 : Index := 128#32
  ![v1036.toNat, 128]
def k0_off976 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1039 : Index := Scalar.indexCast v1011
  let c144 : Index := 144#32
  ![v1039.toNat, 144]
def k0_off977 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1042 : Index := Scalar.indexCast v1011
  let c160 : Index := 160#32
  ![v1042.toNat, 160]
def k0_off978 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1045 : Index := Scalar.indexCast v1011
  let c176 : Index := 176#32
  ![v1045.toNat, 176]
def k0_off979 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1048 : Index := Scalar.indexCast v1011
  let c192 : Index := 192#32
  ![v1048.toNat, 192]
def k0_off980 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1051 : Index := Scalar.indexCast v1011
  let c208 : Index := 208#32
  ![v1051.toNat, 208]
def k0_off981 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1054 : Index := Scalar.indexCast v1011
  let c224 : Index := 224#32
  ![v1054.toNat, 224]
def k0_off982 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1057 : Index := Scalar.indexCast v1011
  let c240 : Index := 240#32
  ![v1057.toNat, 240]
def k0_off983 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1060 : Index := Scalar.indexCast v1011
  let c256 : Index := 256#32
  ![v1060.toNat, 256]
def k0_off984 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1063 : Index := Scalar.indexCast v1011
  let c272 : Index := 272#32
  ![v1063.toNat, 272]
def k0_off985 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1066 : Index := Scalar.indexCast v1011
  let c288 : Index := 288#32
  ![v1066.toNat, 288]
def k0_off986 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1069 : Index := Scalar.indexCast v1011
  let c304 : Index := 304#32
  ![v1069.toNat, 304]
def k0_off987 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1072 : Index := Scalar.indexCast v1011
  let c320 : Index := 320#32
  ![v1072.toNat, 320]
def k0_off988 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1075 : Index := Scalar.indexCast v1011
  let c336 : Index := 336#32
  ![v1075.toNat, 336]
def k0_off989 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1078 : Index := Scalar.indexCast v1011
  let c352 : Index := 352#32
  ![v1078.toNat, 352]
def k0_off990 (v41 : BitVec 32) (v43 : BitVec 32) (v456 : BitVec 32) (v458 : BitVec 32) (k0_t66 : Fin (k0_t66_loop v41 v43).trips) (k0_t67 : Fin (k0_t67_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let c1_i32_376 : BitVec 32 := 1#32
  let arg36 : BitVec 32 := Scf.iv v456 c1_i32_376 k0_t67
  let v1011 : BitVec 32 := Scalar.addi v1003 arg36
  let v1081 : Index := Scalar.indexCast v1011
  let c368 : Index := 368#32
  ![v1081.toNat, 368]
@[reducible] def k0_t68_loop (v456 : BitVec 32) (v458 : BitVec 32) : Scf.Loop 32 :=
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let v1005 : BitVec 32 := Scalar.addi v456 v1004
  let c1_i32_377 : BitVec 32 := 1#32
  ⟨v1008, v1005, c1_i32_377⟩
def k0_off991 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1012 : Index := Scalar.indexCast v1011
  let c0_378 : Index := 0#32
  ![v1012.toNat, 0]
def k0_off992 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1015 : Index := Scalar.indexCast v1011
  let c16 : Index := 16#32
  ![v1015.toNat, 16]
def k0_off993 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1018 : Index := Scalar.indexCast v1011
  let c32 : Index := 32#32
  ![v1018.toNat, 32]
def k0_off994 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1021 : Index := Scalar.indexCast v1011
  let c48 : Index := 48#32
  ![v1021.toNat, 48]
def k0_off995 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1024 : Index := Scalar.indexCast v1011
  let c64 : Index := 64#32
  ![v1024.toNat, 64]
def k0_off996 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1027 : Index := Scalar.indexCast v1011
  let c80 : Index := 80#32
  ![v1027.toNat, 80]
def k0_off997 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1030 : Index := Scalar.indexCast v1011
  let c96 : Index := 96#32
  ![v1030.toNat, 96]
def k0_off998 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1033 : Index := Scalar.indexCast v1011
  let c112 : Index := 112#32
  ![v1033.toNat, 112]
def k0_off999 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1036 : Index := Scalar.indexCast v1011
  let c128 : Index := 128#32
  ![v1036.toNat, 128]
def k0_off1000 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1039 : Index := Scalar.indexCast v1011
  let c144 : Index := 144#32
  ![v1039.toNat, 144]
def k0_off1001 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1042 : Index := Scalar.indexCast v1011
  let c160 : Index := 160#32
  ![v1042.toNat, 160]
def k0_off1002 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1045 : Index := Scalar.indexCast v1011
  let c176 : Index := 176#32
  ![v1045.toNat, 176]
def k0_off1003 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1048 : Index := Scalar.indexCast v1011
  let c192 : Index := 192#32
  ![v1048.toNat, 192]
def k0_off1004 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1051 : Index := Scalar.indexCast v1011
  let c208 : Index := 208#32
  ![v1051.toNat, 208]
def k0_off1005 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1054 : Index := Scalar.indexCast v1011
  let c224 : Index := 224#32
  ![v1054.toNat, 224]
def k0_off1006 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1057 : Index := Scalar.indexCast v1011
  let c240 : Index := 240#32
  ![v1057.toNat, 240]
def k0_off1007 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1060 : Index := Scalar.indexCast v1011
  let c256 : Index := 256#32
  ![v1060.toNat, 256]
def k0_off1008 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1063 : Index := Scalar.indexCast v1011
  let c272 : Index := 272#32
  ![v1063.toNat, 272]
def k0_off1009 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1066 : Index := Scalar.indexCast v1011
  let c288 : Index := 288#32
  ![v1066.toNat, 288]
def k0_off1010 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1069 : Index := Scalar.indexCast v1011
  let c304 : Index := 304#32
  ![v1069.toNat, 304]
def k0_off1011 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1072 : Index := Scalar.indexCast v1011
  let c320 : Index := 320#32
  ![v1072.toNat, 320]
def k0_off1012 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1075 : Index := Scalar.indexCast v1011
  let c336 : Index := 336#32
  ![v1075.toNat, 336]
def k0_off1013 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1078 : Index := Scalar.indexCast v1011
  let c352 : Index := 352#32
  ![v1078.toNat, 352]
def k0_off1014 (v41 : BitVec 32) (v43 : BitVec 32) (v456 : BitVec 32) (v458 : BitVec 32) (k0_t66 : Fin (k0_t66_loop v41 v43).trips) (k0_t68 : Fin (k0_t68_loop v456 v458).trips) : Fin 2 → Nat :=
  let c1_i32_165 : BitVec 32 := 1#32
  let arg11 : BitVec 32 := Scf.iv v41 c1_i32_165 k0_t66
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t68
  let v1011 : BitVec 32 := Scalar.addi v1003 arg36
  let v1081 : Index := Scalar.indexCast v1011
  let c368 : Index := 368#32
  ![v1081.toNat, 368]
@[reducible] def k0_t69_loop (v41 : BitVec 32) (v43 : BitVec 32) : Scf.Loop 32 :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let v461 : BitVec 32 := Scalar.addi v41 v460
  let c1_i32_166 : BitVec 32 := 1#32
  ⟨v464, v461, c1_i32_166⟩
@[reducible] def k0_t70_loop (v456 : BitVec 32) (v458 : BitVec 32) : Scf.Loop 32 :=
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_376 : BitVec 32 := 1#32
  ⟨v456, v1008, c1_i32_376⟩
def k0_off1015 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1012 : Index := Scalar.indexCast v1011
  let c0_378 : Index := 0#32
  ![v1012.toNat, 0]
def k0_off1016 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1015 : Index := Scalar.indexCast v1011
  let c16 : Index := 16#32
  ![v1015.toNat, 16]
def k0_off1017 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1018 : Index := Scalar.indexCast v1011
  let c32 : Index := 32#32
  ![v1018.toNat, 32]
def k0_off1018 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1021 : Index := Scalar.indexCast v1011
  let c48 : Index := 48#32
  ![v1021.toNat, 48]
def k0_off1019 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1024 : Index := Scalar.indexCast v1011
  let c64 : Index := 64#32
  ![v1024.toNat, 64]
def k0_off1020 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1027 : Index := Scalar.indexCast v1011
  let c80 : Index := 80#32
  ![v1027.toNat, 80]
def k0_off1021 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1030 : Index := Scalar.indexCast v1011
  let c96 : Index := 96#32
  ![v1030.toNat, 96]
def k0_off1022 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1033 : Index := Scalar.indexCast v1011
  let c112 : Index := 112#32
  ![v1033.toNat, 112]
def k0_off1023 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1036 : Index := Scalar.indexCast v1011
  let c128 : Index := 128#32
  ![v1036.toNat, 128]
def k0_off1024 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1039 : Index := Scalar.indexCast v1011
  let c144 : Index := 144#32
  ![v1039.toNat, 144]
def k0_off1025 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1042 : Index := Scalar.indexCast v1011
  let c160 : Index := 160#32
  ![v1042.toNat, 160]
def k0_off1026 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1045 : Index := Scalar.indexCast v1011
  let c176 : Index := 176#32
  ![v1045.toNat, 176]
def k0_off1027 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1048 : Index := Scalar.indexCast v1011
  let c192 : Index := 192#32
  ![v1048.toNat, 192]
def k0_off1028 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1051 : Index := Scalar.indexCast v1011
  let c208 : Index := 208#32
  ![v1051.toNat, 208]
def k0_off1029 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1054 : Index := Scalar.indexCast v1011
  let c224 : Index := 224#32
  ![v1054.toNat, 224]
def k0_off1030 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1057 : Index := Scalar.indexCast v1011
  let c240 : Index := 240#32
  ![v1057.toNat, 240]
def k0_off1031 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1060 : Index := Scalar.indexCast v1011
  let c256 : Index := 256#32
  ![v1060.toNat, 256]
def k0_off1032 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1063 : Index := Scalar.indexCast v1011
  let c272 : Index := 272#32
  ![v1063.toNat, 272]
def k0_off1033 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1066 : Index := Scalar.indexCast v1011
  let c288 : Index := 288#32
  ![v1066.toNat, 288]
def k0_off1034 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1069 : Index := Scalar.indexCast v1011
  let c304 : Index := 304#32
  ![v1069.toNat, 304]
def k0_off1035 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1072 : Index := Scalar.indexCast v1011
  let c320 : Index := 320#32
  ![v1072.toNat, 320]
def k0_off1036 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1075 : Index := Scalar.indexCast v1011
  let c336 : Index := 336#32
  ![v1075.toNat, 336]
def k0_off1037 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1078 : Index := Scalar.indexCast v1011
  let c352 : Index := 352#32
  ![v1078.toNat, 352]
def k0_off1038 (v41 : BitVec 32) (v43 : BitVec 32) (v456 : BitVec 32) (v458 : BitVec 32) (k0_t69 : Fin (k0_t69_loop v41 v43).trips) (k0_t70 : Fin (k0_t70_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let c1_i32_376 : BitVec 32 := 1#32
  let arg36 : BitVec 32 := Scf.iv v456 c1_i32_376 k0_t70
  let v1011 : BitVec 32 := Scalar.addi v1003 arg36
  let v1081 : Index := Scalar.indexCast v1011
  let c368 : Index := 368#32
  ![v1081.toNat, 368]
@[reducible] def k0_t71_loop (v456 : BitVec 32) (v458 : BitVec 32) : Scf.Loop 32 :=
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let v1005 : BitVec 32 := Scalar.addi v456 v1004
  let c1_i32_377 : BitVec 32 := 1#32
  ⟨v1008, v1005, c1_i32_377⟩
def k0_off1039 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1012 : Index := Scalar.indexCast v1011
  let c0_378 : Index := 0#32
  ![v1012.toNat, 0]
def k0_off1040 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1015 : Index := Scalar.indexCast v1011
  let c16 : Index := 16#32
  ![v1015.toNat, 16]
def k0_off1041 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1018 : Index := Scalar.indexCast v1011
  let c32 : Index := 32#32
  ![v1018.toNat, 32]
def k0_off1042 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1021 : Index := Scalar.indexCast v1011
  let c48 : Index := 48#32
  ![v1021.toNat, 48]
def k0_off1043 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1024 : Index := Scalar.indexCast v1011
  let c64 : Index := 64#32
  ![v1024.toNat, 64]
def k0_off1044 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1027 : Index := Scalar.indexCast v1011
  let c80 : Index := 80#32
  ![v1027.toNat, 80]
def k0_off1045 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1030 : Index := Scalar.indexCast v1011
  let c96 : Index := 96#32
  ![v1030.toNat, 96]
def k0_off1046 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1033 : Index := Scalar.indexCast v1011
  let c112 : Index := 112#32
  ![v1033.toNat, 112]
def k0_off1047 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1036 : Index := Scalar.indexCast v1011
  let c128 : Index := 128#32
  ![v1036.toNat, 128]
def k0_off1048 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1039 : Index := Scalar.indexCast v1011
  let c144 : Index := 144#32
  ![v1039.toNat, 144]
def k0_off1049 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1042 : Index := Scalar.indexCast v1011
  let c160 : Index := 160#32
  ![v1042.toNat, 160]
def k0_off1050 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1045 : Index := Scalar.indexCast v1011
  let c176 : Index := 176#32
  ![v1045.toNat, 176]
def k0_off1051 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1048 : Index := Scalar.indexCast v1011
  let c192 : Index := 192#32
  ![v1048.toNat, 192]
def k0_off1052 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1051 : Index := Scalar.indexCast v1011
  let c208 : Index := 208#32
  ![v1051.toNat, 208]
def k0_off1053 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1054 : Index := Scalar.indexCast v1011
  let c224 : Index := 224#32
  ![v1054.toNat, 224]
def k0_off1054 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1057 : Index := Scalar.indexCast v1011
  let c240 : Index := 240#32
  ![v1057.toNat, 240]
def k0_off1055 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1060 : Index := Scalar.indexCast v1011
  let c256 : Index := 256#32
  ![v1060.toNat, 256]
def k0_off1056 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1063 : Index := Scalar.indexCast v1011
  let c272 : Index := 272#32
  ![v1063.toNat, 272]
def k0_off1057 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1066 : Index := Scalar.indexCast v1011
  let c288 : Index := 288#32
  ![v1066.toNat, 288]
def k0_off1058 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1069 : Index := Scalar.indexCast v1011
  let c304 : Index := 304#32
  ![v1069.toNat, 304]
def k0_off1059 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1072 : Index := Scalar.indexCast v1011
  let c320 : Index := 320#32
  ![v1072.toNat, 320]
def k0_off1060 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1075 : Index := Scalar.indexCast v1011
  let c336 : Index := 336#32
  ![v1075.toNat, 336]
def k0_off1061 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1078 : Index := Scalar.indexCast v1011
  let c352 : Index := 352#32
  ![v1078.toNat, 352]
def k0_off1062 (v41 : BitVec 32) (v43 : BitVec 32) (v456 : BitVec 32) (v458 : BitVec 32) (k0_t69 : Fin (k0_t69_loop v41 v43).trips) (k0_t71 : Fin (k0_t71_loop v456 v458).trips) : Fin 2 → Nat :=
  let v460 : BitVec 32 := Scalar.subi v43 v41
  let c1_i32_164 : BitVec 32 := 1#32
  let v462 : BitVec 32 := Scalar.divsi v460 c1_i32_164
  let v463 : BitVec 32 := Scalar.muli v462 c1_i32_164
  let v464 : BitVec 32 := Scalar.addi v41 v463
  let c1_i32_166 : BitVec 32 := 1#32
  let arg11 : BitVec 32 := Scf.iv v464 c1_i32_166 k0_t69
  let c14_i32 : BitVec 32 := 14#32
  let v1003 : BitVec 32 := Scalar.muli arg11 c14_i32
  let v1004 : BitVec 32 := Scalar.subi v458 v456
  let c1_i32_375 : BitVec 32 := 1#32
  let v1006 : BitVec 32 := Scalar.divsi v1004 c1_i32_375
  let v1007 : BitVec 32 := Scalar.muli v1006 c1_i32_375
  let v1008 : BitVec 32 := Scalar.addi v456 v1007
  let c1_i32_377 : BitVec 32 := 1#32
  let arg36 : BitVec 32 := Scf.iv v1008 c1_i32_377 k0_t71
  let v1011 : BitVec 32 := Scalar.addi v1003 arg36
  let v1081 : Index := Scalar.indexCast v1011
  let c368 : Index := 368#32
  ![v1081.toNat, 368]

def k0_chk255_0 (i : grid0.Coords) (v10 : BitVec 32) (v41 : BitVec 32) (v43 : BitVec 32) (v456 : BitVec 32) (v458 : BitVec 32) : Prop :=
  (∀ k0_t66 : Fin (k0_t66_loop v41 v43).trips, ∀ (k0_h1 : k0_cond1 i v10 = 1#1), (k0_t67_loop v456 v458).OK) ∧
  (∀ (k0_t66 : Fin (k0_t66_loop v41 v43).trips) (k0_t67 : Fin (k0_t67_loop v456 v458).trips), ∀ (k0_h1 : k0_cond1 i v10 = 1#1), ∀ a, (k0_off967 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off968 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off969 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off970 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off971 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off972 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off973 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off974 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off975 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off976 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off977 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off978 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off979 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off980 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off981 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off982 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off983 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off984 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off985 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off986 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off987 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off988 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off989 v41 v43 v456 v458 k0_t66 k0_t67) a + S1x16.size a ≤ S196x384.size a) ∧
  (∀ (k0_t66 : Fin (k0_t66_loop v41 v43).trips) (k0_t67 : Fin (k0_t67_loop v456 v458).trips), ∀ (k0_h1 : k0_cond1 i v10 = 1#1), ∀ a, (k0_off990 v41 v43 v456 v458 k0_t66 k0_t67) a + S1x16.size a ≤ S196x384.size a) ∧
  (∀ k0_t66 : Fin (k0_t66_loop v41 v43).trips, ∀ (k0_h1 : k0_cond1 i v10 = 1#1), (k0_t68_loop v456 v458).OK) ∧
  (∀ (k0_t66 : Fin (k0_t66_loop v41 v43).trips) (k0_t68 : Fin (k0_t68_loop v456 v458).trips), ∀ (k0_h1 : k0_cond1 i v10 = 1#1), ∀ a, (k0_off991 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off992 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off993 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off994 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off995 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off996 v41 v43 v456 v458 k0_t66 k0_t68) a + S1x16.size a ≤ S196x384.size a)
def k0_chk255_1 (i : grid0.Coords) (v10 : BitVec 32) (v41 : BitVec 32) (v43 : BitVec 32) (v456 : BitVec 32) (v458 : BitVec 32) : Prop :=
  (∀ (k0_t66 : Fin (k0_t66_loop v41 v43).trips) (k0_t68 : Fin (k0_t68_loop v456 v458).trips), ∀ (k0_h1 : k0_cond1 i v10 = 1#1), ∀ a, (k0_off997 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off998 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off999 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1000 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1001 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1002 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1003 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1004 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1005 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1006 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1007 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1008 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1009 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1010 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1011 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1012 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1013 v41 v43 v456 v458 k0_t66 k0_t68) a + S1x16.size a ≤ S196x384.size a) ∧
  (∀ (k0_t66 : Fin (k0_t66_loop v41 v43).trips) (k0_t68 : Fin (k0_t68_loop v456 v458).trips), ∀ (k0_h1 : k0_cond1 i v10 = 1#1), ∀ a, (k0_off1014 v41 v43 v456 v458 k0_t66 k0_t68) a + S1x16.size a ≤ S196x384.size a) ∧
  (∀ k0_t69 : Fin (k0_t69_loop v41 v43).trips, ∀ (k0_h1 : k0_cond1 i v10 = 1#1), (k0_t70_loop v456 v458).OK) ∧
  (∀ (k0_t69 : Fin (k0_t69_loop v41 v43).trips) (k0_t70 : Fin (k0_t70_loop v456 v458).trips), ∀ (k0_h1 : k0_cond1 i v10 = 1#1), ∀ a, (k0_off1015 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1016 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1017 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1018 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1019 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1020 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1021 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1022 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1023 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1024 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1025 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1026 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1027 v41 v43 v456 v458 k0_t69 k0_t70) a + S1x16.size a ≤ S196x384.size a)
def k0_chk255_2 (i : grid0.Coords) (v10 : BitVec 32) (v41 : BitVec 32) (v43 : BitVec 32) (v456 : BitVec 32) (v458 : BitVec 32) : Prop :=
  (∀ (k0_t69 : Fin (k0_t69_loop v41 v43).trips) (k0_t70 : Fin (k0_t70_loop v456 v458).trips), ∀ (k0_h1 : k0_cond1 i v10 = 1#1), ∀ a, (k0_off1028 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1029 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1030 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1031 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1032 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1033 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1034 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1035 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1036 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1037 v41 v43 v456 v458 k0_t69 k0_t70) a + S1x16.size a ≤ S196x384.size a) ∧
  (∀ (k0_t69 : Fin (k0_t69_loop v41 v43).trips) (k0_t70 : Fin (k0_t70_loop v456 v458).trips), ∀ (k0_h1 : k0_cond1 i v10 = 1#1), ∀ a, (k0_off1038 v41 v43 v456 v458 k0_t69 k0_t70) a + S1x16.size a ≤ S196x384.size a) ∧
  (∀ k0_t69 : Fin (k0_t69_loop v41 v43).trips, ∀ (k0_h1 : k0_cond1 i v10 = 1#1), (k0_t71_loop v456 v458).OK) ∧
  (∀ (k0_t69 : Fin (k0_t69_loop v41 v43).trips) (k0_t71 : Fin (k0_t71_loop v456 v458).trips), ∀ (k0_h1 : k0_cond1 i v10 = 1#1), ∀ a, (k0_off1039 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1040 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1041 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1042 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1043 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1044 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1045 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1046 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1047 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1048 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1049 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1050 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1051 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1052 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1053 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1054 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1055 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1056 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1057 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1058 v41 v43 v456 v458 k0_t69 k0_t71) a + S1x16.size a ≤ S196x384.size a)
def k0_chk255_3 (i : grid0.Coords) (v10 : BitVec 32) (v41 : BitVec 32) (v43 : BitVec 32) (v456 : BitVec 32) (v458 : BitVec 32) : Prop :=
  (∀ (k0_t69 : Fin (k0_t69_loop v41 v43).trips) (k0_t71 : Fin (k0_t71_loop v456 v458).trips), ∀ (k0_h1 : k0_cond1 i v10 = 1#1), ∀ a, (k0_off1059 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1060 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1061 v41 v43 v456 v458 k0_t69 k0_t71) a + S1x16.size a ≤ S196x384.size a) ∧
  (∀ (k0_t69 : Fin (k0_t69_loop v41 v43).trips) (k0_t71 : Fin (k0_t71_loop v456 v458).trips), ∀ (k0_h1 : k0_cond1 i v10 = 1#1), ∀ a, (k0_off1062 v41 v43 v456 v458 k0_t69 k0_t71) a + S1x16.size a ≤ S196x384.size a)
def k0_chk255 (i : grid0.Coords) (v10 : BitVec 32) (v41 : BitVec 32) (v43 : BitVec 32) (v456 : BitVec 32) (v458 : BitVec 32) : Prop :=
  k0_chk255_0 i v10 v41 v43 v456 v458 ∧
  k0_chk255_1 i v10 v41 v43 v456 v458 ∧
  k0_chk255_2 i v10 v41 v43 v456 v458 ∧
  k0_chk255_3 i v10 v41 v43 v456 v458
theorem k0_t67_ok : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips), ∀ (k0_h1 : k0_cond1 i v10 = 1#1), (k0_t67_loop v456 v458).OK := fun i v10 v41 v43 v456 v458 k0_hw255 k0_t66 k0_h1 => k0_hw255.1.1 k0_t66 k0_h1
theorem k0_off967_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off967 v41 v43 v456 v458 k0_t66 k0_t67) a + S1x16.size a ≤ S196x384.size a := fun i v10 v41 v43 v456 v458 k0_hw255 k0_t66 k0_t67 k0_h1 => k0_hw255.1.2.1 k0_t66 k0_t67 k0_h1
theorem k0_off968_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off968 v41 v43 v456 v458 k0_t66 k0_t67) a + S1x16.size a ≤ S196x384.size a := fun i v10 v41 v43 v456 v458 k0_hw255 k0_t66 k0_t67 k0_h1 => k0_hw255.1.2.2.1 k0_t66 k0_t67 k0_h1
theorem k0_off969_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off969 v41 v43 v456 v458 k0_t66 k0_t67) a + S1x16.size a ≤ S196x384.size a := fun i v10 v41 v43 v456 v458 k0_hw255 k0_t66 k0_t67 k0_h1 => k0_hw255.1.2.2.2.1 k0_t66 k0_t67 k0_h1
theorem k0_off970_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off970 v41 v43 v456 v458 k0_t66 k0_t67) a + S1x16.size a ≤ S196x384.size a := fun i v10 v41 v43 v456 v458 k0_hw255 k0_t66 k0_t67 k0_h1 => k0_hw255.1.2.2.2.2.1 k0_t66 k0_t67 k0_h1
theorem k0_off971_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off971 v41 v43 v456 v458 k0_t66 k0_t67) a + S1x16.size a ≤ S196x384.size a := fun i v10 v41 v43 v456 v458 k0_hw255 k0_t66 k0_t67 k0_h1 => k0_hw255.1.2.2.2.2.2.1 k0_t66 k0_t67 k0_h1
theorem k0_off972_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off972 v41 v43 v456 v458 k0_t66 k0_t67) a + S1x16.size a ≤ S196x384.size a := fun i v10 v41 v43 v456 v458 k0_hw255 k0_t66 k0_t67 k0_h1 => k0_hw255.1.2.2.2.2.2.2.1 k0_t66 k0_t67 k0_h1
theorem k0_off973_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off973 v41 v43 v456 v458 k0_t66 k0_t67) a + S1x16.size a ≤ S196x384.size a := fun i v10 v41 v43 v456 v458 k0_hw255 k0_t66 k0_t67 k0_h1 => k0_hw255.1.2.2.2.2.2.2.2.1 k0_t66 k0_t67 k0_h1
theorem k0_off974_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off974 v41 v43 v456 v458 k0_t66 k0_t67) a + S1x16.size a ≤ S196x384.size a := fun i v10 v41 v43 v456 v458 k0_hw255 k0_t66 k0_t67 k0_h1 => k0_hw255.1.2.2.2.2.2.2.2.2.1 k0_t66 k0_t67 k0_h1
theorem k0_off975_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off975 v41 v43 v456 v458 k0_t66 k0_t67) a + S1x16.size a ≤ S196x384.size a := fun i v10 v41 v43 v456 v458 k0_hw255 k0_t66 k0_t67 k0_h1 => k0_hw255.1.2.2.2.2.2.2.2.2.2.1 k0_t66 k0_t67 k0_h1
theorem k0_off976_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off976 v41 v43 v456 v458 k0_t66 k0_t67) a + S1x16.size a ≤ S196x384.size a := fun i v10 v41 v43 v456 v458 k0_hw255 k0_t66 k0_t67 k0_h1 => k0_hw255.1.2.2.2.2.2.2.2.2.2.2.1 k0_t66 k0_t67 k0_h1
theorem k0_off977_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off977 v41 v43 v456 v458 k0_t66 k0_t67) a + S1x16.size a ≤ S196x384.size a := fun i v10 v41 v43 v456 v458 k0_hw255 k0_t66 k0_t67 k0_h1 => k0_hw255.1.2.2.2.2.2.2.2.2.2.2.2.1 k0_t66 k0_t67 k0_h1
theorem k0_off978_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off978 v41 v43 v456 v458 k0_t66 k0_t67) a + S1x16.size a ≤ S196x384.size a := fun i v10 v41 v43 v456 v458 k0_hw255 k0_t66 k0_t67 k0_h1 => k0_hw255.1.2.2.2.2.2.2.2.2.2.2.2.2.1 k0_t66 k0_t67 k0_h1
theorem k0_off979_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off979 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.1 k0_t66 k0_t67 k0_h1
theorem k0_off980_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off980 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.1 k0_t66 k0_t67 k0_h1
theorem k0_off981_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off981 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.1 k0_t66 k0_t67 k0_h1
theorem k0_off982_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off982 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.2.1 k0_t66 k0_t67 k0_h1
theorem k0_off983_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off983 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.2.2.1 k0_t66 k0_t67 k0_h1
theorem k0_off984_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off984 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.2.2.2.1 k0_t66 k0_t67 k0_h1
theorem k0_off985_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off985 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.2.2.2.2.1 k0_t66 k0_t67 k0_h1
theorem k0_off986_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off986 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.2.2.2.2.2.1 k0_t66 k0_t67 k0_h1
theorem k0_off987_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off987 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.2.2.2.2.2.2.1 k0_t66 k0_t67 k0_h1
theorem k0_off988_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off988 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.2.2.2.2.2.2.2.1 k0_t66 k0_t67 k0_h1
theorem k0_off989_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off989 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.2.2.2.2.2.2.2.2.1 k0_t66 k0_t67 k0_h1
theorem k0_off990_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t67 : Fin (k0_t67_loop v456 v458).trips), ∀ (k0_h1 : k0_cond1 i v10 = 1#1), ∀ a, (k0_off990 v41 v43 v456 v458 k0_t66 k0_t67) a + S1x16.size a ≤ S196x384.size a := fun i v10 v41 v43 v456 v458 k0_hw255 k0_t66 k0_t67 k0_h1 => k0_hw255.1.2.2.2.2.2.2.2.2.2.2.2.2.2.2.2.2.2.2.2.2.2.2.2.2.1 k0_t66 k0_t67 k0_h1
theorem k0_t68_ok : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips), ∀ (k0_h1 : k0_cond1 i v10 = 1#1), (k0_t68_loop v456 v458).OK := fun i v10 v41 v43 v456 v458 k0_hw255 k0_t66 k0_h1 => k0_hw255.1.2.2.2.2.2.2.2.2.2.2.2.2.2.2.2.2.2.2.2.2.2.2.2.2.2.1 k0_t66 k0_h1
theorem k0_off991_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off991 v41 v43 v456 v458 k0_t66 k0_t68) a + S1x16.size a ≤ S196x384.size a := fun i v10 v41 v43 v456 v458 k0_hw255 k0_t66 k0_t68 k0_h1 => k0_hw255.1.2.2.2.2.2.2.2.2.2.2.2.2.2.2.2.2.2.2.2.2.2.2.2.2.2.2.1 k0_t66 k0_t68 k0_h1
theorem k0_off992_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off992 v41 v43 v456 v458 k0_t66 k0_t68) a + S1x16.size a ≤ S196x384.size a := fun i v10 v41 v43 v456 v458 k0_hw255 k0_t66 k0_t68 k0_h1 => k0_hw255.1.2.2.2.2.2.2.2.2.2.2.2.2.2.2.2.2.2.2.2.2.2.2.2.2.2.2.2.1 k0_t66 k0_t68 k0_h1
theorem k0_off993_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off993 v41 v43 v456 v458 k0_t66 k0_t68) a + S1x16.size a ≤ S196x384.size a := fun i v10 v41 v43 v456 v458 k0_hw255 k0_t66 k0_t68 k0_h1 => k0_hw255.1.2.2.2.2.2.2.2.2.2.2.2.2.2.2.2.2.2.2.2.2.2.2.2.2.2.2.2.2.1 k0_t66 k0_t68 k0_h1
theorem k0_off994_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off994 v41 v43 v456 v458 k0_t66 k0_t68) a + S1x16.size a ≤ S196x384.size a := fun i v10 v41 v43 v456 v458 k0_hw255 k0_t66 k0_t68 k0_h1 => k0_hw255.1.2.2.2.2.2.2.2.2.2.2.2.2.2.2.2.2.2.2.2.2.2.2.2.2.2.2.2.2.2.1 k0_t66 k0_t68 k0_h1
theorem k0_off995_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off995 v41 v43 v456 v458 k0_t66 k0_t68) a + S1x16.size a ≤ S196x384.size a := fun i v10 v41 v43 v456 v458 k0_hw255 k0_t66 k0_t68 k0_h1 => k0_hw255.1.2.2.2.2.2.2.2.2.2.2.2.2.2.2.2.2.2.2.2.2.2.2.2.2.2.2.2.2.2.2.1 k0_t66 k0_t68 k0_h1
theorem k0_off996_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off996 v41 v43 v456 v458 k0_t66 k0_t68) a + S1x16.size a ≤ S196x384.size a := fun i v10 v41 v43 v456 v458 k0_hw255 k0_t66 k0_t68 k0_h1 => k0_hw255.1.2.2.2.2.2.2.2.2.2.2.2.2.2.2.2.2.2.2.2.2.2.2.2.2.2.2.2.2.2.2.2 k0_t66 k0_t68 k0_h1
theorem k0_off997_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off997 v41 v43 v456 v458 k0_t66 k0_t68) a + S1x16.size a ≤ S196x384.size a := fun i v10 v41 v43 v456 v458 k0_hw255 k0_t66 k0_t68 k0_h1 => k0_hw255.2.1.1 k0_t66 k0_t68 k0_h1
theorem k0_off998_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off998 v41 v43 v456 v458 k0_t66 k0_t68) a + S1x16.size a ≤ S196x384.size a := fun i v10 v41 v43 v456 v458 k0_hw255 k0_t66 k0_t68 k0_h1 => k0_hw255.2.1.2.1 k0_t66 k0_t68 k0_h1
theorem k0_off999_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off999 v41 v43 v456 v458 k0_t66 k0_t68) a + S1x16.size a ≤ S196x384.size a := fun i v10 v41 v43 v456 v458 k0_hw255 k0_t66 k0_t68 k0_h1 => k0_hw255.2.1.2.2.1 k0_t66 k0_t68 k0_h1
theorem k0_off1000_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1000 v41 v43 v456 v458 k0_t66 k0_t68) a + S1x16.size a ≤ S196x384.size a := fun i v10 v41 v43 v456 v458 k0_hw255 k0_t66 k0_t68 k0_h1 => k0_hw255.2.1.2.2.2.1 k0_t66 k0_t68 k0_h1
theorem k0_off1001_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1001 v41 v43 v456 v458 k0_t66 k0_t68) a + S1x16.size a ≤ S196x384.size a := fun i v10 v41 v43 v456 v458 k0_hw255 k0_t66 k0_t68 k0_h1 => k0_hw255.2.1.2.2.2.2.1 k0_t66 k0_t68 k0_h1
theorem k0_off1002_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1002 v41 v43 v456 v458 k0_t66 k0_t68) a + S1x16.size a ≤ S196x384.size a := fun i v10 v41 v43 v456 v458 k0_hw255 k0_t66 k0_t68 k0_h1 => k0_hw255.2.1.2.2.2.2.2.1 k0_t66 k0_t68 k0_h1
theorem k0_off1003_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1003 v41 v43 v456 v458 k0_t66 k0_t68) a + S1x16.size a ≤ S196x384.size a := fun i v10 v41 v43 v456 v458 k0_hw255 k0_t66 k0_t68 k0_h1 => k0_hw255.2.1.2.2.2.2.2.2.1 k0_t66 k0_t68 k0_h1
theorem k0_off1004_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1004 v41 v43 v456 v458 k0_t66 k0_t68) a + S1x16.size a ≤ S196x384.size a := fun i v10 v41 v43 v456 v458 k0_hw255 k0_t66 k0_t68 k0_h1 => k0_hw255.2.1.2.2.2.2.2.2.2.1 k0_t66 k0_t68 k0_h1
theorem k0_off1005_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1005 v41 v43 v456 v458 k0_t66 k0_t68) a + S1x16.size a ≤ S196x384.size a := fun i v10 v41 v43 v456 v458 k0_hw255 k0_t66 k0_t68 k0_h1 => k0_hw255.2.1.2.2.2.2.2.2.2.2.1 k0_t66 k0_t68 k0_h1
theorem k0_off1006_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1006 v41 v43 v456 v458 k0_t66 k0_t68) a + S1x16.size a ≤ S196x384.size a := fun i v10 v41 v43 v456 v458 k0_hw255 k0_t66 k0_t68 k0_h1 => k0_hw255.2.1.2.2.2.2.2.2.2.2.2.1 k0_t66 k0_t68 k0_h1
theorem k0_off1007_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1007 v41 v43 v456 v458 k0_t66 k0_t68) a + S1x16.size a ≤ S196x384.size a := fun i v10 v41 v43 v456 v458 k0_hw255 k0_t66 k0_t68 k0_h1 => k0_hw255.2.1.2.2.2.2.2.2.2.2.2.2.1 k0_t66 k0_t68 k0_h1
theorem k0_off1008_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1008 v41 v43 v456 v458 k0_t66 k0_t68) a + S1x16.size a ≤ S196x384.size a := fun i v10 v41 v43 v456 v458 k0_hw255 k0_t66 k0_t68 k0_h1 => k0_hw255.2.1.2.2.2.2.2.2.2.2.2.2.2.1 k0_t66 k0_t68 k0_h1
theorem k0_off1009_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1009 v41 v43 v456 v458 k0_t66 k0_t68) a + S1x16.size a ≤ S196x384.size a := fun i v10 v41 v43 v456 v458 k0_hw255 k0_t66 k0_t68 k0_h1 => k0_hw255.2.1.2.2.2.2.2.2.2.2.2.2.2.2.1 k0_t66 k0_t68 k0_h1
theorem k0_off1010_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1010 v41 v43 v456 v458 k0_t66 k0_t68) a + S1x16.size a ≤ S196x384.size a := fun i v10 v41 v43 v456 v458 k0_hw255 k0_t66 k0_t68 k0_h1 => k0_hw255.2.1.2.2.2.2.2.2.2.2.2.2.2.2.2.1 k0_t66 k0_t68 k0_h1
theorem k0_off1011_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1011 v41 v43 v456 v458 k0_t66 k0_t68) a + S1x16.size a ≤ S196x384.size a := fun i v10 v41 v43 v456 v458 k0_hw255 k0_t66 k0_t68 k0_h1 => k0_hw255.2.1.2.2.2.2.2.2.2.2.2.2.2.2.2.2.1 k0_t66 k0_t68 k0_h1
theorem k0_off1012_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1012 v41 v43 v456 v458 k0_t66 k0_t68) a + S1x16.size a ≤ S196x384.size a := fun i v10 v41 v43 v456 v458 k0_hw255 k0_t66 k0_t68 k0_h1 => k0_hw255.2.1.2.2.2.2.2.2.2.2.2.2.2.2.2.2.2.1 k0_t66 k0_t68 k0_h1
theorem k0_off1013_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1013 v41 v43 v456 v458 k0_t66 k0_t68) a + S1x16.size a ≤ S196x384.size a := fun i v10 v41 v43 v456 v458 k0_hw255 k0_t66 k0_t68 k0_h1 => k0_hw255.2.1.2.2.2.2.2.2.2.2.2.2.2.2.2.2.2.2.1 k0_t66 k0_t68 k0_h1
theorem k0_off1014_inb : ∀ (i : grid0.Coords) (v10 : BitVec 32) (v41 : BitVec 32) (v43 : BitVec 32) (v456 : BitVec 32) (v458 : BitVec 32) (k0_hw255 : k0_chk255 i v10 v41 v43 v456 v458) (k0_t66 : Fin (k0_t66_loop v41 v43).trips) (k0_t68 : Fin (k0_t68_loop v456 v458).trips), ∀ (k0_h1 : k0_cond1 i v10 = 1#1), ∀ a, (k0_off1014 v41 v43 v456 v458 k0_t66 k0_t68) a + S1x16.size a ≤ S196x384.size a := fun i v10 v41 v43 v456 v458 k0_hw255 k0_t66 k0_t68 k0_h1 => k0_hw255.2.1.2.2.2.2.2.2.2.2.2.2.2.2.2.2.2.2.2.1 k0_t66 k0_t68 k0_h1
theorem k0_t70_ok : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips), ∀ (k0_h1 : k0_cond1 i v10 = 1#1), (k0_t70_loop v456 v458).OK := fun i v10 v41 v43 v456 v458 k0_hw255 k0_t69 k0_h1 => k0_hw255.2.1.2.2.2.2.2.2.2.2.2.2.2.2.2.2.2.2.2.2.1 k0_t69 k0_h1
theorem k0_off1015_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1015 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.1 k0_t69 k0_t70 k0_h1
theorem k0_off1016_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1016 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.1 k0_t69 k0_t70 k0_h1
theorem k0_off1017_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1017 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.1 k0_t69 k0_t70 k0_h1
theorem k0_off1018_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1018 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.1 k0_t69 k0_t70 k0_h1
theorem k0_off1019_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1019 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.2.1 k0_t69 k0_t70 k0_h1
theorem k0_off1020_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1020 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.2.2.1 k0_t69 k0_t70 k0_h1
theorem k0_off1021_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1021 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.2.2.2.1 k0_t69 k0_t70 k0_h1
theorem k0_off1022_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1022 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.2.2.2.2.1 k0_t69 k0_t70 k0_h1
theorem k0_off1023_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1023 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.2.2.2.2.2.1 k0_t69 k0_t70 k0_h1
theorem k0_off1024_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1024 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.2.2.2.2.2.2.1 k0_t69 k0_t70 k0_h1
theorem k0_off1025_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1025 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.2.2.2.2.2.2.2.1 k0_t69 k0_t70 k0_h1
theorem k0_off1026_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1026 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.2.2.2.2.2.2.2.2.1 k0_t69 k0_t70 k0_h1
theorem k0_off1027_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1027 v41 v43 v456 v458 k0_t69 k0_t70) a + S1x16.size a ≤ S196x384.size a := fun i v10 v41 v43 v456 v458 k0_hw255 k0_t69 k0_t70 k0_h1 => k0_hw255.2.1.2.2.2.2.2.2.2.2.2.2.2.2.2.2.2.2.2.2.2.2.2.2.2.2.2.2.2.2.2.2.2 k0_t69 k0_t70 k0_h1
theorem k0_off1028_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1028 v41 v43 v456 v458 k0_t69 k0_t70) a + S1x16.size a ≤ S196x384.size a := fun i v10 v41 v43 v456 v458 k0_hw255 k0_t69 k0_t70 k0_h1 => k0_hw255.2.2.1.1 k0_t69 k0_t70 k0_h1
theorem k0_off1029_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1029 v41 v43 v456 v458 k0_t69 k0_t70) a + S1x16.size a ≤ S196x384.size a := fun i v10 v41 v43 v456 v458 k0_hw255 k0_t69 k0_t70 k0_h1 => k0_hw255.2.2.1.2.1 k0_t69 k0_t70 k0_h1
theorem k0_off1030_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1030 v41 v43 v456 v458 k0_t69 k0_t70) a + S1x16.size a ≤ S196x384.size a := fun i v10 v41 v43 v456 v458 k0_hw255 k0_t69 k0_t70 k0_h1 => k0_hw255.2.2.1.2.2.1 k0_t69 k0_t70 k0_h1
theorem k0_off1031_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1031 v41 v43 v456 v458 k0_t69 k0_t70) a + S1x16.size a ≤ S196x384.size a := fun i v10 v41 v43 v456 v458 k0_hw255 k0_t69 k0_t70 k0_h1 => k0_hw255.2.2.1.2.2.2.1 k0_t69 k0_t70 k0_h1
theorem k0_off1032_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1032 v41 v43 v456 v458 k0_t69 k0_t70) a + S1x16.size a ≤ S196x384.size a := fun i v10 v41 v43 v456 v458 k0_hw255 k0_t69 k0_t70 k0_h1 => k0_hw255.2.2.1.2.2.2.2.1 k0_t69 k0_t70 k0_h1
theorem k0_off1033_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1033 v41 v43 v456 v458 k0_t69 k0_t70) a + S1x16.size a ≤ S196x384.size a := fun i v10 v41 v43 v456 v458 k0_hw255 k0_t69 k0_t70 k0_h1 => k0_hw255.2.2.1.2.2.2.2.2.1 k0_t69 k0_t70 k0_h1
theorem k0_off1034_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1034 v41 v43 v456 v458 k0_t69 k0_t70) a + S1x16.size a ≤ S196x384.size a := fun i v10 v41 v43 v456 v458 k0_hw255 k0_t69 k0_t70 k0_h1 => k0_hw255.2.2.1.2.2.2.2.2.2.1 k0_t69 k0_t70 k0_h1
theorem k0_off1035_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1035 v41 v43 v456 v458 k0_t69 k0_t70) a + S1x16.size a ≤ S196x384.size a := fun i v10 v41 v43 v456 v458 k0_hw255 k0_t69 k0_t70 k0_h1 => k0_hw255.2.2.1.2.2.2.2.2.2.2.1 k0_t69 k0_t70 k0_h1
theorem k0_off1036_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1036 v41 v43 v456 v458 k0_t69 k0_t70) a + S1x16.size a ≤ S196x384.size a := fun i v10 v41 v43 v456 v458 k0_hw255 k0_t69 k0_t70 k0_h1 => k0_hw255.2.2.1.2.2.2.2.2.2.2.2.1 k0_t69 k0_t70 k0_h1
theorem k0_off1037_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1037 v41 v43 v456 v458 k0_t69 k0_t70) a + S1x16.size a ≤ S196x384.size a := fun i v10 v41 v43 v456 v458 k0_hw255 k0_t69 k0_t70 k0_h1 => k0_hw255.2.2.1.2.2.2.2.2.2.2.2.2.1 k0_t69 k0_t70 k0_h1
theorem k0_off1038_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t70 : Fin (k0_t70_loop v456 v458).trips), ∀ (k0_h1 : k0_cond1 i v10 = 1#1), ∀ a, (k0_off1038 v41 v43 v456 v458 k0_t69 k0_t70) a + S1x16.size a ≤ S196x384.size a := fun i v10 v41 v43 v456 v458 k0_hw255 k0_t69 k0_t70 k0_h1 => k0_hw255.2.2.1.2.2.2.2.2.2.2.2.2.2.1 k0_t69 k0_t70 k0_h1
theorem k0_t71_ok : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips), ∀ (k0_h1 : k0_cond1 i v10 = 1#1), (k0_t71_loop v456 v458).OK := fun i v10 v41 v43 v456 v458 k0_hw255 k0_t69 k0_h1 => k0_hw255.2.2.1.2.2.2.2.2.2.2.2.2.2.2.1 k0_t69 k0_h1
theorem k0_off1039_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1039 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.1 k0_t69 k0_t71 k0_h1
theorem k0_off1040_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1040 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.1 k0_t69 k0_t71 k0_h1
theorem k0_off1041_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1041 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.1 k0_t69 k0_t71 k0_h1
theorem k0_off1042_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1042 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.1 k0_t69 k0_t71 k0_h1
theorem k0_off1043_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1043 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.1 k0_t69 k0_t71 k0_h1
theorem k0_off1044_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1044 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.1 k0_t69 k0_t71 k0_h1
theorem k0_off1045_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1045 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.1 k0_t69 k0_t71 k0_h1
theorem k0_off1046_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1046 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.1 k0_t69 k0_t71 k0_h1
theorem k0_off1047_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1047 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.1 k0_t69 k0_t71 k0_h1
theorem k0_off1048_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1048 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.1 k0_t69 k0_t71 k0_h1
theorem k0_off1049_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1049 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.1 k0_t69 k0_t71 k0_h1
theorem k0_off1050_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1050 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.2.1 k0_t69 k0_t71 k0_h1
theorem k0_off1051_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1051 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.2.2.1 k0_t69 k0_t71 k0_h1
theorem k0_off1052_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1052 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.2.2.2.1 k0_t69 k0_t71 k0_h1
theorem k0_off1053_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1053 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.2.2.2.2.1 k0_t69 k0_t71 k0_h1
theorem k0_off1054_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1054 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.2.2.2.2.2.1 k0_t69 k0_t71 k0_h1
theorem k0_off1055_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1055 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.2.2.2.2.2.2.1 k0_t69 k0_t71 k0_h1
theorem k0_off1056_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1056 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.2.2.2.2.2.2.2.1 k0_t69 k0_t71 k0_h1
theorem k0_off1057_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1057 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.2.2.2.2.2.2.2.2.1 k0_t69 k0_t71 k0_h1
theorem k0_off1058_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1058 v41 v43 v456 v458 k0_t69 k0_t71) a + S1x16.size a ≤ S196x384.size a := fun i v10 v41 v43 v456 v458 k0_hw255 k0_t69 k0_t71 k0_h1 => k0_hw255.2.2.1.2.2.2.2.2.2.2.2.2.2.2.2.2.2.2.2.2.2.2.2.2.2.2.2.2.2.2.2.2.2.2 k0_t69 k0_t71 k0_h1
theorem k0_off1059_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1059 v41 v43 v456 v458 k0_t69 k0_t71) a + S1x16.size a ≤ S196x384.size a := fun i v10 v41 v43 v456 v458 k0_hw255 k0_t69 k0_t71 k0_h1 => k0_hw255.2.2.2.1 k0_t69 k0_t71 k0_h1
theorem k0_off1060_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1060 v41 v43 v456 v458 k0_t69 k0_t71) a + S1x16.size a ≤ S196x384.size a := fun i v10 v41 v43 v456 v458 k0_hw255 k0_t69 k0_t71 k0_h1 => k0_hw255.2.2.2.2.1 k0_t69 k0_t71 k0_h1
theorem k0_off1061_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1061 v41 v43 v456 v458 k0_t69 k0_t71) a + S1x16.size a ≤ S196x384.size a := fun i v10 v41 v43 v456 v458 k0_hw255 k0_t69 k0_t71 k0_h1 => k0_hw255.2.2.2.2.2.1 k0_t69 k0_t71 k0_h1
theorem k0_off1062_inb : ∀ (i : grid0.Coords) (v10 : BitVec 32) (v41 : BitVec 32) (v43 : BitVec 32) (v456 : BitVec 32) (v458 : BitVec 32) (k0_hw255 : k0_chk255 i v10 v41 v43 v456 v458) (k0_t69 : Fin (k0_t69_loop v41 v43).trips) (k0_t71 : Fin (k0_t71_loop v456 v458).trips), ∀ (k0_h1 : k0_cond1 i v10 = 1#1), ∀ a, (k0_off1062 v41 v43 v456 v458 k0_t69 k0_t71) a + S1x16.size a ≤ S196x384.size a := fun i v10 v41 v43 v456 v458 k0_hw255 k0_t69 k0_t71 k0_h1 => k0_hw255.2.2.2.2.2.2 k0_t69 k0_t71 k0_h1

def k0_chk256 (i : grid0.Coords) (v10 : BitVec 32) (v476 : IVec S16 32) : Prop :=
  (∀ (k0_h1 : k0_cond1 i v10 = 1#1), ∀ a x, ((![v476] : Fin 1 → IVec S16 32) a x).toNat < S18816.size a)
theorem k0_idx241_inb : ∀ (i : grid0.Coords) (v10 : BitVec 32) (v476 : IVec S16 32) (k0_hw256 : k0_chk256 i v10 v476), ∀ (k0_h1 : k0_cond1 i v10 = 1#1), ∀ a x, ((![v476] : Fin 1 → IVec S16 32) a x).toNat < S18816.size a := fun i v10 v476 k0_hw256 k0_h1 => k0_hw256 k0_h1

def k0_chk257 (i : grid0.Coords) (v10 : BitVec 32) (v481 : IVec S16 32) : Prop :=
  (∀ (k0_h1 : k0_cond1 i v10 = 1#1), ∀ a x, ((![v481] : Fin 1 → IVec S16 32) a x).toNat < S18816.size a)
theorem k0_idx242_inb : ∀ (i : grid0.Coords) (v10 : BitVec 32) (v481 : IVec S16 32) (k0_hw257 : k0_chk257 i v10 v481), ∀ (k0_h1 : k0_cond1 i v10 = 1#1), ∀ a x, ((![v481] : Fin 1 → IVec S16 32) a x).toNat < S18816.size a := fun i v10 v481 k0_hw257 k0_h1 => k0_hw257 k0_h1

def k0_chk258 (i : grid0.Coords) (v10 : BitVec 32) (v486 : IVec S16 32) : Prop :=
  (∀ (k0_h1 : k0_cond1 i v10 = 1#1), ∀ a x, ((![v486] : Fin 1 → IVec S16 32) a x).toNat < S18816.size a)
theorem k0_idx243_inb : ∀ (i : grid0.Coords) (v10 : BitVec 32) (v486 : IVec S16 32) (k0_hw258 : k0_chk258 i v10 v486), ∀ (k0_h1 : k0_cond1 i v10 = 1#1), ∀ a x, ((![v486] : Fin 1 → IVec S16 32) a x).toNat < S18816.size a := fun i v10 v486 k0_hw258 k0_h1 => k0_hw258 k0_h1

def k0_chk259 (i : grid0.Coords) (v10 : BitVec 32) (v491 : IVec S16 32) : Prop :=
  (∀ (k0_h1 : k0_cond1 i v10 = 1#1), ∀ a x, ((![v491] : Fin 1 → IVec S16 32) a x).toNat < S18816.size a)
theorem k0_idx244_inb : ∀ (i : grid0.Coords) (v10 : BitVec 32) (v491 : IVec S16 32) (k0_hw259 : k0_chk259 i v10 v491), ∀ (k0_h1 : k0_cond1 i v10 = 1#1), ∀ a x, ((![v491] : Fin 1 → IVec S16 32) a x).toNat < S18816.size a := fun i v10 v491 k0_hw259 k0_h1 => k0_hw259 k0_h1

def k0_chk260 (i : grid0.Coords) (v10 : BitVec 32) (v496 : IVec S16 32) : Prop :=
  (∀ (k0_h1 : k0_cond1 i v10 = 1#1), ∀ a x, ((![v496] : Fin 1 → IVec S16 32) a x).toNat < S18816.size a)
theorem k0_idx245_inb : ∀ (i : grid0.Coords) (v10 : BitVec 32) (v496 : IVec S16 32) (k0_hw260 : k0_chk260 i v10 v496), ∀ (k0_h1 : k0_cond1 i v10 = 1#1), ∀ a x, ((![v496] : Fin 1 → IVec S16 32) a x).toNat < S18816.size a := fun i v10 v496 k0_hw260 k0_h1 => k0_hw260 k0_h1

def k0_chk261 (i : grid0.Coords) (v10 : BitVec 32) (v501 : IVec S16 32) : Prop :=
  (∀ (k0_h1 : k0_cond1 i v10 = 1#1), ∀ a x, ((![v501] : Fin 1 → IVec S16 32) a x).toNat < S18816.size a)
theorem k0_idx246_inb : ∀ (i : grid0.Coords) (v10 : BitVec 32) (v501 : IVec S16 32) (k0_hw261 : k0_chk261 i v10 v501), ∀ (k0_h1 : k0_cond1 i v10 = 1#1), ∀ a x, ((![v501] : Fin 1 → IVec S16 32) a x).toNat < S18816.size a := fun i v10 v501 k0_hw261 k0_h1 => k0_hw261 k0_h1

def k0_chk262 (i : grid0.Coords) (v10 : BitVec 32) (v506 : IVec S16 32) : Prop :=
  (∀ (k0_h1 : k0_cond1 i v10 = 1#1), ∀ a x, ((![v506] : Fin 1 → IVec S16 32) a x).toNat < S18816.size a)
theorem k0_idx247_inb : ∀ (i : grid0.Coords) (v10 : BitVec 32) (v506 : IVec S16 32) (k0_hw262 : k0_chk262 i v10 v506), ∀ (k0_h1 : k0_cond1 i v10 = 1#1), ∀ a x, ((![v506] : Fin 1 → IVec S16 32) a x).toNat < S18816.size a := fun i v10 v506 k0_hw262 k0_h1 => k0_hw262 k0_h1

def k0_chk263 (i : grid0.Coords) (v10 : BitVec 32) (v511 : IVec S16 32) : Prop :=
  (∀ (k0_h1 : k0_cond1 i v10 = 1#1), ∀ a x, ((![v511] : Fin 1 → IVec S16 32) a x).toNat < S18816.size a)
theorem k0_idx248_inb : ∀ (i : grid0.Coords) (v10 : BitVec 32) (v511 : IVec S16 32) (k0_hw263 : k0_chk263 i v10 v511), ∀ (k0_h1 : k0_cond1 i v10 = 1#1), ∀ a x, ((![v511] : Fin 1 → IVec S16 32) a x).toNat < S18816.size a := fun i v10 v511 k0_hw263 k0_h1 => k0_hw263 k0_h1

def k0_chk264 (i : grid0.Coords) (v10 : BitVec 32) (v516 : IVec S16 32) : Prop :=
  (∀ (k0_h1 : k0_cond1 i v10 = 1#1), ∀ a x, ((![v516] : Fin 1 → IVec S16 32) a x).toNat < S18816.size a)
theorem k0_idx249_inb : ∀ (i : grid0.Coords) (v10 : BitVec 32) (v516 : IVec S16 32) (k0_hw264 : k0_chk264 i v10 v516), ∀ (k0_h1 : k0_cond1 i v10 = 1#1), ∀ a x, ((![v516] : Fin 1 → IVec S16 32) a x).toNat < S18816.size a := fun i v10 v516 k0_hw264 k0_h1 => k0_hw264 k0_h1

def k0_chk265 (i : grid0.Coords) (v10 : BitVec 32) (v521 : IVec S16 32) : Prop :=
  (∀ (k0_h1 : k0_cond1 i v10 = 1#1), ∀ a x, ((![v521] : Fin 1 → IVec S16 32) a x).toNat < S18816.size a)
theorem k0_idx250_inb : ∀ (i : grid0.Coords) (v10 : BitVec 32) (v521 : IVec S16 32) (k0_hw265 : k0_chk265 i v10 v521), ∀ (k0_h1 : k0_cond1 i v10 = 1#1), ∀ a x, ((![v521] : Fin 1 → IVec S16 32) a x).toNat < S18816.size a := fun i v10 v521 k0_hw265 k0_h1 => k0_hw265 k0_h1

def k0_chk266 (i : grid0.Coords) (v10 : BitVec 32) (v526 : IVec S16 32) : Prop :=
  (∀ (k0_h1 : k0_cond1 i v10 = 1#1), ∀ a x, ((![v526] : Fin 1 → IVec S16 32) a x).toNat < S18816.size a)
theorem k0_idx251_inb : ∀ (i : grid0.Coords) (v10 : BitVec 32) (v526 : IVec S16 32) (k0_hw266 : k0_chk266 i v10 v526), ∀ (k0_h1 : k0_cond1 i v10 = 1#1), ∀ a x, ((![v526] : Fin 1 → IVec S16 32) a x).toNat < S18816.size a := fun i v10 v526 k0_hw266 k0_h1 => k0_hw266 k0_h1

def k0_chk267 (i : grid0.Coords) (v10 : BitVec 32) (v531 : IVec S16 32) : Prop :=
  (∀ (k0_h1 : k0_cond1 i v10 = 1#1), ∀ a x, ((![v531] : Fin 1 → IVec S16 32) a x).toNat < S18816.size a)
theorem k0_idx252_inb : ∀ (i : grid0.Coords) (v10 : BitVec 32) (v531 : IVec S16 32) (k0_hw267 : k0_chk267 i v10 v531), ∀ (k0_h1 : k0_cond1 i v10 = 1#1), ∀ a x, ((![v531] : Fin 1 → IVec S16 32) a x).toNat < S18816.size a := fun i v10 v531 k0_hw267 k0_h1 => k0_hw267 k0_h1

def k0_chk268 (i : grid0.Coords) (v10 : BitVec 32) (v536 : IVec S16 32) : Prop :=
  (∀ (k0_h1 : k0_cond1 i v10 = 1#1), ∀ a x, ((![v536] : Fin 1 → IVec S16 32) a x).toNat < S18816.size a)
theorem k0_idx253_inb : ∀ (i : grid0.Coords) (v10 : BitVec 32) (v536 : IVec S16 32) (k0_hw268 : k0_chk268 i v10 v536), ∀ (k0_h1 : k0_cond1 i v10 = 1#1), ∀ a x, ((![v536] : Fin 1 → IVec S16 32) a x).toNat < S18816.size a := fun i v10 v536 k0_hw268 k0_h1 => k0_hw268 k0_h1

def k0_chk269 (i : grid0.Coords) (v10 : BitVec 32) (v541 : IVec S16 32) : Prop :=
  (∀ (k0_h1 : k0_cond1 i v10 = 1#1), ∀ a x, ((![v541] : Fin 1 → IVec S16 32) a x).toNat < S18816.size a)
theorem k0_idx254_inb : ∀ (i : grid0.Coords) (v10 : BitVec 32) (v541 : IVec S16 32) (k0_hw269 : k0_chk269 i v10 v541), ∀ (k0_h1 : k0_cond1 i v10 = 1#1), ∀ a x, ((![v541] : Fin 1 → IVec S16 32) a x).toNat < S18816.size a := fun i v10 v541 k0_hw269 k0_h1 => k0_hw269 k0_h1

def k0_chk270 (i : grid0.Coords) (v10 : BitVec 32) (v546 : IVec S16 32) : Prop :=
  (∀ (k0_h1 : k0_cond1 i v10 = 1#1), ∀ a x, ((![v546] : Fin 1 → IVec S16 32) a x).toNat < S18816.size a)
theorem k0_idx255_inb : ∀ (i : grid0.Coords) (v10 : BitVec 32) (v546 : IVec S16 32) (k0_hw270 : k0_chk270 i v10 v546), ∀ (k0_h1 : k0_cond1 i v10 = 1#1), ∀ a x, ((![v546] : Fin 1 → IVec S16 32) a x).toNat < S18816.size a := fun i v10 v546 k0_hw270 k0_h1 => k0_hw270 k0_h1

def k0_chk271 (i : grid0.Coords) (v10 : BitVec 32) (v551 : IVec S16 32) : Prop :=
  (∀ (k0_h1 : k0_cond1 i v10 = 1#1), ∀ a x, ((![v551] : Fin 1 → IVec S16 32) a x).toNat < S18816.size a)
theorem k0_idx256_inb : ∀ (i : grid0.Coords) (v10 : BitVec 32) (v551 : IVec S16 32) (k0_hw271 : k0_chk271 i v10 v551), ∀ (k0_h1 : k0_cond1 i v10 = 1#1), ∀ a x, ((![v551] : Fin 1 → IVec S16 32) a x).toNat < S18816.size a := fun i v10 v551 k0_hw271 k0_h1 => k0_hw271 k0_h1

def k0_chk272 (i : grid0.Coords) (v10 : BitVec 32) (v556 : IVec S16 32) : Prop :=
  (∀ (k0_h1 : k0_cond1 i v10 = 1#1), ∀ a x, ((![v556] : Fin 1 → IVec S16 32) a x).toNat < S18816.size a)
theorem k0_idx257_inb : ∀ (i : grid0.Coords) (v10 : BitVec 32) (v556 : IVec S16 32) (k0_hw272 : k0_chk272 i v10 v556), ∀ (k0_h1 : k0_cond1 i v10 = 1#1), ∀ a x, ((![v556] : Fin 1 → IVec S16 32) a x).toNat < S18816.size a := fun i v10 v556 k0_hw272 k0_h1 => k0_hw272 k0_h1

def k0_chk273 (i : grid0.Coords) (v10 : BitVec 32) (v561 : IVec S16 32) : Prop :=
  (∀ (k0_h1 : k0_cond1 i v10 = 1#1), ∀ a x, ((![v561] : Fin 1 → IVec S16 32) a x).toNat < S18816.size a)
theorem k0_idx258_inb : ∀ (i : grid0.Coords) (v10 : BitVec 32) (v561 : IVec S16 32) (k0_hw273 : k0_chk273 i v10 v561), ∀ (k0_h1 : k0_cond1 i v10 = 1#1), ∀ a x, ((![v561] : Fin 1 → IVec S16 32) a x).toNat < S18816.size a := fun i v10 v561 k0_hw273 k0_h1 => k0_hw273 k0_h1

def k0_chk274 (i : grid0.Coords) (v10 : BitVec 32) (v566 : IVec S16 32) : Prop :=
  (∀ (k0_h1 : k0_cond1 i v10 = 1#1), ∀ a x, ((![v566] : Fin 1 → IVec S16 32) a x).toNat < S18816.size a)
theorem k0_idx259_inb : ∀ (i : grid0.Coords) (v10 : BitVec 32) (v566 : IVec S16 32) (k0_hw274 : k0_chk274 i v10 v566), ∀ (k0_h1 : k0_cond1 i v10 = 1#1), ∀ a x, ((![v566] : Fin 1 → IVec S16 32) a x).toNat < S18816.size a := fun i v10 v566 k0_hw274 k0_h1 => k0_hw274 k0_h1

def k0_chk275 (i : grid0.Coords) (v10 : BitVec 32) (v571 : IVec S16 32) : Prop :=
  (∀ (k0_h1 : k0_cond1 i v10 = 1#1), ∀ a x, ((![v571] : Fin 1 → IVec S16 32) a x).toNat < S18816.size a)
theorem k0_idx260_inb : ∀ (i : grid0.Coords) (v10 : BitVec 32) (v571 : IVec S16 32) (k0_hw275 : k0_chk275 i v10 v571), ∀ (k0_h1 : k0_cond1 i v10 = 1#1), ∀ a x, ((![v571] : Fin 1 → IVec S16 32) a x).toNat < S18816.size a := fun i v10 v571 k0_hw275 k0_h1 => k0_hw275 k0_h1

def k0_chk276 (i : grid0.Coords) (v10 : BitVec 32) (v576 : IVec S16 32) : Prop :=
  (∀ (k0_h1 : k0_cond1 i v10 = 1#1), ∀ a x, ((![v576] : Fin 1 → IVec S16 32) a x).toNat < S18816.size a)
theorem k0_idx261_inb : ∀ (i : grid0.Coords) (v10 : BitVec 32) (v576 : IVec S16 32) (k0_hw276 : k0_chk276 i v10 v576), ∀ (k0_h1 : k0_cond1 i v10 = 1#1), ∀ a x, ((![v576] : Fin 1 → IVec S16 32) a x).toNat < S18816.size a := fun i v10 v576 k0_hw276 k0_h1 => k0_hw276 k0_h1

def k0_chk277 (i : grid0.Coords) (v10 : BitVec 32) (v581 : IVec S16 32) : Prop :=
  (∀ (k0_h1 : k0_cond1 i v10 = 1#1), ∀ a x, ((![v581] : Fin 1 → IVec S16 32) a x).toNat < S18816.size a)
theorem k0_idx262_inb : ∀ (i : grid0.Coords) (v10 : BitVec 32) (v581 : IVec S16 32) (k0_hw277 : k0_chk277 i v10 v581), ∀ (k0_h1 : k0_cond1 i v10 = 1#1), ∀ a x, ((![v581] : Fin 1 → IVec S16 32) a x).toNat < S18816.size a := fun i v10 v581 k0_hw277 k0_h1 => k0_hw277 k0_h1

def k0_chk278 (i : grid0.Coords) (v10 : BitVec 32) (v586 : IVec S16 32) : Prop :=
  (∀ (k0_h1 : k0_cond1 i v10 = 1#1), ∀ a x, ((![v586] : Fin 1 → IVec S16 32) a x).toNat < S18816.size a)
theorem k0_idx263_inb : ∀ (i : grid0.Coords) (v10 : BitVec 32) (v586 : IVec S16 32) (k0_hw278 : k0_chk278 i v10 v586), ∀ (k0_h1 : k0_cond1 i v10 = 1#1), ∀ a x, ((![v586] : Fin 1 → IVec S16 32) a x).toNat < S18816.size a := fun i v10 v586 k0_hw278 k0_h1 => k0_hw278 k0_h1

def k0_chk279 (i : grid0.Coords) (v10 : BitVec 32) (v591 : IVec S16 32) : Prop :=
  (∀ (k0_h1 : k0_cond1 i v10 = 1#1), ∀ a x, ((![v591] : Fin 1 → IVec S16 32) a x).toNat < S18816.size a)
theorem k0_idx264_inb : ∀ (i : grid0.Coords) (v10 : BitVec 32) (v591 : IVec S16 32) (k0_hw279 : k0_chk279 i v10 v591), ∀ (k0_h1 : k0_cond1 i v10 = 1#1), ∀ a x, ((![v591] : Fin 1 → IVec S16 32) a x).toNat < S18816.size a := fun i v10 v591 k0_hw279 k0_h1 => k0_hw279 k0_h1
@[reducible] def k0_t72_loop (v41 : BitVec 32) (v43 : BitVec 32) : Scf.Loop 32 :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_218 : BitVec 32 := 1#32
  ⟨v41, v601, c1_i32_218⟩
@[reducible] def k0_t73_loop (v593 : BitVec 32) (v595 : BitVec 32) : Scf.Loop 32 :=
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_376 : BitVec 32 := 1#32
  ⟨v593, v1008, c1_i32_376⟩

def k0_off1063 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1012 : Index := Scalar.indexCast v1011
  let c0_378 : Index := 0#32
  ![v1012.toNat, 0]
def k0_off1064 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1015 : Index := Scalar.indexCast v1011
  let c16 : Index := 16#32
  ![v1015.toNat, 16]
def k0_off1065 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1018 : Index := Scalar.indexCast v1011
  let c32 : Index := 32#32
  ![v1018.toNat, 32]
def k0_off1066 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1021 : Index := Scalar.indexCast v1011
  let c48 : Index := 48#32
  ![v1021.toNat, 48]
def k0_off1067 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1024 : Index := Scalar.indexCast v1011
  let c64 : Index := 64#32
  ![v1024.toNat, 64]
def k0_off1068 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1027 : Index := Scalar.indexCast v1011
  let c80 : Index := 80#32
  ![v1027.toNat, 80]
def k0_off1069 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1030 : Index := Scalar.indexCast v1011
  let c96 : Index := 96#32
  ![v1030.toNat, 96]
def k0_off1070 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1033 : Index := Scalar.indexCast v1011
  let c112 : Index := 112#32
  ![v1033.toNat, 112]
def k0_off1071 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1036 : Index := Scalar.indexCast v1011
  let c128 : Index := 128#32
  ![v1036.toNat, 128]
def k0_off1072 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1039 : Index := Scalar.indexCast v1011
  let c144 : Index := 144#32
  ![v1039.toNat, 144]
def k0_off1073 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1042 : Index := Scalar.indexCast v1011
  let c160 : Index := 160#32
  ![v1042.toNat, 160]
def k0_off1074 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1045 : Index := Scalar.indexCast v1011
  let c176 : Index := 176#32
  ![v1045.toNat, 176]
def k0_off1075 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1048 : Index := Scalar.indexCast v1011
  let c192 : Index := 192#32
  ![v1048.toNat, 192]
def k0_off1076 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1051 : Index := Scalar.indexCast v1011
  let c208 : Index := 208#32
  ![v1051.toNat, 208]
def k0_off1077 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1054 : Index := Scalar.indexCast v1011
  let c224 : Index := 224#32
  ![v1054.toNat, 224]
def k0_off1078 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1057 : Index := Scalar.indexCast v1011
  let c240 : Index := 240#32
  ![v1057.toNat, 240]
def k0_off1079 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1060 : Index := Scalar.indexCast v1011
  let c256 : Index := 256#32
  ![v1060.toNat, 256]
def k0_off1080 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1063 : Index := Scalar.indexCast v1011
  let c272 : Index := 272#32
  ![v1063.toNat, 272]
def k0_off1081 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1066 : Index := Scalar.indexCast v1011
  let c288 : Index := 288#32
  ![v1066.toNat, 288]
def k0_off1082 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1069 : Index := Scalar.indexCast v1011
  let c304 : Index := 304#32
  ![v1069.toNat, 304]
def k0_off1083 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1072 : Index := Scalar.indexCast v1011
  let c320 : Index := 320#32
  ![v1072.toNat, 320]
def k0_off1084 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1075 : Index := Scalar.indexCast v1011
  let c336 : Index := 336#32
  ![v1075.toNat, 336]
def k0_off1085 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1078 : Index := Scalar.indexCast v1011
  let c352 : Index := 352#32
  ![v1078.toNat, 352]
def k0_off1086 (v41 : BitVec 32) (v43 : BitVec 32) (v593 : BitVec 32) (v595 : BitVec 32) (k0_t72 : Fin (k0_t72_loop v41 v43).trips) (k0_t73 : Fin (k0_t73_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let c1_i32_376 : BitVec 32 := 1#32
  let arg36 : BitVec 32 := Scf.iv v593 c1_i32_376 k0_t73
  let v1011 : BitVec 32 := Scalar.addi v1003 arg36
  let v1081 : Index := Scalar.indexCast v1011
  let c368 : Index := 368#32
  ![v1081.toNat, 368]
@[reducible] def k0_t74_loop (v593 : BitVec 32) (v595 : BitVec 32) : Scf.Loop 32 :=
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let v1005 : BitVec 32 := Scalar.addi v593 v1004
  let c1_i32_377 : BitVec 32 := 1#32
  ⟨v1008, v1005, c1_i32_377⟩
def k0_off1087 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1012 : Index := Scalar.indexCast v1011
  let c0_378 : Index := 0#32
  ![v1012.toNat, 0]
def k0_off1088 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1015 : Index := Scalar.indexCast v1011
  let c16 : Index := 16#32
  ![v1015.toNat, 16]
def k0_off1089 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1018 : Index := Scalar.indexCast v1011
  let c32 : Index := 32#32
  ![v1018.toNat, 32]
def k0_off1090 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1021 : Index := Scalar.indexCast v1011
  let c48 : Index := 48#32
  ![v1021.toNat, 48]
def k0_off1091 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1024 : Index := Scalar.indexCast v1011
  let c64 : Index := 64#32
  ![v1024.toNat, 64]
def k0_off1092 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1027 : Index := Scalar.indexCast v1011
  let c80 : Index := 80#32
  ![v1027.toNat, 80]
def k0_off1093 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1030 : Index := Scalar.indexCast v1011
  let c96 : Index := 96#32
  ![v1030.toNat, 96]
def k0_off1094 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1033 : Index := Scalar.indexCast v1011
  let c112 : Index := 112#32
  ![v1033.toNat, 112]
def k0_off1095 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1036 : Index := Scalar.indexCast v1011
  let c128 : Index := 128#32
  ![v1036.toNat, 128]
def k0_off1096 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1039 : Index := Scalar.indexCast v1011
  let c144 : Index := 144#32
  ![v1039.toNat, 144]
def k0_off1097 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1042 : Index := Scalar.indexCast v1011
  let c160 : Index := 160#32
  ![v1042.toNat, 160]
def k0_off1098 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1045 : Index := Scalar.indexCast v1011
  let c176 : Index := 176#32
  ![v1045.toNat, 176]
def k0_off1099 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1048 : Index := Scalar.indexCast v1011
  let c192 : Index := 192#32
  ![v1048.toNat, 192]
def k0_off1100 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1051 : Index := Scalar.indexCast v1011
  let c208 : Index := 208#32
  ![v1051.toNat, 208]
def k0_off1101 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1054 : Index := Scalar.indexCast v1011
  let c224 : Index := 224#32
  ![v1054.toNat, 224]
def k0_off1102 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1057 : Index := Scalar.indexCast v1011
  let c240 : Index := 240#32
  ![v1057.toNat, 240]
def k0_off1103 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1060 : Index := Scalar.indexCast v1011
  let c256 : Index := 256#32
  ![v1060.toNat, 256]
def k0_off1104 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1063 : Index := Scalar.indexCast v1011
  let c272 : Index := 272#32
  ![v1063.toNat, 272]
def k0_off1105 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1066 : Index := Scalar.indexCast v1011
  let c288 : Index := 288#32
  ![v1066.toNat, 288]
def k0_off1106 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1069 : Index := Scalar.indexCast v1011
  let c304 : Index := 304#32
  ![v1069.toNat, 304]
def k0_off1107 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1072 : Index := Scalar.indexCast v1011
  let c320 : Index := 320#32
  ![v1072.toNat, 320]
def k0_off1108 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1075 : Index := Scalar.indexCast v1011
  let c336 : Index := 336#32
  ![v1075.toNat, 336]
def k0_off1109 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1078 : Index := Scalar.indexCast v1011
  let c352 : Index := 352#32
  ![v1078.toNat, 352]
def k0_off1110 (v41 : BitVec 32) (v43 : BitVec 32) (v593 : BitVec 32) (v595 : BitVec 32) (k0_t72 : Fin (k0_t72_loop v41 v43).trips) (k0_t74 : Fin (k0_t74_loop v593 v595).trips) : Fin 2 → Nat :=
  let c1_i32_218 : BitVec 32 := 1#32
  let arg11 : BitVec 32 := Scf.iv v41 c1_i32_218 k0_t72
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t74
  let v1011 : BitVec 32 := Scalar.addi v1003 arg36
  let v1081 : Index := Scalar.indexCast v1011
  let c368 : Index := 368#32
  ![v1081.toNat, 368]
@[reducible] def k0_t75_loop (v41 : BitVec 32) (v43 : BitVec 32) : Scf.Loop 32 :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let v598 : BitVec 32 := Scalar.addi v41 v597
  let c1_i32_219 : BitVec 32 := 1#32
  ⟨v601, v598, c1_i32_219⟩
@[reducible] def k0_t76_loop (v593 : BitVec 32) (v595 : BitVec 32) : Scf.Loop 32 :=
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_376 : BitVec 32 := 1#32
  ⟨v593, v1008, c1_i32_376⟩
def k0_off1111 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1012 : Index := Scalar.indexCast v1011
  let c0_378 : Index := 0#32
  ![v1012.toNat, 0]
def k0_off1112 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1015 : Index := Scalar.indexCast v1011
  let c16 : Index := 16#32
  ![v1015.toNat, 16]
def k0_off1113 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1018 : Index := Scalar.indexCast v1011
  let c32 : Index := 32#32
  ![v1018.toNat, 32]
def k0_off1114 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1021 : Index := Scalar.indexCast v1011
  let c48 : Index := 48#32
  ![v1021.toNat, 48]
def k0_off1115 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1024 : Index := Scalar.indexCast v1011
  let c64 : Index := 64#32
  ![v1024.toNat, 64]
def k0_off1116 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1027 : Index := Scalar.indexCast v1011
  let c80 : Index := 80#32
  ![v1027.toNat, 80]
def k0_off1117 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1030 : Index := Scalar.indexCast v1011
  let c96 : Index := 96#32
  ![v1030.toNat, 96]
def k0_off1118 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1033 : Index := Scalar.indexCast v1011
  let c112 : Index := 112#32
  ![v1033.toNat, 112]
def k0_off1119 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1036 : Index := Scalar.indexCast v1011
  let c128 : Index := 128#32
  ![v1036.toNat, 128]
def k0_off1120 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1039 : Index := Scalar.indexCast v1011
  let c144 : Index := 144#32
  ![v1039.toNat, 144]
def k0_off1121 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1042 : Index := Scalar.indexCast v1011
  let c160 : Index := 160#32
  ![v1042.toNat, 160]
def k0_off1122 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1045 : Index := Scalar.indexCast v1011
  let c176 : Index := 176#32
  ![v1045.toNat, 176]
def k0_off1123 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1048 : Index := Scalar.indexCast v1011
  let c192 : Index := 192#32
  ![v1048.toNat, 192]
def k0_off1124 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1051 : Index := Scalar.indexCast v1011
  let c208 : Index := 208#32
  ![v1051.toNat, 208]
def k0_off1125 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1054 : Index := Scalar.indexCast v1011
  let c224 : Index := 224#32
  ![v1054.toNat, 224]
def k0_off1126 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1057 : Index := Scalar.indexCast v1011
  let c240 : Index := 240#32
  ![v1057.toNat, 240]
def k0_off1127 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1060 : Index := Scalar.indexCast v1011
  let c256 : Index := 256#32
  ![v1060.toNat, 256]
def k0_off1128 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1063 : Index := Scalar.indexCast v1011
  let c272 : Index := 272#32
  ![v1063.toNat, 272]
def k0_off1129 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1066 : Index := Scalar.indexCast v1011
  let c288 : Index := 288#32
  ![v1066.toNat, 288]
def k0_off1130 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1069 : Index := Scalar.indexCast v1011
  let c304 : Index := 304#32
  ![v1069.toNat, 304]
def k0_off1131 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1072 : Index := Scalar.indexCast v1011
  let c320 : Index := 320#32
  ![v1072.toNat, 320]
def k0_off1132 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1075 : Index := Scalar.indexCast v1011
  let c336 : Index := 336#32
  ![v1075.toNat, 336]
def k0_off1133 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1078 : Index := Scalar.indexCast v1011
  let c352 : Index := 352#32
  ![v1078.toNat, 352]
def k0_off1134 (v41 : BitVec 32) (v43 : BitVec 32) (v593 : BitVec 32) (v595 : BitVec 32) (k0_t75 : Fin (k0_t75_loop v41 v43).trips) (k0_t76 : Fin (k0_t76_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let c1_i32_376 : BitVec 32 := 1#32
  let arg36 : BitVec 32 := Scf.iv v593 c1_i32_376 k0_t76
  let v1011 : BitVec 32 := Scalar.addi v1003 arg36
  let v1081 : Index := Scalar.indexCast v1011
  let c368 : Index := 368#32
  ![v1081.toNat, 368]
@[reducible] def k0_t77_loop (v593 : BitVec 32) (v595 : BitVec 32) : Scf.Loop 32 :=
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let v1005 : BitVec 32 := Scalar.addi v593 v1004
  let c1_i32_377 : BitVec 32 := 1#32
  ⟨v1008, v1005, c1_i32_377⟩
def k0_off1135 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1012 : Index := Scalar.indexCast v1011
  let c0_378 : Index := 0#32
  ![v1012.toNat, 0]
def k0_off1136 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1015 : Index := Scalar.indexCast v1011
  let c16 : Index := 16#32
  ![v1015.toNat, 16]
def k0_off1137 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1018 : Index := Scalar.indexCast v1011
  let c32 : Index := 32#32
  ![v1018.toNat, 32]
def k0_off1138 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1021 : Index := Scalar.indexCast v1011
  let c48 : Index := 48#32
  ![v1021.toNat, 48]
def k0_off1139 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1024 : Index := Scalar.indexCast v1011
  let c64 : Index := 64#32
  ![v1024.toNat, 64]
def k0_off1140 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1027 : Index := Scalar.indexCast v1011
  let c80 : Index := 80#32
  ![v1027.toNat, 80]
def k0_off1141 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1030 : Index := Scalar.indexCast v1011
  let c96 : Index := 96#32
  ![v1030.toNat, 96]
def k0_off1142 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1033 : Index := Scalar.indexCast v1011
  let c112 : Index := 112#32
  ![v1033.toNat, 112]
def k0_off1143 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1036 : Index := Scalar.indexCast v1011
  let c128 : Index := 128#32
  ![v1036.toNat, 128]
def k0_off1144 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1039 : Index := Scalar.indexCast v1011
  let c144 : Index := 144#32
  ![v1039.toNat, 144]
def k0_off1145 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1042 : Index := Scalar.indexCast v1011
  let c160 : Index := 160#32
  ![v1042.toNat, 160]
def k0_off1146 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1045 : Index := Scalar.indexCast v1011
  let c176 : Index := 176#32
  ![v1045.toNat, 176]
def k0_off1147 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1048 : Index := Scalar.indexCast v1011
  let c192 : Index := 192#32
  ![v1048.toNat, 192]
def k0_off1148 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1051 : Index := Scalar.indexCast v1011
  let c208 : Index := 208#32
  ![v1051.toNat, 208]
def k0_off1149 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1054 : Index := Scalar.indexCast v1011
  let c224 : Index := 224#32
  ![v1054.toNat, 224]
def k0_off1150 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1057 : Index := Scalar.indexCast v1011
  let c240 : Index := 240#32
  ![v1057.toNat, 240]
def k0_off1151 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1060 : Index := Scalar.indexCast v1011
  let c256 : Index := 256#32
  ![v1060.toNat, 256]
def k0_off1152 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1063 : Index := Scalar.indexCast v1011
  let c272 : Index := 272#32
  ![v1063.toNat, 272]
def k0_off1153 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1066 : Index := Scalar.indexCast v1011
  let c288 : Index := 288#32
  ![v1066.toNat, 288]
def k0_off1154 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1069 : Index := Scalar.indexCast v1011
  let c304 : Index := 304#32
  ![v1069.toNat, 304]
def k0_off1155 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1072 : Index := Scalar.indexCast v1011
  let c320 : Index := 320#32
  ![v1072.toNat, 320]
def k0_off1156 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1075 : Index := Scalar.indexCast v1011
  let c336 : Index := 336#32
  ![v1075.toNat, 336]
def k0_off1157 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1078 : Index := Scalar.indexCast v1011
  let c352 : Index := 352#32
  ![v1078.toNat, 352]
def k0_off1158 (v41 : BitVec 32) (v43 : BitVec 32) (v593 : BitVec 32) (v595 : BitVec 32) (k0_t75 : Fin (k0_t75_loop v41 v43).trips) (k0_t77 : Fin (k0_t77_loop v593 v595).trips) : Fin 2 → Nat :=
  let v597 : BitVec 32 := Scalar.subi v43 v41
  let c1_i32_217 : BitVec 32 := 1#32
  let v599 : BitVec 32 := Scalar.divsi v597 c1_i32_217
  let v600 : BitVec 32 := Scalar.muli v599 c1_i32_217
  let v601 : BitVec 32 := Scalar.addi v41 v600
  let c1_i32_219 : BitVec 32 := 1#32
  let arg11 : BitVec 32 := Scf.iv v601 c1_i32_219 k0_t75
  let c14_i32 : BitVec 32 := 14#32
  let v1003 : BitVec 32 := Scalar.muli arg11 c14_i32
  let v1004 : BitVec 32 := Scalar.subi v595 v593
  let c1_i32_375 : BitVec 32 := 1#32
  let v1006 : BitVec 32 := Scalar.divsi v1004 c1_i32_375
  let v1007 : BitVec 32 := Scalar.muli v1006 c1_i32_375
  let v1008 : BitVec 32 := Scalar.addi v593 v1007
  let c1_i32_377 : BitVec 32 := 1#32
  let arg36 : BitVec 32 := Scf.iv v1008 c1_i32_377 k0_t77
  let v1011 : BitVec 32 := Scalar.addi v1003 arg36
  let v1081 : Index := Scalar.indexCast v1011
  let c368 : Index := 368#32
  ![v1081.toNat, 368]

def k0_chk280_0 (i : grid0.Coords) (v10 : BitVec 32) (v41 : BitVec 32) (v43 : BitVec 32) (v593 : BitVec 32) (v595 : BitVec 32) : Prop :=
  (∀ k0_t72 : Fin (k0_t72_loop v41 v43).trips, ∀ (k0_h1 : k0_cond1 i v10 = 1#1), (k0_t73_loop v593 v595).OK) ∧
  (∀ (k0_t72 : Fin (k0_t72_loop v41 v43).trips) (k0_t73 : Fin (k0_t73_loop v593 v595).trips), ∀ (k0_h1 : k0_cond1 i v10 = 1#1), ∀ a, (k0_off1063 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1064 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1065 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1066 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1067 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1068 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1069 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1070 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1071 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1072 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1073 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1074 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1075 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1076 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1077 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1078 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1079 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1080 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1081 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1082 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1083 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1084 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1085 v41 v43 v593 v595 k0_t72 k0_t73) a + S1x16.size a ≤ S196x384.size a) ∧
  (∀ (k0_t72 : Fin (k0_t72_loop v41 v43).trips) (k0_t73 : Fin (k0_t73_loop v593 v595).trips), ∀ (k0_h1 : k0_cond1 i v10 = 1#1), ∀ a, (k0_off1086 v41 v43 v593 v595 k0_t72 k0_t73) a + S1x16.size a ≤ S196x384.size a) ∧
  (∀ k0_t72 : Fin (k0_t72_loop v41 v43).trips, ∀ (k0_h1 : k0_cond1 i v10 = 1#1), (k0_t74_loop v593 v595).OK) ∧
  (∀ (k0_t72 : Fin (k0_t72_loop v41 v43).trips) (k0_t74 : Fin (k0_t74_loop v593 v595).trips), ∀ (k0_h1 : k0_cond1 i v10 = 1#1), ∀ a, (k0_off1087 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1088 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1089 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1090 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1091 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1092 v41 v43 v593 v595 k0_t72 k0_t74) a + S1x16.size a ≤ S196x384.size a)
def k0_chk280_1 (i : grid0.Coords) (v10 : BitVec 32) (v41 : BitVec 32) (v43 : BitVec 32) (v593 : BitVec 32) (v595 : BitVec 32) : Prop :=
  (∀ (k0_t72 : Fin (k0_t72_loop v41 v43).trips) (k0_t74 : Fin (k0_t74_loop v593 v595).trips), ∀ (k0_h1 : k0_cond1 i v10 = 1#1), ∀ a, (k0_off1093 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1094 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1095 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1096 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1097 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1098 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1099 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1100 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1101 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1102 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1103 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1104 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1105 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1106 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1107 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1108 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1109 v41 v43 v593 v595 k0_t72 k0_t74) a + S1x16.size a ≤ S196x384.size a) ∧
  (∀ (k0_t72 : Fin (k0_t72_loop v41 v43).trips) (k0_t74 : Fin (k0_t74_loop v593 v595).trips), ∀ (k0_h1 : k0_cond1 i v10 = 1#1), ∀ a, (k0_off1110 v41 v43 v593 v595 k0_t72 k0_t74) a + S1x16.size a ≤ S196x384.size a) ∧
  (∀ k0_t75 : Fin (k0_t75_loop v41 v43).trips, ∀ (k0_h1 : k0_cond1 i v10 = 1#1), (k0_t76_loop v593 v595).OK) ∧
  (∀ (k0_t75 : Fin (k0_t75_loop v41 v43).trips) (k0_t76 : Fin (k0_t76_loop v593 v595).trips), ∀ (k0_h1 : k0_cond1 i v10 = 1#1), ∀ a, (k0_off1111 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1112 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1113 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1114 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1115 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1116 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1117 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1118 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1119 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1120 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1121 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1122 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1123 v41 v43 v593 v595 k0_t75 k0_t76) a + S1x16.size a ≤ S196x384.size a)
def k0_chk280_2 (i : grid0.Coords) (v10 : BitVec 32) (v41 : BitVec 32) (v43 : BitVec 32) (v593 : BitVec 32) (v595 : BitVec 32) : Prop :=
  (∀ (k0_t75 : Fin (k0_t75_loop v41 v43).trips) (k0_t76 : Fin (k0_t76_loop v593 v595).trips), ∀ (k0_h1 : k0_cond1 i v10 = 1#1), ∀ a, (k0_off1124 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1125 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1126 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1127 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1128 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1129 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1130 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1131 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1132 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1133 v41 v43 v593 v595 k0_t75 k0_t76) a + S1x16.size a ≤ S196x384.size a) ∧
  (∀ (k0_t75 : Fin (k0_t75_loop v41 v43).trips) (k0_t76 : Fin (k0_t76_loop v593 v595).trips), ∀ (k0_h1 : k0_cond1 i v10 = 1#1), ∀ a, (k0_off1134 v41 v43 v593 v595 k0_t75 k0_t76) a + S1x16.size a ≤ S196x384.size a) ∧
  (∀ k0_t75 : Fin (k0_t75_loop v41 v43).trips, ∀ (k0_h1 : k0_cond1 i v10 = 1#1), (k0_t77_loop v593 v595).OK) ∧
  (∀ (k0_t75 : Fin (k0_t75_loop v41 v43).trips) (k0_t77 : Fin (k0_t77_loop v593 v595).trips), ∀ (k0_h1 : k0_cond1 i v10 = 1#1), ∀ a, (k0_off1135 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1136 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1137 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1138 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1139 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1140 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1141 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1142 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1143 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1144 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1145 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1146 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1147 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1148 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1149 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1150 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1151 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1152 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1153 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1154 v41 v43 v593 v595 k0_t75 k0_t77) a + S1x16.size a ≤ S196x384.size a)
def k0_chk280_3 (i : grid0.Coords) (v10 : BitVec 32) (v41 : BitVec 32) (v43 : BitVec 32) (v593 : BitVec 32) (v595 : BitVec 32) : Prop :=
  (∀ (k0_t75 : Fin (k0_t75_loop v41 v43).trips) (k0_t77 : Fin (k0_t77_loop v593 v595).trips), ∀ (k0_h1 : k0_cond1 i v10 = 1#1), ∀ a, (k0_off1155 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1156 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1157 v41 v43 v593 v595 k0_t75 k0_t77) a + S1x16.size a ≤ S196x384.size a) ∧
  (∀ (k0_t75 : Fin (k0_t75_loop v41 v43).trips) (k0_t77 : Fin (k0_t77_loop v593 v595).trips), ∀ (k0_h1 : k0_cond1 i v10 = 1#1), ∀ a, (k0_off1158 v41 v43 v593 v595 k0_t75 k0_t77) a + S1x16.size a ≤ S196x384.size a)
def k0_chk280 (i : grid0.Coords) (v10 : BitVec 32) (v41 : BitVec 32) (v43 : BitVec 32) (v593 : BitVec 32) (v595 : BitVec 32) : Prop :=
  k0_chk280_0 i v10 v41 v43 v593 v595 ∧
  k0_chk280_1 i v10 v41 v43 v593 v595 ∧
  k0_chk280_2 i v10 v41 v43 v593 v595 ∧
  k0_chk280_3 i v10 v41 v43 v593 v595
theorem k0_t73_ok : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips), ∀ (k0_h1 : k0_cond1 i v10 = 1#1), (k0_t73_loop v593 v595).OK := fun i v10 v41 v43 v593 v595 k0_hw280 k0_t72 k0_h1 => k0_hw280.1.1 k0_t72 k0_h1
theorem k0_off1063_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1063 v41 v43 v593 v595 k0_t72 k0_t73) a + S1x16.size a ≤ S196x384.size a := fun i v10 v41 v43 v593 v595 k0_hw280 k0_t72 k0_t73 k0_h1 => k0_hw280.1.2.1 k0_t72 k0_t73 k0_h1
theorem k0_off1064_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1064 v41 v43 v593 v595 k0_t72 k0_t73) a + S1x16.size a ≤ S196x384.size a := fun i v10 v41 v43 v593 v595 k0_hw280 k0_t72 k0_t73 k0_h1 => k0_hw280.1.2.2.1 k0_t72 k0_t73 k0_h1
theorem k0_off1065_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1065 v41 v43 v593 v595 k0_t72 k0_t73) a + S1x16.size a ≤ S196x384.size a := fun i v10 v41 v43 v593 v595 k0_hw280 k0_t72 k0_t73 k0_h1 => k0_hw280.1.2.2.2.1 k0_t72 k0_t73 k0_h1
theorem k0_off1066_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1066 v41 v43 v593 v595 k0_t72 k0_t73) a + S1x16.size a ≤ S196x384.size a := fun i v10 v41 v43 v593 v595 k0_hw280 k0_t72 k0_t73 k0_h1 => k0_hw280.1.2.2.2.2.1 k0_t72 k0_t73 k0_h1
theorem k0_off1067_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1067 v41 v43 v593 v595 k0_t72 k0_t73) a + S1x16.size a ≤ S196x384.size a := fun i v10 v41 v43 v593 v595 k0_hw280 k0_t72 k0_t73 k0_h1 => k0_hw280.1.2.2.2.2.2.1 k0_t72 k0_t73 k0_h1
theorem k0_off1068_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1068 v41 v43 v593 v595 k0_t72 k0_t73) a + S1x16.size a ≤ S196x384.size a := fun i v10 v41 v43 v593 v595 k0_hw280 k0_t72 k0_t73 k0_h1 => k0_hw280.1.2.2.2.2.2.2.1 k0_t72 k0_t73 k0_h1
theorem k0_off1069_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1069 v41 v43 v593 v595 k0_t72 k0_t73) a + S1x16.size a ≤ S196x384.size a := fun i v10 v41 v43 v593 v595 k0_hw280 k0_t72 k0_t73 k0_h1 => k0_hw280.1.2.2.2.2.2.2.2.1 k0_t72 k0_t73 k0_h1
theorem k0_off1070_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1070 v41 v43 v593 v595 k0_t72 k0_t73) a + S1x16.size a ≤ S196x384.size a := fun i v10 v41 v43 v593 v595 k0_hw280 k0_t72 k0_t73 k0_h1 => k0_hw280.1.2.2.2.2.2.2.2.2.1 k0_t72 k0_t73 k0_h1
theorem k0_off1071_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1071 v41 v43 v593 v595 k0_t72 k0_t73) a + S1x16.size a ≤ S196x384.size a := fun i v10 v41 v43 v593 v595 k0_hw280 k0_t72 k0_t73 k0_h1 => k0_hw280.1.2.2.2.2.2.2.2.2.2.1 k0_t72 k0_t73 k0_h1
theorem k0_off1072_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1072 v41 v43 v593 v595 k0_t72 k0_t73) a + S1x16.size a ≤ S196x384.size a := fun i v10 v41 v43 v593 v595 k0_hw280 k0_t72 k0_t73 k0_h1 => k0_hw280.1.2.2.2.2.2.2.2.2.2.2.1 k0_t72 k0_t73 k0_h1
theorem k0_off1073_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1073 v41 v43 v593 v595 k0_t72 k0_t73) a + S1x16.size a ≤ S196x384.size a := fun i v10 v41 v43 v593 v595 k0_hw280 k0_t72 k0_t73 k0_h1 => k0_hw280.1.2.2.2.2.2.2.2.2.2.2.2.1 k0_t72 k0_t73 k0_h1
theorem k0_off1074_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1074 v41 v43 v593 v595 k0_t72 k0_t73) a + S1x16.size a ≤ S196x384.size a := fun i v10 v41 v43 v593 v595 k0_hw280 k0_t72 k0_t73 k0_h1 => k0_hw280.1.2.2.2.2.2.2.2.2.2.2.2.2.1 k0_t72 k0_t73 k0_h1
theorem k0_off1075_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1075 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.1 k0_t72 k0_t73 k0_h1
theorem k0_off1076_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1076 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.1 k0_t72 k0_t73 k0_h1
theorem k0_off1077_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1077 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.1 k0_t72 k0_t73 k0_h1
theorem k0_off1078_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1078 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.2.1 k0_t72 k0_t73 k0_h1
theorem k0_off1079_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1079 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.2.2.1 k0_t72 k0_t73 k0_h1
theorem k0_off1080_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1080 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.2.2.2.1 k0_t72 k0_t73 k0_h1
theorem k0_off1081_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1081 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.2.2.2.2.1 k0_t72 k0_t73 k0_h1
theorem k0_off1082_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1082 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.2.2.2.2.2.1 k0_t72 k0_t73 k0_h1
theorem k0_off1083_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1083 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.2.2.2.2.2.2.1 k0_t72 k0_t73 k0_h1
theorem k0_off1084_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1084 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.2.2.2.2.2.2.2.1 k0_t72 k0_t73 k0_h1
theorem k0_off1085_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1085 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.2.2.2.2.2.2.2.2.1 k0_t72 k0_t73 k0_h1
theorem k0_off1086_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t73 : Fin (k0_t73_loop v593 v595).trips), ∀ (k0_h1 : k0_cond1 i v10 = 1#1), ∀ a, (k0_off1086 v41 v43 v593 v595 k0_t72 k0_t73) a + S1x16.size a ≤ S196x384.size a := fun i v10 v41 v43 v593 v595 k0_hw280 k0_t72 k0_t73 k0_h1 => k0_hw280.1.2.2.2.2.2.2.2.2.2.2.2.2.2.2.2.2.2.2.2.2.2.2.2.2.1 k0_t72 k0_t73 k0_h1
theorem k0_t74_ok : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips), ∀ (k0_h1 : k0_cond1 i v10 = 1#1), (k0_t74_loop v593 v595).OK := fun i v10 v41 v43 v593 v595 k0_hw280 k0_t72 k0_h1 => k0_hw280.1.2.2.2.2.2.2.2.2.2.2.2.2.2.2.2.2.2.2.2.2.2.2.2.2.2.1 k0_t72 k0_h1
theorem k0_off1087_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1087 v41 v43 v593 v595 k0_t72 k0_t74) a + S1x16.size a ≤ S196x384.size a := fun i v10 v41 v43 v593 v595 k0_hw280 k0_t72 k0_t74 k0_h1 => k0_hw280.1.2.2.2.2.2.2.2.2.2.2.2.2.2.2.2.2.2.2.2.2.2.2.2.2.2.2.1 k0_t72 k0_t74 k0_h1
theorem k0_off1088_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1088 v41 v43 v593 v595 k0_t72 k0_t74) a + S1x16.size a ≤ S196x384.size a := fun i v10 v41 v43 v593 v595 k0_hw280 k0_t72 k0_t74 k0_h1 => k0_hw280.1.2.2.2.2.2.2.2.2.2.2.2.2.2.2.2.2.2.2.2.2.2.2.2.2.2.2.2.1 k0_t72 k0_t74 k0_h1
theorem k0_off1089_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1089 v41 v43 v593 v595 k0_t72 k0_t74) a + S1x16.size a ≤ S196x384.size a := fun i v10 v41 v43 v593 v595 k0_hw280 k0_t72 k0_t74 k0_h1 => k0_hw280.1.2.2.2.2.2.2.2.2.2.2.2.2.2.2.2.2.2.2.2.2.2.2.2.2.2.2.2.2.1 k0_t72 k0_t74 k0_h1
theorem k0_off1090_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1090 v41 v43 v593 v595 k0_t72 k0_t74) a + S1x16.size a ≤ S196x384.size a := fun i v10 v41 v43 v593 v595 k0_hw280 k0_t72 k0_t74 k0_h1 => k0_hw280.1.2.2.2.2.2.2.2.2.2.2.2.2.2.2.2.2.2.2.2.2.2.2.2.2.2.2.2.2.2.1 k0_t72 k0_t74 k0_h1
theorem k0_off1091_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1091 v41 v43 v593 v595 k0_t72 k0_t74) a + S1x16.size a ≤ S196x384.size a := fun i v10 v41 v43 v593 v595 k0_hw280 k0_t72 k0_t74 k0_h1 => k0_hw280.1.2.2.2.2.2.2.2.2.2.2.2.2.2.2.2.2.2.2.2.2.2.2.2.2.2.2.2.2.2.2.1 k0_t72 k0_t74 k0_h1
theorem k0_off1092_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1092 v41 v43 v593 v595 k0_t72 k0_t74) a + S1x16.size a ≤ S196x384.size a := fun i v10 v41 v43 v593 v595 k0_hw280 k0_t72 k0_t74 k0_h1 => k0_hw280.1.2.2.2.2.2.2.2.2.2.2.2.2.2.2.2.2.2.2.2.2.2.2.2.2.2.2.2.2.2.2.2 k0_t72 k0_t74 k0_h1
theorem k0_off1093_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1093 v41 v43 v593 v595 k0_t72 k0_t74) a + S1x16.size a ≤ S196x384.size a := fun i v10 v41 v43 v593 v595 k0_hw280 k0_t72 k0_t74 k0_h1 => k0_hw280.2.1.1 k0_t72 k0_t74 k0_h1
theorem k0_off1094_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1094 v41 v43 v593 v595 k0_t72 k0_t74) a + S1x16.size a ≤ S196x384.size a := fun i v10 v41 v43 v593 v595 k0_hw280 k0_t72 k0_t74 k0_h1 => k0_hw280.2.1.2.1 k0_t72 k0_t74 k0_h1
theorem k0_off1095_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1095 v41 v43 v593 v595 k0_t72 k0_t74) a + S1x16.size a ≤ S196x384.size a := fun i v10 v41 v43 v593 v595 k0_hw280 k0_t72 k0_t74 k0_h1 => k0_hw280.2.1.2.2.1 k0_t72 k0_t74 k0_h1
theorem k0_off1096_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1096 v41 v43 v593 v595 k0_t72 k0_t74) a + S1x16.size a ≤ S196x384.size a := fun i v10 v41 v43 v593 v595 k0_hw280 k0_t72 k0_t74 k0_h1 => k0_hw280.2.1.2.2.2.1 k0_t72 k0_t74 k0_h1
theorem k0_off1097_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1097 v41 v43 v593 v595 k0_t72 k0_t74) a + S1x16.size a ≤ S196x384.size a := fun i v10 v41 v43 v593 v595 k0_hw280 k0_t72 k0_t74 k0_h1 => k0_hw280.2.1.2.2.2.2.1 k0_t72 k0_t74 k0_h1
theorem k0_off1098_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1098 v41 v43 v593 v595 k0_t72 k0_t74) a + S1x16.size a ≤ S196x384.size a := fun i v10 v41 v43 v593 v595 k0_hw280 k0_t72 k0_t74 k0_h1 => k0_hw280.2.1.2.2.2.2.2.1 k0_t72 k0_t74 k0_h1
theorem k0_off1099_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1099 v41 v43 v593 v595 k0_t72 k0_t74) a + S1x16.size a ≤ S196x384.size a := fun i v10 v41 v43 v593 v595 k0_hw280 k0_t72 k0_t74 k0_h1 => k0_hw280.2.1.2.2.2.2.2.2.1 k0_t72 k0_t74 k0_h1
theorem k0_off1100_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1100 v41 v43 v593 v595 k0_t72 k0_t74) a + S1x16.size a ≤ S196x384.size a := fun i v10 v41 v43 v593 v595 k0_hw280 k0_t72 k0_t74 k0_h1 => k0_hw280.2.1.2.2.2.2.2.2.2.1 k0_t72 k0_t74 k0_h1
theorem k0_off1101_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1101 v41 v43 v593 v595 k0_t72 k0_t74) a + S1x16.size a ≤ S196x384.size a := fun i v10 v41 v43 v593 v595 k0_hw280 k0_t72 k0_t74 k0_h1 => k0_hw280.2.1.2.2.2.2.2.2.2.2.1 k0_t72 k0_t74 k0_h1
theorem k0_off1102_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1102 v41 v43 v593 v595 k0_t72 k0_t74) a + S1x16.size a ≤ S196x384.size a := fun i v10 v41 v43 v593 v595 k0_hw280 k0_t72 k0_t74 k0_h1 => k0_hw280.2.1.2.2.2.2.2.2.2.2.2.1 k0_t72 k0_t74 k0_h1
theorem k0_off1103_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1103 v41 v43 v593 v595 k0_t72 k0_t74) a + S1x16.size a ≤ S196x384.size a := fun i v10 v41 v43 v593 v595 k0_hw280 k0_t72 k0_t74 k0_h1 => k0_hw280.2.1.2.2.2.2.2.2.2.2.2.2.1 k0_t72 k0_t74 k0_h1
theorem k0_off1104_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1104 v41 v43 v593 v595 k0_t72 k0_t74) a + S1x16.size a ≤ S196x384.size a := fun i v10 v41 v43 v593 v595 k0_hw280 k0_t72 k0_t74 k0_h1 => k0_hw280.2.1.2.2.2.2.2.2.2.2.2.2.2.1 k0_t72 k0_t74 k0_h1
theorem k0_off1105_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1105 v41 v43 v593 v595 k0_t72 k0_t74) a + S1x16.size a ≤ S196x384.size a := fun i v10 v41 v43 v593 v595 k0_hw280 k0_t72 k0_t74 k0_h1 => k0_hw280.2.1.2.2.2.2.2.2.2.2.2.2.2.2.1 k0_t72 k0_t74 k0_h1
theorem k0_off1106_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1106 v41 v43 v593 v595 k0_t72 k0_t74) a + S1x16.size a ≤ S196x384.size a := fun i v10 v41 v43 v593 v595 k0_hw280 k0_t72 k0_t74 k0_h1 => k0_hw280.2.1.2.2.2.2.2.2.2.2.2.2.2.2.2.1 k0_t72 k0_t74 k0_h1
theorem k0_off1107_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1107 v41 v43 v593 v595 k0_t72 k0_t74) a + S1x16.size a ≤ S196x384.size a := fun i v10 v41 v43 v593 v595 k0_hw280 k0_t72 k0_t74 k0_h1 => k0_hw280.2.1.2.2.2.2.2.2.2.2.2.2.2.2.2.2.1 k0_t72 k0_t74 k0_h1
theorem k0_off1108_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1108 v41 v43 v593 v595 k0_t72 k0_t74) a + S1x16.size a ≤ S196x384.size a := fun i v10 v41 v43 v593 v595 k0_hw280 k0_t72 k0_t74 k0_h1 => k0_hw280.2.1.2.2.2.2.2.2.2.2.2.2.2.2.2.2.2.1 k0_t72 k0_t74 k0_h1
theorem k0_off1109_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1109 v41 v43 v593 v595 k0_t72 k0_t74) a + S1x16.size a ≤ S196x384.size a := fun i v10 v41 v43 v593 v595 k0_hw280 k0_t72 k0_t74 k0_h1 => k0_hw280.2.1.2.2.2.2.2.2.2.2.2.2.2.2.2.2.2.2.1 k0_t72 k0_t74 k0_h1
theorem k0_off1110_inb : ∀ (i : grid0.Coords) (v10 : BitVec 32) (v41 : BitVec 32) (v43 : BitVec 32) (v593 : BitVec 32) (v595 : BitVec 32) (k0_hw280 : k0_chk280 i v10 v41 v43 v593 v595) (k0_t72 : Fin (k0_t72_loop v41 v43).trips) (k0_t74 : Fin (k0_t74_loop v593 v595).trips), ∀ (k0_h1 : k0_cond1 i v10 = 1#1), ∀ a, (k0_off1110 v41 v43 v593 v595 k0_t72 k0_t74) a + S1x16.size a ≤ S196x384.size a := fun i v10 v41 v43 v593 v595 k0_hw280 k0_t72 k0_t74 k0_h1 => k0_hw280.2.1.2.2.2.2.2.2.2.2.2.2.2.2.2.2.2.2.2.1 k0_t72 k0_t74 k0_h1
theorem k0_t76_ok : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips), ∀ (k0_h1 : k0_cond1 i v10 = 1#1), (k0_t76_loop v593 v595).OK := fun i v10 v41 v43 v593 v595 k0_hw280 k0_t75 k0_h1 => k0_hw280.2.1.2.2.2.2.2.2.2.2.2.2.2.2.2.2.2.2.2.2.1 k0_t75 k0_h1
theorem k0_off1111_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1111 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.1 k0_t75 k0_t76 k0_h1
theorem k0_off1112_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1112 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.1 k0_t75 k0_t76 k0_h1
theorem k0_off1113_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1113 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.1 k0_t75 k0_t76 k0_h1
theorem k0_off1114_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1114 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.1 k0_t75 k0_t76 k0_h1
theorem k0_off1115_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1115 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.2.1 k0_t75 k0_t76 k0_h1
theorem k0_off1116_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1116 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.2.2.1 k0_t75 k0_t76 k0_h1
theorem k0_off1117_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1117 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.2.2.2.1 k0_t75 k0_t76 k0_h1
theorem k0_off1118_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1118 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.2.2.2.2.1 k0_t75 k0_t76 k0_h1
theorem k0_off1119_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1119 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.2.2.2.2.2.1 k0_t75 k0_t76 k0_h1
theorem k0_off1120_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1120 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.2.2.2.2.2.2.1 k0_t75 k0_t76 k0_h1
theorem k0_off1121_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1121 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.2.2.2.2.2.2.2.1 k0_t75 k0_t76 k0_h1
theorem k0_off1122_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1122 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.2.2.2.2.2.2.2.2.1 k0_t75 k0_t76 k0_h1
theorem k0_off1123_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1123 v41 v43 v593 v595 k0_t75 k0_t76) a + S1x16.size a ≤ S196x384.size a := fun i v10 v41 v43 v593 v595 k0_hw280 k0_t75 k0_t76 k0_h1 => k0_hw280.2.1.2.2.2.2.2.2.2.2.2.2.2.2.2.2.2.2.2.2.2.2.2.2.2.2.2.2.2.2.2.2.2 k0_t75 k0_t76 k0_h1
theorem k0_off1124_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1124 v41 v43 v593 v595 k0_t75 k0_t76) a + S1x16.size a ≤ S196x384.size a := fun i v10 v41 v43 v593 v595 k0_hw280 k0_t75 k0_t76 k0_h1 => k0_hw280.2.2.1.1 k0_t75 k0_t76 k0_h1
theorem k0_off1125_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1125 v41 v43 v593 v595 k0_t75 k0_t76) a + S1x16.size a ≤ S196x384.size a := fun i v10 v41 v43 v593 v595 k0_hw280 k0_t75 k0_t76 k0_h1 => k0_hw280.2.2.1.2.1 k0_t75 k0_t76 k0_h1
theorem k0_off1126_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1126 v41 v43 v593 v595 k0_t75 k0_t76) a + S1x16.size a ≤ S196x384.size a := fun i v10 v41 v43 v593 v595 k0_hw280 k0_t75 k0_t76 k0_h1 => k0_hw280.2.2.1.2.2.1 k0_t75 k0_t76 k0_h1
theorem k0_off1127_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1127 v41 v43 v593 v595 k0_t75 k0_t76) a + S1x16.size a ≤ S196x384.size a := fun i v10 v41 v43 v593 v595 k0_hw280 k0_t75 k0_t76 k0_h1 => k0_hw280.2.2.1.2.2.2.1 k0_t75 k0_t76 k0_h1
theorem k0_off1128_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1128 v41 v43 v593 v595 k0_t75 k0_t76) a + S1x16.size a ≤ S196x384.size a := fun i v10 v41 v43 v593 v595 k0_hw280 k0_t75 k0_t76 k0_h1 => k0_hw280.2.2.1.2.2.2.2.1 k0_t75 k0_t76 k0_h1
theorem k0_off1129_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1129 v41 v43 v593 v595 k0_t75 k0_t76) a + S1x16.size a ≤ S196x384.size a := fun i v10 v41 v43 v593 v595 k0_hw280 k0_t75 k0_t76 k0_h1 => k0_hw280.2.2.1.2.2.2.2.2.1 k0_t75 k0_t76 k0_h1
theorem k0_off1130_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1130 v41 v43 v593 v595 k0_t75 k0_t76) a + S1x16.size a ≤ S196x384.size a := fun i v10 v41 v43 v593 v595 k0_hw280 k0_t75 k0_t76 k0_h1 => k0_hw280.2.2.1.2.2.2.2.2.2.1 k0_t75 k0_t76 k0_h1
theorem k0_off1131_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1131 v41 v43 v593 v595 k0_t75 k0_t76) a + S1x16.size a ≤ S196x384.size a := fun i v10 v41 v43 v593 v595 k0_hw280 k0_t75 k0_t76 k0_h1 => k0_hw280.2.2.1.2.2.2.2.2.2.2.1 k0_t75 k0_t76 k0_h1
theorem k0_off1132_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1132 v41 v43 v593 v595 k0_t75 k0_t76) a + S1x16.size a ≤ S196x384.size a := fun i v10 v41 v43 v593 v595 k0_hw280 k0_t75 k0_t76 k0_h1 => k0_hw280.2.2.1.2.2.2.2.2.2.2.2.1 k0_t75 k0_t76 k0_h1
theorem k0_off1133_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1133 v41 v43 v593 v595 k0_t75 k0_t76) a + S1x16.size a ≤ S196x384.size a := fun i v10 v41 v43 v593 v595 k0_hw280 k0_t75 k0_t76 k0_h1 => k0_hw280.2.2.1.2.2.2.2.2.2.2.2.2.1 k0_t75 k0_t76 k0_h1
theorem k0_off1134_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t76 : Fin (k0_t76_loop v593 v595).trips), ∀ (k0_h1 : k0_cond1 i v10 = 1#1), ∀ a, (k0_off1134 v41 v43 v593 v595 k0_t75 k0_t76) a + S1x16.size a ≤ S196x384.size a := fun i v10 v41 v43 v593 v595 k0_hw280 k0_t75 k0_t76 k0_h1 => k0_hw280.2.2.1.2.2.2.2.2.2.2.2.2.2.1 k0_t75 k0_t76 k0_h1
theorem k0_t77_ok : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips), ∀ (k0_h1 : k0_cond1 i v10 = 1#1), (k0_t77_loop v593 v595).OK := fun i v10 v41 v43 v593 v595 k0_hw280 k0_t75 k0_h1 => k0_hw280.2.2.1.2.2.2.2.2.2.2.2.2.2.2.1 k0_t75 k0_h1
theorem k0_off1135_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1135 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.1 k0_t75 k0_t77 k0_h1
theorem k0_off1136_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1136 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.1 k0_t75 k0_t77 k0_h1
theorem k0_off1137_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1137 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.1 k0_t75 k0_t77 k0_h1
theorem k0_off1138_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1138 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.1 k0_t75 k0_t77 k0_h1
theorem k0_off1139_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1139 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.1 k0_t75 k0_t77 k0_h1
theorem k0_off1140_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1140 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.1 k0_t75 k0_t77 k0_h1
theorem k0_off1141_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1141 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.1 k0_t75 k0_t77 k0_h1
theorem k0_off1142_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1142 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.1 k0_t75 k0_t77 k0_h1
theorem k0_off1143_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1143 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.1 k0_t75 k0_t77 k0_h1
theorem k0_off1144_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1144 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.1 k0_t75 k0_t77 k0_h1
theorem k0_off1145_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1145 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.1 k0_t75 k0_t77 k0_h1
theorem k0_off1146_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1146 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.2.1 k0_t75 k0_t77 k0_h1
theorem k0_off1147_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1147 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.2.2.1 k0_t75 k0_t77 k0_h1
theorem k0_off1148_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1148 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.2.2.2.1 k0_t75 k0_t77 k0_h1
theorem k0_off1149_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1149 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.2.2.2.2.1 k0_t75 k0_t77 k0_h1
theorem k0_off1150_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1150 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.2.2.2.2.2.1 k0_t75 k0_t77 k0_h1
theorem k0_off1151_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1151 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.2.2.2.2.2.2.1 k0_t75 k0_t77 k0_h1
theorem k0_off1152_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1152 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.2.2.2.2.2.2.2.1 k0_t75 k0_t77 k0_h1
theorem k0_off1153_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1153 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.2.2.2.2.2.2.2.2.1 k0_t75 k0_t77 k0_h1
theorem k0_off1154_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1154 v41 v43 v593 v595 k0_t75 k0_t77) a + S1x16.size a ≤ S196x384.size a := fun i v10 v41 v43 v593 v595 k0_hw280 k0_t75 k0_t77 k0_h1 => k0_hw280.2.2.1.2.2.2.2.2.2.2.2.2.2.2.2.2.2.2.2.2.2.2.2.2.2.2.2.2.2.2.2.2.2.2 k0_t75 k0_t77 k0_h1
theorem k0_off1155_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1155 v41 v43 v593 v595 k0_t75 k0_t77) a + S1x16.size a ≤ S196x384.size a := fun i v10 v41 v43 v593 v595 k0_hw280 k0_t75 k0_t77 k0_h1 => k0_hw280.2.2.2.1 k0_t75 k0_t77 k0_h1
theorem k0_off1156_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1156 v41 v43 v593 v595 k0_t75 k0_t77) a + S1x16.size a ≤ S196x384.size a := fun i v10 v41 v43 v593 v595 k0_hw280 k0_t75 k0_t77 k0_h1 => k0_hw280.2.2.2.2.1 k0_t75 k0_t77 k0_h1
theorem k0_off1157_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1157 v41 v43 v593 v595 k0_t75 k0_t77) a + S1x16.size a ≤ S196x384.size a := fun i v10 v41 v43 v593 v595 k0_hw280 k0_t75 k0_t77 k0_h1 => k0_hw280.2.2.2.2.2.1 k0_t75 k0_t77 k0_h1
theorem k0_off1158_inb : ∀ (i : grid0.Coords) (v10 : BitVec 32) (v41 : BitVec 32) (v43 : BitVec 32) (v593 : BitVec 32) (v595 : BitVec 32) (k0_hw280 : k0_chk280 i v10 v41 v43 v593 v595) (k0_t75 : Fin (k0_t75_loop v41 v43).trips) (k0_t77 : Fin (k0_t77_loop v593 v595).trips), ∀ (k0_h1 : k0_cond1 i v10 = 1#1), ∀ a, (k0_off1158 v41 v43 v593 v595 k0_t75 k0_t77) a + S1x16.size a ≤ S196x384.size a := fun i v10 v41 v43 v593 v595 k0_hw280 k0_t75 k0_t77 k0_h1 => k0_hw280.2.2.2.2.2.2 k0_t75 k0_t77 k0_h1

def k0_chk281 (i : grid0.Coords) (v10 : BitVec 32) (v613 : IVec S16 32) : Prop :=
  (∀ (k0_h1 : k0_cond1 i v10 = 1#1), ∀ a x, ((![v613] : Fin 1 → IVec S16 32) a x).toNat < S18816.size a)
theorem k0_idx265_inb : ∀ (i : grid0.Coords) (v10 : BitVec 32) (v613 : IVec S16 32) (k0_hw281 : k0_chk281 i v10 v613), ∀ (k0_h1 : k0_cond1 i v10 = 1#1), ∀ a x, ((![v613] : Fin 1 → IVec S16 32) a x).toNat < S18816.size a := fun i v10 v613 k0_hw281 k0_h1 => k0_hw281 k0_h1

def k0_chk282 (i : grid0.Coords) (v10 : BitVec 32) (v618 : IVec S16 32) : Prop :=
  (∀ (k0_h1 : k0_cond1 i v10 = 1#1), ∀ a x, ((![v618] : Fin 1 → IVec S16 32) a x).toNat < S18816.size a)
theorem k0_idx266_inb : ∀ (i : grid0.Coords) (v10 : BitVec 32) (v618 : IVec S16 32) (k0_hw282 : k0_chk282 i v10 v618), ∀ (k0_h1 : k0_cond1 i v10 = 1#1), ∀ a x, ((![v618] : Fin 1 → IVec S16 32) a x).toNat < S18816.size a := fun i v10 v618 k0_hw282 k0_h1 => k0_hw282 k0_h1

def k0_chk283 (i : grid0.Coords) (v10 : BitVec 32) (v623 : IVec S16 32) : Prop :=
  (∀ (k0_h1 : k0_cond1 i v10 = 1#1), ∀ a x, ((![v623] : Fin 1 → IVec S16 32) a x).toNat < S18816.size a)
theorem k0_idx267_inb : ∀ (i : grid0.Coords) (v10 : BitVec 32) (v623 : IVec S16 32) (k0_hw283 : k0_chk283 i v10 v623), ∀ (k0_h1 : k0_cond1 i v10 = 1#1), ∀ a x, ((![v623] : Fin 1 → IVec S16 32) a x).toNat < S18816.size a := fun i v10 v623 k0_hw283 k0_h1 => k0_hw283 k0_h1

def k0_chk284 (i : grid0.Coords) (v10 : BitVec 32) (v628 : IVec S16 32) : Prop :=
  (∀ (k0_h1 : k0_cond1 i v10 = 1#1), ∀ a x, ((![v628] : Fin 1 → IVec S16 32) a x).toNat < S18816.size a)
theorem k0_idx268_inb : ∀ (i : grid0.Coords) (v10 : BitVec 32) (v628 : IVec S16 32) (k0_hw284 : k0_chk284 i v10 v628), ∀ (k0_h1 : k0_cond1 i v10 = 1#1), ∀ a x, ((![v628] : Fin 1 → IVec S16 32) a x).toNat < S18816.size a := fun i v10 v628 k0_hw284 k0_h1 => k0_hw284 k0_h1

def k0_chk285 (i : grid0.Coords) (v10 : BitVec 32) (v633 : IVec S16 32) : Prop :=
  (∀ (k0_h1 : k0_cond1 i v10 = 1#1), ∀ a x, ((![v633] : Fin 1 → IVec S16 32) a x).toNat < S18816.size a)
theorem k0_idx269_inb : ∀ (i : grid0.Coords) (v10 : BitVec 32) (v633 : IVec S16 32) (k0_hw285 : k0_chk285 i v10 v633), ∀ (k0_h1 : k0_cond1 i v10 = 1#1), ∀ a x, ((![v633] : Fin 1 → IVec S16 32) a x).toNat < S18816.size a := fun i v10 v633 k0_hw285 k0_h1 => k0_hw285 k0_h1

def k0_chk286 (i : grid0.Coords) (v10 : BitVec 32) (v638 : IVec S16 32) : Prop :=
  (∀ (k0_h1 : k0_cond1 i v10 = 1#1), ∀ a x, ((![v638] : Fin 1 → IVec S16 32) a x).toNat < S18816.size a)
theorem k0_idx270_inb : ∀ (i : grid0.Coords) (v10 : BitVec 32) (v638 : IVec S16 32) (k0_hw286 : k0_chk286 i v10 v638), ∀ (k0_h1 : k0_cond1 i v10 = 1#1), ∀ a x, ((![v638] : Fin 1 → IVec S16 32) a x).toNat < S18816.size a := fun i v10 v638 k0_hw286 k0_h1 => k0_hw286 k0_h1

def k0_chk287 (i : grid0.Coords) (v10 : BitVec 32) (v643 : IVec S16 32) : Prop :=
  (∀ (k0_h1 : k0_cond1 i v10 = 1#1), ∀ a x, ((![v643] : Fin 1 → IVec S16 32) a x).toNat < S18816.size a)
theorem k0_idx271_inb : ∀ (i : grid0.Coords) (v10 : BitVec 32) (v643 : IVec S16 32) (k0_hw287 : k0_chk287 i v10 v643), ∀ (k0_h1 : k0_cond1 i v10 = 1#1), ∀ a x, ((![v643] : Fin 1 → IVec S16 32) a x).toNat < S18816.size a := fun i v10 v643 k0_hw287 k0_h1 => k0_hw287 k0_h1

def k0_chk288 (i : grid0.Coords) (v10 : BitVec 32) (v648 : IVec S16 32) : Prop :=
  (∀ (k0_h1 : k0_cond1 i v10 = 1#1), ∀ a x, ((![v648] : Fin 1 → IVec S16 32) a x).toNat < S18816.size a)
theorem k0_idx272_inb : ∀ (i : grid0.Coords) (v10 : BitVec 32) (v648 : IVec S16 32) (k0_hw288 : k0_chk288 i v10 v648), ∀ (k0_h1 : k0_cond1 i v10 = 1#1), ∀ a x, ((![v648] : Fin 1 → IVec S16 32) a x).toNat < S18816.size a := fun i v10 v648 k0_hw288 k0_h1 => k0_hw288 k0_h1

def k0_chk289 (i : grid0.Coords) (v10 : BitVec 32) (v653 : IVec S16 32) : Prop :=
  (∀ (k0_h1 : k0_cond1 i v10 = 1#1), ∀ a x, ((![v653] : Fin 1 → IVec S16 32) a x).toNat < S18816.size a)
theorem k0_idx273_inb : ∀ (i : grid0.Coords) (v10 : BitVec 32) (v653 : IVec S16 32) (k0_hw289 : k0_chk289 i v10 v653), ∀ (k0_h1 : k0_cond1 i v10 = 1#1), ∀ a x, ((![v653] : Fin 1 → IVec S16 32) a x).toNat < S18816.size a := fun i v10 v653 k0_hw289 k0_h1 => k0_hw289 k0_h1

def k0_chk290 (i : grid0.Coords) (v10 : BitVec 32) (v658 : IVec S16 32) : Prop :=
  (∀ (k0_h1 : k0_cond1 i v10 = 1#1), ∀ a x, ((![v658] : Fin 1 → IVec S16 32) a x).toNat < S18816.size a)
theorem k0_idx274_inb : ∀ (i : grid0.Coords) (v10 : BitVec 32) (v658 : IVec S16 32) (k0_hw290 : k0_chk290 i v10 v658), ∀ (k0_h1 : k0_cond1 i v10 = 1#1), ∀ a x, ((![v658] : Fin 1 → IVec S16 32) a x).toNat < S18816.size a := fun i v10 v658 k0_hw290 k0_h1 => k0_hw290 k0_h1

def k0_chk291 (i : grid0.Coords) (v10 : BitVec 32) (v663 : IVec S16 32) : Prop :=
  (∀ (k0_h1 : k0_cond1 i v10 = 1#1), ∀ a x, ((![v663] : Fin 1 → IVec S16 32) a x).toNat < S18816.size a)
theorem k0_idx275_inb : ∀ (i : grid0.Coords) (v10 : BitVec 32) (v663 : IVec S16 32) (k0_hw291 : k0_chk291 i v10 v663), ∀ (k0_h1 : k0_cond1 i v10 = 1#1), ∀ a x, ((![v663] : Fin 1 → IVec S16 32) a x).toNat < S18816.size a := fun i v10 v663 k0_hw291 k0_h1 => k0_hw291 k0_h1

def k0_chk292 (i : grid0.Coords) (v10 : BitVec 32) (v668 : IVec S16 32) : Prop :=
  (∀ (k0_h1 : k0_cond1 i v10 = 1#1), ∀ a x, ((![v668] : Fin 1 → IVec S16 32) a x).toNat < S18816.size a)
theorem k0_idx276_inb : ∀ (i : grid0.Coords) (v10 : BitVec 32) (v668 : IVec S16 32) (k0_hw292 : k0_chk292 i v10 v668), ∀ (k0_h1 : k0_cond1 i v10 = 1#1), ∀ a x, ((![v668] : Fin 1 → IVec S16 32) a x).toNat < S18816.size a := fun i v10 v668 k0_hw292 k0_h1 => k0_hw292 k0_h1

def k0_chk293 (i : grid0.Coords) (v10 : BitVec 32) (v673 : IVec S16 32) : Prop :=
  (∀ (k0_h1 : k0_cond1 i v10 = 1#1), ∀ a x, ((![v673] : Fin 1 → IVec S16 32) a x).toNat < S18816.size a)
theorem k0_idx277_inb : ∀ (i : grid0.Coords) (v10 : BitVec 32) (v673 : IVec S16 32) (k0_hw293 : k0_chk293 i v10 v673), ∀ (k0_h1 : k0_cond1 i v10 = 1#1), ∀ a x, ((![v673] : Fin 1 → IVec S16 32) a x).toNat < S18816.size a := fun i v10 v673 k0_hw293 k0_h1 => k0_hw293 k0_h1

def k0_chk294 (i : grid0.Coords) (v10 : BitVec 32) (v678 : IVec S16 32) : Prop :=
  (∀ (k0_h1 : k0_cond1 i v10 = 1#1), ∀ a x, ((![v678] : Fin 1 → IVec S16 32) a x).toNat < S18816.size a)
theorem k0_idx278_inb : ∀ (i : grid0.Coords) (v10 : BitVec 32) (v678 : IVec S16 32) (k0_hw294 : k0_chk294 i v10 v678), ∀ (k0_h1 : k0_cond1 i v10 = 1#1), ∀ a x, ((![v678] : Fin 1 → IVec S16 32) a x).toNat < S18816.size a := fun i v10 v678 k0_hw294 k0_h1 => k0_hw294 k0_h1

def k0_chk295 (i : grid0.Coords) (v10 : BitVec 32) (v683 : IVec S16 32) : Prop :=
  (∀ (k0_h1 : k0_cond1 i v10 = 1#1), ∀ a x, ((![v683] : Fin 1 → IVec S16 32) a x).toNat < S18816.size a)
theorem k0_idx279_inb : ∀ (i : grid0.Coords) (v10 : BitVec 32) (v683 : IVec S16 32) (k0_hw295 : k0_chk295 i v10 v683), ∀ (k0_h1 : k0_cond1 i v10 = 1#1), ∀ a x, ((![v683] : Fin 1 → IVec S16 32) a x).toNat < S18816.size a := fun i v10 v683 k0_hw295 k0_h1 => k0_hw295 k0_h1

def k0_chk296 (i : grid0.Coords) (v10 : BitVec 32) (v688 : IVec S16 32) : Prop :=
  (∀ (k0_h1 : k0_cond1 i v10 = 1#1), ∀ a x, ((![v688] : Fin 1 → IVec S16 32) a x).toNat < S18816.size a)
theorem k0_idx280_inb : ∀ (i : grid0.Coords) (v10 : BitVec 32) (v688 : IVec S16 32) (k0_hw296 : k0_chk296 i v10 v688), ∀ (k0_h1 : k0_cond1 i v10 = 1#1), ∀ a x, ((![v688] : Fin 1 → IVec S16 32) a x).toNat < S18816.size a := fun i v10 v688 k0_hw296 k0_h1 => k0_hw296 k0_h1

def k0_chk297 (i : grid0.Coords) (v10 : BitVec 32) (v693 : IVec S16 32) : Prop :=
  (∀ (k0_h1 : k0_cond1 i v10 = 1#1), ∀ a x, ((![v693] : Fin 1 → IVec S16 32) a x).toNat < S18816.size a)
theorem k0_idx281_inb : ∀ (i : grid0.Coords) (v10 : BitVec 32) (v693 : IVec S16 32) (k0_hw297 : k0_chk297 i v10 v693), ∀ (k0_h1 : k0_cond1 i v10 = 1#1), ∀ a x, ((![v693] : Fin 1 → IVec S16 32) a x).toNat < S18816.size a := fun i v10 v693 k0_hw297 k0_h1 => k0_hw297 k0_h1

def k0_chk298 (i : grid0.Coords) (v10 : BitVec 32) (v698 : IVec S16 32) : Prop :=
  (∀ (k0_h1 : k0_cond1 i v10 = 1#1), ∀ a x, ((![v698] : Fin 1 → IVec S16 32) a x).toNat < S18816.size a)
theorem k0_idx282_inb : ∀ (i : grid0.Coords) (v10 : BitVec 32) (v698 : IVec S16 32) (k0_hw298 : k0_chk298 i v10 v698), ∀ (k0_h1 : k0_cond1 i v10 = 1#1), ∀ a x, ((![v698] : Fin 1 → IVec S16 32) a x).toNat < S18816.size a := fun i v10 v698 k0_hw298 k0_h1 => k0_hw298 k0_h1

def k0_chk299 (i : grid0.Coords) (v10 : BitVec 32) (v703 : IVec S16 32) : Prop :=
  (∀ (k0_h1 : k0_cond1 i v10 = 1#1), ∀ a x, ((![v703] : Fin 1 → IVec S16 32) a x).toNat < S18816.size a)
theorem k0_idx283_inb : ∀ (i : grid0.Coords) (v10 : BitVec 32) (v703 : IVec S16 32) (k0_hw299 : k0_chk299 i v10 v703), ∀ (k0_h1 : k0_cond1 i v10 = 1#1), ∀ a x, ((![v703] : Fin 1 → IVec S16 32) a x).toNat < S18816.size a := fun i v10 v703 k0_hw299 k0_h1 => k0_hw299 k0_h1

def k0_chk300 (i : grid0.Coords) (v10 : BitVec 32) (v708 : IVec S16 32) : Prop :=
  (∀ (k0_h1 : k0_cond1 i v10 = 1#1), ∀ a x, ((![v708] : Fin 1 → IVec S16 32) a x).toNat < S18816.size a)
theorem k0_idx284_inb : ∀ (i : grid0.Coords) (v10 : BitVec 32) (v708 : IVec S16 32) (k0_hw300 : k0_chk300 i v10 v708), ∀ (k0_h1 : k0_cond1 i v10 = 1#1), ∀ a x, ((![v708] : Fin 1 → IVec S16 32) a x).toNat < S18816.size a := fun i v10 v708 k0_hw300 k0_h1 => k0_hw300 k0_h1

def k0_chk301 (i : grid0.Coords) (v10 : BitVec 32) (v713 : IVec S16 32) : Prop :=
  (∀ (k0_h1 : k0_cond1 i v10 = 1#1), ∀ a x, ((![v713] : Fin 1 → IVec S16 32) a x).toNat < S18816.size a)
theorem k0_idx285_inb : ∀ (i : grid0.Coords) (v10 : BitVec 32) (v713 : IVec S16 32) (k0_hw301 : k0_chk301 i v10 v713), ∀ (k0_h1 : k0_cond1 i v10 = 1#1), ∀ a x, ((![v713] : Fin 1 → IVec S16 32) a x).toNat < S18816.size a := fun i v10 v713 k0_hw301 k0_h1 => k0_hw301 k0_h1

def k0_chk302 (i : grid0.Coords) (v10 : BitVec 32) (v718 : IVec S16 32) : Prop :=
  (∀ (k0_h1 : k0_cond1 i v10 = 1#1), ∀ a x, ((![v718] : Fin 1 → IVec S16 32) a x).toNat < S18816.size a)
theorem k0_idx286_inb : ∀ (i : grid0.Coords) (v10 : BitVec 32) (v718 : IVec S16 32) (k0_hw302 : k0_chk302 i v10 v718), ∀ (k0_h1 : k0_cond1 i v10 = 1#1), ∀ a x, ((![v718] : Fin 1 → IVec S16 32) a x).toNat < S18816.size a := fun i v10 v718 k0_hw302 k0_h1 => k0_hw302 k0_h1

def k0_chk303 (i : grid0.Coords) (v10 : BitVec 32) (v723 : IVec S16 32) : Prop :=
  (∀ (k0_h1 : k0_cond1 i v10 = 1#1), ∀ a x, ((![v723] : Fin 1 → IVec S16 32) a x).toNat < S18816.size a)
theorem k0_idx287_inb : ∀ (i : grid0.Coords) (v10 : BitVec 32) (v723 : IVec S16 32) (k0_hw303 : k0_chk303 i v10 v723), ∀ (k0_h1 : k0_cond1 i v10 = 1#1), ∀ a x, ((![v723] : Fin 1 → IVec S16 32) a x).toNat < S18816.size a := fun i v10 v723 k0_hw303 k0_h1 => k0_hw303 k0_h1

def k0_chk304 (i : grid0.Coords) (v10 : BitVec 32) (v728 : IVec S16 32) : Prop :=
  (∀ (k0_h1 : k0_cond1 i v10 = 1#1), ∀ a x, ((![v728] : Fin 1 → IVec S16 32) a x).toNat < S18816.size a)
theorem k0_idx288_inb : ∀ (i : grid0.Coords) (v10 : BitVec 32) (v728 : IVec S16 32) (k0_hw304 : k0_chk304 i v10 v728), ∀ (k0_h1 : k0_cond1 i v10 = 1#1), ∀ a x, ((![v728] : Fin 1 → IVec S16 32) a x).toNat < S18816.size a := fun i v10 v728 k0_hw304 k0_h1 => k0_hw304 k0_h1
@[reducible] def k0_t78_loop (v41 : BitVec 32) (v43 : BitVec 32) : Scf.Loop 32 :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_271 : BitVec 32 := 1#32
  ⟨v41, v738, c1_i32_271⟩
@[reducible] def k0_t79_loop (v730 : BitVec 32) (v732 : BitVec 32) : Scf.Loop 32 :=
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_376 : BitVec 32 := 1#32
  ⟨v730, v1008, c1_i32_376⟩

def k0_off1159 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1012 : Index := Scalar.indexCast v1011
  let c0_378 : Index := 0#32
  ![v1012.toNat, 0]
def k0_off1160 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1015 : Index := Scalar.indexCast v1011
  let c16 : Index := 16#32
  ![v1015.toNat, 16]
def k0_off1161 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1018 : Index := Scalar.indexCast v1011
  let c32 : Index := 32#32
  ![v1018.toNat, 32]
def k0_off1162 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1021 : Index := Scalar.indexCast v1011
  let c48 : Index := 48#32
  ![v1021.toNat, 48]
def k0_off1163 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1024 : Index := Scalar.indexCast v1011
  let c64 : Index := 64#32
  ![v1024.toNat, 64]
def k0_off1164 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1027 : Index := Scalar.indexCast v1011
  let c80 : Index := 80#32
  ![v1027.toNat, 80]
def k0_off1165 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1030 : Index := Scalar.indexCast v1011
  let c96 : Index := 96#32
  ![v1030.toNat, 96]
def k0_off1166 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1033 : Index := Scalar.indexCast v1011
  let c112 : Index := 112#32
  ![v1033.toNat, 112]
def k0_off1167 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1036 : Index := Scalar.indexCast v1011
  let c128 : Index := 128#32
  ![v1036.toNat, 128]
def k0_off1168 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1039 : Index := Scalar.indexCast v1011
  let c144 : Index := 144#32
  ![v1039.toNat, 144]
def k0_off1169 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1042 : Index := Scalar.indexCast v1011
  let c160 : Index := 160#32
  ![v1042.toNat, 160]
def k0_off1170 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1045 : Index := Scalar.indexCast v1011
  let c176 : Index := 176#32
  ![v1045.toNat, 176]
def k0_off1171 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1048 : Index := Scalar.indexCast v1011
  let c192 : Index := 192#32
  ![v1048.toNat, 192]
def k0_off1172 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1051 : Index := Scalar.indexCast v1011
  let c208 : Index := 208#32
  ![v1051.toNat, 208]
def k0_off1173 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1054 : Index := Scalar.indexCast v1011
  let c224 : Index := 224#32
  ![v1054.toNat, 224]
def k0_off1174 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1057 : Index := Scalar.indexCast v1011
  let c240 : Index := 240#32
  ![v1057.toNat, 240]
def k0_off1175 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1060 : Index := Scalar.indexCast v1011
  let c256 : Index := 256#32
  ![v1060.toNat, 256]
def k0_off1176 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1063 : Index := Scalar.indexCast v1011
  let c272 : Index := 272#32
  ![v1063.toNat, 272]
def k0_off1177 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1066 : Index := Scalar.indexCast v1011
  let c288 : Index := 288#32
  ![v1066.toNat, 288]
def k0_off1178 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1069 : Index := Scalar.indexCast v1011
  let c304 : Index := 304#32
  ![v1069.toNat, 304]
def k0_off1179 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1072 : Index := Scalar.indexCast v1011
  let c320 : Index := 320#32
  ![v1072.toNat, 320]
def k0_off1180 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1075 : Index := Scalar.indexCast v1011
  let c336 : Index := 336#32
  ![v1075.toNat, 336]
def k0_off1181 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1078 : Index := Scalar.indexCast v1011
  let c352 : Index := 352#32
  ![v1078.toNat, 352]
def k0_off1182 (v41 : BitVec 32) (v43 : BitVec 32) (v730 : BitVec 32) (v732 : BitVec 32) (k0_t78 : Fin (k0_t78_loop v41 v43).trips) (k0_t79 : Fin (k0_t79_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let c1_i32_376 : BitVec 32 := 1#32
  let arg36 : BitVec 32 := Scf.iv v730 c1_i32_376 k0_t79
  let v1011 : BitVec 32 := Scalar.addi v1003 arg36
  let v1081 : Index := Scalar.indexCast v1011
  let c368 : Index := 368#32
  ![v1081.toNat, 368]
@[reducible] def k0_t80_loop (v730 : BitVec 32) (v732 : BitVec 32) : Scf.Loop 32 :=
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let v1005 : BitVec 32 := Scalar.addi v730 v1004
  let c1_i32_377 : BitVec 32 := 1#32
  ⟨v1008, v1005, c1_i32_377⟩
def k0_off1183 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1012 : Index := Scalar.indexCast v1011
  let c0_378 : Index := 0#32
  ![v1012.toNat, 0]
def k0_off1184 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1015 : Index := Scalar.indexCast v1011
  let c16 : Index := 16#32
  ![v1015.toNat, 16]
def k0_off1185 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1018 : Index := Scalar.indexCast v1011
  let c32 : Index := 32#32
  ![v1018.toNat, 32]
def k0_off1186 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1021 : Index := Scalar.indexCast v1011
  let c48 : Index := 48#32
  ![v1021.toNat, 48]
def k0_off1187 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1024 : Index := Scalar.indexCast v1011
  let c64 : Index := 64#32
  ![v1024.toNat, 64]
def k0_off1188 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1027 : Index := Scalar.indexCast v1011
  let c80 : Index := 80#32
  ![v1027.toNat, 80]
def k0_off1189 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1030 : Index := Scalar.indexCast v1011
  let c96 : Index := 96#32
  ![v1030.toNat, 96]
def k0_off1190 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1033 : Index := Scalar.indexCast v1011
  let c112 : Index := 112#32
  ![v1033.toNat, 112]
def k0_off1191 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1036 : Index := Scalar.indexCast v1011
  let c128 : Index := 128#32
  ![v1036.toNat, 128]
def k0_off1192 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1039 : Index := Scalar.indexCast v1011
  let c144 : Index := 144#32
  ![v1039.toNat, 144]
def k0_off1193 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1042 : Index := Scalar.indexCast v1011
  let c160 : Index := 160#32
  ![v1042.toNat, 160]
def k0_off1194 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1045 : Index := Scalar.indexCast v1011
  let c176 : Index := 176#32
  ![v1045.toNat, 176]
def k0_off1195 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1048 : Index := Scalar.indexCast v1011
  let c192 : Index := 192#32
  ![v1048.toNat, 192]
def k0_off1196 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1051 : Index := Scalar.indexCast v1011
  let c208 : Index := 208#32
  ![v1051.toNat, 208]
def k0_off1197 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1054 : Index := Scalar.indexCast v1011
  let c224 : Index := 224#32
  ![v1054.toNat, 224]
def k0_off1198 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1057 : Index := Scalar.indexCast v1011
  let c240 : Index := 240#32
  ![v1057.toNat, 240]
def k0_off1199 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1060 : Index := Scalar.indexCast v1011
  let c256 : Index := 256#32
  ![v1060.toNat, 256]
def k0_off1200 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1063 : Index := Scalar.indexCast v1011
  let c272 : Index := 272#32
  ![v1063.toNat, 272]
def k0_off1201 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1066 : Index := Scalar.indexCast v1011
  let c288 : Index := 288#32
  ![v1066.toNat, 288]
def k0_off1202 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1069 : Index := Scalar.indexCast v1011
  let c304 : Index := 304#32
  ![v1069.toNat, 304]
def k0_off1203 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1072 : Index := Scalar.indexCast v1011
  let c320 : Index := 320#32
  ![v1072.toNat, 320]
def k0_off1204 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1075 : Index := Scalar.indexCast v1011
  let c336 : Index := 336#32
  ![v1075.toNat, 336]
def k0_off1205 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1078 : Index := Scalar.indexCast v1011
  let c352 : Index := 352#32
  ![v1078.toNat, 352]
def k0_off1206 (v41 : BitVec 32) (v43 : BitVec 32) (v730 : BitVec 32) (v732 : BitVec 32) (k0_t78 : Fin (k0_t78_loop v41 v43).trips) (k0_t80 : Fin (k0_t80_loop v730 v732).trips) : Fin 2 → Nat :=
  let c1_i32_271 : BitVec 32 := 1#32
  let arg11 : BitVec 32 := Scf.iv v41 c1_i32_271 k0_t78
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t80
  let v1011 : BitVec 32 := Scalar.addi v1003 arg36
  let v1081 : Index := Scalar.indexCast v1011
  let c368 : Index := 368#32
  ![v1081.toNat, 368]
@[reducible] def k0_t81_loop (v41 : BitVec 32) (v43 : BitVec 32) : Scf.Loop 32 :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let v735 : BitVec 32 := Scalar.addi v41 v734
  let c1_i32_272 : BitVec 32 := 1#32
  ⟨v738, v735, c1_i32_272⟩
@[reducible] def k0_t82_loop (v730 : BitVec 32) (v732 : BitVec 32) : Scf.Loop 32 :=
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_376 : BitVec 32 := 1#32
  ⟨v730, v1008, c1_i32_376⟩
def k0_off1207 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1012 : Index := Scalar.indexCast v1011
  let c0_378 : Index := 0#32
  ![v1012.toNat, 0]
def k0_off1208 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1015 : Index := Scalar.indexCast v1011
  let c16 : Index := 16#32
  ![v1015.toNat, 16]
def k0_off1209 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1018 : Index := Scalar.indexCast v1011
  let c32 : Index := 32#32
  ![v1018.toNat, 32]
def k0_off1210 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1021 : Index := Scalar.indexCast v1011
  let c48 : Index := 48#32
  ![v1021.toNat, 48]
def k0_off1211 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1024 : Index := Scalar.indexCast v1011
  let c64 : Index := 64#32
  ![v1024.toNat, 64]
def k0_off1212 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1027 : Index := Scalar.indexCast v1011
  let c80 : Index := 80#32
  ![v1027.toNat, 80]
def k0_off1213 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1030 : Index := Scalar.indexCast v1011
  let c96 : Index := 96#32
  ![v1030.toNat, 96]
def k0_off1214 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1033 : Index := Scalar.indexCast v1011
  let c112 : Index := 112#32
  ![v1033.toNat, 112]
def k0_off1215 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1036 : Index := Scalar.indexCast v1011
  let c128 : Index := 128#32
  ![v1036.toNat, 128]
def k0_off1216 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1039 : Index := Scalar.indexCast v1011
  let c144 : Index := 144#32
  ![v1039.toNat, 144]
def k0_off1217 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1042 : Index := Scalar.indexCast v1011
  let c160 : Index := 160#32
  ![v1042.toNat, 160]
def k0_off1218 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1045 : Index := Scalar.indexCast v1011
  let c176 : Index := 176#32
  ![v1045.toNat, 176]
def k0_off1219 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1048 : Index := Scalar.indexCast v1011
  let c192 : Index := 192#32
  ![v1048.toNat, 192]
def k0_off1220 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1051 : Index := Scalar.indexCast v1011
  let c208 : Index := 208#32
  ![v1051.toNat, 208]
def k0_off1221 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1054 : Index := Scalar.indexCast v1011
  let c224 : Index := 224#32
  ![v1054.toNat, 224]
def k0_off1222 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1057 : Index := Scalar.indexCast v1011
  let c240 : Index := 240#32
  ![v1057.toNat, 240]
def k0_off1223 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1060 : Index := Scalar.indexCast v1011
  let c256 : Index := 256#32
  ![v1060.toNat, 256]
def k0_off1224 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1063 : Index := Scalar.indexCast v1011
  let c272 : Index := 272#32
  ![v1063.toNat, 272]
def k0_off1225 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1066 : Index := Scalar.indexCast v1011
  let c288 : Index := 288#32
  ![v1066.toNat, 288]
def k0_off1226 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1069 : Index := Scalar.indexCast v1011
  let c304 : Index := 304#32
  ![v1069.toNat, 304]
def k0_off1227 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1072 : Index := Scalar.indexCast v1011
  let c320 : Index := 320#32
  ![v1072.toNat, 320]
def k0_off1228 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1075 : Index := Scalar.indexCast v1011
  let c336 : Index := 336#32
  ![v1075.toNat, 336]
def k0_off1229 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1078 : Index := Scalar.indexCast v1011
  let c352 : Index := 352#32
  ![v1078.toNat, 352]
def k0_off1230 (v41 : BitVec 32) (v43 : BitVec 32) (v730 : BitVec 32) (v732 : BitVec 32) (k0_t81 : Fin (k0_t81_loop v41 v43).trips) (k0_t82 : Fin (k0_t82_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let c1_i32_376 : BitVec 32 := 1#32
  let arg36 : BitVec 32 := Scf.iv v730 c1_i32_376 k0_t82
  let v1011 : BitVec 32 := Scalar.addi v1003 arg36
  let v1081 : Index := Scalar.indexCast v1011
  let c368 : Index := 368#32
  ![v1081.toNat, 368]
@[reducible] def k0_t83_loop (v730 : BitVec 32) (v732 : BitVec 32) : Scf.Loop 32 :=
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let v1005 : BitVec 32 := Scalar.addi v730 v1004
  let c1_i32_377 : BitVec 32 := 1#32
  ⟨v1008, v1005, c1_i32_377⟩
def k0_off1231 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1012 : Index := Scalar.indexCast v1011
  let c0_378 : Index := 0#32
  ![v1012.toNat, 0]
def k0_off1232 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1015 : Index := Scalar.indexCast v1011
  let c16 : Index := 16#32
  ![v1015.toNat, 16]
def k0_off1233 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1018 : Index := Scalar.indexCast v1011
  let c32 : Index := 32#32
  ![v1018.toNat, 32]
def k0_off1234 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1021 : Index := Scalar.indexCast v1011
  let c48 : Index := 48#32
  ![v1021.toNat, 48]
def k0_off1235 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1024 : Index := Scalar.indexCast v1011
  let c64 : Index := 64#32
  ![v1024.toNat, 64]
def k0_off1236 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1027 : Index := Scalar.indexCast v1011
  let c80 : Index := 80#32
  ![v1027.toNat, 80]
def k0_off1237 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1030 : Index := Scalar.indexCast v1011
  let c96 : Index := 96#32
  ![v1030.toNat, 96]
def k0_off1238 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1033 : Index := Scalar.indexCast v1011
  let c112 : Index := 112#32
  ![v1033.toNat, 112]
def k0_off1239 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1036 : Index := Scalar.indexCast v1011
  let c128 : Index := 128#32
  ![v1036.toNat, 128]
def k0_off1240 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1039 : Index := Scalar.indexCast v1011
  let c144 : Index := 144#32
  ![v1039.toNat, 144]
def k0_off1241 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1042 : Index := Scalar.indexCast v1011
  let c160 : Index := 160#32
  ![v1042.toNat, 160]
def k0_off1242 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1045 : Index := Scalar.indexCast v1011
  let c176 : Index := 176#32
  ![v1045.toNat, 176]
def k0_off1243 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1048 : Index := Scalar.indexCast v1011
  let c192 : Index := 192#32
  ![v1048.toNat, 192]
def k0_off1244 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1051 : Index := Scalar.indexCast v1011
  let c208 : Index := 208#32
  ![v1051.toNat, 208]
def k0_off1245 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1054 : Index := Scalar.indexCast v1011
  let c224 : Index := 224#32
  ![v1054.toNat, 224]
def k0_off1246 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1057 : Index := Scalar.indexCast v1011
  let c240 : Index := 240#32
  ![v1057.toNat, 240]
def k0_off1247 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1060 : Index := Scalar.indexCast v1011
  let c256 : Index := 256#32
  ![v1060.toNat, 256]
def k0_off1248 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1063 : Index := Scalar.indexCast v1011
  let c272 : Index := 272#32
  ![v1063.toNat, 272]
def k0_off1249 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1066 : Index := Scalar.indexCast v1011
  let c288 : Index := 288#32
  ![v1066.toNat, 288]
def k0_off1250 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1069 : Index := Scalar.indexCast v1011
  let c304 : Index := 304#32
  ![v1069.toNat, 304]
def k0_off1251 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1072 : Index := Scalar.indexCast v1011
  let c320 : Index := 320#32
  ![v1072.toNat, 320]
def k0_off1252 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1075 : Index := Scalar.indexCast v1011
  let c336 : Index := 336#32
  ![v1075.toNat, 336]
def k0_off1253 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1078 : Index := Scalar.indexCast v1011
  let c352 : Index := 352#32
  ![v1078.toNat, 352]
def k0_off1254 (v41 : BitVec 32) (v43 : BitVec 32) (v730 : BitVec 32) (v732 : BitVec 32) (k0_t81 : Fin (k0_t81_loop v41 v43).trips) (k0_t83 : Fin (k0_t83_loop v730 v732).trips) : Fin 2 → Nat :=
  let v734 : BitVec 32 := Scalar.subi v43 v41
  let c1_i32_270 : BitVec 32 := 1#32
  let v736 : BitVec 32 := Scalar.divsi v734 c1_i32_270
  let v737 : BitVec 32 := Scalar.muli v736 c1_i32_270
  let v738 : BitVec 32 := Scalar.addi v41 v737
  let c1_i32_272 : BitVec 32 := 1#32
  let arg11 : BitVec 32 := Scf.iv v738 c1_i32_272 k0_t81
  let c14_i32 : BitVec 32 := 14#32
  let v1003 : BitVec 32 := Scalar.muli arg11 c14_i32
  let v1004 : BitVec 32 := Scalar.subi v732 v730
  let c1_i32_375 : BitVec 32 := 1#32
  let v1006 : BitVec 32 := Scalar.divsi v1004 c1_i32_375
  let v1007 : BitVec 32 := Scalar.muli v1006 c1_i32_375
  let v1008 : BitVec 32 := Scalar.addi v730 v1007
  let c1_i32_377 : BitVec 32 := 1#32
  let arg36 : BitVec 32 := Scf.iv v1008 c1_i32_377 k0_t83
  let v1011 : BitVec 32 := Scalar.addi v1003 arg36
  let v1081 : Index := Scalar.indexCast v1011
  let c368 : Index := 368#32
  ![v1081.toNat, 368]

def k0_chk305_0 (i : grid0.Coords) (v10 : BitVec 32) (v41 : BitVec 32) (v43 : BitVec 32) (v730 : BitVec 32) (v732 : BitVec 32) : Prop :=
  (∀ k0_t78 : Fin (k0_t78_loop v41 v43).trips, ∀ (k0_h1 : k0_cond1 i v10 = 1#1), (k0_t79_loop v730 v732).OK) ∧
  (∀ (k0_t78 : Fin (k0_t78_loop v41 v43).trips) (k0_t79 : Fin (k0_t79_loop v730 v732).trips), ∀ (k0_h1 : k0_cond1 i v10 = 1#1), ∀ a, (k0_off1159 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1160 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1161 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1162 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1163 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1164 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1165 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1166 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1167 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1168 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1169 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1170 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1171 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1172 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1173 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1174 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1175 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1176 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1177 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1178 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1179 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1180 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1181 v41 v43 v730 v732 k0_t78 k0_t79) a + S1x16.size a ≤ S196x384.size a) ∧
  (∀ (k0_t78 : Fin (k0_t78_loop v41 v43).trips) (k0_t79 : Fin (k0_t79_loop v730 v732).trips), ∀ (k0_h1 : k0_cond1 i v10 = 1#1), ∀ a, (k0_off1182 v41 v43 v730 v732 k0_t78 k0_t79) a + S1x16.size a ≤ S196x384.size a) ∧
  (∀ k0_t78 : Fin (k0_t78_loop v41 v43).trips, ∀ (k0_h1 : k0_cond1 i v10 = 1#1), (k0_t80_loop v730 v732).OK) ∧
  (∀ (k0_t78 : Fin (k0_t78_loop v41 v43).trips) (k0_t80 : Fin (k0_t80_loop v730 v732).trips), ∀ (k0_h1 : k0_cond1 i v10 = 1#1), ∀ a, (k0_off1183 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1184 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1185 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1186 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1187 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1188 v41 v43 v730 v732 k0_t78 k0_t80) a + S1x16.size a ≤ S196x384.size a)
def k0_chk305_1 (i : grid0.Coords) (v10 : BitVec 32) (v41 : BitVec 32) (v43 : BitVec 32) (v730 : BitVec 32) (v732 : BitVec 32) : Prop :=
  (∀ (k0_t78 : Fin (k0_t78_loop v41 v43).trips) (k0_t80 : Fin (k0_t80_loop v730 v732).trips), ∀ (k0_h1 : k0_cond1 i v10 = 1#1), ∀ a, (k0_off1189 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1190 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1191 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1192 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1193 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1194 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1195 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1196 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1197 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1198 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1199 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1200 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1201 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1202 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1203 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1204 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1205 v41 v43 v730 v732 k0_t78 k0_t80) a + S1x16.size a ≤ S196x384.size a) ∧
  (∀ (k0_t78 : Fin (k0_t78_loop v41 v43).trips) (k0_t80 : Fin (k0_t80_loop v730 v732).trips), ∀ (k0_h1 : k0_cond1 i v10 = 1#1), ∀ a, (k0_off1206 v41 v43 v730 v732 k0_t78 k0_t80) a + S1x16.size a ≤ S196x384.size a) ∧
  (∀ k0_t81 : Fin (k0_t81_loop v41 v43).trips, ∀ (k0_h1 : k0_cond1 i v10 = 1#1), (k0_t82_loop v730 v732).OK) ∧
  (∀ (k0_t81 : Fin (k0_t81_loop v41 v43).trips) (k0_t82 : Fin (k0_t82_loop v730 v732).trips), ∀ (k0_h1 : k0_cond1 i v10 = 1#1), ∀ a, (k0_off1207 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1208 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1209 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1210 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1211 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1212 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1213 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1214 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1215 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1216 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1217 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1218 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1219 v41 v43 v730 v732 k0_t81 k0_t82) a + S1x16.size a ≤ S196x384.size a)
def k0_chk305_2 (i : grid0.Coords) (v10 : BitVec 32) (v41 : BitVec 32) (v43 : BitVec 32) (v730 : BitVec 32) (v732 : BitVec 32) : Prop :=
  (∀ (k0_t81 : Fin (k0_t81_loop v41 v43).trips) (k0_t82 : Fin (k0_t82_loop v730 v732).trips), ∀ (k0_h1 : k0_cond1 i v10 = 1#1), ∀ a, (k0_off1220 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1221 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1222 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1223 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1224 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1225 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1226 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1227 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1228 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1229 v41 v43 v730 v732 k0_t81 k0_t82) a + S1x16.size a ≤ S196x384.size a) ∧
  (∀ (k0_t81 : Fin (k0_t81_loop v41 v43).trips) (k0_t82 : Fin (k0_t82_loop v730 v732).trips), ∀ (k0_h1 : k0_cond1 i v10 = 1#1), ∀ a, (k0_off1230 v41 v43 v730 v732 k0_t81 k0_t82) a + S1x16.size a ≤ S196x384.size a) ∧
  (∀ k0_t81 : Fin (k0_t81_loop v41 v43).trips, ∀ (k0_h1 : k0_cond1 i v10 = 1#1), (k0_t83_loop v730 v732).OK) ∧
  (∀ (k0_t81 : Fin (k0_t81_loop v41 v43).trips) (k0_t83 : Fin (k0_t83_loop v730 v732).trips), ∀ (k0_h1 : k0_cond1 i v10 = 1#1), ∀ a, (k0_off1231 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1232 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1233 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1234 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1235 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1236 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1237 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1238 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1239 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1240 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1241 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1242 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1243 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1244 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1245 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1246 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1247 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1248 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1249 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1250 v41 v43 v730 v732 k0_t81 k0_t83) a + S1x16.size a ≤ S196x384.size a)
def k0_chk305_3 (i : grid0.Coords) (v10 : BitVec 32) (v41 : BitVec 32) (v43 : BitVec 32) (v730 : BitVec 32) (v732 : BitVec 32) : Prop :=
  (∀ (k0_t81 : Fin (k0_t81_loop v41 v43).trips) (k0_t83 : Fin (k0_t83_loop v730 v732).trips), ∀ (k0_h1 : k0_cond1 i v10 = 1#1), ∀ a, (k0_off1251 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1252 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1253 v41 v43 v730 v732 k0_t81 k0_t83) a + S1x16.size a ≤ S196x384.size a) ∧
  (∀ (k0_t81 : Fin (k0_t81_loop v41 v43).trips) (k0_t83 : Fin (k0_t83_loop v730 v732).trips), ∀ (k0_h1 : k0_cond1 i v10 = 1#1), ∀ a, (k0_off1254 v41 v43 v730 v732 k0_t81 k0_t83) a + S1x16.size a ≤ S196x384.size a)
def k0_chk305 (i : grid0.Coords) (v10 : BitVec 32) (v41 : BitVec 32) (v43 : BitVec 32) (v730 : BitVec 32) (v732 : BitVec 32) : Prop :=
  k0_chk305_0 i v10 v41 v43 v730 v732 ∧
  k0_chk305_1 i v10 v41 v43 v730 v732 ∧
  k0_chk305_2 i v10 v41 v43 v730 v732 ∧
  k0_chk305_3 i v10 v41 v43 v730 v732
theorem k0_t79_ok : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips), ∀ (k0_h1 : k0_cond1 i v10 = 1#1), (k0_t79_loop v730 v732).OK := fun i v10 v41 v43 v730 v732 k0_hw305 k0_t78 k0_h1 => k0_hw305.1.1 k0_t78 k0_h1
theorem k0_off1159_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1159 v41 v43 v730 v732 k0_t78 k0_t79) a + S1x16.size a ≤ S196x384.size a := fun i v10 v41 v43 v730 v732 k0_hw305 k0_t78 k0_t79 k0_h1 => k0_hw305.1.2.1 k0_t78 k0_t79 k0_h1
theorem k0_off1160_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1160 v41 v43 v730 v732 k0_t78 k0_t79) a + S1x16.size a ≤ S196x384.size a := fun i v10 v41 v43 v730 v732 k0_hw305 k0_t78 k0_t79 k0_h1 => k0_hw305.1.2.2.1 k0_t78 k0_t79 k0_h1
theorem k0_off1161_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1161 v41 v43 v730 v732 k0_t78 k0_t79) a + S1x16.size a ≤ S196x384.size a := fun i v10 v41 v43 v730 v732 k0_hw305 k0_t78 k0_t79 k0_h1 => k0_hw305.1.2.2.2.1 k0_t78 k0_t79 k0_h1
theorem k0_off1162_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1162 v41 v43 v730 v732 k0_t78 k0_t79) a + S1x16.size a ≤ S196x384.size a := fun i v10 v41 v43 v730 v732 k0_hw305 k0_t78 k0_t79 k0_h1 => k0_hw305.1.2.2.2.2.1 k0_t78 k0_t79 k0_h1
theorem k0_off1163_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1163 v41 v43 v730 v732 k0_t78 k0_t79) a + S1x16.size a ≤ S196x384.size a := fun i v10 v41 v43 v730 v732 k0_hw305 k0_t78 k0_t79 k0_h1 => k0_hw305.1.2.2.2.2.2.1 k0_t78 k0_t79 k0_h1
theorem k0_off1164_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1164 v41 v43 v730 v732 k0_t78 k0_t79) a + S1x16.size a ≤ S196x384.size a := fun i v10 v41 v43 v730 v732 k0_hw305 k0_t78 k0_t79 k0_h1 => k0_hw305.1.2.2.2.2.2.2.1 k0_t78 k0_t79 k0_h1
theorem k0_off1165_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1165 v41 v43 v730 v732 k0_t78 k0_t79) a + S1x16.size a ≤ S196x384.size a := fun i v10 v41 v43 v730 v732 k0_hw305 k0_t78 k0_t79 k0_h1 => k0_hw305.1.2.2.2.2.2.2.2.1 k0_t78 k0_t79 k0_h1
theorem k0_off1166_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1166 v41 v43 v730 v732 k0_t78 k0_t79) a + S1x16.size a ≤ S196x384.size a := fun i v10 v41 v43 v730 v732 k0_hw305 k0_t78 k0_t79 k0_h1 => k0_hw305.1.2.2.2.2.2.2.2.2.1 k0_t78 k0_t79 k0_h1
theorem k0_off1167_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1167 v41 v43 v730 v732 k0_t78 k0_t79) a + S1x16.size a ≤ S196x384.size a := fun i v10 v41 v43 v730 v732 k0_hw305 k0_t78 k0_t79 k0_h1 => k0_hw305.1.2.2.2.2.2.2.2.2.2.1 k0_t78 k0_t79 k0_h1
theorem k0_off1168_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1168 v41 v43 v730 v732 k0_t78 k0_t79) a + S1x16.size a ≤ S196x384.size a := fun i v10 v41 v43 v730 v732 k0_hw305 k0_t78 k0_t79 k0_h1 => k0_hw305.1.2.2.2.2.2.2.2.2.2.2.1 k0_t78 k0_t79 k0_h1
theorem k0_off1169_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1169 v41 v43 v730 v732 k0_t78 k0_t79) a + S1x16.size a ≤ S196x384.size a := fun i v10 v41 v43 v730 v732 k0_hw305 k0_t78 k0_t79 k0_h1 => k0_hw305.1.2.2.2.2.2.2.2.2.2.2.2.1 k0_t78 k0_t79 k0_h1
theorem k0_off1170_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1170 v41 v43 v730 v732 k0_t78 k0_t79) a + S1x16.size a ≤ S196x384.size a := fun i v10 v41 v43 v730 v732 k0_hw305 k0_t78 k0_t79 k0_h1 => k0_hw305.1.2.2.2.2.2.2.2.2.2.2.2.2.1 k0_t78 k0_t79 k0_h1
theorem k0_off1171_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1171 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.1 k0_t78 k0_t79 k0_h1
theorem k0_off1172_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1172 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.1 k0_t78 k0_t79 k0_h1
theorem k0_off1173_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1173 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.1 k0_t78 k0_t79 k0_h1
theorem k0_off1174_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1174 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.2.1 k0_t78 k0_t79 k0_h1
theorem k0_off1175_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1175 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.2.2.1 k0_t78 k0_t79 k0_h1
theorem k0_off1176_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1176 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.2.2.2.1 k0_t78 k0_t79 k0_h1
theorem k0_off1177_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1177 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.2.2.2.2.1 k0_t78 k0_t79 k0_h1
theorem k0_off1178_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1178 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.2.2.2.2.2.1 k0_t78 k0_t79 k0_h1
theorem k0_off1179_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1179 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.2.2.2.2.2.2.1 k0_t78 k0_t79 k0_h1
theorem k0_off1180_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1180 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.2.2.2.2.2.2.2.1 k0_t78 k0_t79 k0_h1
theorem k0_off1181_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1181 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.2.2.2.2.2.2.2.2.1 k0_t78 k0_t79 k0_h1
theorem k0_off1182_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t79 : Fin (k0_t79_loop v730 v732).trips), ∀ (k0_h1 : k0_cond1 i v10 = 1#1), ∀ a, (k0_off1182 v41 v43 v730 v732 k0_t78 k0_t79) a + S1x16.size a ≤ S196x384.size a := fun i v10 v41 v43 v730 v732 k0_hw305 k0_t78 k0_t79 k0_h1 => k0_hw305.1.2.2.2.2.2.2.2.2.2.2.2.2.2.2.2.2.2.2.2.2.2.2.2.2.1 k0_t78 k0_t79 k0_h1
theorem k0_t80_ok : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips), ∀ (k0_h1 : k0_cond1 i v10 = 1#1), (k0_t80_loop v730 v732).OK := fun i v10 v41 v43 v730 v732 k0_hw305 k0_t78 k0_h1 => k0_hw305.1.2.2.2.2.2.2.2.2.2.2.2.2.2.2.2.2.2.2.2.2.2.2.2.2.2.1 k0_t78 k0_h1
theorem k0_off1183_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1183 v41 v43 v730 v732 k0_t78 k0_t80) a + S1x16.size a ≤ S196x384.size a := fun i v10 v41 v43 v730 v732 k0_hw305 k0_t78 k0_t80 k0_h1 => k0_hw305.1.2.2.2.2.2.2.2.2.2.2.2.2.2.2.2.2.2.2.2.2.2.2.2.2.2.2.1 k0_t78 k0_t80 k0_h1
theorem k0_off1184_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1184 v41 v43 v730 v732 k0_t78 k0_t80) a + S1x16.size a ≤ S196x384.size a := fun i v10 v41 v43 v730 v732 k0_hw305 k0_t78 k0_t80 k0_h1 => k0_hw305.1.2.2.2.2.2.2.2.2.2.2.2.2.2.2.2.2.2.2.2.2.2.2.2.2.2.2.2.1 k0_t78 k0_t80 k0_h1
theorem k0_off1185_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1185 v41 v43 v730 v732 k0_t78 k0_t80) a + S1x16.size a ≤ S196x384.size a := fun i v10 v41 v43 v730 v732 k0_hw305 k0_t78 k0_t80 k0_h1 => k0_hw305.1.2.2.2.2.2.2.2.2.2.2.2.2.2.2.2.2.2.2.2.2.2.2.2.2.2.2.2.2.1 k0_t78 k0_t80 k0_h1
theorem k0_off1186_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1186 v41 v43 v730 v732 k0_t78 k0_t80) a + S1x16.size a ≤ S196x384.size a := fun i v10 v41 v43 v730 v732 k0_hw305 k0_t78 k0_t80 k0_h1 => k0_hw305.1.2.2.2.2.2.2.2.2.2.2.2.2.2.2.2.2.2.2.2.2.2.2.2.2.2.2.2.2.2.1 k0_t78 k0_t80 k0_h1
theorem k0_off1187_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1187 v41 v43 v730 v732 k0_t78 k0_t80) a + S1x16.size a ≤ S196x384.size a := fun i v10 v41 v43 v730 v732 k0_hw305 k0_t78 k0_t80 k0_h1 => k0_hw305.1.2.2.2.2.2.2.2.2.2.2.2.2.2.2.2.2.2.2.2.2.2.2.2.2.2.2.2.2.2.2.1 k0_t78 k0_t80 k0_h1
theorem k0_off1188_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1188 v41 v43 v730 v732 k0_t78 k0_t80) a + S1x16.size a ≤ S196x384.size a := fun i v10 v41 v43 v730 v732 k0_hw305 k0_t78 k0_t80 k0_h1 => k0_hw305.1.2.2.2.2.2.2.2.2.2.2.2.2.2.2.2.2.2.2.2.2.2.2.2.2.2.2.2.2.2.2.2 k0_t78 k0_t80 k0_h1
theorem k0_off1189_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1189 v41 v43 v730 v732 k0_t78 k0_t80) a + S1x16.size a ≤ S196x384.size a := fun i v10 v41 v43 v730 v732 k0_hw305 k0_t78 k0_t80 k0_h1 => k0_hw305.2.1.1 k0_t78 k0_t80 k0_h1
theorem k0_off1190_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1190 v41 v43 v730 v732 k0_t78 k0_t80) a + S1x16.size a ≤ S196x384.size a := fun i v10 v41 v43 v730 v732 k0_hw305 k0_t78 k0_t80 k0_h1 => k0_hw305.2.1.2.1 k0_t78 k0_t80 k0_h1
theorem k0_off1191_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1191 v41 v43 v730 v732 k0_t78 k0_t80) a + S1x16.size a ≤ S196x384.size a := fun i v10 v41 v43 v730 v732 k0_hw305 k0_t78 k0_t80 k0_h1 => k0_hw305.2.1.2.2.1 k0_t78 k0_t80 k0_h1
theorem k0_off1192_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1192 v41 v43 v730 v732 k0_t78 k0_t80) a + S1x16.size a ≤ S196x384.size a := fun i v10 v41 v43 v730 v732 k0_hw305 k0_t78 k0_t80 k0_h1 => k0_hw305.2.1.2.2.2.1 k0_t78 k0_t80 k0_h1
theorem k0_off1193_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1193 v41 v43 v730 v732 k0_t78 k0_t80) a + S1x16.size a ≤ S196x384.size a := fun i v10 v41 v43 v730 v732 k0_hw305 k0_t78 k0_t80 k0_h1 => k0_hw305.2.1.2.2.2.2.1 k0_t78 k0_t80 k0_h1
theorem k0_off1194_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1194 v41 v43 v730 v732 k0_t78 k0_t80) a + S1x16.size a ≤ S196x384.size a := fun i v10 v41 v43 v730 v732 k0_hw305 k0_t78 k0_t80 k0_h1 => k0_hw305.2.1.2.2.2.2.2.1 k0_t78 k0_t80 k0_h1
theorem k0_off1195_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1195 v41 v43 v730 v732 k0_t78 k0_t80) a + S1x16.size a ≤ S196x384.size a := fun i v10 v41 v43 v730 v732 k0_hw305 k0_t78 k0_t80 k0_h1 => k0_hw305.2.1.2.2.2.2.2.2.1 k0_t78 k0_t80 k0_h1
theorem k0_off1196_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1196 v41 v43 v730 v732 k0_t78 k0_t80) a + S1x16.size a ≤ S196x384.size a := fun i v10 v41 v43 v730 v732 k0_hw305 k0_t78 k0_t80 k0_h1 => k0_hw305.2.1.2.2.2.2.2.2.2.1 k0_t78 k0_t80 k0_h1
theorem k0_off1197_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1197 v41 v43 v730 v732 k0_t78 k0_t80) a + S1x16.size a ≤ S196x384.size a := fun i v10 v41 v43 v730 v732 k0_hw305 k0_t78 k0_t80 k0_h1 => k0_hw305.2.1.2.2.2.2.2.2.2.2.1 k0_t78 k0_t80 k0_h1
theorem k0_off1198_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1198 v41 v43 v730 v732 k0_t78 k0_t80) a + S1x16.size a ≤ S196x384.size a := fun i v10 v41 v43 v730 v732 k0_hw305 k0_t78 k0_t80 k0_h1 => k0_hw305.2.1.2.2.2.2.2.2.2.2.2.1 k0_t78 k0_t80 k0_h1
theorem k0_off1199_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1199 v41 v43 v730 v732 k0_t78 k0_t80) a + S1x16.size a ≤ S196x384.size a := fun i v10 v41 v43 v730 v732 k0_hw305 k0_t78 k0_t80 k0_h1 => k0_hw305.2.1.2.2.2.2.2.2.2.2.2.2.1 k0_t78 k0_t80 k0_h1
theorem k0_off1200_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1200 v41 v43 v730 v732 k0_t78 k0_t80) a + S1x16.size a ≤ S196x384.size a := fun i v10 v41 v43 v730 v732 k0_hw305 k0_t78 k0_t80 k0_h1 => k0_hw305.2.1.2.2.2.2.2.2.2.2.2.2.2.1 k0_t78 k0_t80 k0_h1
theorem k0_off1201_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1201 v41 v43 v730 v732 k0_t78 k0_t80) a + S1x16.size a ≤ S196x384.size a := fun i v10 v41 v43 v730 v732 k0_hw305 k0_t78 k0_t80 k0_h1 => k0_hw305.2.1.2.2.2.2.2.2.2.2.2.2.2.2.1 k0_t78 k0_t80 k0_h1
theorem k0_off1202_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1202 v41 v43 v730 v732 k0_t78 k0_t80) a + S1x16.size a ≤ S196x384.size a := fun i v10 v41 v43 v730 v732 k0_hw305 k0_t78 k0_t80 k0_h1 => k0_hw305.2.1.2.2.2.2.2.2.2.2.2.2.2.2.2.1 k0_t78 k0_t80 k0_h1
theorem k0_off1203_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1203 v41 v43 v730 v732 k0_t78 k0_t80) a + S1x16.size a ≤ S196x384.size a := fun i v10 v41 v43 v730 v732 k0_hw305 k0_t78 k0_t80 k0_h1 => k0_hw305.2.1.2.2.2.2.2.2.2.2.2.2.2.2.2.2.1 k0_t78 k0_t80 k0_h1
theorem k0_off1204_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1204 v41 v43 v730 v732 k0_t78 k0_t80) a + S1x16.size a ≤ S196x384.size a := fun i v10 v41 v43 v730 v732 k0_hw305 k0_t78 k0_t80 k0_h1 => k0_hw305.2.1.2.2.2.2.2.2.2.2.2.2.2.2.2.2.2.1 k0_t78 k0_t80 k0_h1
theorem k0_off1205_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1205 v41 v43 v730 v732 k0_t78 k0_t80) a + S1x16.size a ≤ S196x384.size a := fun i v10 v41 v43 v730 v732 k0_hw305 k0_t78 k0_t80 k0_h1 => k0_hw305.2.1.2.2.2.2.2.2.2.2.2.2.2.2.2.2.2.2.1 k0_t78 k0_t80 k0_h1
theorem k0_off1206_inb : ∀ (i : grid0.Coords) (v10 : BitVec 32) (v41 : BitVec 32) (v43 : BitVec 32) (v730 : BitVec 32) (v732 : BitVec 32) (k0_hw305 : k0_chk305 i v10 v41 v43 v730 v732) (k0_t78 : Fin (k0_t78_loop v41 v43).trips) (k0_t80 : Fin (k0_t80_loop v730 v732).trips), ∀ (k0_h1 : k0_cond1 i v10 = 1#1), ∀ a, (k0_off1206 v41 v43 v730 v732 k0_t78 k0_t80) a + S1x16.size a ≤ S196x384.size a := fun i v10 v41 v43 v730 v732 k0_hw305 k0_t78 k0_t80 k0_h1 => k0_hw305.2.1.2.2.2.2.2.2.2.2.2.2.2.2.2.2.2.2.2.1 k0_t78 k0_t80 k0_h1
theorem k0_t82_ok : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips), ∀ (k0_h1 : k0_cond1 i v10 = 1#1), (k0_t82_loop v730 v732).OK := fun i v10 v41 v43 v730 v732 k0_hw305 k0_t81 k0_h1 => k0_hw305.2.1.2.2.2.2.2.2.2.2.2.2.2.2.2.2.2.2.2.2.1 k0_t81 k0_h1
theorem k0_off1207_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1207 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.1 k0_t81 k0_t82 k0_h1
theorem k0_off1208_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1208 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.1 k0_t81 k0_t82 k0_h1
theorem k0_off1209_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1209 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.1 k0_t81 k0_t82 k0_h1
theorem k0_off1210_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1210 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.1 k0_t81 k0_t82 k0_h1
theorem k0_off1211_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1211 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.2.1 k0_t81 k0_t82 k0_h1
theorem k0_off1212_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1212 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.2.2.1 k0_t81 k0_t82 k0_h1
theorem k0_off1213_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1213 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.2.2.2.1 k0_t81 k0_t82 k0_h1
theorem k0_off1214_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1214 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.2.2.2.2.1 k0_t81 k0_t82 k0_h1
theorem k0_off1215_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1215 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.2.2.2.2.2.1 k0_t81 k0_t82 k0_h1
theorem k0_off1216_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1216 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.2.2.2.2.2.2.1 k0_t81 k0_t82 k0_h1
theorem k0_off1217_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1217 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.2.2.2.2.2.2.2.1 k0_t81 k0_t82 k0_h1
theorem k0_off1218_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1218 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.2.2.2.2.2.2.2.2.1 k0_t81 k0_t82 k0_h1
theorem k0_off1219_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1219 v41 v43 v730 v732 k0_t81 k0_t82) a + S1x16.size a ≤ S196x384.size a := fun i v10 v41 v43 v730 v732 k0_hw305 k0_t81 k0_t82 k0_h1 => k0_hw305.2.1.2.2.2.2.2.2.2.2.2.2.2.2.2.2.2.2.2.2.2.2.2.2.2.2.2.2.2.2.2.2.2 k0_t81 k0_t82 k0_h1
theorem k0_off1220_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1220 v41 v43 v730 v732 k0_t81 k0_t82) a + S1x16.size a ≤ S196x384.size a := fun i v10 v41 v43 v730 v732 k0_hw305 k0_t81 k0_t82 k0_h1 => k0_hw305.2.2.1.1 k0_t81 k0_t82 k0_h1
theorem k0_off1221_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1221 v41 v43 v730 v732 k0_t81 k0_t82) a + S1x16.size a ≤ S196x384.size a := fun i v10 v41 v43 v730 v732 k0_hw305 k0_t81 k0_t82 k0_h1 => k0_hw305.2.2.1.2.1 k0_t81 k0_t82 k0_h1
theorem k0_off1222_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1222 v41 v43 v730 v732 k0_t81 k0_t82) a + S1x16.size a ≤ S196x384.size a := fun i v10 v41 v43 v730 v732 k0_hw305 k0_t81 k0_t82 k0_h1 => k0_hw305.2.2.1.2.2.1 k0_t81 k0_t82 k0_h1
theorem k0_off1223_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1223 v41 v43 v730 v732 k0_t81 k0_t82) a + S1x16.size a ≤ S196x384.size a := fun i v10 v41 v43 v730 v732 k0_hw305 k0_t81 k0_t82 k0_h1 => k0_hw305.2.2.1.2.2.2.1 k0_t81 k0_t82 k0_h1
theorem k0_off1224_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1224 v41 v43 v730 v732 k0_t81 k0_t82) a + S1x16.size a ≤ S196x384.size a := fun i v10 v41 v43 v730 v732 k0_hw305 k0_t81 k0_t82 k0_h1 => k0_hw305.2.2.1.2.2.2.2.1 k0_t81 k0_t82 k0_h1
theorem k0_off1225_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1225 v41 v43 v730 v732 k0_t81 k0_t82) a + S1x16.size a ≤ S196x384.size a := fun i v10 v41 v43 v730 v732 k0_hw305 k0_t81 k0_t82 k0_h1 => k0_hw305.2.2.1.2.2.2.2.2.1 k0_t81 k0_t82 k0_h1
theorem k0_off1226_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1226 v41 v43 v730 v732 k0_t81 k0_t82) a + S1x16.size a ≤ S196x384.size a := fun i v10 v41 v43 v730 v732 k0_hw305 k0_t81 k0_t82 k0_h1 => k0_hw305.2.2.1.2.2.2.2.2.2.1 k0_t81 k0_t82 k0_h1
theorem k0_off1227_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1227 v41 v43 v730 v732 k0_t81 k0_t82) a + S1x16.size a ≤ S196x384.size a := fun i v10 v41 v43 v730 v732 k0_hw305 k0_t81 k0_t82 k0_h1 => k0_hw305.2.2.1.2.2.2.2.2.2.2.1 k0_t81 k0_t82 k0_h1
theorem k0_off1228_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1228 v41 v43 v730 v732 k0_t81 k0_t82) a + S1x16.size a ≤ S196x384.size a := fun i v10 v41 v43 v730 v732 k0_hw305 k0_t81 k0_t82 k0_h1 => k0_hw305.2.2.1.2.2.2.2.2.2.2.2.1 k0_t81 k0_t82 k0_h1
theorem k0_off1229_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1229 v41 v43 v730 v732 k0_t81 k0_t82) a + S1x16.size a ≤ S196x384.size a := fun i v10 v41 v43 v730 v732 k0_hw305 k0_t81 k0_t82 k0_h1 => k0_hw305.2.2.1.2.2.2.2.2.2.2.2.2.1 k0_t81 k0_t82 k0_h1
theorem k0_off1230_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t82 : Fin (k0_t82_loop v730 v732).trips), ∀ (k0_h1 : k0_cond1 i v10 = 1#1), ∀ a, (k0_off1230 v41 v43 v730 v732 k0_t81 k0_t82) a + S1x16.size a ≤ S196x384.size a := fun i v10 v41 v43 v730 v732 k0_hw305 k0_t81 k0_t82 k0_h1 => k0_hw305.2.2.1.2.2.2.2.2.2.2.2.2.2.1 k0_t81 k0_t82 k0_h1
theorem k0_t83_ok : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips), ∀ (k0_h1 : k0_cond1 i v10 = 1#1), (k0_t83_loop v730 v732).OK := fun i v10 v41 v43 v730 v732 k0_hw305 k0_t81 k0_h1 => k0_hw305.2.2.1.2.2.2.2.2.2.2.2.2.2.2.1 k0_t81 k0_h1
theorem k0_off1231_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1231 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.1 k0_t81 k0_t83 k0_h1
theorem k0_off1232_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1232 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.1 k0_t81 k0_t83 k0_h1
theorem k0_off1233_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1233 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.1 k0_t81 k0_t83 k0_h1
theorem k0_off1234_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1234 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.1 k0_t81 k0_t83 k0_h1
theorem k0_off1235_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1235 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.1 k0_t81 k0_t83 k0_h1
theorem k0_off1236_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1236 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.1 k0_t81 k0_t83 k0_h1
theorem k0_off1237_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1237 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.1 k0_t81 k0_t83 k0_h1
theorem k0_off1238_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1238 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.1 k0_t81 k0_t83 k0_h1
theorem k0_off1239_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1239 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.1 k0_t81 k0_t83 k0_h1
theorem k0_off1240_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1240 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.1 k0_t81 k0_t83 k0_h1
theorem k0_off1241_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1241 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.1 k0_t81 k0_t83 k0_h1
theorem k0_off1242_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1242 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.2.1 k0_t81 k0_t83 k0_h1
theorem k0_off1243_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1243 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.2.2.1 k0_t81 k0_t83 k0_h1
theorem k0_off1244_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1244 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.2.2.2.1 k0_t81 k0_t83 k0_h1
theorem k0_off1245_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1245 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.2.2.2.2.1 k0_t81 k0_t83 k0_h1
theorem k0_off1246_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1246 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.2.2.2.2.2.1 k0_t81 k0_t83 k0_h1
theorem k0_off1247_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1247 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.2.2.2.2.2.2.1 k0_t81 k0_t83 k0_h1
theorem k0_off1248_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1248 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.2.2.2.2.2.2.2.1 k0_t81 k0_t83 k0_h1
theorem k0_off1249_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1249 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.2.2.2.2.2.2.2.2.1 k0_t81 k0_t83 k0_h1
theorem k0_off1250_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1250 v41 v43 v730 v732 k0_t81 k0_t83) a + S1x16.size a ≤ S196x384.size a := fun i v10 v41 v43 v730 v732 k0_hw305 k0_t81 k0_t83 k0_h1 => k0_hw305.2.2.1.2.2.2.2.2.2.2.2.2.2.2.2.2.2.2.2.2.2.2.2.2.2.2.2.2.2.2.2.2.2.2 k0_t81 k0_t83 k0_h1
theorem k0_off1251_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1251 v41 v43 v730 v732 k0_t81 k0_t83) a + S1x16.size a ≤ S196x384.size a := fun i v10 v41 v43 v730 v732 k0_hw305 k0_t81 k0_t83 k0_h1 => k0_hw305.2.2.2.1 k0_t81 k0_t83 k0_h1
theorem k0_off1252_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1252 v41 v43 v730 v732 k0_t81 k0_t83) a + S1x16.size a ≤ S196x384.size a := fun i v10 v41 v43 v730 v732 k0_hw305 k0_t81 k0_t83 k0_h1 => k0_hw305.2.2.2.2.1 k0_t81 k0_t83 k0_h1
theorem k0_off1253_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1253 v41 v43 v730 v732 k0_t81 k0_t83) a + S1x16.size a ≤ S196x384.size a := fun i v10 v41 v43 v730 v732 k0_hw305 k0_t81 k0_t83 k0_h1 => k0_hw305.2.2.2.2.2.1 k0_t81 k0_t83 k0_h1
theorem k0_off1254_inb : ∀ (i : grid0.Coords) (v10 : BitVec 32) (v41 : BitVec 32) (v43 : BitVec 32) (v730 : BitVec 32) (v732 : BitVec 32) (k0_hw305 : k0_chk305 i v10 v41 v43 v730 v732) (k0_t81 : Fin (k0_t81_loop v41 v43).trips) (k0_t83 : Fin (k0_t83_loop v730 v732).trips), ∀ (k0_h1 : k0_cond1 i v10 = 1#1), ∀ a, (k0_off1254 v41 v43 v730 v732 k0_t81 k0_t83) a + S1x16.size a ≤ S196x384.size a := fun i v10 v41 v43 v730 v732 k0_hw305 k0_t81 k0_t83 k0_h1 => k0_hw305.2.2.2.2.2.2 k0_t81 k0_t83 k0_h1

def k0_chk306 (i : grid0.Coords) (v10 : BitVec 32) (v750 : IVec S16 32) : Prop :=
  (∀ (k0_h1 : k0_cond1 i v10 = 1#1), ∀ a x, ((![v750] : Fin 1 → IVec S16 32) a x).toNat < S18816.size a)
theorem k0_idx289_inb : ∀ (i : grid0.Coords) (v10 : BitVec 32) (v750 : IVec S16 32) (k0_hw306 : k0_chk306 i v10 v750), ∀ (k0_h1 : k0_cond1 i v10 = 1#1), ∀ a x, ((![v750] : Fin 1 → IVec S16 32) a x).toNat < S18816.size a := fun i v10 v750 k0_hw306 k0_h1 => k0_hw306 k0_h1

def k0_chk307 (i : grid0.Coords) (v10 : BitVec 32) (v755 : IVec S16 32) : Prop :=
  (∀ (k0_h1 : k0_cond1 i v10 = 1#1), ∀ a x, ((![v755] : Fin 1 → IVec S16 32) a x).toNat < S18816.size a)
theorem k0_idx290_inb : ∀ (i : grid0.Coords) (v10 : BitVec 32) (v755 : IVec S16 32) (k0_hw307 : k0_chk307 i v10 v755), ∀ (k0_h1 : k0_cond1 i v10 = 1#1), ∀ a x, ((![v755] : Fin 1 → IVec S16 32) a x).toNat < S18816.size a := fun i v10 v755 k0_hw307 k0_h1 => k0_hw307 k0_h1

def k0_chk308 (i : grid0.Coords) (v10 : BitVec 32) (v760 : IVec S16 32) : Prop :=
  (∀ (k0_h1 : k0_cond1 i v10 = 1#1), ∀ a x, ((![v760] : Fin 1 → IVec S16 32) a x).toNat < S18816.size a)
theorem k0_idx291_inb : ∀ (i : grid0.Coords) (v10 : BitVec 32) (v760 : IVec S16 32) (k0_hw308 : k0_chk308 i v10 v760), ∀ (k0_h1 : k0_cond1 i v10 = 1#1), ∀ a x, ((![v760] : Fin 1 → IVec S16 32) a x).toNat < S18816.size a := fun i v10 v760 k0_hw308 k0_h1 => k0_hw308 k0_h1

def k0_chk309 (i : grid0.Coords) (v10 : BitVec 32) (v765 : IVec S16 32) : Prop :=
  (∀ (k0_h1 : k0_cond1 i v10 = 1#1), ∀ a x, ((![v765] : Fin 1 → IVec S16 32) a x).toNat < S18816.size a)
theorem k0_idx292_inb : ∀ (i : grid0.Coords) (v10 : BitVec 32) (v765 : IVec S16 32) (k0_hw309 : k0_chk309 i v10 v765), ∀ (k0_h1 : k0_cond1 i v10 = 1#1), ∀ a x, ((![v765] : Fin 1 → IVec S16 32) a x).toNat < S18816.size a := fun i v10 v765 k0_hw309 k0_h1 => k0_hw309 k0_h1

def k0_chk310 (i : grid0.Coords) (v10 : BitVec 32) (v770 : IVec S16 32) : Prop :=
  (∀ (k0_h1 : k0_cond1 i v10 = 1#1), ∀ a x, ((![v770] : Fin 1 → IVec S16 32) a x).toNat < S18816.size a)
theorem k0_idx293_inb : ∀ (i : grid0.Coords) (v10 : BitVec 32) (v770 : IVec S16 32) (k0_hw310 : k0_chk310 i v10 v770), ∀ (k0_h1 : k0_cond1 i v10 = 1#1), ∀ a x, ((![v770] : Fin 1 → IVec S16 32) a x).toNat < S18816.size a := fun i v10 v770 k0_hw310 k0_h1 => k0_hw310 k0_h1

def k0_chk311 (i : grid0.Coords) (v10 : BitVec 32) (v775 : IVec S16 32) : Prop :=
  (∀ (k0_h1 : k0_cond1 i v10 = 1#1), ∀ a x, ((![v775] : Fin 1 → IVec S16 32) a x).toNat < S18816.size a)
theorem k0_idx294_inb : ∀ (i : grid0.Coords) (v10 : BitVec 32) (v775 : IVec S16 32) (k0_hw311 : k0_chk311 i v10 v775), ∀ (k0_h1 : k0_cond1 i v10 = 1#1), ∀ a x, ((![v775] : Fin 1 → IVec S16 32) a x).toNat < S18816.size a := fun i v10 v775 k0_hw311 k0_h1 => k0_hw311 k0_h1

def k0_chk312 (i : grid0.Coords) (v10 : BitVec 32) (v780 : IVec S16 32) : Prop :=
  (∀ (k0_h1 : k0_cond1 i v10 = 1#1), ∀ a x, ((![v780] : Fin 1 → IVec S16 32) a x).toNat < S18816.size a)
theorem k0_idx295_inb : ∀ (i : grid0.Coords) (v10 : BitVec 32) (v780 : IVec S16 32) (k0_hw312 : k0_chk312 i v10 v780), ∀ (k0_h1 : k0_cond1 i v10 = 1#1), ∀ a x, ((![v780] : Fin 1 → IVec S16 32) a x).toNat < S18816.size a := fun i v10 v780 k0_hw312 k0_h1 => k0_hw312 k0_h1

def k0_chk313 (i : grid0.Coords) (v10 : BitVec 32) (v785 : IVec S16 32) : Prop :=
  (∀ (k0_h1 : k0_cond1 i v10 = 1#1), ∀ a x, ((![v785] : Fin 1 → IVec S16 32) a x).toNat < S18816.size a)
theorem k0_idx296_inb : ∀ (i : grid0.Coords) (v10 : BitVec 32) (v785 : IVec S16 32) (k0_hw313 : k0_chk313 i v10 v785), ∀ (k0_h1 : k0_cond1 i v10 = 1#1), ∀ a x, ((![v785] : Fin 1 → IVec S16 32) a x).toNat < S18816.size a := fun i v10 v785 k0_hw313 k0_h1 => k0_hw313 k0_h1

def k0_chk314 (i : grid0.Coords) (v10 : BitVec 32) (v790 : IVec S16 32) : Prop :=
  (∀ (k0_h1 : k0_cond1 i v10 = 1#1), ∀ a x, ((![v790] : Fin 1 → IVec S16 32) a x).toNat < S18816.size a)
theorem k0_idx297_inb : ∀ (i : grid0.Coords) (v10 : BitVec 32) (v790 : IVec S16 32) (k0_hw314 : k0_chk314 i v10 v790), ∀ (k0_h1 : k0_cond1 i v10 = 1#1), ∀ a x, ((![v790] : Fin 1 → IVec S16 32) a x).toNat < S18816.size a := fun i v10 v790 k0_hw314 k0_h1 => k0_hw314 k0_h1

def k0_chk315 (i : grid0.Coords) (v10 : BitVec 32) (v795 : IVec S16 32) : Prop :=
  (∀ (k0_h1 : k0_cond1 i v10 = 1#1), ∀ a x, ((![v795] : Fin 1 → IVec S16 32) a x).toNat < S18816.size a)
theorem k0_idx298_inb : ∀ (i : grid0.Coords) (v10 : BitVec 32) (v795 : IVec S16 32) (k0_hw315 : k0_chk315 i v10 v795), ∀ (k0_h1 : k0_cond1 i v10 = 1#1), ∀ a x, ((![v795] : Fin 1 → IVec S16 32) a x).toNat < S18816.size a := fun i v10 v795 k0_hw315 k0_h1 => k0_hw315 k0_h1

def k0_chk316 (i : grid0.Coords) (v10 : BitVec 32) (v800 : IVec S16 32) : Prop :=
  (∀ (k0_h1 : k0_cond1 i v10 = 1#1), ∀ a x, ((![v800] : Fin 1 → IVec S16 32) a x).toNat < S18816.size a)
theorem k0_idx299_inb : ∀ (i : grid0.Coords) (v10 : BitVec 32) (v800 : IVec S16 32) (k0_hw316 : k0_chk316 i v10 v800), ∀ (k0_h1 : k0_cond1 i v10 = 1#1), ∀ a x, ((![v800] : Fin 1 → IVec S16 32) a x).toNat < S18816.size a := fun i v10 v800 k0_hw316 k0_h1 => k0_hw316 k0_h1

def k0_chk317 (i : grid0.Coords) (v10 : BitVec 32) (v805 : IVec S16 32) : Prop :=
  (∀ (k0_h1 : k0_cond1 i v10 = 1#1), ∀ a x, ((![v805] : Fin 1 → IVec S16 32) a x).toNat < S18816.size a)
theorem k0_idx300_inb : ∀ (i : grid0.Coords) (v10 : BitVec 32) (v805 : IVec S16 32) (k0_hw317 : k0_chk317 i v10 v805), ∀ (k0_h1 : k0_cond1 i v10 = 1#1), ∀ a x, ((![v805] : Fin 1 → IVec S16 32) a x).toNat < S18816.size a := fun i v10 v805 k0_hw317 k0_h1 => k0_hw317 k0_h1

def k0_chk318 (i : grid0.Coords) (v10 : BitVec 32) (v810 : IVec S16 32) : Prop :=
  (∀ (k0_h1 : k0_cond1 i v10 = 1#1), ∀ a x, ((![v810] : Fin 1 → IVec S16 32) a x).toNat < S18816.size a)
theorem k0_idx301_inb : ∀ (i : grid0.Coords) (v10 : BitVec 32) (v810 : IVec S16 32) (k0_hw318 : k0_chk318 i v10 v810), ∀ (k0_h1 : k0_cond1 i v10 = 1#1), ∀ a x, ((![v810] : Fin 1 → IVec S16 32) a x).toNat < S18816.size a := fun i v10 v810 k0_hw318 k0_h1 => k0_hw318 k0_h1

def k0_chk319 (i : grid0.Coords) (v10 : BitVec 32) (v815 : IVec S16 32) : Prop :=
  (∀ (k0_h1 : k0_cond1 i v10 = 1#1), ∀ a x, ((![v815] : Fin 1 → IVec S16 32) a x).toNat < S18816.size a)
theorem k0_idx302_inb : ∀ (i : grid0.Coords) (v10 : BitVec 32) (v815 : IVec S16 32) (k0_hw319 : k0_chk319 i v10 v815), ∀ (k0_h1 : k0_cond1 i v10 = 1#1), ∀ a x, ((![v815] : Fin 1 → IVec S16 32) a x).toNat < S18816.size a := fun i v10 v815 k0_hw319 k0_h1 => k0_hw319 k0_h1

def k0_chk320 (i : grid0.Coords) (v10 : BitVec 32) (v820 : IVec S16 32) : Prop :=
  (∀ (k0_h1 : k0_cond1 i v10 = 1#1), ∀ a x, ((![v820] : Fin 1 → IVec S16 32) a x).toNat < S18816.size a)
theorem k0_idx303_inb : ∀ (i : grid0.Coords) (v10 : BitVec 32) (v820 : IVec S16 32) (k0_hw320 : k0_chk320 i v10 v820), ∀ (k0_h1 : k0_cond1 i v10 = 1#1), ∀ a x, ((![v820] : Fin 1 → IVec S16 32) a x).toNat < S18816.size a := fun i v10 v820 k0_hw320 k0_h1 => k0_hw320 k0_h1

def k0_chk321 (i : grid0.Coords) (v10 : BitVec 32) (v825 : IVec S16 32) : Prop :=
  (∀ (k0_h1 : k0_cond1 i v10 = 1#1), ∀ a x, ((![v825] : Fin 1 → IVec S16 32) a x).toNat < S18816.size a)
theorem k0_idx304_inb : ∀ (i : grid0.Coords) (v10 : BitVec 32) (v825 : IVec S16 32) (k0_hw321 : k0_chk321 i v10 v825), ∀ (k0_h1 : k0_cond1 i v10 = 1#1), ∀ a x, ((![v825] : Fin 1 → IVec S16 32) a x).toNat < S18816.size a := fun i v10 v825 k0_hw321 k0_h1 => k0_hw321 k0_h1

def k0_chk322 (i : grid0.Coords) (v10 : BitVec 32) (v830 : IVec S16 32) : Prop :=
  (∀ (k0_h1 : k0_cond1 i v10 = 1#1), ∀ a x, ((![v830] : Fin 1 → IVec S16 32) a x).toNat < S18816.size a)
theorem k0_idx305_inb : ∀ (i : grid0.Coords) (v10 : BitVec 32) (v830 : IVec S16 32) (k0_hw322 : k0_chk322 i v10 v830), ∀ (k0_h1 : k0_cond1 i v10 = 1#1), ∀ a x, ((![v830] : Fin 1 → IVec S16 32) a x).toNat < S18816.size a := fun i v10 v830 k0_hw322 k0_h1 => k0_hw322 k0_h1

def k0_chk323 (i : grid0.Coords) (v10 : BitVec 32) (v835 : IVec S16 32) : Prop :=
  (∀ (k0_h1 : k0_cond1 i v10 = 1#1), ∀ a x, ((![v835] : Fin 1 → IVec S16 32) a x).toNat < S18816.size a)
theorem k0_idx306_inb : ∀ (i : grid0.Coords) (v10 : BitVec 32) (v835 : IVec S16 32) (k0_hw323 : k0_chk323 i v10 v835), ∀ (k0_h1 : k0_cond1 i v10 = 1#1), ∀ a x, ((![v835] : Fin 1 → IVec S16 32) a x).toNat < S18816.size a := fun i v10 v835 k0_hw323 k0_h1 => k0_hw323 k0_h1

def k0_chk324 (i : grid0.Coords) (v10 : BitVec 32) (v840 : IVec S16 32) : Prop :=
  (∀ (k0_h1 : k0_cond1 i v10 = 1#1), ∀ a x, ((![v840] : Fin 1 → IVec S16 32) a x).toNat < S18816.size a)
theorem k0_idx307_inb : ∀ (i : grid0.Coords) (v10 : BitVec 32) (v840 : IVec S16 32) (k0_hw324 : k0_chk324 i v10 v840), ∀ (k0_h1 : k0_cond1 i v10 = 1#1), ∀ a x, ((![v840] : Fin 1 → IVec S16 32) a x).toNat < S18816.size a := fun i v10 v840 k0_hw324 k0_h1 => k0_hw324 k0_h1

def k0_chk325 (i : grid0.Coords) (v10 : BitVec 32) (v845 : IVec S16 32) : Prop :=
  (∀ (k0_h1 : k0_cond1 i v10 = 1#1), ∀ a x, ((![v845] : Fin 1 → IVec S16 32) a x).toNat < S18816.size a)
theorem k0_idx308_inb : ∀ (i : grid0.Coords) (v10 : BitVec 32) (v845 : IVec S16 32) (k0_hw325 : k0_chk325 i v10 v845), ∀ (k0_h1 : k0_cond1 i v10 = 1#1), ∀ a x, ((![v845] : Fin 1 → IVec S16 32) a x).toNat < S18816.size a := fun i v10 v845 k0_hw325 k0_h1 => k0_hw325 k0_h1

def k0_chk326 (i : grid0.Coords) (v10 : BitVec 32) (v850 : IVec S16 32) : Prop :=
  (∀ (k0_h1 : k0_cond1 i v10 = 1#1), ∀ a x, ((![v850] : Fin 1 → IVec S16 32) a x).toNat < S18816.size a)
theorem k0_idx309_inb : ∀ (i : grid0.Coords) (v10 : BitVec 32) (v850 : IVec S16 32) (k0_hw326 : k0_chk326 i v10 v850), ∀ (k0_h1 : k0_cond1 i v10 = 1#1), ∀ a x, ((![v850] : Fin 1 → IVec S16 32) a x).toNat < S18816.size a := fun i v10 v850 k0_hw326 k0_h1 => k0_hw326 k0_h1

def k0_chk327 (i : grid0.Coords) (v10 : BitVec 32) (v855 : IVec S16 32) : Prop :=
  (∀ (k0_h1 : k0_cond1 i v10 = 1#1), ∀ a x, ((![v855] : Fin 1 → IVec S16 32) a x).toNat < S18816.size a)
theorem k0_idx310_inb : ∀ (i : grid0.Coords) (v10 : BitVec 32) (v855 : IVec S16 32) (k0_hw327 : k0_chk327 i v10 v855), ∀ (k0_h1 : k0_cond1 i v10 = 1#1), ∀ a x, ((![v855] : Fin 1 → IVec S16 32) a x).toNat < S18816.size a := fun i v10 v855 k0_hw327 k0_h1 => k0_hw327 k0_h1

def k0_chk328 (i : grid0.Coords) (v10 : BitVec 32) (v860 : IVec S16 32) : Prop :=
  (∀ (k0_h1 : k0_cond1 i v10 = 1#1), ∀ a x, ((![v860] : Fin 1 → IVec S16 32) a x).toNat < S18816.size a)
theorem k0_idx311_inb : ∀ (i : grid0.Coords) (v10 : BitVec 32) (v860 : IVec S16 32) (k0_hw328 : k0_chk328 i v10 v860), ∀ (k0_h1 : k0_cond1 i v10 = 1#1), ∀ a x, ((![v860] : Fin 1 → IVec S16 32) a x).toNat < S18816.size a := fun i v10 v860 k0_hw328 k0_h1 => k0_hw328 k0_h1

def k0_chk329 (i : grid0.Coords) (v10 : BitVec 32) (v865 : IVec S16 32) : Prop :=
  (∀ (k0_h1 : k0_cond1 i v10 = 1#1), ∀ a x, ((![v865] : Fin 1 → IVec S16 32) a x).toNat < S18816.size a)
theorem k0_idx312_inb : ∀ (i : grid0.Coords) (v10 : BitVec 32) (v865 : IVec S16 32) (k0_hw329 : k0_chk329 i v10 v865), ∀ (k0_h1 : k0_cond1 i v10 = 1#1), ∀ a x, ((![v865] : Fin 1 → IVec S16 32) a x).toNat < S18816.size a := fun i v10 v865 k0_hw329 k0_h1 => k0_hw329 k0_h1
@[reducible] def k0_t84_loop (v41 : BitVec 32) (v43 : BitVec 32) : Scf.Loop 32 :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_324 : BitVec 32 := 1#32
  ⟨v41, v875, c1_i32_324⟩
@[reducible] def k0_t85_loop (v867 : BitVec 32) (v869 : BitVec 32) : Scf.Loop 32 :=
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_376 : BitVec 32 := 1#32
  ⟨v867, v1008, c1_i32_376⟩

def k0_off1255 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1012 : Index := Scalar.indexCast v1011
  let c0_378 : Index := 0#32
  ![v1012.toNat, 0]
def k0_off1256 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1015 : Index := Scalar.indexCast v1011
  let c16 : Index := 16#32
  ![v1015.toNat, 16]
def k0_off1257 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1018 : Index := Scalar.indexCast v1011
  let c32 : Index := 32#32
  ![v1018.toNat, 32]
def k0_off1258 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1021 : Index := Scalar.indexCast v1011
  let c48 : Index := 48#32
  ![v1021.toNat, 48]
def k0_off1259 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1024 : Index := Scalar.indexCast v1011
  let c64 : Index := 64#32
  ![v1024.toNat, 64]
def k0_off1260 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1027 : Index := Scalar.indexCast v1011
  let c80 : Index := 80#32
  ![v1027.toNat, 80]
def k0_off1261 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1030 : Index := Scalar.indexCast v1011
  let c96 : Index := 96#32
  ![v1030.toNat, 96]
def k0_off1262 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1033 : Index := Scalar.indexCast v1011
  let c112 : Index := 112#32
  ![v1033.toNat, 112]
def k0_off1263 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1036 : Index := Scalar.indexCast v1011
  let c128 : Index := 128#32
  ![v1036.toNat, 128]
def k0_off1264 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1039 : Index := Scalar.indexCast v1011
  let c144 : Index := 144#32
  ![v1039.toNat, 144]
def k0_off1265 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1042 : Index := Scalar.indexCast v1011
  let c160 : Index := 160#32
  ![v1042.toNat, 160]
def k0_off1266 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1045 : Index := Scalar.indexCast v1011
  let c176 : Index := 176#32
  ![v1045.toNat, 176]
def k0_off1267 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1048 : Index := Scalar.indexCast v1011
  let c192 : Index := 192#32
  ![v1048.toNat, 192]
def k0_off1268 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1051 : Index := Scalar.indexCast v1011
  let c208 : Index := 208#32
  ![v1051.toNat, 208]
def k0_off1269 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1054 : Index := Scalar.indexCast v1011
  let c224 : Index := 224#32
  ![v1054.toNat, 224]
def k0_off1270 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1057 : Index := Scalar.indexCast v1011
  let c240 : Index := 240#32
  ![v1057.toNat, 240]
def k0_off1271 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1060 : Index := Scalar.indexCast v1011
  let c256 : Index := 256#32
  ![v1060.toNat, 256]
def k0_off1272 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1063 : Index := Scalar.indexCast v1011
  let c272 : Index := 272#32
  ![v1063.toNat, 272]
def k0_off1273 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1066 : Index := Scalar.indexCast v1011
  let c288 : Index := 288#32
  ![v1066.toNat, 288]
def k0_off1274 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1069 : Index := Scalar.indexCast v1011
  let c304 : Index := 304#32
  ![v1069.toNat, 304]
def k0_off1275 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1072 : Index := Scalar.indexCast v1011
  let c320 : Index := 320#32
  ![v1072.toNat, 320]
def k0_off1276 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1075 : Index := Scalar.indexCast v1011
  let c336 : Index := 336#32
  ![v1075.toNat, 336]
def k0_off1277 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1078 : Index := Scalar.indexCast v1011
  let c352 : Index := 352#32
  ![v1078.toNat, 352]
def k0_off1278 (v41 : BitVec 32) (v43 : BitVec 32) (v867 : BitVec 32) (v869 : BitVec 32) (k0_t84 : Fin (k0_t84_loop v41 v43).trips) (k0_t85 : Fin (k0_t85_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let c1_i32_376 : BitVec 32 := 1#32
  let arg36 : BitVec 32 := Scf.iv v867 c1_i32_376 k0_t85
  let v1011 : BitVec 32 := Scalar.addi v1003 arg36
  let v1081 : Index := Scalar.indexCast v1011
  let c368 : Index := 368#32
  ![v1081.toNat, 368]
@[reducible] def k0_t86_loop (v867 : BitVec 32) (v869 : BitVec 32) : Scf.Loop 32 :=
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let v1005 : BitVec 32 := Scalar.addi v867 v1004
  let c1_i32_377 : BitVec 32 := 1#32
  ⟨v1008, v1005, c1_i32_377⟩
def k0_off1279 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1012 : Index := Scalar.indexCast v1011
  let c0_378 : Index := 0#32
  ![v1012.toNat, 0]
def k0_off1280 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1015 : Index := Scalar.indexCast v1011
  let c16 : Index := 16#32
  ![v1015.toNat, 16]
def k0_off1281 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1018 : Index := Scalar.indexCast v1011
  let c32 : Index := 32#32
  ![v1018.toNat, 32]
def k0_off1282 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1021 : Index := Scalar.indexCast v1011
  let c48 : Index := 48#32
  ![v1021.toNat, 48]
def k0_off1283 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1024 : Index := Scalar.indexCast v1011
  let c64 : Index := 64#32
  ![v1024.toNat, 64]
def k0_off1284 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1027 : Index := Scalar.indexCast v1011
  let c80 : Index := 80#32
  ![v1027.toNat, 80]
def k0_off1285 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1030 : Index := Scalar.indexCast v1011
  let c96 : Index := 96#32
  ![v1030.toNat, 96]
def k0_off1286 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1033 : Index := Scalar.indexCast v1011
  let c112 : Index := 112#32
  ![v1033.toNat, 112]
def k0_off1287 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1036 : Index := Scalar.indexCast v1011
  let c128 : Index := 128#32
  ![v1036.toNat, 128]
def k0_off1288 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1039 : Index := Scalar.indexCast v1011
  let c144 : Index := 144#32
  ![v1039.toNat, 144]
def k0_off1289 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1042 : Index := Scalar.indexCast v1011
  let c160 : Index := 160#32
  ![v1042.toNat, 160]
def k0_off1290 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1045 : Index := Scalar.indexCast v1011
  let c176 : Index := 176#32
  ![v1045.toNat, 176]
def k0_off1291 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1048 : Index := Scalar.indexCast v1011
  let c192 : Index := 192#32
  ![v1048.toNat, 192]
def k0_off1292 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1051 : Index := Scalar.indexCast v1011
  let c208 : Index := 208#32
  ![v1051.toNat, 208]
def k0_off1293 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1054 : Index := Scalar.indexCast v1011
  let c224 : Index := 224#32
  ![v1054.toNat, 224]
def k0_off1294 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1057 : Index := Scalar.indexCast v1011
  let c240 : Index := 240#32
  ![v1057.toNat, 240]
def k0_off1295 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1060 : Index := Scalar.indexCast v1011
  let c256 : Index := 256#32
  ![v1060.toNat, 256]
def k0_off1296 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1063 : Index := Scalar.indexCast v1011
  let c272 : Index := 272#32
  ![v1063.toNat, 272]
def k0_off1297 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1066 : Index := Scalar.indexCast v1011
  let c288 : Index := 288#32
  ![v1066.toNat, 288]
def k0_off1298 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1069 : Index := Scalar.indexCast v1011
  let c304 : Index := 304#32
  ![v1069.toNat, 304]
def k0_off1299 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1072 : Index := Scalar.indexCast v1011
  let c320 : Index := 320#32
  ![v1072.toNat, 320]
def k0_off1300 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1075 : Index := Scalar.indexCast v1011
  let c336 : Index := 336#32
  ![v1075.toNat, 336]
def k0_off1301 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1078 : Index := Scalar.indexCast v1011
  let c352 : Index := 352#32
  ![v1078.toNat, 352]
def k0_off1302 (v41 : BitVec 32) (v43 : BitVec 32) (v867 : BitVec 32) (v869 : BitVec 32) (k0_t84 : Fin (k0_t84_loop v41 v43).trips) (k0_t86 : Fin (k0_t86_loop v867 v869).trips) : Fin 2 → Nat :=
  let c1_i32_324 : BitVec 32 := 1#32
  let arg11 : BitVec 32 := Scf.iv v41 c1_i32_324 k0_t84
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t86
  let v1011 : BitVec 32 := Scalar.addi v1003 arg36
  let v1081 : Index := Scalar.indexCast v1011
  let c368 : Index := 368#32
  ![v1081.toNat, 368]
@[reducible] def k0_t87_loop (v41 : BitVec 32) (v43 : BitVec 32) : Scf.Loop 32 :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let v872 : BitVec 32 := Scalar.addi v41 v871
  let c1_i32_325 : BitVec 32 := 1#32
  ⟨v875, v872, c1_i32_325⟩

def k0_chk179 (i : grid0.Coords) (v10 : BitVec 32) (v41 : BitVec 32) (v43 : BitVec 32) : Prop :=
  (∀ (k0_h1 : k0_cond1 i v10 = 1#1), (k0_t48_loop v41 v43).OK) ∧
  (∀ (k0_h1 : k0_cond1 i v10 = 1#1), (k0_t51_loop v41 v43).OK) ∧
  (∀ (k0_h1 : k0_cond1 i v10 = 1#1), (k0_t54_loop v41 v43).OK) ∧
  (∀ (k0_h1 : k0_cond1 i v10 = 1#1), (k0_t57_loop v41 v43).OK) ∧
  (∀ (k0_h1 : k0_cond1 i v10 = 1#1), (k0_t60_loop v41 v43).OK) ∧
  (∀ (k0_h1 : k0_cond1 i v10 = 1#1), (k0_t63_loop v41 v43).OK) ∧
  (∀ (k0_h1 : k0_cond1 i v10 = 1#1), (k0_t66_loop v41 v43).OK) ∧
  (∀ (k0_h1 : k0_cond1 i v10 = 1#1), (k0_t69_loop v41 v43).OK) ∧
  (∀ (k0_h1 : k0_cond1 i v10 = 1#1), (k0_t72_loop v41 v43).OK) ∧
  (∀ (k0_h1 : k0_cond1 i v10 = 1#1), (k0_t75_loop v41 v43).OK) ∧
  (∀ (k0_h1 : k0_cond1 i v10 = 1#1), (k0_t78_loop v41 v43).OK) ∧
  (∀ (k0_h1 : k0_cond1 i v10 = 1#1), (k0_t81_loop v41 v43).OK) ∧
  (∀ (k0_h1 : k0_cond1 i v10 = 1#1), (k0_t84_loop v41 v43).OK) ∧
  (∀ (k0_h1 : k0_cond1 i v10 = 1#1), (k0_t87_loop v41 v43).OK)
theorem k0_t48_ok : ∀ (i : grid0.Coords) (v10 : BitVec 32) (v41 : BitVec 32) (v43 : BitVec 32) (k0_hw179 : k0_chk179 i v10 v41 v43), ∀ (k0_h1 : k0_cond1 i v10 = 1#1), (k0_t48_loop v41 v43).OK := fun i v10 v41 v43 k0_hw179 k0_h1 => k0_hw179.1 k0_h1
theorem k0_t51_ok : ∀ (i : grid0.Coords) (v10 : BitVec 32) (v41 : BitVec 32) (v43 : BitVec 32) (k0_hw179 : k0_chk179 i v10 v41 v43), ∀ (k0_h1 : k0_cond1 i v10 = 1#1), (k0_t51_loop v41 v43).OK := fun i v10 v41 v43 k0_hw179 k0_h1 => k0_hw179.2.1 k0_h1
theorem k0_t54_ok : ∀ (i : grid0.Coords) (v10 : BitVec 32) (v41 : BitVec 32) (v43 : BitVec 32) (k0_hw179 : k0_chk179 i v10 v41 v43), ∀ (k0_h1 : k0_cond1 i v10 = 1#1), (k0_t54_loop v41 v43).OK := fun i v10 v41 v43 k0_hw179 k0_h1 => k0_hw179.2.2.1 k0_h1
theorem k0_t57_ok : ∀ (i : grid0.Coords) (v10 : BitVec 32) (v41 : BitVec 32) (v43 : BitVec 32) (k0_hw179 : k0_chk179 i v10 v41 v43), ∀ (k0_h1 : k0_cond1 i v10 = 1#1), (k0_t57_loop v41 v43).OK := fun i v10 v41 v43 k0_hw179 k0_h1 => k0_hw179.2.2.2.1 k0_h1
theorem k0_t60_ok : ∀ (i : grid0.Coords) (v10 : BitVec 32) (v41 : BitVec 32) (v43 : BitVec 32) (k0_hw179 : k0_chk179 i v10 v41 v43), ∀ (k0_h1 : k0_cond1 i v10 = 1#1), (k0_t60_loop v41 v43).OK := fun i v10 v41 v43 k0_hw179 k0_h1 => k0_hw179.2.2.2.2.1 k0_h1
theorem k0_t63_ok : ∀ (i : grid0.Coords) (v10 : BitVec 32) (v41 : BitVec 32) (v43 : BitVec 32) (k0_hw179 : k0_chk179 i v10 v41 v43), ∀ (k0_h1 : k0_cond1 i v10 = 1#1), (k0_t63_loop v41 v43).OK := fun i v10 v41 v43 k0_hw179 k0_h1 => k0_hw179.2.2.2.2.2.1 k0_h1
theorem k0_t66_ok : ∀ (i : grid0.Coords) (v10 : BitVec 32) (v41 : BitVec 32) (v43 : BitVec 32) (k0_hw179 : k0_chk179 i v10 v41 v43), ∀ (k0_h1 : k0_cond1 i v10 = 1#1), (k0_t66_loop v41 v43).OK := fun i v10 v41 v43 k0_hw179 k0_h1 => k0_hw179.2.2.2.2.2.2.1 k0_h1
theorem k0_t69_ok : ∀ (i : grid0.Coords) (v10 : BitVec 32) (v41 : BitVec 32) (v43 : BitVec 32) (k0_hw179 : k0_chk179 i v10 v41 v43), ∀ (k0_h1 : k0_cond1 i v10 = 1#1), (k0_t69_loop v41 v43).OK := fun i v10 v41 v43 k0_hw179 k0_h1 => k0_hw179.2.2.2.2.2.2.2.1 k0_h1
theorem k0_t72_ok : ∀ (i : grid0.Coords) (v10 : BitVec 32) (v41 : BitVec 32) (v43 : BitVec 32) (k0_hw179 : k0_chk179 i v10 v41 v43), ∀ (k0_h1 : k0_cond1 i v10 = 1#1), (k0_t72_loop v41 v43).OK := fun i v10 v41 v43 k0_hw179 k0_h1 => k0_hw179.2.2.2.2.2.2.2.2.1 k0_h1
theorem k0_t75_ok : ∀ (i : grid0.Coords) (v10 : BitVec 32) (v41 : BitVec 32) (v43 : BitVec 32) (k0_hw179 : k0_chk179 i v10 v41 v43), ∀ (k0_h1 : k0_cond1 i v10 = 1#1), (k0_t75_loop v41 v43).OK := fun i v10 v41 v43 k0_hw179 k0_h1 => k0_hw179.2.2.2.2.2.2.2.2.2.1 k0_h1
theorem k0_t78_ok : ∀ (i : grid0.Coords) (v10 : BitVec 32) (v41 : BitVec 32) (v43 : BitVec 32) (k0_hw179 : k0_chk179 i v10 v41 v43), ∀ (k0_h1 : k0_cond1 i v10 = 1#1), (k0_t78_loop v41 v43).OK := fun i v10 v41 v43 k0_hw179 k0_h1 => k0_hw179.2.2.2.2.2.2.2.2.2.2.1 k0_h1
theorem k0_t81_ok : ∀ (i : grid0.Coords) (v10 : BitVec 32) (v41 : BitVec 32) (v43 : BitVec 32) (k0_hw179 : k0_chk179 i v10 v41 v43), ∀ (k0_h1 : k0_cond1 i v10 = 1#1), (k0_t81_loop v41 v43).OK := fun i v10 v41 v43 k0_hw179 k0_h1 => k0_hw179.2.2.2.2.2.2.2.2.2.2.2.1 k0_h1
theorem k0_t84_ok : ∀ (i : grid0.Coords) (v10 : BitVec 32) (v41 : BitVec 32) (v43 : BitVec 32) (k0_hw179 : k0_chk179 i v10 v41 v43), ∀ (k0_h1 : k0_cond1 i v10 = 1#1), (k0_t84_loop v41 v43).OK := fun i v10 v41 v43 k0_hw179 k0_h1 => k0_hw179.2.2.2.2.2.2.2.2.2.2.2.2.1 k0_h1
theorem k0_t87_ok : ∀ (i : grid0.Coords) (v10 : BitVec 32) (v41 : BitVec 32) (v43 : BitVec 32) (k0_hw179 : k0_chk179 i v10 v41 v43), ∀ (k0_h1 : k0_cond1 i v10 = 1#1), (k0_t87_loop v41 v43).OK := fun i v10 v41 v43 k0_hw179 k0_h1 => k0_hw179.2.2.2.2.2.2.2.2.2.2.2.2.2 k0_h1

@[reducible] def k0_t88_loop (v867 : BitVec 32) (v869 : BitVec 32) : Scf.Loop 32 :=
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_376 : BitVec 32 := 1#32
  ⟨v867, v1008, c1_i32_376⟩
def k0_off1303 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1012 : Index := Scalar.indexCast v1011
  let c0_378 : Index := 0#32
  ![v1012.toNat, 0]
def k0_off1304 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1015 : Index := Scalar.indexCast v1011
  let c16 : Index := 16#32
  ![v1015.toNat, 16]
def k0_off1305 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1018 : Index := Scalar.indexCast v1011
  let c32 : Index := 32#32
  ![v1018.toNat, 32]
def k0_off1306 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1021 : Index := Scalar.indexCast v1011
  let c48 : Index := 48#32
  ![v1021.toNat, 48]
def k0_off1307 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1024 : Index := Scalar.indexCast v1011
  let c64 : Index := 64#32
  ![v1024.toNat, 64]
def k0_off1308 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1027 : Index := Scalar.indexCast v1011
  let c80 : Index := 80#32
  ![v1027.toNat, 80]
def k0_off1309 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1030 : Index := Scalar.indexCast v1011
  let c96 : Index := 96#32
  ![v1030.toNat, 96]
def k0_off1310 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1033 : Index := Scalar.indexCast v1011
  let c112 : Index := 112#32
  ![v1033.toNat, 112]
def k0_off1311 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1036 : Index := Scalar.indexCast v1011
  let c128 : Index := 128#32
  ![v1036.toNat, 128]
def k0_off1312 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1039 : Index := Scalar.indexCast v1011
  let c144 : Index := 144#32
  ![v1039.toNat, 144]
def k0_off1313 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1042 : Index := Scalar.indexCast v1011
  let c160 : Index := 160#32
  ![v1042.toNat, 160]
def k0_off1314 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1045 : Index := Scalar.indexCast v1011
  let c176 : Index := 176#32
  ![v1045.toNat, 176]
def k0_off1315 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1048 : Index := Scalar.indexCast v1011
  let c192 : Index := 192#32
  ![v1048.toNat, 192]
def k0_off1316 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1051 : Index := Scalar.indexCast v1011
  let c208 : Index := 208#32
  ![v1051.toNat, 208]
def k0_off1317 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1054 : Index := Scalar.indexCast v1011
  let c224 : Index := 224#32
  ![v1054.toNat, 224]
def k0_off1318 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1057 : Index := Scalar.indexCast v1011
  let c240 : Index := 240#32
  ![v1057.toNat, 240]
def k0_off1319 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1060 : Index := Scalar.indexCast v1011
  let c256 : Index := 256#32
  ![v1060.toNat, 256]
def k0_off1320 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1063 : Index := Scalar.indexCast v1011
  let c272 : Index := 272#32
  ![v1063.toNat, 272]
def k0_off1321 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1066 : Index := Scalar.indexCast v1011
  let c288 : Index := 288#32
  ![v1066.toNat, 288]
def k0_off1322 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1069 : Index := Scalar.indexCast v1011
  let c304 : Index := 304#32
  ![v1069.toNat, 304]
def k0_off1323 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1072 : Index := Scalar.indexCast v1011
  let c320 : Index := 320#32
  ![v1072.toNat, 320]
def k0_off1324 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1075 : Index := Scalar.indexCast v1011
  let c336 : Index := 336#32
  ![v1075.toNat, 336]
def k0_off1325 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1078 : Index := Scalar.indexCast v1011
  let c352 : Index := 352#32
  ![v1078.toNat, 352]
def k0_off1326 (v41 : BitVec 32) (v43 : BitVec 32) (v867 : BitVec 32) (v869 : BitVec 32) (k0_t87 : Fin (k0_t87_loop v41 v43).trips) (k0_t88 : Fin (k0_t88_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let c1_i32_376 : BitVec 32 := 1#32
  let arg36 : BitVec 32 := Scf.iv v867 c1_i32_376 k0_t88
  let v1011 : BitVec 32 := Scalar.addi v1003 arg36
  let v1081 : Index := Scalar.indexCast v1011
  let c368 : Index := 368#32
  ![v1081.toNat, 368]
@[reducible] def k0_t89_loop (v867 : BitVec 32) (v869 : BitVec 32) : Scf.Loop 32 :=
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let v1005 : BitVec 32 := Scalar.addi v867 v1004
  let c1_i32_377 : BitVec 32 := 1#32
  ⟨v1008, v1005, c1_i32_377⟩
def k0_off1327 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1012 : Index := Scalar.indexCast v1011
  let c0_378 : Index := 0#32
  ![v1012.toNat, 0]
def k0_off1328 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1015 : Index := Scalar.indexCast v1011
  let c16 : Index := 16#32
  ![v1015.toNat, 16]
def k0_off1329 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1018 : Index := Scalar.indexCast v1011
  let c32 : Index := 32#32
  ![v1018.toNat, 32]
def k0_off1330 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1021 : Index := Scalar.indexCast v1011
  let c48 : Index := 48#32
  ![v1021.toNat, 48]
def k0_off1331 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1024 : Index := Scalar.indexCast v1011
  let c64 : Index := 64#32
  ![v1024.toNat, 64]
def k0_off1332 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1027 : Index := Scalar.indexCast v1011
  let c80 : Index := 80#32
  ![v1027.toNat, 80]
def k0_off1333 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1030 : Index := Scalar.indexCast v1011
  let c96 : Index := 96#32
  ![v1030.toNat, 96]
def k0_off1334 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1033 : Index := Scalar.indexCast v1011
  let c112 : Index := 112#32
  ![v1033.toNat, 112]
def k0_off1335 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1036 : Index := Scalar.indexCast v1011
  let c128 : Index := 128#32
  ![v1036.toNat, 128]
def k0_off1336 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1039 : Index := Scalar.indexCast v1011
  let c144 : Index := 144#32
  ![v1039.toNat, 144]
def k0_off1337 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1042 : Index := Scalar.indexCast v1011
  let c160 : Index := 160#32
  ![v1042.toNat, 160]
def k0_off1338 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1045 : Index := Scalar.indexCast v1011
  let c176 : Index := 176#32
  ![v1045.toNat, 176]
def k0_off1339 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1048 : Index := Scalar.indexCast v1011
  let c192 : Index := 192#32
  ![v1048.toNat, 192]
def k0_off1340 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1051 : Index := Scalar.indexCast v1011
  let c208 : Index := 208#32
  ![v1051.toNat, 208]
def k0_off1341 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1054 : Index := Scalar.indexCast v1011
  let c224 : Index := 224#32
  ![v1054.toNat, 224]
def k0_off1342 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1057 : Index := Scalar.indexCast v1011
  let c240 : Index := 240#32
  ![v1057.toNat, 240]
def k0_off1343 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1060 : Index := Scalar.indexCast v1011
  let c256 : Index := 256#32
  ![v1060.toNat, 256]
def k0_off1344 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1063 : Index := Scalar.indexCast v1011
  let c272 : Index := 272#32
  ![v1063.toNat, 272]
def k0_off1345 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1066 : Index := Scalar.indexCast v1011
  let c288 : Index := 288#32
  ![v1066.toNat, 288]
def k0_off1346 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1069 : Index := Scalar.indexCast v1011
  let c304 : Index := 304#32
  ![v1069.toNat, 304]
def k0_off1347 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1072 : Index := Scalar.indexCast v1011
  let c320 : Index := 320#32
  ![v1072.toNat, 320]
def k0_off1348 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1075 : Index := Scalar.indexCast v1011
  let c336 : Index := 336#32
  ![v1075.toNat, 336]
def k0_off1349 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1078 : Index := Scalar.indexCast v1011
  let c352 : Index := 352#32
  ![v1078.toNat, 352]
def k0_off1350 (v41 : BitVec 32) (v43 : BitVec 32) (v867 : BitVec 32) (v869 : BitVec 32) (k0_t87 : Fin (k0_t87_loop v41 v43).trips) (k0_t89 : Fin (k0_t89_loop v867 v869).trips) : Fin 2 → Nat :=
  let v871 : BitVec 32 := Scalar.subi v43 v41
  let c1_i32_323 : BitVec 32 := 1#32
  let v873 : BitVec 32 := Scalar.divsi v871 c1_i32_323
  let v874 : BitVec 32 := Scalar.muli v873 c1_i32_323
  let v875 : BitVec 32 := Scalar.addi v41 v874
  let c1_i32_325 : BitVec 32 := 1#32
  let arg11 : BitVec 32 := Scf.iv v875 c1_i32_325 k0_t87
  let c14_i32 : BitVec 32 := 14#32
  let v1003 : BitVec 32 := Scalar.muli arg11 c14_i32
  let v1004 : BitVec 32 := Scalar.subi v869 v867
  let c1_i32_375 : BitVec 32 := 1#32
  let v1006 : BitVec 32 := Scalar.divsi v1004 c1_i32_375
  let v1007 : BitVec 32 := Scalar.muli v1006 c1_i32_375
  let v1008 : BitVec 32 := Scalar.addi v867 v1007
  let c1_i32_377 : BitVec 32 := 1#32
  let arg36 : BitVec 32 := Scf.iv v1008 c1_i32_377 k0_t89
  let v1011 : BitVec 32 := Scalar.addi v1003 arg36
  let v1081 : Index := Scalar.indexCast v1011
  let c368 : Index := 368#32
  ![v1081.toNat, 368]

def k0_chk330_0 (i : grid0.Coords) (v10 : BitVec 32) (v41 : BitVec 32) (v43 : BitVec 32) (v867 : BitVec 32) (v869 : BitVec 32) : Prop :=
  (∀ k0_t84 : Fin (k0_t84_loop v41 v43).trips, ∀ (k0_h1 : k0_cond1 i v10 = 1#1), (k0_t85_loop v867 v869).OK) ∧
  (∀ (k0_t84 : Fin (k0_t84_loop v41 v43).trips) (k0_t85 : Fin (k0_t85_loop v867 v869).trips), ∀ (k0_h1 : k0_cond1 i v10 = 1#1), ∀ a, (k0_off1255 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1256 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1257 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1258 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1259 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1260 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1261 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1262 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1263 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1264 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1265 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1266 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1267 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1268 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1269 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1270 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1271 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1272 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1273 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1274 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1275 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1276 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1277 v41 v43 v867 v869 k0_t84 k0_t85) a + S1x16.size a ≤ S196x384.size a) ∧
  (∀ (k0_t84 : Fin (k0_t84_loop v41 v43).trips) (k0_t85 : Fin (k0_t85_loop v867 v869).trips), ∀ (k0_h1 : k0_cond1 i v10 = 1#1), ∀ a, (k0_off1278 v41 v43 v867 v869 k0_t84 k0_t85) a + S1x16.size a ≤ S196x384.size a) ∧
  (∀ k0_t84 : Fin (k0_t84_loop v41 v43).trips, ∀ (k0_h1 : k0_cond1 i v10 = 1#1), (k0_t86_loop v867 v869).OK) ∧
  (∀ (k0_t84 : Fin (k0_t84_loop v41 v43).trips) (k0_t86 : Fin (k0_t86_loop v867 v869).trips), ∀ (k0_h1 : k0_cond1 i v10 = 1#1), ∀ a, (k0_off1279 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1280 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1281 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1282 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1283 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1284 v41 v43 v867 v869 k0_t84 k0_t86) a + S1x16.size a ≤ S196x384.size a)
def k0_chk330_1 (i : grid0.Coords) (v10 : BitVec 32) (v41 : BitVec 32) (v43 : BitVec 32) (v867 : BitVec 32) (v869 : BitVec 32) : Prop :=
  (∀ (k0_t84 : Fin (k0_t84_loop v41 v43).trips) (k0_t86 : Fin (k0_t86_loop v867 v869).trips), ∀ (k0_h1 : k0_cond1 i v10 = 1#1), ∀ a, (k0_off1285 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1286 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1287 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1288 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1289 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1290 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1291 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1292 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1293 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1294 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1295 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1296 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1297 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1298 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1299 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1300 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1301 v41 v43 v867 v869 k0_t84 k0_t86) a + S1x16.size a ≤ S196x384.size a) ∧
  (∀ (k0_t84 : Fin (k0_t84_loop v41 v43).trips) (k0_t86 : Fin (k0_t86_loop v867 v869).trips), ∀ (k0_h1 : k0_cond1 i v10 = 1#1), ∀ a, (k0_off1302 v41 v43 v867 v869 k0_t84 k0_t86) a + S1x16.size a ≤ S196x384.size a) ∧
  (∀ k0_t87 : Fin (k0_t87_loop v41 v43).trips, ∀ (k0_h1 : k0_cond1 i v10 = 1#1), (k0_t88_loop v867 v869).OK) ∧
  (∀ (k0_t87 : Fin (k0_t87_loop v41 v43).trips) (k0_t88 : Fin (k0_t88_loop v867 v869).trips), ∀ (k0_h1 : k0_cond1 i v10 = 1#1), ∀ a, (k0_off1303 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1304 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1305 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1306 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1307 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1308 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1309 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1310 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1311 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1312 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1313 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1314 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1315 v41 v43 v867 v869 k0_t87 k0_t88) a + S1x16.size a ≤ S196x384.size a)
def k0_chk330_2 (i : grid0.Coords) (v10 : BitVec 32) (v41 : BitVec 32) (v43 : BitVec 32) (v867 : BitVec 32) (v869 : BitVec 32) : Prop :=
  (∀ (k0_t87 : Fin (k0_t87_loop v41 v43).trips) (k0_t88 : Fin (k0_t88_loop v867 v869).trips), ∀ (k0_h1 : k0_cond1 i v10 = 1#1), ∀ a, (k0_off1316 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1317 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1318 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1319 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1320 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1321 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1322 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1323 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1324 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1325 v41 v43 v867 v869 k0_t87 k0_t88) a + S1x16.size a ≤ S196x384.size a) ∧
  (∀ (k0_t87 : Fin (k0_t87_loop v41 v43).trips) (k0_t88 : Fin (k0_t88_loop v867 v869).trips), ∀ (k0_h1 : k0_cond1 i v10 = 1#1), ∀ a, (k0_off1326 v41 v43 v867 v869 k0_t87 k0_t88) a + S1x16.size a ≤ S196x384.size a) ∧
  (∀ k0_t87 : Fin (k0_t87_loop v41 v43).trips, ∀ (k0_h1 : k0_cond1 i v10 = 1#1), (k0_t89_loop v867 v869).OK) ∧
  (∀ (k0_t87 : Fin (k0_t87_loop v41 v43).trips) (k0_t89 : Fin (k0_t89_loop v867 v869).trips), ∀ (k0_h1 : k0_cond1 i v10 = 1#1), ∀ a, (k0_off1327 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1328 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1329 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1330 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1331 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1332 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1333 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1334 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1335 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1336 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1337 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1338 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1339 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1340 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1341 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1342 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1343 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1344 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1345 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1346 v41 v43 v867 v869 k0_t87 k0_t89) a + S1x16.size a ≤ S196x384.size a)
def k0_chk330_3 (i : grid0.Coords) (v10 : BitVec 32) (v41 : BitVec 32) (v43 : BitVec 32) (v867 : BitVec 32) (v869 : BitVec 32) : Prop :=
  (∀ (k0_t87 : Fin (k0_t87_loop v41 v43).trips) (k0_t89 : Fin (k0_t89_loop v867 v869).trips), ∀ (k0_h1 : k0_cond1 i v10 = 1#1), ∀ a, (k0_off1347 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1348 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1349 v41 v43 v867 v869 k0_t87 k0_t89) a + S1x16.size a ≤ S196x384.size a) ∧
  (∀ (k0_t87 : Fin (k0_t87_loop v41 v43).trips) (k0_t89 : Fin (k0_t89_loop v867 v869).trips), ∀ (k0_h1 : k0_cond1 i v10 = 1#1), ∀ a, (k0_off1350 v41 v43 v867 v869 k0_t87 k0_t89) a + S1x16.size a ≤ S196x384.size a)
def k0_chk330 (i : grid0.Coords) (v10 : BitVec 32) (v41 : BitVec 32) (v43 : BitVec 32) (v867 : BitVec 32) (v869 : BitVec 32) : Prop :=
  k0_chk330_0 i v10 v41 v43 v867 v869 ∧
  k0_chk330_1 i v10 v41 v43 v867 v869 ∧
  k0_chk330_2 i v10 v41 v43 v867 v869 ∧
  k0_chk330_3 i v10 v41 v43 v867 v869
theorem k0_t85_ok : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips), ∀ (k0_h1 : k0_cond1 i v10 = 1#1), (k0_t85_loop v867 v869).OK := fun i v10 v41 v43 v867 v869 k0_hw330 k0_t84 k0_h1 => k0_hw330.1.1 k0_t84 k0_h1
theorem k0_off1255_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1255 v41 v43 v867 v869 k0_t84 k0_t85) a + S1x16.size a ≤ S196x384.size a := fun i v10 v41 v43 v867 v869 k0_hw330 k0_t84 k0_t85 k0_h1 => k0_hw330.1.2.1 k0_t84 k0_t85 k0_h1
theorem k0_off1256_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1256 v41 v43 v867 v869 k0_t84 k0_t85) a + S1x16.size a ≤ S196x384.size a := fun i v10 v41 v43 v867 v869 k0_hw330 k0_t84 k0_t85 k0_h1 => k0_hw330.1.2.2.1 k0_t84 k0_t85 k0_h1
theorem k0_off1257_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1257 v41 v43 v867 v869 k0_t84 k0_t85) a + S1x16.size a ≤ S196x384.size a := fun i v10 v41 v43 v867 v869 k0_hw330 k0_t84 k0_t85 k0_h1 => k0_hw330.1.2.2.2.1 k0_t84 k0_t85 k0_h1
theorem k0_off1258_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1258 v41 v43 v867 v869 k0_t84 k0_t85) a + S1x16.size a ≤ S196x384.size a := fun i v10 v41 v43 v867 v869 k0_hw330 k0_t84 k0_t85 k0_h1 => k0_hw330.1.2.2.2.2.1 k0_t84 k0_t85 k0_h1
theorem k0_off1259_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1259 v41 v43 v867 v869 k0_t84 k0_t85) a + S1x16.size a ≤ S196x384.size a := fun i v10 v41 v43 v867 v869 k0_hw330 k0_t84 k0_t85 k0_h1 => k0_hw330.1.2.2.2.2.2.1 k0_t84 k0_t85 k0_h1
theorem k0_off1260_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1260 v41 v43 v867 v869 k0_t84 k0_t85) a + S1x16.size a ≤ S196x384.size a := fun i v10 v41 v43 v867 v869 k0_hw330 k0_t84 k0_t85 k0_h1 => k0_hw330.1.2.2.2.2.2.2.1 k0_t84 k0_t85 k0_h1
theorem k0_off1261_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1261 v41 v43 v867 v869 k0_t84 k0_t85) a + S1x16.size a ≤ S196x384.size a := fun i v10 v41 v43 v867 v869 k0_hw330 k0_t84 k0_t85 k0_h1 => k0_hw330.1.2.2.2.2.2.2.2.1 k0_t84 k0_t85 k0_h1
theorem k0_off1262_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1262 v41 v43 v867 v869 k0_t84 k0_t85) a + S1x16.size a ≤ S196x384.size a := fun i v10 v41 v43 v867 v869 k0_hw330 k0_t84 k0_t85 k0_h1 => k0_hw330.1.2.2.2.2.2.2.2.2.1 k0_t84 k0_t85 k0_h1
theorem k0_off1263_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1263 v41 v43 v867 v869 k0_t84 k0_t85) a + S1x16.size a ≤ S196x384.size a := fun i v10 v41 v43 v867 v869 k0_hw330 k0_t84 k0_t85 k0_h1 => k0_hw330.1.2.2.2.2.2.2.2.2.2.1 k0_t84 k0_t85 k0_h1
theorem k0_off1264_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1264 v41 v43 v867 v869 k0_t84 k0_t85) a + S1x16.size a ≤ S196x384.size a := fun i v10 v41 v43 v867 v869 k0_hw330 k0_t84 k0_t85 k0_h1 => k0_hw330.1.2.2.2.2.2.2.2.2.2.2.1 k0_t84 k0_t85 k0_h1
theorem k0_off1265_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1265 v41 v43 v867 v869 k0_t84 k0_t85) a + S1x16.size a ≤ S196x384.size a := fun i v10 v41 v43 v867 v869 k0_hw330 k0_t84 k0_t85 k0_h1 => k0_hw330.1.2.2.2.2.2.2.2.2.2.2.2.1 k0_t84 k0_t85 k0_h1
theorem k0_off1266_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1266 v41 v43 v867 v869 k0_t84 k0_t85) a + S1x16.size a ≤ S196x384.size a := fun i v10 v41 v43 v867 v869 k0_hw330 k0_t84 k0_t85 k0_h1 => k0_hw330.1.2.2.2.2.2.2.2.2.2.2.2.2.1 k0_t84 k0_t85 k0_h1
theorem k0_off1267_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1267 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.1 k0_t84 k0_t85 k0_h1
theorem k0_off1268_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1268 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.1 k0_t84 k0_t85 k0_h1
theorem k0_off1269_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1269 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.1 k0_t84 k0_t85 k0_h1
theorem k0_off1270_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1270 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.2.1 k0_t84 k0_t85 k0_h1
theorem k0_off1271_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1271 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.2.2.1 k0_t84 k0_t85 k0_h1
theorem k0_off1272_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1272 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.2.2.2.1 k0_t84 k0_t85 k0_h1
theorem k0_off1273_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1273 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.2.2.2.2.1 k0_t84 k0_t85 k0_h1
theorem k0_off1274_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1274 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.2.2.2.2.2.1 k0_t84 k0_t85 k0_h1
theorem k0_off1275_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1275 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.2.2.2.2.2.2.1 k0_t84 k0_t85 k0_h1
theorem k0_off1276_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1276 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.2.2.2.2.2.2.2.1 k0_t84 k0_t85 k0_h1
theorem k0_off1277_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1277 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.2.2.2.2.2.2.2.2.1 k0_t84 k0_t85 k0_h1
theorem k0_off1278_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t85 : Fin (k0_t85_loop v867 v869).trips), ∀ (k0_h1 : k0_cond1 i v10 = 1#1), ∀ a, (k0_off1278 v41 v43 v867 v869 k0_t84 k0_t85) a + S1x16.size a ≤ S196x384.size a := fun i v10 v41 v43 v867 v869 k0_hw330 k0_t84 k0_t85 k0_h1 => k0_hw330.1.2.2.2.2.2.2.2.2.2.2.2.2.2.2.2.2.2.2.2.2.2.2.2.2.1 k0_t84 k0_t85 k0_h1
theorem k0_t86_ok : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips), ∀ (k0_h1 : k0_cond1 i v10 = 1#1), (k0_t86_loop v867 v869).OK := fun i v10 v41 v43 v867 v869 k0_hw330 k0_t84 k0_h1 => k0_hw330.1.2.2.2.2.2.2.2.2.2.2.2.2.2.2.2.2.2.2.2.2.2.2.2.2.2.1 k0_t84 k0_h1
theorem k0_off1279_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1279 v41 v43 v867 v869 k0_t84 k0_t86) a + S1x16.size a ≤ S196x384.size a := fun i v10 v41 v43 v867 v869 k0_hw330 k0_t84 k0_t86 k0_h1 => k0_hw330.1.2.2.2.2.2.2.2.2.2.2.2.2.2.2.2.2.2.2.2.2.2.2.2.2.2.2.1 k0_t84 k0_t86 k0_h1
theorem k0_off1280_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1280 v41 v43 v867 v869 k0_t84 k0_t86) a + S1x16.size a ≤ S196x384.size a := fun i v10 v41 v43 v867 v869 k0_hw330 k0_t84 k0_t86 k0_h1 => k0_hw330.1.2.2.2.2.2.2.2.2.2.2.2.2.2.2.2.2.2.2.2.2.2.2.2.2.2.2.2.1 k0_t84 k0_t86 k0_h1
theorem k0_off1281_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1281 v41 v43 v867 v869 k0_t84 k0_t86) a + S1x16.size a ≤ S196x384.size a := fun i v10 v41 v43 v867 v869 k0_hw330 k0_t84 k0_t86 k0_h1 => k0_hw330.1.2.2.2.2.2.2.2.2.2.2.2.2.2.2.2.2.2.2.2.2.2.2.2.2.2.2.2.2.1 k0_t84 k0_t86 k0_h1
theorem k0_off1282_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1282 v41 v43 v867 v869 k0_t84 k0_t86) a + S1x16.size a ≤ S196x384.size a := fun i v10 v41 v43 v867 v869 k0_hw330 k0_t84 k0_t86 k0_h1 => k0_hw330.1.2.2.2.2.2.2.2.2.2.2.2.2.2.2.2.2.2.2.2.2.2.2.2.2.2.2.2.2.2.1 k0_t84 k0_t86 k0_h1
theorem k0_off1283_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1283 v41 v43 v867 v869 k0_t84 k0_t86) a + S1x16.size a ≤ S196x384.size a := fun i v10 v41 v43 v867 v869 k0_hw330 k0_t84 k0_t86 k0_h1 => k0_hw330.1.2.2.2.2.2.2.2.2.2.2.2.2.2.2.2.2.2.2.2.2.2.2.2.2.2.2.2.2.2.2.1 k0_t84 k0_t86 k0_h1
theorem k0_off1284_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1284 v41 v43 v867 v869 k0_t84 k0_t86) a + S1x16.size a ≤ S196x384.size a := fun i v10 v41 v43 v867 v869 k0_hw330 k0_t84 k0_t86 k0_h1 => k0_hw330.1.2.2.2.2.2.2.2.2.2.2.2.2.2.2.2.2.2.2.2.2.2.2.2.2.2.2.2.2.2.2.2 k0_t84 k0_t86 k0_h1
theorem k0_off1285_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1285 v41 v43 v867 v869 k0_t84 k0_t86) a + S1x16.size a ≤ S196x384.size a := fun i v10 v41 v43 v867 v869 k0_hw330 k0_t84 k0_t86 k0_h1 => k0_hw330.2.1.1 k0_t84 k0_t86 k0_h1
theorem k0_off1286_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1286 v41 v43 v867 v869 k0_t84 k0_t86) a + S1x16.size a ≤ S196x384.size a := fun i v10 v41 v43 v867 v869 k0_hw330 k0_t84 k0_t86 k0_h1 => k0_hw330.2.1.2.1 k0_t84 k0_t86 k0_h1
theorem k0_off1287_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1287 v41 v43 v867 v869 k0_t84 k0_t86) a + S1x16.size a ≤ S196x384.size a := fun i v10 v41 v43 v867 v869 k0_hw330 k0_t84 k0_t86 k0_h1 => k0_hw330.2.1.2.2.1 k0_t84 k0_t86 k0_h1
theorem k0_off1288_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1288 v41 v43 v867 v869 k0_t84 k0_t86) a + S1x16.size a ≤ S196x384.size a := fun i v10 v41 v43 v867 v869 k0_hw330 k0_t84 k0_t86 k0_h1 => k0_hw330.2.1.2.2.2.1 k0_t84 k0_t86 k0_h1
theorem k0_off1289_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1289 v41 v43 v867 v869 k0_t84 k0_t86) a + S1x16.size a ≤ S196x384.size a := fun i v10 v41 v43 v867 v869 k0_hw330 k0_t84 k0_t86 k0_h1 => k0_hw330.2.1.2.2.2.2.1 k0_t84 k0_t86 k0_h1
theorem k0_off1290_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1290 v41 v43 v867 v869 k0_t84 k0_t86) a + S1x16.size a ≤ S196x384.size a := fun i v10 v41 v43 v867 v869 k0_hw330 k0_t84 k0_t86 k0_h1 => k0_hw330.2.1.2.2.2.2.2.1 k0_t84 k0_t86 k0_h1
theorem k0_off1291_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1291 v41 v43 v867 v869 k0_t84 k0_t86) a + S1x16.size a ≤ S196x384.size a := fun i v10 v41 v43 v867 v869 k0_hw330 k0_t84 k0_t86 k0_h1 => k0_hw330.2.1.2.2.2.2.2.2.1 k0_t84 k0_t86 k0_h1
theorem k0_off1292_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1292 v41 v43 v867 v869 k0_t84 k0_t86) a + S1x16.size a ≤ S196x384.size a := fun i v10 v41 v43 v867 v869 k0_hw330 k0_t84 k0_t86 k0_h1 => k0_hw330.2.1.2.2.2.2.2.2.2.1 k0_t84 k0_t86 k0_h1
theorem k0_off1293_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1293 v41 v43 v867 v869 k0_t84 k0_t86) a + S1x16.size a ≤ S196x384.size a := fun i v10 v41 v43 v867 v869 k0_hw330 k0_t84 k0_t86 k0_h1 => k0_hw330.2.1.2.2.2.2.2.2.2.2.1 k0_t84 k0_t86 k0_h1
theorem k0_off1294_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1294 v41 v43 v867 v869 k0_t84 k0_t86) a + S1x16.size a ≤ S196x384.size a := fun i v10 v41 v43 v867 v869 k0_hw330 k0_t84 k0_t86 k0_h1 => k0_hw330.2.1.2.2.2.2.2.2.2.2.2.1 k0_t84 k0_t86 k0_h1
theorem k0_off1295_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1295 v41 v43 v867 v869 k0_t84 k0_t86) a + S1x16.size a ≤ S196x384.size a := fun i v10 v41 v43 v867 v869 k0_hw330 k0_t84 k0_t86 k0_h1 => k0_hw330.2.1.2.2.2.2.2.2.2.2.2.2.1 k0_t84 k0_t86 k0_h1
theorem k0_off1296_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1296 v41 v43 v867 v869 k0_t84 k0_t86) a + S1x16.size a ≤ S196x384.size a := fun i v10 v41 v43 v867 v869 k0_hw330 k0_t84 k0_t86 k0_h1 => k0_hw330.2.1.2.2.2.2.2.2.2.2.2.2.2.1 k0_t84 k0_t86 k0_h1
theorem k0_off1297_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1297 v41 v43 v867 v869 k0_t84 k0_t86) a + S1x16.size a ≤ S196x384.size a := fun i v10 v41 v43 v867 v869 k0_hw330 k0_t84 k0_t86 k0_h1 => k0_hw330.2.1.2.2.2.2.2.2.2.2.2.2.2.2.1 k0_t84 k0_t86 k0_h1
theorem k0_off1298_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1298 v41 v43 v867 v869 k0_t84 k0_t86) a + S1x16.size a ≤ S196x384.size a := fun i v10 v41 v43 v867 v869 k0_hw330 k0_t84 k0_t86 k0_h1 => k0_hw330.2.1.2.2.2.2.2.2.2.2.2.2.2.2.2.1 k0_t84 k0_t86 k0_h1
theorem k0_off1299_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1299 v41 v43 v867 v869 k0_t84 k0_t86) a + S1x16.size a ≤ S196x384.size a := fun i v10 v41 v43 v867 v869 k0_hw330 k0_t84 k0_t86 k0_h1 => k0_hw330.2.1.2.2.2.2.2.2.2.2.2.2.2.2.2.2.1 k0_t84 k0_t86 k0_h1
theorem k0_off1300_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1300 v41 v43 v867 v869 k0_t84 k0_t86) a + S1x16.size a ≤ S196x384.size a := fun i v10 v41 v43 v867 v869 k0_hw330 k0_t84 k0_t86 k0_h1 => k0_hw330.2.1.2.2.2.2.2.2.2.2.2.2.2.2.2.2.2.1 k0_t84 k0_t86 k0_h1
theorem k0_off1301_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1301 v41 v43 v867 v869 k0_t84 k0_t86) a + S1x16.size a ≤ S196x384.size a := fun i v10 v41 v43 v867 v869 k0_hw330 k0_t84 k0_t86 k0_h1 => k0_hw330.2.1.2.2.2.2.2.2.2.2.2.2.2.2.2.2.2.2.1 k0_t84 k0_t86 k0_h1
theorem k0_off1302_inb : ∀ (i : grid0.Coords) (v10 : BitVec 32) (v41 : BitVec 32) (v43 : BitVec 32) (v867 : BitVec 32) (v869 : BitVec 32) (k0_hw330 : k0_chk330 i v10 v41 v43 v867 v869) (k0_t84 : Fin (k0_t84_loop v41 v43).trips) (k0_t86 : Fin (k0_t86_loop v867 v869).trips), ∀ (k0_h1 : k0_cond1 i v10 = 1#1), ∀ a, (k0_off1302 v41 v43 v867 v869 k0_t84 k0_t86) a + S1x16.size a ≤ S196x384.size a := fun i v10 v41 v43 v867 v869 k0_hw330 k0_t84 k0_t86 k0_h1 => k0_hw330.2.1.2.2.2.2.2.2.2.2.2.2.2.2.2.2.2.2.2.1 k0_t84 k0_t86 k0_h1
theorem k0_t88_ok : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips), ∀ (k0_h1 : k0_cond1 i v10 = 1#1), (k0_t88_loop v867 v869).OK := fun i v10 v41 v43 v867 v869 k0_hw330 k0_t87 k0_h1 => k0_hw330.2.1.2.2.2.2.2.2.2.2.2.2.2.2.2.2.2.2.2.2.1 k0_t87 k0_h1
theorem k0_off1303_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1303 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.1 k0_t87 k0_t88 k0_h1
theorem k0_off1304_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1304 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.1 k0_t87 k0_t88 k0_h1
theorem k0_off1305_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1305 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.1 k0_t87 k0_t88 k0_h1
theorem k0_off1306_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1306 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.1 k0_t87 k0_t88 k0_h1
theorem k0_off1307_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1307 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.2.1 k0_t87 k0_t88 k0_h1
theorem k0_off1308_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1308 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.2.2.1 k0_t87 k0_t88 k0_h1
theorem k0_off1309_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1309 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.2.2.2.1 k0_t87 k0_t88 k0_h1
theorem k0_off1310_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1310 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.2.2.2.2.1 k0_t87 k0_t88 k0_h1
theorem k0_off1311_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1311 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.2.2.2.2.2.1 k0_t87 k0_t88 k0_h1
theorem k0_off1312_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1312 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.2.2.2.2.2.2.1 k0_t87 k0_t88 k0_h1
theorem k0_off1313_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1313 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.2.2.2.2.2.2.2.1 k0_t87 k0_t88 k0_h1
theorem k0_off1314_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1314 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.2.2.2.2.2.2.2.2.1 k0_t87 k0_t88 k0_h1
theorem k0_off1315_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1315 v41 v43 v867 v869 k0_t87 k0_t88) a + S1x16.size a ≤ S196x384.size a := fun i v10 v41 v43 v867 v869 k0_hw330 k0_t87 k0_t88 k0_h1 => k0_hw330.2.1.2.2.2.2.2.2.2.2.2.2.2.2.2.2.2.2.2.2.2.2.2.2.2.2.2.2.2.2.2.2.2 k0_t87 k0_t88 k0_h1
theorem k0_off1316_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1316 v41 v43 v867 v869 k0_t87 k0_t88) a + S1x16.size a ≤ S196x384.size a := fun i v10 v41 v43 v867 v869 k0_hw330 k0_t87 k0_t88 k0_h1 => k0_hw330.2.2.1.1 k0_t87 k0_t88 k0_h1
theorem k0_off1317_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1317 v41 v43 v867 v869 k0_t87 k0_t88) a + S1x16.size a ≤ S196x384.size a := fun i v10 v41 v43 v867 v869 k0_hw330 k0_t87 k0_t88 k0_h1 => k0_hw330.2.2.1.2.1 k0_t87 k0_t88 k0_h1
theorem k0_off1318_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1318 v41 v43 v867 v869 k0_t87 k0_t88) a + S1x16.size a ≤ S196x384.size a := fun i v10 v41 v43 v867 v869 k0_hw330 k0_t87 k0_t88 k0_h1 => k0_hw330.2.2.1.2.2.1 k0_t87 k0_t88 k0_h1
theorem k0_off1319_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1319 v41 v43 v867 v869 k0_t87 k0_t88) a + S1x16.size a ≤ S196x384.size a := fun i v10 v41 v43 v867 v869 k0_hw330 k0_t87 k0_t88 k0_h1 => k0_hw330.2.2.1.2.2.2.1 k0_t87 k0_t88 k0_h1
theorem k0_off1320_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1320 v41 v43 v867 v869 k0_t87 k0_t88) a + S1x16.size a ≤ S196x384.size a := fun i v10 v41 v43 v867 v869 k0_hw330 k0_t87 k0_t88 k0_h1 => k0_hw330.2.2.1.2.2.2.2.1 k0_t87 k0_t88 k0_h1
theorem k0_off1321_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1321 v41 v43 v867 v869 k0_t87 k0_t88) a + S1x16.size a ≤ S196x384.size a := fun i v10 v41 v43 v867 v869 k0_hw330 k0_t87 k0_t88 k0_h1 => k0_hw330.2.2.1.2.2.2.2.2.1 k0_t87 k0_t88 k0_h1
theorem k0_off1322_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1322 v41 v43 v867 v869 k0_t87 k0_t88) a + S1x16.size a ≤ S196x384.size a := fun i v10 v41 v43 v867 v869 k0_hw330 k0_t87 k0_t88 k0_h1 => k0_hw330.2.2.1.2.2.2.2.2.2.1 k0_t87 k0_t88 k0_h1
theorem k0_off1323_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1323 v41 v43 v867 v869 k0_t87 k0_t88) a + S1x16.size a ≤ S196x384.size a := fun i v10 v41 v43 v867 v869 k0_hw330 k0_t87 k0_t88 k0_h1 => k0_hw330.2.2.1.2.2.2.2.2.2.2.1 k0_t87 k0_t88 k0_h1
theorem k0_off1324_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1324 v41 v43 v867 v869 k0_t87 k0_t88) a + S1x16.size a ≤ S196x384.size a := fun i v10 v41 v43 v867 v869 k0_hw330 k0_t87 k0_t88 k0_h1 => k0_hw330.2.2.1.2.2.2.2.2.2.2.2.1 k0_t87 k0_t88 k0_h1
theorem k0_off1325_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1325 v41 v43 v867 v869 k0_t87 k0_t88) a + S1x16.size a ≤ S196x384.size a := fun i v10 v41 v43 v867 v869 k0_hw330 k0_t87 k0_t88 k0_h1 => k0_hw330.2.2.1.2.2.2.2.2.2.2.2.2.1 k0_t87 k0_t88 k0_h1
theorem k0_off1326_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t88 : Fin (k0_t88_loop v867 v869).trips), ∀ (k0_h1 : k0_cond1 i v10 = 1#1), ∀ a, (k0_off1326 v41 v43 v867 v869 k0_t87 k0_t88) a + S1x16.size a ≤ S196x384.size a := fun i v10 v41 v43 v867 v869 k0_hw330 k0_t87 k0_t88 k0_h1 => k0_hw330.2.2.1.2.2.2.2.2.2.2.2.2.2.1 k0_t87 k0_t88 k0_h1
theorem k0_t89_ok : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips), ∀ (k0_h1 : k0_cond1 i v10 = 1#1), (k0_t89_loop v867 v869).OK := fun i v10 v41 v43 v867 v869 k0_hw330 k0_t87 k0_h1 => k0_hw330.2.2.1.2.2.2.2.2.2.2.2.2.2.2.1 k0_t87 k0_h1
theorem k0_off1327_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1327 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.1 k0_t87 k0_t89 k0_h1
theorem k0_off1328_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1328 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.1 k0_t87 k0_t89 k0_h1
theorem k0_off1329_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1329 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.1 k0_t87 k0_t89 k0_h1
theorem k0_off1330_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1330 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.1 k0_t87 k0_t89 k0_h1
theorem k0_off1331_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1331 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.1 k0_t87 k0_t89 k0_h1
theorem k0_off1332_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1332 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.1 k0_t87 k0_t89 k0_h1
theorem k0_off1333_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1333 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.1 k0_t87 k0_t89 k0_h1
theorem k0_off1334_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1334 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.1 k0_t87 k0_t89 k0_h1
theorem k0_off1335_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1335 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.1 k0_t87 k0_t89 k0_h1
theorem k0_off1336_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1336 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.1 k0_t87 k0_t89 k0_h1
theorem k0_off1337_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1337 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.1 k0_t87 k0_t89 k0_h1
theorem k0_off1338_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1338 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.2.1 k0_t87 k0_t89 k0_h1
theorem k0_off1339_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1339 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.2.2.1 k0_t87 k0_t89 k0_h1
theorem k0_off1340_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1340 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.2.2.2.1 k0_t87 k0_t89 k0_h1
theorem k0_off1341_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1341 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.2.2.2.2.1 k0_t87 k0_t89 k0_h1
theorem k0_off1342_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1342 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.2.2.2.2.2.1 k0_t87 k0_t89 k0_h1
theorem k0_off1343_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1343 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.2.2.2.2.2.2.1 k0_t87 k0_t89 k0_h1
theorem k0_off1344_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1344 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.2.2.2.2.2.2.2.1 k0_t87 k0_t89 k0_h1
theorem k0_off1345_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1345 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.2.2.2.2.2.2.2.2.1 k0_t87 k0_t89 k0_h1
theorem k0_off1346_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1346 v41 v43 v867 v869 k0_t87 k0_t89) a + S1x16.size a ≤ S196x384.size a := fun i v10 v41 v43 v867 v869 k0_hw330 k0_t87 k0_t89 k0_h1 => k0_hw330.2.2.1.2.2.2.2.2.2.2.2.2.2.2.2.2.2.2.2.2.2.2.2.2.2.2.2.2.2.2.2.2.2.2 k0_t87 k0_t89 k0_h1
theorem k0_off1347_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1347 v41 v43 v867 v869 k0_t87 k0_t89) a + S1x16.size a ≤ S196x384.size a := fun i v10 v41 v43 v867 v869 k0_hw330 k0_t87 k0_t89 k0_h1 => k0_hw330.2.2.2.1 k0_t87 k0_t89 k0_h1
theorem k0_off1348_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1348 v41 v43 v867 v869 k0_t87 k0_t89) a + S1x16.size a ≤ S196x384.size a := fun i v10 v41 v43 v867 v869 k0_hw330 k0_t87 k0_t89 k0_h1 => k0_hw330.2.2.2.2.1 k0_t87 k0_t89 k0_h1
theorem k0_off1349_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1349 v41 v43 v867 v869 k0_t87 k0_t89) a + S1x16.size a ≤ S196x384.size a := fun i v10 v41 v43 v867 v869 k0_hw330 k0_t87 k0_t89 k0_h1 => k0_hw330.2.2.2.2.2.1 k0_t87 k0_t89 k0_h1
theorem k0_off1350_inb : ∀ (i : grid0.Coords) (v10 : BitVec 32) (v41 : BitVec 32) (v43 : BitVec 32) (v867 : BitVec 32) (v869 : BitVec 32) (k0_hw330 : k0_chk330 i v10 v41 v43 v867 v869) (k0_t87 : Fin (k0_t87_loop v41 v43).trips) (k0_t89 : Fin (k0_t89_loop v867 v869).trips), ∀ (k0_h1 : k0_cond1 i v10 = 1#1), ∀ a, (k0_off1350 v41 v43 v867 v869 k0_t87 k0_t89) a + S1x16.size a ≤ S196x384.size a := fun i v10 v41 v43 v867 v869 k0_hw330 k0_t87 k0_t89 k0_h1 => k0_hw330.2.2.2.2.2.2 k0_t87 k0_t89 k0_h1

def k0_chk331 (i : grid0.Coords) (v10 : BitVec 32) (v887 : IVec S16 32) : Prop :=
  (∀ (k0_h1 : k0_cond1 i v10 = 1#1), ∀ a x, ((![v887] : Fin 1 → IVec S16 32) a x).toNat < S18816.size a)
theorem k0_idx313_inb : ∀ (i : grid0.Coords) (v10 : BitVec 32) (v887 : IVec S16 32) (k0_hw331 : k0_chk331 i v10 v887), ∀ (k0_h1 : k0_cond1 i v10 = 1#1), ∀ a x, ((![v887] : Fin 1 → IVec S16 32) a x).toNat < S18816.size a := fun i v10 v887 k0_hw331 k0_h1 => k0_hw331 k0_h1

def k0_chk332 (i : grid0.Coords) (v10 : BitVec 32) (v892 : IVec S16 32) : Prop :=
  (∀ (k0_h1 : k0_cond1 i v10 = 1#1), ∀ a x, ((![v892] : Fin 1 → IVec S16 32) a x).toNat < S18816.size a)
theorem k0_idx314_inb : ∀ (i : grid0.Coords) (v10 : BitVec 32) (v892 : IVec S16 32) (k0_hw332 : k0_chk332 i v10 v892), ∀ (k0_h1 : k0_cond1 i v10 = 1#1), ∀ a x, ((![v892] : Fin 1 → IVec S16 32) a x).toNat < S18816.size a := fun i v10 v892 k0_hw332 k0_h1 => k0_hw332 k0_h1

def k0_chk333 (i : grid0.Coords) (v10 : BitVec 32) (v897 : IVec S16 32) : Prop :=
  (∀ (k0_h1 : k0_cond1 i v10 = 1#1), ∀ a x, ((![v897] : Fin 1 → IVec S16 32) a x).toNat < S18816.size a)
theorem k0_idx315_inb : ∀ (i : grid0.Coords) (v10 : BitVec 32) (v897 : IVec S16 32) (k0_hw333 : k0_chk333 i v10 v897), ∀ (k0_h1 : k0_cond1 i v10 = 1#1), ∀ a x, ((![v897] : Fin 1 → IVec S16 32) a x).toNat < S18816.size a := fun i v10 v897 k0_hw333 k0_h1 => k0_hw333 k0_h1

def k0_chk334 (i : grid0.Coords) (v10 : BitVec 32) (v902 : IVec S16 32) : Prop :=
  (∀ (k0_h1 : k0_cond1 i v10 = 1#1), ∀ a x, ((![v902] : Fin 1 → IVec S16 32) a x).toNat < S18816.size a)
theorem k0_idx316_inb : ∀ (i : grid0.Coords) (v10 : BitVec 32) (v902 : IVec S16 32) (k0_hw334 : k0_chk334 i v10 v902), ∀ (k0_h1 : k0_cond1 i v10 = 1#1), ∀ a x, ((![v902] : Fin 1 → IVec S16 32) a x).toNat < S18816.size a := fun i v10 v902 k0_hw334 k0_h1 => k0_hw334 k0_h1

def k0_chk335 (i : grid0.Coords) (v10 : BitVec 32) (v907 : IVec S16 32) : Prop :=
  (∀ (k0_h1 : k0_cond1 i v10 = 1#1), ∀ a x, ((![v907] : Fin 1 → IVec S16 32) a x).toNat < S18816.size a)
theorem k0_idx317_inb : ∀ (i : grid0.Coords) (v10 : BitVec 32) (v907 : IVec S16 32) (k0_hw335 : k0_chk335 i v10 v907), ∀ (k0_h1 : k0_cond1 i v10 = 1#1), ∀ a x, ((![v907] : Fin 1 → IVec S16 32) a x).toNat < S18816.size a := fun i v10 v907 k0_hw335 k0_h1 => k0_hw335 k0_h1

def k0_chk336 (i : grid0.Coords) (v10 : BitVec 32) (v912 : IVec S16 32) : Prop :=
  (∀ (k0_h1 : k0_cond1 i v10 = 1#1), ∀ a x, ((![v912] : Fin 1 → IVec S16 32) a x).toNat < S18816.size a)
theorem k0_idx318_inb : ∀ (i : grid0.Coords) (v10 : BitVec 32) (v912 : IVec S16 32) (k0_hw336 : k0_chk336 i v10 v912), ∀ (k0_h1 : k0_cond1 i v10 = 1#1), ∀ a x, ((![v912] : Fin 1 → IVec S16 32) a x).toNat < S18816.size a := fun i v10 v912 k0_hw336 k0_h1 => k0_hw336 k0_h1

def k0_chk337 (i : grid0.Coords) (v10 : BitVec 32) (v917 : IVec S16 32) : Prop :=
  (∀ (k0_h1 : k0_cond1 i v10 = 1#1), ∀ a x, ((![v917] : Fin 1 → IVec S16 32) a x).toNat < S18816.size a)
theorem k0_idx319_inb : ∀ (i : grid0.Coords) (v10 : BitVec 32) (v917 : IVec S16 32) (k0_hw337 : k0_chk337 i v10 v917), ∀ (k0_h1 : k0_cond1 i v10 = 1#1), ∀ a x, ((![v917] : Fin 1 → IVec S16 32) a x).toNat < S18816.size a := fun i v10 v917 k0_hw337 k0_h1 => k0_hw337 k0_h1

def k0_chk338 (i : grid0.Coords) (v10 : BitVec 32) (v922 : IVec S16 32) : Prop :=
  (∀ (k0_h1 : k0_cond1 i v10 = 1#1), ∀ a x, ((![v922] : Fin 1 → IVec S16 32) a x).toNat < S18816.size a)
theorem k0_idx320_inb : ∀ (i : grid0.Coords) (v10 : BitVec 32) (v922 : IVec S16 32) (k0_hw338 : k0_chk338 i v10 v922), ∀ (k0_h1 : k0_cond1 i v10 = 1#1), ∀ a x, ((![v922] : Fin 1 → IVec S16 32) a x).toNat < S18816.size a := fun i v10 v922 k0_hw338 k0_h1 => k0_hw338 k0_h1

def k0_chk339 (i : grid0.Coords) (v10 : BitVec 32) (v927 : IVec S16 32) : Prop :=
  (∀ (k0_h1 : k0_cond1 i v10 = 1#1), ∀ a x, ((![v927] : Fin 1 → IVec S16 32) a x).toNat < S18816.size a)
theorem k0_idx321_inb : ∀ (i : grid0.Coords) (v10 : BitVec 32) (v927 : IVec S16 32) (k0_hw339 : k0_chk339 i v10 v927), ∀ (k0_h1 : k0_cond1 i v10 = 1#1), ∀ a x, ((![v927] : Fin 1 → IVec S16 32) a x).toNat < S18816.size a := fun i v10 v927 k0_hw339 k0_h1 => k0_hw339 k0_h1

def k0_chk340 (i : grid0.Coords) (v10 : BitVec 32) (v932 : IVec S16 32) : Prop :=
  (∀ (k0_h1 : k0_cond1 i v10 = 1#1), ∀ a x, ((![v932] : Fin 1 → IVec S16 32) a x).toNat < S18816.size a)
theorem k0_idx322_inb : ∀ (i : grid0.Coords) (v10 : BitVec 32) (v932 : IVec S16 32) (k0_hw340 : k0_chk340 i v10 v932), ∀ (k0_h1 : k0_cond1 i v10 = 1#1), ∀ a x, ((![v932] : Fin 1 → IVec S16 32) a x).toNat < S18816.size a := fun i v10 v932 k0_hw340 k0_h1 => k0_hw340 k0_h1

def k0_chk341 (i : grid0.Coords) (v10 : BitVec 32) (v937 : IVec S16 32) : Prop :=
  (∀ (k0_h1 : k0_cond1 i v10 = 1#1), ∀ a x, ((![v937] : Fin 1 → IVec S16 32) a x).toNat < S18816.size a)
theorem k0_idx323_inb : ∀ (i : grid0.Coords) (v10 : BitVec 32) (v937 : IVec S16 32) (k0_hw341 : k0_chk341 i v10 v937), ∀ (k0_h1 : k0_cond1 i v10 = 1#1), ∀ a x, ((![v937] : Fin 1 → IVec S16 32) a x).toNat < S18816.size a := fun i v10 v937 k0_hw341 k0_h1 => k0_hw341 k0_h1

def k0_chk342 (i : grid0.Coords) (v10 : BitVec 32) (v942 : IVec S16 32) : Prop :=
  (∀ (k0_h1 : k0_cond1 i v10 = 1#1), ∀ a x, ((![v942] : Fin 1 → IVec S16 32) a x).toNat < S18816.size a)
theorem k0_idx324_inb : ∀ (i : grid0.Coords) (v10 : BitVec 32) (v942 : IVec S16 32) (k0_hw342 : k0_chk342 i v10 v942), ∀ (k0_h1 : k0_cond1 i v10 = 1#1), ∀ a x, ((![v942] : Fin 1 → IVec S16 32) a x).toNat < S18816.size a := fun i v10 v942 k0_hw342 k0_h1 => k0_hw342 k0_h1

def k0_chk343 (i : grid0.Coords) (v10 : BitVec 32) (v947 : IVec S16 32) : Prop :=
  (∀ (k0_h1 : k0_cond1 i v10 = 1#1), ∀ a x, ((![v947] : Fin 1 → IVec S16 32) a x).toNat < S18816.size a)
theorem k0_idx325_inb : ∀ (i : grid0.Coords) (v10 : BitVec 32) (v947 : IVec S16 32) (k0_hw343 : k0_chk343 i v10 v947), ∀ (k0_h1 : k0_cond1 i v10 = 1#1), ∀ a x, ((![v947] : Fin 1 → IVec S16 32) a x).toNat < S18816.size a := fun i v10 v947 k0_hw343 k0_h1 => k0_hw343 k0_h1

def k0_chk344 (i : grid0.Coords) (v10 : BitVec 32) (v952 : IVec S16 32) : Prop :=
  (∀ (k0_h1 : k0_cond1 i v10 = 1#1), ∀ a x, ((![v952] : Fin 1 → IVec S16 32) a x).toNat < S18816.size a)
theorem k0_idx326_inb : ∀ (i : grid0.Coords) (v10 : BitVec 32) (v952 : IVec S16 32) (k0_hw344 : k0_chk344 i v10 v952), ∀ (k0_h1 : k0_cond1 i v10 = 1#1), ∀ a x, ((![v952] : Fin 1 → IVec S16 32) a x).toNat < S18816.size a := fun i v10 v952 k0_hw344 k0_h1 => k0_hw344 k0_h1

def k0_chk345 (i : grid0.Coords) (v10 : BitVec 32) (v957 : IVec S16 32) : Prop :=
  (∀ (k0_h1 : k0_cond1 i v10 = 1#1), ∀ a x, ((![v957] : Fin 1 → IVec S16 32) a x).toNat < S18816.size a)
theorem k0_idx327_inb : ∀ (i : grid0.Coords) (v10 : BitVec 32) (v957 : IVec S16 32) (k0_hw345 : k0_chk345 i v10 v957), ∀ (k0_h1 : k0_cond1 i v10 = 1#1), ∀ a x, ((![v957] : Fin 1 → IVec S16 32) a x).toNat < S18816.size a := fun i v10 v957 k0_hw345 k0_h1 => k0_hw345 k0_h1

def k0_chk346 (i : grid0.Coords) (v10 : BitVec 32) (v962 : IVec S16 32) : Prop :=
  (∀ (k0_h1 : k0_cond1 i v10 = 1#1), ∀ a x, ((![v962] : Fin 1 → IVec S16 32) a x).toNat < S18816.size a)
theorem k0_idx328_inb : ∀ (i : grid0.Coords) (v10 : BitVec 32) (v962 : IVec S16 32) (k0_hw346 : k0_chk346 i v10 v962), ∀ (k0_h1 : k0_cond1 i v10 = 1#1), ∀ a x, ((![v962] : Fin 1 → IVec S16 32) a x).toNat < S18816.size a := fun i v10 v962 k0_hw346 k0_h1 => k0_hw346 k0_h1

def k0_chk347 (i : grid0.Coords) (v10 : BitVec 32) (v967 : IVec S16 32) : Prop :=
  (∀ (k0_h1 : k0_cond1 i v10 = 1#1), ∀ a x, ((![v967] : Fin 1 → IVec S16 32) a x).toNat < S18816.size a)
theorem k0_idx329_inb : ∀ (i : grid0.Coords) (v10 : BitVec 32) (v967 : IVec S16 32) (k0_hw347 : k0_chk347 i v10 v967), ∀ (k0_h1 : k0_cond1 i v10 = 1#1), ∀ a x, ((![v967] : Fin 1 → IVec S16 32) a x).toNat < S18816.size a := fun i v10 v967 k0_hw347 k0_h1 => k0_hw347 k0_h1

def k0_chk348 (i : grid0.Coords) (v10 : BitVec 32) (v972 : IVec S16 32) : Prop :=
  (∀ (k0_h1 : k0_cond1 i v10 = 1#1), ∀ a x, ((![v972] : Fin 1 → IVec S16 32) a x).toNat < S18816.size a)
theorem k0_idx330_inb : ∀ (i : grid0.Coords) (v10 : BitVec 32) (v972 : IVec S16 32) (k0_hw348 : k0_chk348 i v10 v972), ∀ (k0_h1 : k0_cond1 i v10 = 1#1), ∀ a x, ((![v972] : Fin 1 → IVec S16 32) a x).toNat < S18816.size a := fun i v10 v972 k0_hw348 k0_h1 => k0_hw348 k0_h1

def k0_chk349 (i : grid0.Coords) (v10 : BitVec 32) (v977 : IVec S16 32) : Prop :=
  (∀ (k0_h1 : k0_cond1 i v10 = 1#1), ∀ a x, ((![v977] : Fin 1 → IVec S16 32) a x).toNat < S18816.size a)
theorem k0_idx331_inb : ∀ (i : grid0.Coords) (v10 : BitVec 32) (v977 : IVec S16 32) (k0_hw349 : k0_chk349 i v10 v977), ∀ (k0_h1 : k0_cond1 i v10 = 1#1), ∀ a x, ((![v977] : Fin 1 → IVec S16 32) a x).toNat < S18816.size a := fun i v10 v977 k0_hw349 k0_h1 => k0_hw349 k0_h1

def k0_chk350 (i : grid0.Coords) (v10 : BitVec 32) (v982 : IVec S16 32) : Prop :=
  (∀ (k0_h1 : k0_cond1 i v10 = 1#1), ∀ a x, ((![v982] : Fin 1 → IVec S16 32) a x).toNat < S18816.size a)
theorem k0_idx332_inb : ∀ (i : grid0.Coords) (v10 : BitVec 32) (v982 : IVec S16 32) (k0_hw350 : k0_chk350 i v10 v982), ∀ (k0_h1 : k0_cond1 i v10 = 1#1), ∀ a x, ((![v982] : Fin 1 → IVec S16 32) a x).toNat < S18816.size a := fun i v10 v982 k0_hw350 k0_h1 => k0_hw350 k0_h1

def k0_chk351 (i : grid0.Coords) (v10 : BitVec 32) (v987 : IVec S16 32) : Prop :=
  (∀ (k0_h1 : k0_cond1 i v10 = 1#1), ∀ a x, ((![v987] : Fin 1 → IVec S16 32) a x).toNat < S18816.size a)
theorem k0_idx333_inb : ∀ (i : grid0.Coords) (v10 : BitVec 32) (v987 : IVec S16 32) (k0_hw351 : k0_chk351 i v10 v987), ∀ (k0_h1 : k0_cond1 i v10 = 1#1), ∀ a x, ((![v987] : Fin 1 → IVec S16 32) a x).toNat < S18816.size a := fun i v10 v987 k0_hw351 k0_h1 => k0_hw351 k0_h1

def k0_chk352 (i : grid0.Coords) (v10 : BitVec 32) (v992 : IVec S16 32) : Prop :=
  (∀ (k0_h1 : k0_cond1 i v10 = 1#1), ∀ a x, ((![v992] : Fin 1 → IVec S16 32) a x).toNat < S18816.size a)
theorem k0_idx334_inb : ∀ (i : grid0.Coords) (v10 : BitVec 32) (v992 : IVec S16 32) (k0_hw352 : k0_chk352 i v10 v992), ∀ (k0_h1 : k0_cond1 i v10 = 1#1), ∀ a x, ((![v992] : Fin 1 → IVec S16 32) a x).toNat < S18816.size a := fun i v10 v992 k0_hw352 k0_h1 => k0_hw352 k0_h1

def k0_chk353 (i : grid0.Coords) (v10 : BitVec 32) (v997 : IVec S16 32) : Prop :=
  (∀ (k0_h1 : k0_cond1 i v10 = 1#1), ∀ a x, ((![v997] : Fin 1 → IVec S16 32) a x).toNat < S18816.size a)
theorem k0_idx335_inb : ∀ (i : grid0.Coords) (v10 : BitVec 32) (v997 : IVec S16 32) (k0_hw353 : k0_chk353 i v10 v997), ∀ (k0_h1 : k0_cond1 i v10 = 1#1), ∀ a x, ((![v997] : Fin 1 → IVec S16 32) a x).toNat < S18816.size a := fun i v10 v997 k0_hw353 k0_h1 => k0_hw353 k0_h1

def k0_chk354 (i : grid0.Coords) (v10 : BitVec 32) (v1002 : IVec S16 32) : Prop :=
  (∀ (k0_h1 : k0_cond1 i v10 = 1#1), ∀ a x, ((![v1002] : Fin 1 → IVec S16 32) a x).toNat < S18816.size a)
theorem k0_idx336_inb : ∀ (i : grid0.Coords) (v10 : BitVec 32) (v1002 : IVec S16 32) (k0_hw354 : k0_chk354 i v10 v1002), ∀ (k0_h1 : k0_cond1 i v10 = 1#1), ∀ a x, ((![v1002] : Fin 1 → IVec S16 32) a x).toNat < S18816.size a := fun i v10 v1002 k0_hw354 k0_h1 => k0_hw354 k0_h1
def k0_off1351 (i : grid0.Coords) (v10 : BitVec 32) (k0_t46 : Fin (k0_t46_loop i v10).trips) : Fin 3 → Nat :=
  let c0_i32_12 : BitVec 32 := 0#32
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let v24 : BitVec 32 := Scalar.subi v13 c0_i32_12
  let c1_i32_13 : BitVec 32 := 1#32
  let v26 : BitVec 32 := Scalar.divsi v24 c1_i32_13
  let v27 : BitVec 32 := Scalar.muli v26 c1_i32_13
  let v28 : BitVec 32 := Scalar.addi c0_i32_12 v27
  let c1_i32_15 : BitVec 32 := 1#32
  let arg9 : BitVec 32 := Scf.iv v28 c1_i32_15 k0_t46
  let v30 : Index := Scalar.indexCast arg9
  let c7_i32_21 : BitVec 32 := 7#32
  let v31 : Index := Scalar.indexCast c7_i32_21
  let c0_22 : Index := 0#32
  ![v30.toNat, 7, 0]
def k0_off1352 (k0_t1 : Fin k0_t1_loop.trips) (v34 : BitVec 32) : Fin 2 → Nat :=
  let c0_i32_4 : BitVec 32 := 0#32
  let c1_i32 : BitVec 32 := 1#32
  let arg8 : BitVec 32 := Scf.iv c0_i32_4 c1_i32 k0_t1
  let c384_i32 : BitVec 32 := 384#32
  let v35 : BitVec 32 := Scalar.muli arg8 c384_i32
  let c49_i32_23 : BitVec 32 := 49#32
  let v36 : BitVec 32 := Scalar.muli v35 c49_i32_23
  ![v34.toNat, v36.toNat]

def k0_chk355 (i : grid0.Coords) (v10 : BitVec 32) (k0_t1 : Fin k0_t1_loop.trips) (v34 : BitVec 32) : Prop :=
  (∀ (k0_h1 : k0_cond1 i v10 = 1#1), ∀ a, (k0_off1352 k0_t1 v34) a + S1x18816.size a ≤ S1000x37632.size a)
theorem k0_off1352_inb : ∀ (i : grid0.Coords) (v10 : BitVec 32) (k0_t1 : Fin k0_t1_loop.trips) (v34 : BitVec 32) (k0_hw355 : k0_chk355 i v10 k0_t1 v34), ∀ (k0_h1 : k0_cond1 i v10 = 1#1), ∀ a, (k0_off1352 k0_t1 v34) a + S1x18816.size a ≤ S1000x37632.size a := fun i v10 k0_t1 v34 k0_hw355 k0_h1 => k0_hw355 k0_h1

def k0_off1353 (k0_t1 : Fin k0_t1_loop.trips) : Fin 4 → Nat :=
  let c1_i32_10 : BitVec 32 := 1#32
  let c0_i32_4 : BitVec 32 := 0#32
  let c1_i32 : BitVec 32 := 1#32
  let arg8 : BitVec 32 := Scf.iv c0_i32_4 c1_i32 k0_t1
  let c0_i32_15_r4 : BitVec 32 := 0#32
  let c0_i32_16_r4 : BitVec 32 := 0#32
  ![1, arg8.toNat, 0, 0]
@[reducible] def k0_t90_loop (i : grid0.Coords) (v10 : BitVec 32) : Scf.Loop 32 :=
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let v24 : BitVec 32 := Scalar.subi v5 v13
  let c1_i32_12 : BitVec 32 := 1#32
  let v26 : BitVec 32 := Scalar.divsi v24 c1_i32_12
  let v27 : BitVec 32 := Scalar.muli v26 c1_i32_12
  let v28 : BitVec 32 := Scalar.addi v13 v27
  let c1_i32_13 : BitVec 32 := 1#32
  ⟨v13, v28, c1_i32_13⟩
def k0_cond2 (i : grid0.Coords) (v10 : BitVec 32) : BitVec 1 :=
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let v21 : BitVec 1 := Scalar.cmpi .sgt v5 v13
  let v22 : BitVec 32 := Scalar.extui v21
  let c0_i32_9 : BitVec 32 := 0#32
  let v23 : BitVec 1 := Scalar.cmpi .ne v22 c0_i32_9
  v23

@[reducible] def k0_t91_loop : Scf.Loop 32 :=
  let c0_i32_16 : BitVec 32 := 0#32
  let c7_i32_17 : BitVec 32 := 7#32
  let v29 : BitVec 32 := Scalar.addi c0_i32_16 c7_i32_17
  let c1_i32_18 : BitVec 32 := 1#32
  ⟨c0_i32_16, v29, c1_i32_18⟩
def k0_off1354 (i : grid0.Coords) (v10 : BitVec 32) (k0_t90 : Fin (k0_t90_loop i v10).trips) (k0_t91 : Fin k0_t91_loop.trips) : Fin 3 → Nat :=
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let c1_i32_13 : BitVec 32 := 1#32
  let arg9 : BitVec 32 := Scf.iv v13 c1_i32_13 k0_t90
  let v37 : Index := Scalar.indexCast arg9
  let c0_i32_16 : BitVec 32 := 0#32
  let c1_i32_18 : BitVec 32 := 1#32
  let arg10 : BitVec 32 := Scf.iv c0_i32_16 c1_i32_18 k0_t91
  let v38 : Index := Scalar.indexCast arg10
  let c0_23 : Index := 0#32
  ![v37.toNat, v38.toNat, 0]
@[reducible] def k0_t92_loop (v41 : BitVec 32) (v43 : BitVec 32) : Scf.Loop 32 :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_25 : BitVec 32 := 1#32
  ⟨v41, v53, c1_i32_25⟩

@[reducible] def k0_t93_loop (v45 : BitVec 32) (v47 : BitVec 32) : Scf.Loop 32 :=
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_375 : BitVec 32 := 1#32
  ⟨v45, v1008, c1_i32_375⟩

def k0_off1355 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1012 : Index := Scalar.indexCast v1011
  let c0_377 : Index := 0#32
  ![v1012.toNat, 0]
def k0_off1356 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1015 : Index := Scalar.indexCast v1011
  let c16 : Index := 16#32
  ![v1015.toNat, 16]
def k0_off1357 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1018 : Index := Scalar.indexCast v1011
  let c32 : Index := 32#32
  ![v1018.toNat, 32]
def k0_off1358 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1021 : Index := Scalar.indexCast v1011
  let c48 : Index := 48#32
  ![v1021.toNat, 48]
def k0_off1359 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1024 : Index := Scalar.indexCast v1011
  let c64 : Index := 64#32
  ![v1024.toNat, 64]
def k0_off1360 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1027 : Index := Scalar.indexCast v1011
  let c80 : Index := 80#32
  ![v1027.toNat, 80]
def k0_off1361 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1030 : Index := Scalar.indexCast v1011
  let c96 : Index := 96#32
  ![v1030.toNat, 96]
def k0_off1362 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1033 : Index := Scalar.indexCast v1011
  let c112 : Index := 112#32
  ![v1033.toNat, 112]
def k0_off1363 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1036 : Index := Scalar.indexCast v1011
  let c128 : Index := 128#32
  ![v1036.toNat, 128]
def k0_off1364 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1039 : Index := Scalar.indexCast v1011
  let c144 : Index := 144#32
  ![v1039.toNat, 144]
def k0_off1365 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1042 : Index := Scalar.indexCast v1011
  let c160 : Index := 160#32
  ![v1042.toNat, 160]
def k0_off1366 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1045 : Index := Scalar.indexCast v1011
  let c176 : Index := 176#32
  ![v1045.toNat, 176]
def k0_off1367 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1048 : Index := Scalar.indexCast v1011
  let c192 : Index := 192#32
  ![v1048.toNat, 192]
def k0_off1368 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1051 : Index := Scalar.indexCast v1011
  let c208 : Index := 208#32
  ![v1051.toNat, 208]
def k0_off1369 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1054 : Index := Scalar.indexCast v1011
  let c224 : Index := 224#32
  ![v1054.toNat, 224]
def k0_off1370 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1057 : Index := Scalar.indexCast v1011
  let c240 : Index := 240#32
  ![v1057.toNat, 240]
def k0_off1371 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1060 : Index := Scalar.indexCast v1011
  let c256 : Index := 256#32
  ![v1060.toNat, 256]
def k0_off1372 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1063 : Index := Scalar.indexCast v1011
  let c272 : Index := 272#32
  ![v1063.toNat, 272]
def k0_off1373 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1066 : Index := Scalar.indexCast v1011
  let c288 : Index := 288#32
  ![v1066.toNat, 288]
def k0_off1374 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1069 : Index := Scalar.indexCast v1011
  let c304 : Index := 304#32
  ![v1069.toNat, 304]
def k0_off1375 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1072 : Index := Scalar.indexCast v1011
  let c320 : Index := 320#32
  ![v1072.toNat, 320]
def k0_off1376 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1075 : Index := Scalar.indexCast v1011
  let c336 : Index := 336#32
  ![v1075.toNat, 336]
def k0_off1377 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1078 : Index := Scalar.indexCast v1011
  let c352 : Index := 352#32
  ![v1078.toNat, 352]
def k0_off1378 (v41 : BitVec 32) (v43 : BitVec 32) (v45 : BitVec 32) (v47 : BitVec 32) (k0_t92 : Fin (k0_t92_loop v41 v43).trips) (k0_t93 : Fin (k0_t93_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let c1_i32_375 : BitVec 32 := 1#32
  let arg36 : BitVec 32 := Scf.iv v45 c1_i32_375 k0_t93
  let v1011 : BitVec 32 := Scalar.addi v1003 arg36
  let v1081 : Index := Scalar.indexCast v1011
  let c368 : Index := 368#32
  ![v1081.toNat, 368]
@[reducible] def k0_t94_loop (v45 : BitVec 32) (v47 : BitVec 32) : Scf.Loop 32 :=
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let v1005 : BitVec 32 := Scalar.addi v45 v1004
  let c1_i32_376 : BitVec 32 := 1#32
  ⟨v1008, v1005, c1_i32_376⟩
def k0_off1379 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1012 : Index := Scalar.indexCast v1011
  let c0_377 : Index := 0#32
  ![v1012.toNat, 0]
def k0_off1380 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1015 : Index := Scalar.indexCast v1011
  let c16 : Index := 16#32
  ![v1015.toNat, 16]
def k0_off1381 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1018 : Index := Scalar.indexCast v1011
  let c32 : Index := 32#32
  ![v1018.toNat, 32]
def k0_off1382 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1021 : Index := Scalar.indexCast v1011
  let c48 : Index := 48#32
  ![v1021.toNat, 48]
def k0_off1383 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1024 : Index := Scalar.indexCast v1011
  let c64 : Index := 64#32
  ![v1024.toNat, 64]
def k0_off1384 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1027 : Index := Scalar.indexCast v1011
  let c80 : Index := 80#32
  ![v1027.toNat, 80]
def k0_off1385 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1030 : Index := Scalar.indexCast v1011
  let c96 : Index := 96#32
  ![v1030.toNat, 96]
def k0_off1386 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1033 : Index := Scalar.indexCast v1011
  let c112 : Index := 112#32
  ![v1033.toNat, 112]
def k0_off1387 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1036 : Index := Scalar.indexCast v1011
  let c128 : Index := 128#32
  ![v1036.toNat, 128]
def k0_off1388 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1039 : Index := Scalar.indexCast v1011
  let c144 : Index := 144#32
  ![v1039.toNat, 144]
def k0_off1389 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1042 : Index := Scalar.indexCast v1011
  let c160 : Index := 160#32
  ![v1042.toNat, 160]
def k0_off1390 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1045 : Index := Scalar.indexCast v1011
  let c176 : Index := 176#32
  ![v1045.toNat, 176]
def k0_off1391 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1048 : Index := Scalar.indexCast v1011
  let c192 : Index := 192#32
  ![v1048.toNat, 192]
def k0_off1392 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1051 : Index := Scalar.indexCast v1011
  let c208 : Index := 208#32
  ![v1051.toNat, 208]
def k0_off1393 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1054 : Index := Scalar.indexCast v1011
  let c224 : Index := 224#32
  ![v1054.toNat, 224]
def k0_off1394 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1057 : Index := Scalar.indexCast v1011
  let c240 : Index := 240#32
  ![v1057.toNat, 240]
def k0_off1395 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1060 : Index := Scalar.indexCast v1011
  let c256 : Index := 256#32
  ![v1060.toNat, 256]
def k0_off1396 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1063 : Index := Scalar.indexCast v1011
  let c272 : Index := 272#32
  ![v1063.toNat, 272]
def k0_off1397 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1066 : Index := Scalar.indexCast v1011
  let c288 : Index := 288#32
  ![v1066.toNat, 288]
def k0_off1398 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1069 : Index := Scalar.indexCast v1011
  let c304 : Index := 304#32
  ![v1069.toNat, 304]
def k0_off1399 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1072 : Index := Scalar.indexCast v1011
  let c320 : Index := 320#32
  ![v1072.toNat, 320]
def k0_off1400 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1075 : Index := Scalar.indexCast v1011
  let c336 : Index := 336#32
  ![v1075.toNat, 336]
def k0_off1401 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1078 : Index := Scalar.indexCast v1011
  let c352 : Index := 352#32
  ![v1078.toNat, 352]
def k0_off1402 (v41 : BitVec 32) (v43 : BitVec 32) (v45 : BitVec 32) (v47 : BitVec 32) (k0_t92 : Fin (k0_t92_loop v41 v43).trips) (k0_t94 : Fin (k0_t94_loop v45 v47).trips) : Fin 2 → Nat :=
  let c1_i32_25 : BitVec 32 := 1#32
  let arg11 : BitVec 32 := Scf.iv v41 c1_i32_25 k0_t92
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t94
  let v1011 : BitVec 32 := Scalar.addi v1003 arg36
  let v1081 : Index := Scalar.indexCast v1011
  let c368 : Index := 368#32
  ![v1081.toNat, 368]
@[reducible] def k0_t95_loop (v41 : BitVec 32) (v43 : BitVec 32) : Scf.Loop 32 :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let v50 : BitVec 32 := Scalar.addi v41 v49
  let c1_i32_26 : BitVec 32 := 1#32
  ⟨v53, v50, c1_i32_26⟩
@[reducible] def k0_t96_loop (v45 : BitVec 32) (v47 : BitVec 32) : Scf.Loop 32 :=
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_375 : BitVec 32 := 1#32
  ⟨v45, v1008, c1_i32_375⟩
def k0_off1403 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1012 : Index := Scalar.indexCast v1011
  let c0_377 : Index := 0#32
  ![v1012.toNat, 0]
def k0_off1404 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1015 : Index := Scalar.indexCast v1011
  let c16 : Index := 16#32
  ![v1015.toNat, 16]
def k0_off1405 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1018 : Index := Scalar.indexCast v1011
  let c32 : Index := 32#32
  ![v1018.toNat, 32]
def k0_off1406 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1021 : Index := Scalar.indexCast v1011
  let c48 : Index := 48#32
  ![v1021.toNat, 48]
def k0_off1407 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1024 : Index := Scalar.indexCast v1011
  let c64 : Index := 64#32
  ![v1024.toNat, 64]
def k0_off1408 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1027 : Index := Scalar.indexCast v1011
  let c80 : Index := 80#32
  ![v1027.toNat, 80]
def k0_off1409 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1030 : Index := Scalar.indexCast v1011
  let c96 : Index := 96#32
  ![v1030.toNat, 96]
def k0_off1410 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1033 : Index := Scalar.indexCast v1011
  let c112 : Index := 112#32
  ![v1033.toNat, 112]
def k0_off1411 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1036 : Index := Scalar.indexCast v1011
  let c128 : Index := 128#32
  ![v1036.toNat, 128]
def k0_off1412 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1039 : Index := Scalar.indexCast v1011
  let c144 : Index := 144#32
  ![v1039.toNat, 144]
def k0_off1413 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1042 : Index := Scalar.indexCast v1011
  let c160 : Index := 160#32
  ![v1042.toNat, 160]
def k0_off1414 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1045 : Index := Scalar.indexCast v1011
  let c176 : Index := 176#32
  ![v1045.toNat, 176]
def k0_off1415 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1048 : Index := Scalar.indexCast v1011
  let c192 : Index := 192#32
  ![v1048.toNat, 192]
def k0_off1416 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1051 : Index := Scalar.indexCast v1011
  let c208 : Index := 208#32
  ![v1051.toNat, 208]
def k0_off1417 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1054 : Index := Scalar.indexCast v1011
  let c224 : Index := 224#32
  ![v1054.toNat, 224]
def k0_off1418 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1057 : Index := Scalar.indexCast v1011
  let c240 : Index := 240#32
  ![v1057.toNat, 240]
def k0_off1419 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1060 : Index := Scalar.indexCast v1011
  let c256 : Index := 256#32
  ![v1060.toNat, 256]
def k0_off1420 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1063 : Index := Scalar.indexCast v1011
  let c272 : Index := 272#32
  ![v1063.toNat, 272]
def k0_off1421 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1066 : Index := Scalar.indexCast v1011
  let c288 : Index := 288#32
  ![v1066.toNat, 288]
def k0_off1422 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1069 : Index := Scalar.indexCast v1011
  let c304 : Index := 304#32
  ![v1069.toNat, 304]
def k0_off1423 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1072 : Index := Scalar.indexCast v1011
  let c320 : Index := 320#32
  ![v1072.toNat, 320]
def k0_off1424 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1075 : Index := Scalar.indexCast v1011
  let c336 : Index := 336#32
  ![v1075.toNat, 336]
def k0_off1425 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1078 : Index := Scalar.indexCast v1011
  let c352 : Index := 352#32
  ![v1078.toNat, 352]
def k0_off1426 (v41 : BitVec 32) (v43 : BitVec 32) (v45 : BitVec 32) (v47 : BitVec 32) (k0_t95 : Fin (k0_t95_loop v41 v43).trips) (k0_t96 : Fin (k0_t96_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let c1_i32_375 : BitVec 32 := 1#32
  let arg36 : BitVec 32 := Scf.iv v45 c1_i32_375 k0_t96
  let v1011 : BitVec 32 := Scalar.addi v1003 arg36
  let v1081 : Index := Scalar.indexCast v1011
  let c368 : Index := 368#32
  ![v1081.toNat, 368]
@[reducible] def k0_t97_loop (v45 : BitVec 32) (v47 : BitVec 32) : Scf.Loop 32 :=
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let v1005 : BitVec 32 := Scalar.addi v45 v1004
  let c1_i32_376 : BitVec 32 := 1#32
  ⟨v1008, v1005, c1_i32_376⟩
def k0_off1427 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1012 : Index := Scalar.indexCast v1011
  let c0_377 : Index := 0#32
  ![v1012.toNat, 0]
def k0_off1428 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1015 : Index := Scalar.indexCast v1011
  let c16 : Index := 16#32
  ![v1015.toNat, 16]
def k0_off1429 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1018 : Index := Scalar.indexCast v1011
  let c32 : Index := 32#32
  ![v1018.toNat, 32]
def k0_off1430 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1021 : Index := Scalar.indexCast v1011
  let c48 : Index := 48#32
  ![v1021.toNat, 48]
def k0_off1431 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1024 : Index := Scalar.indexCast v1011
  let c64 : Index := 64#32
  ![v1024.toNat, 64]
def k0_off1432 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1027 : Index := Scalar.indexCast v1011
  let c80 : Index := 80#32
  ![v1027.toNat, 80]
def k0_off1433 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1030 : Index := Scalar.indexCast v1011
  let c96 : Index := 96#32
  ![v1030.toNat, 96]
def k0_off1434 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1033 : Index := Scalar.indexCast v1011
  let c112 : Index := 112#32
  ![v1033.toNat, 112]
def k0_off1435 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1036 : Index := Scalar.indexCast v1011
  let c128 : Index := 128#32
  ![v1036.toNat, 128]
def k0_off1436 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1039 : Index := Scalar.indexCast v1011
  let c144 : Index := 144#32
  ![v1039.toNat, 144]
def k0_off1437 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1042 : Index := Scalar.indexCast v1011
  let c160 : Index := 160#32
  ![v1042.toNat, 160]
def k0_off1438 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1045 : Index := Scalar.indexCast v1011
  let c176 : Index := 176#32
  ![v1045.toNat, 176]
def k0_off1439 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1048 : Index := Scalar.indexCast v1011
  let c192 : Index := 192#32
  ![v1048.toNat, 192]
def k0_off1440 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1051 : Index := Scalar.indexCast v1011
  let c208 : Index := 208#32
  ![v1051.toNat, 208]
def k0_off1441 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1054 : Index := Scalar.indexCast v1011
  let c224 : Index := 224#32
  ![v1054.toNat, 224]
def k0_off1442 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1057 : Index := Scalar.indexCast v1011
  let c240 : Index := 240#32
  ![v1057.toNat, 240]
def k0_off1443 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1060 : Index := Scalar.indexCast v1011
  let c256 : Index := 256#32
  ![v1060.toNat, 256]
def k0_off1444 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1063 : Index := Scalar.indexCast v1011
  let c272 : Index := 272#32
  ![v1063.toNat, 272]
def k0_off1445 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1066 : Index := Scalar.indexCast v1011
  let c288 : Index := 288#32
  ![v1066.toNat, 288]
def k0_off1446 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1069 : Index := Scalar.indexCast v1011
  let c304 : Index := 304#32
  ![v1069.toNat, 304]
def k0_off1447 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1072 : Index := Scalar.indexCast v1011
  let c320 : Index := 320#32
  ![v1072.toNat, 320]
def k0_off1448 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1075 : Index := Scalar.indexCast v1011
  let c336 : Index := 336#32
  ![v1075.toNat, 336]
def k0_off1449 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1078 : Index := Scalar.indexCast v1011
  let c352 : Index := 352#32
  ![v1078.toNat, 352]
def k0_off1450 (v41 : BitVec 32) (v43 : BitVec 32) (v45 : BitVec 32) (v47 : BitVec 32) (k0_t95 : Fin (k0_t95_loop v41 v43).trips) (k0_t97 : Fin (k0_t97_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t95
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t97
  let v1011 : BitVec 32 := Scalar.addi v1003 arg36
  let v1081 : Index := Scalar.indexCast v1011
  let c368 : Index := 368#32
  ![v1081.toNat, 368]

def k0_chk357_0 (i : grid0.Coords) (v10 : BitVec 32) (v41 : BitVec 32) (v43 : BitVec 32) (v45 : BitVec 32) (v47 : BitVec 32) : Prop :=
  (∀ k0_t92 : Fin (k0_t92_loop v41 v43).trips, ∀ (k0_h2 : k0_cond2 i v10 = 1#1), (k0_t93_loop v45 v47).OK) ∧
  (∀ (k0_t92 : Fin (k0_t92_loop v41 v43).trips) (k0_t93 : Fin (k0_t93_loop v45 v47).trips), ∀ (k0_h2 : k0_cond2 i v10 = 1#1), ∀ a, (k0_off1355 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1356 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1357 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1358 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1359 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1360 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1361 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1362 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1363 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1364 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1365 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1366 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1367 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1368 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1369 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1370 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1371 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1372 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1373 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1374 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1375 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1376 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1377 v41 v43 v45 v47 k0_t92 k0_t93) a + S1x16.size a ≤ S196x384.size a) ∧
  (∀ (k0_t92 : Fin (k0_t92_loop v41 v43).trips) (k0_t93 : Fin (k0_t93_loop v45 v47).trips), ∀ (k0_h2 : k0_cond2 i v10 = 1#1), ∀ a, (k0_off1378 v41 v43 v45 v47 k0_t92 k0_t93) a + S1x16.size a ≤ S196x384.size a) ∧
  (∀ k0_t92 : Fin (k0_t92_loop v41 v43).trips, ∀ (k0_h2 : k0_cond2 i v10 = 1#1), (k0_t94_loop v45 v47).OK) ∧
  (∀ (k0_t92 : Fin (k0_t92_loop v41 v43).trips) (k0_t94 : Fin (k0_t94_loop v45 v47).trips), ∀ (k0_h2 : k0_cond2 i v10 = 1#1), ∀ a, (k0_off1379 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1380 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1381 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1382 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1383 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1384 v41 v43 v45 v47 k0_t92 k0_t94) a + S1x16.size a ≤ S196x384.size a)
def k0_chk357_1 (i : grid0.Coords) (v10 : BitVec 32) (v41 : BitVec 32) (v43 : BitVec 32) (v45 : BitVec 32) (v47 : BitVec 32) : Prop :=
  (∀ (k0_t92 : Fin (k0_t92_loop v41 v43).trips) (k0_t94 : Fin (k0_t94_loop v45 v47).trips), ∀ (k0_h2 : k0_cond2 i v10 = 1#1), ∀ a, (k0_off1385 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1386 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1387 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1388 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1389 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1390 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1391 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1392 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1393 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1394 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1395 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1396 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1397 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1398 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1399 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1400 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1401 v41 v43 v45 v47 k0_t92 k0_t94) a + S1x16.size a ≤ S196x384.size a) ∧
  (∀ (k0_t92 : Fin (k0_t92_loop v41 v43).trips) (k0_t94 : Fin (k0_t94_loop v45 v47).trips), ∀ (k0_h2 : k0_cond2 i v10 = 1#1), ∀ a, (k0_off1402 v41 v43 v45 v47 k0_t92 k0_t94) a + S1x16.size a ≤ S196x384.size a) ∧
  (∀ k0_t95 : Fin (k0_t95_loop v41 v43).trips, ∀ (k0_h2 : k0_cond2 i v10 = 1#1), (k0_t96_loop v45 v47).OK) ∧
  (∀ (k0_t95 : Fin (k0_t95_loop v41 v43).trips) (k0_t96 : Fin (k0_t96_loop v45 v47).trips), ∀ (k0_h2 : k0_cond2 i v10 = 1#1), ∀ a, (k0_off1403 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1404 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1405 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1406 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1407 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1408 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1409 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1410 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1411 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1412 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1413 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1414 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1415 v41 v43 v45 v47 k0_t95 k0_t96) a + S1x16.size a ≤ S196x384.size a)
def k0_chk357_2 (i : grid0.Coords) (v10 : BitVec 32) (v41 : BitVec 32) (v43 : BitVec 32) (v45 : BitVec 32) (v47 : BitVec 32) : Prop :=
  (∀ (k0_t95 : Fin (k0_t95_loop v41 v43).trips) (k0_t96 : Fin (k0_t96_loop v45 v47).trips), ∀ (k0_h2 : k0_cond2 i v10 = 1#1), ∀ a, (k0_off1416 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1417 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1418 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1419 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1420 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1421 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1422 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1423 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1424 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1425 v41 v43 v45 v47 k0_t95 k0_t96) a + S1x16.size a ≤ S196x384.size a) ∧
  (∀ (k0_t95 : Fin (k0_t95_loop v41 v43).trips) (k0_t96 : Fin (k0_t96_loop v45 v47).trips), ∀ (k0_h2 : k0_cond2 i v10 = 1#1), ∀ a, (k0_off1426 v41 v43 v45 v47 k0_t95 k0_t96) a + S1x16.size a ≤ S196x384.size a) ∧
  (∀ k0_t95 : Fin (k0_t95_loop v41 v43).trips, ∀ (k0_h2 : k0_cond2 i v10 = 1#1), (k0_t97_loop v45 v47).OK) ∧
  (∀ (k0_t95 : Fin (k0_t95_loop v41 v43).trips) (k0_t97 : Fin (k0_t97_loop v45 v47).trips), ∀ (k0_h2 : k0_cond2 i v10 = 1#1), ∀ a, (k0_off1427 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1428 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1429 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1430 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1431 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1432 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1433 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1434 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1435 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1436 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1437 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1438 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1439 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1440 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1441 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1442 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1443 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1444 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1445 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1446 v41 v43 v45 v47 k0_t95 k0_t97) a + S1x16.size a ≤ S196x384.size a)
def k0_chk357_3 (i : grid0.Coords) (v10 : BitVec 32) (v41 : BitVec 32) (v43 : BitVec 32) (v45 : BitVec 32) (v47 : BitVec 32) : Prop :=
  (∀ (k0_t95 : Fin (k0_t95_loop v41 v43).trips) (k0_t97 : Fin (k0_t97_loop v45 v47).trips), ∀ (k0_h2 : k0_cond2 i v10 = 1#1), ∀ a, (k0_off1447 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1448 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1449 v41 v43 v45 v47 k0_t95 k0_t97) a + S1x16.size a ≤ S196x384.size a) ∧
  (∀ (k0_t95 : Fin (k0_t95_loop v41 v43).trips) (k0_t97 : Fin (k0_t97_loop v45 v47).trips), ∀ (k0_h2 : k0_cond2 i v10 = 1#1), ∀ a, (k0_off1450 v41 v43 v45 v47 k0_t95 k0_t97) a + S1x16.size a ≤ S196x384.size a)
def k0_chk357 (i : grid0.Coords) (v10 : BitVec 32) (v41 : BitVec 32) (v43 : BitVec 32) (v45 : BitVec 32) (v47 : BitVec 32) : Prop :=
  k0_chk357_0 i v10 v41 v43 v45 v47 ∧
  k0_chk357_1 i v10 v41 v43 v45 v47 ∧
  k0_chk357_2 i v10 v41 v43 v45 v47 ∧
  k0_chk357_3 i v10 v41 v43 v45 v47
theorem k0_t93_ok : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips), ∀ (k0_h2 : k0_cond2 i v10 = 1#1), (k0_t93_loop v45 v47).OK := fun i v10 v41 v43 v45 v47 k0_hw357 k0_t92 k0_h2 => k0_hw357.1.1 k0_t92 k0_h2
theorem k0_off1355_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1355 v41 v43 v45 v47 k0_t92 k0_t93) a + S1x16.size a ≤ S196x384.size a := fun i v10 v41 v43 v45 v47 k0_hw357 k0_t92 k0_t93 k0_h2 => k0_hw357.1.2.1 k0_t92 k0_t93 k0_h2
theorem k0_off1356_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1356 v41 v43 v45 v47 k0_t92 k0_t93) a + S1x16.size a ≤ S196x384.size a := fun i v10 v41 v43 v45 v47 k0_hw357 k0_t92 k0_t93 k0_h2 => k0_hw357.1.2.2.1 k0_t92 k0_t93 k0_h2
theorem k0_off1357_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1357 v41 v43 v45 v47 k0_t92 k0_t93) a + S1x16.size a ≤ S196x384.size a := fun i v10 v41 v43 v45 v47 k0_hw357 k0_t92 k0_t93 k0_h2 => k0_hw357.1.2.2.2.1 k0_t92 k0_t93 k0_h2
theorem k0_off1358_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1358 v41 v43 v45 v47 k0_t92 k0_t93) a + S1x16.size a ≤ S196x384.size a := fun i v10 v41 v43 v45 v47 k0_hw357 k0_t92 k0_t93 k0_h2 => k0_hw357.1.2.2.2.2.1 k0_t92 k0_t93 k0_h2
theorem k0_off1359_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1359 v41 v43 v45 v47 k0_t92 k0_t93) a + S1x16.size a ≤ S196x384.size a := fun i v10 v41 v43 v45 v47 k0_hw357 k0_t92 k0_t93 k0_h2 => k0_hw357.1.2.2.2.2.2.1 k0_t92 k0_t93 k0_h2
theorem k0_off1360_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1360 v41 v43 v45 v47 k0_t92 k0_t93) a + S1x16.size a ≤ S196x384.size a := fun i v10 v41 v43 v45 v47 k0_hw357 k0_t92 k0_t93 k0_h2 => k0_hw357.1.2.2.2.2.2.2.1 k0_t92 k0_t93 k0_h2
theorem k0_off1361_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1361 v41 v43 v45 v47 k0_t92 k0_t93) a + S1x16.size a ≤ S196x384.size a := fun i v10 v41 v43 v45 v47 k0_hw357 k0_t92 k0_t93 k0_h2 => k0_hw357.1.2.2.2.2.2.2.2.1 k0_t92 k0_t93 k0_h2
theorem k0_off1362_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1362 v41 v43 v45 v47 k0_t92 k0_t93) a + S1x16.size a ≤ S196x384.size a := fun i v10 v41 v43 v45 v47 k0_hw357 k0_t92 k0_t93 k0_h2 => k0_hw357.1.2.2.2.2.2.2.2.2.1 k0_t92 k0_t93 k0_h2
theorem k0_off1363_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1363 v41 v43 v45 v47 k0_t92 k0_t93) a + S1x16.size a ≤ S196x384.size a := fun i v10 v41 v43 v45 v47 k0_hw357 k0_t92 k0_t93 k0_h2 => k0_hw357.1.2.2.2.2.2.2.2.2.2.1 k0_t92 k0_t93 k0_h2
theorem k0_off1364_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1364 v41 v43 v45 v47 k0_t92 k0_t93) a + S1x16.size a ≤ S196x384.size a := fun i v10 v41 v43 v45 v47 k0_hw357 k0_t92 k0_t93 k0_h2 => k0_hw357.1.2.2.2.2.2.2.2.2.2.2.1 k0_t92 k0_t93 k0_h2
theorem k0_off1365_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1365 v41 v43 v45 v47 k0_t92 k0_t93) a + S1x16.size a ≤ S196x384.size a := fun i v10 v41 v43 v45 v47 k0_hw357 k0_t92 k0_t93 k0_h2 => k0_hw357.1.2.2.2.2.2.2.2.2.2.2.2.1 k0_t92 k0_t93 k0_h2
theorem k0_off1366_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1366 v41 v43 v45 v47 k0_t92 k0_t93) a + S1x16.size a ≤ S196x384.size a := fun i v10 v41 v43 v45 v47 k0_hw357 k0_t92 k0_t93 k0_h2 => k0_hw357.1.2.2.2.2.2.2.2.2.2.2.2.2.1 k0_t92 k0_t93 k0_h2
theorem k0_off1367_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1367 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.1 k0_t92 k0_t93 k0_h2
theorem k0_off1368_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1368 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.1 k0_t92 k0_t93 k0_h2
theorem k0_off1369_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1369 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.1 k0_t92 k0_t93 k0_h2
theorem k0_off1370_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1370 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.2.1 k0_t92 k0_t93 k0_h2
theorem k0_off1371_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1371 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.2.2.1 k0_t92 k0_t93 k0_h2
theorem k0_off1372_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1372 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.2.2.2.1 k0_t92 k0_t93 k0_h2
theorem k0_off1373_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1373 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.2.2.2.2.1 k0_t92 k0_t93 k0_h2
theorem k0_off1374_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1374 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.2.2.2.2.2.1 k0_t92 k0_t93 k0_h2
theorem k0_off1375_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1375 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.2.2.2.2.2.2.1 k0_t92 k0_t93 k0_h2
theorem k0_off1376_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1376 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.2.2.2.2.2.2.2.1 k0_t92 k0_t93 k0_h2
theorem k0_off1377_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1377 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.2.2.2.2.2.2.2.2.1 k0_t92 k0_t93 k0_h2
theorem k0_off1378_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t93 : Fin (k0_t93_loop v45 v47).trips), ∀ (k0_h2 : k0_cond2 i v10 = 1#1), ∀ a, (k0_off1378 v41 v43 v45 v47 k0_t92 k0_t93) a + S1x16.size a ≤ S196x384.size a := fun i v10 v41 v43 v45 v47 k0_hw357 k0_t92 k0_t93 k0_h2 => k0_hw357.1.2.2.2.2.2.2.2.2.2.2.2.2.2.2.2.2.2.2.2.2.2.2.2.2.1 k0_t92 k0_t93 k0_h2
theorem k0_t94_ok : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips), ∀ (k0_h2 : k0_cond2 i v10 = 1#1), (k0_t94_loop v45 v47).OK := fun i v10 v41 v43 v45 v47 k0_hw357 k0_t92 k0_h2 => k0_hw357.1.2.2.2.2.2.2.2.2.2.2.2.2.2.2.2.2.2.2.2.2.2.2.2.2.2.1 k0_t92 k0_h2
theorem k0_off1379_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1379 v41 v43 v45 v47 k0_t92 k0_t94) a + S1x16.size a ≤ S196x384.size a := fun i v10 v41 v43 v45 v47 k0_hw357 k0_t92 k0_t94 k0_h2 => k0_hw357.1.2.2.2.2.2.2.2.2.2.2.2.2.2.2.2.2.2.2.2.2.2.2.2.2.2.2.1 k0_t92 k0_t94 k0_h2
theorem k0_off1380_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1380 v41 v43 v45 v47 k0_t92 k0_t94) a + S1x16.size a ≤ S196x384.size a := fun i v10 v41 v43 v45 v47 k0_hw357 k0_t92 k0_t94 k0_h2 => k0_hw357.1.2.2.2.2.2.2.2.2.2.2.2.2.2.2.2.2.2.2.2.2.2.2.2.2.2.2.2.1 k0_t92 k0_t94 k0_h2
theorem k0_off1381_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1381 v41 v43 v45 v47 k0_t92 k0_t94) a + S1x16.size a ≤ S196x384.size a := fun i v10 v41 v43 v45 v47 k0_hw357 k0_t92 k0_t94 k0_h2 => k0_hw357.1.2.2.2.2.2.2.2.2.2.2.2.2.2.2.2.2.2.2.2.2.2.2.2.2.2.2.2.2.1 k0_t92 k0_t94 k0_h2
theorem k0_off1382_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1382 v41 v43 v45 v47 k0_t92 k0_t94) a + S1x16.size a ≤ S196x384.size a := fun i v10 v41 v43 v45 v47 k0_hw357 k0_t92 k0_t94 k0_h2 => k0_hw357.1.2.2.2.2.2.2.2.2.2.2.2.2.2.2.2.2.2.2.2.2.2.2.2.2.2.2.2.2.2.1 k0_t92 k0_t94 k0_h2
theorem k0_off1383_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1383 v41 v43 v45 v47 k0_t92 k0_t94) a + S1x16.size a ≤ S196x384.size a := fun i v10 v41 v43 v45 v47 k0_hw357 k0_t92 k0_t94 k0_h2 => k0_hw357.1.2.2.2.2.2.2.2.2.2.2.2.2.2.2.2.2.2.2.2.2.2.2.2.2.2.2.2.2.2.2.1 k0_t92 k0_t94 k0_h2
theorem k0_off1384_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1384 v41 v43 v45 v47 k0_t92 k0_t94) a + S1x16.size a ≤ S196x384.size a := fun i v10 v41 v43 v45 v47 k0_hw357 k0_t92 k0_t94 k0_h2 => k0_hw357.1.2.2.2.2.2.2.2.2.2.2.2.2.2.2.2.2.2.2.2.2.2.2.2.2.2.2.2.2.2.2.2 k0_t92 k0_t94 k0_h2
theorem k0_off1385_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1385 v41 v43 v45 v47 k0_t92 k0_t94) a + S1x16.size a ≤ S196x384.size a := fun i v10 v41 v43 v45 v47 k0_hw357 k0_t92 k0_t94 k0_h2 => k0_hw357.2.1.1 k0_t92 k0_t94 k0_h2
theorem k0_off1386_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1386 v41 v43 v45 v47 k0_t92 k0_t94) a + S1x16.size a ≤ S196x384.size a := fun i v10 v41 v43 v45 v47 k0_hw357 k0_t92 k0_t94 k0_h2 => k0_hw357.2.1.2.1 k0_t92 k0_t94 k0_h2
theorem k0_off1387_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1387 v41 v43 v45 v47 k0_t92 k0_t94) a + S1x16.size a ≤ S196x384.size a := fun i v10 v41 v43 v45 v47 k0_hw357 k0_t92 k0_t94 k0_h2 => k0_hw357.2.1.2.2.1 k0_t92 k0_t94 k0_h2
theorem k0_off1388_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1388 v41 v43 v45 v47 k0_t92 k0_t94) a + S1x16.size a ≤ S196x384.size a := fun i v10 v41 v43 v45 v47 k0_hw357 k0_t92 k0_t94 k0_h2 => k0_hw357.2.1.2.2.2.1 k0_t92 k0_t94 k0_h2
theorem k0_off1389_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1389 v41 v43 v45 v47 k0_t92 k0_t94) a + S1x16.size a ≤ S196x384.size a := fun i v10 v41 v43 v45 v47 k0_hw357 k0_t92 k0_t94 k0_h2 => k0_hw357.2.1.2.2.2.2.1 k0_t92 k0_t94 k0_h2
theorem k0_off1390_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1390 v41 v43 v45 v47 k0_t92 k0_t94) a + S1x16.size a ≤ S196x384.size a := fun i v10 v41 v43 v45 v47 k0_hw357 k0_t92 k0_t94 k0_h2 => k0_hw357.2.1.2.2.2.2.2.1 k0_t92 k0_t94 k0_h2
theorem k0_off1391_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1391 v41 v43 v45 v47 k0_t92 k0_t94) a + S1x16.size a ≤ S196x384.size a := fun i v10 v41 v43 v45 v47 k0_hw357 k0_t92 k0_t94 k0_h2 => k0_hw357.2.1.2.2.2.2.2.2.1 k0_t92 k0_t94 k0_h2
theorem k0_off1392_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1392 v41 v43 v45 v47 k0_t92 k0_t94) a + S1x16.size a ≤ S196x384.size a := fun i v10 v41 v43 v45 v47 k0_hw357 k0_t92 k0_t94 k0_h2 => k0_hw357.2.1.2.2.2.2.2.2.2.1 k0_t92 k0_t94 k0_h2
theorem k0_off1393_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1393 v41 v43 v45 v47 k0_t92 k0_t94) a + S1x16.size a ≤ S196x384.size a := fun i v10 v41 v43 v45 v47 k0_hw357 k0_t92 k0_t94 k0_h2 => k0_hw357.2.1.2.2.2.2.2.2.2.2.1 k0_t92 k0_t94 k0_h2
theorem k0_off1394_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1394 v41 v43 v45 v47 k0_t92 k0_t94) a + S1x16.size a ≤ S196x384.size a := fun i v10 v41 v43 v45 v47 k0_hw357 k0_t92 k0_t94 k0_h2 => k0_hw357.2.1.2.2.2.2.2.2.2.2.2.1 k0_t92 k0_t94 k0_h2
theorem k0_off1395_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1395 v41 v43 v45 v47 k0_t92 k0_t94) a + S1x16.size a ≤ S196x384.size a := fun i v10 v41 v43 v45 v47 k0_hw357 k0_t92 k0_t94 k0_h2 => k0_hw357.2.1.2.2.2.2.2.2.2.2.2.2.1 k0_t92 k0_t94 k0_h2
theorem k0_off1396_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1396 v41 v43 v45 v47 k0_t92 k0_t94) a + S1x16.size a ≤ S196x384.size a := fun i v10 v41 v43 v45 v47 k0_hw357 k0_t92 k0_t94 k0_h2 => k0_hw357.2.1.2.2.2.2.2.2.2.2.2.2.2.1 k0_t92 k0_t94 k0_h2
theorem k0_off1397_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1397 v41 v43 v45 v47 k0_t92 k0_t94) a + S1x16.size a ≤ S196x384.size a := fun i v10 v41 v43 v45 v47 k0_hw357 k0_t92 k0_t94 k0_h2 => k0_hw357.2.1.2.2.2.2.2.2.2.2.2.2.2.2.1 k0_t92 k0_t94 k0_h2
theorem k0_off1398_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1398 v41 v43 v45 v47 k0_t92 k0_t94) a + S1x16.size a ≤ S196x384.size a := fun i v10 v41 v43 v45 v47 k0_hw357 k0_t92 k0_t94 k0_h2 => k0_hw357.2.1.2.2.2.2.2.2.2.2.2.2.2.2.2.1 k0_t92 k0_t94 k0_h2
theorem k0_off1399_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1399 v41 v43 v45 v47 k0_t92 k0_t94) a + S1x16.size a ≤ S196x384.size a := fun i v10 v41 v43 v45 v47 k0_hw357 k0_t92 k0_t94 k0_h2 => k0_hw357.2.1.2.2.2.2.2.2.2.2.2.2.2.2.2.2.1 k0_t92 k0_t94 k0_h2
theorem k0_off1400_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1400 v41 v43 v45 v47 k0_t92 k0_t94) a + S1x16.size a ≤ S196x384.size a := fun i v10 v41 v43 v45 v47 k0_hw357 k0_t92 k0_t94 k0_h2 => k0_hw357.2.1.2.2.2.2.2.2.2.2.2.2.2.2.2.2.2.1 k0_t92 k0_t94 k0_h2
theorem k0_off1401_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1401 v41 v43 v45 v47 k0_t92 k0_t94) a + S1x16.size a ≤ S196x384.size a := fun i v10 v41 v43 v45 v47 k0_hw357 k0_t92 k0_t94 k0_h2 => k0_hw357.2.1.2.2.2.2.2.2.2.2.2.2.2.2.2.2.2.2.1 k0_t92 k0_t94 k0_h2
theorem k0_off1402_inb : ∀ (i : grid0.Coords) (v10 : BitVec 32) (v41 : BitVec 32) (v43 : BitVec 32) (v45 : BitVec 32) (v47 : BitVec 32) (k0_hw357 : k0_chk357 i v10 v41 v43 v45 v47) (k0_t92 : Fin (k0_t92_loop v41 v43).trips) (k0_t94 : Fin (k0_t94_loop v45 v47).trips), ∀ (k0_h2 : k0_cond2 i v10 = 1#1), ∀ a, (k0_off1402 v41 v43 v45 v47 k0_t92 k0_t94) a + S1x16.size a ≤ S196x384.size a := fun i v10 v41 v43 v45 v47 k0_hw357 k0_t92 k0_t94 k0_h2 => k0_hw357.2.1.2.2.2.2.2.2.2.2.2.2.2.2.2.2.2.2.2.1 k0_t92 k0_t94 k0_h2
theorem k0_t96_ok : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips), ∀ (k0_h2 : k0_cond2 i v10 = 1#1), (k0_t96_loop v45 v47).OK := fun i v10 v41 v43 v45 v47 k0_hw357 k0_t95 k0_h2 => k0_hw357.2.1.2.2.2.2.2.2.2.2.2.2.2.2.2.2.2.2.2.2.1 k0_t95 k0_h2
theorem k0_off1403_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1403 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.1 k0_t95 k0_t96 k0_h2
theorem k0_off1404_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1404 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.1 k0_t95 k0_t96 k0_h2
theorem k0_off1405_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1405 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.1 k0_t95 k0_t96 k0_h2
theorem k0_off1406_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1406 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.1 k0_t95 k0_t96 k0_h2
theorem k0_off1407_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1407 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.2.1 k0_t95 k0_t96 k0_h2
theorem k0_off1408_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1408 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.2.2.1 k0_t95 k0_t96 k0_h2
theorem k0_off1409_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1409 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.2.2.2.1 k0_t95 k0_t96 k0_h2
theorem k0_off1410_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1410 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.2.2.2.2.1 k0_t95 k0_t96 k0_h2
theorem k0_off1411_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1411 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.2.2.2.2.2.1 k0_t95 k0_t96 k0_h2
theorem k0_off1412_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1412 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.2.2.2.2.2.2.1 k0_t95 k0_t96 k0_h2
theorem k0_off1413_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1413 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.2.2.2.2.2.2.2.1 k0_t95 k0_t96 k0_h2
theorem k0_off1414_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1414 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.2.2.2.2.2.2.2.2.1 k0_t95 k0_t96 k0_h2
theorem k0_off1415_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1415 v41 v43 v45 v47 k0_t95 k0_t96) a + S1x16.size a ≤ S196x384.size a := fun i v10 v41 v43 v45 v47 k0_hw357 k0_t95 k0_t96 k0_h2 => k0_hw357.2.1.2.2.2.2.2.2.2.2.2.2.2.2.2.2.2.2.2.2.2.2.2.2.2.2.2.2.2.2.2.2.2 k0_t95 k0_t96 k0_h2
theorem k0_off1416_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1416 v41 v43 v45 v47 k0_t95 k0_t96) a + S1x16.size a ≤ S196x384.size a := fun i v10 v41 v43 v45 v47 k0_hw357 k0_t95 k0_t96 k0_h2 => k0_hw357.2.2.1.1 k0_t95 k0_t96 k0_h2
theorem k0_off1417_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1417 v41 v43 v45 v47 k0_t95 k0_t96) a + S1x16.size a ≤ S196x384.size a := fun i v10 v41 v43 v45 v47 k0_hw357 k0_t95 k0_t96 k0_h2 => k0_hw357.2.2.1.2.1 k0_t95 k0_t96 k0_h2
theorem k0_off1418_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1418 v41 v43 v45 v47 k0_t95 k0_t96) a + S1x16.size a ≤ S196x384.size a := fun i v10 v41 v43 v45 v47 k0_hw357 k0_t95 k0_t96 k0_h2 => k0_hw357.2.2.1.2.2.1 k0_t95 k0_t96 k0_h2
theorem k0_off1419_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1419 v41 v43 v45 v47 k0_t95 k0_t96) a + S1x16.size a ≤ S196x384.size a := fun i v10 v41 v43 v45 v47 k0_hw357 k0_t95 k0_t96 k0_h2 => k0_hw357.2.2.1.2.2.2.1 k0_t95 k0_t96 k0_h2
theorem k0_off1420_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1420 v41 v43 v45 v47 k0_t95 k0_t96) a + S1x16.size a ≤ S196x384.size a := fun i v10 v41 v43 v45 v47 k0_hw357 k0_t95 k0_t96 k0_h2 => k0_hw357.2.2.1.2.2.2.2.1 k0_t95 k0_t96 k0_h2
theorem k0_off1421_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1421 v41 v43 v45 v47 k0_t95 k0_t96) a + S1x16.size a ≤ S196x384.size a := fun i v10 v41 v43 v45 v47 k0_hw357 k0_t95 k0_t96 k0_h2 => k0_hw357.2.2.1.2.2.2.2.2.1 k0_t95 k0_t96 k0_h2
theorem k0_off1422_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1422 v41 v43 v45 v47 k0_t95 k0_t96) a + S1x16.size a ≤ S196x384.size a := fun i v10 v41 v43 v45 v47 k0_hw357 k0_t95 k0_t96 k0_h2 => k0_hw357.2.2.1.2.2.2.2.2.2.1 k0_t95 k0_t96 k0_h2
theorem k0_off1423_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1423 v41 v43 v45 v47 k0_t95 k0_t96) a + S1x16.size a ≤ S196x384.size a := fun i v10 v41 v43 v45 v47 k0_hw357 k0_t95 k0_t96 k0_h2 => k0_hw357.2.2.1.2.2.2.2.2.2.2.1 k0_t95 k0_t96 k0_h2
theorem k0_off1424_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1424 v41 v43 v45 v47 k0_t95 k0_t96) a + S1x16.size a ≤ S196x384.size a := fun i v10 v41 v43 v45 v47 k0_hw357 k0_t95 k0_t96 k0_h2 => k0_hw357.2.2.1.2.2.2.2.2.2.2.2.1 k0_t95 k0_t96 k0_h2
theorem k0_off1425_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1425 v41 v43 v45 v47 k0_t95 k0_t96) a + S1x16.size a ≤ S196x384.size a := fun i v10 v41 v43 v45 v47 k0_hw357 k0_t95 k0_t96 k0_h2 => k0_hw357.2.2.1.2.2.2.2.2.2.2.2.2.1 k0_t95 k0_t96 k0_h2
theorem k0_off1426_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t96 : Fin (k0_t96_loop v45 v47).trips), ∀ (k0_h2 : k0_cond2 i v10 = 1#1), ∀ a, (k0_off1426 v41 v43 v45 v47 k0_t95 k0_t96) a + S1x16.size a ≤ S196x384.size a := fun i v10 v41 v43 v45 v47 k0_hw357 k0_t95 k0_t96 k0_h2 => k0_hw357.2.2.1.2.2.2.2.2.2.2.2.2.2.1 k0_t95 k0_t96 k0_h2
theorem k0_t97_ok : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips), ∀ (k0_h2 : k0_cond2 i v10 = 1#1), (k0_t97_loop v45 v47).OK := fun i v10 v41 v43 v45 v47 k0_hw357 k0_t95 k0_h2 => k0_hw357.2.2.1.2.2.2.2.2.2.2.2.2.2.2.1 k0_t95 k0_h2
theorem k0_off1427_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1427 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.1 k0_t95 k0_t97 k0_h2
theorem k0_off1428_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1428 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.1 k0_t95 k0_t97 k0_h2
theorem k0_off1429_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1429 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.1 k0_t95 k0_t97 k0_h2
theorem k0_off1430_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1430 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.1 k0_t95 k0_t97 k0_h2
theorem k0_off1431_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1431 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.1 k0_t95 k0_t97 k0_h2
theorem k0_off1432_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1432 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.1 k0_t95 k0_t97 k0_h2
theorem k0_off1433_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1433 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.1 k0_t95 k0_t97 k0_h2
theorem k0_off1434_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1434 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.1 k0_t95 k0_t97 k0_h2
theorem k0_off1435_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1435 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.1 k0_t95 k0_t97 k0_h2
theorem k0_off1436_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1436 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.1 k0_t95 k0_t97 k0_h2
theorem k0_off1437_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1437 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.1 k0_t95 k0_t97 k0_h2
theorem k0_off1438_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1438 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.2.1 k0_t95 k0_t97 k0_h2
theorem k0_off1439_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1439 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.2.2.1 k0_t95 k0_t97 k0_h2
theorem k0_off1440_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1440 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.2.2.2.1 k0_t95 k0_t97 k0_h2
theorem k0_off1441_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1441 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.2.2.2.2.1 k0_t95 k0_t97 k0_h2
theorem k0_off1442_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1442 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.2.2.2.2.2.1 k0_t95 k0_t97 k0_h2
theorem k0_off1443_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1443 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.2.2.2.2.2.2.1 k0_t95 k0_t97 k0_h2
theorem k0_off1444_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1444 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.2.2.2.2.2.2.2.1 k0_t95 k0_t97 k0_h2
theorem k0_off1445_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1445 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.2.2.2.2.2.2.2.2.1 k0_t95 k0_t97 k0_h2
theorem k0_off1446_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1446 v41 v43 v45 v47 k0_t95 k0_t97) a + S1x16.size a ≤ S196x384.size a := fun i v10 v41 v43 v45 v47 k0_hw357 k0_t95 k0_t97 k0_h2 => k0_hw357.2.2.1.2.2.2.2.2.2.2.2.2.2.2.2.2.2.2.2.2.2.2.2.2.2.2.2.2.2.2.2.2.2.2 k0_t95 k0_t97 k0_h2
theorem k0_off1447_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1447 v41 v43 v45 v47 k0_t95 k0_t97) a + S1x16.size a ≤ S196x384.size a := fun i v10 v41 v43 v45 v47 k0_hw357 k0_t95 k0_t97 k0_h2 => k0_hw357.2.2.2.1 k0_t95 k0_t97 k0_h2
theorem k0_off1448_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1448 v41 v43 v45 v47 k0_t95 k0_t97) a + S1x16.size a ≤ S196x384.size a := fun i v10 v41 v43 v45 v47 k0_hw357 k0_t95 k0_t97 k0_h2 => k0_hw357.2.2.2.2.1 k0_t95 k0_t97 k0_h2
theorem k0_off1449_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1449 v41 v43 v45 v47 k0_t95 k0_t97) a + S1x16.size a ≤ S196x384.size a := fun i v10 v41 v43 v45 v47 k0_hw357 k0_t95 k0_t97 k0_h2 => k0_hw357.2.2.2.2.2.1 k0_t95 k0_t97 k0_h2
theorem k0_off1450_inb : ∀ (i : grid0.Coords) (v10 : BitVec 32) (v41 : BitVec 32) (v43 : BitVec 32) (v45 : BitVec 32) (v47 : BitVec 32) (k0_hw357 : k0_chk357 i v10 v41 v43 v45 v47) (k0_t95 : Fin (k0_t95_loop v41 v43).trips) (k0_t97 : Fin (k0_t97_loop v45 v47).trips), ∀ (k0_h2 : k0_cond2 i v10 = 1#1), ∀ a, (k0_off1450 v41 v43 v45 v47 k0_t95 k0_t97) a + S1x16.size a ≤ S196x384.size a := fun i v10 v41 v43 v45 v47 k0_hw357 k0_t95 k0_t97 k0_h2 => k0_hw357.2.2.2.2.2.2 k0_t95 k0_t97 k0_h2

def k0_chk358 (i : grid0.Coords) (v10 : BitVec 32) (v65 : IVec S16 32) : Prop :=
  (∀ (k0_h2 : k0_cond2 i v10 = 1#1), ∀ a x, ((![v65] : Fin 1 → IVec S16 32) a x).toNat < S18816.size a)
theorem k0_idx337_inb : ∀ (i : grid0.Coords) (v10 : BitVec 32) (v65 : IVec S16 32) (k0_hw358 : k0_chk358 i v10 v65), ∀ (k0_h2 : k0_cond2 i v10 = 1#1), ∀ a x, ((![v65] : Fin 1 → IVec S16 32) a x).toNat < S18816.size a := fun i v10 v65 k0_hw358 k0_h2 => k0_hw358 k0_h2

def k0_chk359 (i : grid0.Coords) (v10 : BitVec 32) (v70 : IVec S16 32) : Prop :=
  (∀ (k0_h2 : k0_cond2 i v10 = 1#1), ∀ a x, ((![v70] : Fin 1 → IVec S16 32) a x).toNat < S18816.size a)
theorem k0_idx338_inb : ∀ (i : grid0.Coords) (v10 : BitVec 32) (v70 : IVec S16 32) (k0_hw359 : k0_chk359 i v10 v70), ∀ (k0_h2 : k0_cond2 i v10 = 1#1), ∀ a x, ((![v70] : Fin 1 → IVec S16 32) a x).toNat < S18816.size a := fun i v10 v70 k0_hw359 k0_h2 => k0_hw359 k0_h2

def k0_chk360 (i : grid0.Coords) (v10 : BitVec 32) (v75 : IVec S16 32) : Prop :=
  (∀ (k0_h2 : k0_cond2 i v10 = 1#1), ∀ a x, ((![v75] : Fin 1 → IVec S16 32) a x).toNat < S18816.size a)
theorem k0_idx339_inb : ∀ (i : grid0.Coords) (v10 : BitVec 32) (v75 : IVec S16 32) (k0_hw360 : k0_chk360 i v10 v75), ∀ (k0_h2 : k0_cond2 i v10 = 1#1), ∀ a x, ((![v75] : Fin 1 → IVec S16 32) a x).toNat < S18816.size a := fun i v10 v75 k0_hw360 k0_h2 => k0_hw360 k0_h2

def k0_chk361 (i : grid0.Coords) (v10 : BitVec 32) (v80 : IVec S16 32) : Prop :=
  (∀ (k0_h2 : k0_cond2 i v10 = 1#1), ∀ a x, ((![v80] : Fin 1 → IVec S16 32) a x).toNat < S18816.size a)
theorem k0_idx340_inb : ∀ (i : grid0.Coords) (v10 : BitVec 32) (v80 : IVec S16 32) (k0_hw361 : k0_chk361 i v10 v80), ∀ (k0_h2 : k0_cond2 i v10 = 1#1), ∀ a x, ((![v80] : Fin 1 → IVec S16 32) a x).toNat < S18816.size a := fun i v10 v80 k0_hw361 k0_h2 => k0_hw361 k0_h2

def k0_chk362 (i : grid0.Coords) (v10 : BitVec 32) (v85 : IVec S16 32) : Prop :=
  (∀ (k0_h2 : k0_cond2 i v10 = 1#1), ∀ a x, ((![v85] : Fin 1 → IVec S16 32) a x).toNat < S18816.size a)
theorem k0_idx341_inb : ∀ (i : grid0.Coords) (v10 : BitVec 32) (v85 : IVec S16 32) (k0_hw362 : k0_chk362 i v10 v85), ∀ (k0_h2 : k0_cond2 i v10 = 1#1), ∀ a x, ((![v85] : Fin 1 → IVec S16 32) a x).toNat < S18816.size a := fun i v10 v85 k0_hw362 k0_h2 => k0_hw362 k0_h2

def k0_chk363 (i : grid0.Coords) (v10 : BitVec 32) (v90 : IVec S16 32) : Prop :=
  (∀ (k0_h2 : k0_cond2 i v10 = 1#1), ∀ a x, ((![v90] : Fin 1 → IVec S16 32) a x).toNat < S18816.size a)
theorem k0_idx342_inb : ∀ (i : grid0.Coords) (v10 : BitVec 32) (v90 : IVec S16 32) (k0_hw363 : k0_chk363 i v10 v90), ∀ (k0_h2 : k0_cond2 i v10 = 1#1), ∀ a x, ((![v90] : Fin 1 → IVec S16 32) a x).toNat < S18816.size a := fun i v10 v90 k0_hw363 k0_h2 => k0_hw363 k0_h2

def k0_chk364 (i : grid0.Coords) (v10 : BitVec 32) (v95 : IVec S16 32) : Prop :=
  (∀ (k0_h2 : k0_cond2 i v10 = 1#1), ∀ a x, ((![v95] : Fin 1 → IVec S16 32) a x).toNat < S18816.size a)
theorem k0_idx343_inb : ∀ (i : grid0.Coords) (v10 : BitVec 32) (v95 : IVec S16 32) (k0_hw364 : k0_chk364 i v10 v95), ∀ (k0_h2 : k0_cond2 i v10 = 1#1), ∀ a x, ((![v95] : Fin 1 → IVec S16 32) a x).toNat < S18816.size a := fun i v10 v95 k0_hw364 k0_h2 => k0_hw364 k0_h2

def k0_chk365 (i : grid0.Coords) (v10 : BitVec 32) (v100 : IVec S16 32) : Prop :=
  (∀ (k0_h2 : k0_cond2 i v10 = 1#1), ∀ a x, ((![v100] : Fin 1 → IVec S16 32) a x).toNat < S18816.size a)
theorem k0_idx344_inb : ∀ (i : grid0.Coords) (v10 : BitVec 32) (v100 : IVec S16 32) (k0_hw365 : k0_chk365 i v10 v100), ∀ (k0_h2 : k0_cond2 i v10 = 1#1), ∀ a x, ((![v100] : Fin 1 → IVec S16 32) a x).toNat < S18816.size a := fun i v10 v100 k0_hw365 k0_h2 => k0_hw365 k0_h2

def k0_chk366 (i : grid0.Coords) (v10 : BitVec 32) (v105 : IVec S16 32) : Prop :=
  (∀ (k0_h2 : k0_cond2 i v10 = 1#1), ∀ a x, ((![v105] : Fin 1 → IVec S16 32) a x).toNat < S18816.size a)
theorem k0_idx345_inb : ∀ (i : grid0.Coords) (v10 : BitVec 32) (v105 : IVec S16 32) (k0_hw366 : k0_chk366 i v10 v105), ∀ (k0_h2 : k0_cond2 i v10 = 1#1), ∀ a x, ((![v105] : Fin 1 → IVec S16 32) a x).toNat < S18816.size a := fun i v10 v105 k0_hw366 k0_h2 => k0_hw366 k0_h2

def k0_chk367 (i : grid0.Coords) (v10 : BitVec 32) (v110 : IVec S16 32) : Prop :=
  (∀ (k0_h2 : k0_cond2 i v10 = 1#1), ∀ a x, ((![v110] : Fin 1 → IVec S16 32) a x).toNat < S18816.size a)
theorem k0_idx346_inb : ∀ (i : grid0.Coords) (v10 : BitVec 32) (v110 : IVec S16 32) (k0_hw367 : k0_chk367 i v10 v110), ∀ (k0_h2 : k0_cond2 i v10 = 1#1), ∀ a x, ((![v110] : Fin 1 → IVec S16 32) a x).toNat < S18816.size a := fun i v10 v110 k0_hw367 k0_h2 => k0_hw367 k0_h2

def k0_chk368 (i : grid0.Coords) (v10 : BitVec 32) (v115 : IVec S16 32) : Prop :=
  (∀ (k0_h2 : k0_cond2 i v10 = 1#1), ∀ a x, ((![v115] : Fin 1 → IVec S16 32) a x).toNat < S18816.size a)
theorem k0_idx347_inb : ∀ (i : grid0.Coords) (v10 : BitVec 32) (v115 : IVec S16 32) (k0_hw368 : k0_chk368 i v10 v115), ∀ (k0_h2 : k0_cond2 i v10 = 1#1), ∀ a x, ((![v115] : Fin 1 → IVec S16 32) a x).toNat < S18816.size a := fun i v10 v115 k0_hw368 k0_h2 => k0_hw368 k0_h2

def k0_chk369 (i : grid0.Coords) (v10 : BitVec 32) (v120 : IVec S16 32) : Prop :=
  (∀ (k0_h2 : k0_cond2 i v10 = 1#1), ∀ a x, ((![v120] : Fin 1 → IVec S16 32) a x).toNat < S18816.size a)
theorem k0_idx348_inb : ∀ (i : grid0.Coords) (v10 : BitVec 32) (v120 : IVec S16 32) (k0_hw369 : k0_chk369 i v10 v120), ∀ (k0_h2 : k0_cond2 i v10 = 1#1), ∀ a x, ((![v120] : Fin 1 → IVec S16 32) a x).toNat < S18816.size a := fun i v10 v120 k0_hw369 k0_h2 => k0_hw369 k0_h2

def k0_chk370 (i : grid0.Coords) (v10 : BitVec 32) (v125 : IVec S16 32) : Prop :=
  (∀ (k0_h2 : k0_cond2 i v10 = 1#1), ∀ a x, ((![v125] : Fin 1 → IVec S16 32) a x).toNat < S18816.size a)
theorem k0_idx349_inb : ∀ (i : grid0.Coords) (v10 : BitVec 32) (v125 : IVec S16 32) (k0_hw370 : k0_chk370 i v10 v125), ∀ (k0_h2 : k0_cond2 i v10 = 1#1), ∀ a x, ((![v125] : Fin 1 → IVec S16 32) a x).toNat < S18816.size a := fun i v10 v125 k0_hw370 k0_h2 => k0_hw370 k0_h2

def k0_chk371 (i : grid0.Coords) (v10 : BitVec 32) (v130 : IVec S16 32) : Prop :=
  (∀ (k0_h2 : k0_cond2 i v10 = 1#1), ∀ a x, ((![v130] : Fin 1 → IVec S16 32) a x).toNat < S18816.size a)
theorem k0_idx350_inb : ∀ (i : grid0.Coords) (v10 : BitVec 32) (v130 : IVec S16 32) (k0_hw371 : k0_chk371 i v10 v130), ∀ (k0_h2 : k0_cond2 i v10 = 1#1), ∀ a x, ((![v130] : Fin 1 → IVec S16 32) a x).toNat < S18816.size a := fun i v10 v130 k0_hw371 k0_h2 => k0_hw371 k0_h2

def k0_chk372 (i : grid0.Coords) (v10 : BitVec 32) (v135 : IVec S16 32) : Prop :=
  (∀ (k0_h2 : k0_cond2 i v10 = 1#1), ∀ a x, ((![v135] : Fin 1 → IVec S16 32) a x).toNat < S18816.size a)
theorem k0_idx351_inb : ∀ (i : grid0.Coords) (v10 : BitVec 32) (v135 : IVec S16 32) (k0_hw372 : k0_chk372 i v10 v135), ∀ (k0_h2 : k0_cond2 i v10 = 1#1), ∀ a x, ((![v135] : Fin 1 → IVec S16 32) a x).toNat < S18816.size a := fun i v10 v135 k0_hw372 k0_h2 => k0_hw372 k0_h2

def k0_chk373 (i : grid0.Coords) (v10 : BitVec 32) (v140 : IVec S16 32) : Prop :=
  (∀ (k0_h2 : k0_cond2 i v10 = 1#1), ∀ a x, ((![v140] : Fin 1 → IVec S16 32) a x).toNat < S18816.size a)
theorem k0_idx352_inb : ∀ (i : grid0.Coords) (v10 : BitVec 32) (v140 : IVec S16 32) (k0_hw373 : k0_chk373 i v10 v140), ∀ (k0_h2 : k0_cond2 i v10 = 1#1), ∀ a x, ((![v140] : Fin 1 → IVec S16 32) a x).toNat < S18816.size a := fun i v10 v140 k0_hw373 k0_h2 => k0_hw373 k0_h2

def k0_chk374 (i : grid0.Coords) (v10 : BitVec 32) (v145 : IVec S16 32) : Prop :=
  (∀ (k0_h2 : k0_cond2 i v10 = 1#1), ∀ a x, ((![v145] : Fin 1 → IVec S16 32) a x).toNat < S18816.size a)
theorem k0_idx353_inb : ∀ (i : grid0.Coords) (v10 : BitVec 32) (v145 : IVec S16 32) (k0_hw374 : k0_chk374 i v10 v145), ∀ (k0_h2 : k0_cond2 i v10 = 1#1), ∀ a x, ((![v145] : Fin 1 → IVec S16 32) a x).toNat < S18816.size a := fun i v10 v145 k0_hw374 k0_h2 => k0_hw374 k0_h2

def k0_chk375 (i : grid0.Coords) (v10 : BitVec 32) (v150 : IVec S16 32) : Prop :=
  (∀ (k0_h2 : k0_cond2 i v10 = 1#1), ∀ a x, ((![v150] : Fin 1 → IVec S16 32) a x).toNat < S18816.size a)
theorem k0_idx354_inb : ∀ (i : grid0.Coords) (v10 : BitVec 32) (v150 : IVec S16 32) (k0_hw375 : k0_chk375 i v10 v150), ∀ (k0_h2 : k0_cond2 i v10 = 1#1), ∀ a x, ((![v150] : Fin 1 → IVec S16 32) a x).toNat < S18816.size a := fun i v10 v150 k0_hw375 k0_h2 => k0_hw375 k0_h2

def k0_chk376 (i : grid0.Coords) (v10 : BitVec 32) (v155 : IVec S16 32) : Prop :=
  (∀ (k0_h2 : k0_cond2 i v10 = 1#1), ∀ a x, ((![v155] : Fin 1 → IVec S16 32) a x).toNat < S18816.size a)
theorem k0_idx355_inb : ∀ (i : grid0.Coords) (v10 : BitVec 32) (v155 : IVec S16 32) (k0_hw376 : k0_chk376 i v10 v155), ∀ (k0_h2 : k0_cond2 i v10 = 1#1), ∀ a x, ((![v155] : Fin 1 → IVec S16 32) a x).toNat < S18816.size a := fun i v10 v155 k0_hw376 k0_h2 => k0_hw376 k0_h2

def k0_chk377 (i : grid0.Coords) (v10 : BitVec 32) (v160 : IVec S16 32) : Prop :=
  (∀ (k0_h2 : k0_cond2 i v10 = 1#1), ∀ a x, ((![v160] : Fin 1 → IVec S16 32) a x).toNat < S18816.size a)
theorem k0_idx356_inb : ∀ (i : grid0.Coords) (v10 : BitVec 32) (v160 : IVec S16 32) (k0_hw377 : k0_chk377 i v10 v160), ∀ (k0_h2 : k0_cond2 i v10 = 1#1), ∀ a x, ((![v160] : Fin 1 → IVec S16 32) a x).toNat < S18816.size a := fun i v10 v160 k0_hw377 k0_h2 => k0_hw377 k0_h2

def k0_chk378 (i : grid0.Coords) (v10 : BitVec 32) (v165 : IVec S16 32) : Prop :=
  (∀ (k0_h2 : k0_cond2 i v10 = 1#1), ∀ a x, ((![v165] : Fin 1 → IVec S16 32) a x).toNat < S18816.size a)
theorem k0_idx357_inb : ∀ (i : grid0.Coords) (v10 : BitVec 32) (v165 : IVec S16 32) (k0_hw378 : k0_chk378 i v10 v165), ∀ (k0_h2 : k0_cond2 i v10 = 1#1), ∀ a x, ((![v165] : Fin 1 → IVec S16 32) a x).toNat < S18816.size a := fun i v10 v165 k0_hw378 k0_h2 => k0_hw378 k0_h2

def k0_chk379 (i : grid0.Coords) (v10 : BitVec 32) (v170 : IVec S16 32) : Prop :=
  (∀ (k0_h2 : k0_cond2 i v10 = 1#1), ∀ a x, ((![v170] : Fin 1 → IVec S16 32) a x).toNat < S18816.size a)
theorem k0_idx358_inb : ∀ (i : grid0.Coords) (v10 : BitVec 32) (v170 : IVec S16 32) (k0_hw379 : k0_chk379 i v10 v170), ∀ (k0_h2 : k0_cond2 i v10 = 1#1), ∀ a x, ((![v170] : Fin 1 → IVec S16 32) a x).toNat < S18816.size a := fun i v10 v170 k0_hw379 k0_h2 => k0_hw379 k0_h2

def k0_chk380 (i : grid0.Coords) (v10 : BitVec 32) (v175 : IVec S16 32) : Prop :=
  (∀ (k0_h2 : k0_cond2 i v10 = 1#1), ∀ a x, ((![v175] : Fin 1 → IVec S16 32) a x).toNat < S18816.size a)
theorem k0_idx359_inb : ∀ (i : grid0.Coords) (v10 : BitVec 32) (v175 : IVec S16 32) (k0_hw380 : k0_chk380 i v10 v175), ∀ (k0_h2 : k0_cond2 i v10 = 1#1), ∀ a x, ((![v175] : Fin 1 → IVec S16 32) a x).toNat < S18816.size a := fun i v10 v175 k0_hw380 k0_h2 => k0_hw380 k0_h2

def k0_chk381 (i : grid0.Coords) (v10 : BitVec 32) (v180 : IVec S16 32) : Prop :=
  (∀ (k0_h2 : k0_cond2 i v10 = 1#1), ∀ a x, ((![v180] : Fin 1 → IVec S16 32) a x).toNat < S18816.size a)
theorem k0_idx360_inb : ∀ (i : grid0.Coords) (v10 : BitVec 32) (v180 : IVec S16 32) (k0_hw381 : k0_chk381 i v10 v180), ∀ (k0_h2 : k0_cond2 i v10 = 1#1), ∀ a x, ((![v180] : Fin 1 → IVec S16 32) a x).toNat < S18816.size a := fun i v10 v180 k0_hw381 k0_h2 => k0_hw381 k0_h2
@[reducible] def k0_t98_loop (v41 : BitVec 32) (v43 : BitVec 32) : Scf.Loop 32 :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_56 : BitVec 32 := 1#32
  ⟨v41, v190, c1_i32_56⟩
@[reducible] def k0_t99_loop (v182 : BitVec 32) (v184 : BitVec 32) : Scf.Loop 32 :=
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_375 : BitVec 32 := 1#32
  ⟨v182, v1008, c1_i32_375⟩

def k0_off1451 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1012 : Index := Scalar.indexCast v1011
  let c0_377 : Index := 0#32
  ![v1012.toNat, 0]
def k0_off1452 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1015 : Index := Scalar.indexCast v1011
  let c16 : Index := 16#32
  ![v1015.toNat, 16]
def k0_off1453 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1018 : Index := Scalar.indexCast v1011
  let c32 : Index := 32#32
  ![v1018.toNat, 32]
def k0_off1454 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1021 : Index := Scalar.indexCast v1011
  let c48 : Index := 48#32
  ![v1021.toNat, 48]
def k0_off1455 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1024 : Index := Scalar.indexCast v1011
  let c64 : Index := 64#32
  ![v1024.toNat, 64]
def k0_off1456 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1027 : Index := Scalar.indexCast v1011
  let c80 : Index := 80#32
  ![v1027.toNat, 80]
def k0_off1457 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1030 : Index := Scalar.indexCast v1011
  let c96 : Index := 96#32
  ![v1030.toNat, 96]
def k0_off1458 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1033 : Index := Scalar.indexCast v1011
  let c112 : Index := 112#32
  ![v1033.toNat, 112]
def k0_off1459 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1036 : Index := Scalar.indexCast v1011
  let c128 : Index := 128#32
  ![v1036.toNat, 128]
def k0_off1460 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1039 : Index := Scalar.indexCast v1011
  let c144 : Index := 144#32
  ![v1039.toNat, 144]
def k0_off1461 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1042 : Index := Scalar.indexCast v1011
  let c160 : Index := 160#32
  ![v1042.toNat, 160]
def k0_off1462 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1045 : Index := Scalar.indexCast v1011
  let c176 : Index := 176#32
  ![v1045.toNat, 176]
def k0_off1463 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1048 : Index := Scalar.indexCast v1011
  let c192 : Index := 192#32
  ![v1048.toNat, 192]
def k0_off1464 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1051 : Index := Scalar.indexCast v1011
  let c208 : Index := 208#32
  ![v1051.toNat, 208]
def k0_off1465 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1054 : Index := Scalar.indexCast v1011
  let c224 : Index := 224#32
  ![v1054.toNat, 224]
def k0_off1466 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1057 : Index := Scalar.indexCast v1011
  let c240 : Index := 240#32
  ![v1057.toNat, 240]
def k0_off1467 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1060 : Index := Scalar.indexCast v1011
  let c256 : Index := 256#32
  ![v1060.toNat, 256]
def k0_off1468 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1063 : Index := Scalar.indexCast v1011
  let c272 : Index := 272#32
  ![v1063.toNat, 272]
def k0_off1469 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1066 : Index := Scalar.indexCast v1011
  let c288 : Index := 288#32
  ![v1066.toNat, 288]
def k0_off1470 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1069 : Index := Scalar.indexCast v1011
  let c304 : Index := 304#32
  ![v1069.toNat, 304]
def k0_off1471 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1072 : Index := Scalar.indexCast v1011
  let c320 : Index := 320#32
  ![v1072.toNat, 320]
def k0_off1472 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1075 : Index := Scalar.indexCast v1011
  let c336 : Index := 336#32
  ![v1075.toNat, 336]
def k0_off1473 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1078 : Index := Scalar.indexCast v1011
  let c352 : Index := 352#32
  ![v1078.toNat, 352]
def k0_off1474 (v41 : BitVec 32) (v43 : BitVec 32) (v182 : BitVec 32) (v184 : BitVec 32) (k0_t98 : Fin (k0_t98_loop v41 v43).trips) (k0_t99 : Fin (k0_t99_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let c1_i32_375 : BitVec 32 := 1#32
  let arg36 : BitVec 32 := Scf.iv v182 c1_i32_375 k0_t99
  let v1011 : BitVec 32 := Scalar.addi v1003 arg36
  let v1081 : Index := Scalar.indexCast v1011
  let c368 : Index := 368#32
  ![v1081.toNat, 368]
@[reducible] def k0_t100_loop (v182 : BitVec 32) (v184 : BitVec 32) : Scf.Loop 32 :=
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let v1005 : BitVec 32 := Scalar.addi v182 v1004
  let c1_i32_376 : BitVec 32 := 1#32
  ⟨v1008, v1005, c1_i32_376⟩
def k0_off1475 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1012 : Index := Scalar.indexCast v1011
  let c0_377 : Index := 0#32
  ![v1012.toNat, 0]
def k0_off1476 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1015 : Index := Scalar.indexCast v1011
  let c16 : Index := 16#32
  ![v1015.toNat, 16]
def k0_off1477 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1018 : Index := Scalar.indexCast v1011
  let c32 : Index := 32#32
  ![v1018.toNat, 32]
def k0_off1478 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1021 : Index := Scalar.indexCast v1011
  let c48 : Index := 48#32
  ![v1021.toNat, 48]
def k0_off1479 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1024 : Index := Scalar.indexCast v1011
  let c64 : Index := 64#32
  ![v1024.toNat, 64]
def k0_off1480 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1027 : Index := Scalar.indexCast v1011
  let c80 : Index := 80#32
  ![v1027.toNat, 80]
def k0_off1481 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1030 : Index := Scalar.indexCast v1011
  let c96 : Index := 96#32
  ![v1030.toNat, 96]
def k0_off1482 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1033 : Index := Scalar.indexCast v1011
  let c112 : Index := 112#32
  ![v1033.toNat, 112]
def k0_off1483 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1036 : Index := Scalar.indexCast v1011
  let c128 : Index := 128#32
  ![v1036.toNat, 128]
def k0_off1484 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1039 : Index := Scalar.indexCast v1011
  let c144 : Index := 144#32
  ![v1039.toNat, 144]
def k0_off1485 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1042 : Index := Scalar.indexCast v1011
  let c160 : Index := 160#32
  ![v1042.toNat, 160]
def k0_off1486 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1045 : Index := Scalar.indexCast v1011
  let c176 : Index := 176#32
  ![v1045.toNat, 176]
def k0_off1487 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1048 : Index := Scalar.indexCast v1011
  let c192 : Index := 192#32
  ![v1048.toNat, 192]
def k0_off1488 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1051 : Index := Scalar.indexCast v1011
  let c208 : Index := 208#32
  ![v1051.toNat, 208]
def k0_off1489 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1054 : Index := Scalar.indexCast v1011
  let c224 : Index := 224#32
  ![v1054.toNat, 224]
def k0_off1490 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1057 : Index := Scalar.indexCast v1011
  let c240 : Index := 240#32
  ![v1057.toNat, 240]
def k0_off1491 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1060 : Index := Scalar.indexCast v1011
  let c256 : Index := 256#32
  ![v1060.toNat, 256]
def k0_off1492 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1063 : Index := Scalar.indexCast v1011
  let c272 : Index := 272#32
  ![v1063.toNat, 272]
def k0_off1493 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1066 : Index := Scalar.indexCast v1011
  let c288 : Index := 288#32
  ![v1066.toNat, 288]
def k0_off1494 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1069 : Index := Scalar.indexCast v1011
  let c304 : Index := 304#32
  ![v1069.toNat, 304]
def k0_off1495 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1072 : Index := Scalar.indexCast v1011
  let c320 : Index := 320#32
  ![v1072.toNat, 320]
def k0_off1496 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1075 : Index := Scalar.indexCast v1011
  let c336 : Index := 336#32
  ![v1075.toNat, 336]
def k0_off1497 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1078 : Index := Scalar.indexCast v1011
  let c352 : Index := 352#32
  ![v1078.toNat, 352]
def k0_off1498 (v41 : BitVec 32) (v43 : BitVec 32) (v182 : BitVec 32) (v184 : BitVec 32) (k0_t98 : Fin (k0_t98_loop v41 v43).trips) (k0_t100 : Fin (k0_t100_loop v182 v184).trips) : Fin 2 → Nat :=
  let c1_i32_56 : BitVec 32 := 1#32
  let arg11 : BitVec 32 := Scf.iv v41 c1_i32_56 k0_t98
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t100
  let v1011 : BitVec 32 := Scalar.addi v1003 arg36
  let v1081 : Index := Scalar.indexCast v1011
  let c368 : Index := 368#32
  ![v1081.toNat, 368]
@[reducible] def k0_t101_loop (v41 : BitVec 32) (v43 : BitVec 32) : Scf.Loop 32 :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let v187 : BitVec 32 := Scalar.addi v41 v186
  let c1_i32_57 : BitVec 32 := 1#32
  ⟨v190, v187, c1_i32_57⟩
@[reducible] def k0_t102_loop (v182 : BitVec 32) (v184 : BitVec 32) : Scf.Loop 32 :=
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_375 : BitVec 32 := 1#32
  ⟨v182, v1008, c1_i32_375⟩
def k0_off1499 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1012 : Index := Scalar.indexCast v1011
  let c0_377 : Index := 0#32
  ![v1012.toNat, 0]
def k0_off1500 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1015 : Index := Scalar.indexCast v1011
  let c16 : Index := 16#32
  ![v1015.toNat, 16]
def k0_off1501 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1018 : Index := Scalar.indexCast v1011
  let c32 : Index := 32#32
  ![v1018.toNat, 32]
def k0_off1502 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1021 : Index := Scalar.indexCast v1011
  let c48 : Index := 48#32
  ![v1021.toNat, 48]
def k0_off1503 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1024 : Index := Scalar.indexCast v1011
  let c64 : Index := 64#32
  ![v1024.toNat, 64]
def k0_off1504 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1027 : Index := Scalar.indexCast v1011
  let c80 : Index := 80#32
  ![v1027.toNat, 80]
def k0_off1505 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1030 : Index := Scalar.indexCast v1011
  let c96 : Index := 96#32
  ![v1030.toNat, 96]
def k0_off1506 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1033 : Index := Scalar.indexCast v1011
  let c112 : Index := 112#32
  ![v1033.toNat, 112]
def k0_off1507 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1036 : Index := Scalar.indexCast v1011
  let c128 : Index := 128#32
  ![v1036.toNat, 128]
def k0_off1508 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1039 : Index := Scalar.indexCast v1011
  let c144 : Index := 144#32
  ![v1039.toNat, 144]
def k0_off1509 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1042 : Index := Scalar.indexCast v1011
  let c160 : Index := 160#32
  ![v1042.toNat, 160]
def k0_off1510 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1045 : Index := Scalar.indexCast v1011
  let c176 : Index := 176#32
  ![v1045.toNat, 176]
def k0_off1511 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1048 : Index := Scalar.indexCast v1011
  let c192 : Index := 192#32
  ![v1048.toNat, 192]
def k0_off1512 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1051 : Index := Scalar.indexCast v1011
  let c208 : Index := 208#32
  ![v1051.toNat, 208]
def k0_off1513 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1054 : Index := Scalar.indexCast v1011
  let c224 : Index := 224#32
  ![v1054.toNat, 224]
def k0_off1514 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1057 : Index := Scalar.indexCast v1011
  let c240 : Index := 240#32
  ![v1057.toNat, 240]
def k0_off1515 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1060 : Index := Scalar.indexCast v1011
  let c256 : Index := 256#32
  ![v1060.toNat, 256]
def k0_off1516 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1063 : Index := Scalar.indexCast v1011
  let c272 : Index := 272#32
  ![v1063.toNat, 272]
def k0_off1517 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1066 : Index := Scalar.indexCast v1011
  let c288 : Index := 288#32
  ![v1066.toNat, 288]
def k0_off1518 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1069 : Index := Scalar.indexCast v1011
  let c304 : Index := 304#32
  ![v1069.toNat, 304]
def k0_off1519 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1072 : Index := Scalar.indexCast v1011
  let c320 : Index := 320#32
  ![v1072.toNat, 320]
def k0_off1520 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1075 : Index := Scalar.indexCast v1011
  let c336 : Index := 336#32
  ![v1075.toNat, 336]
def k0_off1521 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1078 : Index := Scalar.indexCast v1011
  let c352 : Index := 352#32
  ![v1078.toNat, 352]
def k0_off1522 (v41 : BitVec 32) (v43 : BitVec 32) (v182 : BitVec 32) (v184 : BitVec 32) (k0_t101 : Fin (k0_t101_loop v41 v43).trips) (k0_t102 : Fin (k0_t102_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let c1_i32_375 : BitVec 32 := 1#32
  let arg36 : BitVec 32 := Scf.iv v182 c1_i32_375 k0_t102
  let v1011 : BitVec 32 := Scalar.addi v1003 arg36
  let v1081 : Index := Scalar.indexCast v1011
  let c368 : Index := 368#32
  ![v1081.toNat, 368]
@[reducible] def k0_t103_loop (v182 : BitVec 32) (v184 : BitVec 32) : Scf.Loop 32 :=
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let v1005 : BitVec 32 := Scalar.addi v182 v1004
  let c1_i32_376 : BitVec 32 := 1#32
  ⟨v1008, v1005, c1_i32_376⟩
def k0_off1523 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1012 : Index := Scalar.indexCast v1011
  let c0_377 : Index := 0#32
  ![v1012.toNat, 0]
def k0_off1524 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1015 : Index := Scalar.indexCast v1011
  let c16 : Index := 16#32
  ![v1015.toNat, 16]
def k0_off1525 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1018 : Index := Scalar.indexCast v1011
  let c32 : Index := 32#32
  ![v1018.toNat, 32]
def k0_off1526 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1021 : Index := Scalar.indexCast v1011
  let c48 : Index := 48#32
  ![v1021.toNat, 48]
def k0_off1527 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1024 : Index := Scalar.indexCast v1011
  let c64 : Index := 64#32
  ![v1024.toNat, 64]
def k0_off1528 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1027 : Index := Scalar.indexCast v1011
  let c80 : Index := 80#32
  ![v1027.toNat, 80]
def k0_off1529 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1030 : Index := Scalar.indexCast v1011
  let c96 : Index := 96#32
  ![v1030.toNat, 96]
def k0_off1530 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1033 : Index := Scalar.indexCast v1011
  let c112 : Index := 112#32
  ![v1033.toNat, 112]
def k0_off1531 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1036 : Index := Scalar.indexCast v1011
  let c128 : Index := 128#32
  ![v1036.toNat, 128]
def k0_off1532 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1039 : Index := Scalar.indexCast v1011
  let c144 : Index := 144#32
  ![v1039.toNat, 144]
def k0_off1533 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1042 : Index := Scalar.indexCast v1011
  let c160 : Index := 160#32
  ![v1042.toNat, 160]
def k0_off1534 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1045 : Index := Scalar.indexCast v1011
  let c176 : Index := 176#32
  ![v1045.toNat, 176]
def k0_off1535 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1048 : Index := Scalar.indexCast v1011
  let c192 : Index := 192#32
  ![v1048.toNat, 192]
def k0_off1536 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1051 : Index := Scalar.indexCast v1011
  let c208 : Index := 208#32
  ![v1051.toNat, 208]
def k0_off1537 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1054 : Index := Scalar.indexCast v1011
  let c224 : Index := 224#32
  ![v1054.toNat, 224]
def k0_off1538 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1057 : Index := Scalar.indexCast v1011
  let c240 : Index := 240#32
  ![v1057.toNat, 240]
def k0_off1539 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1060 : Index := Scalar.indexCast v1011
  let c256 : Index := 256#32
  ![v1060.toNat, 256]
def k0_off1540 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1063 : Index := Scalar.indexCast v1011
  let c272 : Index := 272#32
  ![v1063.toNat, 272]
def k0_off1541 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1066 : Index := Scalar.indexCast v1011
  let c288 : Index := 288#32
  ![v1066.toNat, 288]
def k0_off1542 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1069 : Index := Scalar.indexCast v1011
  let c304 : Index := 304#32
  ![v1069.toNat, 304]
def k0_off1543 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1072 : Index := Scalar.indexCast v1011
  let c320 : Index := 320#32
  ![v1072.toNat, 320]
def k0_off1544 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1075 : Index := Scalar.indexCast v1011
  let c336 : Index := 336#32
  ![v1075.toNat, 336]
def k0_off1545 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1078 : Index := Scalar.indexCast v1011
  let c352 : Index := 352#32
  ![v1078.toNat, 352]
def k0_off1546 (v41 : BitVec 32) (v43 : BitVec 32) (v182 : BitVec 32) (v184 : BitVec 32) (k0_t101 : Fin (k0_t101_loop v41 v43).trips) (k0_t103 : Fin (k0_t103_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t101
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t103
  let v1011 : BitVec 32 := Scalar.addi v1003 arg36
  let v1081 : Index := Scalar.indexCast v1011
  let c368 : Index := 368#32
  ![v1081.toNat, 368]

def k0_chk382_0 (i : grid0.Coords) (v10 : BitVec 32) (v41 : BitVec 32) (v43 : BitVec 32) (v182 : BitVec 32) (v184 : BitVec 32) : Prop :=
  (∀ k0_t98 : Fin (k0_t98_loop v41 v43).trips, ∀ (k0_h2 : k0_cond2 i v10 = 1#1), (k0_t99_loop v182 v184).OK) ∧
  (∀ (k0_t98 : Fin (k0_t98_loop v41 v43).trips) (k0_t99 : Fin (k0_t99_loop v182 v184).trips), ∀ (k0_h2 : k0_cond2 i v10 = 1#1), ∀ a, (k0_off1451 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1452 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1453 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1454 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1455 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1456 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1457 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1458 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1459 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1460 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1461 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1462 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1463 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1464 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1465 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1466 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1467 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1468 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1469 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1470 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1471 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1472 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1473 v41 v43 v182 v184 k0_t98 k0_t99) a + S1x16.size a ≤ S196x384.size a) ∧
  (∀ (k0_t98 : Fin (k0_t98_loop v41 v43).trips) (k0_t99 : Fin (k0_t99_loop v182 v184).trips), ∀ (k0_h2 : k0_cond2 i v10 = 1#1), ∀ a, (k0_off1474 v41 v43 v182 v184 k0_t98 k0_t99) a + S1x16.size a ≤ S196x384.size a) ∧
  (∀ k0_t98 : Fin (k0_t98_loop v41 v43).trips, ∀ (k0_h2 : k0_cond2 i v10 = 1#1), (k0_t100_loop v182 v184).OK) ∧
  (∀ (k0_t98 : Fin (k0_t98_loop v41 v43).trips) (k0_t100 : Fin (k0_t100_loop v182 v184).trips), ∀ (k0_h2 : k0_cond2 i v10 = 1#1), ∀ a, (k0_off1475 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1476 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1477 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1478 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1479 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1480 v41 v43 v182 v184 k0_t98 k0_t100) a + S1x16.size a ≤ S196x384.size a)
def k0_chk382_1 (i : grid0.Coords) (v10 : BitVec 32) (v41 : BitVec 32) (v43 : BitVec 32) (v182 : BitVec 32) (v184 : BitVec 32) : Prop :=
  (∀ (k0_t98 : Fin (k0_t98_loop v41 v43).trips) (k0_t100 : Fin (k0_t100_loop v182 v184).trips), ∀ (k0_h2 : k0_cond2 i v10 = 1#1), ∀ a, (k0_off1481 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1482 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1483 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1484 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1485 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1486 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1487 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1488 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1489 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1490 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1491 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1492 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1493 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1494 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1495 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1496 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1497 v41 v43 v182 v184 k0_t98 k0_t100) a + S1x16.size a ≤ S196x384.size a) ∧
  (∀ (k0_t98 : Fin (k0_t98_loop v41 v43).trips) (k0_t100 : Fin (k0_t100_loop v182 v184).trips), ∀ (k0_h2 : k0_cond2 i v10 = 1#1), ∀ a, (k0_off1498 v41 v43 v182 v184 k0_t98 k0_t100) a + S1x16.size a ≤ S196x384.size a) ∧
  (∀ k0_t101 : Fin (k0_t101_loop v41 v43).trips, ∀ (k0_h2 : k0_cond2 i v10 = 1#1), (k0_t102_loop v182 v184).OK) ∧
  (∀ (k0_t101 : Fin (k0_t101_loop v41 v43).trips) (k0_t102 : Fin (k0_t102_loop v182 v184).trips), ∀ (k0_h2 : k0_cond2 i v10 = 1#1), ∀ a, (k0_off1499 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1500 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1501 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1502 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1503 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1504 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1505 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1506 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1507 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1508 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1509 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1510 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1511 v41 v43 v182 v184 k0_t101 k0_t102) a + S1x16.size a ≤ S196x384.size a)
def k0_chk382_2 (i : grid0.Coords) (v10 : BitVec 32) (v41 : BitVec 32) (v43 : BitVec 32) (v182 : BitVec 32) (v184 : BitVec 32) : Prop :=
  (∀ (k0_t101 : Fin (k0_t101_loop v41 v43).trips) (k0_t102 : Fin (k0_t102_loop v182 v184).trips), ∀ (k0_h2 : k0_cond2 i v10 = 1#1), ∀ a, (k0_off1512 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1513 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1514 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1515 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1516 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1517 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1518 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1519 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1520 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1521 v41 v43 v182 v184 k0_t101 k0_t102) a + S1x16.size a ≤ S196x384.size a) ∧
  (∀ (k0_t101 : Fin (k0_t101_loop v41 v43).trips) (k0_t102 : Fin (k0_t102_loop v182 v184).trips), ∀ (k0_h2 : k0_cond2 i v10 = 1#1), ∀ a, (k0_off1522 v41 v43 v182 v184 k0_t101 k0_t102) a + S1x16.size a ≤ S196x384.size a) ∧
  (∀ k0_t101 : Fin (k0_t101_loop v41 v43).trips, ∀ (k0_h2 : k0_cond2 i v10 = 1#1), (k0_t103_loop v182 v184).OK) ∧
  (∀ (k0_t101 : Fin (k0_t101_loop v41 v43).trips) (k0_t103 : Fin (k0_t103_loop v182 v184).trips), ∀ (k0_h2 : k0_cond2 i v10 = 1#1), ∀ a, (k0_off1523 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1524 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1525 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1526 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1527 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1528 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1529 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1530 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1531 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1532 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1533 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1534 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1535 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1536 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1537 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1538 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1539 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1540 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1541 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1542 v41 v43 v182 v184 k0_t101 k0_t103) a + S1x16.size a ≤ S196x384.size a)
def k0_chk382_3 (i : grid0.Coords) (v10 : BitVec 32) (v41 : BitVec 32) (v43 : BitVec 32) (v182 : BitVec 32) (v184 : BitVec 32) : Prop :=
  (∀ (k0_t101 : Fin (k0_t101_loop v41 v43).trips) (k0_t103 : Fin (k0_t103_loop v182 v184).trips), ∀ (k0_h2 : k0_cond2 i v10 = 1#1), ∀ a, (k0_off1543 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1544 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1545 v41 v43 v182 v184 k0_t101 k0_t103) a + S1x16.size a ≤ S196x384.size a) ∧
  (∀ (k0_t101 : Fin (k0_t101_loop v41 v43).trips) (k0_t103 : Fin (k0_t103_loop v182 v184).trips), ∀ (k0_h2 : k0_cond2 i v10 = 1#1), ∀ a, (k0_off1546 v41 v43 v182 v184 k0_t101 k0_t103) a + S1x16.size a ≤ S196x384.size a)
def k0_chk382 (i : grid0.Coords) (v10 : BitVec 32) (v41 : BitVec 32) (v43 : BitVec 32) (v182 : BitVec 32) (v184 : BitVec 32) : Prop :=
  k0_chk382_0 i v10 v41 v43 v182 v184 ∧
  k0_chk382_1 i v10 v41 v43 v182 v184 ∧
  k0_chk382_2 i v10 v41 v43 v182 v184 ∧
  k0_chk382_3 i v10 v41 v43 v182 v184
theorem k0_t99_ok : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips), ∀ (k0_h2 : k0_cond2 i v10 = 1#1), (k0_t99_loop v182 v184).OK := fun i v10 v41 v43 v182 v184 k0_hw382 k0_t98 k0_h2 => k0_hw382.1.1 k0_t98 k0_h2
theorem k0_off1451_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1451 v41 v43 v182 v184 k0_t98 k0_t99) a + S1x16.size a ≤ S196x384.size a := fun i v10 v41 v43 v182 v184 k0_hw382 k0_t98 k0_t99 k0_h2 => k0_hw382.1.2.1 k0_t98 k0_t99 k0_h2
theorem k0_off1452_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1452 v41 v43 v182 v184 k0_t98 k0_t99) a + S1x16.size a ≤ S196x384.size a := fun i v10 v41 v43 v182 v184 k0_hw382 k0_t98 k0_t99 k0_h2 => k0_hw382.1.2.2.1 k0_t98 k0_t99 k0_h2
theorem k0_off1453_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1453 v41 v43 v182 v184 k0_t98 k0_t99) a + S1x16.size a ≤ S196x384.size a := fun i v10 v41 v43 v182 v184 k0_hw382 k0_t98 k0_t99 k0_h2 => k0_hw382.1.2.2.2.1 k0_t98 k0_t99 k0_h2
theorem k0_off1454_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1454 v41 v43 v182 v184 k0_t98 k0_t99) a + S1x16.size a ≤ S196x384.size a := fun i v10 v41 v43 v182 v184 k0_hw382 k0_t98 k0_t99 k0_h2 => k0_hw382.1.2.2.2.2.1 k0_t98 k0_t99 k0_h2
theorem k0_off1455_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1455 v41 v43 v182 v184 k0_t98 k0_t99) a + S1x16.size a ≤ S196x384.size a := fun i v10 v41 v43 v182 v184 k0_hw382 k0_t98 k0_t99 k0_h2 => k0_hw382.1.2.2.2.2.2.1 k0_t98 k0_t99 k0_h2
theorem k0_off1456_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1456 v41 v43 v182 v184 k0_t98 k0_t99) a + S1x16.size a ≤ S196x384.size a := fun i v10 v41 v43 v182 v184 k0_hw382 k0_t98 k0_t99 k0_h2 => k0_hw382.1.2.2.2.2.2.2.1 k0_t98 k0_t99 k0_h2
theorem k0_off1457_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1457 v41 v43 v182 v184 k0_t98 k0_t99) a + S1x16.size a ≤ S196x384.size a := fun i v10 v41 v43 v182 v184 k0_hw382 k0_t98 k0_t99 k0_h2 => k0_hw382.1.2.2.2.2.2.2.2.1 k0_t98 k0_t99 k0_h2
theorem k0_off1458_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1458 v41 v43 v182 v184 k0_t98 k0_t99) a + S1x16.size a ≤ S196x384.size a := fun i v10 v41 v43 v182 v184 k0_hw382 k0_t98 k0_t99 k0_h2 => k0_hw382.1.2.2.2.2.2.2.2.2.1 k0_t98 k0_t99 k0_h2
theorem k0_off1459_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1459 v41 v43 v182 v184 k0_t98 k0_t99) a + S1x16.size a ≤ S196x384.size a := fun i v10 v41 v43 v182 v184 k0_hw382 k0_t98 k0_t99 k0_h2 => k0_hw382.1.2.2.2.2.2.2.2.2.2.1 k0_t98 k0_t99 k0_h2
theorem k0_off1460_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1460 v41 v43 v182 v184 k0_t98 k0_t99) a + S1x16.size a ≤ S196x384.size a := fun i v10 v41 v43 v182 v184 k0_hw382 k0_t98 k0_t99 k0_h2 => k0_hw382.1.2.2.2.2.2.2.2.2.2.2.1 k0_t98 k0_t99 k0_h2
theorem k0_off1461_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1461 v41 v43 v182 v184 k0_t98 k0_t99) a + S1x16.size a ≤ S196x384.size a := fun i v10 v41 v43 v182 v184 k0_hw382 k0_t98 k0_t99 k0_h2 => k0_hw382.1.2.2.2.2.2.2.2.2.2.2.2.1 k0_t98 k0_t99 k0_h2
theorem k0_off1462_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1462 v41 v43 v182 v184 k0_t98 k0_t99) a + S1x16.size a ≤ S196x384.size a := fun i v10 v41 v43 v182 v184 k0_hw382 k0_t98 k0_t99 k0_h2 => k0_hw382.1.2.2.2.2.2.2.2.2.2.2.2.2.1 k0_t98 k0_t99 k0_h2
theorem k0_off1463_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1463 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.1 k0_t98 k0_t99 k0_h2
theorem k0_off1464_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1464 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.1 k0_t98 k0_t99 k0_h2
theorem k0_off1465_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1465 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.1 k0_t98 k0_t99 k0_h2
theorem k0_off1466_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1466 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.2.1 k0_t98 k0_t99 k0_h2
theorem k0_off1467_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1467 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.2.2.1 k0_t98 k0_t99 k0_h2
theorem k0_off1468_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1468 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.2.2.2.1 k0_t98 k0_t99 k0_h2
theorem k0_off1469_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1469 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.2.2.2.2.1 k0_t98 k0_t99 k0_h2
theorem k0_off1470_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1470 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.2.2.2.2.2.1 k0_t98 k0_t99 k0_h2
theorem k0_off1471_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1471 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.2.2.2.2.2.2.1 k0_t98 k0_t99 k0_h2
theorem k0_off1472_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1472 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.2.2.2.2.2.2.2.1 k0_t98 k0_t99 k0_h2
theorem k0_off1473_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1473 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.2.2.2.2.2.2.2.2.1 k0_t98 k0_t99 k0_h2
theorem k0_off1474_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t99 : Fin (k0_t99_loop v182 v184).trips), ∀ (k0_h2 : k0_cond2 i v10 = 1#1), ∀ a, (k0_off1474 v41 v43 v182 v184 k0_t98 k0_t99) a + S1x16.size a ≤ S196x384.size a := fun i v10 v41 v43 v182 v184 k0_hw382 k0_t98 k0_t99 k0_h2 => k0_hw382.1.2.2.2.2.2.2.2.2.2.2.2.2.2.2.2.2.2.2.2.2.2.2.2.2.1 k0_t98 k0_t99 k0_h2
theorem k0_t100_ok : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips), ∀ (k0_h2 : k0_cond2 i v10 = 1#1), (k0_t100_loop v182 v184).OK := fun i v10 v41 v43 v182 v184 k0_hw382 k0_t98 k0_h2 => k0_hw382.1.2.2.2.2.2.2.2.2.2.2.2.2.2.2.2.2.2.2.2.2.2.2.2.2.2.1 k0_t98 k0_h2
theorem k0_off1475_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1475 v41 v43 v182 v184 k0_t98 k0_t100) a + S1x16.size a ≤ S196x384.size a := fun i v10 v41 v43 v182 v184 k0_hw382 k0_t98 k0_t100 k0_h2 => k0_hw382.1.2.2.2.2.2.2.2.2.2.2.2.2.2.2.2.2.2.2.2.2.2.2.2.2.2.2.1 k0_t98 k0_t100 k0_h2
theorem k0_off1476_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1476 v41 v43 v182 v184 k0_t98 k0_t100) a + S1x16.size a ≤ S196x384.size a := fun i v10 v41 v43 v182 v184 k0_hw382 k0_t98 k0_t100 k0_h2 => k0_hw382.1.2.2.2.2.2.2.2.2.2.2.2.2.2.2.2.2.2.2.2.2.2.2.2.2.2.2.2.1 k0_t98 k0_t100 k0_h2
theorem k0_off1477_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1477 v41 v43 v182 v184 k0_t98 k0_t100) a + S1x16.size a ≤ S196x384.size a := fun i v10 v41 v43 v182 v184 k0_hw382 k0_t98 k0_t100 k0_h2 => k0_hw382.1.2.2.2.2.2.2.2.2.2.2.2.2.2.2.2.2.2.2.2.2.2.2.2.2.2.2.2.2.1 k0_t98 k0_t100 k0_h2
theorem k0_off1478_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1478 v41 v43 v182 v184 k0_t98 k0_t100) a + S1x16.size a ≤ S196x384.size a := fun i v10 v41 v43 v182 v184 k0_hw382 k0_t98 k0_t100 k0_h2 => k0_hw382.1.2.2.2.2.2.2.2.2.2.2.2.2.2.2.2.2.2.2.2.2.2.2.2.2.2.2.2.2.2.1 k0_t98 k0_t100 k0_h2
theorem k0_off1479_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1479 v41 v43 v182 v184 k0_t98 k0_t100) a + S1x16.size a ≤ S196x384.size a := fun i v10 v41 v43 v182 v184 k0_hw382 k0_t98 k0_t100 k0_h2 => k0_hw382.1.2.2.2.2.2.2.2.2.2.2.2.2.2.2.2.2.2.2.2.2.2.2.2.2.2.2.2.2.2.2.1 k0_t98 k0_t100 k0_h2
theorem k0_off1480_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1480 v41 v43 v182 v184 k0_t98 k0_t100) a + S1x16.size a ≤ S196x384.size a := fun i v10 v41 v43 v182 v184 k0_hw382 k0_t98 k0_t100 k0_h2 => k0_hw382.1.2.2.2.2.2.2.2.2.2.2.2.2.2.2.2.2.2.2.2.2.2.2.2.2.2.2.2.2.2.2.2 k0_t98 k0_t100 k0_h2
theorem k0_off1481_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1481 v41 v43 v182 v184 k0_t98 k0_t100) a + S1x16.size a ≤ S196x384.size a := fun i v10 v41 v43 v182 v184 k0_hw382 k0_t98 k0_t100 k0_h2 => k0_hw382.2.1.1 k0_t98 k0_t100 k0_h2
theorem k0_off1482_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1482 v41 v43 v182 v184 k0_t98 k0_t100) a + S1x16.size a ≤ S196x384.size a := fun i v10 v41 v43 v182 v184 k0_hw382 k0_t98 k0_t100 k0_h2 => k0_hw382.2.1.2.1 k0_t98 k0_t100 k0_h2
theorem k0_off1483_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1483 v41 v43 v182 v184 k0_t98 k0_t100) a + S1x16.size a ≤ S196x384.size a := fun i v10 v41 v43 v182 v184 k0_hw382 k0_t98 k0_t100 k0_h2 => k0_hw382.2.1.2.2.1 k0_t98 k0_t100 k0_h2
theorem k0_off1484_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1484 v41 v43 v182 v184 k0_t98 k0_t100) a + S1x16.size a ≤ S196x384.size a := fun i v10 v41 v43 v182 v184 k0_hw382 k0_t98 k0_t100 k0_h2 => k0_hw382.2.1.2.2.2.1 k0_t98 k0_t100 k0_h2
theorem k0_off1485_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1485 v41 v43 v182 v184 k0_t98 k0_t100) a + S1x16.size a ≤ S196x384.size a := fun i v10 v41 v43 v182 v184 k0_hw382 k0_t98 k0_t100 k0_h2 => k0_hw382.2.1.2.2.2.2.1 k0_t98 k0_t100 k0_h2
theorem k0_off1486_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1486 v41 v43 v182 v184 k0_t98 k0_t100) a + S1x16.size a ≤ S196x384.size a := fun i v10 v41 v43 v182 v184 k0_hw382 k0_t98 k0_t100 k0_h2 => k0_hw382.2.1.2.2.2.2.2.1 k0_t98 k0_t100 k0_h2
theorem k0_off1487_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1487 v41 v43 v182 v184 k0_t98 k0_t100) a + S1x16.size a ≤ S196x384.size a := fun i v10 v41 v43 v182 v184 k0_hw382 k0_t98 k0_t100 k0_h2 => k0_hw382.2.1.2.2.2.2.2.2.1 k0_t98 k0_t100 k0_h2
theorem k0_off1488_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1488 v41 v43 v182 v184 k0_t98 k0_t100) a + S1x16.size a ≤ S196x384.size a := fun i v10 v41 v43 v182 v184 k0_hw382 k0_t98 k0_t100 k0_h2 => k0_hw382.2.1.2.2.2.2.2.2.2.1 k0_t98 k0_t100 k0_h2
theorem k0_off1489_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1489 v41 v43 v182 v184 k0_t98 k0_t100) a + S1x16.size a ≤ S196x384.size a := fun i v10 v41 v43 v182 v184 k0_hw382 k0_t98 k0_t100 k0_h2 => k0_hw382.2.1.2.2.2.2.2.2.2.2.1 k0_t98 k0_t100 k0_h2
theorem k0_off1490_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1490 v41 v43 v182 v184 k0_t98 k0_t100) a + S1x16.size a ≤ S196x384.size a := fun i v10 v41 v43 v182 v184 k0_hw382 k0_t98 k0_t100 k0_h2 => k0_hw382.2.1.2.2.2.2.2.2.2.2.2.1 k0_t98 k0_t100 k0_h2
theorem k0_off1491_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1491 v41 v43 v182 v184 k0_t98 k0_t100) a + S1x16.size a ≤ S196x384.size a := fun i v10 v41 v43 v182 v184 k0_hw382 k0_t98 k0_t100 k0_h2 => k0_hw382.2.1.2.2.2.2.2.2.2.2.2.2.1 k0_t98 k0_t100 k0_h2
theorem k0_off1492_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1492 v41 v43 v182 v184 k0_t98 k0_t100) a + S1x16.size a ≤ S196x384.size a := fun i v10 v41 v43 v182 v184 k0_hw382 k0_t98 k0_t100 k0_h2 => k0_hw382.2.1.2.2.2.2.2.2.2.2.2.2.2.1 k0_t98 k0_t100 k0_h2
theorem k0_off1493_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1493 v41 v43 v182 v184 k0_t98 k0_t100) a + S1x16.size a ≤ S196x384.size a := fun i v10 v41 v43 v182 v184 k0_hw382 k0_t98 k0_t100 k0_h2 => k0_hw382.2.1.2.2.2.2.2.2.2.2.2.2.2.2.1 k0_t98 k0_t100 k0_h2
theorem k0_off1494_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1494 v41 v43 v182 v184 k0_t98 k0_t100) a + S1x16.size a ≤ S196x384.size a := fun i v10 v41 v43 v182 v184 k0_hw382 k0_t98 k0_t100 k0_h2 => k0_hw382.2.1.2.2.2.2.2.2.2.2.2.2.2.2.2.1 k0_t98 k0_t100 k0_h2
theorem k0_off1495_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1495 v41 v43 v182 v184 k0_t98 k0_t100) a + S1x16.size a ≤ S196x384.size a := fun i v10 v41 v43 v182 v184 k0_hw382 k0_t98 k0_t100 k0_h2 => k0_hw382.2.1.2.2.2.2.2.2.2.2.2.2.2.2.2.2.1 k0_t98 k0_t100 k0_h2
theorem k0_off1496_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1496 v41 v43 v182 v184 k0_t98 k0_t100) a + S1x16.size a ≤ S196x384.size a := fun i v10 v41 v43 v182 v184 k0_hw382 k0_t98 k0_t100 k0_h2 => k0_hw382.2.1.2.2.2.2.2.2.2.2.2.2.2.2.2.2.2.1 k0_t98 k0_t100 k0_h2
theorem k0_off1497_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1497 v41 v43 v182 v184 k0_t98 k0_t100) a + S1x16.size a ≤ S196x384.size a := fun i v10 v41 v43 v182 v184 k0_hw382 k0_t98 k0_t100 k0_h2 => k0_hw382.2.1.2.2.2.2.2.2.2.2.2.2.2.2.2.2.2.2.1 k0_t98 k0_t100 k0_h2
theorem k0_off1498_inb : ∀ (i : grid0.Coords) (v10 : BitVec 32) (v41 : BitVec 32) (v43 : BitVec 32) (v182 : BitVec 32) (v184 : BitVec 32) (k0_hw382 : k0_chk382 i v10 v41 v43 v182 v184) (k0_t98 : Fin (k0_t98_loop v41 v43).trips) (k0_t100 : Fin (k0_t100_loop v182 v184).trips), ∀ (k0_h2 : k0_cond2 i v10 = 1#1), ∀ a, (k0_off1498 v41 v43 v182 v184 k0_t98 k0_t100) a + S1x16.size a ≤ S196x384.size a := fun i v10 v41 v43 v182 v184 k0_hw382 k0_t98 k0_t100 k0_h2 => k0_hw382.2.1.2.2.2.2.2.2.2.2.2.2.2.2.2.2.2.2.2.1 k0_t98 k0_t100 k0_h2
theorem k0_t102_ok : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips), ∀ (k0_h2 : k0_cond2 i v10 = 1#1), (k0_t102_loop v182 v184).OK := fun i v10 v41 v43 v182 v184 k0_hw382 k0_t101 k0_h2 => k0_hw382.2.1.2.2.2.2.2.2.2.2.2.2.2.2.2.2.2.2.2.2.1 k0_t101 k0_h2
theorem k0_off1499_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1499 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.1 k0_t101 k0_t102 k0_h2
theorem k0_off1500_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1500 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.1 k0_t101 k0_t102 k0_h2
theorem k0_off1501_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1501 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.1 k0_t101 k0_t102 k0_h2
theorem k0_off1502_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1502 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.1 k0_t101 k0_t102 k0_h2
theorem k0_off1503_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1503 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.2.1 k0_t101 k0_t102 k0_h2
theorem k0_off1504_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1504 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.2.2.1 k0_t101 k0_t102 k0_h2
theorem k0_off1505_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1505 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.2.2.2.1 k0_t101 k0_t102 k0_h2
theorem k0_off1506_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1506 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.2.2.2.2.1 k0_t101 k0_t102 k0_h2
theorem k0_off1507_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1507 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.2.2.2.2.2.1 k0_t101 k0_t102 k0_h2
theorem k0_off1508_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1508 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.2.2.2.2.2.2.1 k0_t101 k0_t102 k0_h2
theorem k0_off1509_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1509 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.2.2.2.2.2.2.2.1 k0_t101 k0_t102 k0_h2
theorem k0_off1510_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1510 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.2.2.2.2.2.2.2.2.1 k0_t101 k0_t102 k0_h2
theorem k0_off1511_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1511 v41 v43 v182 v184 k0_t101 k0_t102) a + S1x16.size a ≤ S196x384.size a := fun i v10 v41 v43 v182 v184 k0_hw382 k0_t101 k0_t102 k0_h2 => k0_hw382.2.1.2.2.2.2.2.2.2.2.2.2.2.2.2.2.2.2.2.2.2.2.2.2.2.2.2.2.2.2.2.2.2 k0_t101 k0_t102 k0_h2
theorem k0_off1512_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1512 v41 v43 v182 v184 k0_t101 k0_t102) a + S1x16.size a ≤ S196x384.size a := fun i v10 v41 v43 v182 v184 k0_hw382 k0_t101 k0_t102 k0_h2 => k0_hw382.2.2.1.1 k0_t101 k0_t102 k0_h2
theorem k0_off1513_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1513 v41 v43 v182 v184 k0_t101 k0_t102) a + S1x16.size a ≤ S196x384.size a := fun i v10 v41 v43 v182 v184 k0_hw382 k0_t101 k0_t102 k0_h2 => k0_hw382.2.2.1.2.1 k0_t101 k0_t102 k0_h2
theorem k0_off1514_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1514 v41 v43 v182 v184 k0_t101 k0_t102) a + S1x16.size a ≤ S196x384.size a := fun i v10 v41 v43 v182 v184 k0_hw382 k0_t101 k0_t102 k0_h2 => k0_hw382.2.2.1.2.2.1 k0_t101 k0_t102 k0_h2
theorem k0_off1515_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1515 v41 v43 v182 v184 k0_t101 k0_t102) a + S1x16.size a ≤ S196x384.size a := fun i v10 v41 v43 v182 v184 k0_hw382 k0_t101 k0_t102 k0_h2 => k0_hw382.2.2.1.2.2.2.1 k0_t101 k0_t102 k0_h2
theorem k0_off1516_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1516 v41 v43 v182 v184 k0_t101 k0_t102) a + S1x16.size a ≤ S196x384.size a := fun i v10 v41 v43 v182 v184 k0_hw382 k0_t101 k0_t102 k0_h2 => k0_hw382.2.2.1.2.2.2.2.1 k0_t101 k0_t102 k0_h2
theorem k0_off1517_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1517 v41 v43 v182 v184 k0_t101 k0_t102) a + S1x16.size a ≤ S196x384.size a := fun i v10 v41 v43 v182 v184 k0_hw382 k0_t101 k0_t102 k0_h2 => k0_hw382.2.2.1.2.2.2.2.2.1 k0_t101 k0_t102 k0_h2
theorem k0_off1518_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1518 v41 v43 v182 v184 k0_t101 k0_t102) a + S1x16.size a ≤ S196x384.size a := fun i v10 v41 v43 v182 v184 k0_hw382 k0_t101 k0_t102 k0_h2 => k0_hw382.2.2.1.2.2.2.2.2.2.1 k0_t101 k0_t102 k0_h2
theorem k0_off1519_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1519 v41 v43 v182 v184 k0_t101 k0_t102) a + S1x16.size a ≤ S196x384.size a := fun i v10 v41 v43 v182 v184 k0_hw382 k0_t101 k0_t102 k0_h2 => k0_hw382.2.2.1.2.2.2.2.2.2.2.1 k0_t101 k0_t102 k0_h2
theorem k0_off1520_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1520 v41 v43 v182 v184 k0_t101 k0_t102) a + S1x16.size a ≤ S196x384.size a := fun i v10 v41 v43 v182 v184 k0_hw382 k0_t101 k0_t102 k0_h2 => k0_hw382.2.2.1.2.2.2.2.2.2.2.2.1 k0_t101 k0_t102 k0_h2
theorem k0_off1521_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1521 v41 v43 v182 v184 k0_t101 k0_t102) a + S1x16.size a ≤ S196x384.size a := fun i v10 v41 v43 v182 v184 k0_hw382 k0_t101 k0_t102 k0_h2 => k0_hw382.2.2.1.2.2.2.2.2.2.2.2.2.1 k0_t101 k0_t102 k0_h2
theorem k0_off1522_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t102 : Fin (k0_t102_loop v182 v184).trips), ∀ (k0_h2 : k0_cond2 i v10 = 1#1), ∀ a, (k0_off1522 v41 v43 v182 v184 k0_t101 k0_t102) a + S1x16.size a ≤ S196x384.size a := fun i v10 v41 v43 v182 v184 k0_hw382 k0_t101 k0_t102 k0_h2 => k0_hw382.2.2.1.2.2.2.2.2.2.2.2.2.2.1 k0_t101 k0_t102 k0_h2
theorem k0_t103_ok : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips), ∀ (k0_h2 : k0_cond2 i v10 = 1#1), (k0_t103_loop v182 v184).OK := fun i v10 v41 v43 v182 v184 k0_hw382 k0_t101 k0_h2 => k0_hw382.2.2.1.2.2.2.2.2.2.2.2.2.2.2.1 k0_t101 k0_h2
theorem k0_off1523_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1523 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.1 k0_t101 k0_t103 k0_h2
theorem k0_off1524_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1524 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.1 k0_t101 k0_t103 k0_h2
theorem k0_off1525_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1525 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.1 k0_t101 k0_t103 k0_h2
theorem k0_off1526_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1526 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.1 k0_t101 k0_t103 k0_h2
theorem k0_off1527_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1527 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.1 k0_t101 k0_t103 k0_h2
theorem k0_off1528_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1528 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.1 k0_t101 k0_t103 k0_h2
theorem k0_off1529_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1529 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.1 k0_t101 k0_t103 k0_h2
theorem k0_off1530_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1530 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.1 k0_t101 k0_t103 k0_h2
theorem k0_off1531_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1531 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.1 k0_t101 k0_t103 k0_h2
theorem k0_off1532_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1532 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.1 k0_t101 k0_t103 k0_h2
theorem k0_off1533_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1533 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.1 k0_t101 k0_t103 k0_h2
theorem k0_off1534_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1534 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.2.1 k0_t101 k0_t103 k0_h2
theorem k0_off1535_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1535 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.2.2.1 k0_t101 k0_t103 k0_h2
theorem k0_off1536_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1536 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.2.2.2.1 k0_t101 k0_t103 k0_h2
theorem k0_off1537_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1537 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.2.2.2.2.1 k0_t101 k0_t103 k0_h2
theorem k0_off1538_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1538 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.2.2.2.2.2.1 k0_t101 k0_t103 k0_h2
theorem k0_off1539_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1539 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.2.2.2.2.2.2.1 k0_t101 k0_t103 k0_h2
theorem k0_off1540_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1540 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.2.2.2.2.2.2.2.1 k0_t101 k0_t103 k0_h2
theorem k0_off1541_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1541 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.2.2.2.2.2.2.2.2.1 k0_t101 k0_t103 k0_h2
theorem k0_off1542_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1542 v41 v43 v182 v184 k0_t101 k0_t103) a + S1x16.size a ≤ S196x384.size a := fun i v10 v41 v43 v182 v184 k0_hw382 k0_t101 k0_t103 k0_h2 => k0_hw382.2.2.1.2.2.2.2.2.2.2.2.2.2.2.2.2.2.2.2.2.2.2.2.2.2.2.2.2.2.2.2.2.2.2 k0_t101 k0_t103 k0_h2
theorem k0_off1543_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1543 v41 v43 v182 v184 k0_t101 k0_t103) a + S1x16.size a ≤ S196x384.size a := fun i v10 v41 v43 v182 v184 k0_hw382 k0_t101 k0_t103 k0_h2 => k0_hw382.2.2.2.1 k0_t101 k0_t103 k0_h2
theorem k0_off1544_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1544 v41 v43 v182 v184 k0_t101 k0_t103) a + S1x16.size a ≤ S196x384.size a := fun i v10 v41 v43 v182 v184 k0_hw382 k0_t101 k0_t103 k0_h2 => k0_hw382.2.2.2.2.1 k0_t101 k0_t103 k0_h2
theorem k0_off1545_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1545 v41 v43 v182 v184 k0_t101 k0_t103) a + S1x16.size a ≤ S196x384.size a := fun i v10 v41 v43 v182 v184 k0_hw382 k0_t101 k0_t103 k0_h2 => k0_hw382.2.2.2.2.2.1 k0_t101 k0_t103 k0_h2
theorem k0_off1546_inb : ∀ (i : grid0.Coords) (v10 : BitVec 32) (v41 : BitVec 32) (v43 : BitVec 32) (v182 : BitVec 32) (v184 : BitVec 32) (k0_hw382 : k0_chk382 i v10 v41 v43 v182 v184) (k0_t101 : Fin (k0_t101_loop v41 v43).trips) (k0_t103 : Fin (k0_t103_loop v182 v184).trips), ∀ (k0_h2 : k0_cond2 i v10 = 1#1), ∀ a, (k0_off1546 v41 v43 v182 v184 k0_t101 k0_t103) a + S1x16.size a ≤ S196x384.size a := fun i v10 v41 v43 v182 v184 k0_hw382 k0_t101 k0_t103 k0_h2 => k0_hw382.2.2.2.2.2.2 k0_t101 k0_t103 k0_h2

def k0_chk383 (i : grid0.Coords) (v10 : BitVec 32) (v202 : IVec S16 32) : Prop :=
  (∀ (k0_h2 : k0_cond2 i v10 = 1#1), ∀ a x, ((![v202] : Fin 1 → IVec S16 32) a x).toNat < S18816.size a)
theorem k0_idx361_inb : ∀ (i : grid0.Coords) (v10 : BitVec 32) (v202 : IVec S16 32) (k0_hw383 : k0_chk383 i v10 v202), ∀ (k0_h2 : k0_cond2 i v10 = 1#1), ∀ a x, ((![v202] : Fin 1 → IVec S16 32) a x).toNat < S18816.size a := fun i v10 v202 k0_hw383 k0_h2 => k0_hw383 k0_h2

def k0_chk384 (i : grid0.Coords) (v10 : BitVec 32) (v207 : IVec S16 32) : Prop :=
  (∀ (k0_h2 : k0_cond2 i v10 = 1#1), ∀ a x, ((![v207] : Fin 1 → IVec S16 32) a x).toNat < S18816.size a)
theorem k0_idx362_inb : ∀ (i : grid0.Coords) (v10 : BitVec 32) (v207 : IVec S16 32) (k0_hw384 : k0_chk384 i v10 v207), ∀ (k0_h2 : k0_cond2 i v10 = 1#1), ∀ a x, ((![v207] : Fin 1 → IVec S16 32) a x).toNat < S18816.size a := fun i v10 v207 k0_hw384 k0_h2 => k0_hw384 k0_h2

def k0_chk385 (i : grid0.Coords) (v10 : BitVec 32) (v212 : IVec S16 32) : Prop :=
  (∀ (k0_h2 : k0_cond2 i v10 = 1#1), ∀ a x, ((![v212] : Fin 1 → IVec S16 32) a x).toNat < S18816.size a)
theorem k0_idx363_inb : ∀ (i : grid0.Coords) (v10 : BitVec 32) (v212 : IVec S16 32) (k0_hw385 : k0_chk385 i v10 v212), ∀ (k0_h2 : k0_cond2 i v10 = 1#1), ∀ a x, ((![v212] : Fin 1 → IVec S16 32) a x).toNat < S18816.size a := fun i v10 v212 k0_hw385 k0_h2 => k0_hw385 k0_h2

def k0_chk386 (i : grid0.Coords) (v10 : BitVec 32) (v217 : IVec S16 32) : Prop :=
  (∀ (k0_h2 : k0_cond2 i v10 = 1#1), ∀ a x, ((![v217] : Fin 1 → IVec S16 32) a x).toNat < S18816.size a)
theorem k0_idx364_inb : ∀ (i : grid0.Coords) (v10 : BitVec 32) (v217 : IVec S16 32) (k0_hw386 : k0_chk386 i v10 v217), ∀ (k0_h2 : k0_cond2 i v10 = 1#1), ∀ a x, ((![v217] : Fin 1 → IVec S16 32) a x).toNat < S18816.size a := fun i v10 v217 k0_hw386 k0_h2 => k0_hw386 k0_h2

def k0_chk387 (i : grid0.Coords) (v10 : BitVec 32) (v222 : IVec S16 32) : Prop :=
  (∀ (k0_h2 : k0_cond2 i v10 = 1#1), ∀ a x, ((![v222] : Fin 1 → IVec S16 32) a x).toNat < S18816.size a)
theorem k0_idx365_inb : ∀ (i : grid0.Coords) (v10 : BitVec 32) (v222 : IVec S16 32) (k0_hw387 : k0_chk387 i v10 v222), ∀ (k0_h2 : k0_cond2 i v10 = 1#1), ∀ a x, ((![v222] : Fin 1 → IVec S16 32) a x).toNat < S18816.size a := fun i v10 v222 k0_hw387 k0_h2 => k0_hw387 k0_h2

def k0_chk388 (i : grid0.Coords) (v10 : BitVec 32) (v227 : IVec S16 32) : Prop :=
  (∀ (k0_h2 : k0_cond2 i v10 = 1#1), ∀ a x, ((![v227] : Fin 1 → IVec S16 32) a x).toNat < S18816.size a)
theorem k0_idx366_inb : ∀ (i : grid0.Coords) (v10 : BitVec 32) (v227 : IVec S16 32) (k0_hw388 : k0_chk388 i v10 v227), ∀ (k0_h2 : k0_cond2 i v10 = 1#1), ∀ a x, ((![v227] : Fin 1 → IVec S16 32) a x).toNat < S18816.size a := fun i v10 v227 k0_hw388 k0_h2 => k0_hw388 k0_h2

def k0_chk389 (i : grid0.Coords) (v10 : BitVec 32) (v232 : IVec S16 32) : Prop :=
  (∀ (k0_h2 : k0_cond2 i v10 = 1#1), ∀ a x, ((![v232] : Fin 1 → IVec S16 32) a x).toNat < S18816.size a)
theorem k0_idx367_inb : ∀ (i : grid0.Coords) (v10 : BitVec 32) (v232 : IVec S16 32) (k0_hw389 : k0_chk389 i v10 v232), ∀ (k0_h2 : k0_cond2 i v10 = 1#1), ∀ a x, ((![v232] : Fin 1 → IVec S16 32) a x).toNat < S18816.size a := fun i v10 v232 k0_hw389 k0_h2 => k0_hw389 k0_h2

def k0_chk390 (i : grid0.Coords) (v10 : BitVec 32) (v237 : IVec S16 32) : Prop :=
  (∀ (k0_h2 : k0_cond2 i v10 = 1#1), ∀ a x, ((![v237] : Fin 1 → IVec S16 32) a x).toNat < S18816.size a)
theorem k0_idx368_inb : ∀ (i : grid0.Coords) (v10 : BitVec 32) (v237 : IVec S16 32) (k0_hw390 : k0_chk390 i v10 v237), ∀ (k0_h2 : k0_cond2 i v10 = 1#1), ∀ a x, ((![v237] : Fin 1 → IVec S16 32) a x).toNat < S18816.size a := fun i v10 v237 k0_hw390 k0_h2 => k0_hw390 k0_h2

def k0_chk391 (i : grid0.Coords) (v10 : BitVec 32) (v242 : IVec S16 32) : Prop :=
  (∀ (k0_h2 : k0_cond2 i v10 = 1#1), ∀ a x, ((![v242] : Fin 1 → IVec S16 32) a x).toNat < S18816.size a)
theorem k0_idx369_inb : ∀ (i : grid0.Coords) (v10 : BitVec 32) (v242 : IVec S16 32) (k0_hw391 : k0_chk391 i v10 v242), ∀ (k0_h2 : k0_cond2 i v10 = 1#1), ∀ a x, ((![v242] : Fin 1 → IVec S16 32) a x).toNat < S18816.size a := fun i v10 v242 k0_hw391 k0_h2 => k0_hw391 k0_h2

def k0_chk392 (i : grid0.Coords) (v10 : BitVec 32) (v247 : IVec S16 32) : Prop :=
  (∀ (k0_h2 : k0_cond2 i v10 = 1#1), ∀ a x, ((![v247] : Fin 1 → IVec S16 32) a x).toNat < S18816.size a)
theorem k0_idx370_inb : ∀ (i : grid0.Coords) (v10 : BitVec 32) (v247 : IVec S16 32) (k0_hw392 : k0_chk392 i v10 v247), ∀ (k0_h2 : k0_cond2 i v10 = 1#1), ∀ a x, ((![v247] : Fin 1 → IVec S16 32) a x).toNat < S18816.size a := fun i v10 v247 k0_hw392 k0_h2 => k0_hw392 k0_h2

def k0_chk393 (i : grid0.Coords) (v10 : BitVec 32) (v252 : IVec S16 32) : Prop :=
  (∀ (k0_h2 : k0_cond2 i v10 = 1#1), ∀ a x, ((![v252] : Fin 1 → IVec S16 32) a x).toNat < S18816.size a)
theorem k0_idx371_inb : ∀ (i : grid0.Coords) (v10 : BitVec 32) (v252 : IVec S16 32) (k0_hw393 : k0_chk393 i v10 v252), ∀ (k0_h2 : k0_cond2 i v10 = 1#1), ∀ a x, ((![v252] : Fin 1 → IVec S16 32) a x).toNat < S18816.size a := fun i v10 v252 k0_hw393 k0_h2 => k0_hw393 k0_h2

def k0_chk394 (i : grid0.Coords) (v10 : BitVec 32) (v257 : IVec S16 32) : Prop :=
  (∀ (k0_h2 : k0_cond2 i v10 = 1#1), ∀ a x, ((![v257] : Fin 1 → IVec S16 32) a x).toNat < S18816.size a)
theorem k0_idx372_inb : ∀ (i : grid0.Coords) (v10 : BitVec 32) (v257 : IVec S16 32) (k0_hw394 : k0_chk394 i v10 v257), ∀ (k0_h2 : k0_cond2 i v10 = 1#1), ∀ a x, ((![v257] : Fin 1 → IVec S16 32) a x).toNat < S18816.size a := fun i v10 v257 k0_hw394 k0_h2 => k0_hw394 k0_h2

def k0_chk395 (i : grid0.Coords) (v10 : BitVec 32) (v262 : IVec S16 32) : Prop :=
  (∀ (k0_h2 : k0_cond2 i v10 = 1#1), ∀ a x, ((![v262] : Fin 1 → IVec S16 32) a x).toNat < S18816.size a)
theorem k0_idx373_inb : ∀ (i : grid0.Coords) (v10 : BitVec 32) (v262 : IVec S16 32) (k0_hw395 : k0_chk395 i v10 v262), ∀ (k0_h2 : k0_cond2 i v10 = 1#1), ∀ a x, ((![v262] : Fin 1 → IVec S16 32) a x).toNat < S18816.size a := fun i v10 v262 k0_hw395 k0_h2 => k0_hw395 k0_h2

def k0_chk396 (i : grid0.Coords) (v10 : BitVec 32) (v267 : IVec S16 32) : Prop :=
  (∀ (k0_h2 : k0_cond2 i v10 = 1#1), ∀ a x, ((![v267] : Fin 1 → IVec S16 32) a x).toNat < S18816.size a)
theorem k0_idx374_inb : ∀ (i : grid0.Coords) (v10 : BitVec 32) (v267 : IVec S16 32) (k0_hw396 : k0_chk396 i v10 v267), ∀ (k0_h2 : k0_cond2 i v10 = 1#1), ∀ a x, ((![v267] : Fin 1 → IVec S16 32) a x).toNat < S18816.size a := fun i v10 v267 k0_hw396 k0_h2 => k0_hw396 k0_h2

def k0_chk397 (i : grid0.Coords) (v10 : BitVec 32) (v272 : IVec S16 32) : Prop :=
  (∀ (k0_h2 : k0_cond2 i v10 = 1#1), ∀ a x, ((![v272] : Fin 1 → IVec S16 32) a x).toNat < S18816.size a)
theorem k0_idx375_inb : ∀ (i : grid0.Coords) (v10 : BitVec 32) (v272 : IVec S16 32) (k0_hw397 : k0_chk397 i v10 v272), ∀ (k0_h2 : k0_cond2 i v10 = 1#1), ∀ a x, ((![v272] : Fin 1 → IVec S16 32) a x).toNat < S18816.size a := fun i v10 v272 k0_hw397 k0_h2 => k0_hw397 k0_h2

def k0_chk398 (i : grid0.Coords) (v10 : BitVec 32) (v277 : IVec S16 32) : Prop :=
  (∀ (k0_h2 : k0_cond2 i v10 = 1#1), ∀ a x, ((![v277] : Fin 1 → IVec S16 32) a x).toNat < S18816.size a)
theorem k0_idx376_inb : ∀ (i : grid0.Coords) (v10 : BitVec 32) (v277 : IVec S16 32) (k0_hw398 : k0_chk398 i v10 v277), ∀ (k0_h2 : k0_cond2 i v10 = 1#1), ∀ a x, ((![v277] : Fin 1 → IVec S16 32) a x).toNat < S18816.size a := fun i v10 v277 k0_hw398 k0_h2 => k0_hw398 k0_h2

def k0_chk399 (i : grid0.Coords) (v10 : BitVec 32) (v282 : IVec S16 32) : Prop :=
  (∀ (k0_h2 : k0_cond2 i v10 = 1#1), ∀ a x, ((![v282] : Fin 1 → IVec S16 32) a x).toNat < S18816.size a)
theorem k0_idx377_inb : ∀ (i : grid0.Coords) (v10 : BitVec 32) (v282 : IVec S16 32) (k0_hw399 : k0_chk399 i v10 v282), ∀ (k0_h2 : k0_cond2 i v10 = 1#1), ∀ a x, ((![v282] : Fin 1 → IVec S16 32) a x).toNat < S18816.size a := fun i v10 v282 k0_hw399 k0_h2 => k0_hw399 k0_h2

def k0_chk400 (i : grid0.Coords) (v10 : BitVec 32) (v287 : IVec S16 32) : Prop :=
  (∀ (k0_h2 : k0_cond2 i v10 = 1#1), ∀ a x, ((![v287] : Fin 1 → IVec S16 32) a x).toNat < S18816.size a)
theorem k0_idx378_inb : ∀ (i : grid0.Coords) (v10 : BitVec 32) (v287 : IVec S16 32) (k0_hw400 : k0_chk400 i v10 v287), ∀ (k0_h2 : k0_cond2 i v10 = 1#1), ∀ a x, ((![v287] : Fin 1 → IVec S16 32) a x).toNat < S18816.size a := fun i v10 v287 k0_hw400 k0_h2 => k0_hw400 k0_h2

def k0_chk401 (i : grid0.Coords) (v10 : BitVec 32) (v292 : IVec S16 32) : Prop :=
  (∀ (k0_h2 : k0_cond2 i v10 = 1#1), ∀ a x, ((![v292] : Fin 1 → IVec S16 32) a x).toNat < S18816.size a)
theorem k0_idx379_inb : ∀ (i : grid0.Coords) (v10 : BitVec 32) (v292 : IVec S16 32) (k0_hw401 : k0_chk401 i v10 v292), ∀ (k0_h2 : k0_cond2 i v10 = 1#1), ∀ a x, ((![v292] : Fin 1 → IVec S16 32) a x).toNat < S18816.size a := fun i v10 v292 k0_hw401 k0_h2 => k0_hw401 k0_h2

def k0_chk402 (i : grid0.Coords) (v10 : BitVec 32) (v297 : IVec S16 32) : Prop :=
  (∀ (k0_h2 : k0_cond2 i v10 = 1#1), ∀ a x, ((![v297] : Fin 1 → IVec S16 32) a x).toNat < S18816.size a)
theorem k0_idx380_inb : ∀ (i : grid0.Coords) (v10 : BitVec 32) (v297 : IVec S16 32) (k0_hw402 : k0_chk402 i v10 v297), ∀ (k0_h2 : k0_cond2 i v10 = 1#1), ∀ a x, ((![v297] : Fin 1 → IVec S16 32) a x).toNat < S18816.size a := fun i v10 v297 k0_hw402 k0_h2 => k0_hw402 k0_h2

def k0_chk403 (i : grid0.Coords) (v10 : BitVec 32) (v302 : IVec S16 32) : Prop :=
  (∀ (k0_h2 : k0_cond2 i v10 = 1#1), ∀ a x, ((![v302] : Fin 1 → IVec S16 32) a x).toNat < S18816.size a)
theorem k0_idx381_inb : ∀ (i : grid0.Coords) (v10 : BitVec 32) (v302 : IVec S16 32) (k0_hw403 : k0_chk403 i v10 v302), ∀ (k0_h2 : k0_cond2 i v10 = 1#1), ∀ a x, ((![v302] : Fin 1 → IVec S16 32) a x).toNat < S18816.size a := fun i v10 v302 k0_hw403 k0_h2 => k0_hw403 k0_h2

def k0_chk404 (i : grid0.Coords) (v10 : BitVec 32) (v307 : IVec S16 32) : Prop :=
  (∀ (k0_h2 : k0_cond2 i v10 = 1#1), ∀ a x, ((![v307] : Fin 1 → IVec S16 32) a x).toNat < S18816.size a)
theorem k0_idx382_inb : ∀ (i : grid0.Coords) (v10 : BitVec 32) (v307 : IVec S16 32) (k0_hw404 : k0_chk404 i v10 v307), ∀ (k0_h2 : k0_cond2 i v10 = 1#1), ∀ a x, ((![v307] : Fin 1 → IVec S16 32) a x).toNat < S18816.size a := fun i v10 v307 k0_hw404 k0_h2 => k0_hw404 k0_h2

def k0_chk405 (i : grid0.Coords) (v10 : BitVec 32) (v312 : IVec S16 32) : Prop :=
  (∀ (k0_h2 : k0_cond2 i v10 = 1#1), ∀ a x, ((![v312] : Fin 1 → IVec S16 32) a x).toNat < S18816.size a)
theorem k0_idx383_inb : ∀ (i : grid0.Coords) (v10 : BitVec 32) (v312 : IVec S16 32) (k0_hw405 : k0_chk405 i v10 v312), ∀ (k0_h2 : k0_cond2 i v10 = 1#1), ∀ a x, ((![v312] : Fin 1 → IVec S16 32) a x).toNat < S18816.size a := fun i v10 v312 k0_hw405 k0_h2 => k0_hw405 k0_h2

def k0_chk406 (i : grid0.Coords) (v10 : BitVec 32) (v317 : IVec S16 32) : Prop :=
  (∀ (k0_h2 : k0_cond2 i v10 = 1#1), ∀ a x, ((![v317] : Fin 1 → IVec S16 32) a x).toNat < S18816.size a)
theorem k0_idx384_inb : ∀ (i : grid0.Coords) (v10 : BitVec 32) (v317 : IVec S16 32) (k0_hw406 : k0_chk406 i v10 v317), ∀ (k0_h2 : k0_cond2 i v10 = 1#1), ∀ a x, ((![v317] : Fin 1 → IVec S16 32) a x).toNat < S18816.size a := fun i v10 v317 k0_hw406 k0_h2 => k0_hw406 k0_h2
@[reducible] def k0_t104_loop (v41 : BitVec 32) (v43 : BitVec 32) : Scf.Loop 32 :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_110 : BitVec 32 := 1#32
  ⟨v41, v327, c1_i32_110⟩
@[reducible] def k0_t105_loop (v319 : BitVec 32) (v321 : BitVec 32) : Scf.Loop 32 :=
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_375 : BitVec 32 := 1#32
  ⟨v319, v1008, c1_i32_375⟩

def k0_off1547 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1012 : Index := Scalar.indexCast v1011
  let c0_377 : Index := 0#32
  ![v1012.toNat, 0]
def k0_off1548 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1015 : Index := Scalar.indexCast v1011
  let c16 : Index := 16#32
  ![v1015.toNat, 16]
def k0_off1549 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1018 : Index := Scalar.indexCast v1011
  let c32 : Index := 32#32
  ![v1018.toNat, 32]
def k0_off1550 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1021 : Index := Scalar.indexCast v1011
  let c48 : Index := 48#32
  ![v1021.toNat, 48]
def k0_off1551 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1024 : Index := Scalar.indexCast v1011
  let c64 : Index := 64#32
  ![v1024.toNat, 64]
def k0_off1552 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1027 : Index := Scalar.indexCast v1011
  let c80 : Index := 80#32
  ![v1027.toNat, 80]
def k0_off1553 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1030 : Index := Scalar.indexCast v1011
  let c96 : Index := 96#32
  ![v1030.toNat, 96]
def k0_off1554 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1033 : Index := Scalar.indexCast v1011
  let c112 : Index := 112#32
  ![v1033.toNat, 112]
def k0_off1555 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1036 : Index := Scalar.indexCast v1011
  let c128 : Index := 128#32
  ![v1036.toNat, 128]
def k0_off1556 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1039 : Index := Scalar.indexCast v1011
  let c144 : Index := 144#32
  ![v1039.toNat, 144]
def k0_off1557 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1042 : Index := Scalar.indexCast v1011
  let c160 : Index := 160#32
  ![v1042.toNat, 160]
def k0_off1558 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1045 : Index := Scalar.indexCast v1011
  let c176 : Index := 176#32
  ![v1045.toNat, 176]
def k0_off1559 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1048 : Index := Scalar.indexCast v1011
  let c192 : Index := 192#32
  ![v1048.toNat, 192]
def k0_off1560 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1051 : Index := Scalar.indexCast v1011
  let c208 : Index := 208#32
  ![v1051.toNat, 208]
def k0_off1561 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1054 : Index := Scalar.indexCast v1011
  let c224 : Index := 224#32
  ![v1054.toNat, 224]
def k0_off1562 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1057 : Index := Scalar.indexCast v1011
  let c240 : Index := 240#32
  ![v1057.toNat, 240]
def k0_off1563 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1060 : Index := Scalar.indexCast v1011
  let c256 : Index := 256#32
  ![v1060.toNat, 256]
def k0_off1564 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1063 : Index := Scalar.indexCast v1011
  let c272 : Index := 272#32
  ![v1063.toNat, 272]
def k0_off1565 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1066 : Index := Scalar.indexCast v1011
  let c288 : Index := 288#32
  ![v1066.toNat, 288]
def k0_off1566 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1069 : Index := Scalar.indexCast v1011
  let c304 : Index := 304#32
  ![v1069.toNat, 304]
def k0_off1567 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1072 : Index := Scalar.indexCast v1011
  let c320 : Index := 320#32
  ![v1072.toNat, 320]
def k0_off1568 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1075 : Index := Scalar.indexCast v1011
  let c336 : Index := 336#32
  ![v1075.toNat, 336]
def k0_off1569 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1078 : Index := Scalar.indexCast v1011
  let c352 : Index := 352#32
  ![v1078.toNat, 352]
def k0_off1570 (v41 : BitVec 32) (v43 : BitVec 32) (v319 : BitVec 32) (v321 : BitVec 32) (k0_t104 : Fin (k0_t104_loop v41 v43).trips) (k0_t105 : Fin (k0_t105_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let c1_i32_375 : BitVec 32 := 1#32
  let arg36 : BitVec 32 := Scf.iv v319 c1_i32_375 k0_t105
  let v1011 : BitVec 32 := Scalar.addi v1003 arg36
  let v1081 : Index := Scalar.indexCast v1011
  let c368 : Index := 368#32
  ![v1081.toNat, 368]
@[reducible] def k0_t106_loop (v319 : BitVec 32) (v321 : BitVec 32) : Scf.Loop 32 :=
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let v1005 : BitVec 32 := Scalar.addi v319 v1004
  let c1_i32_376 : BitVec 32 := 1#32
  ⟨v1008, v1005, c1_i32_376⟩
def k0_off1571 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1012 : Index := Scalar.indexCast v1011
  let c0_377 : Index := 0#32
  ![v1012.toNat, 0]
def k0_off1572 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1015 : Index := Scalar.indexCast v1011
  let c16 : Index := 16#32
  ![v1015.toNat, 16]
def k0_off1573 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1018 : Index := Scalar.indexCast v1011
  let c32 : Index := 32#32
  ![v1018.toNat, 32]
def k0_off1574 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1021 : Index := Scalar.indexCast v1011
  let c48 : Index := 48#32
  ![v1021.toNat, 48]
def k0_off1575 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1024 : Index := Scalar.indexCast v1011
  let c64 : Index := 64#32
  ![v1024.toNat, 64]
def k0_off1576 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1027 : Index := Scalar.indexCast v1011
  let c80 : Index := 80#32
  ![v1027.toNat, 80]
def k0_off1577 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1030 : Index := Scalar.indexCast v1011
  let c96 : Index := 96#32
  ![v1030.toNat, 96]
def k0_off1578 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1033 : Index := Scalar.indexCast v1011
  let c112 : Index := 112#32
  ![v1033.toNat, 112]
def k0_off1579 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1036 : Index := Scalar.indexCast v1011
  let c128 : Index := 128#32
  ![v1036.toNat, 128]
def k0_off1580 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1039 : Index := Scalar.indexCast v1011
  let c144 : Index := 144#32
  ![v1039.toNat, 144]
def k0_off1581 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1042 : Index := Scalar.indexCast v1011
  let c160 : Index := 160#32
  ![v1042.toNat, 160]
def k0_off1582 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1045 : Index := Scalar.indexCast v1011
  let c176 : Index := 176#32
  ![v1045.toNat, 176]
def k0_off1583 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1048 : Index := Scalar.indexCast v1011
  let c192 : Index := 192#32
  ![v1048.toNat, 192]
def k0_off1584 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1051 : Index := Scalar.indexCast v1011
  let c208 : Index := 208#32
  ![v1051.toNat, 208]
def k0_off1585 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1054 : Index := Scalar.indexCast v1011
  let c224 : Index := 224#32
  ![v1054.toNat, 224]
def k0_off1586 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1057 : Index := Scalar.indexCast v1011
  let c240 : Index := 240#32
  ![v1057.toNat, 240]
def k0_off1587 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1060 : Index := Scalar.indexCast v1011
  let c256 : Index := 256#32
  ![v1060.toNat, 256]
def k0_off1588 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1063 : Index := Scalar.indexCast v1011
  let c272 : Index := 272#32
  ![v1063.toNat, 272]
def k0_off1589 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1066 : Index := Scalar.indexCast v1011
  let c288 : Index := 288#32
  ![v1066.toNat, 288]
def k0_off1590 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1069 : Index := Scalar.indexCast v1011
  let c304 : Index := 304#32
  ![v1069.toNat, 304]
def k0_off1591 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1072 : Index := Scalar.indexCast v1011
  let c320 : Index := 320#32
  ![v1072.toNat, 320]
def k0_off1592 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1075 : Index := Scalar.indexCast v1011
  let c336 : Index := 336#32
  ![v1075.toNat, 336]
def k0_off1593 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1078 : Index := Scalar.indexCast v1011
  let c352 : Index := 352#32
  ![v1078.toNat, 352]
def k0_off1594 (v41 : BitVec 32) (v43 : BitVec 32) (v319 : BitVec 32) (v321 : BitVec 32) (k0_t104 : Fin (k0_t104_loop v41 v43).trips) (k0_t106 : Fin (k0_t106_loop v319 v321).trips) : Fin 2 → Nat :=
  let c1_i32_110 : BitVec 32 := 1#32
  let arg11 : BitVec 32 := Scf.iv v41 c1_i32_110 k0_t104
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t106
  let v1011 : BitVec 32 := Scalar.addi v1003 arg36
  let v1081 : Index := Scalar.indexCast v1011
  let c368 : Index := 368#32
  ![v1081.toNat, 368]
@[reducible] def k0_t107_loop (v41 : BitVec 32) (v43 : BitVec 32) : Scf.Loop 32 :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let v324 : BitVec 32 := Scalar.addi v41 v323
  let c1_i32_111 : BitVec 32 := 1#32
  ⟨v327, v324, c1_i32_111⟩
@[reducible] def k0_t108_loop (v319 : BitVec 32) (v321 : BitVec 32) : Scf.Loop 32 :=
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_375 : BitVec 32 := 1#32
  ⟨v319, v1008, c1_i32_375⟩
def k0_off1595 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1012 : Index := Scalar.indexCast v1011
  let c0_377 : Index := 0#32
  ![v1012.toNat, 0]
def k0_off1596 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1015 : Index := Scalar.indexCast v1011
  let c16 : Index := 16#32
  ![v1015.toNat, 16]
def k0_off1597 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1018 : Index := Scalar.indexCast v1011
  let c32 : Index := 32#32
  ![v1018.toNat, 32]
def k0_off1598 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1021 : Index := Scalar.indexCast v1011
  let c48 : Index := 48#32
  ![v1021.toNat, 48]
def k0_off1599 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1024 : Index := Scalar.indexCast v1011
  let c64 : Index := 64#32
  ![v1024.toNat, 64]
def k0_off1600 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1027 : Index := Scalar.indexCast v1011
  let c80 : Index := 80#32
  ![v1027.toNat, 80]
def k0_off1601 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1030 : Index := Scalar.indexCast v1011
  let c96 : Index := 96#32
  ![v1030.toNat, 96]
def k0_off1602 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1033 : Index := Scalar.indexCast v1011
  let c112 : Index := 112#32
  ![v1033.toNat, 112]
def k0_off1603 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1036 : Index := Scalar.indexCast v1011
  let c128 : Index := 128#32
  ![v1036.toNat, 128]
def k0_off1604 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1039 : Index := Scalar.indexCast v1011
  let c144 : Index := 144#32
  ![v1039.toNat, 144]
def k0_off1605 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1042 : Index := Scalar.indexCast v1011
  let c160 : Index := 160#32
  ![v1042.toNat, 160]
def k0_off1606 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1045 : Index := Scalar.indexCast v1011
  let c176 : Index := 176#32
  ![v1045.toNat, 176]
def k0_off1607 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1048 : Index := Scalar.indexCast v1011
  let c192 : Index := 192#32
  ![v1048.toNat, 192]
def k0_off1608 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1051 : Index := Scalar.indexCast v1011
  let c208 : Index := 208#32
  ![v1051.toNat, 208]
def k0_off1609 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1054 : Index := Scalar.indexCast v1011
  let c224 : Index := 224#32
  ![v1054.toNat, 224]
def k0_off1610 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1057 : Index := Scalar.indexCast v1011
  let c240 : Index := 240#32
  ![v1057.toNat, 240]
def k0_off1611 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1060 : Index := Scalar.indexCast v1011
  let c256 : Index := 256#32
  ![v1060.toNat, 256]
def k0_off1612 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1063 : Index := Scalar.indexCast v1011
  let c272 : Index := 272#32
  ![v1063.toNat, 272]
def k0_off1613 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1066 : Index := Scalar.indexCast v1011
  let c288 : Index := 288#32
  ![v1066.toNat, 288]
def k0_off1614 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1069 : Index := Scalar.indexCast v1011
  let c304 : Index := 304#32
  ![v1069.toNat, 304]
def k0_off1615 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1072 : Index := Scalar.indexCast v1011
  let c320 : Index := 320#32
  ![v1072.toNat, 320]
def k0_off1616 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1075 : Index := Scalar.indexCast v1011
  let c336 : Index := 336#32
  ![v1075.toNat, 336]
def k0_off1617 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1078 : Index := Scalar.indexCast v1011
  let c352 : Index := 352#32
  ![v1078.toNat, 352]
def k0_off1618 (v41 : BitVec 32) (v43 : BitVec 32) (v319 : BitVec 32) (v321 : BitVec 32) (k0_t107 : Fin (k0_t107_loop v41 v43).trips) (k0_t108 : Fin (k0_t108_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let c1_i32_375 : BitVec 32 := 1#32
  let arg36 : BitVec 32 := Scf.iv v319 c1_i32_375 k0_t108
  let v1011 : BitVec 32 := Scalar.addi v1003 arg36
  let v1081 : Index := Scalar.indexCast v1011
  let c368 : Index := 368#32
  ![v1081.toNat, 368]
@[reducible] def k0_t109_loop (v319 : BitVec 32) (v321 : BitVec 32) : Scf.Loop 32 :=
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let v1005 : BitVec 32 := Scalar.addi v319 v1004
  let c1_i32_376 : BitVec 32 := 1#32
  ⟨v1008, v1005, c1_i32_376⟩
def k0_off1619 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1012 : Index := Scalar.indexCast v1011
  let c0_377 : Index := 0#32
  ![v1012.toNat, 0]
def k0_off1620 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1015 : Index := Scalar.indexCast v1011
  let c16 : Index := 16#32
  ![v1015.toNat, 16]
def k0_off1621 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1018 : Index := Scalar.indexCast v1011
  let c32 : Index := 32#32
  ![v1018.toNat, 32]
def k0_off1622 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1021 : Index := Scalar.indexCast v1011
  let c48 : Index := 48#32
  ![v1021.toNat, 48]
def k0_off1623 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1024 : Index := Scalar.indexCast v1011
  let c64 : Index := 64#32
  ![v1024.toNat, 64]
def k0_off1624 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1027 : Index := Scalar.indexCast v1011
  let c80 : Index := 80#32
  ![v1027.toNat, 80]
def k0_off1625 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1030 : Index := Scalar.indexCast v1011
  let c96 : Index := 96#32
  ![v1030.toNat, 96]
def k0_off1626 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1033 : Index := Scalar.indexCast v1011
  let c112 : Index := 112#32
  ![v1033.toNat, 112]
def k0_off1627 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1036 : Index := Scalar.indexCast v1011
  let c128 : Index := 128#32
  ![v1036.toNat, 128]
def k0_off1628 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1039 : Index := Scalar.indexCast v1011
  let c144 : Index := 144#32
  ![v1039.toNat, 144]
def k0_off1629 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1042 : Index := Scalar.indexCast v1011
  let c160 : Index := 160#32
  ![v1042.toNat, 160]
def k0_off1630 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1045 : Index := Scalar.indexCast v1011
  let c176 : Index := 176#32
  ![v1045.toNat, 176]
def k0_off1631 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1048 : Index := Scalar.indexCast v1011
  let c192 : Index := 192#32
  ![v1048.toNat, 192]
def k0_off1632 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1051 : Index := Scalar.indexCast v1011
  let c208 : Index := 208#32
  ![v1051.toNat, 208]
def k0_off1633 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1054 : Index := Scalar.indexCast v1011
  let c224 : Index := 224#32
  ![v1054.toNat, 224]
def k0_off1634 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1057 : Index := Scalar.indexCast v1011
  let c240 : Index := 240#32
  ![v1057.toNat, 240]
def k0_off1635 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1060 : Index := Scalar.indexCast v1011
  let c256 : Index := 256#32
  ![v1060.toNat, 256]
def k0_off1636 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1063 : Index := Scalar.indexCast v1011
  let c272 : Index := 272#32
  ![v1063.toNat, 272]
def k0_off1637 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1066 : Index := Scalar.indexCast v1011
  let c288 : Index := 288#32
  ![v1066.toNat, 288]
def k0_off1638 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1069 : Index := Scalar.indexCast v1011
  let c304 : Index := 304#32
  ![v1069.toNat, 304]
def k0_off1639 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1072 : Index := Scalar.indexCast v1011
  let c320 : Index := 320#32
  ![v1072.toNat, 320]
def k0_off1640 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1075 : Index := Scalar.indexCast v1011
  let c336 : Index := 336#32
  ![v1075.toNat, 336]
def k0_off1641 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1078 : Index := Scalar.indexCast v1011
  let c352 : Index := 352#32
  ![v1078.toNat, 352]
def k0_off1642 (v41 : BitVec 32) (v43 : BitVec 32) (v319 : BitVec 32) (v321 : BitVec 32) (k0_t107 : Fin (k0_t107_loop v41 v43).trips) (k0_t109 : Fin (k0_t109_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t107
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t109
  let v1011 : BitVec 32 := Scalar.addi v1003 arg36
  let v1081 : Index := Scalar.indexCast v1011
  let c368 : Index := 368#32
  ![v1081.toNat, 368]

def k0_chk407_0 (i : grid0.Coords) (v10 : BitVec 32) (v41 : BitVec 32) (v43 : BitVec 32) (v319 : BitVec 32) (v321 : BitVec 32) : Prop :=
  (∀ k0_t104 : Fin (k0_t104_loop v41 v43).trips, ∀ (k0_h2 : k0_cond2 i v10 = 1#1), (k0_t105_loop v319 v321).OK) ∧
  (∀ (k0_t104 : Fin (k0_t104_loop v41 v43).trips) (k0_t105 : Fin (k0_t105_loop v319 v321).trips), ∀ (k0_h2 : k0_cond2 i v10 = 1#1), ∀ a, (k0_off1547 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1548 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1549 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1550 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1551 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1552 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1553 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1554 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1555 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1556 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1557 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1558 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1559 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1560 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1561 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1562 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1563 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1564 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1565 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1566 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1567 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1568 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1569 v41 v43 v319 v321 k0_t104 k0_t105) a + S1x16.size a ≤ S196x384.size a) ∧
  (∀ (k0_t104 : Fin (k0_t104_loop v41 v43).trips) (k0_t105 : Fin (k0_t105_loop v319 v321).trips), ∀ (k0_h2 : k0_cond2 i v10 = 1#1), ∀ a, (k0_off1570 v41 v43 v319 v321 k0_t104 k0_t105) a + S1x16.size a ≤ S196x384.size a) ∧
  (∀ k0_t104 : Fin (k0_t104_loop v41 v43).trips, ∀ (k0_h2 : k0_cond2 i v10 = 1#1), (k0_t106_loop v319 v321).OK) ∧
  (∀ (k0_t104 : Fin (k0_t104_loop v41 v43).trips) (k0_t106 : Fin (k0_t106_loop v319 v321).trips), ∀ (k0_h2 : k0_cond2 i v10 = 1#1), ∀ a, (k0_off1571 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1572 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1573 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1574 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1575 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1576 v41 v43 v319 v321 k0_t104 k0_t106) a + S1x16.size a ≤ S196x384.size a)
def k0_chk407_1 (i : grid0.Coords) (v10 : BitVec 32) (v41 : BitVec 32) (v43 : BitVec 32) (v319 : BitVec 32) (v321 : BitVec 32) : Prop :=
  (∀ (k0_t104 : Fin (k0_t104_loop v41 v43).trips) (k0_t106 : Fin (k0_t106_loop v319 v321).trips), ∀ (k0_h2 : k0_cond2 i v10 = 1#1), ∀ a, (k0_off1577 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1578 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1579 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1580 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1581 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1582 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1583 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1584 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1585 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1586 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1587 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1588 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1589 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1590 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1591 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1592 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1593 v41 v43 v319 v321 k0_t104 k0_t106) a + S1x16.size a ≤ S196x384.size a) ∧
  (∀ (k0_t104 : Fin (k0_t104_loop v41 v43).trips) (k0_t106 : Fin (k0_t106_loop v319 v321).trips), ∀ (k0_h2 : k0_cond2 i v10 = 1#1), ∀ a, (k0_off1594 v41 v43 v319 v321 k0_t104 k0_t106) a + S1x16.size a ≤ S196x384.size a) ∧
  (∀ k0_t107 : Fin (k0_t107_loop v41 v43).trips, ∀ (k0_h2 : k0_cond2 i v10 = 1#1), (k0_t108_loop v319 v321).OK) ∧
  (∀ (k0_t107 : Fin (k0_t107_loop v41 v43).trips) (k0_t108 : Fin (k0_t108_loop v319 v321).trips), ∀ (k0_h2 : k0_cond2 i v10 = 1#1), ∀ a, (k0_off1595 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1596 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1597 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1598 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1599 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1600 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1601 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1602 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1603 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1604 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1605 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1606 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1607 v41 v43 v319 v321 k0_t107 k0_t108) a + S1x16.size a ≤ S196x384.size a)
def k0_chk407_2 (i : grid0.Coords) (v10 : BitVec 32) (v41 : BitVec 32) (v43 : BitVec 32) (v319 : BitVec 32) (v321 : BitVec 32) : Prop :=
  (∀ (k0_t107 : Fin (k0_t107_loop v41 v43).trips) (k0_t108 : Fin (k0_t108_loop v319 v321).trips), ∀ (k0_h2 : k0_cond2 i v10 = 1#1), ∀ a, (k0_off1608 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1609 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1610 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1611 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1612 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1613 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1614 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1615 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1616 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1617 v41 v43 v319 v321 k0_t107 k0_t108) a + S1x16.size a ≤ S196x384.size a) ∧
  (∀ (k0_t107 : Fin (k0_t107_loop v41 v43).trips) (k0_t108 : Fin (k0_t108_loop v319 v321).trips), ∀ (k0_h2 : k0_cond2 i v10 = 1#1), ∀ a, (k0_off1618 v41 v43 v319 v321 k0_t107 k0_t108) a + S1x16.size a ≤ S196x384.size a) ∧
  (∀ k0_t107 : Fin (k0_t107_loop v41 v43).trips, ∀ (k0_h2 : k0_cond2 i v10 = 1#1), (k0_t109_loop v319 v321).OK) ∧
  (∀ (k0_t107 : Fin (k0_t107_loop v41 v43).trips) (k0_t109 : Fin (k0_t109_loop v319 v321).trips), ∀ (k0_h2 : k0_cond2 i v10 = 1#1), ∀ a, (k0_off1619 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1620 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1621 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1622 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1623 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1624 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1625 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1626 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1627 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1628 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1629 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1630 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1631 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1632 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1633 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1634 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1635 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1636 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1637 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1638 v41 v43 v319 v321 k0_t107 k0_t109) a + S1x16.size a ≤ S196x384.size a)
def k0_chk407_3 (i : grid0.Coords) (v10 : BitVec 32) (v41 : BitVec 32) (v43 : BitVec 32) (v319 : BitVec 32) (v321 : BitVec 32) : Prop :=
  (∀ (k0_t107 : Fin (k0_t107_loop v41 v43).trips) (k0_t109 : Fin (k0_t109_loop v319 v321).trips), ∀ (k0_h2 : k0_cond2 i v10 = 1#1), ∀ a, (k0_off1639 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1640 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1641 v41 v43 v319 v321 k0_t107 k0_t109) a + S1x16.size a ≤ S196x384.size a) ∧
  (∀ (k0_t107 : Fin (k0_t107_loop v41 v43).trips) (k0_t109 : Fin (k0_t109_loop v319 v321).trips), ∀ (k0_h2 : k0_cond2 i v10 = 1#1), ∀ a, (k0_off1642 v41 v43 v319 v321 k0_t107 k0_t109) a + S1x16.size a ≤ S196x384.size a)
def k0_chk407 (i : grid0.Coords) (v10 : BitVec 32) (v41 : BitVec 32) (v43 : BitVec 32) (v319 : BitVec 32) (v321 : BitVec 32) : Prop :=
  k0_chk407_0 i v10 v41 v43 v319 v321 ∧
  k0_chk407_1 i v10 v41 v43 v319 v321 ∧
  k0_chk407_2 i v10 v41 v43 v319 v321 ∧
  k0_chk407_3 i v10 v41 v43 v319 v321
theorem k0_t105_ok : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips), ∀ (k0_h2 : k0_cond2 i v10 = 1#1), (k0_t105_loop v319 v321).OK := fun i v10 v41 v43 v319 v321 k0_hw407 k0_t104 k0_h2 => k0_hw407.1.1 k0_t104 k0_h2
theorem k0_off1547_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1547 v41 v43 v319 v321 k0_t104 k0_t105) a + S1x16.size a ≤ S196x384.size a := fun i v10 v41 v43 v319 v321 k0_hw407 k0_t104 k0_t105 k0_h2 => k0_hw407.1.2.1 k0_t104 k0_t105 k0_h2
theorem k0_off1548_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1548 v41 v43 v319 v321 k0_t104 k0_t105) a + S1x16.size a ≤ S196x384.size a := fun i v10 v41 v43 v319 v321 k0_hw407 k0_t104 k0_t105 k0_h2 => k0_hw407.1.2.2.1 k0_t104 k0_t105 k0_h2
theorem k0_off1549_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1549 v41 v43 v319 v321 k0_t104 k0_t105) a + S1x16.size a ≤ S196x384.size a := fun i v10 v41 v43 v319 v321 k0_hw407 k0_t104 k0_t105 k0_h2 => k0_hw407.1.2.2.2.1 k0_t104 k0_t105 k0_h2
theorem k0_off1550_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1550 v41 v43 v319 v321 k0_t104 k0_t105) a + S1x16.size a ≤ S196x384.size a := fun i v10 v41 v43 v319 v321 k0_hw407 k0_t104 k0_t105 k0_h2 => k0_hw407.1.2.2.2.2.1 k0_t104 k0_t105 k0_h2
theorem k0_off1551_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1551 v41 v43 v319 v321 k0_t104 k0_t105) a + S1x16.size a ≤ S196x384.size a := fun i v10 v41 v43 v319 v321 k0_hw407 k0_t104 k0_t105 k0_h2 => k0_hw407.1.2.2.2.2.2.1 k0_t104 k0_t105 k0_h2
theorem k0_off1552_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1552 v41 v43 v319 v321 k0_t104 k0_t105) a + S1x16.size a ≤ S196x384.size a := fun i v10 v41 v43 v319 v321 k0_hw407 k0_t104 k0_t105 k0_h2 => k0_hw407.1.2.2.2.2.2.2.1 k0_t104 k0_t105 k0_h2
theorem k0_off1553_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1553 v41 v43 v319 v321 k0_t104 k0_t105) a + S1x16.size a ≤ S196x384.size a := fun i v10 v41 v43 v319 v321 k0_hw407 k0_t104 k0_t105 k0_h2 => k0_hw407.1.2.2.2.2.2.2.2.1 k0_t104 k0_t105 k0_h2
theorem k0_off1554_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1554 v41 v43 v319 v321 k0_t104 k0_t105) a + S1x16.size a ≤ S196x384.size a := fun i v10 v41 v43 v319 v321 k0_hw407 k0_t104 k0_t105 k0_h2 => k0_hw407.1.2.2.2.2.2.2.2.2.1 k0_t104 k0_t105 k0_h2
theorem k0_off1555_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1555 v41 v43 v319 v321 k0_t104 k0_t105) a + S1x16.size a ≤ S196x384.size a := fun i v10 v41 v43 v319 v321 k0_hw407 k0_t104 k0_t105 k0_h2 => k0_hw407.1.2.2.2.2.2.2.2.2.2.1 k0_t104 k0_t105 k0_h2
theorem k0_off1556_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1556 v41 v43 v319 v321 k0_t104 k0_t105) a + S1x16.size a ≤ S196x384.size a := fun i v10 v41 v43 v319 v321 k0_hw407 k0_t104 k0_t105 k0_h2 => k0_hw407.1.2.2.2.2.2.2.2.2.2.2.1 k0_t104 k0_t105 k0_h2
theorem k0_off1557_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1557 v41 v43 v319 v321 k0_t104 k0_t105) a + S1x16.size a ≤ S196x384.size a := fun i v10 v41 v43 v319 v321 k0_hw407 k0_t104 k0_t105 k0_h2 => k0_hw407.1.2.2.2.2.2.2.2.2.2.2.2.1 k0_t104 k0_t105 k0_h2
theorem k0_off1558_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1558 v41 v43 v319 v321 k0_t104 k0_t105) a + S1x16.size a ≤ S196x384.size a := fun i v10 v41 v43 v319 v321 k0_hw407 k0_t104 k0_t105 k0_h2 => k0_hw407.1.2.2.2.2.2.2.2.2.2.2.2.2.1 k0_t104 k0_t105 k0_h2
theorem k0_off1559_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1559 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.1 k0_t104 k0_t105 k0_h2
theorem k0_off1560_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1560 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.1 k0_t104 k0_t105 k0_h2
theorem k0_off1561_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1561 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.1 k0_t104 k0_t105 k0_h2
theorem k0_off1562_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1562 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.2.1 k0_t104 k0_t105 k0_h2
theorem k0_off1563_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1563 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.2.2.1 k0_t104 k0_t105 k0_h2
theorem k0_off1564_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1564 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.2.2.2.1 k0_t104 k0_t105 k0_h2
theorem k0_off1565_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1565 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.2.2.2.2.1 k0_t104 k0_t105 k0_h2
theorem k0_off1566_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1566 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.2.2.2.2.2.1 k0_t104 k0_t105 k0_h2
theorem k0_off1567_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1567 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.2.2.2.2.2.2.1 k0_t104 k0_t105 k0_h2
theorem k0_off1568_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1568 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.2.2.2.2.2.2.2.1 k0_t104 k0_t105 k0_h2
theorem k0_off1569_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1569 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.2.2.2.2.2.2.2.2.1 k0_t104 k0_t105 k0_h2
theorem k0_off1570_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t105 : Fin (k0_t105_loop v319 v321).trips), ∀ (k0_h2 : k0_cond2 i v10 = 1#1), ∀ a, (k0_off1570 v41 v43 v319 v321 k0_t104 k0_t105) a + S1x16.size a ≤ S196x384.size a := fun i v10 v41 v43 v319 v321 k0_hw407 k0_t104 k0_t105 k0_h2 => k0_hw407.1.2.2.2.2.2.2.2.2.2.2.2.2.2.2.2.2.2.2.2.2.2.2.2.2.1 k0_t104 k0_t105 k0_h2
theorem k0_t106_ok : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips), ∀ (k0_h2 : k0_cond2 i v10 = 1#1), (k0_t106_loop v319 v321).OK := fun i v10 v41 v43 v319 v321 k0_hw407 k0_t104 k0_h2 => k0_hw407.1.2.2.2.2.2.2.2.2.2.2.2.2.2.2.2.2.2.2.2.2.2.2.2.2.2.1 k0_t104 k0_h2
theorem k0_off1571_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1571 v41 v43 v319 v321 k0_t104 k0_t106) a + S1x16.size a ≤ S196x384.size a := fun i v10 v41 v43 v319 v321 k0_hw407 k0_t104 k0_t106 k0_h2 => k0_hw407.1.2.2.2.2.2.2.2.2.2.2.2.2.2.2.2.2.2.2.2.2.2.2.2.2.2.2.1 k0_t104 k0_t106 k0_h2
theorem k0_off1572_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1572 v41 v43 v319 v321 k0_t104 k0_t106) a + S1x16.size a ≤ S196x384.size a := fun i v10 v41 v43 v319 v321 k0_hw407 k0_t104 k0_t106 k0_h2 => k0_hw407.1.2.2.2.2.2.2.2.2.2.2.2.2.2.2.2.2.2.2.2.2.2.2.2.2.2.2.2.1 k0_t104 k0_t106 k0_h2
theorem k0_off1573_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1573 v41 v43 v319 v321 k0_t104 k0_t106) a + S1x16.size a ≤ S196x384.size a := fun i v10 v41 v43 v319 v321 k0_hw407 k0_t104 k0_t106 k0_h2 => k0_hw407.1.2.2.2.2.2.2.2.2.2.2.2.2.2.2.2.2.2.2.2.2.2.2.2.2.2.2.2.2.1 k0_t104 k0_t106 k0_h2
theorem k0_off1574_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1574 v41 v43 v319 v321 k0_t104 k0_t106) a + S1x16.size a ≤ S196x384.size a := fun i v10 v41 v43 v319 v321 k0_hw407 k0_t104 k0_t106 k0_h2 => k0_hw407.1.2.2.2.2.2.2.2.2.2.2.2.2.2.2.2.2.2.2.2.2.2.2.2.2.2.2.2.2.2.1 k0_t104 k0_t106 k0_h2
theorem k0_off1575_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1575 v41 v43 v319 v321 k0_t104 k0_t106) a + S1x16.size a ≤ S196x384.size a := fun i v10 v41 v43 v319 v321 k0_hw407 k0_t104 k0_t106 k0_h2 => k0_hw407.1.2.2.2.2.2.2.2.2.2.2.2.2.2.2.2.2.2.2.2.2.2.2.2.2.2.2.2.2.2.2.1 k0_t104 k0_t106 k0_h2
theorem k0_off1576_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1576 v41 v43 v319 v321 k0_t104 k0_t106) a + S1x16.size a ≤ S196x384.size a := fun i v10 v41 v43 v319 v321 k0_hw407 k0_t104 k0_t106 k0_h2 => k0_hw407.1.2.2.2.2.2.2.2.2.2.2.2.2.2.2.2.2.2.2.2.2.2.2.2.2.2.2.2.2.2.2.2 k0_t104 k0_t106 k0_h2
theorem k0_off1577_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1577 v41 v43 v319 v321 k0_t104 k0_t106) a + S1x16.size a ≤ S196x384.size a := fun i v10 v41 v43 v319 v321 k0_hw407 k0_t104 k0_t106 k0_h2 => k0_hw407.2.1.1 k0_t104 k0_t106 k0_h2
theorem k0_off1578_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1578 v41 v43 v319 v321 k0_t104 k0_t106) a + S1x16.size a ≤ S196x384.size a := fun i v10 v41 v43 v319 v321 k0_hw407 k0_t104 k0_t106 k0_h2 => k0_hw407.2.1.2.1 k0_t104 k0_t106 k0_h2
theorem k0_off1579_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1579 v41 v43 v319 v321 k0_t104 k0_t106) a + S1x16.size a ≤ S196x384.size a := fun i v10 v41 v43 v319 v321 k0_hw407 k0_t104 k0_t106 k0_h2 => k0_hw407.2.1.2.2.1 k0_t104 k0_t106 k0_h2
theorem k0_off1580_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1580 v41 v43 v319 v321 k0_t104 k0_t106) a + S1x16.size a ≤ S196x384.size a := fun i v10 v41 v43 v319 v321 k0_hw407 k0_t104 k0_t106 k0_h2 => k0_hw407.2.1.2.2.2.1 k0_t104 k0_t106 k0_h2
theorem k0_off1581_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1581 v41 v43 v319 v321 k0_t104 k0_t106) a + S1x16.size a ≤ S196x384.size a := fun i v10 v41 v43 v319 v321 k0_hw407 k0_t104 k0_t106 k0_h2 => k0_hw407.2.1.2.2.2.2.1 k0_t104 k0_t106 k0_h2
theorem k0_off1582_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1582 v41 v43 v319 v321 k0_t104 k0_t106) a + S1x16.size a ≤ S196x384.size a := fun i v10 v41 v43 v319 v321 k0_hw407 k0_t104 k0_t106 k0_h2 => k0_hw407.2.1.2.2.2.2.2.1 k0_t104 k0_t106 k0_h2
theorem k0_off1583_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1583 v41 v43 v319 v321 k0_t104 k0_t106) a + S1x16.size a ≤ S196x384.size a := fun i v10 v41 v43 v319 v321 k0_hw407 k0_t104 k0_t106 k0_h2 => k0_hw407.2.1.2.2.2.2.2.2.1 k0_t104 k0_t106 k0_h2
theorem k0_off1584_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1584 v41 v43 v319 v321 k0_t104 k0_t106) a + S1x16.size a ≤ S196x384.size a := fun i v10 v41 v43 v319 v321 k0_hw407 k0_t104 k0_t106 k0_h2 => k0_hw407.2.1.2.2.2.2.2.2.2.1 k0_t104 k0_t106 k0_h2
theorem k0_off1585_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1585 v41 v43 v319 v321 k0_t104 k0_t106) a + S1x16.size a ≤ S196x384.size a := fun i v10 v41 v43 v319 v321 k0_hw407 k0_t104 k0_t106 k0_h2 => k0_hw407.2.1.2.2.2.2.2.2.2.2.1 k0_t104 k0_t106 k0_h2
theorem k0_off1586_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1586 v41 v43 v319 v321 k0_t104 k0_t106) a + S1x16.size a ≤ S196x384.size a := fun i v10 v41 v43 v319 v321 k0_hw407 k0_t104 k0_t106 k0_h2 => k0_hw407.2.1.2.2.2.2.2.2.2.2.2.1 k0_t104 k0_t106 k0_h2
theorem k0_off1587_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1587 v41 v43 v319 v321 k0_t104 k0_t106) a + S1x16.size a ≤ S196x384.size a := fun i v10 v41 v43 v319 v321 k0_hw407 k0_t104 k0_t106 k0_h2 => k0_hw407.2.1.2.2.2.2.2.2.2.2.2.2.1 k0_t104 k0_t106 k0_h2
theorem k0_off1588_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1588 v41 v43 v319 v321 k0_t104 k0_t106) a + S1x16.size a ≤ S196x384.size a := fun i v10 v41 v43 v319 v321 k0_hw407 k0_t104 k0_t106 k0_h2 => k0_hw407.2.1.2.2.2.2.2.2.2.2.2.2.2.1 k0_t104 k0_t106 k0_h2
theorem k0_off1589_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1589 v41 v43 v319 v321 k0_t104 k0_t106) a + S1x16.size a ≤ S196x384.size a := fun i v10 v41 v43 v319 v321 k0_hw407 k0_t104 k0_t106 k0_h2 => k0_hw407.2.1.2.2.2.2.2.2.2.2.2.2.2.2.1 k0_t104 k0_t106 k0_h2
theorem k0_off1590_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1590 v41 v43 v319 v321 k0_t104 k0_t106) a + S1x16.size a ≤ S196x384.size a := fun i v10 v41 v43 v319 v321 k0_hw407 k0_t104 k0_t106 k0_h2 => k0_hw407.2.1.2.2.2.2.2.2.2.2.2.2.2.2.2.1 k0_t104 k0_t106 k0_h2
theorem k0_off1591_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1591 v41 v43 v319 v321 k0_t104 k0_t106) a + S1x16.size a ≤ S196x384.size a := fun i v10 v41 v43 v319 v321 k0_hw407 k0_t104 k0_t106 k0_h2 => k0_hw407.2.1.2.2.2.2.2.2.2.2.2.2.2.2.2.2.1 k0_t104 k0_t106 k0_h2
theorem k0_off1592_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1592 v41 v43 v319 v321 k0_t104 k0_t106) a + S1x16.size a ≤ S196x384.size a := fun i v10 v41 v43 v319 v321 k0_hw407 k0_t104 k0_t106 k0_h2 => k0_hw407.2.1.2.2.2.2.2.2.2.2.2.2.2.2.2.2.2.1 k0_t104 k0_t106 k0_h2
theorem k0_off1593_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1593 v41 v43 v319 v321 k0_t104 k0_t106) a + S1x16.size a ≤ S196x384.size a := fun i v10 v41 v43 v319 v321 k0_hw407 k0_t104 k0_t106 k0_h2 => k0_hw407.2.1.2.2.2.2.2.2.2.2.2.2.2.2.2.2.2.2.1 k0_t104 k0_t106 k0_h2
theorem k0_off1594_inb : ∀ (i : grid0.Coords) (v10 : BitVec 32) (v41 : BitVec 32) (v43 : BitVec 32) (v319 : BitVec 32) (v321 : BitVec 32) (k0_hw407 : k0_chk407 i v10 v41 v43 v319 v321) (k0_t104 : Fin (k0_t104_loop v41 v43).trips) (k0_t106 : Fin (k0_t106_loop v319 v321).trips), ∀ (k0_h2 : k0_cond2 i v10 = 1#1), ∀ a, (k0_off1594 v41 v43 v319 v321 k0_t104 k0_t106) a + S1x16.size a ≤ S196x384.size a := fun i v10 v41 v43 v319 v321 k0_hw407 k0_t104 k0_t106 k0_h2 => k0_hw407.2.1.2.2.2.2.2.2.2.2.2.2.2.2.2.2.2.2.2.1 k0_t104 k0_t106 k0_h2
theorem k0_t108_ok : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips), ∀ (k0_h2 : k0_cond2 i v10 = 1#1), (k0_t108_loop v319 v321).OK := fun i v10 v41 v43 v319 v321 k0_hw407 k0_t107 k0_h2 => k0_hw407.2.1.2.2.2.2.2.2.2.2.2.2.2.2.2.2.2.2.2.2.1 k0_t107 k0_h2
theorem k0_off1595_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1595 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.1 k0_t107 k0_t108 k0_h2
theorem k0_off1596_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1596 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.1 k0_t107 k0_t108 k0_h2
theorem k0_off1597_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1597 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.1 k0_t107 k0_t108 k0_h2
theorem k0_off1598_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1598 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.1 k0_t107 k0_t108 k0_h2
theorem k0_off1599_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1599 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.2.1 k0_t107 k0_t108 k0_h2
theorem k0_off1600_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1600 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.2.2.1 k0_t107 k0_t108 k0_h2
theorem k0_off1601_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1601 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.2.2.2.1 k0_t107 k0_t108 k0_h2
theorem k0_off1602_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1602 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.2.2.2.2.1 k0_t107 k0_t108 k0_h2
theorem k0_off1603_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1603 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.2.2.2.2.2.1 k0_t107 k0_t108 k0_h2
theorem k0_off1604_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1604 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.2.2.2.2.2.2.1 k0_t107 k0_t108 k0_h2
theorem k0_off1605_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1605 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.2.2.2.2.2.2.2.1 k0_t107 k0_t108 k0_h2
theorem k0_off1606_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1606 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.2.2.2.2.2.2.2.2.1 k0_t107 k0_t108 k0_h2
theorem k0_off1607_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1607 v41 v43 v319 v321 k0_t107 k0_t108) a + S1x16.size a ≤ S196x384.size a := fun i v10 v41 v43 v319 v321 k0_hw407 k0_t107 k0_t108 k0_h2 => k0_hw407.2.1.2.2.2.2.2.2.2.2.2.2.2.2.2.2.2.2.2.2.2.2.2.2.2.2.2.2.2.2.2.2.2 k0_t107 k0_t108 k0_h2
theorem k0_off1608_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1608 v41 v43 v319 v321 k0_t107 k0_t108) a + S1x16.size a ≤ S196x384.size a := fun i v10 v41 v43 v319 v321 k0_hw407 k0_t107 k0_t108 k0_h2 => k0_hw407.2.2.1.1 k0_t107 k0_t108 k0_h2
theorem k0_off1609_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1609 v41 v43 v319 v321 k0_t107 k0_t108) a + S1x16.size a ≤ S196x384.size a := fun i v10 v41 v43 v319 v321 k0_hw407 k0_t107 k0_t108 k0_h2 => k0_hw407.2.2.1.2.1 k0_t107 k0_t108 k0_h2
theorem k0_off1610_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1610 v41 v43 v319 v321 k0_t107 k0_t108) a + S1x16.size a ≤ S196x384.size a := fun i v10 v41 v43 v319 v321 k0_hw407 k0_t107 k0_t108 k0_h2 => k0_hw407.2.2.1.2.2.1 k0_t107 k0_t108 k0_h2
theorem k0_off1611_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1611 v41 v43 v319 v321 k0_t107 k0_t108) a + S1x16.size a ≤ S196x384.size a := fun i v10 v41 v43 v319 v321 k0_hw407 k0_t107 k0_t108 k0_h2 => k0_hw407.2.2.1.2.2.2.1 k0_t107 k0_t108 k0_h2
theorem k0_off1612_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1612 v41 v43 v319 v321 k0_t107 k0_t108) a + S1x16.size a ≤ S196x384.size a := fun i v10 v41 v43 v319 v321 k0_hw407 k0_t107 k0_t108 k0_h2 => k0_hw407.2.2.1.2.2.2.2.1 k0_t107 k0_t108 k0_h2
theorem k0_off1613_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1613 v41 v43 v319 v321 k0_t107 k0_t108) a + S1x16.size a ≤ S196x384.size a := fun i v10 v41 v43 v319 v321 k0_hw407 k0_t107 k0_t108 k0_h2 => k0_hw407.2.2.1.2.2.2.2.2.1 k0_t107 k0_t108 k0_h2
theorem k0_off1614_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1614 v41 v43 v319 v321 k0_t107 k0_t108) a + S1x16.size a ≤ S196x384.size a := fun i v10 v41 v43 v319 v321 k0_hw407 k0_t107 k0_t108 k0_h2 => k0_hw407.2.2.1.2.2.2.2.2.2.1 k0_t107 k0_t108 k0_h2
theorem k0_off1615_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1615 v41 v43 v319 v321 k0_t107 k0_t108) a + S1x16.size a ≤ S196x384.size a := fun i v10 v41 v43 v319 v321 k0_hw407 k0_t107 k0_t108 k0_h2 => k0_hw407.2.2.1.2.2.2.2.2.2.2.1 k0_t107 k0_t108 k0_h2
theorem k0_off1616_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1616 v41 v43 v319 v321 k0_t107 k0_t108) a + S1x16.size a ≤ S196x384.size a := fun i v10 v41 v43 v319 v321 k0_hw407 k0_t107 k0_t108 k0_h2 => k0_hw407.2.2.1.2.2.2.2.2.2.2.2.1 k0_t107 k0_t108 k0_h2
theorem k0_off1617_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1617 v41 v43 v319 v321 k0_t107 k0_t108) a + S1x16.size a ≤ S196x384.size a := fun i v10 v41 v43 v319 v321 k0_hw407 k0_t107 k0_t108 k0_h2 => k0_hw407.2.2.1.2.2.2.2.2.2.2.2.2.1 k0_t107 k0_t108 k0_h2
theorem k0_off1618_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t108 : Fin (k0_t108_loop v319 v321).trips), ∀ (k0_h2 : k0_cond2 i v10 = 1#1), ∀ a, (k0_off1618 v41 v43 v319 v321 k0_t107 k0_t108) a + S1x16.size a ≤ S196x384.size a := fun i v10 v41 v43 v319 v321 k0_hw407 k0_t107 k0_t108 k0_h2 => k0_hw407.2.2.1.2.2.2.2.2.2.2.2.2.2.1 k0_t107 k0_t108 k0_h2
theorem k0_t109_ok : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips), ∀ (k0_h2 : k0_cond2 i v10 = 1#1), (k0_t109_loop v319 v321).OK := fun i v10 v41 v43 v319 v321 k0_hw407 k0_t107 k0_h2 => k0_hw407.2.2.1.2.2.2.2.2.2.2.2.2.2.2.1 k0_t107 k0_h2
theorem k0_off1619_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1619 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.1 k0_t107 k0_t109 k0_h2
theorem k0_off1620_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1620 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.1 k0_t107 k0_t109 k0_h2
theorem k0_off1621_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1621 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.1 k0_t107 k0_t109 k0_h2
theorem k0_off1622_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1622 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.1 k0_t107 k0_t109 k0_h2
theorem k0_off1623_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1623 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.1 k0_t107 k0_t109 k0_h2
theorem k0_off1624_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1624 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.1 k0_t107 k0_t109 k0_h2
theorem k0_off1625_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1625 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.1 k0_t107 k0_t109 k0_h2
theorem k0_off1626_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1626 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.1 k0_t107 k0_t109 k0_h2
theorem k0_off1627_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1627 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.1 k0_t107 k0_t109 k0_h2
theorem k0_off1628_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1628 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.1 k0_t107 k0_t109 k0_h2
theorem k0_off1629_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1629 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.1 k0_t107 k0_t109 k0_h2
theorem k0_off1630_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1630 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.2.1 k0_t107 k0_t109 k0_h2
theorem k0_off1631_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1631 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.2.2.1 k0_t107 k0_t109 k0_h2
theorem k0_off1632_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1632 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.2.2.2.1 k0_t107 k0_t109 k0_h2
theorem k0_off1633_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1633 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.2.2.2.2.1 k0_t107 k0_t109 k0_h2
theorem k0_off1634_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1634 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.2.2.2.2.2.1 k0_t107 k0_t109 k0_h2
theorem k0_off1635_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1635 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.2.2.2.2.2.2.1 k0_t107 k0_t109 k0_h2
theorem k0_off1636_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1636 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.2.2.2.2.2.2.2.1 k0_t107 k0_t109 k0_h2
theorem k0_off1637_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1637 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.2.2.2.2.2.2.2.2.1 k0_t107 k0_t109 k0_h2
theorem k0_off1638_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1638 v41 v43 v319 v321 k0_t107 k0_t109) a + S1x16.size a ≤ S196x384.size a := fun i v10 v41 v43 v319 v321 k0_hw407 k0_t107 k0_t109 k0_h2 => k0_hw407.2.2.1.2.2.2.2.2.2.2.2.2.2.2.2.2.2.2.2.2.2.2.2.2.2.2.2.2.2.2.2.2.2.2 k0_t107 k0_t109 k0_h2
theorem k0_off1639_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1639 v41 v43 v319 v321 k0_t107 k0_t109) a + S1x16.size a ≤ S196x384.size a := fun i v10 v41 v43 v319 v321 k0_hw407 k0_t107 k0_t109 k0_h2 => k0_hw407.2.2.2.1 k0_t107 k0_t109 k0_h2
theorem k0_off1640_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1640 v41 v43 v319 v321 k0_t107 k0_t109) a + S1x16.size a ≤ S196x384.size a := fun i v10 v41 v43 v319 v321 k0_hw407 k0_t107 k0_t109 k0_h2 => k0_hw407.2.2.2.2.1 k0_t107 k0_t109 k0_h2
theorem k0_off1641_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1641 v41 v43 v319 v321 k0_t107 k0_t109) a + S1x16.size a ≤ S196x384.size a := fun i v10 v41 v43 v319 v321 k0_hw407 k0_t107 k0_t109 k0_h2 => k0_hw407.2.2.2.2.2.1 k0_t107 k0_t109 k0_h2
theorem k0_off1642_inb : ∀ (i : grid0.Coords) (v10 : BitVec 32) (v41 : BitVec 32) (v43 : BitVec 32) (v319 : BitVec 32) (v321 : BitVec 32) (k0_hw407 : k0_chk407 i v10 v41 v43 v319 v321) (k0_t107 : Fin (k0_t107_loop v41 v43).trips) (k0_t109 : Fin (k0_t109_loop v319 v321).trips), ∀ (k0_h2 : k0_cond2 i v10 = 1#1), ∀ a, (k0_off1642 v41 v43 v319 v321 k0_t107 k0_t109) a + S1x16.size a ≤ S196x384.size a := fun i v10 v41 v43 v319 v321 k0_hw407 k0_t107 k0_t109 k0_h2 => k0_hw407.2.2.2.2.2.2 k0_t107 k0_t109 k0_h2

def k0_chk408 (i : grid0.Coords) (v10 : BitVec 32) (v339 : IVec S16 32) : Prop :=
  (∀ (k0_h2 : k0_cond2 i v10 = 1#1), ∀ a x, ((![v339] : Fin 1 → IVec S16 32) a x).toNat < S18816.size a)
theorem k0_idx385_inb : ∀ (i : grid0.Coords) (v10 : BitVec 32) (v339 : IVec S16 32) (k0_hw408 : k0_chk408 i v10 v339), ∀ (k0_h2 : k0_cond2 i v10 = 1#1), ∀ a x, ((![v339] : Fin 1 → IVec S16 32) a x).toNat < S18816.size a := fun i v10 v339 k0_hw408 k0_h2 => k0_hw408 k0_h2

def k0_chk409 (i : grid0.Coords) (v10 : BitVec 32) (v344 : IVec S16 32) : Prop :=
  (∀ (k0_h2 : k0_cond2 i v10 = 1#1), ∀ a x, ((![v344] : Fin 1 → IVec S16 32) a x).toNat < S18816.size a)
theorem k0_idx386_inb : ∀ (i : grid0.Coords) (v10 : BitVec 32) (v344 : IVec S16 32) (k0_hw409 : k0_chk409 i v10 v344), ∀ (k0_h2 : k0_cond2 i v10 = 1#1), ∀ a x, ((![v344] : Fin 1 → IVec S16 32) a x).toNat < S18816.size a := fun i v10 v344 k0_hw409 k0_h2 => k0_hw409 k0_h2

def k0_chk410 (i : grid0.Coords) (v10 : BitVec 32) (v349 : IVec S16 32) : Prop :=
  (∀ (k0_h2 : k0_cond2 i v10 = 1#1), ∀ a x, ((![v349] : Fin 1 → IVec S16 32) a x).toNat < S18816.size a)
theorem k0_idx387_inb : ∀ (i : grid0.Coords) (v10 : BitVec 32) (v349 : IVec S16 32) (k0_hw410 : k0_chk410 i v10 v349), ∀ (k0_h2 : k0_cond2 i v10 = 1#1), ∀ a x, ((![v349] : Fin 1 → IVec S16 32) a x).toNat < S18816.size a := fun i v10 v349 k0_hw410 k0_h2 => k0_hw410 k0_h2

def k0_chk411 (i : grid0.Coords) (v10 : BitVec 32) (v354 : IVec S16 32) : Prop :=
  (∀ (k0_h2 : k0_cond2 i v10 = 1#1), ∀ a x, ((![v354] : Fin 1 → IVec S16 32) a x).toNat < S18816.size a)
theorem k0_idx388_inb : ∀ (i : grid0.Coords) (v10 : BitVec 32) (v354 : IVec S16 32) (k0_hw411 : k0_chk411 i v10 v354), ∀ (k0_h2 : k0_cond2 i v10 = 1#1), ∀ a x, ((![v354] : Fin 1 → IVec S16 32) a x).toNat < S18816.size a := fun i v10 v354 k0_hw411 k0_h2 => k0_hw411 k0_h2

def k0_chk412 (i : grid0.Coords) (v10 : BitVec 32) (v359 : IVec S16 32) : Prop :=
  (∀ (k0_h2 : k0_cond2 i v10 = 1#1), ∀ a x, ((![v359] : Fin 1 → IVec S16 32) a x).toNat < S18816.size a)
theorem k0_idx389_inb : ∀ (i : grid0.Coords) (v10 : BitVec 32) (v359 : IVec S16 32) (k0_hw412 : k0_chk412 i v10 v359), ∀ (k0_h2 : k0_cond2 i v10 = 1#1), ∀ a x, ((![v359] : Fin 1 → IVec S16 32) a x).toNat < S18816.size a := fun i v10 v359 k0_hw412 k0_h2 => k0_hw412 k0_h2

def k0_chk413 (i : grid0.Coords) (v10 : BitVec 32) (v364 : IVec S16 32) : Prop :=
  (∀ (k0_h2 : k0_cond2 i v10 = 1#1), ∀ a x, ((![v364] : Fin 1 → IVec S16 32) a x).toNat < S18816.size a)
theorem k0_idx390_inb : ∀ (i : grid0.Coords) (v10 : BitVec 32) (v364 : IVec S16 32) (k0_hw413 : k0_chk413 i v10 v364), ∀ (k0_h2 : k0_cond2 i v10 = 1#1), ∀ a x, ((![v364] : Fin 1 → IVec S16 32) a x).toNat < S18816.size a := fun i v10 v364 k0_hw413 k0_h2 => k0_hw413 k0_h2

def k0_chk414 (i : grid0.Coords) (v10 : BitVec 32) (v369 : IVec S16 32) : Prop :=
  (∀ (k0_h2 : k0_cond2 i v10 = 1#1), ∀ a x, ((![v369] : Fin 1 → IVec S16 32) a x).toNat < S18816.size a)
theorem k0_idx391_inb : ∀ (i : grid0.Coords) (v10 : BitVec 32) (v369 : IVec S16 32) (k0_hw414 : k0_chk414 i v10 v369), ∀ (k0_h2 : k0_cond2 i v10 = 1#1), ∀ a x, ((![v369] : Fin 1 → IVec S16 32) a x).toNat < S18816.size a := fun i v10 v369 k0_hw414 k0_h2 => k0_hw414 k0_h2

def k0_chk415 (i : grid0.Coords) (v10 : BitVec 32) (v374 : IVec S16 32) : Prop :=
  (∀ (k0_h2 : k0_cond2 i v10 = 1#1), ∀ a x, ((![v374] : Fin 1 → IVec S16 32) a x).toNat < S18816.size a)
theorem k0_idx392_inb : ∀ (i : grid0.Coords) (v10 : BitVec 32) (v374 : IVec S16 32) (k0_hw415 : k0_chk415 i v10 v374), ∀ (k0_h2 : k0_cond2 i v10 = 1#1), ∀ a x, ((![v374] : Fin 1 → IVec S16 32) a x).toNat < S18816.size a := fun i v10 v374 k0_hw415 k0_h2 => k0_hw415 k0_h2

def k0_chk416 (i : grid0.Coords) (v10 : BitVec 32) (v379 : IVec S16 32) : Prop :=
  (∀ (k0_h2 : k0_cond2 i v10 = 1#1), ∀ a x, ((![v379] : Fin 1 → IVec S16 32) a x).toNat < S18816.size a)
theorem k0_idx393_inb : ∀ (i : grid0.Coords) (v10 : BitVec 32) (v379 : IVec S16 32) (k0_hw416 : k0_chk416 i v10 v379), ∀ (k0_h2 : k0_cond2 i v10 = 1#1), ∀ a x, ((![v379] : Fin 1 → IVec S16 32) a x).toNat < S18816.size a := fun i v10 v379 k0_hw416 k0_h2 => k0_hw416 k0_h2

def k0_chk417 (i : grid0.Coords) (v10 : BitVec 32) (v384 : IVec S16 32) : Prop :=
  (∀ (k0_h2 : k0_cond2 i v10 = 1#1), ∀ a x, ((![v384] : Fin 1 → IVec S16 32) a x).toNat < S18816.size a)
theorem k0_idx394_inb : ∀ (i : grid0.Coords) (v10 : BitVec 32) (v384 : IVec S16 32) (k0_hw417 : k0_chk417 i v10 v384), ∀ (k0_h2 : k0_cond2 i v10 = 1#1), ∀ a x, ((![v384] : Fin 1 → IVec S16 32) a x).toNat < S18816.size a := fun i v10 v384 k0_hw417 k0_h2 => k0_hw417 k0_h2

def k0_chk418 (i : grid0.Coords) (v10 : BitVec 32) (v389 : IVec S16 32) : Prop :=
  (∀ (k0_h2 : k0_cond2 i v10 = 1#1), ∀ a x, ((![v389] : Fin 1 → IVec S16 32) a x).toNat < S18816.size a)
theorem k0_idx395_inb : ∀ (i : grid0.Coords) (v10 : BitVec 32) (v389 : IVec S16 32) (k0_hw418 : k0_chk418 i v10 v389), ∀ (k0_h2 : k0_cond2 i v10 = 1#1), ∀ a x, ((![v389] : Fin 1 → IVec S16 32) a x).toNat < S18816.size a := fun i v10 v389 k0_hw418 k0_h2 => k0_hw418 k0_h2

def k0_chk419 (i : grid0.Coords) (v10 : BitVec 32) (v394 : IVec S16 32) : Prop :=
  (∀ (k0_h2 : k0_cond2 i v10 = 1#1), ∀ a x, ((![v394] : Fin 1 → IVec S16 32) a x).toNat < S18816.size a)
theorem k0_idx396_inb : ∀ (i : grid0.Coords) (v10 : BitVec 32) (v394 : IVec S16 32) (k0_hw419 : k0_chk419 i v10 v394), ∀ (k0_h2 : k0_cond2 i v10 = 1#1), ∀ a x, ((![v394] : Fin 1 → IVec S16 32) a x).toNat < S18816.size a := fun i v10 v394 k0_hw419 k0_h2 => k0_hw419 k0_h2

def k0_chk420 (i : grid0.Coords) (v10 : BitVec 32) (v399 : IVec S16 32) : Prop :=
  (∀ (k0_h2 : k0_cond2 i v10 = 1#1), ∀ a x, ((![v399] : Fin 1 → IVec S16 32) a x).toNat < S18816.size a)
theorem k0_idx397_inb : ∀ (i : grid0.Coords) (v10 : BitVec 32) (v399 : IVec S16 32) (k0_hw420 : k0_chk420 i v10 v399), ∀ (k0_h2 : k0_cond2 i v10 = 1#1), ∀ a x, ((![v399] : Fin 1 → IVec S16 32) a x).toNat < S18816.size a := fun i v10 v399 k0_hw420 k0_h2 => k0_hw420 k0_h2

def k0_chk421 (i : grid0.Coords) (v10 : BitVec 32) (v404 : IVec S16 32) : Prop :=
  (∀ (k0_h2 : k0_cond2 i v10 = 1#1), ∀ a x, ((![v404] : Fin 1 → IVec S16 32) a x).toNat < S18816.size a)
theorem k0_idx398_inb : ∀ (i : grid0.Coords) (v10 : BitVec 32) (v404 : IVec S16 32) (k0_hw421 : k0_chk421 i v10 v404), ∀ (k0_h2 : k0_cond2 i v10 = 1#1), ∀ a x, ((![v404] : Fin 1 → IVec S16 32) a x).toNat < S18816.size a := fun i v10 v404 k0_hw421 k0_h2 => k0_hw421 k0_h2

def k0_chk422 (i : grid0.Coords) (v10 : BitVec 32) (v409 : IVec S16 32) : Prop :=
  (∀ (k0_h2 : k0_cond2 i v10 = 1#1), ∀ a x, ((![v409] : Fin 1 → IVec S16 32) a x).toNat < S18816.size a)
theorem k0_idx399_inb : ∀ (i : grid0.Coords) (v10 : BitVec 32) (v409 : IVec S16 32) (k0_hw422 : k0_chk422 i v10 v409), ∀ (k0_h2 : k0_cond2 i v10 = 1#1), ∀ a x, ((![v409] : Fin 1 → IVec S16 32) a x).toNat < S18816.size a := fun i v10 v409 k0_hw422 k0_h2 => k0_hw422 k0_h2

def k0_chk423 (i : grid0.Coords) (v10 : BitVec 32) (v414 : IVec S16 32) : Prop :=
  (∀ (k0_h2 : k0_cond2 i v10 = 1#1), ∀ a x, ((![v414] : Fin 1 → IVec S16 32) a x).toNat < S18816.size a)
theorem k0_idx400_inb : ∀ (i : grid0.Coords) (v10 : BitVec 32) (v414 : IVec S16 32) (k0_hw423 : k0_chk423 i v10 v414), ∀ (k0_h2 : k0_cond2 i v10 = 1#1), ∀ a x, ((![v414] : Fin 1 → IVec S16 32) a x).toNat < S18816.size a := fun i v10 v414 k0_hw423 k0_h2 => k0_hw423 k0_h2

def k0_chk424 (i : grid0.Coords) (v10 : BitVec 32) (v419 : IVec S16 32) : Prop :=
  (∀ (k0_h2 : k0_cond2 i v10 = 1#1), ∀ a x, ((![v419] : Fin 1 → IVec S16 32) a x).toNat < S18816.size a)
theorem k0_idx401_inb : ∀ (i : grid0.Coords) (v10 : BitVec 32) (v419 : IVec S16 32) (k0_hw424 : k0_chk424 i v10 v419), ∀ (k0_h2 : k0_cond2 i v10 = 1#1), ∀ a x, ((![v419] : Fin 1 → IVec S16 32) a x).toNat < S18816.size a := fun i v10 v419 k0_hw424 k0_h2 => k0_hw424 k0_h2

def k0_chk425 (i : grid0.Coords) (v10 : BitVec 32) (v424 : IVec S16 32) : Prop :=
  (∀ (k0_h2 : k0_cond2 i v10 = 1#1), ∀ a x, ((![v424] : Fin 1 → IVec S16 32) a x).toNat < S18816.size a)
theorem k0_idx402_inb : ∀ (i : grid0.Coords) (v10 : BitVec 32) (v424 : IVec S16 32) (k0_hw425 : k0_chk425 i v10 v424), ∀ (k0_h2 : k0_cond2 i v10 = 1#1), ∀ a x, ((![v424] : Fin 1 → IVec S16 32) a x).toNat < S18816.size a := fun i v10 v424 k0_hw425 k0_h2 => k0_hw425 k0_h2

def k0_chk426 (i : grid0.Coords) (v10 : BitVec 32) (v429 : IVec S16 32) : Prop :=
  (∀ (k0_h2 : k0_cond2 i v10 = 1#1), ∀ a x, ((![v429] : Fin 1 → IVec S16 32) a x).toNat < S18816.size a)
theorem k0_idx403_inb : ∀ (i : grid0.Coords) (v10 : BitVec 32) (v429 : IVec S16 32) (k0_hw426 : k0_chk426 i v10 v429), ∀ (k0_h2 : k0_cond2 i v10 = 1#1), ∀ a x, ((![v429] : Fin 1 → IVec S16 32) a x).toNat < S18816.size a := fun i v10 v429 k0_hw426 k0_h2 => k0_hw426 k0_h2

def k0_chk427 (i : grid0.Coords) (v10 : BitVec 32) (v434 : IVec S16 32) : Prop :=
  (∀ (k0_h2 : k0_cond2 i v10 = 1#1), ∀ a x, ((![v434] : Fin 1 → IVec S16 32) a x).toNat < S18816.size a)
theorem k0_idx404_inb : ∀ (i : grid0.Coords) (v10 : BitVec 32) (v434 : IVec S16 32) (k0_hw427 : k0_chk427 i v10 v434), ∀ (k0_h2 : k0_cond2 i v10 = 1#1), ∀ a x, ((![v434] : Fin 1 → IVec S16 32) a x).toNat < S18816.size a := fun i v10 v434 k0_hw427 k0_h2 => k0_hw427 k0_h2

def k0_chk428 (i : grid0.Coords) (v10 : BitVec 32) (v439 : IVec S16 32) : Prop :=
  (∀ (k0_h2 : k0_cond2 i v10 = 1#1), ∀ a x, ((![v439] : Fin 1 → IVec S16 32) a x).toNat < S18816.size a)
theorem k0_idx405_inb : ∀ (i : grid0.Coords) (v10 : BitVec 32) (v439 : IVec S16 32) (k0_hw428 : k0_chk428 i v10 v439), ∀ (k0_h2 : k0_cond2 i v10 = 1#1), ∀ a x, ((![v439] : Fin 1 → IVec S16 32) a x).toNat < S18816.size a := fun i v10 v439 k0_hw428 k0_h2 => k0_hw428 k0_h2

def k0_chk429 (i : grid0.Coords) (v10 : BitVec 32) (v444 : IVec S16 32) : Prop :=
  (∀ (k0_h2 : k0_cond2 i v10 = 1#1), ∀ a x, ((![v444] : Fin 1 → IVec S16 32) a x).toNat < S18816.size a)
theorem k0_idx406_inb : ∀ (i : grid0.Coords) (v10 : BitVec 32) (v444 : IVec S16 32) (k0_hw429 : k0_chk429 i v10 v444), ∀ (k0_h2 : k0_cond2 i v10 = 1#1), ∀ a x, ((![v444] : Fin 1 → IVec S16 32) a x).toNat < S18816.size a := fun i v10 v444 k0_hw429 k0_h2 => k0_hw429 k0_h2

def k0_chk430 (i : grid0.Coords) (v10 : BitVec 32) (v449 : IVec S16 32) : Prop :=
  (∀ (k0_h2 : k0_cond2 i v10 = 1#1), ∀ a x, ((![v449] : Fin 1 → IVec S16 32) a x).toNat < S18816.size a)
theorem k0_idx407_inb : ∀ (i : grid0.Coords) (v10 : BitVec 32) (v449 : IVec S16 32) (k0_hw430 : k0_chk430 i v10 v449), ∀ (k0_h2 : k0_cond2 i v10 = 1#1), ∀ a x, ((![v449] : Fin 1 → IVec S16 32) a x).toNat < S18816.size a := fun i v10 v449 k0_hw430 k0_h2 => k0_hw430 k0_h2

def k0_chk431 (i : grid0.Coords) (v10 : BitVec 32) (v454 : IVec S16 32) : Prop :=
  (∀ (k0_h2 : k0_cond2 i v10 = 1#1), ∀ a x, ((![v454] : Fin 1 → IVec S16 32) a x).toNat < S18816.size a)
theorem k0_idx408_inb : ∀ (i : grid0.Coords) (v10 : BitVec 32) (v454 : IVec S16 32) (k0_hw431 : k0_chk431 i v10 v454), ∀ (k0_h2 : k0_cond2 i v10 = 1#1), ∀ a x, ((![v454] : Fin 1 → IVec S16 32) a x).toNat < S18816.size a := fun i v10 v454 k0_hw431 k0_h2 => k0_hw431 k0_h2
@[reducible] def k0_t110_loop (v41 : BitVec 32) (v43 : BitVec 32) : Scf.Loop 32 :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_164 : BitVec 32 := 1#32
  ⟨v41, v464, c1_i32_164⟩
@[reducible] def k0_t111_loop (v456 : BitVec 32) (v458 : BitVec 32) : Scf.Loop 32 :=
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_375 : BitVec 32 := 1#32
  ⟨v456, v1008, c1_i32_375⟩

def k0_off1643 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1012 : Index := Scalar.indexCast v1011
  let c0_377 : Index := 0#32
  ![v1012.toNat, 0]
def k0_off1644 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1015 : Index := Scalar.indexCast v1011
  let c16 : Index := 16#32
  ![v1015.toNat, 16]
def k0_off1645 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1018 : Index := Scalar.indexCast v1011
  let c32 : Index := 32#32
  ![v1018.toNat, 32]
def k0_off1646 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1021 : Index := Scalar.indexCast v1011
  let c48 : Index := 48#32
  ![v1021.toNat, 48]
def k0_off1647 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1024 : Index := Scalar.indexCast v1011
  let c64 : Index := 64#32
  ![v1024.toNat, 64]
def k0_off1648 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1027 : Index := Scalar.indexCast v1011
  let c80 : Index := 80#32
  ![v1027.toNat, 80]
def k0_off1649 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1030 : Index := Scalar.indexCast v1011
  let c96 : Index := 96#32
  ![v1030.toNat, 96]
def k0_off1650 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1033 : Index := Scalar.indexCast v1011
  let c112 : Index := 112#32
  ![v1033.toNat, 112]
def k0_off1651 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1036 : Index := Scalar.indexCast v1011
  let c128 : Index := 128#32
  ![v1036.toNat, 128]
def k0_off1652 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1039 : Index := Scalar.indexCast v1011
  let c144 : Index := 144#32
  ![v1039.toNat, 144]
def k0_off1653 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1042 : Index := Scalar.indexCast v1011
  let c160 : Index := 160#32
  ![v1042.toNat, 160]
def k0_off1654 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1045 : Index := Scalar.indexCast v1011
  let c176 : Index := 176#32
  ![v1045.toNat, 176]
def k0_off1655 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1048 : Index := Scalar.indexCast v1011
  let c192 : Index := 192#32
  ![v1048.toNat, 192]
def k0_off1656 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1051 : Index := Scalar.indexCast v1011
  let c208 : Index := 208#32
  ![v1051.toNat, 208]
def k0_off1657 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1054 : Index := Scalar.indexCast v1011
  let c224 : Index := 224#32
  ![v1054.toNat, 224]
def k0_off1658 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1057 : Index := Scalar.indexCast v1011
  let c240 : Index := 240#32
  ![v1057.toNat, 240]
def k0_off1659 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1060 : Index := Scalar.indexCast v1011
  let c256 : Index := 256#32
  ![v1060.toNat, 256]
def k0_off1660 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1063 : Index := Scalar.indexCast v1011
  let c272 : Index := 272#32
  ![v1063.toNat, 272]
def k0_off1661 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1066 : Index := Scalar.indexCast v1011
  let c288 : Index := 288#32
  ![v1066.toNat, 288]
def k0_off1662 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1069 : Index := Scalar.indexCast v1011
  let c304 : Index := 304#32
  ![v1069.toNat, 304]
def k0_off1663 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1072 : Index := Scalar.indexCast v1011
  let c320 : Index := 320#32
  ![v1072.toNat, 320]
def k0_off1664 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1075 : Index := Scalar.indexCast v1011
  let c336 : Index := 336#32
  ![v1075.toNat, 336]
def k0_off1665 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1078 : Index := Scalar.indexCast v1011
  let c352 : Index := 352#32
  ![v1078.toNat, 352]
def k0_off1666 (v41 : BitVec 32) (v43 : BitVec 32) (v456 : BitVec 32) (v458 : BitVec 32) (k0_t110 : Fin (k0_t110_loop v41 v43).trips) (k0_t111 : Fin (k0_t111_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let c1_i32_375 : BitVec 32 := 1#32
  let arg36 : BitVec 32 := Scf.iv v456 c1_i32_375 k0_t111
  let v1011 : BitVec 32 := Scalar.addi v1003 arg36
  let v1081 : Index := Scalar.indexCast v1011
  let c368 : Index := 368#32
  ![v1081.toNat, 368]
@[reducible] def k0_t112_loop (v456 : BitVec 32) (v458 : BitVec 32) : Scf.Loop 32 :=
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let v1005 : BitVec 32 := Scalar.addi v456 v1004
  let c1_i32_376 : BitVec 32 := 1#32
  ⟨v1008, v1005, c1_i32_376⟩
def k0_off1667 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1012 : Index := Scalar.indexCast v1011
  let c0_377 : Index := 0#32
  ![v1012.toNat, 0]
def k0_off1668 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1015 : Index := Scalar.indexCast v1011
  let c16 : Index := 16#32
  ![v1015.toNat, 16]
def k0_off1669 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1018 : Index := Scalar.indexCast v1011
  let c32 : Index := 32#32
  ![v1018.toNat, 32]
def k0_off1670 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1021 : Index := Scalar.indexCast v1011
  let c48 : Index := 48#32
  ![v1021.toNat, 48]
def k0_off1671 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1024 : Index := Scalar.indexCast v1011
  let c64 : Index := 64#32
  ![v1024.toNat, 64]
def k0_off1672 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1027 : Index := Scalar.indexCast v1011
  let c80 : Index := 80#32
  ![v1027.toNat, 80]
def k0_off1673 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1030 : Index := Scalar.indexCast v1011
  let c96 : Index := 96#32
  ![v1030.toNat, 96]
def k0_off1674 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1033 : Index := Scalar.indexCast v1011
  let c112 : Index := 112#32
  ![v1033.toNat, 112]
def k0_off1675 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1036 : Index := Scalar.indexCast v1011
  let c128 : Index := 128#32
  ![v1036.toNat, 128]
def k0_off1676 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1039 : Index := Scalar.indexCast v1011
  let c144 : Index := 144#32
  ![v1039.toNat, 144]
def k0_off1677 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1042 : Index := Scalar.indexCast v1011
  let c160 : Index := 160#32
  ![v1042.toNat, 160]
def k0_off1678 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1045 : Index := Scalar.indexCast v1011
  let c176 : Index := 176#32
  ![v1045.toNat, 176]
def k0_off1679 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1048 : Index := Scalar.indexCast v1011
  let c192 : Index := 192#32
  ![v1048.toNat, 192]
def k0_off1680 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1051 : Index := Scalar.indexCast v1011
  let c208 : Index := 208#32
  ![v1051.toNat, 208]
def k0_off1681 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1054 : Index := Scalar.indexCast v1011
  let c224 : Index := 224#32
  ![v1054.toNat, 224]
def k0_off1682 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1057 : Index := Scalar.indexCast v1011
  let c240 : Index := 240#32
  ![v1057.toNat, 240]
def k0_off1683 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1060 : Index := Scalar.indexCast v1011
  let c256 : Index := 256#32
  ![v1060.toNat, 256]
def k0_off1684 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1063 : Index := Scalar.indexCast v1011
  let c272 : Index := 272#32
  ![v1063.toNat, 272]
def k0_off1685 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1066 : Index := Scalar.indexCast v1011
  let c288 : Index := 288#32
  ![v1066.toNat, 288]
def k0_off1686 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1069 : Index := Scalar.indexCast v1011
  let c304 : Index := 304#32
  ![v1069.toNat, 304]
def k0_off1687 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1072 : Index := Scalar.indexCast v1011
  let c320 : Index := 320#32
  ![v1072.toNat, 320]
def k0_off1688 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1075 : Index := Scalar.indexCast v1011
  let c336 : Index := 336#32
  ![v1075.toNat, 336]
def k0_off1689 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1078 : Index := Scalar.indexCast v1011
  let c352 : Index := 352#32
  ![v1078.toNat, 352]
def k0_off1690 (v41 : BitVec 32) (v43 : BitVec 32) (v456 : BitVec 32) (v458 : BitVec 32) (k0_t110 : Fin (k0_t110_loop v41 v43).trips) (k0_t112 : Fin (k0_t112_loop v456 v458).trips) : Fin 2 → Nat :=
  let c1_i32_164 : BitVec 32 := 1#32
  let arg11 : BitVec 32 := Scf.iv v41 c1_i32_164 k0_t110
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t112
  let v1011 : BitVec 32 := Scalar.addi v1003 arg36
  let v1081 : Index := Scalar.indexCast v1011
  let c368 : Index := 368#32
  ![v1081.toNat, 368]
@[reducible] def k0_t113_loop (v41 : BitVec 32) (v43 : BitVec 32) : Scf.Loop 32 :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let v461 : BitVec 32 := Scalar.addi v41 v460
  let c1_i32_165 : BitVec 32 := 1#32
  ⟨v464, v461, c1_i32_165⟩
@[reducible] def k0_t114_loop (v456 : BitVec 32) (v458 : BitVec 32) : Scf.Loop 32 :=
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_375 : BitVec 32 := 1#32
  ⟨v456, v1008, c1_i32_375⟩
def k0_off1691 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1012 : Index := Scalar.indexCast v1011
  let c0_377 : Index := 0#32
  ![v1012.toNat, 0]
def k0_off1692 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1015 : Index := Scalar.indexCast v1011
  let c16 : Index := 16#32
  ![v1015.toNat, 16]
def k0_off1693 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1018 : Index := Scalar.indexCast v1011
  let c32 : Index := 32#32
  ![v1018.toNat, 32]
def k0_off1694 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1021 : Index := Scalar.indexCast v1011
  let c48 : Index := 48#32
  ![v1021.toNat, 48]
def k0_off1695 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1024 : Index := Scalar.indexCast v1011
  let c64 : Index := 64#32
  ![v1024.toNat, 64]
def k0_off1696 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1027 : Index := Scalar.indexCast v1011
  let c80 : Index := 80#32
  ![v1027.toNat, 80]
def k0_off1697 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1030 : Index := Scalar.indexCast v1011
  let c96 : Index := 96#32
  ![v1030.toNat, 96]
def k0_off1698 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1033 : Index := Scalar.indexCast v1011
  let c112 : Index := 112#32
  ![v1033.toNat, 112]
def k0_off1699 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1036 : Index := Scalar.indexCast v1011
  let c128 : Index := 128#32
  ![v1036.toNat, 128]
def k0_off1700 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1039 : Index := Scalar.indexCast v1011
  let c144 : Index := 144#32
  ![v1039.toNat, 144]
def k0_off1701 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1042 : Index := Scalar.indexCast v1011
  let c160 : Index := 160#32
  ![v1042.toNat, 160]
def k0_off1702 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1045 : Index := Scalar.indexCast v1011
  let c176 : Index := 176#32
  ![v1045.toNat, 176]
def k0_off1703 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1048 : Index := Scalar.indexCast v1011
  let c192 : Index := 192#32
  ![v1048.toNat, 192]
def k0_off1704 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1051 : Index := Scalar.indexCast v1011
  let c208 : Index := 208#32
  ![v1051.toNat, 208]
def k0_off1705 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1054 : Index := Scalar.indexCast v1011
  let c224 : Index := 224#32
  ![v1054.toNat, 224]
def k0_off1706 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1057 : Index := Scalar.indexCast v1011
  let c240 : Index := 240#32
  ![v1057.toNat, 240]
def k0_off1707 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1060 : Index := Scalar.indexCast v1011
  let c256 : Index := 256#32
  ![v1060.toNat, 256]
def k0_off1708 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1063 : Index := Scalar.indexCast v1011
  let c272 : Index := 272#32
  ![v1063.toNat, 272]
def k0_off1709 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1066 : Index := Scalar.indexCast v1011
  let c288 : Index := 288#32
  ![v1066.toNat, 288]
def k0_off1710 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1069 : Index := Scalar.indexCast v1011
  let c304 : Index := 304#32
  ![v1069.toNat, 304]
def k0_off1711 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1072 : Index := Scalar.indexCast v1011
  let c320 : Index := 320#32
  ![v1072.toNat, 320]
def k0_off1712 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1075 : Index := Scalar.indexCast v1011
  let c336 : Index := 336#32
  ![v1075.toNat, 336]
def k0_off1713 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1078 : Index := Scalar.indexCast v1011
  let c352 : Index := 352#32
  ![v1078.toNat, 352]
def k0_off1714 (v41 : BitVec 32) (v43 : BitVec 32) (v456 : BitVec 32) (v458 : BitVec 32) (k0_t113 : Fin (k0_t113_loop v41 v43).trips) (k0_t114 : Fin (k0_t114_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let c1_i32_375 : BitVec 32 := 1#32
  let arg36 : BitVec 32 := Scf.iv v456 c1_i32_375 k0_t114
  let v1011 : BitVec 32 := Scalar.addi v1003 arg36
  let v1081 : Index := Scalar.indexCast v1011
  let c368 : Index := 368#32
  ![v1081.toNat, 368]
@[reducible] def k0_t115_loop (v456 : BitVec 32) (v458 : BitVec 32) : Scf.Loop 32 :=
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let v1005 : BitVec 32 := Scalar.addi v456 v1004
  let c1_i32_376 : BitVec 32 := 1#32
  ⟨v1008, v1005, c1_i32_376⟩
def k0_off1715 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1012 : Index := Scalar.indexCast v1011
  let c0_377 : Index := 0#32
  ![v1012.toNat, 0]
def k0_off1716 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1015 : Index := Scalar.indexCast v1011
  let c16 : Index := 16#32
  ![v1015.toNat, 16]
def k0_off1717 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1018 : Index := Scalar.indexCast v1011
  let c32 : Index := 32#32
  ![v1018.toNat, 32]
def k0_off1718 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1021 : Index := Scalar.indexCast v1011
  let c48 : Index := 48#32
  ![v1021.toNat, 48]
def k0_off1719 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1024 : Index := Scalar.indexCast v1011
  let c64 : Index := 64#32
  ![v1024.toNat, 64]
def k0_off1720 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1027 : Index := Scalar.indexCast v1011
  let c80 : Index := 80#32
  ![v1027.toNat, 80]
def k0_off1721 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1030 : Index := Scalar.indexCast v1011
  let c96 : Index := 96#32
  ![v1030.toNat, 96]
def k0_off1722 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1033 : Index := Scalar.indexCast v1011
  let c112 : Index := 112#32
  ![v1033.toNat, 112]
def k0_off1723 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1036 : Index := Scalar.indexCast v1011
  let c128 : Index := 128#32
  ![v1036.toNat, 128]
def k0_off1724 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1039 : Index := Scalar.indexCast v1011
  let c144 : Index := 144#32
  ![v1039.toNat, 144]
def k0_off1725 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1042 : Index := Scalar.indexCast v1011
  let c160 : Index := 160#32
  ![v1042.toNat, 160]
def k0_off1726 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1045 : Index := Scalar.indexCast v1011
  let c176 : Index := 176#32
  ![v1045.toNat, 176]
def k0_off1727 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1048 : Index := Scalar.indexCast v1011
  let c192 : Index := 192#32
  ![v1048.toNat, 192]
def k0_off1728 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1051 : Index := Scalar.indexCast v1011
  let c208 : Index := 208#32
  ![v1051.toNat, 208]
def k0_off1729 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1054 : Index := Scalar.indexCast v1011
  let c224 : Index := 224#32
  ![v1054.toNat, 224]
def k0_off1730 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1057 : Index := Scalar.indexCast v1011
  let c240 : Index := 240#32
  ![v1057.toNat, 240]
def k0_off1731 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1060 : Index := Scalar.indexCast v1011
  let c256 : Index := 256#32
  ![v1060.toNat, 256]
def k0_off1732 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1063 : Index := Scalar.indexCast v1011
  let c272 : Index := 272#32
  ![v1063.toNat, 272]
def k0_off1733 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1066 : Index := Scalar.indexCast v1011
  let c288 : Index := 288#32
  ![v1066.toNat, 288]
def k0_off1734 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1069 : Index := Scalar.indexCast v1011
  let c304 : Index := 304#32
  ![v1069.toNat, 304]
def k0_off1735 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1072 : Index := Scalar.indexCast v1011
  let c320 : Index := 320#32
  ![v1072.toNat, 320]
def k0_off1736 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1075 : Index := Scalar.indexCast v1011
  let c336 : Index := 336#32
  ![v1075.toNat, 336]
def k0_off1737 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1078 : Index := Scalar.indexCast v1011
  let c352 : Index := 352#32
  ![v1078.toNat, 352]
def k0_off1738 (v41 : BitVec 32) (v43 : BitVec 32) (v456 : BitVec 32) (v458 : BitVec 32) (k0_t113 : Fin (k0_t113_loop v41 v43).trips) (k0_t115 : Fin (k0_t115_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t113
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t115
  let v1011 : BitVec 32 := Scalar.addi v1003 arg36
  let v1081 : Index := Scalar.indexCast v1011
  let c368 : Index := 368#32
  ![v1081.toNat, 368]

def k0_chk432_0 (i : grid0.Coords) (v10 : BitVec 32) (v41 : BitVec 32) (v43 : BitVec 32) (v456 : BitVec 32) (v458 : BitVec 32) : Prop :=
  (∀ k0_t110 : Fin (k0_t110_loop v41 v43).trips, ∀ (k0_h2 : k0_cond2 i v10 = 1#1), (k0_t111_loop v456 v458).OK) ∧
  (∀ (k0_t110 : Fin (k0_t110_loop v41 v43).trips) (k0_t111 : Fin (k0_t111_loop v456 v458).trips), ∀ (k0_h2 : k0_cond2 i v10 = 1#1), ∀ a, (k0_off1643 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1644 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1645 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1646 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1647 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1648 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1649 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1650 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1651 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1652 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1653 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1654 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1655 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1656 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1657 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1658 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1659 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1660 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1661 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1662 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1663 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1664 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1665 v41 v43 v456 v458 k0_t110 k0_t111) a + S1x16.size a ≤ S196x384.size a) ∧
  (∀ (k0_t110 : Fin (k0_t110_loop v41 v43).trips) (k0_t111 : Fin (k0_t111_loop v456 v458).trips), ∀ (k0_h2 : k0_cond2 i v10 = 1#1), ∀ a, (k0_off1666 v41 v43 v456 v458 k0_t110 k0_t111) a + S1x16.size a ≤ S196x384.size a) ∧
  (∀ k0_t110 : Fin (k0_t110_loop v41 v43).trips, ∀ (k0_h2 : k0_cond2 i v10 = 1#1), (k0_t112_loop v456 v458).OK) ∧
  (∀ (k0_t110 : Fin (k0_t110_loop v41 v43).trips) (k0_t112 : Fin (k0_t112_loop v456 v458).trips), ∀ (k0_h2 : k0_cond2 i v10 = 1#1), ∀ a, (k0_off1667 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1668 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1669 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1670 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1671 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1672 v41 v43 v456 v458 k0_t110 k0_t112) a + S1x16.size a ≤ S196x384.size a)
def k0_chk432_1 (i : grid0.Coords) (v10 : BitVec 32) (v41 : BitVec 32) (v43 : BitVec 32) (v456 : BitVec 32) (v458 : BitVec 32) : Prop :=
  (∀ (k0_t110 : Fin (k0_t110_loop v41 v43).trips) (k0_t112 : Fin (k0_t112_loop v456 v458).trips), ∀ (k0_h2 : k0_cond2 i v10 = 1#1), ∀ a, (k0_off1673 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1674 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1675 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1676 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1677 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1678 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1679 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1680 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1681 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1682 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1683 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1684 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1685 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1686 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1687 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1688 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1689 v41 v43 v456 v458 k0_t110 k0_t112) a + S1x16.size a ≤ S196x384.size a) ∧
  (∀ (k0_t110 : Fin (k0_t110_loop v41 v43).trips) (k0_t112 : Fin (k0_t112_loop v456 v458).trips), ∀ (k0_h2 : k0_cond2 i v10 = 1#1), ∀ a, (k0_off1690 v41 v43 v456 v458 k0_t110 k0_t112) a + S1x16.size a ≤ S196x384.size a) ∧
  (∀ k0_t113 : Fin (k0_t113_loop v41 v43).trips, ∀ (k0_h2 : k0_cond2 i v10 = 1#1), (k0_t114_loop v456 v458).OK) ∧
  (∀ (k0_t113 : Fin (k0_t113_loop v41 v43).trips) (k0_t114 : Fin (k0_t114_loop v456 v458).trips), ∀ (k0_h2 : k0_cond2 i v10 = 1#1), ∀ a, (k0_off1691 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1692 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1693 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1694 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1695 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1696 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1697 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1698 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1699 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1700 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1701 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1702 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1703 v41 v43 v456 v458 k0_t113 k0_t114) a + S1x16.size a ≤ S196x384.size a)
def k0_chk432_2 (i : grid0.Coords) (v10 : BitVec 32) (v41 : BitVec 32) (v43 : BitVec 32) (v456 : BitVec 32) (v458 : BitVec 32) : Prop :=
  (∀ (k0_t113 : Fin (k0_t113_loop v41 v43).trips) (k0_t114 : Fin (k0_t114_loop v456 v458).trips), ∀ (k0_h2 : k0_cond2 i v10 = 1#1), ∀ a, (k0_off1704 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1705 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1706 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1707 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1708 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1709 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1710 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1711 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1712 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1713 v41 v43 v456 v458 k0_t113 k0_t114) a + S1x16.size a ≤ S196x384.size a) ∧
  (∀ (k0_t113 : Fin (k0_t113_loop v41 v43).trips) (k0_t114 : Fin (k0_t114_loop v456 v458).trips), ∀ (k0_h2 : k0_cond2 i v10 = 1#1), ∀ a, (k0_off1714 v41 v43 v456 v458 k0_t113 k0_t114) a + S1x16.size a ≤ S196x384.size a) ∧
  (∀ k0_t113 : Fin (k0_t113_loop v41 v43).trips, ∀ (k0_h2 : k0_cond2 i v10 = 1#1), (k0_t115_loop v456 v458).OK) ∧
  (∀ (k0_t113 : Fin (k0_t113_loop v41 v43).trips) (k0_t115 : Fin (k0_t115_loop v456 v458).trips), ∀ (k0_h2 : k0_cond2 i v10 = 1#1), ∀ a, (k0_off1715 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1716 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1717 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1718 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1719 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1720 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1721 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1722 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1723 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1724 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1725 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1726 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1727 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1728 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1729 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1730 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1731 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1732 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1733 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1734 v41 v43 v456 v458 k0_t113 k0_t115) a + S1x16.size a ≤ S196x384.size a)
def k0_chk432_3 (i : grid0.Coords) (v10 : BitVec 32) (v41 : BitVec 32) (v43 : BitVec 32) (v456 : BitVec 32) (v458 : BitVec 32) : Prop :=
  (∀ (k0_t113 : Fin (k0_t113_loop v41 v43).trips) (k0_t115 : Fin (k0_t115_loop v456 v458).trips), ∀ (k0_h2 : k0_cond2 i v10 = 1#1), ∀ a, (k0_off1735 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1736 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1737 v41 v43 v456 v458 k0_t113 k0_t115) a + S1x16.size a ≤ S196x384.size a) ∧
  (∀ (k0_t113 : Fin (k0_t113_loop v41 v43).trips) (k0_t115 : Fin (k0_t115_loop v456 v458).trips), ∀ (k0_h2 : k0_cond2 i v10 = 1#1), ∀ a, (k0_off1738 v41 v43 v456 v458 k0_t113 k0_t115) a + S1x16.size a ≤ S196x384.size a)
def k0_chk432 (i : grid0.Coords) (v10 : BitVec 32) (v41 : BitVec 32) (v43 : BitVec 32) (v456 : BitVec 32) (v458 : BitVec 32) : Prop :=
  k0_chk432_0 i v10 v41 v43 v456 v458 ∧
  k0_chk432_1 i v10 v41 v43 v456 v458 ∧
  k0_chk432_2 i v10 v41 v43 v456 v458 ∧
  k0_chk432_3 i v10 v41 v43 v456 v458
theorem k0_t111_ok : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips), ∀ (k0_h2 : k0_cond2 i v10 = 1#1), (k0_t111_loop v456 v458).OK := fun i v10 v41 v43 v456 v458 k0_hw432 k0_t110 k0_h2 => k0_hw432.1.1 k0_t110 k0_h2
theorem k0_off1643_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1643 v41 v43 v456 v458 k0_t110 k0_t111) a + S1x16.size a ≤ S196x384.size a := fun i v10 v41 v43 v456 v458 k0_hw432 k0_t110 k0_t111 k0_h2 => k0_hw432.1.2.1 k0_t110 k0_t111 k0_h2
theorem k0_off1644_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1644 v41 v43 v456 v458 k0_t110 k0_t111) a + S1x16.size a ≤ S196x384.size a := fun i v10 v41 v43 v456 v458 k0_hw432 k0_t110 k0_t111 k0_h2 => k0_hw432.1.2.2.1 k0_t110 k0_t111 k0_h2
theorem k0_off1645_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1645 v41 v43 v456 v458 k0_t110 k0_t111) a + S1x16.size a ≤ S196x384.size a := fun i v10 v41 v43 v456 v458 k0_hw432 k0_t110 k0_t111 k0_h2 => k0_hw432.1.2.2.2.1 k0_t110 k0_t111 k0_h2
theorem k0_off1646_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1646 v41 v43 v456 v458 k0_t110 k0_t111) a + S1x16.size a ≤ S196x384.size a := fun i v10 v41 v43 v456 v458 k0_hw432 k0_t110 k0_t111 k0_h2 => k0_hw432.1.2.2.2.2.1 k0_t110 k0_t111 k0_h2
theorem k0_off1647_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1647 v41 v43 v456 v458 k0_t110 k0_t111) a + S1x16.size a ≤ S196x384.size a := fun i v10 v41 v43 v456 v458 k0_hw432 k0_t110 k0_t111 k0_h2 => k0_hw432.1.2.2.2.2.2.1 k0_t110 k0_t111 k0_h2
theorem k0_off1648_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1648 v41 v43 v456 v458 k0_t110 k0_t111) a + S1x16.size a ≤ S196x384.size a := fun i v10 v41 v43 v456 v458 k0_hw432 k0_t110 k0_t111 k0_h2 => k0_hw432.1.2.2.2.2.2.2.1 k0_t110 k0_t111 k0_h2
theorem k0_off1649_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1649 v41 v43 v456 v458 k0_t110 k0_t111) a + S1x16.size a ≤ S196x384.size a := fun i v10 v41 v43 v456 v458 k0_hw432 k0_t110 k0_t111 k0_h2 => k0_hw432.1.2.2.2.2.2.2.2.1 k0_t110 k0_t111 k0_h2
theorem k0_off1650_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1650 v41 v43 v456 v458 k0_t110 k0_t111) a + S1x16.size a ≤ S196x384.size a := fun i v10 v41 v43 v456 v458 k0_hw432 k0_t110 k0_t111 k0_h2 => k0_hw432.1.2.2.2.2.2.2.2.2.1 k0_t110 k0_t111 k0_h2
theorem k0_off1651_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1651 v41 v43 v456 v458 k0_t110 k0_t111) a + S1x16.size a ≤ S196x384.size a := fun i v10 v41 v43 v456 v458 k0_hw432 k0_t110 k0_t111 k0_h2 => k0_hw432.1.2.2.2.2.2.2.2.2.2.1 k0_t110 k0_t111 k0_h2
theorem k0_off1652_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1652 v41 v43 v456 v458 k0_t110 k0_t111) a + S1x16.size a ≤ S196x384.size a := fun i v10 v41 v43 v456 v458 k0_hw432 k0_t110 k0_t111 k0_h2 => k0_hw432.1.2.2.2.2.2.2.2.2.2.2.1 k0_t110 k0_t111 k0_h2
theorem k0_off1653_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1653 v41 v43 v456 v458 k0_t110 k0_t111) a + S1x16.size a ≤ S196x384.size a := fun i v10 v41 v43 v456 v458 k0_hw432 k0_t110 k0_t111 k0_h2 => k0_hw432.1.2.2.2.2.2.2.2.2.2.2.2.1 k0_t110 k0_t111 k0_h2
theorem k0_off1654_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1654 v41 v43 v456 v458 k0_t110 k0_t111) a + S1x16.size a ≤ S196x384.size a := fun i v10 v41 v43 v456 v458 k0_hw432 k0_t110 k0_t111 k0_h2 => k0_hw432.1.2.2.2.2.2.2.2.2.2.2.2.2.1 k0_t110 k0_t111 k0_h2
theorem k0_off1655_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1655 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.1 k0_t110 k0_t111 k0_h2
theorem k0_off1656_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1656 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.1 k0_t110 k0_t111 k0_h2
theorem k0_off1657_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1657 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.1 k0_t110 k0_t111 k0_h2
theorem k0_off1658_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1658 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.2.1 k0_t110 k0_t111 k0_h2
theorem k0_off1659_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1659 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.2.2.1 k0_t110 k0_t111 k0_h2
theorem k0_off1660_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1660 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.2.2.2.1 k0_t110 k0_t111 k0_h2
theorem k0_off1661_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1661 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.2.2.2.2.1 k0_t110 k0_t111 k0_h2
theorem k0_off1662_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1662 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.2.2.2.2.2.1 k0_t110 k0_t111 k0_h2
theorem k0_off1663_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1663 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.2.2.2.2.2.2.1 k0_t110 k0_t111 k0_h2
theorem k0_off1664_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1664 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.2.2.2.2.2.2.2.1 k0_t110 k0_t111 k0_h2
theorem k0_off1665_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1665 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.2.2.2.2.2.2.2.2.1 k0_t110 k0_t111 k0_h2
theorem k0_off1666_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t111 : Fin (k0_t111_loop v456 v458).trips), ∀ (k0_h2 : k0_cond2 i v10 = 1#1), ∀ a, (k0_off1666 v41 v43 v456 v458 k0_t110 k0_t111) a + S1x16.size a ≤ S196x384.size a := fun i v10 v41 v43 v456 v458 k0_hw432 k0_t110 k0_t111 k0_h2 => k0_hw432.1.2.2.2.2.2.2.2.2.2.2.2.2.2.2.2.2.2.2.2.2.2.2.2.2.1 k0_t110 k0_t111 k0_h2
theorem k0_t112_ok : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips), ∀ (k0_h2 : k0_cond2 i v10 = 1#1), (k0_t112_loop v456 v458).OK := fun i v10 v41 v43 v456 v458 k0_hw432 k0_t110 k0_h2 => k0_hw432.1.2.2.2.2.2.2.2.2.2.2.2.2.2.2.2.2.2.2.2.2.2.2.2.2.2.1 k0_t110 k0_h2
theorem k0_off1667_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1667 v41 v43 v456 v458 k0_t110 k0_t112) a + S1x16.size a ≤ S196x384.size a := fun i v10 v41 v43 v456 v458 k0_hw432 k0_t110 k0_t112 k0_h2 => k0_hw432.1.2.2.2.2.2.2.2.2.2.2.2.2.2.2.2.2.2.2.2.2.2.2.2.2.2.2.1 k0_t110 k0_t112 k0_h2
theorem k0_off1668_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1668 v41 v43 v456 v458 k0_t110 k0_t112) a + S1x16.size a ≤ S196x384.size a := fun i v10 v41 v43 v456 v458 k0_hw432 k0_t110 k0_t112 k0_h2 => k0_hw432.1.2.2.2.2.2.2.2.2.2.2.2.2.2.2.2.2.2.2.2.2.2.2.2.2.2.2.2.1 k0_t110 k0_t112 k0_h2
theorem k0_off1669_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1669 v41 v43 v456 v458 k0_t110 k0_t112) a + S1x16.size a ≤ S196x384.size a := fun i v10 v41 v43 v456 v458 k0_hw432 k0_t110 k0_t112 k0_h2 => k0_hw432.1.2.2.2.2.2.2.2.2.2.2.2.2.2.2.2.2.2.2.2.2.2.2.2.2.2.2.2.2.1 k0_t110 k0_t112 k0_h2
theorem k0_off1670_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1670 v41 v43 v456 v458 k0_t110 k0_t112) a + S1x16.size a ≤ S196x384.size a := fun i v10 v41 v43 v456 v458 k0_hw432 k0_t110 k0_t112 k0_h2 => k0_hw432.1.2.2.2.2.2.2.2.2.2.2.2.2.2.2.2.2.2.2.2.2.2.2.2.2.2.2.2.2.2.1 k0_t110 k0_t112 k0_h2
theorem k0_off1671_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1671 v41 v43 v456 v458 k0_t110 k0_t112) a + S1x16.size a ≤ S196x384.size a := fun i v10 v41 v43 v456 v458 k0_hw432 k0_t110 k0_t112 k0_h2 => k0_hw432.1.2.2.2.2.2.2.2.2.2.2.2.2.2.2.2.2.2.2.2.2.2.2.2.2.2.2.2.2.2.2.1 k0_t110 k0_t112 k0_h2
theorem k0_off1672_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1672 v41 v43 v456 v458 k0_t110 k0_t112) a + S1x16.size a ≤ S196x384.size a := fun i v10 v41 v43 v456 v458 k0_hw432 k0_t110 k0_t112 k0_h2 => k0_hw432.1.2.2.2.2.2.2.2.2.2.2.2.2.2.2.2.2.2.2.2.2.2.2.2.2.2.2.2.2.2.2.2 k0_t110 k0_t112 k0_h2
theorem k0_off1673_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1673 v41 v43 v456 v458 k0_t110 k0_t112) a + S1x16.size a ≤ S196x384.size a := fun i v10 v41 v43 v456 v458 k0_hw432 k0_t110 k0_t112 k0_h2 => k0_hw432.2.1.1 k0_t110 k0_t112 k0_h2
theorem k0_off1674_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1674 v41 v43 v456 v458 k0_t110 k0_t112) a + S1x16.size a ≤ S196x384.size a := fun i v10 v41 v43 v456 v458 k0_hw432 k0_t110 k0_t112 k0_h2 => k0_hw432.2.1.2.1 k0_t110 k0_t112 k0_h2
theorem k0_off1675_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1675 v41 v43 v456 v458 k0_t110 k0_t112) a + S1x16.size a ≤ S196x384.size a := fun i v10 v41 v43 v456 v458 k0_hw432 k0_t110 k0_t112 k0_h2 => k0_hw432.2.1.2.2.1 k0_t110 k0_t112 k0_h2
theorem k0_off1676_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1676 v41 v43 v456 v458 k0_t110 k0_t112) a + S1x16.size a ≤ S196x384.size a := fun i v10 v41 v43 v456 v458 k0_hw432 k0_t110 k0_t112 k0_h2 => k0_hw432.2.1.2.2.2.1 k0_t110 k0_t112 k0_h2
theorem k0_off1677_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1677 v41 v43 v456 v458 k0_t110 k0_t112) a + S1x16.size a ≤ S196x384.size a := fun i v10 v41 v43 v456 v458 k0_hw432 k0_t110 k0_t112 k0_h2 => k0_hw432.2.1.2.2.2.2.1 k0_t110 k0_t112 k0_h2
theorem k0_off1678_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1678 v41 v43 v456 v458 k0_t110 k0_t112) a + S1x16.size a ≤ S196x384.size a := fun i v10 v41 v43 v456 v458 k0_hw432 k0_t110 k0_t112 k0_h2 => k0_hw432.2.1.2.2.2.2.2.1 k0_t110 k0_t112 k0_h2
theorem k0_off1679_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1679 v41 v43 v456 v458 k0_t110 k0_t112) a + S1x16.size a ≤ S196x384.size a := fun i v10 v41 v43 v456 v458 k0_hw432 k0_t110 k0_t112 k0_h2 => k0_hw432.2.1.2.2.2.2.2.2.1 k0_t110 k0_t112 k0_h2
theorem k0_off1680_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1680 v41 v43 v456 v458 k0_t110 k0_t112) a + S1x16.size a ≤ S196x384.size a := fun i v10 v41 v43 v456 v458 k0_hw432 k0_t110 k0_t112 k0_h2 => k0_hw432.2.1.2.2.2.2.2.2.2.1 k0_t110 k0_t112 k0_h2
theorem k0_off1681_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1681 v41 v43 v456 v458 k0_t110 k0_t112) a + S1x16.size a ≤ S196x384.size a := fun i v10 v41 v43 v456 v458 k0_hw432 k0_t110 k0_t112 k0_h2 => k0_hw432.2.1.2.2.2.2.2.2.2.2.1 k0_t110 k0_t112 k0_h2
theorem k0_off1682_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1682 v41 v43 v456 v458 k0_t110 k0_t112) a + S1x16.size a ≤ S196x384.size a := fun i v10 v41 v43 v456 v458 k0_hw432 k0_t110 k0_t112 k0_h2 => k0_hw432.2.1.2.2.2.2.2.2.2.2.2.1 k0_t110 k0_t112 k0_h2
theorem k0_off1683_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1683 v41 v43 v456 v458 k0_t110 k0_t112) a + S1x16.size a ≤ S196x384.size a := fun i v10 v41 v43 v456 v458 k0_hw432 k0_t110 k0_t112 k0_h2 => k0_hw432.2.1.2.2.2.2.2.2.2.2.2.2.1 k0_t110 k0_t112 k0_h2
theorem k0_off1684_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1684 v41 v43 v456 v458 k0_t110 k0_t112) a + S1x16.size a ≤ S196x384.size a := fun i v10 v41 v43 v456 v458 k0_hw432 k0_t110 k0_t112 k0_h2 => k0_hw432.2.1.2.2.2.2.2.2.2.2.2.2.2.1 k0_t110 k0_t112 k0_h2
theorem k0_off1685_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1685 v41 v43 v456 v458 k0_t110 k0_t112) a + S1x16.size a ≤ S196x384.size a := fun i v10 v41 v43 v456 v458 k0_hw432 k0_t110 k0_t112 k0_h2 => k0_hw432.2.1.2.2.2.2.2.2.2.2.2.2.2.2.1 k0_t110 k0_t112 k0_h2
theorem k0_off1686_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1686 v41 v43 v456 v458 k0_t110 k0_t112) a + S1x16.size a ≤ S196x384.size a := fun i v10 v41 v43 v456 v458 k0_hw432 k0_t110 k0_t112 k0_h2 => k0_hw432.2.1.2.2.2.2.2.2.2.2.2.2.2.2.2.1 k0_t110 k0_t112 k0_h2
theorem k0_off1687_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1687 v41 v43 v456 v458 k0_t110 k0_t112) a + S1x16.size a ≤ S196x384.size a := fun i v10 v41 v43 v456 v458 k0_hw432 k0_t110 k0_t112 k0_h2 => k0_hw432.2.1.2.2.2.2.2.2.2.2.2.2.2.2.2.2.1 k0_t110 k0_t112 k0_h2
theorem k0_off1688_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1688 v41 v43 v456 v458 k0_t110 k0_t112) a + S1x16.size a ≤ S196x384.size a := fun i v10 v41 v43 v456 v458 k0_hw432 k0_t110 k0_t112 k0_h2 => k0_hw432.2.1.2.2.2.2.2.2.2.2.2.2.2.2.2.2.2.1 k0_t110 k0_t112 k0_h2
theorem k0_off1689_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1689 v41 v43 v456 v458 k0_t110 k0_t112) a + S1x16.size a ≤ S196x384.size a := fun i v10 v41 v43 v456 v458 k0_hw432 k0_t110 k0_t112 k0_h2 => k0_hw432.2.1.2.2.2.2.2.2.2.2.2.2.2.2.2.2.2.2.1 k0_t110 k0_t112 k0_h2
theorem k0_off1690_inb : ∀ (i : grid0.Coords) (v10 : BitVec 32) (v41 : BitVec 32) (v43 : BitVec 32) (v456 : BitVec 32) (v458 : BitVec 32) (k0_hw432 : k0_chk432 i v10 v41 v43 v456 v458) (k0_t110 : Fin (k0_t110_loop v41 v43).trips) (k0_t112 : Fin (k0_t112_loop v456 v458).trips), ∀ (k0_h2 : k0_cond2 i v10 = 1#1), ∀ a, (k0_off1690 v41 v43 v456 v458 k0_t110 k0_t112) a + S1x16.size a ≤ S196x384.size a := fun i v10 v41 v43 v456 v458 k0_hw432 k0_t110 k0_t112 k0_h2 => k0_hw432.2.1.2.2.2.2.2.2.2.2.2.2.2.2.2.2.2.2.2.1 k0_t110 k0_t112 k0_h2
theorem k0_t114_ok : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips), ∀ (k0_h2 : k0_cond2 i v10 = 1#1), (k0_t114_loop v456 v458).OK := fun i v10 v41 v43 v456 v458 k0_hw432 k0_t113 k0_h2 => k0_hw432.2.1.2.2.2.2.2.2.2.2.2.2.2.2.2.2.2.2.2.2.1 k0_t113 k0_h2
theorem k0_off1691_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1691 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.1 k0_t113 k0_t114 k0_h2
theorem k0_off1692_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1692 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.1 k0_t113 k0_t114 k0_h2
theorem k0_off1693_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1693 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.1 k0_t113 k0_t114 k0_h2
theorem k0_off1694_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1694 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.1 k0_t113 k0_t114 k0_h2
theorem k0_off1695_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1695 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.2.1 k0_t113 k0_t114 k0_h2
theorem k0_off1696_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1696 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.2.2.1 k0_t113 k0_t114 k0_h2
theorem k0_off1697_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1697 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.2.2.2.1 k0_t113 k0_t114 k0_h2
theorem k0_off1698_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1698 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.2.2.2.2.1 k0_t113 k0_t114 k0_h2
theorem k0_off1699_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1699 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.2.2.2.2.2.1 k0_t113 k0_t114 k0_h2
theorem k0_off1700_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1700 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.2.2.2.2.2.2.1 k0_t113 k0_t114 k0_h2
theorem k0_off1701_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1701 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.2.2.2.2.2.2.2.1 k0_t113 k0_t114 k0_h2
theorem k0_off1702_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1702 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.2.2.2.2.2.2.2.2.1 k0_t113 k0_t114 k0_h2
theorem k0_off1703_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1703 v41 v43 v456 v458 k0_t113 k0_t114) a + S1x16.size a ≤ S196x384.size a := fun i v10 v41 v43 v456 v458 k0_hw432 k0_t113 k0_t114 k0_h2 => k0_hw432.2.1.2.2.2.2.2.2.2.2.2.2.2.2.2.2.2.2.2.2.2.2.2.2.2.2.2.2.2.2.2.2.2 k0_t113 k0_t114 k0_h2
theorem k0_off1704_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1704 v41 v43 v456 v458 k0_t113 k0_t114) a + S1x16.size a ≤ S196x384.size a := fun i v10 v41 v43 v456 v458 k0_hw432 k0_t113 k0_t114 k0_h2 => k0_hw432.2.2.1.1 k0_t113 k0_t114 k0_h2
theorem k0_off1705_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1705 v41 v43 v456 v458 k0_t113 k0_t114) a + S1x16.size a ≤ S196x384.size a := fun i v10 v41 v43 v456 v458 k0_hw432 k0_t113 k0_t114 k0_h2 => k0_hw432.2.2.1.2.1 k0_t113 k0_t114 k0_h2
theorem k0_off1706_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1706 v41 v43 v456 v458 k0_t113 k0_t114) a + S1x16.size a ≤ S196x384.size a := fun i v10 v41 v43 v456 v458 k0_hw432 k0_t113 k0_t114 k0_h2 => k0_hw432.2.2.1.2.2.1 k0_t113 k0_t114 k0_h2
theorem k0_off1707_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1707 v41 v43 v456 v458 k0_t113 k0_t114) a + S1x16.size a ≤ S196x384.size a := fun i v10 v41 v43 v456 v458 k0_hw432 k0_t113 k0_t114 k0_h2 => k0_hw432.2.2.1.2.2.2.1 k0_t113 k0_t114 k0_h2
theorem k0_off1708_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1708 v41 v43 v456 v458 k0_t113 k0_t114) a + S1x16.size a ≤ S196x384.size a := fun i v10 v41 v43 v456 v458 k0_hw432 k0_t113 k0_t114 k0_h2 => k0_hw432.2.2.1.2.2.2.2.1 k0_t113 k0_t114 k0_h2
theorem k0_off1709_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1709 v41 v43 v456 v458 k0_t113 k0_t114) a + S1x16.size a ≤ S196x384.size a := fun i v10 v41 v43 v456 v458 k0_hw432 k0_t113 k0_t114 k0_h2 => k0_hw432.2.2.1.2.2.2.2.2.1 k0_t113 k0_t114 k0_h2
theorem k0_off1710_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1710 v41 v43 v456 v458 k0_t113 k0_t114) a + S1x16.size a ≤ S196x384.size a := fun i v10 v41 v43 v456 v458 k0_hw432 k0_t113 k0_t114 k0_h2 => k0_hw432.2.2.1.2.2.2.2.2.2.1 k0_t113 k0_t114 k0_h2
theorem k0_off1711_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1711 v41 v43 v456 v458 k0_t113 k0_t114) a + S1x16.size a ≤ S196x384.size a := fun i v10 v41 v43 v456 v458 k0_hw432 k0_t113 k0_t114 k0_h2 => k0_hw432.2.2.1.2.2.2.2.2.2.2.1 k0_t113 k0_t114 k0_h2
theorem k0_off1712_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1712 v41 v43 v456 v458 k0_t113 k0_t114) a + S1x16.size a ≤ S196x384.size a := fun i v10 v41 v43 v456 v458 k0_hw432 k0_t113 k0_t114 k0_h2 => k0_hw432.2.2.1.2.2.2.2.2.2.2.2.1 k0_t113 k0_t114 k0_h2
theorem k0_off1713_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1713 v41 v43 v456 v458 k0_t113 k0_t114) a + S1x16.size a ≤ S196x384.size a := fun i v10 v41 v43 v456 v458 k0_hw432 k0_t113 k0_t114 k0_h2 => k0_hw432.2.2.1.2.2.2.2.2.2.2.2.2.1 k0_t113 k0_t114 k0_h2
theorem k0_off1714_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t114 : Fin (k0_t114_loop v456 v458).trips), ∀ (k0_h2 : k0_cond2 i v10 = 1#1), ∀ a, (k0_off1714 v41 v43 v456 v458 k0_t113 k0_t114) a + S1x16.size a ≤ S196x384.size a := fun i v10 v41 v43 v456 v458 k0_hw432 k0_t113 k0_t114 k0_h2 => k0_hw432.2.2.1.2.2.2.2.2.2.2.2.2.2.1 k0_t113 k0_t114 k0_h2
theorem k0_t115_ok : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips), ∀ (k0_h2 : k0_cond2 i v10 = 1#1), (k0_t115_loop v456 v458).OK := fun i v10 v41 v43 v456 v458 k0_hw432 k0_t113 k0_h2 => k0_hw432.2.2.1.2.2.2.2.2.2.2.2.2.2.2.1 k0_t113 k0_h2
theorem k0_off1715_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1715 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.1 k0_t113 k0_t115 k0_h2
theorem k0_off1716_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1716 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.1 k0_t113 k0_t115 k0_h2
theorem k0_off1717_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1717 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.1 k0_t113 k0_t115 k0_h2
theorem k0_off1718_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1718 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.1 k0_t113 k0_t115 k0_h2
theorem k0_off1719_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1719 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.1 k0_t113 k0_t115 k0_h2
theorem k0_off1720_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1720 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.1 k0_t113 k0_t115 k0_h2
theorem k0_off1721_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1721 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.1 k0_t113 k0_t115 k0_h2
theorem k0_off1722_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1722 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.1 k0_t113 k0_t115 k0_h2
theorem k0_off1723_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1723 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.1 k0_t113 k0_t115 k0_h2
theorem k0_off1724_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1724 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.1 k0_t113 k0_t115 k0_h2
theorem k0_off1725_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1725 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.1 k0_t113 k0_t115 k0_h2
theorem k0_off1726_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1726 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.2.1 k0_t113 k0_t115 k0_h2
theorem k0_off1727_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1727 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.2.2.1 k0_t113 k0_t115 k0_h2
theorem k0_off1728_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1728 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.2.2.2.1 k0_t113 k0_t115 k0_h2
theorem k0_off1729_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1729 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.2.2.2.2.1 k0_t113 k0_t115 k0_h2
theorem k0_off1730_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1730 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.2.2.2.2.2.1 k0_t113 k0_t115 k0_h2
theorem k0_off1731_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1731 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.2.2.2.2.2.2.1 k0_t113 k0_t115 k0_h2
theorem k0_off1732_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1732 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.2.2.2.2.2.2.2.1 k0_t113 k0_t115 k0_h2
theorem k0_off1733_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1733 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.2.2.2.2.2.2.2.2.1 k0_t113 k0_t115 k0_h2
theorem k0_off1734_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1734 v41 v43 v456 v458 k0_t113 k0_t115) a + S1x16.size a ≤ S196x384.size a := fun i v10 v41 v43 v456 v458 k0_hw432 k0_t113 k0_t115 k0_h2 => k0_hw432.2.2.1.2.2.2.2.2.2.2.2.2.2.2.2.2.2.2.2.2.2.2.2.2.2.2.2.2.2.2.2.2.2.2 k0_t113 k0_t115 k0_h2
theorem k0_off1735_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1735 v41 v43 v456 v458 k0_t113 k0_t115) a + S1x16.size a ≤ S196x384.size a := fun i v10 v41 v43 v456 v458 k0_hw432 k0_t113 k0_t115 k0_h2 => k0_hw432.2.2.2.1 k0_t113 k0_t115 k0_h2
theorem k0_off1736_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1736 v41 v43 v456 v458 k0_t113 k0_t115) a + S1x16.size a ≤ S196x384.size a := fun i v10 v41 v43 v456 v458 k0_hw432 k0_t113 k0_t115 k0_h2 => k0_hw432.2.2.2.2.1 k0_t113 k0_t115 k0_h2
theorem k0_off1737_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1737 v41 v43 v456 v458 k0_t113 k0_t115) a + S1x16.size a ≤ S196x384.size a := fun i v10 v41 v43 v456 v458 k0_hw432 k0_t113 k0_t115 k0_h2 => k0_hw432.2.2.2.2.2.1 k0_t113 k0_t115 k0_h2
theorem k0_off1738_inb : ∀ (i : grid0.Coords) (v10 : BitVec 32) (v41 : BitVec 32) (v43 : BitVec 32) (v456 : BitVec 32) (v458 : BitVec 32) (k0_hw432 : k0_chk432 i v10 v41 v43 v456 v458) (k0_t113 : Fin (k0_t113_loop v41 v43).trips) (k0_t115 : Fin (k0_t115_loop v456 v458).trips), ∀ (k0_h2 : k0_cond2 i v10 = 1#1), ∀ a, (k0_off1738 v41 v43 v456 v458 k0_t113 k0_t115) a + S1x16.size a ≤ S196x384.size a := fun i v10 v41 v43 v456 v458 k0_hw432 k0_t113 k0_t115 k0_h2 => k0_hw432.2.2.2.2.2.2 k0_t113 k0_t115 k0_h2

def k0_chk433 (i : grid0.Coords) (v10 : BitVec 32) (v476 : IVec S16 32) : Prop :=
  (∀ (k0_h2 : k0_cond2 i v10 = 1#1), ∀ a x, ((![v476] : Fin 1 → IVec S16 32) a x).toNat < S18816.size a)
theorem k0_idx409_inb : ∀ (i : grid0.Coords) (v10 : BitVec 32) (v476 : IVec S16 32) (k0_hw433 : k0_chk433 i v10 v476), ∀ (k0_h2 : k0_cond2 i v10 = 1#1), ∀ a x, ((![v476] : Fin 1 → IVec S16 32) a x).toNat < S18816.size a := fun i v10 v476 k0_hw433 k0_h2 => k0_hw433 k0_h2

def k0_chk434 (i : grid0.Coords) (v10 : BitVec 32) (v481 : IVec S16 32) : Prop :=
  (∀ (k0_h2 : k0_cond2 i v10 = 1#1), ∀ a x, ((![v481] : Fin 1 → IVec S16 32) a x).toNat < S18816.size a)
theorem k0_idx410_inb : ∀ (i : grid0.Coords) (v10 : BitVec 32) (v481 : IVec S16 32) (k0_hw434 : k0_chk434 i v10 v481), ∀ (k0_h2 : k0_cond2 i v10 = 1#1), ∀ a x, ((![v481] : Fin 1 → IVec S16 32) a x).toNat < S18816.size a := fun i v10 v481 k0_hw434 k0_h2 => k0_hw434 k0_h2

def k0_chk435 (i : grid0.Coords) (v10 : BitVec 32) (v486 : IVec S16 32) : Prop :=
  (∀ (k0_h2 : k0_cond2 i v10 = 1#1), ∀ a x, ((![v486] : Fin 1 → IVec S16 32) a x).toNat < S18816.size a)
theorem k0_idx411_inb : ∀ (i : grid0.Coords) (v10 : BitVec 32) (v486 : IVec S16 32) (k0_hw435 : k0_chk435 i v10 v486), ∀ (k0_h2 : k0_cond2 i v10 = 1#1), ∀ a x, ((![v486] : Fin 1 → IVec S16 32) a x).toNat < S18816.size a := fun i v10 v486 k0_hw435 k0_h2 => k0_hw435 k0_h2

def k0_chk436 (i : grid0.Coords) (v10 : BitVec 32) (v491 : IVec S16 32) : Prop :=
  (∀ (k0_h2 : k0_cond2 i v10 = 1#1), ∀ a x, ((![v491] : Fin 1 → IVec S16 32) a x).toNat < S18816.size a)
theorem k0_idx412_inb : ∀ (i : grid0.Coords) (v10 : BitVec 32) (v491 : IVec S16 32) (k0_hw436 : k0_chk436 i v10 v491), ∀ (k0_h2 : k0_cond2 i v10 = 1#1), ∀ a x, ((![v491] : Fin 1 → IVec S16 32) a x).toNat < S18816.size a := fun i v10 v491 k0_hw436 k0_h2 => k0_hw436 k0_h2

def k0_chk437 (i : grid0.Coords) (v10 : BitVec 32) (v496 : IVec S16 32) : Prop :=
  (∀ (k0_h2 : k0_cond2 i v10 = 1#1), ∀ a x, ((![v496] : Fin 1 → IVec S16 32) a x).toNat < S18816.size a)
theorem k0_idx413_inb : ∀ (i : grid0.Coords) (v10 : BitVec 32) (v496 : IVec S16 32) (k0_hw437 : k0_chk437 i v10 v496), ∀ (k0_h2 : k0_cond2 i v10 = 1#1), ∀ a x, ((![v496] : Fin 1 → IVec S16 32) a x).toNat < S18816.size a := fun i v10 v496 k0_hw437 k0_h2 => k0_hw437 k0_h2

def k0_chk438 (i : grid0.Coords) (v10 : BitVec 32) (v501 : IVec S16 32) : Prop :=
  (∀ (k0_h2 : k0_cond2 i v10 = 1#1), ∀ a x, ((![v501] : Fin 1 → IVec S16 32) a x).toNat < S18816.size a)
theorem k0_idx414_inb : ∀ (i : grid0.Coords) (v10 : BitVec 32) (v501 : IVec S16 32) (k0_hw438 : k0_chk438 i v10 v501), ∀ (k0_h2 : k0_cond2 i v10 = 1#1), ∀ a x, ((![v501] : Fin 1 → IVec S16 32) a x).toNat < S18816.size a := fun i v10 v501 k0_hw438 k0_h2 => k0_hw438 k0_h2

def k0_chk439 (i : grid0.Coords) (v10 : BitVec 32) (v506 : IVec S16 32) : Prop :=
  (∀ (k0_h2 : k0_cond2 i v10 = 1#1), ∀ a x, ((![v506] : Fin 1 → IVec S16 32) a x).toNat < S18816.size a)
theorem k0_idx415_inb : ∀ (i : grid0.Coords) (v10 : BitVec 32) (v506 : IVec S16 32) (k0_hw439 : k0_chk439 i v10 v506), ∀ (k0_h2 : k0_cond2 i v10 = 1#1), ∀ a x, ((![v506] : Fin 1 → IVec S16 32) a x).toNat < S18816.size a := fun i v10 v506 k0_hw439 k0_h2 => k0_hw439 k0_h2

def k0_chk440 (i : grid0.Coords) (v10 : BitVec 32) (v511 : IVec S16 32) : Prop :=
  (∀ (k0_h2 : k0_cond2 i v10 = 1#1), ∀ a x, ((![v511] : Fin 1 → IVec S16 32) a x).toNat < S18816.size a)
theorem k0_idx416_inb : ∀ (i : grid0.Coords) (v10 : BitVec 32) (v511 : IVec S16 32) (k0_hw440 : k0_chk440 i v10 v511), ∀ (k0_h2 : k0_cond2 i v10 = 1#1), ∀ a x, ((![v511] : Fin 1 → IVec S16 32) a x).toNat < S18816.size a := fun i v10 v511 k0_hw440 k0_h2 => k0_hw440 k0_h2

def k0_chk441 (i : grid0.Coords) (v10 : BitVec 32) (v516 : IVec S16 32) : Prop :=
  (∀ (k0_h2 : k0_cond2 i v10 = 1#1), ∀ a x, ((![v516] : Fin 1 → IVec S16 32) a x).toNat < S18816.size a)
theorem k0_idx417_inb : ∀ (i : grid0.Coords) (v10 : BitVec 32) (v516 : IVec S16 32) (k0_hw441 : k0_chk441 i v10 v516), ∀ (k0_h2 : k0_cond2 i v10 = 1#1), ∀ a x, ((![v516] : Fin 1 → IVec S16 32) a x).toNat < S18816.size a := fun i v10 v516 k0_hw441 k0_h2 => k0_hw441 k0_h2

def k0_chk442 (i : grid0.Coords) (v10 : BitVec 32) (v521 : IVec S16 32) : Prop :=
  (∀ (k0_h2 : k0_cond2 i v10 = 1#1), ∀ a x, ((![v521] : Fin 1 → IVec S16 32) a x).toNat < S18816.size a)
theorem k0_idx418_inb : ∀ (i : grid0.Coords) (v10 : BitVec 32) (v521 : IVec S16 32) (k0_hw442 : k0_chk442 i v10 v521), ∀ (k0_h2 : k0_cond2 i v10 = 1#1), ∀ a x, ((![v521] : Fin 1 → IVec S16 32) a x).toNat < S18816.size a := fun i v10 v521 k0_hw442 k0_h2 => k0_hw442 k0_h2

def k0_chk443 (i : grid0.Coords) (v10 : BitVec 32) (v526 : IVec S16 32) : Prop :=
  (∀ (k0_h2 : k0_cond2 i v10 = 1#1), ∀ a x, ((![v526] : Fin 1 → IVec S16 32) a x).toNat < S18816.size a)
theorem k0_idx419_inb : ∀ (i : grid0.Coords) (v10 : BitVec 32) (v526 : IVec S16 32) (k0_hw443 : k0_chk443 i v10 v526), ∀ (k0_h2 : k0_cond2 i v10 = 1#1), ∀ a x, ((![v526] : Fin 1 → IVec S16 32) a x).toNat < S18816.size a := fun i v10 v526 k0_hw443 k0_h2 => k0_hw443 k0_h2

def k0_chk444 (i : grid0.Coords) (v10 : BitVec 32) (v531 : IVec S16 32) : Prop :=
  (∀ (k0_h2 : k0_cond2 i v10 = 1#1), ∀ a x, ((![v531] : Fin 1 → IVec S16 32) a x).toNat < S18816.size a)
theorem k0_idx420_inb : ∀ (i : grid0.Coords) (v10 : BitVec 32) (v531 : IVec S16 32) (k0_hw444 : k0_chk444 i v10 v531), ∀ (k0_h2 : k0_cond2 i v10 = 1#1), ∀ a x, ((![v531] : Fin 1 → IVec S16 32) a x).toNat < S18816.size a := fun i v10 v531 k0_hw444 k0_h2 => k0_hw444 k0_h2

def k0_chk445 (i : grid0.Coords) (v10 : BitVec 32) (v536 : IVec S16 32) : Prop :=
  (∀ (k0_h2 : k0_cond2 i v10 = 1#1), ∀ a x, ((![v536] : Fin 1 → IVec S16 32) a x).toNat < S18816.size a)
theorem k0_idx421_inb : ∀ (i : grid0.Coords) (v10 : BitVec 32) (v536 : IVec S16 32) (k0_hw445 : k0_chk445 i v10 v536), ∀ (k0_h2 : k0_cond2 i v10 = 1#1), ∀ a x, ((![v536] : Fin 1 → IVec S16 32) a x).toNat < S18816.size a := fun i v10 v536 k0_hw445 k0_h2 => k0_hw445 k0_h2

def k0_chk446 (i : grid0.Coords) (v10 : BitVec 32) (v541 : IVec S16 32) : Prop :=
  (∀ (k0_h2 : k0_cond2 i v10 = 1#1), ∀ a x, ((![v541] : Fin 1 → IVec S16 32) a x).toNat < S18816.size a)
theorem k0_idx422_inb : ∀ (i : grid0.Coords) (v10 : BitVec 32) (v541 : IVec S16 32) (k0_hw446 : k0_chk446 i v10 v541), ∀ (k0_h2 : k0_cond2 i v10 = 1#1), ∀ a x, ((![v541] : Fin 1 → IVec S16 32) a x).toNat < S18816.size a := fun i v10 v541 k0_hw446 k0_h2 => k0_hw446 k0_h2

def k0_chk447 (i : grid0.Coords) (v10 : BitVec 32) (v546 : IVec S16 32) : Prop :=
  (∀ (k0_h2 : k0_cond2 i v10 = 1#1), ∀ a x, ((![v546] : Fin 1 → IVec S16 32) a x).toNat < S18816.size a)
theorem k0_idx423_inb : ∀ (i : grid0.Coords) (v10 : BitVec 32) (v546 : IVec S16 32) (k0_hw447 : k0_chk447 i v10 v546), ∀ (k0_h2 : k0_cond2 i v10 = 1#1), ∀ a x, ((![v546] : Fin 1 → IVec S16 32) a x).toNat < S18816.size a := fun i v10 v546 k0_hw447 k0_h2 => k0_hw447 k0_h2

def k0_chk448 (i : grid0.Coords) (v10 : BitVec 32) (v551 : IVec S16 32) : Prop :=
  (∀ (k0_h2 : k0_cond2 i v10 = 1#1), ∀ a x, ((![v551] : Fin 1 → IVec S16 32) a x).toNat < S18816.size a)
theorem k0_idx424_inb : ∀ (i : grid0.Coords) (v10 : BitVec 32) (v551 : IVec S16 32) (k0_hw448 : k0_chk448 i v10 v551), ∀ (k0_h2 : k0_cond2 i v10 = 1#1), ∀ a x, ((![v551] : Fin 1 → IVec S16 32) a x).toNat < S18816.size a := fun i v10 v551 k0_hw448 k0_h2 => k0_hw448 k0_h2

def k0_chk449 (i : grid0.Coords) (v10 : BitVec 32) (v556 : IVec S16 32) : Prop :=
  (∀ (k0_h2 : k0_cond2 i v10 = 1#1), ∀ a x, ((![v556] : Fin 1 → IVec S16 32) a x).toNat < S18816.size a)
theorem k0_idx425_inb : ∀ (i : grid0.Coords) (v10 : BitVec 32) (v556 : IVec S16 32) (k0_hw449 : k0_chk449 i v10 v556), ∀ (k0_h2 : k0_cond2 i v10 = 1#1), ∀ a x, ((![v556] : Fin 1 → IVec S16 32) a x).toNat < S18816.size a := fun i v10 v556 k0_hw449 k0_h2 => k0_hw449 k0_h2

def k0_chk450 (i : grid0.Coords) (v10 : BitVec 32) (v561 : IVec S16 32) : Prop :=
  (∀ (k0_h2 : k0_cond2 i v10 = 1#1), ∀ a x, ((![v561] : Fin 1 → IVec S16 32) a x).toNat < S18816.size a)
theorem k0_idx426_inb : ∀ (i : grid0.Coords) (v10 : BitVec 32) (v561 : IVec S16 32) (k0_hw450 : k0_chk450 i v10 v561), ∀ (k0_h2 : k0_cond2 i v10 = 1#1), ∀ a x, ((![v561] : Fin 1 → IVec S16 32) a x).toNat < S18816.size a := fun i v10 v561 k0_hw450 k0_h2 => k0_hw450 k0_h2

def k0_chk451 (i : grid0.Coords) (v10 : BitVec 32) (v566 : IVec S16 32) : Prop :=
  (∀ (k0_h2 : k0_cond2 i v10 = 1#1), ∀ a x, ((![v566] : Fin 1 → IVec S16 32) a x).toNat < S18816.size a)
theorem k0_idx427_inb : ∀ (i : grid0.Coords) (v10 : BitVec 32) (v566 : IVec S16 32) (k0_hw451 : k0_chk451 i v10 v566), ∀ (k0_h2 : k0_cond2 i v10 = 1#1), ∀ a x, ((![v566] : Fin 1 → IVec S16 32) a x).toNat < S18816.size a := fun i v10 v566 k0_hw451 k0_h2 => k0_hw451 k0_h2

def k0_chk452 (i : grid0.Coords) (v10 : BitVec 32) (v571 : IVec S16 32) : Prop :=
  (∀ (k0_h2 : k0_cond2 i v10 = 1#1), ∀ a x, ((![v571] : Fin 1 → IVec S16 32) a x).toNat < S18816.size a)
theorem k0_idx428_inb : ∀ (i : grid0.Coords) (v10 : BitVec 32) (v571 : IVec S16 32) (k0_hw452 : k0_chk452 i v10 v571), ∀ (k0_h2 : k0_cond2 i v10 = 1#1), ∀ a x, ((![v571] : Fin 1 → IVec S16 32) a x).toNat < S18816.size a := fun i v10 v571 k0_hw452 k0_h2 => k0_hw452 k0_h2

def k0_chk453 (i : grid0.Coords) (v10 : BitVec 32) (v576 : IVec S16 32) : Prop :=
  (∀ (k0_h2 : k0_cond2 i v10 = 1#1), ∀ a x, ((![v576] : Fin 1 → IVec S16 32) a x).toNat < S18816.size a)
theorem k0_idx429_inb : ∀ (i : grid0.Coords) (v10 : BitVec 32) (v576 : IVec S16 32) (k0_hw453 : k0_chk453 i v10 v576), ∀ (k0_h2 : k0_cond2 i v10 = 1#1), ∀ a x, ((![v576] : Fin 1 → IVec S16 32) a x).toNat < S18816.size a := fun i v10 v576 k0_hw453 k0_h2 => k0_hw453 k0_h2

def k0_chk454 (i : grid0.Coords) (v10 : BitVec 32) (v581 : IVec S16 32) : Prop :=
  (∀ (k0_h2 : k0_cond2 i v10 = 1#1), ∀ a x, ((![v581] : Fin 1 → IVec S16 32) a x).toNat < S18816.size a)
theorem k0_idx430_inb : ∀ (i : grid0.Coords) (v10 : BitVec 32) (v581 : IVec S16 32) (k0_hw454 : k0_chk454 i v10 v581), ∀ (k0_h2 : k0_cond2 i v10 = 1#1), ∀ a x, ((![v581] : Fin 1 → IVec S16 32) a x).toNat < S18816.size a := fun i v10 v581 k0_hw454 k0_h2 => k0_hw454 k0_h2

def k0_chk455 (i : grid0.Coords) (v10 : BitVec 32) (v586 : IVec S16 32) : Prop :=
  (∀ (k0_h2 : k0_cond2 i v10 = 1#1), ∀ a x, ((![v586] : Fin 1 → IVec S16 32) a x).toNat < S18816.size a)
theorem k0_idx431_inb : ∀ (i : grid0.Coords) (v10 : BitVec 32) (v586 : IVec S16 32) (k0_hw455 : k0_chk455 i v10 v586), ∀ (k0_h2 : k0_cond2 i v10 = 1#1), ∀ a x, ((![v586] : Fin 1 → IVec S16 32) a x).toNat < S18816.size a := fun i v10 v586 k0_hw455 k0_h2 => k0_hw455 k0_h2

def k0_chk456 (i : grid0.Coords) (v10 : BitVec 32) (v591 : IVec S16 32) : Prop :=
  (∀ (k0_h2 : k0_cond2 i v10 = 1#1), ∀ a x, ((![v591] : Fin 1 → IVec S16 32) a x).toNat < S18816.size a)
theorem k0_idx432_inb : ∀ (i : grid0.Coords) (v10 : BitVec 32) (v591 : IVec S16 32) (k0_hw456 : k0_chk456 i v10 v591), ∀ (k0_h2 : k0_cond2 i v10 = 1#1), ∀ a x, ((![v591] : Fin 1 → IVec S16 32) a x).toNat < S18816.size a := fun i v10 v591 k0_hw456 k0_h2 => k0_hw456 k0_h2
@[reducible] def k0_t116_loop (v41 : BitVec 32) (v43 : BitVec 32) : Scf.Loop 32 :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_217 : BitVec 32 := 1#32
  ⟨v41, v601, c1_i32_217⟩
@[reducible] def k0_t117_loop (v593 : BitVec 32) (v595 : BitVec 32) : Scf.Loop 32 :=
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_375 : BitVec 32 := 1#32
  ⟨v593, v1008, c1_i32_375⟩

def k0_off1739 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1012 : Index := Scalar.indexCast v1011
  let c0_377 : Index := 0#32
  ![v1012.toNat, 0]
def k0_off1740 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1015 : Index := Scalar.indexCast v1011
  let c16 : Index := 16#32
  ![v1015.toNat, 16]
def k0_off1741 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1018 : Index := Scalar.indexCast v1011
  let c32 : Index := 32#32
  ![v1018.toNat, 32]
def k0_off1742 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1021 : Index := Scalar.indexCast v1011
  let c48 : Index := 48#32
  ![v1021.toNat, 48]
def k0_off1743 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1024 : Index := Scalar.indexCast v1011
  let c64 : Index := 64#32
  ![v1024.toNat, 64]
def k0_off1744 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1027 : Index := Scalar.indexCast v1011
  let c80 : Index := 80#32
  ![v1027.toNat, 80]
def k0_off1745 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1030 : Index := Scalar.indexCast v1011
  let c96 : Index := 96#32
  ![v1030.toNat, 96]
def k0_off1746 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1033 : Index := Scalar.indexCast v1011
  let c112 : Index := 112#32
  ![v1033.toNat, 112]
def k0_off1747 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1036 : Index := Scalar.indexCast v1011
  let c128 : Index := 128#32
  ![v1036.toNat, 128]
def k0_off1748 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1039 : Index := Scalar.indexCast v1011
  let c144 : Index := 144#32
  ![v1039.toNat, 144]
def k0_off1749 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1042 : Index := Scalar.indexCast v1011
  let c160 : Index := 160#32
  ![v1042.toNat, 160]
def k0_off1750 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1045 : Index := Scalar.indexCast v1011
  let c176 : Index := 176#32
  ![v1045.toNat, 176]
def k0_off1751 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1048 : Index := Scalar.indexCast v1011
  let c192 : Index := 192#32
  ![v1048.toNat, 192]
def k0_off1752 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1051 : Index := Scalar.indexCast v1011
  let c208 : Index := 208#32
  ![v1051.toNat, 208]
def k0_off1753 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1054 : Index := Scalar.indexCast v1011
  let c224 : Index := 224#32
  ![v1054.toNat, 224]
def k0_off1754 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1057 : Index := Scalar.indexCast v1011
  let c240 : Index := 240#32
  ![v1057.toNat, 240]
def k0_off1755 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1060 : Index := Scalar.indexCast v1011
  let c256 : Index := 256#32
  ![v1060.toNat, 256]
def k0_off1756 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1063 : Index := Scalar.indexCast v1011
  let c272 : Index := 272#32
  ![v1063.toNat, 272]
def k0_off1757 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1066 : Index := Scalar.indexCast v1011
  let c288 : Index := 288#32
  ![v1066.toNat, 288]
def k0_off1758 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1069 : Index := Scalar.indexCast v1011
  let c304 : Index := 304#32
  ![v1069.toNat, 304]
def k0_off1759 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1072 : Index := Scalar.indexCast v1011
  let c320 : Index := 320#32
  ![v1072.toNat, 320]
def k0_off1760 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1075 : Index := Scalar.indexCast v1011
  let c336 : Index := 336#32
  ![v1075.toNat, 336]
def k0_off1761 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1078 : Index := Scalar.indexCast v1011
  let c352 : Index := 352#32
  ![v1078.toNat, 352]
def k0_off1762 (v41 : BitVec 32) (v43 : BitVec 32) (v593 : BitVec 32) (v595 : BitVec 32) (k0_t116 : Fin (k0_t116_loop v41 v43).trips) (k0_t117 : Fin (k0_t117_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let c1_i32_375 : BitVec 32 := 1#32
  let arg36 : BitVec 32 := Scf.iv v593 c1_i32_375 k0_t117
  let v1011 : BitVec 32 := Scalar.addi v1003 arg36
  let v1081 : Index := Scalar.indexCast v1011
  let c368 : Index := 368#32
  ![v1081.toNat, 368]
@[reducible] def k0_t118_loop (v593 : BitVec 32) (v595 : BitVec 32) : Scf.Loop 32 :=
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let v1005 : BitVec 32 := Scalar.addi v593 v1004
  let c1_i32_376 : BitVec 32 := 1#32
  ⟨v1008, v1005, c1_i32_376⟩
def k0_off1763 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1012 : Index := Scalar.indexCast v1011
  let c0_377 : Index := 0#32
  ![v1012.toNat, 0]

variable {F : FTy → Type} [FloatOps F]

def k0_off1764 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1015 : Index := Scalar.indexCast v1011
  let c16 : Index := 16#32
  ![v1015.toNat, 16]
def k0_off1765 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1018 : Index := Scalar.indexCast v1011
  let c32 : Index := 32#32
  ![v1018.toNat, 32]
def k0_off1766 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1021 : Index := Scalar.indexCast v1011
  let c48 : Index := 48#32
  ![v1021.toNat, 48]
def k0_off1767 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1024 : Index := Scalar.indexCast v1011
  let c64 : Index := 64#32
  ![v1024.toNat, 64]
def k0_off1768 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1027 : Index := Scalar.indexCast v1011
  let c80 : Index := 80#32
  ![v1027.toNat, 80]
def k0_off1769 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1030 : Index := Scalar.indexCast v1011
  let c96 : Index := 96#32
  ![v1030.toNat, 96]
def k0_off1770 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1033 : Index := Scalar.indexCast v1011
  let c112 : Index := 112#32
  ![v1033.toNat, 112]
def k0_off1771 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1036 : Index := Scalar.indexCast v1011
  let c128 : Index := 128#32
  ![v1036.toNat, 128]
def k0_off1772 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1039 : Index := Scalar.indexCast v1011
  let c144 : Index := 144#32
  ![v1039.toNat, 144]
def k0_off1773 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1042 : Index := Scalar.indexCast v1011
  let c160 : Index := 160#32
  ![v1042.toNat, 160]
def k0_off1774 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1045 : Index := Scalar.indexCast v1011
  let c176 : Index := 176#32
  ![v1045.toNat, 176]
def k0_off1775 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1048 : Index := Scalar.indexCast v1011
  let c192 : Index := 192#32
  ![v1048.toNat, 192]
def k0_off1776 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1051 : Index := Scalar.indexCast v1011
  let c208 : Index := 208#32
  ![v1051.toNat, 208]
def k0_off1777 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1054 : Index := Scalar.indexCast v1011
  let c224 : Index := 224#32
  ![v1054.toNat, 224]
def k0_off1778 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1057 : Index := Scalar.indexCast v1011
  let c240 : Index := 240#32
  ![v1057.toNat, 240]
def k0_off1779 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1060 : Index := Scalar.indexCast v1011
  let c256 : Index := 256#32
  ![v1060.toNat, 256]
def k0_off1780 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1063 : Index := Scalar.indexCast v1011
  let c272 : Index := 272#32
  ![v1063.toNat, 272]
def k0_off1781 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1066 : Index := Scalar.indexCast v1011
  let c288 : Index := 288#32
  ![v1066.toNat, 288]
def k0_off1782 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1069 : Index := Scalar.indexCast v1011
  let c304 : Index := 304#32
  ![v1069.toNat, 304]
def k0_off1783 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1072 : Index := Scalar.indexCast v1011
  let c320 : Index := 320#32
  ![v1072.toNat, 320]
def k0_off1784 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1075 : Index := Scalar.indexCast v1011
  let c336 : Index := 336#32
  ![v1075.toNat, 336]
def k0_off1785 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1078 : Index := Scalar.indexCast v1011
  let c352 : Index := 352#32
  ![v1078.toNat, 352]
def k0_off1786 (v41 : BitVec 32) (v43 : BitVec 32) (v593 : BitVec 32) (v595 : BitVec 32) (k0_t116 : Fin (k0_t116_loop v41 v43).trips) (k0_t118 : Fin (k0_t118_loop v593 v595).trips) : Fin 2 → Nat :=
  let c1_i32_217 : BitVec 32 := 1#32
  let arg11 : BitVec 32 := Scf.iv v41 c1_i32_217 k0_t116
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t118
  let v1011 : BitVec 32 := Scalar.addi v1003 arg36
  let v1081 : Index := Scalar.indexCast v1011
  let c368 : Index := 368#32
  ![v1081.toNat, 368]
@[reducible] def k0_t119_loop (v41 : BitVec 32) (v43 : BitVec 32) : Scf.Loop 32 :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let v598 : BitVec 32 := Scalar.addi v41 v597
  let c1_i32_218 : BitVec 32 := 1#32
  ⟨v601, v598, c1_i32_218⟩
@[reducible] def k0_t120_loop (v593 : BitVec 32) (v595 : BitVec 32) : Scf.Loop 32 :=
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_375 : BitVec 32 := 1#32
  ⟨v593, v1008, c1_i32_375⟩
def k0_off1787 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1012 : Index := Scalar.indexCast v1011
  let c0_377 : Index := 0#32
  ![v1012.toNat, 0]
def k0_off1788 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1015 : Index := Scalar.indexCast v1011
  let c16 : Index := 16#32
  ![v1015.toNat, 16]
def k0_off1789 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1018 : Index := Scalar.indexCast v1011
  let c32 : Index := 32#32
  ![v1018.toNat, 32]
def k0_off1790 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1021 : Index := Scalar.indexCast v1011
  let c48 : Index := 48#32
  ![v1021.toNat, 48]
def k0_off1791 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1024 : Index := Scalar.indexCast v1011
  let c64 : Index := 64#32
  ![v1024.toNat, 64]
def k0_off1792 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1027 : Index := Scalar.indexCast v1011
  let c80 : Index := 80#32
  ![v1027.toNat, 80]
def k0_off1793 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1030 : Index := Scalar.indexCast v1011
  let c96 : Index := 96#32
  ![v1030.toNat, 96]
def k0_off1794 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1033 : Index := Scalar.indexCast v1011
  let c112 : Index := 112#32
  ![v1033.toNat, 112]
def k0_off1795 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1036 : Index := Scalar.indexCast v1011
  let c128 : Index := 128#32
  ![v1036.toNat, 128]
def k0_off1796 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1039 : Index := Scalar.indexCast v1011
  let c144 : Index := 144#32
  ![v1039.toNat, 144]
def k0_off1797 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1042 : Index := Scalar.indexCast v1011
  let c160 : Index := 160#32
  ![v1042.toNat, 160]
def k0_off1798 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1045 : Index := Scalar.indexCast v1011
  let c176 : Index := 176#32
  ![v1045.toNat, 176]
def k0_off1799 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1048 : Index := Scalar.indexCast v1011
  let c192 : Index := 192#32
  ![v1048.toNat, 192]
def k0_off1800 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1051 : Index := Scalar.indexCast v1011
  let c208 : Index := 208#32
  ![v1051.toNat, 208]
def k0_off1801 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1054 : Index := Scalar.indexCast v1011
  let c224 : Index := 224#32
  ![v1054.toNat, 224]
def k0_off1802 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1057 : Index := Scalar.indexCast v1011
  let c240 : Index := 240#32
  ![v1057.toNat, 240]
def k0_off1803 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1060 : Index := Scalar.indexCast v1011
  let c256 : Index := 256#32
  ![v1060.toNat, 256]
def k0_off1804 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1063 : Index := Scalar.indexCast v1011
  let c272 : Index := 272#32
  ![v1063.toNat, 272]
def k0_off1805 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1066 : Index := Scalar.indexCast v1011
  let c288 : Index := 288#32
  ![v1066.toNat, 288]
def k0_off1806 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1069 : Index := Scalar.indexCast v1011
  let c304 : Index := 304#32
  ![v1069.toNat, 304]
def k0_off1807 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1072 : Index := Scalar.indexCast v1011
  let c320 : Index := 320#32
  ![v1072.toNat, 320]
def k0_off1808 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1075 : Index := Scalar.indexCast v1011
  let c336 : Index := 336#32
  ![v1075.toNat, 336]
def k0_off1809 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1078 : Index := Scalar.indexCast v1011
  let c352 : Index := 352#32
  ![v1078.toNat, 352]
def k0_off1810 (v41 : BitVec 32) (v43 : BitVec 32) (v593 : BitVec 32) (v595 : BitVec 32) (k0_t119 : Fin (k0_t119_loop v41 v43).trips) (k0_t120 : Fin (k0_t120_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let c1_i32_375 : BitVec 32 := 1#32
  let arg36 : BitVec 32 := Scf.iv v593 c1_i32_375 k0_t120
  let v1011 : BitVec 32 := Scalar.addi v1003 arg36
  let v1081 : Index := Scalar.indexCast v1011
  let c368 : Index := 368#32
  ![v1081.toNat, 368]
@[reducible] def k0_t121_loop (v593 : BitVec 32) (v595 : BitVec 32) : Scf.Loop 32 :=
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let v1005 : BitVec 32 := Scalar.addi v593 v1004
  let c1_i32_376 : BitVec 32 := 1#32
  ⟨v1008, v1005, c1_i32_376⟩
def k0_off1811 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1012 : Index := Scalar.indexCast v1011
  let c0_377 : Index := 0#32
  ![v1012.toNat, 0]
def k0_off1812 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1015 : Index := Scalar.indexCast v1011
  let c16 : Index := 16#32
  ![v1015.toNat, 16]
def k0_off1813 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1018 : Index := Scalar.indexCast v1011
  let c32 : Index := 32#32
  ![v1018.toNat, 32]
def k0_off1814 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1021 : Index := Scalar.indexCast v1011
  let c48 : Index := 48#32
  ![v1021.toNat, 48]
def k0_off1815 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1024 : Index := Scalar.indexCast v1011
  let c64 : Index := 64#32
  ![v1024.toNat, 64]
def k0_off1816 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1027 : Index := Scalar.indexCast v1011
  let c80 : Index := 80#32
  ![v1027.toNat, 80]
def k0_off1817 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1030 : Index := Scalar.indexCast v1011
  let c96 : Index := 96#32
  ![v1030.toNat, 96]
def k0_off1818 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1033 : Index := Scalar.indexCast v1011
  let c112 : Index := 112#32
  ![v1033.toNat, 112]
def k0_off1819 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1036 : Index := Scalar.indexCast v1011
  let c128 : Index := 128#32
  ![v1036.toNat, 128]
def k0_off1820 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1039 : Index := Scalar.indexCast v1011
  let c144 : Index := 144#32
  ![v1039.toNat, 144]
def k0_off1821 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1042 : Index := Scalar.indexCast v1011
  let c160 : Index := 160#32
  ![v1042.toNat, 160]
def k0_off1822 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1045 : Index := Scalar.indexCast v1011
  let c176 : Index := 176#32
  ![v1045.toNat, 176]
def k0_off1823 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1048 : Index := Scalar.indexCast v1011
  let c192 : Index := 192#32
  ![v1048.toNat, 192]
def k0_off1824 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1051 : Index := Scalar.indexCast v1011
  let c208 : Index := 208#32
  ![v1051.toNat, 208]
def k0_off1825 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1054 : Index := Scalar.indexCast v1011
  let c224 : Index := 224#32
  ![v1054.toNat, 224]
def k0_off1826 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1057 : Index := Scalar.indexCast v1011
  let c240 : Index := 240#32
  ![v1057.toNat, 240]
def k0_off1827 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1060 : Index := Scalar.indexCast v1011
  let c256 : Index := 256#32
  ![v1060.toNat, 256]
def k0_off1828 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1063 : Index := Scalar.indexCast v1011
  let c272 : Index := 272#32
  ![v1063.toNat, 272]
def k0_off1829 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1066 : Index := Scalar.indexCast v1011
  let c288 : Index := 288#32
  ![v1066.toNat, 288]
def k0_off1830 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1069 : Index := Scalar.indexCast v1011
  let c304 : Index := 304#32
  ![v1069.toNat, 304]
def k0_off1831 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1072 : Index := Scalar.indexCast v1011
  let c320 : Index := 320#32
  ![v1072.toNat, 320]
def k0_off1832 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1075 : Index := Scalar.indexCast v1011
  let c336 : Index := 336#32
  ![v1075.toNat, 336]
def k0_off1833 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1078 : Index := Scalar.indexCast v1011
  let c352 : Index := 352#32
  ![v1078.toNat, 352]
def k0_off1834 (v41 : BitVec 32) (v43 : BitVec 32) (v593 : BitVec 32) (v595 : BitVec 32) (k0_t119 : Fin (k0_t119_loop v41 v43).trips) (k0_t121 : Fin (k0_t121_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t119
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t121
  let v1011 : BitVec 32 := Scalar.addi v1003 arg36
  let v1081 : Index := Scalar.indexCast v1011
  let c368 : Index := 368#32
  ![v1081.toNat, 368]

def k0_chk457_0 (i : grid0.Coords) (v10 : BitVec 32) (v41 : BitVec 32) (v43 : BitVec 32) (v593 : BitVec 32) (v595 : BitVec 32) : Prop :=
  (∀ k0_t116 : Fin (k0_t116_loop v41 v43).trips, ∀ (k0_h2 : k0_cond2 i v10 = 1#1), (k0_t117_loop v593 v595).OK) ∧
  (∀ (k0_t116 : Fin (k0_t116_loop v41 v43).trips) (k0_t117 : Fin (k0_t117_loop v593 v595).trips), ∀ (k0_h2 : k0_cond2 i v10 = 1#1), ∀ a, (k0_off1739 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1740 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1741 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1742 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1743 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1744 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1745 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1746 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1747 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1748 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1749 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1750 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1751 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1752 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1753 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1754 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1755 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1756 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1757 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1758 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1759 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1760 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1761 v41 v43 v593 v595 k0_t116 k0_t117) a + S1x16.size a ≤ S196x384.size a) ∧
  (∀ (k0_t116 : Fin (k0_t116_loop v41 v43).trips) (k0_t117 : Fin (k0_t117_loop v593 v595).trips), ∀ (k0_h2 : k0_cond2 i v10 = 1#1), ∀ a, (k0_off1762 v41 v43 v593 v595 k0_t116 k0_t117) a + S1x16.size a ≤ S196x384.size a) ∧
  (∀ k0_t116 : Fin (k0_t116_loop v41 v43).trips, ∀ (k0_h2 : k0_cond2 i v10 = 1#1), (k0_t118_loop v593 v595).OK) ∧
  (∀ (k0_t116 : Fin (k0_t116_loop v41 v43).trips) (k0_t118 : Fin (k0_t118_loop v593 v595).trips), ∀ (k0_h2 : k0_cond2 i v10 = 1#1), ∀ a, (k0_off1763 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1764 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1765 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1766 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1767 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1768 v41 v43 v593 v595 k0_t116 k0_t118) a + S1x16.size a ≤ S196x384.size a)
def k0_chk457_1 (i : grid0.Coords) (v10 : BitVec 32) (v41 : BitVec 32) (v43 : BitVec 32) (v593 : BitVec 32) (v595 : BitVec 32) : Prop :=
  (∀ (k0_t116 : Fin (k0_t116_loop v41 v43).trips) (k0_t118 : Fin (k0_t118_loop v593 v595).trips), ∀ (k0_h2 : k0_cond2 i v10 = 1#1), ∀ a, (k0_off1769 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1770 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1771 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1772 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1773 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1774 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1775 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1776 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1777 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1778 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1779 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1780 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1781 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1782 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1783 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1784 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1785 v41 v43 v593 v595 k0_t116 k0_t118) a + S1x16.size a ≤ S196x384.size a) ∧
  (∀ (k0_t116 : Fin (k0_t116_loop v41 v43).trips) (k0_t118 : Fin (k0_t118_loop v593 v595).trips), ∀ (k0_h2 : k0_cond2 i v10 = 1#1), ∀ a, (k0_off1786 v41 v43 v593 v595 k0_t116 k0_t118) a + S1x16.size a ≤ S196x384.size a) ∧
  (∀ k0_t119 : Fin (k0_t119_loop v41 v43).trips, ∀ (k0_h2 : k0_cond2 i v10 = 1#1), (k0_t120_loop v593 v595).OK) ∧
  (∀ (k0_t119 : Fin (k0_t119_loop v41 v43).trips) (k0_t120 : Fin (k0_t120_loop v593 v595).trips), ∀ (k0_h2 : k0_cond2 i v10 = 1#1), ∀ a, (k0_off1787 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1788 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1789 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1790 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1791 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1792 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1793 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1794 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1795 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1796 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1797 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1798 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1799 v41 v43 v593 v595 k0_t119 k0_t120) a + S1x16.size a ≤ S196x384.size a)
def k0_chk457_2 (i : grid0.Coords) (v10 : BitVec 32) (v41 : BitVec 32) (v43 : BitVec 32) (v593 : BitVec 32) (v595 : BitVec 32) : Prop :=
  (∀ (k0_t119 : Fin (k0_t119_loop v41 v43).trips) (k0_t120 : Fin (k0_t120_loop v593 v595).trips), ∀ (k0_h2 : k0_cond2 i v10 = 1#1), ∀ a, (k0_off1800 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1801 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1802 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1803 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1804 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1805 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1806 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1807 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1808 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1809 v41 v43 v593 v595 k0_t119 k0_t120) a + S1x16.size a ≤ S196x384.size a) ∧
  (∀ (k0_t119 : Fin (k0_t119_loop v41 v43).trips) (k0_t120 : Fin (k0_t120_loop v593 v595).trips), ∀ (k0_h2 : k0_cond2 i v10 = 1#1), ∀ a, (k0_off1810 v41 v43 v593 v595 k0_t119 k0_t120) a + S1x16.size a ≤ S196x384.size a) ∧
  (∀ k0_t119 : Fin (k0_t119_loop v41 v43).trips, ∀ (k0_h2 : k0_cond2 i v10 = 1#1), (k0_t121_loop v593 v595).OK) ∧
  (∀ (k0_t119 : Fin (k0_t119_loop v41 v43).trips) (k0_t121 : Fin (k0_t121_loop v593 v595).trips), ∀ (k0_h2 : k0_cond2 i v10 = 1#1), ∀ a, (k0_off1811 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1812 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1813 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1814 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1815 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1816 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1817 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1818 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1819 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1820 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1821 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1822 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1823 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1824 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1825 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1826 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1827 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1828 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1829 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1830 v41 v43 v593 v595 k0_t119 k0_t121) a + S1x16.size a ≤ S196x384.size a)
def k0_chk457_3 (i : grid0.Coords) (v10 : BitVec 32) (v41 : BitVec 32) (v43 : BitVec 32) (v593 : BitVec 32) (v595 : BitVec 32) : Prop :=
  (∀ (k0_t119 : Fin (k0_t119_loop v41 v43).trips) (k0_t121 : Fin (k0_t121_loop v593 v595).trips), ∀ (k0_h2 : k0_cond2 i v10 = 1#1), ∀ a, (k0_off1831 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1832 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1833 v41 v43 v593 v595 k0_t119 k0_t121) a + S1x16.size a ≤ S196x384.size a) ∧
  (∀ (k0_t119 : Fin (k0_t119_loop v41 v43).trips) (k0_t121 : Fin (k0_t121_loop v593 v595).trips), ∀ (k0_h2 : k0_cond2 i v10 = 1#1), ∀ a, (k0_off1834 v41 v43 v593 v595 k0_t119 k0_t121) a + S1x16.size a ≤ S196x384.size a)
def k0_chk457 (i : grid0.Coords) (v10 : BitVec 32) (v41 : BitVec 32) (v43 : BitVec 32) (v593 : BitVec 32) (v595 : BitVec 32) : Prop :=
  k0_chk457_0 i v10 v41 v43 v593 v595 ∧
  k0_chk457_1 i v10 v41 v43 v593 v595 ∧
  k0_chk457_2 i v10 v41 v43 v593 v595 ∧
  k0_chk457_3 i v10 v41 v43 v593 v595
theorem k0_t117_ok : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips), ∀ (k0_h2 : k0_cond2 i v10 = 1#1), (k0_t117_loop v593 v595).OK := fun i v10 v41 v43 v593 v595 k0_hw457 k0_t116 k0_h2 => k0_hw457.1.1 k0_t116 k0_h2
theorem k0_off1739_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1739 v41 v43 v593 v595 k0_t116 k0_t117) a + S1x16.size a ≤ S196x384.size a := fun i v10 v41 v43 v593 v595 k0_hw457 k0_t116 k0_t117 k0_h2 => k0_hw457.1.2.1 k0_t116 k0_t117 k0_h2
theorem k0_off1740_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1740 v41 v43 v593 v595 k0_t116 k0_t117) a + S1x16.size a ≤ S196x384.size a := fun i v10 v41 v43 v593 v595 k0_hw457 k0_t116 k0_t117 k0_h2 => k0_hw457.1.2.2.1 k0_t116 k0_t117 k0_h2
theorem k0_off1741_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1741 v41 v43 v593 v595 k0_t116 k0_t117) a + S1x16.size a ≤ S196x384.size a := fun i v10 v41 v43 v593 v595 k0_hw457 k0_t116 k0_t117 k0_h2 => k0_hw457.1.2.2.2.1 k0_t116 k0_t117 k0_h2
theorem k0_off1742_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1742 v41 v43 v593 v595 k0_t116 k0_t117) a + S1x16.size a ≤ S196x384.size a := fun i v10 v41 v43 v593 v595 k0_hw457 k0_t116 k0_t117 k0_h2 => k0_hw457.1.2.2.2.2.1 k0_t116 k0_t117 k0_h2
theorem k0_off1743_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1743 v41 v43 v593 v595 k0_t116 k0_t117) a + S1x16.size a ≤ S196x384.size a := fun i v10 v41 v43 v593 v595 k0_hw457 k0_t116 k0_t117 k0_h2 => k0_hw457.1.2.2.2.2.2.1 k0_t116 k0_t117 k0_h2
theorem k0_off1744_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1744 v41 v43 v593 v595 k0_t116 k0_t117) a + S1x16.size a ≤ S196x384.size a := fun i v10 v41 v43 v593 v595 k0_hw457 k0_t116 k0_t117 k0_h2 => k0_hw457.1.2.2.2.2.2.2.1 k0_t116 k0_t117 k0_h2
theorem k0_off1745_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1745 v41 v43 v593 v595 k0_t116 k0_t117) a + S1x16.size a ≤ S196x384.size a := fun i v10 v41 v43 v593 v595 k0_hw457 k0_t116 k0_t117 k0_h2 => k0_hw457.1.2.2.2.2.2.2.2.1 k0_t116 k0_t117 k0_h2
theorem k0_off1746_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1746 v41 v43 v593 v595 k0_t116 k0_t117) a + S1x16.size a ≤ S196x384.size a := fun i v10 v41 v43 v593 v595 k0_hw457 k0_t116 k0_t117 k0_h2 => k0_hw457.1.2.2.2.2.2.2.2.2.1 k0_t116 k0_t117 k0_h2
theorem k0_off1747_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1747 v41 v43 v593 v595 k0_t116 k0_t117) a + S1x16.size a ≤ S196x384.size a := fun i v10 v41 v43 v593 v595 k0_hw457 k0_t116 k0_t117 k0_h2 => k0_hw457.1.2.2.2.2.2.2.2.2.2.1 k0_t116 k0_t117 k0_h2
theorem k0_off1748_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1748 v41 v43 v593 v595 k0_t116 k0_t117) a + S1x16.size a ≤ S196x384.size a := fun i v10 v41 v43 v593 v595 k0_hw457 k0_t116 k0_t117 k0_h2 => k0_hw457.1.2.2.2.2.2.2.2.2.2.2.1 k0_t116 k0_t117 k0_h2
theorem k0_off1749_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1749 v41 v43 v593 v595 k0_t116 k0_t117) a + S1x16.size a ≤ S196x384.size a := fun i v10 v41 v43 v593 v595 k0_hw457 k0_t116 k0_t117 k0_h2 => k0_hw457.1.2.2.2.2.2.2.2.2.2.2.2.1 k0_t116 k0_t117 k0_h2
theorem k0_off1750_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1750 v41 v43 v593 v595 k0_t116 k0_t117) a + S1x16.size a ≤ S196x384.size a := fun i v10 v41 v43 v593 v595 k0_hw457 k0_t116 k0_t117 k0_h2 => k0_hw457.1.2.2.2.2.2.2.2.2.2.2.2.2.1 k0_t116 k0_t117 k0_h2
theorem k0_off1751_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1751 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.1 k0_t116 k0_t117 k0_h2
theorem k0_off1752_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1752 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.1 k0_t116 k0_t117 k0_h2
theorem k0_off1753_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1753 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.1 k0_t116 k0_t117 k0_h2
theorem k0_off1754_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1754 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.2.1 k0_t116 k0_t117 k0_h2
theorem k0_off1755_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1755 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.2.2.1 k0_t116 k0_t117 k0_h2
theorem k0_off1756_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1756 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.2.2.2.1 k0_t116 k0_t117 k0_h2
theorem k0_off1757_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1757 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.2.2.2.2.1 k0_t116 k0_t117 k0_h2
theorem k0_off1758_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1758 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.2.2.2.2.2.1 k0_t116 k0_t117 k0_h2
theorem k0_off1759_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1759 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.2.2.2.2.2.2.1 k0_t116 k0_t117 k0_h2
theorem k0_off1760_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1760 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.2.2.2.2.2.2.2.1 k0_t116 k0_t117 k0_h2
theorem k0_off1761_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1761 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.2.2.2.2.2.2.2.2.1 k0_t116 k0_t117 k0_h2
theorem k0_off1762_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t117 : Fin (k0_t117_loop v593 v595).trips), ∀ (k0_h2 : k0_cond2 i v10 = 1#1), ∀ a, (k0_off1762 v41 v43 v593 v595 k0_t116 k0_t117) a + S1x16.size a ≤ S196x384.size a := fun i v10 v41 v43 v593 v595 k0_hw457 k0_t116 k0_t117 k0_h2 => k0_hw457.1.2.2.2.2.2.2.2.2.2.2.2.2.2.2.2.2.2.2.2.2.2.2.2.2.1 k0_t116 k0_t117 k0_h2
theorem k0_t118_ok : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips), ∀ (k0_h2 : k0_cond2 i v10 = 1#1), (k0_t118_loop v593 v595).OK := fun i v10 v41 v43 v593 v595 k0_hw457 k0_t116 k0_h2 => k0_hw457.1.2.2.2.2.2.2.2.2.2.2.2.2.2.2.2.2.2.2.2.2.2.2.2.2.2.1 k0_t116 k0_h2
theorem k0_off1763_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1763 v41 v43 v593 v595 k0_t116 k0_t118) a + S1x16.size a ≤ S196x384.size a := fun i v10 v41 v43 v593 v595 k0_hw457 k0_t116 k0_t118 k0_h2 => k0_hw457.1.2.2.2.2.2.2.2.2.2.2.2.2.2.2.2.2.2.2.2.2.2.2.2.2.2.2.1 k0_t116 k0_t118 k0_h2
theorem k0_off1764_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1764 v41 v43 v593 v595 k0_t116 k0_t118) a + S1x16.size a ≤ S196x384.size a := fun i v10 v41 v43 v593 v595 k0_hw457 k0_t116 k0_t118 k0_h2 => k0_hw457.1.2.2.2.2.2.2.2.2.2.2.2.2.2.2.2.2.2.2.2.2.2.2.2.2.2.2.2.1 k0_t116 k0_t118 k0_h2
theorem k0_off1765_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1765 v41 v43 v593 v595 k0_t116 k0_t118) a + S1x16.size a ≤ S196x384.size a := fun i v10 v41 v43 v593 v595 k0_hw457 k0_t116 k0_t118 k0_h2 => k0_hw457.1.2.2.2.2.2.2.2.2.2.2.2.2.2.2.2.2.2.2.2.2.2.2.2.2.2.2.2.2.1 k0_t116 k0_t118 k0_h2
theorem k0_off1766_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1766 v41 v43 v593 v595 k0_t116 k0_t118) a + S1x16.size a ≤ S196x384.size a := fun i v10 v41 v43 v593 v595 k0_hw457 k0_t116 k0_t118 k0_h2 => k0_hw457.1.2.2.2.2.2.2.2.2.2.2.2.2.2.2.2.2.2.2.2.2.2.2.2.2.2.2.2.2.2.1 k0_t116 k0_t118 k0_h2
theorem k0_off1767_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1767 v41 v43 v593 v595 k0_t116 k0_t118) a + S1x16.size a ≤ S196x384.size a := fun i v10 v41 v43 v593 v595 k0_hw457 k0_t116 k0_t118 k0_h2 => k0_hw457.1.2.2.2.2.2.2.2.2.2.2.2.2.2.2.2.2.2.2.2.2.2.2.2.2.2.2.2.2.2.2.1 k0_t116 k0_t118 k0_h2
theorem k0_off1768_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1768 v41 v43 v593 v595 k0_t116 k0_t118) a + S1x16.size a ≤ S196x384.size a := fun i v10 v41 v43 v593 v595 k0_hw457 k0_t116 k0_t118 k0_h2 => k0_hw457.1.2.2.2.2.2.2.2.2.2.2.2.2.2.2.2.2.2.2.2.2.2.2.2.2.2.2.2.2.2.2.2 k0_t116 k0_t118 k0_h2
theorem k0_off1769_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1769 v41 v43 v593 v595 k0_t116 k0_t118) a + S1x16.size a ≤ S196x384.size a := fun i v10 v41 v43 v593 v595 k0_hw457 k0_t116 k0_t118 k0_h2 => k0_hw457.2.1.1 k0_t116 k0_t118 k0_h2
theorem k0_off1770_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1770 v41 v43 v593 v595 k0_t116 k0_t118) a + S1x16.size a ≤ S196x384.size a := fun i v10 v41 v43 v593 v595 k0_hw457 k0_t116 k0_t118 k0_h2 => k0_hw457.2.1.2.1 k0_t116 k0_t118 k0_h2
theorem k0_off1771_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1771 v41 v43 v593 v595 k0_t116 k0_t118) a + S1x16.size a ≤ S196x384.size a := fun i v10 v41 v43 v593 v595 k0_hw457 k0_t116 k0_t118 k0_h2 => k0_hw457.2.1.2.2.1 k0_t116 k0_t118 k0_h2
theorem k0_off1772_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1772 v41 v43 v593 v595 k0_t116 k0_t118) a + S1x16.size a ≤ S196x384.size a := fun i v10 v41 v43 v593 v595 k0_hw457 k0_t116 k0_t118 k0_h2 => k0_hw457.2.1.2.2.2.1 k0_t116 k0_t118 k0_h2
theorem k0_off1773_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1773 v41 v43 v593 v595 k0_t116 k0_t118) a + S1x16.size a ≤ S196x384.size a := fun i v10 v41 v43 v593 v595 k0_hw457 k0_t116 k0_t118 k0_h2 => k0_hw457.2.1.2.2.2.2.1 k0_t116 k0_t118 k0_h2
theorem k0_off1774_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1774 v41 v43 v593 v595 k0_t116 k0_t118) a + S1x16.size a ≤ S196x384.size a := fun i v10 v41 v43 v593 v595 k0_hw457 k0_t116 k0_t118 k0_h2 => k0_hw457.2.1.2.2.2.2.2.1 k0_t116 k0_t118 k0_h2
theorem k0_off1775_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1775 v41 v43 v593 v595 k0_t116 k0_t118) a + S1x16.size a ≤ S196x384.size a := fun i v10 v41 v43 v593 v595 k0_hw457 k0_t116 k0_t118 k0_h2 => k0_hw457.2.1.2.2.2.2.2.2.1 k0_t116 k0_t118 k0_h2
theorem k0_off1776_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1776 v41 v43 v593 v595 k0_t116 k0_t118) a + S1x16.size a ≤ S196x384.size a := fun i v10 v41 v43 v593 v595 k0_hw457 k0_t116 k0_t118 k0_h2 => k0_hw457.2.1.2.2.2.2.2.2.2.1 k0_t116 k0_t118 k0_h2
theorem k0_off1777_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1777 v41 v43 v593 v595 k0_t116 k0_t118) a + S1x16.size a ≤ S196x384.size a := fun i v10 v41 v43 v593 v595 k0_hw457 k0_t116 k0_t118 k0_h2 => k0_hw457.2.1.2.2.2.2.2.2.2.2.1 k0_t116 k0_t118 k0_h2
theorem k0_off1778_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1778 v41 v43 v593 v595 k0_t116 k0_t118) a + S1x16.size a ≤ S196x384.size a := fun i v10 v41 v43 v593 v595 k0_hw457 k0_t116 k0_t118 k0_h2 => k0_hw457.2.1.2.2.2.2.2.2.2.2.2.1 k0_t116 k0_t118 k0_h2
theorem k0_off1779_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1779 v41 v43 v593 v595 k0_t116 k0_t118) a + S1x16.size a ≤ S196x384.size a := fun i v10 v41 v43 v593 v595 k0_hw457 k0_t116 k0_t118 k0_h2 => k0_hw457.2.1.2.2.2.2.2.2.2.2.2.2.1 k0_t116 k0_t118 k0_h2
theorem k0_off1780_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1780 v41 v43 v593 v595 k0_t116 k0_t118) a + S1x16.size a ≤ S196x384.size a := fun i v10 v41 v43 v593 v595 k0_hw457 k0_t116 k0_t118 k0_h2 => k0_hw457.2.1.2.2.2.2.2.2.2.2.2.2.2.1 k0_t116 k0_t118 k0_h2
theorem k0_off1781_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1781 v41 v43 v593 v595 k0_t116 k0_t118) a + S1x16.size a ≤ S196x384.size a := fun i v10 v41 v43 v593 v595 k0_hw457 k0_t116 k0_t118 k0_h2 => k0_hw457.2.1.2.2.2.2.2.2.2.2.2.2.2.2.1 k0_t116 k0_t118 k0_h2
theorem k0_off1782_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1782 v41 v43 v593 v595 k0_t116 k0_t118) a + S1x16.size a ≤ S196x384.size a := fun i v10 v41 v43 v593 v595 k0_hw457 k0_t116 k0_t118 k0_h2 => k0_hw457.2.1.2.2.2.2.2.2.2.2.2.2.2.2.2.1 k0_t116 k0_t118 k0_h2
theorem k0_off1783_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1783 v41 v43 v593 v595 k0_t116 k0_t118) a + S1x16.size a ≤ S196x384.size a := fun i v10 v41 v43 v593 v595 k0_hw457 k0_t116 k0_t118 k0_h2 => k0_hw457.2.1.2.2.2.2.2.2.2.2.2.2.2.2.2.2.1 k0_t116 k0_t118 k0_h2
theorem k0_off1784_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1784 v41 v43 v593 v595 k0_t116 k0_t118) a + S1x16.size a ≤ S196x384.size a := fun i v10 v41 v43 v593 v595 k0_hw457 k0_t116 k0_t118 k0_h2 => k0_hw457.2.1.2.2.2.2.2.2.2.2.2.2.2.2.2.2.2.1 k0_t116 k0_t118 k0_h2
theorem k0_off1785_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1785 v41 v43 v593 v595 k0_t116 k0_t118) a + S1x16.size a ≤ S196x384.size a := fun i v10 v41 v43 v593 v595 k0_hw457 k0_t116 k0_t118 k0_h2 => k0_hw457.2.1.2.2.2.2.2.2.2.2.2.2.2.2.2.2.2.2.1 k0_t116 k0_t118 k0_h2
theorem k0_off1786_inb : ∀ (i : grid0.Coords) (v10 : BitVec 32) (v41 : BitVec 32) (v43 : BitVec 32) (v593 : BitVec 32) (v595 : BitVec 32) (k0_hw457 : k0_chk457 i v10 v41 v43 v593 v595) (k0_t116 : Fin (k0_t116_loop v41 v43).trips) (k0_t118 : Fin (k0_t118_loop v593 v595).trips), ∀ (k0_h2 : k0_cond2 i v10 = 1#1), ∀ a, (k0_off1786 v41 v43 v593 v595 k0_t116 k0_t118) a + S1x16.size a ≤ S196x384.size a := fun i v10 v41 v43 v593 v595 k0_hw457 k0_t116 k0_t118 k0_h2 => k0_hw457.2.1.2.2.2.2.2.2.2.2.2.2.2.2.2.2.2.2.2.1 k0_t116 k0_t118 k0_h2
theorem k0_t120_ok : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips), ∀ (k0_h2 : k0_cond2 i v10 = 1#1), (k0_t120_loop v593 v595).OK := fun i v10 v41 v43 v593 v595 k0_hw457 k0_t119 k0_h2 => k0_hw457.2.1.2.2.2.2.2.2.2.2.2.2.2.2.2.2.2.2.2.2.1 k0_t119 k0_h2
theorem k0_off1787_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1787 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.1 k0_t119 k0_t120 k0_h2
theorem k0_off1788_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1788 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.1 k0_t119 k0_t120 k0_h2
theorem k0_off1789_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1789 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.1 k0_t119 k0_t120 k0_h2
theorem k0_off1790_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1790 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.1 k0_t119 k0_t120 k0_h2
theorem k0_off1791_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1791 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.2.1 k0_t119 k0_t120 k0_h2
theorem k0_off1792_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1792 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.2.2.1 k0_t119 k0_t120 k0_h2
theorem k0_off1793_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1793 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.2.2.2.1 k0_t119 k0_t120 k0_h2
theorem k0_off1794_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1794 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.2.2.2.2.1 k0_t119 k0_t120 k0_h2
theorem k0_off1795_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1795 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.2.2.2.2.2.1 k0_t119 k0_t120 k0_h2
theorem k0_off1796_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1796 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.2.2.2.2.2.2.1 k0_t119 k0_t120 k0_h2
theorem k0_off1797_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1797 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.2.2.2.2.2.2.2.1 k0_t119 k0_t120 k0_h2
theorem k0_off1798_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1798 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.2.2.2.2.2.2.2.2.1 k0_t119 k0_t120 k0_h2
theorem k0_off1799_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1799 v41 v43 v593 v595 k0_t119 k0_t120) a + S1x16.size a ≤ S196x384.size a := fun i v10 v41 v43 v593 v595 k0_hw457 k0_t119 k0_t120 k0_h2 => k0_hw457.2.1.2.2.2.2.2.2.2.2.2.2.2.2.2.2.2.2.2.2.2.2.2.2.2.2.2.2.2.2.2.2.2 k0_t119 k0_t120 k0_h2
theorem k0_off1800_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1800 v41 v43 v593 v595 k0_t119 k0_t120) a + S1x16.size a ≤ S196x384.size a := fun i v10 v41 v43 v593 v595 k0_hw457 k0_t119 k0_t120 k0_h2 => k0_hw457.2.2.1.1 k0_t119 k0_t120 k0_h2
theorem k0_off1801_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1801 v41 v43 v593 v595 k0_t119 k0_t120) a + S1x16.size a ≤ S196x384.size a := fun i v10 v41 v43 v593 v595 k0_hw457 k0_t119 k0_t120 k0_h2 => k0_hw457.2.2.1.2.1 k0_t119 k0_t120 k0_h2
theorem k0_off1802_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1802 v41 v43 v593 v595 k0_t119 k0_t120) a + S1x16.size a ≤ S196x384.size a := fun i v10 v41 v43 v593 v595 k0_hw457 k0_t119 k0_t120 k0_h2 => k0_hw457.2.2.1.2.2.1 k0_t119 k0_t120 k0_h2
theorem k0_off1803_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1803 v41 v43 v593 v595 k0_t119 k0_t120) a + S1x16.size a ≤ S196x384.size a := fun i v10 v41 v43 v593 v595 k0_hw457 k0_t119 k0_t120 k0_h2 => k0_hw457.2.2.1.2.2.2.1 k0_t119 k0_t120 k0_h2
theorem k0_off1804_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1804 v41 v43 v593 v595 k0_t119 k0_t120) a + S1x16.size a ≤ S196x384.size a := fun i v10 v41 v43 v593 v595 k0_hw457 k0_t119 k0_t120 k0_h2 => k0_hw457.2.2.1.2.2.2.2.1 k0_t119 k0_t120 k0_h2
theorem k0_off1805_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1805 v41 v43 v593 v595 k0_t119 k0_t120) a + S1x16.size a ≤ S196x384.size a := fun i v10 v41 v43 v593 v595 k0_hw457 k0_t119 k0_t120 k0_h2 => k0_hw457.2.2.1.2.2.2.2.2.1 k0_t119 k0_t120 k0_h2
theorem k0_off1806_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1806 v41 v43 v593 v595 k0_t119 k0_t120) a + S1x16.size a ≤ S196x384.size a := fun i v10 v41 v43 v593 v595 k0_hw457 k0_t119 k0_t120 k0_h2 => k0_hw457.2.2.1.2.2.2.2.2.2.1 k0_t119 k0_t120 k0_h2
theorem k0_off1807_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1807 v41 v43 v593 v595 k0_t119 k0_t120) a + S1x16.size a ≤ S196x384.size a := fun i v10 v41 v43 v593 v595 k0_hw457 k0_t119 k0_t120 k0_h2 => k0_hw457.2.2.1.2.2.2.2.2.2.2.1 k0_t119 k0_t120 k0_h2
theorem k0_off1808_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1808 v41 v43 v593 v595 k0_t119 k0_t120) a + S1x16.size a ≤ S196x384.size a := fun i v10 v41 v43 v593 v595 k0_hw457 k0_t119 k0_t120 k0_h2 => k0_hw457.2.2.1.2.2.2.2.2.2.2.2.1 k0_t119 k0_t120 k0_h2
theorem k0_off1809_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1809 v41 v43 v593 v595 k0_t119 k0_t120) a + S1x16.size a ≤ S196x384.size a := fun i v10 v41 v43 v593 v595 k0_hw457 k0_t119 k0_t120 k0_h2 => k0_hw457.2.2.1.2.2.2.2.2.2.2.2.2.1 k0_t119 k0_t120 k0_h2
theorem k0_off1810_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t120 : Fin (k0_t120_loop v593 v595).trips), ∀ (k0_h2 : k0_cond2 i v10 = 1#1), ∀ a, (k0_off1810 v41 v43 v593 v595 k0_t119 k0_t120) a + S1x16.size a ≤ S196x384.size a := fun i v10 v41 v43 v593 v595 k0_hw457 k0_t119 k0_t120 k0_h2 => k0_hw457.2.2.1.2.2.2.2.2.2.2.2.2.2.1 k0_t119 k0_t120 k0_h2
theorem k0_t121_ok : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips), ∀ (k0_h2 : k0_cond2 i v10 = 1#1), (k0_t121_loop v593 v595).OK := fun i v10 v41 v43 v593 v595 k0_hw457 k0_t119 k0_h2 => k0_hw457.2.2.1.2.2.2.2.2.2.2.2.2.2.2.1 k0_t119 k0_h2
theorem k0_off1811_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1811 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.1 k0_t119 k0_t121 k0_h2
theorem k0_off1812_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1812 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.1 k0_t119 k0_t121 k0_h2
theorem k0_off1813_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1813 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.1 k0_t119 k0_t121 k0_h2
theorem k0_off1814_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1814 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.1 k0_t119 k0_t121 k0_h2
theorem k0_off1815_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1815 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.1 k0_t119 k0_t121 k0_h2
theorem k0_off1816_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1816 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.1 k0_t119 k0_t121 k0_h2
theorem k0_off1817_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1817 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.1 k0_t119 k0_t121 k0_h2
theorem k0_off1818_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1818 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.1 k0_t119 k0_t121 k0_h2
theorem k0_off1819_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1819 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.1 k0_t119 k0_t121 k0_h2
theorem k0_off1820_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1820 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.1 k0_t119 k0_t121 k0_h2
theorem k0_off1821_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1821 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.1 k0_t119 k0_t121 k0_h2
theorem k0_off1822_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1822 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.2.1 k0_t119 k0_t121 k0_h2
theorem k0_off1823_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1823 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.2.2.1 k0_t119 k0_t121 k0_h2
theorem k0_off1824_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1824 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.2.2.2.1 k0_t119 k0_t121 k0_h2
theorem k0_off1825_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1825 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.2.2.2.2.1 k0_t119 k0_t121 k0_h2
theorem k0_off1826_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1826 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.2.2.2.2.2.1 k0_t119 k0_t121 k0_h2
theorem k0_off1827_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1827 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.2.2.2.2.2.2.1 k0_t119 k0_t121 k0_h2
theorem k0_off1828_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1828 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.2.2.2.2.2.2.2.1 k0_t119 k0_t121 k0_h2
theorem k0_off1829_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1829 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.2.2.2.2.2.2.2.2.1 k0_t119 k0_t121 k0_h2
theorem k0_off1830_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1830 v41 v43 v593 v595 k0_t119 k0_t121) a + S1x16.size a ≤ S196x384.size a := fun i v10 v41 v43 v593 v595 k0_hw457 k0_t119 k0_t121 k0_h2 => k0_hw457.2.2.1.2.2.2.2.2.2.2.2.2.2.2.2.2.2.2.2.2.2.2.2.2.2.2.2.2.2.2.2.2.2.2 k0_t119 k0_t121 k0_h2
theorem k0_off1831_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1831 v41 v43 v593 v595 k0_t119 k0_t121) a + S1x16.size a ≤ S196x384.size a := fun i v10 v41 v43 v593 v595 k0_hw457 k0_t119 k0_t121 k0_h2 => k0_hw457.2.2.2.1 k0_t119 k0_t121 k0_h2
theorem k0_off1832_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1832 v41 v43 v593 v595 k0_t119 k0_t121) a + S1x16.size a ≤ S196x384.size a := fun i v10 v41 v43 v593 v595 k0_hw457 k0_t119 k0_t121 k0_h2 => k0_hw457.2.2.2.2.1 k0_t119 k0_t121 k0_h2
theorem k0_off1833_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1833 v41 v43 v593 v595 k0_t119 k0_t121) a + S1x16.size a ≤ S196x384.size a := fun i v10 v41 v43 v593 v595 k0_hw457 k0_t119 k0_t121 k0_h2 => k0_hw457.2.2.2.2.2.1 k0_t119 k0_t121 k0_h2
theorem k0_off1834_inb : ∀ (i : grid0.Coords) (v10 : BitVec 32) (v41 : BitVec 32) (v43 : BitVec 32) (v593 : BitVec 32) (v595 : BitVec 32) (k0_hw457 : k0_chk457 i v10 v41 v43 v593 v595) (k0_t119 : Fin (k0_t119_loop v41 v43).trips) (k0_t121 : Fin (k0_t121_loop v593 v595).trips), ∀ (k0_h2 : k0_cond2 i v10 = 1#1), ∀ a, (k0_off1834 v41 v43 v593 v595 k0_t119 k0_t121) a + S1x16.size a ≤ S196x384.size a := fun i v10 v41 v43 v593 v595 k0_hw457 k0_t119 k0_t121 k0_h2 => k0_hw457.2.2.2.2.2.2 k0_t119 k0_t121 k0_h2

def k0_chk458 (i : grid0.Coords) (v10 : BitVec 32) (v613 : IVec S16 32) : Prop :=
  (∀ (k0_h2 : k0_cond2 i v10 = 1#1), ∀ a x, ((![v613] : Fin 1 → IVec S16 32) a x).toNat < S18816.size a)
theorem k0_idx433_inb : ∀ (i : grid0.Coords) (v10 : BitVec 32) (v613 : IVec S16 32) (k0_hw458 : k0_chk458 i v10 v613), ∀ (k0_h2 : k0_cond2 i v10 = 1#1), ∀ a x, ((![v613] : Fin 1 → IVec S16 32) a x).toNat < S18816.size a := fun i v10 v613 k0_hw458 k0_h2 => k0_hw458 k0_h2

def k0_chk459 (i : grid0.Coords) (v10 : BitVec 32) (v618 : IVec S16 32) : Prop :=
  (∀ (k0_h2 : k0_cond2 i v10 = 1#1), ∀ a x, ((![v618] : Fin 1 → IVec S16 32) a x).toNat < S18816.size a)
theorem k0_idx434_inb : ∀ (i : grid0.Coords) (v10 : BitVec 32) (v618 : IVec S16 32) (k0_hw459 : k0_chk459 i v10 v618), ∀ (k0_h2 : k0_cond2 i v10 = 1#1), ∀ a x, ((![v618] : Fin 1 → IVec S16 32) a x).toNat < S18816.size a := fun i v10 v618 k0_hw459 k0_h2 => k0_hw459 k0_h2

def k0_chk460 (i : grid0.Coords) (v10 : BitVec 32) (v623 : IVec S16 32) : Prop :=
  (∀ (k0_h2 : k0_cond2 i v10 = 1#1), ∀ a x, ((![v623] : Fin 1 → IVec S16 32) a x).toNat < S18816.size a)
theorem k0_idx435_inb : ∀ (i : grid0.Coords) (v10 : BitVec 32) (v623 : IVec S16 32) (k0_hw460 : k0_chk460 i v10 v623), ∀ (k0_h2 : k0_cond2 i v10 = 1#1), ∀ a x, ((![v623] : Fin 1 → IVec S16 32) a x).toNat < S18816.size a := fun i v10 v623 k0_hw460 k0_h2 => k0_hw460 k0_h2

def k0_chk461 (i : grid0.Coords) (v10 : BitVec 32) (v628 : IVec S16 32) : Prop :=
  (∀ (k0_h2 : k0_cond2 i v10 = 1#1), ∀ a x, ((![v628] : Fin 1 → IVec S16 32) a x).toNat < S18816.size a)
theorem k0_idx436_inb : ∀ (i : grid0.Coords) (v10 : BitVec 32) (v628 : IVec S16 32) (k0_hw461 : k0_chk461 i v10 v628), ∀ (k0_h2 : k0_cond2 i v10 = 1#1), ∀ a x, ((![v628] : Fin 1 → IVec S16 32) a x).toNat < S18816.size a := fun i v10 v628 k0_hw461 k0_h2 => k0_hw461 k0_h2

def k0_chk462 (i : grid0.Coords) (v10 : BitVec 32) (v633 : IVec S16 32) : Prop :=
  (∀ (k0_h2 : k0_cond2 i v10 = 1#1), ∀ a x, ((![v633] : Fin 1 → IVec S16 32) a x).toNat < S18816.size a)
theorem k0_idx437_inb : ∀ (i : grid0.Coords) (v10 : BitVec 32) (v633 : IVec S16 32) (k0_hw462 : k0_chk462 i v10 v633), ∀ (k0_h2 : k0_cond2 i v10 = 1#1), ∀ a x, ((![v633] : Fin 1 → IVec S16 32) a x).toNat < S18816.size a := fun i v10 v633 k0_hw462 k0_h2 => k0_hw462 k0_h2

def k0_chk463 (i : grid0.Coords) (v10 : BitVec 32) (v638 : IVec S16 32) : Prop :=
  (∀ (k0_h2 : k0_cond2 i v10 = 1#1), ∀ a x, ((![v638] : Fin 1 → IVec S16 32) a x).toNat < S18816.size a)
theorem k0_idx438_inb : ∀ (i : grid0.Coords) (v10 : BitVec 32) (v638 : IVec S16 32) (k0_hw463 : k0_chk463 i v10 v638), ∀ (k0_h2 : k0_cond2 i v10 = 1#1), ∀ a x, ((![v638] : Fin 1 → IVec S16 32) a x).toNat < S18816.size a := fun i v10 v638 k0_hw463 k0_h2 => k0_hw463 k0_h2

def k0_chk464 (i : grid0.Coords) (v10 : BitVec 32) (v643 : IVec S16 32) : Prop :=
  (∀ (k0_h2 : k0_cond2 i v10 = 1#1), ∀ a x, ((![v643] : Fin 1 → IVec S16 32) a x).toNat < S18816.size a)
theorem k0_idx439_inb : ∀ (i : grid0.Coords) (v10 : BitVec 32) (v643 : IVec S16 32) (k0_hw464 : k0_chk464 i v10 v643), ∀ (k0_h2 : k0_cond2 i v10 = 1#1), ∀ a x, ((![v643] : Fin 1 → IVec S16 32) a x).toNat < S18816.size a := fun i v10 v643 k0_hw464 k0_h2 => k0_hw464 k0_h2

def k0_chk465 (i : grid0.Coords) (v10 : BitVec 32) (v648 : IVec S16 32) : Prop :=
  (∀ (k0_h2 : k0_cond2 i v10 = 1#1), ∀ a x, ((![v648] : Fin 1 → IVec S16 32) a x).toNat < S18816.size a)
theorem k0_idx440_inb : ∀ (i : grid0.Coords) (v10 : BitVec 32) (v648 : IVec S16 32) (k0_hw465 : k0_chk465 i v10 v648), ∀ (k0_h2 : k0_cond2 i v10 = 1#1), ∀ a x, ((![v648] : Fin 1 → IVec S16 32) a x).toNat < S18816.size a := fun i v10 v648 k0_hw465 k0_h2 => k0_hw465 k0_h2

def k0_chk466 (i : grid0.Coords) (v10 : BitVec 32) (v653 : IVec S16 32) : Prop :=
  (∀ (k0_h2 : k0_cond2 i v10 = 1#1), ∀ a x, ((![v653] : Fin 1 → IVec S16 32) a x).toNat < S18816.size a)
theorem k0_idx441_inb : ∀ (i : grid0.Coords) (v10 : BitVec 32) (v653 : IVec S16 32) (k0_hw466 : k0_chk466 i v10 v653), ∀ (k0_h2 : k0_cond2 i v10 = 1#1), ∀ a x, ((![v653] : Fin 1 → IVec S16 32) a x).toNat < S18816.size a := fun i v10 v653 k0_hw466 k0_h2 => k0_hw466 k0_h2

def k0_chk467 (i : grid0.Coords) (v10 : BitVec 32) (v658 : IVec S16 32) : Prop :=
  (∀ (k0_h2 : k0_cond2 i v10 = 1#1), ∀ a x, ((![v658] : Fin 1 → IVec S16 32) a x).toNat < S18816.size a)
theorem k0_idx442_inb : ∀ (i : grid0.Coords) (v10 : BitVec 32) (v658 : IVec S16 32) (k0_hw467 : k0_chk467 i v10 v658), ∀ (k0_h2 : k0_cond2 i v10 = 1#1), ∀ a x, ((![v658] : Fin 1 → IVec S16 32) a x).toNat < S18816.size a := fun i v10 v658 k0_hw467 k0_h2 => k0_hw467 k0_h2

def k0_chk468 (i : grid0.Coords) (v10 : BitVec 32) (v663 : IVec S16 32) : Prop :=
  (∀ (k0_h2 : k0_cond2 i v10 = 1#1), ∀ a x, ((![v663] : Fin 1 → IVec S16 32) a x).toNat < S18816.size a)
theorem k0_idx443_inb : ∀ (i : grid0.Coords) (v10 : BitVec 32) (v663 : IVec S16 32) (k0_hw468 : k0_chk468 i v10 v663), ∀ (k0_h2 : k0_cond2 i v10 = 1#1), ∀ a x, ((![v663] : Fin 1 → IVec S16 32) a x).toNat < S18816.size a := fun i v10 v663 k0_hw468 k0_h2 => k0_hw468 k0_h2

def k0_chk469 (i : grid0.Coords) (v10 : BitVec 32) (v668 : IVec S16 32) : Prop :=
  (∀ (k0_h2 : k0_cond2 i v10 = 1#1), ∀ a x, ((![v668] : Fin 1 → IVec S16 32) a x).toNat < S18816.size a)
theorem k0_idx444_inb : ∀ (i : grid0.Coords) (v10 : BitVec 32) (v668 : IVec S16 32) (k0_hw469 : k0_chk469 i v10 v668), ∀ (k0_h2 : k0_cond2 i v10 = 1#1), ∀ a x, ((![v668] : Fin 1 → IVec S16 32) a x).toNat < S18816.size a := fun i v10 v668 k0_hw469 k0_h2 => k0_hw469 k0_h2

def k0_chk470 (i : grid0.Coords) (v10 : BitVec 32) (v673 : IVec S16 32) : Prop :=
  (∀ (k0_h2 : k0_cond2 i v10 = 1#1), ∀ a x, ((![v673] : Fin 1 → IVec S16 32) a x).toNat < S18816.size a)
theorem k0_idx445_inb : ∀ (i : grid0.Coords) (v10 : BitVec 32) (v673 : IVec S16 32) (k0_hw470 : k0_chk470 i v10 v673), ∀ (k0_h2 : k0_cond2 i v10 = 1#1), ∀ a x, ((![v673] : Fin 1 → IVec S16 32) a x).toNat < S18816.size a := fun i v10 v673 k0_hw470 k0_h2 => k0_hw470 k0_h2

def k0_chk471 (i : grid0.Coords) (v10 : BitVec 32) (v678 : IVec S16 32) : Prop :=
  (∀ (k0_h2 : k0_cond2 i v10 = 1#1), ∀ a x, ((![v678] : Fin 1 → IVec S16 32) a x).toNat < S18816.size a)
theorem k0_idx446_inb : ∀ (i : grid0.Coords) (v10 : BitVec 32) (v678 : IVec S16 32) (k0_hw471 : k0_chk471 i v10 v678), ∀ (k0_h2 : k0_cond2 i v10 = 1#1), ∀ a x, ((![v678] : Fin 1 → IVec S16 32) a x).toNat < S18816.size a := fun i v10 v678 k0_hw471 k0_h2 => k0_hw471 k0_h2

def k0_chk472 (i : grid0.Coords) (v10 : BitVec 32) (v683 : IVec S16 32) : Prop :=
  (∀ (k0_h2 : k0_cond2 i v10 = 1#1), ∀ a x, ((![v683] : Fin 1 → IVec S16 32) a x).toNat < S18816.size a)
theorem k0_idx447_inb : ∀ (i : grid0.Coords) (v10 : BitVec 32) (v683 : IVec S16 32) (k0_hw472 : k0_chk472 i v10 v683), ∀ (k0_h2 : k0_cond2 i v10 = 1#1), ∀ a x, ((![v683] : Fin 1 → IVec S16 32) a x).toNat < S18816.size a := fun i v10 v683 k0_hw472 k0_h2 => k0_hw472 k0_h2

def k0_chk473 (i : grid0.Coords) (v10 : BitVec 32) (v688 : IVec S16 32) : Prop :=
  (∀ (k0_h2 : k0_cond2 i v10 = 1#1), ∀ a x, ((![v688] : Fin 1 → IVec S16 32) a x).toNat < S18816.size a)
theorem k0_idx448_inb : ∀ (i : grid0.Coords) (v10 : BitVec 32) (v688 : IVec S16 32) (k0_hw473 : k0_chk473 i v10 v688), ∀ (k0_h2 : k0_cond2 i v10 = 1#1), ∀ a x, ((![v688] : Fin 1 → IVec S16 32) a x).toNat < S18816.size a := fun i v10 v688 k0_hw473 k0_h2 => k0_hw473 k0_h2

def k0_chk474 (i : grid0.Coords) (v10 : BitVec 32) (v693 : IVec S16 32) : Prop :=
  (∀ (k0_h2 : k0_cond2 i v10 = 1#1), ∀ a x, ((![v693] : Fin 1 → IVec S16 32) a x).toNat < S18816.size a)
theorem k0_idx449_inb : ∀ (i : grid0.Coords) (v10 : BitVec 32) (v693 : IVec S16 32) (k0_hw474 : k0_chk474 i v10 v693), ∀ (k0_h2 : k0_cond2 i v10 = 1#1), ∀ a x, ((![v693] : Fin 1 → IVec S16 32) a x).toNat < S18816.size a := fun i v10 v693 k0_hw474 k0_h2 => k0_hw474 k0_h2

def k0_chk475 (i : grid0.Coords) (v10 : BitVec 32) (v698 : IVec S16 32) : Prop :=
  (∀ (k0_h2 : k0_cond2 i v10 = 1#1), ∀ a x, ((![v698] : Fin 1 → IVec S16 32) a x).toNat < S18816.size a)
theorem k0_idx450_inb : ∀ (i : grid0.Coords) (v10 : BitVec 32) (v698 : IVec S16 32) (k0_hw475 : k0_chk475 i v10 v698), ∀ (k0_h2 : k0_cond2 i v10 = 1#1), ∀ a x, ((![v698] : Fin 1 → IVec S16 32) a x).toNat < S18816.size a := fun i v10 v698 k0_hw475 k0_h2 => k0_hw475 k0_h2

def k0_chk476 (i : grid0.Coords) (v10 : BitVec 32) (v703 : IVec S16 32) : Prop :=
  (∀ (k0_h2 : k0_cond2 i v10 = 1#1), ∀ a x, ((![v703] : Fin 1 → IVec S16 32) a x).toNat < S18816.size a)
theorem k0_idx451_inb : ∀ (i : grid0.Coords) (v10 : BitVec 32) (v703 : IVec S16 32) (k0_hw476 : k0_chk476 i v10 v703), ∀ (k0_h2 : k0_cond2 i v10 = 1#1), ∀ a x, ((![v703] : Fin 1 → IVec S16 32) a x).toNat < S18816.size a := fun i v10 v703 k0_hw476 k0_h2 => k0_hw476 k0_h2

def k0_chk477 (i : grid0.Coords) (v10 : BitVec 32) (v708 : IVec S16 32) : Prop :=
  (∀ (k0_h2 : k0_cond2 i v10 = 1#1), ∀ a x, ((![v708] : Fin 1 → IVec S16 32) a x).toNat < S18816.size a)
theorem k0_idx452_inb : ∀ (i : grid0.Coords) (v10 : BitVec 32) (v708 : IVec S16 32) (k0_hw477 : k0_chk477 i v10 v708), ∀ (k0_h2 : k0_cond2 i v10 = 1#1), ∀ a x, ((![v708] : Fin 1 → IVec S16 32) a x).toNat < S18816.size a := fun i v10 v708 k0_hw477 k0_h2 => k0_hw477 k0_h2

def k0_chk478 (i : grid0.Coords) (v10 : BitVec 32) (v713 : IVec S16 32) : Prop :=
  (∀ (k0_h2 : k0_cond2 i v10 = 1#1), ∀ a x, ((![v713] : Fin 1 → IVec S16 32) a x).toNat < S18816.size a)
theorem k0_idx453_inb : ∀ (i : grid0.Coords) (v10 : BitVec 32) (v713 : IVec S16 32) (k0_hw478 : k0_chk478 i v10 v713), ∀ (k0_h2 : k0_cond2 i v10 = 1#1), ∀ a x, ((![v713] : Fin 1 → IVec S16 32) a x).toNat < S18816.size a := fun i v10 v713 k0_hw478 k0_h2 => k0_hw478 k0_h2

def k0_chk479 (i : grid0.Coords) (v10 : BitVec 32) (v718 : IVec S16 32) : Prop :=
  (∀ (k0_h2 : k0_cond2 i v10 = 1#1), ∀ a x, ((![v718] : Fin 1 → IVec S16 32) a x).toNat < S18816.size a)
theorem k0_idx454_inb : ∀ (i : grid0.Coords) (v10 : BitVec 32) (v718 : IVec S16 32) (k0_hw479 : k0_chk479 i v10 v718), ∀ (k0_h2 : k0_cond2 i v10 = 1#1), ∀ a x, ((![v718] : Fin 1 → IVec S16 32) a x).toNat < S18816.size a := fun i v10 v718 k0_hw479 k0_h2 => k0_hw479 k0_h2

def k0_chk480 (i : grid0.Coords) (v10 : BitVec 32) (v723 : IVec S16 32) : Prop :=
  (∀ (k0_h2 : k0_cond2 i v10 = 1#1), ∀ a x, ((![v723] : Fin 1 → IVec S16 32) a x).toNat < S18816.size a)
theorem k0_idx455_inb : ∀ (i : grid0.Coords) (v10 : BitVec 32) (v723 : IVec S16 32) (k0_hw480 : k0_chk480 i v10 v723), ∀ (k0_h2 : k0_cond2 i v10 = 1#1), ∀ a x, ((![v723] : Fin 1 → IVec S16 32) a x).toNat < S18816.size a := fun i v10 v723 k0_hw480 k0_h2 => k0_hw480 k0_h2

def k0_chk481 (i : grid0.Coords) (v10 : BitVec 32) (v728 : IVec S16 32) : Prop :=
  (∀ (k0_h2 : k0_cond2 i v10 = 1#1), ∀ a x, ((![v728] : Fin 1 → IVec S16 32) a x).toNat < S18816.size a)
theorem k0_idx456_inb : ∀ (i : grid0.Coords) (v10 : BitVec 32) (v728 : IVec S16 32) (k0_hw481 : k0_chk481 i v10 v728), ∀ (k0_h2 : k0_cond2 i v10 = 1#1), ∀ a x, ((![v728] : Fin 1 → IVec S16 32) a x).toNat < S18816.size a := fun i v10 v728 k0_hw481 k0_h2 => k0_hw481 k0_h2
@[reducible] def k0_t122_loop (v41 : BitVec 32) (v43 : BitVec 32) : Scf.Loop 32 :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_270 : BitVec 32 := 1#32
  ⟨v41, v738, c1_i32_270⟩
@[reducible] def k0_t123_loop (v730 : BitVec 32) (v732 : BitVec 32) : Scf.Loop 32 :=
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_375 : BitVec 32 := 1#32
  ⟨v730, v1008, c1_i32_375⟩

def k0_off1835 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1012 : Index := Scalar.indexCast v1011
  let c0_377 : Index := 0#32
  ![v1012.toNat, 0]
def k0_off1836 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1015 : Index := Scalar.indexCast v1011
  let c16 : Index := 16#32
  ![v1015.toNat, 16]
def k0_off1837 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1018 : Index := Scalar.indexCast v1011
  let c32 : Index := 32#32
  ![v1018.toNat, 32]
def k0_off1838 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1021 : Index := Scalar.indexCast v1011
  let c48 : Index := 48#32
  ![v1021.toNat, 48]
def k0_off1839 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1024 : Index := Scalar.indexCast v1011
  let c64 : Index := 64#32
  ![v1024.toNat, 64]
def k0_off1840 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1027 : Index := Scalar.indexCast v1011
  let c80 : Index := 80#32
  ![v1027.toNat, 80]
def k0_off1841 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1030 : Index := Scalar.indexCast v1011
  let c96 : Index := 96#32
  ![v1030.toNat, 96]
def k0_off1842 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1033 : Index := Scalar.indexCast v1011
  let c112 : Index := 112#32
  ![v1033.toNat, 112]
def k0_off1843 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1036 : Index := Scalar.indexCast v1011
  let c128 : Index := 128#32
  ![v1036.toNat, 128]
def k0_off1844 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1039 : Index := Scalar.indexCast v1011
  let c144 : Index := 144#32
  ![v1039.toNat, 144]
def k0_off1845 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1042 : Index := Scalar.indexCast v1011
  let c160 : Index := 160#32
  ![v1042.toNat, 160]
def k0_off1846 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1045 : Index := Scalar.indexCast v1011
  let c176 : Index := 176#32
  ![v1045.toNat, 176]
def k0_off1847 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1048 : Index := Scalar.indexCast v1011
  let c192 : Index := 192#32
  ![v1048.toNat, 192]
def k0_off1848 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1051 : Index := Scalar.indexCast v1011
  let c208 : Index := 208#32
  ![v1051.toNat, 208]
def k0_off1849 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1054 : Index := Scalar.indexCast v1011
  let c224 : Index := 224#32
  ![v1054.toNat, 224]
def k0_off1850 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1057 : Index := Scalar.indexCast v1011
  let c240 : Index := 240#32
  ![v1057.toNat, 240]
def k0_off1851 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1060 : Index := Scalar.indexCast v1011
  let c256 : Index := 256#32
  ![v1060.toNat, 256]
def k0_off1852 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1063 : Index := Scalar.indexCast v1011
  let c272 : Index := 272#32
  ![v1063.toNat, 272]
def k0_off1853 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1066 : Index := Scalar.indexCast v1011
  let c288 : Index := 288#32
  ![v1066.toNat, 288]
def k0_off1854 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1069 : Index := Scalar.indexCast v1011
  let c304 : Index := 304#32
  ![v1069.toNat, 304]
def k0_off1855 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1072 : Index := Scalar.indexCast v1011
  let c320 : Index := 320#32
  ![v1072.toNat, 320]
def k0_off1856 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1075 : Index := Scalar.indexCast v1011
  let c336 : Index := 336#32
  ![v1075.toNat, 336]
def k0_off1857 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1078 : Index := Scalar.indexCast v1011
  let c352 : Index := 352#32
  ![v1078.toNat, 352]
def k0_off1858 (v41 : BitVec 32) (v43 : BitVec 32) (v730 : BitVec 32) (v732 : BitVec 32) (k0_t122 : Fin (k0_t122_loop v41 v43).trips) (k0_t123 : Fin (k0_t123_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let c1_i32_375 : BitVec 32 := 1#32
  let arg36 : BitVec 32 := Scf.iv v730 c1_i32_375 k0_t123
  let v1011 : BitVec 32 := Scalar.addi v1003 arg36
  let v1081 : Index := Scalar.indexCast v1011
  let c368 : Index := 368#32
  ![v1081.toNat, 368]
@[reducible] def k0_t124_loop (v730 : BitVec 32) (v732 : BitVec 32) : Scf.Loop 32 :=
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let v1005 : BitVec 32 := Scalar.addi v730 v1004
  let c1_i32_376 : BitVec 32 := 1#32
  ⟨v1008, v1005, c1_i32_376⟩
def k0_off1859 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1012 : Index := Scalar.indexCast v1011
  let c0_377 : Index := 0#32
  ![v1012.toNat, 0]
def k0_off1860 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1015 : Index := Scalar.indexCast v1011
  let c16 : Index := 16#32
  ![v1015.toNat, 16]
def k0_off1861 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1018 : Index := Scalar.indexCast v1011
  let c32 : Index := 32#32
  ![v1018.toNat, 32]
def k0_off1862 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1021 : Index := Scalar.indexCast v1011
  let c48 : Index := 48#32
  ![v1021.toNat, 48]
def k0_off1863 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1024 : Index := Scalar.indexCast v1011
  let c64 : Index := 64#32
  ![v1024.toNat, 64]
def k0_off1864 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1027 : Index := Scalar.indexCast v1011
  let c80 : Index := 80#32
  ![v1027.toNat, 80]
def k0_off1865 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1030 : Index := Scalar.indexCast v1011
  let c96 : Index := 96#32
  ![v1030.toNat, 96]
def k0_off1866 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1033 : Index := Scalar.indexCast v1011
  let c112 : Index := 112#32
  ![v1033.toNat, 112]
def k0_off1867 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1036 : Index := Scalar.indexCast v1011
  let c128 : Index := 128#32
  ![v1036.toNat, 128]
def k0_off1868 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1039 : Index := Scalar.indexCast v1011
  let c144 : Index := 144#32
  ![v1039.toNat, 144]
def k0_off1869 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1042 : Index := Scalar.indexCast v1011
  let c160 : Index := 160#32
  ![v1042.toNat, 160]
def k0_off1870 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1045 : Index := Scalar.indexCast v1011
  let c176 : Index := 176#32
  ![v1045.toNat, 176]
def k0_off1871 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1048 : Index := Scalar.indexCast v1011
  let c192 : Index := 192#32
  ![v1048.toNat, 192]
def k0_off1872 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1051 : Index := Scalar.indexCast v1011
  let c208 : Index := 208#32
  ![v1051.toNat, 208]
def k0_off1873 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1054 : Index := Scalar.indexCast v1011
  let c224 : Index := 224#32
  ![v1054.toNat, 224]
def k0_off1874 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1057 : Index := Scalar.indexCast v1011
  let c240 : Index := 240#32
  ![v1057.toNat, 240]
def k0_off1875 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1060 : Index := Scalar.indexCast v1011
  let c256 : Index := 256#32
  ![v1060.toNat, 256]
def k0_off1876 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1063 : Index := Scalar.indexCast v1011
  let c272 : Index := 272#32
  ![v1063.toNat, 272]
def k0_off1877 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1066 : Index := Scalar.indexCast v1011
  let c288 : Index := 288#32
  ![v1066.toNat, 288]
def k0_off1878 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1069 : Index := Scalar.indexCast v1011
  let c304 : Index := 304#32
  ![v1069.toNat, 304]
def k0_off1879 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1072 : Index := Scalar.indexCast v1011
  let c320 : Index := 320#32
  ![v1072.toNat, 320]
def k0_off1880 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1075 : Index := Scalar.indexCast v1011
  let c336 : Index := 336#32
  ![v1075.toNat, 336]
def k0_off1881 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1078 : Index := Scalar.indexCast v1011
  let c352 : Index := 352#32
  ![v1078.toNat, 352]
def k0_off1882 (v41 : BitVec 32) (v43 : BitVec 32) (v730 : BitVec 32) (v732 : BitVec 32) (k0_t122 : Fin (k0_t122_loop v41 v43).trips) (k0_t124 : Fin (k0_t124_loop v730 v732).trips) : Fin 2 → Nat :=
  let c1_i32_270 : BitVec 32 := 1#32
  let arg11 : BitVec 32 := Scf.iv v41 c1_i32_270 k0_t122
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t124
  let v1011 : BitVec 32 := Scalar.addi v1003 arg36
  let v1081 : Index := Scalar.indexCast v1011
  let c368 : Index := 368#32
  ![v1081.toNat, 368]
@[reducible] def k0_t125_loop (v41 : BitVec 32) (v43 : BitVec 32) : Scf.Loop 32 :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let v735 : BitVec 32 := Scalar.addi v41 v734
  let c1_i32_271 : BitVec 32 := 1#32
  ⟨v738, v735, c1_i32_271⟩
@[reducible] def k0_t126_loop (v730 : BitVec 32) (v732 : BitVec 32) : Scf.Loop 32 :=
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_375 : BitVec 32 := 1#32
  ⟨v730, v1008, c1_i32_375⟩
def k0_off1883 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1012 : Index := Scalar.indexCast v1011
  let c0_377 : Index := 0#32
  ![v1012.toNat, 0]
def k0_off1884 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1015 : Index := Scalar.indexCast v1011
  let c16 : Index := 16#32
  ![v1015.toNat, 16]
def k0_off1885 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1018 : Index := Scalar.indexCast v1011
  let c32 : Index := 32#32
  ![v1018.toNat, 32]
def k0_off1886 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1021 : Index := Scalar.indexCast v1011
  let c48 : Index := 48#32
  ![v1021.toNat, 48]
def k0_off1887 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1024 : Index := Scalar.indexCast v1011
  let c64 : Index := 64#32
  ![v1024.toNat, 64]
def k0_off1888 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1027 : Index := Scalar.indexCast v1011
  let c80 : Index := 80#32
  ![v1027.toNat, 80]
def k0_off1889 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1030 : Index := Scalar.indexCast v1011
  let c96 : Index := 96#32
  ![v1030.toNat, 96]
def k0_off1890 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1033 : Index := Scalar.indexCast v1011
  let c112 : Index := 112#32
  ![v1033.toNat, 112]
def k0_off1891 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1036 : Index := Scalar.indexCast v1011
  let c128 : Index := 128#32
  ![v1036.toNat, 128]
def k0_off1892 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1039 : Index := Scalar.indexCast v1011
  let c144 : Index := 144#32
  ![v1039.toNat, 144]
def k0_off1893 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1042 : Index := Scalar.indexCast v1011
  let c160 : Index := 160#32
  ![v1042.toNat, 160]
def k0_off1894 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1045 : Index := Scalar.indexCast v1011
  let c176 : Index := 176#32
  ![v1045.toNat, 176]
def k0_off1895 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1048 : Index := Scalar.indexCast v1011
  let c192 : Index := 192#32
  ![v1048.toNat, 192]
def k0_off1896 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1051 : Index := Scalar.indexCast v1011
  let c208 : Index := 208#32
  ![v1051.toNat, 208]
def k0_off1897 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1054 : Index := Scalar.indexCast v1011
  let c224 : Index := 224#32
  ![v1054.toNat, 224]
def k0_off1898 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1057 : Index := Scalar.indexCast v1011
  let c240 : Index := 240#32
  ![v1057.toNat, 240]
def k0_off1899 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1060 : Index := Scalar.indexCast v1011
  let c256 : Index := 256#32
  ![v1060.toNat, 256]
def k0_off1900 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1063 : Index := Scalar.indexCast v1011
  let c272 : Index := 272#32
  ![v1063.toNat, 272]
def k0_off1901 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1066 : Index := Scalar.indexCast v1011
  let c288 : Index := 288#32
  ![v1066.toNat, 288]
def k0_off1902 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1069 : Index := Scalar.indexCast v1011
  let c304 : Index := 304#32
  ![v1069.toNat, 304]
def k0_off1903 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1072 : Index := Scalar.indexCast v1011
  let c320 : Index := 320#32
  ![v1072.toNat, 320]
def k0_off1904 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1075 : Index := Scalar.indexCast v1011
  let c336 : Index := 336#32
  ![v1075.toNat, 336]
def k0_off1905 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1078 : Index := Scalar.indexCast v1011
  let c352 : Index := 352#32
  ![v1078.toNat, 352]
def k0_off1906 (v41 : BitVec 32) (v43 : BitVec 32) (v730 : BitVec 32) (v732 : BitVec 32) (k0_t125 : Fin (k0_t125_loop v41 v43).trips) (k0_t126 : Fin (k0_t126_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let c1_i32_375 : BitVec 32 := 1#32
  let arg36 : BitVec 32 := Scf.iv v730 c1_i32_375 k0_t126
  let v1011 : BitVec 32 := Scalar.addi v1003 arg36
  let v1081 : Index := Scalar.indexCast v1011
  let c368 : Index := 368#32
  ![v1081.toNat, 368]
@[reducible] def k0_t127_loop (v730 : BitVec 32) (v732 : BitVec 32) : Scf.Loop 32 :=
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let v1005 : BitVec 32 := Scalar.addi v730 v1004
  let c1_i32_376 : BitVec 32 := 1#32
  ⟨v1008, v1005, c1_i32_376⟩
def k0_off1907 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1012 : Index := Scalar.indexCast v1011
  let c0_377 : Index := 0#32
  ![v1012.toNat, 0]
def k0_off1908 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1015 : Index := Scalar.indexCast v1011
  let c16 : Index := 16#32
  ![v1015.toNat, 16]
def k0_off1909 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1018 : Index := Scalar.indexCast v1011
  let c32 : Index := 32#32
  ![v1018.toNat, 32]
def k0_off1910 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1021 : Index := Scalar.indexCast v1011
  let c48 : Index := 48#32
  ![v1021.toNat, 48]
def k0_off1911 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1024 : Index := Scalar.indexCast v1011
  let c64 : Index := 64#32
  ![v1024.toNat, 64]
def k0_off1912 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1027 : Index := Scalar.indexCast v1011
  let c80 : Index := 80#32
  ![v1027.toNat, 80]
def k0_off1913 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1030 : Index := Scalar.indexCast v1011
  let c96 : Index := 96#32
  ![v1030.toNat, 96]
def k0_off1914 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1033 : Index := Scalar.indexCast v1011
  let c112 : Index := 112#32
  ![v1033.toNat, 112]
def k0_off1915 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1036 : Index := Scalar.indexCast v1011
  let c128 : Index := 128#32
  ![v1036.toNat, 128]
def k0_off1916 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1039 : Index := Scalar.indexCast v1011
  let c144 : Index := 144#32
  ![v1039.toNat, 144]
def k0_off1917 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1042 : Index := Scalar.indexCast v1011
  let c160 : Index := 160#32
  ![v1042.toNat, 160]
def k0_off1918 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1045 : Index := Scalar.indexCast v1011
  let c176 : Index := 176#32
  ![v1045.toNat, 176]
def k0_off1919 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1048 : Index := Scalar.indexCast v1011
  let c192 : Index := 192#32
  ![v1048.toNat, 192]
def k0_off1920 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1051 : Index := Scalar.indexCast v1011
  let c208 : Index := 208#32
  ![v1051.toNat, 208]
def k0_off1921 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1054 : Index := Scalar.indexCast v1011
  let c224 : Index := 224#32
  ![v1054.toNat, 224]
def k0_off1922 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1057 : Index := Scalar.indexCast v1011
  let c240 : Index := 240#32
  ![v1057.toNat, 240]
def k0_off1923 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1060 : Index := Scalar.indexCast v1011
  let c256 : Index := 256#32
  ![v1060.toNat, 256]
def k0_off1924 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1063 : Index := Scalar.indexCast v1011
  let c272 : Index := 272#32
  ![v1063.toNat, 272]
def k0_off1925 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1066 : Index := Scalar.indexCast v1011
  let c288 : Index := 288#32
  ![v1066.toNat, 288]
def k0_off1926 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1069 : Index := Scalar.indexCast v1011
  let c304 : Index := 304#32
  ![v1069.toNat, 304]
def k0_off1927 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1072 : Index := Scalar.indexCast v1011
  let c320 : Index := 320#32
  ![v1072.toNat, 320]
def k0_off1928 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1075 : Index := Scalar.indexCast v1011
  let c336 : Index := 336#32
  ![v1075.toNat, 336]
def k0_off1929 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1078 : Index := Scalar.indexCast v1011
  let c352 : Index := 352#32
  ![v1078.toNat, 352]
def k0_off1930 (v41 : BitVec 32) (v43 : BitVec 32) (v730 : BitVec 32) (v732 : BitVec 32) (k0_t125 : Fin (k0_t125_loop v41 v43).trips) (k0_t127 : Fin (k0_t127_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t125
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t127
  let v1011 : BitVec 32 := Scalar.addi v1003 arg36
  let v1081 : Index := Scalar.indexCast v1011
  let c368 : Index := 368#32
  ![v1081.toNat, 368]

def k0_chk482_0 (i : grid0.Coords) (v10 : BitVec 32) (v41 : BitVec 32) (v43 : BitVec 32) (v730 : BitVec 32) (v732 : BitVec 32) : Prop :=
  (∀ k0_t122 : Fin (k0_t122_loop v41 v43).trips, ∀ (k0_h2 : k0_cond2 i v10 = 1#1), (k0_t123_loop v730 v732).OK) ∧
  (∀ (k0_t122 : Fin (k0_t122_loop v41 v43).trips) (k0_t123 : Fin (k0_t123_loop v730 v732).trips), ∀ (k0_h2 : k0_cond2 i v10 = 1#1), ∀ a, (k0_off1835 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1836 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1837 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1838 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1839 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1840 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1841 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1842 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1843 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1844 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1845 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1846 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1847 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1848 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1849 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1850 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1851 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1852 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1853 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1854 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1855 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1856 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1857 v41 v43 v730 v732 k0_t122 k0_t123) a + S1x16.size a ≤ S196x384.size a) ∧
  (∀ (k0_t122 : Fin (k0_t122_loop v41 v43).trips) (k0_t123 : Fin (k0_t123_loop v730 v732).trips), ∀ (k0_h2 : k0_cond2 i v10 = 1#1), ∀ a, (k0_off1858 v41 v43 v730 v732 k0_t122 k0_t123) a + S1x16.size a ≤ S196x384.size a) ∧
  (∀ k0_t122 : Fin (k0_t122_loop v41 v43).trips, ∀ (k0_h2 : k0_cond2 i v10 = 1#1), (k0_t124_loop v730 v732).OK) ∧
  (∀ (k0_t122 : Fin (k0_t122_loop v41 v43).trips) (k0_t124 : Fin (k0_t124_loop v730 v732).trips), ∀ (k0_h2 : k0_cond2 i v10 = 1#1), ∀ a, (k0_off1859 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1860 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1861 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1862 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1863 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1864 v41 v43 v730 v732 k0_t122 k0_t124) a + S1x16.size a ≤ S196x384.size a)
def k0_chk482_1 (i : grid0.Coords) (v10 : BitVec 32) (v41 : BitVec 32) (v43 : BitVec 32) (v730 : BitVec 32) (v732 : BitVec 32) : Prop :=
  (∀ (k0_t122 : Fin (k0_t122_loop v41 v43).trips) (k0_t124 : Fin (k0_t124_loop v730 v732).trips), ∀ (k0_h2 : k0_cond2 i v10 = 1#1), ∀ a, (k0_off1865 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1866 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1867 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1868 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1869 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1870 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1871 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1872 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1873 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1874 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1875 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1876 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1877 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1878 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1879 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1880 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1881 v41 v43 v730 v732 k0_t122 k0_t124) a + S1x16.size a ≤ S196x384.size a) ∧
  (∀ (k0_t122 : Fin (k0_t122_loop v41 v43).trips) (k0_t124 : Fin (k0_t124_loop v730 v732).trips), ∀ (k0_h2 : k0_cond2 i v10 = 1#1), ∀ a, (k0_off1882 v41 v43 v730 v732 k0_t122 k0_t124) a + S1x16.size a ≤ S196x384.size a) ∧
  (∀ k0_t125 : Fin (k0_t125_loop v41 v43).trips, ∀ (k0_h2 : k0_cond2 i v10 = 1#1), (k0_t126_loop v730 v732).OK) ∧
  (∀ (k0_t125 : Fin (k0_t125_loop v41 v43).trips) (k0_t126 : Fin (k0_t126_loop v730 v732).trips), ∀ (k0_h2 : k0_cond2 i v10 = 1#1), ∀ a, (k0_off1883 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1884 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1885 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1886 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1887 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1888 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1889 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1890 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1891 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1892 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1893 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1894 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1895 v41 v43 v730 v732 k0_t125 k0_t126) a + S1x16.size a ≤ S196x384.size a)
def k0_chk482_2 (i : grid0.Coords) (v10 : BitVec 32) (v41 : BitVec 32) (v43 : BitVec 32) (v730 : BitVec 32) (v732 : BitVec 32) : Prop :=
  (∀ (k0_t125 : Fin (k0_t125_loop v41 v43).trips) (k0_t126 : Fin (k0_t126_loop v730 v732).trips), ∀ (k0_h2 : k0_cond2 i v10 = 1#1), ∀ a, (k0_off1896 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1897 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1898 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1899 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1900 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1901 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1902 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1903 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1904 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1905 v41 v43 v730 v732 k0_t125 k0_t126) a + S1x16.size a ≤ S196x384.size a) ∧
  (∀ (k0_t125 : Fin (k0_t125_loop v41 v43).trips) (k0_t126 : Fin (k0_t126_loop v730 v732).trips), ∀ (k0_h2 : k0_cond2 i v10 = 1#1), ∀ a, (k0_off1906 v41 v43 v730 v732 k0_t125 k0_t126) a + S1x16.size a ≤ S196x384.size a) ∧
  (∀ k0_t125 : Fin (k0_t125_loop v41 v43).trips, ∀ (k0_h2 : k0_cond2 i v10 = 1#1), (k0_t127_loop v730 v732).OK) ∧
  (∀ (k0_t125 : Fin (k0_t125_loop v41 v43).trips) (k0_t127 : Fin (k0_t127_loop v730 v732).trips), ∀ (k0_h2 : k0_cond2 i v10 = 1#1), ∀ a, (k0_off1907 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1908 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1909 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1910 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1911 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1912 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1913 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1914 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1915 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1916 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1917 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1918 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1919 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1920 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1921 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1922 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1923 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1924 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1925 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1926 v41 v43 v730 v732 k0_t125 k0_t127) a + S1x16.size a ≤ S196x384.size a)
def k0_chk482_3 (i : grid0.Coords) (v10 : BitVec 32) (v41 : BitVec 32) (v43 : BitVec 32) (v730 : BitVec 32) (v732 : BitVec 32) : Prop :=
  (∀ (k0_t125 : Fin (k0_t125_loop v41 v43).trips) (k0_t127 : Fin (k0_t127_loop v730 v732).trips), ∀ (k0_h2 : k0_cond2 i v10 = 1#1), ∀ a, (k0_off1927 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1928 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1929 v41 v43 v730 v732 k0_t125 k0_t127) a + S1x16.size a ≤ S196x384.size a) ∧
  (∀ (k0_t125 : Fin (k0_t125_loop v41 v43).trips) (k0_t127 : Fin (k0_t127_loop v730 v732).trips), ∀ (k0_h2 : k0_cond2 i v10 = 1#1), ∀ a, (k0_off1930 v41 v43 v730 v732 k0_t125 k0_t127) a + S1x16.size a ≤ S196x384.size a)
def k0_chk482 (i : grid0.Coords) (v10 : BitVec 32) (v41 : BitVec 32) (v43 : BitVec 32) (v730 : BitVec 32) (v732 : BitVec 32) : Prop :=
  k0_chk482_0 i v10 v41 v43 v730 v732 ∧
  k0_chk482_1 i v10 v41 v43 v730 v732 ∧
  k0_chk482_2 i v10 v41 v43 v730 v732 ∧
  k0_chk482_3 i v10 v41 v43 v730 v732
theorem k0_t123_ok : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips), ∀ (k0_h2 : k0_cond2 i v10 = 1#1), (k0_t123_loop v730 v732).OK := fun i v10 v41 v43 v730 v732 k0_hw482 k0_t122 k0_h2 => k0_hw482.1.1 k0_t122 k0_h2
theorem k0_off1835_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1835 v41 v43 v730 v732 k0_t122 k0_t123) a + S1x16.size a ≤ S196x384.size a := fun i v10 v41 v43 v730 v732 k0_hw482 k0_t122 k0_t123 k0_h2 => k0_hw482.1.2.1 k0_t122 k0_t123 k0_h2
theorem k0_off1836_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1836 v41 v43 v730 v732 k0_t122 k0_t123) a + S1x16.size a ≤ S196x384.size a := fun i v10 v41 v43 v730 v732 k0_hw482 k0_t122 k0_t123 k0_h2 => k0_hw482.1.2.2.1 k0_t122 k0_t123 k0_h2
theorem k0_off1837_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1837 v41 v43 v730 v732 k0_t122 k0_t123) a + S1x16.size a ≤ S196x384.size a := fun i v10 v41 v43 v730 v732 k0_hw482 k0_t122 k0_t123 k0_h2 => k0_hw482.1.2.2.2.1 k0_t122 k0_t123 k0_h2
theorem k0_off1838_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1838 v41 v43 v730 v732 k0_t122 k0_t123) a + S1x16.size a ≤ S196x384.size a := fun i v10 v41 v43 v730 v732 k0_hw482 k0_t122 k0_t123 k0_h2 => k0_hw482.1.2.2.2.2.1 k0_t122 k0_t123 k0_h2
theorem k0_off1839_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1839 v41 v43 v730 v732 k0_t122 k0_t123) a + S1x16.size a ≤ S196x384.size a := fun i v10 v41 v43 v730 v732 k0_hw482 k0_t122 k0_t123 k0_h2 => k0_hw482.1.2.2.2.2.2.1 k0_t122 k0_t123 k0_h2
theorem k0_off1840_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1840 v41 v43 v730 v732 k0_t122 k0_t123) a + S1x16.size a ≤ S196x384.size a := fun i v10 v41 v43 v730 v732 k0_hw482 k0_t122 k0_t123 k0_h2 => k0_hw482.1.2.2.2.2.2.2.1 k0_t122 k0_t123 k0_h2
theorem k0_off1841_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1841 v41 v43 v730 v732 k0_t122 k0_t123) a + S1x16.size a ≤ S196x384.size a := fun i v10 v41 v43 v730 v732 k0_hw482 k0_t122 k0_t123 k0_h2 => k0_hw482.1.2.2.2.2.2.2.2.1 k0_t122 k0_t123 k0_h2
theorem k0_off1842_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1842 v41 v43 v730 v732 k0_t122 k0_t123) a + S1x16.size a ≤ S196x384.size a := fun i v10 v41 v43 v730 v732 k0_hw482 k0_t122 k0_t123 k0_h2 => k0_hw482.1.2.2.2.2.2.2.2.2.1 k0_t122 k0_t123 k0_h2
theorem k0_off1843_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1843 v41 v43 v730 v732 k0_t122 k0_t123) a + S1x16.size a ≤ S196x384.size a := fun i v10 v41 v43 v730 v732 k0_hw482 k0_t122 k0_t123 k0_h2 => k0_hw482.1.2.2.2.2.2.2.2.2.2.1 k0_t122 k0_t123 k0_h2
theorem k0_off1844_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1844 v41 v43 v730 v732 k0_t122 k0_t123) a + S1x16.size a ≤ S196x384.size a := fun i v10 v41 v43 v730 v732 k0_hw482 k0_t122 k0_t123 k0_h2 => k0_hw482.1.2.2.2.2.2.2.2.2.2.2.1 k0_t122 k0_t123 k0_h2
theorem k0_off1845_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1845 v41 v43 v730 v732 k0_t122 k0_t123) a + S1x16.size a ≤ S196x384.size a := fun i v10 v41 v43 v730 v732 k0_hw482 k0_t122 k0_t123 k0_h2 => k0_hw482.1.2.2.2.2.2.2.2.2.2.2.2.1 k0_t122 k0_t123 k0_h2
theorem k0_off1846_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1846 v41 v43 v730 v732 k0_t122 k0_t123) a + S1x16.size a ≤ S196x384.size a := fun i v10 v41 v43 v730 v732 k0_hw482 k0_t122 k0_t123 k0_h2 => k0_hw482.1.2.2.2.2.2.2.2.2.2.2.2.2.1 k0_t122 k0_t123 k0_h2
theorem k0_off1847_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1847 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.1 k0_t122 k0_t123 k0_h2
theorem k0_off1848_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1848 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.1 k0_t122 k0_t123 k0_h2
theorem k0_off1849_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1849 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.1 k0_t122 k0_t123 k0_h2
theorem k0_off1850_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1850 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.2.1 k0_t122 k0_t123 k0_h2
theorem k0_off1851_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1851 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.2.2.1 k0_t122 k0_t123 k0_h2
theorem k0_off1852_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1852 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.2.2.2.1 k0_t122 k0_t123 k0_h2
theorem k0_off1853_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1853 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.2.2.2.2.1 k0_t122 k0_t123 k0_h2
theorem k0_off1854_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1854 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.2.2.2.2.2.1 k0_t122 k0_t123 k0_h2
theorem k0_off1855_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1855 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.2.2.2.2.2.2.1 k0_t122 k0_t123 k0_h2
theorem k0_off1856_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1856 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.2.2.2.2.2.2.2.1 k0_t122 k0_t123 k0_h2
theorem k0_off1857_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1857 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.2.2.2.2.2.2.2.2.1 k0_t122 k0_t123 k0_h2
theorem k0_off1858_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t123 : Fin (k0_t123_loop v730 v732).trips), ∀ (k0_h2 : k0_cond2 i v10 = 1#1), ∀ a, (k0_off1858 v41 v43 v730 v732 k0_t122 k0_t123) a + S1x16.size a ≤ S196x384.size a := fun i v10 v41 v43 v730 v732 k0_hw482 k0_t122 k0_t123 k0_h2 => k0_hw482.1.2.2.2.2.2.2.2.2.2.2.2.2.2.2.2.2.2.2.2.2.2.2.2.2.1 k0_t122 k0_t123 k0_h2
theorem k0_t124_ok : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips), ∀ (k0_h2 : k0_cond2 i v10 = 1#1), (k0_t124_loop v730 v732).OK := fun i v10 v41 v43 v730 v732 k0_hw482 k0_t122 k0_h2 => k0_hw482.1.2.2.2.2.2.2.2.2.2.2.2.2.2.2.2.2.2.2.2.2.2.2.2.2.2.1 k0_t122 k0_h2
theorem k0_off1859_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1859 v41 v43 v730 v732 k0_t122 k0_t124) a + S1x16.size a ≤ S196x384.size a := fun i v10 v41 v43 v730 v732 k0_hw482 k0_t122 k0_t124 k0_h2 => k0_hw482.1.2.2.2.2.2.2.2.2.2.2.2.2.2.2.2.2.2.2.2.2.2.2.2.2.2.2.1 k0_t122 k0_t124 k0_h2
theorem k0_off1860_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1860 v41 v43 v730 v732 k0_t122 k0_t124) a + S1x16.size a ≤ S196x384.size a := fun i v10 v41 v43 v730 v732 k0_hw482 k0_t122 k0_t124 k0_h2 => k0_hw482.1.2.2.2.2.2.2.2.2.2.2.2.2.2.2.2.2.2.2.2.2.2.2.2.2.2.2.2.1 k0_t122 k0_t124 k0_h2
theorem k0_off1861_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1861 v41 v43 v730 v732 k0_t122 k0_t124) a + S1x16.size a ≤ S196x384.size a := fun i v10 v41 v43 v730 v732 k0_hw482 k0_t122 k0_t124 k0_h2 => k0_hw482.1.2.2.2.2.2.2.2.2.2.2.2.2.2.2.2.2.2.2.2.2.2.2.2.2.2.2.2.2.1 k0_t122 k0_t124 k0_h2
theorem k0_off1862_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1862 v41 v43 v730 v732 k0_t122 k0_t124) a + S1x16.size a ≤ S196x384.size a := fun i v10 v41 v43 v730 v732 k0_hw482 k0_t122 k0_t124 k0_h2 => k0_hw482.1.2.2.2.2.2.2.2.2.2.2.2.2.2.2.2.2.2.2.2.2.2.2.2.2.2.2.2.2.2.1 k0_t122 k0_t124 k0_h2
theorem k0_off1863_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1863 v41 v43 v730 v732 k0_t122 k0_t124) a + S1x16.size a ≤ S196x384.size a := fun i v10 v41 v43 v730 v732 k0_hw482 k0_t122 k0_t124 k0_h2 => k0_hw482.1.2.2.2.2.2.2.2.2.2.2.2.2.2.2.2.2.2.2.2.2.2.2.2.2.2.2.2.2.2.2.1 k0_t122 k0_t124 k0_h2
theorem k0_off1864_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1864 v41 v43 v730 v732 k0_t122 k0_t124) a + S1x16.size a ≤ S196x384.size a := fun i v10 v41 v43 v730 v732 k0_hw482 k0_t122 k0_t124 k0_h2 => k0_hw482.1.2.2.2.2.2.2.2.2.2.2.2.2.2.2.2.2.2.2.2.2.2.2.2.2.2.2.2.2.2.2.2 k0_t122 k0_t124 k0_h2
theorem k0_off1865_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1865 v41 v43 v730 v732 k0_t122 k0_t124) a + S1x16.size a ≤ S196x384.size a := fun i v10 v41 v43 v730 v732 k0_hw482 k0_t122 k0_t124 k0_h2 => k0_hw482.2.1.1 k0_t122 k0_t124 k0_h2
theorem k0_off1866_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1866 v41 v43 v730 v732 k0_t122 k0_t124) a + S1x16.size a ≤ S196x384.size a := fun i v10 v41 v43 v730 v732 k0_hw482 k0_t122 k0_t124 k0_h2 => k0_hw482.2.1.2.1 k0_t122 k0_t124 k0_h2
theorem k0_off1867_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1867 v41 v43 v730 v732 k0_t122 k0_t124) a + S1x16.size a ≤ S196x384.size a := fun i v10 v41 v43 v730 v732 k0_hw482 k0_t122 k0_t124 k0_h2 => k0_hw482.2.1.2.2.1 k0_t122 k0_t124 k0_h2
theorem k0_off1868_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1868 v41 v43 v730 v732 k0_t122 k0_t124) a + S1x16.size a ≤ S196x384.size a := fun i v10 v41 v43 v730 v732 k0_hw482 k0_t122 k0_t124 k0_h2 => k0_hw482.2.1.2.2.2.1 k0_t122 k0_t124 k0_h2
theorem k0_off1869_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1869 v41 v43 v730 v732 k0_t122 k0_t124) a + S1x16.size a ≤ S196x384.size a := fun i v10 v41 v43 v730 v732 k0_hw482 k0_t122 k0_t124 k0_h2 => k0_hw482.2.1.2.2.2.2.1 k0_t122 k0_t124 k0_h2
theorem k0_off1870_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1870 v41 v43 v730 v732 k0_t122 k0_t124) a + S1x16.size a ≤ S196x384.size a := fun i v10 v41 v43 v730 v732 k0_hw482 k0_t122 k0_t124 k0_h2 => k0_hw482.2.1.2.2.2.2.2.1 k0_t122 k0_t124 k0_h2
theorem k0_off1871_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1871 v41 v43 v730 v732 k0_t122 k0_t124) a + S1x16.size a ≤ S196x384.size a := fun i v10 v41 v43 v730 v732 k0_hw482 k0_t122 k0_t124 k0_h2 => k0_hw482.2.1.2.2.2.2.2.2.1 k0_t122 k0_t124 k0_h2
theorem k0_off1872_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1872 v41 v43 v730 v732 k0_t122 k0_t124) a + S1x16.size a ≤ S196x384.size a := fun i v10 v41 v43 v730 v732 k0_hw482 k0_t122 k0_t124 k0_h2 => k0_hw482.2.1.2.2.2.2.2.2.2.1 k0_t122 k0_t124 k0_h2
theorem k0_off1873_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1873 v41 v43 v730 v732 k0_t122 k0_t124) a + S1x16.size a ≤ S196x384.size a := fun i v10 v41 v43 v730 v732 k0_hw482 k0_t122 k0_t124 k0_h2 => k0_hw482.2.1.2.2.2.2.2.2.2.2.1 k0_t122 k0_t124 k0_h2
theorem k0_off1874_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1874 v41 v43 v730 v732 k0_t122 k0_t124) a + S1x16.size a ≤ S196x384.size a := fun i v10 v41 v43 v730 v732 k0_hw482 k0_t122 k0_t124 k0_h2 => k0_hw482.2.1.2.2.2.2.2.2.2.2.2.1 k0_t122 k0_t124 k0_h2
theorem k0_off1875_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1875 v41 v43 v730 v732 k0_t122 k0_t124) a + S1x16.size a ≤ S196x384.size a := fun i v10 v41 v43 v730 v732 k0_hw482 k0_t122 k0_t124 k0_h2 => k0_hw482.2.1.2.2.2.2.2.2.2.2.2.2.1 k0_t122 k0_t124 k0_h2
theorem k0_off1876_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1876 v41 v43 v730 v732 k0_t122 k0_t124) a + S1x16.size a ≤ S196x384.size a := fun i v10 v41 v43 v730 v732 k0_hw482 k0_t122 k0_t124 k0_h2 => k0_hw482.2.1.2.2.2.2.2.2.2.2.2.2.2.1 k0_t122 k0_t124 k0_h2
theorem k0_off1877_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1877 v41 v43 v730 v732 k0_t122 k0_t124) a + S1x16.size a ≤ S196x384.size a := fun i v10 v41 v43 v730 v732 k0_hw482 k0_t122 k0_t124 k0_h2 => k0_hw482.2.1.2.2.2.2.2.2.2.2.2.2.2.2.1 k0_t122 k0_t124 k0_h2
theorem k0_off1878_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1878 v41 v43 v730 v732 k0_t122 k0_t124) a + S1x16.size a ≤ S196x384.size a := fun i v10 v41 v43 v730 v732 k0_hw482 k0_t122 k0_t124 k0_h2 => k0_hw482.2.1.2.2.2.2.2.2.2.2.2.2.2.2.2.1 k0_t122 k0_t124 k0_h2
theorem k0_off1879_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1879 v41 v43 v730 v732 k0_t122 k0_t124) a + S1x16.size a ≤ S196x384.size a := fun i v10 v41 v43 v730 v732 k0_hw482 k0_t122 k0_t124 k0_h2 => k0_hw482.2.1.2.2.2.2.2.2.2.2.2.2.2.2.2.2.1 k0_t122 k0_t124 k0_h2
theorem k0_off1880_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1880 v41 v43 v730 v732 k0_t122 k0_t124) a + S1x16.size a ≤ S196x384.size a := fun i v10 v41 v43 v730 v732 k0_hw482 k0_t122 k0_t124 k0_h2 => k0_hw482.2.1.2.2.2.2.2.2.2.2.2.2.2.2.2.2.2.1 k0_t122 k0_t124 k0_h2
theorem k0_off1881_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1881 v41 v43 v730 v732 k0_t122 k0_t124) a + S1x16.size a ≤ S196x384.size a := fun i v10 v41 v43 v730 v732 k0_hw482 k0_t122 k0_t124 k0_h2 => k0_hw482.2.1.2.2.2.2.2.2.2.2.2.2.2.2.2.2.2.2.1 k0_t122 k0_t124 k0_h2
theorem k0_off1882_inb : ∀ (i : grid0.Coords) (v10 : BitVec 32) (v41 : BitVec 32) (v43 : BitVec 32) (v730 : BitVec 32) (v732 : BitVec 32) (k0_hw482 : k0_chk482 i v10 v41 v43 v730 v732) (k0_t122 : Fin (k0_t122_loop v41 v43).trips) (k0_t124 : Fin (k0_t124_loop v730 v732).trips), ∀ (k0_h2 : k0_cond2 i v10 = 1#1), ∀ a, (k0_off1882 v41 v43 v730 v732 k0_t122 k0_t124) a + S1x16.size a ≤ S196x384.size a := fun i v10 v41 v43 v730 v732 k0_hw482 k0_t122 k0_t124 k0_h2 => k0_hw482.2.1.2.2.2.2.2.2.2.2.2.2.2.2.2.2.2.2.2.1 k0_t122 k0_t124 k0_h2
theorem k0_t126_ok : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips), ∀ (k0_h2 : k0_cond2 i v10 = 1#1), (k0_t126_loop v730 v732).OK := fun i v10 v41 v43 v730 v732 k0_hw482 k0_t125 k0_h2 => k0_hw482.2.1.2.2.2.2.2.2.2.2.2.2.2.2.2.2.2.2.2.2.1 k0_t125 k0_h2
theorem k0_off1883_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1883 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.1 k0_t125 k0_t126 k0_h2
theorem k0_off1884_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1884 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.1 k0_t125 k0_t126 k0_h2
theorem k0_off1885_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1885 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.1 k0_t125 k0_t126 k0_h2
theorem k0_off1886_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1886 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.1 k0_t125 k0_t126 k0_h2
theorem k0_off1887_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1887 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.2.1 k0_t125 k0_t126 k0_h2
theorem k0_off1888_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1888 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.2.2.1 k0_t125 k0_t126 k0_h2
theorem k0_off1889_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1889 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.2.2.2.1 k0_t125 k0_t126 k0_h2
theorem k0_off1890_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1890 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.2.2.2.2.1 k0_t125 k0_t126 k0_h2
theorem k0_off1891_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1891 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.2.2.2.2.2.1 k0_t125 k0_t126 k0_h2
theorem k0_off1892_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1892 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.2.2.2.2.2.2.1 k0_t125 k0_t126 k0_h2
theorem k0_off1893_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1893 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.2.2.2.2.2.2.2.1 k0_t125 k0_t126 k0_h2
theorem k0_off1894_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1894 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.2.2.2.2.2.2.2.2.1 k0_t125 k0_t126 k0_h2
theorem k0_off1895_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1895 v41 v43 v730 v732 k0_t125 k0_t126) a + S1x16.size a ≤ S196x384.size a := fun i v10 v41 v43 v730 v732 k0_hw482 k0_t125 k0_t126 k0_h2 => k0_hw482.2.1.2.2.2.2.2.2.2.2.2.2.2.2.2.2.2.2.2.2.2.2.2.2.2.2.2.2.2.2.2.2.2 k0_t125 k0_t126 k0_h2
theorem k0_off1896_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1896 v41 v43 v730 v732 k0_t125 k0_t126) a + S1x16.size a ≤ S196x384.size a := fun i v10 v41 v43 v730 v732 k0_hw482 k0_t125 k0_t126 k0_h2 => k0_hw482.2.2.1.1 k0_t125 k0_t126 k0_h2
theorem k0_off1897_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1897 v41 v43 v730 v732 k0_t125 k0_t126) a + S1x16.size a ≤ S196x384.size a := fun i v10 v41 v43 v730 v732 k0_hw482 k0_t125 k0_t126 k0_h2 => k0_hw482.2.2.1.2.1 k0_t125 k0_t126 k0_h2
theorem k0_off1898_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1898 v41 v43 v730 v732 k0_t125 k0_t126) a + S1x16.size a ≤ S196x384.size a := fun i v10 v41 v43 v730 v732 k0_hw482 k0_t125 k0_t126 k0_h2 => k0_hw482.2.2.1.2.2.1 k0_t125 k0_t126 k0_h2
theorem k0_off1899_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1899 v41 v43 v730 v732 k0_t125 k0_t126) a + S1x16.size a ≤ S196x384.size a := fun i v10 v41 v43 v730 v732 k0_hw482 k0_t125 k0_t126 k0_h2 => k0_hw482.2.2.1.2.2.2.1 k0_t125 k0_t126 k0_h2
theorem k0_off1900_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1900 v41 v43 v730 v732 k0_t125 k0_t126) a + S1x16.size a ≤ S196x384.size a := fun i v10 v41 v43 v730 v732 k0_hw482 k0_t125 k0_t126 k0_h2 => k0_hw482.2.2.1.2.2.2.2.1 k0_t125 k0_t126 k0_h2
theorem k0_off1901_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1901 v41 v43 v730 v732 k0_t125 k0_t126) a + S1x16.size a ≤ S196x384.size a := fun i v10 v41 v43 v730 v732 k0_hw482 k0_t125 k0_t126 k0_h2 => k0_hw482.2.2.1.2.2.2.2.2.1 k0_t125 k0_t126 k0_h2
theorem k0_off1902_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1902 v41 v43 v730 v732 k0_t125 k0_t126) a + S1x16.size a ≤ S196x384.size a := fun i v10 v41 v43 v730 v732 k0_hw482 k0_t125 k0_t126 k0_h2 => k0_hw482.2.2.1.2.2.2.2.2.2.1 k0_t125 k0_t126 k0_h2
theorem k0_off1903_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1903 v41 v43 v730 v732 k0_t125 k0_t126) a + S1x16.size a ≤ S196x384.size a := fun i v10 v41 v43 v730 v732 k0_hw482 k0_t125 k0_t126 k0_h2 => k0_hw482.2.2.1.2.2.2.2.2.2.2.1 k0_t125 k0_t126 k0_h2
theorem k0_off1904_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1904 v41 v43 v730 v732 k0_t125 k0_t126) a + S1x16.size a ≤ S196x384.size a := fun i v10 v41 v43 v730 v732 k0_hw482 k0_t125 k0_t126 k0_h2 => k0_hw482.2.2.1.2.2.2.2.2.2.2.2.1 k0_t125 k0_t126 k0_h2
theorem k0_off1905_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1905 v41 v43 v730 v732 k0_t125 k0_t126) a + S1x16.size a ≤ S196x384.size a := fun i v10 v41 v43 v730 v732 k0_hw482 k0_t125 k0_t126 k0_h2 => k0_hw482.2.2.1.2.2.2.2.2.2.2.2.2.1 k0_t125 k0_t126 k0_h2
theorem k0_off1906_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t126 : Fin (k0_t126_loop v730 v732).trips), ∀ (k0_h2 : k0_cond2 i v10 = 1#1), ∀ a, (k0_off1906 v41 v43 v730 v732 k0_t125 k0_t126) a + S1x16.size a ≤ S196x384.size a := fun i v10 v41 v43 v730 v732 k0_hw482 k0_t125 k0_t126 k0_h2 => k0_hw482.2.2.1.2.2.2.2.2.2.2.2.2.2.1 k0_t125 k0_t126 k0_h2
theorem k0_t127_ok : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips), ∀ (k0_h2 : k0_cond2 i v10 = 1#1), (k0_t127_loop v730 v732).OK := fun i v10 v41 v43 v730 v732 k0_hw482 k0_t125 k0_h2 => k0_hw482.2.2.1.2.2.2.2.2.2.2.2.2.2.2.1 k0_t125 k0_h2
theorem k0_off1907_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1907 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.1 k0_t125 k0_t127 k0_h2
theorem k0_off1908_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1908 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.1 k0_t125 k0_t127 k0_h2
theorem k0_off1909_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1909 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.1 k0_t125 k0_t127 k0_h2
theorem k0_off1910_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1910 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.1 k0_t125 k0_t127 k0_h2
theorem k0_off1911_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1911 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.1 k0_t125 k0_t127 k0_h2
theorem k0_off1912_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1912 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.1 k0_t125 k0_t127 k0_h2
theorem k0_off1913_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1913 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.1 k0_t125 k0_t127 k0_h2
theorem k0_off1914_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1914 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.1 k0_t125 k0_t127 k0_h2
theorem k0_off1915_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1915 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.1 k0_t125 k0_t127 k0_h2
theorem k0_off1916_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1916 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.1 k0_t125 k0_t127 k0_h2
theorem k0_off1917_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1917 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.1 k0_t125 k0_t127 k0_h2
theorem k0_off1918_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1918 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.2.1 k0_t125 k0_t127 k0_h2
theorem k0_off1919_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1919 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.2.2.1 k0_t125 k0_t127 k0_h2
theorem k0_off1920_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1920 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.2.2.2.1 k0_t125 k0_t127 k0_h2
theorem k0_off1921_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1921 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.2.2.2.2.1 k0_t125 k0_t127 k0_h2
theorem k0_off1922_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1922 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.2.2.2.2.2.1 k0_t125 k0_t127 k0_h2
theorem k0_off1923_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1923 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.2.2.2.2.2.2.1 k0_t125 k0_t127 k0_h2
theorem k0_off1924_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1924 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.2.2.2.2.2.2.2.1 k0_t125 k0_t127 k0_h2
theorem k0_off1925_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1925 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.2.2.2.2.2.2.2.2.1 k0_t125 k0_t127 k0_h2
theorem k0_off1926_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1926 v41 v43 v730 v732 k0_t125 k0_t127) a + S1x16.size a ≤ S196x384.size a := fun i v10 v41 v43 v730 v732 k0_hw482 k0_t125 k0_t127 k0_h2 => k0_hw482.2.2.1.2.2.2.2.2.2.2.2.2.2.2.2.2.2.2.2.2.2.2.2.2.2.2.2.2.2.2.2.2.2.2 k0_t125 k0_t127 k0_h2
theorem k0_off1927_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1927 v41 v43 v730 v732 k0_t125 k0_t127) a + S1x16.size a ≤ S196x384.size a := fun i v10 v41 v43 v730 v732 k0_hw482 k0_t125 k0_t127 k0_h2 => k0_hw482.2.2.2.1 k0_t125 k0_t127 k0_h2
theorem k0_off1928_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1928 v41 v43 v730 v732 k0_t125 k0_t127) a + S1x16.size a ≤ S196x384.size a := fun i v10 v41 v43 v730 v732 k0_hw482 k0_t125 k0_t127 k0_h2 => k0_hw482.2.2.2.2.1 k0_t125 k0_t127 k0_h2
theorem k0_off1929_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1929 v41 v43 v730 v732 k0_t125 k0_t127) a + S1x16.size a ≤ S196x384.size a := fun i v10 v41 v43 v730 v732 k0_hw482 k0_t125 k0_t127 k0_h2 => k0_hw482.2.2.2.2.2.1 k0_t125 k0_t127 k0_h2
theorem k0_off1930_inb : ∀ (i : grid0.Coords) (v10 : BitVec 32) (v41 : BitVec 32) (v43 : BitVec 32) (v730 : BitVec 32) (v732 : BitVec 32) (k0_hw482 : k0_chk482 i v10 v41 v43 v730 v732) (k0_t125 : Fin (k0_t125_loop v41 v43).trips) (k0_t127 : Fin (k0_t127_loop v730 v732).trips), ∀ (k0_h2 : k0_cond2 i v10 = 1#1), ∀ a, (k0_off1930 v41 v43 v730 v732 k0_t125 k0_t127) a + S1x16.size a ≤ S196x384.size a := fun i v10 v41 v43 v730 v732 k0_hw482 k0_t125 k0_t127 k0_h2 => k0_hw482.2.2.2.2.2.2 k0_t125 k0_t127 k0_h2

def k0_chk483 (i : grid0.Coords) (v10 : BitVec 32) (v750 : IVec S16 32) : Prop :=
  (∀ (k0_h2 : k0_cond2 i v10 = 1#1), ∀ a x, ((![v750] : Fin 1 → IVec S16 32) a x).toNat < S18816.size a)
theorem k0_idx457_inb : ∀ (i : grid0.Coords) (v10 : BitVec 32) (v750 : IVec S16 32) (k0_hw483 : k0_chk483 i v10 v750), ∀ (k0_h2 : k0_cond2 i v10 = 1#1), ∀ a x, ((![v750] : Fin 1 → IVec S16 32) a x).toNat < S18816.size a := fun i v10 v750 k0_hw483 k0_h2 => k0_hw483 k0_h2

def k0_chk484 (i : grid0.Coords) (v10 : BitVec 32) (v755 : IVec S16 32) : Prop :=
  (∀ (k0_h2 : k0_cond2 i v10 = 1#1), ∀ a x, ((![v755] : Fin 1 → IVec S16 32) a x).toNat < S18816.size a)
theorem k0_idx458_inb : ∀ (i : grid0.Coords) (v10 : BitVec 32) (v755 : IVec S16 32) (k0_hw484 : k0_chk484 i v10 v755), ∀ (k0_h2 : k0_cond2 i v10 = 1#1), ∀ a x, ((![v755] : Fin 1 → IVec S16 32) a x).toNat < S18816.size a := fun i v10 v755 k0_hw484 k0_h2 => k0_hw484 k0_h2

def k0_chk485 (i : grid0.Coords) (v10 : BitVec 32) (v760 : IVec S16 32) : Prop :=
  (∀ (k0_h2 : k0_cond2 i v10 = 1#1), ∀ a x, ((![v760] : Fin 1 → IVec S16 32) a x).toNat < S18816.size a)
theorem k0_idx459_inb : ∀ (i : grid0.Coords) (v10 : BitVec 32) (v760 : IVec S16 32) (k0_hw485 : k0_chk485 i v10 v760), ∀ (k0_h2 : k0_cond2 i v10 = 1#1), ∀ a x, ((![v760] : Fin 1 → IVec S16 32) a x).toNat < S18816.size a := fun i v10 v760 k0_hw485 k0_h2 => k0_hw485 k0_h2

def k0_chk486 (i : grid0.Coords) (v10 : BitVec 32) (v765 : IVec S16 32) : Prop :=
  (∀ (k0_h2 : k0_cond2 i v10 = 1#1), ∀ a x, ((![v765] : Fin 1 → IVec S16 32) a x).toNat < S18816.size a)
theorem k0_idx460_inb : ∀ (i : grid0.Coords) (v10 : BitVec 32) (v765 : IVec S16 32) (k0_hw486 : k0_chk486 i v10 v765), ∀ (k0_h2 : k0_cond2 i v10 = 1#1), ∀ a x, ((![v765] : Fin 1 → IVec S16 32) a x).toNat < S18816.size a := fun i v10 v765 k0_hw486 k0_h2 => k0_hw486 k0_h2

def k0_chk487 (i : grid0.Coords) (v10 : BitVec 32) (v770 : IVec S16 32) : Prop :=
  (∀ (k0_h2 : k0_cond2 i v10 = 1#1), ∀ a x, ((![v770] : Fin 1 → IVec S16 32) a x).toNat < S18816.size a)
theorem k0_idx461_inb : ∀ (i : grid0.Coords) (v10 : BitVec 32) (v770 : IVec S16 32) (k0_hw487 : k0_chk487 i v10 v770), ∀ (k0_h2 : k0_cond2 i v10 = 1#1), ∀ a x, ((![v770] : Fin 1 → IVec S16 32) a x).toNat < S18816.size a := fun i v10 v770 k0_hw487 k0_h2 => k0_hw487 k0_h2

def k0_chk488 (i : grid0.Coords) (v10 : BitVec 32) (v775 : IVec S16 32) : Prop :=
  (∀ (k0_h2 : k0_cond2 i v10 = 1#1), ∀ a x, ((![v775] : Fin 1 → IVec S16 32) a x).toNat < S18816.size a)
theorem k0_idx462_inb : ∀ (i : grid0.Coords) (v10 : BitVec 32) (v775 : IVec S16 32) (k0_hw488 : k0_chk488 i v10 v775), ∀ (k0_h2 : k0_cond2 i v10 = 1#1), ∀ a x, ((![v775] : Fin 1 → IVec S16 32) a x).toNat < S18816.size a := fun i v10 v775 k0_hw488 k0_h2 => k0_hw488 k0_h2

def k0_chk489 (i : grid0.Coords) (v10 : BitVec 32) (v780 : IVec S16 32) : Prop :=
  (∀ (k0_h2 : k0_cond2 i v10 = 1#1), ∀ a x, ((![v780] : Fin 1 → IVec S16 32) a x).toNat < S18816.size a)
theorem k0_idx463_inb : ∀ (i : grid0.Coords) (v10 : BitVec 32) (v780 : IVec S16 32) (k0_hw489 : k0_chk489 i v10 v780), ∀ (k0_h2 : k0_cond2 i v10 = 1#1), ∀ a x, ((![v780] : Fin 1 → IVec S16 32) a x).toNat < S18816.size a := fun i v10 v780 k0_hw489 k0_h2 => k0_hw489 k0_h2

def k0_chk490 (i : grid0.Coords) (v10 : BitVec 32) (v785 : IVec S16 32) : Prop :=
  (∀ (k0_h2 : k0_cond2 i v10 = 1#1), ∀ a x, ((![v785] : Fin 1 → IVec S16 32) a x).toNat < S18816.size a)
theorem k0_idx464_inb : ∀ (i : grid0.Coords) (v10 : BitVec 32) (v785 : IVec S16 32) (k0_hw490 : k0_chk490 i v10 v785), ∀ (k0_h2 : k0_cond2 i v10 = 1#1), ∀ a x, ((![v785] : Fin 1 → IVec S16 32) a x).toNat < S18816.size a := fun i v10 v785 k0_hw490 k0_h2 => k0_hw490 k0_h2

def k0_chk491 (i : grid0.Coords) (v10 : BitVec 32) (v790 : IVec S16 32) : Prop :=
  (∀ (k0_h2 : k0_cond2 i v10 = 1#1), ∀ a x, ((![v790] : Fin 1 → IVec S16 32) a x).toNat < S18816.size a)
theorem k0_idx465_inb : ∀ (i : grid0.Coords) (v10 : BitVec 32) (v790 : IVec S16 32) (k0_hw491 : k0_chk491 i v10 v790), ∀ (k0_h2 : k0_cond2 i v10 = 1#1), ∀ a x, ((![v790] : Fin 1 → IVec S16 32) a x).toNat < S18816.size a := fun i v10 v790 k0_hw491 k0_h2 => k0_hw491 k0_h2

def k0_chk492 (i : grid0.Coords) (v10 : BitVec 32) (v795 : IVec S16 32) : Prop :=
  (∀ (k0_h2 : k0_cond2 i v10 = 1#1), ∀ a x, ((![v795] : Fin 1 → IVec S16 32) a x).toNat < S18816.size a)
theorem k0_idx466_inb : ∀ (i : grid0.Coords) (v10 : BitVec 32) (v795 : IVec S16 32) (k0_hw492 : k0_chk492 i v10 v795), ∀ (k0_h2 : k0_cond2 i v10 = 1#1), ∀ a x, ((![v795] : Fin 1 → IVec S16 32) a x).toNat < S18816.size a := fun i v10 v795 k0_hw492 k0_h2 => k0_hw492 k0_h2

def k0_chk493 (i : grid0.Coords) (v10 : BitVec 32) (v800 : IVec S16 32) : Prop :=
  (∀ (k0_h2 : k0_cond2 i v10 = 1#1), ∀ a x, ((![v800] : Fin 1 → IVec S16 32) a x).toNat < S18816.size a)
theorem k0_idx467_inb : ∀ (i : grid0.Coords) (v10 : BitVec 32) (v800 : IVec S16 32) (k0_hw493 : k0_chk493 i v10 v800), ∀ (k0_h2 : k0_cond2 i v10 = 1#1), ∀ a x, ((![v800] : Fin 1 → IVec S16 32) a x).toNat < S18816.size a := fun i v10 v800 k0_hw493 k0_h2 => k0_hw493 k0_h2

def k0_chk494 (i : grid0.Coords) (v10 : BitVec 32) (v805 : IVec S16 32) : Prop :=
  (∀ (k0_h2 : k0_cond2 i v10 = 1#1), ∀ a x, ((![v805] : Fin 1 → IVec S16 32) a x).toNat < S18816.size a)
theorem k0_idx468_inb : ∀ (i : grid0.Coords) (v10 : BitVec 32) (v805 : IVec S16 32) (k0_hw494 : k0_chk494 i v10 v805), ∀ (k0_h2 : k0_cond2 i v10 = 1#1), ∀ a x, ((![v805] : Fin 1 → IVec S16 32) a x).toNat < S18816.size a := fun i v10 v805 k0_hw494 k0_h2 => k0_hw494 k0_h2

def k0_chk495 (i : grid0.Coords) (v10 : BitVec 32) (v810 : IVec S16 32) : Prop :=
  (∀ (k0_h2 : k0_cond2 i v10 = 1#1), ∀ a x, ((![v810] : Fin 1 → IVec S16 32) a x).toNat < S18816.size a)
theorem k0_idx469_inb : ∀ (i : grid0.Coords) (v10 : BitVec 32) (v810 : IVec S16 32) (k0_hw495 : k0_chk495 i v10 v810), ∀ (k0_h2 : k0_cond2 i v10 = 1#1), ∀ a x, ((![v810] : Fin 1 → IVec S16 32) a x).toNat < S18816.size a := fun i v10 v810 k0_hw495 k0_h2 => k0_hw495 k0_h2

def k0_chk496 (i : grid0.Coords) (v10 : BitVec 32) (v815 : IVec S16 32) : Prop :=
  (∀ (k0_h2 : k0_cond2 i v10 = 1#1), ∀ a x, ((![v815] : Fin 1 → IVec S16 32) a x).toNat < S18816.size a)
theorem k0_idx470_inb : ∀ (i : grid0.Coords) (v10 : BitVec 32) (v815 : IVec S16 32) (k0_hw496 : k0_chk496 i v10 v815), ∀ (k0_h2 : k0_cond2 i v10 = 1#1), ∀ a x, ((![v815] : Fin 1 → IVec S16 32) a x).toNat < S18816.size a := fun i v10 v815 k0_hw496 k0_h2 => k0_hw496 k0_h2

def k0_chk497 (i : grid0.Coords) (v10 : BitVec 32) (v820 : IVec S16 32) : Prop :=
  (∀ (k0_h2 : k0_cond2 i v10 = 1#1), ∀ a x, ((![v820] : Fin 1 → IVec S16 32) a x).toNat < S18816.size a)
theorem k0_idx471_inb : ∀ (i : grid0.Coords) (v10 : BitVec 32) (v820 : IVec S16 32) (k0_hw497 : k0_chk497 i v10 v820), ∀ (k0_h2 : k0_cond2 i v10 = 1#1), ∀ a x, ((![v820] : Fin 1 → IVec S16 32) a x).toNat < S18816.size a := fun i v10 v820 k0_hw497 k0_h2 => k0_hw497 k0_h2

def k0_chk498 (i : grid0.Coords) (v10 : BitVec 32) (v825 : IVec S16 32) : Prop :=
  (∀ (k0_h2 : k0_cond2 i v10 = 1#1), ∀ a x, ((![v825] : Fin 1 → IVec S16 32) a x).toNat < S18816.size a)
theorem k0_idx472_inb : ∀ (i : grid0.Coords) (v10 : BitVec 32) (v825 : IVec S16 32) (k0_hw498 : k0_chk498 i v10 v825), ∀ (k0_h2 : k0_cond2 i v10 = 1#1), ∀ a x, ((![v825] : Fin 1 → IVec S16 32) a x).toNat < S18816.size a := fun i v10 v825 k0_hw498 k0_h2 => k0_hw498 k0_h2

def k0_chk499 (i : grid0.Coords) (v10 : BitVec 32) (v830 : IVec S16 32) : Prop :=
  (∀ (k0_h2 : k0_cond2 i v10 = 1#1), ∀ a x, ((![v830] : Fin 1 → IVec S16 32) a x).toNat < S18816.size a)
theorem k0_idx473_inb : ∀ (i : grid0.Coords) (v10 : BitVec 32) (v830 : IVec S16 32) (k0_hw499 : k0_chk499 i v10 v830), ∀ (k0_h2 : k0_cond2 i v10 = 1#1), ∀ a x, ((![v830] : Fin 1 → IVec S16 32) a x).toNat < S18816.size a := fun i v10 v830 k0_hw499 k0_h2 => k0_hw499 k0_h2

def k0_chk500 (i : grid0.Coords) (v10 : BitVec 32) (v835 : IVec S16 32) : Prop :=
  (∀ (k0_h2 : k0_cond2 i v10 = 1#1), ∀ a x, ((![v835] : Fin 1 → IVec S16 32) a x).toNat < S18816.size a)
theorem k0_idx474_inb : ∀ (i : grid0.Coords) (v10 : BitVec 32) (v835 : IVec S16 32) (k0_hw500 : k0_chk500 i v10 v835), ∀ (k0_h2 : k0_cond2 i v10 = 1#1), ∀ a x, ((![v835] : Fin 1 → IVec S16 32) a x).toNat < S18816.size a := fun i v10 v835 k0_hw500 k0_h2 => k0_hw500 k0_h2

def k0_chk501 (i : grid0.Coords) (v10 : BitVec 32) (v840 : IVec S16 32) : Prop :=
  (∀ (k0_h2 : k0_cond2 i v10 = 1#1), ∀ a x, ((![v840] : Fin 1 → IVec S16 32) a x).toNat < S18816.size a)
theorem k0_idx475_inb : ∀ (i : grid0.Coords) (v10 : BitVec 32) (v840 : IVec S16 32) (k0_hw501 : k0_chk501 i v10 v840), ∀ (k0_h2 : k0_cond2 i v10 = 1#1), ∀ a x, ((![v840] : Fin 1 → IVec S16 32) a x).toNat < S18816.size a := fun i v10 v840 k0_hw501 k0_h2 => k0_hw501 k0_h2

def k0_chk502 (i : grid0.Coords) (v10 : BitVec 32) (v845 : IVec S16 32) : Prop :=
  (∀ (k0_h2 : k0_cond2 i v10 = 1#1), ∀ a x, ((![v845] : Fin 1 → IVec S16 32) a x).toNat < S18816.size a)
theorem k0_idx476_inb : ∀ (i : grid0.Coords) (v10 : BitVec 32) (v845 : IVec S16 32) (k0_hw502 : k0_chk502 i v10 v845), ∀ (k0_h2 : k0_cond2 i v10 = 1#1), ∀ a x, ((![v845] : Fin 1 → IVec S16 32) a x).toNat < S18816.size a := fun i v10 v845 k0_hw502 k0_h2 => k0_hw502 k0_h2

def k0_chk503 (i : grid0.Coords) (v10 : BitVec 32) (v850 : IVec S16 32) : Prop :=
  (∀ (k0_h2 : k0_cond2 i v10 = 1#1), ∀ a x, ((![v850] : Fin 1 → IVec S16 32) a x).toNat < S18816.size a)
theorem k0_idx477_inb : ∀ (i : grid0.Coords) (v10 : BitVec 32) (v850 : IVec S16 32) (k0_hw503 : k0_chk503 i v10 v850), ∀ (k0_h2 : k0_cond2 i v10 = 1#1), ∀ a x, ((![v850] : Fin 1 → IVec S16 32) a x).toNat < S18816.size a := fun i v10 v850 k0_hw503 k0_h2 => k0_hw503 k0_h2

def k0_chk504 (i : grid0.Coords) (v10 : BitVec 32) (v855 : IVec S16 32) : Prop :=
  (∀ (k0_h2 : k0_cond2 i v10 = 1#1), ∀ a x, ((![v855] : Fin 1 → IVec S16 32) a x).toNat < S18816.size a)
theorem k0_idx478_inb : ∀ (i : grid0.Coords) (v10 : BitVec 32) (v855 : IVec S16 32) (k0_hw504 : k0_chk504 i v10 v855), ∀ (k0_h2 : k0_cond2 i v10 = 1#1), ∀ a x, ((![v855] : Fin 1 → IVec S16 32) a x).toNat < S18816.size a := fun i v10 v855 k0_hw504 k0_h2 => k0_hw504 k0_h2

def k0_chk505 (i : grid0.Coords) (v10 : BitVec 32) (v860 : IVec S16 32) : Prop :=
  (∀ (k0_h2 : k0_cond2 i v10 = 1#1), ∀ a x, ((![v860] : Fin 1 → IVec S16 32) a x).toNat < S18816.size a)
theorem k0_idx479_inb : ∀ (i : grid0.Coords) (v10 : BitVec 32) (v860 : IVec S16 32) (k0_hw505 : k0_chk505 i v10 v860), ∀ (k0_h2 : k0_cond2 i v10 = 1#1), ∀ a x, ((![v860] : Fin 1 → IVec S16 32) a x).toNat < S18816.size a := fun i v10 v860 k0_hw505 k0_h2 => k0_hw505 k0_h2

def k0_chk506 (i : grid0.Coords) (v10 : BitVec 32) (v865 : IVec S16 32) : Prop :=
  (∀ (k0_h2 : k0_cond2 i v10 = 1#1), ∀ a x, ((![v865] : Fin 1 → IVec S16 32) a x).toNat < S18816.size a)
theorem k0_idx480_inb : ∀ (i : grid0.Coords) (v10 : BitVec 32) (v865 : IVec S16 32) (k0_hw506 : k0_chk506 i v10 v865), ∀ (k0_h2 : k0_cond2 i v10 = 1#1), ∀ a x, ((![v865] : Fin 1 → IVec S16 32) a x).toNat < S18816.size a := fun i v10 v865 k0_hw506 k0_h2 => k0_hw506 k0_h2
@[reducible] def k0_t128_loop (v41 : BitVec 32) (v43 : BitVec 32) : Scf.Loop 32 :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_323 : BitVec 32 := 1#32
  ⟨v41, v875, c1_i32_323⟩
@[reducible] def k0_t129_loop (v867 : BitVec 32) (v869 : BitVec 32) : Scf.Loop 32 :=
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_375 : BitVec 32 := 1#32
  ⟨v867, v1008, c1_i32_375⟩

def k0_off1931 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1012 : Index := Scalar.indexCast v1011
  let c0_377 : Index := 0#32
  ![v1012.toNat, 0]
def k0_off1932 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1015 : Index := Scalar.indexCast v1011
  let c16 : Index := 16#32
  ![v1015.toNat, 16]
def k0_off1933 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1018 : Index := Scalar.indexCast v1011
  let c32 : Index := 32#32
  ![v1018.toNat, 32]
def k0_off1934 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1021 : Index := Scalar.indexCast v1011
  let c48 : Index := 48#32
  ![v1021.toNat, 48]
def k0_off1935 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1024 : Index := Scalar.indexCast v1011
  let c64 : Index := 64#32
  ![v1024.toNat, 64]
def k0_off1936 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1027 : Index := Scalar.indexCast v1011
  let c80 : Index := 80#32
  ![v1027.toNat, 80]
def k0_off1937 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1030 : Index := Scalar.indexCast v1011
  let c96 : Index := 96#32
  ![v1030.toNat, 96]
def k0_off1938 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1033 : Index := Scalar.indexCast v1011
  let c112 : Index := 112#32
  ![v1033.toNat, 112]
def k0_off1939 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1036 : Index := Scalar.indexCast v1011
  let c128 : Index := 128#32
  ![v1036.toNat, 128]
def k0_off1940 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1039 : Index := Scalar.indexCast v1011
  let c144 : Index := 144#32
  ![v1039.toNat, 144]
def k0_off1941 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1042 : Index := Scalar.indexCast v1011
  let c160 : Index := 160#32
  ![v1042.toNat, 160]
def k0_off1942 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1045 : Index := Scalar.indexCast v1011
  let c176 : Index := 176#32
  ![v1045.toNat, 176]
def k0_off1943 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1048 : Index := Scalar.indexCast v1011
  let c192 : Index := 192#32
  ![v1048.toNat, 192]
def k0_off1944 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1051 : Index := Scalar.indexCast v1011
  let c208 : Index := 208#32
  ![v1051.toNat, 208]
def k0_off1945 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1054 : Index := Scalar.indexCast v1011
  let c224 : Index := 224#32
  ![v1054.toNat, 224]
def k0_off1946 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1057 : Index := Scalar.indexCast v1011
  let c240 : Index := 240#32
  ![v1057.toNat, 240]
def k0_off1947 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1060 : Index := Scalar.indexCast v1011
  let c256 : Index := 256#32
  ![v1060.toNat, 256]
def k0_off1948 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1063 : Index := Scalar.indexCast v1011
  let c272 : Index := 272#32
  ![v1063.toNat, 272]
def k0_off1949 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1066 : Index := Scalar.indexCast v1011
  let c288 : Index := 288#32
  ![v1066.toNat, 288]
def k0_off1950 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1069 : Index := Scalar.indexCast v1011
  let c304 : Index := 304#32
  ![v1069.toNat, 304]
def k0_off1951 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1072 : Index := Scalar.indexCast v1011
  let c320 : Index := 320#32
  ![v1072.toNat, 320]
def k0_off1952 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1075 : Index := Scalar.indexCast v1011
  let c336 : Index := 336#32
  ![v1075.toNat, 336]
def k0_off1953 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1078 : Index := Scalar.indexCast v1011
  let c352 : Index := 352#32
  ![v1078.toNat, 352]
def k0_off1954 (v41 : BitVec 32) (v43 : BitVec 32) (v867 : BitVec 32) (v869 : BitVec 32) (k0_t128 : Fin (k0_t128_loop v41 v43).trips) (k0_t129 : Fin (k0_t129_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let c1_i32_375 : BitVec 32 := 1#32
  let arg36 : BitVec 32 := Scf.iv v867 c1_i32_375 k0_t129
  let v1011 : BitVec 32 := Scalar.addi v1003 arg36
  let v1081 : Index := Scalar.indexCast v1011
  let c368 : Index := 368#32
  ![v1081.toNat, 368]
@[reducible] def k0_t130_loop (v867 : BitVec 32) (v869 : BitVec 32) : Scf.Loop 32 :=
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let v1005 : BitVec 32 := Scalar.addi v867 v1004
  let c1_i32_376 : BitVec 32 := 1#32
  ⟨v1008, v1005, c1_i32_376⟩
def k0_off1955 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1012 : Index := Scalar.indexCast v1011
  let c0_377 : Index := 0#32
  ![v1012.toNat, 0]
def k0_off1956 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1015 : Index := Scalar.indexCast v1011
  let c16 : Index := 16#32
  ![v1015.toNat, 16]
def k0_off1957 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1018 : Index := Scalar.indexCast v1011
  let c32 : Index := 32#32
  ![v1018.toNat, 32]
def k0_off1958 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1021 : Index := Scalar.indexCast v1011
  let c48 : Index := 48#32
  ![v1021.toNat, 48]
def k0_off1959 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1024 : Index := Scalar.indexCast v1011
  let c64 : Index := 64#32
  ![v1024.toNat, 64]
def k0_off1960 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1027 : Index := Scalar.indexCast v1011
  let c80 : Index := 80#32
  ![v1027.toNat, 80]
def k0_off1961 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1030 : Index := Scalar.indexCast v1011
  let c96 : Index := 96#32
  ![v1030.toNat, 96]
def k0_off1962 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1033 : Index := Scalar.indexCast v1011
  let c112 : Index := 112#32
  ![v1033.toNat, 112]
def k0_off1963 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1036 : Index := Scalar.indexCast v1011
  let c128 : Index := 128#32
  ![v1036.toNat, 128]
def k0_off1964 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1039 : Index := Scalar.indexCast v1011
  let c144 : Index := 144#32
  ![v1039.toNat, 144]
def k0_off1965 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1042 : Index := Scalar.indexCast v1011
  let c160 : Index := 160#32
  ![v1042.toNat, 160]
def k0_off1966 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1045 : Index := Scalar.indexCast v1011
  let c176 : Index := 176#32
  ![v1045.toNat, 176]
def k0_off1967 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1048 : Index := Scalar.indexCast v1011
  let c192 : Index := 192#32
  ![v1048.toNat, 192]
def k0_off1968 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1051 : Index := Scalar.indexCast v1011
  let c208 : Index := 208#32
  ![v1051.toNat, 208]
def k0_off1969 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1054 : Index := Scalar.indexCast v1011
  let c224 : Index := 224#32
  ![v1054.toNat, 224]
def k0_off1970 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1057 : Index := Scalar.indexCast v1011
  let c240 : Index := 240#32
  ![v1057.toNat, 240]
def k0_off1971 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1060 : Index := Scalar.indexCast v1011
  let c256 : Index := 256#32
  ![v1060.toNat, 256]
def k0_off1972 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1063 : Index := Scalar.indexCast v1011
  let c272 : Index := 272#32
  ![v1063.toNat, 272]
def k0_off1973 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1066 : Index := Scalar.indexCast v1011
  let c288 : Index := 288#32
  ![v1066.toNat, 288]
def k0_off1974 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1069 : Index := Scalar.indexCast v1011
  let c304 : Index := 304#32
  ![v1069.toNat, 304]
def k0_off1975 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1072 : Index := Scalar.indexCast v1011
  let c320 : Index := 320#32
  ![v1072.toNat, 320]
def k0_off1976 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1075 : Index := Scalar.indexCast v1011
  let c336 : Index := 336#32
  ![v1075.toNat, 336]
def k0_off1977 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1078 : Index := Scalar.indexCast v1011
  let c352 : Index := 352#32
  ![v1078.toNat, 352]
def k0_off1978 (v41 : BitVec 32) (v43 : BitVec 32) (v867 : BitVec 32) (v869 : BitVec 32) (k0_t128 : Fin (k0_t128_loop v41 v43).trips) (k0_t130 : Fin (k0_t130_loop v867 v869).trips) : Fin 2 → Nat :=
  let c1_i32_323 : BitVec 32 := 1#32
  let arg11 : BitVec 32 := Scf.iv v41 c1_i32_323 k0_t128
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t130
  let v1011 : BitVec 32 := Scalar.addi v1003 arg36
  let v1081 : Index := Scalar.indexCast v1011
  let c368 : Index := 368#32
  ![v1081.toNat, 368]
@[reducible] def k0_t131_loop (v41 : BitVec 32) (v43 : BitVec 32) : Scf.Loop 32 :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let v872 : BitVec 32 := Scalar.addi v41 v871
  let c1_i32_324 : BitVec 32 := 1#32
  ⟨v875, v872, c1_i32_324⟩

def k0_chk356 (i : grid0.Coords) (v10 : BitVec 32) (v41 : BitVec 32) (v43 : BitVec 32) : Prop :=
  (∀ (k0_h2 : k0_cond2 i v10 = 1#1), (k0_t92_loop v41 v43).OK) ∧
  (∀ (k0_h2 : k0_cond2 i v10 = 1#1), (k0_t95_loop v41 v43).OK) ∧
  (∀ (k0_h2 : k0_cond2 i v10 = 1#1), (k0_t98_loop v41 v43).OK) ∧
  (∀ (k0_h2 : k0_cond2 i v10 = 1#1), (k0_t101_loop v41 v43).OK) ∧
  (∀ (k0_h2 : k0_cond2 i v10 = 1#1), (k0_t104_loop v41 v43).OK) ∧
  (∀ (k0_h2 : k0_cond2 i v10 = 1#1), (k0_t107_loop v41 v43).OK) ∧
  (∀ (k0_h2 : k0_cond2 i v10 = 1#1), (k0_t110_loop v41 v43).OK) ∧
  (∀ (k0_h2 : k0_cond2 i v10 = 1#1), (k0_t113_loop v41 v43).OK) ∧
  (∀ (k0_h2 : k0_cond2 i v10 = 1#1), (k0_t116_loop v41 v43).OK) ∧
  (∀ (k0_h2 : k0_cond2 i v10 = 1#1), (k0_t119_loop v41 v43).OK) ∧
  (∀ (k0_h2 : k0_cond2 i v10 = 1#1), (k0_t122_loop v41 v43).OK) ∧
  (∀ (k0_h2 : k0_cond2 i v10 = 1#1), (k0_t125_loop v41 v43).OK) ∧
  (∀ (k0_h2 : k0_cond2 i v10 = 1#1), (k0_t128_loop v41 v43).OK) ∧
  (∀ (k0_h2 : k0_cond2 i v10 = 1#1), (k0_t131_loop v41 v43).OK)
theorem k0_t92_ok : ∀ (i : grid0.Coords) (v10 : BitVec 32) (v41 : BitVec 32) (v43 : BitVec 32) (k0_hw356 : k0_chk356 i v10 v41 v43), ∀ (k0_h2 : k0_cond2 i v10 = 1#1), (k0_t92_loop v41 v43).OK := fun i v10 v41 v43 k0_hw356 k0_h2 => k0_hw356.1 k0_h2
theorem k0_t95_ok : ∀ (i : grid0.Coords) (v10 : BitVec 32) (v41 : BitVec 32) (v43 : BitVec 32) (k0_hw356 : k0_chk356 i v10 v41 v43), ∀ (k0_h2 : k0_cond2 i v10 = 1#1), (k0_t95_loop v41 v43).OK := fun i v10 v41 v43 k0_hw356 k0_h2 => k0_hw356.2.1 k0_h2
theorem k0_t98_ok : ∀ (i : grid0.Coords) (v10 : BitVec 32) (v41 : BitVec 32) (v43 : BitVec 32) (k0_hw356 : k0_chk356 i v10 v41 v43), ∀ (k0_h2 : k0_cond2 i v10 = 1#1), (k0_t98_loop v41 v43).OK := fun i v10 v41 v43 k0_hw356 k0_h2 => k0_hw356.2.2.1 k0_h2
theorem k0_t101_ok : ∀ (i : grid0.Coords) (v10 : BitVec 32) (v41 : BitVec 32) (v43 : BitVec 32) (k0_hw356 : k0_chk356 i v10 v41 v43), ∀ (k0_h2 : k0_cond2 i v10 = 1#1), (k0_t101_loop v41 v43).OK := fun i v10 v41 v43 k0_hw356 k0_h2 => k0_hw356.2.2.2.1 k0_h2
theorem k0_t104_ok : ∀ (i : grid0.Coords) (v10 : BitVec 32) (v41 : BitVec 32) (v43 : BitVec 32) (k0_hw356 : k0_chk356 i v10 v41 v43), ∀ (k0_h2 : k0_cond2 i v10 = 1#1), (k0_t104_loop v41 v43).OK := fun i v10 v41 v43 k0_hw356 k0_h2 => k0_hw356.2.2.2.2.1 k0_h2
theorem k0_t107_ok : ∀ (i : grid0.Coords) (v10 : BitVec 32) (v41 : BitVec 32) (v43 : BitVec 32) (k0_hw356 : k0_chk356 i v10 v41 v43), ∀ (k0_h2 : k0_cond2 i v10 = 1#1), (k0_t107_loop v41 v43).OK := fun i v10 v41 v43 k0_hw356 k0_h2 => k0_hw356.2.2.2.2.2.1 k0_h2
theorem k0_t110_ok : ∀ (i : grid0.Coords) (v10 : BitVec 32) (v41 : BitVec 32) (v43 : BitVec 32) (k0_hw356 : k0_chk356 i v10 v41 v43), ∀ (k0_h2 : k0_cond2 i v10 = 1#1), (k0_t110_loop v41 v43).OK := fun i v10 v41 v43 k0_hw356 k0_h2 => k0_hw356.2.2.2.2.2.2.1 k0_h2
theorem k0_t113_ok : ∀ (i : grid0.Coords) (v10 : BitVec 32) (v41 : BitVec 32) (v43 : BitVec 32) (k0_hw356 : k0_chk356 i v10 v41 v43), ∀ (k0_h2 : k0_cond2 i v10 = 1#1), (k0_t113_loop v41 v43).OK := fun i v10 v41 v43 k0_hw356 k0_h2 => k0_hw356.2.2.2.2.2.2.2.1 k0_h2
theorem k0_t116_ok : ∀ (i : grid0.Coords) (v10 : BitVec 32) (v41 : BitVec 32) (v43 : BitVec 32) (k0_hw356 : k0_chk356 i v10 v41 v43), ∀ (k0_h2 : k0_cond2 i v10 = 1#1), (k0_t116_loop v41 v43).OK := fun i v10 v41 v43 k0_hw356 k0_h2 => k0_hw356.2.2.2.2.2.2.2.2.1 k0_h2
theorem k0_t119_ok : ∀ (i : grid0.Coords) (v10 : BitVec 32) (v41 : BitVec 32) (v43 : BitVec 32) (k0_hw356 : k0_chk356 i v10 v41 v43), ∀ (k0_h2 : k0_cond2 i v10 = 1#1), (k0_t119_loop v41 v43).OK := fun i v10 v41 v43 k0_hw356 k0_h2 => k0_hw356.2.2.2.2.2.2.2.2.2.1 k0_h2
theorem k0_t122_ok : ∀ (i : grid0.Coords) (v10 : BitVec 32) (v41 : BitVec 32) (v43 : BitVec 32) (k0_hw356 : k0_chk356 i v10 v41 v43), ∀ (k0_h2 : k0_cond2 i v10 = 1#1), (k0_t122_loop v41 v43).OK := fun i v10 v41 v43 k0_hw356 k0_h2 => k0_hw356.2.2.2.2.2.2.2.2.2.2.1 k0_h2
theorem k0_t125_ok : ∀ (i : grid0.Coords) (v10 : BitVec 32) (v41 : BitVec 32) (v43 : BitVec 32) (k0_hw356 : k0_chk356 i v10 v41 v43), ∀ (k0_h2 : k0_cond2 i v10 = 1#1), (k0_t125_loop v41 v43).OK := fun i v10 v41 v43 k0_hw356 k0_h2 => k0_hw356.2.2.2.2.2.2.2.2.2.2.2.1 k0_h2
theorem k0_t128_ok : ∀ (i : grid0.Coords) (v10 : BitVec 32) (v41 : BitVec 32) (v43 : BitVec 32) (k0_hw356 : k0_chk356 i v10 v41 v43), ∀ (k0_h2 : k0_cond2 i v10 = 1#1), (k0_t128_loop v41 v43).OK := fun i v10 v41 v43 k0_hw356 k0_h2 => k0_hw356.2.2.2.2.2.2.2.2.2.2.2.2.1 k0_h2
theorem k0_t131_ok : ∀ (i : grid0.Coords) (v10 : BitVec 32) (v41 : BitVec 32) (v43 : BitVec 32) (k0_hw356 : k0_chk356 i v10 v41 v43), ∀ (k0_h2 : k0_cond2 i v10 = 1#1), (k0_t131_loop v41 v43).OK := fun i v10 v41 v43 k0_hw356 k0_h2 => k0_hw356.2.2.2.2.2.2.2.2.2.2.2.2.2 k0_h2

@[reducible] def k0_t132_loop (v867 : BitVec 32) (v869 : BitVec 32) : Scf.Loop 32 :=
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_375 : BitVec 32 := 1#32
  ⟨v867, v1008, c1_i32_375⟩
def k0_off1979 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1012 : Index := Scalar.indexCast v1011
  let c0_377 : Index := 0#32
  ![v1012.toNat, 0]
def k0_off1980 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1015 : Index := Scalar.indexCast v1011
  let c16 : Index := 16#32
  ![v1015.toNat, 16]
def k0_off1981 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1018 : Index := Scalar.indexCast v1011
  let c32 : Index := 32#32
  ![v1018.toNat, 32]
def k0_off1982 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1021 : Index := Scalar.indexCast v1011
  let c48 : Index := 48#32
  ![v1021.toNat, 48]
def k0_off1983 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1024 : Index := Scalar.indexCast v1011
  let c64 : Index := 64#32
  ![v1024.toNat, 64]
def k0_off1984 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1027 : Index := Scalar.indexCast v1011
  let c80 : Index := 80#32
  ![v1027.toNat, 80]
def k0_off1985 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1030 : Index := Scalar.indexCast v1011
  let c96 : Index := 96#32
  ![v1030.toNat, 96]
def k0_off1986 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1033 : Index := Scalar.indexCast v1011
  let c112 : Index := 112#32
  ![v1033.toNat, 112]
def k0_off1987 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1036 : Index := Scalar.indexCast v1011
  let c128 : Index := 128#32
  ![v1036.toNat, 128]
def k0_off1988 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1039 : Index := Scalar.indexCast v1011
  let c144 : Index := 144#32
  ![v1039.toNat, 144]
def k0_off1989 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1042 : Index := Scalar.indexCast v1011
  let c160 : Index := 160#32
  ![v1042.toNat, 160]
def k0_off1990 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1045 : Index := Scalar.indexCast v1011
  let c176 : Index := 176#32
  ![v1045.toNat, 176]
def k0_off1991 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1048 : Index := Scalar.indexCast v1011
  let c192 : Index := 192#32
  ![v1048.toNat, 192]
def k0_off1992 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1051 : Index := Scalar.indexCast v1011
  let c208 : Index := 208#32
  ![v1051.toNat, 208]
def k0_off1993 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1054 : Index := Scalar.indexCast v1011
  let c224 : Index := 224#32
  ![v1054.toNat, 224]
def k0_off1994 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1057 : Index := Scalar.indexCast v1011
  let c240 : Index := 240#32
  ![v1057.toNat, 240]
def k0_off1995 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1060 : Index := Scalar.indexCast v1011
  let c256 : Index := 256#32
  ![v1060.toNat, 256]
def k0_off1996 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1063 : Index := Scalar.indexCast v1011
  let c272 : Index := 272#32
  ![v1063.toNat, 272]
def k0_off1997 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1066 : Index := Scalar.indexCast v1011
  let c288 : Index := 288#32
  ![v1066.toNat, 288]
def k0_off1998 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1069 : Index := Scalar.indexCast v1011
  let c304 : Index := 304#32
  ![v1069.toNat, 304]
def k0_off1999 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1072 : Index := Scalar.indexCast v1011
  let c320 : Index := 320#32
  ![v1072.toNat, 320]
def k0_off2000 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1075 : Index := Scalar.indexCast v1011
  let c336 : Index := 336#32
  ![v1075.toNat, 336]
def k0_off2001 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1078 : Index := Scalar.indexCast v1011
  let c352 : Index := 352#32
  ![v1078.toNat, 352]
def k0_off2002 (v41 : BitVec 32) (v43 : BitVec 32) (v867 : BitVec 32) (v869 : BitVec 32) (k0_t131 : Fin (k0_t131_loop v41 v43).trips) (k0_t132 : Fin (k0_t132_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let c1_i32_375 : BitVec 32 := 1#32
  let arg36 : BitVec 32 := Scf.iv v867 c1_i32_375 k0_t132
  let v1011 : BitVec 32 := Scalar.addi v1003 arg36
  let v1081 : Index := Scalar.indexCast v1011
  let c368 : Index := 368#32
  ![v1081.toNat, 368]
@[reducible] def k0_t133_loop (v867 : BitVec 32) (v869 : BitVec 32) : Scf.Loop 32 :=
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let v1005 : BitVec 32 := Scalar.addi v867 v1004
  let c1_i32_376 : BitVec 32 := 1#32
  ⟨v1008, v1005, c1_i32_376⟩
def k0_off2003 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1012 : Index := Scalar.indexCast v1011
  let c0_377 : Index := 0#32
  ![v1012.toNat, 0]
def k0_off2004 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1015 : Index := Scalar.indexCast v1011
  let c16 : Index := 16#32
  ![v1015.toNat, 16]
def k0_off2005 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1018 : Index := Scalar.indexCast v1011
  let c32 : Index := 32#32
  ![v1018.toNat, 32]
def k0_off2006 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1021 : Index := Scalar.indexCast v1011
  let c48 : Index := 48#32
  ![v1021.toNat, 48]
def k0_off2007 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1024 : Index := Scalar.indexCast v1011
  let c64 : Index := 64#32
  ![v1024.toNat, 64]
def k0_off2008 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1027 : Index := Scalar.indexCast v1011
  let c80 : Index := 80#32
  ![v1027.toNat, 80]
def k0_off2009 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1030 : Index := Scalar.indexCast v1011
  let c96 : Index := 96#32
  ![v1030.toNat, 96]
def k0_off2010 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1033 : Index := Scalar.indexCast v1011
  let c112 : Index := 112#32
  ![v1033.toNat, 112]
def k0_off2011 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1036 : Index := Scalar.indexCast v1011
  let c128 : Index := 128#32
  ![v1036.toNat, 128]
def k0_off2012 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1039 : Index := Scalar.indexCast v1011
  let c144 : Index := 144#32
  ![v1039.toNat, 144]
def k0_off2013 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1042 : Index := Scalar.indexCast v1011
  let c160 : Index := 160#32
  ![v1042.toNat, 160]
def k0_off2014 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1045 : Index := Scalar.indexCast v1011
  let c176 : Index := 176#32
  ![v1045.toNat, 176]
def k0_off2015 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1048 : Index := Scalar.indexCast v1011
  let c192 : Index := 192#32
  ![v1048.toNat, 192]
def k0_off2016 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1051 : Index := Scalar.indexCast v1011
  let c208 : Index := 208#32
  ![v1051.toNat, 208]
def k0_off2017 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1054 : Index := Scalar.indexCast v1011
  let c224 : Index := 224#32
  ![v1054.toNat, 224]
def k0_off2018 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1057 : Index := Scalar.indexCast v1011
  let c240 : Index := 240#32
  ![v1057.toNat, 240]
def k0_off2019 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1060 : Index := Scalar.indexCast v1011
  let c256 : Index := 256#32
  ![v1060.toNat, 256]
def k0_off2020 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1063 : Index := Scalar.indexCast v1011
  let c272 : Index := 272#32
  ![v1063.toNat, 272]
def k0_off2021 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1066 : Index := Scalar.indexCast v1011
  let c288 : Index := 288#32
  ![v1066.toNat, 288]
def k0_off2022 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1069 : Index := Scalar.indexCast v1011
  let c304 : Index := 304#32
  ![v1069.toNat, 304]
def k0_off2023 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1072 : Index := Scalar.indexCast v1011
  let c320 : Index := 320#32
  ![v1072.toNat, 320]
def k0_off2024 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1075 : Index := Scalar.indexCast v1011
  let c336 : Index := 336#32
  ![v1075.toNat, 336]
def k0_off2025 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1078 : Index := Scalar.indexCast v1011
  let c352 : Index := 352#32
  ![v1078.toNat, 352]
def k0_off2026 (v41 : BitVec 32) (v43 : BitVec 32) (v867 : BitVec 32) (v869 : BitVec 32) (k0_t131 : Fin (k0_t131_loop v41 v43).trips) (k0_t133 : Fin (k0_t133_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t131
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t133
  let v1011 : BitVec 32 := Scalar.addi v1003 arg36
  let v1081 : Index := Scalar.indexCast v1011
  let c368 : Index := 368#32
  ![v1081.toNat, 368]

def k0_chk507_0 (i : grid0.Coords) (v10 : BitVec 32) (v41 : BitVec 32) (v43 : BitVec 32) (v867 : BitVec 32) (v869 : BitVec 32) : Prop :=
  (∀ k0_t128 : Fin (k0_t128_loop v41 v43).trips, ∀ (k0_h2 : k0_cond2 i v10 = 1#1), (k0_t129_loop v867 v869).OK) ∧
  (∀ (k0_t128 : Fin (k0_t128_loop v41 v43).trips) (k0_t129 : Fin (k0_t129_loop v867 v869).trips), ∀ (k0_h2 : k0_cond2 i v10 = 1#1), ∀ a, (k0_off1931 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1932 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1933 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1934 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1935 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1936 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1937 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1938 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1939 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1940 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1941 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1942 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1943 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1944 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1945 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1946 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1947 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1948 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1949 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1950 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1951 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1952 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1953 v41 v43 v867 v869 k0_t128 k0_t129) a + S1x16.size a ≤ S196x384.size a) ∧
  (∀ (k0_t128 : Fin (k0_t128_loop v41 v43).trips) (k0_t129 : Fin (k0_t129_loop v867 v869).trips), ∀ (k0_h2 : k0_cond2 i v10 = 1#1), ∀ a, (k0_off1954 v41 v43 v867 v869 k0_t128 k0_t129) a + S1x16.size a ≤ S196x384.size a) ∧
  (∀ k0_t128 : Fin (k0_t128_loop v41 v43).trips, ∀ (k0_h2 : k0_cond2 i v10 = 1#1), (k0_t130_loop v867 v869).OK) ∧
  (∀ (k0_t128 : Fin (k0_t128_loop v41 v43).trips) (k0_t130 : Fin (k0_t130_loop v867 v869).trips), ∀ (k0_h2 : k0_cond2 i v10 = 1#1), ∀ a, (k0_off1955 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1956 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1957 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1958 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1959 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1960 v41 v43 v867 v869 k0_t128 k0_t130) a + S1x16.size a ≤ S196x384.size a)
def k0_chk507_1 (i : grid0.Coords) (v10 : BitVec 32) (v41 : BitVec 32) (v43 : BitVec 32) (v867 : BitVec 32) (v869 : BitVec 32) : Prop :=
  (∀ (k0_t128 : Fin (k0_t128_loop v41 v43).trips) (k0_t130 : Fin (k0_t130_loop v867 v869).trips), ∀ (k0_h2 : k0_cond2 i v10 = 1#1), ∀ a, (k0_off1961 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1962 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1963 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1964 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1965 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1966 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1967 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1968 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1969 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1970 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1971 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1972 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1973 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1974 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1975 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1976 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1977 v41 v43 v867 v869 k0_t128 k0_t130) a + S1x16.size a ≤ S196x384.size a) ∧
  (∀ (k0_t128 : Fin (k0_t128_loop v41 v43).trips) (k0_t130 : Fin (k0_t130_loop v867 v869).trips), ∀ (k0_h2 : k0_cond2 i v10 = 1#1), ∀ a, (k0_off1978 v41 v43 v867 v869 k0_t128 k0_t130) a + S1x16.size a ≤ S196x384.size a) ∧
  (∀ k0_t131 : Fin (k0_t131_loop v41 v43).trips, ∀ (k0_h2 : k0_cond2 i v10 = 1#1), (k0_t132_loop v867 v869).OK) ∧
  (∀ (k0_t131 : Fin (k0_t131_loop v41 v43).trips) (k0_t132 : Fin (k0_t132_loop v867 v869).trips), ∀ (k0_h2 : k0_cond2 i v10 = 1#1), ∀ a, (k0_off1979 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1980 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1981 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1982 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1983 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1984 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1985 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1986 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1987 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1988 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1989 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1990 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1991 v41 v43 v867 v869 k0_t131 k0_t132) a + S1x16.size a ≤ S196x384.size a)
def k0_chk507_2 (i : grid0.Coords) (v10 : BitVec 32) (v41 : BitVec 32) (v43 : BitVec 32) (v867 : BitVec 32) (v869 : BitVec 32) : Prop :=
  (∀ (k0_t131 : Fin (k0_t131_loop v41 v43).trips) (k0_t132 : Fin (k0_t132_loop v867 v869).trips), ∀ (k0_h2 : k0_cond2 i v10 = 1#1), ∀ a, (k0_off1992 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1993 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1994 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1995 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1996 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1997 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1998 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off1999 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off2000 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off2001 v41 v43 v867 v869 k0_t131 k0_t132) a + S1x16.size a ≤ S196x384.size a) ∧
  (∀ (k0_t131 : Fin (k0_t131_loop v41 v43).trips) (k0_t132 : Fin (k0_t132_loop v867 v869).trips), ∀ (k0_h2 : k0_cond2 i v10 = 1#1), ∀ a, (k0_off2002 v41 v43 v867 v869 k0_t131 k0_t132) a + S1x16.size a ≤ S196x384.size a) ∧
  (∀ k0_t131 : Fin (k0_t131_loop v41 v43).trips, ∀ (k0_h2 : k0_cond2 i v10 = 1#1), (k0_t133_loop v867 v869).OK) ∧
  (∀ (k0_t131 : Fin (k0_t131_loop v41 v43).trips) (k0_t133 : Fin (k0_t133_loop v867 v869).trips), ∀ (k0_h2 : k0_cond2 i v10 = 1#1), ∀ a, (k0_off2003 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2004 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2005 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2006 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2007 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2008 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2009 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2010 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2011 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2012 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2013 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2014 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2015 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2016 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2017 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2018 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2019 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2020 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2021 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2022 v41 v43 v867 v869 k0_t131 k0_t133) a + S1x16.size a ≤ S196x384.size a)
def k0_chk507_3 (i : grid0.Coords) (v10 : BitVec 32) (v41 : BitVec 32) (v43 : BitVec 32) (v867 : BitVec 32) (v869 : BitVec 32) : Prop :=
  (∀ (k0_t131 : Fin (k0_t131_loop v41 v43).trips) (k0_t133 : Fin (k0_t133_loop v867 v869).trips), ∀ (k0_h2 : k0_cond2 i v10 = 1#1), ∀ a, (k0_off2023 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2024 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2025 v41 v43 v867 v869 k0_t131 k0_t133) a + S1x16.size a ≤ S196x384.size a) ∧
  (∀ (k0_t131 : Fin (k0_t131_loop v41 v43).trips) (k0_t133 : Fin (k0_t133_loop v867 v869).trips), ∀ (k0_h2 : k0_cond2 i v10 = 1#1), ∀ a, (k0_off2026 v41 v43 v867 v869 k0_t131 k0_t133) a + S1x16.size a ≤ S196x384.size a)
def k0_chk507 (i : grid0.Coords) (v10 : BitVec 32) (v41 : BitVec 32) (v43 : BitVec 32) (v867 : BitVec 32) (v869 : BitVec 32) : Prop :=
  k0_chk507_0 i v10 v41 v43 v867 v869 ∧
  k0_chk507_1 i v10 v41 v43 v867 v869 ∧
  k0_chk507_2 i v10 v41 v43 v867 v869 ∧
  k0_chk507_3 i v10 v41 v43 v867 v869
theorem k0_t129_ok : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips), ∀ (k0_h2 : k0_cond2 i v10 = 1#1), (k0_t129_loop v867 v869).OK := fun i v10 v41 v43 v867 v869 k0_hw507 k0_t128 k0_h2 => k0_hw507.1.1 k0_t128 k0_h2
theorem k0_off1931_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1931 v41 v43 v867 v869 k0_t128 k0_t129) a + S1x16.size a ≤ S196x384.size a := fun i v10 v41 v43 v867 v869 k0_hw507 k0_t128 k0_t129 k0_h2 => k0_hw507.1.2.1 k0_t128 k0_t129 k0_h2
theorem k0_off1932_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1932 v41 v43 v867 v869 k0_t128 k0_t129) a + S1x16.size a ≤ S196x384.size a := fun i v10 v41 v43 v867 v869 k0_hw507 k0_t128 k0_t129 k0_h2 => k0_hw507.1.2.2.1 k0_t128 k0_t129 k0_h2
theorem k0_off1933_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1933 v41 v43 v867 v869 k0_t128 k0_t129) a + S1x16.size a ≤ S196x384.size a := fun i v10 v41 v43 v867 v869 k0_hw507 k0_t128 k0_t129 k0_h2 => k0_hw507.1.2.2.2.1 k0_t128 k0_t129 k0_h2
theorem k0_off1934_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1934 v41 v43 v867 v869 k0_t128 k0_t129) a + S1x16.size a ≤ S196x384.size a := fun i v10 v41 v43 v867 v869 k0_hw507 k0_t128 k0_t129 k0_h2 => k0_hw507.1.2.2.2.2.1 k0_t128 k0_t129 k0_h2
theorem k0_off1935_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1935 v41 v43 v867 v869 k0_t128 k0_t129) a + S1x16.size a ≤ S196x384.size a := fun i v10 v41 v43 v867 v869 k0_hw507 k0_t128 k0_t129 k0_h2 => k0_hw507.1.2.2.2.2.2.1 k0_t128 k0_t129 k0_h2
theorem k0_off1936_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1936 v41 v43 v867 v869 k0_t128 k0_t129) a + S1x16.size a ≤ S196x384.size a := fun i v10 v41 v43 v867 v869 k0_hw507 k0_t128 k0_t129 k0_h2 => k0_hw507.1.2.2.2.2.2.2.1 k0_t128 k0_t129 k0_h2
theorem k0_off1937_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1937 v41 v43 v867 v869 k0_t128 k0_t129) a + S1x16.size a ≤ S196x384.size a := fun i v10 v41 v43 v867 v869 k0_hw507 k0_t128 k0_t129 k0_h2 => k0_hw507.1.2.2.2.2.2.2.2.1 k0_t128 k0_t129 k0_h2
theorem k0_off1938_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1938 v41 v43 v867 v869 k0_t128 k0_t129) a + S1x16.size a ≤ S196x384.size a := fun i v10 v41 v43 v867 v869 k0_hw507 k0_t128 k0_t129 k0_h2 => k0_hw507.1.2.2.2.2.2.2.2.2.1 k0_t128 k0_t129 k0_h2
theorem k0_off1939_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1939 v41 v43 v867 v869 k0_t128 k0_t129) a + S1x16.size a ≤ S196x384.size a := fun i v10 v41 v43 v867 v869 k0_hw507 k0_t128 k0_t129 k0_h2 => k0_hw507.1.2.2.2.2.2.2.2.2.2.1 k0_t128 k0_t129 k0_h2
theorem k0_off1940_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1940 v41 v43 v867 v869 k0_t128 k0_t129) a + S1x16.size a ≤ S196x384.size a := fun i v10 v41 v43 v867 v869 k0_hw507 k0_t128 k0_t129 k0_h2 => k0_hw507.1.2.2.2.2.2.2.2.2.2.2.1 k0_t128 k0_t129 k0_h2
theorem k0_off1941_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1941 v41 v43 v867 v869 k0_t128 k0_t129) a + S1x16.size a ≤ S196x384.size a := fun i v10 v41 v43 v867 v869 k0_hw507 k0_t128 k0_t129 k0_h2 => k0_hw507.1.2.2.2.2.2.2.2.2.2.2.2.1 k0_t128 k0_t129 k0_h2
theorem k0_off1942_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1942 v41 v43 v867 v869 k0_t128 k0_t129) a + S1x16.size a ≤ S196x384.size a := fun i v10 v41 v43 v867 v869 k0_hw507 k0_t128 k0_t129 k0_h2 => k0_hw507.1.2.2.2.2.2.2.2.2.2.2.2.2.1 k0_t128 k0_t129 k0_h2
theorem k0_off1943_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1943 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.1 k0_t128 k0_t129 k0_h2
theorem k0_off1944_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1944 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.1 k0_t128 k0_t129 k0_h2
theorem k0_off1945_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1945 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.1 k0_t128 k0_t129 k0_h2
theorem k0_off1946_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1946 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.2.1 k0_t128 k0_t129 k0_h2
theorem k0_off1947_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1947 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.2.2.1 k0_t128 k0_t129 k0_h2
theorem k0_off1948_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1948 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.2.2.2.1 k0_t128 k0_t129 k0_h2
theorem k0_off1949_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1949 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.2.2.2.2.1 k0_t128 k0_t129 k0_h2
theorem k0_off1950_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1950 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.2.2.2.2.2.1 k0_t128 k0_t129 k0_h2
theorem k0_off1951_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1951 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.2.2.2.2.2.2.1 k0_t128 k0_t129 k0_h2
theorem k0_off1952_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1952 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.2.2.2.2.2.2.2.1 k0_t128 k0_t129 k0_h2
theorem k0_off1953_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1953 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.2.2.2.2.2.2.2.2.1 k0_t128 k0_t129 k0_h2
theorem k0_off1954_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t129 : Fin (k0_t129_loop v867 v869).trips), ∀ (k0_h2 : k0_cond2 i v10 = 1#1), ∀ a, (k0_off1954 v41 v43 v867 v869 k0_t128 k0_t129) a + S1x16.size a ≤ S196x384.size a := fun i v10 v41 v43 v867 v869 k0_hw507 k0_t128 k0_t129 k0_h2 => k0_hw507.1.2.2.2.2.2.2.2.2.2.2.2.2.2.2.2.2.2.2.2.2.2.2.2.2.1 k0_t128 k0_t129 k0_h2
theorem k0_t130_ok : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips), ∀ (k0_h2 : k0_cond2 i v10 = 1#1), (k0_t130_loop v867 v869).OK := fun i v10 v41 v43 v867 v869 k0_hw507 k0_t128 k0_h2 => k0_hw507.1.2.2.2.2.2.2.2.2.2.2.2.2.2.2.2.2.2.2.2.2.2.2.2.2.2.1 k0_t128 k0_h2
theorem k0_off1955_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1955 v41 v43 v867 v869 k0_t128 k0_t130) a + S1x16.size a ≤ S196x384.size a := fun i v10 v41 v43 v867 v869 k0_hw507 k0_t128 k0_t130 k0_h2 => k0_hw507.1.2.2.2.2.2.2.2.2.2.2.2.2.2.2.2.2.2.2.2.2.2.2.2.2.2.2.1 k0_t128 k0_t130 k0_h2
theorem k0_off1956_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1956 v41 v43 v867 v869 k0_t128 k0_t130) a + S1x16.size a ≤ S196x384.size a := fun i v10 v41 v43 v867 v869 k0_hw507 k0_t128 k0_t130 k0_h2 => k0_hw507.1.2.2.2.2.2.2.2.2.2.2.2.2.2.2.2.2.2.2.2.2.2.2.2.2.2.2.2.1 k0_t128 k0_t130 k0_h2
theorem k0_off1957_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1957 v41 v43 v867 v869 k0_t128 k0_t130) a + S1x16.size a ≤ S196x384.size a := fun i v10 v41 v43 v867 v869 k0_hw507 k0_t128 k0_t130 k0_h2 => k0_hw507.1.2.2.2.2.2.2.2.2.2.2.2.2.2.2.2.2.2.2.2.2.2.2.2.2.2.2.2.2.1 k0_t128 k0_t130 k0_h2
theorem k0_off1958_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1958 v41 v43 v867 v869 k0_t128 k0_t130) a + S1x16.size a ≤ S196x384.size a := fun i v10 v41 v43 v867 v869 k0_hw507 k0_t128 k0_t130 k0_h2 => k0_hw507.1.2.2.2.2.2.2.2.2.2.2.2.2.2.2.2.2.2.2.2.2.2.2.2.2.2.2.2.2.2.1 k0_t128 k0_t130 k0_h2
theorem k0_off1959_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1959 v41 v43 v867 v869 k0_t128 k0_t130) a + S1x16.size a ≤ S196x384.size a := fun i v10 v41 v43 v867 v869 k0_hw507 k0_t128 k0_t130 k0_h2 => k0_hw507.1.2.2.2.2.2.2.2.2.2.2.2.2.2.2.2.2.2.2.2.2.2.2.2.2.2.2.2.2.2.2.1 k0_t128 k0_t130 k0_h2
theorem k0_off1960_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1960 v41 v43 v867 v869 k0_t128 k0_t130) a + S1x16.size a ≤ S196x384.size a := fun i v10 v41 v43 v867 v869 k0_hw507 k0_t128 k0_t130 k0_h2 => k0_hw507.1.2.2.2.2.2.2.2.2.2.2.2.2.2.2.2.2.2.2.2.2.2.2.2.2.2.2.2.2.2.2.2 k0_t128 k0_t130 k0_h2
theorem k0_off1961_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1961 v41 v43 v867 v869 k0_t128 k0_t130) a + S1x16.size a ≤ S196x384.size a := fun i v10 v41 v43 v867 v869 k0_hw507 k0_t128 k0_t130 k0_h2 => k0_hw507.2.1.1 k0_t128 k0_t130 k0_h2
theorem k0_off1962_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1962 v41 v43 v867 v869 k0_t128 k0_t130) a + S1x16.size a ≤ S196x384.size a := fun i v10 v41 v43 v867 v869 k0_hw507 k0_t128 k0_t130 k0_h2 => k0_hw507.2.1.2.1 k0_t128 k0_t130 k0_h2
theorem k0_off1963_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1963 v41 v43 v867 v869 k0_t128 k0_t130) a + S1x16.size a ≤ S196x384.size a := fun i v10 v41 v43 v867 v869 k0_hw507 k0_t128 k0_t130 k0_h2 => k0_hw507.2.1.2.2.1 k0_t128 k0_t130 k0_h2
theorem k0_off1964_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1964 v41 v43 v867 v869 k0_t128 k0_t130) a + S1x16.size a ≤ S196x384.size a := fun i v10 v41 v43 v867 v869 k0_hw507 k0_t128 k0_t130 k0_h2 => k0_hw507.2.1.2.2.2.1 k0_t128 k0_t130 k0_h2
theorem k0_off1965_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1965 v41 v43 v867 v869 k0_t128 k0_t130) a + S1x16.size a ≤ S196x384.size a := fun i v10 v41 v43 v867 v869 k0_hw507 k0_t128 k0_t130 k0_h2 => k0_hw507.2.1.2.2.2.2.1 k0_t128 k0_t130 k0_h2
theorem k0_off1966_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1966 v41 v43 v867 v869 k0_t128 k0_t130) a + S1x16.size a ≤ S196x384.size a := fun i v10 v41 v43 v867 v869 k0_hw507 k0_t128 k0_t130 k0_h2 => k0_hw507.2.1.2.2.2.2.2.1 k0_t128 k0_t130 k0_h2
theorem k0_off1967_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1967 v41 v43 v867 v869 k0_t128 k0_t130) a + S1x16.size a ≤ S196x384.size a := fun i v10 v41 v43 v867 v869 k0_hw507 k0_t128 k0_t130 k0_h2 => k0_hw507.2.1.2.2.2.2.2.2.1 k0_t128 k0_t130 k0_h2
theorem k0_off1968_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1968 v41 v43 v867 v869 k0_t128 k0_t130) a + S1x16.size a ≤ S196x384.size a := fun i v10 v41 v43 v867 v869 k0_hw507 k0_t128 k0_t130 k0_h2 => k0_hw507.2.1.2.2.2.2.2.2.2.1 k0_t128 k0_t130 k0_h2
theorem k0_off1969_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1969 v41 v43 v867 v869 k0_t128 k0_t130) a + S1x16.size a ≤ S196x384.size a := fun i v10 v41 v43 v867 v869 k0_hw507 k0_t128 k0_t130 k0_h2 => k0_hw507.2.1.2.2.2.2.2.2.2.2.1 k0_t128 k0_t130 k0_h2
theorem k0_off1970_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1970 v41 v43 v867 v869 k0_t128 k0_t130) a + S1x16.size a ≤ S196x384.size a := fun i v10 v41 v43 v867 v869 k0_hw507 k0_t128 k0_t130 k0_h2 => k0_hw507.2.1.2.2.2.2.2.2.2.2.2.1 k0_t128 k0_t130 k0_h2
theorem k0_off1971_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1971 v41 v43 v867 v869 k0_t128 k0_t130) a + S1x16.size a ≤ S196x384.size a := fun i v10 v41 v43 v867 v869 k0_hw507 k0_t128 k0_t130 k0_h2 => k0_hw507.2.1.2.2.2.2.2.2.2.2.2.2.1 k0_t128 k0_t130 k0_h2
theorem k0_off1972_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1972 v41 v43 v867 v869 k0_t128 k0_t130) a + S1x16.size a ≤ S196x384.size a := fun i v10 v41 v43 v867 v869 k0_hw507 k0_t128 k0_t130 k0_h2 => k0_hw507.2.1.2.2.2.2.2.2.2.2.2.2.2.1 k0_t128 k0_t130 k0_h2
theorem k0_off1973_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1973 v41 v43 v867 v869 k0_t128 k0_t130) a + S1x16.size a ≤ S196x384.size a := fun i v10 v41 v43 v867 v869 k0_hw507 k0_t128 k0_t130 k0_h2 => k0_hw507.2.1.2.2.2.2.2.2.2.2.2.2.2.2.1 k0_t128 k0_t130 k0_h2
theorem k0_off1974_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1974 v41 v43 v867 v869 k0_t128 k0_t130) a + S1x16.size a ≤ S196x384.size a := fun i v10 v41 v43 v867 v869 k0_hw507 k0_t128 k0_t130 k0_h2 => k0_hw507.2.1.2.2.2.2.2.2.2.2.2.2.2.2.2.1 k0_t128 k0_t130 k0_h2
theorem k0_off1975_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1975 v41 v43 v867 v869 k0_t128 k0_t130) a + S1x16.size a ≤ S196x384.size a := fun i v10 v41 v43 v867 v869 k0_hw507 k0_t128 k0_t130 k0_h2 => k0_hw507.2.1.2.2.2.2.2.2.2.2.2.2.2.2.2.2.1 k0_t128 k0_t130 k0_h2
theorem k0_off1976_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1976 v41 v43 v867 v869 k0_t128 k0_t130) a + S1x16.size a ≤ S196x384.size a := fun i v10 v41 v43 v867 v869 k0_hw507 k0_t128 k0_t130 k0_h2 => k0_hw507.2.1.2.2.2.2.2.2.2.2.2.2.2.2.2.2.2.1 k0_t128 k0_t130 k0_h2
theorem k0_off1977_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1977 v41 v43 v867 v869 k0_t128 k0_t130) a + S1x16.size a ≤ S196x384.size a := fun i v10 v41 v43 v867 v869 k0_hw507 k0_t128 k0_t130 k0_h2 => k0_hw507.2.1.2.2.2.2.2.2.2.2.2.2.2.2.2.2.2.2.1 k0_t128 k0_t130 k0_h2
theorem k0_off1978_inb : ∀ (i : grid0.Coords) (v10 : BitVec 32) (v41 : BitVec 32) (v43 : BitVec 32) (v867 : BitVec 32) (v869 : BitVec 32) (k0_hw507 : k0_chk507 i v10 v41 v43 v867 v869) (k0_t128 : Fin (k0_t128_loop v41 v43).trips) (k0_t130 : Fin (k0_t130_loop v867 v869).trips), ∀ (k0_h2 : k0_cond2 i v10 = 1#1), ∀ a, (k0_off1978 v41 v43 v867 v869 k0_t128 k0_t130) a + S1x16.size a ≤ S196x384.size a := fun i v10 v41 v43 v867 v869 k0_hw507 k0_t128 k0_t130 k0_h2 => k0_hw507.2.1.2.2.2.2.2.2.2.2.2.2.2.2.2.2.2.2.2.1 k0_t128 k0_t130 k0_h2
theorem k0_t132_ok : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips), ∀ (k0_h2 : k0_cond2 i v10 = 1#1), (k0_t132_loop v867 v869).OK := fun i v10 v41 v43 v867 v869 k0_hw507 k0_t131 k0_h2 => k0_hw507.2.1.2.2.2.2.2.2.2.2.2.2.2.2.2.2.2.2.2.2.1 k0_t131 k0_h2
theorem k0_off1979_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1979 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.1 k0_t131 k0_t132 k0_h2
theorem k0_off1980_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1980 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.1 k0_t131 k0_t132 k0_h2
theorem k0_off1981_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1981 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.1 k0_t131 k0_t132 k0_h2
theorem k0_off1982_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1982 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.1 k0_t131 k0_t132 k0_h2
theorem k0_off1983_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1983 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.2.1 k0_t131 k0_t132 k0_h2
theorem k0_off1984_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1984 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.2.2.1 k0_t131 k0_t132 k0_h2
theorem k0_off1985_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1985 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.2.2.2.1 k0_t131 k0_t132 k0_h2
theorem k0_off1986_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1986 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.2.2.2.2.1 k0_t131 k0_t132 k0_h2
theorem k0_off1987_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1987 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.2.2.2.2.2.1 k0_t131 k0_t132 k0_h2
theorem k0_off1988_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1988 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.2.2.2.2.2.2.1 k0_t131 k0_t132 k0_h2
theorem k0_off1989_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1989 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.2.2.2.2.2.2.2.1 k0_t131 k0_t132 k0_h2
theorem k0_off1990_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1990 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.2.2.2.2.2.2.2.2.1 k0_t131 k0_t132 k0_h2
theorem k0_off1991_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1991 v41 v43 v867 v869 k0_t131 k0_t132) a + S1x16.size a ≤ S196x384.size a := fun i v10 v41 v43 v867 v869 k0_hw507 k0_t131 k0_t132 k0_h2 => k0_hw507.2.1.2.2.2.2.2.2.2.2.2.2.2.2.2.2.2.2.2.2.2.2.2.2.2.2.2.2.2.2.2.2.2 k0_t131 k0_t132 k0_h2
theorem k0_off1992_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1992 v41 v43 v867 v869 k0_t131 k0_t132) a + S1x16.size a ≤ S196x384.size a := fun i v10 v41 v43 v867 v869 k0_hw507 k0_t131 k0_t132 k0_h2 => k0_hw507.2.2.1.1 k0_t131 k0_t132 k0_h2
theorem k0_off1993_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1993 v41 v43 v867 v869 k0_t131 k0_t132) a + S1x16.size a ≤ S196x384.size a := fun i v10 v41 v43 v867 v869 k0_hw507 k0_t131 k0_t132 k0_h2 => k0_hw507.2.2.1.2.1 k0_t131 k0_t132 k0_h2
theorem k0_off1994_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1994 v41 v43 v867 v869 k0_t131 k0_t132) a + S1x16.size a ≤ S196x384.size a := fun i v10 v41 v43 v867 v869 k0_hw507 k0_t131 k0_t132 k0_h2 => k0_hw507.2.2.1.2.2.1 k0_t131 k0_t132 k0_h2
theorem k0_off1995_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1995 v41 v43 v867 v869 k0_t131 k0_t132) a + S1x16.size a ≤ S196x384.size a := fun i v10 v41 v43 v867 v869 k0_hw507 k0_t131 k0_t132 k0_h2 => k0_hw507.2.2.1.2.2.2.1 k0_t131 k0_t132 k0_h2
theorem k0_off1996_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1996 v41 v43 v867 v869 k0_t131 k0_t132) a + S1x16.size a ≤ S196x384.size a := fun i v10 v41 v43 v867 v869 k0_hw507 k0_t131 k0_t132 k0_h2 => k0_hw507.2.2.1.2.2.2.2.1 k0_t131 k0_t132 k0_h2
theorem k0_off1997_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1997 v41 v43 v867 v869 k0_t131 k0_t132) a + S1x16.size a ≤ S196x384.size a := fun i v10 v41 v43 v867 v869 k0_hw507 k0_t131 k0_t132 k0_h2 => k0_hw507.2.2.1.2.2.2.2.2.1 k0_t131 k0_t132 k0_h2
theorem k0_off1998_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1998 v41 v43 v867 v869 k0_t131 k0_t132) a + S1x16.size a ≤ S196x384.size a := fun i v10 v41 v43 v867 v869 k0_hw507 k0_t131 k0_t132 k0_h2 => k0_hw507.2.2.1.2.2.2.2.2.2.1 k0_t131 k0_t132 k0_h2
theorem k0_off1999_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off1999 v41 v43 v867 v869 k0_t131 k0_t132) a + S1x16.size a ≤ S196x384.size a := fun i v10 v41 v43 v867 v869 k0_hw507 k0_t131 k0_t132 k0_h2 => k0_hw507.2.2.1.2.2.2.2.2.2.2.1 k0_t131 k0_t132 k0_h2
theorem k0_off2000_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off2000 v41 v43 v867 v869 k0_t131 k0_t132) a + S1x16.size a ≤ S196x384.size a := fun i v10 v41 v43 v867 v869 k0_hw507 k0_t131 k0_t132 k0_h2 => k0_hw507.2.2.1.2.2.2.2.2.2.2.2.1 k0_t131 k0_t132 k0_h2
theorem k0_off2001_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off2001 v41 v43 v867 v869 k0_t131 k0_t132) a + S1x16.size a ≤ S196x384.size a := fun i v10 v41 v43 v867 v869 k0_hw507 k0_t131 k0_t132 k0_h2 => k0_hw507.2.2.1.2.2.2.2.2.2.2.2.2.1 k0_t131 k0_t132 k0_h2
theorem k0_off2002_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t132 : Fin (k0_t132_loop v867 v869).trips), ∀ (k0_h2 : k0_cond2 i v10 = 1#1), ∀ a, (k0_off2002 v41 v43 v867 v869 k0_t131 k0_t132) a + S1x16.size a ≤ S196x384.size a := fun i v10 v41 v43 v867 v869 k0_hw507 k0_t131 k0_t132 k0_h2 => k0_hw507.2.2.1.2.2.2.2.2.2.2.2.2.2.1 k0_t131 k0_t132 k0_h2
theorem k0_t133_ok : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips), ∀ (k0_h2 : k0_cond2 i v10 = 1#1), (k0_t133_loop v867 v869).OK := fun i v10 v41 v43 v867 v869 k0_hw507 k0_t131 k0_h2 => k0_hw507.2.2.1.2.2.2.2.2.2.2.2.2.2.2.1 k0_t131 k0_h2
theorem k0_off2003_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2003 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.1 k0_t131 k0_t133 k0_h2
theorem k0_off2004_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2004 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.1 k0_t131 k0_t133 k0_h2
theorem k0_off2005_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2005 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.1 k0_t131 k0_t133 k0_h2
theorem k0_off2006_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2006 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.1 k0_t131 k0_t133 k0_h2
theorem k0_off2007_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2007 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.1 k0_t131 k0_t133 k0_h2
theorem k0_off2008_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2008 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.1 k0_t131 k0_t133 k0_h2
theorem k0_off2009_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2009 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.1 k0_t131 k0_t133 k0_h2
theorem k0_off2010_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2010 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.1 k0_t131 k0_t133 k0_h2
theorem k0_off2011_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2011 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.1 k0_t131 k0_t133 k0_h2
theorem k0_off2012_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2012 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.1 k0_t131 k0_t133 k0_h2
theorem k0_off2013_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2013 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.1 k0_t131 k0_t133 k0_h2
theorem k0_off2014_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2014 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.2.1 k0_t131 k0_t133 k0_h2
theorem k0_off2015_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2015 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.2.2.1 k0_t131 k0_t133 k0_h2
theorem k0_off2016_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2016 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.2.2.2.1 k0_t131 k0_t133 k0_h2
theorem k0_off2017_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2017 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.2.2.2.2.1 k0_t131 k0_t133 k0_h2
theorem k0_off2018_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2018 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.2.2.2.2.2.1 k0_t131 k0_t133 k0_h2
theorem k0_off2019_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2019 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.2.2.2.2.2.2.1 k0_t131 k0_t133 k0_h2
theorem k0_off2020_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2020 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.2.2.2.2.2.2.2.1 k0_t131 k0_t133 k0_h2
theorem k0_off2021_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2021 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.2.2.2.2.2.2.2.2.1 k0_t131 k0_t133 k0_h2
theorem k0_off2022_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2022 v41 v43 v867 v869 k0_t131 k0_t133) a + S1x16.size a ≤ S196x384.size a := fun i v10 v41 v43 v867 v869 k0_hw507 k0_t131 k0_t133 k0_h2 => k0_hw507.2.2.1.2.2.2.2.2.2.2.2.2.2.2.2.2.2.2.2.2.2.2.2.2.2.2.2.2.2.2.2.2.2.2 k0_t131 k0_t133 k0_h2
theorem k0_off2023_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2023 v41 v43 v867 v869 k0_t131 k0_t133) a + S1x16.size a ≤ S196x384.size a := fun i v10 v41 v43 v867 v869 k0_hw507 k0_t131 k0_t133 k0_h2 => k0_hw507.2.2.2.1 k0_t131 k0_t133 k0_h2
theorem k0_off2024_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2024 v41 v43 v867 v869 k0_t131 k0_t133) a + S1x16.size a ≤ S196x384.size a := fun i v10 v41 v43 v867 v869 k0_hw507 k0_t131 k0_t133 k0_h2 => k0_hw507.2.2.2.2.1 k0_t131 k0_t133 k0_h2
theorem k0_off2025_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2025 v41 v43 v867 v869 k0_t131 k0_t133) a + S1x16.size a ≤ S196x384.size a := fun i v10 v41 v43 v867 v869 k0_hw507 k0_t131 k0_t133 k0_h2 => k0_hw507.2.2.2.2.2.1 k0_t131 k0_t133 k0_h2
theorem k0_off2026_inb : ∀ (i : grid0.Coords) (v10 : BitVec 32) (v41 : BitVec 32) (v43 : BitVec 32) (v867 : BitVec 32) (v869 : BitVec 32) (k0_hw507 : k0_chk507 i v10 v41 v43 v867 v869) (k0_t131 : Fin (k0_t131_loop v41 v43).trips) (k0_t133 : Fin (k0_t133_loop v867 v869).trips), ∀ (k0_h2 : k0_cond2 i v10 = 1#1), ∀ a, (k0_off2026 v41 v43 v867 v869 k0_t131 k0_t133) a + S1x16.size a ≤ S196x384.size a := fun i v10 v41 v43 v867 v869 k0_hw507 k0_t131 k0_t133 k0_h2 => k0_hw507.2.2.2.2.2.2 k0_t131 k0_t133 k0_h2

def k0_chk508 (i : grid0.Coords) (v10 : BitVec 32) (v887 : IVec S16 32) : Prop :=
  (∀ (k0_h2 : k0_cond2 i v10 = 1#1), ∀ a x, ((![v887] : Fin 1 → IVec S16 32) a x).toNat < S18816.size a)
theorem k0_idx481_inb : ∀ (i : grid0.Coords) (v10 : BitVec 32) (v887 : IVec S16 32) (k0_hw508 : k0_chk508 i v10 v887), ∀ (k0_h2 : k0_cond2 i v10 = 1#1), ∀ a x, ((![v887] : Fin 1 → IVec S16 32) a x).toNat < S18816.size a := fun i v10 v887 k0_hw508 k0_h2 => k0_hw508 k0_h2

def k0_chk509 (i : grid0.Coords) (v10 : BitVec 32) (v892 : IVec S16 32) : Prop :=
  (∀ (k0_h2 : k0_cond2 i v10 = 1#1), ∀ a x, ((![v892] : Fin 1 → IVec S16 32) a x).toNat < S18816.size a)
theorem k0_idx482_inb : ∀ (i : grid0.Coords) (v10 : BitVec 32) (v892 : IVec S16 32) (k0_hw509 : k0_chk509 i v10 v892), ∀ (k0_h2 : k0_cond2 i v10 = 1#1), ∀ a x, ((![v892] : Fin 1 → IVec S16 32) a x).toNat < S18816.size a := fun i v10 v892 k0_hw509 k0_h2 => k0_hw509 k0_h2

def k0_chk510 (i : grid0.Coords) (v10 : BitVec 32) (v897 : IVec S16 32) : Prop :=
  (∀ (k0_h2 : k0_cond2 i v10 = 1#1), ∀ a x, ((![v897] : Fin 1 → IVec S16 32) a x).toNat < S18816.size a)
theorem k0_idx483_inb : ∀ (i : grid0.Coords) (v10 : BitVec 32) (v897 : IVec S16 32) (k0_hw510 : k0_chk510 i v10 v897), ∀ (k0_h2 : k0_cond2 i v10 = 1#1), ∀ a x, ((![v897] : Fin 1 → IVec S16 32) a x).toNat < S18816.size a := fun i v10 v897 k0_hw510 k0_h2 => k0_hw510 k0_h2

def k0_chk511 (i : grid0.Coords) (v10 : BitVec 32) (v902 : IVec S16 32) : Prop :=
  (∀ (k0_h2 : k0_cond2 i v10 = 1#1), ∀ a x, ((![v902] : Fin 1 → IVec S16 32) a x).toNat < S18816.size a)
theorem k0_idx484_inb : ∀ (i : grid0.Coords) (v10 : BitVec 32) (v902 : IVec S16 32) (k0_hw511 : k0_chk511 i v10 v902), ∀ (k0_h2 : k0_cond2 i v10 = 1#1), ∀ a x, ((![v902] : Fin 1 → IVec S16 32) a x).toNat < S18816.size a := fun i v10 v902 k0_hw511 k0_h2 => k0_hw511 k0_h2

def k0_chk512 (i : grid0.Coords) (v10 : BitVec 32) (v907 : IVec S16 32) : Prop :=
  (∀ (k0_h2 : k0_cond2 i v10 = 1#1), ∀ a x, ((![v907] : Fin 1 → IVec S16 32) a x).toNat < S18816.size a)
theorem k0_idx485_inb : ∀ (i : grid0.Coords) (v10 : BitVec 32) (v907 : IVec S16 32) (k0_hw512 : k0_chk512 i v10 v907), ∀ (k0_h2 : k0_cond2 i v10 = 1#1), ∀ a x, ((![v907] : Fin 1 → IVec S16 32) a x).toNat < S18816.size a := fun i v10 v907 k0_hw512 k0_h2 => k0_hw512 k0_h2

def k0_chk513 (i : grid0.Coords) (v10 : BitVec 32) (v912 : IVec S16 32) : Prop :=
  (∀ (k0_h2 : k0_cond2 i v10 = 1#1), ∀ a x, ((![v912] : Fin 1 → IVec S16 32) a x).toNat < S18816.size a)
theorem k0_idx486_inb : ∀ (i : grid0.Coords) (v10 : BitVec 32) (v912 : IVec S16 32) (k0_hw513 : k0_chk513 i v10 v912), ∀ (k0_h2 : k0_cond2 i v10 = 1#1), ∀ a x, ((![v912] : Fin 1 → IVec S16 32) a x).toNat < S18816.size a := fun i v10 v912 k0_hw513 k0_h2 => k0_hw513 k0_h2

def k0_chk514 (i : grid0.Coords) (v10 : BitVec 32) (v917 : IVec S16 32) : Prop :=
  (∀ (k0_h2 : k0_cond2 i v10 = 1#1), ∀ a x, ((![v917] : Fin 1 → IVec S16 32) a x).toNat < S18816.size a)
theorem k0_idx487_inb : ∀ (i : grid0.Coords) (v10 : BitVec 32) (v917 : IVec S16 32) (k0_hw514 : k0_chk514 i v10 v917), ∀ (k0_h2 : k0_cond2 i v10 = 1#1), ∀ a x, ((![v917] : Fin 1 → IVec S16 32) a x).toNat < S18816.size a := fun i v10 v917 k0_hw514 k0_h2 => k0_hw514 k0_h2

def k0_chk515 (i : grid0.Coords) (v10 : BitVec 32) (v922 : IVec S16 32) : Prop :=
  (∀ (k0_h2 : k0_cond2 i v10 = 1#1), ∀ a x, ((![v922] : Fin 1 → IVec S16 32) a x).toNat < S18816.size a)
theorem k0_idx488_inb : ∀ (i : grid0.Coords) (v10 : BitVec 32) (v922 : IVec S16 32) (k0_hw515 : k0_chk515 i v10 v922), ∀ (k0_h2 : k0_cond2 i v10 = 1#1), ∀ a x, ((![v922] : Fin 1 → IVec S16 32) a x).toNat < S18816.size a := fun i v10 v922 k0_hw515 k0_h2 => k0_hw515 k0_h2

def k0_chk516 (i : grid0.Coords) (v10 : BitVec 32) (v927 : IVec S16 32) : Prop :=
  (∀ (k0_h2 : k0_cond2 i v10 = 1#1), ∀ a x, ((![v927] : Fin 1 → IVec S16 32) a x).toNat < S18816.size a)
theorem k0_idx489_inb : ∀ (i : grid0.Coords) (v10 : BitVec 32) (v927 : IVec S16 32) (k0_hw516 : k0_chk516 i v10 v927), ∀ (k0_h2 : k0_cond2 i v10 = 1#1), ∀ a x, ((![v927] : Fin 1 → IVec S16 32) a x).toNat < S18816.size a := fun i v10 v927 k0_hw516 k0_h2 => k0_hw516 k0_h2

def k0_chk517 (i : grid0.Coords) (v10 : BitVec 32) (v932 : IVec S16 32) : Prop :=
  (∀ (k0_h2 : k0_cond2 i v10 = 1#1), ∀ a x, ((![v932] : Fin 1 → IVec S16 32) a x).toNat < S18816.size a)
theorem k0_idx490_inb : ∀ (i : grid0.Coords) (v10 : BitVec 32) (v932 : IVec S16 32) (k0_hw517 : k0_chk517 i v10 v932), ∀ (k0_h2 : k0_cond2 i v10 = 1#1), ∀ a x, ((![v932] : Fin 1 → IVec S16 32) a x).toNat < S18816.size a := fun i v10 v932 k0_hw517 k0_h2 => k0_hw517 k0_h2

def k0_chk518 (i : grid0.Coords) (v10 : BitVec 32) (v937 : IVec S16 32) : Prop :=
  (∀ (k0_h2 : k0_cond2 i v10 = 1#1), ∀ a x, ((![v937] : Fin 1 → IVec S16 32) a x).toNat < S18816.size a)
theorem k0_idx491_inb : ∀ (i : grid0.Coords) (v10 : BitVec 32) (v937 : IVec S16 32) (k0_hw518 : k0_chk518 i v10 v937), ∀ (k0_h2 : k0_cond2 i v10 = 1#1), ∀ a x, ((![v937] : Fin 1 → IVec S16 32) a x).toNat < S18816.size a := fun i v10 v937 k0_hw518 k0_h2 => k0_hw518 k0_h2

def k0_chk519 (i : grid0.Coords) (v10 : BitVec 32) (v942 : IVec S16 32) : Prop :=
  (∀ (k0_h2 : k0_cond2 i v10 = 1#1), ∀ a x, ((![v942] : Fin 1 → IVec S16 32) a x).toNat < S18816.size a)
theorem k0_idx492_inb : ∀ (i : grid0.Coords) (v10 : BitVec 32) (v942 : IVec S16 32) (k0_hw519 : k0_chk519 i v10 v942), ∀ (k0_h2 : k0_cond2 i v10 = 1#1), ∀ a x, ((![v942] : Fin 1 → IVec S16 32) a x).toNat < S18816.size a := fun i v10 v942 k0_hw519 k0_h2 => k0_hw519 k0_h2

def k0_chk520 (i : grid0.Coords) (v10 : BitVec 32) (v947 : IVec S16 32) : Prop :=
  (∀ (k0_h2 : k0_cond2 i v10 = 1#1), ∀ a x, ((![v947] : Fin 1 → IVec S16 32) a x).toNat < S18816.size a)
theorem k0_idx493_inb : ∀ (i : grid0.Coords) (v10 : BitVec 32) (v947 : IVec S16 32) (k0_hw520 : k0_chk520 i v10 v947), ∀ (k0_h2 : k0_cond2 i v10 = 1#1), ∀ a x, ((![v947] : Fin 1 → IVec S16 32) a x).toNat < S18816.size a := fun i v10 v947 k0_hw520 k0_h2 => k0_hw520 k0_h2

def k0_chk521 (i : grid0.Coords) (v10 : BitVec 32) (v952 : IVec S16 32) : Prop :=
  (∀ (k0_h2 : k0_cond2 i v10 = 1#1), ∀ a x, ((![v952] : Fin 1 → IVec S16 32) a x).toNat < S18816.size a)
theorem k0_idx494_inb : ∀ (i : grid0.Coords) (v10 : BitVec 32) (v952 : IVec S16 32) (k0_hw521 : k0_chk521 i v10 v952), ∀ (k0_h2 : k0_cond2 i v10 = 1#1), ∀ a x, ((![v952] : Fin 1 → IVec S16 32) a x).toNat < S18816.size a := fun i v10 v952 k0_hw521 k0_h2 => k0_hw521 k0_h2

def k0_chk522 (i : grid0.Coords) (v10 : BitVec 32) (v957 : IVec S16 32) : Prop :=
  (∀ (k0_h2 : k0_cond2 i v10 = 1#1), ∀ a x, ((![v957] : Fin 1 → IVec S16 32) a x).toNat < S18816.size a)
theorem k0_idx495_inb : ∀ (i : grid0.Coords) (v10 : BitVec 32) (v957 : IVec S16 32) (k0_hw522 : k0_chk522 i v10 v957), ∀ (k0_h2 : k0_cond2 i v10 = 1#1), ∀ a x, ((![v957] : Fin 1 → IVec S16 32) a x).toNat < S18816.size a := fun i v10 v957 k0_hw522 k0_h2 => k0_hw522 k0_h2

def k0_chk523 (i : grid0.Coords) (v10 : BitVec 32) (v962 : IVec S16 32) : Prop :=
  (∀ (k0_h2 : k0_cond2 i v10 = 1#1), ∀ a x, ((![v962] : Fin 1 → IVec S16 32) a x).toNat < S18816.size a)
theorem k0_idx496_inb : ∀ (i : grid0.Coords) (v10 : BitVec 32) (v962 : IVec S16 32) (k0_hw523 : k0_chk523 i v10 v962), ∀ (k0_h2 : k0_cond2 i v10 = 1#1), ∀ a x, ((![v962] : Fin 1 → IVec S16 32) a x).toNat < S18816.size a := fun i v10 v962 k0_hw523 k0_h2 => k0_hw523 k0_h2

def k0_chk524 (i : grid0.Coords) (v10 : BitVec 32) (v967 : IVec S16 32) : Prop :=
  (∀ (k0_h2 : k0_cond2 i v10 = 1#1), ∀ a x, ((![v967] : Fin 1 → IVec S16 32) a x).toNat < S18816.size a)
theorem k0_idx497_inb : ∀ (i : grid0.Coords) (v10 : BitVec 32) (v967 : IVec S16 32) (k0_hw524 : k0_chk524 i v10 v967), ∀ (k0_h2 : k0_cond2 i v10 = 1#1), ∀ a x, ((![v967] : Fin 1 → IVec S16 32) a x).toNat < S18816.size a := fun i v10 v967 k0_hw524 k0_h2 => k0_hw524 k0_h2

def k0_chk525 (i : grid0.Coords) (v10 : BitVec 32) (v972 : IVec S16 32) : Prop :=
  (∀ (k0_h2 : k0_cond2 i v10 = 1#1), ∀ a x, ((![v972] : Fin 1 → IVec S16 32) a x).toNat < S18816.size a)
theorem k0_idx498_inb : ∀ (i : grid0.Coords) (v10 : BitVec 32) (v972 : IVec S16 32) (k0_hw525 : k0_chk525 i v10 v972), ∀ (k0_h2 : k0_cond2 i v10 = 1#1), ∀ a x, ((![v972] : Fin 1 → IVec S16 32) a x).toNat < S18816.size a := fun i v10 v972 k0_hw525 k0_h2 => k0_hw525 k0_h2

def k0_chk526 (i : grid0.Coords) (v10 : BitVec 32) (v977 : IVec S16 32) : Prop :=
  (∀ (k0_h2 : k0_cond2 i v10 = 1#1), ∀ a x, ((![v977] : Fin 1 → IVec S16 32) a x).toNat < S18816.size a)
theorem k0_idx499_inb : ∀ (i : grid0.Coords) (v10 : BitVec 32) (v977 : IVec S16 32) (k0_hw526 : k0_chk526 i v10 v977), ∀ (k0_h2 : k0_cond2 i v10 = 1#1), ∀ a x, ((![v977] : Fin 1 → IVec S16 32) a x).toNat < S18816.size a := fun i v10 v977 k0_hw526 k0_h2 => k0_hw526 k0_h2

def k0_chk527 (i : grid0.Coords) (v10 : BitVec 32) (v982 : IVec S16 32) : Prop :=
  (∀ (k0_h2 : k0_cond2 i v10 = 1#1), ∀ a x, ((![v982] : Fin 1 → IVec S16 32) a x).toNat < S18816.size a)
theorem k0_idx500_inb : ∀ (i : grid0.Coords) (v10 : BitVec 32) (v982 : IVec S16 32) (k0_hw527 : k0_chk527 i v10 v982), ∀ (k0_h2 : k0_cond2 i v10 = 1#1), ∀ a x, ((![v982] : Fin 1 → IVec S16 32) a x).toNat < S18816.size a := fun i v10 v982 k0_hw527 k0_h2 => k0_hw527 k0_h2

def k0_chk528 (i : grid0.Coords) (v10 : BitVec 32) (v987 : IVec S16 32) : Prop :=
  (∀ (k0_h2 : k0_cond2 i v10 = 1#1), ∀ a x, ((![v987] : Fin 1 → IVec S16 32) a x).toNat < S18816.size a)
theorem k0_idx501_inb : ∀ (i : grid0.Coords) (v10 : BitVec 32) (v987 : IVec S16 32) (k0_hw528 : k0_chk528 i v10 v987), ∀ (k0_h2 : k0_cond2 i v10 = 1#1), ∀ a x, ((![v987] : Fin 1 → IVec S16 32) a x).toNat < S18816.size a := fun i v10 v987 k0_hw528 k0_h2 => k0_hw528 k0_h2

def k0_chk529 (i : grid0.Coords) (v10 : BitVec 32) (v992 : IVec S16 32) : Prop :=
  (∀ (k0_h2 : k0_cond2 i v10 = 1#1), ∀ a x, ((![v992] : Fin 1 → IVec S16 32) a x).toNat < S18816.size a)
theorem k0_idx502_inb : ∀ (i : grid0.Coords) (v10 : BitVec 32) (v992 : IVec S16 32) (k0_hw529 : k0_chk529 i v10 v992), ∀ (k0_h2 : k0_cond2 i v10 = 1#1), ∀ a x, ((![v992] : Fin 1 → IVec S16 32) a x).toNat < S18816.size a := fun i v10 v992 k0_hw529 k0_h2 => k0_hw529 k0_h2

def k0_chk530 (i : grid0.Coords) (v10 : BitVec 32) (v997 : IVec S16 32) : Prop :=
  (∀ (k0_h2 : k0_cond2 i v10 = 1#1), ∀ a x, ((![v997] : Fin 1 → IVec S16 32) a x).toNat < S18816.size a)
theorem k0_idx503_inb : ∀ (i : grid0.Coords) (v10 : BitVec 32) (v997 : IVec S16 32) (k0_hw530 : k0_chk530 i v10 v997), ∀ (k0_h2 : k0_cond2 i v10 = 1#1), ∀ a x, ((![v997] : Fin 1 → IVec S16 32) a x).toNat < S18816.size a := fun i v10 v997 k0_hw530 k0_h2 => k0_hw530 k0_h2

def k0_chk531 (i : grid0.Coords) (v10 : BitVec 32) (v1002 : IVec S16 32) : Prop :=
  (∀ (k0_h2 : k0_cond2 i v10 = 1#1), ∀ a x, ((![v1002] : Fin 1 → IVec S16 32) a x).toNat < S18816.size a)
theorem k0_idx504_inb : ∀ (i : grid0.Coords) (v10 : BitVec 32) (v1002 : IVec S16 32) (k0_hw531 : k0_chk531 i v10 v1002), ∀ (k0_h2 : k0_cond2 i v10 = 1#1), ∀ a x, ((![v1002] : Fin 1 → IVec S16 32) a x).toNat < S18816.size a := fun i v10 v1002 k0_hw531 k0_h2 => k0_hw531 k0_h2
def k0_off2027 (i : grid0.Coords) (v10 : BitVec 32) (k0_t90 : Fin (k0_t90_loop i v10).trips) : Fin 3 → Nat :=
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let c1_i32_13 : BitVec 32 := 1#32
  let arg9 : BitVec 32 := Scf.iv v13 c1_i32_13 k0_t90
  let v30 : Index := Scalar.indexCast arg9
  let c7_i32_20 : BitVec 32 := 7#32
  let v31 : Index := Scalar.indexCast c7_i32_20
  let c0_21 : Index := 0#32
  ![v30.toNat, 7, 0]
def k0_off2028 (k0_t1 : Fin k0_t1_loop.trips) (v34 : BitVec 32) : Fin 2 → Nat :=
  let c0_i32_4 : BitVec 32 := 0#32
  let c1_i32 : BitVec 32 := 1#32
  let arg8 : BitVec 32 := Scf.iv c0_i32_4 c1_i32 k0_t1
  let c384_i32 : BitVec 32 := 384#32
  let v35 : BitVec 32 := Scalar.muli arg8 c384_i32
  let c49_i32_22 : BitVec 32 := 49#32
  let v36 : BitVec 32 := Scalar.muli v35 c49_i32_22
  ![v34.toNat, v36.toNat]

def k0_chk532 (i : grid0.Coords) (v10 : BitVec 32) (k0_t1 : Fin k0_t1_loop.trips) (v34 : BitVec 32) : Prop :=
  (∀ (k0_h2 : k0_cond2 i v10 = 1#1), ∀ a, (k0_off2028 k0_t1 v34) a + S1x18816.size a ≤ S1000x37632.size a)
theorem k0_off2028_inb : ∀ (i : grid0.Coords) (v10 : BitVec 32) (k0_t1 : Fin k0_t1_loop.trips) (v34 : BitVec 32) (k0_hw532 : k0_chk532 i v10 k0_t1 v34), ∀ (k0_h2 : k0_cond2 i v10 = 1#1), ∀ a, (k0_off2028 k0_t1 v34) a + S1x18816.size a ≤ S1000x37632.size a := fun i v10 k0_t1 v34 k0_hw532 k0_h2 => k0_hw532 k0_h2

@[reducible] def k0_t134_loop (i : grid0.Coords) (v10 : BitVec 32) : Scf.Loop 32 :=
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let v24 : BitVec 32 := Scalar.subi v5 v13
  let c1_i32_12 : BitVec 32 := 1#32
  let v26 : BitVec 32 := Scalar.divsi v24 c1_i32_12
  let v27 : BitVec 32 := Scalar.muli v26 c1_i32_12
  let v28 : BitVec 32 := Scalar.addi v13 v27
  let v25 : BitVec 32 := Scalar.addi v13 v24
  let c1_i32_14 : BitVec 32 := 1#32
  ⟨v28, v25, c1_i32_14⟩
@[reducible] def k0_t135_loop : Scf.Loop 32 :=
  let c0_i32_16 : BitVec 32 := 0#32
  let c7_i32_17 : BitVec 32 := 7#32
  let v29 : BitVec 32 := Scalar.addi c0_i32_16 c7_i32_17
  let c1_i32_18 : BitVec 32 := 1#32
  ⟨c0_i32_16, v29, c1_i32_18⟩
def k0_off2029 (i : grid0.Coords) (v10 : BitVec 32) (k0_t134 : Fin (k0_t134_loop i v10).trips) (k0_t135 : Fin k0_t135_loop.trips) : Fin 3 → Nat :=
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let v24 : BitVec 32 := Scalar.subi v5 v13
  let c1_i32_12 : BitVec 32 := 1#32
  let v26 : BitVec 32 := Scalar.divsi v24 c1_i32_12
  let v27 : BitVec 32 := Scalar.muli v26 c1_i32_12
  let v28 : BitVec 32 := Scalar.addi v13 v27
  let c1_i32_14 : BitVec 32 := 1#32
  let arg9 : BitVec 32 := Scf.iv v28 c1_i32_14 k0_t134
  let v37 : Index := Scalar.indexCast arg9
  let c0_i32_16 : BitVec 32 := 0#32
  let c1_i32_18 : BitVec 32 := 1#32
  let arg10 : BitVec 32 := Scf.iv c0_i32_16 c1_i32_18 k0_t135
  let v38 : Index := Scalar.indexCast arg10
  let c0_23 : Index := 0#32
  ![v37.toNat, v38.toNat, 0]
@[reducible] def k0_t136_loop (v41 : BitVec 32) (v43 : BitVec 32) : Scf.Loop 32 :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_25 : BitVec 32 := 1#32
  ⟨v41, v53, c1_i32_25⟩

@[reducible] def k0_t137_loop (v45 : BitVec 32) (v47 : BitVec 32) : Scf.Loop 32 :=
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_375 : BitVec 32 := 1#32
  ⟨v45, v1008, c1_i32_375⟩

def k0_off2030 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1012 : Index := Scalar.indexCast v1011
  let c0_377 : Index := 0#32
  ![v1012.toNat, 0]
def k0_off2031 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1015 : Index := Scalar.indexCast v1011
  let c16 : Index := 16#32
  ![v1015.toNat, 16]
def k0_off2032 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1018 : Index := Scalar.indexCast v1011
  let c32 : Index := 32#32
  ![v1018.toNat, 32]
def k0_off2033 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1021 : Index := Scalar.indexCast v1011
  let c48 : Index := 48#32
  ![v1021.toNat, 48]
def k0_off2034 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1024 : Index := Scalar.indexCast v1011
  let c64 : Index := 64#32
  ![v1024.toNat, 64]
def k0_off2035 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1027 : Index := Scalar.indexCast v1011
  let c80 : Index := 80#32
  ![v1027.toNat, 80]
def k0_off2036 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1030 : Index := Scalar.indexCast v1011
  let c96 : Index := 96#32
  ![v1030.toNat, 96]
def k0_off2037 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1033 : Index := Scalar.indexCast v1011
  let c112 : Index := 112#32
  ![v1033.toNat, 112]
def k0_off2038 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1036 : Index := Scalar.indexCast v1011
  let c128 : Index := 128#32
  ![v1036.toNat, 128]
def k0_off2039 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1039 : Index := Scalar.indexCast v1011
  let c144 : Index := 144#32
  ![v1039.toNat, 144]
def k0_off2040 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1042 : Index := Scalar.indexCast v1011
  let c160 : Index := 160#32
  ![v1042.toNat, 160]
def k0_off2041 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1045 : Index := Scalar.indexCast v1011
  let c176 : Index := 176#32
  ![v1045.toNat, 176]
def k0_off2042 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1048 : Index := Scalar.indexCast v1011
  let c192 : Index := 192#32
  ![v1048.toNat, 192]
def k0_off2043 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1051 : Index := Scalar.indexCast v1011
  let c208 : Index := 208#32
  ![v1051.toNat, 208]
def k0_off2044 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1054 : Index := Scalar.indexCast v1011
  let c224 : Index := 224#32
  ![v1054.toNat, 224]
def k0_off2045 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1057 : Index := Scalar.indexCast v1011
  let c240 : Index := 240#32
  ![v1057.toNat, 240]
def k0_off2046 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1060 : Index := Scalar.indexCast v1011
  let c256 : Index := 256#32
  ![v1060.toNat, 256]
def k0_off2047 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1063 : Index := Scalar.indexCast v1011
  let c272 : Index := 272#32
  ![v1063.toNat, 272]
def k0_off2048 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1066 : Index := Scalar.indexCast v1011
  let c288 : Index := 288#32
  ![v1066.toNat, 288]
def k0_off2049 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1069 : Index := Scalar.indexCast v1011
  let c304 : Index := 304#32
  ![v1069.toNat, 304]
def k0_off2050 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1072 : Index := Scalar.indexCast v1011
  let c320 : Index := 320#32
  ![v1072.toNat, 320]
def k0_off2051 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1075 : Index := Scalar.indexCast v1011
  let c336 : Index := 336#32
  ![v1075.toNat, 336]
def k0_off2052 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1078 : Index := Scalar.indexCast v1011
  let c352 : Index := 352#32
  ![v1078.toNat, 352]
def k0_off2053 (v41 : BitVec 32) (v43 : BitVec 32) (v45 : BitVec 32) (v47 : BitVec 32) (k0_t136 : Fin (k0_t136_loop v41 v43).trips) (k0_t137 : Fin (k0_t137_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let c1_i32_375 : BitVec 32 := 1#32
  let arg36 : BitVec 32 := Scf.iv v45 c1_i32_375 k0_t137
  let v1011 : BitVec 32 := Scalar.addi v1003 arg36
  let v1081 : Index := Scalar.indexCast v1011
  let c368 : Index := 368#32
  ![v1081.toNat, 368]
@[reducible] def k0_t138_loop (v45 : BitVec 32) (v47 : BitVec 32) : Scf.Loop 32 :=
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let v1005 : BitVec 32 := Scalar.addi v45 v1004
  let c1_i32_376 : BitVec 32 := 1#32
  ⟨v1008, v1005, c1_i32_376⟩
def k0_off2054 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1012 : Index := Scalar.indexCast v1011
  let c0_377 : Index := 0#32
  ![v1012.toNat, 0]
def k0_off2055 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1015 : Index := Scalar.indexCast v1011
  let c16 : Index := 16#32
  ![v1015.toNat, 16]
def k0_off2056 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1018 : Index := Scalar.indexCast v1011
  let c32 : Index := 32#32
  ![v1018.toNat, 32]
def k0_off2057 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1021 : Index := Scalar.indexCast v1011
  let c48 : Index := 48#32
  ![v1021.toNat, 48]
def k0_off2058 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1024 : Index := Scalar.indexCast v1011
  let c64 : Index := 64#32
  ![v1024.toNat, 64]
def k0_off2059 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1027 : Index := Scalar.indexCast v1011
  let c80 : Index := 80#32
  ![v1027.toNat, 80]
def k0_off2060 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1030 : Index := Scalar.indexCast v1011
  let c96 : Index := 96#32
  ![v1030.toNat, 96]
def k0_off2061 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1033 : Index := Scalar.indexCast v1011
  let c112 : Index := 112#32
  ![v1033.toNat, 112]
def k0_off2062 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1036 : Index := Scalar.indexCast v1011
  let c128 : Index := 128#32
  ![v1036.toNat, 128]
def k0_off2063 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1039 : Index := Scalar.indexCast v1011
  let c144 : Index := 144#32
  ![v1039.toNat, 144]
def k0_off2064 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1042 : Index := Scalar.indexCast v1011
  let c160 : Index := 160#32
  ![v1042.toNat, 160]
def k0_off2065 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1045 : Index := Scalar.indexCast v1011
  let c176 : Index := 176#32
  ![v1045.toNat, 176]
def k0_off2066 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1048 : Index := Scalar.indexCast v1011
  let c192 : Index := 192#32
  ![v1048.toNat, 192]
def k0_off2067 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1051 : Index := Scalar.indexCast v1011
  let c208 : Index := 208#32
  ![v1051.toNat, 208]
def k0_off2068 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1054 : Index := Scalar.indexCast v1011
  let c224 : Index := 224#32
  ![v1054.toNat, 224]
def k0_off2069 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1057 : Index := Scalar.indexCast v1011
  let c240 : Index := 240#32
  ![v1057.toNat, 240]
def k0_off2070 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1060 : Index := Scalar.indexCast v1011
  let c256 : Index := 256#32
  ![v1060.toNat, 256]
def k0_off2071 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1063 : Index := Scalar.indexCast v1011
  let c272 : Index := 272#32
  ![v1063.toNat, 272]
def k0_off2072 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1066 : Index := Scalar.indexCast v1011
  let c288 : Index := 288#32
  ![v1066.toNat, 288]
def k0_off2073 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1069 : Index := Scalar.indexCast v1011
  let c304 : Index := 304#32
  ![v1069.toNat, 304]
def k0_off2074 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1072 : Index := Scalar.indexCast v1011
  let c320 : Index := 320#32
  ![v1072.toNat, 320]
def k0_off2075 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1075 : Index := Scalar.indexCast v1011
  let c336 : Index := 336#32
  ![v1075.toNat, 336]
def k0_off2076 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1078 : Index := Scalar.indexCast v1011
  let c352 : Index := 352#32
  ![v1078.toNat, 352]
def k0_off2077 (v41 : BitVec 32) (v43 : BitVec 32) (v45 : BitVec 32) (v47 : BitVec 32) (k0_t136 : Fin (k0_t136_loop v41 v43).trips) (k0_t138 : Fin (k0_t138_loop v45 v47).trips) : Fin 2 → Nat :=
  let c1_i32_25 : BitVec 32 := 1#32
  let arg11 : BitVec 32 := Scf.iv v41 c1_i32_25 k0_t136
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t138
  let v1011 : BitVec 32 := Scalar.addi v1003 arg36
  let v1081 : Index := Scalar.indexCast v1011
  let c368 : Index := 368#32
  ![v1081.toNat, 368]
@[reducible] def k0_t139_loop (v41 : BitVec 32) (v43 : BitVec 32) : Scf.Loop 32 :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let v50 : BitVec 32 := Scalar.addi v41 v49
  let c1_i32_26 : BitVec 32 := 1#32
  ⟨v53, v50, c1_i32_26⟩
@[reducible] def k0_t140_loop (v45 : BitVec 32) (v47 : BitVec 32) : Scf.Loop 32 :=
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_375 : BitVec 32 := 1#32
  ⟨v45, v1008, c1_i32_375⟩
def k0_off2078 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1012 : Index := Scalar.indexCast v1011
  let c0_377 : Index := 0#32
  ![v1012.toNat, 0]
def k0_off2079 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1015 : Index := Scalar.indexCast v1011
  let c16 : Index := 16#32
  ![v1015.toNat, 16]
def k0_off2080 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1018 : Index := Scalar.indexCast v1011
  let c32 : Index := 32#32
  ![v1018.toNat, 32]
def k0_off2081 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1021 : Index := Scalar.indexCast v1011
  let c48 : Index := 48#32
  ![v1021.toNat, 48]
def k0_off2082 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1024 : Index := Scalar.indexCast v1011
  let c64 : Index := 64#32
  ![v1024.toNat, 64]
def k0_off2083 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1027 : Index := Scalar.indexCast v1011
  let c80 : Index := 80#32
  ![v1027.toNat, 80]
def k0_off2084 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1030 : Index := Scalar.indexCast v1011
  let c96 : Index := 96#32
  ![v1030.toNat, 96]
def k0_off2085 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1033 : Index := Scalar.indexCast v1011
  let c112 : Index := 112#32
  ![v1033.toNat, 112]
def k0_off2086 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1036 : Index := Scalar.indexCast v1011
  let c128 : Index := 128#32
  ![v1036.toNat, 128]
def k0_off2087 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1039 : Index := Scalar.indexCast v1011
  let c144 : Index := 144#32
  ![v1039.toNat, 144]
def k0_off2088 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1042 : Index := Scalar.indexCast v1011
  let c160 : Index := 160#32
  ![v1042.toNat, 160]
def k0_off2089 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1045 : Index := Scalar.indexCast v1011
  let c176 : Index := 176#32
  ![v1045.toNat, 176]
def k0_off2090 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1048 : Index := Scalar.indexCast v1011
  let c192 : Index := 192#32
  ![v1048.toNat, 192]
def k0_off2091 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1051 : Index := Scalar.indexCast v1011
  let c208 : Index := 208#32
  ![v1051.toNat, 208]
def k0_off2092 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1054 : Index := Scalar.indexCast v1011
  let c224 : Index := 224#32
  ![v1054.toNat, 224]
def k0_off2093 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1057 : Index := Scalar.indexCast v1011
  let c240 : Index := 240#32
  ![v1057.toNat, 240]
def k0_off2094 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1060 : Index := Scalar.indexCast v1011
  let c256 : Index := 256#32
  ![v1060.toNat, 256]
def k0_off2095 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1063 : Index := Scalar.indexCast v1011
  let c272 : Index := 272#32
  ![v1063.toNat, 272]
def k0_off2096 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1066 : Index := Scalar.indexCast v1011
  let c288 : Index := 288#32
  ![v1066.toNat, 288]
def k0_off2097 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1069 : Index := Scalar.indexCast v1011
  let c304 : Index := 304#32
  ![v1069.toNat, 304]
def k0_off2098 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1072 : Index := Scalar.indexCast v1011
  let c320 : Index := 320#32
  ![v1072.toNat, 320]
def k0_off2099 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1075 : Index := Scalar.indexCast v1011
  let c336 : Index := 336#32
  ![v1075.toNat, 336]
def k0_off2100 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1078 : Index := Scalar.indexCast v1011
  let c352 : Index := 352#32
  ![v1078.toNat, 352]
def k0_off2101 (v41 : BitVec 32) (v43 : BitVec 32) (v45 : BitVec 32) (v47 : BitVec 32) (k0_t139 : Fin (k0_t139_loop v41 v43).trips) (k0_t140 : Fin (k0_t140_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let c1_i32_375 : BitVec 32 := 1#32
  let arg36 : BitVec 32 := Scf.iv v45 c1_i32_375 k0_t140
  let v1011 : BitVec 32 := Scalar.addi v1003 arg36
  let v1081 : Index := Scalar.indexCast v1011
  let c368 : Index := 368#32
  ![v1081.toNat, 368]
@[reducible] def k0_t141_loop (v45 : BitVec 32) (v47 : BitVec 32) : Scf.Loop 32 :=
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let v1005 : BitVec 32 := Scalar.addi v45 v1004
  let c1_i32_376 : BitVec 32 := 1#32
  ⟨v1008, v1005, c1_i32_376⟩
def k0_off2102 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1012 : Index := Scalar.indexCast v1011
  let c0_377 : Index := 0#32
  ![v1012.toNat, 0]
def k0_off2103 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1015 : Index := Scalar.indexCast v1011
  let c16 : Index := 16#32
  ![v1015.toNat, 16]
def k0_off2104 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1018 : Index := Scalar.indexCast v1011
  let c32 : Index := 32#32
  ![v1018.toNat, 32]
def k0_off2105 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1021 : Index := Scalar.indexCast v1011
  let c48 : Index := 48#32
  ![v1021.toNat, 48]
def k0_off2106 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1024 : Index := Scalar.indexCast v1011
  let c64 : Index := 64#32
  ![v1024.toNat, 64]
def k0_off2107 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1027 : Index := Scalar.indexCast v1011
  let c80 : Index := 80#32
  ![v1027.toNat, 80]
def k0_off2108 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1030 : Index := Scalar.indexCast v1011
  let c96 : Index := 96#32
  ![v1030.toNat, 96]
def k0_off2109 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1033 : Index := Scalar.indexCast v1011
  let c112 : Index := 112#32
  ![v1033.toNat, 112]
def k0_off2110 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1036 : Index := Scalar.indexCast v1011
  let c128 : Index := 128#32
  ![v1036.toNat, 128]
def k0_off2111 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1039 : Index := Scalar.indexCast v1011
  let c144 : Index := 144#32
  ![v1039.toNat, 144]
def k0_off2112 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1042 : Index := Scalar.indexCast v1011
  let c160 : Index := 160#32
  ![v1042.toNat, 160]
def k0_off2113 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1045 : Index := Scalar.indexCast v1011
  let c176 : Index := 176#32
  ![v1045.toNat, 176]
def k0_off2114 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1048 : Index := Scalar.indexCast v1011
  let c192 : Index := 192#32
  ![v1048.toNat, 192]
def k0_off2115 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1051 : Index := Scalar.indexCast v1011
  let c208 : Index := 208#32
  ![v1051.toNat, 208]
def k0_off2116 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1054 : Index := Scalar.indexCast v1011
  let c224 : Index := 224#32
  ![v1054.toNat, 224]
def k0_off2117 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1057 : Index := Scalar.indexCast v1011
  let c240 : Index := 240#32
  ![v1057.toNat, 240]
def k0_off2118 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1060 : Index := Scalar.indexCast v1011
  let c256 : Index := 256#32
  ![v1060.toNat, 256]
def k0_off2119 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1063 : Index := Scalar.indexCast v1011
  let c272 : Index := 272#32
  ![v1063.toNat, 272]
def k0_off2120 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1066 : Index := Scalar.indexCast v1011
  let c288 : Index := 288#32
  ![v1066.toNat, 288]
def k0_off2121 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1069 : Index := Scalar.indexCast v1011
  let c304 : Index := 304#32
  ![v1069.toNat, 304]
def k0_off2122 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1072 : Index := Scalar.indexCast v1011
  let c320 : Index := 320#32
  ![v1072.toNat, 320]
def k0_off2123 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1075 : Index := Scalar.indexCast v1011
  let c336 : Index := 336#32
  ![v1075.toNat, 336]
def k0_off2124 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1078 : Index := Scalar.indexCast v1011
  let c352 : Index := 352#32
  ![v1078.toNat, 352]
def k0_off2125 (v41 : BitVec 32) (v43 : BitVec 32) (v45 : BitVec 32) (v47 : BitVec 32) (k0_t139 : Fin (k0_t139_loop v41 v43).trips) (k0_t141 : Fin (k0_t141_loop v45 v47).trips) : Fin 2 → Nat :=
  let v49 : BitVec 32 := Scalar.subi v43 v41
  let c1_i32_24 : BitVec 32 := 1#32
  let v51 : BitVec 32 := Scalar.divsi v49 c1_i32_24
  let v52 : BitVec 32 := Scalar.muli v51 c1_i32_24
  let v53 : BitVec 32 := Scalar.addi v41 v52
  let c1_i32_26 : BitVec 32 := 1#32
  let arg11 : BitVec 32 := Scf.iv v53 c1_i32_26 k0_t139
  let c14_i32 : BitVec 32 := 14#32
  let v1003 : BitVec 32 := Scalar.muli arg11 c14_i32
  let v1004 : BitVec 32 := Scalar.subi v47 v45
  let c1_i32_374 : BitVec 32 := 1#32
  let v1006 : BitVec 32 := Scalar.divsi v1004 c1_i32_374
  let v1007 : BitVec 32 := Scalar.muli v1006 c1_i32_374
  let v1008 : BitVec 32 := Scalar.addi v45 v1007
  let c1_i32_376 : BitVec 32 := 1#32
  let arg36 : BitVec 32 := Scf.iv v1008 c1_i32_376 k0_t141
  let v1011 : BitVec 32 := Scalar.addi v1003 arg36
  let v1081 : Index := Scalar.indexCast v1011
  let c368 : Index := 368#32
  ![v1081.toNat, 368]

def k0_chk534_0 (i : grid0.Coords) (v10 : BitVec 32) (v41 : BitVec 32) (v43 : BitVec 32) (v45 : BitVec 32) (v47 : BitVec 32) : Prop :=
  (∀ k0_t136 : Fin (k0_t136_loop v41 v43).trips, ∀ (k0_h2 : k0_cond2 i v10 = 1#1), (k0_t137_loop v45 v47).OK) ∧
  (∀ (k0_t136 : Fin (k0_t136_loop v41 v43).trips) (k0_t137 : Fin (k0_t137_loop v45 v47).trips), ∀ (k0_h2 : k0_cond2 i v10 = 1#1), ∀ a, (k0_off2030 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2031 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2032 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2033 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2034 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2035 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2036 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2037 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2038 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2039 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2040 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2041 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2042 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2043 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2044 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2045 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2046 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2047 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2048 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2049 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2050 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2051 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2052 v41 v43 v45 v47 k0_t136 k0_t137) a + S1x16.size a ≤ S196x384.size a) ∧
  (∀ (k0_t136 : Fin (k0_t136_loop v41 v43).trips) (k0_t137 : Fin (k0_t137_loop v45 v47).trips), ∀ (k0_h2 : k0_cond2 i v10 = 1#1), ∀ a, (k0_off2053 v41 v43 v45 v47 k0_t136 k0_t137) a + S1x16.size a ≤ S196x384.size a) ∧
  (∀ k0_t136 : Fin (k0_t136_loop v41 v43).trips, ∀ (k0_h2 : k0_cond2 i v10 = 1#1), (k0_t138_loop v45 v47).OK) ∧
  (∀ (k0_t136 : Fin (k0_t136_loop v41 v43).trips) (k0_t138 : Fin (k0_t138_loop v45 v47).trips), ∀ (k0_h2 : k0_cond2 i v10 = 1#1), ∀ a, (k0_off2054 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2055 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2056 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2057 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2058 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2059 v41 v43 v45 v47 k0_t136 k0_t138) a + S1x16.size a ≤ S196x384.size a)
def k0_chk534_1 (i : grid0.Coords) (v10 : BitVec 32) (v41 : BitVec 32) (v43 : BitVec 32) (v45 : BitVec 32) (v47 : BitVec 32) : Prop :=
  (∀ (k0_t136 : Fin (k0_t136_loop v41 v43).trips) (k0_t138 : Fin (k0_t138_loop v45 v47).trips), ∀ (k0_h2 : k0_cond2 i v10 = 1#1), ∀ a, (k0_off2060 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2061 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2062 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2063 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2064 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2065 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2066 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2067 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2068 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2069 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2070 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2071 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2072 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2073 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2074 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2075 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2076 v41 v43 v45 v47 k0_t136 k0_t138) a + S1x16.size a ≤ S196x384.size a) ∧
  (∀ (k0_t136 : Fin (k0_t136_loop v41 v43).trips) (k0_t138 : Fin (k0_t138_loop v45 v47).trips), ∀ (k0_h2 : k0_cond2 i v10 = 1#1), ∀ a, (k0_off2077 v41 v43 v45 v47 k0_t136 k0_t138) a + S1x16.size a ≤ S196x384.size a) ∧
  (∀ k0_t139 : Fin (k0_t139_loop v41 v43).trips, ∀ (k0_h2 : k0_cond2 i v10 = 1#1), (k0_t140_loop v45 v47).OK) ∧
  (∀ (k0_t139 : Fin (k0_t139_loop v41 v43).trips) (k0_t140 : Fin (k0_t140_loop v45 v47).trips), ∀ (k0_h2 : k0_cond2 i v10 = 1#1), ∀ a, (k0_off2078 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2079 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2080 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2081 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2082 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2083 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2084 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2085 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2086 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2087 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2088 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2089 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2090 v41 v43 v45 v47 k0_t139 k0_t140) a + S1x16.size a ≤ S196x384.size a)
def k0_chk534_2 (i : grid0.Coords) (v10 : BitVec 32) (v41 : BitVec 32) (v43 : BitVec 32) (v45 : BitVec 32) (v47 : BitVec 32) : Prop :=
  (∀ (k0_t139 : Fin (k0_t139_loop v41 v43).trips) (k0_t140 : Fin (k0_t140_loop v45 v47).trips), ∀ (k0_h2 : k0_cond2 i v10 = 1#1), ∀ a, (k0_off2091 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2092 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2093 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2094 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2095 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2096 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2097 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2098 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2099 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2100 v41 v43 v45 v47 k0_t139 k0_t140) a + S1x16.size a ≤ S196x384.size a) ∧
  (∀ (k0_t139 : Fin (k0_t139_loop v41 v43).trips) (k0_t140 : Fin (k0_t140_loop v45 v47).trips), ∀ (k0_h2 : k0_cond2 i v10 = 1#1), ∀ a, (k0_off2101 v41 v43 v45 v47 k0_t139 k0_t140) a + S1x16.size a ≤ S196x384.size a) ∧
  (∀ k0_t139 : Fin (k0_t139_loop v41 v43).trips, ∀ (k0_h2 : k0_cond2 i v10 = 1#1), (k0_t141_loop v45 v47).OK) ∧
  (∀ (k0_t139 : Fin (k0_t139_loop v41 v43).trips) (k0_t141 : Fin (k0_t141_loop v45 v47).trips), ∀ (k0_h2 : k0_cond2 i v10 = 1#1), ∀ a, (k0_off2102 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2103 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2104 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2105 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2106 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2107 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2108 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2109 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2110 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2111 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2112 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2113 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2114 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2115 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2116 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2117 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2118 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2119 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2120 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2121 v41 v43 v45 v47 k0_t139 k0_t141) a + S1x16.size a ≤ S196x384.size a)
def k0_chk534_3 (i : grid0.Coords) (v10 : BitVec 32) (v41 : BitVec 32) (v43 : BitVec 32) (v45 : BitVec 32) (v47 : BitVec 32) : Prop :=
  (∀ (k0_t139 : Fin (k0_t139_loop v41 v43).trips) (k0_t141 : Fin (k0_t141_loop v45 v47).trips), ∀ (k0_h2 : k0_cond2 i v10 = 1#1), ∀ a, (k0_off2122 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2123 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2124 v41 v43 v45 v47 k0_t139 k0_t141) a + S1x16.size a ≤ S196x384.size a) ∧
  (∀ (k0_t139 : Fin (k0_t139_loop v41 v43).trips) (k0_t141 : Fin (k0_t141_loop v45 v47).trips), ∀ (k0_h2 : k0_cond2 i v10 = 1#1), ∀ a, (k0_off2125 v41 v43 v45 v47 k0_t139 k0_t141) a + S1x16.size a ≤ S196x384.size a)
def k0_chk534 (i : grid0.Coords) (v10 : BitVec 32) (v41 : BitVec 32) (v43 : BitVec 32) (v45 : BitVec 32) (v47 : BitVec 32) : Prop :=
  k0_chk534_0 i v10 v41 v43 v45 v47 ∧
  k0_chk534_1 i v10 v41 v43 v45 v47 ∧
  k0_chk534_2 i v10 v41 v43 v45 v47 ∧
  k0_chk534_3 i v10 v41 v43 v45 v47
theorem k0_t137_ok : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips), ∀ (k0_h2 : k0_cond2 i v10 = 1#1), (k0_t137_loop v45 v47).OK := fun i v10 v41 v43 v45 v47 k0_hw534 k0_t136 k0_h2 => k0_hw534.1.1 k0_t136 k0_h2
theorem k0_off2030_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2030 v41 v43 v45 v47 k0_t136 k0_t137) a + S1x16.size a ≤ S196x384.size a := fun i v10 v41 v43 v45 v47 k0_hw534 k0_t136 k0_t137 k0_h2 => k0_hw534.1.2.1 k0_t136 k0_t137 k0_h2
theorem k0_off2031_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2031 v41 v43 v45 v47 k0_t136 k0_t137) a + S1x16.size a ≤ S196x384.size a := fun i v10 v41 v43 v45 v47 k0_hw534 k0_t136 k0_t137 k0_h2 => k0_hw534.1.2.2.1 k0_t136 k0_t137 k0_h2
theorem k0_off2032_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2032 v41 v43 v45 v47 k0_t136 k0_t137) a + S1x16.size a ≤ S196x384.size a := fun i v10 v41 v43 v45 v47 k0_hw534 k0_t136 k0_t137 k0_h2 => k0_hw534.1.2.2.2.1 k0_t136 k0_t137 k0_h2
theorem k0_off2033_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2033 v41 v43 v45 v47 k0_t136 k0_t137) a + S1x16.size a ≤ S196x384.size a := fun i v10 v41 v43 v45 v47 k0_hw534 k0_t136 k0_t137 k0_h2 => k0_hw534.1.2.2.2.2.1 k0_t136 k0_t137 k0_h2
theorem k0_off2034_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2034 v41 v43 v45 v47 k0_t136 k0_t137) a + S1x16.size a ≤ S196x384.size a := fun i v10 v41 v43 v45 v47 k0_hw534 k0_t136 k0_t137 k0_h2 => k0_hw534.1.2.2.2.2.2.1 k0_t136 k0_t137 k0_h2
theorem k0_off2035_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2035 v41 v43 v45 v47 k0_t136 k0_t137) a + S1x16.size a ≤ S196x384.size a := fun i v10 v41 v43 v45 v47 k0_hw534 k0_t136 k0_t137 k0_h2 => k0_hw534.1.2.2.2.2.2.2.1 k0_t136 k0_t137 k0_h2
theorem k0_off2036_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2036 v41 v43 v45 v47 k0_t136 k0_t137) a + S1x16.size a ≤ S196x384.size a := fun i v10 v41 v43 v45 v47 k0_hw534 k0_t136 k0_t137 k0_h2 => k0_hw534.1.2.2.2.2.2.2.2.1 k0_t136 k0_t137 k0_h2
theorem k0_off2037_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2037 v41 v43 v45 v47 k0_t136 k0_t137) a + S1x16.size a ≤ S196x384.size a := fun i v10 v41 v43 v45 v47 k0_hw534 k0_t136 k0_t137 k0_h2 => k0_hw534.1.2.2.2.2.2.2.2.2.1 k0_t136 k0_t137 k0_h2
theorem k0_off2038_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2038 v41 v43 v45 v47 k0_t136 k0_t137) a + S1x16.size a ≤ S196x384.size a := fun i v10 v41 v43 v45 v47 k0_hw534 k0_t136 k0_t137 k0_h2 => k0_hw534.1.2.2.2.2.2.2.2.2.2.1 k0_t136 k0_t137 k0_h2
theorem k0_off2039_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2039 v41 v43 v45 v47 k0_t136 k0_t137) a + S1x16.size a ≤ S196x384.size a := fun i v10 v41 v43 v45 v47 k0_hw534 k0_t136 k0_t137 k0_h2 => k0_hw534.1.2.2.2.2.2.2.2.2.2.2.1 k0_t136 k0_t137 k0_h2
theorem k0_off2040_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2040 v41 v43 v45 v47 k0_t136 k0_t137) a + S1x16.size a ≤ S196x384.size a := fun i v10 v41 v43 v45 v47 k0_hw534 k0_t136 k0_t137 k0_h2 => k0_hw534.1.2.2.2.2.2.2.2.2.2.2.2.1 k0_t136 k0_t137 k0_h2
theorem k0_off2041_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2041 v41 v43 v45 v47 k0_t136 k0_t137) a + S1x16.size a ≤ S196x384.size a := fun i v10 v41 v43 v45 v47 k0_hw534 k0_t136 k0_t137 k0_h2 => k0_hw534.1.2.2.2.2.2.2.2.2.2.2.2.2.1 k0_t136 k0_t137 k0_h2
theorem k0_off2042_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2042 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.1 k0_t136 k0_t137 k0_h2
theorem k0_off2043_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2043 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.1 k0_t136 k0_t137 k0_h2
theorem k0_off2044_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2044 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.1 k0_t136 k0_t137 k0_h2
theorem k0_off2045_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2045 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.2.1 k0_t136 k0_t137 k0_h2
theorem k0_off2046_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2046 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.2.2.1 k0_t136 k0_t137 k0_h2
theorem k0_off2047_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2047 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.2.2.2.1 k0_t136 k0_t137 k0_h2
theorem k0_off2048_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2048 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.2.2.2.2.1 k0_t136 k0_t137 k0_h2
theorem k0_off2049_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2049 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.2.2.2.2.2.1 k0_t136 k0_t137 k0_h2
theorem k0_off2050_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2050 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.2.2.2.2.2.2.1 k0_t136 k0_t137 k0_h2
theorem k0_off2051_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2051 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.2.2.2.2.2.2.2.1 k0_t136 k0_t137 k0_h2
theorem k0_off2052_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2052 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.2.2.2.2.2.2.2.2.1 k0_t136 k0_t137 k0_h2
theorem k0_off2053_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t137 : Fin (k0_t137_loop v45 v47).trips), ∀ (k0_h2 : k0_cond2 i v10 = 1#1), ∀ a, (k0_off2053 v41 v43 v45 v47 k0_t136 k0_t137) a + S1x16.size a ≤ S196x384.size a := fun i v10 v41 v43 v45 v47 k0_hw534 k0_t136 k0_t137 k0_h2 => k0_hw534.1.2.2.2.2.2.2.2.2.2.2.2.2.2.2.2.2.2.2.2.2.2.2.2.2.1 k0_t136 k0_t137 k0_h2
theorem k0_t138_ok : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips), ∀ (k0_h2 : k0_cond2 i v10 = 1#1), (k0_t138_loop v45 v47).OK := fun i v10 v41 v43 v45 v47 k0_hw534 k0_t136 k0_h2 => k0_hw534.1.2.2.2.2.2.2.2.2.2.2.2.2.2.2.2.2.2.2.2.2.2.2.2.2.2.1 k0_t136 k0_h2
theorem k0_off2054_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2054 v41 v43 v45 v47 k0_t136 k0_t138) a + S1x16.size a ≤ S196x384.size a := fun i v10 v41 v43 v45 v47 k0_hw534 k0_t136 k0_t138 k0_h2 => k0_hw534.1.2.2.2.2.2.2.2.2.2.2.2.2.2.2.2.2.2.2.2.2.2.2.2.2.2.2.1 k0_t136 k0_t138 k0_h2
theorem k0_off2055_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2055 v41 v43 v45 v47 k0_t136 k0_t138) a + S1x16.size a ≤ S196x384.size a := fun i v10 v41 v43 v45 v47 k0_hw534 k0_t136 k0_t138 k0_h2 => k0_hw534.1.2.2.2.2.2.2.2.2.2.2.2.2.2.2.2.2.2.2.2.2.2.2.2.2.2.2.2.1 k0_t136 k0_t138 k0_h2
theorem k0_off2056_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2056 v41 v43 v45 v47 k0_t136 k0_t138) a + S1x16.size a ≤ S196x384.size a := fun i v10 v41 v43 v45 v47 k0_hw534 k0_t136 k0_t138 k0_h2 => k0_hw534.1.2.2.2.2.2.2.2.2.2.2.2.2.2.2.2.2.2.2.2.2.2.2.2.2.2.2.2.2.1 k0_t136 k0_t138 k0_h2
theorem k0_off2057_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2057 v41 v43 v45 v47 k0_t136 k0_t138) a + S1x16.size a ≤ S196x384.size a := fun i v10 v41 v43 v45 v47 k0_hw534 k0_t136 k0_t138 k0_h2 => k0_hw534.1.2.2.2.2.2.2.2.2.2.2.2.2.2.2.2.2.2.2.2.2.2.2.2.2.2.2.2.2.2.1 k0_t136 k0_t138 k0_h2
theorem k0_off2058_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2058 v41 v43 v45 v47 k0_t136 k0_t138) a + S1x16.size a ≤ S196x384.size a := fun i v10 v41 v43 v45 v47 k0_hw534 k0_t136 k0_t138 k0_h2 => k0_hw534.1.2.2.2.2.2.2.2.2.2.2.2.2.2.2.2.2.2.2.2.2.2.2.2.2.2.2.2.2.2.2.1 k0_t136 k0_t138 k0_h2
theorem k0_off2059_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2059 v41 v43 v45 v47 k0_t136 k0_t138) a + S1x16.size a ≤ S196x384.size a := fun i v10 v41 v43 v45 v47 k0_hw534 k0_t136 k0_t138 k0_h2 => k0_hw534.1.2.2.2.2.2.2.2.2.2.2.2.2.2.2.2.2.2.2.2.2.2.2.2.2.2.2.2.2.2.2.2 k0_t136 k0_t138 k0_h2
theorem k0_off2060_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2060 v41 v43 v45 v47 k0_t136 k0_t138) a + S1x16.size a ≤ S196x384.size a := fun i v10 v41 v43 v45 v47 k0_hw534 k0_t136 k0_t138 k0_h2 => k0_hw534.2.1.1 k0_t136 k0_t138 k0_h2
theorem k0_off2061_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2061 v41 v43 v45 v47 k0_t136 k0_t138) a + S1x16.size a ≤ S196x384.size a := fun i v10 v41 v43 v45 v47 k0_hw534 k0_t136 k0_t138 k0_h2 => k0_hw534.2.1.2.1 k0_t136 k0_t138 k0_h2
theorem k0_off2062_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2062 v41 v43 v45 v47 k0_t136 k0_t138) a + S1x16.size a ≤ S196x384.size a := fun i v10 v41 v43 v45 v47 k0_hw534 k0_t136 k0_t138 k0_h2 => k0_hw534.2.1.2.2.1 k0_t136 k0_t138 k0_h2
theorem k0_off2063_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2063 v41 v43 v45 v47 k0_t136 k0_t138) a + S1x16.size a ≤ S196x384.size a := fun i v10 v41 v43 v45 v47 k0_hw534 k0_t136 k0_t138 k0_h2 => k0_hw534.2.1.2.2.2.1 k0_t136 k0_t138 k0_h2
theorem k0_off2064_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2064 v41 v43 v45 v47 k0_t136 k0_t138) a + S1x16.size a ≤ S196x384.size a := fun i v10 v41 v43 v45 v47 k0_hw534 k0_t136 k0_t138 k0_h2 => k0_hw534.2.1.2.2.2.2.1 k0_t136 k0_t138 k0_h2
theorem k0_off2065_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2065 v41 v43 v45 v47 k0_t136 k0_t138) a + S1x16.size a ≤ S196x384.size a := fun i v10 v41 v43 v45 v47 k0_hw534 k0_t136 k0_t138 k0_h2 => k0_hw534.2.1.2.2.2.2.2.1 k0_t136 k0_t138 k0_h2
theorem k0_off2066_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2066 v41 v43 v45 v47 k0_t136 k0_t138) a + S1x16.size a ≤ S196x384.size a := fun i v10 v41 v43 v45 v47 k0_hw534 k0_t136 k0_t138 k0_h2 => k0_hw534.2.1.2.2.2.2.2.2.1 k0_t136 k0_t138 k0_h2
theorem k0_off2067_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2067 v41 v43 v45 v47 k0_t136 k0_t138) a + S1x16.size a ≤ S196x384.size a := fun i v10 v41 v43 v45 v47 k0_hw534 k0_t136 k0_t138 k0_h2 => k0_hw534.2.1.2.2.2.2.2.2.2.1 k0_t136 k0_t138 k0_h2
theorem k0_off2068_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2068 v41 v43 v45 v47 k0_t136 k0_t138) a + S1x16.size a ≤ S196x384.size a := fun i v10 v41 v43 v45 v47 k0_hw534 k0_t136 k0_t138 k0_h2 => k0_hw534.2.1.2.2.2.2.2.2.2.2.1 k0_t136 k0_t138 k0_h2
theorem k0_off2069_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2069 v41 v43 v45 v47 k0_t136 k0_t138) a + S1x16.size a ≤ S196x384.size a := fun i v10 v41 v43 v45 v47 k0_hw534 k0_t136 k0_t138 k0_h2 => k0_hw534.2.1.2.2.2.2.2.2.2.2.2.1 k0_t136 k0_t138 k0_h2
theorem k0_off2070_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2070 v41 v43 v45 v47 k0_t136 k0_t138) a + S1x16.size a ≤ S196x384.size a := fun i v10 v41 v43 v45 v47 k0_hw534 k0_t136 k0_t138 k0_h2 => k0_hw534.2.1.2.2.2.2.2.2.2.2.2.2.1 k0_t136 k0_t138 k0_h2
theorem k0_off2071_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2071 v41 v43 v45 v47 k0_t136 k0_t138) a + S1x16.size a ≤ S196x384.size a := fun i v10 v41 v43 v45 v47 k0_hw534 k0_t136 k0_t138 k0_h2 => k0_hw534.2.1.2.2.2.2.2.2.2.2.2.2.2.1 k0_t136 k0_t138 k0_h2
theorem k0_off2072_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2072 v41 v43 v45 v47 k0_t136 k0_t138) a + S1x16.size a ≤ S196x384.size a := fun i v10 v41 v43 v45 v47 k0_hw534 k0_t136 k0_t138 k0_h2 => k0_hw534.2.1.2.2.2.2.2.2.2.2.2.2.2.2.1 k0_t136 k0_t138 k0_h2
theorem k0_off2073_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2073 v41 v43 v45 v47 k0_t136 k0_t138) a + S1x16.size a ≤ S196x384.size a := fun i v10 v41 v43 v45 v47 k0_hw534 k0_t136 k0_t138 k0_h2 => k0_hw534.2.1.2.2.2.2.2.2.2.2.2.2.2.2.2.1 k0_t136 k0_t138 k0_h2
theorem k0_off2074_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2074 v41 v43 v45 v47 k0_t136 k0_t138) a + S1x16.size a ≤ S196x384.size a := fun i v10 v41 v43 v45 v47 k0_hw534 k0_t136 k0_t138 k0_h2 => k0_hw534.2.1.2.2.2.2.2.2.2.2.2.2.2.2.2.2.1 k0_t136 k0_t138 k0_h2
theorem k0_off2075_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2075 v41 v43 v45 v47 k0_t136 k0_t138) a + S1x16.size a ≤ S196x384.size a := fun i v10 v41 v43 v45 v47 k0_hw534 k0_t136 k0_t138 k0_h2 => k0_hw534.2.1.2.2.2.2.2.2.2.2.2.2.2.2.2.2.2.1 k0_t136 k0_t138 k0_h2
theorem k0_off2076_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2076 v41 v43 v45 v47 k0_t136 k0_t138) a + S1x16.size a ≤ S196x384.size a := fun i v10 v41 v43 v45 v47 k0_hw534 k0_t136 k0_t138 k0_h2 => k0_hw534.2.1.2.2.2.2.2.2.2.2.2.2.2.2.2.2.2.2.1 k0_t136 k0_t138 k0_h2
theorem k0_off2077_inb : ∀ (i : grid0.Coords) (v10 : BitVec 32) (v41 : BitVec 32) (v43 : BitVec 32) (v45 : BitVec 32) (v47 : BitVec 32) (k0_hw534 : k0_chk534 i v10 v41 v43 v45 v47) (k0_t136 : Fin (k0_t136_loop v41 v43).trips) (k0_t138 : Fin (k0_t138_loop v45 v47).trips), ∀ (k0_h2 : k0_cond2 i v10 = 1#1), ∀ a, (k0_off2077 v41 v43 v45 v47 k0_t136 k0_t138) a + S1x16.size a ≤ S196x384.size a := fun i v10 v41 v43 v45 v47 k0_hw534 k0_t136 k0_t138 k0_h2 => k0_hw534.2.1.2.2.2.2.2.2.2.2.2.2.2.2.2.2.2.2.2.1 k0_t136 k0_t138 k0_h2
theorem k0_t140_ok : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips), ∀ (k0_h2 : k0_cond2 i v10 = 1#1), (k0_t140_loop v45 v47).OK := fun i v10 v41 v43 v45 v47 k0_hw534 k0_t139 k0_h2 => k0_hw534.2.1.2.2.2.2.2.2.2.2.2.2.2.2.2.2.2.2.2.2.1 k0_t139 k0_h2
theorem k0_off2078_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2078 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.1 k0_t139 k0_t140 k0_h2
theorem k0_off2079_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2079 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.1 k0_t139 k0_t140 k0_h2
theorem k0_off2080_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2080 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.1 k0_t139 k0_t140 k0_h2
theorem k0_off2081_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2081 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.1 k0_t139 k0_t140 k0_h2
theorem k0_off2082_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2082 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.2.1 k0_t139 k0_t140 k0_h2
theorem k0_off2083_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2083 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.2.2.1 k0_t139 k0_t140 k0_h2
theorem k0_off2084_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2084 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.2.2.2.1 k0_t139 k0_t140 k0_h2
theorem k0_off2085_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2085 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.2.2.2.2.1 k0_t139 k0_t140 k0_h2
theorem k0_off2086_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2086 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.2.2.2.2.2.1 k0_t139 k0_t140 k0_h2
theorem k0_off2087_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2087 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.2.2.2.2.2.2.1 k0_t139 k0_t140 k0_h2
theorem k0_off2088_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2088 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.2.2.2.2.2.2.2.1 k0_t139 k0_t140 k0_h2
theorem k0_off2089_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2089 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.2.2.2.2.2.2.2.2.1 k0_t139 k0_t140 k0_h2
theorem k0_off2090_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2090 v41 v43 v45 v47 k0_t139 k0_t140) a + S1x16.size a ≤ S196x384.size a := fun i v10 v41 v43 v45 v47 k0_hw534 k0_t139 k0_t140 k0_h2 => k0_hw534.2.1.2.2.2.2.2.2.2.2.2.2.2.2.2.2.2.2.2.2.2.2.2.2.2.2.2.2.2.2.2.2.2 k0_t139 k0_t140 k0_h2
theorem k0_off2091_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2091 v41 v43 v45 v47 k0_t139 k0_t140) a + S1x16.size a ≤ S196x384.size a := fun i v10 v41 v43 v45 v47 k0_hw534 k0_t139 k0_t140 k0_h2 => k0_hw534.2.2.1.1 k0_t139 k0_t140 k0_h2
theorem k0_off2092_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2092 v41 v43 v45 v47 k0_t139 k0_t140) a + S1x16.size a ≤ S196x384.size a := fun i v10 v41 v43 v45 v47 k0_hw534 k0_t139 k0_t140 k0_h2 => k0_hw534.2.2.1.2.1 k0_t139 k0_t140 k0_h2
theorem k0_off2093_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2093 v41 v43 v45 v47 k0_t139 k0_t140) a + S1x16.size a ≤ S196x384.size a := fun i v10 v41 v43 v45 v47 k0_hw534 k0_t139 k0_t140 k0_h2 => k0_hw534.2.2.1.2.2.1 k0_t139 k0_t140 k0_h2
theorem k0_off2094_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2094 v41 v43 v45 v47 k0_t139 k0_t140) a + S1x16.size a ≤ S196x384.size a := fun i v10 v41 v43 v45 v47 k0_hw534 k0_t139 k0_t140 k0_h2 => k0_hw534.2.2.1.2.2.2.1 k0_t139 k0_t140 k0_h2
theorem k0_off2095_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2095 v41 v43 v45 v47 k0_t139 k0_t140) a + S1x16.size a ≤ S196x384.size a := fun i v10 v41 v43 v45 v47 k0_hw534 k0_t139 k0_t140 k0_h2 => k0_hw534.2.2.1.2.2.2.2.1 k0_t139 k0_t140 k0_h2
theorem k0_off2096_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2096 v41 v43 v45 v47 k0_t139 k0_t140) a + S1x16.size a ≤ S196x384.size a := fun i v10 v41 v43 v45 v47 k0_hw534 k0_t139 k0_t140 k0_h2 => k0_hw534.2.2.1.2.2.2.2.2.1 k0_t139 k0_t140 k0_h2
theorem k0_off2097_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2097 v41 v43 v45 v47 k0_t139 k0_t140) a + S1x16.size a ≤ S196x384.size a := fun i v10 v41 v43 v45 v47 k0_hw534 k0_t139 k0_t140 k0_h2 => k0_hw534.2.2.1.2.2.2.2.2.2.1 k0_t139 k0_t140 k0_h2
theorem k0_off2098_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2098 v41 v43 v45 v47 k0_t139 k0_t140) a + S1x16.size a ≤ S196x384.size a := fun i v10 v41 v43 v45 v47 k0_hw534 k0_t139 k0_t140 k0_h2 => k0_hw534.2.2.1.2.2.2.2.2.2.2.1 k0_t139 k0_t140 k0_h2
theorem k0_off2099_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2099 v41 v43 v45 v47 k0_t139 k0_t140) a + S1x16.size a ≤ S196x384.size a := fun i v10 v41 v43 v45 v47 k0_hw534 k0_t139 k0_t140 k0_h2 => k0_hw534.2.2.1.2.2.2.2.2.2.2.2.1 k0_t139 k0_t140 k0_h2
theorem k0_off2100_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2100 v41 v43 v45 v47 k0_t139 k0_t140) a + S1x16.size a ≤ S196x384.size a := fun i v10 v41 v43 v45 v47 k0_hw534 k0_t139 k0_t140 k0_h2 => k0_hw534.2.2.1.2.2.2.2.2.2.2.2.2.1 k0_t139 k0_t140 k0_h2
theorem k0_off2101_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t140 : Fin (k0_t140_loop v45 v47).trips), ∀ (k0_h2 : k0_cond2 i v10 = 1#1), ∀ a, (k0_off2101 v41 v43 v45 v47 k0_t139 k0_t140) a + S1x16.size a ≤ S196x384.size a := fun i v10 v41 v43 v45 v47 k0_hw534 k0_t139 k0_t140 k0_h2 => k0_hw534.2.2.1.2.2.2.2.2.2.2.2.2.2.1 k0_t139 k0_t140 k0_h2
theorem k0_t141_ok : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips), ∀ (k0_h2 : k0_cond2 i v10 = 1#1), (k0_t141_loop v45 v47).OK := fun i v10 v41 v43 v45 v47 k0_hw534 k0_t139 k0_h2 => k0_hw534.2.2.1.2.2.2.2.2.2.2.2.2.2.2.1 k0_t139 k0_h2
theorem k0_off2102_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2102 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.1 k0_t139 k0_t141 k0_h2
theorem k0_off2103_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2103 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.1 k0_t139 k0_t141 k0_h2
theorem k0_off2104_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2104 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.1 k0_t139 k0_t141 k0_h2
theorem k0_off2105_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2105 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.1 k0_t139 k0_t141 k0_h2
theorem k0_off2106_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2106 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.1 k0_t139 k0_t141 k0_h2
theorem k0_off2107_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2107 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.1 k0_t139 k0_t141 k0_h2
theorem k0_off2108_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2108 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.1 k0_t139 k0_t141 k0_h2
theorem k0_off2109_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2109 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.1 k0_t139 k0_t141 k0_h2
theorem k0_off2110_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2110 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.1 k0_t139 k0_t141 k0_h2
theorem k0_off2111_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2111 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.1 k0_t139 k0_t141 k0_h2
theorem k0_off2112_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2112 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.1 k0_t139 k0_t141 k0_h2
theorem k0_off2113_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2113 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.2.1 k0_t139 k0_t141 k0_h2
theorem k0_off2114_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2114 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.2.2.1 k0_t139 k0_t141 k0_h2
theorem k0_off2115_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2115 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.2.2.2.1 k0_t139 k0_t141 k0_h2
theorem k0_off2116_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2116 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.2.2.2.2.1 k0_t139 k0_t141 k0_h2
theorem k0_off2117_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2117 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.2.2.2.2.2.1 k0_t139 k0_t141 k0_h2
theorem k0_off2118_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2118 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.2.2.2.2.2.2.1 k0_t139 k0_t141 k0_h2
theorem k0_off2119_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2119 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.2.2.2.2.2.2.2.1 k0_t139 k0_t141 k0_h2
theorem k0_off2120_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2120 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.2.2.2.2.2.2.2.2.1 k0_t139 k0_t141 k0_h2
theorem k0_off2121_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2121 v41 v43 v45 v47 k0_t139 k0_t141) a + S1x16.size a ≤ S196x384.size a := fun i v10 v41 v43 v45 v47 k0_hw534 k0_t139 k0_t141 k0_h2 => k0_hw534.2.2.1.2.2.2.2.2.2.2.2.2.2.2.2.2.2.2.2.2.2.2.2.2.2.2.2.2.2.2.2.2.2.2 k0_t139 k0_t141 k0_h2
theorem k0_off2122_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2122 v41 v43 v45 v47 k0_t139 k0_t141) a + S1x16.size a ≤ S196x384.size a := fun i v10 v41 v43 v45 v47 k0_hw534 k0_t139 k0_t141 k0_h2 => k0_hw534.2.2.2.1 k0_t139 k0_t141 k0_h2
theorem k0_off2123_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2123 v41 v43 v45 v47 k0_t139 k0_t141) a + S1x16.size a ≤ S196x384.size a := fun i v10 v41 v43 v45 v47 k0_hw534 k0_t139 k0_t141 k0_h2 => k0_hw534.2.2.2.2.1 k0_t139 k0_t141 k0_h2
theorem k0_off2124_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2124 v41 v43 v45 v47 k0_t139 k0_t141) a + S1x16.size a ≤ S196x384.size a := fun i v10 v41 v43 v45 v47 k0_hw534 k0_t139 k0_t141 k0_h2 => k0_hw534.2.2.2.2.2.1 k0_t139 k0_t141 k0_h2
theorem k0_off2125_inb : ∀ (i : grid0.Coords) (v10 : BitVec 32) (v41 : BitVec 32) (v43 : BitVec 32) (v45 : BitVec 32) (v47 : BitVec 32) (k0_hw534 : k0_chk534 i v10 v41 v43 v45 v47) (k0_t139 : Fin (k0_t139_loop v41 v43).trips) (k0_t141 : Fin (k0_t141_loop v45 v47).trips), ∀ (k0_h2 : k0_cond2 i v10 = 1#1), ∀ a, (k0_off2125 v41 v43 v45 v47 k0_t139 k0_t141) a + S1x16.size a ≤ S196x384.size a := fun i v10 v41 v43 v45 v47 k0_hw534 k0_t139 k0_t141 k0_h2 => k0_hw534.2.2.2.2.2.2 k0_t139 k0_t141 k0_h2

def k0_chk535 (i : grid0.Coords) (v10 : BitVec 32) (v65 : IVec S16 32) : Prop :=
  (∀ (k0_h2 : k0_cond2 i v10 = 1#1), ∀ a x, ((![v65] : Fin 1 → IVec S16 32) a x).toNat < S18816.size a)
theorem k0_idx505_inb : ∀ (i : grid0.Coords) (v10 : BitVec 32) (v65 : IVec S16 32) (k0_hw535 : k0_chk535 i v10 v65), ∀ (k0_h2 : k0_cond2 i v10 = 1#1), ∀ a x, ((![v65] : Fin 1 → IVec S16 32) a x).toNat < S18816.size a := fun i v10 v65 k0_hw535 k0_h2 => k0_hw535 k0_h2

def k0_chk536 (i : grid0.Coords) (v10 : BitVec 32) (v70 : IVec S16 32) : Prop :=
  (∀ (k0_h2 : k0_cond2 i v10 = 1#1), ∀ a x, ((![v70] : Fin 1 → IVec S16 32) a x).toNat < S18816.size a)
theorem k0_idx506_inb : ∀ (i : grid0.Coords) (v10 : BitVec 32) (v70 : IVec S16 32) (k0_hw536 : k0_chk536 i v10 v70), ∀ (k0_h2 : k0_cond2 i v10 = 1#1), ∀ a x, ((![v70] : Fin 1 → IVec S16 32) a x).toNat < S18816.size a := fun i v10 v70 k0_hw536 k0_h2 => k0_hw536 k0_h2

def k0_chk537 (i : grid0.Coords) (v10 : BitVec 32) (v75 : IVec S16 32) : Prop :=
  (∀ (k0_h2 : k0_cond2 i v10 = 1#1), ∀ a x, ((![v75] : Fin 1 → IVec S16 32) a x).toNat < S18816.size a)
theorem k0_idx507_inb : ∀ (i : grid0.Coords) (v10 : BitVec 32) (v75 : IVec S16 32) (k0_hw537 : k0_chk537 i v10 v75), ∀ (k0_h2 : k0_cond2 i v10 = 1#1), ∀ a x, ((![v75] : Fin 1 → IVec S16 32) a x).toNat < S18816.size a := fun i v10 v75 k0_hw537 k0_h2 => k0_hw537 k0_h2

def k0_chk538 (i : grid0.Coords) (v10 : BitVec 32) (v80 : IVec S16 32) : Prop :=
  (∀ (k0_h2 : k0_cond2 i v10 = 1#1), ∀ a x, ((![v80] : Fin 1 → IVec S16 32) a x).toNat < S18816.size a)
theorem k0_idx508_inb : ∀ (i : grid0.Coords) (v10 : BitVec 32) (v80 : IVec S16 32) (k0_hw538 : k0_chk538 i v10 v80), ∀ (k0_h2 : k0_cond2 i v10 = 1#1), ∀ a x, ((![v80] : Fin 1 → IVec S16 32) a x).toNat < S18816.size a := fun i v10 v80 k0_hw538 k0_h2 => k0_hw538 k0_h2

def k0_chk539 (i : grid0.Coords) (v10 : BitVec 32) (v85 : IVec S16 32) : Prop :=
  (∀ (k0_h2 : k0_cond2 i v10 = 1#1), ∀ a x, ((![v85] : Fin 1 → IVec S16 32) a x).toNat < S18816.size a)
theorem k0_idx509_inb : ∀ (i : grid0.Coords) (v10 : BitVec 32) (v85 : IVec S16 32) (k0_hw539 : k0_chk539 i v10 v85), ∀ (k0_h2 : k0_cond2 i v10 = 1#1), ∀ a x, ((![v85] : Fin 1 → IVec S16 32) a x).toNat < S18816.size a := fun i v10 v85 k0_hw539 k0_h2 => k0_hw539 k0_h2

def k0_chk540 (i : grid0.Coords) (v10 : BitVec 32) (v90 : IVec S16 32) : Prop :=
  (∀ (k0_h2 : k0_cond2 i v10 = 1#1), ∀ a x, ((![v90] : Fin 1 → IVec S16 32) a x).toNat < S18816.size a)
theorem k0_idx510_inb : ∀ (i : grid0.Coords) (v10 : BitVec 32) (v90 : IVec S16 32) (k0_hw540 : k0_chk540 i v10 v90), ∀ (k0_h2 : k0_cond2 i v10 = 1#1), ∀ a x, ((![v90] : Fin 1 → IVec S16 32) a x).toNat < S18816.size a := fun i v10 v90 k0_hw540 k0_h2 => k0_hw540 k0_h2

def k0_chk541 (i : grid0.Coords) (v10 : BitVec 32) (v95 : IVec S16 32) : Prop :=
  (∀ (k0_h2 : k0_cond2 i v10 = 1#1), ∀ a x, ((![v95] : Fin 1 → IVec S16 32) a x).toNat < S18816.size a)
theorem k0_idx511_inb : ∀ (i : grid0.Coords) (v10 : BitVec 32) (v95 : IVec S16 32) (k0_hw541 : k0_chk541 i v10 v95), ∀ (k0_h2 : k0_cond2 i v10 = 1#1), ∀ a x, ((![v95] : Fin 1 → IVec S16 32) a x).toNat < S18816.size a := fun i v10 v95 k0_hw541 k0_h2 => k0_hw541 k0_h2

def k0_chk542 (i : grid0.Coords) (v10 : BitVec 32) (v100 : IVec S16 32) : Prop :=
  (∀ (k0_h2 : k0_cond2 i v10 = 1#1), ∀ a x, ((![v100] : Fin 1 → IVec S16 32) a x).toNat < S18816.size a)
theorem k0_idx512_inb : ∀ (i : grid0.Coords) (v10 : BitVec 32) (v100 : IVec S16 32) (k0_hw542 : k0_chk542 i v10 v100), ∀ (k0_h2 : k0_cond2 i v10 = 1#1), ∀ a x, ((![v100] : Fin 1 → IVec S16 32) a x).toNat < S18816.size a := fun i v10 v100 k0_hw542 k0_h2 => k0_hw542 k0_h2

def k0_chk543 (i : grid0.Coords) (v10 : BitVec 32) (v105 : IVec S16 32) : Prop :=
  (∀ (k0_h2 : k0_cond2 i v10 = 1#1), ∀ a x, ((![v105] : Fin 1 → IVec S16 32) a x).toNat < S18816.size a)
theorem k0_idx513_inb : ∀ (i : grid0.Coords) (v10 : BitVec 32) (v105 : IVec S16 32) (k0_hw543 : k0_chk543 i v10 v105), ∀ (k0_h2 : k0_cond2 i v10 = 1#1), ∀ a x, ((![v105] : Fin 1 → IVec S16 32) a x).toNat < S18816.size a := fun i v10 v105 k0_hw543 k0_h2 => k0_hw543 k0_h2

def k0_chk544 (i : grid0.Coords) (v10 : BitVec 32) (v110 : IVec S16 32) : Prop :=
  (∀ (k0_h2 : k0_cond2 i v10 = 1#1), ∀ a x, ((![v110] : Fin 1 → IVec S16 32) a x).toNat < S18816.size a)
theorem k0_idx514_inb : ∀ (i : grid0.Coords) (v10 : BitVec 32) (v110 : IVec S16 32) (k0_hw544 : k0_chk544 i v10 v110), ∀ (k0_h2 : k0_cond2 i v10 = 1#1), ∀ a x, ((![v110] : Fin 1 → IVec S16 32) a x).toNat < S18816.size a := fun i v10 v110 k0_hw544 k0_h2 => k0_hw544 k0_h2

def k0_chk545 (i : grid0.Coords) (v10 : BitVec 32) (v115 : IVec S16 32) : Prop :=
  (∀ (k0_h2 : k0_cond2 i v10 = 1#1), ∀ a x, ((![v115] : Fin 1 → IVec S16 32) a x).toNat < S18816.size a)
theorem k0_idx515_inb : ∀ (i : grid0.Coords) (v10 : BitVec 32) (v115 : IVec S16 32) (k0_hw545 : k0_chk545 i v10 v115), ∀ (k0_h2 : k0_cond2 i v10 = 1#1), ∀ a x, ((![v115] : Fin 1 → IVec S16 32) a x).toNat < S18816.size a := fun i v10 v115 k0_hw545 k0_h2 => k0_hw545 k0_h2

def k0_chk546 (i : grid0.Coords) (v10 : BitVec 32) (v120 : IVec S16 32) : Prop :=
  (∀ (k0_h2 : k0_cond2 i v10 = 1#1), ∀ a x, ((![v120] : Fin 1 → IVec S16 32) a x).toNat < S18816.size a)
theorem k0_idx516_inb : ∀ (i : grid0.Coords) (v10 : BitVec 32) (v120 : IVec S16 32) (k0_hw546 : k0_chk546 i v10 v120), ∀ (k0_h2 : k0_cond2 i v10 = 1#1), ∀ a x, ((![v120] : Fin 1 → IVec S16 32) a x).toNat < S18816.size a := fun i v10 v120 k0_hw546 k0_h2 => k0_hw546 k0_h2

def k0_chk547 (i : grid0.Coords) (v10 : BitVec 32) (v125 : IVec S16 32) : Prop :=
  (∀ (k0_h2 : k0_cond2 i v10 = 1#1), ∀ a x, ((![v125] : Fin 1 → IVec S16 32) a x).toNat < S18816.size a)
theorem k0_idx517_inb : ∀ (i : grid0.Coords) (v10 : BitVec 32) (v125 : IVec S16 32) (k0_hw547 : k0_chk547 i v10 v125), ∀ (k0_h2 : k0_cond2 i v10 = 1#1), ∀ a x, ((![v125] : Fin 1 → IVec S16 32) a x).toNat < S18816.size a := fun i v10 v125 k0_hw547 k0_h2 => k0_hw547 k0_h2

def k0_chk548 (i : grid0.Coords) (v10 : BitVec 32) (v130 : IVec S16 32) : Prop :=
  (∀ (k0_h2 : k0_cond2 i v10 = 1#1), ∀ a x, ((![v130] : Fin 1 → IVec S16 32) a x).toNat < S18816.size a)
theorem k0_idx518_inb : ∀ (i : grid0.Coords) (v10 : BitVec 32) (v130 : IVec S16 32) (k0_hw548 : k0_chk548 i v10 v130), ∀ (k0_h2 : k0_cond2 i v10 = 1#1), ∀ a x, ((![v130] : Fin 1 → IVec S16 32) a x).toNat < S18816.size a := fun i v10 v130 k0_hw548 k0_h2 => k0_hw548 k0_h2

def k0_chk549 (i : grid0.Coords) (v10 : BitVec 32) (v135 : IVec S16 32) : Prop :=
  (∀ (k0_h2 : k0_cond2 i v10 = 1#1), ∀ a x, ((![v135] : Fin 1 → IVec S16 32) a x).toNat < S18816.size a)
theorem k0_idx519_inb : ∀ (i : grid0.Coords) (v10 : BitVec 32) (v135 : IVec S16 32) (k0_hw549 : k0_chk549 i v10 v135), ∀ (k0_h2 : k0_cond2 i v10 = 1#1), ∀ a x, ((![v135] : Fin 1 → IVec S16 32) a x).toNat < S18816.size a := fun i v10 v135 k0_hw549 k0_h2 => k0_hw549 k0_h2

def k0_chk550 (i : grid0.Coords) (v10 : BitVec 32) (v140 : IVec S16 32) : Prop :=
  (∀ (k0_h2 : k0_cond2 i v10 = 1#1), ∀ a x, ((![v140] : Fin 1 → IVec S16 32) a x).toNat < S18816.size a)
theorem k0_idx520_inb : ∀ (i : grid0.Coords) (v10 : BitVec 32) (v140 : IVec S16 32) (k0_hw550 : k0_chk550 i v10 v140), ∀ (k0_h2 : k0_cond2 i v10 = 1#1), ∀ a x, ((![v140] : Fin 1 → IVec S16 32) a x).toNat < S18816.size a := fun i v10 v140 k0_hw550 k0_h2 => k0_hw550 k0_h2

def k0_chk551 (i : grid0.Coords) (v10 : BitVec 32) (v145 : IVec S16 32) : Prop :=
  (∀ (k0_h2 : k0_cond2 i v10 = 1#1), ∀ a x, ((![v145] : Fin 1 → IVec S16 32) a x).toNat < S18816.size a)
theorem k0_idx521_inb : ∀ (i : grid0.Coords) (v10 : BitVec 32) (v145 : IVec S16 32) (k0_hw551 : k0_chk551 i v10 v145), ∀ (k0_h2 : k0_cond2 i v10 = 1#1), ∀ a x, ((![v145] : Fin 1 → IVec S16 32) a x).toNat < S18816.size a := fun i v10 v145 k0_hw551 k0_h2 => k0_hw551 k0_h2

def k0_chk552 (i : grid0.Coords) (v10 : BitVec 32) (v150 : IVec S16 32) : Prop :=
  (∀ (k0_h2 : k0_cond2 i v10 = 1#1), ∀ a x, ((![v150] : Fin 1 → IVec S16 32) a x).toNat < S18816.size a)
theorem k0_idx522_inb : ∀ (i : grid0.Coords) (v10 : BitVec 32) (v150 : IVec S16 32) (k0_hw552 : k0_chk552 i v10 v150), ∀ (k0_h2 : k0_cond2 i v10 = 1#1), ∀ a x, ((![v150] : Fin 1 → IVec S16 32) a x).toNat < S18816.size a := fun i v10 v150 k0_hw552 k0_h2 => k0_hw552 k0_h2

def k0_chk553 (i : grid0.Coords) (v10 : BitVec 32) (v155 : IVec S16 32) : Prop :=
  (∀ (k0_h2 : k0_cond2 i v10 = 1#1), ∀ a x, ((![v155] : Fin 1 → IVec S16 32) a x).toNat < S18816.size a)
theorem k0_idx523_inb : ∀ (i : grid0.Coords) (v10 : BitVec 32) (v155 : IVec S16 32) (k0_hw553 : k0_chk553 i v10 v155), ∀ (k0_h2 : k0_cond2 i v10 = 1#1), ∀ a x, ((![v155] : Fin 1 → IVec S16 32) a x).toNat < S18816.size a := fun i v10 v155 k0_hw553 k0_h2 => k0_hw553 k0_h2

def k0_chk554 (i : grid0.Coords) (v10 : BitVec 32) (v160 : IVec S16 32) : Prop :=
  (∀ (k0_h2 : k0_cond2 i v10 = 1#1), ∀ a x, ((![v160] : Fin 1 → IVec S16 32) a x).toNat < S18816.size a)
theorem k0_idx524_inb : ∀ (i : grid0.Coords) (v10 : BitVec 32) (v160 : IVec S16 32) (k0_hw554 : k0_chk554 i v10 v160), ∀ (k0_h2 : k0_cond2 i v10 = 1#1), ∀ a x, ((![v160] : Fin 1 → IVec S16 32) a x).toNat < S18816.size a := fun i v10 v160 k0_hw554 k0_h2 => k0_hw554 k0_h2

def k0_chk555 (i : grid0.Coords) (v10 : BitVec 32) (v165 : IVec S16 32) : Prop :=
  (∀ (k0_h2 : k0_cond2 i v10 = 1#1), ∀ a x, ((![v165] : Fin 1 → IVec S16 32) a x).toNat < S18816.size a)
theorem k0_idx525_inb : ∀ (i : grid0.Coords) (v10 : BitVec 32) (v165 : IVec S16 32) (k0_hw555 : k0_chk555 i v10 v165), ∀ (k0_h2 : k0_cond2 i v10 = 1#1), ∀ a x, ((![v165] : Fin 1 → IVec S16 32) a x).toNat < S18816.size a := fun i v10 v165 k0_hw555 k0_h2 => k0_hw555 k0_h2

def k0_chk556 (i : grid0.Coords) (v10 : BitVec 32) (v170 : IVec S16 32) : Prop :=
  (∀ (k0_h2 : k0_cond2 i v10 = 1#1), ∀ a x, ((![v170] : Fin 1 → IVec S16 32) a x).toNat < S18816.size a)
theorem k0_idx526_inb : ∀ (i : grid0.Coords) (v10 : BitVec 32) (v170 : IVec S16 32) (k0_hw556 : k0_chk556 i v10 v170), ∀ (k0_h2 : k0_cond2 i v10 = 1#1), ∀ a x, ((![v170] : Fin 1 → IVec S16 32) a x).toNat < S18816.size a := fun i v10 v170 k0_hw556 k0_h2 => k0_hw556 k0_h2

def k0_chk557 (i : grid0.Coords) (v10 : BitVec 32) (v175 : IVec S16 32) : Prop :=
  (∀ (k0_h2 : k0_cond2 i v10 = 1#1), ∀ a x, ((![v175] : Fin 1 → IVec S16 32) a x).toNat < S18816.size a)
theorem k0_idx527_inb : ∀ (i : grid0.Coords) (v10 : BitVec 32) (v175 : IVec S16 32) (k0_hw557 : k0_chk557 i v10 v175), ∀ (k0_h2 : k0_cond2 i v10 = 1#1), ∀ a x, ((![v175] : Fin 1 → IVec S16 32) a x).toNat < S18816.size a := fun i v10 v175 k0_hw557 k0_h2 => k0_hw557 k0_h2

def k0_chk558 (i : grid0.Coords) (v10 : BitVec 32) (v180 : IVec S16 32) : Prop :=
  (∀ (k0_h2 : k0_cond2 i v10 = 1#1), ∀ a x, ((![v180] : Fin 1 → IVec S16 32) a x).toNat < S18816.size a)
theorem k0_idx528_inb : ∀ (i : grid0.Coords) (v10 : BitVec 32) (v180 : IVec S16 32) (k0_hw558 : k0_chk558 i v10 v180), ∀ (k0_h2 : k0_cond2 i v10 = 1#1), ∀ a x, ((![v180] : Fin 1 → IVec S16 32) a x).toNat < S18816.size a := fun i v10 v180 k0_hw558 k0_h2 => k0_hw558 k0_h2
@[reducible] def k0_t142_loop (v41 : BitVec 32) (v43 : BitVec 32) : Scf.Loop 32 :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_56 : BitVec 32 := 1#32
  ⟨v41, v190, c1_i32_56⟩
@[reducible] def k0_t143_loop (v182 : BitVec 32) (v184 : BitVec 32) : Scf.Loop 32 :=
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_375 : BitVec 32 := 1#32
  ⟨v182, v1008, c1_i32_375⟩

def k0_off2126 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1012 : Index := Scalar.indexCast v1011
  let c0_377 : Index := 0#32
  ![v1012.toNat, 0]
def k0_off2127 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1015 : Index := Scalar.indexCast v1011
  let c16 : Index := 16#32
  ![v1015.toNat, 16]
def k0_off2128 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1018 : Index := Scalar.indexCast v1011
  let c32 : Index := 32#32
  ![v1018.toNat, 32]
def k0_off2129 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1021 : Index := Scalar.indexCast v1011
  let c48 : Index := 48#32
  ![v1021.toNat, 48]
def k0_off2130 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1024 : Index := Scalar.indexCast v1011
  let c64 : Index := 64#32
  ![v1024.toNat, 64]
def k0_off2131 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1027 : Index := Scalar.indexCast v1011
  let c80 : Index := 80#32
  ![v1027.toNat, 80]
def k0_off2132 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1030 : Index := Scalar.indexCast v1011
  let c96 : Index := 96#32
  ![v1030.toNat, 96]
def k0_off2133 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1033 : Index := Scalar.indexCast v1011
  let c112 : Index := 112#32
  ![v1033.toNat, 112]
def k0_off2134 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1036 : Index := Scalar.indexCast v1011
  let c128 : Index := 128#32
  ![v1036.toNat, 128]
def k0_off2135 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1039 : Index := Scalar.indexCast v1011
  let c144 : Index := 144#32
  ![v1039.toNat, 144]
def k0_off2136 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1042 : Index := Scalar.indexCast v1011
  let c160 : Index := 160#32
  ![v1042.toNat, 160]
def k0_off2137 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1045 : Index := Scalar.indexCast v1011
  let c176 : Index := 176#32
  ![v1045.toNat, 176]
def k0_off2138 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1048 : Index := Scalar.indexCast v1011
  let c192 : Index := 192#32
  ![v1048.toNat, 192]
def k0_off2139 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1051 : Index := Scalar.indexCast v1011
  let c208 : Index := 208#32
  ![v1051.toNat, 208]
def k0_off2140 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1054 : Index := Scalar.indexCast v1011
  let c224 : Index := 224#32
  ![v1054.toNat, 224]
def k0_off2141 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1057 : Index := Scalar.indexCast v1011
  let c240 : Index := 240#32
  ![v1057.toNat, 240]
def k0_off2142 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1060 : Index := Scalar.indexCast v1011
  let c256 : Index := 256#32
  ![v1060.toNat, 256]
def k0_off2143 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1063 : Index := Scalar.indexCast v1011
  let c272 : Index := 272#32
  ![v1063.toNat, 272]
def k0_off2144 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1066 : Index := Scalar.indexCast v1011
  let c288 : Index := 288#32
  ![v1066.toNat, 288]
def k0_off2145 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1069 : Index := Scalar.indexCast v1011
  let c304 : Index := 304#32
  ![v1069.toNat, 304]
def k0_off2146 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1072 : Index := Scalar.indexCast v1011
  let c320 : Index := 320#32
  ![v1072.toNat, 320]
def k0_off2147 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1075 : Index := Scalar.indexCast v1011
  let c336 : Index := 336#32
  ![v1075.toNat, 336]
def k0_off2148 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1078 : Index := Scalar.indexCast v1011
  let c352 : Index := 352#32
  ![v1078.toNat, 352]
def k0_off2149 (v41 : BitVec 32) (v43 : BitVec 32) (v182 : BitVec 32) (v184 : BitVec 32) (k0_t142 : Fin (k0_t142_loop v41 v43).trips) (k0_t143 : Fin (k0_t143_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let c1_i32_375 : BitVec 32 := 1#32
  let arg36 : BitVec 32 := Scf.iv v182 c1_i32_375 k0_t143
  let v1011 : BitVec 32 := Scalar.addi v1003 arg36
  let v1081 : Index := Scalar.indexCast v1011
  let c368 : Index := 368#32
  ![v1081.toNat, 368]
@[reducible] def k0_t144_loop (v182 : BitVec 32) (v184 : BitVec 32) : Scf.Loop 32 :=
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let v1005 : BitVec 32 := Scalar.addi v182 v1004
  let c1_i32_376 : BitVec 32 := 1#32
  ⟨v1008, v1005, c1_i32_376⟩
def k0_off2150 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1012 : Index := Scalar.indexCast v1011
  let c0_377 : Index := 0#32
  ![v1012.toNat, 0]
def k0_off2151 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1015 : Index := Scalar.indexCast v1011
  let c16 : Index := 16#32
  ![v1015.toNat, 16]
def k0_off2152 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1018 : Index := Scalar.indexCast v1011
  let c32 : Index := 32#32
  ![v1018.toNat, 32]
def k0_off2153 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1021 : Index := Scalar.indexCast v1011
  let c48 : Index := 48#32
  ![v1021.toNat, 48]
def k0_off2154 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1024 : Index := Scalar.indexCast v1011
  let c64 : Index := 64#32
  ![v1024.toNat, 64]
def k0_off2155 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1027 : Index := Scalar.indexCast v1011
  let c80 : Index := 80#32
  ![v1027.toNat, 80]
def k0_off2156 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1030 : Index := Scalar.indexCast v1011
  let c96 : Index := 96#32
  ![v1030.toNat, 96]
def k0_off2157 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1033 : Index := Scalar.indexCast v1011
  let c112 : Index := 112#32
  ![v1033.toNat, 112]
def k0_off2158 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1036 : Index := Scalar.indexCast v1011
  let c128 : Index := 128#32
  ![v1036.toNat, 128]
def k0_off2159 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1039 : Index := Scalar.indexCast v1011
  let c144 : Index := 144#32
  ![v1039.toNat, 144]
def k0_off2160 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1042 : Index := Scalar.indexCast v1011
  let c160 : Index := 160#32
  ![v1042.toNat, 160]
def k0_off2161 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1045 : Index := Scalar.indexCast v1011
  let c176 : Index := 176#32
  ![v1045.toNat, 176]
def k0_off2162 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1048 : Index := Scalar.indexCast v1011
  let c192 : Index := 192#32
  ![v1048.toNat, 192]
def k0_off2163 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1051 : Index := Scalar.indexCast v1011
  let c208 : Index := 208#32
  ![v1051.toNat, 208]
def k0_off2164 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1054 : Index := Scalar.indexCast v1011
  let c224 : Index := 224#32
  ![v1054.toNat, 224]
def k0_off2165 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1057 : Index := Scalar.indexCast v1011
  let c240 : Index := 240#32
  ![v1057.toNat, 240]
def k0_off2166 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1060 : Index := Scalar.indexCast v1011
  let c256 : Index := 256#32
  ![v1060.toNat, 256]
def k0_off2167 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1063 : Index := Scalar.indexCast v1011
  let c272 : Index := 272#32
  ![v1063.toNat, 272]
def k0_off2168 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1066 : Index := Scalar.indexCast v1011
  let c288 : Index := 288#32
  ![v1066.toNat, 288]
def k0_off2169 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1069 : Index := Scalar.indexCast v1011
  let c304 : Index := 304#32
  ![v1069.toNat, 304]
def k0_off2170 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1072 : Index := Scalar.indexCast v1011
  let c320 : Index := 320#32
  ![v1072.toNat, 320]
def k0_off2171 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1075 : Index := Scalar.indexCast v1011
  let c336 : Index := 336#32
  ![v1075.toNat, 336]
def k0_off2172 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1078 : Index := Scalar.indexCast v1011
  let c352 : Index := 352#32
  ![v1078.toNat, 352]
def k0_off2173 (v41 : BitVec 32) (v43 : BitVec 32) (v182 : BitVec 32) (v184 : BitVec 32) (k0_t142 : Fin (k0_t142_loop v41 v43).trips) (k0_t144 : Fin (k0_t144_loop v182 v184).trips) : Fin 2 → Nat :=
  let c1_i32_56 : BitVec 32 := 1#32
  let arg11 : BitVec 32 := Scf.iv v41 c1_i32_56 k0_t142
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t144
  let v1011 : BitVec 32 := Scalar.addi v1003 arg36
  let v1081 : Index := Scalar.indexCast v1011
  let c368 : Index := 368#32
  ![v1081.toNat, 368]
@[reducible] def k0_t145_loop (v41 : BitVec 32) (v43 : BitVec 32) : Scf.Loop 32 :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let v187 : BitVec 32 := Scalar.addi v41 v186
  let c1_i32_57 : BitVec 32 := 1#32
  ⟨v190, v187, c1_i32_57⟩
@[reducible] def k0_t146_loop (v182 : BitVec 32) (v184 : BitVec 32) : Scf.Loop 32 :=
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_375 : BitVec 32 := 1#32
  ⟨v182, v1008, c1_i32_375⟩
def k0_off2174 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1012 : Index := Scalar.indexCast v1011
  let c0_377 : Index := 0#32
  ![v1012.toNat, 0]
def k0_off2175 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1015 : Index := Scalar.indexCast v1011
  let c16 : Index := 16#32
  ![v1015.toNat, 16]
def k0_off2176 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1018 : Index := Scalar.indexCast v1011
  let c32 : Index := 32#32
  ![v1018.toNat, 32]
def k0_off2177 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1021 : Index := Scalar.indexCast v1011
  let c48 : Index := 48#32
  ![v1021.toNat, 48]
def k0_off2178 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1024 : Index := Scalar.indexCast v1011
  let c64 : Index := 64#32
  ![v1024.toNat, 64]
def k0_off2179 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1027 : Index := Scalar.indexCast v1011
  let c80 : Index := 80#32
  ![v1027.toNat, 80]
def k0_off2180 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1030 : Index := Scalar.indexCast v1011
  let c96 : Index := 96#32
  ![v1030.toNat, 96]
def k0_off2181 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1033 : Index := Scalar.indexCast v1011
  let c112 : Index := 112#32
  ![v1033.toNat, 112]
def k0_off2182 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1036 : Index := Scalar.indexCast v1011
  let c128 : Index := 128#32
  ![v1036.toNat, 128]
def k0_off2183 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1039 : Index := Scalar.indexCast v1011
  let c144 : Index := 144#32
  ![v1039.toNat, 144]
def k0_off2184 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1042 : Index := Scalar.indexCast v1011
  let c160 : Index := 160#32
  ![v1042.toNat, 160]
def k0_off2185 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1045 : Index := Scalar.indexCast v1011
  let c176 : Index := 176#32
  ![v1045.toNat, 176]
def k0_off2186 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1048 : Index := Scalar.indexCast v1011
  let c192 : Index := 192#32
  ![v1048.toNat, 192]
def k0_off2187 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1051 : Index := Scalar.indexCast v1011
  let c208 : Index := 208#32
  ![v1051.toNat, 208]
def k0_off2188 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1054 : Index := Scalar.indexCast v1011
  let c224 : Index := 224#32
  ![v1054.toNat, 224]
def k0_off2189 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1057 : Index := Scalar.indexCast v1011
  let c240 : Index := 240#32
  ![v1057.toNat, 240]
def k0_off2190 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1060 : Index := Scalar.indexCast v1011
  let c256 : Index := 256#32
  ![v1060.toNat, 256]
def k0_off2191 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1063 : Index := Scalar.indexCast v1011
  let c272 : Index := 272#32
  ![v1063.toNat, 272]
def k0_off2192 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1066 : Index := Scalar.indexCast v1011
  let c288 : Index := 288#32
  ![v1066.toNat, 288]
def k0_off2193 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1069 : Index := Scalar.indexCast v1011
  let c304 : Index := 304#32
  ![v1069.toNat, 304]
def k0_off2194 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1072 : Index := Scalar.indexCast v1011
  let c320 : Index := 320#32
  ![v1072.toNat, 320]
def k0_off2195 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1075 : Index := Scalar.indexCast v1011
  let c336 : Index := 336#32
  ![v1075.toNat, 336]
def k0_off2196 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1078 : Index := Scalar.indexCast v1011
  let c352 : Index := 352#32
  ![v1078.toNat, 352]
def k0_off2197 (v41 : BitVec 32) (v43 : BitVec 32) (v182 : BitVec 32) (v184 : BitVec 32) (k0_t145 : Fin (k0_t145_loop v41 v43).trips) (k0_t146 : Fin (k0_t146_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let c1_i32_375 : BitVec 32 := 1#32
  let arg36 : BitVec 32 := Scf.iv v182 c1_i32_375 k0_t146
  let v1011 : BitVec 32 := Scalar.addi v1003 arg36
  let v1081 : Index := Scalar.indexCast v1011
  let c368 : Index := 368#32
  ![v1081.toNat, 368]
@[reducible] def k0_t147_loop (v182 : BitVec 32) (v184 : BitVec 32) : Scf.Loop 32 :=
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let v1005 : BitVec 32 := Scalar.addi v182 v1004
  let c1_i32_376 : BitVec 32 := 1#32
  ⟨v1008, v1005, c1_i32_376⟩
def k0_off2198 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1012 : Index := Scalar.indexCast v1011
  let c0_377 : Index := 0#32
  ![v1012.toNat, 0]
def k0_off2199 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1015 : Index := Scalar.indexCast v1011
  let c16 : Index := 16#32
  ![v1015.toNat, 16]
def k0_off2200 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1018 : Index := Scalar.indexCast v1011
  let c32 : Index := 32#32
  ![v1018.toNat, 32]
def k0_off2201 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1021 : Index := Scalar.indexCast v1011
  let c48 : Index := 48#32
  ![v1021.toNat, 48]
def k0_off2202 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1024 : Index := Scalar.indexCast v1011
  let c64 : Index := 64#32
  ![v1024.toNat, 64]
def k0_off2203 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1027 : Index := Scalar.indexCast v1011
  let c80 : Index := 80#32
  ![v1027.toNat, 80]
def k0_off2204 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1030 : Index := Scalar.indexCast v1011
  let c96 : Index := 96#32
  ![v1030.toNat, 96]
def k0_off2205 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1033 : Index := Scalar.indexCast v1011
  let c112 : Index := 112#32
  ![v1033.toNat, 112]
def k0_off2206 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1036 : Index := Scalar.indexCast v1011
  let c128 : Index := 128#32
  ![v1036.toNat, 128]
def k0_off2207 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1039 : Index := Scalar.indexCast v1011
  let c144 : Index := 144#32
  ![v1039.toNat, 144]
def k0_off2208 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1042 : Index := Scalar.indexCast v1011
  let c160 : Index := 160#32
  ![v1042.toNat, 160]
def k0_off2209 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1045 : Index := Scalar.indexCast v1011
  let c176 : Index := 176#32
  ![v1045.toNat, 176]
def k0_off2210 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1048 : Index := Scalar.indexCast v1011
  let c192 : Index := 192#32
  ![v1048.toNat, 192]
def k0_off2211 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1051 : Index := Scalar.indexCast v1011
  let c208 : Index := 208#32
  ![v1051.toNat, 208]
def k0_off2212 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1054 : Index := Scalar.indexCast v1011
  let c224 : Index := 224#32
  ![v1054.toNat, 224]
def k0_off2213 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1057 : Index := Scalar.indexCast v1011
  let c240 : Index := 240#32
  ![v1057.toNat, 240]
def k0_off2214 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1060 : Index := Scalar.indexCast v1011
  let c256 : Index := 256#32
  ![v1060.toNat, 256]
def k0_off2215 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1063 : Index := Scalar.indexCast v1011
  let c272 : Index := 272#32
  ![v1063.toNat, 272]
def k0_off2216 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1066 : Index := Scalar.indexCast v1011
  let c288 : Index := 288#32
  ![v1066.toNat, 288]
def k0_off2217 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1069 : Index := Scalar.indexCast v1011
  let c304 : Index := 304#32
  ![v1069.toNat, 304]
def k0_off2218 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1072 : Index := Scalar.indexCast v1011
  let c320 : Index := 320#32
  ![v1072.toNat, 320]
def k0_off2219 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1075 : Index := Scalar.indexCast v1011
  let c336 : Index := 336#32
  ![v1075.toNat, 336]
def k0_off2220 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1078 : Index := Scalar.indexCast v1011
  let c352 : Index := 352#32
  ![v1078.toNat, 352]
def k0_off2221 (v41 : BitVec 32) (v43 : BitVec 32) (v182 : BitVec 32) (v184 : BitVec 32) (k0_t145 : Fin (k0_t145_loop v41 v43).trips) (k0_t147 : Fin (k0_t147_loop v182 v184).trips) : Fin 2 → Nat :=
  let v186 : BitVec 32 := Scalar.subi v43 v41
  let c1_i32_55 : BitVec 32 := 1#32
  let v188 : BitVec 32 := Scalar.divsi v186 c1_i32_55
  let v189 : BitVec 32 := Scalar.muli v188 c1_i32_55
  let v190 : BitVec 32 := Scalar.addi v41 v189
  let c1_i32_57 : BitVec 32 := 1#32
  let arg11 : BitVec 32 := Scf.iv v190 c1_i32_57 k0_t145
  let c14_i32 : BitVec 32 := 14#32
  let v1003 : BitVec 32 := Scalar.muli arg11 c14_i32
  let v1004 : BitVec 32 := Scalar.subi v184 v182
  let c1_i32_374 : BitVec 32 := 1#32
  let v1006 : BitVec 32 := Scalar.divsi v1004 c1_i32_374
  let v1007 : BitVec 32 := Scalar.muli v1006 c1_i32_374
  let v1008 : BitVec 32 := Scalar.addi v182 v1007
  let c1_i32_376 : BitVec 32 := 1#32
  let arg36 : BitVec 32 := Scf.iv v1008 c1_i32_376 k0_t147
  let v1011 : BitVec 32 := Scalar.addi v1003 arg36
  let v1081 : Index := Scalar.indexCast v1011
  let c368 : Index := 368#32
  ![v1081.toNat, 368]

def k0_chk559_0 (i : grid0.Coords) (v10 : BitVec 32) (v41 : BitVec 32) (v43 : BitVec 32) (v182 : BitVec 32) (v184 : BitVec 32) : Prop :=
  (∀ k0_t142 : Fin (k0_t142_loop v41 v43).trips, ∀ (k0_h2 : k0_cond2 i v10 = 1#1), (k0_t143_loop v182 v184).OK) ∧
  (∀ (k0_t142 : Fin (k0_t142_loop v41 v43).trips) (k0_t143 : Fin (k0_t143_loop v182 v184).trips), ∀ (k0_h2 : k0_cond2 i v10 = 1#1), ∀ a, (k0_off2126 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2127 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2128 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2129 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2130 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2131 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2132 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2133 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2134 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2135 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2136 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2137 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2138 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2139 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2140 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2141 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2142 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2143 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2144 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2145 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2146 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2147 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2148 v41 v43 v182 v184 k0_t142 k0_t143) a + S1x16.size a ≤ S196x384.size a) ∧
  (∀ (k0_t142 : Fin (k0_t142_loop v41 v43).trips) (k0_t143 : Fin (k0_t143_loop v182 v184).trips), ∀ (k0_h2 : k0_cond2 i v10 = 1#1), ∀ a, (k0_off2149 v41 v43 v182 v184 k0_t142 k0_t143) a + S1x16.size a ≤ S196x384.size a) ∧
  (∀ k0_t142 : Fin (k0_t142_loop v41 v43).trips, ∀ (k0_h2 : k0_cond2 i v10 = 1#1), (k0_t144_loop v182 v184).OK) ∧
  (∀ (k0_t142 : Fin (k0_t142_loop v41 v43).trips) (k0_t144 : Fin (k0_t144_loop v182 v184).trips), ∀ (k0_h2 : k0_cond2 i v10 = 1#1), ∀ a, (k0_off2150 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2151 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2152 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2153 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2154 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2155 v41 v43 v182 v184 k0_t142 k0_t144) a + S1x16.size a ≤ S196x384.size a)
def k0_chk559_1 (i : grid0.Coords) (v10 : BitVec 32) (v41 : BitVec 32) (v43 : BitVec 32) (v182 : BitVec 32) (v184 : BitVec 32) : Prop :=
  (∀ (k0_t142 : Fin (k0_t142_loop v41 v43).trips) (k0_t144 : Fin (k0_t144_loop v182 v184).trips), ∀ (k0_h2 : k0_cond2 i v10 = 1#1), ∀ a, (k0_off2156 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2157 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2158 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2159 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2160 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2161 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2162 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2163 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2164 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2165 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2166 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2167 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2168 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2169 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2170 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2171 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2172 v41 v43 v182 v184 k0_t142 k0_t144) a + S1x16.size a ≤ S196x384.size a) ∧
  (∀ (k0_t142 : Fin (k0_t142_loop v41 v43).trips) (k0_t144 : Fin (k0_t144_loop v182 v184).trips), ∀ (k0_h2 : k0_cond2 i v10 = 1#1), ∀ a, (k0_off2173 v41 v43 v182 v184 k0_t142 k0_t144) a + S1x16.size a ≤ S196x384.size a) ∧
  (∀ k0_t145 : Fin (k0_t145_loop v41 v43).trips, ∀ (k0_h2 : k0_cond2 i v10 = 1#1), (k0_t146_loop v182 v184).OK) ∧
  (∀ (k0_t145 : Fin (k0_t145_loop v41 v43).trips) (k0_t146 : Fin (k0_t146_loop v182 v184).trips), ∀ (k0_h2 : k0_cond2 i v10 = 1#1), ∀ a, (k0_off2174 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2175 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2176 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2177 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2178 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2179 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2180 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2181 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2182 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2183 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2184 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2185 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2186 v41 v43 v182 v184 k0_t145 k0_t146) a + S1x16.size a ≤ S196x384.size a)
def k0_chk559_2 (i : grid0.Coords) (v10 : BitVec 32) (v41 : BitVec 32) (v43 : BitVec 32) (v182 : BitVec 32) (v184 : BitVec 32) : Prop :=
  (∀ (k0_t145 : Fin (k0_t145_loop v41 v43).trips) (k0_t146 : Fin (k0_t146_loop v182 v184).trips), ∀ (k0_h2 : k0_cond2 i v10 = 1#1), ∀ a, (k0_off2187 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2188 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2189 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2190 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2191 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2192 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2193 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2194 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2195 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2196 v41 v43 v182 v184 k0_t145 k0_t146) a + S1x16.size a ≤ S196x384.size a) ∧
  (∀ (k0_t145 : Fin (k0_t145_loop v41 v43).trips) (k0_t146 : Fin (k0_t146_loop v182 v184).trips), ∀ (k0_h2 : k0_cond2 i v10 = 1#1), ∀ a, (k0_off2197 v41 v43 v182 v184 k0_t145 k0_t146) a + S1x16.size a ≤ S196x384.size a) ∧
  (∀ k0_t145 : Fin (k0_t145_loop v41 v43).trips, ∀ (k0_h2 : k0_cond2 i v10 = 1#1), (k0_t147_loop v182 v184).OK) ∧
  (∀ (k0_t145 : Fin (k0_t145_loop v41 v43).trips) (k0_t147 : Fin (k0_t147_loop v182 v184).trips), ∀ (k0_h2 : k0_cond2 i v10 = 1#1), ∀ a, (k0_off2198 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2199 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2200 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2201 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2202 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2203 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2204 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2205 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2206 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2207 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2208 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2209 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2210 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2211 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2212 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2213 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2214 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2215 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2216 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2217 v41 v43 v182 v184 k0_t145 k0_t147) a + S1x16.size a ≤ S196x384.size a)
def k0_chk559_3 (i : grid0.Coords) (v10 : BitVec 32) (v41 : BitVec 32) (v43 : BitVec 32) (v182 : BitVec 32) (v184 : BitVec 32) : Prop :=
  (∀ (k0_t145 : Fin (k0_t145_loop v41 v43).trips) (k0_t147 : Fin (k0_t147_loop v182 v184).trips), ∀ (k0_h2 : k0_cond2 i v10 = 1#1), ∀ a, (k0_off2218 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2219 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2220 v41 v43 v182 v184 k0_t145 k0_t147) a + S1x16.size a ≤ S196x384.size a) ∧
  (∀ (k0_t145 : Fin (k0_t145_loop v41 v43).trips) (k0_t147 : Fin (k0_t147_loop v182 v184).trips), ∀ (k0_h2 : k0_cond2 i v10 = 1#1), ∀ a, (k0_off2221 v41 v43 v182 v184 k0_t145 k0_t147) a + S1x16.size a ≤ S196x384.size a)
def k0_chk559 (i : grid0.Coords) (v10 : BitVec 32) (v41 : BitVec 32) (v43 : BitVec 32) (v182 : BitVec 32) (v184 : BitVec 32) : Prop :=
  k0_chk559_0 i v10 v41 v43 v182 v184 ∧
  k0_chk559_1 i v10 v41 v43 v182 v184 ∧
  k0_chk559_2 i v10 v41 v43 v182 v184 ∧
  k0_chk559_3 i v10 v41 v43 v182 v184
theorem k0_t143_ok : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips), ∀ (k0_h2 : k0_cond2 i v10 = 1#1), (k0_t143_loop v182 v184).OK := fun i v10 v41 v43 v182 v184 k0_hw559 k0_t142 k0_h2 => k0_hw559.1.1 k0_t142 k0_h2
theorem k0_off2126_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2126 v41 v43 v182 v184 k0_t142 k0_t143) a + S1x16.size a ≤ S196x384.size a := fun i v10 v41 v43 v182 v184 k0_hw559 k0_t142 k0_t143 k0_h2 => k0_hw559.1.2.1 k0_t142 k0_t143 k0_h2
theorem k0_off2127_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2127 v41 v43 v182 v184 k0_t142 k0_t143) a + S1x16.size a ≤ S196x384.size a := fun i v10 v41 v43 v182 v184 k0_hw559 k0_t142 k0_t143 k0_h2 => k0_hw559.1.2.2.1 k0_t142 k0_t143 k0_h2
theorem k0_off2128_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2128 v41 v43 v182 v184 k0_t142 k0_t143) a + S1x16.size a ≤ S196x384.size a := fun i v10 v41 v43 v182 v184 k0_hw559 k0_t142 k0_t143 k0_h2 => k0_hw559.1.2.2.2.1 k0_t142 k0_t143 k0_h2
theorem k0_off2129_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2129 v41 v43 v182 v184 k0_t142 k0_t143) a + S1x16.size a ≤ S196x384.size a := fun i v10 v41 v43 v182 v184 k0_hw559 k0_t142 k0_t143 k0_h2 => k0_hw559.1.2.2.2.2.1 k0_t142 k0_t143 k0_h2
theorem k0_off2130_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2130 v41 v43 v182 v184 k0_t142 k0_t143) a + S1x16.size a ≤ S196x384.size a := fun i v10 v41 v43 v182 v184 k0_hw559 k0_t142 k0_t143 k0_h2 => k0_hw559.1.2.2.2.2.2.1 k0_t142 k0_t143 k0_h2
theorem k0_off2131_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2131 v41 v43 v182 v184 k0_t142 k0_t143) a + S1x16.size a ≤ S196x384.size a := fun i v10 v41 v43 v182 v184 k0_hw559 k0_t142 k0_t143 k0_h2 => k0_hw559.1.2.2.2.2.2.2.1 k0_t142 k0_t143 k0_h2
theorem k0_off2132_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2132 v41 v43 v182 v184 k0_t142 k0_t143) a + S1x16.size a ≤ S196x384.size a := fun i v10 v41 v43 v182 v184 k0_hw559 k0_t142 k0_t143 k0_h2 => k0_hw559.1.2.2.2.2.2.2.2.1 k0_t142 k0_t143 k0_h2
theorem k0_off2133_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2133 v41 v43 v182 v184 k0_t142 k0_t143) a + S1x16.size a ≤ S196x384.size a := fun i v10 v41 v43 v182 v184 k0_hw559 k0_t142 k0_t143 k0_h2 => k0_hw559.1.2.2.2.2.2.2.2.2.1 k0_t142 k0_t143 k0_h2
theorem k0_off2134_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2134 v41 v43 v182 v184 k0_t142 k0_t143) a + S1x16.size a ≤ S196x384.size a := fun i v10 v41 v43 v182 v184 k0_hw559 k0_t142 k0_t143 k0_h2 => k0_hw559.1.2.2.2.2.2.2.2.2.2.1 k0_t142 k0_t143 k0_h2
theorem k0_off2135_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2135 v41 v43 v182 v184 k0_t142 k0_t143) a + S1x16.size a ≤ S196x384.size a := fun i v10 v41 v43 v182 v184 k0_hw559 k0_t142 k0_t143 k0_h2 => k0_hw559.1.2.2.2.2.2.2.2.2.2.2.1 k0_t142 k0_t143 k0_h2
theorem k0_off2136_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2136 v41 v43 v182 v184 k0_t142 k0_t143) a + S1x16.size a ≤ S196x384.size a := fun i v10 v41 v43 v182 v184 k0_hw559 k0_t142 k0_t143 k0_h2 => k0_hw559.1.2.2.2.2.2.2.2.2.2.2.2.1 k0_t142 k0_t143 k0_h2
theorem k0_off2137_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2137 v41 v43 v182 v184 k0_t142 k0_t143) a + S1x16.size a ≤ S196x384.size a := fun i v10 v41 v43 v182 v184 k0_hw559 k0_t142 k0_t143 k0_h2 => k0_hw559.1.2.2.2.2.2.2.2.2.2.2.2.2.1 k0_t142 k0_t143 k0_h2
theorem k0_off2138_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2138 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.1 k0_t142 k0_t143 k0_h2
theorem k0_off2139_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2139 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.1 k0_t142 k0_t143 k0_h2
theorem k0_off2140_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2140 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.1 k0_t142 k0_t143 k0_h2
theorem k0_off2141_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2141 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.2.1 k0_t142 k0_t143 k0_h2
theorem k0_off2142_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2142 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.2.2.1 k0_t142 k0_t143 k0_h2
theorem k0_off2143_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2143 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.2.2.2.1 k0_t142 k0_t143 k0_h2
theorem k0_off2144_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2144 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.2.2.2.2.1 k0_t142 k0_t143 k0_h2
theorem k0_off2145_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2145 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.2.2.2.2.2.1 k0_t142 k0_t143 k0_h2
theorem k0_off2146_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2146 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.2.2.2.2.2.2.1 k0_t142 k0_t143 k0_h2
theorem k0_off2147_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2147 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.2.2.2.2.2.2.2.1 k0_t142 k0_t143 k0_h2
theorem k0_off2148_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2148 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.2.2.2.2.2.2.2.2.1 k0_t142 k0_t143 k0_h2
theorem k0_off2149_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t143 : Fin (k0_t143_loop v182 v184).trips), ∀ (k0_h2 : k0_cond2 i v10 = 1#1), ∀ a, (k0_off2149 v41 v43 v182 v184 k0_t142 k0_t143) a + S1x16.size a ≤ S196x384.size a := fun i v10 v41 v43 v182 v184 k0_hw559 k0_t142 k0_t143 k0_h2 => k0_hw559.1.2.2.2.2.2.2.2.2.2.2.2.2.2.2.2.2.2.2.2.2.2.2.2.2.1 k0_t142 k0_t143 k0_h2
theorem k0_t144_ok : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips), ∀ (k0_h2 : k0_cond2 i v10 = 1#1), (k0_t144_loop v182 v184).OK := fun i v10 v41 v43 v182 v184 k0_hw559 k0_t142 k0_h2 => k0_hw559.1.2.2.2.2.2.2.2.2.2.2.2.2.2.2.2.2.2.2.2.2.2.2.2.2.2.1 k0_t142 k0_h2
theorem k0_off2150_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2150 v41 v43 v182 v184 k0_t142 k0_t144) a + S1x16.size a ≤ S196x384.size a := fun i v10 v41 v43 v182 v184 k0_hw559 k0_t142 k0_t144 k0_h2 => k0_hw559.1.2.2.2.2.2.2.2.2.2.2.2.2.2.2.2.2.2.2.2.2.2.2.2.2.2.2.1 k0_t142 k0_t144 k0_h2
theorem k0_off2151_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2151 v41 v43 v182 v184 k0_t142 k0_t144) a + S1x16.size a ≤ S196x384.size a := fun i v10 v41 v43 v182 v184 k0_hw559 k0_t142 k0_t144 k0_h2 => k0_hw559.1.2.2.2.2.2.2.2.2.2.2.2.2.2.2.2.2.2.2.2.2.2.2.2.2.2.2.2.1 k0_t142 k0_t144 k0_h2
theorem k0_off2152_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2152 v41 v43 v182 v184 k0_t142 k0_t144) a + S1x16.size a ≤ S196x384.size a := fun i v10 v41 v43 v182 v184 k0_hw559 k0_t142 k0_t144 k0_h2 => k0_hw559.1.2.2.2.2.2.2.2.2.2.2.2.2.2.2.2.2.2.2.2.2.2.2.2.2.2.2.2.2.1 k0_t142 k0_t144 k0_h2
theorem k0_off2153_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2153 v41 v43 v182 v184 k0_t142 k0_t144) a + S1x16.size a ≤ S196x384.size a := fun i v10 v41 v43 v182 v184 k0_hw559 k0_t142 k0_t144 k0_h2 => k0_hw559.1.2.2.2.2.2.2.2.2.2.2.2.2.2.2.2.2.2.2.2.2.2.2.2.2.2.2.2.2.2.1 k0_t142 k0_t144 k0_h2
theorem k0_off2154_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2154 v41 v43 v182 v184 k0_t142 k0_t144) a + S1x16.size a ≤ S196x384.size a := fun i v10 v41 v43 v182 v184 k0_hw559 k0_t142 k0_t144 k0_h2 => k0_hw559.1.2.2.2.2.2.2.2.2.2.2.2.2.2.2.2.2.2.2.2.2.2.2.2.2.2.2.2.2.2.2.1 k0_t142 k0_t144 k0_h2
theorem k0_off2155_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2155 v41 v43 v182 v184 k0_t142 k0_t144) a + S1x16.size a ≤ S196x384.size a := fun i v10 v41 v43 v182 v184 k0_hw559 k0_t142 k0_t144 k0_h2 => k0_hw559.1.2.2.2.2.2.2.2.2.2.2.2.2.2.2.2.2.2.2.2.2.2.2.2.2.2.2.2.2.2.2.2 k0_t142 k0_t144 k0_h2
theorem k0_off2156_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2156 v41 v43 v182 v184 k0_t142 k0_t144) a + S1x16.size a ≤ S196x384.size a := fun i v10 v41 v43 v182 v184 k0_hw559 k0_t142 k0_t144 k0_h2 => k0_hw559.2.1.1 k0_t142 k0_t144 k0_h2
theorem k0_off2157_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2157 v41 v43 v182 v184 k0_t142 k0_t144) a + S1x16.size a ≤ S196x384.size a := fun i v10 v41 v43 v182 v184 k0_hw559 k0_t142 k0_t144 k0_h2 => k0_hw559.2.1.2.1 k0_t142 k0_t144 k0_h2
theorem k0_off2158_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2158 v41 v43 v182 v184 k0_t142 k0_t144) a + S1x16.size a ≤ S196x384.size a := fun i v10 v41 v43 v182 v184 k0_hw559 k0_t142 k0_t144 k0_h2 => k0_hw559.2.1.2.2.1 k0_t142 k0_t144 k0_h2
theorem k0_off2159_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2159 v41 v43 v182 v184 k0_t142 k0_t144) a + S1x16.size a ≤ S196x384.size a := fun i v10 v41 v43 v182 v184 k0_hw559 k0_t142 k0_t144 k0_h2 => k0_hw559.2.1.2.2.2.1 k0_t142 k0_t144 k0_h2
theorem k0_off2160_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2160 v41 v43 v182 v184 k0_t142 k0_t144) a + S1x16.size a ≤ S196x384.size a := fun i v10 v41 v43 v182 v184 k0_hw559 k0_t142 k0_t144 k0_h2 => k0_hw559.2.1.2.2.2.2.1 k0_t142 k0_t144 k0_h2
theorem k0_off2161_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2161 v41 v43 v182 v184 k0_t142 k0_t144) a + S1x16.size a ≤ S196x384.size a := fun i v10 v41 v43 v182 v184 k0_hw559 k0_t142 k0_t144 k0_h2 => k0_hw559.2.1.2.2.2.2.2.1 k0_t142 k0_t144 k0_h2
theorem k0_off2162_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2162 v41 v43 v182 v184 k0_t142 k0_t144) a + S1x16.size a ≤ S196x384.size a := fun i v10 v41 v43 v182 v184 k0_hw559 k0_t142 k0_t144 k0_h2 => k0_hw559.2.1.2.2.2.2.2.2.1 k0_t142 k0_t144 k0_h2
theorem k0_off2163_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2163 v41 v43 v182 v184 k0_t142 k0_t144) a + S1x16.size a ≤ S196x384.size a := fun i v10 v41 v43 v182 v184 k0_hw559 k0_t142 k0_t144 k0_h2 => k0_hw559.2.1.2.2.2.2.2.2.2.1 k0_t142 k0_t144 k0_h2
theorem k0_off2164_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2164 v41 v43 v182 v184 k0_t142 k0_t144) a + S1x16.size a ≤ S196x384.size a := fun i v10 v41 v43 v182 v184 k0_hw559 k0_t142 k0_t144 k0_h2 => k0_hw559.2.1.2.2.2.2.2.2.2.2.1 k0_t142 k0_t144 k0_h2
theorem k0_off2165_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2165 v41 v43 v182 v184 k0_t142 k0_t144) a + S1x16.size a ≤ S196x384.size a := fun i v10 v41 v43 v182 v184 k0_hw559 k0_t142 k0_t144 k0_h2 => k0_hw559.2.1.2.2.2.2.2.2.2.2.2.1 k0_t142 k0_t144 k0_h2
theorem k0_off2166_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2166 v41 v43 v182 v184 k0_t142 k0_t144) a + S1x16.size a ≤ S196x384.size a := fun i v10 v41 v43 v182 v184 k0_hw559 k0_t142 k0_t144 k0_h2 => k0_hw559.2.1.2.2.2.2.2.2.2.2.2.2.1 k0_t142 k0_t144 k0_h2
theorem k0_off2167_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2167 v41 v43 v182 v184 k0_t142 k0_t144) a + S1x16.size a ≤ S196x384.size a := fun i v10 v41 v43 v182 v184 k0_hw559 k0_t142 k0_t144 k0_h2 => k0_hw559.2.1.2.2.2.2.2.2.2.2.2.2.2.1 k0_t142 k0_t144 k0_h2
theorem k0_off2168_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2168 v41 v43 v182 v184 k0_t142 k0_t144) a + S1x16.size a ≤ S196x384.size a := fun i v10 v41 v43 v182 v184 k0_hw559 k0_t142 k0_t144 k0_h2 => k0_hw559.2.1.2.2.2.2.2.2.2.2.2.2.2.2.1 k0_t142 k0_t144 k0_h2
theorem k0_off2169_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2169 v41 v43 v182 v184 k0_t142 k0_t144) a + S1x16.size a ≤ S196x384.size a := fun i v10 v41 v43 v182 v184 k0_hw559 k0_t142 k0_t144 k0_h2 => k0_hw559.2.1.2.2.2.2.2.2.2.2.2.2.2.2.2.1 k0_t142 k0_t144 k0_h2
theorem k0_off2170_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2170 v41 v43 v182 v184 k0_t142 k0_t144) a + S1x16.size a ≤ S196x384.size a := fun i v10 v41 v43 v182 v184 k0_hw559 k0_t142 k0_t144 k0_h2 => k0_hw559.2.1.2.2.2.2.2.2.2.2.2.2.2.2.2.2.1 k0_t142 k0_t144 k0_h2
theorem k0_off2171_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2171 v41 v43 v182 v184 k0_t142 k0_t144) a + S1x16.size a ≤ S196x384.size a := fun i v10 v41 v43 v182 v184 k0_hw559 k0_t142 k0_t144 k0_h2 => k0_hw559.2.1.2.2.2.2.2.2.2.2.2.2.2.2.2.2.2.1 k0_t142 k0_t144 k0_h2
theorem k0_off2172_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2172 v41 v43 v182 v184 k0_t142 k0_t144) a + S1x16.size a ≤ S196x384.size a := fun i v10 v41 v43 v182 v184 k0_hw559 k0_t142 k0_t144 k0_h2 => k0_hw559.2.1.2.2.2.2.2.2.2.2.2.2.2.2.2.2.2.2.1 k0_t142 k0_t144 k0_h2
theorem k0_off2173_inb : ∀ (i : grid0.Coords) (v10 : BitVec 32) (v41 : BitVec 32) (v43 : BitVec 32) (v182 : BitVec 32) (v184 : BitVec 32) (k0_hw559 : k0_chk559 i v10 v41 v43 v182 v184) (k0_t142 : Fin (k0_t142_loop v41 v43).trips) (k0_t144 : Fin (k0_t144_loop v182 v184).trips), ∀ (k0_h2 : k0_cond2 i v10 = 1#1), ∀ a, (k0_off2173 v41 v43 v182 v184 k0_t142 k0_t144) a + S1x16.size a ≤ S196x384.size a := fun i v10 v41 v43 v182 v184 k0_hw559 k0_t142 k0_t144 k0_h2 => k0_hw559.2.1.2.2.2.2.2.2.2.2.2.2.2.2.2.2.2.2.2.1 k0_t142 k0_t144 k0_h2
theorem k0_t146_ok : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips), ∀ (k0_h2 : k0_cond2 i v10 = 1#1), (k0_t146_loop v182 v184).OK := fun i v10 v41 v43 v182 v184 k0_hw559 k0_t145 k0_h2 => k0_hw559.2.1.2.2.2.2.2.2.2.2.2.2.2.2.2.2.2.2.2.2.1 k0_t145 k0_h2
theorem k0_off2174_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2174 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.1 k0_t145 k0_t146 k0_h2
theorem k0_off2175_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2175 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.1 k0_t145 k0_t146 k0_h2
theorem k0_off2176_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2176 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.1 k0_t145 k0_t146 k0_h2
theorem k0_off2177_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2177 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.1 k0_t145 k0_t146 k0_h2
theorem k0_off2178_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2178 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.2.1 k0_t145 k0_t146 k0_h2
theorem k0_off2179_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2179 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.2.2.1 k0_t145 k0_t146 k0_h2
theorem k0_off2180_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2180 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.2.2.2.1 k0_t145 k0_t146 k0_h2
theorem k0_off2181_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2181 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.2.2.2.2.1 k0_t145 k0_t146 k0_h2
theorem k0_off2182_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2182 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.2.2.2.2.2.1 k0_t145 k0_t146 k0_h2
theorem k0_off2183_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2183 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.2.2.2.2.2.2.1 k0_t145 k0_t146 k0_h2
theorem k0_off2184_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2184 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.2.2.2.2.2.2.2.1 k0_t145 k0_t146 k0_h2
theorem k0_off2185_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2185 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.2.2.2.2.2.2.2.2.1 k0_t145 k0_t146 k0_h2
theorem k0_off2186_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2186 v41 v43 v182 v184 k0_t145 k0_t146) a + S1x16.size a ≤ S196x384.size a := fun i v10 v41 v43 v182 v184 k0_hw559 k0_t145 k0_t146 k0_h2 => k0_hw559.2.1.2.2.2.2.2.2.2.2.2.2.2.2.2.2.2.2.2.2.2.2.2.2.2.2.2.2.2.2.2.2.2 k0_t145 k0_t146 k0_h2
theorem k0_off2187_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2187 v41 v43 v182 v184 k0_t145 k0_t146) a + S1x16.size a ≤ S196x384.size a := fun i v10 v41 v43 v182 v184 k0_hw559 k0_t145 k0_t146 k0_h2 => k0_hw559.2.2.1.1 k0_t145 k0_t146 k0_h2
theorem k0_off2188_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2188 v41 v43 v182 v184 k0_t145 k0_t146) a + S1x16.size a ≤ S196x384.size a := fun i v10 v41 v43 v182 v184 k0_hw559 k0_t145 k0_t146 k0_h2 => k0_hw559.2.2.1.2.1 k0_t145 k0_t146 k0_h2
theorem k0_off2189_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2189 v41 v43 v182 v184 k0_t145 k0_t146) a + S1x16.size a ≤ S196x384.size a := fun i v10 v41 v43 v182 v184 k0_hw559 k0_t145 k0_t146 k0_h2 => k0_hw559.2.2.1.2.2.1 k0_t145 k0_t146 k0_h2
theorem k0_off2190_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2190 v41 v43 v182 v184 k0_t145 k0_t146) a + S1x16.size a ≤ S196x384.size a := fun i v10 v41 v43 v182 v184 k0_hw559 k0_t145 k0_t146 k0_h2 => k0_hw559.2.2.1.2.2.2.1 k0_t145 k0_t146 k0_h2
theorem k0_off2191_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2191 v41 v43 v182 v184 k0_t145 k0_t146) a + S1x16.size a ≤ S196x384.size a := fun i v10 v41 v43 v182 v184 k0_hw559 k0_t145 k0_t146 k0_h2 => k0_hw559.2.2.1.2.2.2.2.1 k0_t145 k0_t146 k0_h2
theorem k0_off2192_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2192 v41 v43 v182 v184 k0_t145 k0_t146) a + S1x16.size a ≤ S196x384.size a := fun i v10 v41 v43 v182 v184 k0_hw559 k0_t145 k0_t146 k0_h2 => k0_hw559.2.2.1.2.2.2.2.2.1 k0_t145 k0_t146 k0_h2
theorem k0_off2193_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2193 v41 v43 v182 v184 k0_t145 k0_t146) a + S1x16.size a ≤ S196x384.size a := fun i v10 v41 v43 v182 v184 k0_hw559 k0_t145 k0_t146 k0_h2 => k0_hw559.2.2.1.2.2.2.2.2.2.1 k0_t145 k0_t146 k0_h2
theorem k0_off2194_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2194 v41 v43 v182 v184 k0_t145 k0_t146) a + S1x16.size a ≤ S196x384.size a := fun i v10 v41 v43 v182 v184 k0_hw559 k0_t145 k0_t146 k0_h2 => k0_hw559.2.2.1.2.2.2.2.2.2.2.1 k0_t145 k0_t146 k0_h2
theorem k0_off2195_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2195 v41 v43 v182 v184 k0_t145 k0_t146) a + S1x16.size a ≤ S196x384.size a := fun i v10 v41 v43 v182 v184 k0_hw559 k0_t145 k0_t146 k0_h2 => k0_hw559.2.2.1.2.2.2.2.2.2.2.2.1 k0_t145 k0_t146 k0_h2
theorem k0_off2196_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2196 v41 v43 v182 v184 k0_t145 k0_t146) a + S1x16.size a ≤ S196x384.size a := fun i v10 v41 v43 v182 v184 k0_hw559 k0_t145 k0_t146 k0_h2 => k0_hw559.2.2.1.2.2.2.2.2.2.2.2.2.1 k0_t145 k0_t146 k0_h2
theorem k0_off2197_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t146 : Fin (k0_t146_loop v182 v184).trips), ∀ (k0_h2 : k0_cond2 i v10 = 1#1), ∀ a, (k0_off2197 v41 v43 v182 v184 k0_t145 k0_t146) a + S1x16.size a ≤ S196x384.size a := fun i v10 v41 v43 v182 v184 k0_hw559 k0_t145 k0_t146 k0_h2 => k0_hw559.2.2.1.2.2.2.2.2.2.2.2.2.2.1 k0_t145 k0_t146 k0_h2
theorem k0_t147_ok : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips), ∀ (k0_h2 : k0_cond2 i v10 = 1#1), (k0_t147_loop v182 v184).OK := fun i v10 v41 v43 v182 v184 k0_hw559 k0_t145 k0_h2 => k0_hw559.2.2.1.2.2.2.2.2.2.2.2.2.2.2.1 k0_t145 k0_h2
theorem k0_off2198_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2198 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.1 k0_t145 k0_t147 k0_h2
theorem k0_off2199_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2199 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.1 k0_t145 k0_t147 k0_h2
theorem k0_off2200_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2200 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.1 k0_t145 k0_t147 k0_h2
theorem k0_off2201_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2201 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.1 k0_t145 k0_t147 k0_h2
theorem k0_off2202_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2202 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.1 k0_t145 k0_t147 k0_h2
theorem k0_off2203_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2203 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.1 k0_t145 k0_t147 k0_h2
theorem k0_off2204_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2204 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.1 k0_t145 k0_t147 k0_h2
theorem k0_off2205_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2205 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.1 k0_t145 k0_t147 k0_h2
theorem k0_off2206_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2206 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.1 k0_t145 k0_t147 k0_h2
theorem k0_off2207_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2207 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.1 k0_t145 k0_t147 k0_h2
theorem k0_off2208_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2208 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.1 k0_t145 k0_t147 k0_h2
theorem k0_off2209_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2209 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.2.1 k0_t145 k0_t147 k0_h2
theorem k0_off2210_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2210 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.2.2.1 k0_t145 k0_t147 k0_h2
theorem k0_off2211_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2211 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.2.2.2.1 k0_t145 k0_t147 k0_h2
theorem k0_off2212_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2212 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.2.2.2.2.1 k0_t145 k0_t147 k0_h2
theorem k0_off2213_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2213 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.2.2.2.2.2.1 k0_t145 k0_t147 k0_h2
theorem k0_off2214_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2214 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.2.2.2.2.2.2.1 k0_t145 k0_t147 k0_h2
theorem k0_off2215_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2215 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.2.2.2.2.2.2.2.1 k0_t145 k0_t147 k0_h2
theorem k0_off2216_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2216 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.2.2.2.2.2.2.2.2.1 k0_t145 k0_t147 k0_h2
theorem k0_off2217_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2217 v41 v43 v182 v184 k0_t145 k0_t147) a + S1x16.size a ≤ S196x384.size a := fun i v10 v41 v43 v182 v184 k0_hw559 k0_t145 k0_t147 k0_h2 => k0_hw559.2.2.1.2.2.2.2.2.2.2.2.2.2.2.2.2.2.2.2.2.2.2.2.2.2.2.2.2.2.2.2.2.2.2 k0_t145 k0_t147 k0_h2
theorem k0_off2218_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2218 v41 v43 v182 v184 k0_t145 k0_t147) a + S1x16.size a ≤ S196x384.size a := fun i v10 v41 v43 v182 v184 k0_hw559 k0_t145 k0_t147 k0_h2 => k0_hw559.2.2.2.1 k0_t145 k0_t147 k0_h2
theorem k0_off2219_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2219 v41 v43 v182 v184 k0_t145 k0_t147) a + S1x16.size a ≤ S196x384.size a := fun i v10 v41 v43 v182 v184 k0_hw559 k0_t145 k0_t147 k0_h2 => k0_hw559.2.2.2.2.1 k0_t145 k0_t147 k0_h2
theorem k0_off2220_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2220 v41 v43 v182 v184 k0_t145 k0_t147) a + S1x16.size a ≤ S196x384.size a := fun i v10 v41 v43 v182 v184 k0_hw559 k0_t145 k0_t147 k0_h2 => k0_hw559.2.2.2.2.2.1 k0_t145 k0_t147 k0_h2
theorem k0_off2221_inb : ∀ (i : grid0.Coords) (v10 : BitVec 32) (v41 : BitVec 32) (v43 : BitVec 32) (v182 : BitVec 32) (v184 : BitVec 32) (k0_hw559 : k0_chk559 i v10 v41 v43 v182 v184) (k0_t145 : Fin (k0_t145_loop v41 v43).trips) (k0_t147 : Fin (k0_t147_loop v182 v184).trips), ∀ (k0_h2 : k0_cond2 i v10 = 1#1), ∀ a, (k0_off2221 v41 v43 v182 v184 k0_t145 k0_t147) a + S1x16.size a ≤ S196x384.size a := fun i v10 v41 v43 v182 v184 k0_hw559 k0_t145 k0_t147 k0_h2 => k0_hw559.2.2.2.2.2.2 k0_t145 k0_t147 k0_h2

def k0_chk560 (i : grid0.Coords) (v10 : BitVec 32) (v202 : IVec S16 32) : Prop :=
  (∀ (k0_h2 : k0_cond2 i v10 = 1#1), ∀ a x, ((![v202] : Fin 1 → IVec S16 32) a x).toNat < S18816.size a)
theorem k0_idx529_inb : ∀ (i : grid0.Coords) (v10 : BitVec 32) (v202 : IVec S16 32) (k0_hw560 : k0_chk560 i v10 v202), ∀ (k0_h2 : k0_cond2 i v10 = 1#1), ∀ a x, ((![v202] : Fin 1 → IVec S16 32) a x).toNat < S18816.size a := fun i v10 v202 k0_hw560 k0_h2 => k0_hw560 k0_h2

def k0_chk561 (i : grid0.Coords) (v10 : BitVec 32) (v207 : IVec S16 32) : Prop :=
  (∀ (k0_h2 : k0_cond2 i v10 = 1#1), ∀ a x, ((![v207] : Fin 1 → IVec S16 32) a x).toNat < S18816.size a)
theorem k0_idx530_inb : ∀ (i : grid0.Coords) (v10 : BitVec 32) (v207 : IVec S16 32) (k0_hw561 : k0_chk561 i v10 v207), ∀ (k0_h2 : k0_cond2 i v10 = 1#1), ∀ a x, ((![v207] : Fin 1 → IVec S16 32) a x).toNat < S18816.size a := fun i v10 v207 k0_hw561 k0_h2 => k0_hw561 k0_h2

def k0_chk562 (i : grid0.Coords) (v10 : BitVec 32) (v212 : IVec S16 32) : Prop :=
  (∀ (k0_h2 : k0_cond2 i v10 = 1#1), ∀ a x, ((![v212] : Fin 1 → IVec S16 32) a x).toNat < S18816.size a)
theorem k0_idx531_inb : ∀ (i : grid0.Coords) (v10 : BitVec 32) (v212 : IVec S16 32) (k0_hw562 : k0_chk562 i v10 v212), ∀ (k0_h2 : k0_cond2 i v10 = 1#1), ∀ a x, ((![v212] : Fin 1 → IVec S16 32) a x).toNat < S18816.size a := fun i v10 v212 k0_hw562 k0_h2 => k0_hw562 k0_h2

def k0_chk563 (i : grid0.Coords) (v10 : BitVec 32) (v217 : IVec S16 32) : Prop :=
  (∀ (k0_h2 : k0_cond2 i v10 = 1#1), ∀ a x, ((![v217] : Fin 1 → IVec S16 32) a x).toNat < S18816.size a)
theorem k0_idx532_inb : ∀ (i : grid0.Coords) (v10 : BitVec 32) (v217 : IVec S16 32) (k0_hw563 : k0_chk563 i v10 v217), ∀ (k0_h2 : k0_cond2 i v10 = 1#1), ∀ a x, ((![v217] : Fin 1 → IVec S16 32) a x).toNat < S18816.size a := fun i v10 v217 k0_hw563 k0_h2 => k0_hw563 k0_h2

def k0_chk564 (i : grid0.Coords) (v10 : BitVec 32) (v222 : IVec S16 32) : Prop :=
  (∀ (k0_h2 : k0_cond2 i v10 = 1#1), ∀ a x, ((![v222] : Fin 1 → IVec S16 32) a x).toNat < S18816.size a)
theorem k0_idx533_inb : ∀ (i : grid0.Coords) (v10 : BitVec 32) (v222 : IVec S16 32) (k0_hw564 : k0_chk564 i v10 v222), ∀ (k0_h2 : k0_cond2 i v10 = 1#1), ∀ a x, ((![v222] : Fin 1 → IVec S16 32) a x).toNat < S18816.size a := fun i v10 v222 k0_hw564 k0_h2 => k0_hw564 k0_h2

def k0_chk565 (i : grid0.Coords) (v10 : BitVec 32) (v227 : IVec S16 32) : Prop :=
  (∀ (k0_h2 : k0_cond2 i v10 = 1#1), ∀ a x, ((![v227] : Fin 1 → IVec S16 32) a x).toNat < S18816.size a)
theorem k0_idx534_inb : ∀ (i : grid0.Coords) (v10 : BitVec 32) (v227 : IVec S16 32) (k0_hw565 : k0_chk565 i v10 v227), ∀ (k0_h2 : k0_cond2 i v10 = 1#1), ∀ a x, ((![v227] : Fin 1 → IVec S16 32) a x).toNat < S18816.size a := fun i v10 v227 k0_hw565 k0_h2 => k0_hw565 k0_h2

def k0_chk566 (i : grid0.Coords) (v10 : BitVec 32) (v232 : IVec S16 32) : Prop :=
  (∀ (k0_h2 : k0_cond2 i v10 = 1#1), ∀ a x, ((![v232] : Fin 1 → IVec S16 32) a x).toNat < S18816.size a)
theorem k0_idx535_inb : ∀ (i : grid0.Coords) (v10 : BitVec 32) (v232 : IVec S16 32) (k0_hw566 : k0_chk566 i v10 v232), ∀ (k0_h2 : k0_cond2 i v10 = 1#1), ∀ a x, ((![v232] : Fin 1 → IVec S16 32) a x).toNat < S18816.size a := fun i v10 v232 k0_hw566 k0_h2 => k0_hw566 k0_h2

def k0_chk567 (i : grid0.Coords) (v10 : BitVec 32) (v237 : IVec S16 32) : Prop :=
  (∀ (k0_h2 : k0_cond2 i v10 = 1#1), ∀ a x, ((![v237] : Fin 1 → IVec S16 32) a x).toNat < S18816.size a)
theorem k0_idx536_inb : ∀ (i : grid0.Coords) (v10 : BitVec 32) (v237 : IVec S16 32) (k0_hw567 : k0_chk567 i v10 v237), ∀ (k0_h2 : k0_cond2 i v10 = 1#1), ∀ a x, ((![v237] : Fin 1 → IVec S16 32) a x).toNat < S18816.size a := fun i v10 v237 k0_hw567 k0_h2 => k0_hw567 k0_h2

def k0_chk568 (i : grid0.Coords) (v10 : BitVec 32) (v242 : IVec S16 32) : Prop :=
  (∀ (k0_h2 : k0_cond2 i v10 = 1#1), ∀ a x, ((![v242] : Fin 1 → IVec S16 32) a x).toNat < S18816.size a)
theorem k0_idx537_inb : ∀ (i : grid0.Coords) (v10 : BitVec 32) (v242 : IVec S16 32) (k0_hw568 : k0_chk568 i v10 v242), ∀ (k0_h2 : k0_cond2 i v10 = 1#1), ∀ a x, ((![v242] : Fin 1 → IVec S16 32) a x).toNat < S18816.size a := fun i v10 v242 k0_hw568 k0_h2 => k0_hw568 k0_h2

def k0_chk569 (i : grid0.Coords) (v10 : BitVec 32) (v247 : IVec S16 32) : Prop :=
  (∀ (k0_h2 : k0_cond2 i v10 = 1#1), ∀ a x, ((![v247] : Fin 1 → IVec S16 32) a x).toNat < S18816.size a)
theorem k0_idx538_inb : ∀ (i : grid0.Coords) (v10 : BitVec 32) (v247 : IVec S16 32) (k0_hw569 : k0_chk569 i v10 v247), ∀ (k0_h2 : k0_cond2 i v10 = 1#1), ∀ a x, ((![v247] : Fin 1 → IVec S16 32) a x).toNat < S18816.size a := fun i v10 v247 k0_hw569 k0_h2 => k0_hw569 k0_h2

def k0_chk570 (i : grid0.Coords) (v10 : BitVec 32) (v252 : IVec S16 32) : Prop :=
  (∀ (k0_h2 : k0_cond2 i v10 = 1#1), ∀ a x, ((![v252] : Fin 1 → IVec S16 32) a x).toNat < S18816.size a)
theorem k0_idx539_inb : ∀ (i : grid0.Coords) (v10 : BitVec 32) (v252 : IVec S16 32) (k0_hw570 : k0_chk570 i v10 v252), ∀ (k0_h2 : k0_cond2 i v10 = 1#1), ∀ a x, ((![v252] : Fin 1 → IVec S16 32) a x).toNat < S18816.size a := fun i v10 v252 k0_hw570 k0_h2 => k0_hw570 k0_h2

def k0_chk571 (i : grid0.Coords) (v10 : BitVec 32) (v257 : IVec S16 32) : Prop :=
  (∀ (k0_h2 : k0_cond2 i v10 = 1#1), ∀ a x, ((![v257] : Fin 1 → IVec S16 32) a x).toNat < S18816.size a)
theorem k0_idx540_inb : ∀ (i : grid0.Coords) (v10 : BitVec 32) (v257 : IVec S16 32) (k0_hw571 : k0_chk571 i v10 v257), ∀ (k0_h2 : k0_cond2 i v10 = 1#1), ∀ a x, ((![v257] : Fin 1 → IVec S16 32) a x).toNat < S18816.size a := fun i v10 v257 k0_hw571 k0_h2 => k0_hw571 k0_h2

def k0_chk572 (i : grid0.Coords) (v10 : BitVec 32) (v262 : IVec S16 32) : Prop :=
  (∀ (k0_h2 : k0_cond2 i v10 = 1#1), ∀ a x, ((![v262] : Fin 1 → IVec S16 32) a x).toNat < S18816.size a)
theorem k0_idx541_inb : ∀ (i : grid0.Coords) (v10 : BitVec 32) (v262 : IVec S16 32) (k0_hw572 : k0_chk572 i v10 v262), ∀ (k0_h2 : k0_cond2 i v10 = 1#1), ∀ a x, ((![v262] : Fin 1 → IVec S16 32) a x).toNat < S18816.size a := fun i v10 v262 k0_hw572 k0_h2 => k0_hw572 k0_h2

def k0_chk573 (i : grid0.Coords) (v10 : BitVec 32) (v267 : IVec S16 32) : Prop :=
  (∀ (k0_h2 : k0_cond2 i v10 = 1#1), ∀ a x, ((![v267] : Fin 1 → IVec S16 32) a x).toNat < S18816.size a)
theorem k0_idx542_inb : ∀ (i : grid0.Coords) (v10 : BitVec 32) (v267 : IVec S16 32) (k0_hw573 : k0_chk573 i v10 v267), ∀ (k0_h2 : k0_cond2 i v10 = 1#1), ∀ a x, ((![v267] : Fin 1 → IVec S16 32) a x).toNat < S18816.size a := fun i v10 v267 k0_hw573 k0_h2 => k0_hw573 k0_h2

def k0_chk574 (i : grid0.Coords) (v10 : BitVec 32) (v272 : IVec S16 32) : Prop :=
  (∀ (k0_h2 : k0_cond2 i v10 = 1#1), ∀ a x, ((![v272] : Fin 1 → IVec S16 32) a x).toNat < S18816.size a)
theorem k0_idx543_inb : ∀ (i : grid0.Coords) (v10 : BitVec 32) (v272 : IVec S16 32) (k0_hw574 : k0_chk574 i v10 v272), ∀ (k0_h2 : k0_cond2 i v10 = 1#1), ∀ a x, ((![v272] : Fin 1 → IVec S16 32) a x).toNat < S18816.size a := fun i v10 v272 k0_hw574 k0_h2 => k0_hw574 k0_h2

def k0_chk575 (i : grid0.Coords) (v10 : BitVec 32) (v277 : IVec S16 32) : Prop :=
  (∀ (k0_h2 : k0_cond2 i v10 = 1#1), ∀ a x, ((![v277] : Fin 1 → IVec S16 32) a x).toNat < S18816.size a)
theorem k0_idx544_inb : ∀ (i : grid0.Coords) (v10 : BitVec 32) (v277 : IVec S16 32) (k0_hw575 : k0_chk575 i v10 v277), ∀ (k0_h2 : k0_cond2 i v10 = 1#1), ∀ a x, ((![v277] : Fin 1 → IVec S16 32) a x).toNat < S18816.size a := fun i v10 v277 k0_hw575 k0_h2 => k0_hw575 k0_h2

def k0_chk576 (i : grid0.Coords) (v10 : BitVec 32) (v282 : IVec S16 32) : Prop :=
  (∀ (k0_h2 : k0_cond2 i v10 = 1#1), ∀ a x, ((![v282] : Fin 1 → IVec S16 32) a x).toNat < S18816.size a)
theorem k0_idx545_inb : ∀ (i : grid0.Coords) (v10 : BitVec 32) (v282 : IVec S16 32) (k0_hw576 : k0_chk576 i v10 v282), ∀ (k0_h2 : k0_cond2 i v10 = 1#1), ∀ a x, ((![v282] : Fin 1 → IVec S16 32) a x).toNat < S18816.size a := fun i v10 v282 k0_hw576 k0_h2 => k0_hw576 k0_h2

def k0_chk577 (i : grid0.Coords) (v10 : BitVec 32) (v287 : IVec S16 32) : Prop :=
  (∀ (k0_h2 : k0_cond2 i v10 = 1#1), ∀ a x, ((![v287] : Fin 1 → IVec S16 32) a x).toNat < S18816.size a)
theorem k0_idx546_inb : ∀ (i : grid0.Coords) (v10 : BitVec 32) (v287 : IVec S16 32) (k0_hw577 : k0_chk577 i v10 v287), ∀ (k0_h2 : k0_cond2 i v10 = 1#1), ∀ a x, ((![v287] : Fin 1 → IVec S16 32) a x).toNat < S18816.size a := fun i v10 v287 k0_hw577 k0_h2 => k0_hw577 k0_h2

def k0_chk578 (i : grid0.Coords) (v10 : BitVec 32) (v292 : IVec S16 32) : Prop :=
  (∀ (k0_h2 : k0_cond2 i v10 = 1#1), ∀ a x, ((![v292] : Fin 1 → IVec S16 32) a x).toNat < S18816.size a)
theorem k0_idx547_inb : ∀ (i : grid0.Coords) (v10 : BitVec 32) (v292 : IVec S16 32) (k0_hw578 : k0_chk578 i v10 v292), ∀ (k0_h2 : k0_cond2 i v10 = 1#1), ∀ a x, ((![v292] : Fin 1 → IVec S16 32) a x).toNat < S18816.size a := fun i v10 v292 k0_hw578 k0_h2 => k0_hw578 k0_h2

def k0_chk579 (i : grid0.Coords) (v10 : BitVec 32) (v297 : IVec S16 32) : Prop :=
  (∀ (k0_h2 : k0_cond2 i v10 = 1#1), ∀ a x, ((![v297] : Fin 1 → IVec S16 32) a x).toNat < S18816.size a)
theorem k0_idx548_inb : ∀ (i : grid0.Coords) (v10 : BitVec 32) (v297 : IVec S16 32) (k0_hw579 : k0_chk579 i v10 v297), ∀ (k0_h2 : k0_cond2 i v10 = 1#1), ∀ a x, ((![v297] : Fin 1 → IVec S16 32) a x).toNat < S18816.size a := fun i v10 v297 k0_hw579 k0_h2 => k0_hw579 k0_h2

def k0_chk580 (i : grid0.Coords) (v10 : BitVec 32) (v302 : IVec S16 32) : Prop :=
  (∀ (k0_h2 : k0_cond2 i v10 = 1#1), ∀ a x, ((![v302] : Fin 1 → IVec S16 32) a x).toNat < S18816.size a)
theorem k0_idx549_inb : ∀ (i : grid0.Coords) (v10 : BitVec 32) (v302 : IVec S16 32) (k0_hw580 : k0_chk580 i v10 v302), ∀ (k0_h2 : k0_cond2 i v10 = 1#1), ∀ a x, ((![v302] : Fin 1 → IVec S16 32) a x).toNat < S18816.size a := fun i v10 v302 k0_hw580 k0_h2 => k0_hw580 k0_h2

def k0_chk581 (i : grid0.Coords) (v10 : BitVec 32) (v307 : IVec S16 32) : Prop :=
  (∀ (k0_h2 : k0_cond2 i v10 = 1#1), ∀ a x, ((![v307] : Fin 1 → IVec S16 32) a x).toNat < S18816.size a)
theorem k0_idx550_inb : ∀ (i : grid0.Coords) (v10 : BitVec 32) (v307 : IVec S16 32) (k0_hw581 : k0_chk581 i v10 v307), ∀ (k0_h2 : k0_cond2 i v10 = 1#1), ∀ a x, ((![v307] : Fin 1 → IVec S16 32) a x).toNat < S18816.size a := fun i v10 v307 k0_hw581 k0_h2 => k0_hw581 k0_h2

def k0_chk582 (i : grid0.Coords) (v10 : BitVec 32) (v312 : IVec S16 32) : Prop :=
  (∀ (k0_h2 : k0_cond2 i v10 = 1#1), ∀ a x, ((![v312] : Fin 1 → IVec S16 32) a x).toNat < S18816.size a)
theorem k0_idx551_inb : ∀ (i : grid0.Coords) (v10 : BitVec 32) (v312 : IVec S16 32) (k0_hw582 : k0_chk582 i v10 v312), ∀ (k0_h2 : k0_cond2 i v10 = 1#1), ∀ a x, ((![v312] : Fin 1 → IVec S16 32) a x).toNat < S18816.size a := fun i v10 v312 k0_hw582 k0_h2 => k0_hw582 k0_h2

def k0_chk583 (i : grid0.Coords) (v10 : BitVec 32) (v317 : IVec S16 32) : Prop :=
  (∀ (k0_h2 : k0_cond2 i v10 = 1#1), ∀ a x, ((![v317] : Fin 1 → IVec S16 32) a x).toNat < S18816.size a)
theorem k0_idx552_inb : ∀ (i : grid0.Coords) (v10 : BitVec 32) (v317 : IVec S16 32) (k0_hw583 : k0_chk583 i v10 v317), ∀ (k0_h2 : k0_cond2 i v10 = 1#1), ∀ a x, ((![v317] : Fin 1 → IVec S16 32) a x).toNat < S18816.size a := fun i v10 v317 k0_hw583 k0_h2 => k0_hw583 k0_h2
@[reducible] def k0_t148_loop (v41 : BitVec 32) (v43 : BitVec 32) : Scf.Loop 32 :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_110 : BitVec 32 := 1#32
  ⟨v41, v327, c1_i32_110⟩
@[reducible] def k0_t149_loop (v319 : BitVec 32) (v321 : BitVec 32) : Scf.Loop 32 :=
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_375 : BitVec 32 := 1#32
  ⟨v319, v1008, c1_i32_375⟩

def k0_off2222 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1012 : Index := Scalar.indexCast v1011
  let c0_377 : Index := 0#32
  ![v1012.toNat, 0]
def k0_off2223 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1015 : Index := Scalar.indexCast v1011
  let c16 : Index := 16#32
  ![v1015.toNat, 16]
def k0_off2224 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1018 : Index := Scalar.indexCast v1011
  let c32 : Index := 32#32
  ![v1018.toNat, 32]
def k0_off2225 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1021 : Index := Scalar.indexCast v1011
  let c48 : Index := 48#32
  ![v1021.toNat, 48]
def k0_off2226 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1024 : Index := Scalar.indexCast v1011
  let c64 : Index := 64#32
  ![v1024.toNat, 64]
def k0_off2227 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1027 : Index := Scalar.indexCast v1011
  let c80 : Index := 80#32
  ![v1027.toNat, 80]
def k0_off2228 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1030 : Index := Scalar.indexCast v1011
  let c96 : Index := 96#32
  ![v1030.toNat, 96]
def k0_off2229 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1033 : Index := Scalar.indexCast v1011
  let c112 : Index := 112#32
  ![v1033.toNat, 112]
def k0_off2230 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1036 : Index := Scalar.indexCast v1011
  let c128 : Index := 128#32
  ![v1036.toNat, 128]
def k0_off2231 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1039 : Index := Scalar.indexCast v1011
  let c144 : Index := 144#32
  ![v1039.toNat, 144]
def k0_off2232 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1042 : Index := Scalar.indexCast v1011
  let c160 : Index := 160#32
  ![v1042.toNat, 160]
def k0_off2233 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1045 : Index := Scalar.indexCast v1011
  let c176 : Index := 176#32
  ![v1045.toNat, 176]
def k0_off2234 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1048 : Index := Scalar.indexCast v1011
  let c192 : Index := 192#32
  ![v1048.toNat, 192]
def k0_off2235 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1051 : Index := Scalar.indexCast v1011
  let c208 : Index := 208#32
  ![v1051.toNat, 208]
def k0_off2236 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1054 : Index := Scalar.indexCast v1011
  let c224 : Index := 224#32
  ![v1054.toNat, 224]
def k0_off2237 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1057 : Index := Scalar.indexCast v1011
  let c240 : Index := 240#32
  ![v1057.toNat, 240]
def k0_off2238 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1060 : Index := Scalar.indexCast v1011
  let c256 : Index := 256#32
  ![v1060.toNat, 256]
def k0_off2239 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1063 : Index := Scalar.indexCast v1011
  let c272 : Index := 272#32
  ![v1063.toNat, 272]
def k0_off2240 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1066 : Index := Scalar.indexCast v1011
  let c288 : Index := 288#32
  ![v1066.toNat, 288]
def k0_off2241 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1069 : Index := Scalar.indexCast v1011
  let c304 : Index := 304#32
  ![v1069.toNat, 304]
def k0_off2242 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1072 : Index := Scalar.indexCast v1011
  let c320 : Index := 320#32
  ![v1072.toNat, 320]
def k0_off2243 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1075 : Index := Scalar.indexCast v1011
  let c336 : Index := 336#32
  ![v1075.toNat, 336]
def k0_off2244 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1078 : Index := Scalar.indexCast v1011
  let c352 : Index := 352#32
  ![v1078.toNat, 352]
def k0_off2245 (v41 : BitVec 32) (v43 : BitVec 32) (v319 : BitVec 32) (v321 : BitVec 32) (k0_t148 : Fin (k0_t148_loop v41 v43).trips) (k0_t149 : Fin (k0_t149_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let c1_i32_375 : BitVec 32 := 1#32
  let arg36 : BitVec 32 := Scf.iv v319 c1_i32_375 k0_t149
  let v1011 : BitVec 32 := Scalar.addi v1003 arg36
  let v1081 : Index := Scalar.indexCast v1011
  let c368 : Index := 368#32
  ![v1081.toNat, 368]
@[reducible] def k0_t150_loop (v319 : BitVec 32) (v321 : BitVec 32) : Scf.Loop 32 :=
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let v1005 : BitVec 32 := Scalar.addi v319 v1004
  let c1_i32_376 : BitVec 32 := 1#32
  ⟨v1008, v1005, c1_i32_376⟩
def k0_off2246 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1012 : Index := Scalar.indexCast v1011
  let c0_377 : Index := 0#32
  ![v1012.toNat, 0]
def k0_off2247 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1015 : Index := Scalar.indexCast v1011
  let c16 : Index := 16#32
  ![v1015.toNat, 16]
def k0_off2248 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1018 : Index := Scalar.indexCast v1011
  let c32 : Index := 32#32
  ![v1018.toNat, 32]
def k0_off2249 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1021 : Index := Scalar.indexCast v1011
  let c48 : Index := 48#32
  ![v1021.toNat, 48]
def k0_off2250 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1024 : Index := Scalar.indexCast v1011
  let c64 : Index := 64#32
  ![v1024.toNat, 64]
def k0_off2251 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1027 : Index := Scalar.indexCast v1011
  let c80 : Index := 80#32
  ![v1027.toNat, 80]
def k0_off2252 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1030 : Index := Scalar.indexCast v1011
  let c96 : Index := 96#32
  ![v1030.toNat, 96]
def k0_off2253 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1033 : Index := Scalar.indexCast v1011
  let c112 : Index := 112#32
  ![v1033.toNat, 112]
def k0_off2254 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1036 : Index := Scalar.indexCast v1011
  let c128 : Index := 128#32
  ![v1036.toNat, 128]
def k0_off2255 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1039 : Index := Scalar.indexCast v1011
  let c144 : Index := 144#32
  ![v1039.toNat, 144]
def k0_off2256 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1042 : Index := Scalar.indexCast v1011
  let c160 : Index := 160#32
  ![v1042.toNat, 160]
def k0_off2257 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1045 : Index := Scalar.indexCast v1011
  let c176 : Index := 176#32
  ![v1045.toNat, 176]
def k0_off2258 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1048 : Index := Scalar.indexCast v1011
  let c192 : Index := 192#32
  ![v1048.toNat, 192]
def k0_off2259 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1051 : Index := Scalar.indexCast v1011
  let c208 : Index := 208#32
  ![v1051.toNat, 208]
def k0_off2260 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1054 : Index := Scalar.indexCast v1011
  let c224 : Index := 224#32
  ![v1054.toNat, 224]
def k0_off2261 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1057 : Index := Scalar.indexCast v1011
  let c240 : Index := 240#32
  ![v1057.toNat, 240]
def k0_off2262 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1060 : Index := Scalar.indexCast v1011
  let c256 : Index := 256#32
  ![v1060.toNat, 256]
def k0_off2263 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1063 : Index := Scalar.indexCast v1011
  let c272 : Index := 272#32
  ![v1063.toNat, 272]
def k0_off2264 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1066 : Index := Scalar.indexCast v1011
  let c288 : Index := 288#32
  ![v1066.toNat, 288]
def k0_off2265 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1069 : Index := Scalar.indexCast v1011
  let c304 : Index := 304#32
  ![v1069.toNat, 304]
def k0_off2266 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1072 : Index := Scalar.indexCast v1011
  let c320 : Index := 320#32
  ![v1072.toNat, 320]
def k0_off2267 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1075 : Index := Scalar.indexCast v1011
  let c336 : Index := 336#32
  ![v1075.toNat, 336]
def k0_off2268 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1078 : Index := Scalar.indexCast v1011
  let c352 : Index := 352#32
  ![v1078.toNat, 352]
def k0_off2269 (v41 : BitVec 32) (v43 : BitVec 32) (v319 : BitVec 32) (v321 : BitVec 32) (k0_t148 : Fin (k0_t148_loop v41 v43).trips) (k0_t150 : Fin (k0_t150_loop v319 v321).trips) : Fin 2 → Nat :=
  let c1_i32_110 : BitVec 32 := 1#32
  let arg11 : BitVec 32 := Scf.iv v41 c1_i32_110 k0_t148
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t150
  let v1011 : BitVec 32 := Scalar.addi v1003 arg36
  let v1081 : Index := Scalar.indexCast v1011
  let c368 : Index := 368#32
  ![v1081.toNat, 368]
@[reducible] def k0_t151_loop (v41 : BitVec 32) (v43 : BitVec 32) : Scf.Loop 32 :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let v324 : BitVec 32 := Scalar.addi v41 v323
  let c1_i32_111 : BitVec 32 := 1#32
  ⟨v327, v324, c1_i32_111⟩
@[reducible] def k0_t152_loop (v319 : BitVec 32) (v321 : BitVec 32) : Scf.Loop 32 :=
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_375 : BitVec 32 := 1#32
  ⟨v319, v1008, c1_i32_375⟩
def k0_off2270 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1012 : Index := Scalar.indexCast v1011
  let c0_377 : Index := 0#32
  ![v1012.toNat, 0]
def k0_off2271 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1015 : Index := Scalar.indexCast v1011
  let c16 : Index := 16#32
  ![v1015.toNat, 16]
def k0_off2272 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1018 : Index := Scalar.indexCast v1011
  let c32 : Index := 32#32
  ![v1018.toNat, 32]
def k0_off2273 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1021 : Index := Scalar.indexCast v1011
  let c48 : Index := 48#32
  ![v1021.toNat, 48]
def k0_off2274 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1024 : Index := Scalar.indexCast v1011
  let c64 : Index := 64#32
  ![v1024.toNat, 64]
def k0_off2275 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1027 : Index := Scalar.indexCast v1011
  let c80 : Index := 80#32
  ![v1027.toNat, 80]
def k0_off2276 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1030 : Index := Scalar.indexCast v1011
  let c96 : Index := 96#32
  ![v1030.toNat, 96]
def k0_off2277 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1033 : Index := Scalar.indexCast v1011
  let c112 : Index := 112#32
  ![v1033.toNat, 112]
def k0_off2278 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1036 : Index := Scalar.indexCast v1011
  let c128 : Index := 128#32
  ![v1036.toNat, 128]
def k0_off2279 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1039 : Index := Scalar.indexCast v1011
  let c144 : Index := 144#32
  ![v1039.toNat, 144]
def k0_off2280 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1042 : Index := Scalar.indexCast v1011
  let c160 : Index := 160#32
  ![v1042.toNat, 160]
def k0_off2281 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1045 : Index := Scalar.indexCast v1011
  let c176 : Index := 176#32
  ![v1045.toNat, 176]
def k0_off2282 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1048 : Index := Scalar.indexCast v1011
  let c192 : Index := 192#32
  ![v1048.toNat, 192]
def k0_off2283 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1051 : Index := Scalar.indexCast v1011
  let c208 : Index := 208#32
  ![v1051.toNat, 208]
def k0_off2284 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1054 : Index := Scalar.indexCast v1011
  let c224 : Index := 224#32
  ![v1054.toNat, 224]
def k0_off2285 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1057 : Index := Scalar.indexCast v1011
  let c240 : Index := 240#32
  ![v1057.toNat, 240]
def k0_off2286 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1060 : Index := Scalar.indexCast v1011
  let c256 : Index := 256#32
  ![v1060.toNat, 256]
def k0_off2287 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1063 : Index := Scalar.indexCast v1011
  let c272 : Index := 272#32
  ![v1063.toNat, 272]
def k0_off2288 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1066 : Index := Scalar.indexCast v1011
  let c288 : Index := 288#32
  ![v1066.toNat, 288]
def k0_off2289 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1069 : Index := Scalar.indexCast v1011
  let c304 : Index := 304#32
  ![v1069.toNat, 304]
def k0_off2290 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1072 : Index := Scalar.indexCast v1011
  let c320 : Index := 320#32
  ![v1072.toNat, 320]
def k0_off2291 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1075 : Index := Scalar.indexCast v1011
  let c336 : Index := 336#32
  ![v1075.toNat, 336]
def k0_off2292 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1078 : Index := Scalar.indexCast v1011
  let c352 : Index := 352#32
  ![v1078.toNat, 352]
def k0_off2293 (v41 : BitVec 32) (v43 : BitVec 32) (v319 : BitVec 32) (v321 : BitVec 32) (k0_t151 : Fin (k0_t151_loop v41 v43).trips) (k0_t152 : Fin (k0_t152_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let c1_i32_375 : BitVec 32 := 1#32
  let arg36 : BitVec 32 := Scf.iv v319 c1_i32_375 k0_t152
  let v1011 : BitVec 32 := Scalar.addi v1003 arg36
  let v1081 : Index := Scalar.indexCast v1011
  let c368 : Index := 368#32
  ![v1081.toNat, 368]
@[reducible] def k0_t153_loop (v319 : BitVec 32) (v321 : BitVec 32) : Scf.Loop 32 :=
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let v1005 : BitVec 32 := Scalar.addi v319 v1004
  let c1_i32_376 : BitVec 32 := 1#32
  ⟨v1008, v1005, c1_i32_376⟩
def k0_off2294 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1012 : Index := Scalar.indexCast v1011
  let c0_377 : Index := 0#32
  ![v1012.toNat, 0]
def k0_off2295 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1015 : Index := Scalar.indexCast v1011
  let c16 : Index := 16#32
  ![v1015.toNat, 16]
def k0_off2296 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1018 : Index := Scalar.indexCast v1011
  let c32 : Index := 32#32
  ![v1018.toNat, 32]
def k0_off2297 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1021 : Index := Scalar.indexCast v1011
  let c48 : Index := 48#32
  ![v1021.toNat, 48]
def k0_off2298 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1024 : Index := Scalar.indexCast v1011
  let c64 : Index := 64#32
  ![v1024.toNat, 64]
def k0_off2299 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1027 : Index := Scalar.indexCast v1011
  let c80 : Index := 80#32
  ![v1027.toNat, 80]
def k0_off2300 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1030 : Index := Scalar.indexCast v1011
  let c96 : Index := 96#32
  ![v1030.toNat, 96]
def k0_off2301 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1033 : Index := Scalar.indexCast v1011
  let c112 : Index := 112#32
  ![v1033.toNat, 112]
def k0_off2302 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1036 : Index := Scalar.indexCast v1011
  let c128 : Index := 128#32
  ![v1036.toNat, 128]
def k0_off2303 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1039 : Index := Scalar.indexCast v1011
  let c144 : Index := 144#32
  ![v1039.toNat, 144]
def k0_off2304 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1042 : Index := Scalar.indexCast v1011
  let c160 : Index := 160#32
  ![v1042.toNat, 160]
def k0_off2305 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1045 : Index := Scalar.indexCast v1011
  let c176 : Index := 176#32
  ![v1045.toNat, 176]
def k0_off2306 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1048 : Index := Scalar.indexCast v1011
  let c192 : Index := 192#32
  ![v1048.toNat, 192]
def k0_off2307 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1051 : Index := Scalar.indexCast v1011
  let c208 : Index := 208#32
  ![v1051.toNat, 208]
def k0_off2308 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1054 : Index := Scalar.indexCast v1011
  let c224 : Index := 224#32
  ![v1054.toNat, 224]
def k0_off2309 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1057 : Index := Scalar.indexCast v1011
  let c240 : Index := 240#32
  ![v1057.toNat, 240]
def k0_off2310 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1060 : Index := Scalar.indexCast v1011
  let c256 : Index := 256#32
  ![v1060.toNat, 256]
def k0_off2311 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1063 : Index := Scalar.indexCast v1011
  let c272 : Index := 272#32
  ![v1063.toNat, 272]
def k0_off2312 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1066 : Index := Scalar.indexCast v1011
  let c288 : Index := 288#32
  ![v1066.toNat, 288]
def k0_off2313 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1069 : Index := Scalar.indexCast v1011
  let c304 : Index := 304#32
  ![v1069.toNat, 304]
def k0_off2314 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1072 : Index := Scalar.indexCast v1011
  let c320 : Index := 320#32
  ![v1072.toNat, 320]
def k0_off2315 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1075 : Index := Scalar.indexCast v1011
  let c336 : Index := 336#32
  ![v1075.toNat, 336]
def k0_off2316 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1078 : Index := Scalar.indexCast v1011
  let c352 : Index := 352#32
  ![v1078.toNat, 352]
def k0_off2317 (v41 : BitVec 32) (v43 : BitVec 32) (v319 : BitVec 32) (v321 : BitVec 32) (k0_t151 : Fin (k0_t151_loop v41 v43).trips) (k0_t153 : Fin (k0_t153_loop v319 v321).trips) : Fin 2 → Nat :=
  let v323 : BitVec 32 := Scalar.subi v43 v41
  let c1_i32_109 : BitVec 32 := 1#32
  let v325 : BitVec 32 := Scalar.divsi v323 c1_i32_109
  let v326 : BitVec 32 := Scalar.muli v325 c1_i32_109
  let v327 : BitVec 32 := Scalar.addi v41 v326
  let c1_i32_111 : BitVec 32 := 1#32
  let arg11 : BitVec 32 := Scf.iv v327 c1_i32_111 k0_t151
  let c14_i32 : BitVec 32 := 14#32
  let v1003 : BitVec 32 := Scalar.muli arg11 c14_i32
  let v1004 : BitVec 32 := Scalar.subi v321 v319
  let c1_i32_374 : BitVec 32 := 1#32
  let v1006 : BitVec 32 := Scalar.divsi v1004 c1_i32_374
  let v1007 : BitVec 32 := Scalar.muli v1006 c1_i32_374
  let v1008 : BitVec 32 := Scalar.addi v319 v1007
  let c1_i32_376 : BitVec 32 := 1#32
  let arg36 : BitVec 32 := Scf.iv v1008 c1_i32_376 k0_t153
  let v1011 : BitVec 32 := Scalar.addi v1003 arg36
  let v1081 : Index := Scalar.indexCast v1011
  let c368 : Index := 368#32
  ![v1081.toNat, 368]

def k0_chk584_0 (i : grid0.Coords) (v10 : BitVec 32) (v41 : BitVec 32) (v43 : BitVec 32) (v319 : BitVec 32) (v321 : BitVec 32) : Prop :=
  (∀ k0_t148 : Fin (k0_t148_loop v41 v43).trips, ∀ (k0_h2 : k0_cond2 i v10 = 1#1), (k0_t149_loop v319 v321).OK) ∧
  (∀ (k0_t148 : Fin (k0_t148_loop v41 v43).trips) (k0_t149 : Fin (k0_t149_loop v319 v321).trips), ∀ (k0_h2 : k0_cond2 i v10 = 1#1), ∀ a, (k0_off2222 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2223 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2224 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2225 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2226 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2227 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2228 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2229 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2230 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2231 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2232 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2233 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2234 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2235 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2236 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2237 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2238 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2239 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2240 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2241 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2242 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2243 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2244 v41 v43 v319 v321 k0_t148 k0_t149) a + S1x16.size a ≤ S196x384.size a) ∧
  (∀ (k0_t148 : Fin (k0_t148_loop v41 v43).trips) (k0_t149 : Fin (k0_t149_loop v319 v321).trips), ∀ (k0_h2 : k0_cond2 i v10 = 1#1), ∀ a, (k0_off2245 v41 v43 v319 v321 k0_t148 k0_t149) a + S1x16.size a ≤ S196x384.size a) ∧
  (∀ k0_t148 : Fin (k0_t148_loop v41 v43).trips, ∀ (k0_h2 : k0_cond2 i v10 = 1#1), (k0_t150_loop v319 v321).OK) ∧
  (∀ (k0_t148 : Fin (k0_t148_loop v41 v43).trips) (k0_t150 : Fin (k0_t150_loop v319 v321).trips), ∀ (k0_h2 : k0_cond2 i v10 = 1#1), ∀ a, (k0_off2246 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2247 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2248 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2249 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2250 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2251 v41 v43 v319 v321 k0_t148 k0_t150) a + S1x16.size a ≤ S196x384.size a)
def k0_chk584_1 (i : grid0.Coords) (v10 : BitVec 32) (v41 : BitVec 32) (v43 : BitVec 32) (v319 : BitVec 32) (v321 : BitVec 32) : Prop :=
  (∀ (k0_t148 : Fin (k0_t148_loop v41 v43).trips) (k0_t150 : Fin (k0_t150_loop v319 v321).trips), ∀ (k0_h2 : k0_cond2 i v10 = 1#1), ∀ a, (k0_off2252 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2253 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2254 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2255 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2256 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2257 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2258 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2259 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2260 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2261 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2262 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2263 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2264 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2265 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2266 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2267 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2268 v41 v43 v319 v321 k0_t148 k0_t150) a + S1x16.size a ≤ S196x384.size a) ∧
  (∀ (k0_t148 : Fin (k0_t148_loop v41 v43).trips) (k0_t150 : Fin (k0_t150_loop v319 v321).trips), ∀ (k0_h2 : k0_cond2 i v10 = 1#1), ∀ a, (k0_off2269 v41 v43 v319 v321 k0_t148 k0_t150) a + S1x16.size a ≤ S196x384.size a) ∧
  (∀ k0_t151 : Fin (k0_t151_loop v41 v43).trips, ∀ (k0_h2 : k0_cond2 i v10 = 1#1), (k0_t152_loop v319 v321).OK) ∧
  (∀ (k0_t151 : Fin (k0_t151_loop v41 v43).trips) (k0_t152 : Fin (k0_t152_loop v319 v321).trips), ∀ (k0_h2 : k0_cond2 i v10 = 1#1), ∀ a, (k0_off2270 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2271 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2272 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2273 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2274 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2275 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2276 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2277 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2278 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2279 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2280 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2281 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2282 v41 v43 v319 v321 k0_t151 k0_t152) a + S1x16.size a ≤ S196x384.size a)
def k0_chk584_2 (i : grid0.Coords) (v10 : BitVec 32) (v41 : BitVec 32) (v43 : BitVec 32) (v319 : BitVec 32) (v321 : BitVec 32) : Prop :=
  (∀ (k0_t151 : Fin (k0_t151_loop v41 v43).trips) (k0_t152 : Fin (k0_t152_loop v319 v321).trips), ∀ (k0_h2 : k0_cond2 i v10 = 1#1), ∀ a, (k0_off2283 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2284 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2285 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2286 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2287 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2288 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2289 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2290 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2291 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2292 v41 v43 v319 v321 k0_t151 k0_t152) a + S1x16.size a ≤ S196x384.size a) ∧
  (∀ (k0_t151 : Fin (k0_t151_loop v41 v43).trips) (k0_t152 : Fin (k0_t152_loop v319 v321).trips), ∀ (k0_h2 : k0_cond2 i v10 = 1#1), ∀ a, (k0_off2293 v41 v43 v319 v321 k0_t151 k0_t152) a + S1x16.size a ≤ S196x384.size a) ∧
  (∀ k0_t151 : Fin (k0_t151_loop v41 v43).trips, ∀ (k0_h2 : k0_cond2 i v10 = 1#1), (k0_t153_loop v319 v321).OK) ∧
  (∀ (k0_t151 : Fin (k0_t151_loop v41 v43).trips) (k0_t153 : Fin (k0_t153_loop v319 v321).trips), ∀ (k0_h2 : k0_cond2 i v10 = 1#1), ∀ a, (k0_off2294 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2295 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2296 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2297 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2298 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2299 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2300 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2301 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2302 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2303 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2304 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2305 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2306 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2307 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2308 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2309 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2310 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2311 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2312 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2313 v41 v43 v319 v321 k0_t151 k0_t153) a + S1x16.size a ≤ S196x384.size a)
def k0_chk584_3 (i : grid0.Coords) (v10 : BitVec 32) (v41 : BitVec 32) (v43 : BitVec 32) (v319 : BitVec 32) (v321 : BitVec 32) : Prop :=
  (∀ (k0_t151 : Fin (k0_t151_loop v41 v43).trips) (k0_t153 : Fin (k0_t153_loop v319 v321).trips), ∀ (k0_h2 : k0_cond2 i v10 = 1#1), ∀ a, (k0_off2314 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2315 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2316 v41 v43 v319 v321 k0_t151 k0_t153) a + S1x16.size a ≤ S196x384.size a) ∧
  (∀ (k0_t151 : Fin (k0_t151_loop v41 v43).trips) (k0_t153 : Fin (k0_t153_loop v319 v321).trips), ∀ (k0_h2 : k0_cond2 i v10 = 1#1), ∀ a, (k0_off2317 v41 v43 v319 v321 k0_t151 k0_t153) a + S1x16.size a ≤ S196x384.size a)
def k0_chk584 (i : grid0.Coords) (v10 : BitVec 32) (v41 : BitVec 32) (v43 : BitVec 32) (v319 : BitVec 32) (v321 : BitVec 32) : Prop :=
  k0_chk584_0 i v10 v41 v43 v319 v321 ∧
  k0_chk584_1 i v10 v41 v43 v319 v321 ∧
  k0_chk584_2 i v10 v41 v43 v319 v321 ∧
  k0_chk584_3 i v10 v41 v43 v319 v321
theorem k0_t149_ok : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips), ∀ (k0_h2 : k0_cond2 i v10 = 1#1), (k0_t149_loop v319 v321).OK := fun i v10 v41 v43 v319 v321 k0_hw584 k0_t148 k0_h2 => k0_hw584.1.1 k0_t148 k0_h2
theorem k0_off2222_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2222 v41 v43 v319 v321 k0_t148 k0_t149) a + S1x16.size a ≤ S196x384.size a := fun i v10 v41 v43 v319 v321 k0_hw584 k0_t148 k0_t149 k0_h2 => k0_hw584.1.2.1 k0_t148 k0_t149 k0_h2
theorem k0_off2223_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2223 v41 v43 v319 v321 k0_t148 k0_t149) a + S1x16.size a ≤ S196x384.size a := fun i v10 v41 v43 v319 v321 k0_hw584 k0_t148 k0_t149 k0_h2 => k0_hw584.1.2.2.1 k0_t148 k0_t149 k0_h2
theorem k0_off2224_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2224 v41 v43 v319 v321 k0_t148 k0_t149) a + S1x16.size a ≤ S196x384.size a := fun i v10 v41 v43 v319 v321 k0_hw584 k0_t148 k0_t149 k0_h2 => k0_hw584.1.2.2.2.1 k0_t148 k0_t149 k0_h2
theorem k0_off2225_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2225 v41 v43 v319 v321 k0_t148 k0_t149) a + S1x16.size a ≤ S196x384.size a := fun i v10 v41 v43 v319 v321 k0_hw584 k0_t148 k0_t149 k0_h2 => k0_hw584.1.2.2.2.2.1 k0_t148 k0_t149 k0_h2
theorem k0_off2226_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2226 v41 v43 v319 v321 k0_t148 k0_t149) a + S1x16.size a ≤ S196x384.size a := fun i v10 v41 v43 v319 v321 k0_hw584 k0_t148 k0_t149 k0_h2 => k0_hw584.1.2.2.2.2.2.1 k0_t148 k0_t149 k0_h2
theorem k0_off2227_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2227 v41 v43 v319 v321 k0_t148 k0_t149) a + S1x16.size a ≤ S196x384.size a := fun i v10 v41 v43 v319 v321 k0_hw584 k0_t148 k0_t149 k0_h2 => k0_hw584.1.2.2.2.2.2.2.1 k0_t148 k0_t149 k0_h2
theorem k0_off2228_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2228 v41 v43 v319 v321 k0_t148 k0_t149) a + S1x16.size a ≤ S196x384.size a := fun i v10 v41 v43 v319 v321 k0_hw584 k0_t148 k0_t149 k0_h2 => k0_hw584.1.2.2.2.2.2.2.2.1 k0_t148 k0_t149 k0_h2
theorem k0_off2229_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2229 v41 v43 v319 v321 k0_t148 k0_t149) a + S1x16.size a ≤ S196x384.size a := fun i v10 v41 v43 v319 v321 k0_hw584 k0_t148 k0_t149 k0_h2 => k0_hw584.1.2.2.2.2.2.2.2.2.1 k0_t148 k0_t149 k0_h2
theorem k0_off2230_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2230 v41 v43 v319 v321 k0_t148 k0_t149) a + S1x16.size a ≤ S196x384.size a := fun i v10 v41 v43 v319 v321 k0_hw584 k0_t148 k0_t149 k0_h2 => k0_hw584.1.2.2.2.2.2.2.2.2.2.1 k0_t148 k0_t149 k0_h2
theorem k0_off2231_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2231 v41 v43 v319 v321 k0_t148 k0_t149) a + S1x16.size a ≤ S196x384.size a := fun i v10 v41 v43 v319 v321 k0_hw584 k0_t148 k0_t149 k0_h2 => k0_hw584.1.2.2.2.2.2.2.2.2.2.2.1 k0_t148 k0_t149 k0_h2
theorem k0_off2232_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2232 v41 v43 v319 v321 k0_t148 k0_t149) a + S1x16.size a ≤ S196x384.size a := fun i v10 v41 v43 v319 v321 k0_hw584 k0_t148 k0_t149 k0_h2 => k0_hw584.1.2.2.2.2.2.2.2.2.2.2.2.1 k0_t148 k0_t149 k0_h2
theorem k0_off2233_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2233 v41 v43 v319 v321 k0_t148 k0_t149) a + S1x16.size a ≤ S196x384.size a := fun i v10 v41 v43 v319 v321 k0_hw584 k0_t148 k0_t149 k0_h2 => k0_hw584.1.2.2.2.2.2.2.2.2.2.2.2.2.1 k0_t148 k0_t149 k0_h2
theorem k0_off2234_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2234 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.1 k0_t148 k0_t149 k0_h2
theorem k0_off2235_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2235 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.1 k0_t148 k0_t149 k0_h2
theorem k0_off2236_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2236 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.1 k0_t148 k0_t149 k0_h2
theorem k0_off2237_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2237 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.2.1 k0_t148 k0_t149 k0_h2
theorem k0_off2238_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2238 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.2.2.1 k0_t148 k0_t149 k0_h2
theorem k0_off2239_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2239 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.2.2.2.1 k0_t148 k0_t149 k0_h2
theorem k0_off2240_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2240 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.2.2.2.2.1 k0_t148 k0_t149 k0_h2
theorem k0_off2241_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2241 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.2.2.2.2.2.1 k0_t148 k0_t149 k0_h2
theorem k0_off2242_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2242 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.2.2.2.2.2.2.1 k0_t148 k0_t149 k0_h2
theorem k0_off2243_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2243 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.2.2.2.2.2.2.2.1 k0_t148 k0_t149 k0_h2
theorem k0_off2244_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2244 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.2.2.2.2.2.2.2.2.1 k0_t148 k0_t149 k0_h2
theorem k0_off2245_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t149 : Fin (k0_t149_loop v319 v321).trips), ∀ (k0_h2 : k0_cond2 i v10 = 1#1), ∀ a, (k0_off2245 v41 v43 v319 v321 k0_t148 k0_t149) a + S1x16.size a ≤ S196x384.size a := fun i v10 v41 v43 v319 v321 k0_hw584 k0_t148 k0_t149 k0_h2 => k0_hw584.1.2.2.2.2.2.2.2.2.2.2.2.2.2.2.2.2.2.2.2.2.2.2.2.2.1 k0_t148 k0_t149 k0_h2
theorem k0_t150_ok : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips), ∀ (k0_h2 : k0_cond2 i v10 = 1#1), (k0_t150_loop v319 v321).OK := fun i v10 v41 v43 v319 v321 k0_hw584 k0_t148 k0_h2 => k0_hw584.1.2.2.2.2.2.2.2.2.2.2.2.2.2.2.2.2.2.2.2.2.2.2.2.2.2.1 k0_t148 k0_h2
theorem k0_off2246_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2246 v41 v43 v319 v321 k0_t148 k0_t150) a + S1x16.size a ≤ S196x384.size a := fun i v10 v41 v43 v319 v321 k0_hw584 k0_t148 k0_t150 k0_h2 => k0_hw584.1.2.2.2.2.2.2.2.2.2.2.2.2.2.2.2.2.2.2.2.2.2.2.2.2.2.2.1 k0_t148 k0_t150 k0_h2
theorem k0_off2247_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2247 v41 v43 v319 v321 k0_t148 k0_t150) a + S1x16.size a ≤ S196x384.size a := fun i v10 v41 v43 v319 v321 k0_hw584 k0_t148 k0_t150 k0_h2 => k0_hw584.1.2.2.2.2.2.2.2.2.2.2.2.2.2.2.2.2.2.2.2.2.2.2.2.2.2.2.2.1 k0_t148 k0_t150 k0_h2
theorem k0_off2248_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2248 v41 v43 v319 v321 k0_t148 k0_t150) a + S1x16.size a ≤ S196x384.size a := fun i v10 v41 v43 v319 v321 k0_hw584 k0_t148 k0_t150 k0_h2 => k0_hw584.1.2.2.2.2.2.2.2.2.2.2.2.2.2.2.2.2.2.2.2.2.2.2.2.2.2.2.2.2.1 k0_t148 k0_t150 k0_h2
theorem k0_off2249_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2249 v41 v43 v319 v321 k0_t148 k0_t150) a + S1x16.size a ≤ S196x384.size a := fun i v10 v41 v43 v319 v321 k0_hw584 k0_t148 k0_t150 k0_h2 => k0_hw584.1.2.2.2.2.2.2.2.2.2.2.2.2.2.2.2.2.2.2.2.2.2.2.2.2.2.2.2.2.2.1 k0_t148 k0_t150 k0_h2
theorem k0_off2250_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2250 v41 v43 v319 v321 k0_t148 k0_t150) a + S1x16.size a ≤ S196x384.size a := fun i v10 v41 v43 v319 v321 k0_hw584 k0_t148 k0_t150 k0_h2 => k0_hw584.1.2.2.2.2.2.2.2.2.2.2.2.2.2.2.2.2.2.2.2.2.2.2.2.2.2.2.2.2.2.2.1 k0_t148 k0_t150 k0_h2
theorem k0_off2251_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2251 v41 v43 v319 v321 k0_t148 k0_t150) a + S1x16.size a ≤ S196x384.size a := fun i v10 v41 v43 v319 v321 k0_hw584 k0_t148 k0_t150 k0_h2 => k0_hw584.1.2.2.2.2.2.2.2.2.2.2.2.2.2.2.2.2.2.2.2.2.2.2.2.2.2.2.2.2.2.2.2 k0_t148 k0_t150 k0_h2
theorem k0_off2252_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2252 v41 v43 v319 v321 k0_t148 k0_t150) a + S1x16.size a ≤ S196x384.size a := fun i v10 v41 v43 v319 v321 k0_hw584 k0_t148 k0_t150 k0_h2 => k0_hw584.2.1.1 k0_t148 k0_t150 k0_h2
theorem k0_off2253_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2253 v41 v43 v319 v321 k0_t148 k0_t150) a + S1x16.size a ≤ S196x384.size a := fun i v10 v41 v43 v319 v321 k0_hw584 k0_t148 k0_t150 k0_h2 => k0_hw584.2.1.2.1 k0_t148 k0_t150 k0_h2
theorem k0_off2254_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2254 v41 v43 v319 v321 k0_t148 k0_t150) a + S1x16.size a ≤ S196x384.size a := fun i v10 v41 v43 v319 v321 k0_hw584 k0_t148 k0_t150 k0_h2 => k0_hw584.2.1.2.2.1 k0_t148 k0_t150 k0_h2
theorem k0_off2255_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2255 v41 v43 v319 v321 k0_t148 k0_t150) a + S1x16.size a ≤ S196x384.size a := fun i v10 v41 v43 v319 v321 k0_hw584 k0_t148 k0_t150 k0_h2 => k0_hw584.2.1.2.2.2.1 k0_t148 k0_t150 k0_h2
theorem k0_off2256_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2256 v41 v43 v319 v321 k0_t148 k0_t150) a + S1x16.size a ≤ S196x384.size a := fun i v10 v41 v43 v319 v321 k0_hw584 k0_t148 k0_t150 k0_h2 => k0_hw584.2.1.2.2.2.2.1 k0_t148 k0_t150 k0_h2
theorem k0_off2257_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2257 v41 v43 v319 v321 k0_t148 k0_t150) a + S1x16.size a ≤ S196x384.size a := fun i v10 v41 v43 v319 v321 k0_hw584 k0_t148 k0_t150 k0_h2 => k0_hw584.2.1.2.2.2.2.2.1 k0_t148 k0_t150 k0_h2
theorem k0_off2258_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2258 v41 v43 v319 v321 k0_t148 k0_t150) a + S1x16.size a ≤ S196x384.size a := fun i v10 v41 v43 v319 v321 k0_hw584 k0_t148 k0_t150 k0_h2 => k0_hw584.2.1.2.2.2.2.2.2.1 k0_t148 k0_t150 k0_h2
theorem k0_off2259_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2259 v41 v43 v319 v321 k0_t148 k0_t150) a + S1x16.size a ≤ S196x384.size a := fun i v10 v41 v43 v319 v321 k0_hw584 k0_t148 k0_t150 k0_h2 => k0_hw584.2.1.2.2.2.2.2.2.2.1 k0_t148 k0_t150 k0_h2
theorem k0_off2260_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2260 v41 v43 v319 v321 k0_t148 k0_t150) a + S1x16.size a ≤ S196x384.size a := fun i v10 v41 v43 v319 v321 k0_hw584 k0_t148 k0_t150 k0_h2 => k0_hw584.2.1.2.2.2.2.2.2.2.2.1 k0_t148 k0_t150 k0_h2
theorem k0_off2261_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2261 v41 v43 v319 v321 k0_t148 k0_t150) a + S1x16.size a ≤ S196x384.size a := fun i v10 v41 v43 v319 v321 k0_hw584 k0_t148 k0_t150 k0_h2 => k0_hw584.2.1.2.2.2.2.2.2.2.2.2.1 k0_t148 k0_t150 k0_h2
theorem k0_off2262_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2262 v41 v43 v319 v321 k0_t148 k0_t150) a + S1x16.size a ≤ S196x384.size a := fun i v10 v41 v43 v319 v321 k0_hw584 k0_t148 k0_t150 k0_h2 => k0_hw584.2.1.2.2.2.2.2.2.2.2.2.2.1 k0_t148 k0_t150 k0_h2
theorem k0_off2263_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2263 v41 v43 v319 v321 k0_t148 k0_t150) a + S1x16.size a ≤ S196x384.size a := fun i v10 v41 v43 v319 v321 k0_hw584 k0_t148 k0_t150 k0_h2 => k0_hw584.2.1.2.2.2.2.2.2.2.2.2.2.2.1 k0_t148 k0_t150 k0_h2
theorem k0_off2264_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2264 v41 v43 v319 v321 k0_t148 k0_t150) a + S1x16.size a ≤ S196x384.size a := fun i v10 v41 v43 v319 v321 k0_hw584 k0_t148 k0_t150 k0_h2 => k0_hw584.2.1.2.2.2.2.2.2.2.2.2.2.2.2.1 k0_t148 k0_t150 k0_h2
theorem k0_off2265_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2265 v41 v43 v319 v321 k0_t148 k0_t150) a + S1x16.size a ≤ S196x384.size a := fun i v10 v41 v43 v319 v321 k0_hw584 k0_t148 k0_t150 k0_h2 => k0_hw584.2.1.2.2.2.2.2.2.2.2.2.2.2.2.2.1 k0_t148 k0_t150 k0_h2
theorem k0_off2266_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2266 v41 v43 v319 v321 k0_t148 k0_t150) a + S1x16.size a ≤ S196x384.size a := fun i v10 v41 v43 v319 v321 k0_hw584 k0_t148 k0_t150 k0_h2 => k0_hw584.2.1.2.2.2.2.2.2.2.2.2.2.2.2.2.2.1 k0_t148 k0_t150 k0_h2
theorem k0_off2267_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2267 v41 v43 v319 v321 k0_t148 k0_t150) a + S1x16.size a ≤ S196x384.size a := fun i v10 v41 v43 v319 v321 k0_hw584 k0_t148 k0_t150 k0_h2 => k0_hw584.2.1.2.2.2.2.2.2.2.2.2.2.2.2.2.2.2.1 k0_t148 k0_t150 k0_h2
theorem k0_off2268_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2268 v41 v43 v319 v321 k0_t148 k0_t150) a + S1x16.size a ≤ S196x384.size a := fun i v10 v41 v43 v319 v321 k0_hw584 k0_t148 k0_t150 k0_h2 => k0_hw584.2.1.2.2.2.2.2.2.2.2.2.2.2.2.2.2.2.2.1 k0_t148 k0_t150 k0_h2
theorem k0_off2269_inb : ∀ (i : grid0.Coords) (v10 : BitVec 32) (v41 : BitVec 32) (v43 : BitVec 32) (v319 : BitVec 32) (v321 : BitVec 32) (k0_hw584 : k0_chk584 i v10 v41 v43 v319 v321) (k0_t148 : Fin (k0_t148_loop v41 v43).trips) (k0_t150 : Fin (k0_t150_loop v319 v321).trips), ∀ (k0_h2 : k0_cond2 i v10 = 1#1), ∀ a, (k0_off2269 v41 v43 v319 v321 k0_t148 k0_t150) a + S1x16.size a ≤ S196x384.size a := fun i v10 v41 v43 v319 v321 k0_hw584 k0_t148 k0_t150 k0_h2 => k0_hw584.2.1.2.2.2.2.2.2.2.2.2.2.2.2.2.2.2.2.2.1 k0_t148 k0_t150 k0_h2
theorem k0_t152_ok : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips), ∀ (k0_h2 : k0_cond2 i v10 = 1#1), (k0_t152_loop v319 v321).OK := fun i v10 v41 v43 v319 v321 k0_hw584 k0_t151 k0_h2 => k0_hw584.2.1.2.2.2.2.2.2.2.2.2.2.2.2.2.2.2.2.2.2.1 k0_t151 k0_h2
theorem k0_off2270_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2270 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.1 k0_t151 k0_t152 k0_h2
theorem k0_off2271_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2271 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.1 k0_t151 k0_t152 k0_h2
theorem k0_off2272_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2272 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.1 k0_t151 k0_t152 k0_h2
theorem k0_off2273_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2273 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.1 k0_t151 k0_t152 k0_h2
theorem k0_off2274_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2274 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.2.1 k0_t151 k0_t152 k0_h2
theorem k0_off2275_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2275 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.2.2.1 k0_t151 k0_t152 k0_h2
theorem k0_off2276_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2276 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.2.2.2.1 k0_t151 k0_t152 k0_h2
theorem k0_off2277_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2277 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.2.2.2.2.1 k0_t151 k0_t152 k0_h2
theorem k0_off2278_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2278 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.2.2.2.2.2.1 k0_t151 k0_t152 k0_h2
theorem k0_off2279_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2279 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.2.2.2.2.2.2.1 k0_t151 k0_t152 k0_h2
theorem k0_off2280_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2280 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.2.2.2.2.2.2.2.1 k0_t151 k0_t152 k0_h2
theorem k0_off2281_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2281 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.2.2.2.2.2.2.2.2.1 k0_t151 k0_t152 k0_h2
theorem k0_off2282_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2282 v41 v43 v319 v321 k0_t151 k0_t152) a + S1x16.size a ≤ S196x384.size a := fun i v10 v41 v43 v319 v321 k0_hw584 k0_t151 k0_t152 k0_h2 => k0_hw584.2.1.2.2.2.2.2.2.2.2.2.2.2.2.2.2.2.2.2.2.2.2.2.2.2.2.2.2.2.2.2.2.2 k0_t151 k0_t152 k0_h2
theorem k0_off2283_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2283 v41 v43 v319 v321 k0_t151 k0_t152) a + S1x16.size a ≤ S196x384.size a := fun i v10 v41 v43 v319 v321 k0_hw584 k0_t151 k0_t152 k0_h2 => k0_hw584.2.2.1.1 k0_t151 k0_t152 k0_h2
theorem k0_off2284_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2284 v41 v43 v319 v321 k0_t151 k0_t152) a + S1x16.size a ≤ S196x384.size a := fun i v10 v41 v43 v319 v321 k0_hw584 k0_t151 k0_t152 k0_h2 => k0_hw584.2.2.1.2.1 k0_t151 k0_t152 k0_h2
theorem k0_off2285_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2285 v41 v43 v319 v321 k0_t151 k0_t152) a + S1x16.size a ≤ S196x384.size a := fun i v10 v41 v43 v319 v321 k0_hw584 k0_t151 k0_t152 k0_h2 => k0_hw584.2.2.1.2.2.1 k0_t151 k0_t152 k0_h2
theorem k0_off2286_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2286 v41 v43 v319 v321 k0_t151 k0_t152) a + S1x16.size a ≤ S196x384.size a := fun i v10 v41 v43 v319 v321 k0_hw584 k0_t151 k0_t152 k0_h2 => k0_hw584.2.2.1.2.2.2.1 k0_t151 k0_t152 k0_h2
theorem k0_off2287_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2287 v41 v43 v319 v321 k0_t151 k0_t152) a + S1x16.size a ≤ S196x384.size a := fun i v10 v41 v43 v319 v321 k0_hw584 k0_t151 k0_t152 k0_h2 => k0_hw584.2.2.1.2.2.2.2.1 k0_t151 k0_t152 k0_h2
theorem k0_off2288_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2288 v41 v43 v319 v321 k0_t151 k0_t152) a + S1x16.size a ≤ S196x384.size a := fun i v10 v41 v43 v319 v321 k0_hw584 k0_t151 k0_t152 k0_h2 => k0_hw584.2.2.1.2.2.2.2.2.1 k0_t151 k0_t152 k0_h2
theorem k0_off2289_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2289 v41 v43 v319 v321 k0_t151 k0_t152) a + S1x16.size a ≤ S196x384.size a := fun i v10 v41 v43 v319 v321 k0_hw584 k0_t151 k0_t152 k0_h2 => k0_hw584.2.2.1.2.2.2.2.2.2.1 k0_t151 k0_t152 k0_h2
theorem k0_off2290_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2290 v41 v43 v319 v321 k0_t151 k0_t152) a + S1x16.size a ≤ S196x384.size a := fun i v10 v41 v43 v319 v321 k0_hw584 k0_t151 k0_t152 k0_h2 => k0_hw584.2.2.1.2.2.2.2.2.2.2.1 k0_t151 k0_t152 k0_h2
theorem k0_off2291_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2291 v41 v43 v319 v321 k0_t151 k0_t152) a + S1x16.size a ≤ S196x384.size a := fun i v10 v41 v43 v319 v321 k0_hw584 k0_t151 k0_t152 k0_h2 => k0_hw584.2.2.1.2.2.2.2.2.2.2.2.1 k0_t151 k0_t152 k0_h2
theorem k0_off2292_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2292 v41 v43 v319 v321 k0_t151 k0_t152) a + S1x16.size a ≤ S196x384.size a := fun i v10 v41 v43 v319 v321 k0_hw584 k0_t151 k0_t152 k0_h2 => k0_hw584.2.2.1.2.2.2.2.2.2.2.2.2.1 k0_t151 k0_t152 k0_h2
theorem k0_off2293_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t152 : Fin (k0_t152_loop v319 v321).trips), ∀ (k0_h2 : k0_cond2 i v10 = 1#1), ∀ a, (k0_off2293 v41 v43 v319 v321 k0_t151 k0_t152) a + S1x16.size a ≤ S196x384.size a := fun i v10 v41 v43 v319 v321 k0_hw584 k0_t151 k0_t152 k0_h2 => k0_hw584.2.2.1.2.2.2.2.2.2.2.2.2.2.1 k0_t151 k0_t152 k0_h2
theorem k0_t153_ok : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips), ∀ (k0_h2 : k0_cond2 i v10 = 1#1), (k0_t153_loop v319 v321).OK := fun i v10 v41 v43 v319 v321 k0_hw584 k0_t151 k0_h2 => k0_hw584.2.2.1.2.2.2.2.2.2.2.2.2.2.2.1 k0_t151 k0_h2
theorem k0_off2294_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2294 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.1 k0_t151 k0_t153 k0_h2
theorem k0_off2295_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2295 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.1 k0_t151 k0_t153 k0_h2
theorem k0_off2296_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2296 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.1 k0_t151 k0_t153 k0_h2
theorem k0_off2297_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2297 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.1 k0_t151 k0_t153 k0_h2
theorem k0_off2298_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2298 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.1 k0_t151 k0_t153 k0_h2
theorem k0_off2299_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2299 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.1 k0_t151 k0_t153 k0_h2
theorem k0_off2300_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2300 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.1 k0_t151 k0_t153 k0_h2
theorem k0_off2301_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2301 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.1 k0_t151 k0_t153 k0_h2
theorem k0_off2302_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2302 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.1 k0_t151 k0_t153 k0_h2
theorem k0_off2303_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2303 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.1 k0_t151 k0_t153 k0_h2
theorem k0_off2304_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2304 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.1 k0_t151 k0_t153 k0_h2
theorem k0_off2305_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2305 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.2.1 k0_t151 k0_t153 k0_h2
theorem k0_off2306_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2306 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.2.2.1 k0_t151 k0_t153 k0_h2
theorem k0_off2307_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2307 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.2.2.2.1 k0_t151 k0_t153 k0_h2
theorem k0_off2308_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2308 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.2.2.2.2.1 k0_t151 k0_t153 k0_h2
theorem k0_off2309_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2309 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.2.2.2.2.2.1 k0_t151 k0_t153 k0_h2
theorem k0_off2310_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2310 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.2.2.2.2.2.2.1 k0_t151 k0_t153 k0_h2
theorem k0_off2311_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2311 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.2.2.2.2.2.2.2.1 k0_t151 k0_t153 k0_h2
theorem k0_off2312_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2312 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.2.2.2.2.2.2.2.2.1 k0_t151 k0_t153 k0_h2
theorem k0_off2313_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2313 v41 v43 v319 v321 k0_t151 k0_t153) a + S1x16.size a ≤ S196x384.size a := fun i v10 v41 v43 v319 v321 k0_hw584 k0_t151 k0_t153 k0_h2 => k0_hw584.2.2.1.2.2.2.2.2.2.2.2.2.2.2.2.2.2.2.2.2.2.2.2.2.2.2.2.2.2.2.2.2.2.2 k0_t151 k0_t153 k0_h2
theorem k0_off2314_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2314 v41 v43 v319 v321 k0_t151 k0_t153) a + S1x16.size a ≤ S196x384.size a := fun i v10 v41 v43 v319 v321 k0_hw584 k0_t151 k0_t153 k0_h2 => k0_hw584.2.2.2.1 k0_t151 k0_t153 k0_h2
theorem k0_off2315_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2315 v41 v43 v319 v321 k0_t151 k0_t153) a + S1x16.size a ≤ S196x384.size a := fun i v10 v41 v43 v319 v321 k0_hw584 k0_t151 k0_t153 k0_h2 => k0_hw584.2.2.2.2.1 k0_t151 k0_t153 k0_h2
theorem k0_off2316_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2316 v41 v43 v319 v321 k0_t151 k0_t153) a + S1x16.size a ≤ S196x384.size a := fun i v10 v41 v43 v319 v321 k0_hw584 k0_t151 k0_t153 k0_h2 => k0_hw584.2.2.2.2.2.1 k0_t151 k0_t153 k0_h2
theorem k0_off2317_inb : ∀ (i : grid0.Coords) (v10 : BitVec 32) (v41 : BitVec 32) (v43 : BitVec 32) (v319 : BitVec 32) (v321 : BitVec 32) (k0_hw584 : k0_chk584 i v10 v41 v43 v319 v321) (k0_t151 : Fin (k0_t151_loop v41 v43).trips) (k0_t153 : Fin (k0_t153_loop v319 v321).trips), ∀ (k0_h2 : k0_cond2 i v10 = 1#1), ∀ a, (k0_off2317 v41 v43 v319 v321 k0_t151 k0_t153) a + S1x16.size a ≤ S196x384.size a := fun i v10 v41 v43 v319 v321 k0_hw584 k0_t151 k0_t153 k0_h2 => k0_hw584.2.2.2.2.2.2 k0_t151 k0_t153 k0_h2

def k0_chk585 (i : grid0.Coords) (v10 : BitVec 32) (v339 : IVec S16 32) : Prop :=
  (∀ (k0_h2 : k0_cond2 i v10 = 1#1), ∀ a x, ((![v339] : Fin 1 → IVec S16 32) a x).toNat < S18816.size a)
theorem k0_idx553_inb : ∀ (i : grid0.Coords) (v10 : BitVec 32) (v339 : IVec S16 32) (k0_hw585 : k0_chk585 i v10 v339), ∀ (k0_h2 : k0_cond2 i v10 = 1#1), ∀ a x, ((![v339] : Fin 1 → IVec S16 32) a x).toNat < S18816.size a := fun i v10 v339 k0_hw585 k0_h2 => k0_hw585 k0_h2

def k0_chk586 (i : grid0.Coords) (v10 : BitVec 32) (v344 : IVec S16 32) : Prop :=
  (∀ (k0_h2 : k0_cond2 i v10 = 1#1), ∀ a x, ((![v344] : Fin 1 → IVec S16 32) a x).toNat < S18816.size a)
theorem k0_idx554_inb : ∀ (i : grid0.Coords) (v10 : BitVec 32) (v344 : IVec S16 32) (k0_hw586 : k0_chk586 i v10 v344), ∀ (k0_h2 : k0_cond2 i v10 = 1#1), ∀ a x, ((![v344] : Fin 1 → IVec S16 32) a x).toNat < S18816.size a := fun i v10 v344 k0_hw586 k0_h2 => k0_hw586 k0_h2

def k0_chk587 (i : grid0.Coords) (v10 : BitVec 32) (v349 : IVec S16 32) : Prop :=
  (∀ (k0_h2 : k0_cond2 i v10 = 1#1), ∀ a x, ((![v349] : Fin 1 → IVec S16 32) a x).toNat < S18816.size a)
theorem k0_idx555_inb : ∀ (i : grid0.Coords) (v10 : BitVec 32) (v349 : IVec S16 32) (k0_hw587 : k0_chk587 i v10 v349), ∀ (k0_h2 : k0_cond2 i v10 = 1#1), ∀ a x, ((![v349] : Fin 1 → IVec S16 32) a x).toNat < S18816.size a := fun i v10 v349 k0_hw587 k0_h2 => k0_hw587 k0_h2

def k0_chk588 (i : grid0.Coords) (v10 : BitVec 32) (v354 : IVec S16 32) : Prop :=
  (∀ (k0_h2 : k0_cond2 i v10 = 1#1), ∀ a x, ((![v354] : Fin 1 → IVec S16 32) a x).toNat < S18816.size a)
theorem k0_idx556_inb : ∀ (i : grid0.Coords) (v10 : BitVec 32) (v354 : IVec S16 32) (k0_hw588 : k0_chk588 i v10 v354), ∀ (k0_h2 : k0_cond2 i v10 = 1#1), ∀ a x, ((![v354] : Fin 1 → IVec S16 32) a x).toNat < S18816.size a := fun i v10 v354 k0_hw588 k0_h2 => k0_hw588 k0_h2

def k0_chk589 (i : grid0.Coords) (v10 : BitVec 32) (v359 : IVec S16 32) : Prop :=
  (∀ (k0_h2 : k0_cond2 i v10 = 1#1), ∀ a x, ((![v359] : Fin 1 → IVec S16 32) a x).toNat < S18816.size a)
theorem k0_idx557_inb : ∀ (i : grid0.Coords) (v10 : BitVec 32) (v359 : IVec S16 32) (k0_hw589 : k0_chk589 i v10 v359), ∀ (k0_h2 : k0_cond2 i v10 = 1#1), ∀ a x, ((![v359] : Fin 1 → IVec S16 32) a x).toNat < S18816.size a := fun i v10 v359 k0_hw589 k0_h2 => k0_hw589 k0_h2

def k0_chk590 (i : grid0.Coords) (v10 : BitVec 32) (v364 : IVec S16 32) : Prop :=
  (∀ (k0_h2 : k0_cond2 i v10 = 1#1), ∀ a x, ((![v364] : Fin 1 → IVec S16 32) a x).toNat < S18816.size a)
theorem k0_idx558_inb : ∀ (i : grid0.Coords) (v10 : BitVec 32) (v364 : IVec S16 32) (k0_hw590 : k0_chk590 i v10 v364), ∀ (k0_h2 : k0_cond2 i v10 = 1#1), ∀ a x, ((![v364] : Fin 1 → IVec S16 32) a x).toNat < S18816.size a := fun i v10 v364 k0_hw590 k0_h2 => k0_hw590 k0_h2

def k0_chk591 (i : grid0.Coords) (v10 : BitVec 32) (v369 : IVec S16 32) : Prop :=
  (∀ (k0_h2 : k0_cond2 i v10 = 1#1), ∀ a x, ((![v369] : Fin 1 → IVec S16 32) a x).toNat < S18816.size a)
theorem k0_idx559_inb : ∀ (i : grid0.Coords) (v10 : BitVec 32) (v369 : IVec S16 32) (k0_hw591 : k0_chk591 i v10 v369), ∀ (k0_h2 : k0_cond2 i v10 = 1#1), ∀ a x, ((![v369] : Fin 1 → IVec S16 32) a x).toNat < S18816.size a := fun i v10 v369 k0_hw591 k0_h2 => k0_hw591 k0_h2

def k0_chk592 (i : grid0.Coords) (v10 : BitVec 32) (v374 : IVec S16 32) : Prop :=
  (∀ (k0_h2 : k0_cond2 i v10 = 1#1), ∀ a x, ((![v374] : Fin 1 → IVec S16 32) a x).toNat < S18816.size a)
theorem k0_idx560_inb : ∀ (i : grid0.Coords) (v10 : BitVec 32) (v374 : IVec S16 32) (k0_hw592 : k0_chk592 i v10 v374), ∀ (k0_h2 : k0_cond2 i v10 = 1#1), ∀ a x, ((![v374] : Fin 1 → IVec S16 32) a x).toNat < S18816.size a := fun i v10 v374 k0_hw592 k0_h2 => k0_hw592 k0_h2

def k0_chk593 (i : grid0.Coords) (v10 : BitVec 32) (v379 : IVec S16 32) : Prop :=
  (∀ (k0_h2 : k0_cond2 i v10 = 1#1), ∀ a x, ((![v379] : Fin 1 → IVec S16 32) a x).toNat < S18816.size a)
theorem k0_idx561_inb : ∀ (i : grid0.Coords) (v10 : BitVec 32) (v379 : IVec S16 32) (k0_hw593 : k0_chk593 i v10 v379), ∀ (k0_h2 : k0_cond2 i v10 = 1#1), ∀ a x, ((![v379] : Fin 1 → IVec S16 32) a x).toNat < S18816.size a := fun i v10 v379 k0_hw593 k0_h2 => k0_hw593 k0_h2

def k0_chk594 (i : grid0.Coords) (v10 : BitVec 32) (v384 : IVec S16 32) : Prop :=
  (∀ (k0_h2 : k0_cond2 i v10 = 1#1), ∀ a x, ((![v384] : Fin 1 → IVec S16 32) a x).toNat < S18816.size a)
theorem k0_idx562_inb : ∀ (i : grid0.Coords) (v10 : BitVec 32) (v384 : IVec S16 32) (k0_hw594 : k0_chk594 i v10 v384), ∀ (k0_h2 : k0_cond2 i v10 = 1#1), ∀ a x, ((![v384] : Fin 1 → IVec S16 32) a x).toNat < S18816.size a := fun i v10 v384 k0_hw594 k0_h2 => k0_hw594 k0_h2

def k0_chk595 (i : grid0.Coords) (v10 : BitVec 32) (v389 : IVec S16 32) : Prop :=
  (∀ (k0_h2 : k0_cond2 i v10 = 1#1), ∀ a x, ((![v389] : Fin 1 → IVec S16 32) a x).toNat < S18816.size a)
theorem k0_idx563_inb : ∀ (i : grid0.Coords) (v10 : BitVec 32) (v389 : IVec S16 32) (k0_hw595 : k0_chk595 i v10 v389), ∀ (k0_h2 : k0_cond2 i v10 = 1#1), ∀ a x, ((![v389] : Fin 1 → IVec S16 32) a x).toNat < S18816.size a := fun i v10 v389 k0_hw595 k0_h2 => k0_hw595 k0_h2

def k0_chk596 (i : grid0.Coords) (v10 : BitVec 32) (v394 : IVec S16 32) : Prop :=
  (∀ (k0_h2 : k0_cond2 i v10 = 1#1), ∀ a x, ((![v394] : Fin 1 → IVec S16 32) a x).toNat < S18816.size a)
theorem k0_idx564_inb : ∀ (i : grid0.Coords) (v10 : BitVec 32) (v394 : IVec S16 32) (k0_hw596 : k0_chk596 i v10 v394), ∀ (k0_h2 : k0_cond2 i v10 = 1#1), ∀ a x, ((![v394] : Fin 1 → IVec S16 32) a x).toNat < S18816.size a := fun i v10 v394 k0_hw596 k0_h2 => k0_hw596 k0_h2

def k0_chk597 (i : grid0.Coords) (v10 : BitVec 32) (v399 : IVec S16 32) : Prop :=
  (∀ (k0_h2 : k0_cond2 i v10 = 1#1), ∀ a x, ((![v399] : Fin 1 → IVec S16 32) a x).toNat < S18816.size a)
theorem k0_idx565_inb : ∀ (i : grid0.Coords) (v10 : BitVec 32) (v399 : IVec S16 32) (k0_hw597 : k0_chk597 i v10 v399), ∀ (k0_h2 : k0_cond2 i v10 = 1#1), ∀ a x, ((![v399] : Fin 1 → IVec S16 32) a x).toNat < S18816.size a := fun i v10 v399 k0_hw597 k0_h2 => k0_hw597 k0_h2

def k0_chk598 (i : grid0.Coords) (v10 : BitVec 32) (v404 : IVec S16 32) : Prop :=
  (∀ (k0_h2 : k0_cond2 i v10 = 1#1), ∀ a x, ((![v404] : Fin 1 → IVec S16 32) a x).toNat < S18816.size a)
theorem k0_idx566_inb : ∀ (i : grid0.Coords) (v10 : BitVec 32) (v404 : IVec S16 32) (k0_hw598 : k0_chk598 i v10 v404), ∀ (k0_h2 : k0_cond2 i v10 = 1#1), ∀ a x, ((![v404] : Fin 1 → IVec S16 32) a x).toNat < S18816.size a := fun i v10 v404 k0_hw598 k0_h2 => k0_hw598 k0_h2

def k0_chk599 (i : grid0.Coords) (v10 : BitVec 32) (v409 : IVec S16 32) : Prop :=
  (∀ (k0_h2 : k0_cond2 i v10 = 1#1), ∀ a x, ((![v409] : Fin 1 → IVec S16 32) a x).toNat < S18816.size a)
theorem k0_idx567_inb : ∀ (i : grid0.Coords) (v10 : BitVec 32) (v409 : IVec S16 32) (k0_hw599 : k0_chk599 i v10 v409), ∀ (k0_h2 : k0_cond2 i v10 = 1#1), ∀ a x, ((![v409] : Fin 1 → IVec S16 32) a x).toNat < S18816.size a := fun i v10 v409 k0_hw599 k0_h2 => k0_hw599 k0_h2

def k0_chk600 (i : grid0.Coords) (v10 : BitVec 32) (v414 : IVec S16 32) : Prop :=
  (∀ (k0_h2 : k0_cond2 i v10 = 1#1), ∀ a x, ((![v414] : Fin 1 → IVec S16 32) a x).toNat < S18816.size a)
theorem k0_idx568_inb : ∀ (i : grid0.Coords) (v10 : BitVec 32) (v414 : IVec S16 32) (k0_hw600 : k0_chk600 i v10 v414), ∀ (k0_h2 : k0_cond2 i v10 = 1#1), ∀ a x, ((![v414] : Fin 1 → IVec S16 32) a x).toNat < S18816.size a := fun i v10 v414 k0_hw600 k0_h2 => k0_hw600 k0_h2

def k0_chk601 (i : grid0.Coords) (v10 : BitVec 32) (v419 : IVec S16 32) : Prop :=
  (∀ (k0_h2 : k0_cond2 i v10 = 1#1), ∀ a x, ((![v419] : Fin 1 → IVec S16 32) a x).toNat < S18816.size a)
theorem k0_idx569_inb : ∀ (i : grid0.Coords) (v10 : BitVec 32) (v419 : IVec S16 32) (k0_hw601 : k0_chk601 i v10 v419), ∀ (k0_h2 : k0_cond2 i v10 = 1#1), ∀ a x, ((![v419] : Fin 1 → IVec S16 32) a x).toNat < S18816.size a := fun i v10 v419 k0_hw601 k0_h2 => k0_hw601 k0_h2

def k0_chk602 (i : grid0.Coords) (v10 : BitVec 32) (v424 : IVec S16 32) : Prop :=
  (∀ (k0_h2 : k0_cond2 i v10 = 1#1), ∀ a x, ((![v424] : Fin 1 → IVec S16 32) a x).toNat < S18816.size a)
theorem k0_idx570_inb : ∀ (i : grid0.Coords) (v10 : BitVec 32) (v424 : IVec S16 32) (k0_hw602 : k0_chk602 i v10 v424), ∀ (k0_h2 : k0_cond2 i v10 = 1#1), ∀ a x, ((![v424] : Fin 1 → IVec S16 32) a x).toNat < S18816.size a := fun i v10 v424 k0_hw602 k0_h2 => k0_hw602 k0_h2

def k0_chk603 (i : grid0.Coords) (v10 : BitVec 32) (v429 : IVec S16 32) : Prop :=
  (∀ (k0_h2 : k0_cond2 i v10 = 1#1), ∀ a x, ((![v429] : Fin 1 → IVec S16 32) a x).toNat < S18816.size a)
theorem k0_idx571_inb : ∀ (i : grid0.Coords) (v10 : BitVec 32) (v429 : IVec S16 32) (k0_hw603 : k0_chk603 i v10 v429), ∀ (k0_h2 : k0_cond2 i v10 = 1#1), ∀ a x, ((![v429] : Fin 1 → IVec S16 32) a x).toNat < S18816.size a := fun i v10 v429 k0_hw603 k0_h2 => k0_hw603 k0_h2

def k0_chk604 (i : grid0.Coords) (v10 : BitVec 32) (v434 : IVec S16 32) : Prop :=
  (∀ (k0_h2 : k0_cond2 i v10 = 1#1), ∀ a x, ((![v434] : Fin 1 → IVec S16 32) a x).toNat < S18816.size a)
theorem k0_idx572_inb : ∀ (i : grid0.Coords) (v10 : BitVec 32) (v434 : IVec S16 32) (k0_hw604 : k0_chk604 i v10 v434), ∀ (k0_h2 : k0_cond2 i v10 = 1#1), ∀ a x, ((![v434] : Fin 1 → IVec S16 32) a x).toNat < S18816.size a := fun i v10 v434 k0_hw604 k0_h2 => k0_hw604 k0_h2

def k0_chk605 (i : grid0.Coords) (v10 : BitVec 32) (v439 : IVec S16 32) : Prop :=
  (∀ (k0_h2 : k0_cond2 i v10 = 1#1), ∀ a x, ((![v439] : Fin 1 → IVec S16 32) a x).toNat < S18816.size a)
theorem k0_idx573_inb : ∀ (i : grid0.Coords) (v10 : BitVec 32) (v439 : IVec S16 32) (k0_hw605 : k0_chk605 i v10 v439), ∀ (k0_h2 : k0_cond2 i v10 = 1#1), ∀ a x, ((![v439] : Fin 1 → IVec S16 32) a x).toNat < S18816.size a := fun i v10 v439 k0_hw605 k0_h2 => k0_hw605 k0_h2

def k0_chk606 (i : grid0.Coords) (v10 : BitVec 32) (v444 : IVec S16 32) : Prop :=
  (∀ (k0_h2 : k0_cond2 i v10 = 1#1), ∀ a x, ((![v444] : Fin 1 → IVec S16 32) a x).toNat < S18816.size a)
theorem k0_idx574_inb : ∀ (i : grid0.Coords) (v10 : BitVec 32) (v444 : IVec S16 32) (k0_hw606 : k0_chk606 i v10 v444), ∀ (k0_h2 : k0_cond2 i v10 = 1#1), ∀ a x, ((![v444] : Fin 1 → IVec S16 32) a x).toNat < S18816.size a := fun i v10 v444 k0_hw606 k0_h2 => k0_hw606 k0_h2

def k0_chk607 (i : grid0.Coords) (v10 : BitVec 32) (v449 : IVec S16 32) : Prop :=
  (∀ (k0_h2 : k0_cond2 i v10 = 1#1), ∀ a x, ((![v449] : Fin 1 → IVec S16 32) a x).toNat < S18816.size a)
theorem k0_idx575_inb : ∀ (i : grid0.Coords) (v10 : BitVec 32) (v449 : IVec S16 32) (k0_hw607 : k0_chk607 i v10 v449), ∀ (k0_h2 : k0_cond2 i v10 = 1#1), ∀ a x, ((![v449] : Fin 1 → IVec S16 32) a x).toNat < S18816.size a := fun i v10 v449 k0_hw607 k0_h2 => k0_hw607 k0_h2

def k0_chk608 (i : grid0.Coords) (v10 : BitVec 32) (v454 : IVec S16 32) : Prop :=
  (∀ (k0_h2 : k0_cond2 i v10 = 1#1), ∀ a x, ((![v454] : Fin 1 → IVec S16 32) a x).toNat < S18816.size a)
theorem k0_idx576_inb : ∀ (i : grid0.Coords) (v10 : BitVec 32) (v454 : IVec S16 32) (k0_hw608 : k0_chk608 i v10 v454), ∀ (k0_h2 : k0_cond2 i v10 = 1#1), ∀ a x, ((![v454] : Fin 1 → IVec S16 32) a x).toNat < S18816.size a := fun i v10 v454 k0_hw608 k0_h2 => k0_hw608 k0_h2
@[reducible] def k0_t154_loop (v41 : BitVec 32) (v43 : BitVec 32) : Scf.Loop 32 :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_164 : BitVec 32 := 1#32
  ⟨v41, v464, c1_i32_164⟩
@[reducible] def k0_t155_loop (v456 : BitVec 32) (v458 : BitVec 32) : Scf.Loop 32 :=
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_375 : BitVec 32 := 1#32
  ⟨v456, v1008, c1_i32_375⟩

def k0_off2318 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1012 : Index := Scalar.indexCast v1011
  let c0_377 : Index := 0#32
  ![v1012.toNat, 0]
def k0_off2319 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1015 : Index := Scalar.indexCast v1011
  let c16 : Index := 16#32
  ![v1015.toNat, 16]
def k0_off2320 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1018 : Index := Scalar.indexCast v1011
  let c32 : Index := 32#32
  ![v1018.toNat, 32]
def k0_off2321 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1021 : Index := Scalar.indexCast v1011
  let c48 : Index := 48#32
  ![v1021.toNat, 48]
def k0_off2322 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1024 : Index := Scalar.indexCast v1011
  let c64 : Index := 64#32
  ![v1024.toNat, 64]
def k0_off2323 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1027 : Index := Scalar.indexCast v1011
  let c80 : Index := 80#32
  ![v1027.toNat, 80]
def k0_off2324 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1030 : Index := Scalar.indexCast v1011
  let c96 : Index := 96#32
  ![v1030.toNat, 96]
def k0_off2325 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1033 : Index := Scalar.indexCast v1011
  let c112 : Index := 112#32
  ![v1033.toNat, 112]
def k0_off2326 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1036 : Index := Scalar.indexCast v1011
  let c128 : Index := 128#32
  ![v1036.toNat, 128]
def k0_off2327 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1039 : Index := Scalar.indexCast v1011
  let c144 : Index := 144#32
  ![v1039.toNat, 144]
def k0_off2328 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1042 : Index := Scalar.indexCast v1011
  let c160 : Index := 160#32
  ![v1042.toNat, 160]
def k0_off2329 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1045 : Index := Scalar.indexCast v1011
  let c176 : Index := 176#32
  ![v1045.toNat, 176]
def k0_off2330 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1048 : Index := Scalar.indexCast v1011
  let c192 : Index := 192#32
  ![v1048.toNat, 192]
def k0_off2331 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1051 : Index := Scalar.indexCast v1011
  let c208 : Index := 208#32
  ![v1051.toNat, 208]
def k0_off2332 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1054 : Index := Scalar.indexCast v1011
  let c224 : Index := 224#32
  ![v1054.toNat, 224]
def k0_off2333 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1057 : Index := Scalar.indexCast v1011
  let c240 : Index := 240#32
  ![v1057.toNat, 240]
def k0_off2334 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1060 : Index := Scalar.indexCast v1011
  let c256 : Index := 256#32
  ![v1060.toNat, 256]
def k0_off2335 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1063 : Index := Scalar.indexCast v1011
  let c272 : Index := 272#32
  ![v1063.toNat, 272]
def k0_off2336 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1066 : Index := Scalar.indexCast v1011
  let c288 : Index := 288#32
  ![v1066.toNat, 288]
def k0_off2337 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1069 : Index := Scalar.indexCast v1011
  let c304 : Index := 304#32
  ![v1069.toNat, 304]
def k0_off2338 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1072 : Index := Scalar.indexCast v1011
  let c320 : Index := 320#32
  ![v1072.toNat, 320]
def k0_off2339 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1075 : Index := Scalar.indexCast v1011
  let c336 : Index := 336#32
  ![v1075.toNat, 336]
def k0_off2340 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1078 : Index := Scalar.indexCast v1011
  let c352 : Index := 352#32
  ![v1078.toNat, 352]
def k0_off2341 (v41 : BitVec 32) (v43 : BitVec 32) (v456 : BitVec 32) (v458 : BitVec 32) (k0_t154 : Fin (k0_t154_loop v41 v43).trips) (k0_t155 : Fin (k0_t155_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let c1_i32_375 : BitVec 32 := 1#32
  let arg36 : BitVec 32 := Scf.iv v456 c1_i32_375 k0_t155
  let v1011 : BitVec 32 := Scalar.addi v1003 arg36
  let v1081 : Index := Scalar.indexCast v1011
  let c368 : Index := 368#32
  ![v1081.toNat, 368]
@[reducible] def k0_t156_loop (v456 : BitVec 32) (v458 : BitVec 32) : Scf.Loop 32 :=
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let v1005 : BitVec 32 := Scalar.addi v456 v1004
  let c1_i32_376 : BitVec 32 := 1#32
  ⟨v1008, v1005, c1_i32_376⟩
def k0_off2342 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1012 : Index := Scalar.indexCast v1011
  let c0_377 : Index := 0#32
  ![v1012.toNat, 0]
def k0_off2343 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1015 : Index := Scalar.indexCast v1011
  let c16 : Index := 16#32
  ![v1015.toNat, 16]
def k0_off2344 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1018 : Index := Scalar.indexCast v1011
  let c32 : Index := 32#32
  ![v1018.toNat, 32]
def k0_off2345 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1021 : Index := Scalar.indexCast v1011
  let c48 : Index := 48#32
  ![v1021.toNat, 48]
def k0_off2346 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1024 : Index := Scalar.indexCast v1011
  let c64 : Index := 64#32
  ![v1024.toNat, 64]
def k0_off2347 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1027 : Index := Scalar.indexCast v1011
  let c80 : Index := 80#32
  ![v1027.toNat, 80]
def k0_off2348 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1030 : Index := Scalar.indexCast v1011
  let c96 : Index := 96#32
  ![v1030.toNat, 96]
def k0_off2349 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1033 : Index := Scalar.indexCast v1011
  let c112 : Index := 112#32
  ![v1033.toNat, 112]
def k0_off2350 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1036 : Index := Scalar.indexCast v1011
  let c128 : Index := 128#32
  ![v1036.toNat, 128]
def k0_off2351 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1039 : Index := Scalar.indexCast v1011
  let c144 : Index := 144#32
  ![v1039.toNat, 144]
def k0_off2352 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1042 : Index := Scalar.indexCast v1011
  let c160 : Index := 160#32
  ![v1042.toNat, 160]
def k0_off2353 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1045 : Index := Scalar.indexCast v1011
  let c176 : Index := 176#32
  ![v1045.toNat, 176]
def k0_off2354 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1048 : Index := Scalar.indexCast v1011
  let c192 : Index := 192#32
  ![v1048.toNat, 192]
def k0_off2355 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1051 : Index := Scalar.indexCast v1011
  let c208 : Index := 208#32
  ![v1051.toNat, 208]
def k0_off2356 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1054 : Index := Scalar.indexCast v1011
  let c224 : Index := 224#32
  ![v1054.toNat, 224]
def k0_off2357 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1057 : Index := Scalar.indexCast v1011
  let c240 : Index := 240#32
  ![v1057.toNat, 240]
def k0_off2358 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1060 : Index := Scalar.indexCast v1011
  let c256 : Index := 256#32
  ![v1060.toNat, 256]
def k0_off2359 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1063 : Index := Scalar.indexCast v1011
  let c272 : Index := 272#32
  ![v1063.toNat, 272]
def k0_off2360 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1066 : Index := Scalar.indexCast v1011
  let c288 : Index := 288#32
  ![v1066.toNat, 288]
def k0_off2361 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1069 : Index := Scalar.indexCast v1011
  let c304 : Index := 304#32
  ![v1069.toNat, 304]
def k0_off2362 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1072 : Index := Scalar.indexCast v1011
  let c320 : Index := 320#32
  ![v1072.toNat, 320]
def k0_off2363 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1075 : Index := Scalar.indexCast v1011
  let c336 : Index := 336#32
  ![v1075.toNat, 336]
def k0_off2364 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1078 : Index := Scalar.indexCast v1011
  let c352 : Index := 352#32
  ![v1078.toNat, 352]
def k0_off2365 (v41 : BitVec 32) (v43 : BitVec 32) (v456 : BitVec 32) (v458 : BitVec 32) (k0_t154 : Fin (k0_t154_loop v41 v43).trips) (k0_t156 : Fin (k0_t156_loop v456 v458).trips) : Fin 2 → Nat :=
  let c1_i32_164 : BitVec 32 := 1#32
  let arg11 : BitVec 32 := Scf.iv v41 c1_i32_164 k0_t154
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t156
  let v1011 : BitVec 32 := Scalar.addi v1003 arg36
  let v1081 : Index := Scalar.indexCast v1011
  let c368 : Index := 368#32
  ![v1081.toNat, 368]
@[reducible] def k0_t157_loop (v41 : BitVec 32) (v43 : BitVec 32) : Scf.Loop 32 :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let v461 : BitVec 32 := Scalar.addi v41 v460
  let c1_i32_165 : BitVec 32 := 1#32
  ⟨v464, v461, c1_i32_165⟩
@[reducible] def k0_t158_loop (v456 : BitVec 32) (v458 : BitVec 32) : Scf.Loop 32 :=
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_375 : BitVec 32 := 1#32
  ⟨v456, v1008, c1_i32_375⟩
def k0_off2366 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1012 : Index := Scalar.indexCast v1011
  let c0_377 : Index := 0#32
  ![v1012.toNat, 0]
def k0_off2367 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1015 : Index := Scalar.indexCast v1011
  let c16 : Index := 16#32
  ![v1015.toNat, 16]
def k0_off2368 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1018 : Index := Scalar.indexCast v1011
  let c32 : Index := 32#32
  ![v1018.toNat, 32]
def k0_off2369 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1021 : Index := Scalar.indexCast v1011
  let c48 : Index := 48#32
  ![v1021.toNat, 48]
def k0_off2370 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1024 : Index := Scalar.indexCast v1011
  let c64 : Index := 64#32
  ![v1024.toNat, 64]
def k0_off2371 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1027 : Index := Scalar.indexCast v1011
  let c80 : Index := 80#32
  ![v1027.toNat, 80]
def k0_off2372 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1030 : Index := Scalar.indexCast v1011
  let c96 : Index := 96#32
  ![v1030.toNat, 96]
def k0_off2373 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1033 : Index := Scalar.indexCast v1011
  let c112 : Index := 112#32
  ![v1033.toNat, 112]
def k0_off2374 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1036 : Index := Scalar.indexCast v1011
  let c128 : Index := 128#32
  ![v1036.toNat, 128]
def k0_off2375 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1039 : Index := Scalar.indexCast v1011
  let c144 : Index := 144#32
  ![v1039.toNat, 144]
def k0_off2376 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1042 : Index := Scalar.indexCast v1011
  let c160 : Index := 160#32
  ![v1042.toNat, 160]
def k0_off2377 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1045 : Index := Scalar.indexCast v1011
  let c176 : Index := 176#32
  ![v1045.toNat, 176]
def k0_off2378 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1048 : Index := Scalar.indexCast v1011
  let c192 : Index := 192#32
  ![v1048.toNat, 192]
def k0_off2379 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1051 : Index := Scalar.indexCast v1011
  let c208 : Index := 208#32
  ![v1051.toNat, 208]
def k0_off2380 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1054 : Index := Scalar.indexCast v1011
  let c224 : Index := 224#32
  ![v1054.toNat, 224]
def k0_off2381 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1057 : Index := Scalar.indexCast v1011
  let c240 : Index := 240#32
  ![v1057.toNat, 240]
def k0_off2382 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1060 : Index := Scalar.indexCast v1011
  let c256 : Index := 256#32
  ![v1060.toNat, 256]
def k0_off2383 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1063 : Index := Scalar.indexCast v1011
  let c272 : Index := 272#32
  ![v1063.toNat, 272]
def k0_off2384 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1066 : Index := Scalar.indexCast v1011
  let c288 : Index := 288#32
  ![v1066.toNat, 288]
def k0_off2385 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1069 : Index := Scalar.indexCast v1011
  let c304 : Index := 304#32
  ![v1069.toNat, 304]
def k0_off2386 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1072 : Index := Scalar.indexCast v1011
  let c320 : Index := 320#32
  ![v1072.toNat, 320]
def k0_off2387 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1075 : Index := Scalar.indexCast v1011
  let c336 : Index := 336#32
  ![v1075.toNat, 336]
def k0_off2388 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1078 : Index := Scalar.indexCast v1011
  let c352 : Index := 352#32
  ![v1078.toNat, 352]
def k0_off2389 (v41 : BitVec 32) (v43 : BitVec 32) (v456 : BitVec 32) (v458 : BitVec 32) (k0_t157 : Fin (k0_t157_loop v41 v43).trips) (k0_t158 : Fin (k0_t158_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let c1_i32_375 : BitVec 32 := 1#32
  let arg36 : BitVec 32 := Scf.iv v456 c1_i32_375 k0_t158
  let v1011 : BitVec 32 := Scalar.addi v1003 arg36
  let v1081 : Index := Scalar.indexCast v1011
  let c368 : Index := 368#32
  ![v1081.toNat, 368]
@[reducible] def k0_t159_loop (v456 : BitVec 32) (v458 : BitVec 32) : Scf.Loop 32 :=
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let v1005 : BitVec 32 := Scalar.addi v456 v1004
  let c1_i32_376 : BitVec 32 := 1#32
  ⟨v1008, v1005, c1_i32_376⟩
def k0_off2390 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1012 : Index := Scalar.indexCast v1011
  let c0_377 : Index := 0#32
  ![v1012.toNat, 0]
def k0_off2391 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1015 : Index := Scalar.indexCast v1011
  let c16 : Index := 16#32
  ![v1015.toNat, 16]
def k0_off2392 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1018 : Index := Scalar.indexCast v1011
  let c32 : Index := 32#32
  ![v1018.toNat, 32]
def k0_off2393 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1021 : Index := Scalar.indexCast v1011
  let c48 : Index := 48#32
  ![v1021.toNat, 48]
def k0_off2394 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1024 : Index := Scalar.indexCast v1011
  let c64 : Index := 64#32
  ![v1024.toNat, 64]
def k0_off2395 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1027 : Index := Scalar.indexCast v1011
  let c80 : Index := 80#32
  ![v1027.toNat, 80]
def k0_off2396 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1030 : Index := Scalar.indexCast v1011
  let c96 : Index := 96#32
  ![v1030.toNat, 96]
def k0_off2397 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1033 : Index := Scalar.indexCast v1011
  let c112 : Index := 112#32
  ![v1033.toNat, 112]
def k0_off2398 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1036 : Index := Scalar.indexCast v1011
  let c128 : Index := 128#32
  ![v1036.toNat, 128]
def k0_off2399 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1039 : Index := Scalar.indexCast v1011
  let c144 : Index := 144#32
  ![v1039.toNat, 144]
def k0_off2400 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1042 : Index := Scalar.indexCast v1011
  let c160 : Index := 160#32
  ![v1042.toNat, 160]
def k0_off2401 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1045 : Index := Scalar.indexCast v1011
  let c176 : Index := 176#32
  ![v1045.toNat, 176]
def k0_off2402 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1048 : Index := Scalar.indexCast v1011
  let c192 : Index := 192#32
  ![v1048.toNat, 192]
def k0_off2403 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1051 : Index := Scalar.indexCast v1011
  let c208 : Index := 208#32
  ![v1051.toNat, 208]
def k0_off2404 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1054 : Index := Scalar.indexCast v1011
  let c224 : Index := 224#32
  ![v1054.toNat, 224]
def k0_off2405 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1057 : Index := Scalar.indexCast v1011
  let c240 : Index := 240#32
  ![v1057.toNat, 240]
def k0_off2406 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1060 : Index := Scalar.indexCast v1011
  let c256 : Index := 256#32
  ![v1060.toNat, 256]
def k0_off2407 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1063 : Index := Scalar.indexCast v1011
  let c272 : Index := 272#32
  ![v1063.toNat, 272]
def k0_off2408 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1066 : Index := Scalar.indexCast v1011
  let c288 : Index := 288#32
  ![v1066.toNat, 288]
def k0_off2409 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1069 : Index := Scalar.indexCast v1011
  let c304 : Index := 304#32
  ![v1069.toNat, 304]
def k0_off2410 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1072 : Index := Scalar.indexCast v1011
  let c320 : Index := 320#32
  ![v1072.toNat, 320]
def k0_off2411 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1075 : Index := Scalar.indexCast v1011
  let c336 : Index := 336#32
  ![v1075.toNat, 336]
def k0_off2412 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1078 : Index := Scalar.indexCast v1011
  let c352 : Index := 352#32
  ![v1078.toNat, 352]
def k0_off2413 (v41 : BitVec 32) (v43 : BitVec 32) (v456 : BitVec 32) (v458 : BitVec 32) (k0_t157 : Fin (k0_t157_loop v41 v43).trips) (k0_t159 : Fin (k0_t159_loop v456 v458).trips) : Fin 2 → Nat :=
  let v460 : BitVec 32 := Scalar.subi v43 v41
  let c1_i32_163 : BitVec 32 := 1#32
  let v462 : BitVec 32 := Scalar.divsi v460 c1_i32_163
  let v463 : BitVec 32 := Scalar.muli v462 c1_i32_163
  let v464 : BitVec 32 := Scalar.addi v41 v463
  let c1_i32_165 : BitVec 32 := 1#32
  let arg11 : BitVec 32 := Scf.iv v464 c1_i32_165 k0_t157
  let c14_i32 : BitVec 32 := 14#32
  let v1003 : BitVec 32 := Scalar.muli arg11 c14_i32
  let v1004 : BitVec 32 := Scalar.subi v458 v456
  let c1_i32_374 : BitVec 32 := 1#32
  let v1006 : BitVec 32 := Scalar.divsi v1004 c1_i32_374
  let v1007 : BitVec 32 := Scalar.muli v1006 c1_i32_374
  let v1008 : BitVec 32 := Scalar.addi v456 v1007
  let c1_i32_376 : BitVec 32 := 1#32
  let arg36 : BitVec 32 := Scf.iv v1008 c1_i32_376 k0_t159
  let v1011 : BitVec 32 := Scalar.addi v1003 arg36
  let v1081 : Index := Scalar.indexCast v1011
  let c368 : Index := 368#32
  ![v1081.toNat, 368]

def k0_chk609_0 (i : grid0.Coords) (v10 : BitVec 32) (v41 : BitVec 32) (v43 : BitVec 32) (v456 : BitVec 32) (v458 : BitVec 32) : Prop :=
  (∀ k0_t154 : Fin (k0_t154_loop v41 v43).trips, ∀ (k0_h2 : k0_cond2 i v10 = 1#1), (k0_t155_loop v456 v458).OK) ∧
  (∀ (k0_t154 : Fin (k0_t154_loop v41 v43).trips) (k0_t155 : Fin (k0_t155_loop v456 v458).trips), ∀ (k0_h2 : k0_cond2 i v10 = 1#1), ∀ a, (k0_off2318 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2319 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2320 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2321 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2322 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2323 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2324 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2325 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2326 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2327 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2328 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2329 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2330 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2331 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2332 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2333 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2334 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2335 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2336 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2337 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2338 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2339 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2340 v41 v43 v456 v458 k0_t154 k0_t155) a + S1x16.size a ≤ S196x384.size a) ∧
  (∀ (k0_t154 : Fin (k0_t154_loop v41 v43).trips) (k0_t155 : Fin (k0_t155_loop v456 v458).trips), ∀ (k0_h2 : k0_cond2 i v10 = 1#1), ∀ a, (k0_off2341 v41 v43 v456 v458 k0_t154 k0_t155) a + S1x16.size a ≤ S196x384.size a) ∧
  (∀ k0_t154 : Fin (k0_t154_loop v41 v43).trips, ∀ (k0_h2 : k0_cond2 i v10 = 1#1), (k0_t156_loop v456 v458).OK) ∧
  (∀ (k0_t154 : Fin (k0_t154_loop v41 v43).trips) (k0_t156 : Fin (k0_t156_loop v456 v458).trips), ∀ (k0_h2 : k0_cond2 i v10 = 1#1), ∀ a, (k0_off2342 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2343 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2344 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2345 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2346 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2347 v41 v43 v456 v458 k0_t154 k0_t156) a + S1x16.size a ≤ S196x384.size a)
def k0_chk609_1 (i : grid0.Coords) (v10 : BitVec 32) (v41 : BitVec 32) (v43 : BitVec 32) (v456 : BitVec 32) (v458 : BitVec 32) : Prop :=
  (∀ (k0_t154 : Fin (k0_t154_loop v41 v43).trips) (k0_t156 : Fin (k0_t156_loop v456 v458).trips), ∀ (k0_h2 : k0_cond2 i v10 = 1#1), ∀ a, (k0_off2348 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2349 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2350 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2351 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2352 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2353 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2354 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2355 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2356 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2357 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2358 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2359 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2360 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2361 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2362 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2363 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2364 v41 v43 v456 v458 k0_t154 k0_t156) a + S1x16.size a ≤ S196x384.size a) ∧
  (∀ (k0_t154 : Fin (k0_t154_loop v41 v43).trips) (k0_t156 : Fin (k0_t156_loop v456 v458).trips), ∀ (k0_h2 : k0_cond2 i v10 = 1#1), ∀ a, (k0_off2365 v41 v43 v456 v458 k0_t154 k0_t156) a + S1x16.size a ≤ S196x384.size a) ∧
  (∀ k0_t157 : Fin (k0_t157_loop v41 v43).trips, ∀ (k0_h2 : k0_cond2 i v10 = 1#1), (k0_t158_loop v456 v458).OK) ∧
  (∀ (k0_t157 : Fin (k0_t157_loop v41 v43).trips) (k0_t158 : Fin (k0_t158_loop v456 v458).trips), ∀ (k0_h2 : k0_cond2 i v10 = 1#1), ∀ a, (k0_off2366 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2367 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2368 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2369 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2370 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2371 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2372 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2373 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2374 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2375 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2376 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2377 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2378 v41 v43 v456 v458 k0_t157 k0_t158) a + S1x16.size a ≤ S196x384.size a)
def k0_chk609_2 (i : grid0.Coords) (v10 : BitVec 32) (v41 : BitVec 32) (v43 : BitVec 32) (v456 : BitVec 32) (v458 : BitVec 32) : Prop :=
  (∀ (k0_t157 : Fin (k0_t157_loop v41 v43).trips) (k0_t158 : Fin (k0_t158_loop v456 v458).trips), ∀ (k0_h2 : k0_cond2 i v10 = 1#1), ∀ a, (k0_off2379 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2380 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2381 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2382 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2383 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2384 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2385 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2386 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2387 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2388 v41 v43 v456 v458 k0_t157 k0_t158) a + S1x16.size a ≤ S196x384.size a) ∧
  (∀ (k0_t157 : Fin (k0_t157_loop v41 v43).trips) (k0_t158 : Fin (k0_t158_loop v456 v458).trips), ∀ (k0_h2 : k0_cond2 i v10 = 1#1), ∀ a, (k0_off2389 v41 v43 v456 v458 k0_t157 k0_t158) a + S1x16.size a ≤ S196x384.size a) ∧
  (∀ k0_t157 : Fin (k0_t157_loop v41 v43).trips, ∀ (k0_h2 : k0_cond2 i v10 = 1#1), (k0_t159_loop v456 v458).OK) ∧
  (∀ (k0_t157 : Fin (k0_t157_loop v41 v43).trips) (k0_t159 : Fin (k0_t159_loop v456 v458).trips), ∀ (k0_h2 : k0_cond2 i v10 = 1#1), ∀ a, (k0_off2390 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2391 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2392 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2393 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2394 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2395 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2396 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2397 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2398 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2399 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2400 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2401 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2402 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2403 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2404 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2405 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2406 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2407 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2408 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2409 v41 v43 v456 v458 k0_t157 k0_t159) a + S1x16.size a ≤ S196x384.size a)
def k0_chk609_3 (i : grid0.Coords) (v10 : BitVec 32) (v41 : BitVec 32) (v43 : BitVec 32) (v456 : BitVec 32) (v458 : BitVec 32) : Prop :=
  (∀ (k0_t157 : Fin (k0_t157_loop v41 v43).trips) (k0_t159 : Fin (k0_t159_loop v456 v458).trips), ∀ (k0_h2 : k0_cond2 i v10 = 1#1), ∀ a, (k0_off2410 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2411 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2412 v41 v43 v456 v458 k0_t157 k0_t159) a + S1x16.size a ≤ S196x384.size a) ∧
  (∀ (k0_t157 : Fin (k0_t157_loop v41 v43).trips) (k0_t159 : Fin (k0_t159_loop v456 v458).trips), ∀ (k0_h2 : k0_cond2 i v10 = 1#1), ∀ a, (k0_off2413 v41 v43 v456 v458 k0_t157 k0_t159) a + S1x16.size a ≤ S196x384.size a)
def k0_chk609 (i : grid0.Coords) (v10 : BitVec 32) (v41 : BitVec 32) (v43 : BitVec 32) (v456 : BitVec 32) (v458 : BitVec 32) : Prop :=
  k0_chk609_0 i v10 v41 v43 v456 v458 ∧
  k0_chk609_1 i v10 v41 v43 v456 v458 ∧
  k0_chk609_2 i v10 v41 v43 v456 v458 ∧
  k0_chk609_3 i v10 v41 v43 v456 v458
theorem k0_t155_ok : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips), ∀ (k0_h2 : k0_cond2 i v10 = 1#1), (k0_t155_loop v456 v458).OK := fun i v10 v41 v43 v456 v458 k0_hw609 k0_t154 k0_h2 => k0_hw609.1.1 k0_t154 k0_h2
theorem k0_off2318_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2318 v41 v43 v456 v458 k0_t154 k0_t155) a + S1x16.size a ≤ S196x384.size a := fun i v10 v41 v43 v456 v458 k0_hw609 k0_t154 k0_t155 k0_h2 => k0_hw609.1.2.1 k0_t154 k0_t155 k0_h2
theorem k0_off2319_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2319 v41 v43 v456 v458 k0_t154 k0_t155) a + S1x16.size a ≤ S196x384.size a := fun i v10 v41 v43 v456 v458 k0_hw609 k0_t154 k0_t155 k0_h2 => k0_hw609.1.2.2.1 k0_t154 k0_t155 k0_h2
theorem k0_off2320_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2320 v41 v43 v456 v458 k0_t154 k0_t155) a + S1x16.size a ≤ S196x384.size a := fun i v10 v41 v43 v456 v458 k0_hw609 k0_t154 k0_t155 k0_h2 => k0_hw609.1.2.2.2.1 k0_t154 k0_t155 k0_h2
theorem k0_off2321_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2321 v41 v43 v456 v458 k0_t154 k0_t155) a + S1x16.size a ≤ S196x384.size a := fun i v10 v41 v43 v456 v458 k0_hw609 k0_t154 k0_t155 k0_h2 => k0_hw609.1.2.2.2.2.1 k0_t154 k0_t155 k0_h2
theorem k0_off2322_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2322 v41 v43 v456 v458 k0_t154 k0_t155) a + S1x16.size a ≤ S196x384.size a := fun i v10 v41 v43 v456 v458 k0_hw609 k0_t154 k0_t155 k0_h2 => k0_hw609.1.2.2.2.2.2.1 k0_t154 k0_t155 k0_h2
theorem k0_off2323_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2323 v41 v43 v456 v458 k0_t154 k0_t155) a + S1x16.size a ≤ S196x384.size a := fun i v10 v41 v43 v456 v458 k0_hw609 k0_t154 k0_t155 k0_h2 => k0_hw609.1.2.2.2.2.2.2.1 k0_t154 k0_t155 k0_h2
theorem k0_off2324_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2324 v41 v43 v456 v458 k0_t154 k0_t155) a + S1x16.size a ≤ S196x384.size a := fun i v10 v41 v43 v456 v458 k0_hw609 k0_t154 k0_t155 k0_h2 => k0_hw609.1.2.2.2.2.2.2.2.1 k0_t154 k0_t155 k0_h2
theorem k0_off2325_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2325 v41 v43 v456 v458 k0_t154 k0_t155) a + S1x16.size a ≤ S196x384.size a := fun i v10 v41 v43 v456 v458 k0_hw609 k0_t154 k0_t155 k0_h2 => k0_hw609.1.2.2.2.2.2.2.2.2.1 k0_t154 k0_t155 k0_h2
theorem k0_off2326_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2326 v41 v43 v456 v458 k0_t154 k0_t155) a + S1x16.size a ≤ S196x384.size a := fun i v10 v41 v43 v456 v458 k0_hw609 k0_t154 k0_t155 k0_h2 => k0_hw609.1.2.2.2.2.2.2.2.2.2.1 k0_t154 k0_t155 k0_h2
theorem k0_off2327_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2327 v41 v43 v456 v458 k0_t154 k0_t155) a + S1x16.size a ≤ S196x384.size a := fun i v10 v41 v43 v456 v458 k0_hw609 k0_t154 k0_t155 k0_h2 => k0_hw609.1.2.2.2.2.2.2.2.2.2.2.1 k0_t154 k0_t155 k0_h2
theorem k0_off2328_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2328 v41 v43 v456 v458 k0_t154 k0_t155) a + S1x16.size a ≤ S196x384.size a := fun i v10 v41 v43 v456 v458 k0_hw609 k0_t154 k0_t155 k0_h2 => k0_hw609.1.2.2.2.2.2.2.2.2.2.2.2.1 k0_t154 k0_t155 k0_h2
theorem k0_off2329_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2329 v41 v43 v456 v458 k0_t154 k0_t155) a + S1x16.size a ≤ S196x384.size a := fun i v10 v41 v43 v456 v458 k0_hw609 k0_t154 k0_t155 k0_h2 => k0_hw609.1.2.2.2.2.2.2.2.2.2.2.2.2.1 k0_t154 k0_t155 k0_h2
theorem k0_off2330_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2330 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.1 k0_t154 k0_t155 k0_h2
theorem k0_off2331_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2331 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.1 k0_t154 k0_t155 k0_h2
theorem k0_off2332_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2332 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.1 k0_t154 k0_t155 k0_h2
theorem k0_off2333_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2333 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.2.1 k0_t154 k0_t155 k0_h2
theorem k0_off2334_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2334 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.2.2.1 k0_t154 k0_t155 k0_h2
theorem k0_off2335_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2335 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.2.2.2.1 k0_t154 k0_t155 k0_h2
theorem k0_off2336_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2336 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.2.2.2.2.1 k0_t154 k0_t155 k0_h2
theorem k0_off2337_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2337 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.2.2.2.2.2.1 k0_t154 k0_t155 k0_h2
theorem k0_off2338_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2338 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.2.2.2.2.2.2.1 k0_t154 k0_t155 k0_h2
theorem k0_off2339_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2339 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.2.2.2.2.2.2.2.1 k0_t154 k0_t155 k0_h2
theorem k0_off2340_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2340 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.2.2.2.2.2.2.2.2.1 k0_t154 k0_t155 k0_h2
theorem k0_off2341_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t155 : Fin (k0_t155_loop v456 v458).trips), ∀ (k0_h2 : k0_cond2 i v10 = 1#1), ∀ a, (k0_off2341 v41 v43 v456 v458 k0_t154 k0_t155) a + S1x16.size a ≤ S196x384.size a := fun i v10 v41 v43 v456 v458 k0_hw609 k0_t154 k0_t155 k0_h2 => k0_hw609.1.2.2.2.2.2.2.2.2.2.2.2.2.2.2.2.2.2.2.2.2.2.2.2.2.1 k0_t154 k0_t155 k0_h2
theorem k0_t156_ok : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips), ∀ (k0_h2 : k0_cond2 i v10 = 1#1), (k0_t156_loop v456 v458).OK := fun i v10 v41 v43 v456 v458 k0_hw609 k0_t154 k0_h2 => k0_hw609.1.2.2.2.2.2.2.2.2.2.2.2.2.2.2.2.2.2.2.2.2.2.2.2.2.2.1 k0_t154 k0_h2
theorem k0_off2342_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2342 v41 v43 v456 v458 k0_t154 k0_t156) a + S1x16.size a ≤ S196x384.size a := fun i v10 v41 v43 v456 v458 k0_hw609 k0_t154 k0_t156 k0_h2 => k0_hw609.1.2.2.2.2.2.2.2.2.2.2.2.2.2.2.2.2.2.2.2.2.2.2.2.2.2.2.1 k0_t154 k0_t156 k0_h2
theorem k0_off2343_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2343 v41 v43 v456 v458 k0_t154 k0_t156) a + S1x16.size a ≤ S196x384.size a := fun i v10 v41 v43 v456 v458 k0_hw609 k0_t154 k0_t156 k0_h2 => k0_hw609.1.2.2.2.2.2.2.2.2.2.2.2.2.2.2.2.2.2.2.2.2.2.2.2.2.2.2.2.1 k0_t154 k0_t156 k0_h2
theorem k0_off2344_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2344 v41 v43 v456 v458 k0_t154 k0_t156) a + S1x16.size a ≤ S196x384.size a := fun i v10 v41 v43 v456 v458 k0_hw609 k0_t154 k0_t156 k0_h2 => k0_hw609.1.2.2.2.2.2.2.2.2.2.2.2.2.2.2.2.2.2.2.2.2.2.2.2.2.2.2.2.2.1 k0_t154 k0_t156 k0_h2
theorem k0_off2345_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2345 v41 v43 v456 v458 k0_t154 k0_t156) a + S1x16.size a ≤ S196x384.size a := fun i v10 v41 v43 v456 v458 k0_hw609 k0_t154 k0_t156 k0_h2 => k0_hw609.1.2.2.2.2.2.2.2.2.2.2.2.2.2.2.2.2.2.2.2.2.2.2.2.2.2.2.2.2.2.1 k0_t154 k0_t156 k0_h2
theorem k0_off2346_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2346 v41 v43 v456 v458 k0_t154 k0_t156) a + S1x16.size a ≤ S196x384.size a := fun i v10 v41 v43 v456 v458 k0_hw609 k0_t154 k0_t156 k0_h2 => k0_hw609.1.2.2.2.2.2.2.2.2.2.2.2.2.2.2.2.2.2.2.2.2.2.2.2.2.2.2.2.2.2.2.1 k0_t154 k0_t156 k0_h2
theorem k0_off2347_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2347 v41 v43 v456 v458 k0_t154 k0_t156) a + S1x16.size a ≤ S196x384.size a := fun i v10 v41 v43 v456 v458 k0_hw609 k0_t154 k0_t156 k0_h2 => k0_hw609.1.2.2.2.2.2.2.2.2.2.2.2.2.2.2.2.2.2.2.2.2.2.2.2.2.2.2.2.2.2.2.2 k0_t154 k0_t156 k0_h2
theorem k0_off2348_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2348 v41 v43 v456 v458 k0_t154 k0_t156) a + S1x16.size a ≤ S196x384.size a := fun i v10 v41 v43 v456 v458 k0_hw609 k0_t154 k0_t156 k0_h2 => k0_hw609.2.1.1 k0_t154 k0_t156 k0_h2
theorem k0_off2349_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2349 v41 v43 v456 v458 k0_t154 k0_t156) a + S1x16.size a ≤ S196x384.size a := fun i v10 v41 v43 v456 v458 k0_hw609 k0_t154 k0_t156 k0_h2 => k0_hw609.2.1.2.1 k0_t154 k0_t156 k0_h2
theorem k0_off2350_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2350 v41 v43 v456 v458 k0_t154 k0_t156) a + S1x16.size a ≤ S196x384.size a := fun i v10 v41 v43 v456 v458 k0_hw609 k0_t154 k0_t156 k0_h2 => k0_hw609.2.1.2.2.1 k0_t154 k0_t156 k0_h2
theorem k0_off2351_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2351 v41 v43 v456 v458 k0_t154 k0_t156) a + S1x16.size a ≤ S196x384.size a := fun i v10 v41 v43 v456 v458 k0_hw609 k0_t154 k0_t156 k0_h2 => k0_hw609.2.1.2.2.2.1 k0_t154 k0_t156 k0_h2
theorem k0_off2352_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2352 v41 v43 v456 v458 k0_t154 k0_t156) a + S1x16.size a ≤ S196x384.size a := fun i v10 v41 v43 v456 v458 k0_hw609 k0_t154 k0_t156 k0_h2 => k0_hw609.2.1.2.2.2.2.1 k0_t154 k0_t156 k0_h2
theorem k0_off2353_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2353 v41 v43 v456 v458 k0_t154 k0_t156) a + S1x16.size a ≤ S196x384.size a := fun i v10 v41 v43 v456 v458 k0_hw609 k0_t154 k0_t156 k0_h2 => k0_hw609.2.1.2.2.2.2.2.1 k0_t154 k0_t156 k0_h2
theorem k0_off2354_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2354 v41 v43 v456 v458 k0_t154 k0_t156) a + S1x16.size a ≤ S196x384.size a := fun i v10 v41 v43 v456 v458 k0_hw609 k0_t154 k0_t156 k0_h2 => k0_hw609.2.1.2.2.2.2.2.2.1 k0_t154 k0_t156 k0_h2
theorem k0_off2355_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2355 v41 v43 v456 v458 k0_t154 k0_t156) a + S1x16.size a ≤ S196x384.size a := fun i v10 v41 v43 v456 v458 k0_hw609 k0_t154 k0_t156 k0_h2 => k0_hw609.2.1.2.2.2.2.2.2.2.1 k0_t154 k0_t156 k0_h2
theorem k0_off2356_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2356 v41 v43 v456 v458 k0_t154 k0_t156) a + S1x16.size a ≤ S196x384.size a := fun i v10 v41 v43 v456 v458 k0_hw609 k0_t154 k0_t156 k0_h2 => k0_hw609.2.1.2.2.2.2.2.2.2.2.1 k0_t154 k0_t156 k0_h2
theorem k0_off2357_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2357 v41 v43 v456 v458 k0_t154 k0_t156) a + S1x16.size a ≤ S196x384.size a := fun i v10 v41 v43 v456 v458 k0_hw609 k0_t154 k0_t156 k0_h2 => k0_hw609.2.1.2.2.2.2.2.2.2.2.2.1 k0_t154 k0_t156 k0_h2
theorem k0_off2358_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2358 v41 v43 v456 v458 k0_t154 k0_t156) a + S1x16.size a ≤ S196x384.size a := fun i v10 v41 v43 v456 v458 k0_hw609 k0_t154 k0_t156 k0_h2 => k0_hw609.2.1.2.2.2.2.2.2.2.2.2.2.1 k0_t154 k0_t156 k0_h2
theorem k0_off2359_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2359 v41 v43 v456 v458 k0_t154 k0_t156) a + S1x16.size a ≤ S196x384.size a := fun i v10 v41 v43 v456 v458 k0_hw609 k0_t154 k0_t156 k0_h2 => k0_hw609.2.1.2.2.2.2.2.2.2.2.2.2.2.1 k0_t154 k0_t156 k0_h2
theorem k0_off2360_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2360 v41 v43 v456 v458 k0_t154 k0_t156) a + S1x16.size a ≤ S196x384.size a := fun i v10 v41 v43 v456 v458 k0_hw609 k0_t154 k0_t156 k0_h2 => k0_hw609.2.1.2.2.2.2.2.2.2.2.2.2.2.2.1 k0_t154 k0_t156 k0_h2
theorem k0_off2361_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2361 v41 v43 v456 v458 k0_t154 k0_t156) a + S1x16.size a ≤ S196x384.size a := fun i v10 v41 v43 v456 v458 k0_hw609 k0_t154 k0_t156 k0_h2 => k0_hw609.2.1.2.2.2.2.2.2.2.2.2.2.2.2.2.1 k0_t154 k0_t156 k0_h2
theorem k0_off2362_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2362 v41 v43 v456 v458 k0_t154 k0_t156) a + S1x16.size a ≤ S196x384.size a := fun i v10 v41 v43 v456 v458 k0_hw609 k0_t154 k0_t156 k0_h2 => k0_hw609.2.1.2.2.2.2.2.2.2.2.2.2.2.2.2.2.1 k0_t154 k0_t156 k0_h2
theorem k0_off2363_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2363 v41 v43 v456 v458 k0_t154 k0_t156) a + S1x16.size a ≤ S196x384.size a := fun i v10 v41 v43 v456 v458 k0_hw609 k0_t154 k0_t156 k0_h2 => k0_hw609.2.1.2.2.2.2.2.2.2.2.2.2.2.2.2.2.2.1 k0_t154 k0_t156 k0_h2
theorem k0_off2364_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2364 v41 v43 v456 v458 k0_t154 k0_t156) a + S1x16.size a ≤ S196x384.size a := fun i v10 v41 v43 v456 v458 k0_hw609 k0_t154 k0_t156 k0_h2 => k0_hw609.2.1.2.2.2.2.2.2.2.2.2.2.2.2.2.2.2.2.1 k0_t154 k0_t156 k0_h2
theorem k0_off2365_inb : ∀ (i : grid0.Coords) (v10 : BitVec 32) (v41 : BitVec 32) (v43 : BitVec 32) (v456 : BitVec 32) (v458 : BitVec 32) (k0_hw609 : k0_chk609 i v10 v41 v43 v456 v458) (k0_t154 : Fin (k0_t154_loop v41 v43).trips) (k0_t156 : Fin (k0_t156_loop v456 v458).trips), ∀ (k0_h2 : k0_cond2 i v10 = 1#1), ∀ a, (k0_off2365 v41 v43 v456 v458 k0_t154 k0_t156) a + S1x16.size a ≤ S196x384.size a := fun i v10 v41 v43 v456 v458 k0_hw609 k0_t154 k0_t156 k0_h2 => k0_hw609.2.1.2.2.2.2.2.2.2.2.2.2.2.2.2.2.2.2.2.1 k0_t154 k0_t156 k0_h2
theorem k0_t158_ok : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips), ∀ (k0_h2 : k0_cond2 i v10 = 1#1), (k0_t158_loop v456 v458).OK := fun i v10 v41 v43 v456 v458 k0_hw609 k0_t157 k0_h2 => k0_hw609.2.1.2.2.2.2.2.2.2.2.2.2.2.2.2.2.2.2.2.2.1 k0_t157 k0_h2
theorem k0_off2366_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2366 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.1 k0_t157 k0_t158 k0_h2
theorem k0_off2367_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2367 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.1 k0_t157 k0_t158 k0_h2
theorem k0_off2368_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2368 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.1 k0_t157 k0_t158 k0_h2
theorem k0_off2369_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2369 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.1 k0_t157 k0_t158 k0_h2
theorem k0_off2370_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2370 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.2.1 k0_t157 k0_t158 k0_h2
theorem k0_off2371_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2371 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.2.2.1 k0_t157 k0_t158 k0_h2
theorem k0_off2372_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2372 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.2.2.2.1 k0_t157 k0_t158 k0_h2
theorem k0_off2373_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2373 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.2.2.2.2.1 k0_t157 k0_t158 k0_h2
theorem k0_off2374_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2374 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.2.2.2.2.2.1 k0_t157 k0_t158 k0_h2
theorem k0_off2375_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2375 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.2.2.2.2.2.2.1 k0_t157 k0_t158 k0_h2
theorem k0_off2376_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2376 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.2.2.2.2.2.2.2.1 k0_t157 k0_t158 k0_h2
theorem k0_off2377_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2377 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.2.2.2.2.2.2.2.2.1 k0_t157 k0_t158 k0_h2
theorem k0_off2378_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2378 v41 v43 v456 v458 k0_t157 k0_t158) a + S1x16.size a ≤ S196x384.size a := fun i v10 v41 v43 v456 v458 k0_hw609 k0_t157 k0_t158 k0_h2 => k0_hw609.2.1.2.2.2.2.2.2.2.2.2.2.2.2.2.2.2.2.2.2.2.2.2.2.2.2.2.2.2.2.2.2.2 k0_t157 k0_t158 k0_h2
theorem k0_off2379_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2379 v41 v43 v456 v458 k0_t157 k0_t158) a + S1x16.size a ≤ S196x384.size a := fun i v10 v41 v43 v456 v458 k0_hw609 k0_t157 k0_t158 k0_h2 => k0_hw609.2.2.1.1 k0_t157 k0_t158 k0_h2
theorem k0_off2380_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2380 v41 v43 v456 v458 k0_t157 k0_t158) a + S1x16.size a ≤ S196x384.size a := fun i v10 v41 v43 v456 v458 k0_hw609 k0_t157 k0_t158 k0_h2 => k0_hw609.2.2.1.2.1 k0_t157 k0_t158 k0_h2
theorem k0_off2381_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2381 v41 v43 v456 v458 k0_t157 k0_t158) a + S1x16.size a ≤ S196x384.size a := fun i v10 v41 v43 v456 v458 k0_hw609 k0_t157 k0_t158 k0_h2 => k0_hw609.2.2.1.2.2.1 k0_t157 k0_t158 k0_h2
theorem k0_off2382_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2382 v41 v43 v456 v458 k0_t157 k0_t158) a + S1x16.size a ≤ S196x384.size a := fun i v10 v41 v43 v456 v458 k0_hw609 k0_t157 k0_t158 k0_h2 => k0_hw609.2.2.1.2.2.2.1 k0_t157 k0_t158 k0_h2
theorem k0_off2383_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2383 v41 v43 v456 v458 k0_t157 k0_t158) a + S1x16.size a ≤ S196x384.size a := fun i v10 v41 v43 v456 v458 k0_hw609 k0_t157 k0_t158 k0_h2 => k0_hw609.2.2.1.2.2.2.2.1 k0_t157 k0_t158 k0_h2
theorem k0_off2384_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2384 v41 v43 v456 v458 k0_t157 k0_t158) a + S1x16.size a ≤ S196x384.size a := fun i v10 v41 v43 v456 v458 k0_hw609 k0_t157 k0_t158 k0_h2 => k0_hw609.2.2.1.2.2.2.2.2.1 k0_t157 k0_t158 k0_h2
theorem k0_off2385_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2385 v41 v43 v456 v458 k0_t157 k0_t158) a + S1x16.size a ≤ S196x384.size a := fun i v10 v41 v43 v456 v458 k0_hw609 k0_t157 k0_t158 k0_h2 => k0_hw609.2.2.1.2.2.2.2.2.2.1 k0_t157 k0_t158 k0_h2
theorem k0_off2386_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2386 v41 v43 v456 v458 k0_t157 k0_t158) a + S1x16.size a ≤ S196x384.size a := fun i v10 v41 v43 v456 v458 k0_hw609 k0_t157 k0_t158 k0_h2 => k0_hw609.2.2.1.2.2.2.2.2.2.2.1 k0_t157 k0_t158 k0_h2
theorem k0_off2387_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2387 v41 v43 v456 v458 k0_t157 k0_t158) a + S1x16.size a ≤ S196x384.size a := fun i v10 v41 v43 v456 v458 k0_hw609 k0_t157 k0_t158 k0_h2 => k0_hw609.2.2.1.2.2.2.2.2.2.2.2.1 k0_t157 k0_t158 k0_h2
theorem k0_off2388_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2388 v41 v43 v456 v458 k0_t157 k0_t158) a + S1x16.size a ≤ S196x384.size a := fun i v10 v41 v43 v456 v458 k0_hw609 k0_t157 k0_t158 k0_h2 => k0_hw609.2.2.1.2.2.2.2.2.2.2.2.2.1 k0_t157 k0_t158 k0_h2
theorem k0_off2389_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t158 : Fin (k0_t158_loop v456 v458).trips), ∀ (k0_h2 : k0_cond2 i v10 = 1#1), ∀ a, (k0_off2389 v41 v43 v456 v458 k0_t157 k0_t158) a + S1x16.size a ≤ S196x384.size a := fun i v10 v41 v43 v456 v458 k0_hw609 k0_t157 k0_t158 k0_h2 => k0_hw609.2.2.1.2.2.2.2.2.2.2.2.2.2.1 k0_t157 k0_t158 k0_h2
theorem k0_t159_ok : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips), ∀ (k0_h2 : k0_cond2 i v10 = 1#1), (k0_t159_loop v456 v458).OK := fun i v10 v41 v43 v456 v458 k0_hw609 k0_t157 k0_h2 => k0_hw609.2.2.1.2.2.2.2.2.2.2.2.2.2.2.1 k0_t157 k0_h2
theorem k0_off2390_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2390 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.1 k0_t157 k0_t159 k0_h2
theorem k0_off2391_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2391 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.1 k0_t157 k0_t159 k0_h2
theorem k0_off2392_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2392 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.1 k0_t157 k0_t159 k0_h2
theorem k0_off2393_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2393 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.1 k0_t157 k0_t159 k0_h2
theorem k0_off2394_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2394 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.1 k0_t157 k0_t159 k0_h2
theorem k0_off2395_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2395 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.1 k0_t157 k0_t159 k0_h2
theorem k0_off2396_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2396 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.1 k0_t157 k0_t159 k0_h2
theorem k0_off2397_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2397 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.1 k0_t157 k0_t159 k0_h2
theorem k0_off2398_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2398 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.1 k0_t157 k0_t159 k0_h2
theorem k0_off2399_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2399 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.1 k0_t157 k0_t159 k0_h2
theorem k0_off2400_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2400 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.1 k0_t157 k0_t159 k0_h2
theorem k0_off2401_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2401 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.2.1 k0_t157 k0_t159 k0_h2
theorem k0_off2402_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2402 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.2.2.1 k0_t157 k0_t159 k0_h2
theorem k0_off2403_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2403 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.2.2.2.1 k0_t157 k0_t159 k0_h2
theorem k0_off2404_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2404 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.2.2.2.2.1 k0_t157 k0_t159 k0_h2
theorem k0_off2405_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2405 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.2.2.2.2.2.1 k0_t157 k0_t159 k0_h2
theorem k0_off2406_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2406 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.2.2.2.2.2.2.1 k0_t157 k0_t159 k0_h2
theorem k0_off2407_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2407 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.2.2.2.2.2.2.2.1 k0_t157 k0_t159 k0_h2
theorem k0_off2408_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2408 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.2.2.2.2.2.2.2.2.1 k0_t157 k0_t159 k0_h2
theorem k0_off2409_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2409 v41 v43 v456 v458 k0_t157 k0_t159) a + S1x16.size a ≤ S196x384.size a := fun i v10 v41 v43 v456 v458 k0_hw609 k0_t157 k0_t159 k0_h2 => k0_hw609.2.2.1.2.2.2.2.2.2.2.2.2.2.2.2.2.2.2.2.2.2.2.2.2.2.2.2.2.2.2.2.2.2.2 k0_t157 k0_t159 k0_h2
theorem k0_off2410_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2410 v41 v43 v456 v458 k0_t157 k0_t159) a + S1x16.size a ≤ S196x384.size a := fun i v10 v41 v43 v456 v458 k0_hw609 k0_t157 k0_t159 k0_h2 => k0_hw609.2.2.2.1 k0_t157 k0_t159 k0_h2
theorem k0_off2411_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2411 v41 v43 v456 v458 k0_t157 k0_t159) a + S1x16.size a ≤ S196x384.size a := fun i v10 v41 v43 v456 v458 k0_hw609 k0_t157 k0_t159 k0_h2 => k0_hw609.2.2.2.2.1 k0_t157 k0_t159 k0_h2
theorem k0_off2412_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2412 v41 v43 v456 v458 k0_t157 k0_t159) a + S1x16.size a ≤ S196x384.size a := fun i v10 v41 v43 v456 v458 k0_hw609 k0_t157 k0_t159 k0_h2 => k0_hw609.2.2.2.2.2.1 k0_t157 k0_t159 k0_h2
theorem k0_off2413_inb : ∀ (i : grid0.Coords) (v10 : BitVec 32) (v41 : BitVec 32) (v43 : BitVec 32) (v456 : BitVec 32) (v458 : BitVec 32) (k0_hw609 : k0_chk609 i v10 v41 v43 v456 v458) (k0_t157 : Fin (k0_t157_loop v41 v43).trips) (k0_t159 : Fin (k0_t159_loop v456 v458).trips), ∀ (k0_h2 : k0_cond2 i v10 = 1#1), ∀ a, (k0_off2413 v41 v43 v456 v458 k0_t157 k0_t159) a + S1x16.size a ≤ S196x384.size a := fun i v10 v41 v43 v456 v458 k0_hw609 k0_t157 k0_t159 k0_h2 => k0_hw609.2.2.2.2.2.2 k0_t157 k0_t159 k0_h2

def k0_chk610 (i : grid0.Coords) (v10 : BitVec 32) (v476 : IVec S16 32) : Prop :=
  (∀ (k0_h2 : k0_cond2 i v10 = 1#1), ∀ a x, ((![v476] : Fin 1 → IVec S16 32) a x).toNat < S18816.size a)
theorem k0_idx577_inb : ∀ (i : grid0.Coords) (v10 : BitVec 32) (v476 : IVec S16 32) (k0_hw610 : k0_chk610 i v10 v476), ∀ (k0_h2 : k0_cond2 i v10 = 1#1), ∀ a x, ((![v476] : Fin 1 → IVec S16 32) a x).toNat < S18816.size a := fun i v10 v476 k0_hw610 k0_h2 => k0_hw610 k0_h2

def k0_chk611 (i : grid0.Coords) (v10 : BitVec 32) (v481 : IVec S16 32) : Prop :=
  (∀ (k0_h2 : k0_cond2 i v10 = 1#1), ∀ a x, ((![v481] : Fin 1 → IVec S16 32) a x).toNat < S18816.size a)
theorem k0_idx578_inb : ∀ (i : grid0.Coords) (v10 : BitVec 32) (v481 : IVec S16 32) (k0_hw611 : k0_chk611 i v10 v481), ∀ (k0_h2 : k0_cond2 i v10 = 1#1), ∀ a x, ((![v481] : Fin 1 → IVec S16 32) a x).toNat < S18816.size a := fun i v10 v481 k0_hw611 k0_h2 => k0_hw611 k0_h2

def k0_chk612 (i : grid0.Coords) (v10 : BitVec 32) (v486 : IVec S16 32) : Prop :=
  (∀ (k0_h2 : k0_cond2 i v10 = 1#1), ∀ a x, ((![v486] : Fin 1 → IVec S16 32) a x).toNat < S18816.size a)
theorem k0_idx579_inb : ∀ (i : grid0.Coords) (v10 : BitVec 32) (v486 : IVec S16 32) (k0_hw612 : k0_chk612 i v10 v486), ∀ (k0_h2 : k0_cond2 i v10 = 1#1), ∀ a x, ((![v486] : Fin 1 → IVec S16 32) a x).toNat < S18816.size a := fun i v10 v486 k0_hw612 k0_h2 => k0_hw612 k0_h2

def k0_chk613 (i : grid0.Coords) (v10 : BitVec 32) (v491 : IVec S16 32) : Prop :=
  (∀ (k0_h2 : k0_cond2 i v10 = 1#1), ∀ a x, ((![v491] : Fin 1 → IVec S16 32) a x).toNat < S18816.size a)
theorem k0_idx580_inb : ∀ (i : grid0.Coords) (v10 : BitVec 32) (v491 : IVec S16 32) (k0_hw613 : k0_chk613 i v10 v491), ∀ (k0_h2 : k0_cond2 i v10 = 1#1), ∀ a x, ((![v491] : Fin 1 → IVec S16 32) a x).toNat < S18816.size a := fun i v10 v491 k0_hw613 k0_h2 => k0_hw613 k0_h2

def k0_chk614 (i : grid0.Coords) (v10 : BitVec 32) (v496 : IVec S16 32) : Prop :=
  (∀ (k0_h2 : k0_cond2 i v10 = 1#1), ∀ a x, ((![v496] : Fin 1 → IVec S16 32) a x).toNat < S18816.size a)
theorem k0_idx581_inb : ∀ (i : grid0.Coords) (v10 : BitVec 32) (v496 : IVec S16 32) (k0_hw614 : k0_chk614 i v10 v496), ∀ (k0_h2 : k0_cond2 i v10 = 1#1), ∀ a x, ((![v496] : Fin 1 → IVec S16 32) a x).toNat < S18816.size a := fun i v10 v496 k0_hw614 k0_h2 => k0_hw614 k0_h2

def k0_chk615 (i : grid0.Coords) (v10 : BitVec 32) (v501 : IVec S16 32) : Prop :=
  (∀ (k0_h2 : k0_cond2 i v10 = 1#1), ∀ a x, ((![v501] : Fin 1 → IVec S16 32) a x).toNat < S18816.size a)
theorem k0_idx582_inb : ∀ (i : grid0.Coords) (v10 : BitVec 32) (v501 : IVec S16 32) (k0_hw615 : k0_chk615 i v10 v501), ∀ (k0_h2 : k0_cond2 i v10 = 1#1), ∀ a x, ((![v501] : Fin 1 → IVec S16 32) a x).toNat < S18816.size a := fun i v10 v501 k0_hw615 k0_h2 => k0_hw615 k0_h2

def k0_chk616 (i : grid0.Coords) (v10 : BitVec 32) (v506 : IVec S16 32) : Prop :=
  (∀ (k0_h2 : k0_cond2 i v10 = 1#1), ∀ a x, ((![v506] : Fin 1 → IVec S16 32) a x).toNat < S18816.size a)
theorem k0_idx583_inb : ∀ (i : grid0.Coords) (v10 : BitVec 32) (v506 : IVec S16 32) (k0_hw616 : k0_chk616 i v10 v506), ∀ (k0_h2 : k0_cond2 i v10 = 1#1), ∀ a x, ((![v506] : Fin 1 → IVec S16 32) a x).toNat < S18816.size a := fun i v10 v506 k0_hw616 k0_h2 => k0_hw616 k0_h2

def k0_chk617 (i : grid0.Coords) (v10 : BitVec 32) (v511 : IVec S16 32) : Prop :=
  (∀ (k0_h2 : k0_cond2 i v10 = 1#1), ∀ a x, ((![v511] : Fin 1 → IVec S16 32) a x).toNat < S18816.size a)
theorem k0_idx584_inb : ∀ (i : grid0.Coords) (v10 : BitVec 32) (v511 : IVec S16 32) (k0_hw617 : k0_chk617 i v10 v511), ∀ (k0_h2 : k0_cond2 i v10 = 1#1), ∀ a x, ((![v511] : Fin 1 → IVec S16 32) a x).toNat < S18816.size a := fun i v10 v511 k0_hw617 k0_h2 => k0_hw617 k0_h2

def k0_chk618 (i : grid0.Coords) (v10 : BitVec 32) (v516 : IVec S16 32) : Prop :=
  (∀ (k0_h2 : k0_cond2 i v10 = 1#1), ∀ a x, ((![v516] : Fin 1 → IVec S16 32) a x).toNat < S18816.size a)
theorem k0_idx585_inb : ∀ (i : grid0.Coords) (v10 : BitVec 32) (v516 : IVec S16 32) (k0_hw618 : k0_chk618 i v10 v516), ∀ (k0_h2 : k0_cond2 i v10 = 1#1), ∀ a x, ((![v516] : Fin 1 → IVec S16 32) a x).toNat < S18816.size a := fun i v10 v516 k0_hw618 k0_h2 => k0_hw618 k0_h2

def k0_chk619 (i : grid0.Coords) (v10 : BitVec 32) (v521 : IVec S16 32) : Prop :=
  (∀ (k0_h2 : k0_cond2 i v10 = 1#1), ∀ a x, ((![v521] : Fin 1 → IVec S16 32) a x).toNat < S18816.size a)
theorem k0_idx586_inb : ∀ (i : grid0.Coords) (v10 : BitVec 32) (v521 : IVec S16 32) (k0_hw619 : k0_chk619 i v10 v521), ∀ (k0_h2 : k0_cond2 i v10 = 1#1), ∀ a x, ((![v521] : Fin 1 → IVec S16 32) a x).toNat < S18816.size a := fun i v10 v521 k0_hw619 k0_h2 => k0_hw619 k0_h2

def k0_chk620 (i : grid0.Coords) (v10 : BitVec 32) (v526 : IVec S16 32) : Prop :=
  (∀ (k0_h2 : k0_cond2 i v10 = 1#1), ∀ a x, ((![v526] : Fin 1 → IVec S16 32) a x).toNat < S18816.size a)
theorem k0_idx587_inb : ∀ (i : grid0.Coords) (v10 : BitVec 32) (v526 : IVec S16 32) (k0_hw620 : k0_chk620 i v10 v526), ∀ (k0_h2 : k0_cond2 i v10 = 1#1), ∀ a x, ((![v526] : Fin 1 → IVec S16 32) a x).toNat < S18816.size a := fun i v10 v526 k0_hw620 k0_h2 => k0_hw620 k0_h2

def k0_chk621 (i : grid0.Coords) (v10 : BitVec 32) (v531 : IVec S16 32) : Prop :=
  (∀ (k0_h2 : k0_cond2 i v10 = 1#1), ∀ a x, ((![v531] : Fin 1 → IVec S16 32) a x).toNat < S18816.size a)
theorem k0_idx588_inb : ∀ (i : grid0.Coords) (v10 : BitVec 32) (v531 : IVec S16 32) (k0_hw621 : k0_chk621 i v10 v531), ∀ (k0_h2 : k0_cond2 i v10 = 1#1), ∀ a x, ((![v531] : Fin 1 → IVec S16 32) a x).toNat < S18816.size a := fun i v10 v531 k0_hw621 k0_h2 => k0_hw621 k0_h2

def k0_chk622 (i : grid0.Coords) (v10 : BitVec 32) (v536 : IVec S16 32) : Prop :=
  (∀ (k0_h2 : k0_cond2 i v10 = 1#1), ∀ a x, ((![v536] : Fin 1 → IVec S16 32) a x).toNat < S18816.size a)
theorem k0_idx589_inb : ∀ (i : grid0.Coords) (v10 : BitVec 32) (v536 : IVec S16 32) (k0_hw622 : k0_chk622 i v10 v536), ∀ (k0_h2 : k0_cond2 i v10 = 1#1), ∀ a x, ((![v536] : Fin 1 → IVec S16 32) a x).toNat < S18816.size a := fun i v10 v536 k0_hw622 k0_h2 => k0_hw622 k0_h2

def k0_chk623 (i : grid0.Coords) (v10 : BitVec 32) (v541 : IVec S16 32) : Prop :=
  (∀ (k0_h2 : k0_cond2 i v10 = 1#1), ∀ a x, ((![v541] : Fin 1 → IVec S16 32) a x).toNat < S18816.size a)
theorem k0_idx590_inb : ∀ (i : grid0.Coords) (v10 : BitVec 32) (v541 : IVec S16 32) (k0_hw623 : k0_chk623 i v10 v541), ∀ (k0_h2 : k0_cond2 i v10 = 1#1), ∀ a x, ((![v541] : Fin 1 → IVec S16 32) a x).toNat < S18816.size a := fun i v10 v541 k0_hw623 k0_h2 => k0_hw623 k0_h2

def k0_chk624 (i : grid0.Coords) (v10 : BitVec 32) (v546 : IVec S16 32) : Prop :=
  (∀ (k0_h2 : k0_cond2 i v10 = 1#1), ∀ a x, ((![v546] : Fin 1 → IVec S16 32) a x).toNat < S18816.size a)
theorem k0_idx591_inb : ∀ (i : grid0.Coords) (v10 : BitVec 32) (v546 : IVec S16 32) (k0_hw624 : k0_chk624 i v10 v546), ∀ (k0_h2 : k0_cond2 i v10 = 1#1), ∀ a x, ((![v546] : Fin 1 → IVec S16 32) a x).toNat < S18816.size a := fun i v10 v546 k0_hw624 k0_h2 => k0_hw624 k0_h2

def k0_chk625 (i : grid0.Coords) (v10 : BitVec 32) (v551 : IVec S16 32) : Prop :=
  (∀ (k0_h2 : k0_cond2 i v10 = 1#1), ∀ a x, ((![v551] : Fin 1 → IVec S16 32) a x).toNat < S18816.size a)
theorem k0_idx592_inb : ∀ (i : grid0.Coords) (v10 : BitVec 32) (v551 : IVec S16 32) (k0_hw625 : k0_chk625 i v10 v551), ∀ (k0_h2 : k0_cond2 i v10 = 1#1), ∀ a x, ((![v551] : Fin 1 → IVec S16 32) a x).toNat < S18816.size a := fun i v10 v551 k0_hw625 k0_h2 => k0_hw625 k0_h2

def k0_chk626 (i : grid0.Coords) (v10 : BitVec 32) (v556 : IVec S16 32) : Prop :=
  (∀ (k0_h2 : k0_cond2 i v10 = 1#1), ∀ a x, ((![v556] : Fin 1 → IVec S16 32) a x).toNat < S18816.size a)
theorem k0_idx593_inb : ∀ (i : grid0.Coords) (v10 : BitVec 32) (v556 : IVec S16 32) (k0_hw626 : k0_chk626 i v10 v556), ∀ (k0_h2 : k0_cond2 i v10 = 1#1), ∀ a x, ((![v556] : Fin 1 → IVec S16 32) a x).toNat < S18816.size a := fun i v10 v556 k0_hw626 k0_h2 => k0_hw626 k0_h2

def k0_chk627 (i : grid0.Coords) (v10 : BitVec 32) (v561 : IVec S16 32) : Prop :=
  (∀ (k0_h2 : k0_cond2 i v10 = 1#1), ∀ a x, ((![v561] : Fin 1 → IVec S16 32) a x).toNat < S18816.size a)
theorem k0_idx594_inb : ∀ (i : grid0.Coords) (v10 : BitVec 32) (v561 : IVec S16 32) (k0_hw627 : k0_chk627 i v10 v561), ∀ (k0_h2 : k0_cond2 i v10 = 1#1), ∀ a x, ((![v561] : Fin 1 → IVec S16 32) a x).toNat < S18816.size a := fun i v10 v561 k0_hw627 k0_h2 => k0_hw627 k0_h2

def k0_chk628 (i : grid0.Coords) (v10 : BitVec 32) (v566 : IVec S16 32) : Prop :=
  (∀ (k0_h2 : k0_cond2 i v10 = 1#1), ∀ a x, ((![v566] : Fin 1 → IVec S16 32) a x).toNat < S18816.size a)
theorem k0_idx595_inb : ∀ (i : grid0.Coords) (v10 : BitVec 32) (v566 : IVec S16 32) (k0_hw628 : k0_chk628 i v10 v566), ∀ (k0_h2 : k0_cond2 i v10 = 1#1), ∀ a x, ((![v566] : Fin 1 → IVec S16 32) a x).toNat < S18816.size a := fun i v10 v566 k0_hw628 k0_h2 => k0_hw628 k0_h2

def k0_chk629 (i : grid0.Coords) (v10 : BitVec 32) (v571 : IVec S16 32) : Prop :=
  (∀ (k0_h2 : k0_cond2 i v10 = 1#1), ∀ a x, ((![v571] : Fin 1 → IVec S16 32) a x).toNat < S18816.size a)
theorem k0_idx596_inb : ∀ (i : grid0.Coords) (v10 : BitVec 32) (v571 : IVec S16 32) (k0_hw629 : k0_chk629 i v10 v571), ∀ (k0_h2 : k0_cond2 i v10 = 1#1), ∀ a x, ((![v571] : Fin 1 → IVec S16 32) a x).toNat < S18816.size a := fun i v10 v571 k0_hw629 k0_h2 => k0_hw629 k0_h2

def k0_chk630 (i : grid0.Coords) (v10 : BitVec 32) (v576 : IVec S16 32) : Prop :=
  (∀ (k0_h2 : k0_cond2 i v10 = 1#1), ∀ a x, ((![v576] : Fin 1 → IVec S16 32) a x).toNat < S18816.size a)
theorem k0_idx597_inb : ∀ (i : grid0.Coords) (v10 : BitVec 32) (v576 : IVec S16 32) (k0_hw630 : k0_chk630 i v10 v576), ∀ (k0_h2 : k0_cond2 i v10 = 1#1), ∀ a x, ((![v576] : Fin 1 → IVec S16 32) a x).toNat < S18816.size a := fun i v10 v576 k0_hw630 k0_h2 => k0_hw630 k0_h2

def k0_chk631 (i : grid0.Coords) (v10 : BitVec 32) (v581 : IVec S16 32) : Prop :=
  (∀ (k0_h2 : k0_cond2 i v10 = 1#1), ∀ a x, ((![v581] : Fin 1 → IVec S16 32) a x).toNat < S18816.size a)
theorem k0_idx598_inb : ∀ (i : grid0.Coords) (v10 : BitVec 32) (v581 : IVec S16 32) (k0_hw631 : k0_chk631 i v10 v581), ∀ (k0_h2 : k0_cond2 i v10 = 1#1), ∀ a x, ((![v581] : Fin 1 → IVec S16 32) a x).toNat < S18816.size a := fun i v10 v581 k0_hw631 k0_h2 => k0_hw631 k0_h2

def k0_chk632 (i : grid0.Coords) (v10 : BitVec 32) (v586 : IVec S16 32) : Prop :=
  (∀ (k0_h2 : k0_cond2 i v10 = 1#1), ∀ a x, ((![v586] : Fin 1 → IVec S16 32) a x).toNat < S18816.size a)
theorem k0_idx599_inb : ∀ (i : grid0.Coords) (v10 : BitVec 32) (v586 : IVec S16 32) (k0_hw632 : k0_chk632 i v10 v586), ∀ (k0_h2 : k0_cond2 i v10 = 1#1), ∀ a x, ((![v586] : Fin 1 → IVec S16 32) a x).toNat < S18816.size a := fun i v10 v586 k0_hw632 k0_h2 => k0_hw632 k0_h2

def k0_chk633 (i : grid0.Coords) (v10 : BitVec 32) (v591 : IVec S16 32) : Prop :=
  (∀ (k0_h2 : k0_cond2 i v10 = 1#1), ∀ a x, ((![v591] : Fin 1 → IVec S16 32) a x).toNat < S18816.size a)
theorem k0_idx600_inb : ∀ (i : grid0.Coords) (v10 : BitVec 32) (v591 : IVec S16 32) (k0_hw633 : k0_chk633 i v10 v591), ∀ (k0_h2 : k0_cond2 i v10 = 1#1), ∀ a x, ((![v591] : Fin 1 → IVec S16 32) a x).toNat < S18816.size a := fun i v10 v591 k0_hw633 k0_h2 => k0_hw633 k0_h2
@[reducible] def k0_t160_loop (v41 : BitVec 32) (v43 : BitVec 32) : Scf.Loop 32 :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_217 : BitVec 32 := 1#32
  ⟨v41, v601, c1_i32_217⟩
@[reducible] def k0_t161_loop (v593 : BitVec 32) (v595 : BitVec 32) : Scf.Loop 32 :=
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_375 : BitVec 32 := 1#32
  ⟨v593, v1008, c1_i32_375⟩

def k0_off2414 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1012 : Index := Scalar.indexCast v1011
  let c0_377 : Index := 0#32
  ![v1012.toNat, 0]
def k0_off2415 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1015 : Index := Scalar.indexCast v1011
  let c16 : Index := 16#32
  ![v1015.toNat, 16]
def k0_off2416 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1018 : Index := Scalar.indexCast v1011
  let c32 : Index := 32#32
  ![v1018.toNat, 32]
def k0_off2417 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1021 : Index := Scalar.indexCast v1011
  let c48 : Index := 48#32
  ![v1021.toNat, 48]
def k0_off2418 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1024 : Index := Scalar.indexCast v1011
  let c64 : Index := 64#32
  ![v1024.toNat, 64]
def k0_off2419 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1027 : Index := Scalar.indexCast v1011
  let c80 : Index := 80#32
  ![v1027.toNat, 80]
def k0_off2420 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1030 : Index := Scalar.indexCast v1011
  let c96 : Index := 96#32
  ![v1030.toNat, 96]
def k0_off2421 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1033 : Index := Scalar.indexCast v1011
  let c112 : Index := 112#32
  ![v1033.toNat, 112]
def k0_off2422 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1036 : Index := Scalar.indexCast v1011
  let c128 : Index := 128#32
  ![v1036.toNat, 128]
def k0_off2423 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1039 : Index := Scalar.indexCast v1011
  let c144 : Index := 144#32
  ![v1039.toNat, 144]
def k0_off2424 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1042 : Index := Scalar.indexCast v1011
  let c160 : Index := 160#32
  ![v1042.toNat, 160]
def k0_off2425 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1045 : Index := Scalar.indexCast v1011
  let c176 : Index := 176#32
  ![v1045.toNat, 176]
def k0_off2426 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1048 : Index := Scalar.indexCast v1011
  let c192 : Index := 192#32
  ![v1048.toNat, 192]
def k0_off2427 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1051 : Index := Scalar.indexCast v1011
  let c208 : Index := 208#32
  ![v1051.toNat, 208]
def k0_off2428 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1054 : Index := Scalar.indexCast v1011
  let c224 : Index := 224#32
  ![v1054.toNat, 224]
def k0_off2429 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1057 : Index := Scalar.indexCast v1011
  let c240 : Index := 240#32
  ![v1057.toNat, 240]
def k0_off2430 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1060 : Index := Scalar.indexCast v1011
  let c256 : Index := 256#32
  ![v1060.toNat, 256]
def k0_off2431 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1063 : Index := Scalar.indexCast v1011
  let c272 : Index := 272#32
  ![v1063.toNat, 272]
def k0_off2432 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1066 : Index := Scalar.indexCast v1011
  let c288 : Index := 288#32
  ![v1066.toNat, 288]
def k0_off2433 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1069 : Index := Scalar.indexCast v1011
  let c304 : Index := 304#32
  ![v1069.toNat, 304]
def k0_off2434 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1072 : Index := Scalar.indexCast v1011
  let c320 : Index := 320#32
  ![v1072.toNat, 320]
def k0_off2435 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1075 : Index := Scalar.indexCast v1011
  let c336 : Index := 336#32
  ![v1075.toNat, 336]
def k0_off2436 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1078 : Index := Scalar.indexCast v1011
  let c352 : Index := 352#32
  ![v1078.toNat, 352]
def k0_off2437 (v41 : BitVec 32) (v43 : BitVec 32) (v593 : BitVec 32) (v595 : BitVec 32) (k0_t160 : Fin (k0_t160_loop v41 v43).trips) (k0_t161 : Fin (k0_t161_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let c1_i32_375 : BitVec 32 := 1#32
  let arg36 : BitVec 32 := Scf.iv v593 c1_i32_375 k0_t161
  let v1011 : BitVec 32 := Scalar.addi v1003 arg36
  let v1081 : Index := Scalar.indexCast v1011
  let c368 : Index := 368#32
  ![v1081.toNat, 368]
@[reducible] def k0_t162_loop (v593 : BitVec 32) (v595 : BitVec 32) : Scf.Loop 32 :=
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let v1005 : BitVec 32 := Scalar.addi v593 v1004
  let c1_i32_376 : BitVec 32 := 1#32
  ⟨v1008, v1005, c1_i32_376⟩
def k0_off2438 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1012 : Index := Scalar.indexCast v1011
  let c0_377 : Index := 0#32
  ![v1012.toNat, 0]
def k0_off2439 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1015 : Index := Scalar.indexCast v1011
  let c16 : Index := 16#32
  ![v1015.toNat, 16]
def k0_off2440 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1018 : Index := Scalar.indexCast v1011
  let c32 : Index := 32#32
  ![v1018.toNat, 32]
def k0_off2441 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1021 : Index := Scalar.indexCast v1011
  let c48 : Index := 48#32
  ![v1021.toNat, 48]
def k0_off2442 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1024 : Index := Scalar.indexCast v1011
  let c64 : Index := 64#32
  ![v1024.toNat, 64]
def k0_off2443 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1027 : Index := Scalar.indexCast v1011
  let c80 : Index := 80#32
  ![v1027.toNat, 80]
def k0_off2444 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1030 : Index := Scalar.indexCast v1011
  let c96 : Index := 96#32
  ![v1030.toNat, 96]
def k0_off2445 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1033 : Index := Scalar.indexCast v1011
  let c112 : Index := 112#32
  ![v1033.toNat, 112]
def k0_off2446 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1036 : Index := Scalar.indexCast v1011
  let c128 : Index := 128#32
  ![v1036.toNat, 128]
def k0_off2447 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1039 : Index := Scalar.indexCast v1011
  let c144 : Index := 144#32
  ![v1039.toNat, 144]
def k0_off2448 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1042 : Index := Scalar.indexCast v1011
  let c160 : Index := 160#32
  ![v1042.toNat, 160]
def k0_off2449 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1045 : Index := Scalar.indexCast v1011
  let c176 : Index := 176#32
  ![v1045.toNat, 176]
def k0_off2450 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1048 : Index := Scalar.indexCast v1011
  let c192 : Index := 192#32
  ![v1048.toNat, 192]
def k0_off2451 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1051 : Index := Scalar.indexCast v1011
  let c208 : Index := 208#32
  ![v1051.toNat, 208]
def k0_off2452 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1054 : Index := Scalar.indexCast v1011
  let c224 : Index := 224#32
  ![v1054.toNat, 224]
def k0_off2453 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1057 : Index := Scalar.indexCast v1011
  let c240 : Index := 240#32
  ![v1057.toNat, 240]
def k0_off2454 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1060 : Index := Scalar.indexCast v1011
  let c256 : Index := 256#32
  ![v1060.toNat, 256]
def k0_off2455 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1063 : Index := Scalar.indexCast v1011
  let c272 : Index := 272#32
  ![v1063.toNat, 272]
def k0_off2456 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1066 : Index := Scalar.indexCast v1011
  let c288 : Index := 288#32
  ![v1066.toNat, 288]
def k0_off2457 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1069 : Index := Scalar.indexCast v1011
  let c304 : Index := 304#32
  ![v1069.toNat, 304]
def k0_off2458 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1072 : Index := Scalar.indexCast v1011
  let c320 : Index := 320#32
  ![v1072.toNat, 320]
def k0_off2459 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1075 : Index := Scalar.indexCast v1011
  let c336 : Index := 336#32
  ![v1075.toNat, 336]
def k0_off2460 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1078 : Index := Scalar.indexCast v1011
  let c352 : Index := 352#32
  ![v1078.toNat, 352]
def k0_off2461 (v41 : BitVec 32) (v43 : BitVec 32) (v593 : BitVec 32) (v595 : BitVec 32) (k0_t160 : Fin (k0_t160_loop v41 v43).trips) (k0_t162 : Fin (k0_t162_loop v593 v595).trips) : Fin 2 → Nat :=
  let c1_i32_217 : BitVec 32 := 1#32
  let arg11 : BitVec 32 := Scf.iv v41 c1_i32_217 k0_t160
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t162
  let v1011 : BitVec 32 := Scalar.addi v1003 arg36
  let v1081 : Index := Scalar.indexCast v1011
  let c368 : Index := 368#32
  ![v1081.toNat, 368]
@[reducible] def k0_t163_loop (v41 : BitVec 32) (v43 : BitVec 32) : Scf.Loop 32 :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let v598 : BitVec 32 := Scalar.addi v41 v597
  let c1_i32_218 : BitVec 32 := 1#32
  ⟨v601, v598, c1_i32_218⟩
@[reducible] def k0_t164_loop (v593 : BitVec 32) (v595 : BitVec 32) : Scf.Loop 32 :=
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_375 : BitVec 32 := 1#32
  ⟨v593, v1008, c1_i32_375⟩
def k0_off2462 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1012 : Index := Scalar.indexCast v1011
  let c0_377 : Index := 0#32
  ![v1012.toNat, 0]
def k0_off2463 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1015 : Index := Scalar.indexCast v1011
  let c16 : Index := 16#32
  ![v1015.toNat, 16]
def k0_off2464 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1018 : Index := Scalar.indexCast v1011
  let c32 : Index := 32#32
  ![v1018.toNat, 32]
def k0_off2465 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1021 : Index := Scalar.indexCast v1011
  let c48 : Index := 48#32
  ![v1021.toNat, 48]
def k0_off2466 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1024 : Index := Scalar.indexCast v1011
  let c64 : Index := 64#32
  ![v1024.toNat, 64]
def k0_off2467 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1027 : Index := Scalar.indexCast v1011
  let c80 : Index := 80#32
  ![v1027.toNat, 80]
def k0_off2468 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1030 : Index := Scalar.indexCast v1011
  let c96 : Index := 96#32
  ![v1030.toNat, 96]
def k0_off2469 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1033 : Index := Scalar.indexCast v1011
  let c112 : Index := 112#32
  ![v1033.toNat, 112]
def k0_off2470 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1036 : Index := Scalar.indexCast v1011
  let c128 : Index := 128#32
  ![v1036.toNat, 128]
def k0_off2471 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1039 : Index := Scalar.indexCast v1011
  let c144 : Index := 144#32
  ![v1039.toNat, 144]
def k0_off2472 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1042 : Index := Scalar.indexCast v1011
  let c160 : Index := 160#32
  ![v1042.toNat, 160]
def k0_off2473 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1045 : Index := Scalar.indexCast v1011
  let c176 : Index := 176#32
  ![v1045.toNat, 176]
def k0_off2474 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1048 : Index := Scalar.indexCast v1011
  let c192 : Index := 192#32
  ![v1048.toNat, 192]
def k0_off2475 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1051 : Index := Scalar.indexCast v1011
  let c208 : Index := 208#32
  ![v1051.toNat, 208]
def k0_off2476 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1054 : Index := Scalar.indexCast v1011
  let c224 : Index := 224#32
  ![v1054.toNat, 224]
def k0_off2477 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1057 : Index := Scalar.indexCast v1011
  let c240 : Index := 240#32
  ![v1057.toNat, 240]
def k0_off2478 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1060 : Index := Scalar.indexCast v1011
  let c256 : Index := 256#32
  ![v1060.toNat, 256]
def k0_off2479 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1063 : Index := Scalar.indexCast v1011
  let c272 : Index := 272#32
  ![v1063.toNat, 272]
def k0_off2480 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1066 : Index := Scalar.indexCast v1011
  let c288 : Index := 288#32
  ![v1066.toNat, 288]
def k0_off2481 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1069 : Index := Scalar.indexCast v1011
  let c304 : Index := 304#32
  ![v1069.toNat, 304]
def k0_off2482 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1072 : Index := Scalar.indexCast v1011
  let c320 : Index := 320#32
  ![v1072.toNat, 320]
def k0_off2483 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1075 : Index := Scalar.indexCast v1011
  let c336 : Index := 336#32
  ![v1075.toNat, 336]
def k0_off2484 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1078 : Index := Scalar.indexCast v1011
  let c352 : Index := 352#32
  ![v1078.toNat, 352]
def k0_off2485 (v41 : BitVec 32) (v43 : BitVec 32) (v593 : BitVec 32) (v595 : BitVec 32) (k0_t163 : Fin (k0_t163_loop v41 v43).trips) (k0_t164 : Fin (k0_t164_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let c1_i32_375 : BitVec 32 := 1#32
  let arg36 : BitVec 32 := Scf.iv v593 c1_i32_375 k0_t164
  let v1011 : BitVec 32 := Scalar.addi v1003 arg36
  let v1081 : Index := Scalar.indexCast v1011
  let c368 : Index := 368#32
  ![v1081.toNat, 368]
@[reducible] def k0_t165_loop (v593 : BitVec 32) (v595 : BitVec 32) : Scf.Loop 32 :=
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let v1005 : BitVec 32 := Scalar.addi v593 v1004
  let c1_i32_376 : BitVec 32 := 1#32
  ⟨v1008, v1005, c1_i32_376⟩
def k0_off2486 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1012 : Index := Scalar.indexCast v1011
  let c0_377 : Index := 0#32
  ![v1012.toNat, 0]
def k0_off2487 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1015 : Index := Scalar.indexCast v1011
  let c16 : Index := 16#32
  ![v1015.toNat, 16]
def k0_off2488 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1018 : Index := Scalar.indexCast v1011
  let c32 : Index := 32#32
  ![v1018.toNat, 32]
def k0_off2489 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1021 : Index := Scalar.indexCast v1011
  let c48 : Index := 48#32
  ![v1021.toNat, 48]
def k0_off2490 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1024 : Index := Scalar.indexCast v1011
  let c64 : Index := 64#32
  ![v1024.toNat, 64]
def k0_off2491 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1027 : Index := Scalar.indexCast v1011
  let c80 : Index := 80#32
  ![v1027.toNat, 80]
def k0_off2492 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1030 : Index := Scalar.indexCast v1011
  let c96 : Index := 96#32
  ![v1030.toNat, 96]
def k0_off2493 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1033 : Index := Scalar.indexCast v1011
  let c112 : Index := 112#32
  ![v1033.toNat, 112]
def k0_off2494 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1036 : Index := Scalar.indexCast v1011
  let c128 : Index := 128#32
  ![v1036.toNat, 128]
def k0_off2495 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1039 : Index := Scalar.indexCast v1011
  let c144 : Index := 144#32
  ![v1039.toNat, 144]
def k0_off2496 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1042 : Index := Scalar.indexCast v1011
  let c160 : Index := 160#32
  ![v1042.toNat, 160]
def k0_off2497 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1045 : Index := Scalar.indexCast v1011
  let c176 : Index := 176#32
  ![v1045.toNat, 176]
def k0_off2498 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1048 : Index := Scalar.indexCast v1011
  let c192 : Index := 192#32
  ![v1048.toNat, 192]
def k0_off2499 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1051 : Index := Scalar.indexCast v1011
  let c208 : Index := 208#32
  ![v1051.toNat, 208]
def k0_off2500 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1054 : Index := Scalar.indexCast v1011
  let c224 : Index := 224#32
  ![v1054.toNat, 224]
def k0_off2501 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1057 : Index := Scalar.indexCast v1011
  let c240 : Index := 240#32
  ![v1057.toNat, 240]
def k0_off2502 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1060 : Index := Scalar.indexCast v1011
  let c256 : Index := 256#32
  ![v1060.toNat, 256]
def k0_off2503 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1063 : Index := Scalar.indexCast v1011
  let c272 : Index := 272#32
  ![v1063.toNat, 272]
def k0_off2504 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1066 : Index := Scalar.indexCast v1011
  let c288 : Index := 288#32
  ![v1066.toNat, 288]
def k0_off2505 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1069 : Index := Scalar.indexCast v1011
  let c304 : Index := 304#32
  ![v1069.toNat, 304]
def k0_off2506 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1072 : Index := Scalar.indexCast v1011
  let c320 : Index := 320#32
  ![v1072.toNat, 320]
def k0_off2507 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1075 : Index := Scalar.indexCast v1011
  let c336 : Index := 336#32
  ![v1075.toNat, 336]
def k0_off2508 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1078 : Index := Scalar.indexCast v1011
  let c352 : Index := 352#32
  ![v1078.toNat, 352]
def k0_off2509 (v41 : BitVec 32) (v43 : BitVec 32) (v593 : BitVec 32) (v595 : BitVec 32) (k0_t163 : Fin (k0_t163_loop v41 v43).trips) (k0_t165 : Fin (k0_t165_loop v593 v595).trips) : Fin 2 → Nat :=
  let v597 : BitVec 32 := Scalar.subi v43 v41
  let c1_i32_216 : BitVec 32 := 1#32
  let v599 : BitVec 32 := Scalar.divsi v597 c1_i32_216
  let v600 : BitVec 32 := Scalar.muli v599 c1_i32_216
  let v601 : BitVec 32 := Scalar.addi v41 v600
  let c1_i32_218 : BitVec 32 := 1#32
  let arg11 : BitVec 32 := Scf.iv v601 c1_i32_218 k0_t163
  let c14_i32 : BitVec 32 := 14#32
  let v1003 : BitVec 32 := Scalar.muli arg11 c14_i32
  let v1004 : BitVec 32 := Scalar.subi v595 v593
  let c1_i32_374 : BitVec 32 := 1#32
  let v1006 : BitVec 32 := Scalar.divsi v1004 c1_i32_374
  let v1007 : BitVec 32 := Scalar.muli v1006 c1_i32_374
  let v1008 : BitVec 32 := Scalar.addi v593 v1007
  let c1_i32_376 : BitVec 32 := 1#32
  let arg36 : BitVec 32 := Scf.iv v1008 c1_i32_376 k0_t165
  let v1011 : BitVec 32 := Scalar.addi v1003 arg36
  let v1081 : Index := Scalar.indexCast v1011
  let c368 : Index := 368#32
  ![v1081.toNat, 368]

def k0_chk634_0 (i : grid0.Coords) (v10 : BitVec 32) (v41 : BitVec 32) (v43 : BitVec 32) (v593 : BitVec 32) (v595 : BitVec 32) : Prop :=
  (∀ k0_t160 : Fin (k0_t160_loop v41 v43).trips, ∀ (k0_h2 : k0_cond2 i v10 = 1#1), (k0_t161_loop v593 v595).OK) ∧
  (∀ (k0_t160 : Fin (k0_t160_loop v41 v43).trips) (k0_t161 : Fin (k0_t161_loop v593 v595).trips), ∀ (k0_h2 : k0_cond2 i v10 = 1#1), ∀ a, (k0_off2414 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2415 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2416 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2417 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2418 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2419 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2420 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2421 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2422 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2423 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2424 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2425 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2426 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2427 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2428 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2429 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2430 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2431 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2432 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2433 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2434 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2435 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2436 v41 v43 v593 v595 k0_t160 k0_t161) a + S1x16.size a ≤ S196x384.size a) ∧
  (∀ (k0_t160 : Fin (k0_t160_loop v41 v43).trips) (k0_t161 : Fin (k0_t161_loop v593 v595).trips), ∀ (k0_h2 : k0_cond2 i v10 = 1#1), ∀ a, (k0_off2437 v41 v43 v593 v595 k0_t160 k0_t161) a + S1x16.size a ≤ S196x384.size a) ∧
  (∀ k0_t160 : Fin (k0_t160_loop v41 v43).trips, ∀ (k0_h2 : k0_cond2 i v10 = 1#1), (k0_t162_loop v593 v595).OK) ∧
  (∀ (k0_t160 : Fin (k0_t160_loop v41 v43).trips) (k0_t162 : Fin (k0_t162_loop v593 v595).trips), ∀ (k0_h2 : k0_cond2 i v10 = 1#1), ∀ a, (k0_off2438 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2439 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2440 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2441 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2442 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2443 v41 v43 v593 v595 k0_t160 k0_t162) a + S1x16.size a ≤ S196x384.size a)
def k0_chk634_1 (i : grid0.Coords) (v10 : BitVec 32) (v41 : BitVec 32) (v43 : BitVec 32) (v593 : BitVec 32) (v595 : BitVec 32) : Prop :=
  (∀ (k0_t160 : Fin (k0_t160_loop v41 v43).trips) (k0_t162 : Fin (k0_t162_loop v593 v595).trips), ∀ (k0_h2 : k0_cond2 i v10 = 1#1), ∀ a, (k0_off2444 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2445 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2446 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2447 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2448 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2449 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2450 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2451 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2452 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2453 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2454 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2455 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2456 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2457 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2458 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2459 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2460 v41 v43 v593 v595 k0_t160 k0_t162) a + S1x16.size a ≤ S196x384.size a) ∧
  (∀ (k0_t160 : Fin (k0_t160_loop v41 v43).trips) (k0_t162 : Fin (k0_t162_loop v593 v595).trips), ∀ (k0_h2 : k0_cond2 i v10 = 1#1), ∀ a, (k0_off2461 v41 v43 v593 v595 k0_t160 k0_t162) a + S1x16.size a ≤ S196x384.size a) ∧
  (∀ k0_t163 : Fin (k0_t163_loop v41 v43).trips, ∀ (k0_h2 : k0_cond2 i v10 = 1#1), (k0_t164_loop v593 v595).OK) ∧
  (∀ (k0_t163 : Fin (k0_t163_loop v41 v43).trips) (k0_t164 : Fin (k0_t164_loop v593 v595).trips), ∀ (k0_h2 : k0_cond2 i v10 = 1#1), ∀ a, (k0_off2462 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2463 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2464 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2465 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2466 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2467 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2468 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2469 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2470 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2471 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2472 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2473 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2474 v41 v43 v593 v595 k0_t163 k0_t164) a + S1x16.size a ≤ S196x384.size a)
def k0_chk634_2 (i : grid0.Coords) (v10 : BitVec 32) (v41 : BitVec 32) (v43 : BitVec 32) (v593 : BitVec 32) (v595 : BitVec 32) : Prop :=
  (∀ (k0_t163 : Fin (k0_t163_loop v41 v43).trips) (k0_t164 : Fin (k0_t164_loop v593 v595).trips), ∀ (k0_h2 : k0_cond2 i v10 = 1#1), ∀ a, (k0_off2475 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2476 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2477 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2478 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2479 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2480 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2481 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2482 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2483 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2484 v41 v43 v593 v595 k0_t163 k0_t164) a + S1x16.size a ≤ S196x384.size a) ∧
  (∀ (k0_t163 : Fin (k0_t163_loop v41 v43).trips) (k0_t164 : Fin (k0_t164_loop v593 v595).trips), ∀ (k0_h2 : k0_cond2 i v10 = 1#1), ∀ a, (k0_off2485 v41 v43 v593 v595 k0_t163 k0_t164) a + S1x16.size a ≤ S196x384.size a) ∧
  (∀ k0_t163 : Fin (k0_t163_loop v41 v43).trips, ∀ (k0_h2 : k0_cond2 i v10 = 1#1), (k0_t165_loop v593 v595).OK) ∧
  (∀ (k0_t163 : Fin (k0_t163_loop v41 v43).trips) (k0_t165 : Fin (k0_t165_loop v593 v595).trips), ∀ (k0_h2 : k0_cond2 i v10 = 1#1), ∀ a, (k0_off2486 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2487 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2488 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2489 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2490 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2491 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2492 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2493 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2494 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2495 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2496 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2497 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2498 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2499 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2500 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2501 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2502 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2503 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2504 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2505 v41 v43 v593 v595 k0_t163 k0_t165) a + S1x16.size a ≤ S196x384.size a)
def k0_chk634_3 (i : grid0.Coords) (v10 : BitVec 32) (v41 : BitVec 32) (v43 : BitVec 32) (v593 : BitVec 32) (v595 : BitVec 32) : Prop :=
  (∀ (k0_t163 : Fin (k0_t163_loop v41 v43).trips) (k0_t165 : Fin (k0_t165_loop v593 v595).trips), ∀ (k0_h2 : k0_cond2 i v10 = 1#1), ∀ a, (k0_off2506 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2507 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2508 v41 v43 v593 v595 k0_t163 k0_t165) a + S1x16.size a ≤ S196x384.size a) ∧
  (∀ (k0_t163 : Fin (k0_t163_loop v41 v43).trips) (k0_t165 : Fin (k0_t165_loop v593 v595).trips), ∀ (k0_h2 : k0_cond2 i v10 = 1#1), ∀ a, (k0_off2509 v41 v43 v593 v595 k0_t163 k0_t165) a + S1x16.size a ≤ S196x384.size a)
def k0_chk634 (i : grid0.Coords) (v10 : BitVec 32) (v41 : BitVec 32) (v43 : BitVec 32) (v593 : BitVec 32) (v595 : BitVec 32) : Prop :=
  k0_chk634_0 i v10 v41 v43 v593 v595 ∧
  k0_chk634_1 i v10 v41 v43 v593 v595 ∧
  k0_chk634_2 i v10 v41 v43 v593 v595 ∧
  k0_chk634_3 i v10 v41 v43 v593 v595
theorem k0_t161_ok : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips), ∀ (k0_h2 : k0_cond2 i v10 = 1#1), (k0_t161_loop v593 v595).OK := fun i v10 v41 v43 v593 v595 k0_hw634 k0_t160 k0_h2 => k0_hw634.1.1 k0_t160 k0_h2
theorem k0_off2414_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2414 v41 v43 v593 v595 k0_t160 k0_t161) a + S1x16.size a ≤ S196x384.size a := fun i v10 v41 v43 v593 v595 k0_hw634 k0_t160 k0_t161 k0_h2 => k0_hw634.1.2.1 k0_t160 k0_t161 k0_h2
theorem k0_off2415_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2415 v41 v43 v593 v595 k0_t160 k0_t161) a + S1x16.size a ≤ S196x384.size a := fun i v10 v41 v43 v593 v595 k0_hw634 k0_t160 k0_t161 k0_h2 => k0_hw634.1.2.2.1 k0_t160 k0_t161 k0_h2
theorem k0_off2416_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2416 v41 v43 v593 v595 k0_t160 k0_t161) a + S1x16.size a ≤ S196x384.size a := fun i v10 v41 v43 v593 v595 k0_hw634 k0_t160 k0_t161 k0_h2 => k0_hw634.1.2.2.2.1 k0_t160 k0_t161 k0_h2
theorem k0_off2417_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2417 v41 v43 v593 v595 k0_t160 k0_t161) a + S1x16.size a ≤ S196x384.size a := fun i v10 v41 v43 v593 v595 k0_hw634 k0_t160 k0_t161 k0_h2 => k0_hw634.1.2.2.2.2.1 k0_t160 k0_t161 k0_h2
theorem k0_off2418_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2418 v41 v43 v593 v595 k0_t160 k0_t161) a + S1x16.size a ≤ S196x384.size a := fun i v10 v41 v43 v593 v595 k0_hw634 k0_t160 k0_t161 k0_h2 => k0_hw634.1.2.2.2.2.2.1 k0_t160 k0_t161 k0_h2
theorem k0_off2419_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2419 v41 v43 v593 v595 k0_t160 k0_t161) a + S1x16.size a ≤ S196x384.size a := fun i v10 v41 v43 v593 v595 k0_hw634 k0_t160 k0_t161 k0_h2 => k0_hw634.1.2.2.2.2.2.2.1 k0_t160 k0_t161 k0_h2
theorem k0_off2420_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2420 v41 v43 v593 v595 k0_t160 k0_t161) a + S1x16.size a ≤ S196x384.size a := fun i v10 v41 v43 v593 v595 k0_hw634 k0_t160 k0_t161 k0_h2 => k0_hw634.1.2.2.2.2.2.2.2.1 k0_t160 k0_t161 k0_h2
theorem k0_off2421_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2421 v41 v43 v593 v595 k0_t160 k0_t161) a + S1x16.size a ≤ S196x384.size a := fun i v10 v41 v43 v593 v595 k0_hw634 k0_t160 k0_t161 k0_h2 => k0_hw634.1.2.2.2.2.2.2.2.2.1 k0_t160 k0_t161 k0_h2
theorem k0_off2422_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2422 v41 v43 v593 v595 k0_t160 k0_t161) a + S1x16.size a ≤ S196x384.size a := fun i v10 v41 v43 v593 v595 k0_hw634 k0_t160 k0_t161 k0_h2 => k0_hw634.1.2.2.2.2.2.2.2.2.2.1 k0_t160 k0_t161 k0_h2
theorem k0_off2423_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2423 v41 v43 v593 v595 k0_t160 k0_t161) a + S1x16.size a ≤ S196x384.size a := fun i v10 v41 v43 v593 v595 k0_hw634 k0_t160 k0_t161 k0_h2 => k0_hw634.1.2.2.2.2.2.2.2.2.2.2.1 k0_t160 k0_t161 k0_h2
theorem k0_off2424_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2424 v41 v43 v593 v595 k0_t160 k0_t161) a + S1x16.size a ≤ S196x384.size a := fun i v10 v41 v43 v593 v595 k0_hw634 k0_t160 k0_t161 k0_h2 => k0_hw634.1.2.2.2.2.2.2.2.2.2.2.2.1 k0_t160 k0_t161 k0_h2
theorem k0_off2425_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2425 v41 v43 v593 v595 k0_t160 k0_t161) a + S1x16.size a ≤ S196x384.size a := fun i v10 v41 v43 v593 v595 k0_hw634 k0_t160 k0_t161 k0_h2 => k0_hw634.1.2.2.2.2.2.2.2.2.2.2.2.2.1 k0_t160 k0_t161 k0_h2
theorem k0_off2426_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2426 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.1 k0_t160 k0_t161 k0_h2
theorem k0_off2427_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2427 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.1 k0_t160 k0_t161 k0_h2
theorem k0_off2428_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2428 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.1 k0_t160 k0_t161 k0_h2
theorem k0_off2429_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2429 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.2.1 k0_t160 k0_t161 k0_h2
theorem k0_off2430_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2430 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.2.2.1 k0_t160 k0_t161 k0_h2
theorem k0_off2431_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2431 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.2.2.2.1 k0_t160 k0_t161 k0_h2
theorem k0_off2432_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2432 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.2.2.2.2.1 k0_t160 k0_t161 k0_h2
theorem k0_off2433_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2433 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.2.2.2.2.2.1 k0_t160 k0_t161 k0_h2
theorem k0_off2434_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2434 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.2.2.2.2.2.2.1 k0_t160 k0_t161 k0_h2
theorem k0_off2435_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2435 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.2.2.2.2.2.2.2.1 k0_t160 k0_t161 k0_h2
theorem k0_off2436_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2436 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.2.2.2.2.2.2.2.2.1 k0_t160 k0_t161 k0_h2
theorem k0_off2437_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t161 : Fin (k0_t161_loop v593 v595).trips), ∀ (k0_h2 : k0_cond2 i v10 = 1#1), ∀ a, (k0_off2437 v41 v43 v593 v595 k0_t160 k0_t161) a + S1x16.size a ≤ S196x384.size a := fun i v10 v41 v43 v593 v595 k0_hw634 k0_t160 k0_t161 k0_h2 => k0_hw634.1.2.2.2.2.2.2.2.2.2.2.2.2.2.2.2.2.2.2.2.2.2.2.2.2.1 k0_t160 k0_t161 k0_h2
theorem k0_t162_ok : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips), ∀ (k0_h2 : k0_cond2 i v10 = 1#1), (k0_t162_loop v593 v595).OK := fun i v10 v41 v43 v593 v595 k0_hw634 k0_t160 k0_h2 => k0_hw634.1.2.2.2.2.2.2.2.2.2.2.2.2.2.2.2.2.2.2.2.2.2.2.2.2.2.1 k0_t160 k0_h2
theorem k0_off2438_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2438 v41 v43 v593 v595 k0_t160 k0_t162) a + S1x16.size a ≤ S196x384.size a := fun i v10 v41 v43 v593 v595 k0_hw634 k0_t160 k0_t162 k0_h2 => k0_hw634.1.2.2.2.2.2.2.2.2.2.2.2.2.2.2.2.2.2.2.2.2.2.2.2.2.2.2.1 k0_t160 k0_t162 k0_h2
theorem k0_off2439_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2439 v41 v43 v593 v595 k0_t160 k0_t162) a + S1x16.size a ≤ S196x384.size a := fun i v10 v41 v43 v593 v595 k0_hw634 k0_t160 k0_t162 k0_h2 => k0_hw634.1.2.2.2.2.2.2.2.2.2.2.2.2.2.2.2.2.2.2.2.2.2.2.2.2.2.2.2.1 k0_t160 k0_t162 k0_h2
theorem k0_off2440_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2440 v41 v43 v593 v595 k0_t160 k0_t162) a + S1x16.size a ≤ S196x384.size a := fun i v10 v41 v43 v593 v595 k0_hw634 k0_t160 k0_t162 k0_h2 => k0_hw634.1.2.2.2.2.2.2.2.2.2.2.2.2.2.2.2.2.2.2.2.2.2.2.2.2.2.2.2.2.1 k0_t160 k0_t162 k0_h2
theorem k0_off2441_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2441 v41 v43 v593 v595 k0_t160 k0_t162) a + S1x16.size a ≤ S196x384.size a := fun i v10 v41 v43 v593 v595 k0_hw634 k0_t160 k0_t162 k0_h2 => k0_hw634.1.2.2.2.2.2.2.2.2.2.2.2.2.2.2.2.2.2.2.2.2.2.2.2.2.2.2.2.2.2.1 k0_t160 k0_t162 k0_h2
theorem k0_off2442_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2442 v41 v43 v593 v595 k0_t160 k0_t162) a + S1x16.size a ≤ S196x384.size a := fun i v10 v41 v43 v593 v595 k0_hw634 k0_t160 k0_t162 k0_h2 => k0_hw634.1.2.2.2.2.2.2.2.2.2.2.2.2.2.2.2.2.2.2.2.2.2.2.2.2.2.2.2.2.2.2.1 k0_t160 k0_t162 k0_h2
theorem k0_off2443_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2443 v41 v43 v593 v595 k0_t160 k0_t162) a + S1x16.size a ≤ S196x384.size a := fun i v10 v41 v43 v593 v595 k0_hw634 k0_t160 k0_t162 k0_h2 => k0_hw634.1.2.2.2.2.2.2.2.2.2.2.2.2.2.2.2.2.2.2.2.2.2.2.2.2.2.2.2.2.2.2.2 k0_t160 k0_t162 k0_h2
theorem k0_off2444_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2444 v41 v43 v593 v595 k0_t160 k0_t162) a + S1x16.size a ≤ S196x384.size a := fun i v10 v41 v43 v593 v595 k0_hw634 k0_t160 k0_t162 k0_h2 => k0_hw634.2.1.1 k0_t160 k0_t162 k0_h2
theorem k0_off2445_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2445 v41 v43 v593 v595 k0_t160 k0_t162) a + S1x16.size a ≤ S196x384.size a := fun i v10 v41 v43 v593 v595 k0_hw634 k0_t160 k0_t162 k0_h2 => k0_hw634.2.1.2.1 k0_t160 k0_t162 k0_h2
theorem k0_off2446_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2446 v41 v43 v593 v595 k0_t160 k0_t162) a + S1x16.size a ≤ S196x384.size a := fun i v10 v41 v43 v593 v595 k0_hw634 k0_t160 k0_t162 k0_h2 => k0_hw634.2.1.2.2.1 k0_t160 k0_t162 k0_h2
theorem k0_off2447_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2447 v41 v43 v593 v595 k0_t160 k0_t162) a + S1x16.size a ≤ S196x384.size a := fun i v10 v41 v43 v593 v595 k0_hw634 k0_t160 k0_t162 k0_h2 => k0_hw634.2.1.2.2.2.1 k0_t160 k0_t162 k0_h2
theorem k0_off2448_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2448 v41 v43 v593 v595 k0_t160 k0_t162) a + S1x16.size a ≤ S196x384.size a := fun i v10 v41 v43 v593 v595 k0_hw634 k0_t160 k0_t162 k0_h2 => k0_hw634.2.1.2.2.2.2.1 k0_t160 k0_t162 k0_h2
theorem k0_off2449_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2449 v41 v43 v593 v595 k0_t160 k0_t162) a + S1x16.size a ≤ S196x384.size a := fun i v10 v41 v43 v593 v595 k0_hw634 k0_t160 k0_t162 k0_h2 => k0_hw634.2.1.2.2.2.2.2.1 k0_t160 k0_t162 k0_h2
theorem k0_off2450_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2450 v41 v43 v593 v595 k0_t160 k0_t162) a + S1x16.size a ≤ S196x384.size a := fun i v10 v41 v43 v593 v595 k0_hw634 k0_t160 k0_t162 k0_h2 => k0_hw634.2.1.2.2.2.2.2.2.1 k0_t160 k0_t162 k0_h2
theorem k0_off2451_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2451 v41 v43 v593 v595 k0_t160 k0_t162) a + S1x16.size a ≤ S196x384.size a := fun i v10 v41 v43 v593 v595 k0_hw634 k0_t160 k0_t162 k0_h2 => k0_hw634.2.1.2.2.2.2.2.2.2.1 k0_t160 k0_t162 k0_h2
theorem k0_off2452_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2452 v41 v43 v593 v595 k0_t160 k0_t162) a + S1x16.size a ≤ S196x384.size a := fun i v10 v41 v43 v593 v595 k0_hw634 k0_t160 k0_t162 k0_h2 => k0_hw634.2.1.2.2.2.2.2.2.2.2.1 k0_t160 k0_t162 k0_h2
theorem k0_off2453_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2453 v41 v43 v593 v595 k0_t160 k0_t162) a + S1x16.size a ≤ S196x384.size a := fun i v10 v41 v43 v593 v595 k0_hw634 k0_t160 k0_t162 k0_h2 => k0_hw634.2.1.2.2.2.2.2.2.2.2.2.1 k0_t160 k0_t162 k0_h2
theorem k0_off2454_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2454 v41 v43 v593 v595 k0_t160 k0_t162) a + S1x16.size a ≤ S196x384.size a := fun i v10 v41 v43 v593 v595 k0_hw634 k0_t160 k0_t162 k0_h2 => k0_hw634.2.1.2.2.2.2.2.2.2.2.2.2.1 k0_t160 k0_t162 k0_h2
theorem k0_off2455_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2455 v41 v43 v593 v595 k0_t160 k0_t162) a + S1x16.size a ≤ S196x384.size a := fun i v10 v41 v43 v593 v595 k0_hw634 k0_t160 k0_t162 k0_h2 => k0_hw634.2.1.2.2.2.2.2.2.2.2.2.2.2.1 k0_t160 k0_t162 k0_h2
theorem k0_off2456_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2456 v41 v43 v593 v595 k0_t160 k0_t162) a + S1x16.size a ≤ S196x384.size a := fun i v10 v41 v43 v593 v595 k0_hw634 k0_t160 k0_t162 k0_h2 => k0_hw634.2.1.2.2.2.2.2.2.2.2.2.2.2.2.1 k0_t160 k0_t162 k0_h2
theorem k0_off2457_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2457 v41 v43 v593 v595 k0_t160 k0_t162) a + S1x16.size a ≤ S196x384.size a := fun i v10 v41 v43 v593 v595 k0_hw634 k0_t160 k0_t162 k0_h2 => k0_hw634.2.1.2.2.2.2.2.2.2.2.2.2.2.2.2.1 k0_t160 k0_t162 k0_h2
theorem k0_off2458_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2458 v41 v43 v593 v595 k0_t160 k0_t162) a + S1x16.size a ≤ S196x384.size a := fun i v10 v41 v43 v593 v595 k0_hw634 k0_t160 k0_t162 k0_h2 => k0_hw634.2.1.2.2.2.2.2.2.2.2.2.2.2.2.2.2.1 k0_t160 k0_t162 k0_h2
theorem k0_off2459_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2459 v41 v43 v593 v595 k0_t160 k0_t162) a + S1x16.size a ≤ S196x384.size a := fun i v10 v41 v43 v593 v595 k0_hw634 k0_t160 k0_t162 k0_h2 => k0_hw634.2.1.2.2.2.2.2.2.2.2.2.2.2.2.2.2.2.1 k0_t160 k0_t162 k0_h2
theorem k0_off2460_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2460 v41 v43 v593 v595 k0_t160 k0_t162) a + S1x16.size a ≤ S196x384.size a := fun i v10 v41 v43 v593 v595 k0_hw634 k0_t160 k0_t162 k0_h2 => k0_hw634.2.1.2.2.2.2.2.2.2.2.2.2.2.2.2.2.2.2.1 k0_t160 k0_t162 k0_h2
theorem k0_off2461_inb : ∀ (i : grid0.Coords) (v10 : BitVec 32) (v41 : BitVec 32) (v43 : BitVec 32) (v593 : BitVec 32) (v595 : BitVec 32) (k0_hw634 : k0_chk634 i v10 v41 v43 v593 v595) (k0_t160 : Fin (k0_t160_loop v41 v43).trips) (k0_t162 : Fin (k0_t162_loop v593 v595).trips), ∀ (k0_h2 : k0_cond2 i v10 = 1#1), ∀ a, (k0_off2461 v41 v43 v593 v595 k0_t160 k0_t162) a + S1x16.size a ≤ S196x384.size a := fun i v10 v41 v43 v593 v595 k0_hw634 k0_t160 k0_t162 k0_h2 => k0_hw634.2.1.2.2.2.2.2.2.2.2.2.2.2.2.2.2.2.2.2.1 k0_t160 k0_t162 k0_h2
theorem k0_t164_ok : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips), ∀ (k0_h2 : k0_cond2 i v10 = 1#1), (k0_t164_loop v593 v595).OK := fun i v10 v41 v43 v593 v595 k0_hw634 k0_t163 k0_h2 => k0_hw634.2.1.2.2.2.2.2.2.2.2.2.2.2.2.2.2.2.2.2.2.1 k0_t163 k0_h2
theorem k0_off2462_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2462 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.1 k0_t163 k0_t164 k0_h2
theorem k0_off2463_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2463 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.1 k0_t163 k0_t164 k0_h2
theorem k0_off2464_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2464 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.1 k0_t163 k0_t164 k0_h2
theorem k0_off2465_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2465 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.1 k0_t163 k0_t164 k0_h2
theorem k0_off2466_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2466 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.2.1 k0_t163 k0_t164 k0_h2
theorem k0_off2467_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2467 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.2.2.1 k0_t163 k0_t164 k0_h2
theorem k0_off2468_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2468 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.2.2.2.1 k0_t163 k0_t164 k0_h2
theorem k0_off2469_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2469 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.2.2.2.2.1 k0_t163 k0_t164 k0_h2
theorem k0_off2470_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2470 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.2.2.2.2.2.1 k0_t163 k0_t164 k0_h2
theorem k0_off2471_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2471 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.2.2.2.2.2.2.1 k0_t163 k0_t164 k0_h2
theorem k0_off2472_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2472 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.2.2.2.2.2.2.2.1 k0_t163 k0_t164 k0_h2
theorem k0_off2473_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2473 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.2.2.2.2.2.2.2.2.1 k0_t163 k0_t164 k0_h2
theorem k0_off2474_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2474 v41 v43 v593 v595 k0_t163 k0_t164) a + S1x16.size a ≤ S196x384.size a := fun i v10 v41 v43 v593 v595 k0_hw634 k0_t163 k0_t164 k0_h2 => k0_hw634.2.1.2.2.2.2.2.2.2.2.2.2.2.2.2.2.2.2.2.2.2.2.2.2.2.2.2.2.2.2.2.2.2 k0_t163 k0_t164 k0_h2
theorem k0_off2475_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2475 v41 v43 v593 v595 k0_t163 k0_t164) a + S1x16.size a ≤ S196x384.size a := fun i v10 v41 v43 v593 v595 k0_hw634 k0_t163 k0_t164 k0_h2 => k0_hw634.2.2.1.1 k0_t163 k0_t164 k0_h2
theorem k0_off2476_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2476 v41 v43 v593 v595 k0_t163 k0_t164) a + S1x16.size a ≤ S196x384.size a := fun i v10 v41 v43 v593 v595 k0_hw634 k0_t163 k0_t164 k0_h2 => k0_hw634.2.2.1.2.1 k0_t163 k0_t164 k0_h2
theorem k0_off2477_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2477 v41 v43 v593 v595 k0_t163 k0_t164) a + S1x16.size a ≤ S196x384.size a := fun i v10 v41 v43 v593 v595 k0_hw634 k0_t163 k0_t164 k0_h2 => k0_hw634.2.2.1.2.2.1 k0_t163 k0_t164 k0_h2
theorem k0_off2478_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2478 v41 v43 v593 v595 k0_t163 k0_t164) a + S1x16.size a ≤ S196x384.size a := fun i v10 v41 v43 v593 v595 k0_hw634 k0_t163 k0_t164 k0_h2 => k0_hw634.2.2.1.2.2.2.1 k0_t163 k0_t164 k0_h2
theorem k0_off2479_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2479 v41 v43 v593 v595 k0_t163 k0_t164) a + S1x16.size a ≤ S196x384.size a := fun i v10 v41 v43 v593 v595 k0_hw634 k0_t163 k0_t164 k0_h2 => k0_hw634.2.2.1.2.2.2.2.1 k0_t163 k0_t164 k0_h2
theorem k0_off2480_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2480 v41 v43 v593 v595 k0_t163 k0_t164) a + S1x16.size a ≤ S196x384.size a := fun i v10 v41 v43 v593 v595 k0_hw634 k0_t163 k0_t164 k0_h2 => k0_hw634.2.2.1.2.2.2.2.2.1 k0_t163 k0_t164 k0_h2
theorem k0_off2481_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2481 v41 v43 v593 v595 k0_t163 k0_t164) a + S1x16.size a ≤ S196x384.size a := fun i v10 v41 v43 v593 v595 k0_hw634 k0_t163 k0_t164 k0_h2 => k0_hw634.2.2.1.2.2.2.2.2.2.1 k0_t163 k0_t164 k0_h2
theorem k0_off2482_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2482 v41 v43 v593 v595 k0_t163 k0_t164) a + S1x16.size a ≤ S196x384.size a := fun i v10 v41 v43 v593 v595 k0_hw634 k0_t163 k0_t164 k0_h2 => k0_hw634.2.2.1.2.2.2.2.2.2.2.1 k0_t163 k0_t164 k0_h2
theorem k0_off2483_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2483 v41 v43 v593 v595 k0_t163 k0_t164) a + S1x16.size a ≤ S196x384.size a := fun i v10 v41 v43 v593 v595 k0_hw634 k0_t163 k0_t164 k0_h2 => k0_hw634.2.2.1.2.2.2.2.2.2.2.2.1 k0_t163 k0_t164 k0_h2
theorem k0_off2484_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2484 v41 v43 v593 v595 k0_t163 k0_t164) a + S1x16.size a ≤ S196x384.size a := fun i v10 v41 v43 v593 v595 k0_hw634 k0_t163 k0_t164 k0_h2 => k0_hw634.2.2.1.2.2.2.2.2.2.2.2.2.1 k0_t163 k0_t164 k0_h2
theorem k0_off2485_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t164 : Fin (k0_t164_loop v593 v595).trips), ∀ (k0_h2 : k0_cond2 i v10 = 1#1), ∀ a, (k0_off2485 v41 v43 v593 v595 k0_t163 k0_t164) a + S1x16.size a ≤ S196x384.size a := fun i v10 v41 v43 v593 v595 k0_hw634 k0_t163 k0_t164 k0_h2 => k0_hw634.2.2.1.2.2.2.2.2.2.2.2.2.2.1 k0_t163 k0_t164 k0_h2
theorem k0_t165_ok : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips), ∀ (k0_h2 : k0_cond2 i v10 = 1#1), (k0_t165_loop v593 v595).OK := fun i v10 v41 v43 v593 v595 k0_hw634 k0_t163 k0_h2 => k0_hw634.2.2.1.2.2.2.2.2.2.2.2.2.2.2.1 k0_t163 k0_h2
theorem k0_off2486_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2486 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.1 k0_t163 k0_t165 k0_h2
theorem k0_off2487_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2487 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.1 k0_t163 k0_t165 k0_h2
theorem k0_off2488_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2488 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.1 k0_t163 k0_t165 k0_h2
theorem k0_off2489_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2489 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.1 k0_t163 k0_t165 k0_h2
theorem k0_off2490_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2490 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.1 k0_t163 k0_t165 k0_h2
theorem k0_off2491_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2491 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.1 k0_t163 k0_t165 k0_h2
theorem k0_off2492_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2492 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.1 k0_t163 k0_t165 k0_h2
theorem k0_off2493_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2493 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.1 k0_t163 k0_t165 k0_h2
theorem k0_off2494_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2494 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.1 k0_t163 k0_t165 k0_h2
theorem k0_off2495_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2495 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.1 k0_t163 k0_t165 k0_h2
theorem k0_off2496_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2496 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.1 k0_t163 k0_t165 k0_h2
theorem k0_off2497_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2497 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.2.1 k0_t163 k0_t165 k0_h2
theorem k0_off2498_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2498 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.2.2.1 k0_t163 k0_t165 k0_h2
theorem k0_off2499_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2499 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.2.2.2.1 k0_t163 k0_t165 k0_h2
theorem k0_off2500_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2500 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.2.2.2.2.1 k0_t163 k0_t165 k0_h2
theorem k0_off2501_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2501 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.2.2.2.2.2.1 k0_t163 k0_t165 k0_h2
theorem k0_off2502_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2502 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.2.2.2.2.2.2.1 k0_t163 k0_t165 k0_h2
theorem k0_off2503_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2503 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.2.2.2.2.2.2.2.1 k0_t163 k0_t165 k0_h2
theorem k0_off2504_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2504 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.2.2.2.2.2.2.2.2.1 k0_t163 k0_t165 k0_h2
theorem k0_off2505_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2505 v41 v43 v593 v595 k0_t163 k0_t165) a + S1x16.size a ≤ S196x384.size a := fun i v10 v41 v43 v593 v595 k0_hw634 k0_t163 k0_t165 k0_h2 => k0_hw634.2.2.1.2.2.2.2.2.2.2.2.2.2.2.2.2.2.2.2.2.2.2.2.2.2.2.2.2.2.2.2.2.2.2 k0_t163 k0_t165 k0_h2
theorem k0_off2506_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2506 v41 v43 v593 v595 k0_t163 k0_t165) a + S1x16.size a ≤ S196x384.size a := fun i v10 v41 v43 v593 v595 k0_hw634 k0_t163 k0_t165 k0_h2 => k0_hw634.2.2.2.1 k0_t163 k0_t165 k0_h2
theorem k0_off2507_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2507 v41 v43 v593 v595 k0_t163 k0_t165) a + S1x16.size a ≤ S196x384.size a := fun i v10 v41 v43 v593 v595 k0_hw634 k0_t163 k0_t165 k0_h2 => k0_hw634.2.2.2.2.1 k0_t163 k0_t165 k0_h2
theorem k0_off2508_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2508 v41 v43 v593 v595 k0_t163 k0_t165) a + S1x16.size a ≤ S196x384.size a := fun i v10 v41 v43 v593 v595 k0_hw634 k0_t163 k0_t165 k0_h2 => k0_hw634.2.2.2.2.2.1 k0_t163 k0_t165 k0_h2
theorem k0_off2509_inb : ∀ (i : grid0.Coords) (v10 : BitVec 32) (v41 : BitVec 32) (v43 : BitVec 32) (v593 : BitVec 32) (v595 : BitVec 32) (k0_hw634 : k0_chk634 i v10 v41 v43 v593 v595) (k0_t163 : Fin (k0_t163_loop v41 v43).trips) (k0_t165 : Fin (k0_t165_loop v593 v595).trips), ∀ (k0_h2 : k0_cond2 i v10 = 1#1), ∀ a, (k0_off2509 v41 v43 v593 v595 k0_t163 k0_t165) a + S1x16.size a ≤ S196x384.size a := fun i v10 v41 v43 v593 v595 k0_hw634 k0_t163 k0_t165 k0_h2 => k0_hw634.2.2.2.2.2.2 k0_t163 k0_t165 k0_h2

def k0_chk635 (i : grid0.Coords) (v10 : BitVec 32) (v613 : IVec S16 32) : Prop :=
  (∀ (k0_h2 : k0_cond2 i v10 = 1#1), ∀ a x, ((![v613] : Fin 1 → IVec S16 32) a x).toNat < S18816.size a)
theorem k0_idx601_inb : ∀ (i : grid0.Coords) (v10 : BitVec 32) (v613 : IVec S16 32) (k0_hw635 : k0_chk635 i v10 v613), ∀ (k0_h2 : k0_cond2 i v10 = 1#1), ∀ a x, ((![v613] : Fin 1 → IVec S16 32) a x).toNat < S18816.size a := fun i v10 v613 k0_hw635 k0_h2 => k0_hw635 k0_h2

def k0_chk636 (i : grid0.Coords) (v10 : BitVec 32) (v618 : IVec S16 32) : Prop :=
  (∀ (k0_h2 : k0_cond2 i v10 = 1#1), ∀ a x, ((![v618] : Fin 1 → IVec S16 32) a x).toNat < S18816.size a)
theorem k0_idx602_inb : ∀ (i : grid0.Coords) (v10 : BitVec 32) (v618 : IVec S16 32) (k0_hw636 : k0_chk636 i v10 v618), ∀ (k0_h2 : k0_cond2 i v10 = 1#1), ∀ a x, ((![v618] : Fin 1 → IVec S16 32) a x).toNat < S18816.size a := fun i v10 v618 k0_hw636 k0_h2 => k0_hw636 k0_h2

def k0_chk637 (i : grid0.Coords) (v10 : BitVec 32) (v623 : IVec S16 32) : Prop :=
  (∀ (k0_h2 : k0_cond2 i v10 = 1#1), ∀ a x, ((![v623] : Fin 1 → IVec S16 32) a x).toNat < S18816.size a)
theorem k0_idx603_inb : ∀ (i : grid0.Coords) (v10 : BitVec 32) (v623 : IVec S16 32) (k0_hw637 : k0_chk637 i v10 v623), ∀ (k0_h2 : k0_cond2 i v10 = 1#1), ∀ a x, ((![v623] : Fin 1 → IVec S16 32) a x).toNat < S18816.size a := fun i v10 v623 k0_hw637 k0_h2 => k0_hw637 k0_h2

def k0_chk638 (i : grid0.Coords) (v10 : BitVec 32) (v628 : IVec S16 32) : Prop :=
  (∀ (k0_h2 : k0_cond2 i v10 = 1#1), ∀ a x, ((![v628] : Fin 1 → IVec S16 32) a x).toNat < S18816.size a)
theorem k0_idx604_inb : ∀ (i : grid0.Coords) (v10 : BitVec 32) (v628 : IVec S16 32) (k0_hw638 : k0_chk638 i v10 v628), ∀ (k0_h2 : k0_cond2 i v10 = 1#1), ∀ a x, ((![v628] : Fin 1 → IVec S16 32) a x).toNat < S18816.size a := fun i v10 v628 k0_hw638 k0_h2 => k0_hw638 k0_h2

def k0_chk639 (i : grid0.Coords) (v10 : BitVec 32) (v633 : IVec S16 32) : Prop :=
  (∀ (k0_h2 : k0_cond2 i v10 = 1#1), ∀ a x, ((![v633] : Fin 1 → IVec S16 32) a x).toNat < S18816.size a)
theorem k0_idx605_inb : ∀ (i : grid0.Coords) (v10 : BitVec 32) (v633 : IVec S16 32) (k0_hw639 : k0_chk639 i v10 v633), ∀ (k0_h2 : k0_cond2 i v10 = 1#1), ∀ a x, ((![v633] : Fin 1 → IVec S16 32) a x).toNat < S18816.size a := fun i v10 v633 k0_hw639 k0_h2 => k0_hw639 k0_h2

def k0_chk640 (i : grid0.Coords) (v10 : BitVec 32) (v638 : IVec S16 32) : Prop :=
  (∀ (k0_h2 : k0_cond2 i v10 = 1#1), ∀ a x, ((![v638] : Fin 1 → IVec S16 32) a x).toNat < S18816.size a)
theorem k0_idx606_inb : ∀ (i : grid0.Coords) (v10 : BitVec 32) (v638 : IVec S16 32) (k0_hw640 : k0_chk640 i v10 v638), ∀ (k0_h2 : k0_cond2 i v10 = 1#1), ∀ a x, ((![v638] : Fin 1 → IVec S16 32) a x).toNat < S18816.size a := fun i v10 v638 k0_hw640 k0_h2 => k0_hw640 k0_h2

def k0_chk641 (i : grid0.Coords) (v10 : BitVec 32) (v643 : IVec S16 32) : Prop :=
  (∀ (k0_h2 : k0_cond2 i v10 = 1#1), ∀ a x, ((![v643] : Fin 1 → IVec S16 32) a x).toNat < S18816.size a)
theorem k0_idx607_inb : ∀ (i : grid0.Coords) (v10 : BitVec 32) (v643 : IVec S16 32) (k0_hw641 : k0_chk641 i v10 v643), ∀ (k0_h2 : k0_cond2 i v10 = 1#1), ∀ a x, ((![v643] : Fin 1 → IVec S16 32) a x).toNat < S18816.size a := fun i v10 v643 k0_hw641 k0_h2 => k0_hw641 k0_h2

def k0_chk642 (i : grid0.Coords) (v10 : BitVec 32) (v648 : IVec S16 32) : Prop :=
  (∀ (k0_h2 : k0_cond2 i v10 = 1#1), ∀ a x, ((![v648] : Fin 1 → IVec S16 32) a x).toNat < S18816.size a)
theorem k0_idx608_inb : ∀ (i : grid0.Coords) (v10 : BitVec 32) (v648 : IVec S16 32) (k0_hw642 : k0_chk642 i v10 v648), ∀ (k0_h2 : k0_cond2 i v10 = 1#1), ∀ a x, ((![v648] : Fin 1 → IVec S16 32) a x).toNat < S18816.size a := fun i v10 v648 k0_hw642 k0_h2 => k0_hw642 k0_h2

def k0_chk643 (i : grid0.Coords) (v10 : BitVec 32) (v653 : IVec S16 32) : Prop :=
  (∀ (k0_h2 : k0_cond2 i v10 = 1#1), ∀ a x, ((![v653] : Fin 1 → IVec S16 32) a x).toNat < S18816.size a)
theorem k0_idx609_inb : ∀ (i : grid0.Coords) (v10 : BitVec 32) (v653 : IVec S16 32) (k0_hw643 : k0_chk643 i v10 v653), ∀ (k0_h2 : k0_cond2 i v10 = 1#1), ∀ a x, ((![v653] : Fin 1 → IVec S16 32) a x).toNat < S18816.size a := fun i v10 v653 k0_hw643 k0_h2 => k0_hw643 k0_h2

def k0_chk644 (i : grid0.Coords) (v10 : BitVec 32) (v658 : IVec S16 32) : Prop :=
  (∀ (k0_h2 : k0_cond2 i v10 = 1#1), ∀ a x, ((![v658] : Fin 1 → IVec S16 32) a x).toNat < S18816.size a)
theorem k0_idx610_inb : ∀ (i : grid0.Coords) (v10 : BitVec 32) (v658 : IVec S16 32) (k0_hw644 : k0_chk644 i v10 v658), ∀ (k0_h2 : k0_cond2 i v10 = 1#1), ∀ a x, ((![v658] : Fin 1 → IVec S16 32) a x).toNat < S18816.size a := fun i v10 v658 k0_hw644 k0_h2 => k0_hw644 k0_h2

def k0_chk645 (i : grid0.Coords) (v10 : BitVec 32) (v663 : IVec S16 32) : Prop :=
  (∀ (k0_h2 : k0_cond2 i v10 = 1#1), ∀ a x, ((![v663] : Fin 1 → IVec S16 32) a x).toNat < S18816.size a)
theorem k0_idx611_inb : ∀ (i : grid0.Coords) (v10 : BitVec 32) (v663 : IVec S16 32) (k0_hw645 : k0_chk645 i v10 v663), ∀ (k0_h2 : k0_cond2 i v10 = 1#1), ∀ a x, ((![v663] : Fin 1 → IVec S16 32) a x).toNat < S18816.size a := fun i v10 v663 k0_hw645 k0_h2 => k0_hw645 k0_h2

def k0_chk646 (i : grid0.Coords) (v10 : BitVec 32) (v668 : IVec S16 32) : Prop :=
  (∀ (k0_h2 : k0_cond2 i v10 = 1#1), ∀ a x, ((![v668] : Fin 1 → IVec S16 32) a x).toNat < S18816.size a)
theorem k0_idx612_inb : ∀ (i : grid0.Coords) (v10 : BitVec 32) (v668 : IVec S16 32) (k0_hw646 : k0_chk646 i v10 v668), ∀ (k0_h2 : k0_cond2 i v10 = 1#1), ∀ a x, ((![v668] : Fin 1 → IVec S16 32) a x).toNat < S18816.size a := fun i v10 v668 k0_hw646 k0_h2 => k0_hw646 k0_h2

def k0_chk647 (i : grid0.Coords) (v10 : BitVec 32) (v673 : IVec S16 32) : Prop :=
  (∀ (k0_h2 : k0_cond2 i v10 = 1#1), ∀ a x, ((![v673] : Fin 1 → IVec S16 32) a x).toNat < S18816.size a)
theorem k0_idx613_inb : ∀ (i : grid0.Coords) (v10 : BitVec 32) (v673 : IVec S16 32) (k0_hw647 : k0_chk647 i v10 v673), ∀ (k0_h2 : k0_cond2 i v10 = 1#1), ∀ a x, ((![v673] : Fin 1 → IVec S16 32) a x).toNat < S18816.size a := fun i v10 v673 k0_hw647 k0_h2 => k0_hw647 k0_h2

def k0_chk648 (i : grid0.Coords) (v10 : BitVec 32) (v678 : IVec S16 32) : Prop :=
  (∀ (k0_h2 : k0_cond2 i v10 = 1#1), ∀ a x, ((![v678] : Fin 1 → IVec S16 32) a x).toNat < S18816.size a)
theorem k0_idx614_inb : ∀ (i : grid0.Coords) (v10 : BitVec 32) (v678 : IVec S16 32) (k0_hw648 : k0_chk648 i v10 v678), ∀ (k0_h2 : k0_cond2 i v10 = 1#1), ∀ a x, ((![v678] : Fin 1 → IVec S16 32) a x).toNat < S18816.size a := fun i v10 v678 k0_hw648 k0_h2 => k0_hw648 k0_h2

def k0_chk649 (i : grid0.Coords) (v10 : BitVec 32) (v683 : IVec S16 32) : Prop :=
  (∀ (k0_h2 : k0_cond2 i v10 = 1#1), ∀ a x, ((![v683] : Fin 1 → IVec S16 32) a x).toNat < S18816.size a)
theorem k0_idx615_inb : ∀ (i : grid0.Coords) (v10 : BitVec 32) (v683 : IVec S16 32) (k0_hw649 : k0_chk649 i v10 v683), ∀ (k0_h2 : k0_cond2 i v10 = 1#1), ∀ a x, ((![v683] : Fin 1 → IVec S16 32) a x).toNat < S18816.size a := fun i v10 v683 k0_hw649 k0_h2 => k0_hw649 k0_h2

def k0_chk650 (i : grid0.Coords) (v10 : BitVec 32) (v688 : IVec S16 32) : Prop :=
  (∀ (k0_h2 : k0_cond2 i v10 = 1#1), ∀ a x, ((![v688] : Fin 1 → IVec S16 32) a x).toNat < S18816.size a)
theorem k0_idx616_inb : ∀ (i : grid0.Coords) (v10 : BitVec 32) (v688 : IVec S16 32) (k0_hw650 : k0_chk650 i v10 v688), ∀ (k0_h2 : k0_cond2 i v10 = 1#1), ∀ a x, ((![v688] : Fin 1 → IVec S16 32) a x).toNat < S18816.size a := fun i v10 v688 k0_hw650 k0_h2 => k0_hw650 k0_h2

def k0_chk651 (i : grid0.Coords) (v10 : BitVec 32) (v693 : IVec S16 32) : Prop :=
  (∀ (k0_h2 : k0_cond2 i v10 = 1#1), ∀ a x, ((![v693] : Fin 1 → IVec S16 32) a x).toNat < S18816.size a)
theorem k0_idx617_inb : ∀ (i : grid0.Coords) (v10 : BitVec 32) (v693 : IVec S16 32) (k0_hw651 : k0_chk651 i v10 v693), ∀ (k0_h2 : k0_cond2 i v10 = 1#1), ∀ a x, ((![v693] : Fin 1 → IVec S16 32) a x).toNat < S18816.size a := fun i v10 v693 k0_hw651 k0_h2 => k0_hw651 k0_h2

def k0_chk652 (i : grid0.Coords) (v10 : BitVec 32) (v698 : IVec S16 32) : Prop :=
  (∀ (k0_h2 : k0_cond2 i v10 = 1#1), ∀ a x, ((![v698] : Fin 1 → IVec S16 32) a x).toNat < S18816.size a)
theorem k0_idx618_inb : ∀ (i : grid0.Coords) (v10 : BitVec 32) (v698 : IVec S16 32) (k0_hw652 : k0_chk652 i v10 v698), ∀ (k0_h2 : k0_cond2 i v10 = 1#1), ∀ a x, ((![v698] : Fin 1 → IVec S16 32) a x).toNat < S18816.size a := fun i v10 v698 k0_hw652 k0_h2 => k0_hw652 k0_h2

def k0_chk653 (i : grid0.Coords) (v10 : BitVec 32) (v703 : IVec S16 32) : Prop :=
  (∀ (k0_h2 : k0_cond2 i v10 = 1#1), ∀ a x, ((![v703] : Fin 1 → IVec S16 32) a x).toNat < S18816.size a)
theorem k0_idx619_inb : ∀ (i : grid0.Coords) (v10 : BitVec 32) (v703 : IVec S16 32) (k0_hw653 : k0_chk653 i v10 v703), ∀ (k0_h2 : k0_cond2 i v10 = 1#1), ∀ a x, ((![v703] : Fin 1 → IVec S16 32) a x).toNat < S18816.size a := fun i v10 v703 k0_hw653 k0_h2 => k0_hw653 k0_h2

def k0_chk654 (i : grid0.Coords) (v10 : BitVec 32) (v708 : IVec S16 32) : Prop :=
  (∀ (k0_h2 : k0_cond2 i v10 = 1#1), ∀ a x, ((![v708] : Fin 1 → IVec S16 32) a x).toNat < S18816.size a)
theorem k0_idx620_inb : ∀ (i : grid0.Coords) (v10 : BitVec 32) (v708 : IVec S16 32) (k0_hw654 : k0_chk654 i v10 v708), ∀ (k0_h2 : k0_cond2 i v10 = 1#1), ∀ a x, ((![v708] : Fin 1 → IVec S16 32) a x).toNat < S18816.size a := fun i v10 v708 k0_hw654 k0_h2 => k0_hw654 k0_h2

def k0_chk655 (i : grid0.Coords) (v10 : BitVec 32) (v713 : IVec S16 32) : Prop :=
  (∀ (k0_h2 : k0_cond2 i v10 = 1#1), ∀ a x, ((![v713] : Fin 1 → IVec S16 32) a x).toNat < S18816.size a)
theorem k0_idx621_inb : ∀ (i : grid0.Coords) (v10 : BitVec 32) (v713 : IVec S16 32) (k0_hw655 : k0_chk655 i v10 v713), ∀ (k0_h2 : k0_cond2 i v10 = 1#1), ∀ a x, ((![v713] : Fin 1 → IVec S16 32) a x).toNat < S18816.size a := fun i v10 v713 k0_hw655 k0_h2 => k0_hw655 k0_h2

def k0_chk656 (i : grid0.Coords) (v10 : BitVec 32) (v718 : IVec S16 32) : Prop :=
  (∀ (k0_h2 : k0_cond2 i v10 = 1#1), ∀ a x, ((![v718] : Fin 1 → IVec S16 32) a x).toNat < S18816.size a)
theorem k0_idx622_inb : ∀ (i : grid0.Coords) (v10 : BitVec 32) (v718 : IVec S16 32) (k0_hw656 : k0_chk656 i v10 v718), ∀ (k0_h2 : k0_cond2 i v10 = 1#1), ∀ a x, ((![v718] : Fin 1 → IVec S16 32) a x).toNat < S18816.size a := fun i v10 v718 k0_hw656 k0_h2 => k0_hw656 k0_h2

def k0_chk657 (i : grid0.Coords) (v10 : BitVec 32) (v723 : IVec S16 32) : Prop :=
  (∀ (k0_h2 : k0_cond2 i v10 = 1#1), ∀ a x, ((![v723] : Fin 1 → IVec S16 32) a x).toNat < S18816.size a)
theorem k0_idx623_inb : ∀ (i : grid0.Coords) (v10 : BitVec 32) (v723 : IVec S16 32) (k0_hw657 : k0_chk657 i v10 v723), ∀ (k0_h2 : k0_cond2 i v10 = 1#1), ∀ a x, ((![v723] : Fin 1 → IVec S16 32) a x).toNat < S18816.size a := fun i v10 v723 k0_hw657 k0_h2 => k0_hw657 k0_h2

def k0_chk658 (i : grid0.Coords) (v10 : BitVec 32) (v728 : IVec S16 32) : Prop :=
  (∀ (k0_h2 : k0_cond2 i v10 = 1#1), ∀ a x, ((![v728] : Fin 1 → IVec S16 32) a x).toNat < S18816.size a)
theorem k0_idx624_inb : ∀ (i : grid0.Coords) (v10 : BitVec 32) (v728 : IVec S16 32) (k0_hw658 : k0_chk658 i v10 v728), ∀ (k0_h2 : k0_cond2 i v10 = 1#1), ∀ a x, ((![v728] : Fin 1 → IVec S16 32) a x).toNat < S18816.size a := fun i v10 v728 k0_hw658 k0_h2 => k0_hw658 k0_h2
@[reducible] def k0_t166_loop (v41 : BitVec 32) (v43 : BitVec 32) : Scf.Loop 32 :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_270 : BitVec 32 := 1#32
  ⟨v41, v738, c1_i32_270⟩
@[reducible] def k0_t167_loop (v730 : BitVec 32) (v732 : BitVec 32) : Scf.Loop 32 :=
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_375 : BitVec 32 := 1#32
  ⟨v730, v1008, c1_i32_375⟩

def k0_off2510 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1012 : Index := Scalar.indexCast v1011
  let c0_377 : Index := 0#32
  ![v1012.toNat, 0]
def k0_off2511 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1015 : Index := Scalar.indexCast v1011
  let c16 : Index := 16#32
  ![v1015.toNat, 16]
def k0_off2512 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1018 : Index := Scalar.indexCast v1011
  let c32 : Index := 32#32
  ![v1018.toNat, 32]
def k0_off2513 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1021 : Index := Scalar.indexCast v1011
  let c48 : Index := 48#32
  ![v1021.toNat, 48]
def k0_off2514 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1024 : Index := Scalar.indexCast v1011
  let c64 : Index := 64#32
  ![v1024.toNat, 64]
def k0_off2515 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1027 : Index := Scalar.indexCast v1011
  let c80 : Index := 80#32
  ![v1027.toNat, 80]
def k0_off2516 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1030 : Index := Scalar.indexCast v1011
  let c96 : Index := 96#32
  ![v1030.toNat, 96]
def k0_off2517 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1033 : Index := Scalar.indexCast v1011
  let c112 : Index := 112#32
  ![v1033.toNat, 112]
def k0_off2518 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1036 : Index := Scalar.indexCast v1011
  let c128 : Index := 128#32
  ![v1036.toNat, 128]
def k0_off2519 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1039 : Index := Scalar.indexCast v1011
  let c144 : Index := 144#32
  ![v1039.toNat, 144]
def k0_off2520 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1042 : Index := Scalar.indexCast v1011
  let c160 : Index := 160#32
  ![v1042.toNat, 160]
def k0_off2521 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1045 : Index := Scalar.indexCast v1011
  let c176 : Index := 176#32
  ![v1045.toNat, 176]
def k0_off2522 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1048 : Index := Scalar.indexCast v1011
  let c192 : Index := 192#32
  ![v1048.toNat, 192]
def k0_off2523 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1051 : Index := Scalar.indexCast v1011
  let c208 : Index := 208#32
  ![v1051.toNat, 208]
def k0_off2524 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1054 : Index := Scalar.indexCast v1011
  let c224 : Index := 224#32
  ![v1054.toNat, 224]
def k0_off2525 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1057 : Index := Scalar.indexCast v1011
  let c240 : Index := 240#32
  ![v1057.toNat, 240]
def k0_off2526 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1060 : Index := Scalar.indexCast v1011
  let c256 : Index := 256#32
  ![v1060.toNat, 256]
def k0_off2527 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1063 : Index := Scalar.indexCast v1011
  let c272 : Index := 272#32
  ![v1063.toNat, 272]
def k0_off2528 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1066 : Index := Scalar.indexCast v1011
  let c288 : Index := 288#32
  ![v1066.toNat, 288]
def k0_off2529 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1069 : Index := Scalar.indexCast v1011
  let c304 : Index := 304#32
  ![v1069.toNat, 304]
def k0_off2530 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1072 : Index := Scalar.indexCast v1011
  let c320 : Index := 320#32
  ![v1072.toNat, 320]
def k0_off2531 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1075 : Index := Scalar.indexCast v1011
  let c336 : Index := 336#32
  ![v1075.toNat, 336]
def k0_off2532 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1078 : Index := Scalar.indexCast v1011
  let c352 : Index := 352#32
  ![v1078.toNat, 352]
def k0_off2533 (v41 : BitVec 32) (v43 : BitVec 32) (v730 : BitVec 32) (v732 : BitVec 32) (k0_t166 : Fin (k0_t166_loop v41 v43).trips) (k0_t167 : Fin (k0_t167_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let c1_i32_375 : BitVec 32 := 1#32
  let arg36 : BitVec 32 := Scf.iv v730 c1_i32_375 k0_t167
  let v1011 : BitVec 32 := Scalar.addi v1003 arg36
  let v1081 : Index := Scalar.indexCast v1011
  let c368 : Index := 368#32
  ![v1081.toNat, 368]
@[reducible] def k0_t168_loop (v730 : BitVec 32) (v732 : BitVec 32) : Scf.Loop 32 :=
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let v1005 : BitVec 32 := Scalar.addi v730 v1004
  let c1_i32_376 : BitVec 32 := 1#32
  ⟨v1008, v1005, c1_i32_376⟩
def k0_off2534 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1012 : Index := Scalar.indexCast v1011
  let c0_377 : Index := 0#32
  ![v1012.toNat, 0]
def k0_off2535 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1015 : Index := Scalar.indexCast v1011
  let c16 : Index := 16#32
  ![v1015.toNat, 16]
def k0_off2536 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1018 : Index := Scalar.indexCast v1011
  let c32 : Index := 32#32
  ![v1018.toNat, 32]
def k0_off2537 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1021 : Index := Scalar.indexCast v1011
  let c48 : Index := 48#32
  ![v1021.toNat, 48]
def k0_off2538 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1024 : Index := Scalar.indexCast v1011
  let c64 : Index := 64#32
  ![v1024.toNat, 64]
def k0_off2539 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1027 : Index := Scalar.indexCast v1011
  let c80 : Index := 80#32
  ![v1027.toNat, 80]
def k0_off2540 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1030 : Index := Scalar.indexCast v1011
  let c96 : Index := 96#32
  ![v1030.toNat, 96]
def k0_off2541 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1033 : Index := Scalar.indexCast v1011
  let c112 : Index := 112#32
  ![v1033.toNat, 112]
def k0_off2542 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1036 : Index := Scalar.indexCast v1011
  let c128 : Index := 128#32
  ![v1036.toNat, 128]
def k0_off2543 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1039 : Index := Scalar.indexCast v1011
  let c144 : Index := 144#32
  ![v1039.toNat, 144]
def k0_off2544 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1042 : Index := Scalar.indexCast v1011
  let c160 : Index := 160#32
  ![v1042.toNat, 160]
def k0_off2545 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1045 : Index := Scalar.indexCast v1011
  let c176 : Index := 176#32
  ![v1045.toNat, 176]
def k0_off2546 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1048 : Index := Scalar.indexCast v1011
  let c192 : Index := 192#32
  ![v1048.toNat, 192]
def k0_off2547 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1051 : Index := Scalar.indexCast v1011
  let c208 : Index := 208#32
  ![v1051.toNat, 208]
def k0_off2548 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1054 : Index := Scalar.indexCast v1011
  let c224 : Index := 224#32
  ![v1054.toNat, 224]
def k0_off2549 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1057 : Index := Scalar.indexCast v1011
  let c240 : Index := 240#32
  ![v1057.toNat, 240]
def k0_off2550 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1060 : Index := Scalar.indexCast v1011
  let c256 : Index := 256#32
  ![v1060.toNat, 256]
def k0_off2551 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1063 : Index := Scalar.indexCast v1011
  let c272 : Index := 272#32
  ![v1063.toNat, 272]
def k0_off2552 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1066 : Index := Scalar.indexCast v1011
  let c288 : Index := 288#32
  ![v1066.toNat, 288]
def k0_off2553 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1069 : Index := Scalar.indexCast v1011
  let c304 : Index := 304#32
  ![v1069.toNat, 304]
def k0_off2554 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1072 : Index := Scalar.indexCast v1011
  let c320 : Index := 320#32
  ![v1072.toNat, 320]
def k0_off2555 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1075 : Index := Scalar.indexCast v1011
  let c336 : Index := 336#32
  ![v1075.toNat, 336]
def k0_off2556 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1078 : Index := Scalar.indexCast v1011
  let c352 : Index := 352#32
  ![v1078.toNat, 352]
def k0_off2557 (v41 : BitVec 32) (v43 : BitVec 32) (v730 : BitVec 32) (v732 : BitVec 32) (k0_t166 : Fin (k0_t166_loop v41 v43).trips) (k0_t168 : Fin (k0_t168_loop v730 v732).trips) : Fin 2 → Nat :=
  let c1_i32_270 : BitVec 32 := 1#32
  let arg11 : BitVec 32 := Scf.iv v41 c1_i32_270 k0_t166
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t168
  let v1011 : BitVec 32 := Scalar.addi v1003 arg36
  let v1081 : Index := Scalar.indexCast v1011
  let c368 : Index := 368#32
  ![v1081.toNat, 368]
@[reducible] def k0_t169_loop (v41 : BitVec 32) (v43 : BitVec 32) : Scf.Loop 32 :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let v735 : BitVec 32 := Scalar.addi v41 v734
  let c1_i32_271 : BitVec 32 := 1#32
  ⟨v738, v735, c1_i32_271⟩
@[reducible] def k0_t170_loop (v730 : BitVec 32) (v732 : BitVec 32) : Scf.Loop 32 :=
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_375 : BitVec 32 := 1#32
  ⟨v730, v1008, c1_i32_375⟩
def k0_off2558 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1012 : Index := Scalar.indexCast v1011
  let c0_377 : Index := 0#32
  ![v1012.toNat, 0]
def k0_off2559 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1015 : Index := Scalar.indexCast v1011
  let c16 : Index := 16#32
  ![v1015.toNat, 16]
def k0_off2560 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1018 : Index := Scalar.indexCast v1011
  let c32 : Index := 32#32
  ![v1018.toNat, 32]
def k0_off2561 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1021 : Index := Scalar.indexCast v1011
  let c48 : Index := 48#32
  ![v1021.toNat, 48]
def k0_off2562 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1024 : Index := Scalar.indexCast v1011
  let c64 : Index := 64#32
  ![v1024.toNat, 64]
def k0_off2563 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1027 : Index := Scalar.indexCast v1011
  let c80 : Index := 80#32
  ![v1027.toNat, 80]
def k0_off2564 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1030 : Index := Scalar.indexCast v1011
  let c96 : Index := 96#32
  ![v1030.toNat, 96]
def k0_off2565 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1033 : Index := Scalar.indexCast v1011
  let c112 : Index := 112#32
  ![v1033.toNat, 112]
def k0_off2566 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1036 : Index := Scalar.indexCast v1011
  let c128 : Index := 128#32
  ![v1036.toNat, 128]
def k0_off2567 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1039 : Index := Scalar.indexCast v1011
  let c144 : Index := 144#32
  ![v1039.toNat, 144]
def k0_off2568 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1042 : Index := Scalar.indexCast v1011
  let c160 : Index := 160#32
  ![v1042.toNat, 160]
def k0_off2569 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1045 : Index := Scalar.indexCast v1011
  let c176 : Index := 176#32
  ![v1045.toNat, 176]
def k0_off2570 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1048 : Index := Scalar.indexCast v1011
  let c192 : Index := 192#32
  ![v1048.toNat, 192]
def k0_off2571 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1051 : Index := Scalar.indexCast v1011
  let c208 : Index := 208#32
  ![v1051.toNat, 208]
def k0_off2572 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1054 : Index := Scalar.indexCast v1011
  let c224 : Index := 224#32
  ![v1054.toNat, 224]
def k0_off2573 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1057 : Index := Scalar.indexCast v1011
  let c240 : Index := 240#32
  ![v1057.toNat, 240]
def k0_off2574 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1060 : Index := Scalar.indexCast v1011
  let c256 : Index := 256#32
  ![v1060.toNat, 256]
def k0_off2575 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1063 : Index := Scalar.indexCast v1011
  let c272 : Index := 272#32
  ![v1063.toNat, 272]
def k0_off2576 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1066 : Index := Scalar.indexCast v1011
  let c288 : Index := 288#32
  ![v1066.toNat, 288]
def k0_off2577 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1069 : Index := Scalar.indexCast v1011
  let c304 : Index := 304#32
  ![v1069.toNat, 304]
def k0_off2578 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1072 : Index := Scalar.indexCast v1011
  let c320 : Index := 320#32
  ![v1072.toNat, 320]
def k0_off2579 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1075 : Index := Scalar.indexCast v1011
  let c336 : Index := 336#32
  ![v1075.toNat, 336]
def k0_off2580 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1078 : Index := Scalar.indexCast v1011
  let c352 : Index := 352#32
  ![v1078.toNat, 352]
def k0_off2581 (v41 : BitVec 32) (v43 : BitVec 32) (v730 : BitVec 32) (v732 : BitVec 32) (k0_t169 : Fin (k0_t169_loop v41 v43).trips) (k0_t170 : Fin (k0_t170_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let c1_i32_375 : BitVec 32 := 1#32
  let arg36 : BitVec 32 := Scf.iv v730 c1_i32_375 k0_t170
  let v1011 : BitVec 32 := Scalar.addi v1003 arg36
  let v1081 : Index := Scalar.indexCast v1011
  let c368 : Index := 368#32
  ![v1081.toNat, 368]
@[reducible] def k0_t171_loop (v730 : BitVec 32) (v732 : BitVec 32) : Scf.Loop 32 :=
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let v1005 : BitVec 32 := Scalar.addi v730 v1004
  let c1_i32_376 : BitVec 32 := 1#32
  ⟨v1008, v1005, c1_i32_376⟩
def k0_off2582 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1012 : Index := Scalar.indexCast v1011
  let c0_377 : Index := 0#32
  ![v1012.toNat, 0]
def k0_off2583 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1015 : Index := Scalar.indexCast v1011
  let c16 : Index := 16#32
  ![v1015.toNat, 16]
def k0_off2584 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1018 : Index := Scalar.indexCast v1011
  let c32 : Index := 32#32
  ![v1018.toNat, 32]
def k0_off2585 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1021 : Index := Scalar.indexCast v1011
  let c48 : Index := 48#32
  ![v1021.toNat, 48]
def k0_off2586 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1024 : Index := Scalar.indexCast v1011
  let c64 : Index := 64#32
  ![v1024.toNat, 64]
def k0_off2587 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1027 : Index := Scalar.indexCast v1011
  let c80 : Index := 80#32
  ![v1027.toNat, 80]
def k0_off2588 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1030 : Index := Scalar.indexCast v1011
  let c96 : Index := 96#32
  ![v1030.toNat, 96]
def k0_off2589 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1033 : Index := Scalar.indexCast v1011
  let c112 : Index := 112#32
  ![v1033.toNat, 112]
def k0_off2590 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1036 : Index := Scalar.indexCast v1011
  let c128 : Index := 128#32
  ![v1036.toNat, 128]
def k0_off2591 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1039 : Index := Scalar.indexCast v1011
  let c144 : Index := 144#32
  ![v1039.toNat, 144]
def k0_off2592 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1042 : Index := Scalar.indexCast v1011
  let c160 : Index := 160#32
  ![v1042.toNat, 160]
def k0_off2593 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1045 : Index := Scalar.indexCast v1011
  let c176 : Index := 176#32
  ![v1045.toNat, 176]
def k0_off2594 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1048 : Index := Scalar.indexCast v1011
  let c192 : Index := 192#32
  ![v1048.toNat, 192]
def k0_off2595 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1051 : Index := Scalar.indexCast v1011
  let c208 : Index := 208#32
  ![v1051.toNat, 208]
def k0_off2596 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1054 : Index := Scalar.indexCast v1011
  let c224 : Index := 224#32
  ![v1054.toNat, 224]
def k0_off2597 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1057 : Index := Scalar.indexCast v1011
  let c240 : Index := 240#32
  ![v1057.toNat, 240]
def k0_off2598 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1060 : Index := Scalar.indexCast v1011
  let c256 : Index := 256#32
  ![v1060.toNat, 256]
def k0_off2599 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1063 : Index := Scalar.indexCast v1011
  let c272 : Index := 272#32
  ![v1063.toNat, 272]
def k0_off2600 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1066 : Index := Scalar.indexCast v1011
  let c288 : Index := 288#32
  ![v1066.toNat, 288]
def k0_off2601 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1069 : Index := Scalar.indexCast v1011
  let c304 : Index := 304#32
  ![v1069.toNat, 304]
def k0_off2602 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1072 : Index := Scalar.indexCast v1011
  let c320 : Index := 320#32
  ![v1072.toNat, 320]
def k0_off2603 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1075 : Index := Scalar.indexCast v1011
  let c336 : Index := 336#32
  ![v1075.toNat, 336]
def k0_off2604 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1078 : Index := Scalar.indexCast v1011
  let c352 : Index := 352#32
  ![v1078.toNat, 352]
def k0_off2605 (v41 : BitVec 32) (v43 : BitVec 32) (v730 : BitVec 32) (v732 : BitVec 32) (k0_t169 : Fin (k0_t169_loop v41 v43).trips) (k0_t171 : Fin (k0_t171_loop v730 v732).trips) : Fin 2 → Nat :=
  let v734 : BitVec 32 := Scalar.subi v43 v41
  let c1_i32_269 : BitVec 32 := 1#32
  let v736 : BitVec 32 := Scalar.divsi v734 c1_i32_269
  let v737 : BitVec 32 := Scalar.muli v736 c1_i32_269
  let v738 : BitVec 32 := Scalar.addi v41 v737
  let c1_i32_271 : BitVec 32 := 1#32
  let arg11 : BitVec 32 := Scf.iv v738 c1_i32_271 k0_t169
  let c14_i32 : BitVec 32 := 14#32
  let v1003 : BitVec 32 := Scalar.muli arg11 c14_i32
  let v1004 : BitVec 32 := Scalar.subi v732 v730
  let c1_i32_374 : BitVec 32 := 1#32
  let v1006 : BitVec 32 := Scalar.divsi v1004 c1_i32_374
  let v1007 : BitVec 32 := Scalar.muli v1006 c1_i32_374
  let v1008 : BitVec 32 := Scalar.addi v730 v1007
  let c1_i32_376 : BitVec 32 := 1#32
  let arg36 : BitVec 32 := Scf.iv v1008 c1_i32_376 k0_t171
  let v1011 : BitVec 32 := Scalar.addi v1003 arg36
  let v1081 : Index := Scalar.indexCast v1011
  let c368 : Index := 368#32
  ![v1081.toNat, 368]

def k0_chk659_0 (i : grid0.Coords) (v10 : BitVec 32) (v41 : BitVec 32) (v43 : BitVec 32) (v730 : BitVec 32) (v732 : BitVec 32) : Prop :=
  (∀ k0_t166 : Fin (k0_t166_loop v41 v43).trips, ∀ (k0_h2 : k0_cond2 i v10 = 1#1), (k0_t167_loop v730 v732).OK) ∧
  (∀ (k0_t166 : Fin (k0_t166_loop v41 v43).trips) (k0_t167 : Fin (k0_t167_loop v730 v732).trips), ∀ (k0_h2 : k0_cond2 i v10 = 1#1), ∀ a, (k0_off2510 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2511 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2512 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2513 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2514 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2515 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2516 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2517 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2518 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2519 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2520 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2521 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2522 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2523 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2524 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2525 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2526 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2527 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2528 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2529 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2530 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2531 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2532 v41 v43 v730 v732 k0_t166 k0_t167) a + S1x16.size a ≤ S196x384.size a) ∧
  (∀ (k0_t166 : Fin (k0_t166_loop v41 v43).trips) (k0_t167 : Fin (k0_t167_loop v730 v732).trips), ∀ (k0_h2 : k0_cond2 i v10 = 1#1), ∀ a, (k0_off2533 v41 v43 v730 v732 k0_t166 k0_t167) a + S1x16.size a ≤ S196x384.size a) ∧
  (∀ k0_t166 : Fin (k0_t166_loop v41 v43).trips, ∀ (k0_h2 : k0_cond2 i v10 = 1#1), (k0_t168_loop v730 v732).OK) ∧
  (∀ (k0_t166 : Fin (k0_t166_loop v41 v43).trips) (k0_t168 : Fin (k0_t168_loop v730 v732).trips), ∀ (k0_h2 : k0_cond2 i v10 = 1#1), ∀ a, (k0_off2534 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2535 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2536 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2537 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2538 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2539 v41 v43 v730 v732 k0_t166 k0_t168) a + S1x16.size a ≤ S196x384.size a)
def k0_chk659_1 (i : grid0.Coords) (v10 : BitVec 32) (v41 : BitVec 32) (v43 : BitVec 32) (v730 : BitVec 32) (v732 : BitVec 32) : Prop :=
  (∀ (k0_t166 : Fin (k0_t166_loop v41 v43).trips) (k0_t168 : Fin (k0_t168_loop v730 v732).trips), ∀ (k0_h2 : k0_cond2 i v10 = 1#1), ∀ a, (k0_off2540 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2541 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2542 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2543 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2544 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2545 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2546 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2547 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2548 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2549 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2550 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2551 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2552 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2553 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2554 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2555 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2556 v41 v43 v730 v732 k0_t166 k0_t168) a + S1x16.size a ≤ S196x384.size a) ∧
  (∀ (k0_t166 : Fin (k0_t166_loop v41 v43).trips) (k0_t168 : Fin (k0_t168_loop v730 v732).trips), ∀ (k0_h2 : k0_cond2 i v10 = 1#1), ∀ a, (k0_off2557 v41 v43 v730 v732 k0_t166 k0_t168) a + S1x16.size a ≤ S196x384.size a) ∧
  (∀ k0_t169 : Fin (k0_t169_loop v41 v43).trips, ∀ (k0_h2 : k0_cond2 i v10 = 1#1), (k0_t170_loop v730 v732).OK) ∧
  (∀ (k0_t169 : Fin (k0_t169_loop v41 v43).trips) (k0_t170 : Fin (k0_t170_loop v730 v732).trips), ∀ (k0_h2 : k0_cond2 i v10 = 1#1), ∀ a, (k0_off2558 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2559 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2560 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2561 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2562 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2563 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2564 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2565 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2566 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2567 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2568 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2569 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2570 v41 v43 v730 v732 k0_t169 k0_t170) a + S1x16.size a ≤ S196x384.size a)
def k0_chk659_2 (i : grid0.Coords) (v10 : BitVec 32) (v41 : BitVec 32) (v43 : BitVec 32) (v730 : BitVec 32) (v732 : BitVec 32) : Prop :=
  (∀ (k0_t169 : Fin (k0_t169_loop v41 v43).trips) (k0_t170 : Fin (k0_t170_loop v730 v732).trips), ∀ (k0_h2 : k0_cond2 i v10 = 1#1), ∀ a, (k0_off2571 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2572 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2573 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2574 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2575 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2576 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2577 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2578 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2579 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2580 v41 v43 v730 v732 k0_t169 k0_t170) a + S1x16.size a ≤ S196x384.size a) ∧
  (∀ (k0_t169 : Fin (k0_t169_loop v41 v43).trips) (k0_t170 : Fin (k0_t170_loop v730 v732).trips), ∀ (k0_h2 : k0_cond2 i v10 = 1#1), ∀ a, (k0_off2581 v41 v43 v730 v732 k0_t169 k0_t170) a + S1x16.size a ≤ S196x384.size a) ∧
  (∀ k0_t169 : Fin (k0_t169_loop v41 v43).trips, ∀ (k0_h2 : k0_cond2 i v10 = 1#1), (k0_t171_loop v730 v732).OK) ∧
  (∀ (k0_t169 : Fin (k0_t169_loop v41 v43).trips) (k0_t171 : Fin (k0_t171_loop v730 v732).trips), ∀ (k0_h2 : k0_cond2 i v10 = 1#1), ∀ a, (k0_off2582 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2583 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2584 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2585 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2586 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2587 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2588 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2589 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2590 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2591 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2592 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2593 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2594 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2595 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2596 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2597 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2598 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2599 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2600 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2601 v41 v43 v730 v732 k0_t169 k0_t171) a + S1x16.size a ≤ S196x384.size a)
def k0_chk659_3 (i : grid0.Coords) (v10 : BitVec 32) (v41 : BitVec 32) (v43 : BitVec 32) (v730 : BitVec 32) (v732 : BitVec 32) : Prop :=
  (∀ (k0_t169 : Fin (k0_t169_loop v41 v43).trips) (k0_t171 : Fin (k0_t171_loop v730 v732).trips), ∀ (k0_h2 : k0_cond2 i v10 = 1#1), ∀ a, (k0_off2602 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2603 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2604 v41 v43 v730 v732 k0_t169 k0_t171) a + S1x16.size a ≤ S196x384.size a) ∧
  (∀ (k0_t169 : Fin (k0_t169_loop v41 v43).trips) (k0_t171 : Fin (k0_t171_loop v730 v732).trips), ∀ (k0_h2 : k0_cond2 i v10 = 1#1), ∀ a, (k0_off2605 v41 v43 v730 v732 k0_t169 k0_t171) a + S1x16.size a ≤ S196x384.size a)
def k0_chk659 (i : grid0.Coords) (v10 : BitVec 32) (v41 : BitVec 32) (v43 : BitVec 32) (v730 : BitVec 32) (v732 : BitVec 32) : Prop :=
  k0_chk659_0 i v10 v41 v43 v730 v732 ∧
  k0_chk659_1 i v10 v41 v43 v730 v732 ∧
  k0_chk659_2 i v10 v41 v43 v730 v732 ∧
  k0_chk659_3 i v10 v41 v43 v730 v732
theorem k0_t167_ok : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips), ∀ (k0_h2 : k0_cond2 i v10 = 1#1), (k0_t167_loop v730 v732).OK := fun i v10 v41 v43 v730 v732 k0_hw659 k0_t166 k0_h2 => k0_hw659.1.1 k0_t166 k0_h2
theorem k0_off2510_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2510 v41 v43 v730 v732 k0_t166 k0_t167) a + S1x16.size a ≤ S196x384.size a := fun i v10 v41 v43 v730 v732 k0_hw659 k0_t166 k0_t167 k0_h2 => k0_hw659.1.2.1 k0_t166 k0_t167 k0_h2
theorem k0_off2511_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2511 v41 v43 v730 v732 k0_t166 k0_t167) a + S1x16.size a ≤ S196x384.size a := fun i v10 v41 v43 v730 v732 k0_hw659 k0_t166 k0_t167 k0_h2 => k0_hw659.1.2.2.1 k0_t166 k0_t167 k0_h2
theorem k0_off2512_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2512 v41 v43 v730 v732 k0_t166 k0_t167) a + S1x16.size a ≤ S196x384.size a := fun i v10 v41 v43 v730 v732 k0_hw659 k0_t166 k0_t167 k0_h2 => k0_hw659.1.2.2.2.1 k0_t166 k0_t167 k0_h2
theorem k0_off2513_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2513 v41 v43 v730 v732 k0_t166 k0_t167) a + S1x16.size a ≤ S196x384.size a := fun i v10 v41 v43 v730 v732 k0_hw659 k0_t166 k0_t167 k0_h2 => k0_hw659.1.2.2.2.2.1 k0_t166 k0_t167 k0_h2
theorem k0_off2514_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2514 v41 v43 v730 v732 k0_t166 k0_t167) a + S1x16.size a ≤ S196x384.size a := fun i v10 v41 v43 v730 v732 k0_hw659 k0_t166 k0_t167 k0_h2 => k0_hw659.1.2.2.2.2.2.1 k0_t166 k0_t167 k0_h2
theorem k0_off2515_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2515 v41 v43 v730 v732 k0_t166 k0_t167) a + S1x16.size a ≤ S196x384.size a := fun i v10 v41 v43 v730 v732 k0_hw659 k0_t166 k0_t167 k0_h2 => k0_hw659.1.2.2.2.2.2.2.1 k0_t166 k0_t167 k0_h2
theorem k0_off2516_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2516 v41 v43 v730 v732 k0_t166 k0_t167) a + S1x16.size a ≤ S196x384.size a := fun i v10 v41 v43 v730 v732 k0_hw659 k0_t166 k0_t167 k0_h2 => k0_hw659.1.2.2.2.2.2.2.2.1 k0_t166 k0_t167 k0_h2
theorem k0_off2517_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2517 v41 v43 v730 v732 k0_t166 k0_t167) a + S1x16.size a ≤ S196x384.size a := fun i v10 v41 v43 v730 v732 k0_hw659 k0_t166 k0_t167 k0_h2 => k0_hw659.1.2.2.2.2.2.2.2.2.1 k0_t166 k0_t167 k0_h2
theorem k0_off2518_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2518 v41 v43 v730 v732 k0_t166 k0_t167) a + S1x16.size a ≤ S196x384.size a := fun i v10 v41 v43 v730 v732 k0_hw659 k0_t166 k0_t167 k0_h2 => k0_hw659.1.2.2.2.2.2.2.2.2.2.1 k0_t166 k0_t167 k0_h2
theorem k0_off2519_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2519 v41 v43 v730 v732 k0_t166 k0_t167) a + S1x16.size a ≤ S196x384.size a := fun i v10 v41 v43 v730 v732 k0_hw659 k0_t166 k0_t167 k0_h2 => k0_hw659.1.2.2.2.2.2.2.2.2.2.2.1 k0_t166 k0_t167 k0_h2
theorem k0_off2520_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2520 v41 v43 v730 v732 k0_t166 k0_t167) a + S1x16.size a ≤ S196x384.size a := fun i v10 v41 v43 v730 v732 k0_hw659 k0_t166 k0_t167 k0_h2 => k0_hw659.1.2.2.2.2.2.2.2.2.2.2.2.1 k0_t166 k0_t167 k0_h2
theorem k0_off2521_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2521 v41 v43 v730 v732 k0_t166 k0_t167) a + S1x16.size a ≤ S196x384.size a := fun i v10 v41 v43 v730 v732 k0_hw659 k0_t166 k0_t167 k0_h2 => k0_hw659.1.2.2.2.2.2.2.2.2.2.2.2.2.1 k0_t166 k0_t167 k0_h2
theorem k0_off2522_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2522 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.1 k0_t166 k0_t167 k0_h2
theorem k0_off2523_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2523 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.1 k0_t166 k0_t167 k0_h2
theorem k0_off2524_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2524 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.1 k0_t166 k0_t167 k0_h2
theorem k0_off2525_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2525 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.2.1 k0_t166 k0_t167 k0_h2
theorem k0_off2526_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2526 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.2.2.1 k0_t166 k0_t167 k0_h2
theorem k0_off2527_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2527 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.2.2.2.1 k0_t166 k0_t167 k0_h2
theorem k0_off2528_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2528 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.2.2.2.2.1 k0_t166 k0_t167 k0_h2
theorem k0_off2529_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2529 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.2.2.2.2.2.1 k0_t166 k0_t167 k0_h2
theorem k0_off2530_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2530 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.2.2.2.2.2.2.1 k0_t166 k0_t167 k0_h2
theorem k0_off2531_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2531 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.2.2.2.2.2.2.2.1 k0_t166 k0_t167 k0_h2
theorem k0_off2532_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2532 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.2.2.2.2.2.2.2.2.1 k0_t166 k0_t167 k0_h2
theorem k0_off2533_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t167 : Fin (k0_t167_loop v730 v732).trips), ∀ (k0_h2 : k0_cond2 i v10 = 1#1), ∀ a, (k0_off2533 v41 v43 v730 v732 k0_t166 k0_t167) a + S1x16.size a ≤ S196x384.size a := fun i v10 v41 v43 v730 v732 k0_hw659 k0_t166 k0_t167 k0_h2 => k0_hw659.1.2.2.2.2.2.2.2.2.2.2.2.2.2.2.2.2.2.2.2.2.2.2.2.2.1 k0_t166 k0_t167 k0_h2
theorem k0_t168_ok : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips), ∀ (k0_h2 : k0_cond2 i v10 = 1#1), (k0_t168_loop v730 v732).OK := fun i v10 v41 v43 v730 v732 k0_hw659 k0_t166 k0_h2 => k0_hw659.1.2.2.2.2.2.2.2.2.2.2.2.2.2.2.2.2.2.2.2.2.2.2.2.2.2.1 k0_t166 k0_h2
theorem k0_off2534_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2534 v41 v43 v730 v732 k0_t166 k0_t168) a + S1x16.size a ≤ S196x384.size a := fun i v10 v41 v43 v730 v732 k0_hw659 k0_t166 k0_t168 k0_h2 => k0_hw659.1.2.2.2.2.2.2.2.2.2.2.2.2.2.2.2.2.2.2.2.2.2.2.2.2.2.2.1 k0_t166 k0_t168 k0_h2
theorem k0_off2535_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2535 v41 v43 v730 v732 k0_t166 k0_t168) a + S1x16.size a ≤ S196x384.size a := fun i v10 v41 v43 v730 v732 k0_hw659 k0_t166 k0_t168 k0_h2 => k0_hw659.1.2.2.2.2.2.2.2.2.2.2.2.2.2.2.2.2.2.2.2.2.2.2.2.2.2.2.2.1 k0_t166 k0_t168 k0_h2
theorem k0_off2536_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2536 v41 v43 v730 v732 k0_t166 k0_t168) a + S1x16.size a ≤ S196x384.size a := fun i v10 v41 v43 v730 v732 k0_hw659 k0_t166 k0_t168 k0_h2 => k0_hw659.1.2.2.2.2.2.2.2.2.2.2.2.2.2.2.2.2.2.2.2.2.2.2.2.2.2.2.2.2.1 k0_t166 k0_t168 k0_h2
theorem k0_off2537_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2537 v41 v43 v730 v732 k0_t166 k0_t168) a + S1x16.size a ≤ S196x384.size a := fun i v10 v41 v43 v730 v732 k0_hw659 k0_t166 k0_t168 k0_h2 => k0_hw659.1.2.2.2.2.2.2.2.2.2.2.2.2.2.2.2.2.2.2.2.2.2.2.2.2.2.2.2.2.2.1 k0_t166 k0_t168 k0_h2
theorem k0_off2538_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2538 v41 v43 v730 v732 k0_t166 k0_t168) a + S1x16.size a ≤ S196x384.size a := fun i v10 v41 v43 v730 v732 k0_hw659 k0_t166 k0_t168 k0_h2 => k0_hw659.1.2.2.2.2.2.2.2.2.2.2.2.2.2.2.2.2.2.2.2.2.2.2.2.2.2.2.2.2.2.2.1 k0_t166 k0_t168 k0_h2
theorem k0_off2539_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2539 v41 v43 v730 v732 k0_t166 k0_t168) a + S1x16.size a ≤ S196x384.size a := fun i v10 v41 v43 v730 v732 k0_hw659 k0_t166 k0_t168 k0_h2 => k0_hw659.1.2.2.2.2.2.2.2.2.2.2.2.2.2.2.2.2.2.2.2.2.2.2.2.2.2.2.2.2.2.2.2 k0_t166 k0_t168 k0_h2
theorem k0_off2540_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2540 v41 v43 v730 v732 k0_t166 k0_t168) a + S1x16.size a ≤ S196x384.size a := fun i v10 v41 v43 v730 v732 k0_hw659 k0_t166 k0_t168 k0_h2 => k0_hw659.2.1.1 k0_t166 k0_t168 k0_h2
theorem k0_off2541_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2541 v41 v43 v730 v732 k0_t166 k0_t168) a + S1x16.size a ≤ S196x384.size a := fun i v10 v41 v43 v730 v732 k0_hw659 k0_t166 k0_t168 k0_h2 => k0_hw659.2.1.2.1 k0_t166 k0_t168 k0_h2
theorem k0_off2542_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2542 v41 v43 v730 v732 k0_t166 k0_t168) a + S1x16.size a ≤ S196x384.size a := fun i v10 v41 v43 v730 v732 k0_hw659 k0_t166 k0_t168 k0_h2 => k0_hw659.2.1.2.2.1 k0_t166 k0_t168 k0_h2
theorem k0_off2543_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2543 v41 v43 v730 v732 k0_t166 k0_t168) a + S1x16.size a ≤ S196x384.size a := fun i v10 v41 v43 v730 v732 k0_hw659 k0_t166 k0_t168 k0_h2 => k0_hw659.2.1.2.2.2.1 k0_t166 k0_t168 k0_h2
theorem k0_off2544_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2544 v41 v43 v730 v732 k0_t166 k0_t168) a + S1x16.size a ≤ S196x384.size a := fun i v10 v41 v43 v730 v732 k0_hw659 k0_t166 k0_t168 k0_h2 => k0_hw659.2.1.2.2.2.2.1 k0_t166 k0_t168 k0_h2
theorem k0_off2545_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2545 v41 v43 v730 v732 k0_t166 k0_t168) a + S1x16.size a ≤ S196x384.size a := fun i v10 v41 v43 v730 v732 k0_hw659 k0_t166 k0_t168 k0_h2 => k0_hw659.2.1.2.2.2.2.2.1 k0_t166 k0_t168 k0_h2
theorem k0_off2546_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2546 v41 v43 v730 v732 k0_t166 k0_t168) a + S1x16.size a ≤ S196x384.size a := fun i v10 v41 v43 v730 v732 k0_hw659 k0_t166 k0_t168 k0_h2 => k0_hw659.2.1.2.2.2.2.2.2.1 k0_t166 k0_t168 k0_h2
theorem k0_off2547_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2547 v41 v43 v730 v732 k0_t166 k0_t168) a + S1x16.size a ≤ S196x384.size a := fun i v10 v41 v43 v730 v732 k0_hw659 k0_t166 k0_t168 k0_h2 => k0_hw659.2.1.2.2.2.2.2.2.2.1 k0_t166 k0_t168 k0_h2
theorem k0_off2548_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2548 v41 v43 v730 v732 k0_t166 k0_t168) a + S1x16.size a ≤ S196x384.size a := fun i v10 v41 v43 v730 v732 k0_hw659 k0_t166 k0_t168 k0_h2 => k0_hw659.2.1.2.2.2.2.2.2.2.2.1 k0_t166 k0_t168 k0_h2
theorem k0_off2549_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2549 v41 v43 v730 v732 k0_t166 k0_t168) a + S1x16.size a ≤ S196x384.size a := fun i v10 v41 v43 v730 v732 k0_hw659 k0_t166 k0_t168 k0_h2 => k0_hw659.2.1.2.2.2.2.2.2.2.2.2.1 k0_t166 k0_t168 k0_h2
theorem k0_off2550_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2550 v41 v43 v730 v732 k0_t166 k0_t168) a + S1x16.size a ≤ S196x384.size a := fun i v10 v41 v43 v730 v732 k0_hw659 k0_t166 k0_t168 k0_h2 => k0_hw659.2.1.2.2.2.2.2.2.2.2.2.2.1 k0_t166 k0_t168 k0_h2
theorem k0_off2551_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2551 v41 v43 v730 v732 k0_t166 k0_t168) a + S1x16.size a ≤ S196x384.size a := fun i v10 v41 v43 v730 v732 k0_hw659 k0_t166 k0_t168 k0_h2 => k0_hw659.2.1.2.2.2.2.2.2.2.2.2.2.2.1 k0_t166 k0_t168 k0_h2
theorem k0_off2552_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2552 v41 v43 v730 v732 k0_t166 k0_t168) a + S1x16.size a ≤ S196x384.size a := fun i v10 v41 v43 v730 v732 k0_hw659 k0_t166 k0_t168 k0_h2 => k0_hw659.2.1.2.2.2.2.2.2.2.2.2.2.2.2.1 k0_t166 k0_t168 k0_h2
theorem k0_off2553_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2553 v41 v43 v730 v732 k0_t166 k0_t168) a + S1x16.size a ≤ S196x384.size a := fun i v10 v41 v43 v730 v732 k0_hw659 k0_t166 k0_t168 k0_h2 => k0_hw659.2.1.2.2.2.2.2.2.2.2.2.2.2.2.2.1 k0_t166 k0_t168 k0_h2
theorem k0_off2554_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2554 v41 v43 v730 v732 k0_t166 k0_t168) a + S1x16.size a ≤ S196x384.size a := fun i v10 v41 v43 v730 v732 k0_hw659 k0_t166 k0_t168 k0_h2 => k0_hw659.2.1.2.2.2.2.2.2.2.2.2.2.2.2.2.2.1 k0_t166 k0_t168 k0_h2
theorem k0_off2555_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2555 v41 v43 v730 v732 k0_t166 k0_t168) a + S1x16.size a ≤ S196x384.size a := fun i v10 v41 v43 v730 v732 k0_hw659 k0_t166 k0_t168 k0_h2 => k0_hw659.2.1.2.2.2.2.2.2.2.2.2.2.2.2.2.2.2.1 k0_t166 k0_t168 k0_h2
theorem k0_off2556_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2556 v41 v43 v730 v732 k0_t166 k0_t168) a + S1x16.size a ≤ S196x384.size a := fun i v10 v41 v43 v730 v732 k0_hw659 k0_t166 k0_t168 k0_h2 => k0_hw659.2.1.2.2.2.2.2.2.2.2.2.2.2.2.2.2.2.2.1 k0_t166 k0_t168 k0_h2
theorem k0_off2557_inb : ∀ (i : grid0.Coords) (v10 : BitVec 32) (v41 : BitVec 32) (v43 : BitVec 32) (v730 : BitVec 32) (v732 : BitVec 32) (k0_hw659 : k0_chk659 i v10 v41 v43 v730 v732) (k0_t166 : Fin (k0_t166_loop v41 v43).trips) (k0_t168 : Fin (k0_t168_loop v730 v732).trips), ∀ (k0_h2 : k0_cond2 i v10 = 1#1), ∀ a, (k0_off2557 v41 v43 v730 v732 k0_t166 k0_t168) a + S1x16.size a ≤ S196x384.size a := fun i v10 v41 v43 v730 v732 k0_hw659 k0_t166 k0_t168 k0_h2 => k0_hw659.2.1.2.2.2.2.2.2.2.2.2.2.2.2.2.2.2.2.2.1 k0_t166 k0_t168 k0_h2
theorem k0_t170_ok : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips), ∀ (k0_h2 : k0_cond2 i v10 = 1#1), (k0_t170_loop v730 v732).OK := fun i v10 v41 v43 v730 v732 k0_hw659 k0_t169 k0_h2 => k0_hw659.2.1.2.2.2.2.2.2.2.2.2.2.2.2.2.2.2.2.2.2.1 k0_t169 k0_h2
theorem k0_off2558_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2558 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.1 k0_t169 k0_t170 k0_h2
theorem k0_off2559_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2559 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.1 k0_t169 k0_t170 k0_h2
theorem k0_off2560_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2560 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.1 k0_t169 k0_t170 k0_h2
theorem k0_off2561_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2561 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.1 k0_t169 k0_t170 k0_h2
theorem k0_off2562_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2562 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.2.1 k0_t169 k0_t170 k0_h2
theorem k0_off2563_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2563 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.2.2.1 k0_t169 k0_t170 k0_h2
theorem k0_off2564_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2564 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.2.2.2.1 k0_t169 k0_t170 k0_h2
theorem k0_off2565_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2565 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.2.2.2.2.1 k0_t169 k0_t170 k0_h2
theorem k0_off2566_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2566 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.2.2.2.2.2.1 k0_t169 k0_t170 k0_h2
theorem k0_off2567_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2567 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.2.2.2.2.2.2.1 k0_t169 k0_t170 k0_h2
theorem k0_off2568_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2568 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.2.2.2.2.2.2.2.1 k0_t169 k0_t170 k0_h2
theorem k0_off2569_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2569 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.2.2.2.2.2.2.2.2.1 k0_t169 k0_t170 k0_h2
theorem k0_off2570_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2570 v41 v43 v730 v732 k0_t169 k0_t170) a + S1x16.size a ≤ S196x384.size a := fun i v10 v41 v43 v730 v732 k0_hw659 k0_t169 k0_t170 k0_h2 => k0_hw659.2.1.2.2.2.2.2.2.2.2.2.2.2.2.2.2.2.2.2.2.2.2.2.2.2.2.2.2.2.2.2.2.2 k0_t169 k0_t170 k0_h2
theorem k0_off2571_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2571 v41 v43 v730 v732 k0_t169 k0_t170) a + S1x16.size a ≤ S196x384.size a := fun i v10 v41 v43 v730 v732 k0_hw659 k0_t169 k0_t170 k0_h2 => k0_hw659.2.2.1.1 k0_t169 k0_t170 k0_h2
theorem k0_off2572_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2572 v41 v43 v730 v732 k0_t169 k0_t170) a + S1x16.size a ≤ S196x384.size a := fun i v10 v41 v43 v730 v732 k0_hw659 k0_t169 k0_t170 k0_h2 => k0_hw659.2.2.1.2.1 k0_t169 k0_t170 k0_h2
theorem k0_off2573_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2573 v41 v43 v730 v732 k0_t169 k0_t170) a + S1x16.size a ≤ S196x384.size a := fun i v10 v41 v43 v730 v732 k0_hw659 k0_t169 k0_t170 k0_h2 => k0_hw659.2.2.1.2.2.1 k0_t169 k0_t170 k0_h2
theorem k0_off2574_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2574 v41 v43 v730 v732 k0_t169 k0_t170) a + S1x16.size a ≤ S196x384.size a := fun i v10 v41 v43 v730 v732 k0_hw659 k0_t169 k0_t170 k0_h2 => k0_hw659.2.2.1.2.2.2.1 k0_t169 k0_t170 k0_h2
theorem k0_off2575_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2575 v41 v43 v730 v732 k0_t169 k0_t170) a + S1x16.size a ≤ S196x384.size a := fun i v10 v41 v43 v730 v732 k0_hw659 k0_t169 k0_t170 k0_h2 => k0_hw659.2.2.1.2.2.2.2.1 k0_t169 k0_t170 k0_h2
theorem k0_off2576_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2576 v41 v43 v730 v732 k0_t169 k0_t170) a + S1x16.size a ≤ S196x384.size a := fun i v10 v41 v43 v730 v732 k0_hw659 k0_t169 k0_t170 k0_h2 => k0_hw659.2.2.1.2.2.2.2.2.1 k0_t169 k0_t170 k0_h2
theorem k0_off2577_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2577 v41 v43 v730 v732 k0_t169 k0_t170) a + S1x16.size a ≤ S196x384.size a := fun i v10 v41 v43 v730 v732 k0_hw659 k0_t169 k0_t170 k0_h2 => k0_hw659.2.2.1.2.2.2.2.2.2.1 k0_t169 k0_t170 k0_h2
theorem k0_off2578_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2578 v41 v43 v730 v732 k0_t169 k0_t170) a + S1x16.size a ≤ S196x384.size a := fun i v10 v41 v43 v730 v732 k0_hw659 k0_t169 k0_t170 k0_h2 => k0_hw659.2.2.1.2.2.2.2.2.2.2.1 k0_t169 k0_t170 k0_h2
theorem k0_off2579_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2579 v41 v43 v730 v732 k0_t169 k0_t170) a + S1x16.size a ≤ S196x384.size a := fun i v10 v41 v43 v730 v732 k0_hw659 k0_t169 k0_t170 k0_h2 => k0_hw659.2.2.1.2.2.2.2.2.2.2.2.1 k0_t169 k0_t170 k0_h2
theorem k0_off2580_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2580 v41 v43 v730 v732 k0_t169 k0_t170) a + S1x16.size a ≤ S196x384.size a := fun i v10 v41 v43 v730 v732 k0_hw659 k0_t169 k0_t170 k0_h2 => k0_hw659.2.2.1.2.2.2.2.2.2.2.2.2.1 k0_t169 k0_t170 k0_h2
theorem k0_off2581_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t170 : Fin (k0_t170_loop v730 v732).trips), ∀ (k0_h2 : k0_cond2 i v10 = 1#1), ∀ a, (k0_off2581 v41 v43 v730 v732 k0_t169 k0_t170) a + S1x16.size a ≤ S196x384.size a := fun i v10 v41 v43 v730 v732 k0_hw659 k0_t169 k0_t170 k0_h2 => k0_hw659.2.2.1.2.2.2.2.2.2.2.2.2.2.1 k0_t169 k0_t170 k0_h2
theorem k0_t171_ok : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips), ∀ (k0_h2 : k0_cond2 i v10 = 1#1), (k0_t171_loop v730 v732).OK := fun i v10 v41 v43 v730 v732 k0_hw659 k0_t169 k0_h2 => k0_hw659.2.2.1.2.2.2.2.2.2.2.2.2.2.2.1 k0_t169 k0_h2
theorem k0_off2582_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2582 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.1 k0_t169 k0_t171 k0_h2
theorem k0_off2583_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2583 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.1 k0_t169 k0_t171 k0_h2
theorem k0_off2584_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2584 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.1 k0_t169 k0_t171 k0_h2
theorem k0_off2585_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2585 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.1 k0_t169 k0_t171 k0_h2
theorem k0_off2586_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2586 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.1 k0_t169 k0_t171 k0_h2
theorem k0_off2587_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2587 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.1 k0_t169 k0_t171 k0_h2
theorem k0_off2588_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2588 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.1 k0_t169 k0_t171 k0_h2
theorem k0_off2589_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2589 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.1 k0_t169 k0_t171 k0_h2
theorem k0_off2590_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2590 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.1 k0_t169 k0_t171 k0_h2
theorem k0_off2591_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2591 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.1 k0_t169 k0_t171 k0_h2
theorem k0_off2592_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2592 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.1 k0_t169 k0_t171 k0_h2
theorem k0_off2593_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2593 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.2.1 k0_t169 k0_t171 k0_h2
theorem k0_off2594_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2594 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.2.2.1 k0_t169 k0_t171 k0_h2
theorem k0_off2595_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2595 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.2.2.2.1 k0_t169 k0_t171 k0_h2
theorem k0_off2596_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2596 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.2.2.2.2.1 k0_t169 k0_t171 k0_h2
theorem k0_off2597_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2597 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.2.2.2.2.2.1 k0_t169 k0_t171 k0_h2
theorem k0_off2598_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2598 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.2.2.2.2.2.2.1 k0_t169 k0_t171 k0_h2
theorem k0_off2599_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2599 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.2.2.2.2.2.2.2.1 k0_t169 k0_t171 k0_h2
theorem k0_off2600_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2600 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.2.2.2.2.2.2.2.2.1 k0_t169 k0_t171 k0_h2
theorem k0_off2601_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2601 v41 v43 v730 v732 k0_t169 k0_t171) a + S1x16.size a ≤ S196x384.size a := fun i v10 v41 v43 v730 v732 k0_hw659 k0_t169 k0_t171 k0_h2 => k0_hw659.2.2.1.2.2.2.2.2.2.2.2.2.2.2.2.2.2.2.2.2.2.2.2.2.2.2.2.2.2.2.2.2.2.2 k0_t169 k0_t171 k0_h2
theorem k0_off2602_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2602 v41 v43 v730 v732 k0_t169 k0_t171) a + S1x16.size a ≤ S196x384.size a := fun i v10 v41 v43 v730 v732 k0_hw659 k0_t169 k0_t171 k0_h2 => k0_hw659.2.2.2.1 k0_t169 k0_t171 k0_h2
theorem k0_off2603_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2603 v41 v43 v730 v732 k0_t169 k0_t171) a + S1x16.size a ≤ S196x384.size a := fun i v10 v41 v43 v730 v732 k0_hw659 k0_t169 k0_t171 k0_h2 => k0_hw659.2.2.2.2.1 k0_t169 k0_t171 k0_h2
theorem k0_off2604_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2604 v41 v43 v730 v732 k0_t169 k0_t171) a + S1x16.size a ≤ S196x384.size a := fun i v10 v41 v43 v730 v732 k0_hw659 k0_t169 k0_t171 k0_h2 => k0_hw659.2.2.2.2.2.1 k0_t169 k0_t171 k0_h2
theorem k0_off2605_inb : ∀ (i : grid0.Coords) (v10 : BitVec 32) (v41 : BitVec 32) (v43 : BitVec 32) (v730 : BitVec 32) (v732 : BitVec 32) (k0_hw659 : k0_chk659 i v10 v41 v43 v730 v732) (k0_t169 : Fin (k0_t169_loop v41 v43).trips) (k0_t171 : Fin (k0_t171_loop v730 v732).trips), ∀ (k0_h2 : k0_cond2 i v10 = 1#1), ∀ a, (k0_off2605 v41 v43 v730 v732 k0_t169 k0_t171) a + S1x16.size a ≤ S196x384.size a := fun i v10 v41 v43 v730 v732 k0_hw659 k0_t169 k0_t171 k0_h2 => k0_hw659.2.2.2.2.2.2 k0_t169 k0_t171 k0_h2

def k0_chk660 (i : grid0.Coords) (v10 : BitVec 32) (v750 : IVec S16 32) : Prop :=
  (∀ (k0_h2 : k0_cond2 i v10 = 1#1), ∀ a x, ((![v750] : Fin 1 → IVec S16 32) a x).toNat < S18816.size a)
theorem k0_idx625_inb : ∀ (i : grid0.Coords) (v10 : BitVec 32) (v750 : IVec S16 32) (k0_hw660 : k0_chk660 i v10 v750), ∀ (k0_h2 : k0_cond2 i v10 = 1#1), ∀ a x, ((![v750] : Fin 1 → IVec S16 32) a x).toNat < S18816.size a := fun i v10 v750 k0_hw660 k0_h2 => k0_hw660 k0_h2

def k0_chk661 (i : grid0.Coords) (v10 : BitVec 32) (v755 : IVec S16 32) : Prop :=
  (∀ (k0_h2 : k0_cond2 i v10 = 1#1), ∀ a x, ((![v755] : Fin 1 → IVec S16 32) a x).toNat < S18816.size a)
theorem k0_idx626_inb : ∀ (i : grid0.Coords) (v10 : BitVec 32) (v755 : IVec S16 32) (k0_hw661 : k0_chk661 i v10 v755), ∀ (k0_h2 : k0_cond2 i v10 = 1#1), ∀ a x, ((![v755] : Fin 1 → IVec S16 32) a x).toNat < S18816.size a := fun i v10 v755 k0_hw661 k0_h2 => k0_hw661 k0_h2

def k0_chk662 (i : grid0.Coords) (v10 : BitVec 32) (v760 : IVec S16 32) : Prop :=
  (∀ (k0_h2 : k0_cond2 i v10 = 1#1), ∀ a x, ((![v760] : Fin 1 → IVec S16 32) a x).toNat < S18816.size a)
theorem k0_idx627_inb : ∀ (i : grid0.Coords) (v10 : BitVec 32) (v760 : IVec S16 32) (k0_hw662 : k0_chk662 i v10 v760), ∀ (k0_h2 : k0_cond2 i v10 = 1#1), ∀ a x, ((![v760] : Fin 1 → IVec S16 32) a x).toNat < S18816.size a := fun i v10 v760 k0_hw662 k0_h2 => k0_hw662 k0_h2

def k0_chk663 (i : grid0.Coords) (v10 : BitVec 32) (v765 : IVec S16 32) : Prop :=
  (∀ (k0_h2 : k0_cond2 i v10 = 1#1), ∀ a x, ((![v765] : Fin 1 → IVec S16 32) a x).toNat < S18816.size a)
theorem k0_idx628_inb : ∀ (i : grid0.Coords) (v10 : BitVec 32) (v765 : IVec S16 32) (k0_hw663 : k0_chk663 i v10 v765), ∀ (k0_h2 : k0_cond2 i v10 = 1#1), ∀ a x, ((![v765] : Fin 1 → IVec S16 32) a x).toNat < S18816.size a := fun i v10 v765 k0_hw663 k0_h2 => k0_hw663 k0_h2

def k0_chk664 (i : grid0.Coords) (v10 : BitVec 32) (v770 : IVec S16 32) : Prop :=
  (∀ (k0_h2 : k0_cond2 i v10 = 1#1), ∀ a x, ((![v770] : Fin 1 → IVec S16 32) a x).toNat < S18816.size a)
theorem k0_idx629_inb : ∀ (i : grid0.Coords) (v10 : BitVec 32) (v770 : IVec S16 32) (k0_hw664 : k0_chk664 i v10 v770), ∀ (k0_h2 : k0_cond2 i v10 = 1#1), ∀ a x, ((![v770] : Fin 1 → IVec S16 32) a x).toNat < S18816.size a := fun i v10 v770 k0_hw664 k0_h2 => k0_hw664 k0_h2

def k0_chk665 (i : grid0.Coords) (v10 : BitVec 32) (v775 : IVec S16 32) : Prop :=
  (∀ (k0_h2 : k0_cond2 i v10 = 1#1), ∀ a x, ((![v775] : Fin 1 → IVec S16 32) a x).toNat < S18816.size a)
theorem k0_idx630_inb : ∀ (i : grid0.Coords) (v10 : BitVec 32) (v775 : IVec S16 32) (k0_hw665 : k0_chk665 i v10 v775), ∀ (k0_h2 : k0_cond2 i v10 = 1#1), ∀ a x, ((![v775] : Fin 1 → IVec S16 32) a x).toNat < S18816.size a := fun i v10 v775 k0_hw665 k0_h2 => k0_hw665 k0_h2

def k0_chk666 (i : grid0.Coords) (v10 : BitVec 32) (v780 : IVec S16 32) : Prop :=
  (∀ (k0_h2 : k0_cond2 i v10 = 1#1), ∀ a x, ((![v780] : Fin 1 → IVec S16 32) a x).toNat < S18816.size a)
theorem k0_idx631_inb : ∀ (i : grid0.Coords) (v10 : BitVec 32) (v780 : IVec S16 32) (k0_hw666 : k0_chk666 i v10 v780), ∀ (k0_h2 : k0_cond2 i v10 = 1#1), ∀ a x, ((![v780] : Fin 1 → IVec S16 32) a x).toNat < S18816.size a := fun i v10 v780 k0_hw666 k0_h2 => k0_hw666 k0_h2

def k0_chk667 (i : grid0.Coords) (v10 : BitVec 32) (v785 : IVec S16 32) : Prop :=
  (∀ (k0_h2 : k0_cond2 i v10 = 1#1), ∀ a x, ((![v785] : Fin 1 → IVec S16 32) a x).toNat < S18816.size a)
theorem k0_idx632_inb : ∀ (i : grid0.Coords) (v10 : BitVec 32) (v785 : IVec S16 32) (k0_hw667 : k0_chk667 i v10 v785), ∀ (k0_h2 : k0_cond2 i v10 = 1#1), ∀ a x, ((![v785] : Fin 1 → IVec S16 32) a x).toNat < S18816.size a := fun i v10 v785 k0_hw667 k0_h2 => k0_hw667 k0_h2

def k0_chk668 (i : grid0.Coords) (v10 : BitVec 32) (v790 : IVec S16 32) : Prop :=
  (∀ (k0_h2 : k0_cond2 i v10 = 1#1), ∀ a x, ((![v790] : Fin 1 → IVec S16 32) a x).toNat < S18816.size a)
theorem k0_idx633_inb : ∀ (i : grid0.Coords) (v10 : BitVec 32) (v790 : IVec S16 32) (k0_hw668 : k0_chk668 i v10 v790), ∀ (k0_h2 : k0_cond2 i v10 = 1#1), ∀ a x, ((![v790] : Fin 1 → IVec S16 32) a x).toNat < S18816.size a := fun i v10 v790 k0_hw668 k0_h2 => k0_hw668 k0_h2

def k0_chk669 (i : grid0.Coords) (v10 : BitVec 32) (v795 : IVec S16 32) : Prop :=
  (∀ (k0_h2 : k0_cond2 i v10 = 1#1), ∀ a x, ((![v795] : Fin 1 → IVec S16 32) a x).toNat < S18816.size a)
theorem k0_idx634_inb : ∀ (i : grid0.Coords) (v10 : BitVec 32) (v795 : IVec S16 32) (k0_hw669 : k0_chk669 i v10 v795), ∀ (k0_h2 : k0_cond2 i v10 = 1#1), ∀ a x, ((![v795] : Fin 1 → IVec S16 32) a x).toNat < S18816.size a := fun i v10 v795 k0_hw669 k0_h2 => k0_hw669 k0_h2

def k0_chk670 (i : grid0.Coords) (v10 : BitVec 32) (v800 : IVec S16 32) : Prop :=
  (∀ (k0_h2 : k0_cond2 i v10 = 1#1), ∀ a x, ((![v800] : Fin 1 → IVec S16 32) a x).toNat < S18816.size a)
theorem k0_idx635_inb : ∀ (i : grid0.Coords) (v10 : BitVec 32) (v800 : IVec S16 32) (k0_hw670 : k0_chk670 i v10 v800), ∀ (k0_h2 : k0_cond2 i v10 = 1#1), ∀ a x, ((![v800] : Fin 1 → IVec S16 32) a x).toNat < S18816.size a := fun i v10 v800 k0_hw670 k0_h2 => k0_hw670 k0_h2

def k0_chk671 (i : grid0.Coords) (v10 : BitVec 32) (v805 : IVec S16 32) : Prop :=
  (∀ (k0_h2 : k0_cond2 i v10 = 1#1), ∀ a x, ((![v805] : Fin 1 → IVec S16 32) a x).toNat < S18816.size a)
theorem k0_idx636_inb : ∀ (i : grid0.Coords) (v10 : BitVec 32) (v805 : IVec S16 32) (k0_hw671 : k0_chk671 i v10 v805), ∀ (k0_h2 : k0_cond2 i v10 = 1#1), ∀ a x, ((![v805] : Fin 1 → IVec S16 32) a x).toNat < S18816.size a := fun i v10 v805 k0_hw671 k0_h2 => k0_hw671 k0_h2

def k0_chk672 (i : grid0.Coords) (v10 : BitVec 32) (v810 : IVec S16 32) : Prop :=
  (∀ (k0_h2 : k0_cond2 i v10 = 1#1), ∀ a x, ((![v810] : Fin 1 → IVec S16 32) a x).toNat < S18816.size a)
theorem k0_idx637_inb : ∀ (i : grid0.Coords) (v10 : BitVec 32) (v810 : IVec S16 32) (k0_hw672 : k0_chk672 i v10 v810), ∀ (k0_h2 : k0_cond2 i v10 = 1#1), ∀ a x, ((![v810] : Fin 1 → IVec S16 32) a x).toNat < S18816.size a := fun i v10 v810 k0_hw672 k0_h2 => k0_hw672 k0_h2

def k0_chk673 (i : grid0.Coords) (v10 : BitVec 32) (v815 : IVec S16 32) : Prop :=
  (∀ (k0_h2 : k0_cond2 i v10 = 1#1), ∀ a x, ((![v815] : Fin 1 → IVec S16 32) a x).toNat < S18816.size a)
theorem k0_idx638_inb : ∀ (i : grid0.Coords) (v10 : BitVec 32) (v815 : IVec S16 32) (k0_hw673 : k0_chk673 i v10 v815), ∀ (k0_h2 : k0_cond2 i v10 = 1#1), ∀ a x, ((![v815] : Fin 1 → IVec S16 32) a x).toNat < S18816.size a := fun i v10 v815 k0_hw673 k0_h2 => k0_hw673 k0_h2

def k0_chk674 (i : grid0.Coords) (v10 : BitVec 32) (v820 : IVec S16 32) : Prop :=
  (∀ (k0_h2 : k0_cond2 i v10 = 1#1), ∀ a x, ((![v820] : Fin 1 → IVec S16 32) a x).toNat < S18816.size a)
theorem k0_idx639_inb : ∀ (i : grid0.Coords) (v10 : BitVec 32) (v820 : IVec S16 32) (k0_hw674 : k0_chk674 i v10 v820), ∀ (k0_h2 : k0_cond2 i v10 = 1#1), ∀ a x, ((![v820] : Fin 1 → IVec S16 32) a x).toNat < S18816.size a := fun i v10 v820 k0_hw674 k0_h2 => k0_hw674 k0_h2

def k0_chk675 (i : grid0.Coords) (v10 : BitVec 32) (v825 : IVec S16 32) : Prop :=
  (∀ (k0_h2 : k0_cond2 i v10 = 1#1), ∀ a x, ((![v825] : Fin 1 → IVec S16 32) a x).toNat < S18816.size a)
theorem k0_idx640_inb : ∀ (i : grid0.Coords) (v10 : BitVec 32) (v825 : IVec S16 32) (k0_hw675 : k0_chk675 i v10 v825), ∀ (k0_h2 : k0_cond2 i v10 = 1#1), ∀ a x, ((![v825] : Fin 1 → IVec S16 32) a x).toNat < S18816.size a := fun i v10 v825 k0_hw675 k0_h2 => k0_hw675 k0_h2

def k0_chk676 (i : grid0.Coords) (v10 : BitVec 32) (v830 : IVec S16 32) : Prop :=
  (∀ (k0_h2 : k0_cond2 i v10 = 1#1), ∀ a x, ((![v830] : Fin 1 → IVec S16 32) a x).toNat < S18816.size a)
theorem k0_idx641_inb : ∀ (i : grid0.Coords) (v10 : BitVec 32) (v830 : IVec S16 32) (k0_hw676 : k0_chk676 i v10 v830), ∀ (k0_h2 : k0_cond2 i v10 = 1#1), ∀ a x, ((![v830] : Fin 1 → IVec S16 32) a x).toNat < S18816.size a := fun i v10 v830 k0_hw676 k0_h2 => k0_hw676 k0_h2

def k0_chk677 (i : grid0.Coords) (v10 : BitVec 32) (v835 : IVec S16 32) : Prop :=
  (∀ (k0_h2 : k0_cond2 i v10 = 1#1), ∀ a x, ((![v835] : Fin 1 → IVec S16 32) a x).toNat < S18816.size a)
theorem k0_idx642_inb : ∀ (i : grid0.Coords) (v10 : BitVec 32) (v835 : IVec S16 32) (k0_hw677 : k0_chk677 i v10 v835), ∀ (k0_h2 : k0_cond2 i v10 = 1#1), ∀ a x, ((![v835] : Fin 1 → IVec S16 32) a x).toNat < S18816.size a := fun i v10 v835 k0_hw677 k0_h2 => k0_hw677 k0_h2

def k0_chk678 (i : grid0.Coords) (v10 : BitVec 32) (v840 : IVec S16 32) : Prop :=
  (∀ (k0_h2 : k0_cond2 i v10 = 1#1), ∀ a x, ((![v840] : Fin 1 → IVec S16 32) a x).toNat < S18816.size a)
theorem k0_idx643_inb : ∀ (i : grid0.Coords) (v10 : BitVec 32) (v840 : IVec S16 32) (k0_hw678 : k0_chk678 i v10 v840), ∀ (k0_h2 : k0_cond2 i v10 = 1#1), ∀ a x, ((![v840] : Fin 1 → IVec S16 32) a x).toNat < S18816.size a := fun i v10 v840 k0_hw678 k0_h2 => k0_hw678 k0_h2

def k0_chk679 (i : grid0.Coords) (v10 : BitVec 32) (v845 : IVec S16 32) : Prop :=
  (∀ (k0_h2 : k0_cond2 i v10 = 1#1), ∀ a x, ((![v845] : Fin 1 → IVec S16 32) a x).toNat < S18816.size a)
theorem k0_idx644_inb : ∀ (i : grid0.Coords) (v10 : BitVec 32) (v845 : IVec S16 32) (k0_hw679 : k0_chk679 i v10 v845), ∀ (k0_h2 : k0_cond2 i v10 = 1#1), ∀ a x, ((![v845] : Fin 1 → IVec S16 32) a x).toNat < S18816.size a := fun i v10 v845 k0_hw679 k0_h2 => k0_hw679 k0_h2

def k0_chk680 (i : grid0.Coords) (v10 : BitVec 32) (v850 : IVec S16 32) : Prop :=
  (∀ (k0_h2 : k0_cond2 i v10 = 1#1), ∀ a x, ((![v850] : Fin 1 → IVec S16 32) a x).toNat < S18816.size a)
theorem k0_idx645_inb : ∀ (i : grid0.Coords) (v10 : BitVec 32) (v850 : IVec S16 32) (k0_hw680 : k0_chk680 i v10 v850), ∀ (k0_h2 : k0_cond2 i v10 = 1#1), ∀ a x, ((![v850] : Fin 1 → IVec S16 32) a x).toNat < S18816.size a := fun i v10 v850 k0_hw680 k0_h2 => k0_hw680 k0_h2

def k0_chk681 (i : grid0.Coords) (v10 : BitVec 32) (v855 : IVec S16 32) : Prop :=
  (∀ (k0_h2 : k0_cond2 i v10 = 1#1), ∀ a x, ((![v855] : Fin 1 → IVec S16 32) a x).toNat < S18816.size a)
theorem k0_idx646_inb : ∀ (i : grid0.Coords) (v10 : BitVec 32) (v855 : IVec S16 32) (k0_hw681 : k0_chk681 i v10 v855), ∀ (k0_h2 : k0_cond2 i v10 = 1#1), ∀ a x, ((![v855] : Fin 1 → IVec S16 32) a x).toNat < S18816.size a := fun i v10 v855 k0_hw681 k0_h2 => k0_hw681 k0_h2

def k0_chk682 (i : grid0.Coords) (v10 : BitVec 32) (v860 : IVec S16 32) : Prop :=
  (∀ (k0_h2 : k0_cond2 i v10 = 1#1), ∀ a x, ((![v860] : Fin 1 → IVec S16 32) a x).toNat < S18816.size a)
theorem k0_idx647_inb : ∀ (i : grid0.Coords) (v10 : BitVec 32) (v860 : IVec S16 32) (k0_hw682 : k0_chk682 i v10 v860), ∀ (k0_h2 : k0_cond2 i v10 = 1#1), ∀ a x, ((![v860] : Fin 1 → IVec S16 32) a x).toNat < S18816.size a := fun i v10 v860 k0_hw682 k0_h2 => k0_hw682 k0_h2

def k0_chk683 (i : grid0.Coords) (v10 : BitVec 32) (v865 : IVec S16 32) : Prop :=
  (∀ (k0_h2 : k0_cond2 i v10 = 1#1), ∀ a x, ((![v865] : Fin 1 → IVec S16 32) a x).toNat < S18816.size a)
theorem k0_idx648_inb : ∀ (i : grid0.Coords) (v10 : BitVec 32) (v865 : IVec S16 32) (k0_hw683 : k0_chk683 i v10 v865), ∀ (k0_h2 : k0_cond2 i v10 = 1#1), ∀ a x, ((![v865] : Fin 1 → IVec S16 32) a x).toNat < S18816.size a := fun i v10 v865 k0_hw683 k0_h2 => k0_hw683 k0_h2
@[reducible] def k0_t172_loop (v41 : BitVec 32) (v43 : BitVec 32) : Scf.Loop 32 :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_323 : BitVec 32 := 1#32
  ⟨v41, v875, c1_i32_323⟩
@[reducible] def k0_t173_loop (v867 : BitVec 32) (v869 : BitVec 32) : Scf.Loop 32 :=
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_375 : BitVec 32 := 1#32
  ⟨v867, v1008, c1_i32_375⟩

def k0_off2606 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1012 : Index := Scalar.indexCast v1011
  let c0_377 : Index := 0#32
  ![v1012.toNat, 0]
def k0_off2607 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1015 : Index := Scalar.indexCast v1011
  let c16 : Index := 16#32
  ![v1015.toNat, 16]
def k0_off2608 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1018 : Index := Scalar.indexCast v1011
  let c32 : Index := 32#32
  ![v1018.toNat, 32]
def k0_off2609 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1021 : Index := Scalar.indexCast v1011
  let c48 : Index := 48#32
  ![v1021.toNat, 48]
def k0_off2610 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1024 : Index := Scalar.indexCast v1011
  let c64 : Index := 64#32
  ![v1024.toNat, 64]
def k0_off2611 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1027 : Index := Scalar.indexCast v1011
  let c80 : Index := 80#32
  ![v1027.toNat, 80]
def k0_off2612 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1030 : Index := Scalar.indexCast v1011
  let c96 : Index := 96#32
  ![v1030.toNat, 96]
def k0_off2613 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1033 : Index := Scalar.indexCast v1011
  let c112 : Index := 112#32
  ![v1033.toNat, 112]
def k0_off2614 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1036 : Index := Scalar.indexCast v1011
  let c128 : Index := 128#32
  ![v1036.toNat, 128]
def k0_off2615 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1039 : Index := Scalar.indexCast v1011
  let c144 : Index := 144#32
  ![v1039.toNat, 144]
def k0_off2616 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1042 : Index := Scalar.indexCast v1011
  let c160 : Index := 160#32
  ![v1042.toNat, 160]
def k0_off2617 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1045 : Index := Scalar.indexCast v1011
  let c176 : Index := 176#32
  ![v1045.toNat, 176]
def k0_off2618 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1048 : Index := Scalar.indexCast v1011
  let c192 : Index := 192#32
  ![v1048.toNat, 192]
def k0_off2619 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1051 : Index := Scalar.indexCast v1011
  let c208 : Index := 208#32
  ![v1051.toNat, 208]
def k0_off2620 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1054 : Index := Scalar.indexCast v1011
  let c224 : Index := 224#32
  ![v1054.toNat, 224]
def k0_off2621 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1057 : Index := Scalar.indexCast v1011
  let c240 : Index := 240#32
  ![v1057.toNat, 240]
def k0_off2622 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1060 : Index := Scalar.indexCast v1011
  let c256 : Index := 256#32
  ![v1060.toNat, 256]
def k0_off2623 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1063 : Index := Scalar.indexCast v1011
  let c272 : Index := 272#32
  ![v1063.toNat, 272]
def k0_off2624 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1066 : Index := Scalar.indexCast v1011
  let c288 : Index := 288#32
  ![v1066.toNat, 288]
def k0_off2625 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1069 : Index := Scalar.indexCast v1011
  let c304 : Index := 304#32
  ![v1069.toNat, 304]
def k0_off2626 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1072 : Index := Scalar.indexCast v1011
  let c320 : Index := 320#32
  ![v1072.toNat, 320]
def k0_off2627 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1075 : Index := Scalar.indexCast v1011
  let c336 : Index := 336#32
  ![v1075.toNat, 336]
def k0_off2628 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1078 : Index := Scalar.indexCast v1011
  let c352 : Index := 352#32
  ![v1078.toNat, 352]
def k0_off2629 (v41 : BitVec 32) (v43 : BitVec 32) (v867 : BitVec 32) (v869 : BitVec 32) (k0_t172 : Fin (k0_t172_loop v41 v43).trips) (k0_t173 : Fin (k0_t173_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let c1_i32_375 : BitVec 32 := 1#32
  let arg36 : BitVec 32 := Scf.iv v867 c1_i32_375 k0_t173
  let v1011 : BitVec 32 := Scalar.addi v1003 arg36
  let v1081 : Index := Scalar.indexCast v1011
  let c368 : Index := 368#32
  ![v1081.toNat, 368]
@[reducible] def k0_t174_loop (v867 : BitVec 32) (v869 : BitVec 32) : Scf.Loop 32 :=
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let v1005 : BitVec 32 := Scalar.addi v867 v1004
  let c1_i32_376 : BitVec 32 := 1#32
  ⟨v1008, v1005, c1_i32_376⟩
def k0_off2630 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1012 : Index := Scalar.indexCast v1011
  let c0_377 : Index := 0#32
  ![v1012.toNat, 0]
def k0_off2631 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1015 : Index := Scalar.indexCast v1011
  let c16 : Index := 16#32
  ![v1015.toNat, 16]
def k0_off2632 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1018 : Index := Scalar.indexCast v1011
  let c32 : Index := 32#32
  ![v1018.toNat, 32]
def k0_off2633 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1021 : Index := Scalar.indexCast v1011
  let c48 : Index := 48#32
  ![v1021.toNat, 48]
def k0_off2634 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1024 : Index := Scalar.indexCast v1011
  let c64 : Index := 64#32
  ![v1024.toNat, 64]
def k0_off2635 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1027 : Index := Scalar.indexCast v1011
  let c80 : Index := 80#32
  ![v1027.toNat, 80]
def k0_off2636 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1030 : Index := Scalar.indexCast v1011
  let c96 : Index := 96#32
  ![v1030.toNat, 96]
def k0_off2637 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1033 : Index := Scalar.indexCast v1011
  let c112 : Index := 112#32
  ![v1033.toNat, 112]
def k0_off2638 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1036 : Index := Scalar.indexCast v1011
  let c128 : Index := 128#32
  ![v1036.toNat, 128]
def k0_off2639 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1039 : Index := Scalar.indexCast v1011
  let c144 : Index := 144#32
  ![v1039.toNat, 144]
def k0_off2640 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1042 : Index := Scalar.indexCast v1011
  let c160 : Index := 160#32
  ![v1042.toNat, 160]
def k0_off2641 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1045 : Index := Scalar.indexCast v1011
  let c176 : Index := 176#32
  ![v1045.toNat, 176]
def k0_off2642 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1048 : Index := Scalar.indexCast v1011
  let c192 : Index := 192#32
  ![v1048.toNat, 192]
def k0_off2643 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1051 : Index := Scalar.indexCast v1011
  let c208 : Index := 208#32
  ![v1051.toNat, 208]
def k0_off2644 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1054 : Index := Scalar.indexCast v1011
  let c224 : Index := 224#32
  ![v1054.toNat, 224]
def k0_off2645 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1057 : Index := Scalar.indexCast v1011
  let c240 : Index := 240#32
  ![v1057.toNat, 240]
def k0_off2646 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1060 : Index := Scalar.indexCast v1011
  let c256 : Index := 256#32
  ![v1060.toNat, 256]
def k0_off2647 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1063 : Index := Scalar.indexCast v1011
  let c272 : Index := 272#32
  ![v1063.toNat, 272]
def k0_off2648 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1066 : Index := Scalar.indexCast v1011
  let c288 : Index := 288#32
  ![v1066.toNat, 288]
def k0_off2649 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1069 : Index := Scalar.indexCast v1011
  let c304 : Index := 304#32
  ![v1069.toNat, 304]
def k0_off2650 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1072 : Index := Scalar.indexCast v1011
  let c320 : Index := 320#32
  ![v1072.toNat, 320]
def k0_off2651 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1075 : Index := Scalar.indexCast v1011
  let c336 : Index := 336#32
  ![v1075.toNat, 336]
def k0_off2652 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1078 : Index := Scalar.indexCast v1011
  let c352 : Index := 352#32
  ![v1078.toNat, 352]
def k0_off2653 (v41 : BitVec 32) (v43 : BitVec 32) (v867 : BitVec 32) (v869 : BitVec 32) (k0_t172 : Fin (k0_t172_loop v41 v43).trips) (k0_t174 : Fin (k0_t174_loop v867 v869).trips) : Fin 2 → Nat :=
  let c1_i32_323 : BitVec 32 := 1#32
  let arg11 : BitVec 32 := Scf.iv v41 c1_i32_323 k0_t172
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t174
  let v1011 : BitVec 32 := Scalar.addi v1003 arg36
  let v1081 : Index := Scalar.indexCast v1011
  let c368 : Index := 368#32
  ![v1081.toNat, 368]
@[reducible] def k0_t175_loop (v41 : BitVec 32) (v43 : BitVec 32) : Scf.Loop 32 :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let v872 : BitVec 32 := Scalar.addi v41 v871
  let c1_i32_324 : BitVec 32 := 1#32
  ⟨v875, v872, c1_i32_324⟩

variable {F : FTy → Type} [FloatOps F]

def k0_chk533 (i : grid0.Coords) (v10 : BitVec 32) (v41 : BitVec 32) (v43 : BitVec 32) : Prop :=
  (∀ (k0_h2 : k0_cond2 i v10 = 1#1), (k0_t136_loop v41 v43).OK) ∧
  (∀ (k0_h2 : k0_cond2 i v10 = 1#1), (k0_t139_loop v41 v43).OK) ∧
  (∀ (k0_h2 : k0_cond2 i v10 = 1#1), (k0_t142_loop v41 v43).OK) ∧
  (∀ (k0_h2 : k0_cond2 i v10 = 1#1), (k0_t145_loop v41 v43).OK) ∧
  (∀ (k0_h2 : k0_cond2 i v10 = 1#1), (k0_t148_loop v41 v43).OK) ∧
  (∀ (k0_h2 : k0_cond2 i v10 = 1#1), (k0_t151_loop v41 v43).OK) ∧
  (∀ (k0_h2 : k0_cond2 i v10 = 1#1), (k0_t154_loop v41 v43).OK) ∧
  (∀ (k0_h2 : k0_cond2 i v10 = 1#1), (k0_t157_loop v41 v43).OK) ∧
  (∀ (k0_h2 : k0_cond2 i v10 = 1#1), (k0_t160_loop v41 v43).OK) ∧
  (∀ (k0_h2 : k0_cond2 i v10 = 1#1), (k0_t163_loop v41 v43).OK) ∧
  (∀ (k0_h2 : k0_cond2 i v10 = 1#1), (k0_t166_loop v41 v43).OK) ∧
  (∀ (k0_h2 : k0_cond2 i v10 = 1#1), (k0_t169_loop v41 v43).OK) ∧
  (∀ (k0_h2 : k0_cond2 i v10 = 1#1), (k0_t172_loop v41 v43).OK) ∧
  (∀ (k0_h2 : k0_cond2 i v10 = 1#1), (k0_t175_loop v41 v43).OK)
theorem k0_t136_ok : ∀ (i : grid0.Coords) (v10 : BitVec 32) (v41 : BitVec 32) (v43 : BitVec 32) (k0_hw533 : k0_chk533 i v10 v41 v43), ∀ (k0_h2 : k0_cond2 i v10 = 1#1), (k0_t136_loop v41 v43).OK := fun i v10 v41 v43 k0_hw533 k0_h2 => k0_hw533.1 k0_h2
theorem k0_t139_ok : ∀ (i : grid0.Coords) (v10 : BitVec 32) (v41 : BitVec 32) (v43 : BitVec 32) (k0_hw533 : k0_chk533 i v10 v41 v43), ∀ (k0_h2 : k0_cond2 i v10 = 1#1), (k0_t139_loop v41 v43).OK := fun i v10 v41 v43 k0_hw533 k0_h2 => k0_hw533.2.1 k0_h2
theorem k0_t142_ok : ∀ (i : grid0.Coords) (v10 : BitVec 32) (v41 : BitVec 32) (v43 : BitVec 32) (k0_hw533 : k0_chk533 i v10 v41 v43), ∀ (k0_h2 : k0_cond2 i v10 = 1#1), (k0_t142_loop v41 v43).OK := fun i v10 v41 v43 k0_hw533 k0_h2 => k0_hw533.2.2.1 k0_h2
theorem k0_t145_ok : ∀ (i : grid0.Coords) (v10 : BitVec 32) (v41 : BitVec 32) (v43 : BitVec 32) (k0_hw533 : k0_chk533 i v10 v41 v43), ∀ (k0_h2 : k0_cond2 i v10 = 1#1), (k0_t145_loop v41 v43).OK := fun i v10 v41 v43 k0_hw533 k0_h2 => k0_hw533.2.2.2.1 k0_h2
theorem k0_t148_ok : ∀ (i : grid0.Coords) (v10 : BitVec 32) (v41 : BitVec 32) (v43 : BitVec 32) (k0_hw533 : k0_chk533 i v10 v41 v43), ∀ (k0_h2 : k0_cond2 i v10 = 1#1), (k0_t148_loop v41 v43).OK := fun i v10 v41 v43 k0_hw533 k0_h2 => k0_hw533.2.2.2.2.1 k0_h2
theorem k0_t151_ok : ∀ (i : grid0.Coords) (v10 : BitVec 32) (v41 : BitVec 32) (v43 : BitVec 32) (k0_hw533 : k0_chk533 i v10 v41 v43), ∀ (k0_h2 : k0_cond2 i v10 = 1#1), (k0_t151_loop v41 v43).OK := fun i v10 v41 v43 k0_hw533 k0_h2 => k0_hw533.2.2.2.2.2.1 k0_h2
theorem k0_t154_ok : ∀ (i : grid0.Coords) (v10 : BitVec 32) (v41 : BitVec 32) (v43 : BitVec 32) (k0_hw533 : k0_chk533 i v10 v41 v43), ∀ (k0_h2 : k0_cond2 i v10 = 1#1), (k0_t154_loop v41 v43).OK := fun i v10 v41 v43 k0_hw533 k0_h2 => k0_hw533.2.2.2.2.2.2.1 k0_h2
theorem k0_t157_ok : ∀ (i : grid0.Coords) (v10 : BitVec 32) (v41 : BitVec 32) (v43 : BitVec 32) (k0_hw533 : k0_chk533 i v10 v41 v43), ∀ (k0_h2 : k0_cond2 i v10 = 1#1), (k0_t157_loop v41 v43).OK := fun i v10 v41 v43 k0_hw533 k0_h2 => k0_hw533.2.2.2.2.2.2.2.1 k0_h2
theorem k0_t160_ok : ∀ (i : grid0.Coords) (v10 : BitVec 32) (v41 : BitVec 32) (v43 : BitVec 32) (k0_hw533 : k0_chk533 i v10 v41 v43), ∀ (k0_h2 : k0_cond2 i v10 = 1#1), (k0_t160_loop v41 v43).OK := fun i v10 v41 v43 k0_hw533 k0_h2 => k0_hw533.2.2.2.2.2.2.2.2.1 k0_h2
theorem k0_t163_ok : ∀ (i : grid0.Coords) (v10 : BitVec 32) (v41 : BitVec 32) (v43 : BitVec 32) (k0_hw533 : k0_chk533 i v10 v41 v43), ∀ (k0_h2 : k0_cond2 i v10 = 1#1), (k0_t163_loop v41 v43).OK := fun i v10 v41 v43 k0_hw533 k0_h2 => k0_hw533.2.2.2.2.2.2.2.2.2.1 k0_h2
theorem k0_t166_ok : ∀ (i : grid0.Coords) (v10 : BitVec 32) (v41 : BitVec 32) (v43 : BitVec 32) (k0_hw533 : k0_chk533 i v10 v41 v43), ∀ (k0_h2 : k0_cond2 i v10 = 1#1), (k0_t166_loop v41 v43).OK := fun i v10 v41 v43 k0_hw533 k0_h2 => k0_hw533.2.2.2.2.2.2.2.2.2.2.1 k0_h2
theorem k0_t169_ok : ∀ (i : grid0.Coords) (v10 : BitVec 32) (v41 : BitVec 32) (v43 : BitVec 32) (k0_hw533 : k0_chk533 i v10 v41 v43), ∀ (k0_h2 : k0_cond2 i v10 = 1#1), (k0_t169_loop v41 v43).OK := fun i v10 v41 v43 k0_hw533 k0_h2 => k0_hw533.2.2.2.2.2.2.2.2.2.2.2.1 k0_h2
theorem k0_t172_ok : ∀ (i : grid0.Coords) (v10 : BitVec 32) (v41 : BitVec 32) (v43 : BitVec 32) (k0_hw533 : k0_chk533 i v10 v41 v43), ∀ (k0_h2 : k0_cond2 i v10 = 1#1), (k0_t172_loop v41 v43).OK := fun i v10 v41 v43 k0_hw533 k0_h2 => k0_hw533.2.2.2.2.2.2.2.2.2.2.2.2.1 k0_h2
theorem k0_t175_ok : ∀ (i : grid0.Coords) (v10 : BitVec 32) (v41 : BitVec 32) (v43 : BitVec 32) (k0_hw533 : k0_chk533 i v10 v41 v43), ∀ (k0_h2 : k0_cond2 i v10 = 1#1), (k0_t175_loop v41 v43).OK := fun i v10 v41 v43 k0_hw533 k0_h2 => k0_hw533.2.2.2.2.2.2.2.2.2.2.2.2.2 k0_h2

@[reducible] def k0_t176_loop (v867 : BitVec 32) (v869 : BitVec 32) : Scf.Loop 32 :=
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_375 : BitVec 32 := 1#32
  ⟨v867, v1008, c1_i32_375⟩
def k0_off2654 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1012 : Index := Scalar.indexCast v1011
  let c0_377 : Index := 0#32
  ![v1012.toNat, 0]
def k0_off2655 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1015 : Index := Scalar.indexCast v1011
  let c16 : Index := 16#32
  ![v1015.toNat, 16]
def k0_off2656 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1018 : Index := Scalar.indexCast v1011
  let c32 : Index := 32#32
  ![v1018.toNat, 32]
def k0_off2657 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1021 : Index := Scalar.indexCast v1011
  let c48 : Index := 48#32
  ![v1021.toNat, 48]
def k0_off2658 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1024 : Index := Scalar.indexCast v1011
  let c64 : Index := 64#32
  ![v1024.toNat, 64]
def k0_off2659 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1027 : Index := Scalar.indexCast v1011
  let c80 : Index := 80#32
  ![v1027.toNat, 80]
def k0_off2660 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1030 : Index := Scalar.indexCast v1011
  let c96 : Index := 96#32
  ![v1030.toNat, 96]
def k0_off2661 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1033 : Index := Scalar.indexCast v1011
  let c112 : Index := 112#32
  ![v1033.toNat, 112]
def k0_off2662 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1036 : Index := Scalar.indexCast v1011
  let c128 : Index := 128#32
  ![v1036.toNat, 128]
def k0_off2663 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1039 : Index := Scalar.indexCast v1011
  let c144 : Index := 144#32
  ![v1039.toNat, 144]
def k0_off2664 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1042 : Index := Scalar.indexCast v1011
  let c160 : Index := 160#32
  ![v1042.toNat, 160]
def k0_off2665 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1045 : Index := Scalar.indexCast v1011
  let c176 : Index := 176#32
  ![v1045.toNat, 176]
def k0_off2666 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1048 : Index := Scalar.indexCast v1011
  let c192 : Index := 192#32
  ![v1048.toNat, 192]
def k0_off2667 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1051 : Index := Scalar.indexCast v1011
  let c208 : Index := 208#32
  ![v1051.toNat, 208]
def k0_off2668 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1054 : Index := Scalar.indexCast v1011
  let c224 : Index := 224#32
  ![v1054.toNat, 224]
def k0_off2669 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1057 : Index := Scalar.indexCast v1011
  let c240 : Index := 240#32
  ![v1057.toNat, 240]
def k0_off2670 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1060 : Index := Scalar.indexCast v1011
  let c256 : Index := 256#32
  ![v1060.toNat, 256]
def k0_off2671 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1063 : Index := Scalar.indexCast v1011
  let c272 : Index := 272#32
  ![v1063.toNat, 272]
def k0_off2672 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1066 : Index := Scalar.indexCast v1011
  let c288 : Index := 288#32
  ![v1066.toNat, 288]
def k0_off2673 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1069 : Index := Scalar.indexCast v1011
  let c304 : Index := 304#32
  ![v1069.toNat, 304]
def k0_off2674 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1072 : Index := Scalar.indexCast v1011
  let c320 : Index := 320#32
  ![v1072.toNat, 320]
def k0_off2675 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1075 : Index := Scalar.indexCast v1011
  let c336 : Index := 336#32
  ![v1075.toNat, 336]
def k0_off2676 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1078 : Index := Scalar.indexCast v1011
  let c352 : Index := 352#32
  ![v1078.toNat, 352]
def k0_off2677 (v41 : BitVec 32) (v43 : BitVec 32) (v867 : BitVec 32) (v869 : BitVec 32) (k0_t175 : Fin (k0_t175_loop v41 v43).trips) (k0_t176 : Fin (k0_t176_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let c1_i32_375 : BitVec 32 := 1#32
  let arg36 : BitVec 32 := Scf.iv v867 c1_i32_375 k0_t176
  let v1011 : BitVec 32 := Scalar.addi v1003 arg36
  let v1081 : Index := Scalar.indexCast v1011
  let c368 : Index := 368#32
  ![v1081.toNat, 368]
@[reducible] def k0_t177_loop (v867 : BitVec 32) (v869 : BitVec 32) : Scf.Loop 32 :=
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let v1005 : BitVec 32 := Scalar.addi v867 v1004
  let c1_i32_376 : BitVec 32 := 1#32
  ⟨v1008, v1005, c1_i32_376⟩
def k0_off2678 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1012 : Index := Scalar.indexCast v1011
  let c0_377 : Index := 0#32
  ![v1012.toNat, 0]
def k0_off2679 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1015 : Index := Scalar.indexCast v1011
  let c16 : Index := 16#32
  ![v1015.toNat, 16]
def k0_off2680 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1018 : Index := Scalar.indexCast v1011
  let c32 : Index := 32#32
  ![v1018.toNat, 32]
def k0_off2681 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1021 : Index := Scalar.indexCast v1011
  let c48 : Index := 48#32
  ![v1021.toNat, 48]
def k0_off2682 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1024 : Index := Scalar.indexCast v1011
  let c64 : Index := 64#32
  ![v1024.toNat, 64]
def k0_off2683 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1027 : Index := Scalar.indexCast v1011
  let c80 : Index := 80#32
  ![v1027.toNat, 80]
def k0_off2684 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1030 : Index := Scalar.indexCast v1011
  let c96 : Index := 96#32
  ![v1030.toNat, 96]
def k0_off2685 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1033 : Index := Scalar.indexCast v1011
  let c112 : Index := 112#32
  ![v1033.toNat, 112]
def k0_off2686 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1036 : Index := Scalar.indexCast v1011
  let c128 : Index := 128#32
  ![v1036.toNat, 128]
def k0_off2687 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1039 : Index := Scalar.indexCast v1011
  let c144 : Index := 144#32
  ![v1039.toNat, 144]
def k0_off2688 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1042 : Index := Scalar.indexCast v1011
  let c160 : Index := 160#32
  ![v1042.toNat, 160]
def k0_off2689 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1045 : Index := Scalar.indexCast v1011
  let c176 : Index := 176#32
  ![v1045.toNat, 176]
def k0_off2690 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1048 : Index := Scalar.indexCast v1011
  let c192 : Index := 192#32
  ![v1048.toNat, 192]
def k0_off2691 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1051 : Index := Scalar.indexCast v1011
  let c208 : Index := 208#32
  ![v1051.toNat, 208]
def k0_off2692 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1054 : Index := Scalar.indexCast v1011
  let c224 : Index := 224#32
  ![v1054.toNat, 224]
def k0_off2693 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1057 : Index := Scalar.indexCast v1011
  let c240 : Index := 240#32
  ![v1057.toNat, 240]
def k0_off2694 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1060 : Index := Scalar.indexCast v1011
  let c256 : Index := 256#32
  ![v1060.toNat, 256]
def k0_off2695 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1063 : Index := Scalar.indexCast v1011
  let c272 : Index := 272#32
  ![v1063.toNat, 272]
def k0_off2696 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1066 : Index := Scalar.indexCast v1011
  let c288 : Index := 288#32
  ![v1066.toNat, 288]
def k0_off2697 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1069 : Index := Scalar.indexCast v1011
  let c304 : Index := 304#32
  ![v1069.toNat, 304]
def k0_off2698 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1072 : Index := Scalar.indexCast v1011
  let c320 : Index := 320#32
  ![v1072.toNat, 320]
def k0_off2699 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1075 : Index := Scalar.indexCast v1011
  let c336 : Index := 336#32
  ![v1075.toNat, 336]
def k0_off2700 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1078 : Index := Scalar.indexCast v1011
  let c352 : Index := 352#32
  ![v1078.toNat, 352]
def k0_off2701 (v41 : BitVec 32) (v43 : BitVec 32) (v867 : BitVec 32) (v869 : BitVec 32) (k0_t175 : Fin (k0_t175_loop v41 v43).trips) (k0_t177 : Fin (k0_t177_loop v867 v869).trips) : Fin 2 → Nat :=
  let v871 : BitVec 32 := Scalar.subi v43 v41
  let c1_i32_322 : BitVec 32 := 1#32
  let v873 : BitVec 32 := Scalar.divsi v871 c1_i32_322
  let v874 : BitVec 32 := Scalar.muli v873 c1_i32_322
  let v875 : BitVec 32 := Scalar.addi v41 v874
  let c1_i32_324 : BitVec 32 := 1#32
  let arg11 : BitVec 32 := Scf.iv v875 c1_i32_324 k0_t175
  let c14_i32 : BitVec 32 := 14#32
  let v1003 : BitVec 32 := Scalar.muli arg11 c14_i32
  let v1004 : BitVec 32 := Scalar.subi v869 v867
  let c1_i32_374 : BitVec 32 := 1#32
  let v1006 : BitVec 32 := Scalar.divsi v1004 c1_i32_374
  let v1007 : BitVec 32 := Scalar.muli v1006 c1_i32_374
  let v1008 : BitVec 32 := Scalar.addi v867 v1007
  let c1_i32_376 : BitVec 32 := 1#32
  let arg36 : BitVec 32 := Scf.iv v1008 c1_i32_376 k0_t177
  let v1011 : BitVec 32 := Scalar.addi v1003 arg36
  let v1081 : Index := Scalar.indexCast v1011
  let c368 : Index := 368#32
  ![v1081.toNat, 368]

def k0_chk684_0 (i : grid0.Coords) (v10 : BitVec 32) (v41 : BitVec 32) (v43 : BitVec 32) (v867 : BitVec 32) (v869 : BitVec 32) : Prop :=
  (∀ k0_t172 : Fin (k0_t172_loop v41 v43).trips, ∀ (k0_h2 : k0_cond2 i v10 = 1#1), (k0_t173_loop v867 v869).OK) ∧
  (∀ (k0_t172 : Fin (k0_t172_loop v41 v43).trips) (k0_t173 : Fin (k0_t173_loop v867 v869).trips), ∀ (k0_h2 : k0_cond2 i v10 = 1#1), ∀ a, (k0_off2606 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2607 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2608 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2609 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2610 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2611 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2612 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2613 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2614 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2615 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2616 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2617 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2618 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2619 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2620 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2621 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2622 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2623 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2624 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2625 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2626 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2627 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2628 v41 v43 v867 v869 k0_t172 k0_t173) a + S1x16.size a ≤ S196x384.size a) ∧
  (∀ (k0_t172 : Fin (k0_t172_loop v41 v43).trips) (k0_t173 : Fin (k0_t173_loop v867 v869).trips), ∀ (k0_h2 : k0_cond2 i v10 = 1#1), ∀ a, (k0_off2629 v41 v43 v867 v869 k0_t172 k0_t173) a + S1x16.size a ≤ S196x384.size a) ∧
  (∀ k0_t172 : Fin (k0_t172_loop v41 v43).trips, ∀ (k0_h2 : k0_cond2 i v10 = 1#1), (k0_t174_loop v867 v869).OK) ∧
  (∀ (k0_t172 : Fin (k0_t172_loop v41 v43).trips) (k0_t174 : Fin (k0_t174_loop v867 v869).trips), ∀ (k0_h2 : k0_cond2 i v10 = 1#1), ∀ a, (k0_off2630 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2631 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2632 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2633 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2634 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2635 v41 v43 v867 v869 k0_t172 k0_t174) a + S1x16.size a ≤ S196x384.size a)
def k0_chk684_1 (i : grid0.Coords) (v10 : BitVec 32) (v41 : BitVec 32) (v43 : BitVec 32) (v867 : BitVec 32) (v869 : BitVec 32) : Prop :=
  (∀ (k0_t172 : Fin (k0_t172_loop v41 v43).trips) (k0_t174 : Fin (k0_t174_loop v867 v869).trips), ∀ (k0_h2 : k0_cond2 i v10 = 1#1), ∀ a, (k0_off2636 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2637 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2638 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2639 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2640 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2641 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2642 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2643 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2644 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2645 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2646 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2647 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2648 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2649 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2650 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2651 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2652 v41 v43 v867 v869 k0_t172 k0_t174) a + S1x16.size a ≤ S196x384.size a) ∧
  (∀ (k0_t172 : Fin (k0_t172_loop v41 v43).trips) (k0_t174 : Fin (k0_t174_loop v867 v869).trips), ∀ (k0_h2 : k0_cond2 i v10 = 1#1), ∀ a, (k0_off2653 v41 v43 v867 v869 k0_t172 k0_t174) a + S1x16.size a ≤ S196x384.size a) ∧
  (∀ k0_t175 : Fin (k0_t175_loop v41 v43).trips, ∀ (k0_h2 : k0_cond2 i v10 = 1#1), (k0_t176_loop v867 v869).OK) ∧
  (∀ (k0_t175 : Fin (k0_t175_loop v41 v43).trips) (k0_t176 : Fin (k0_t176_loop v867 v869).trips), ∀ (k0_h2 : k0_cond2 i v10 = 1#1), ∀ a, (k0_off2654 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2655 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2656 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2657 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2658 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2659 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2660 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2661 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2662 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2663 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2664 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2665 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2666 v41 v43 v867 v869 k0_t175 k0_t176) a + S1x16.size a ≤ S196x384.size a)
def k0_chk684_2 (i : grid0.Coords) (v10 : BitVec 32) (v41 : BitVec 32) (v43 : BitVec 32) (v867 : BitVec 32) (v869 : BitVec 32) : Prop :=
  (∀ (k0_t175 : Fin (k0_t175_loop v41 v43).trips) (k0_t176 : Fin (k0_t176_loop v867 v869).trips), ∀ (k0_h2 : k0_cond2 i v10 = 1#1), ∀ a, (k0_off2667 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2668 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2669 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2670 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2671 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2672 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2673 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2674 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2675 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2676 v41 v43 v867 v869 k0_t175 k0_t176) a + S1x16.size a ≤ S196x384.size a) ∧
  (∀ (k0_t175 : Fin (k0_t175_loop v41 v43).trips) (k0_t176 : Fin (k0_t176_loop v867 v869).trips), ∀ (k0_h2 : k0_cond2 i v10 = 1#1), ∀ a, (k0_off2677 v41 v43 v867 v869 k0_t175 k0_t176) a + S1x16.size a ≤ S196x384.size a) ∧
  (∀ k0_t175 : Fin (k0_t175_loop v41 v43).trips, ∀ (k0_h2 : k0_cond2 i v10 = 1#1), (k0_t177_loop v867 v869).OK) ∧
  (∀ (k0_t175 : Fin (k0_t175_loop v41 v43).trips) (k0_t177 : Fin (k0_t177_loop v867 v869).trips), ∀ (k0_h2 : k0_cond2 i v10 = 1#1), ∀ a, (k0_off2678 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2679 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2680 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2681 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2682 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2683 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2684 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2685 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2686 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2687 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2688 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2689 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2690 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2691 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2692 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2693 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2694 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2695 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2696 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2697 v41 v43 v867 v869 k0_t175 k0_t177) a + S1x16.size a ≤ S196x384.size a)
def k0_chk684_3 (i : grid0.Coords) (v10 : BitVec 32) (v41 : BitVec 32) (v43 : BitVec 32) (v867 : BitVec 32) (v869 : BitVec 32) : Prop :=
  (∀ (k0_t175 : Fin (k0_t175_loop v41 v43).trips) (k0_t177 : Fin (k0_t177_loop v867 v869).trips), ∀ (k0_h2 : k0_cond2 i v10 = 1#1), ∀ a, (k0_off2698 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2699 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2700 v41 v43 v867 v869 k0_t175 k0_t177) a + S1x16.size a ≤ S196x384.size a) ∧
  (∀ (k0_t175 : Fin (k0_t175_loop v41 v43).trips) (k0_t177 : Fin (k0_t177_loop v867 v869).trips), ∀ (k0_h2 : k0_cond2 i v10 = 1#1), ∀ a, (k0_off2701 v41 v43 v867 v869 k0_t175 k0_t177) a + S1x16.size a ≤ S196x384.size a)
def k0_chk684 (i : grid0.Coords) (v10 : BitVec 32) (v41 : BitVec 32) (v43 : BitVec 32) (v867 : BitVec 32) (v869 : BitVec 32) : Prop :=
  k0_chk684_0 i v10 v41 v43 v867 v869 ∧
  k0_chk684_1 i v10 v41 v43 v867 v869 ∧
  k0_chk684_2 i v10 v41 v43 v867 v869 ∧
  k0_chk684_3 i v10 v41 v43 v867 v869
theorem k0_t173_ok : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips), ∀ (k0_h2 : k0_cond2 i v10 = 1#1), (k0_t173_loop v867 v869).OK := fun i v10 v41 v43 v867 v869 k0_hw684 k0_t172 k0_h2 => k0_hw684.1.1 k0_t172 k0_h2
theorem k0_off2606_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2606 v41 v43 v867 v869 k0_t172 k0_t173) a + S1x16.size a ≤ S196x384.size a := fun i v10 v41 v43 v867 v869 k0_hw684 k0_t172 k0_t173 k0_h2 => k0_hw684.1.2.1 k0_t172 k0_t173 k0_h2
theorem k0_off2607_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2607 v41 v43 v867 v869 k0_t172 k0_t173) a + S1x16.size a ≤ S196x384.size a := fun i v10 v41 v43 v867 v869 k0_hw684 k0_t172 k0_t173 k0_h2 => k0_hw684.1.2.2.1 k0_t172 k0_t173 k0_h2
theorem k0_off2608_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2608 v41 v43 v867 v869 k0_t172 k0_t173) a + S1x16.size a ≤ S196x384.size a := fun i v10 v41 v43 v867 v869 k0_hw684 k0_t172 k0_t173 k0_h2 => k0_hw684.1.2.2.2.1 k0_t172 k0_t173 k0_h2
theorem k0_off2609_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2609 v41 v43 v867 v869 k0_t172 k0_t173) a + S1x16.size a ≤ S196x384.size a := fun i v10 v41 v43 v867 v869 k0_hw684 k0_t172 k0_t173 k0_h2 => k0_hw684.1.2.2.2.2.1 k0_t172 k0_t173 k0_h2
theorem k0_off2610_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2610 v41 v43 v867 v869 k0_t172 k0_t173) a + S1x16.size a ≤ S196x384.size a := fun i v10 v41 v43 v867 v869 k0_hw684 k0_t172 k0_t173 k0_h2 => k0_hw684.1.2.2.2.2.2.1 k0_t172 k0_t173 k0_h2
theorem k0_off2611_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2611 v41 v43 v867 v869 k0_t172 k0_t173) a + S1x16.size a ≤ S196x384.size a := fun i v10 v41 v43 v867 v869 k0_hw684 k0_t172 k0_t173 k0_h2 => k0_hw684.1.2.2.2.2.2.2.1 k0_t172 k0_t173 k0_h2
theorem k0_off2612_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2612 v41 v43 v867 v869 k0_t172 k0_t173) a + S1x16.size a ≤ S196x384.size a := fun i v10 v41 v43 v867 v869 k0_hw684 k0_t172 k0_t173 k0_h2 => k0_hw684.1.2.2.2.2.2.2.2.1 k0_t172 k0_t173 k0_h2
theorem k0_off2613_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2613 v41 v43 v867 v869 k0_t172 k0_t173) a + S1x16.size a ≤ S196x384.size a := fun i v10 v41 v43 v867 v869 k0_hw684 k0_t172 k0_t173 k0_h2 => k0_hw684.1.2.2.2.2.2.2.2.2.1 k0_t172 k0_t173 k0_h2
theorem k0_off2614_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2614 v41 v43 v867 v869 k0_t172 k0_t173) a + S1x16.size a ≤ S196x384.size a := fun i v10 v41 v43 v867 v869 k0_hw684 k0_t172 k0_t173 k0_h2 => k0_hw684.1.2.2.2.2.2.2.2.2.2.1 k0_t172 k0_t173 k0_h2
theorem k0_off2615_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2615 v41 v43 v867 v869 k0_t172 k0_t173) a + S1x16.size a ≤ S196x384.size a := fun i v10 v41 v43 v867 v869 k0_hw684 k0_t172 k0_t173 k0_h2 => k0_hw684.1.2.2.2.2.2.2.2.2.2.2.1 k0_t172 k0_t173 k0_h2
theorem k0_off2616_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2616 v41 v43 v867 v869 k0_t172 k0_t173) a + S1x16.size a ≤ S196x384.size a := fun i v10 v41 v43 v867 v869 k0_hw684 k0_t172 k0_t173 k0_h2 => k0_hw684.1.2.2.2.2.2.2.2.2.2.2.2.1 k0_t172 k0_t173 k0_h2
theorem k0_off2617_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2617 v41 v43 v867 v869 k0_t172 k0_t173) a + S1x16.size a ≤ S196x384.size a := fun i v10 v41 v43 v867 v869 k0_hw684 k0_t172 k0_t173 k0_h2 => k0_hw684.1.2.2.2.2.2.2.2.2.2.2.2.2.1 k0_t172 k0_t173 k0_h2
theorem k0_off2618_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2618 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.1 k0_t172 k0_t173 k0_h2
theorem k0_off2619_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2619 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.1 k0_t172 k0_t173 k0_h2
theorem k0_off2620_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2620 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.1 k0_t172 k0_t173 k0_h2
theorem k0_off2621_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2621 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.2.1 k0_t172 k0_t173 k0_h2
theorem k0_off2622_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2622 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.2.2.1 k0_t172 k0_t173 k0_h2
theorem k0_off2623_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2623 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.2.2.2.1 k0_t172 k0_t173 k0_h2
theorem k0_off2624_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2624 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.2.2.2.2.1 k0_t172 k0_t173 k0_h2
theorem k0_off2625_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2625 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.2.2.2.2.2.1 k0_t172 k0_t173 k0_h2
theorem k0_off2626_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2626 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.2.2.2.2.2.2.1 k0_t172 k0_t173 k0_h2
theorem k0_off2627_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2627 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.2.2.2.2.2.2.2.1 k0_t172 k0_t173 k0_h2
theorem k0_off2628_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2628 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.2.2.2.2.2.2.2.2.1 k0_t172 k0_t173 k0_h2
theorem k0_off2629_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t173 : Fin (k0_t173_loop v867 v869).trips), ∀ (k0_h2 : k0_cond2 i v10 = 1#1), ∀ a, (k0_off2629 v41 v43 v867 v869 k0_t172 k0_t173) a + S1x16.size a ≤ S196x384.size a := fun i v10 v41 v43 v867 v869 k0_hw684 k0_t172 k0_t173 k0_h2 => k0_hw684.1.2.2.2.2.2.2.2.2.2.2.2.2.2.2.2.2.2.2.2.2.2.2.2.2.1 k0_t172 k0_t173 k0_h2
theorem k0_t174_ok : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips), ∀ (k0_h2 : k0_cond2 i v10 = 1#1), (k0_t174_loop v867 v869).OK := fun i v10 v41 v43 v867 v869 k0_hw684 k0_t172 k0_h2 => k0_hw684.1.2.2.2.2.2.2.2.2.2.2.2.2.2.2.2.2.2.2.2.2.2.2.2.2.2.1 k0_t172 k0_h2
theorem k0_off2630_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2630 v41 v43 v867 v869 k0_t172 k0_t174) a + S1x16.size a ≤ S196x384.size a := fun i v10 v41 v43 v867 v869 k0_hw684 k0_t172 k0_t174 k0_h2 => k0_hw684.1.2.2.2.2.2.2.2.2.2.2.2.2.2.2.2.2.2.2.2.2.2.2.2.2.2.2.1 k0_t172 k0_t174 k0_h2
theorem k0_off2631_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2631 v41 v43 v867 v869 k0_t172 k0_t174) a + S1x16.size a ≤ S196x384.size a := fun i v10 v41 v43 v867 v869 k0_hw684 k0_t172 k0_t174 k0_h2 => k0_hw684.1.2.2.2.2.2.2.2.2.2.2.2.2.2.2.2.2.2.2.2.2.2.2.2.2.2.2.2.1 k0_t172 k0_t174 k0_h2
theorem k0_off2632_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2632 v41 v43 v867 v869 k0_t172 k0_t174) a + S1x16.size a ≤ S196x384.size a := fun i v10 v41 v43 v867 v869 k0_hw684 k0_t172 k0_t174 k0_h2 => k0_hw684.1.2.2.2.2.2.2.2.2.2.2.2.2.2.2.2.2.2.2.2.2.2.2.2.2.2.2.2.2.1 k0_t172 k0_t174 k0_h2
theorem k0_off2633_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2633 v41 v43 v867 v869 k0_t172 k0_t174) a + S1x16.size a ≤ S196x384.size a := fun i v10 v41 v43 v867 v869 k0_hw684 k0_t172 k0_t174 k0_h2 => k0_hw684.1.2.2.2.2.2.2.2.2.2.2.2.2.2.2.2.2.2.2.2.2.2.2.2.2.2.2.2.2.2.1 k0_t172 k0_t174 k0_h2
theorem k0_off2634_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2634 v41 v43 v867 v869 k0_t172 k0_t174) a + S1x16.size a ≤ S196x384.size a := fun i v10 v41 v43 v867 v869 k0_hw684 k0_t172 k0_t174 k0_h2 => k0_hw684.1.2.2.2.2.2.2.2.2.2.2.2.2.2.2.2.2.2.2.2.2.2.2.2.2.2.2.2.2.2.2.1 k0_t172 k0_t174 k0_h2
theorem k0_off2635_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2635 v41 v43 v867 v869 k0_t172 k0_t174) a + S1x16.size a ≤ S196x384.size a := fun i v10 v41 v43 v867 v869 k0_hw684 k0_t172 k0_t174 k0_h2 => k0_hw684.1.2.2.2.2.2.2.2.2.2.2.2.2.2.2.2.2.2.2.2.2.2.2.2.2.2.2.2.2.2.2.2 k0_t172 k0_t174 k0_h2
theorem k0_off2636_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2636 v41 v43 v867 v869 k0_t172 k0_t174) a + S1x16.size a ≤ S196x384.size a := fun i v10 v41 v43 v867 v869 k0_hw684 k0_t172 k0_t174 k0_h2 => k0_hw684.2.1.1 k0_t172 k0_t174 k0_h2
theorem k0_off2637_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2637 v41 v43 v867 v869 k0_t172 k0_t174) a + S1x16.size a ≤ S196x384.size a := fun i v10 v41 v43 v867 v869 k0_hw684 k0_t172 k0_t174 k0_h2 => k0_hw684.2.1.2.1 k0_t172 k0_t174 k0_h2
theorem k0_off2638_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2638 v41 v43 v867 v869 k0_t172 k0_t174) a + S1x16.size a ≤ S196x384.size a := fun i v10 v41 v43 v867 v869 k0_hw684 k0_t172 k0_t174 k0_h2 => k0_hw684.2.1.2.2.1 k0_t172 k0_t174 k0_h2
theorem k0_off2639_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2639 v41 v43 v867 v869 k0_t172 k0_t174) a + S1x16.size a ≤ S196x384.size a := fun i v10 v41 v43 v867 v869 k0_hw684 k0_t172 k0_t174 k0_h2 => k0_hw684.2.1.2.2.2.1 k0_t172 k0_t174 k0_h2
theorem k0_off2640_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2640 v41 v43 v867 v869 k0_t172 k0_t174) a + S1x16.size a ≤ S196x384.size a := fun i v10 v41 v43 v867 v869 k0_hw684 k0_t172 k0_t174 k0_h2 => k0_hw684.2.1.2.2.2.2.1 k0_t172 k0_t174 k0_h2
theorem k0_off2641_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2641 v41 v43 v867 v869 k0_t172 k0_t174) a + S1x16.size a ≤ S196x384.size a := fun i v10 v41 v43 v867 v869 k0_hw684 k0_t172 k0_t174 k0_h2 => k0_hw684.2.1.2.2.2.2.2.1 k0_t172 k0_t174 k0_h2
theorem k0_off2642_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2642 v41 v43 v867 v869 k0_t172 k0_t174) a + S1x16.size a ≤ S196x384.size a := fun i v10 v41 v43 v867 v869 k0_hw684 k0_t172 k0_t174 k0_h2 => k0_hw684.2.1.2.2.2.2.2.2.1 k0_t172 k0_t174 k0_h2
theorem k0_off2643_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2643 v41 v43 v867 v869 k0_t172 k0_t174) a + S1x16.size a ≤ S196x384.size a := fun i v10 v41 v43 v867 v869 k0_hw684 k0_t172 k0_t174 k0_h2 => k0_hw684.2.1.2.2.2.2.2.2.2.1 k0_t172 k0_t174 k0_h2
theorem k0_off2644_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2644 v41 v43 v867 v869 k0_t172 k0_t174) a + S1x16.size a ≤ S196x384.size a := fun i v10 v41 v43 v867 v869 k0_hw684 k0_t172 k0_t174 k0_h2 => k0_hw684.2.1.2.2.2.2.2.2.2.2.1 k0_t172 k0_t174 k0_h2
theorem k0_off2645_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2645 v41 v43 v867 v869 k0_t172 k0_t174) a + S1x16.size a ≤ S196x384.size a := fun i v10 v41 v43 v867 v869 k0_hw684 k0_t172 k0_t174 k0_h2 => k0_hw684.2.1.2.2.2.2.2.2.2.2.2.1 k0_t172 k0_t174 k0_h2
theorem k0_off2646_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2646 v41 v43 v867 v869 k0_t172 k0_t174) a + S1x16.size a ≤ S196x384.size a := fun i v10 v41 v43 v867 v869 k0_hw684 k0_t172 k0_t174 k0_h2 => k0_hw684.2.1.2.2.2.2.2.2.2.2.2.2.1 k0_t172 k0_t174 k0_h2
theorem k0_off2647_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2647 v41 v43 v867 v869 k0_t172 k0_t174) a + S1x16.size a ≤ S196x384.size a := fun i v10 v41 v43 v867 v869 k0_hw684 k0_t172 k0_t174 k0_h2 => k0_hw684.2.1.2.2.2.2.2.2.2.2.2.2.2.1 k0_t172 k0_t174 k0_h2
theorem k0_off2648_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2648 v41 v43 v867 v869 k0_t172 k0_t174) a + S1x16.size a ≤ S196x384.size a := fun i v10 v41 v43 v867 v869 k0_hw684 k0_t172 k0_t174 k0_h2 => k0_hw684.2.1.2.2.2.2.2.2.2.2.2.2.2.2.1 k0_t172 k0_t174 k0_h2
theorem k0_off2649_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2649 v41 v43 v867 v869 k0_t172 k0_t174) a + S1x16.size a ≤ S196x384.size a := fun i v10 v41 v43 v867 v869 k0_hw684 k0_t172 k0_t174 k0_h2 => k0_hw684.2.1.2.2.2.2.2.2.2.2.2.2.2.2.2.1 k0_t172 k0_t174 k0_h2
theorem k0_off2650_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2650 v41 v43 v867 v869 k0_t172 k0_t174) a + S1x16.size a ≤ S196x384.size a := fun i v10 v41 v43 v867 v869 k0_hw684 k0_t172 k0_t174 k0_h2 => k0_hw684.2.1.2.2.2.2.2.2.2.2.2.2.2.2.2.2.1 k0_t172 k0_t174 k0_h2
theorem k0_off2651_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2651 v41 v43 v867 v869 k0_t172 k0_t174) a + S1x16.size a ≤ S196x384.size a := fun i v10 v41 v43 v867 v869 k0_hw684 k0_t172 k0_t174 k0_h2 => k0_hw684.2.1.2.2.2.2.2.2.2.2.2.2.2.2.2.2.2.1 k0_t172 k0_t174 k0_h2
theorem k0_off2652_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2652 v41 v43 v867 v869 k0_t172 k0_t174) a + S1x16.size a ≤ S196x384.size a := fun i v10 v41 v43 v867 v869 k0_hw684 k0_t172 k0_t174 k0_h2 => k0_hw684.2.1.2.2.2.2.2.2.2.2.2.2.2.2.2.2.2.2.1 k0_t172 k0_t174 k0_h2
theorem k0_off2653_inb : ∀ (i : grid0.Coords) (v10 : BitVec 32) (v41 : BitVec 32) (v43 : BitVec 32) (v867 : BitVec 32) (v869 : BitVec 32) (k0_hw684 : k0_chk684 i v10 v41 v43 v867 v869) (k0_t172 : Fin (k0_t172_loop v41 v43).trips) (k0_t174 : Fin (k0_t174_loop v867 v869).trips), ∀ (k0_h2 : k0_cond2 i v10 = 1#1), ∀ a, (k0_off2653 v41 v43 v867 v869 k0_t172 k0_t174) a + S1x16.size a ≤ S196x384.size a := fun i v10 v41 v43 v867 v869 k0_hw684 k0_t172 k0_t174 k0_h2 => k0_hw684.2.1.2.2.2.2.2.2.2.2.2.2.2.2.2.2.2.2.2.1 k0_t172 k0_t174 k0_h2
theorem k0_t176_ok : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips), ∀ (k0_h2 : k0_cond2 i v10 = 1#1), (k0_t176_loop v867 v869).OK := fun i v10 v41 v43 v867 v869 k0_hw684 k0_t175 k0_h2 => k0_hw684.2.1.2.2.2.2.2.2.2.2.2.2.2.2.2.2.2.2.2.2.1 k0_t175 k0_h2
theorem k0_off2654_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2654 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.1 k0_t175 k0_t176 k0_h2
theorem k0_off2655_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2655 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.1 k0_t175 k0_t176 k0_h2
theorem k0_off2656_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2656 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.1 k0_t175 k0_t176 k0_h2
theorem k0_off2657_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2657 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.1 k0_t175 k0_t176 k0_h2
theorem k0_off2658_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2658 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.2.1 k0_t175 k0_t176 k0_h2
theorem k0_off2659_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2659 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.2.2.1 k0_t175 k0_t176 k0_h2
theorem k0_off2660_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2660 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.2.2.2.1 k0_t175 k0_t176 k0_h2
theorem k0_off2661_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2661 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.2.2.2.2.1 k0_t175 k0_t176 k0_h2
theorem k0_off2662_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2662 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.2.2.2.2.2.1 k0_t175 k0_t176 k0_h2
theorem k0_off2663_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2663 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.2.2.2.2.2.2.1 k0_t175 k0_t176 k0_h2
theorem k0_off2664_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2664 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.2.2.2.2.2.2.2.1 k0_t175 k0_t176 k0_h2
theorem k0_off2665_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2665 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.2.2.2.2.2.2.2.2.1 k0_t175 k0_t176 k0_h2
theorem k0_off2666_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2666 v41 v43 v867 v869 k0_t175 k0_t176) a + S1x16.size a ≤ S196x384.size a := fun i v10 v41 v43 v867 v869 k0_hw684 k0_t175 k0_t176 k0_h2 => k0_hw684.2.1.2.2.2.2.2.2.2.2.2.2.2.2.2.2.2.2.2.2.2.2.2.2.2.2.2.2.2.2.2.2.2 k0_t175 k0_t176 k0_h2
theorem k0_off2667_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2667 v41 v43 v867 v869 k0_t175 k0_t176) a + S1x16.size a ≤ S196x384.size a := fun i v10 v41 v43 v867 v869 k0_hw684 k0_t175 k0_t176 k0_h2 => k0_hw684.2.2.1.1 k0_t175 k0_t176 k0_h2
theorem k0_off2668_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2668 v41 v43 v867 v869 k0_t175 k0_t176) a + S1x16.size a ≤ S196x384.size a := fun i v10 v41 v43 v867 v869 k0_hw684 k0_t175 k0_t176 k0_h2 => k0_hw684.2.2.1.2.1 k0_t175 k0_t176 k0_h2
theorem k0_off2669_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2669 v41 v43 v867 v869 k0_t175 k0_t176) a + S1x16.size a ≤ S196x384.size a := fun i v10 v41 v43 v867 v869 k0_hw684 k0_t175 k0_t176 k0_h2 => k0_hw684.2.2.1.2.2.1 k0_t175 k0_t176 k0_h2
theorem k0_off2670_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2670 v41 v43 v867 v869 k0_t175 k0_t176) a + S1x16.size a ≤ S196x384.size a := fun i v10 v41 v43 v867 v869 k0_hw684 k0_t175 k0_t176 k0_h2 => k0_hw684.2.2.1.2.2.2.1 k0_t175 k0_t176 k0_h2
theorem k0_off2671_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2671 v41 v43 v867 v869 k0_t175 k0_t176) a + S1x16.size a ≤ S196x384.size a := fun i v10 v41 v43 v867 v869 k0_hw684 k0_t175 k0_t176 k0_h2 => k0_hw684.2.2.1.2.2.2.2.1 k0_t175 k0_t176 k0_h2
theorem k0_off2672_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2672 v41 v43 v867 v869 k0_t175 k0_t176) a + S1x16.size a ≤ S196x384.size a := fun i v10 v41 v43 v867 v869 k0_hw684 k0_t175 k0_t176 k0_h2 => k0_hw684.2.2.1.2.2.2.2.2.1 k0_t175 k0_t176 k0_h2
theorem k0_off2673_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2673 v41 v43 v867 v869 k0_t175 k0_t176) a + S1x16.size a ≤ S196x384.size a := fun i v10 v41 v43 v867 v869 k0_hw684 k0_t175 k0_t176 k0_h2 => k0_hw684.2.2.1.2.2.2.2.2.2.1 k0_t175 k0_t176 k0_h2
theorem k0_off2674_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2674 v41 v43 v867 v869 k0_t175 k0_t176) a + S1x16.size a ≤ S196x384.size a := fun i v10 v41 v43 v867 v869 k0_hw684 k0_t175 k0_t176 k0_h2 => k0_hw684.2.2.1.2.2.2.2.2.2.2.1 k0_t175 k0_t176 k0_h2
theorem k0_off2675_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2675 v41 v43 v867 v869 k0_t175 k0_t176) a + S1x16.size a ≤ S196x384.size a := fun i v10 v41 v43 v867 v869 k0_hw684 k0_t175 k0_t176 k0_h2 => k0_hw684.2.2.1.2.2.2.2.2.2.2.2.1 k0_t175 k0_t176 k0_h2
theorem k0_off2676_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2676 v41 v43 v867 v869 k0_t175 k0_t176) a + S1x16.size a ≤ S196x384.size a := fun i v10 v41 v43 v867 v869 k0_hw684 k0_t175 k0_t176 k0_h2 => k0_hw684.2.2.1.2.2.2.2.2.2.2.2.2.1 k0_t175 k0_t176 k0_h2
theorem k0_off2677_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t176 : Fin (k0_t176_loop v867 v869).trips), ∀ (k0_h2 : k0_cond2 i v10 = 1#1), ∀ a, (k0_off2677 v41 v43 v867 v869 k0_t175 k0_t176) a + S1x16.size a ≤ S196x384.size a := fun i v10 v41 v43 v867 v869 k0_hw684 k0_t175 k0_t176 k0_h2 => k0_hw684.2.2.1.2.2.2.2.2.2.2.2.2.2.1 k0_t175 k0_t176 k0_h2
theorem k0_t177_ok : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips), ∀ (k0_h2 : k0_cond2 i v10 = 1#1), (k0_t177_loop v867 v869).OK := fun i v10 v41 v43 v867 v869 k0_hw684 k0_t175 k0_h2 => k0_hw684.2.2.1.2.2.2.2.2.2.2.2.2.2.2.1 k0_t175 k0_h2
theorem k0_off2678_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2678 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.1 k0_t175 k0_t177 k0_h2
theorem k0_off2679_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2679 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.1 k0_t175 k0_t177 k0_h2
theorem k0_off2680_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2680 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.1 k0_t175 k0_t177 k0_h2
theorem k0_off2681_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2681 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.1 k0_t175 k0_t177 k0_h2
theorem k0_off2682_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2682 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.1 k0_t175 k0_t177 k0_h2
theorem k0_off2683_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2683 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.1 k0_t175 k0_t177 k0_h2
theorem k0_off2684_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2684 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.1 k0_t175 k0_t177 k0_h2
theorem k0_off2685_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2685 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.1 k0_t175 k0_t177 k0_h2
theorem k0_off2686_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2686 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.1 k0_t175 k0_t177 k0_h2
theorem k0_off2687_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2687 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.1 k0_t175 k0_t177 k0_h2
theorem k0_off2688_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2688 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.1 k0_t175 k0_t177 k0_h2
theorem k0_off2689_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2689 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.2.1 k0_t175 k0_t177 k0_h2
theorem k0_off2690_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2690 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.2.2.1 k0_t175 k0_t177 k0_h2
theorem k0_off2691_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2691 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.2.2.2.1 k0_t175 k0_t177 k0_h2
theorem k0_off2692_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2692 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.2.2.2.2.1 k0_t175 k0_t177 k0_h2
theorem k0_off2693_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2693 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.2.2.2.2.2.1 k0_t175 k0_t177 k0_h2
theorem k0_off2694_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2694 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.2.2.2.2.2.2.1 k0_t175 k0_t177 k0_h2
theorem k0_off2695_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2695 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.2.2.2.2.2.2.2.1 k0_t175 k0_t177 k0_h2
theorem k0_off2696_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2696 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.2.2.2.2.2.2.2.2.1 k0_t175 k0_t177 k0_h2
theorem k0_off2697_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2697 v41 v43 v867 v869 k0_t175 k0_t177) a + S1x16.size a ≤ S196x384.size a := fun i v10 v41 v43 v867 v869 k0_hw684 k0_t175 k0_t177 k0_h2 => k0_hw684.2.2.1.2.2.2.2.2.2.2.2.2.2.2.2.2.2.2.2.2.2.2.2.2.2.2.2.2.2.2.2.2.2.2 k0_t175 k0_t177 k0_h2
theorem k0_off2698_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2698 v41 v43 v867 v869 k0_t175 k0_t177) a + S1x16.size a ≤ S196x384.size a := fun i v10 v41 v43 v867 v869 k0_hw684 k0_t175 k0_t177 k0_h2 => k0_hw684.2.2.2.1 k0_t175 k0_t177 k0_h2
theorem k0_off2699_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2699 v41 v43 v867 v869 k0_t175 k0_t177) a + S1x16.size a ≤ S196x384.size a := fun i v10 v41 v43 v867 v869 k0_hw684 k0_t175 k0_t177 k0_h2 => k0_hw684.2.2.2.2.1 k0_t175 k0_t177 k0_h2
theorem k0_off2700_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2700 v41 v43 v867 v869 k0_t175 k0_t177) a + S1x16.size a ≤ S196x384.size a := fun i v10 v41 v43 v867 v869 k0_hw684 k0_t175 k0_t177 k0_h2 => k0_hw684.2.2.2.2.2.1 k0_t175 k0_t177 k0_h2
theorem k0_off2701_inb : ∀ (i : grid0.Coords) (v10 : BitVec 32) (v41 : BitVec 32) (v43 : BitVec 32) (v867 : BitVec 32) (v869 : BitVec 32) (k0_hw684 : k0_chk684 i v10 v41 v43 v867 v869) (k0_t175 : Fin (k0_t175_loop v41 v43).trips) (k0_t177 : Fin (k0_t177_loop v867 v869).trips), ∀ (k0_h2 : k0_cond2 i v10 = 1#1), ∀ a, (k0_off2701 v41 v43 v867 v869 k0_t175 k0_t177) a + S1x16.size a ≤ S196x384.size a := fun i v10 v41 v43 v867 v869 k0_hw684 k0_t175 k0_t177 k0_h2 => k0_hw684.2.2.2.2.2.2 k0_t175 k0_t177 k0_h2

def k0_chk685 (i : grid0.Coords) (v10 : BitVec 32) (v887 : IVec S16 32) : Prop :=
  (∀ (k0_h2 : k0_cond2 i v10 = 1#1), ∀ a x, ((![v887] : Fin 1 → IVec S16 32) a x).toNat < S18816.size a)
theorem k0_idx649_inb : ∀ (i : grid0.Coords) (v10 : BitVec 32) (v887 : IVec S16 32) (k0_hw685 : k0_chk685 i v10 v887), ∀ (k0_h2 : k0_cond2 i v10 = 1#1), ∀ a x, ((![v887] : Fin 1 → IVec S16 32) a x).toNat < S18816.size a := fun i v10 v887 k0_hw685 k0_h2 => k0_hw685 k0_h2

def k0_chk686 (i : grid0.Coords) (v10 : BitVec 32) (v892 : IVec S16 32) : Prop :=
  (∀ (k0_h2 : k0_cond2 i v10 = 1#1), ∀ a x, ((![v892] : Fin 1 → IVec S16 32) a x).toNat < S18816.size a)
theorem k0_idx650_inb : ∀ (i : grid0.Coords) (v10 : BitVec 32) (v892 : IVec S16 32) (k0_hw686 : k0_chk686 i v10 v892), ∀ (k0_h2 : k0_cond2 i v10 = 1#1), ∀ a x, ((![v892] : Fin 1 → IVec S16 32) a x).toNat < S18816.size a := fun i v10 v892 k0_hw686 k0_h2 => k0_hw686 k0_h2

def k0_chk687 (i : grid0.Coords) (v10 : BitVec 32) (v897 : IVec S16 32) : Prop :=
  (∀ (k0_h2 : k0_cond2 i v10 = 1#1), ∀ a x, ((![v897] : Fin 1 → IVec S16 32) a x).toNat < S18816.size a)
theorem k0_idx651_inb : ∀ (i : grid0.Coords) (v10 : BitVec 32) (v897 : IVec S16 32) (k0_hw687 : k0_chk687 i v10 v897), ∀ (k0_h2 : k0_cond2 i v10 = 1#1), ∀ a x, ((![v897] : Fin 1 → IVec S16 32) a x).toNat < S18816.size a := fun i v10 v897 k0_hw687 k0_h2 => k0_hw687 k0_h2

def k0_chk688 (i : grid0.Coords) (v10 : BitVec 32) (v902 : IVec S16 32) : Prop :=
  (∀ (k0_h2 : k0_cond2 i v10 = 1#1), ∀ a x, ((![v902] : Fin 1 → IVec S16 32) a x).toNat < S18816.size a)
theorem k0_idx652_inb : ∀ (i : grid0.Coords) (v10 : BitVec 32) (v902 : IVec S16 32) (k0_hw688 : k0_chk688 i v10 v902), ∀ (k0_h2 : k0_cond2 i v10 = 1#1), ∀ a x, ((![v902] : Fin 1 → IVec S16 32) a x).toNat < S18816.size a := fun i v10 v902 k0_hw688 k0_h2 => k0_hw688 k0_h2

def k0_chk689 (i : grid0.Coords) (v10 : BitVec 32) (v907 : IVec S16 32) : Prop :=
  (∀ (k0_h2 : k0_cond2 i v10 = 1#1), ∀ a x, ((![v907] : Fin 1 → IVec S16 32) a x).toNat < S18816.size a)
theorem k0_idx653_inb : ∀ (i : grid0.Coords) (v10 : BitVec 32) (v907 : IVec S16 32) (k0_hw689 : k0_chk689 i v10 v907), ∀ (k0_h2 : k0_cond2 i v10 = 1#1), ∀ a x, ((![v907] : Fin 1 → IVec S16 32) a x).toNat < S18816.size a := fun i v10 v907 k0_hw689 k0_h2 => k0_hw689 k0_h2

def k0_chk690 (i : grid0.Coords) (v10 : BitVec 32) (v912 : IVec S16 32) : Prop :=
  (∀ (k0_h2 : k0_cond2 i v10 = 1#1), ∀ a x, ((![v912] : Fin 1 → IVec S16 32) a x).toNat < S18816.size a)
theorem k0_idx654_inb : ∀ (i : grid0.Coords) (v10 : BitVec 32) (v912 : IVec S16 32) (k0_hw690 : k0_chk690 i v10 v912), ∀ (k0_h2 : k0_cond2 i v10 = 1#1), ∀ a x, ((![v912] : Fin 1 → IVec S16 32) a x).toNat < S18816.size a := fun i v10 v912 k0_hw690 k0_h2 => k0_hw690 k0_h2

def k0_chk691 (i : grid0.Coords) (v10 : BitVec 32) (v917 : IVec S16 32) : Prop :=
  (∀ (k0_h2 : k0_cond2 i v10 = 1#1), ∀ a x, ((![v917] : Fin 1 → IVec S16 32) a x).toNat < S18816.size a)
theorem k0_idx655_inb : ∀ (i : grid0.Coords) (v10 : BitVec 32) (v917 : IVec S16 32) (k0_hw691 : k0_chk691 i v10 v917), ∀ (k0_h2 : k0_cond2 i v10 = 1#1), ∀ a x, ((![v917] : Fin 1 → IVec S16 32) a x).toNat < S18816.size a := fun i v10 v917 k0_hw691 k0_h2 => k0_hw691 k0_h2

def k0_chk692 (i : grid0.Coords) (v10 : BitVec 32) (v922 : IVec S16 32) : Prop :=
  (∀ (k0_h2 : k0_cond2 i v10 = 1#1), ∀ a x, ((![v922] : Fin 1 → IVec S16 32) a x).toNat < S18816.size a)
theorem k0_idx656_inb : ∀ (i : grid0.Coords) (v10 : BitVec 32) (v922 : IVec S16 32) (k0_hw692 : k0_chk692 i v10 v922), ∀ (k0_h2 : k0_cond2 i v10 = 1#1), ∀ a x, ((![v922] : Fin 1 → IVec S16 32) a x).toNat < S18816.size a := fun i v10 v922 k0_hw692 k0_h2 => k0_hw692 k0_h2

def k0_chk693 (i : grid0.Coords) (v10 : BitVec 32) (v927 : IVec S16 32) : Prop :=
  (∀ (k0_h2 : k0_cond2 i v10 = 1#1), ∀ a x, ((![v927] : Fin 1 → IVec S16 32) a x).toNat < S18816.size a)
theorem k0_idx657_inb : ∀ (i : grid0.Coords) (v10 : BitVec 32) (v927 : IVec S16 32) (k0_hw693 : k0_chk693 i v10 v927), ∀ (k0_h2 : k0_cond2 i v10 = 1#1), ∀ a x, ((![v927] : Fin 1 → IVec S16 32) a x).toNat < S18816.size a := fun i v10 v927 k0_hw693 k0_h2 => k0_hw693 k0_h2

def k0_chk694 (i : grid0.Coords) (v10 : BitVec 32) (v932 : IVec S16 32) : Prop :=
  (∀ (k0_h2 : k0_cond2 i v10 = 1#1), ∀ a x, ((![v932] : Fin 1 → IVec S16 32) a x).toNat < S18816.size a)
theorem k0_idx658_inb : ∀ (i : grid0.Coords) (v10 : BitVec 32) (v932 : IVec S16 32) (k0_hw694 : k0_chk694 i v10 v932), ∀ (k0_h2 : k0_cond2 i v10 = 1#1), ∀ a x, ((![v932] : Fin 1 → IVec S16 32) a x).toNat < S18816.size a := fun i v10 v932 k0_hw694 k0_h2 => k0_hw694 k0_h2

def k0_chk695 (i : grid0.Coords) (v10 : BitVec 32) (v937 : IVec S16 32) : Prop :=
  (∀ (k0_h2 : k0_cond2 i v10 = 1#1), ∀ a x, ((![v937] : Fin 1 → IVec S16 32) a x).toNat < S18816.size a)
theorem k0_idx659_inb : ∀ (i : grid0.Coords) (v10 : BitVec 32) (v937 : IVec S16 32) (k0_hw695 : k0_chk695 i v10 v937), ∀ (k0_h2 : k0_cond2 i v10 = 1#1), ∀ a x, ((![v937] : Fin 1 → IVec S16 32) a x).toNat < S18816.size a := fun i v10 v937 k0_hw695 k0_h2 => k0_hw695 k0_h2

def k0_chk696 (i : grid0.Coords) (v10 : BitVec 32) (v942 : IVec S16 32) : Prop :=
  (∀ (k0_h2 : k0_cond2 i v10 = 1#1), ∀ a x, ((![v942] : Fin 1 → IVec S16 32) a x).toNat < S18816.size a)
theorem k0_idx660_inb : ∀ (i : grid0.Coords) (v10 : BitVec 32) (v942 : IVec S16 32) (k0_hw696 : k0_chk696 i v10 v942), ∀ (k0_h2 : k0_cond2 i v10 = 1#1), ∀ a x, ((![v942] : Fin 1 → IVec S16 32) a x).toNat < S18816.size a := fun i v10 v942 k0_hw696 k0_h2 => k0_hw696 k0_h2

def k0_chk697 (i : grid0.Coords) (v10 : BitVec 32) (v947 : IVec S16 32) : Prop :=
  (∀ (k0_h2 : k0_cond2 i v10 = 1#1), ∀ a x, ((![v947] : Fin 1 → IVec S16 32) a x).toNat < S18816.size a)
theorem k0_idx661_inb : ∀ (i : grid0.Coords) (v10 : BitVec 32) (v947 : IVec S16 32) (k0_hw697 : k0_chk697 i v10 v947), ∀ (k0_h2 : k0_cond2 i v10 = 1#1), ∀ a x, ((![v947] : Fin 1 → IVec S16 32) a x).toNat < S18816.size a := fun i v10 v947 k0_hw697 k0_h2 => k0_hw697 k0_h2

def k0_chk698 (i : grid0.Coords) (v10 : BitVec 32) (v952 : IVec S16 32) : Prop :=
  (∀ (k0_h2 : k0_cond2 i v10 = 1#1), ∀ a x, ((![v952] : Fin 1 → IVec S16 32) a x).toNat < S18816.size a)
theorem k0_idx662_inb : ∀ (i : grid0.Coords) (v10 : BitVec 32) (v952 : IVec S16 32) (k0_hw698 : k0_chk698 i v10 v952), ∀ (k0_h2 : k0_cond2 i v10 = 1#1), ∀ a x, ((![v952] : Fin 1 → IVec S16 32) a x).toNat < S18816.size a := fun i v10 v952 k0_hw698 k0_h2 => k0_hw698 k0_h2

def k0_chk699 (i : grid0.Coords) (v10 : BitVec 32) (v957 : IVec S16 32) : Prop :=
  (∀ (k0_h2 : k0_cond2 i v10 = 1#1), ∀ a x, ((![v957] : Fin 1 → IVec S16 32) a x).toNat < S18816.size a)
theorem k0_idx663_inb : ∀ (i : grid0.Coords) (v10 : BitVec 32) (v957 : IVec S16 32) (k0_hw699 : k0_chk699 i v10 v957), ∀ (k0_h2 : k0_cond2 i v10 = 1#1), ∀ a x, ((![v957] : Fin 1 → IVec S16 32) a x).toNat < S18816.size a := fun i v10 v957 k0_hw699 k0_h2 => k0_hw699 k0_h2

def k0_chk700 (i : grid0.Coords) (v10 : BitVec 32) (v962 : IVec S16 32) : Prop :=
  (∀ (k0_h2 : k0_cond2 i v10 = 1#1), ∀ a x, ((![v962] : Fin 1 → IVec S16 32) a x).toNat < S18816.size a)
theorem k0_idx664_inb : ∀ (i : grid0.Coords) (v10 : BitVec 32) (v962 : IVec S16 32) (k0_hw700 : k0_chk700 i v10 v962), ∀ (k0_h2 : k0_cond2 i v10 = 1#1), ∀ a x, ((![v962] : Fin 1 → IVec S16 32) a x).toNat < S18816.size a := fun i v10 v962 k0_hw700 k0_h2 => k0_hw700 k0_h2

def k0_chk701 (i : grid0.Coords) (v10 : BitVec 32) (v967 : IVec S16 32) : Prop :=
  (∀ (k0_h2 : k0_cond2 i v10 = 1#1), ∀ a x, ((![v967] : Fin 1 → IVec S16 32) a x).toNat < S18816.size a)
theorem k0_idx665_inb : ∀ (i : grid0.Coords) (v10 : BitVec 32) (v967 : IVec S16 32) (k0_hw701 : k0_chk701 i v10 v967), ∀ (k0_h2 : k0_cond2 i v10 = 1#1), ∀ a x, ((![v967] : Fin 1 → IVec S16 32) a x).toNat < S18816.size a := fun i v10 v967 k0_hw701 k0_h2 => k0_hw701 k0_h2

def k0_chk702 (i : grid0.Coords) (v10 : BitVec 32) (v972 : IVec S16 32) : Prop :=
  (∀ (k0_h2 : k0_cond2 i v10 = 1#1), ∀ a x, ((![v972] : Fin 1 → IVec S16 32) a x).toNat < S18816.size a)
theorem k0_idx666_inb : ∀ (i : grid0.Coords) (v10 : BitVec 32) (v972 : IVec S16 32) (k0_hw702 : k0_chk702 i v10 v972), ∀ (k0_h2 : k0_cond2 i v10 = 1#1), ∀ a x, ((![v972] : Fin 1 → IVec S16 32) a x).toNat < S18816.size a := fun i v10 v972 k0_hw702 k0_h2 => k0_hw702 k0_h2

def k0_chk703 (i : grid0.Coords) (v10 : BitVec 32) (v977 : IVec S16 32) : Prop :=
  (∀ (k0_h2 : k0_cond2 i v10 = 1#1), ∀ a x, ((![v977] : Fin 1 → IVec S16 32) a x).toNat < S18816.size a)
theorem k0_idx667_inb : ∀ (i : grid0.Coords) (v10 : BitVec 32) (v977 : IVec S16 32) (k0_hw703 : k0_chk703 i v10 v977), ∀ (k0_h2 : k0_cond2 i v10 = 1#1), ∀ a x, ((![v977] : Fin 1 → IVec S16 32) a x).toNat < S18816.size a := fun i v10 v977 k0_hw703 k0_h2 => k0_hw703 k0_h2

def k0_chk704 (i : grid0.Coords) (v10 : BitVec 32) (v982 : IVec S16 32) : Prop :=
  (∀ (k0_h2 : k0_cond2 i v10 = 1#1), ∀ a x, ((![v982] : Fin 1 → IVec S16 32) a x).toNat < S18816.size a)
theorem k0_idx668_inb : ∀ (i : grid0.Coords) (v10 : BitVec 32) (v982 : IVec S16 32) (k0_hw704 : k0_chk704 i v10 v982), ∀ (k0_h2 : k0_cond2 i v10 = 1#1), ∀ a x, ((![v982] : Fin 1 → IVec S16 32) a x).toNat < S18816.size a := fun i v10 v982 k0_hw704 k0_h2 => k0_hw704 k0_h2

def k0_chk705 (i : grid0.Coords) (v10 : BitVec 32) (v987 : IVec S16 32) : Prop :=
  (∀ (k0_h2 : k0_cond2 i v10 = 1#1), ∀ a x, ((![v987] : Fin 1 → IVec S16 32) a x).toNat < S18816.size a)
theorem k0_idx669_inb : ∀ (i : grid0.Coords) (v10 : BitVec 32) (v987 : IVec S16 32) (k0_hw705 : k0_chk705 i v10 v987), ∀ (k0_h2 : k0_cond2 i v10 = 1#1), ∀ a x, ((![v987] : Fin 1 → IVec S16 32) a x).toNat < S18816.size a := fun i v10 v987 k0_hw705 k0_h2 => k0_hw705 k0_h2

def k0_chk706 (i : grid0.Coords) (v10 : BitVec 32) (v992 : IVec S16 32) : Prop :=
  (∀ (k0_h2 : k0_cond2 i v10 = 1#1), ∀ a x, ((![v992] : Fin 1 → IVec S16 32) a x).toNat < S18816.size a)
theorem k0_idx670_inb : ∀ (i : grid0.Coords) (v10 : BitVec 32) (v992 : IVec S16 32) (k0_hw706 : k0_chk706 i v10 v992), ∀ (k0_h2 : k0_cond2 i v10 = 1#1), ∀ a x, ((![v992] : Fin 1 → IVec S16 32) a x).toNat < S18816.size a := fun i v10 v992 k0_hw706 k0_h2 => k0_hw706 k0_h2

def k0_chk707 (i : grid0.Coords) (v10 : BitVec 32) (v997 : IVec S16 32) : Prop :=
  (∀ (k0_h2 : k0_cond2 i v10 = 1#1), ∀ a x, ((![v997] : Fin 1 → IVec S16 32) a x).toNat < S18816.size a)
theorem k0_idx671_inb : ∀ (i : grid0.Coords) (v10 : BitVec 32) (v997 : IVec S16 32) (k0_hw707 : k0_chk707 i v10 v997), ∀ (k0_h2 : k0_cond2 i v10 = 1#1), ∀ a x, ((![v997] : Fin 1 → IVec S16 32) a x).toNat < S18816.size a := fun i v10 v997 k0_hw707 k0_h2 => k0_hw707 k0_h2

def k0_chk708 (i : grid0.Coords) (v10 : BitVec 32) (v1002 : IVec S16 32) : Prop :=
  (∀ (k0_h2 : k0_cond2 i v10 = 1#1), ∀ a x, ((![v1002] : Fin 1 → IVec S16 32) a x).toNat < S18816.size a)
theorem k0_idx672_inb : ∀ (i : grid0.Coords) (v10 : BitVec 32) (v1002 : IVec S16 32) (k0_hw708 : k0_chk708 i v10 v1002), ∀ (k0_h2 : k0_cond2 i v10 = 1#1), ∀ a x, ((![v1002] : Fin 1 → IVec S16 32) a x).toNat < S18816.size a := fun i v10 v1002 k0_hw708 k0_h2 => k0_hw708 k0_h2
def k0_off2702 (i : grid0.Coords) (v10 : BitVec 32) (k0_t134 : Fin (k0_t134_loop i v10).trips) : Fin 3 → Nat :=
  let c32_i32_0 : BitVec 32 := 32#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.subi c1000_i32 v2
  let c0_i32 : BitVec 32 := 0#32
  let v4 : BitVec 32 := Scalar.maxsi v3 c0_i32
  let v5 : BitVec 32 := Scalar.minsi c32_i32_0 v4
  let c0_i32_2 : BitVec 32 := 0#32
  let v11 : BitVec 32 := Scalar.subi v10 v2
  let v12 : BitVec 32 := Scalar.maxsi c0_i32_2 v11
  let v13 : BitVec 32 := Scalar.minsi v5 v12
  let v24 : BitVec 32 := Scalar.subi v5 v13
  let c1_i32_12 : BitVec 32 := 1#32
  let v26 : BitVec 32 := Scalar.divsi v24 c1_i32_12
  let v27 : BitVec 32 := Scalar.muli v26 c1_i32_12
  let v28 : BitVec 32 := Scalar.addi v13 v27
  let c1_i32_14 : BitVec 32 := 1#32
  let arg9 : BitVec 32 := Scf.iv v28 c1_i32_14 k0_t134
  let v30 : Index := Scalar.indexCast arg9
  let c7_i32_20 : BitVec 32 := 7#32
  let v31 : Index := Scalar.indexCast c7_i32_20
  let c0_21 : Index := 0#32
  ![v30.toNat, 7, 0]

def k0_chk1 (i : grid0.Coords) (v10 : BitVec 32) : Prop :=
  (∀ (k0_h1 : k0_cond1 i v10 = 1#1), (k0_t2_loop i v10).OK) ∧
  (∀ (k0_t2 : Fin (k0_t2_loop i v10).trips) (k0_t3 : Fin k0_t3_loop.trips), ∀ (k0_h1 : k0_cond1 i v10 = 1#1), ∀ a, (k0_off3 i v10 k0_t2 k0_t3) a + S1x1x16.size a ≤ S32x8x16.size a) ∧
  (∀ k0_t2 : Fin (k0_t2_loop i v10).trips, ∀ (k0_h1 : k0_cond1 i v10 = 1#1), ∀ a, (k0_off676 i v10 k0_t2) a + S1x1x16.size a ≤ S32x8x16.size a) ∧
  (∀ (k0_h1 : k0_cond1 i v10 = 1#1), (k0_t46_loop i v10).OK) ∧
  (∀ (k0_t46 : Fin (k0_t46_loop i v10).trips) (k0_t47 : Fin k0_t47_loop.trips), ∀ (k0_h1 : k0_cond1 i v10 = 1#1), ∀ a, (k0_off678 i v10 k0_t46 k0_t47) a + S1x1x16.size a ≤ S32x8x16.size a) ∧
  (∀ k0_t46 : Fin (k0_t46_loop i v10).trips, ∀ (k0_h1 : k0_cond1 i v10 = 1#1), ∀ a, (k0_off1351 i v10 k0_t46) a + S1x1x16.size a ≤ S32x8x16.size a) ∧
  (∀ (k0_h2 : k0_cond2 i v10 = 1#1), (k0_t90_loop i v10).OK) ∧
  (∀ (k0_t90 : Fin (k0_t90_loop i v10).trips) (k0_t91 : Fin k0_t91_loop.trips), ∀ (k0_h2 : k0_cond2 i v10 = 1#1), ∀ a, (k0_off1354 i v10 k0_t90 k0_t91) a + S1x1x16.size a ≤ S32x8x16.size a) ∧
  (∀ k0_t90 : Fin (k0_t90_loop i v10).trips, ∀ (k0_h2 : k0_cond2 i v10 = 1#1), ∀ a, (k0_off2027 i v10 k0_t90) a + S1x1x16.size a ≤ S32x8x16.size a) ∧
  (∀ (k0_h2 : k0_cond2 i v10 = 1#1), (k0_t134_loop i v10).OK) ∧
  (∀ (k0_t134 : Fin (k0_t134_loop i v10).trips) (k0_t135 : Fin k0_t135_loop.trips), ∀ (k0_h2 : k0_cond2 i v10 = 1#1), ∀ a, (k0_off2029 i v10 k0_t134 k0_t135) a + S1x1x16.size a ≤ S32x8x16.size a) ∧
  (∀ k0_t134 : Fin (k0_t134_loop i v10).trips, ∀ (k0_h2 : k0_cond2 i v10 = 1#1), ∀ a, (k0_off2702 i v10 k0_t134) a + S1x1x16.size a ≤ S32x8x16.size a)
theorem k0_t2_ok : ∀ (i : grid0.Coords) (v10 : BitVec 32) (k0_hw1 : k0_chk1 i v10), ∀ (k0_h1 : k0_cond1 i v10 = 1#1), (k0_t2_loop i v10).OK := fun i v10 k0_hw1 k0_h1 => k0_hw1.1 k0_h1
theorem k0_off3_inb : ∀ (i : grid0.Coords) (v10 : BitVec 32) (k0_hw1 : k0_chk1 i v10) (k0_t2 : Fin (k0_t2_loop i v10).trips) (k0_t3 : Fin k0_t3_loop.trips), ∀ (k0_h1 : k0_cond1 i v10 = 1#1), ∀ a, (k0_off3 i v10 k0_t2 k0_t3) a + S1x1x16.size a ≤ S32x8x16.size a := fun i v10 k0_hw1 k0_t2 k0_t3 k0_h1 => k0_hw1.2.1 k0_t2 k0_t3 k0_h1
theorem k0_off676_inb : ∀ (i : grid0.Coords) (v10 : BitVec 32) (k0_hw1 : k0_chk1 i v10) (k0_t2 : Fin (k0_t2_loop i v10).trips), ∀ (k0_h1 : k0_cond1 i v10 = 1#1), ∀ a, (k0_off676 i v10 k0_t2) a + S1x1x16.size a ≤ S32x8x16.size a := fun i v10 k0_hw1 k0_t2 k0_h1 => k0_hw1.2.2.1 k0_t2 k0_h1
theorem k0_t46_ok : ∀ (i : grid0.Coords) (v10 : BitVec 32) (k0_hw1 : k0_chk1 i v10), ∀ (k0_h1 : k0_cond1 i v10 = 1#1), (k0_t46_loop i v10).OK := fun i v10 k0_hw1 k0_h1 => k0_hw1.2.2.2.1 k0_h1
theorem k0_off678_inb : ∀ (i : grid0.Coords) (v10 : BitVec 32) (k0_hw1 : k0_chk1 i v10) (k0_t46 : Fin (k0_t46_loop i v10).trips) (k0_t47 : Fin k0_t47_loop.trips), ∀ (k0_h1 : k0_cond1 i v10 = 1#1), ∀ a, (k0_off678 i v10 k0_t46 k0_t47) a + S1x1x16.size a ≤ S32x8x16.size a := fun i v10 k0_hw1 k0_t46 k0_t47 k0_h1 => k0_hw1.2.2.2.2.1 k0_t46 k0_t47 k0_h1
theorem k0_off1351_inb : ∀ (i : grid0.Coords) (v10 : BitVec 32) (k0_hw1 : k0_chk1 i v10) (k0_t46 : Fin (k0_t46_loop i v10).trips), ∀ (k0_h1 : k0_cond1 i v10 = 1#1), ∀ a, (k0_off1351 i v10 k0_t46) a + S1x1x16.size a ≤ S32x8x16.size a := fun i v10 k0_hw1 k0_t46 k0_h1 => k0_hw1.2.2.2.2.2.1 k0_t46 k0_h1
theorem k0_t90_ok : ∀ (i : grid0.Coords) (v10 : BitVec 32) (k0_hw1 : k0_chk1 i v10), ∀ (k0_h2 : k0_cond2 i v10 = 1#1), (k0_t90_loop i v10).OK := fun i v10 k0_hw1 k0_h2 => k0_hw1.2.2.2.2.2.2.1 k0_h2
theorem k0_off1354_inb : ∀ (i : grid0.Coords) (v10 : BitVec 32) (k0_hw1 : k0_chk1 i v10) (k0_t90 : Fin (k0_t90_loop i v10).trips) (k0_t91 : Fin k0_t91_loop.trips), ∀ (k0_h2 : k0_cond2 i v10 = 1#1), ∀ a, (k0_off1354 i v10 k0_t90 k0_t91) a + S1x1x16.size a ≤ S32x8x16.size a := fun i v10 k0_hw1 k0_t90 k0_t91 k0_h2 => k0_hw1.2.2.2.2.2.2.2.1 k0_t90 k0_t91 k0_h2
theorem k0_off2027_inb : ∀ (i : grid0.Coords) (v10 : BitVec 32) (k0_hw1 : k0_chk1 i v10) (k0_t90 : Fin (k0_t90_loop i v10).trips), ∀ (k0_h2 : k0_cond2 i v10 = 1#1), ∀ a, (k0_off2027 i v10 k0_t90) a + S1x1x16.size a ≤ S32x8x16.size a := fun i v10 k0_hw1 k0_t90 k0_h2 => k0_hw1.2.2.2.2.2.2.2.2.1 k0_t90 k0_h2
theorem k0_t134_ok : ∀ (i : grid0.Coords) (v10 : BitVec 32) (k0_hw1 : k0_chk1 i v10), ∀ (k0_h2 : k0_cond2 i v10 = 1#1), (k0_t134_loop i v10).OK := fun i v10 k0_hw1 k0_h2 => k0_hw1.2.2.2.2.2.2.2.2.2.1 k0_h2
theorem k0_off2029_inb : ∀ (i : grid0.Coords) (v10 : BitVec 32) (k0_hw1 : k0_chk1 i v10) (k0_t134 : Fin (k0_t134_loop i v10).trips) (k0_t135 : Fin k0_t135_loop.trips), ∀ (k0_h2 : k0_cond2 i v10 = 1#1), ∀ a, (k0_off2029 i v10 k0_t134 k0_t135) a + S1x1x16.size a ≤ S32x8x16.size a := fun i v10 k0_hw1 k0_t134 k0_t135 k0_h2 => k0_hw1.2.2.2.2.2.2.2.2.2.2.1 k0_t134 k0_t135 k0_h2
theorem k0_off2702_inb : ∀ (i : grid0.Coords) (v10 : BitVec 32) (k0_hw1 : k0_chk1 i v10) (k0_t134 : Fin (k0_t134_loop i v10).trips), ∀ (k0_h2 : k0_cond2 i v10 = 1#1), ∀ a, (k0_off2702 i v10 k0_t134) a + S1x1x16.size a ≤ S32x8x16.size a := fun i v10 k0_hw1 k0_t134 k0_h2 => k0_hw1.2.2.2.2.2.2.2.2.2.2.2 k0_t134 k0_h2

def k0_off2703 (k0_t1 : Fin k0_t1_loop.trips) (v34 : BitVec 32) : Fin 2 → Nat :=
  let c0_i32_4 : BitVec 32 := 0#32
  let c1_i32 : BitVec 32 := 1#32
  let arg8 : BitVec 32 := Scf.iv c0_i32_4 c1_i32 k0_t1
  let c384_i32 : BitVec 32 := 384#32
  let v35 : BitVec 32 := Scalar.muli arg8 c384_i32
  let c49_i32_22 : BitVec 32 := 49#32
  let v36 : BitVec 32 := Scalar.muli v35 c49_i32_22
  ![v34.toNat, v36.toNat]

def k0_chk709 (i : grid0.Coords) (v10 : BitVec 32) (k0_t1 : Fin k0_t1_loop.trips) (v34 : BitVec 32) : Prop :=
  (∀ (k0_h2 : k0_cond2 i v10 = 1#1), ∀ a, (k0_off2703 k0_t1 v34) a + S1x18816.size a ≤ S1000x37632.size a)
theorem k0_off2703_inb : ∀ (i : grid0.Coords) (v10 : BitVec 32) (k0_t1 : Fin k0_t1_loop.trips) (v34 : BitVec 32) (k0_hw709 : k0_chk709 i v10 k0_t1 v34), ∀ (k0_h2 : k0_cond2 i v10 = 1#1), ∀ a, (k0_off2703 k0_t1 v34) a + S1x18816.size a ≤ S1000x37632.size a := fun i v10 k0_t1 v34 k0_hw709 k0_h2 => k0_hw709 k0_h2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x768x14x14 : Shape := ⟨4, ![2, 768, 14, 14]⟩
abbrev S1000x5 : Shape := ⟨2, ![1000, 5]⟩
abbrev S1000x1 : Shape := ⟨2, ![1000, 1]⟩
abbrev S1000 : Shape := ⟨1, ![1000]⟩
abbrev S_ : Shape := ⟨0, ![]⟩
abbrev S7 : Shape := ⟨1, ![7]⟩
abbrev S1x7 : Shape := ⟨2, ![1, 7]⟩
abbrev S1000x7 : Shape := ⟨2, ![1000, 7]⟩
abbrev S14 : Shape := ⟨1, ![14]⟩
abbrev S1000x7x1 : Shape := ⟨3, ![1000, 7, 1]⟩
abbrev S1x1x14 : Shape := ⟨3, ![1, 1, 14]⟩
abbrev S1000x7x14 : Shape := ⟨3, ![1000, 7, 14]⟩
abbrev S1000x1x7x1x14x1 : Shape := ⟨6, ![1000, 1, 7, 1, 14, 1]⟩
abbrev S1000x1x1x7x1x14 : Shape := ⟨6, ![1000, 1, 1, 7, 1, 14]⟩
abbrev S1000x1x7x7x14x14 : Shape := ⟨6, ![1000, 1, 7, 7, 14, 14]⟩
abbrev S1000x768x14x14 : Shape := ⟨4, ![1000, 768, 14, 14]⟩
abbrev S1000x768x1x1x14x14 : Shape := ⟨6, ![1000, 768, 1, 1, 14, 14]⟩
abbrev S1000x768x7x7x14x14 : Shape := ⟨6, ![1000, 768, 7, 7, 14, 14]⟩
abbrev S1000x768x7x7 : Shape := ⟨4, ![1000, 768, 7, 7]⟩
abbrev S1000x1x7x1 : Shape := ⟨4, ![1000, 1, 7, 1]⟩
abbrev S1000x1x1x7 : Shape := ⟨4, ![1000, 1, 1, 7]⟩
abbrev S1000x1x7x7 : Shape := ⟨4, ![1000, 1, 7, 7]⟩

abbrev nBuf : Space → Nat
  | .hbm => 189
  | .vmem => 0
  | .smem => 0
  | _ => 0

abbrev hbmTy0_0 (i : Nat) : BufTy := match i % 128 with
  | 0 => ⟨S2x768x14x14, .f32⟩
  | 1 => ⟨S1000x5, .f32⟩
  | 2 => ⟨S1000x1, .f32⟩
  | 3 => ⟨S1000, .f32⟩
  | 4 => ⟨S1000, .i32⟩
  | 5 => ⟨S1000x1, .f32⟩
  | 6 => ⟨S1000, .f32⟩
  | 7 => ⟨S_, .f32⟩
  | 8 => ⟨S1000, .f32⟩
  | 9 => ⟨S1000, .f32⟩
  | 10 => ⟨S1000, .f32⟩
  | 11 => ⟨S1000, .i32⟩
  | 12 => ⟨S1000x1, .f32⟩
  | 13 => ⟨S1000, .f32⟩
  | 14 => ⟨S_, .f32⟩
  | 15 => ⟨S1000, .f32⟩
  | 16 => ⟨S1000, .f32⟩
  | 17 => ⟨S1000, .f32⟩
  | 18 => ⟨S1000, .i32⟩
  | 19 => ⟨S1000x1, .f32⟩
  | 20 => ⟨S1000, .f32⟩
  | 21 => ⟨S_, .f32⟩
  | 22 => ⟨S1000, .f32⟩
  | 23 => ⟨S1000, .f32⟩
  | 24 => ⟨S1000, .f32⟩
  | 25 => ⟨S1000, .i32⟩
  | 26 => ⟨S1000x1, .f32⟩
  | 27 => ⟨S1000, .f32⟩
  | 28 => ⟨S_, .f32⟩
  | 29 => ⟨S1000, .f32⟩
  | 30 => ⟨S1000, .f32⟩
  | 31 => ⟨S1000, .f32⟩
  | 32 => ⟨S1000, .i32⟩
  | 33 => ⟨S1000, .i32⟩
  | 34 => ⟨S_, .i32⟩
  | 35 => ⟨S1000, .i32⟩
  | 36 => ⟨S1000, .i32⟩
  | 37 => ⟨S_, .i32⟩
  | 38 => ⟨S1000, .i32⟩
  | 39 => ⟨S1000, .i32⟩
  | 40 => ⟨S1000, .f32⟩
  | 41 => ⟨S_, .f32⟩
  | 42 => ⟨S1000, .f32⟩
  | 43 => ⟨S1000, .f32⟩
  | 44 => ⟨S1000, .i32⟩
  | 45 => ⟨S_, .i32⟩
  | 46 => ⟨S1000, .i32⟩
  | 47 => ⟨S1000, .i32⟩
  | 48 => ⟨S_, .i32⟩
  | 49 => ⟨S1000, .i32⟩
  | 50 => ⟨S1000, .i32⟩
  | 51 => ⟨S1000, .f32⟩
  | 52 => ⟨S_, .f32⟩
  | 53 => ⟨S1000, .f32⟩
  | 54 => ⟨S1000, .f32⟩
  | 55 => ⟨S7, .i32⟩
  | 56 => ⟨S7, .f32⟩
  | 57 => ⟨S1x7, .f32⟩
  | 58 => ⟨S1000x1, .f32⟩
  | 59 => ⟨S1000x7, .f32⟩
  | 60 => ⟨S1000x7, .f32⟩
  | 61 => ⟨S1000x7, .f32⟩
  | 62 => ⟨S1000x7, .f32⟩
  | 63 => ⟨S1000x7, .i32⟩
  | 64 => ⟨S1000x1, .i32⟩
  | 65 => ⟨S1000x7, .i32⟩
  | 66 => ⟨S1000x7, .i32⟩
  | 67 => ⟨S_, .f32⟩
  | 68 => ⟨S1x7, .f32⟩
  | 69 => ⟨S1x7, .f32⟩
  | 70 => ⟨S1000x1, .f32⟩
  | 71 => ⟨S1000x7, .f32⟩
  | 72 => ⟨S1000x7, .f32⟩
  | 73 => ⟨S1000x7, .f32⟩
  | 74 => ⟨S1000x7, .f32⟩
  | 75 => ⟨S1000x7, .i32⟩
  | 76 => ⟨S1000x1, .i32⟩
  | 77 => ⟨S1000x7, .i32⟩
  | 78 => ⟨S1000x7, .i32⟩
  | 79 => ⟨S_, .i32⟩
  | 80 => ⟨S_, .i32⟩
  | 81 => ⟨S_, .i32⟩
  | 82 => ⟨S1000x7, .i32⟩
  | 83 => ⟨S1000x7, .i32⟩
  | 84 => ⟨S_, .i32⟩
  | 85 => ⟨S1000x7, .i32⟩
  | 86 => ⟨S1000x7, .i32⟩
  | 87 => ⟨S_, .i32⟩
  | 88 => ⟨S_, .i32⟩
  | 89 => ⟨S_, .i32⟩
  | 90 => ⟨S1000x7, .i32⟩
  | 91 => ⟨S1000x7, .i32⟩
  | 92 => ⟨S_, .i32⟩
  | 93 => ⟨S1000x7, .i32⟩
  | 94 => ⟨S1000x7, .i32⟩
  | 95 => ⟨S1000x1, .f32⟩
  | 96 => ⟨S1000x7, .f32⟩
  | 97 => ⟨S1000x7, .f32⟩
  | 98 => ⟨S1000x7, .f32⟩
  | 99 => ⟨S1000x7, .f32⟩
  | 100 => ⟨S1000x7, .i32⟩
  | 101 => ⟨S1000x1, .i32⟩
  | 102 => ⟨S1000x7, .i32⟩
  | 103 => ⟨S1000x7, .i32⟩
  | 104 => ⟨S_, .f32⟩
  | 105 => ⟨S1x7, .f32⟩
  | 106 => ⟨S1x7, .f32⟩
  | 107 => ⟨S1000x1, .f32⟩
  | 108 => ⟨S1000x7, .f32⟩
  | 109 => ⟨S1000x7, .f32⟩
  | 110 => ⟨S1000x7, .f32⟩
  | 111 => ⟨S1000x7, .f32⟩
  | 112 => ⟨S1000x7, .i32⟩
  | 113 => ⟨S1000x1, .i32⟩
  | 114 => ⟨S1000x7, .i32⟩
  | 115 => ⟨S1000x7, .i32⟩
  | 116 => ⟨S_, .i32⟩
  | 117 => ⟨S_, .i32⟩
  | 118 => ⟨S_, .i32⟩
  | 119 => ⟨S1000x7, .i32⟩
  | 120 => ⟨S1000x7, .i32⟩
  | 121 => ⟨S_, .i32⟩
  | 122 => ⟨S1000x7, .i32⟩
  | 123 => ⟨S1000x7, .i32⟩
  | 124 => ⟨S_, .i32⟩
  | 125 => ⟨S_, .i32⟩
  | 126 => ⟨S_, .i32⟩
  | 127 => ⟨S1000x7, .i32⟩
  | _ => ⟨S2x768x14x14, .f32⟩

abbrev hbmTy0_1 (i : Nat) : BufTy := match i % 128 with
  | 0 => ⟨S1000x7, .i32⟩
  | 1 => ⟨S_, .i32⟩
  | 2 => ⟨S1000x7, .i32⟩
  | 3 => ⟨S1000x7, .i32⟩
  | 4 => ⟨S14, .i32⟩
  | 5 => ⟨S1000x7x1, .i32⟩
  | 6 => ⟨S1x1x14, .i32⟩
  | 7 => ⟨S1000x7x14, .i32⟩
  | 8 => ⟨S1000x7x14, .i32⟩
  | 9 => ⟨S1000x7x14, .i1⟩
  | 10 => ⟨S1000x7x1, .i32⟩
  | 11 => ⟨S1x1x14, .i32⟩
  | 12 => ⟨S1000x7x14, .i32⟩
  | 13 => ⟨S1000x7x14, .i32⟩
  | 14 => ⟨S1000x7x14, .i1⟩
  | 15 => ⟨S1000x7x14, .i1⟩
  | 16 => ⟨S1000x7x1, .i32⟩
  | 17 => ⟨S1x1x14, .i32⟩
  | 18 => ⟨S1000x7x14, .i32⟩
  | 19 => ⟨S1000x7x14, .i32⟩
  | 20 => ⟨S1000x7x14, .i1⟩
  | 21 => ⟨S1000x7x1, .i32⟩
  | 22 => ⟨S1x1x14, .i32⟩
  | 23 => ⟨S1000x7x14, .i32⟩
  | 24 => ⟨S1000x7x14, .i32⟩
  | 25 => ⟨S1000x7x14, .i1⟩
  | 26 => ⟨S1000x7x14, .i1⟩
  | 27 => ⟨S1000x1x7x1x14x1, .i1⟩
  | 28 => ⟨S1000x1x1x7x1x14, .i1⟩
  | 29 => ⟨S1000x1x7x7x14x14, .i1⟩
  | 30 => ⟨S1000x1x7x7x14x14, .i1⟩
  | 31 => ⟨S1000x1x7x7x14x14, .i1⟩
  | 32 => ⟨S_, .i32⟩
  | 33 => ⟨S1000, .i32⟩
  | 34 => ⟨S1000, .i1⟩
  | 35 => ⟨S_, .i32⟩
  | 36 => ⟨S1000, .i32⟩
  | 37 => ⟨S1000, .i32⟩
  | 38 => ⟨S1000, .i32⟩
  | 39 => ⟨S1000x1, .i32⟩
  | 40 => ⟨S1000x768x14x14, .f32⟩
  | 41 => ⟨S1000x768x1x1x14x14, .f32⟩
  | 42 => ⟨S_, .f32⟩
  | 43 => ⟨S1000x768x7x7x14x14, .i1⟩
  | 44 => ⟨S1000x768x7x7x14x14, .f32⟩
  | 45 => ⟨S1000x768x7x7x14x14, .f32⟩
  | 46 => ⟨S1000x768x7x7x14x14, .f32⟩
  | 47 => ⟨S_, .f32⟩
  | 48 => ⟨S1000x768x7x7, .f32⟩
  | 49 => ⟨S1000x7, .i1⟩
  | 50 => ⟨S1000x1x7x1, .i1⟩
  | 51 => ⟨S1000x7, .i1⟩
  | 52 => ⟨S1000x1x1x7, .i1⟩
  | 53 => ⟨S1000x1x7x7, .i1⟩
  | 54 => ⟨S1000x1x7x7, .i1⟩
  | 55 => ⟨S1000x1x7x7, .i1⟩
  | 56 => ⟨S_, .f32⟩
  | 57 => ⟨S_, .f32⟩
  | 58 => ⟨S1000x768x7x7, .i1⟩
  | 59 => ⟨S1000x768x7x7, .f32⟩
  | 60 => ⟨S1000x768x7x7, .f32⟩
  | _ => ⟨S2x768x14x14, .f32⟩

abbrev hbmTy (i : Nat) : BufTy := match i / 128 with
  | 0 => hbmTy0_0 i
  | 1 => hbmTy0_1 i
  | _ => ⟨S2x768x14x14, .f32⟩

abbrev bufTy : (tb : Table) → Fin (tcTables nBuf tb) → BufTy
  | .hbm, ⟨i, _⟩ => hbmTy i
  | _, _ => ⟨S2x768x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_5 : Ref sig .tc := ⟨.hbm, 45, rfl⟩
abbrev main_v36 : Ref sig .tc := ⟨.hbm, 46, rfl⟩
abbrev main_v37 : Ref sig .tc := ⟨.hbm, 47, rfl⟩
abbrev main_c_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_9 : Ref sig .tc := ⟨.hbm, 79, rfl⟩
abbrev main_c_10 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_v66 : Ref sig .tc := ⟨.hbm, 86, rfl⟩
abbrev main_c_11 : Ref sig .tc := ⟨.hbm, 87, rfl⟩
abbrev main_c_12 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_13 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_14 : Ref sig .tc := ⟨.hbm, 116, rfl⟩
abbrev main_c_15 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v88 : Ref sig .tc := ⟨.hbm, 123, rfl⟩
abbrev main_c_16 : Ref sig .tc := ⟨.hbm, 124, rfl⟩
abbrev main_c_17 : Ref sig .tc := ⟨.hbm, 125, rfl⟩
abbrev main_call7_v0 : Ref sig .tc := ⟨.hbm, 126, rfl⟩
abbrev main_call7_v1 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_18 : Ref sig .tc := ⟨.hbm, 160, rfl⟩
abbrev main_v118 : Ref sig .tc := ⟨.hbm, 161, rfl⟩
abbrev main_v119 : Ref sig .tc := ⟨.hbm, 162, rfl⟩
abbrev main_c_19 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_20 : Ref sig .tc := ⟨.hbm, 170, rfl⟩
abbrev main_call8_v0 : Ref sig .tc := ⟨.hbm, 171, rfl⟩
abbrev main_call8_v1 : Ref sig .tc := ⟨.hbm, 172, rfl⟩
abbrev main_call8_v2 : Ref sig .tc := ⟨.hbm, 173, rfl⟩
abbrev main_v126 : Ref sig .tc := ⟨.hbm, 174, rfl⟩
abbrev main_cst_21 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_22 : Ref sig .tc := ⟨.hbm, 184, rfl⟩
abbrev main_call9_v0 : Ref sig .tc := ⟨.hbm, 185, rfl⟩
abbrev main_call9_v1 : Ref sig .tc := ⟨.hbm, 186, rfl⟩
abbrev main_call9_v2 : Ref sig .tc := ⟨.hbm, 187, rfl⟩
abbrev main_v135 : Ref sig .tc := ⟨.hbm, 188, rfl⟩

abbrev nD : Nat := 1
abbrev τ : Topo := Topo.v7x

variable {F : FTy → Type} [FloatOps F]
-- ==== Proof.Window.lean ====
/-
  The mathematics of one output row of the kernel, apart from any program: what one RoI's staging row of 18816 words
  holds when its 49 bins have been written, as a function of the feature slab and of the seven parameter rows, and the
  invariant by which the 7 × 7 × 24 scattered stores build it.
-/
module

public import proofs.«01_k».proof.Defs
public import Idealize.ShloMosaic.Lib.LoopRemainder

@[expose] public section

noncomputable section

namespace Cert.Proof

open Cert.KernelIdeal
open Idealize.ShloMosaic

variable {F : FTy → Type} [FloatOps F]

/-! ## Counted loops over bounds that are small words -/

theorem toInt_small {a : BitVec 32} (h : a.toNat < 2 ^ 31) : a.toInt = (a.toNat : ℤ) := by
  rw [BitVec.toInt_eq_toNat_cond, if_pos (by omega)]

/-- The upper bound a counted loop is printed with is the plain one. -/
theorem upper (a b : BitVec 32) : Scalar.addi a (Scalar.muli (Scalar.divsi (Scalar.subi b a) 1#32) 1#32) = b := by
  rw [Scalar.muli_divsi_one]
  show a + (b - a) = b
  rw [BitVec.add_comm, BitVec.sub_add_cancel]

theorem trips_small {a b : BitVec 32} (ha : a.toNat ≤ 1024) (hb : b.toNat ≤ 1024) :
    Scf.trips a (Scalar.addi a (Scalar.muli (Scalar.divsi (Scalar.subi b a) 1#32) 1#32)) 1#32 = b.toNat - a.toNat := by
  rw [upper, Scf.trips, toInt_small (by omega), toInt_small (by omega), show (1#32 : BitVec 32).toInt = 1 from rfl]
  simp only [Int.ediv_one]
  omega

theorem ok_small {a b : BitVec 32} (ha : a.toNat ≤ 1024) (hb : b.toNat ≤ 1024) :
    Scf.OK a (Scalar.addi a (Scalar.muli (Scalar.divsi (Scalar.subi b a) 1#32) 1#32)) 1#32 := by
  refine ⟨by decide, ?_⟩
  rw [trips_small ha hb, toInt_small (by omega), show (1#32 : BitVec 32).toInt = 1 from rfl]
  norm_num
  omega

theorem iv_toNat (a : BitVec 32) (k : ℕ) (h : a.toNat + k < 2 ^ 32) : (Scf.iv a 1#32 k).toNat = a.toNat + k := by
  show (a + BitVec.ofNat 32 k * 1#32).toNat = _
  rw [BitVec.mul_one, BitVec.toNat_add, BitVec.toNat_ofNat, Nat.mod_eq_of_lt (show k < 2 ^ 32 by omega), Nat.mod_eq_of_lt h]

/-! ## The window maximum, in the kernel's order -/

/-- Element `(r, c)` of a feature slab (the coordinates taken modulo the slab's sizes). -/
def at2 (r c : ℕ) : S196x384.Idx := fun a => match a with
  | ⟨0, _⟩ => ⟨r % 196, Nat.mod_lt _ (by decide)⟩
  | ⟨1, _⟩ => ⟨c % 384, Nat.mod_lt _ (by decide)⟩

/-- Sixteen channels, those of group `j`, at position `r` of a slab. -/
def ldv (f : S196x384.Idx → F .f32) (r j : ℕ) : FVec F S16 .f32 := fun x => f (at2 r (16 * j + (x 0).val))

/-- The start of every maximum: the largest finite negative number. -/
def negv : FVec F S16 .f32 := broadcast S16 (Scalar.ofBits .f32 0xFF7FFFFF#32)

/-- The maximum of `acc` with `n` positions of row `r`, from column `c`. -/
def accW (f : S196x384.Idx → F .f32) (j r c : ℕ) : ℕ → FVec F S16 .f32 → FVec F S16 .f32
  | 0, a => a
  | n + 1, a => maximumf (accW f j r c n a) (ldv f (r * 14 + (c + n)) j)

/-- The maximum over `n` rows from `r`, of `m` positions each from column `c`. -/
def accH (f : S196x384.Idx → F .f32) (j r c m : ℕ) : ℕ → FVec F S16 .f32
  | 0 => negv
  | n + 1 => accW f j (r + n) c m (accH f j r c m n)

/-- One bin's sixteen channels: the window's maximum, zero where the window is empty. -/
def blk (f : S196x384.Idx → F .f32) (hs he ws we : BitVec 32) (j : ℕ) : FVec F S16 .f32 :=
  Scalar.select (Scalar.ori (Scalar.cmpi .sle he hs) (Scalar.cmpi .sle we ws))
    (broadcast S16 (Scalar.ofBits .f32 0x00000000#32 : F .f32))
    (accH f j hs.toNat ws.toNat (we.toNat - ws.toNat) (he.toNat - hs.toNat))

/-- Lane `l` of a vector of sixteen. -/
def lane (l : ℕ) : S16.Idx := fun a => match a with | ⟨0, _⟩ => ⟨l % 16, Nat.mod_lt _ (by decide)⟩

/-- Word `p` of a RoI's staging row: channel `p / 49`, bin `(p % 49 / 7, p % 7)`. -/
def tgt (f : S196x384.Idx → F .f32) (row : ℕ → ℕ → BitVec 32) (p : ℕ) : F .f32 :=
  blk f (row (p % 49 / 7) 0) (row (p % 49 / 7) 1) (row (p % 49 / 7) (2 + p % 49 % 7)) (row (p % 49 / 7) (9 + p % 49 % 7))
    (p / 784) (lane (p / 49))

/-- The staging row so far: bins below `n` are written, and of bin `n` the first `g` groups of channels. -/
def Good (f : S196x384.Idx → F .f32) (row : ℕ → ℕ → BitVec 32) (n g : ℕ) (o : S18816.Idx → F .f32) : Prop :=
  ∀ x : S18816.Idx, ((x 0).val % 49 < n ∨ ((x 0).val % 49 = n ∧ (x 0).val / 784 < g)) → o x = tgt f row (x 0).val

theorem Good.zero (f : S196x384.Idx → F .f32) (row : ℕ → ℕ → BitVec 32) (o : S18816.Idx → F .f32) : Good f row 0 0 o :=
  fun x h => by omega

theorem Good.next {f : S196x384.Idx → F .f32} {row : ℕ → ℕ → BitVec 32} {n : ℕ} {o : S18816.Idx → F .f32}
    (h : Good f row n 24 o) : Good f row (n + 1) 0 o := fun x hx => h x (by
  have := (x 0).isLt
  have : (x 0).val < 18816 := this
  omega)

theorem Good.done {f : S196x384.Idx → F .f32} {row : ℕ → ℕ → BitVec 32} {o : S18816.Idx → F .f32}
    (h : Good f row 49 0 o) (x : S18816.Idx) : o x = tgt f row (x 0).val := h x (Or.inl (Nat.mod_lt _ (by decide)))

/-! ## A scatter of sixteen lanes -/

/-- Where a scatter leaves element `j`: if the lanes that name `j` all carry `w`, then `w` when there is one, the old
    value when there is none. -/
theorem storeIdx_eq {s : Shape} {e : EltTy} {d : Fin 1 → ℕ} (f : Vec F s e) (idxs : Fin s.rank → IVec ⟨1, d⟩ 32) (v : Vec F ⟨1, d⟩ e)
    (h : ∀ a x, (idxs a x).toNat < s.size a) (j : s.Idx) (w : Elt F e)
    (hw : ∀ k : Fin (d 0), (∀ a, (j a).val = (idxs a (Shape.ofLane k)).toNat) → v (Shape.ofLane k) = w) :
    storeIdx f idxs v (fun _ => 1#1) false h j
      = if ∃ k : Fin (d 0), ∀ a, (j a).val = (idxs a (Shape.ofLane k)).toNat then w else f j := by
  have step : ∀ (g : Vec F s e) (k : Fin (d 0)),
      (fun j : s.Idx => if (∀ a, (j a).val = (idxAt idxs h (Shape.ofLane k) a).val)
          then (if false = true then Elt.idxAdd e (g (idxAt idxs h (Shape.ofLane k))) (v (Shape.ofLane k)) else v (Shape.ofLane k)) else g j) j
        = if (∀ a, (j a).val = (idxs a (Shape.ofLane k)).toNat) then w else g j := by
    intro g k
    show (if (∀ a, (j a).val = (idxs a (Shape.ofLane k)).toNat) then _ else _) = _
    by_cases hk : ∀ a, (j a).val = (idxs a (Shape.ofLane k)).toNat
    · rw [if_pos hk, if_pos hk, if_neg (by decide), hw k hk]
    · rw [if_neg hk, if_neg hk]
  have key : ∀ (l : List (Fin (d 0))) (g : Vec F s e),
      (l.foldl (fun (g : Vec F s e) (k : Fin (d 0)) => (fun j : s.Idx => if (∀ a, (j a).val = (idxAt idxs h (Shape.ofLane k) a).val)
          then (if false = true then Elt.idxAdd e (g (idxAt idxs h (Shape.ofLane k))) (v (Shape.ofLane k)) else v (Shape.ofLane k)) else g j)) g) j
      = if ∃ k ∈ l, ∀ a, (j a).val = (idxs a (Shape.ofLane k)).toNat then w else g j := by
    intro l
    induction l with
    | nil => intro g; simp
    | cons k l ih =>
      intro g
      rw [List.foldl_cons, ih]
      refine (congrArg (fun z => if ∃ k ∈ l, ∀ a, (j a).val = (idxs a (Shape.ofLane k)).toNat then w else z) (step g k)).trans ?_
      show (if _ then w else if _ then w else g j) = _
      by_cases hl : ∃ k ∈ l, ∀ a, (j a).val = (idxs a (Shape.ofLane k)).toNat
      · have : ∃ k' ∈ k :: l, ∀ a, (j a).val = (idxs a (Shape.ofLane k')).toNat := by
          obtain ⟨k', hk', h'⟩ := hl
          exact ⟨k', List.mem_cons_of_mem _ hk', h'⟩
        rw [if_pos hl, if_pos this]
      · rw [if_neg hl]
        by_cases hk : ∀ a, (j a).val = (idxs a (Shape.ofLane k)).toNat
        · have : ∃ k' ∈ k :: l, ∀ a, (j a).val = (idxs a (Shape.ofLane k')).toNat := ⟨k, List.mem_cons_self, hk⟩
          rw [if_pos this, if_pos hk]
        · have : ¬ ∃ k' ∈ k :: l, ∀ a, (j a).val = (idxs a (Shape.ofLane k')).toNat := by
            intro hex
            obtain ⟨k', hk', h'⟩ := hex
            rcases List.mem_cons.mp hk' with e | hk'
            · exact hk (e ▸ h')
            · exact hl ⟨k', hk', h'⟩
          rw [if_neg this, if_neg hk]
  have hall := key (List.finRange (d 0)) f
  simp only [List.mem_finRange, true_and] at hall
  rw [← hall]
  unfold storeIdx
  have h11 : ((1#1 : BitVec 1) = 1) = True := eq_true rfl
  simp only [h11, if_true]
  congr!

/-- The index vector of a store: lane `l` at `49·l + w`. -/
def idxv (v16 : IVec S16 32) (c w : BitVec 32) : IVec S16 32 := addi v16 (broadcast S16 (Scalar.addi c w))

theorem iotas16 : S16.Iotas .scVector 32 [0] := by decide

/-- Forty-nine times the lane. -/
def lanes49 : IVec S16 32 := muli (iota .scVector S16 32 [0] iotas16) (broadcast S16 49#32)

theorem lanes49_toNat (x : S16.Idx) : (lanes49 x).toNat = 49 * (x 0).val := by
  have hx : (x 0).val < 16 := (x 0).isLt
  show ((iota .scVector S16 32 [0] iotas16 x) * 49#32).toNat = _
  have : iota .scVector S16 32 [0] iotas16 x = BitVec.ofNat 32 (x 0).val := by
    revert x; decide
  rw [this, BitVec.toNat_mul, BitVec.toNat_ofNat]
  simp only [BitVec.toNat_ofNat]
  omega

theorem idxv_toNat {c w : BitVec 32} {g n : ℕ} (hc : c.toNat = 784 * g) (hw : w.toNat = n) (hg : g < 24) (hn : n < 49) (x : S16.Idx) :
    (idxv lanes49 c w x).toNat = 49 * (16 * g + (x 0).val) + n := by
  have hx : (x 0).val < 16 := (x 0).isLt
  have h1 := lanes49_toNat x
  show (lanes49 x + (c + w)).toNat = _
  rw [BitVec.toNat_add, BitVec.toNat_add, h1, hc, hw]
  omega

theorem idxv_lt {c w : BitVec 32} {g n : ℕ} (hc : c.toNat = 784 * g) (hw : w.toNat = n) (hg : g < 24) (hn : n < 49) (x : S16.Idx) :
    (idxv lanes49 c w x).toNat < 18816 := by
  have hx : (x 0).val < 16 := (x 0).isLt
  rw [idxv_toNat hc hw hg hn]
  omega

/-- One store of the run: bin `n`'s group `g` of channels. -/
theorem Good.store {f : S196x384.Idx → F .f32} {row : ℕ → ℕ → BitVec 32} {n g : ℕ} {o : S18816.Idx → F .f32} (h : Good f row n g o)
    {c w : BitVec 32} (hc : c.toNat = 784 * g) (hw : w.toNat = n) (hg : g < 24) (hn : n < 49)
    (hh : ∀ a x, ((![idxv lanes49 c w] : Fin 1 → IVec S16 32) a x).toNat < S18816.size a)
    (hb : n = n / 7 * 7 + n % 7 := by omega) :
    Good f row n (g + 1) (storeIdx (F := F) (s := S18816) (e := .f32) (d := S16.size) o ![idxv lanes49 c w]
      (blk f (row (n / 7) 0) (row (n / 7) 1) (row (n / 7) (2 + n % 7)) (row (n / 7) (9 + n % 7)) g) (fun _ => 1#1) false hh) := by
  intro x hx
  have hx' : (x 0).val < 18816 := (x 0).isLt
  have hl : ∀ k : Fin 16, (∀ a, (x a).val = ((![idxv lanes49 c w] : Fin 1 → IVec S16 32) a (Shape.ofLane k)).toNat)
      ↔ (x 0).val = 49 * (16 * g + k.val) + n := by
    intro k
    have hk := idxv_toNat hc hw hg hn (Shape.ofLane (d := S16.size) k)
    rw [show ((Shape.ofLane (d := S16.size) k : S16.Idx) 0).val = k.val from rfl] at hk
    constructor
    · intro hall
      rw [← hk]
      exact hall 0
    · intro he a
      rw [Fin.eq_zero a]
      exact he.trans hk.symm
  rw [storeIdx_eq (w := tgt f row (x 0).val)]
  · by_cases hk : (x 0).val % 49 = n ∧ (x 0).val / 784 = g
    · rw [if_pos]
      refine ⟨⟨(x 0).val / 49 % 16, Nat.mod_lt _ (by decide)⟩, (hl _).mpr ?_⟩
      show _ = 49 * (16 * g + (x 0).val / 49 % 16) + n
      omega
    · rw [if_neg]
      · exact h x (by omega)
      · rintro ⟨k, hk'⟩
        have hk16 : k.val < 16 := k.isLt
        have := (hl k).mp hk'
        omega
  · intro k hk
    have hk16 : k.val < 16 := k.isLt
    have he := (hl k).mp hk
    have hlane : (Shape.ofLane (d := S16.size) k : S16.Idx) = lane ((x 0).val / 49) := by
      funext a
      rw [Fin.eq_zero a]
      refine Fin.ext ?_
      show k.val = (x 0).val / 49 % 16
      omega
    have e1 : (x 0).val % 49 = n := by omega
    have e2 : (x 0).val / 784 = g := by omega
    rw [tgt, e1, e2]
    exact congrArg _ hlane

end Cert.Proof

end
-- ==== Proof.Bin.lean ====
module

public import proofs.«01_k».proof.Proof.Window
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.LoopRemainder
public import proofs.«01_k».proof.Proof.Gen.KernelIdeal
public import proofs.«01_k».proof.Proof.Gen.KernelIdeal.Skeleton

@[expose] public section

/-! One bin: the loops over its window's rows and columns, and the stores of its maxima into the staging row. -/

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Rounds
open Idealize.ShloMosaic.Tactic

variable {F : FTy → Type} [FloatOps F]

abbrev UH : Type := URounds (GSem nD τ sig) ℕ
abbrev UU : Type := UH × Counters
local notation "𝕄" => MT nD τ sig (HIx 1) (Elt F) ℕ UU ℕ

abbrev thr (d : Dev nD) (i : grid0.Coords) : Thread nD τ := V d ((i 0).castLE hcore0) ((i 1).castLE hsub0)

abbrev aF : Memref sig .scVector .hbm S2x2x196x384 .f32 := Memref.whole main_v132_scv
abbrev aP : Memref sig .scVector .hbm S1024x8x16 .i32 := Memref.whole main_v129_scv
abbrev aO : Memref sig .scVector .hbm S1000x37632 .f32 := Memref.whole main_v133_scv
abbrev a5 : Memref sig .scVector .vmem S196x384 .f32 := Memref.whole cc0_scratch0
abbrev a6 : Memref sig .scVector .vmem S32x8x16 .i32 := Memref.whole cc0_scratch1
abbrev a7 : Memref sig .scVector .vmem S18816 .f32 := Memref.whole cc0_scratch2

/-- Word `(r, h, k)` of the tile's parameter rows (the coordinates taken modulo the array's sizes). -/
def at3 (r h k : ℕ) : S32x8x16.Idx := fun a => match a with
  | ⟨0, _⟩ => ⟨r % 32, Nat.mod_lt _ (by decide)⟩
  | ⟨1, _⟩ => ⟨h % 8, Nat.mod_lt _ (by decide)⟩
  | ⟨2, _⟩ => ⟨k % 16, Nat.mod_lt _ (by decide)⟩

theorem inb3 {r h : ℕ} (hr : r < 32) (hh : h < 8) {off : Fin 3 → ℕ} (ho : off = ![r, h, 0]) : ∀ a, off a + S1x1x16.size a ≤ S32x8x16.size a := by
  subst ho
  intro a
  fin_cases a
  · show r + 1 ≤ 32; omega
  · show h + 1 ≤ 8; omega
  · show 0 + 16 ≤ 16; omega

/-- A bound the kernel takes out of a parameter row is that word of the row. -/
theorem word_eq (p : S32x8x16.Idx → BitVec 32) {off : Fin 3 → ℕ} (inb : ∀ a, off a + S1x1x16.size a ≤ S32x8x16.size a)
    {r h k : ℕ} (ho : off = ![r, h, 0]) (hk : k < 16) (hc : S1x1x16.ShapeCasts S16) (hs : S16.Slices ![k] S1) (hp : ∀ a : Fin 1, (![0] : Fin 1 → ℕ) a < S1.size a) :
    extractAt ![0] (extractStridedSlice S1 ![k] (shapeCast S16 (View.readAt (Elt F) (a6).view (Rect.unit (s := S32x8x16) off S1x1x16.size inb).toLoadRect p : Vec F S1x1x16 .i32) hc) hs) hp
      = p (at3 r h k) := by
  have h0 : off 0 = r := congrFun ho 0
  have h1 : off 1 = h := congrFun ho 1
  have h2 : off 2 = 0 := congrFun ho 2
  have hr : r + 1 ≤ 32 := h0 ▸ inb 0
  have hh : h + 1 ≤ 8 := h1 ▸ inb 1
  refine (extractStridedSlice_apply _ _ hs _ (lane k) (fun a => ?_)).trans ?_
  · rw [Fin.eq_zero a]
    show k % 16 = k + 0
    omega
  · refine (shapeCast_apply _ hc (lane k) (fun a => match a with
      | ⟨0, _⟩ => ⟨0, Nat.zero_lt_one⟩ | ⟨1, _⟩ => ⟨0, Nat.zero_lt_one⟩ | ⟨2, _⟩ => ⟨k % 16, Nat.mod_lt _ (by decide)⟩) ?_).trans ?_
    · rw [Shape.rowMajor_val_one, Shape.rowMajor_val_three]
      show (0 * 1 + 0) * 16 + k % 16 = k % 16
      omega
    · rw [View.readAt_apply, View.read_whole]
      refine congrArg p (funext fun a => Fin.ext ?_)
      match a with
      | ⟨0, _⟩ => show off 0 + 1 * 0 = r % 32; omega
      | ⟨1, _⟩ => show off 1 + 1 * 0 = h % 8; omega
      | ⟨2, _⟩ => show off 2 + 1 * (k % 16) = k % 16; omega

theorem slices1 {k : ℕ} (hk : k < 16) : S16.Slices ![k] S1 := by
  refine ⟨rfl, fun a => ?_⟩
  fin_cases a
  show k + 1 ≤ 16
  omega

theorem at0 : ∀ a : Fin 1, (![0] : Fin 1 → ℕ) a < S1.size a := by decide

theorem ldval (f : S196x384.Idx → F .f32) {off : Fin 2 → ℕ} (inb : ∀ a, off a + S1x16.size a ≤ S196x384.size a) {r j : ℕ}
    (h0 : off 0 = r) (h1 : off 1 = 16 * j) (hc : S1x16.ShapeCasts S16) :
    shapeCast S16 (View.readAt (Elt F) (a5).view (Rect.unit (s := S196x384) off S1x16.size inb).toLoadRect f : Vec F S1x16 .f32) hc = ldv f r j := by
  have hr : r + 1 ≤ 196 := h0 ▸ inb 0
  have hj : 16 * j + 16 ≤ 384 := h1 ▸ inb 1
  funext x
  have hx : (x 0).val < 16 := (x 0).isLt
  refine (shapeCast_apply _ hc x (fun a => match a with
      | ⟨0, _⟩ => ⟨0, Nat.zero_lt_one⟩ | ⟨1, _⟩ => x 0) ?_).trans ?_
  · rw [Shape.rowMajor_val_one, Shape.rowMajor_val_two]
    show 0 * 16 + (x 0).val = (x 0).val
    omega
  · rw [View.readAt_apply, View.read_whole]
    refine congrArg f (funext fun a => Fin.ext ?_)
    match a with
    | ⟨0, _⟩ => show off 0 + 1 * 0 = r % 196; omega
    | ⟨1, _⟩ => show off 1 + 1 * (x 0).val = (16 * j + (x 0).val) % 384; omega

theorem off_row {a b : BitVec 32} {k l : ℕ} (h : (a.toNat + k) * 14 + (b.toNat + l) < 2 ^ 31) :
    (Scalar.indexCast (Scalar.addi (Scalar.muli (Scf.iv a 1#32 k) 14#32) (Scf.iv b 1#32 l))).toNat = (a.toNat + k) * 14 + (b.toNat + l) := by
  show (Scf.iv a 1#32 k * 14#32 + Scf.iv b 1#32 l).toNat = _
  rw [BitVec.toNat_add, BitVec.toNat_mul, iv_toNat _ _ (by omega), iv_toNat _ _ (by omega), show (14#32 : BitVec 32).toNat = 14 from rfl]
  omega

/-- A load of the column loop, by the rows and columns its two counters name. -/
theorem ld_ok (f : S196x384.Idx → F .f32) {a c a' c' : BitVec 32} (ha : a = a') (hc : c = c') (ha' : a'.toNat ≤ 14) (hc' : c'.toNat ≤ 14)
    {k l : ℕ} (hk : k < 14) (hl : l < 14) {off : Fin 2 → ℕ} (inb : ∀ x, off x + S1x16.size x ≤ S196x384.size x) {j : ℕ}
    (h0 : off 0 = (Scalar.indexCast (Scalar.addi (Scalar.muli (Scf.iv a 1#32 k) 14#32) (Scf.iv c 1#32 l))).toNat) (h1 : off 1 = 16 * j)
    (hs : S1x16.ShapeCasts S16) :
    shapeCast S16 (View.readAt (Elt F) (a5).view (Rect.unit (s := S196x384) off S1x16.size inb).toLoadRect f : Vec F S1x16 .f32) hs
      = ldv f ((a'.toNat + k) * 14 + (c'.toNat + l)) j := by
  subst ha hc
  exact ldval f inb (h0.trans (off_row (by omega))) h1 hs

theorem trips_w {a b a' b' : BitVec 32} (ha : a = a') (hb : b = b') (ha' : a'.toNat ≤ 14) (hb' : b'.toNat ≤ 14) :
    Scf.trips a (Scalar.addi a (Scalar.muli (Scalar.divsi (Scalar.subi b a) 1#32) 1#32)) 1#32 = b'.toNat - a'.toNat := by
  subst ha hb
  exact trips_small (by omega) (by omega)

theorem idx_ok {c w : BitVec 32} (hc : c.toNat ≤ 18032) (hw : w.toNat < 49) :
    ∀ a x, ((![idxv lanes49 c w] : Fin 1 → IVec S16 32) a x).toNat < S18816.size a := by
  intro a x
  rw [Fin.eq_zero a]
  have hx : (x 0).val < 16 := (x 0).isLt
  show (lanes49 x + (c + w)).toNat < 18816
  rw [BitVec.toNat_add, BitVec.toNat_add, lanes49_toNat x, Nat.mod_eq_of_lt (a := c.toNat + w.toNat) (by omega), Nat.mod_eq_of_lt (by omega)]
  omega

/-- The twenty-four groups of channels side by side, as the two loops carry them. -/
abbrev tup {α : Type} (g : ℕ → α) : α × α × α × α × α × α × α × α × α × α × α × α × α × α × α × α × α × α × α × α × α × α × α × α :=
  (g 0, g 1, g 2, g 3, g 4, g 5, g 6, g 7, g 8, g 9, g 10, g 11, g 12, g 13, g 14, g 15, g 16, g 17, g 18, g 19, g 20, g 21, g 22, g 23)

variable (d : Dev nD) (i : grid0.Coords)

abbrev B5 : Type := Buf (Elt F) ((a5).view.loc (thr d i))
abbrev B6 : Type := Buf (Elt F) ((a6).view.loc (thr d i))
abbrev B7 : Type := Buf (Elt F) ((a7).view.loc (thr d i))

abbrev P5 (f : S196x384.Idx → F .f32) : sProp 𝕄 := (a5).view.loc (thr d i) ↦[(a5).view.set]{fullShare} f
abbrev P6 (p : S32x8x16.Idx → BitVec 32) : sProp 𝕄 := (a6).view.loc (thr d i) ↦[(a6).view.set]{fullShare} p
abbrev P7 (o : S18816.Idx → F .f32) : sProp 𝕄 := (a7).view.loc (thr d i) ↦[(a7).view.set]{fullShare} o

/-- The staging row with bins below `7·h + w` written, and `g` groups of that bin. -/
def Acc (f : S196x384.Idx → F .f32) (row : ℕ → ℕ → BitVec 32) (h w g : ℕ) : sProp 𝕄 :=
  iprop(∃ o, P7 d i o ∗ ⌜Good f row (7 * h + w) g o⌝)

/-- The column loop's invariant: the slab held, each group's maximum taken over the first `n` columns. -/
def invW (f : S196x384.Idx → F .f32) (A : ℕ → FVec F S16 .f32) (r c : ℕ) (n : ℕ)
    (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(⌜acc = tup fun j => accW f j r c n (A j)⌝ ∗ P5 d i f)

/-- The row loop's invariant: the first `n` rows of the window done. -/
def invH (f : S196x384.Idx → F .f32) (r c m : ℕ) (n : ℕ)
    (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(⌜acc = tup fun j => accH f j r c m n⌝ ∗ P5 d i f)

/-- The row loops of a bin are well formed, in both segments. -/
theorem rows_ok (v10 : BitVec 32) :
    (∀ {a b : BitVec 32}, a.toNat ≤ 14 → b.toNat ≤ 14 → k0_chk2 i v10 a b) ∧ (∀ {a b : BitVec 32}, a.toNat ≤ 14 → b.toNat ≤ 14 → k0_chk356 i v10 a b) := by
  refine ⟨fun ha hb => ?_, fun ha hb => ?_⟩
  on_goal 1 => unfold k0_chk2
  on_goal 2 => unfold k0_chk356
  all_goals
    repeat' apply And.intro
  all_goals
    intro _
    first
    | with_reducible exact Scf.rem_ok _ _
    | exact ok_small (ha.trans (by decide)) (hb.trans (by decide))

theorem off_inb {a b : BitVec 32} {k l : ℕ} (ha : a.toNat + k ≤ 13) (hb : b.toNat + l ≤ 13) {off : Fin 2 → ℕ}
    (h0 : off 0 = (a.toNat + k) * 14 + (b.toNat + l)) (h1 : off 1 + 16 ≤ 384) : ∀ x, off x + S1x16.size x ≤ S196x384.size x := by
  intro x
  fin_cases x
  · show off 0 + 1 ≤ 196; omega
  · exact h1

set_option maxHeartbeats 4000000 in
/-- The column loops of a bin, and the loads in them, are in range, in both segments. -/
theorem cols_ok (v10 : BitVec 32) :
    (∀ {a b c e : BitVec 32}, a.toNat ≤ 14 → b.toNat ≤ 14 → c.toNat ≤ 14 → e.toNat ≤ 14 → k0_chk3 i v10 a b c e)
    ∧ (∀ {a b c e : BitVec 32}, a.toNat ≤ 14 → b.toNat ≤ 14 → c.toNat ≤ 14 → e.toNat ≤ 14 → k0_chk357 i v10 a b c e) := by
  refine ⟨fun {a b c e} ha hb hc he => ?_, fun {a b c e} ha hb hc he => ?_⟩
  on_goal 1 => unfold k0_chk3 k0_chk3_0 k0_chk3_1 k0_chk3_2 k0_chk3_3
  on_goal 2 => unfold k0_chk357 k0_chk357_0 k0_chk357_1 k0_chk357_2 k0_chk357_3
  all_goals
    have hrow : ∀ k : Fin (Scf.trips a (Scalar.addi a (Scalar.muli (Scalar.divsi (Scalar.subi b a) 1#32) 1#32)) 1#32), a.toNat + k.val ≤ 13 :=
      fun k => by have := k.isLt.trans_eq (trips_small (by omega) (by omega)); omega
    have hcol : ∀ k : Fin (Scf.trips c (Scalar.addi c (Scalar.muli (Scalar.divsi (Scalar.subi e c) 1#32) 1#32)) 1#32), c.toNat + k.val ≤ 13 :=
      fun k => by have := k.isLt.trans_eq (trips_small (by omega) (by omega)); omega
    repeat' apply And.intro
  all_goals
    first
    | with_reducible exact fun k _ _ => (Scf.rem_no_trip _ _ k).elim
    | with_reducible exact fun _ k _ => (Scf.rem_no_trip _ _ k).elim
    | with_reducible exact fun _ _ => Scf.rem_ok _ _
    | exact fun _ _ => ok_small (hc.trans (by decide)) (he.trans (by decide))
    | (intro k l _
       refine off_inb (hrow k) (hcol l) ?_ ?_
       · exact off_row (by have := hrow k; have := hcol l; omega)
       · exact Nat.le_of_ble_eq_true rfl)

theorem pts_access (o : S18816.Idx → F .f32) :
    P7 (F := F) d i o = (((a7).access (.whole S18816)).loc (thr d i) ↦[((a7).access (.whole S18816)).set]{fullShare} o) := by
  have h : (a7).view.set = ((a7).access (.whole S18816)).set :=
    (View.set_whole cc0_scratch2).trans (Memref.set_access_whole cc0_scratch2).symm
  exact congrArg (fun S : Finset (Idx ((a7).view.loc (thr d i))) => ((a7).view.loc (thr d i) ↦[S]{fullShare} o : sProp 𝕄)) h

theorem acc_next (f : S196x384.Idx → F .f32) (row : ℕ → ℕ → BitVec 32) (h w : ℕ) : Acc (F := F) d i f row h w 24 ⊢ Acc d i f row h (w + 1) 0 := by
  unfold Acc
  iintro ⟨%o, Ho, %ho⟩
  iexists o
  isplitl [Ho]
  · iexact Ho
  · ipureintro
    exact ho.next

theorem acc_row (f : S196x384.Idx → F .f32) (row : ℕ → ℕ → BitVec 32) (h : ℕ) : Acc (F := F) d i f row h 7 0 ⊢ Acc d i f row (h + 1) 0 0 :=
  Entails.of_eq rfl

/-- What a scatter writes, by the words of the parameter row. -/
theorem blk_ok (f : S196x384.Idx → F .f32) {a b c e a' b' c' e' : BitVec 32} (ha : a = a') (hb : b = b') (hc : c = c') (he : e = e') (j : ℕ) :
    Scalar.select (Scalar.ori (Scalar.cmpi .sle b a) (Scalar.cmpi .sle e c)) (broadcast S16 (Scalar.ofBits .f32 0x00000000#32 : F .f32))
      (accH f j a'.toNat c'.toNat (e'.toNat - c'.toNat) (b'.toNat - a'.toNat)) = blk f a' b' c' e' j := by
  subst ha hb hc he
  rfl

/-- One scatter of the run: group `g` of bin `(h, w)`. -/
theorem wp_put {f : S196x384.Idx → F .f32} {row : ℕ → ℕ → BitVec 32} {h w g : ℕ}
    {idx : IVec S16 32} {v : FVec F S16 .f32} {hh : ∀ a x, ((![idx] : Fin 1 → IVec S16 32) a x).toNat < S18816.size a}
    {hst : ((a7).access (.whole S18816)).Stores Finset.univ} {β : Type}
    {k : PUnit → Prog (TpuEff nD τ sig (Elt F) Λ₀ (thr d i).2) β} {Q : β → sProp 𝕄} :
    Acc d i f row h w g
      ⊢ iprop((⌜h < 7 ∧ w < 7 ∧ g < 24 ∧ ∃ c wd, idx = idxv lanes49 c wd ∧ c.toNat = 784 * g ∧ wd.toNat = 7 * h + w
            ∧ v = blk f (row h 0) (row h 1) (row h (2 + w)) (row h (9 + w)) g⌝
          ∗ (Acc d i f row h w (g + 1) -∗ wp frame (wpE (defs₀ (F := F)) Variants.none (thr d i) none) Set.univ (k ⟨⟩) Q))
        -∗ wp frame (wpE (defs₀ (F := F)) Variants.none (thr d i) none) Set.univ
          (SparseCore.vectorStoreIdx (p := (thr d i).2) a7 ![idx] v (fun _ => 1#1) false hh hst >>= k) Q) := by
  unfold Acc
  iintro ⟨%o, Ho, %ho⟩ ⟨%hf, Hk⟩
  obtain ⟨hh7, hw7, hg, c, wd, rfl, hc, hwd, rfl⟩ := hf
  ihave Ho' := (Entails.of_eq (pts_access (F := F) d i o)) $$ Ho
  iapply (SparseCore.wp_vectorStoreIdx Variants.none (thr d i) none Set.univ (base := a7)) $$ Ho'
  iintro Ho'
  ihave Ho := (Entails.of_eq (pts_access (F := F) d i _).symm) $$ Ho'
  iapply Hk
  iexists _
  isplitl [Ho]
  · iexact Ho
  · ipureintro
    have e1 : (7 * h + w) / 7 = h := by omega
    have e2 : (7 * h + w) % 7 = w := by omega
    have := ho.store hc hwd hg (by omega) hh
    rw [e1, e2] at this
    have e : ((a7).access (.whole S18816)).read (Elt F) o = o := Memref.read_access_whole (Elt F) cc0_scratch2 o
    refine (congrArg (Good f row (7 * h + w) (g + 1)) (Memref.write_access_whole_univ (Elt F) cc0_scratch2 o _)).mpr ?_
    exact (congrArg (fun z => Good f row (7 * h + w) (g + 1) (storeIdx (F := F) (s := S18816) (e := .f32) (d := S16.size) z _ _ _ false hh)) e).mpr this

set_option maxHeartbeats 4000000 in
set_option sl_exec.dischHeartbeats 200000 in
theorem ph_run (v10 : BitVec 32) (hw1 : k0_chk1 i v10) (f : S196x384.Idx → F .f32) (p : S32x8x16.Idx → BitVec 32)
    (hp : ∀ r h k, h < 7 → (p (at3 r h k)).toNat ≤ 14) :
    (∀ (h1 : k0_cond1 i v10 = 1#1) (t2 : Fin (k0_t2_loop i v10).trips) (arg9 : BitVec 32) (t3 : Fin k0_t3_loop.trips) (r : ℕ),
      k0_off3 i v10 t2 t3 = ![r, t3.val, 0] →
      iprop(P5 d i f ∗ P6 d i p ∗ Acc d i f (fun h k => p (at3 r h k)) t3.val 0 0)
      ⊢ (wp frame (wpE (defs₀ (F := F)) Variants.none (thr d i) none) Set.univ
          (k0_t3_body (F := F) i aF (Memref.isWhole_whole _) aP (Memref.isWhole_whole _) aO (Memref.isWhole_whole _)
            a5 (Memref.isWhole_whole _) a6 (Memref.isWhole_whole _) a7 (Memref.isWhole_whole _)
            cc0_scoped0 cc0_scoped1 cc0_scoped2 cc0_scoped3 cc0_scoped4 cc0_scoped5 cc0_scoped6 v10 hw1 h1 t2 arg9 t3 ⟨⟩)
          (fun _ => iprop(P5 d i f ∗ P6 d i p ∗ Acc d i f (fun h k => p (at3 r h k)) (t3.val + 1) 0 0) : Unit → sProp 𝕄)))
    ∧ (∀ (h2 : k0_cond2 i v10 = 1#1) (t90 : Fin (k0_t90_loop i v10).trips) (arg9 : BitVec 32) (t91 : Fin k0_t91_loop.trips) (r : ℕ),
      k0_off1354 i v10 t90 t91 = ![r, t91.val, 0] →
      iprop(P5 d i f ∗ P6 d i p ∗ Acc d i f (fun h k => p (at3 r h k)) t91.val 0 0)
      ⊢ (wp frame (wpE (defs₀ (F := F)) Variants.none (thr d i) none) Set.univ
          (k0_t91_body (F := F) i aF (Memref.isWhole_whole _) aP (Memref.isWhole_whole _) aO (Memref.isWhole_whole _)
            a5 (Memref.isWhole_whole _) a6 (Memref.isWhole_whole _) a7 (Memref.isWhole_whole _)
            cc0_scoped0 cc0_scoped1 cc0_scoped2 cc0_scoped3 cc0_scoped4 cc0_scoped5 cc0_scoped6 v10 hw1 h2 t90 arg9 t91 ⟨⟩)
          (fun _ => iprop(P5 d i f ∗ P6 d i p ∗ Acc d i f (fun h k => p (at3 r h k)) (t91.val + 1) 0 0) : Unit → sProp 𝕄))) := by
  refine ⟨fun h1 t2 arg9 t3 r hoff => ?_, fun h1 t2 arg9 t3 r hoff => ?_⟩
  on_goal 1 =>
    have c2 := @(rows_ok i v10).1
    have c3 := @(cols_ok i v10).1
    unfold k0_t3_body
  on_goal 2 =>
    have c2 := @(rows_ok i v10).2
    have c3 := @(cols_ok i v10).2
    unfold k0_t91_body
  all_goals
    have ht3 : t3.val < 7 := t3.isLt
    have hwe := fun (k : ℕ) (hk : k < 16) inb hc => word_eq (F := F) p inb hoff hk hc (slices1 hk) at0
    have hpk : ∀ k, (p (at3 r t3 k)).toNat ≤ 14 := fun k => hp _ _ _ ht3
    have hwd := fun (k : ℕ) (hk : k < 16) inb hc => (congrArg BitVec.toNat (hwe k hk inb hc)).trans_le (hpk k)
    have hwv : ∀ x : BitVec 32, x.toNat ≤ 6 →
        (Scalar.addi (Scalar.muli (Scf.iv 0#32 1#32 t3.val) 7#32) x).toNat = 7 * t3.val + x.toNat := by
      intro x hx
      show (Scf.iv 0#32 1#32 t3.val * 7#32 + x).toNat = _
      rw [BitVec.toNat_add, BitVec.toNat_mul, iv_toNat _ _ (by simp only [BitVec.toNat_ofNat]; omega)]
      simp only [BitVec.toNat_ofNat]
      omega
    have hwl : ∀ x : BitVec 32, x.toNat ≤ 6 →
        (Scalar.addi (Scalar.muli (Scf.iv 0#32 1#32 t3.val) 7#32) x).toNat < 49 := fun x hx => by rw [hwv x hx]; omega
    iintro ⟨H5, H6, H7⟩
    sl_exec (disch := exact c2 (hwd 0 (by decide) _ _) (hwd 1 (by decide) _ _))
    obtain ⟨w, hw⟩ : ∃ w, w = 0 := ⟨_, rfl⟩
    iterate 7
      obtain ⟨w', hw'⟩ : ∃ x, x = w + 1 := ⟨_, rfl⟩
      obtain ⟨cc, hcc⟩ : ∃ x, x = p (at3 r t3 (2 + w)) := ⟨_, rfl⟩
      obtain ⟨ee, hee⟩ : ∃ x, x = p (at3 r t3 (9 + w)) := ⟨_, rfl⟩
      have hcw := fun inb hc => (hwe (2 + w) (by omega) inb hc).trans hcc.symm
      have hew := fun inb hc => (hwe (9 + w) (by omega) inb hc).trans hee.symm
      have hbl : ∀ j, blk f (p (at3 r t3 0)) (p (at3 r t3 1)) cc ee j
          = blk f (p (at3 r t3 0)) (p (at3 r t3 1)) (p (at3 r t3 (2 + w))) (p (at3 r t3 (9 + w))) j := fun j => by rw [hcc, hee]
      have hc14 : cc.toNat ≤ 14 := hcc ▸ hpk _
      have he14 : ee.toNat ≤ 14 := hee ▸ hpk _
      subst hw
      sl_exec (disch := exact c3 (hwd 0 (by decide) _ _) (hwd 1 (by decide) _ _) ((congrArg BitVec.toNat (hcw _ _)).trans_le hc14) ((congrArg BitVec.toNat (hew _ _)).trans_le he14))
      sl_for (invH d i f (p (at3 r t3 0)).toNat cc.toNat (ee.toNat - cc.toNat)) $$ [H5]
      case region =>
        intro k acc
        have hk := k.isLt.trans_eq (trips_w (hwe 0 (by decide) _ _) (hwe 1 (by decide) _ _) (hpk _) (hpk _))
        unfold invH
        iintro ⟨%hacc, H5⟩
        subst hacc
        sl_exec
        sl_for (invW d i f (fun j => accH f j (p (at3 r t3 0)).toNat cc.toNat (ee.toNat - cc.toNat) k)
          ((p (at3 r t3 0)).toNat + k) cc.toNat) $$ [H5]
        case region =>
          intro l acc
          have hl := l.isLt.trans_eq (trips_w (hcw _ _) (hew _ _) hc14 he14)
          have hk14 : k.val < 14 := by have := hpk 1; omega
          have hl14 : l.val < 14 := by have := he14; omega
          unfold invW
          iintro ⟨%hacc, H5⟩
          subst hacc
          sl_exec
          rw [wp_ret]
          imodintro
          isplitl []
          · ipureintro
            simp only [Prod.mk.injEq]
            refine ⟨?_, ?_, ?_, ?_, ?_, ?_, ?_, ?_, ?_, ?_, ?_, ?_, ?_, ?_, ?_, ?_, ?_, ?_, ?_, ?_, ?_, ?_, ?_, ?_⟩ <;>
              exact congrArg (maximumf _) (ld_ok f (hwe 0 (by decide) _ _) (hcw _ _) (hpk _) hc14 hk14 hl14 _ rfl rfl _)
          · iexact H5
        · unfold invW
          isplitl []
          · ipureintro; rfl
          · iexact H5
        iintro %acc HI
        unfold invW
        icases HI with ⟨%hacc, H5⟩
        obtain rfl := hacc.trans (congrArg (fun n => tup fun j => accW f j ((p (at3 r t3 0)).toNat + k) cc.toNat n
          (accH f j (p (at3 r t3 0)).toNat cc.toNat (ee.toNat - cc.toNat) k))
          (trips_w (hcw _ _) (hew _ _) hc14 he14))
        sl_exec
        rw [wp_ret]
        imodintro
        isplitl []
        · ipureintro; rfl
        · iexact H5
      · unfold invH
        isplitl []
        · ipureintro; rfl
        · iexact H5
      iintro %acc HI
      unfold invH
      icases HI with ⟨%hacc, H5⟩
      obtain rfl := hacc.trans (congrArg (fun n => tup fun j => accH f j (p (at3 r t3 0)).toNat cc.toNat
          (ee.toNat - cc.toNat) n)
          (trips_w (hwe 0 (by decide) _ _) (hwe 1 (by decide) _ _) (hpk _) (hpk _)))
      iterate 24
        sl_exec (disch := exact fun _ => idx_ok (by decide) (hwl _ (by decide)))
        iapply (wp_put d i) $$ H7
        isplitl []
        · ipureintro
          exact ⟨ht3, by decide, by decide, _, _, rfl, rfl, hwv _ (by decide), (blk_ok f (hwe 0 (by decide) _ _) (hwe 1 (by decide) _ _) (hcw _ _) (hew _ _) _).trans (hbl _)⟩
        iintro H7
      ihave H7 := (acc_next d i f _ _ _) $$ H7
      clear hcw hew hc14 he14 hbl hcc hee
      rename' w' => w, hw' => hw
    sl_exec
    rw [wp_ret]
    imodintro
    isplitl [H5]
    · iexact H5
    isplitl [H6]
    · iexact H6
    iapply (acc_row d i f _ _) $$ H7

end Cert.Proof.Tile
-- ==== Proof.Roi.lean ====
module

public import proofs.«01_k».proof.Proof.Bin

@[expose] public section

/-! One RoI: its rows of bins, and the copy of the staging row to its row of the result. -/

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-- Where the half row of channel group `t1` begins. -/
theorem half_off (t1 : Fin k0_t1_loop.trips) : (Scalar.muli (Scalar.muli (Scf.iv 0#32 1#32 t1.val) 384#32) 49#32).toNat = t1.val * 18816 := by
  have ht : t1.val < 2 := t1.isLt
  show (Scf.iv 0#32 1#32 t1.val * 384#32 * 49#32).toNat = _
  have e : (Scf.iv 0#32 1#32 t1.val).toNat = t1.val := (iv_toNat _ _ (by show 0 + t1.val < 2 ^ 32; omega)).trans (Nat.zero_add _)
  rw [BitVec.toNat_mul, BitVec.toNat_mul, e, show (384#32 : BitVec 32).toNat = 384 from rfl, show (49#32 : BitVec 32).toNat = 49 from rfl]
  omega

/-- A row's place in the output that is in range. -/
theorem row_ok (v10 : BitVec 32) (t1 : Fin k0_t1_loop.trips) :
    (∀ {v : BitVec 32}, v.toNat < 1000 → k0_chk178 i v10 t1 v) ∧ (∀ {v : BitVec 32}, v.toNat < 1000 → k0_chk532 i v10 t1 v) := by
  have ht : t1.val < 2 := t1.isLt
  refine ⟨fun {v} hv => ?_, fun {v} hv => ?_⟩
  on_goal 1 => unfold k0_chk178
  on_goal 2 => unfold k0_chk532
  all_goals
    intro _ a
    fin_cases a
    · show v.toNat + 1 ≤ 1000; omega
    · exact (congrArg (· + 18816) (half_off t1)).trans_le (by show t1.val * 18816 + 18816 ≤ 37632; omega)

/-- The half row of the output a copy writes, as the copy names it. -/
abbrev win (off : Fin 2 → ℕ) (h : ∀ a, off a + S1x18816.size a ≤ S1000x37632.size a) : Memref sig .scVector .hbm S18816 .f32 :=
  ((aO).slice (Rect.unit (s := S1000x37632) off S1x18816.size h) (fun _ => rfl)).squeeze S18816 squeezes_S1x18816_S18816

theorem mem_win {off : Fin 2 → ℕ} (h : ∀ a, off a + S1x18816.size a ≤ S1000x37632.size a) (x : S1000x37632.Idx) :
    x ∈ ((aO).slice (Rect.unit (s := S1000x37632) off S1x18816.size h) (fun _ => rfl)).view.set
      ↔ (x 0).val = off 0 ∧ off 1 ≤ (x 1).val ∧ (x 1).val < off 1 + 18816 := by
  refine (Iff.of_eq (congrArg (x ∈ ·) (View.set_slice_whole main_v133_scv _))).trans ((Rect.mem_set_unit (inb := h)).trans ?_)
  constructor
  · intro hx
    have h0 := hx 0
    have h1 := hx 1
    exact ⟨by have : (x 0).val < off 0 + 1 := h0.2; have := h0.1; omega, h1.1, h1.2⟩
  · rintro ⟨h0, h1, h2⟩ a
    fin_cases a
    · exact ⟨by show off 0 ≤ (x 0).val; omega, by show (x 0).val < off 0 + 1; omega⟩
    · exact ⟨h1, h2⟩

/-- A copy's half row holds no element of the rows of other tiles. -/
theorem win_disj {off : Fin 2 → ℕ} (h : ∀ a, off a + S1x18816.size a ≤ S1000x37632.size a) (Others : Finset (Idx ((aO).view.loc (thr d i))))
    (hO : ∀ x ∈ Others, (x 0).val ≠ off 0) :
    Disjoint ((aO).slice (Rect.unit (s := S1000x37632) off S1x18816.size h) (fun _ => rfl)).view.set Others :=
  Finset.disjoint_left.mpr fun x hx hx' => hO x hx' ((mem_win h x).mp hx).1

/-- The index of word `n` of the staging row. -/
abbrev flat (n : ℕ) (h : n < 18816) : S18816.Idx := fun a => match a with | ⟨0, _⟩ => ⟨n, h⟩

/-- What a copy of the staging row leaves in the output. -/
theorem win_write {off : Fin 2 → ℕ} (h : ∀ a, off a + S1x18816.size a ≤ S1000x37632.size a) (fo : S1000x37632.Idx → F .f32) (o : S18816.Idx → F .f32)
    {t : ℕ → F .f32} (ho : ∀ x, o x = t (x 0).val) (x : S1000x37632.Idx) :
    View.write (Elt F) (win off h).view fo o Finset.univ x
      = if (x 0).val = off 0 ∧ off 1 ≤ (x 1).val ∧ (x 1).val < off 1 + 18816 then t ((x 1).val - off 1) else fo x := by
  split
  · next hx =>
    have e : (win off h).view.emb (flat ((x 1).val - off 1) (by omega)) = x := by
      refine funext fun a => Fin.ext ?_
      obtain ⟨y, hy⟩ : ∃ y, y = Shape.reshapeEquiv squeezes_S1x18816_S18816.numel_eq
        (flat ((x 1).val - off 1) (by omega)) := ⟨_, rfl⟩
      have hr := Shape.rowMajor_reshapeEquiv squeezes_S1x18816_S18816.numel_eq
        (flat ((x 1).val - off 1) (by omega))
      rw [← hy, Shape.rowMajor_val_one, Shape.rowMajor_val_two] at hr
      have h0 : (y 0).val < 1 := (y 0).isLt
      have hr' : (y 0).val * 18816 + (y 1).val = (x 1).val - off 1 := hr
      match a with
      | ⟨0, _⟩ =>
        refine (congrArg (fun z : S1x18816.Idx => off 0 + 1 * (z 0).val) hy.symm).trans ?_
        show off 0 + 1 * (y 0).val = (x 0).val
        omega
      | ⟨1, _⟩ =>
        refine (congrArg (fun z : S1x18816.Idx => off 1 + 1 * (z 1).val) hy.symm).trans ?_
        show off 1 + 1 * (y 1).val = (x 1).val
        omega
    have hw := View.write_emb_of_mem (v := (win off h).view) (Val := Elt F) fo o (Finset.mem_univ (flat ((x 1).val - off 1) (by omega)))
    rw [e] at hw
    exact hw.trans (ho _)
  · next hx =>
    refine View.write_of_not_mem (v := (win off h).view) (Val := Elt F) fo o Finset.univ fun hm => hx ((mem_win h x).mp ?_)
    exact (congrArg (x ∈ ·) (View.set_reshape _ squeezes_S1x18816_S18816.numel_eq)).mp hm

/-- The output with half `g` of row `n` as the RoI of bounds `row` leaves it over slab `f`, the rest as it was. -/
def Wrote (f : S196x384.Idx → F .f32) (row : ℕ → ℕ → BitVec 32) (n g : ℕ) (fo fo' : S1000x37632.Idx → F .f32) : Prop :=
  ∀ x : S1000x37632.Idx, fo' x = if (x 0).val = n ∧ (x 1).val / 18816 = g then tgt f row ((x 1).val % 18816) else fo x

theorem wrote_of_done {f : S196x384.Idx → F .f32} {row : ℕ → ℕ → BitVec 32} {o : S18816.Idx → F .f32} (ho : Good f row 49 0 o)
    {off : Fin 2 → ℕ} (h : ∀ a, off a + S1x18816.size a ≤ S1000x37632.size a) (fo : S1000x37632.Idx → F .f32) {n g : ℕ}
    (h0 : off 0 = n) (h1 : off 1 = g * 18816) :
    Wrote f row n g fo (View.write (Elt F) (win off h).view fo ((a7).view.read (Elt F) o) Finset.univ) := by
  intro x
  refine (win_write h fo _ (t := tgt f row) (fun y => ?_) x).trans ?_
  · exact (congrFun (View.read_whole (Val := Elt F) cc0_scratch2 o) y).trans (ho.done y)
  · have hx : (x 1).val < 37632 := (x 1).isLt
    subst h0
    have : ((x 0).val = off 0 ∧ off 1 ≤ (x 1).val ∧ (x 1).val < off 1 + 18816) ↔ ((x 0).val = off 0 ∧ (x 1).val / 18816 = g) := by
      omega
    by_cases hc : (x 0).val = off 0 ∧ (x 1).val / 18816 = g
    · rw [if_pos hc, if_pos (this.mpr hc)]
      congr 1
      omega
    · rw [if_neg hc, if_neg (fun hh => hc (this.mp hh))]

/-- What the copies need throughout: the evidence for the waits, the waits recorded so far, and the tile's rows of the
    output at `fo`. -/
def Own (Others : Finset (Idx ((aO).view.loc (thr d i)))) (O : CellTallies nD τ sig (HIx 1)) (W : Waits sig (HIx 1)) (fo : S1000x37632.Idx → F .f32) : sProp 𝕄 :=
  iprop(Transfers.MayWaits (thr d i) (none : HIx 1) O ∗ ((aO).view.loc (thr d i) ↦[Finset.univ \ Others]{fullShare} fo)
    ∗ ∃ W', ⌜∀ p ∈ W', p ∈ W ∨ p.2 = none⌝ ∗ owes (thr d i) O W')

set_option maxHeartbeats 4000000 in
/-- One RoI over one channel group: the seven rows of bins, then the staging row copied to the RoI's place in the output. -/
theorem roi_run (v10 v13 : BitVec 32) (hw1 : k0_chk1 i v10) (t1 : Fin k0_t1_loop.trips) (f : S196x384.Idx → F .f32) (p : S32x8x16.Idx → BitVec 32)
    (Others : Finset (Idx ((aO).view.loc (thr d i)))) (O : CellTallies nD τ sig (HIx 1)) (W : Waits sig (HIx 1)) (fo : S1000x37632.Idx → F .f32)
    (hp : ∀ r h k, h < 7 → (p (at3 r h k)).toNat ≤ 14) :
    (∀ (h1 : k0_cond1 i v10 = 1#1) (t2 : Fin (k0_t2_loop i v10).trips) (r : ℕ),
      (∀ t3, k0_off3 i v10 t2 t3 = ![r, t3.val, 0]) → k0_off676 i v10 t2 = ![r, 7, 0] → (p (at3 r 7 0)).toNat < 1000 →
      (∀ x ∈ Others, (x 0).val ≠ (p (at3 r 7 0)).toNat) →
      iprop(P5 d i f ∗ P6 d i p ∗ (∃ o, P7 d i o) ∗ Own d i Others O W fo ∗ semVal (thr d i, SemLoc.dma cc0_scoped2.sem) 0)
      ⊢ (wp frame (wpE (defs₀ (F := F)) Variants.none (thr d i) none) Set.univ
          (k0_t2_body (F := F) i aF (Memref.isWhole_whole _) aP (Memref.isWhole_whole _) aO (Memref.isWhole_whole _)
            a5 (Memref.isWhole_whole _) a6 (Memref.isWhole_whole _) a7 (Memref.isWhole_whole _)
            cc0_scoped0 cc0_scoped1 cc0_scoped2 cc0_scoped3 cc0_scoped4 cc0_scoped5 cc0_scoped6 v10 hw1 t1 h1 t2 ⟨⟩)
          (fun _ => iprop(P5 d i f ∗ P6 d i p ∗ (∃ o, P7 d i o)
            ∗ (∃ fo', ⌜Wrote f (fun h k => p (at3 r h k)) (p (at3 r 7 0)).toNat t1 fo fo'⌝ ∗ Own d i Others O W fo')
            ∗ semVal (thr d i, SemLoc.dma cc0_scoped2.sem) 0) : Unit → sProp 𝕄)))
    ∧ (∀ (h2 : k0_cond2 i v10 = 1#1) (t90 : Fin (k0_t90_loop i v10).trips) (r : ℕ),
      (∀ t91, k0_off1354 i v10 t90 t91 = ![r, t91.val, 0]) → k0_off2027 i v10 t90 = ![r, 7, 0] → (p (at3 r 7 0)).toNat < 1000 →
      (∀ x ∈ Others, (x 0).val ≠ (p (at3 r 7 0)).toNat) →
      iprop(P5 d i f ∗ P6 d i p ∗ (∃ o, P7 d i o) ∗ Own d i Others O W fo ∗ semVal (thr d i, SemLoc.dma cc0_scoped5.sem) 0)
      ⊢ (wp frame (wpE (defs₀ (F := F)) Variants.none (thr d i) none) Set.univ
          (k0_t90_body (F := F) i aF (Memref.isWhole_whole _) aP (Memref.isWhole_whole _) aO (Memref.isWhole_whole _)
            a5 (Memref.isWhole_whole _) a6 (Memref.isWhole_whole _) a7 (Memref.isWhole_whole _)
            cc0_scoped0 cc0_scoped1 cc0_scoped2 cc0_scoped3 cc0_scoped4 cc0_scoped5 cc0_scoped6 v10 hw1 v13 t1 h2 t90 ⟨⟩)
          (fun _ => iprop(P5 d i f ∗ P6 d i p ∗ (∃ o, P7 d i o)
            ∗ (∃ fo', ⌜Wrote f (fun h k => p (at3 r h k)) (p (at3 r 7 0)).toNat t1 fo fo'⌝ ∗ Own d i Others O W fo')
            ∗ semVal (thr d i, SemLoc.dma cc0_scoped5.sem) 0) : Unit → sProp 𝕄))) := by
  refine ⟨fun h1 t2 r hoff hoff7 hperm hO => ?_, fun h1 t2 r hoff hoff7 hperm hO => ?_⟩
  on_goal 1 =>
    have run := fun arg9 t3 => (ph_run d i v10 hw1 f p hp).1 h1 t2 arg9 t3 r (hoff t3)
    have hok := @(row_ok i v10 t1).1
    unfold k0_t2_body
  on_goal 2 =>
    have run := fun arg9 t3 => (ph_run d i v10 hw1 f p hp).2 h1 t2 arg9 t3 r (hoff t3)
    have hok := @(row_ok i v10 t1).2
    unfold k0_t90_body
  all_goals
    have hwe := fun inb hc => word_eq (F := F) p inb hoff7 (show 0 < 16 by decide) hc (slices1 (by decide)) at0
    unfold Own
    iintro ⟨H5, H6, ⟨%o, H7⟩, ⟨Hmw, HOut, %W', %hW', HO⟩, Hsem⟩
    sl_exec
    sl_for (fun n _ => iprop(P5 d i f ∗ P6 d i p ∗ Acc d i f (fun h k => p (at3 r h k)) n 0 0) : ℕ → Unit → sProp 𝕄) $$ [H5 H6 H7]
    case region =>
      intro k _
      exact run _ k
    · isplitl [H5]
      · iexact H5
      isplitl [H6]
      · iexact H6
      unfold Acc
      iexists o
      isplitl [H7]
      · iexact H7
      · ipureintro; exact Good.zero _ _ _
    iintro %acc HI
    icases HI with ⟨H5, H6, HA⟩
    unfold Acc
    icases HA with ⟨%o', H7, %ho⟩
    sl_exec
  on_goal 1 =>
    have hsl : roi_run.sl.v34 (F := F) i v10 hw1 p h1 t2 = p (at3 r 7 0) := hwe _ _
    have hvt : (roi_run.sl.v34 (F := F) i v10 hw1 p h1 t2).toNat < 1000 := hsl ▸ hperm
    have hdis := fun h => win_disj d i (off := k0_off677 t1 (roi_run.sl.v34 (F := F) i v10 hw1 p h1 t2)) h Others
      (fun x hx he => hO x hx (he.trans (congrArg BitVec.toNat hsl)))
    sl_exec (disch := exact hok hvt)
    have hwr := fun h => wrote_of_done ho (off := k0_off677 t1 (roi_run.sl.v34 (F := F) i v10 hw1 p h1 t2)) h fo (congrArg BitVec.toNat hsl) (half_off t1)
    unfold roi_run.sl.HOut_w0
  on_goal 2 =>
    have hsl : roi_run.sl.v34_1 (F := F) i v10 hw1 p h1 t2 = p (at3 r 7 0) := hwe _ _
    have hvt : (roi_run.sl.v34_1 (F := F) i v10 hw1 p h1 t2).toNat < 1000 := hsl ▸ hperm
    have hdis := fun h => win_disj d i (off := k0_off2028 t1 (roi_run.sl.v34_1 (F := F) i v10 hw1 p h1 t2)) h Others
      (fun x hx he => hO x hx (he.trans (congrArg BitVec.toNat hsl)))
    sl_exec (disch := exact hok hvt)
    have hwr := fun h => wrote_of_done ho (off := k0_off2028 t1 (roi_run.sl.v34_1 (F := F) i v10 hw1 p h1 t2)) h fo (congrArg BitVec.toNat hsl) (half_off t1)
    unfold roi_run.sl.HOut_w0_1
  all_goals
    rw [wp_ret]
    imodintro
    isplitl [H5]
    · iexact H5
    isplitl [H6]
    · iexact H6
    isplitl [H7]
    · iexists _; iexact H7
    isplitr [Hsem]
    · iexists _
      isplitl []
      · ipureintro
        exact hwr (hok hvt h1)
      isplitl [Hmw]
      · iexact Hmw
      isplitl [HOut]
      · iexact HOut
      iexists _
      isplitr [HO]
      rotate_left
      · iexact HO
      · ipureintro
        intro p hp
        rcases Finset.mem_insert.mp hp with rfl | hp
        · exact .inr rfl
        · exact hW' p hp
    · iexact Hsem

end Cert.Proof.Tile
-- ==== Proof.Words.lean ====
module

public import proofs.«01_k».proof.Proof.Roi

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-- The number of the tile: its rows of the parameters are the 32 from `32 * wid`. -/
abbrev wid : ℕ := 2 * (i 1).val + (i 0).val

theorem wid_lt : wid i < 32 := by
  have h0 : (i 0).val < 2 := (i 0).isLt
  have h1 : (i 1).val < 16 := (i 1).isLt
  show 2 * (i 1).val + (i 0).val < 32
  omega

/-- The tile's first row, how many rows it has, and how many of these belong to image 0, as the kernel computes them. -/
def baseW : BitVec 32 := Scalar.muli (Scalar.addi (Scalar.muli (BitVec.ofNat 32 (i 1).val) 2#32) (BitVec.ofNat 32 (i 0).val)) 32#32
def cntW : BitVec 32 := Scalar.minsi 32#32 (Scalar.maxsi (Scalar.subi 1000#32 (baseW i)) 0#32)
def bndW (v10 : BitVec 32) : BitVec 32 := Scalar.minsi (cntW i) (Scalar.maxsi 0#32 (Scalar.subi v10 (baseW i)))

/-- How many rows the tile has. -/
def cnt : ℕ := min 32 (1000 - 32 * wid i)

theorem words_all : ∀ (c : Fin 2) (s : Fin 16),
    (Scalar.muli (Scalar.addi (Scalar.muli (BitVec.ofNat 32 s.val) 2#32) (BitVec.ofNat 32 c.val)) 32#32).toNat = 32 * (2 * s.val + c.val)
    ∧ (Scalar.minsi 32#32 (Scalar.maxsi (Scalar.subi 1000#32 (Scalar.muli (Scalar.addi (Scalar.muli (BitVec.ofNat 32 s.val) 2#32) (BitVec.ofNat 32 c.val)) 32#32)) 0#32)).toNat
      = min 32 (1000 - 32 * (2 * s.val + c.val)) := by decide

theorem baseW_toNat : (baseW i).toNat = 32 * wid i := (words_all (i 0) (i 1)).1
theorem cntW_toNat : (cntW i).toNat = cnt i := (words_all (i 0) (i 1)).2
theorem cnt_le : cnt i ≤ 32 := Nat.min_le_left _ _
theorem row_lt {r : ℕ} (h : r < cnt i) : 32 * wid i + r < 1000 := by
  have := wid_lt i
  unfold cnt at h
  omega

theorem minmax_toNat {c : BitVec 32} (hc : c.toNat ≤ 32) (x : BitVec 32) :
    (Scalar.minsi c (Scalar.maxsi 0#32 x)).toNat = min c.toNat x.toInt.toNat := by
  have hm : (Scalar.maxsi 0#32 x).toNat = x.toInt.toNat := WordArith.toNat_maxsi_zero x
  have hx : x.toInt < 2 ^ 31 := BitVec.toInt_lt
  have := WordArith.toNat_minsi_of_lt c (Scalar.maxsi 0#32 x) (by omega) (by omega)
  show (IntOp.minsi c (Scalar.maxsi 0#32 x)).toNat = _
  rw [this]
  omega

theorem bnd_le (v10 : BitVec 32) : (bndW i v10).toNat ≤ cnt i := by
  unfold bndW
  rw [minmax_toNat (by rw [cntW_toNat]; exact cnt_le i), cntW_toNat]
  exact Nat.min_le_left _ _

/-- With `v10` a count of rows, the rows of image 0 are the tile's first `bndW`. -/
theorem bnd_iff {v10 : BitVec 32} (hv : v10.toNat ≤ 1000) {r : ℕ} (hr : r < cnt i) : r < (bndW i v10).toNat ↔ 32 * wid i + r < v10.toNat := by
  unfold bndW
  rw [minmax_toNat (by rw [cntW_toNat]; exact cnt_le i), cntW_toNat]
  have hb := baseW_toNat i
  have hw := wid_lt i
  have e : (Scalar.subi v10 (baseW i)).toInt = v10.toNat - (32 * wid i : ℕ) := by
    have h1 := toInt_small (a := v10) (by omega)
    have h2 := toInt_small (a := baseW i) (by omega)
    rw [show Scalar.subi v10 (baseW i) = v10 - baseW i from rfl, WordArith.toInt_sub_of_bounds _ _ (by omega) (by omega), h1, h2, hb]
  rw [e]
  omega

theorem trips2 (v10 : BitVec 32) : (k0_t2_loop i v10).trips = (bndW i v10).toNat :=
  (trips_small (a := 0#32) (b := bndW i v10) (by decide) (by have := bnd_le i v10; have := cnt_le i; omega)).trans (Nat.sub_zero _)
theorem trips90 (v10 : BitVec 32) : (k0_t90_loop i v10).trips = cnt i - (bndW i v10).toNat :=
  (trips_small (a := bndW i v10) (b := cntW i) (by have := bnd_le i v10; have := cnt_le i; omega) (by rw [cntW_toNat]; have := cnt_le i; omega)).trans
    (by rw [cntW_toNat])

theorem gt_iff {a b : BitVec 32} (ha : a.toNat ≤ 1024) (hb : b.toNat ≤ 1024) :
    Scalar.cmpi .ne (Scalar.extui (Scalar.cmpi .sgt a b)) 0#32 = 1#1 ↔ b.toNat < a.toNat := by
  have h : Scalar.cmpi .sgt a b = BitVec.ofBool (b.slt a) := rfl
  have hs : b.slt a = decide (b.toNat < a.toNat) := by
    rw [BitVec.slt_eq_decide, toInt_small (by omega), toInt_small (by omega)]
    simp
  rw [h, hs]
  by_cases hc : b.toNat < a.toNat
  · simp only [hc, decide_true, iff_true]; decide
  · simp only [hc, decide_false, iff_false]; decide

theorem cond1_iff (v10 : BitVec 32) : k0_cond1 i v10 = 1#1 ↔ 0 < (bndW i v10).toNat :=
  gt_iff (a := bndW i v10) (b := 0#32) (by have := bnd_le i v10; have := cnt_le i; omega) (by decide)
theorem cond2_iff (v10 : BitVec 32) : k0_cond2 i v10 = 1#1 ↔ (bndW i v10).toNat < cnt i :=
  (gt_iff (a := cntW i) (b := bndW i v10) (by rw [cntW_toNat]; have := cnt_le i; omega) (by have := bnd_le i v10; have := cnt_le i; omega)).trans
    (by rw [cntW_toNat])

theorem off3_eq (v10 : BitVec 32) (t2 : Fin (k0_t2_loop i v10).trips) (t3 : Fin k0_t3_loop.trips) : k0_off3 i v10 t2 t3 = ![t2.val, t3.val, 0] := by
  have h2 : t2.val < 2 ^ 31 := (t2.isLt.trans_eq (trips2 i v10)).trans (by have := bnd_le i v10; have := cnt_le i; omega)
  have h3 : t3.val < 7 := t3.isLt
  have e2 : (Scf.iv 0#32 1#32 t2.val).toNat = t2.val := (iv_toNat 0#32 t2.val (by show 0 + t2.val < _; omega)).trans (Nat.zero_add _)
  have e3 : (Scf.iv 0#32 1#32 t3.val).toNat = t3.val := (iv_toNat 0#32 t3.val (by show 0 + t3.val < _; omega)).trans (Nat.zero_add _)
  show ![(Scf.iv 0#32 1#32 t2.val).toNat, (Scf.iv 0#32 1#32 t3.val).toNat, 0] = _
  rw [e2, e3]

theorem off676_eq (v10 : BitVec 32) (t2 : Fin (k0_t2_loop i v10).trips) : k0_off676 i v10 t2 = ![t2.val, 7, 0] := by
  have h2 : t2.val < 2 ^ 31 := (t2.isLt.trans_eq (trips2 i v10)).trans (by have := bnd_le i v10; have := cnt_le i; omega)
  have e2 : (Scf.iv 0#32 1#32 t2.val).toNat = t2.val := (iv_toNat 0#32 t2.val (by show 0 + t2.val < _; omega)).trans (Nat.zero_add _)
  show ![(Scf.iv 0#32 1#32 t2.val).toNat, 7, 0] = _
  rw [e2]

theorem iv90 (v10 : BitVec 32) (t : Fin (k0_t90_loop i v10).trips) : (Scf.iv (bndW i v10) 1#32 t.val).toNat = (bndW i v10).toNat + t.val := by
  have h2 : t.val < 2 ^ 31 := (t.isLt.trans_eq (trips90 i v10)).trans (by have := cnt_le i; omega)
  exact iv_toNat _ _ (by have := bnd_le i v10; have := cnt_le i; omega)

theorem off1354_eq (v10 : BitVec 32) (t : Fin (k0_t90_loop i v10).trips) (t3 : Fin k0_t91_loop.trips) :
    k0_off1354 i v10 t t3 = ![(bndW i v10).toNat + t.val, t3.val, 0] := by
  have h3 : t3.val < 7 := t3.isLt
  have e3 : (Scf.iv 0#32 1#32 t3.val).toNat = t3.val := (iv_toNat 0#32 t3.val (by show 0 + t3.val < _; omega)).trans (Nat.zero_add _)
  show ![(Scf.iv (bndW i v10) 1#32 t.val).toNat, (Scf.iv 0#32 1#32 t3.val).toNat, 0] = _
  rw [iv90, e3]

theorem off2027_eq (v10 : BitVec 32) (t : Fin (k0_t90_loop i v10).trips) : k0_off2027 i v10 t = ![(bndW i v10).toNat + t.val, 7, 0] := by
  show ![(Scf.iv (bndW i v10) 1#32 t.val).toNat, 7, 0] = _
  rw [iv90]

/-- Everything the tile's loops over its rows need to be in range holds whatever count it reads. -/
theorem chk1_all (v10 : BitVec 32) : k0_chk1 i v10 := by
  have hb := bnd_le i v10
  have hc := cnt_le i
  have r2 : ∀ t : Fin (k0_t2_loop i v10).trips, t.val < 32 := fun t => (t.isLt.trans_eq (trips2 i v10)).trans_le (by omega)
  have r90 : ∀ t : Fin (k0_t90_loop i v10).trips, (bndW i v10).toNat + t.val < 32 := fun t => by
    have := t.isLt.trans_eq (trips90 i v10); omega
  unfold k0_chk1
  refine ⟨fun _ => ?_, fun t t3 _ => ?_, fun t _ => ?_, fun _ => ?_, fun t _ _ => ?_, fun t _ => ?_,
    fun _ => ?_, fun t t3 _ => ?_, fun t _ => ?_, fun _ => ?_, fun t _ _ => ?_, fun t _ => ?_⟩
  · exact ok_small (a := 0#32) (b := bndW i v10) (by decide) (by omega)
  · exact inb3 (r2 t) (t3.isLt.trans (show 7 < 8 by decide)) (off3_eq i v10 t t3)
  · exact inb3 (r2 t) (show 7 < 8 by decide) (off676_eq i v10 t)
  · exact Scf.rem_ok _ _
  · exact (Scf.rem_no_trip _ _ t).elim
  · exact (Scf.rem_no_trip _ _ t).elim
  · exact ok_small (a := bndW i v10) (b := cntW i) (by omega) (by rw [cntW_toNat]; omega)
  · exact inb3 (r90 t) (t3.isLt.trans (show 7 < 8 by decide)) (off1354_eq i v10 t t3)
  · exact inb3 (r90 t) (show 7 < 8 by decide) (off2027_eq i v10 t)
  · exact Scf.rem_ok _ _
  · exact (Scf.rem_no_trip _ _ t).elim
  · exact (Scf.rem_no_trip _ _ t).elim

/-! ## The slabs and rows a tile copies in -/

/-- Index `(b, g, y, c)` of the features. -/
def at4 (b g : ℕ) (x : S196x384.Idx) : S2x2x196x384.Idx := fun a => match a with
  | ⟨0, _⟩ => ⟨b % 2, Nat.mod_lt _ (by decide)⟩
  | ⟨1, _⟩ => ⟨g % 2, Nat.mod_lt _ (by decide)⟩
  | ⟨2, _⟩ => x 0
  | ⟨3, _⟩ => x 1

/-- Image `b`'s slab of channel group `g`. -/
def slab (Fe : S2x2x196x384.Idx → F .f32) (b g : ℕ) : S196x384.Idx → F .f32 := fun x => Fe (at4 b g x)

theorem slab_read (Fe : S2x2x196x384.Idx → F .f32) {off : Fin 4 → ℕ} (inb : ∀ a, off a + S1x1x196x384.size a ≤ S2x2x196x384.size a)
    (h2 : off 2 = 0) (h3 : off 3 = 0) :
    View.read (Val := Elt F) (((aF).slice (Rect.unit (s := S2x2x196x384) off S1x1x196x384.size inb) (fun _ => rfl)).squeeze S196x384
      squeezes_S1x1x196x384_S196x384).view Fe = slab Fe (off 0) (off 1) := by
  funext x
  have hr := Shape.rowMajor_reshapeEquiv squeezes_S1x1x196x384_S196x384.numel_eq x
  obtain ⟨y, hy⟩ : ∃ y, y = Shape.reshapeEquiv squeezes_S1x1x196x384_S196x384.numel_eq x := ⟨_, rfl⟩
  rw [← hy, Shape.rowMajor_val_two, Shape.rowMajor_val_four] at hr
  have i0 : off 0 + 1 ≤ 2 := inb 0
  have i1 : off 1 + 1 ≤ 2 := inb 1
  have y0 : (y 0).val < 1 := (y 0).isLt
  have y1 : (y 1).val < 1 := (y 1).isLt
  have y3 : (y 3).val < 384 := (y 3).isLt
  have x1 : (x 1).val < 384 := (x 1).isLt
  have hr' : (((y 0).val * 1 + (y 1).val) * 196 + (y 2).val) * 384 + (y 3).val = (x 0).val * 384 + (x 1).val := hr
  have hr'' : (y 2).val * 384 + (y 3).val = (x 0).val * 384 + (x 1).val := by
    have : ((y 0).val * 1 + (y 1).val) * 196 = 0 := by omega
    rw [this] at hr'
    omega
  refine congrArg Fe (funext fun a => Fin.ext ?_)
  match a with
  | ⟨0, _⟩ =>
    refine (congrArg (fun z : S1x1x196x384.Idx => off 0 + 1 * (z 0).val) hy.symm).trans ?_
    show off 0 + 1 * (y 0).val = off 0 % 2
    omega
  | ⟨1, _⟩ =>
    refine (congrArg (fun z : S1x1x196x384.Idx => off 1 + 1 * (z 1).val) hy.symm).trans ?_
    show off 1 + 1 * (y 1).val = off 1 % 2
    omega
  | ⟨2, _⟩ =>
    refine (congrArg (fun z : S1x1x196x384.Idx => off 2 + 1 * (z 2).val) hy.symm).trans ?_
    show off 2 + 1 * (y 2).val = (x 0).val
    omega
  | ⟨3, _⟩ =>
    refine (congrArg (fun z : S1x1x196x384.Idx => off 3 + 1 * (z 3).val) hy.symm).trans ?_
    show off 3 + 1 * (y 3).val = (x 1).val
    omega

/-- Index `(n + r, h, k)` of the parameters. -/
def atP (n : ℕ) (x : S32x8x16.Idx) : S1024x8x16.Idx := fun a => match a with
  | ⟨0, _⟩ => ⟨(n + (x 0).val) % 1024, Nat.mod_lt _ (by decide)⟩
  | ⟨1, _⟩ => x 1
  | ⟨2, _⟩ => x 2

/-- The 32 rows of the parameters from row `n`. -/
def rowsOf (Pe : S1024x8x16.Idx → BitVec 32) (n : ℕ) : S32x8x16.Idx → BitVec 32 := fun x => Pe (atP n x)

theorem rows_read (Pe : S1024x8x16.Idx → BitVec 32) :
    View.read (Val := Elt F) ((aP).slice (Rect.unit (s := S1024x8x16) (k0_off1 i) S32x8x16.size (k0_off1_inb i)) (fun _ => rfl)).view Pe = rowsOf Pe (32 * wid i) := by
  funext x
  have x0 : (x 0).val < 32 := (x 0).isLt
  have hw := wid_lt i
  have hb := baseW_toNat i
  refine congrArg Pe (funext fun a => Fin.ext ?_)
  match a with
  | ⟨0, _⟩ =>
    show (baseW i).toNat + 1 * (x 0).val = (32 * wid i + (x 0).val) % 1024
    omega
  | ⟨1, _⟩ => show 0 + 1 * (x 1).val = (x 1).val; omega
  | ⟨2, _⟩ => show 0 + 1 * (x 2).val = (x 2).val; omega

end Cert.Proof.Tile
-- ==== Proof.Tile.lean ====
module

public import proofs.«01_k».proof.Proof.Words

@[expose] public section

/-! One tile: its slab of features for each image and half of the channels, and its RoIs of that image. -/

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-- What the tile's rows of the parameters must say: bounds in range, a place below 1000 in the output, and no place of
    another tile's. -/
structure RowsOk (p : S32x8x16.Idx → BitVec 32) (Others : Finset (Idx ((aO).view.loc (thr d i)))) : Prop where
  bounds : ∀ r h k, h < 7 → (p (at3 r h k)).toNat ≤ 14
  place : ∀ r, r < cnt i → (p (at3 r 7 0)).toNat < 1000
  own : ∀ r, r < cnt i → ∀ x ∈ Others, (x 0).val ≠ (p (at3 r 7 0)).toNat

/-- `OUT` is what the tile's rows leave: row `r`, over image 0 for the first `b` rows and image 1 after these. -/
def Spec (Fe : S2x2x196x384.Idx → F .f32) (p : S32x8x16.Idx → BitVec 32) (b : ℕ) (OUT : S1000x37632.Idx → F .f32) : Prop :=
  ∀ r, r < cnt i → ∀ g, g < 2 → ∀ x : S1000x37632.Idx, (x 0).val = (p (at3 r 7 0)).toNat → (x 1).val / 18816 = g →
    OUT x = tgt (slab Fe (if r < b then 0 else 1) g) (fun h k => p (at3 r h k)) ((x 1).val % 18816)

/-- The output is `OUT` in the tile's rows, over the first `g` channel groups, and over group `g` in the first `n` rows. -/
def Done (p : S32x8x16.Idx → BitVec 32) (OUT : S1000x37632.Idx → F .f32) (g n : ℕ) (fo : S1000x37632.Idx → F .f32) : Prop :=
  ∀ r, r < cnt i → ∀ x : S1000x37632.Idx, (x 0).val = (p (at3 r 7 0)).toNat → ((x 1).val / 18816 < g ∨ ((x 1).val / 18816 = g ∧ r < n)) →
    fo x = OUT x

variable {i}

theorem Done.step {p : S32x8x16.Idx → BitVec 32} {OUT fo fo' : S1000x37632.Idx → F .f32} {Fe : S2x2x196x384.Idx → F .f32} {b g n s : ℕ}
    (h : Done i p OUT g n fo) (hS : Spec i Fe p b OUT) (hn : n < cnt i) (hg : g < 2) (hs : s = if n < b then 0 else 1)
    (hw : Wrote (slab Fe s g) (fun h k => p (at3 n h k)) (p (at3 n 7 0)).toNat g fo fo') : Done i p OUT g (n + 1) fo' := by
  intro r hr x hx hd
  rw [hw x]
  split
  · next hc => rw [hS n hn g hg x hc.1 hc.2, hs]
  · next hc =>
    refine h r hr x hx ?_
    rcases hd with hd | ⟨hd, hrn⟩
    · exact .inl hd
    · refine .inr ⟨hd, ?_⟩
      by_contra hle
      have : r = n := by omega
      subst this
      exact hc ⟨hx, hd⟩

theorem Done.group {p : S32x8x16.Idx → BitVec 32} {OUT fo : S1000x37632.Idx → F .f32} {g n : ℕ} (h : Done i p OUT g n fo) (hn : cnt i ≤ n) :
    Done i p OUT (g + 1) 0 fo := fun r hr x hx hd => h r hr x hx (by omega)

variable (i)

/-- What a tile holds between two rows: its scratch, its rows of the parameters, its share of the features, its
    semaphores at rest, and its rows of the output, done up to `(g, n)`. -/
def St (q : PosShare TreeShare) (Fe : S2x2x196x384.Idx → F .f32) (p : S32x8x16.Idx → BitVec 32) (Others : Finset (Idx ((aO).view.loc (thr d i))))
    (O : CellTallies nD τ sig (HIx 1)) (W : Waits sig (HIx 1)) (OUT : S1000x37632.Idx → F .f32) (g n : ℕ) : sProp 𝕄 :=
  iprop((∃ f, P5 d i f) ∗ P6 d i p ∗ (∃ o, P7 d i o) ∗ ((aF).view.loc (thr d i) ↦{q} Fe)
    ∗ semVal (thr d i, SemLoc.dma cc0_scoped1.sem) 0 ∗ semVal (thr d i, SemLoc.dma cc0_scoped2.sem) 0
    ∗ semVal (thr d i, SemLoc.dma cc0_scoped4.sem) 0 ∗ semVal (thr d i, SemLoc.dma cc0_scoped5.sem) 0
    ∗ ∃ fo, ⌜Done i p OUT g n fo⌝ ∗ Own d i Others O W fo)

theorem St.mono {q : PosShare TreeShare} {Fe : S2x2x196x384.Idx → F .f32} {p : S32x8x16.Idx → BitVec 32} {Others : Finset (Idx ((aO).view.loc (thr d i)))}
    {O : CellTallies nD τ sig (HIx 1)} {W : Waits sig (HIx 1)} {OUT : S1000x37632.Idx → F .f32} {g n g' n' : ℕ}
    (h : ∀ fo, Done i p OUT g n fo → Done i p OUT g' n' fo) : St d i q Fe p Others O W OUT g n ⊢ St d i q Fe p Others O W OUT g' n' := by
  unfold St
  iintro ⟨H5, H6, H7, HF, S1, S2, S4, S5, %fo, %hfo, HW⟩
  isplitl [H5]; · iexact H5
  isplitl [H6]; · iexact H6
  isplitl [H7]; · iexact H7
  isplitl [HF]; · iexact HF
  isplitl [S1]; · iexact S1
  isplitl [S2]; · iexact S2
  isplitl [S4]; · iexact S4
  isplitl [S5]; · iexact S5
  iexists fo
  isplitl []
  · ipureintro; exact h fo hfo
  · iexact HW

theorem whole_written (w : S196x384.Idx → F .f32) :
    (a5).view.writes (Elt F) (a5).view.junk [⟨Rect.whole S196x384, w⟩] = w := by
  have h := View.read_writes_whole (Val := Elt F) (a5).view (a5).view.junk w
  generalize (a5).view.writes (Elt F) (a5).view.junk [⟨Rect.whole S196x384, w⟩] = z at h ⊢
  exact h

/-- What a tile holds between two rows of one image, its slab `f` loaded. -/
def Seg (sem : DmaSem sig) (f : S196x384.Idx → F .f32) (p : S32x8x16.Idx → BitVec 32) (Others : Finset (Idx ((aO).view.loc (thr d i))))
    (O : CellTallies nD τ sig (HIx 1)) (W : Waits sig (HIx 1)) (OUT : S1000x37632.Idx → F .f32) (g n : ℕ) : sProp 𝕄 :=
  iprop(P5 d i f ∗ P6 d i p ∗ (∃ o, P7 d i o) ∗ semVal (thr d i, SemLoc.dma sem) 0 ∗ ∃ fo, ⌜Done i p OUT g n fo⌝ ∗ Own d i Others O W fo)

/-- A row's run takes the tile from one row to the next. -/
theorem seg_step {sem : DmaSem sig} {f : S196x384.Idx → F .f32} {p : S32x8x16.Idx → BitVec 32} {Others : Finset (Idx ((aO).view.loc (thr d i)))}
    {O : CellTallies nD τ sig (HIx 1)} {W : Waits sig (HIx 1)} {OUT : S1000x37632.Idx → F .f32} {g n m : ℕ} {row : ℕ → ℕ → BitVec 32}
    {prog : Prog (TpuEff nD τ sig (Elt F) Λ₀ (thr d i).2) Unit}
    (run : ∀ fo, iprop(P5 d i f ∗ P6 d i p ∗ (∃ o, P7 d i o) ∗ Own d i Others O W fo ∗ semVal (thr d i, SemLoc.dma sem) 0)
      ⊢ (wp frame (wpE (defs₀ (F := F)) Variants.none (thr d i) none) Set.univ prog
          (fun _ => iprop(P5 d i f ∗ P6 d i p ∗ (∃ o, P7 d i o) ∗ (∃ fo', ⌜Wrote f row m g fo fo'⌝ ∗ Own d i Others O W fo')
            ∗ semVal (thr d i, SemLoc.dma sem) 0)) : sProp 𝕄))
    (hstep : ∀ fo fo', Done i p OUT g n fo → Wrote f row m g fo fo' → Done i p OUT g (n + 1) fo') :
    Seg d i sem f p Others O W OUT g n
    ⊢ (wp frame (wpE (defs₀ (F := F)) Variants.none (thr d i) none) Set.univ prog (fun _ => Seg d i sem f p Others O W OUT g (n + 1)) : sProp 𝕄) := by
  unfold Seg
  iintro ⟨H5, H6, H7, S2, %fo, %hfo, HW⟩
  ihave Hrun := run fo $$ [H5 H6 H7 S2 HW]
  · isplitl [H5]; · iexact H5
    isplitl [H6]; · iexact H6
    isplitl [H7]; · iexact H7
    isplitl [HW]; · iexact HW
    iexact S2
  iapply (wp_mono _ _ _ fun _ => ?_) $$ Hrun
  iintro ⟨H5, H6, H7, ⟨%fo', %hw, HW⟩, S2⟩
  isplitl [H5]; · iexact H5
  isplitl [H6]; · iexact H6
  isplitl [H7]; · iexact H7
  isplitl [S2]; · iexact S2
  iexists fo'
  isplitl []
  · ipureintro; exact hstep fo fo' hfo hw
  · iexact HW

set_option maxHeartbeats 4000000 in
/-- One channel group: the rows of image 0, then the rows of image 1. -/
theorem group_run (v10 : BitVec 32) (hw1 : k0_chk1 i v10) (q : PosShare TreeShare) (Fe : S2x2x196x384.Idx → F .f32) (p : S32x8x16.Idx → BitVec 32)
    (Others : Finset (Idx ((aO).view.loc (thr d i)))) (O : CellTallies nD τ sig (HIx 1)) (W : Waits sig (HIx 1)) (OUT : S1000x37632.Idx → F .f32)
    (hR : RowsOk d i p Others) (hS : Spec i Fe p (bndW i v10).toNat OUT) (t1 : Fin k0_t1_loop.trips) :
    St d i q Fe p Others O W OUT t1 0
    ⊢ (wp frame (wpE (defs₀ (F := F)) Variants.none (thr d i) none) Set.univ
        (k0_t1_body (F := F) i aF (Memref.isWhole_whole _) aP (Memref.isWhole_whole _) aO (Memref.isWhole_whole _)
          a5 (Memref.isWhole_whole _) a6 (Memref.isWhole_whole _) a7 (Memref.isWhole_whole _)
          cc0_scoped0 cc0_scoped1 cc0_scoped2 cc0_scoped3 cc0_scoped4 cc0_scoped5 cc0_scoped6 (cntW i) v10 hw1 (bndW i v10) t1 ⟨⟩)
        (fun _ => St d i q Fe p Others O W OUT (t1.val + 1) 0) : sProp 𝕄) := by
  have ht : t1.val < 2 := t1.isLt
  have hb := bnd_le i v10
  have hg : (Scf.iv 0#32 1#32 t1.val).toNat = t1.val := (iv_toNat 0#32 t1.val (by show 0 + t1.val < _; omega)).trans (Nat.zero_add _)
  have hw2 := trips2 i v10
  have hw90 := trips90 i v10
  have k1 : ∀ t : Fin (k0_t2_loop i v10).trips, t.val < (bndW i v10).toNat := fun t => t.isLt.trans_eq hw2
  have k2 : ∀ t : Fin (k0_t90_loop i v10).trips, (bndW i v10).toNat + t.val < cnt i := fun t => by have := t.isLt.trans_eq hw90; omega
  have run1 := fun h1 (t : Fin (k0_t2_loop i v10).trips) => seg_step d i (fun fo =>
    (roi_run d i v10 (bndW i v10) hw1 t1 (slab Fe 0 t1) p Others O W fo hR.bounds).1 h1 t t (off3_eq i v10 t) (off676_eq i v10 t)
      (hR.place _ ((k1 t).trans_le hb)) (hR.own _ ((k1 t).trans_le hb)))
    (fun _ _ h hw => h.step hS ((k1 t).trans_le hb) ht (if_pos (k1 t)).symm hw)
  have run2 := fun h2 (t : Fin (k0_t90_loop i v10).trips) => seg_step d i (fun fo =>
    (roi_run d i v10 (bndW i v10) hw1 t1 (slab Fe 1 t1) p Others O W fo hR.bounds).2 h2 t ((bndW i v10).toNat + t.val) (off1354_eq i v10 t) (off2027_eq i v10 t)
      (hR.place _ (k2 t)) (hR.own _ (k2 t)))
    (fun _ _ h hw => h.step hS (k2 t) ht (if_neg (by omega)).symm hw)
  unfold k0_t1_body
  iintro HS
  by_cases h1 : k0_cond1 i v10 = 1#1
  case' pos =>
    unfold St
    icases HS with ⟨⟨%f, H5⟩, H6, H7, HF, S1, S2, S4, S5, %fo, %hfo, HW⟩
    unfold Own
    icases HW with ⟨Hmw, HOut, %W', %hW', HO⟩
    sl_exec
    rw [whole_written]
    unfold group_run.sl.dma0
    rw [slab_read Fe _ rfl rfl, show (k0_off2 t1) 0 = 0 from rfl, show (k0_off2 t1) 1 = t1.val from hg]
    sl_for (fun n _ => Seg d i cc0_scoped2.sem (slab Fe 0 t1) p Others O W OUT t1 (n) : ℕ → Unit → sProp 𝕄) $$ [H5 H6 H7 S2 Hmw HOut HO]
    case region =>
      intro k _
      exact run1 h1 k
    · unfold Seg Own
      isplitl [H5]; · iexact H5
      isplitl [H6]; · iexact H6
      isplitl [H7]; · iexact H7
      isplitl [S2]; · iexact S2
      iexists fo
      isplitl []
      · ipureintro; exact hfo
      isplitl [Hmw]; · iexact Hmw
      isplitl [HOut]; · iexact HOut
      iexists _
      isplitr [HO]
      rotate_left
      · iexact HO
      · ipureintro
        intro p hp
        rcases Finset.mem_insert.mp hp with rfl | hp
        · exact .inr rfl
        · exact hW' p hp
    iintro %acc HI
    unfold Seg
    icases HI with ⟨H5, H6, H7, S2, %fo1, %hfo1, HW⟩
    have hfo1 : Done i p OUT t1 (bndW i v10).toNat fo1 := by rw [← hw2]; exact hfo1
  case' neg =>
    have h0 : (bndW i v10).toNat = 0 := Nat.eq_zero_of_not_pos fun h => h1 ((cond1_iff i v10).mpr h)
    unfold St
    icases HS with ⟨⟨%f, H5⟩, H6, H7, HF, S1, S2, S4, S5, %fo1, %hfo, HW⟩
    have hfo1 : Done i p OUT t1 (bndW i v10).toNat fo1 := by rw [h0]; exact hfo
  all_goals
    by_cases h2 : k0_cond2 i v10 = 1#1
    case' pos =>
      unfold Own
      icases HW with ⟨Hmw, HOut, %W', %hW', HO⟩
      sl_exec
      rw [whole_written]
      first | unfold group_run.sl.dma0_1 | unfold group_run.sl.dma0_2
      rw [slab_read Fe _ rfl rfl, show (k0_off1353 t1) 0 = 1 from rfl, show (k0_off1353 t1) 1 = t1.val from hg]
      sl_for (fun n _ => Seg d i cc0_scoped5.sem (slab Fe 1 t1) p Others O W OUT t1 ((bndW i v10).toNat + n) : ℕ → Unit → sProp 𝕄) $$ [H5 H6 H7 S5 Hmw HOut HO]
      case region =>
        intro k _
        exact run2 h2 k
      · unfold Seg Own
        isplitl [H5]; · iexact H5
        isplitl [H6]; · iexact H6
        isplitl [H7]; · iexact H7
        isplitl [S5]; · iexact S5
        iexists fo1
        isplitl []
        · ipureintro; exact hfo1
        isplitl [Hmw]; · iexact Hmw
        isplitl [HOut]; · iexact HOut
        iexists _
        isplitr [HO]
        rotate_left
        · iexact HO
        · ipureintro
          intro p hp
          rcases Finset.mem_insert.mp hp with rfl | hp
          · exact .inr rfl
          · exact hW' p hp
      iintro %acc HI
      unfold Seg
      icases HI with ⟨H5, H6, H7, S5, %fo2, %hfo2, HW⟩
      sl_exec
      rw [wp_ret]
      imodintro
      isplitl [H5]; · iexists _; iexact H5
      isplitl [H6]; · iexact H6
      isplitl [H7]; · iexact H7
      isplitl [HF]; · iexact HF
      isplitl [S1]; · iexact S1
      isplitl [S2]; · iexact S2
      isplitl [S4]; · iexact S4
      isplitl [S5]; · iexact S5
      iexists fo2
      isplitl []
      · ipureintro
        refine Done.group (n := (bndW i v10).toNat + (k0_t90_loop i v10).trips) hfo2 (by omega)
      · first | iexact HW | (unfold Own; iexact HW)
    case' neg =>
      have hle : cnt i ≤ (bndW i v10).toNat := Nat.not_lt.mp fun h => h2 ((cond2_iff i v10).mpr h)
      sl_exec
      rw [wp_ret]
      imodintro
      isplitl [H5]; · iexists _; iexact H5
      isplitl [H6]; · iexact H6
      isplitl [H7]; · iexact H7
      isplitl [HF]; · iexact HF
      isplitl [S1]; · iexact S1
      isplitl [S2]; · iexact S2
      isplitl [S4]; · iexact S4
      isplitl [S5]; · iexact S5
      iexists fo1
      isplitl []
      · ipureintro; exact hfo1.group hle
      · first | iexact HW | (unfold Own; iexact HW)

end Cert.Proof.Tile
-- ==== Proof.Body.lean ====
module

public import proofs.«01_k».proof.Proof.Tile

@[expose] public section

/-! The body of the call, on a tile: its parameters are copied in, and then its two passes run. -/

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

theorem rows_written (f w : S32x8x16.Idx → BitVec 32) :
    (a6).view.writes (Elt F) f [⟨Rect.whole S32x8x16, w⟩] = w := by
  have h := View.read_writes_whole (Val := Elt F) (a6).view f w
  generalize (a6).view.writes (Elt F) f [⟨Rect.whole S32x8x16, w⟩] = z at h ⊢
  exact h

/-- The tile's rows of the parameters, and the number of rows over image 0 as the tile reads it off its first row. -/
def tileRows (Pe : S1024x8x16.Idx → BitVec 32) : S32x8x16.Idx → BitVec 32 := rowsOf Pe (32 * wid i)
def tileNum (Pe : S1024x8x16.Idx → BitVec 32) : BitVec 32 := tileRows i Pe (at3 0 7 1)

/-- The tile's arrays in shared memory and its bookkeeping, the output's rows at `fo`. -/
def Outer (qf qp : PosShare TreeShare) (Fe : S2x2x196x384.Idx → F .f32) (Pe : S1024x8x16.Idx → BitVec 32)
    (Others : Finset (Idx ((aO).view.loc (thr d i)))) (O : CellTallies nD τ sig (HIx 1)) (W : Waits sig (HIx 1)) (fo : S1000x37632.Idx → F .f32) : sProp 𝕄 :=
  iprop(((aF).view.loc (thr d i) ↦{qf} Fe) ∗ ((aP).view.loc (thr d i) ↦{qp} Pe) ∗ Own d i Others O W fo)

def Scratch : sProp 𝕄 :=
  iprop((∃ f, P5 d i f) ∗ (∃ f, P6 d i f) ∗ (∃ f, P7 d i f))

def Sems : sProp 𝕄 :=
  iprop(semVal (thr d i, SemLoc.dma cc0_scoped0.sem) 0
    ∗ semVal (thr d i, SemLoc.dma cc0_scoped1.sem) 0 ∗ semVal (thr d i, SemLoc.dma cc0_scoped2.sem) 0
    ∗ semVal (thr d i, SemLoc.dma cc0_scoped4.sem) 0 ∗ semVal (thr d i, SemLoc.dma cc0_scoped5.sem) 0)

/-- The body's beginning, before what it does with the number it reads: the copy of the tile's rows and that read. -/
def headProg (k : BitVec 32 → Prog (TpuEff nD τ sig (Elt F) Λ₀ (thr d i).2) PUnit) : Prog (TpuEff nD τ sig (Elt F) Λ₀ (thr d i).2) PUnit := do
  Prog.lift (.enqueueDma ((aP).slice (Rect.unit (s := S1024x8x16) (k0_off1 i) S32x8x16.size (k0_off1_inb i)) (fun _ => rfl)) (.here a6) (.dma cc0_scoped0.sem)
    (View.wordExact_bits rfl) (Memref.isWhole_whole _).wordExact ⟨Or.inl rfl, trivial⟩)
  Prog.lift (.waitDma2 cc0_scoped0.sem ((aP).slice (Rect.unit (s := S1024x8x16) (k0_off1 i) S32x8x16.size (k0_off1_inb i)) (fun _ => rfl)) a6
    (View.wordExact_bits rfl) (Memref.isWhole_whole _).wordExact)
  let v8 : Vec F S1x1x16 .i32 ← Prog.lift (.load a6 (Rect.unit (s := S32x8x16) ![0, 7, 0] S1x1x16.size inb_S32x8x16_S1x1x16_0_7_0).toLoadRect (View.loadsAt_vmem h_S1x1x16))
  k (extractAt ![0] (k0_pay1 v8) inpos_S1_p0)

/-- The rest: the two channel groups. -/
def tailProg (v10 : BitVec 32) : Prog (TpuEff nD τ sig (Elt F) Λ₀ (thr d i).2) PUnit := do
  have hw : k0_chk1 i v10 := (← Prog.lift (TpuEff.assume (k0_chk1 i v10) (k0_chk1.dec i v10))).down
  Scf.Loop.for k0_t1_loop k0_t1_ok ⟨⟩ (k0_t1_body i aF (Memref.isWhole_whole _) aP (Memref.isWhole_whole _) aO (Memref.isWhole_whole _)
      a5 (Memref.isWhole_whole _) a6 (Memref.isWhole_whole _) a7 (Memref.isWhole_whole _)
      cc0_scoped0 cc0_scoped1 cc0_scoped2 cc0_scoped3 cc0_scoped4 cc0_scoped5 cc0_scoped6 (cntW i) v10 hw (bndW i v10))
  pure ⟨⟩

theorem body_split : cc0__sc_body (F := F) i aF (Memref.isWhole_whole _) aP (Memref.isWhole_whole _) aO (Memref.isWhole_whole _)
      a5 (Memref.isWhole_whole _) a6 (Memref.isWhole_whole _) a7 (Memref.isWhole_whole _)
      cc0_scoped0 cc0_scoped1 cc0_scoped2 cc0_scoped3 cc0_scoped4 cc0_scoped5 cc0_scoped6
    = headProg d i (tailProg d i) := rfl

theorem head_run (k : BitVec 32 → Prog (TpuEff nD τ sig (Elt F) Λ₀ (thr d i).2) PUnit) (qp : PosShare TreeShare) (Pe : S1024x8x16.Idx → BitVec 32)
    (O : CellTallies nD τ sig (HIx 1)) (W : Waits sig (HIx 1)) (R : sProp 𝕄) (Q : PUnit → sProp 𝕄)
    (hk : iprop((Transfers.MayWaits (thr d i) none O ∗ P6 d i (tileRows i Pe) ∗ semVal (thr d i, SemLoc.dma cc0_scoped0.sem) 0
        ∗ ((aP).view.loc (thr d i) ↦{qp} Pe) ∗ ∃ W', ⌜∀ p ∈ W', p ∈ W ∨ p.2 = none⌝ ∗ owes (thr d i) O W') ∗ R)
      ⊢ (wp frame (wpE (defs₀ (F := F)) Variants.none (thr d i) none) Set.univ (k (tileNum i Pe)) Q : sProp 𝕄)) :
    iprop((Transfers.MayWaits (thr d i) none O ∗ (∃ f, P6 d i f) ∗ semVal (thr d i, SemLoc.dma cc0_scoped0.sem) 0
        ∗ ((aP).view.loc (thr d i) ↦{qp} Pe) ∗ ∃ W', ⌜∀ p ∈ W', p ∈ W ∨ p.2 = none⌝ ∗ owes (thr d i) O W') ∗ R)
    ⊢ (wp frame (wpE (defs₀ (F := F)) Variants.none (thr d i) none) Set.univ (headProg d i k) Q : sProp 𝕄) := by
  unfold headProg
  iintro ⟨⟨Hmw, ⟨%f6, H6⟩, S0, HP, %W', %hW', HO⟩, HR⟩
  sl_exec
  have hdma : head_run.sl.dma0 (F := F) i Pe = tileRows i Pe := rows_read i Pe
  rw [hdma, rows_written]
  have hnum : extractAt ![0] (k0_pay1 (head_run.sl.v8 (F := F) i Pe)) inpos_S1_p0 = tileNum i Pe := by
    unfold head_run.sl.v8 tileNum View.readCov
    rw [hdma, rows_written]
    exact word_eq (tileRows i Pe) _ rfl (by decide) _ (slices1 (by decide)) at0
  rw [hnum]
  iapply hk $$ [Hmw HR H6 HP S0 HO]
  isplitr [HR]
  rotate_left
  · iexact HR
  isplitl [Hmw]; · iexact Hmw
  isplitl [H6]; · iexact H6
  isplitl [S0]; · iexact S0
  isplitl [HP]; · iexact HP
  iexists _
  isplitr [HO]
  rotate_left
  · iexact HO
  · ipureintro
    intro p hp
    rcases Finset.mem_insert.mp hp with rfl | hp
    · exact .inr rfl
    · exact hW' p hp

set_option maxHeartbeats 4000000 in
theorem tail_run (v10 : BitVec 32) (qf : PosShare TreeShare) (Fe : S2x2x196x384.Idx → F .f32) (p : S32x8x16.Idx → BitVec 32)
    (Others : Finset (Idx ((aO).view.loc (thr d i)))) (O : CellTallies nD τ sig (HIx 1)) (W : Waits sig (HIx 1)) (OUT : S1000x37632.Idx → F .f32)
    (hR : RowsOk d i p Others) (hS : Spec i Fe p (bndW i v10).toNat OUT) :
    St d i qf Fe p Others O W OUT 0 0
    ⊢ (wp frame (wpE (defs₀ (F := F)) Variants.none (thr d i) none) Set.univ (tailProg d i v10) (fun _ => St d i qf Fe p Others O W OUT 2 0) : sProp 𝕄) := by
  have hchk := chk1_all i v10
  unfold tailProg
  iintro HS
  sl_exec
  sl_for (fun n _ => St d i qf Fe p Others O W OUT n 0 : ℕ → Unit → sProp 𝕄) $$ [HS]
  case region =>
    intro k _
    exact group_run d i v10 hchk qf Fe p Others O W OUT hR hS k
  · iexact HS
  iintro %acc HI
  sl_exec
  rw [wp_ret]
  imodintro
  iexact HI

/-- A tile's whole run. -/
theorem body_run (qf qp : PosShare TreeShare) (Fe : S2x2x196x384.Idx → F .f32) (Pe : S1024x8x16.Idx → BitVec 32)
    (Others : Finset (Idx ((aO).view.loc (thr d i)))) (O : CellTallies nD τ sig (HIx 1)) (W : Waits sig (HIx 1)) (OUT fo : S1000x37632.Idx → F .f32)
    (hR : RowsOk d i (tileRows i Pe) Others) (hS : Spec i Fe (tileRows i Pe) (bndW i (tileNum i Pe)).toNat OUT) :
    iprop(Outer d i qf qp Fe Pe Others O W fo ∗ Scratch d i ∗ Sems d i)
    ⊢ (wp frame (wpE (defs₀ (F := F)) Variants.none (thr d i) none) Set.univ
        (cc0__sc_body (F := F) i aF (Memref.isWhole_whole _) aP (Memref.isWhole_whole _) aO (Memref.isWhole_whole _)
          a5 (Memref.isWhole_whole _) a6 (Memref.isWhole_whole _) a7 (Memref.isWhole_whole _)
          cc0_scoped0 cc0_scoped1 cc0_scoped2 cc0_scoped3 cc0_scoped4 cc0_scoped5 cc0_scoped6)
        (fun _ => iprop((∃ fo', ⌜Done i (tileRows i Pe) OUT 2 0 fo'⌝ ∗ Outer d i qf qp Fe Pe Others O W fo') ∗ Scratch d i ∗ Sems d i)) : sProp 𝕄) := by
  rw [body_split]
  have ht := tail_run d i (tileNum i Pe) qf Fe (tileRows i Pe) Others O W OUT hR hS
  have hw2 := @wp_frame_r _ _ _ _ _ frame (wpE (defs₀ (F := F)) Variants.none (thr d i) none) Set.univ inferInstance (tailProg d i (tileNum i Pe))
    (fun _ => St d i qf Fe (tileRows i Pe) Others O W OUT 2 0) iprop(((aP).view.loc (thr d i) ↦{qp} Pe) ∗ semVal (thr d i, SemLoc.dma cc0_scoped0.sem) 0)
  unfold Outer Scratch Sems Own
  iintro ⟨⟨HF, HP, Hmw, HOut, HO⟩, ⟨H5, H6, H7⟩, S0, S1, S2, S4, S5⟩
  iapply (head_run d i (tailProg d i) qp Pe O W
    iprop(((aO).view.loc (thr d i) ↦[Finset.univ \ Others]{fullShare} fo) ∗ (∃ f, P5 d i f) ∗ (∃ f, P7 d i f) ∗ ((aF).view.loc (thr d i) ↦{qf} Fe)
      ∗ semVal (thr d i, SemLoc.dma cc0_scoped1.sem) 0 ∗ semVal (thr d i, SemLoc.dma cc0_scoped2.sem) 0
      ∗ semVal (thr d i, SemLoc.dma cc0_scoped4.sem) 0 ∗ semVal (thr d i, SemLoc.dma cc0_scoped5.sem) 0) _ ?_) $$ [HF HP Hmw HOut HO H5 H6 H7 S0 S1 S2 S4 S5]
  · iintro ⟨⟨Hmw, H6, S0, HP, HO⟩, HOut, H5, H7, HF, S1, S2, S4, S5⟩
    ihave Hw := ht $$ [HF Hmw HOut H5 H6 H7 S1 S2 S4 S5 HO]
    · unfold St Own
      isplitl [H5]; · iexact H5
      isplitl [H6]; · iexact H6
      isplitl [H7]; · iexact H7
      isplitl [HF]; · iexact HF
      isplitl [S1]; · iexact S1
      isplitl [S2]; · iexact S2
      isplitl [S4]; · iexact S4
      isplitl [S5]; · iexact S5
      iexists fo
      isplitl []
      · ipureintro
        intro r _ x _ h
        omega
      isplitl [Hmw]; · iexact Hmw
      isplitl [HOut]; · iexact HOut
      iexact HO
    ihave Hw2 := hw2 $$ [Hw HP S0]
    · isplitl [Hw]; · iexact Hw
      isplitl [HP]; · iexact HP
      iexact S0
    iapply (wp_mono _ _ _ fun _ => ?_) $$ Hw2
    unfold St Own
    iintro ⟨⟨H5, H6, H7, HF, S1, S2, S4, S5, %fo', %hfo, HW⟩, HP, S0⟩
    isplitl [HF HP HW]
    · iexists fo'
      isplitl []
      · ipureintro; exact hfo
      isplitl [HF]; · iexact HF
      isplitl [HP]; · iexact HP
      iexact HW
    isplitl [H5 H6 H7]
    · isplitl [H5]; · iexact H5
      isplitl [H6]; · iexists _; iexact H6
      iexact H7
    isplitl [S0]; · iexact S0
    isplitl [S1]; · iexact S1
    isplitl [S2]; · iexact S2
    isplitl [S4]; · iexact S4
    iexact S5
  · isplitl [Hmw H6 S0 HP HO]
    · isplitl [Hmw]; · iexact Hmw
      isplitl [H6]; · iexact H6
      isplitl [S0]; · iexact S0
      isplitl [HP]; · iexact HP
      iexact HO
    isplitl [HOut]; · iexact HOut
    isplitl [H5]; · iexact H5
    isplitl [H7]; · iexact H7
    isplitl [HF]; · iexact HF
    isplitl [S1]; · iexact S1
    isplitl [S2]; · iexact S2
    isplitl [S4]; · iexact S4
    iexact S5

end Cert.Proof.Tile
-- ==== Proof.Share.lean ====
module

public import proofs.«01_k».proof.Proof.Body

@[expose] public section

/-! # What each tile has and does, seen from the whole output

Sorted row `r` of the parameters is worked by tile `r / 32` and lands in row `place r` of the output; `pos` is the
inverse of `place`. A tile's part of the output is the rows whose sorted position is one of its own. -/

noncomputable section

namespace Cert.Proof.Tile

open Cert.KernelIdeal Cert.KernelIdeal.Gen
open Idealize.ShloMosaic
open Idealize.ShloMosaic.SparseCore (S V T)

variable {F : FTy → Type} [FloatOps F]

/-- The word of a row of the parameters. -/
def atQ (n h k : ℕ) : S1024x8x16.Idx := fun a => match a with
  | ⟨0, _⟩ => ⟨n % 1024, Nat.mod_lt _ (by decide)⟩
  | ⟨1, _⟩ => ⟨h % 8, Nat.mod_lt _ (by decide)⟩
  | ⟨2, _⟩ => ⟨k % 16, Nat.mod_lt _ (by decide)⟩

/-- A SparseCore and a tile of it as the kernel's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The tile of number `t`. -/
def tileAt (t : ℕ) : grid0.Coords := coordsV ⟨t % 2, Nat.mod_lt _ (by decide)⟩ ⟨t / 2 % 16, Nat.mod_lt _ (by decide)⟩

theorem tileAt_wid (i : grid0.Coords) : tileAt (wid i) = i := by
  have h0 : (i 0).val < 2 := (i 0).isLt
  have h1 : (i 1).val < 16 := (i 1).isLt
  funext a
  match a with
  | 0 => exact Fin.ext (show (wid i) % 2 = (i 0).val by unfold wid; omega)
  | 1 => exact Fin.ext (show (wid i) / 2 % 16 = (i 1).val by unfold wid; omega)

theorem tileRows_at (i : grid0.Coords) (Pe : S1024x8x16.Idx → BitVec 32) {r : ℕ} (hr : r < 32) (h k : ℕ) :
    tileRows i Pe (at3 r h k) = Pe (atQ (32 * wid i + r) h k) := by
  show Pe (atP (32 * wid i) (at3 r h k)) = _
  congr 1
  funext a
  match a with
  | ⟨0, _⟩ => exact Fin.ext (show (32 * wid i + r % 32) % 1024 = (32 * wid i + r) % 1024 by rw [Nat.mod_eq_of_lt hr])
  | ⟨1, _⟩ => rfl
  | ⟨2, _⟩ => rfl

/-- How many of a tile's rows are over image 0. -/
def firstRows (Pe : S1024x8x16.Idx → BitVec 32) (t : ℕ) : ℕ := (bndW (tileAt t) (tileNum (tileAt t) Pe)).toNat

/-- What sorted row `r` leaves: its windows' maxima over the image it is in. -/
def rowOut (Fe : S2x2x196x384.Idx → F .f32) (Pe : S1024x8x16.Idx → BitVec 32) (r p : ℕ) : F .f32 :=
  tgt (slab Fe (if r % 32 < firstRows Pe (r / 32) then 0 else 1) (p / 18816)) (fun h k => Pe (atQ r h k)) (p % 18816)

/-- The whole output. -/
def outOf (Fe : S2x2x196x384.Idx → F .f32) (Pe : S1024x8x16.Idx → BitVec 32) (pos : ℕ → ℕ) : S1000x37632.Idx → F .f32 :=
  fun x => rowOut Fe Pe (pos (x 0).val) (x 1).val

/-- What the parameters must say: bounds within the image, and places that are the 1000 rows of the output, once each. -/
structure ParamsOk (Pe : S1024x8x16.Idx → BitVec 32) (pos : ℕ → ℕ) : Prop where
  bounds : ∀ n h k, n < 1024 → h < 7 → (Pe (atQ n h k)).toNat ≤ 14
  place : ∀ r, r < 1000 → (Pe (atQ r 7 0)).toNat < 1000 ∧ pos (Pe (atQ r 7 0)).toNat = r
  pos_lt : ∀ n, n < 1000 → pos n < 1000 ∧ (Pe (atQ (pos n) 7 0)).toNat = n

/-- The part of the output that the tile of number `t` writes. -/
def tileSet (pos : ℕ → ℕ) (t : ℕ) : Finset S1000x37632.Idx := Finset.univ.filter fun x => pos (x 0).val / 32 = t
/-- The rest. -/
def tileOthers (pos : ℕ → ℕ) (t : ℕ) : Finset S1000x37632.Idx := Finset.univ.filter fun x => pos (x 0).val / 32 ≠ t
/-- The part that a SparseCore's tiles write. -/
def coreSet (pos : ℕ → ℕ) (c : ℕ) : Finset S1000x37632.Idx := Finset.univ.filter fun x => pos (x 0).val / 32 % 2 = c

theorem univ_sdiff_others (pos : ℕ → ℕ) (t : ℕ) : (Finset.univ : Finset S1000x37632.Idx) \ tileOthers pos t = tileSet pos t := by
  ext x; simp [tileOthers, tileSet]

theorem coreSet_cover (pos : ℕ → ℕ) : (Finset.univ : Finset (Fin 2)).biUnion (fun c => coreSet pos c.val) = Finset.univ := by
  ext x
  simp only [Finset.mem_biUnion, Finset.mem_univ, true_and, iff_true, coreSet, Finset.mem_filter]
  exact ⟨⟨pos (x 0).val / 32 % 2, Nat.mod_lt _ (by decide)⟩, rfl⟩

theorem coreSet_disjoint (pos : ℕ → ℕ) : ∀ c ∈ (Finset.univ : Finset (Fin 2)), ∀ c' ∈ (Finset.univ : Finset (Fin 2)), c ≠ c' →
    Disjoint (coreSet pos c.val) (coreSet pos c'.val) := fun c _ c' _ h => Finset.disjoint_left.mpr fun x hx hx' =>
  h (Fin.ext ((Finset.mem_filter.mp hx).2.symm.trans (Finset.mem_filter.mp hx').2))

theorem tileSet_cover {Pe : S1024x8x16.Idx → BitVec 32} {pos : ℕ → ℕ} (hP : ParamsOk Pe pos) (c : Fin 2) :
    (Finset.univ : Finset (Fin 16)).biUnion (fun s => tileSet pos (2 * s.val + c.val)) = coreSet pos c.val := by
  ext x
  have hx := (hP.pos_lt (x 0).val (x 0).isLt).1
  simp only [Finset.mem_biUnion, Finset.mem_univ, true_and, coreSet, tileSet, Finset.mem_filter]
  constructor
  · rintro ⟨s, hs⟩; omega
  · intro h; exact ⟨⟨pos (x 0).val / 32 / 2, by omega⟩, by show pos (x 0).val / 32 = 2 * (pos (x 0).val / 32 / 2) + c.val; omega⟩

theorem tileSet_disjoint (pos : ℕ → ℕ) (c : Fin 2) : ∀ s ∈ (Finset.univ : Finset (Fin 16)), ∀ s' ∈ (Finset.univ : Finset (Fin 16)), s ≠ s' →
    Disjoint (tileSet pos (2 * s.val + c.val)) (tileSet pos (2 * s'.val + c.val)) := fun s _ s' _ h => Finset.disjoint_left.mpr fun x hx hx' =>
  h (Fin.ext (by have h1 := (Finset.mem_filter.mp hx).2; have h2 := (Finset.mem_filter.mp hx').2; omega))

variable (d : Dev nD) (i : grid0.Coords) {Pe : S1024x8x16.Idx → BitVec 32} {pos : ℕ → ℕ}

theorem rowsOk (hP : ParamsOk Pe pos) : RowsOk d i (tileRows i Pe) (tileOthers pos (wid i)) where
  bounds r h k hh := by
    rw [show at3 r h k = at3 (r % 32) h k by funext a; match a with
      | ⟨0, _⟩ => exact Fin.ext (Nat.mod_mod _ _).symm
      | ⟨1, _⟩ => rfl
      | ⟨2, _⟩ => rfl, tileRows_at i Pe (Nat.mod_lt _ (by decide))]
    have := wid_lt i
    exact hP.bounds _ h k (by have := Nat.mod_lt r (show 0 < 32 by decide); omega) hh
  place r hr := by
    rw [tileRows_at i Pe (by unfold cnt at hr; omega)]
    exact (hP.place _ (row_lt i hr)).1
  own r hr x hx e := by
    rw [tileRows_at i Pe (by unfold cnt at hr; omega)] at e
    refine (Finset.mem_filter.mp hx).2 ?_
    rw [e, (hP.place _ (row_lt i hr)).2]
    unfold cnt at hr; omega

theorem specOk (hP : ParamsOk Pe pos) (Fe : S2x2x196x384.Idx → F .f32) :
    Spec i Fe (tileRows i Pe) (bndW i (tileNum i Pe)).toNat (outOf Fe Pe pos) := by
  intro r hr g _ x hx hg
  have h32 : r < 32 := by unfold cnt at hr; omega
  rw [tileRows_at i Pe h32] at hx
  unfold outOf rowOut firstRows
  rw [hx, (hP.place _ (row_lt i hr)).2, show (32 * wid i + r) / 32 = wid i by omega, show (32 * wid i + r) % 32 = r by omega, tileAt_wid, hg]
  refine congrArg (fun f => tgt _ f _) ?_
  funext h k
  exact (tileRows_at i Pe h32 h k).symm

theorem done_rows (hP : ParamsOk Pe pos) {OUT fo : S1000x37632.Idx → F .f32} (h : Done i (tileRows i Pe) OUT 2 0 fo) :
    ∀ x ∈ tileSet pos (wid i), fo x = OUT x := by
  intro x hx
  have hp := (Finset.mem_filter.mp hx).2
  obtain ⟨h1, h2⟩ := hP.pos_lt (x 0).val (x 0).isLt
  have hx1 : (x 1).val < 37632 := (x 1).isLt
  have hr : pos (x 0).val % 32 < cnt i := by unfold cnt; omega
  refine h (pos (x 0).val % 32) hr x ?_ (.inl (by omega))
  rw [tileRows_at i Pe (Nat.mod_lt _ (by decide)), show 32 * wid i + pos (x 0).val % 32 = pos (x 0).val by omega, h2]

end Cert.Proof.Tile
-- ==== Proof.Launch.lean ====
module

public import proofs.«01_k».proof.Proof.Share

@[expose] public section

/-! # The SparseCore call: what it takes, what it gives back

The call takes the features and the parameters, which every tile reads, and the output, of which every tile writes its own
rows. The two tables go out as read shares, dealt first over the SparseCores and then over the tiles of each. -/

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Rounds
open Idealize.ShloMosaic.Transfers (shareTok shareDrop pointsTo_toks_split pointsTo_toks_join)
open Idealize.ShloMosaic.Tactic

variable {F : FTy → Type} [FloatOps F]

local notation "𝕄" => MT nD τ sig (HIx 1) (Elt F) ℕ UU ℕ

/-! ## The launch -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev EH : Emb UH (MT nD τ sig (HIx 1) (Elt F) ℕ UU ℕ) := embL

abbrev fLoc (d : Dev nD) : Loc nD τ sig := (SparseCore.T d).loc main_v132
abbrev pLoc (d : Dev nD) : Loc nD τ sig := (SparseCore.T d).loc main_v129
abbrev oLoc (d : Dev nD) : Loc nD τ sig := (SparseCore.T d).loc main_v133

/-- A SparseCore's share of a table, and a tile's of that. -/
abbrev q2 (c : Fin 2) : PosShare TreeShare := shareTok fullShare 2 c
abbrev q32 (c : Fin 2) (s : Fin 16) : PosShare TreeShare := shareTok (q2 c) 16 s

variable (Fe : Dev nD → S2x2x196x384.Idx → F .f32) (Pe : Dev nD → S1024x8x16.Idx → BitVec 32) (pos : Dev nD → ℕ → ℕ)
  (Fo : Dev nD → S1000x37632.Idx → F .f32)

/-- What a SparseCore holds: its shares of the tables and its part of the output, at `G`. -/
abbrev corePts (G : S1000x37632.Idx → F .f32) (d : Dev nD) (c : Fin 2) : sProp 𝕄 :=
  iprop((fLoc d ↦{q2 c} Fe d) ∗ (pLoc d ↦{q2 c} Pe d) ∗ oLoc d ↦[coreSet (pos d) c.val]{fullShare} G)

/-- What a tile holds. -/
abbrev tilePts (G : S1000x37632.Idx → F .f32) (d : Dev nD) (c : Fin 2) (s : Fin 16) : sProp 𝕄 :=
  iprop((fLoc d ↦{q32 c s} Fe d) ∗ (pLoc d ↦{q32 c s} Pe d) ∗ oLoc d ↦[tileSet (pos d) (2 * s.val + c.val)]{fullShare} G)

/-- What the call leaves in the output. -/
abbrev OUT (d : Dev nD) : S1000x37632.Idx → F .f32 := outOf (Fe d) (Pe d) (pos d)

def P : (K (F := F)).Pay (nD := nD) (Val := Elt F) (Name := ℕ) (U := UU) where
  st := fun q d c => match q with | 0 => corePts Fe Pe pos (Fo d) d (Fin.cast nCore_zero c)
  dn := fun q d c => match q with | 0 => corePts Fe Pe pos (OUT Fe Pe pos d) d (Fin.cast nCore_zero c)
  go := fun q d c i => match q with | 0 => tilePts Fe Pe pos (Fo d) d (Fin.cast nCore_zero c) (Fin.cast nSub_zero i)
  td := fun q d c i => match q with | 0 => tilePts Fe Pe pos (OUT Fe Pe pos d) d (Fin.cast nCore_zero c) (Fin.cast nSub_zero i)
  x := fun _ _ => iprop(emp)

instance P_storable : (P Fe Pe pos Fo).IsStorable where
  st q d c := match q with
    | 0 => (inferInstance : BI.Storable (upEmb : UEmb _ 𝕄) (corePts Fe Pe pos (Fo d) d (Fin.cast nCore_zero c)))
  dn q d c := match q with
    | 0 => (inferInstance : BI.Storable (upEmb : UEmb _ 𝕄) (corePts Fe Pe pos (OUT Fe Pe pos d) d (Fin.cast nCore_zero c)))
  go q d c i := match q with
    | 0 => (inferInstance : BI.Storable (upEmb : UEmb _ 𝕄) (tilePts Fe Pe pos (Fo d) d (Fin.cast nCore_zero c) (Fin.cast nSub_zero i)))
  td q d c i := match q with
    | 0 => (inferInstance : BI.Storable (upEmb : UEmb _ 𝕄) (tilePts Fe Pe pos (OUT Fe Pe pos d) d (Fin.cast nCore_zero c) (Fin.cast nSub_zero i)))

/-! ## The tile -/

section Tile

variable (d : Dev nD) (i : grid0.Coords)

abbrev cV : Fin τ.nSC := (i 0).castLE hcore0
abbrev jV : Fin τ.nSub := (i 1).castLE hsub0
theorem bound_zero : grid0.bound 0 = 2 := rfl
theorem bound_one : grid0.bound 1 = 16 := rfl
abbrev cL : Fin 2 := Fin.cast bound_zero (i 0)
abbrev sL : Fin 16 := Fin.cast bound_one (i 1)

abbrev cell (s : DmaSem sig) : GSem nD τ sig := (V d (cV i) (jV i), .dma s)

theorem own_cell (s : DmaSem sig) (h : (SemLoc.dma s : SemLoc sig).isScoped .scVector = true) :
    cell d i s ∈ ownCells (V d (cV i) (jV i)) := (mem_ownCells (g := cell d i s)).mpr ⟨rfl, h⟩

theorem cell_ne {s s' : DmaSem sig} (h : (SemLoc.dma s : SemLoc sig) ≠ .dma s') : cell d i s ≠ cell d i s' := fun e => h (congrArg Prod.snd e)

/-- The tile's semaphores: the five that its copies use, and the rest. -/
theorem ownSems0_V : (ownSems0 (V d (cV i) (jV i)) : sProp 𝕄)
    = iprop(semVal (cell d i cc0_scoped0.sem) 0 ∗ semVal (cell d i cc0_scoped1.sem) 0 ∗ semVal (cell d i cc0_scoped2.sem) 0
        ∗ semVal (cell d i cc0_scoped4.sem) 0 ∗ semVal (cell d i cc0_scoped5.sem) 0
        ∗ bigSep ((((((ownCells (V d (cV i) (jV i))).erase (cell d i cc0_scoped0.sem)).erase (cell d i cc0_scoped1.sem)).erase (cell d i cc0_scoped2.sem)).erase
          (cell d i cc0_scoped4.sem)).erase (cell d i cc0_scoped5.sem)) fun g => semVal g 0) := by
  have m0 := own_cell d i cc0_scoped0.sem (by decide)
  have m1 := own_cell d i cc0_scoped1.sem (by decide)
  have m2 := own_cell d i cc0_scoped2.sem (by decide)
  have m4 := own_cell d i cc0_scoped4.sem (by decide)
  have m5 := own_cell d i cc0_scoped5.sem (by decide)
  have n10 := cell_ne d i (s := cc0_scoped1.sem) (s' := cc0_scoped0.sem) (by decide)
  have n20 := cell_ne d i (s := cc0_scoped2.sem) (s' := cc0_scoped0.sem) (by decide)
  have n21 := cell_ne d i (s := cc0_scoped2.sem) (s' := cc0_scoped1.sem) (by decide)
  have n40 := cell_ne d i (s := cc0_scoped4.sem) (s' := cc0_scoped0.sem) (by decide)
  have n41 := cell_ne d i (s := cc0_scoped4.sem) (s' := cc0_scoped1.sem) (by decide)
  have n42 := cell_ne d i (s := cc0_scoped4.sem) (s' := cc0_scoped2.sem) (by decide)
  have n50 := cell_ne d i (s := cc0_scoped5.sem) (s' := cc0_scoped0.sem) (by decide)
  have n51 := cell_ne d i (s := cc0_scoped5.sem) (s' := cc0_scoped1.sem) (by decide)
  have n52 := cell_ne d i (s := cc0_scoped5.sem) (s' := cc0_scoped2.sem) (by decide)
  have n54 := cell_ne d i (s := cc0_scoped5.sem) (s' := cc0_scoped4.sem) (by decide)
  have k1 := Finset.mem_erase.mpr ⟨n10, m1⟩
  have k2 := Finset.mem_erase.mpr ⟨n21, Finset.mem_erase.mpr ⟨n20, m2⟩⟩
  have k4 := Finset.mem_erase.mpr ⟨n42, Finset.mem_erase.mpr ⟨n41, Finset.mem_erase.mpr ⟨n40, m4⟩⟩⟩
  have k5 := Finset.mem_erase.mpr ⟨n54, Finset.mem_erase.mpr ⟨n52, Finset.mem_erase.mpr ⟨n51, Finset.mem_erase.mpr ⟨n50, m5⟩⟩⟩⟩
  unfold SparseCore.Cfg.ownSems0
  rw [SparseCore.bigSep_erase' m0, SparseCore.bigSep_erase' k1, SparseCore.bigSep_erase' k2, SparseCore.bigSep_erase' k4, SparseCore.bigSep_erase' k5]

abbrev sref (b : Ref sig .scVector) : DevRef τ sig := (Proc.scVector (cV i) (jV i)).devRef b

theorem sref_ne {b b' : Ref sig .scVector} (h : b ≠ b') : sref i b ≠ sref i b' := fun e => h (Proc.devRef_injective _ e)

/-- The tile's scratch: the slab, the rows of the parameters, the staging row; and the rest. -/
theorem ownBufs_V : (ownBufs (V d (cV i) (jV i)) : sProp 𝕄)
    = iprop((∃ f, (V d (cV i) (jV i)).loc cc0_scratch0 ↦{fullShare} f) ∗ (∃ f, (V d (cV i) (jV i)).loc cc0_scratch1 ↦{fullShare} f)
        ∗ (∃ f, (V d (cV i) (jV i)).loc cc0_scratch2 ↦{fullShare} f)
        ∗ bigSep ((((ownRefs (τ := τ) (.scVector (cV i) (jV i))).erase (sref i cc0_scratch0)).erase (sref i cc0_scratch1)).erase (sref i cc0_scratch2))
            fun b => iprop(∃ f, ((d, b) : Loc nD τ sig) ↦{fullShare} f)) := by
  have m0 := SparseCore.Cfg.mem_ownRefs_of_owner (p := Proc.scVector (cV i) (jV i)) (b := sref i cc0_scratch0) rfl
  have m1 := SparseCore.Cfg.mem_ownRefs_of_owner (p := Proc.scVector (cV i) (jV i)) (b := sref i cc0_scratch1) rfl
  have m2 := SparseCore.Cfg.mem_ownRefs_of_owner (p := Proc.scVector (cV i) (jV i)) (b := sref i cc0_scratch2) rfl
  have n10 := sref_ne i (b := cc0_scratch1) (b' := cc0_scratch0) (by decide)
  have n20 := sref_ne i (b := cc0_scratch2) (b' := cc0_scratch0) (by decide)
  have n21 := sref_ne i (b := cc0_scratch2) (b' := cc0_scratch1) (by decide)
  unfold SparseCore.Cfg.ownBufs
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

theorem whole5 (f : S196x384.Idx → F .f32) : ((V d (cV i) (jV i)).loc cc0_scratch0 ↦{fullShare} f : sProp 𝕄) = P5 d i f := by
  unfold P5; rw [show (a5).view.set = Finset.univ from View.set_whole _]
theorem whole6 (f : S32x8x16.Idx → BitVec 32) : ((V d (cV i) (jV i)).loc cc0_scratch1 ↦{fullShare} f : sProp 𝕄) = P6 d i f := by
  unfold P6; rw [show (a6).view.set = Finset.univ from View.set_whole _]
theorem whole7 (f : S18816.Idx → F .f32) : ((V d (cV i) (jV i)).loc cc0_scratch2 ↦{fullShare} f : sProp 𝕄) = P7 d i f := by
  unfold P7; rw [show (a7).view.set = Finset.univ from View.set_whole _]

/-- The tile's part of the output, as the body names it. -/
theorem part_eq (G : S1000x37632.Idx → F .f32) :
    (oLoc d ↦[tileSet (pos d) (2 * (sL i).val + (cL i).val)]{fullShare} G : sProp 𝕄)
      = ((aO).view.loc (thr d i) ↦[Finset.univ \ tileOthers (pos d) (wid i)]{fullShare} G) := by
  rw [show (Finset.univ \ tileOthers (pos d) (wid i) : Finset S1000x37632.Idx) = tileSet (pos d) (wid i) from univ_sdiff_others (pos d) (wid i)]
  rfl

/-- The task of a tile. -/
theorem tile_body (hP : ∀ d, ParamsOk (Pe d) (pos d)) (O : CellTallies nD τ sig (HIx 1)) (W : Waits sig (HIx 1)) (hO : ∀ g, O g none = 0) :
    iprop(levAts (K (F := F)).L (K (F := F)).lev ∗ emp ∗ tilePts Fe Pe pos (Fo d) d (cL i) (sL i)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0__sc_body (F := F) i aF (Memref.isWhole_whole _) aP (Memref.isWhole_whole _) aO (Memref.isWhole_whole _)
            a5 (Memref.isWhole_whole _) a6 (Memref.isWhole_whole _) a7 (Memref.isWhole_whole _)
            cc0_scoped0 cc0_scoped1 cc0_scoped2 cc0_scoped3 cc0_scoped4 cc0_scoped5 cc0_scoped6)
          fun _ => iprop(tilePts Fe Pe pos (OUT Fe Pe pos d) d (cL i) (sL i)
            ∗ scopedBufs (V d (cV i) (jV i)) ∗ scopedSems0 (V d (cV i) (jV i))
            ∗ ∃ W', ⌜∀ p ∈ W', p ∈ W ∨ p.2 = none⌝ ∗ owes (V d (cV i) (jV i)) O W') := by
  have hb := body_run d i (q32 (cL i) (sL i)) (q32 (cL i) (sL i)) (Fe d) (Pe d) (tileOthers (pos d) (wid i)) O W (OUT Fe Pe pos d) (Fo d)
    (rowsOk d i (hP d)) (specOk i (hP d) (Fe d))
  generalize cc0__sc_body (F := F) i aF (Memref.isWhole_whole _) aP (Memref.isWhole_whole _) aO (Memref.isWhole_whole _)
            a5 (Memref.isWhole_whole _) a6 (Memref.isWhole_whole _) a7 (Memref.isWhole_whole _)
            cc0_scoped0 cc0_scoped1 cc0_scoped2 cc0_scoped3 cc0_scoped4 cc0_scoped5 cc0_scoped6 = prog at hb ⊢
  rw [(K (F := F)).scopedBufs_V facts d (cV i) (jV i), SparseCore.Cfg.scopedSems0_V (Val := Elt F) d (cV i) (jV i), ownSems0_V, ownBufs_V]
  unfold tilePts
  rw [part_eq, part_eq]
  generalize hBR : (bigSep ((((ownRefs (τ := τ) (.scVector (cV i) (jV i))).erase (sref i cc0_scratch0)).erase (sref i cc0_scratch1)).erase (sref i cc0_scratch2))
            (fun b => iprop(∃ f, ((d, b) : Loc nD τ sig) ↦{fullShare} f)) : sProp 𝕄) = BR
  generalize hSR : (bigSep ((((((ownCells (V d (cV i) (jV i))).erase (cell d i cc0_scoped0.sem)).erase (cell d i cc0_scoped1.sem)).erase (cell d i cc0_scoped2.sem)).erase
          (cell d i cc0_scoped4.sem)).erase (cell d i cc0_scoped5.sem)) (fun g => semVal g 0) : sProp 𝕄) = SR
  have hf := @wp_frame_r _ _ _ _ _ frame (wpE (defs₀ (F := F)) Variants.none (thr d i) none) Set.univ inferInstance prog
    (fun _ => iprop((∃ fo', ⌜Done i (tileRows i (Pe d)) (OUT Fe Pe pos d) 2 0 fo'⌝
      ∗ Outer d i (q32 (cL i) (sL i)) (q32 (cL i) (sL i)) (Fe d) (Pe d) (tileOthers (pos d) (wid i)) O W fo') ∗ Scratch d i ∗ Sems d i)) iprop(BR ∗ SR)
  refine BIBase.Entails.trans ?_ ((sep_mono_left hb).trans (hf.trans (wp_mono frame _ _ fun _ => ?_)))
  · unfold Outer Own Scratch Sems
    iintro ⟨#Hlv, -, ⟨HF, HP, Ho⟩, ⟨⟨%f5, H5⟩, ⟨%f6, H6⟩, ⟨%f7, H7⟩, HBR⟩, ⟨S0, S1, S2, S4, S5, HSR⟩, HO⟩
    ihave Hmw := (show levAts (K (F := F)).L (K (F := F)).lev ⊢ Transfers.MayWaits (V d (cV i) (jV i)) (default : HIx 1) O from
      (K (F := F)).mayWaits_none (thr := V d (cV i) (jV i)) hO) $$ Hlv
    isplitr [HBR HSR]
    · isplitl [HF HP Ho HO Hmw]
      · isplitl [HF]; · iexact HF
        isplitl [HP]; · iexact HP
        isplitl [Hmw]; · iexact Hmw
        isplitl [Ho]; · iexact Ho
        iexists W; isplitr
        · ipureintro; exact fun p hp => .inl hp
        · iexact HO
      isplitl [H5 H6 H7]
      · isplitl [H5]; · iexists f5; iapply (Entails.of_eq (whole5 d i f5)); iexact H5
        isplitl [H6]; · iexists f6; iapply (Entails.of_eq (whole6 d i f6)); iexact H6
        iexists f7; iapply (Entails.of_eq (whole7 d i f7)); iexact H7
      isplitl [S0]; · iexact S0
      isplitl [S1]; · iexact S1
      isplitl [S2]; · iexact S2
      isplitl [S4]; · iexact S4
      iexact S5
    isplitl [HBR]; · iexact HBR
    iexact HSR
  · unfold Outer Own Scratch Sems
    iintro ⟨⟨⟨%fo, %hfo, HF, HP, -, Ho, HO⟩, ⟨⟨%f5, H5⟩, ⟨%f6, H6⟩, ⟨%f7, H7⟩⟩, S0, S1, S2, S4, S5⟩, HBR, HSR⟩
    isplitl [HF HP Ho]
    · isplitl [HF]; · iexact HF
      isplitl [HP]; · iexact HP
      iapply (Entails.of_eq (pointsTo_congr (ℓ := (aO).view.loc (thr d i)) (q := fullShare) (f := fo) (g := OUT Fe Pe pos d)
        (I := Finset.univ \ tileOthers (pos d) (wid i)) (fun x hx => done_rows i (hP d) hfo x (by
          rw [← univ_sdiff_others]; exact hx))))
      iexact Ho
    isplitl [H5 H6 H7 HBR]
    · isplitl [H5]; · iexists f5; iapply (Entails.of_eq (whole5 d i f5).symm); iexact H5
      isplitl [H6]; · iexists f6; iapply (Entails.of_eq (whole6 d i f6).symm); iexact H6
      isplitl [H7]; · iexists f7; iapply (Entails.of_eq (whole7 d i f7).symm); iexact H7
      iexact HBR
    isplitr [HO]
    · isplitl [S0]; · iexact S0
      isplitl [S1]; · iexact S1
      isplitl [S2]; · iexact S2
      isplitl [S4]; · iexact S4
      isplitl [S5]; · iexact S5
      iexact HSR
    iexact HO

end Tile

/-! ## The launch's obligations -/

theorem defs₀_vector (c : Fin τ.nSC) (s : Fin τ.nSub) :
    defs₀ (F := F) (.scVector c s) 0 ()
      = SparseCore.onTile hcore0 hsub0 (fun c s => cc0__sc_body (F := F) (coordsV c s) aF (Memref.isWhole_whole _) aP (Memref.isWhole_whole _)
          aO (Memref.isWhole_whole _) a5 (Memref.isWhole_whole _) a6 (Memref.isWhole_whole _) a7 (Memref.isWhole_whole _)
          cc0_scoped0 cc0_scoped1 cc0_scoped2 cc0_scoped3 cc0_scoped4 cc0_scoped5 cc0_scoped6) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hP : ∀ d, ParamsOk (Pe d) (pos d)) : (K (F := F)).TileObl (D (F := F)) 𝒱 (P Fe Pe pos Fo) v₀ 0 := by
  intro d c i O W hO _ _
  simp only [show (P Fe Pe pos Fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have ht := tile_body Fe Pe pos Fo d (coordsV ⟨_, hci.1⟩ ⟨_, hci.2⟩) hP O W hO
  generalize cc0__sc_body (F := F) (coordsV ⟨_, hci.1⟩ ⟨_, hci.2⟩) aF (Memref.isWhole_whole _) aP (Memref.isWhole_whole _)
    aO (Memref.isWhole_whole _) a5 (Memref.isWhole_whole _) a6 (Memref.isWhole_whole _) a7 (Memref.isWhole_whole _)
    cc0_scoped0 cc0_scoped1 cc0_scoped2 cc0_scoped3 cc0_scoped4 cc0_scoped5 cc0_scoped6 = prog at ht ⊢
  exact ht.trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem core_tiles (hP : ∀ d, ParamsOk (Pe d) (pos d)) (d : Dev nD) (c : Fin 2) (G : S1000x37632.Idx → F .f32) :
    (oLoc d ↦[coreSet (pos d) c.val]{fullShare} G : sProp 𝕄)
      = bigSep Finset.univ fun s : Fin 16 => oLoc d ↦[tileSet (pos d) (2 * s.val + c.val)]{fullShare} G := by
  rw [← tileSet_cover (hP d) c]
  exact pointsTo_biUnion Finset.univ (ℓ := oLoc d) (fun s : Fin 16 => tileSet (pos d) (2 * s.val + c.val)) (tileSet_disjoint (pos d) c)

theorem out_cores (d : Dev nD) (G : S1000x37632.Idx → F .f32) :
    (oLoc d ↦{fullShare} G : sProp 𝕄) = bigSep Finset.univ fun c : Fin 2 => oLoc d ↦[coreSet (pos d) c.val]{fullShare} G := by
  rw [← pointsTo_biUnion Finset.univ (ℓ := oLoc d) (fun c : Fin 2 => coreSet (pos d) c.val) (coreSet_disjoint (pos d)), coreSet_cover]; try rfl

/-- A SparseCore's share is its tiles' and what remains of the tables. -/
theorem core_split (hP : ∀ d, ParamsOk (Pe d) (pos d)) (d : Dev nD) (c : Fin 2) (G G' : S1000x37632.Idx → F .f32) :
    corePts Fe Pe pos G d c ⊢ iprop((bigSep Finset.univ fun s : Fin 16 => tilePts Fe Pe pos G d c s)
      ∗ ((bigSep Finset.univ fun s : Fin 16 => tilePts Fe Pe pos G' d c s) -∗ corePts Fe Pe pos G' d c)) := by
  unfold corePts tilePts
  rw [bigSep_sep', bigSep_sep', bigSep_sep', bigSep_sep', core_tiles Pe pos hP, core_tiles Pe pos hP]
  iintro ⟨HF, HP, HO⟩
  ihave HF' := (pointsTo_toks_split (ℓ := fLoc d) (S := Finset.univ) (f := Fe d) (q2 c) 16) $$ HF
  ihave HP' := (pointsTo_toks_split (ℓ := pLoc d) (S := Finset.univ) (f := Pe d) (q2 c) 16) $$ HP
  icases HF' with ⟨HFr, HF⟩
  icases HP' with ⟨HPr, HP⟩
  isplitl [HF HP HO]
  · isplitl [HF]; · iexact HF
    isplitl [HP]; · iexact HP
    iexact HO
  iintro ⟨HF, HP, HO⟩
  isplitl [HF HFr]
  · iapply (pointsTo_toks_join (ℓ := fLoc d) (S := Finset.univ) (f := Fe d) (q2 c) 16)
    isplitl [HFr]; · iexact HFr
    iexact HF
  isplitl [HP HPr]
  · iapply (pointsTo_toks_join (ℓ := pLoc d) (S := Finset.univ) (f := Pe d) (q2 c) 16)
    isplitl [HPr]; · iexact HPr
    iexact HP
  iexact HO

theorem vecSplit (hP : ∀ d, ParamsOk (Pe d) (pos d)) : (K (F := F)).VecSplit' (P Fe Pe pos Fo) 0 := by
  intro d c
  show corePts Fe Pe pos (Fo d) d (Fin.cast nCore_zero c) ⊢ |={Set.univ}=> iprop(
      (bigSep Finset.univ fun i : Fin ((K (F := F)).nSub 0) => tilePts Fe Pe pos (Fo d) d (Fin.cast nCore_zero c) (Fin.cast nSub_zero i))
      ∗ ((bigSep Finset.univ fun i : Fin ((K (F := F)).nSub 0) => tilePts Fe Pe pos (OUT Fe Pe pos d) d (Fin.cast nCore_zero c) (Fin.cast nSub_zero i))
          -∗ corePts Fe Pe pos (OUT Fe Pe pos d) d (Fin.cast nCore_zero c)))
  rw [bigSep_tasks (F := F) (fun i => tilePts Fe Pe pos (Fo d) d (Fin.cast nCore_zero c) i),
    bigSep_tasks (F := F) (fun i => tilePts Fe Pe pos (OUT Fe Pe pos d) d (Fin.cast nCore_zero c) i)]
  iintro H; imodintro
  iapply (core_split Fe Pe pos hP d (Fin.cast nCore_zero c) (Fo d) (OUT Fe Pe pos d)); iexact H

/-- The call's operands whole are the two SparseCores' shares and what remains of the tables; the results are joined back. -/
theorem call_split (d : Dev nD) :
    iprop((fLoc d ↦{fullShare} Fe d) ∗ (pLoc d ↦{fullShare} Pe d) ∗ oLoc d ↦{fullShare} Fo d)
      ⊢ (iprop((bigSep Finset.univ fun c : Fin ((K (F := F)).nCore 0) => (P Fe Pe pos Fo).st 0 d c)
        ∗ ((bigSep Finset.univ fun c : Fin ((K (F := F)).nCore 0) => (P Fe Pe pos Fo).dn 0 d c)
          -∗ iprop((fLoc d ↦{fullShare} Fe d) ∗ (pLoc d ↦{fullShare} Pe d) ∗ oLoc d ↦{fullShare} OUT Fe Pe pos d))) : sProp 𝕄) := by
  show _ ⊢ (iprop((bigSep Finset.univ fun c : Fin ((K (F := F)).nCore 0) => corePts Fe Pe pos (Fo d) d (Fin.cast nCore_zero c))
        ∗ ((bigSep Finset.univ fun c : Fin ((K (F := F)).nCore 0) => corePts Fe Pe pos (OUT Fe Pe pos d) d (Fin.cast nCore_zero c))
          -∗ iprop((fLoc d ↦{fullShare} Fe d) ∗ (pLoc d ↦{fullShare} Pe d) ∗ oLoc d ↦{fullShare} OUT Fe Pe pos d))) : sProp 𝕄)
  rw [bigSep_cores (F := F) (fun c => corePts Fe Pe pos (Fo d) d c), bigSep_cores (F := F) (fun c => corePts Fe Pe pos (OUT Fe Pe pos d) d c)]
  unfold corePts
  rw [bigSep_sep', bigSep_sep', bigSep_sep', bigSep_sep', out_cores pos, out_cores pos]
  iintro ⟨HF, HP, HO⟩
  ihave HF' := (pointsTo_toks_split (ℓ := fLoc d) (S := Finset.univ) (f := Fe d) fullShare 2) $$ HF
  ihave HP' := (pointsTo_toks_split (ℓ := pLoc d) (S := Finset.univ) (f := Pe d) fullShare 2) $$ HP
  icases HF' with ⟨HFr, HF⟩
  icases HP' with ⟨HPr, HP⟩
  isplitl [HF HP HO]
  · isplitl [HF]; · iexact HF
    isplitl [HP]; · iexact HP
    iexact HO
  iintro ⟨HF, HP, HO⟩
  isplitl [HF HFr]
  · iapply (pointsTo_toks_join (ℓ := fLoc d) (S := Finset.univ) (f := Fe d) fullShare 2)
    isplitl [HFr]; · iexact HFr
    iexact HF
  isplitl [HP HPr]
  · iapply (pointsTo_toks_join (ℓ := pLoc d) (S := Finset.univ) (f := Pe d) fullShare 2)
    isplitl [HPr]; · iexact HPr
    iexact HP
  iexact HO

/-! ## The launch's ghost state -/

def u₀ : UU := (initOf (K (F := F)).hsCells (K (F := F)).hsToks, 1)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P Fe Pe pos Fo).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P Fe Pe pos Fo).x q thr) = bigSep Finset.univ fun _ => iprop(emp) from
    bigSep_congr fun _ _ => bigSep_univ_of_subsingleton (0 : Fin 1), emp_all]
  iempintro

end Cert.Proof.Tile
-- ==== Proof.Ops.lean ====
module

public import proofs.«01_k».proof.Proof.Launch
public import Idealize.ShloMosaic.Lib.StableHlo.RunHlo

@[expose] public section

/-! # The host code before the call, as a list of operations -/

noncomputable section

namespace Cert.Proof.Tile

open Cert.KernelIdeal Cert.KernelIdeal.Gen
open Idealize.ShloMosaic Idealize.SL.Sem
open Idealize.ShloMosaic.StableHlo (IsSeq seq)

variable {F : FTy → Type} [FloatOps F]

abbrev HostProg (F : FTy → Type) [FloatOps F] : Type 1 :=
  Prog (TpuEff nD τ sig (Elt F) (SparseCore.Sig (Pipeline.Sig Λ₀ (Fin 0) fun p => (pcfgs (F := F) p).Adm) 1) .tc) PUnit

/-- `p` runs the operations `ops` and then `k`. -/
def RunsThen (p : HostProg F) (ops : List (HloOp τ sig (Elt F))) (k : HostProg F) : Prop := p = seq ops >>= fun _ => k

theorem RunsThen.nil {k : HostProg F} : RunsThen k [] k := rfl

theorem RunsThen.cons {op : HloOp τ sig (Elt F)} {p k : HostProg F} {ops : List (HloOp τ sig (Elt F))} (h : RunsThen p ops k) :
    RunsThen ((hlo rfl op fun _ => .ret (⟨⟩ : PUnit)) >>= fun _ => p) (op :: ops) k := by
  unfold RunsThen at h ⊢; rw [h]; rfl

theorem RunsThen.last {op : HloOp τ sig (Elt F)} : RunsThen (hlo rfl op fun _ => .ret (⟨⟩ : PUnit)) [op] (pure ⟨⟩) := rfl

theorem RunsThen.call {q p k : HostProg F} {l ops : List (HloOp τ sig (Elt F))} (hq : IsSeq q l) (h : RunsThen p ops k) :
    RunsThen (q >>= fun _ => p) (l ++ ops) k := by
  unfold RunsThen IsSeq at *; rw [h, hq, StableHlo.seq_append, bind_assoc]

theorem round_seq (a : StableHlo.TRef sig ⟨S1000, .f32⟩) (φ : fn_round.Bufs) :
    IsSeq (fn_round.body (F := F) a φ) [StableHlo.TRef.unary a φ.v0 Host.roundeven] := rfl

theorem clip_seq (a : StableHlo.TRef sig ⟨S1000, .i32⟩) (lo hi : StableHlo.TRef sig ⟨S_, .i32⟩) (φ : fn_clip.Bufs) :
    IsSeq (fn_clip.body (F := F) a lo hi φ) [StableHlo.TRef.unary lo φ.v0 id, StableHlo.TRef.unary φ.v0 φ.v1 (broadcastInDim S1000 ![] bcast_S_S1000),
      StableHlo.TRef.binary φ.v1 a φ.v2 maxsi, StableHlo.TRef.unary hi φ.v3 id,
      StableHlo.TRef.unary φ.v3 φ.v4 (broadcastInDim S1000 ![] bcast_S_S1000), StableHlo.TRef.binary φ.v4 φ.v2 φ.v5 minsi] := rfl

theorem clip_0_seq (a : StableHlo.TRef sig ⟨S1000x7, .i32⟩) (lo hi : StableHlo.TRef sig ⟨S_, .i32⟩) (φ : fn_clip_0.Bufs) :
    IsSeq (fn_clip_0.body (F := F) a lo hi φ) [StableHlo.TRef.unary lo φ.v0 id, StableHlo.TRef.unary φ.v0 φ.v1 (broadcastInDim S1000x7 ![] bcast_S_S1000x7),
      StableHlo.TRef.binary φ.v1 a φ.v2 maxsi, StableHlo.TRef.unary hi φ.v3 id,
      StableHlo.TRef.unary φ.v3 φ.v4 (broadcastInDim S1000x7 ![] bcast_S_S1000x7), StableHlo.TRef.binary φ.v4 φ.v2 φ.v5 minsi] := rfl

theorem argsort_seq (a : StableHlo.TRef sig ⟨S1000, .i32⟩) (φ : fn_argsort.Bufs) :
    IsSeq (fn_argsort.body (F := F) a φ) [StableHlo.TRef.nullary φ.v0 (iotaInDim S1000 32 0),
      StableHlo.TRef.binary a φ.v0 φ.v1_0 (fun x y => (Host.sort2 S1000 0 comparator_i32_i32_d0 x y).1),
      StableHlo.TRef.binary a φ.v0 φ.v1_1 (fun x y => (Host.sort2 S1000 0 comparator_i32_i32_d0 x y).2)] := rfl

theorem pad_seq (a : StableHlo.TRef sig ⟨S1000x8x16, .i32⟩) (v : StableHlo.TRef sig ⟨S_, .i32⟩) (φ : fn_pad.Bufs) :
    IsSeq (fn_pad.body (F := F) a v φ) [StableHlo.TRef.unary v φ.v0 id,
      StableHlo.TRef.binary a φ.v0 φ.v1
        (fun x v => pad S1024x8x16 ![0, 0, 0] ![24, 0, 0] ![0, 0, 0] x v pads_S1000x8x16_S1024x8x16_0240_000_000 h_S_)] := rfl

/-- The operations of @main's first third. -/
def pre0 : {ops : List (HloOp τ sig (Elt F)) // ∀ d, RunsThen (main_part0 (F := F) d) ops (pure ⟨⟩)} := by
  apply Subtype.mk
  intro d; unfold main_part0
  repeat (first
    | exact RunsThen.last
    | apply RunsThen.call (round_seq _ _)
    | apply RunsThen.call (clip_seq _ _ _ _)
    | apply RunsThen.cons)

/-- The operations of @main's second third. -/
def pre1 : {ops : List (HloOp τ sig (Elt F)) // ∀ d, RunsThen (main_part1 (F := F) d) ops (pure ⟨⟩)} := by
  apply Subtype.mk
  intro d; unfold main_part1
  repeat (first
    | exact RunsThen.last
    | apply RunsThen.call (clip_0_seq _ _ _ _)
    | apply RunsThen.call (argsort_seq _ _)
    | apply RunsThen.cons)

/-- What follows the host code: the call, and the output reshaped. -/
def tailMain (d : Dev nD) : HostProg F := do
  sc.run d 0
  hlo rfl (StableHlo.reshape main_v133 main_v134 (rfl : (.f32 : EltTy) = .f32) shapeCasts_S1000x37632_S1000x768x7x7) (fun _ => .ret ⟨⟩)
  pure ⟨⟩

/-- The operations of @main's last third before the call. -/
def pre2 : {ops : List (HloOp τ sig (Elt F)) // ∀ d, RunsThen (main_part2 (F := F) d) ops (tailMain d)} := by
  apply Subtype.mk
  intro d; unfold main_part2
  repeat (first
    | exact RunsThen.nil
    | apply RunsThen.call (pad_seq _ _ _)
    | apply RunsThen.cons)

def ops0 : List (HloOp τ sig (Elt F)) := (pre0 (F := F)).1
def ops1 : List (HloOp τ sig (Elt F)) := (pre1 (F := F)).1
def ops2 : List (HloOp τ sig (Elt F)) := (pre2 (F := F)).1

theorem main_eq (d : Dev nD) : main (F := F) d = seq (ops0 ++ (ops1 ++ ops2)) >>= fun _ => tailMain d := by
  unfold main
  rw [StableHlo.seq_append, StableHlo.seq_append, (pre0 (F := F)).2 d, (pre1 (F := F)).2 d, (pre2 (F := F)).2 d]
  simp only [bind_assoc, pure_bind]
  rfl

end Cert.Proof.Tile
-- ==== Proof.Host.lean ====
module

public import proofs.«01_k».proof.Proof.Ops

@[expose] public section

/-! # @main's run: the host code, the call, the reshape -/

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr after seq tcRefs)
open Idealize.ShloMosaic.Rounds

variable {F : FTy → Type} [FloatOps F]

local notation "𝕄" => MT nD τ sig (HIx 1) (Elt F) ℕ UU ℕ

abbrev tcb (b : Ref sig .tc) : DevRef τ sig := Proc.devRef .tc b

/-- All that @main does before the call. -/
@[irreducible] def opsPre : List (HloOp τ sig (Elt F)) := ops0 ++ (ops1 ++ ops2)

theorem main_pre (d : Dev nD) : main (F := F) d = seq opsPre >>= fun _ => tailMain d := by
  rw [main_eq]; unfold opsPre; rfl

def reshapeOp : HloOp τ sig (Elt F) :=
  StableHlo.reshape main_v133 main_v134 (rfl : (.f32 : EltTy) = .f32) shapeCasts_S1000x37632_S1000x768x7x7

theorem pre_bufs : ∀ op ∈ opsPre (F := F), op.bufs ⊆ tcRefs τ sig := by
  unfold opsPre ops0 ops1 ops2 pre0 pre1 pre2
  simp only [List.cons_append, List.nil_append, List.forall_mem_cons, List.not_mem_nil, false_imp_iff, implies_true, and_true]
  simp [StableHlo.TRef.unary, StableHlo.TRef.binary, StableHlo.TRef.nullary]

theorem pre_fresh : ∀ op ∈ opsPre (F := F), op.fresh = ∅ := by
  unfold opsPre
  exact List.forall_iff_forall_mem.mp (StableHlo.forall_fresh_of_map rfl)

theorem reshape_sub : (reshapeOp (F := F)).bufs ⊆ tcRefs τ sig := StableHlo.reshape_bufs_sub ..

variable (m : (ℓ : Loc nD τ sig) → Buf (Elt F) ℓ) (ρ : Dev nD → PrngReg)

/-- The launch contents of a device's buffers. -/
abbrev V0 (d : Dev nD) : Valuation τ sig (Elt F) := fun b => m (d, b)
/-- The contents at the call. -/
def V1 (d : Dev nD) : Valuation τ sig (Elt F) := after opsPre (V0 m d)

/-- The features and the parameters as the call finds them. -/
def Fe (d : Dev nD) : S2x2x196x384.Idx → F .f32 := V1 m d (tcb main_v132)
def Pe (d : Dev nD) : S1024x8x16.Idx → BitVec 32 := V1 m d (tcb main_v129)
def Fo (d : Dev nD) : S1000x37632.Idx → F .f32 := V1 m d (tcb main_v133)

variable (pos : Dev nD → ℕ → ℕ)

/-- The contents after the call. -/
def V2 (d : Dev nD) : Valuation τ sig (Elt F) := Function.update (V1 m d) (tcb main_v133) (OUT (Fe m) (Pe m) pos d)
/-- The contents at the end. -/
def V3 (d : Dev nD) : Valuation τ sig (Elt F) := after [reshapeOp] (V2 m pos d)

theorem unscopedBufs_held (d : Dev nD) (W : Valuation τ sig (Elt F)) :
    (unscopedBufs d (fun b => W (tcb b)) : sProp 𝕄) = held (SparseCore.T d) (tcRefs τ sig) W := by
  unfold unscopedBufs StableHlo.held StableHlo.tcRefs
  rw [show (Finset.univ.filter fun b : Ref sig .tc => ¬ b.isScoped) = Finset.univ by decide, BI.bigSep_map]
  rfl

/-- The call's operands among the buffers. -/
def callRefs : Finset (DevRef τ sig) := {tcb main_v132, tcb main_v129, tcb main_v133}

theorem callRefs_sub : callRefs ⊆ tcRefs τ sig := by
  intro b hb
  simp only [callRefs, Finset.mem_insert, Finset.mem_singleton] at hb
  rcases hb with rfl | rfl | rfl <;> exact StableHlo.devRef_mem_tcRefs _

theorem ne_out {b : Ref sig .tc} (h : b ≠ main_v133) : tcb b ≠ tcb main_v133 := StableHlo.devRef_ne_of_ne h

theorem held_call (d : Dev nD) (W : Valuation τ sig (Elt F)) :
    (held (SparseCore.T d) callRefs W : sProp 𝕄)
      = iprop((fLoc d ↦{fullShare} W (tcb main_v132)) ∗ (pLoc d ↦{fullShare} W (tcb main_v129)) ∗ oLoc d ↦{fullShare} W (tcb main_v133)) := by
  unfold StableHlo.held callRefs
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

theorem V2_out (d : Dev nD) : V2 m pos d (tcb main_v133) = OUT (Fe m) (Pe m) pos d := Function.update_self ..
theorem V2_ne (d : Dev nD) {b : Ref sig .tc} (h : b ≠ main_v133) : V2 m pos d (tcb b) = V1 m d (tcb b) :=
  Function.update_of_ne (ne_out h) ..

/-- Everything but the call's operands is the same after the call. -/
theorem rest_same (d : Dev nD) :
    (held (SparseCore.T d) (tcRefs τ sig \ callRefs) (V1 m d) : sProp 𝕄) = held (SparseCore.T d) (tcRefs τ sig \ callRefs) (V2 m pos d) :=
  held_congr _ fun b hb => (Function.update_of_ne (fun e => (Finset.mem_sdiff.mp hb).2 (by rw [e]; simp [callRefs])) _ _).symm

/-- What is kept to the end: the arguments and the result. -/
abbrev FIN (d : Dev nD) : sProp 𝕄 := held (SparseCore.T d) (tcRefs τ sig) (V3 m pos d)

theorem hmain (κ : GSem nD τ sig → ℕ) (d : Dev nD) :
    iprop((K (F := F)).ctx EH (P (Fe m) (Pe m) pos (Fo m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m pos d ∗ (K (F := F)).tcEnd d) := by
  unfold SparseCore.Cfg.tcRes SparseCore.Cfg.tcEnd
  rw [show (unscopedBufs d (fun b => m ((SparseCore.T d).loc b)) : sProp 𝕄) = held (SparseCore.T d) (tcRefs τ sig) (V0 m d) from
    unscopedBufs_held d (V0 m d), main_pre]
  iintro ⟨#Hctx, Hst, ⟨Hb, Hh, Hts, -⟩, -⟩
  iapply (StableHlo.wp_seq 𝒱 none Set.univ d (tcRefs τ sig) (fun _ => tailMain d) (opsPre (F := F)) pre_bufs pre_fresh (V0 m d)) $$ [Hb Hh]
  · isplitl [Hb]; · iexact Hb
    iexact Hh
  iintro ⟨Hb, Hh⟩
  ihave Hh' := (Entails.of_eq (show (held (SparseCore.T d) (tcRefs τ sig) (after opsPre (V0 m d)) : sProp 𝕄) = _ from
    held_sub_split (SparseCore.T d) callRefs_sub (V1 m d))) $$ Hh
  icases Hh' with ⟨Hcall, Hrest⟩
  ihave Hcall' := (Entails.of_eq (show (held (SparseCore.T d) callRefs (V1 m d) : sProp 𝕄)
      = iprop((fLoc d ↦{fullShare} Fe m d) ∗ (pLoc d ↦{fullShare} Pe m d) ∗ oLoc d ↦{fullShare} Fo m d) from held_call d (V1 m d))) $$ Hcall
  ihave Hsp := (call_split (Fe m) (Pe m) pos (Fo m) d) $$ Hcall'
  icases Hsp with ⟨Hst0, Hback⟩
  unfold tailMain
  simp only [wp_bind, wp_pure]
  iapply ((K (F := F)).wp_run (D (F := F)) 𝒱 (EH := EH) (P := P (Fe m) (Pe m) pos (Fo m)) κ d 0) $$ [Hst Hst0 Hback Hb Hts Hrest]
  isplitr; · iexact Hctx
  isplitl [Hst]; · iexact Hst
  isplitl [Hst0]; · iexact Hst0
  iintro ⟨Hst, Hdn⟩
  ihave Hcall := Hback $$ Hdn
  ihave Hcall' := (Entails.of_eq (show (iprop((fLoc d ↦{fullShare} Fe m d) ∗ (pLoc d ↦{fullShare} Pe m d) ∗ oLoc d ↦{fullShare} OUT (Fe m) (Pe m) pos d) : sProp 𝕄)
      = held (SparseCore.T d) callRefs (V2 m pos d) by
    rw [held_call, V2_out, V2_ne m pos d (by decide), V2_ne m pos d (by decide)]; rfl)) $$ Hcall
  ihave Hrest' := (Entails.of_eq (rest_same m pos d)) $$ Hrest
  ihave Hh := (Entails.of_eq (held_sub_split (SparseCore.T d) callRefs_sub (V2 m pos d)).symm) $$ [Hcall' Hrest']
  · isplitl [Hcall']; · iexact Hcall'
    iexact Hrest'
  iapply (StableHlo.wp_hlo_within 𝒱 (SparseCore.T d) none Set.univ (op := reshapeOp) (S := tcRefs τ sig) reshape_sub (V := V2 m pos d)) $$ [Hb Hh]
  · isplitl [Hb]; · iexact Hb
    iexact Hh
  iintro ⟨Hb, Hh⟩
  rw [wp_ret]; imodintro; imodintro
  isplitl [Hst]; · iexact Hst
  isplitl [Hh]; · iexact Hh
  isplitl [Hb]; · iexact Hb
  iexact Hts

/-- What a buffer of @main ends at. -/
def fq (d : Dev nD) (s' : Phys nD τ sig (Elt F)) : Prop :=
  s'.mem.mem ((SparseCore.T d).loc main_arg0) = V3 m pos d (tcb main_arg0) ∧ s'.mem.mem ((SparseCore.T d).loc main_arg1) = V3 m pos d (tcb main_arg1)
    ∧ s'.mem.mem ((SparseCore.T d).loc main_v134) = V3 m pos d (tcb main_v134)

set_option maxRecDepth 16384 in
theorem held_agree (d : Dev nD) (W : Valuation τ sig (Elt F)) (s' : Phys nD τ sig (Elt F)) (b : Ref sig .tc) :
    iprop(held (SparseCore.T d) (tcRefs τ sig) W ∗ SI s') ⊢ (⌜s'.mem.mem ((SparseCore.T d).loc b) = W (tcb b)⌝ : sProp 𝕄) := by
  rw [held_sub_split (SparseCore.T d) (Finset.singleton_subset_iff.mpr (StableHlo.devRef_mem_tcRefs b)) W]
  unfold StableHlo.held
  rw [bigSep_singleton]
  iintro ⟨⟨Hi, -⟩, HSI⟩
  ihave H := (SI_pointsTo_agree (st := s') (ℓ := (SparseCore.T d).loc b) (I := Finset.univ) (q := fullShare) (f := W (tcb b))) $$ [HSI Hi]
  · isplitl [HSI]; · iexact HSI
    iexact Hi
  icases H with %h
  ipureintro; exact funext fun i => h i (Finset.mem_univ i)

theorem hfin (d : Dev nD) (s' : Phys nD τ sig (Elt F)) : iprop(FIN m pos d ∗ SI s') ⊢ (⌜fq m pos d s'⌝ : sProp 𝕄) :=
  (BIClass.and_intro (held_agree d (V3 m pos d) s' main_arg0) (BIClass.and_intro (held_agree d (V3 m pos d) s' main_arg1) (held_agree d (V3 m pos d) s' main_v134))).trans
    ((and_mono_right pure_and.1).trans pure_and.1)

/-- What the whole run leaves. -/
def QC : PUnit × MemSt nD τ sig (Elt F) → Prop := fun r =>
  (∀ c : Dev nD, r.2.mem ((SparseCore.T c).loc main_arg0) = V3 m pos c (tcb main_arg0) ∧ r.2.mem ((SparseCore.T c).loc main_arg1) = V3 m pos c (tcb main_arg1)
    ∧ r.2.mem ((SparseCore.T c).loc main_v134) = V3 m pos c (tcb main_v134)) ∧ r.2.sem = fun _ => 0

theorem run_main [∀ e, Nonempty (Elt F e)] (hP : ∀ d, ParamsOk (Pe m d) (pos d)) :
    θ_run (Cert.KernelIdeal.defs (F := F)) (Cert.KernelIdeal.threads (F := F)) ⟨m, fun _ => 0, ρ⟩ (QC m pos) :=
  SparseCore.Cfg.θ_run_sc_quiescent (K := K (F := F)) (D := D (F := F)) (𝒱 := 𝒱) (EH := EH) (P := P (Fe m) (Pe m) pos (Fo m)) (A := ∅) facts v₀
    (fun q hq => match q with | 0 => nomatch hq)
    (fun q _ => match q with | 0 => tileObl (Fe m) (Pe m) pos (Fo m) hP)
    (fun q _ => match q with | 0 => SparseCore.Cfg.VecSplit.of_plain (vecSplit (Fe m) (Pe m) pos (Fo m) hP))
    m ρ main (fun _ => iprop(emp)) (FIN m pos) (u₀ (F := F)) (sep_elim_left.trans (hu₀ (Fe m) (Pe m) pos (Fo m)))
    (hmain m ρ pos) (fq m pos) (hfin m pos) (QC m pos) (fun _ h hz => ⟨h, hz⟩)

end Cert.Proof.Tile
-- ==== Proof.Reads.lean ====
module

public import proofs.«01_k».proof.Proof.Host
public import Idealize.ShloMosaic.Lib.StableHlo.ReadAt
public import Idealize.ShloMosaic.Lib.Tactic.WordOmega
public import Idealize.ShloMosaic.Lib.SortFacts
public import Idealize.ShloMosaic.Lib.Routing.Ops

@[expose] public section

/-! What the operations before the SparseCore call compute, entry by entry: the rounded coordinates, the window bounds read
    from the two tables, the permutation that sorts the rows by batch, and the packed array of parameters. -/

noncomputable section

namespace Cert.Proof.Tile

open Cert.KernelIdeal Cert.KernelIdeal.Gen
open Idealize.ShloMosaic
open Idealize.ShloMosaic.StableHlo (after)

variable {F : FTy → Type} [FloatOps F]

/-! ## The words -/

/-- Column `k` of row `r` of the RoI array, scaled by 1/16 and rounded, as a word. -/
def cnv (A : S1000x5.Idx → F .f32) (k : Fin 5) (r : Fin 1000) : BitVec 32 :=
  FloatOps.fptosi 32 (FloatOps.hostUnary HostUnaryOp.roundeven (FloatOps.mulf (A (ix2 r k)) (FloatOps.ofBits FTy.f32 1031798784#32)))

/-- The batch column of row `r`, as a word. -/
def bat (A : S1000x5.Idx → F .f32) : S1000.Idx → BitVec 32 := fun i => FloatOps.fptosi 32 (A (ix2 (i 0) 0))

/-- The size of an RoI from its start and its end, kept within the tables' columns. -/
def sizeW (s e : BitVec 32) : BitVec 32 :=
  IntOp.minsi 15#32 (IntOp.maxsi 1#32 (IntOp.addi (IntOp.subi e s) 1#32))

/-- A word clipped to 0 … 14. -/
def clip14 (w : BitVec 32) : BitVec 32 := IntOp.minsi 14#32 (IntOp.maxsi 0#32 w)

/-- Entry of row `h` of a table at the column a word names. -/
def tab (t : S7x16.Idx → BitVec 32) (h : Fin 7) (w : BitVec 32) : BitVec 32 := t (ix2 h ⟨min w.toNat 15, by omega⟩)

/-- The table of the bins' first offsets. -/
def tabLo : S7x16.Idx → BitVec 32 := fun i => lit0 (S7x16.rowMajor i)
/-- The table of the bins' ends. -/
def tabHi : S7x16.Idx → BitVec 32 := fun i => lit1 (S7x16.rowMajor i)

/-- The row that the stable sort by batch puts at place `r`. -/
@[irreducible] def srt (b : S1000.Idx → BitVec 32) (r : Fin 1000) : Fin 1000 :=
  sortedFrom (fun k k' => IntOp.cmpi .slt (b (ix1 k)) (b (ix1 k')) == 1#1) r

theorem srt_bij (b : S1000.Idx → BitVec 32) : Function.Bijective (srt b) := by
  unfold srt
  exact ⟨sortedFrom_injective _, sortedFrom_surjective _⟩

theorem clip14_le (w : BitVec 32) : (clip14 w).toNat ≤ 14 := by
  have h14 : (14#32 : BitVec 32).toInt = 14 := by decide
  have h0 : (0#32 : BitVec 32).toInt = 0 := by decide
  have h : (clip14 w).toInt ≤ 14 ∧ 0 ≤ (clip14 w).toInt := by
    unfold clip14 IntOp.minsi IntOp.maxsi
    simp only [BitVec.sle_iff_toInt_le, BitVec.slt_iff_toInt_lt]
    split_ifs <;> omega
  have := BitVec.toInt_eq_toNat_cond (clip14 w)
  split at this <;> omega

theorem sizeW_bounds (s e : BitVec 32) : 1 ≤ (sizeW s e).toNat ∧ (sizeW s e).toNat ≤ 15 := by
  have h15 : (15#32 : BitVec 32).toInt = 15 := by decide
  have h1 : (1#32 : BitVec 32).toInt = 1 := by decide
  have h : (sizeW s e).toInt ≤ 15 ∧ 1 ≤ (sizeW s e).toInt := by
    unfold sizeW IntOp.minsi IntOp.maxsi
    simp only [BitVec.sle_iff_toInt_le, BitVec.slt_iff_toInt_lt]
    split_ifs <;> omega
  have := BitVec.toInt_eq_toNat_cond (sizeW s e)
  split at this <;> omega

/-- A column of the tables picked per row: the word names the column. -/
theorem gather_tab (t : S7x16.Idx → BitVec 32) (idx : IVec S1000x1 32) (h : Fin 7) (r : Fin 1000)
    (hi : (idx (ix2 r 0)).toNat ≤ 15) :
    Host.gather gather_S7x16_S1000x1_S7x1000_0_1_n_n_1_1_71 t idx (ix2 h r) = tab t h (idx (ix2 r 0)) := by
  set g := gather_S7x16_S1000x1_S7x1000_0_1_n_n_1_1_71 with hg
  unfold Host.gather tab
  refine congrArg t (funext fun a => Fin.ext ?_)
  show g.start (ix2 h r) idx a + g.batchCoord (ix2 h r) a + g.offCoord (ix2 h r) a = _
  rw [GatherDims.batchCoord_eq_zero _ _ _ (by rw [hg]; exact List.not_mem_nil)]
  match a with
  | ⟨0, _⟩ =>
    have h0 : g.start (ix2 h r) idx (0 : Fin 2) = 0 := by
      unfold GatherDims.start; rw [dif_neg (by rw [hg]; decide)]
    have h1 : g.offCoord (ix2 h r) (0 : Fin 2) = h.val := by
      unfold GatherDims.offCoord; rw [dif_pos (by rw [hg]; decide)]; rfl
    show g.start (ix2 h r) idx (0 : Fin 2) + 0 + g.offCoord (ix2 h r) (0 : Fin 2) = h.val
    omega
  | ⟨1, _⟩ =>
    have h0 : g.start (ix2 h r) idx (1 : Fin 2) = min (idx (ix2 r 0)).toInt.toNat 15 := by
      unfold GatherDims.start
      rw [dif_pos (by rw [hg]; decide)]
      have hs : g.siIdx (ix2 h r) ⟨g.startIndexMap.idxOf (1 : Fin 2), List.idxOf_lt_length_iff.2 (by rw [hg]; decide)⟩ = ix2 r 0 := by
        funext b
        match b with
        | ⟨0, _⟩ => rfl
        | ⟨1, _⟩ => rfl
      rw [hs]; rfl
    have h1 : g.offCoord (ix2 h r) (1 : Fin 2) = 0 := by
      unfold GatherDims.offCoord; rw [dif_neg (by rw [hg]; decide)]
    have h2 : (idx (ix2 r 0)).toInt.toNat = (idx (ix2 r 0)).toNat := by
      rw [BitVec.toInt_eq_toNat_cond]; split <;> omega
    show g.start (ix2 h r) idx (1 : Fin 2) + 0 + g.offCoord (ix2 h r) (1 : Fin 2) = min (idx (ix2 r 0)).toNat 15
    omega

/-- The same where the word is a size behind jnp's wrap of a negative index, which does nothing to it. -/
theorem gather_size (t : S7x16.Idx → BitVec 32) (idx : IVec S1000x1 32) (h : Fin 7) (r : Fin 1000) (s e : BitVec 32)
    (hi : idx (ix2 r 0) = Scalar.select (IntOp.cmpi .slt (sizeW s e) 0#32) (IntOp.addi (sizeW s e) 16#32) (sizeW s e)) :
    Host.gather gather_S7x16_S1000x1_S7x1000_0_1_n_n_1_1_71 t idx (ix2 h r) = tab t h (sizeW s e) := by
  have hb := sizeW_bounds s e
  have hi' : idx (ix2 r 0) = sizeW s e := by
    rw [hi]
    generalize sizeW s e = w at *
    clear hi
    word_omega
  rw [gather_tab t idx h r (by rw [hi']; exact hb.2), hi']

/-- A row picked per row of the parameters: the word, behind the same wrap, names the row. -/
theorem gather_rows {α : Type} (x : S1000x7.Idx → α) (idx : IVec S1000x1 32) (r p : Fin 1000) (h : Fin 7)
    (hi : idx (ix2 r 0) = Scalar.select (IntOp.cmpi .slt (BitVec.ofNat 32 p.val) 0#32)
      (IntOp.addi (BitVec.ofNat 32 p.val) 1000#32) (BitVec.ofNat 32 p.val)) :
    Host.gather gather_S1000x7_S1000x1_S1000x7_1_0_n_n_0_1_17 x idx (ix2 r h) = x (ix2 p h) := by
  refine Routing.gather_row gather_S1000x7_S1000x1_S1000x7_1_0_n_n_0_1_17 rfl rfl rfl rfl rfl x idx r h p ?_ (by decide)
  change idx (ix2 r 0) = _
  rw [hi]
  have hp : (BitVec.ofNat 32 p.val).toNat = p.val := by rw [BitVec.toNat_ofNat]; omega
  have := p.2
  generalize BitVec.ofNat 32 p.val = w at *
  clear hi
  word_omega

/-- The sort of the row numbers by batch. -/
theorem argsort_at (x : S1000.Idx → BitVec 32) (r : Fin 1000) :
    (Host.sort2 S1000 0 comparator_i32_i32_d0 x (iotaInDim S1000 32 0)).2 (ix1 r) = BitVec.ofNat 32 (srt x r).val := by
  have e : ∀ k : Fin 1000, Shape.Idx.along (s := S1000) (ix1 r) (0 : Fin 1) k = (ix1 k : S1000.Idx) := by
    intro k
    funext b
    obtain rfl : b = 0 := Subsingleton.elim _ _
    rfl
  have hs : ∀ k : Fin 1000, (iotaInDim S1000 32 0 : S1000.Idx → BitVec 32) (Shape.Idx.along (s := S1000) (ix1 r) (0 : Fin 1) k)
      = BitVec.ofNat 32 k.val := by
    intro k
    rw [e k]
    rfl
  have hf : (fun k k' : Fin 1000 => comparator_i32_i32_d0
        (x (Shape.Idx.along (s := S1000) (ix1 r) (0 : Fin 1) k), (iotaInDim S1000 32 0 : S1000.Idx → BitVec 32) (Shape.Idx.along (s := S1000) (ix1 r) (0 : Fin 1) k))
        (x (Shape.Idx.along (s := S1000) (ix1 r) (0 : Fin 1) k'), (iotaInDim S1000 32 0 : S1000.Idx → BitVec 32) (Shape.Idx.along (s := S1000) (ix1 r) (0 : Fin 1) k'))
          == 1#1)
      = fun k k' => IntOp.cmpi .slt (x (ix1 k)) (x (ix1 k')) == 1#1 := by
    funext k k'
    rw [e k, e k']
    rfl
  unfold Host.sort2 srt
  rw [dif_pos (show 0 < S1000.rank by decide)]
  exact (hs _).trans (congrArg (fun f => BitVec.ofNat 32 (sortedFrom f r).val) hf)

/-! ## The first operations: words of the RoIs -/

section reads
variable (W : Valuation τ sig (Elt F))

abbrev rois : S1000x5.Idx → F .f32 := W (Proc.devRef .tc main_arg1)

theorem r0_v2 (r : Fin 1000) :
    (after ops0 W (Proc.devRef .tc main_v2) : S1000.Idx → BitVec 32) (ix1 r) = bat (rois W) (ix1 r) := by
  unfold ops0 pre0
  after_reads_at
  rfl

theorem r0_v8 (r : Fin 1000) :
    (after ops0 W (Proc.devRef .tc main_v8) : S1000.Idx → BitVec 32) (ix1 r) = cnv (rois W) 1 r := by
  unfold ops0 pre0
  after_reads_at
  rfl

theorem r0_v14 (r : Fin 1000) :
    (after ops0 W (Proc.devRef .tc main_v14) : S1000.Idx → BitVec 32) (ix1 r) = cnv (rois W) 2 r := by
  unfold ops0 pre0
  after_reads_at
  rfl

theorem r0_v30 (r : Fin 1000) :
    (after ops0 W (Proc.devRef .tc main_v30) : S1000.Idx → BitVec 32) (ix1 r)
      = sizeW (cnv (rois W) 1 r) (cnv (rois W) 3 r) := by
  unfold ops0 pre0
  after_reads_at
  rfl

theorem r0_v34 (r : Fin 1000) :
    (after ops0 W (Proc.devRef .tc main_v34) : S1000.Idx → BitVec 32) (ix1 r)
      = sizeW (cnv (rois W) 2 r) (cnv (rois W) 4 r) := by
  unfold ops0 pre0
  after_reads_at
  rfl

theorem r0_c : (after ops0 W (Proc.devRef .tc main_c) : S7x16.Idx → BitVec 32) = tabLo := by
  unfold ops0 pre0
  after_reads_simp
  rfl

theorem r0_c_0 : (after ops0 W (Proc.devRef .tc main_c_0) : S7x16.Idx → BitVec 32) = tabHi := by
  unfold ops0 pre0
  after_reads_simp
  rfl

theorem r0_v45 (r : Fin 1000) (h : Fin 7) :
    (after ops0 W (Proc.devRef .tc main_v45) : S1000x7.Idx → BitVec 32) (ix2 r h)
      = IntOp.addi (tab tabLo h (sizeW (cnv (rois W) 2 r) (cnv (rois W) 4 r))) (cnv (rois W) 2 r) := by
  unfold ops0 pre0
  after_reads_at
  rw [gather_size _ _ _ _ (cnv (rois W) 2 r) (cnv (rois W) 4 r)]
  · rfl
  · pointwise
    rfl

/-! ## The next ones: the bounds, and the sort by batch -/

theorem r1_v46 (r : Fin 1000) (h : Fin 7) :
    (after ops1 W (Proc.devRef .tc main_v46) : S1000x7.Idx → BitVec 32) (ix2 r h)
      = clip14 ((W (Proc.devRef .tc main_v45) : S1000x7.Idx → BitVec 32) (ix2 r h)) := by
  unfold ops1 pre1
  after_reads_at
  rfl

theorem r1_v58 (r : Fin 1000) (h : Fin 7) (s e : BitVec 32)
    (hz : (W (Proc.devRef .tc main_v34) : S1000.Idx → BitVec 32) (ix1 r) = sizeW s e) :
    (after ops1 W (Proc.devRef .tc main_v58) : S1000x7.Idx → BitVec 32) (ix2 r h)
      = clip14 (IntOp.addi (tab (W (Proc.devRef .tc main_c_0)) h (sizeW s e))
        ((W (Proc.devRef .tc main_v14) : S1000.Idx → BitVec 32) (ix1 r))) := by
  unfold ops1 pre1
  after_reads_at
  rw [gather_size _ _ _ _ s e]
  · rfl
  · pointwise
    rw [hz]

theorem r1_v70 (r : Fin 1000) (h : Fin 7) (s e : BitVec 32)
    (hz : (W (Proc.devRef .tc main_v30) : S1000.Idx → BitVec 32) (ix1 r) = sizeW s e) :
    (after ops1 W (Proc.devRef .tc main_v70) : S1000x7.Idx → BitVec 32) (ix2 r h)
      = clip14 (IntOp.addi (tab (W (Proc.devRef .tc main_c)) h (sizeW s e))
        ((W (Proc.devRef .tc main_v8) : S1000.Idx → BitVec 32) (ix1 r))) := by
  unfold ops1 pre1
  after_reads_at
  rw [gather_size _ _ _ _ s e]
  · rfl
  · pointwise
    rw [hz]

theorem r1_v82 (r : Fin 1000) (h : Fin 7) (s e : BitVec 32)
    (hz : (W (Proc.devRef .tc main_v30) : S1000.Idx → BitVec 32) (ix1 r) = sizeW s e) :
    (after ops1 W (Proc.devRef .tc main_v82) : S1000x7.Idx → BitVec 32) (ix2 r h)
      = clip14 (IntOp.addi (tab (W (Proc.devRef .tc main_c_0)) h (sizeW s e))
        ((W (Proc.devRef .tc main_v8) : S1000.Idx → BitVec 32) (ix1 r))) := by
  unfold ops1 pre1
  after_reads_at
  rw [gather_size _ _ _ _ s e]
  · rfl
  · pointwise
    rw [hz]

theorem r1_v83 (r : Fin 1000) :
    (after ops1 W (Proc.devRef .tc main_v83) : S1000.Idx → BitVec 32) (ix1 r)
      = BitVec.ofNat 32 (srt (W (Proc.devRef .tc main_v2)) r).val := by
  unfold ops1 pre1
  after_reads_at
  exact argsort_at _ _

theorem r1_v88 : (after ops1 W (Proc.devRef .tc main_v88) : S1000.Idx → BitVec 32) = fun _ => 0#32 := by
  unfold ops1 pre1
  after_reads_simp
  rfl

/-- How many rows belong to batch 0, as the program sums it. -/
def zerosW (b : S1000.Idx → BitVec 32) : BitVec 32 :=
  Host.reduce IntOp.addi (extui 32 (cmpi .eq b (fun _ => 0#32)) (by decide)) (constantI S_ 32 0#32) reducesTo_S1000_S_d0 h_S_ ix0

theorem r1_v87 : (after ops1 W (Proc.devRef .tc main_v87) : S_.Idx → BitVec 32) ix0 = zerosW (W (Proc.devRef .tc main_v2)) := by
  unfold ops1 pre1
  after_reads_at
  rfl

/-! ## The packed parameters -/

theorem r2_hs (r p : Fin 1000) (h : Fin 7) (h88 : (W (Proc.devRef .tc main_v88) : S1000.Idx → BitVec 32) = fun _ => 0#32)
    (hp : (W (Proc.devRef .tc main_v83) : S1000.Idx → BitVec 32) (ix1 r) = BitVec.ofNat 32 p.val) :
    (after ops2 W (Proc.devRef .tc main_v129) : S1024x8x16.Idx → BitVec 32) (ix3 ⟨r, by omega⟩ ⟨h, by omega⟩ 0)
      = (W (Proc.devRef .tc main_v46) : S1000x7.Idx → BitVec 32) (ix2 p h) := by
  unfold ops2 pre2
  after_reads_at
  repeat (after_reads_simp; pointwise)
  rw [dif_pos (by omega), gather_rows _ _ _ p]
  pointwise
  rw [h88, hp]

theorem r2_he (r p : Fin 1000) (h : Fin 7)
    (hp : (W (Proc.devRef .tc main_v83) : S1000.Idx → BitVec 32) (ix1 r) = BitVec.ofNat 32 p.val) :
    (after ops2 W (Proc.devRef .tc main_v129) : S1024x8x16.Idx → BitVec 32) (ix3 ⟨r, by omega⟩ ⟨h, by omega⟩ 1)
      = (W (Proc.devRef .tc main_v58) : S1000x7.Idx → BitVec 32) (ix2 p h) := by
  unfold ops2 pre2
  after_reads_at
  repeat (after_reads_simp; pointwise)
  rw [dif_pos (by omega), gather_rows _ _ _ p]
  pointwise
  rw [hp]

theorem r2_ws (r p : Fin 1000) (h w : Fin 7)
    (hp : (W (Proc.devRef .tc main_v83) : S1000.Idx → BitVec 32) (ix1 r) = BitVec.ofNat 32 p.val) :
    (after ops2 W (Proc.devRef .tc main_v129) : S1024x8x16.Idx → BitVec 32) (ix3 ⟨r, by omega⟩ ⟨h, by omega⟩ ⟨2 + w, by omega⟩)
      = (W (Proc.devRef .tc main_v70) : S1000x7.Idx → BitVec 32) (ix2 p w) := by
  unfold ops2 pre2
  after_reads_at
  repeat (after_reads_simp; pointwise)
  rw [dif_pos (by omega), dif_neg (by omega), dif_neg (by omega), dif_pos (by omega), gather_rows _ _ _ p]
  · congr 2
    exact Fin.ext (by simp only; omega)
  · pointwise
    rw [hp]

theorem r2_we (r p : Fin 1000) (h w : Fin 7)
    (hp : (W (Proc.devRef .tc main_v83) : S1000.Idx → BitVec 32) (ix1 r) = BitVec.ofNat 32 p.val) :
    (after ops2 W (Proc.devRef .tc main_v129) : S1024x8x16.Idx → BitVec 32) (ix3 ⟨r, by omega⟩ ⟨h, by omega⟩ ⟨9 + w, by omega⟩)
      = (W (Proc.devRef .tc main_v82) : S1000x7.Idx → BitVec 32) (ix2 p w) := by
  unfold ops2 pre2
  after_reads_at
  repeat (after_reads_simp; pointwise)
  rw [dif_pos (by omega), dif_neg (by omega), dif_neg (by omega), dif_neg (by omega), gather_rows _ _ _ p]
  · congr 2
    exact Fin.ext (by simp only; omega)
  · pointwise
    rw [hp]

theorem r2_place (r : Fin 1000) :
    (after ops2 W (Proc.devRef .tc main_v129) : S1024x8x16.Idx → BitVec 32) (ix3 ⟨r, by omega⟩ 7 0)
      = (W (Proc.devRef .tc main_v83) : S1000.Idx → BitVec 32) (ix1 r) := by
  unfold ops2 pre2
  after_reads_at
  repeat (after_reads_simp; pointwise)

theorem r2_count (r : Fin 1000) :
    (after ops2 W (Proc.devRef .tc main_v129) : S1024x8x16.Idx → BitVec 32) (ix3 ⟨r, by omega⟩ 7 1)
      = (W (Proc.devRef .tc main_v87) : S_.Idx → BitVec 32) ix0 := by
  unfold ops2 pre2
  after_reads_at
  repeat (after_reads_simp; pointwise)

/-- The rows behind the last RoI are zero. -/
theorem r2_pad (n : Fin 1024) (h : Fin 8) (k : Fin 16) (hn : 1000 ≤ n.val) :
    (after ops2 W (Proc.devRef .tc main_v129) : S1024x8x16.Idx → BitVec 32) (ix3 n h k) = 0#32 := by
  unfold ops2 pre2
  after_reads_at
  rw [dif_neg (by omega)]
  rfl

theorem r2_feats (g b : Fin 2) (y : Fin 196) (c : Fin 384) :
    (after ops2 W (Proc.devRef .tc main_v132) : S2x2x196x384.Idx → F .f32) (ix4 b g y c)
      = (W (Proc.devRef .tc main_arg0) : S2x768x14x14.Idx → F .f32)
          (ix4 b ⟨g * 384 + c, by omega⟩ ⟨y / 14, by omega⟩ ⟨y % 14, by omega⟩) := by
  unfold ops2 pre2
  after_reads_at

/-! ## What passes through -/

theorem r0_arg0 : after ops0 W (Proc.devRef .tc main_arg0) = W (Proc.devRef .tc main_arg0) := by
  unfold ops0 pre0
  after_reads_simp

theorem r0_arg1 : after ops0 W (Proc.devRef .tc main_arg1) = W (Proc.devRef .tc main_arg1) := by
  unfold ops0 pre0
  after_reads_simp

theorem r1_arg0 : after ops1 W (Proc.devRef .tc main_arg0) = W (Proc.devRef .tc main_arg0) := by
  unfold ops1 pre1
  after_reads_simp

theorem r1_arg1 : after ops1 W (Proc.devRef .tc main_arg1) = W (Proc.devRef .tc main_arg1) := by
  unfold ops1 pre1
  after_reads_simp

theorem r2_arg0 : after ops2 W (Proc.devRef .tc main_arg0) = W (Proc.devRef .tc main_arg0) := by
  unfold ops2 pre2
  after_reads_simp

theorem r2_arg1 : after ops2 W (Proc.devRef .tc main_arg1) = W (Proc.devRef .tc main_arg1) := by
  unfold ops2 pre2
  after_reads_simp

end reads

end Cert.Proof.Tile
-- ==== Proof.Params.lean ====
module

public import proofs.«01_k».proof.Proof.Reads
public import Idealize.ShloMosaic.Lib.Pipeline.Frame

@[expose] public section

/-! The parameters that the SparseCore call receives, and the image, as functions of the two arguments. -/

noncomputable section

namespace Cert.Proof.Tile

open Cert.KernelIdeal Cert.KernelIdeal.Gen
open Idealize.ShloMosaic
open Idealize.ShloMosaic.StableHlo (after)

variable {F : FTy → Type} [FloatOps F]

/-- The first line of bin row `h` of an RoI. -/
def hsW (A : S1000x5.Idx → F .f32) (p : Fin 1000) (h : Fin 7) : BitVec 32 :=
  clip14 (IntOp.addi (tab tabLo h (sizeW (cnv A 2 p) (cnv A 4 p))) (cnv A 2 p))
/-- The end of bin row `h`. -/
def heW (A : S1000x5.Idx → F .f32) (p : Fin 1000) (h : Fin 7) : BitVec 32 :=
  clip14 (IntOp.addi (tab tabHi h (sizeW (cnv A 2 p) (cnv A 4 p))) (cnv A 2 p))
/-- The first column of bin column `w`. -/
def wsW (A : S1000x5.Idx → F .f32) (p : Fin 1000) (w : Fin 7) : BitVec 32 :=
  clip14 (IntOp.addi (tab tabLo w (sizeW (cnv A 1 p) (cnv A 3 p))) (cnv A 1 p))
/-- The end of bin column `w`. -/
def weW (A : S1000x5.Idx → F .f32) (p : Fin 1000) (w : Fin 7) : BitVec 32 :=
  clip14 (IntOp.addi (tab tabHi w (sizeW (cnv A 1 p) (cnv A 3 p))) (cnv A 1 p))

/-- The order by batch as a bijection. -/
@[irreducible] def srtE (b : S1000.Idx → BitVec 32) : Fin 1000 ≃ Fin 1000 := Equiv.ofBijective (srt b) (srt_bij b)

theorem srtE_apply (b : S1000.Idx → BitVec 32) (r : Fin 1000) : srtE b r = srt b r := by
  unfold srtE
  rw [Equiv.ofBijective_apply]

/-- The place of a row in the order by batch. -/
def posOf (b : S1000.Idx → BitVec 32) (n : ℕ) : ℕ := if h : n < 1000 then ((srtE b).symm ⟨n, h⟩).val else 0

theorem posOf_srt (b : S1000.Idx → BitVec 32) (r : Fin 1000) : posOf b (srt b r).val = r.val := by
  unfold posOf
  rw [dif_pos (srt b r).2]
  refine congrArg Fin.val (?_ : (srtE b).symm (srt b r) = r)
  rw [← srtE_apply, Equiv.symm_apply_apply]

theorem srt_posOf (b : S1000.Idx → BitVec 32) (n : Fin 1000) :
    ∃ r : Fin 1000, posOf b n.val = r.val ∧ srt b r = n := by
  refine ⟨(srtE b).symm n, ?_, ?_⟩
  · unfold posOf
    rw [dif_pos n.2]
  · rw [← srtE_apply, Equiv.apply_symm_apply]

variable (m : (ℓ : Loc nD τ sig) → Buf (Elt F) ℓ) (d : Dev nD)

/-- The RoIs and the image, as the program finds them. -/
def roisOf : S1000x5.Idx → F .f32 := m ((SparseCore.T d).loc main_arg1)
def imgOf : S2x768x14x14.Idx → F .f32 := m ((SparseCore.T d).loc main_arg0)

/-- What the three stretches of operations leave. -/
abbrev Wa : Valuation τ sig (Elt F) := after ops0 (V0 m d)
abbrev Wb : Valuation τ sig (Elt F) := after ops1 (Wa m d)

theorem V1_eq : V1 m d = after ops2 (Wb m d) := by
  unfold V1 opsPre
  rw [StableHlo.after_append, StableHlo.after_append]

theorem rois_V0 : rois (V0 m d) = roisOf m d := rfl

theorem Wa_v2 : (Wa m d (Proc.devRef .tc main_v2) : S1000.Idx → BitVec 32) = bat (roisOf m d) := by
  funext i
  obtain ⟨r, rfl⟩ : ∃ r : Fin 1000, i = ix1 r := by
    refine ⟨(show S1000.Idx from i) 0, funext fun a => ?_⟩
    obtain rfl : (show Fin 1 from a) = 0 := Subsingleton.elim _ _
    rfl
  exact r0_v2 (V0 m d) r

/-- The row at place `r`. -/
abbrev rowAt (r : Fin 1000) : Fin 1000 := srt (bat (roisOf m d)) r

theorem Wb_v83 (r : Fin 1000) :
    (Wb m d (Proc.devRef .tc main_v83) : S1000.Idx → BitVec 32) (ix1 r) = BitVec.ofNat 32 (rowAt m d r).val := by
  refine (r1_v83 (Wa m d) r).trans ?_
  rw [Wa_v2]

theorem Wb_v46 (p : Fin 1000) (h : Fin 7) :
    (Wb m d (Proc.devRef .tc main_v46) : S1000x7.Idx → BitVec 32) (ix2 p h) = hsW (roisOf m d) p h :=
  (r1_v46 (Wa m d) p h).trans (congrArg clip14 (r0_v45 (V0 m d) p h))

theorem Wb_v58 (p : Fin 1000) (h : Fin 7) :
    (Wb m d (Proc.devRef .tc main_v58) : S1000x7.Idx → BitVec 32) (ix2 p h) = heW (roisOf m d) p h := by
  refine (r1_v58 (Wa m d) p h _ _ (r0_v34 (V0 m d) p)).trans ?_
  rw [show Wa m d (Proc.devRef .tc main_c_0) = _ from r0_c_0 _,
    show (Wa m d (Proc.devRef .tc main_v14) : S1000.Idx → BitVec 32) (ix1 p) = _ from r0_v14 _ _]
  rfl

theorem Wb_v70 (p : Fin 1000) (w : Fin 7) :
    (Wb m d (Proc.devRef .tc main_v70) : S1000x7.Idx → BitVec 32) (ix2 p w) = wsW (roisOf m d) p w := by
  refine (r1_v70 (Wa m d) p w _ _ (r0_v30 (V0 m d) p)).trans ?_
  rw [show Wa m d (Proc.devRef .tc main_c) = _ from r0_c _,
    show (Wa m d (Proc.devRef .tc main_v8) : S1000.Idx → BitVec 32) (ix1 p) = _ from r0_v8 _ _]
  rfl

theorem Wb_v82 (p : Fin 1000) (w : Fin 7) :
    (Wb m d (Proc.devRef .tc main_v82) : S1000x7.Idx → BitVec 32) (ix2 p w) = weW (roisOf m d) p w := by
  refine (r1_v82 (Wa m d) p w _ _ (r0_v30 (V0 m d) p)).trans ?_
  rw [show Wa m d (Proc.devRef .tc main_c_0) = _ from r0_c_0 _,
    show (Wa m d (Proc.devRef .tc main_v8) : S1000.Idx → BitVec 32) (ix1 p) = _ from r0_v8 _ _]
  rfl

/-! ## The packed parameters -/

theorem Pe_hs (r : Fin 1000) (h : Fin 7) :
    Pe m d (ix3 ⟨r, by omega⟩ ⟨h, by omega⟩ 0) = hsW (roisOf m d) (rowAt m d r) h := by
  unfold Pe
  rw [V1_eq]
  exact (r2_hs (Wb m d) r _ h (r1_v88 (Wa m d)) (Wb_v83 m d r)).trans (Wb_v46 m d _ h)

theorem Pe_he (r : Fin 1000) (h : Fin 7) :
    Pe m d (ix3 ⟨r, by omega⟩ ⟨h, by omega⟩ 1) = heW (roisOf m d) (rowAt m d r) h := by
  unfold Pe
  rw [V1_eq]
  exact (r2_he (Wb m d) r _ h (Wb_v83 m d r)).trans (Wb_v58 m d _ h)

theorem Pe_ws (r : Fin 1000) (h w : Fin 7) :
    Pe m d (ix3 ⟨r, by omega⟩ ⟨h, by omega⟩ ⟨2 + w, by omega⟩) = wsW (roisOf m d) (rowAt m d r) w := by
  unfold Pe
  rw [V1_eq]
  exact (r2_ws (Wb m d) r _ h w (Wb_v83 m d r)).trans (Wb_v70 m d _ w)

theorem Pe_we (r : Fin 1000) (h w : Fin 7) :
    Pe m d (ix3 ⟨r, by omega⟩ ⟨h, by omega⟩ ⟨9 + w, by omega⟩) = weW (roisOf m d) (rowAt m d r) w := by
  unfold Pe
  rw [V1_eq]
  exact (r2_we (Wb m d) r _ h w (Wb_v83 m d r)).trans (Wb_v82 m d _ w)

theorem Pe_place (r : Fin 1000) : Pe m d (ix3 ⟨r, by omega⟩ 7 0) = BitVec.ofNat 32 (rowAt m d r).val := by
  unfold Pe
  rw [V1_eq]
  exact (r2_place (Wb m d) r).trans (Wb_v83 m d r)

theorem Pe_count (r : Fin 1000) : Pe m d (ix3 ⟨r, by omega⟩ 7 1) = zerosW (bat (roisOf m d)) := by
  unfold Pe
  rw [V1_eq]
  refine (r2_count (Wb m d) r).trans ((r1_v87 (Wa m d)).trans ?_)
  rw [Wa_v2]

theorem Pe_pad (n : Fin 1024) (h : Fin 8) (k : Fin 16) (hn : 1000 ≤ n.val) : Pe m d (ix3 n h k) = 0#32 := by
  unfold Pe
  rw [V1_eq]
  exact r2_pad (Wb m d) n h k hn

theorem Fe_at (b g : Fin 2) (y : Fin 196) (c : Fin 384) :
    Fe m d (ix4 b g y c)
      = imgOf m d (ix4 b ⟨g * 384 + c, by omega⟩ ⟨y / 14, by omega⟩ ⟨y % 14, by omega⟩) := by
  unfold Fe
  rw [V1_eq]
  have h := r2_feats (Wb m d) g b y c
  have e : Wb m d (Proc.devRef .tc main_arg0) = imgOf m d := (r1_arg0 (Wa m d)).trans (r0_arg0 (V0 m d))
  rw [e] at h
  exact h

theorem V1_arg0 : V1 m d (tcb main_arg0) = V0 m d (tcb main_arg0) := by
  rw [V1_eq]
  exact (r2_arg0 (Wb m d)).trans ((r1_arg0 (Wa m d)).trans (r0_arg0 (V0 m d)))

theorem V1_arg1 : V1 m d (tcb main_arg1) = V0 m d (tcb main_arg1) := by
  rw [V1_eq]
  exact (r2_arg1 (Wb m d)).trans ((r1_arg1 (Wa m d)).trans (r0_arg1 (V0 m d)))

/-! ## They are in range -/

theorem Pe_word (n : Fin 1000) : (BitVec.ofNat 32 n.val).toNat = n.val := by
  rw [BitVec.toNat_ofNat]; omega

theorem atQ_ix (n : Fin 1024) (h : Fin 8) (k : Fin 16) : atQ n h k = ix3 n h k := by
  funext a
  match a with
  | ⟨0, _⟩ => exact Fin.ext (show n.val % 1024 = n.val from Nat.mod_eq_of_lt n.2)
  | ⟨1, _⟩ => exact Fin.ext (show h.val % 8 = h.val from Nat.mod_eq_of_lt h.2)
  | ⟨2, _⟩ => exact Fin.ext (show k.val % 16 = k.val from Nat.mod_eq_of_lt k.2)

theorem Pe_le (n : Fin 1024) (h : Fin 7) (k : Fin 16) : (Pe m d (ix3 n ⟨h, by omega⟩ k)).toNat ≤ 14 := by
  by_cases hn : n.val < 1000
  · set r : Fin 1000 := ⟨n.val, hn⟩
    rcases (by omega : k.val = 0 ∨ k.val = 1 ∨ (2 ≤ k.val ∧ k.val < 9) ∨ 9 ≤ k.val) with hk | hk | hk | hk
    · obtain rfl : k = 0 := Fin.ext hk
      exact (congrArg BitVec.toNat (Pe_hs m d r h)).trans_le (clip14_le _)
    · obtain rfl : k = 1 := Fin.ext hk
      exact (congrArg BitVec.toNat (Pe_he m d r h)).trans_le (clip14_le _)
    · rw [show k = ⟨2 + (⟨k.val - 2, by omega⟩ : Fin 7).val, by simp only; omega⟩ from Fin.ext (by simp only; omega)]
      exact (congrArg BitVec.toNat (Pe_ws m d r h ⟨k.val - 2, by omega⟩)).trans_le (clip14_le _)
    · rw [show k = ⟨9 + (⟨k.val - 9, by omega⟩ : Fin 7).val, by simp only; omega⟩ from Fin.ext (by simp only; omega)]
      exact (congrArg BitVec.toNat (Pe_we m d r h ⟨k.val - 9, by omega⟩)).trans_le (clip14_le _)
  · rw [Pe_pad m d n _ k (by omega)]
    decide

theorem paramsOk : ParamsOk (Pe m d) (posOf (bat (roisOf m d))) where
  bounds n h k hn hh := by
    have e : atQ n h k = ix3 ⟨n, hn⟩ ⟨h, by omega⟩ ⟨k % 16, Nat.mod_lt _ (by decide)⟩ := by
      funext a
      match a with
      | ⟨0, _⟩ => exact Fin.ext (Nat.mod_eq_of_lt hn)
      | ⟨1, _⟩ => exact Fin.ext (Nat.mod_eq_of_lt (by omega))
      | ⟨2, _⟩ => rfl
    rw [e]
    exact Pe_le m d ⟨n, hn⟩ ⟨h, hh⟩ _
  place r hr := by
    rw [show atQ r 7 0 = ix3 ⟨r, by omega⟩ 7 0 from atQ_ix ⟨r, by omega⟩ 7 0, Pe_place m d ⟨r, hr⟩]
    have h := (rowAt m d ⟨r, hr⟩).2
    rw [Pe_word]
    exact ⟨h, posOf_srt _ _⟩
  pos_lt n hn := by
    obtain ⟨r, hr, hs⟩ := srt_posOf (bat (roisOf m d)) ⟨n, hn⟩
    rw [show posOf (bat (roisOf m d)) n = r.val from hr]
    refine ⟨r.2, ?_⟩
    rw [show atQ r.val 7 0 = ix3 ⟨r.val, by omega⟩ 7 0 from atQ_ix ⟨r.val, by omega⟩ 7 0, Pe_place m d r]
    rw [show rowAt m d r = ⟨n, hn⟩ from hs, Pe_word]

end Cert.Proof.Tile
-- ==== Proof.Frames.lean ====
module

public import proofs.«01_k».proof.Proof.Params
public import proofs.«01_k».proof.Defs

@[expose] public section

/-! The kernel's runs end, change neither argument, and leave every counter at zero; the result is named. -/

noncomputable section

namespace Cert.Proof.Tile

open Cert.KernelIdeal Cert.KernelIdeal.Gen
open Idealize.ShloMosaic Idealize.SL.Sem
open Idealize.ShloMosaic.StableHlo (after)

variable {F : FTy → Type} [FloatOps F]
variable (m : (ℓ : Loc nD τ sig) → Buf (Elt F) ℓ) (d : Dev nD)

/-- The place of each row, on each device. -/
abbrev posD : Dev nD → ℕ → ℕ := fun d => posOf (bat (roisOf m d))

theorem V3_arg0 (pos : Dev nD → ℕ → ℕ) : V3 m pos d (tcb main_arg0) = m ((SparseCore.T d).loc main_arg0) := by
  show after [reshapeOp] (V2 m pos d) (Proc.devRef .tc main_arg0) = _
  unfold reshapeOp
  after_reads_simp
  rw [V2_ne m pos d (by decide)]
  exact V1_arg0 m d

theorem V3_arg1 (pos : Dev nD → ℕ → ℕ) : V3 m pos d (tcb main_arg1) = m ((SparseCore.T d).loc main_arg1) := by
  show after [reshapeOp] (V2 m pos d) (Proc.devRef .tc main_arg1) = _
  unfold reshapeOp
  after_reads_simp
  rw [V2_ne m pos d (by decide)]
  exact V1_arg1 m d

theorem frame_kernelideal : Cert.quiescent_KernelIdeal := fun m ρ _ =>
  (θ_run Cert.KernelIdeal.defs _ _).mono
    (fun _ h => ⟨fun c => ⟨(h.1 c).1.trans (V3_arg0 m c _), (h.1 c).2.1.trans (V3_arg1 m c _)⟩, h.2⟩)
    (run_main (F := Ideal) m ρ (posD m) fun d => paramsOk m d)

end Cert.Proof.Tile
-- ==== Proof.FrameBits.lean ====
module

public import proofs.«01_k».proof.Proof.Frames
public import proofs.«01_k».proof.Proof.Gen.Kernel

@[expose] public section

/-! The frame at bit patterns. -/

noncomputable section

namespace Cert.Proof.Tile

open Idealize.ShloMosaic Idealize.SL.Sem

-- comparing the two printed texts, which are the same, takes long
set_option maxHeartbeats 0 in
/-- The run is stated of any float operations: here it is read at bit patterns. -/
theorem frame_kernel : Cert.quiescent_Kernel := fun m ρ _ =>
  (θ_run Cert.KernelIdeal.defs _ _).mono
    (fun _ h => ⟨fun c => ⟨(h.1 c).1.trans (V3_arg0 m c _), (h.1 c).2.1.trans (V3_arg1 m c _)⟩, h.2⟩)
    (run_main (F := Bits) m ρ (posD m) fun d => paramsOk m d)

end Cert.Proof.Tile
-- ==== Proof.RefFrame.lean ====
module

public import proofs.«01_k».proof.Defs
public import proofs.«01_k».proof.Proof.Gen.ReferenceIdeal.Run

@[expose] public section

/-! The reference's frame: it declares no semaphore, so every counter stays at zero. -/

noncomputable section

namespace Cert.Proof.Ref

open Cert.ReferenceIdeal Cert.ReferenceIdeal.Gen
open Idealize.ShloMosaic Idealize.SL.Sem

theorem frame_referenceideal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof.Ref
-- ==== Proof.RefAt.lean ====
module

public import proofs.«01_k».proof.Proof.Gen.ReferenceIdeal
public import Idealize.ShloMosaic.PureOps.Ideal.Laws
public import Idealize.ShloMosaic.Lib.Pointwise

@[expose] public section

/-! The reference's result, entry by entry. -/

noncomputable section

namespace Cert.Proof.Ref

open Cert.ReferenceIdeal Cert.ReferenceIdeal.Gen
open Idealize.ShloMosaic

/-- Whether the reference's window of a bin holds each position. -/
def inside (hs he ws we : IVec S1000x7 32) : IVec S1000x768x7x7x14x14 1 :=
  broadcastInDim S1000x768x7x7x14x14 ![0, 1, 2, 3, 4, 5] bcast_S1000x1x7x7x14x14_S1000x768x7x7x14x14_0_1_2_3_4_5
    (andi
      (broadcastInDim S1000x1x7x7x14x14 ![0, 1, 2, 3, 4, 5] bcast_S1000x1x7x1x14x1_S1000x1x7x7x14x14_0_1_2_3_4_5
        (broadcastInDim S1000x1x7x1x14x1 ![0, 2, 4] bcast_S1000x7x14_S1000x1x7x1x14x1_0_2_4
          (andi
            (cmpi .sge (broadcastInDim S1000x7x14 ![0, 1, 2] bcast_S1x1x14_S1000x7x14_0_1_2 (broadcastInDim S1x1x14 ![2] bcast_S14_S1x1x14_2 (iotaInDim S14 32 0)))
              (broadcastInDim S1000x7x14 ![0, 1, 2] bcast_S1000x7x1_S1000x7x14_0_1_2 (broadcastInDim S1000x7x1 ![0, 1] bcast_S1000x7_S1000x7x1_0_1 hs)))
            (cmpi .slt (broadcastInDim S1000x7x14 ![0, 1, 2] bcast_S1x1x14_S1000x7x14_0_1_2 (broadcastInDim S1x1x14 ![2] bcast_S14_S1x1x14_2 (iotaInDim S14 32 0)))
              (broadcastInDim S1000x7x14 ![0, 1, 2] bcast_S1000x7x1_S1000x7x14_0_1_2 (broadcastInDim S1000x7x1 ![0, 1] bcast_S1000x7_S1000x7x1_0_1 he))))))
      (broadcastInDim S1000x1x7x7x14x14 ![0, 1, 2, 3, 4, 5] bcast_S1000x1x1x7x1x14_S1000x1x7x7x14x14_0_1_2_3_4_5
        (broadcastInDim S1000x1x1x7x1x14 ![0, 3, 5] bcast_S1000x7x14_S1000x1x1x7x1x14_0_3_5
          (andi
            (cmpi .sge (broadcastInDim S1000x7x14 ![0, 1, 2] bcast_S1x1x14_S1000x7x14_0_1_2 (broadcastInDim S1x1x14 ![2] bcast_S14_S1x1x14_2 (iotaInDim S14 32 0)))
              (broadcastInDim S1000x7x14 ![0, 1, 2] bcast_S1000x7x1_S1000x7x14_0_1_2 (broadcastInDim S1000x7x1 ![0, 1] bcast_S1000x7_S1000x7x1_0_1 ws)))
            (cmpi .slt (broadcastInDim S1000x7x14 ![0, 1, 2] bcast_S1x1x14_S1000x7x14_0_1_2 (broadcastInDim S1x1x14 ![2] bcast_S14_S1x1x14_2 (iotaInDim S14 32 0)))
              (broadcastInDim S1000x7x14 ![0, 1, 2] bcast_S1000x7x1_S1000x7x14_0_1_2 (broadcastInDim S1000x7x1 ![0, 1] bcast_S1000x7_S1000x7x1_0_1 we)))))))

/-- The positions that the reference takes the maximum of. -/
def shown {F : FTy → Type} [FloatOps F] (rows : FVec F S1000x768x14x14 .f32) (hs he ws we : IVec S1000x7 32) :
    FVec F S1000x768x7x7x14x14 .f32 :=
  select (inside hs he ws we)
    (broadcastInDim S1000x768x7x7x14x14 ![0, 1, 2, 3, 4, 5] bcast_S1000x768x1x1x14x14_S1000x768x7x7x14x14_0_1_2_3_4_5
      (broadcastInDim S1000x768x1x1x14x14 ![0, 1, 4, 5] bcast_S1000x768x14x14_S1000x768x1x1x14x14_0_1_4_5 rows))
    (broadcastInDim S1000x768x7x7x14x14 ![] bcast_S_S1000x768x7x7x14x14 (constant S_ .f32 0xFF7FFFFF#32))

/-- An index of the positions. -/
def ix6 (n : Fin 1000) (c : Fin 768) (h w : Fin 7) (y x : Fin 14) : S1000x768x7x7x14x14.Idx := fun a => match a with
  | ⟨0, _⟩ => n
  | ⟨1, _⟩ => c
  | ⟨2, _⟩ => h
  | ⟨3, _⟩ => w
  | ⟨4, _⟩ => y
  | ⟨5, _⟩ => x

theorem inside_at (hs he ws we : IVec S1000x7 32) (n : Fin 1000) (c : Fin 768) (h w : Fin 7) (y x : Fin 14) :
    inside hs he ws we (ix6 n c h w y x)
      = IntOp.andi
          (IntOp.andi (IntOp.cmpi .sge (BitVec.ofNat 32 y.val) (hs (ix2 n h))) (IntOp.cmpi .slt (BitVec.ofNat 32 y.val) (he (ix2 n h))))
          (IntOp.andi (IntOp.cmpi .sge (BitVec.ofNat 32 x.val) (ws (ix2 n w))) (IntOp.cmpi .slt (BitVec.ofNat 32 x.val) (we (ix2 n w)))) := by
  unfold inside
  pointwise
  rfl

theorem shown_at {F : FTy → Type} [FloatOps F] (rows : FVec F S1000x768x14x14 .f32) (hs he ws we : IVec S1000x7 32)
    (n : Fin 1000) (c : Fin 768) (h w : Fin 7) (y x : Fin 14) :
    shown rows hs he ws we (ix6 n c h w y x)
      = Scalar.select (inside hs he ws we (ix6 n c h w y x)) (rows (ix4 n c y x)) (Scalar.ofBits .f32 0xFF7FFFFF#32 : F .f32) := by
  unfold shown
  generalize inside hs he ws we = z
  pointwise
  rfl

theorem drop_at (i : S1000x768x7x7x14x14.Idx) :
    reducesTo_S1000x768x7x7x14x14_S1000x768x7x7_d4_5.drop i = ix4 (i 0) (i 1) (i 2) (i 3) := by
  funext a
  match a with
  | ⟨0, _⟩ => rfl
  | ⟨1, _⟩ => rfl
  | ⟨2, _⟩ => rfl
  | ⟨3, _⟩ => rfl

/-- What the maximum over the positions lies below. -/
theorem reduce_le (x : FVec Ideal S1000x768x7x7x14x14 .f32) (n : Fin 1000) (c : Fin 768) (h w : Fin 7) (z : EReal) :
    (Host.reduce (FloatOps.maximumf (F := Ideal) (φ := .f32)) x (constant (F := Ideal) S_ .f32 0xFF800000#32) reducesTo_S1000x768x7x7x14x14_S1000x768x7x7_d4_5 h_S_ (ix4 n c h w) : EReal) ≤ z
      ↔ ∀ y x' : Fin 14, (x (ix6 n c h w y x') : EReal) ≤ z := by
  rw [Host.reduce_eq_fold]
  have hb : (constant (F := Ideal) S_ .f32 0xFF800000#32 (Shape.Idx.first h_S_) : EReal) = ⊥ := by
    show Ideal.ofBits .f32 0xFF800000#32 = ⊥
    simp [Ideal.ofBits, Ideal.ieee]
  refine (Finset.fold_max_le (β := EReal) z).trans ?_
  rw [hb]
  constructor
  · rintro ⟨-, H⟩ y x'
    refine H _ (Finset.mem_filter.mpr ⟨Finset.mem_univ _, ?_⟩)
    rw [drop_at]
    rfl
  · refine fun H => ⟨bot_le, fun i hi => ?_⟩
    have e := (Finset.mem_filter.mp hi).2
    rw [drop_at] at e
    have h0 : i 0 = n := congrFun e 0
    have h1 : i 1 = c := congrFun e 1
    have h2 : i 2 = h := congrFun e 2
    have h3 : i 3 = w := congrFun e 3
    have hi6 : i = ix6 n c h w (i 4) (i 5) := by
      funext a
      match a with
      | ⟨0, _⟩ => exact h0
      | ⟨1, _⟩ => exact h1
      | ⟨2, _⟩ => exact h2
      | ⟨3, _⟩ => exact h3
      | ⟨4, _⟩ => rfl
      | ⟨5, _⟩ => rfl
    rw [hi6]
    exact H _ _

/-- The reference's result, from the gathered images and the bounds: zero where the window is empty. -/
def outRef {F : FTy → Type} [FloatOps F] (rows : FVec F S1000x768x14x14 .f32) (hs he ws we : IVec S1000x7 32) :
    FVec F S1000x768x7x7 .f32 :=
  select
    (broadcastInDim S1000x768x7x7 ![0, 1, 2, 3] bcast_S1000x1x7x7_S1000x768x7x7_0_1_2_3
      (ori (broadcastInDim S1000x1x7x7 ![0, 1, 2, 3] bcast_S1000x1x7x1_S1000x1x7x7_0_1_2_3 (broadcastInDim S1000x1x7x1 ![0, 2] bcast_S1000x7_S1000x1x7x1_0_2 (cmpi .sle he hs)))
        (broadcastInDim S1000x1x7x7 ![0, 1, 2, 3] bcast_S1000x1x1x7_S1000x1x7x7_0_1_2_3 (broadcastInDim S1000x1x1x7 ![0, 3] bcast_S1000x7_S1000x1x1x7_0_3 (cmpi .sle we ws)))))
    (broadcastInDim S1000x768x7x7 ![] bcast_S_S1000x768x7x7 (id (constant S_ .f32 0x00000000#32)))
    (Host.reduce FloatOps.maximumf (shown rows hs he ws we) (constant S_ .f32 0xFF800000#32) reducesTo_S1000x768x7x7x14x14_S1000x768x7x7_d4_5 h_S_)

theorem outRef_at {F : FTy → Type} [FloatOps F] (rows : FVec F S1000x768x14x14 .f32) (hs he ws we : IVec S1000x7 32)
    (n : Fin 1000) (c : Fin 768) (h w : Fin 7) :
    outRef rows hs he ws we (ix4 n c h w)
      = Scalar.select (IntOp.ori (IntOp.cmpi .sle (he (ix2 n h)) (hs (ix2 n h))) (IntOp.cmpi .sle (we (ix2 n w)) (ws (ix2 n w))))
          (Scalar.ofBits .f32 0x00000000#32 : F .f32)
          (Host.reduce FloatOps.maximumf (shown rows hs he ws we) (constant S_ .f32 0xFF800000#32)
            reducesTo_S1000x768x7x7x14x14_S1000x768x7x7_d4_5 h_S_ (ix4 n c h w)) := by
  unfold outRef
  generalize Host.reduce FloatOps.maximumf (shown rows hs he ws we) (constant S_ .f32 0xFF800000#32)
    reducesTo_S1000x768x7x7x14x14_S1000x768x7x7_d4_5 h_S_ = R
  pointwise
  rfl

/-- Row `n` of the images gathered by the RoIs' words: the image that a word names, above 1 image 1. -/
theorem gather_at {F : FTy → Type} [FloatOps F] (img : FVec F S2x768x14x14 .f32) (idx : IVec S1000x1 32) (n : Fin 1000) (c : Fin 768)
    (y x : Fin 14) (b : Fin 2) (hi : min (idx (ix2 n 0)).toInt.toNat 1 = b.val) :
    Host.gather gather_S2x768x14x14_S1000x1_S1000x768x14x14_123_0_n_n_0_1_17681414 img idx (ix4 n c y x) = img (ix4 b c y x) := by
  set g := gather_S2x768x14x14_S1000x1_S1000x768x14x14_123_0_n_n_0_1_17681414 with hg
  unfold Host.gather
  refine congrArg img (funext fun a => Fin.ext ?_)
  show g.start (ix4 n c y x) idx a + g.batchCoord (ix4 n c y x) a + g.offCoord (ix4 n c y x) a = _
  rw [GatherDims.batchCoord_eq_zero _ _ _ (by rw [hg]; exact List.not_mem_nil)]
  match a with
  | ⟨0, _⟩ =>
    have h0 : g.start (ix4 n c y x) idx (0 : Fin 4) = min (idx (ix2 n 0)).toInt.toNat 1 := by
      unfold GatherDims.start
      rw [dif_pos (by rw [hg]; decide)]
      have hs : g.siIdx (ix4 n c y x) ⟨g.startIndexMap.idxOf (0 : Fin 4), List.idxOf_lt_length_iff.2 (by rw [hg]; decide)⟩ = ix2 n 0 := by
        funext b
        match b with
        | ⟨0, _⟩ => rfl
        | ⟨1, _⟩ => rfl
      rw [hs]
      rfl
    have h1 : g.offCoord (ix4 n c y x) (0 : Fin 4) = 0 := by
      unfold GatherDims.offCoord; rw [dif_neg (by rw [hg]; decide)]
    show g.start (ix4 n c y x) idx (0 : Fin 4) + 0 + g.offCoord (ix4 n c y x) (0 : Fin 4) = b.val
    rw [h0, h1, hi]
    rfl
  | ⟨1, _⟩ =>
    have h0 : g.start (ix4 n c y x) idx (1 : Fin 4) = 0 := by
      unfold GatherDims.start; rw [dif_neg (by rw [hg]; decide)]
    have h1 : g.offCoord (ix4 n c y x) (1 : Fin 4) = c.val := by
      unfold GatherDims.offCoord; rw [dif_pos (by rw [hg]; decide)]; rfl
    show g.start (ix4 n c y x) idx (1 : Fin 4) + 0 + g.offCoord (ix4 n c y x) (1 : Fin 4) = c.val
    omega
  | ⟨2, _⟩ =>
    have h0 : g.start (ix4 n c y x) idx (2 : Fin 4) = 0 := by
      unfold GatherDims.start; rw [dif_neg (by rw [hg]; decide)]
    have h1 : g.offCoord (ix4 n c y x) (2 : Fin 4) = y.val := by
      unfold GatherDims.offCoord; rw [dif_pos (by rw [hg]; decide)]; rfl
    show g.start (ix4 n c y x) idx (2 : Fin 4) + 0 + g.offCoord (ix4 n c y x) (2 : Fin 4) = y.val
    omega
  | ⟨3, _⟩ =>
    have h0 : g.start (ix4 n c y x) idx (3 : Fin 4) = 0 := by
      unfold GatherDims.start; rw [dif_neg (by rw [hg]; decide)]
    have h1 : g.offCoord (ix4 n c y x) (3 : Fin 4) = x.val := by
      unfold GatherDims.offCoord; rw [dif_pos (by rw [hg]; decide)]; rfl
    show g.start (ix4 n c y x) idx (3 : Fin 4) + 0 + g.offCoord (ix4 n c y x) (3 : Fin 4) = x.val
    omega

end Cert.Proof.Ref
-- ==== Proof.Bounds.lean ====
module

public import proofs.«01_k».proof.Proof.Params
public import Idealize.ShloMosaic.PureOps.Ideal

@[expose] public section

/-! The bounds of a bin as the reference computes them, `⌊k·(size/7)⌋` and `⌈(k+1)·(size/7)⌉` in the reals, against the
    kernel's tables. -/

noncomputable section

namespace Cert.Proof.Tile

open Cert.KernelIdeal Cert.KernelIdeal.Gen
open Idealize.ShloMosaic

/-! ## The tables as quotients -/

/-- The bins whose end the table has one above the quotient. -/
def raised (k z : ℕ) : Prop := (z = 7 ∨ z = 14) ∧ (k = 2 ∨ k = 5)

instance (k z : ℕ) : Decidable (raised k z) := by unfold raised; infer_instance

theorem tabLo_eq : ∀ (k : Fin 7) (z : Fin 16), 1 ≤ z.val → tabLo (ix2 k z) = BitVec.ofNat 32 (k.val * z.val / 7) := by
  decide +kernel

theorem tabHi_eq : ∀ (k : Fin 7) (z : Fin 16), 1 ≤ z.val → ¬ raised k.val z.val → ¬ (k.val = 6 ∧ z.val = 15) →
    tabHi (ix2 k z) = BitVec.ofNat 32 (((k.val + 1) * z.val + 6) / 7) := by
  decide +kernel

theorem tabHi_edge : tabHi (ix2 6 15) = 14#32 := by decide +kernel

theorem tab_near : ∀ (k : Fin 7) (z : Fin 16), (tabHi (ix2 k z)).toNat ≤ (tabLo (ix2 k z)).toNat + 4
    ∧ (tabLo (ix2 k z)).toNat ≤ (tabHi (ix2 k z)).toNat
    ∧ (tabLo (ix2 k z)).toNat ≤ 15 := by
  decide +kernel

/-! ## The quotients as the reference has them -/

theorem seven : Ideal.ofBits .f32 0x40E00000#32 = ((7 : ℝ) : EReal) := by
  simp [Ideal.ofBits, Ideal.ieee, -EReal.coe_mul]
  norm_num

theorem one : Ideal.ofBits .f32 0x3F800000#32 = ((1 : ℝ) : EReal) := by
  simp [Ideal.ofBits, Ideal.ieee, -EReal.coe_mul]
  norm_num

theorem div_seven (z : ℝ) : Ideal.div (z : EReal) ((7 : ℝ) : EReal) = ((z / 7 : ℝ) : EReal) := by
  unfold Ideal.div
  rw [if_neg (by norm_num), ← EReal.coe_inv, ← EReal.coe_mul, div_eq_mul_inv]

theorem fptosi_nat (n : ℕ) (h : n < 1000) : Ideal.fptosi 32 (((n : ℤ) : ℝ) : EReal) = BitVec.ofNat 32 n := by
  unfold Ideal.fptosi
  have e : Ideal.toIntClamped (-(2 ^ (32 - 1) : ℕ)) ((2 ^ (32 - 1) : ℕ) - 1) (((n : ℤ) : ℝ) : EReal) = (n : ℤ) := by
    show max _ (min _ (if (0 : ℝ) ≤ ((n : ℤ) : ℝ) then ⌊((n : ℤ) : ℝ)⌋ else ⌈((n : ℤ) : ℝ)⌉)) = (n : ℤ)
    rw [if_pos (by positivity), Int.floor_intCast]
    norm_num
    omega
  rw [e]
  rfl

theorem floor_bin (k z : ℕ) (hk : k < 7) (hz : z ≤ 15) :
    Ideal.fptosi 32 (Ideal.liftRound Int.floor (((k : ℝ) : EReal) * Ideal.div ((z : ℝ) : EReal) ((7 : ℝ) : EReal)))
      = BitVec.ofNat 32 (k * z / 7) := by
  have hkz : k * z ≤ 6 * 15 := Nat.mul_le_mul (by omega) hz
  rw [div_seven, ← EReal.coe_mul]
  have e : ⌊(k : ℝ) * ((z : ℝ) / 7)⌋ = ((k * z / 7 : ℕ) : ℤ) := by
    rw [show (k : ℝ) * ((z : ℝ) / 7) = ((k * z : ℕ) : ℝ) / ((7 : ℕ) : ℝ) by push_cast; ring, Int.floor_eq_iff]
    have h1 := Nat.div_mul_le_self (k * z) 7
    have h2 := Nat.lt_div_mul_add (a := k * z) (b := 7) (by norm_num)
    constructor
    · rw [le_div_iff₀ (by norm_num)]; exact_mod_cast h1
    · rw [div_lt_iff₀ (by norm_num)]; have : k * z < (k * z / 7 + 1) * 7 := by omega
      exact_mod_cast this
  show Ideal.fptosi 32 (((⌊(k : ℝ) * ((z : ℝ) / 7)⌋ : ℝ)) : EReal) = _
  rw [e]
  exact fptosi_nat _ (by omega)

theorem ceil_bin (k z : ℕ) (hk : k < 7) (hz : z ≤ 15) :
    Ideal.fptosi 32 (Ideal.liftRound Int.ceil ((((k : ℝ) : EReal) + ((1 : ℝ) : EReal)) * Ideal.div ((z : ℝ) : EReal) ((7 : ℝ) : EReal)))
      = BitVec.ofNat 32 (((k + 1) * z + 6) / 7) := by
  have hkz : (k + 1) * z ≤ 7 * 15 := Nat.mul_le_mul (by omega) hz
  rw [div_seven, ← EReal.coe_add, ← EReal.coe_mul]
  have e : ⌈((k : ℝ) + 1) * ((z : ℝ) / 7)⌉ = ((((k + 1) * z + 6) / 7 : ℕ) : ℤ) := by
    rw [show ((k : ℝ) + 1) * ((z : ℝ) / 7) = (((k + 1) * z : ℕ) : ℝ) / ((7 : ℕ) : ℝ) by push_cast; ring, Int.ceil_eq_iff]
    generalize (k + 1) * z = x
    constructor
    · rw [lt_div_iff₀ (by norm_num), sub_mul, sub_lt_iff_lt_add]
      have : (x + 6) / 7 * 7 < x + 1 * 7 := by omega
      exact_mod_cast this
    · rw [div_le_iff₀ (by norm_num)]
      have : x ≤ (x + 6) / 7 * 7 := by omega
      exact_mod_cast this
  show Ideal.fptosi 32 (((⌈((k : ℝ) + 1) * ((z : ℝ) / 7)⌉ : ℝ)) : EReal) = _
  rw [e]
  exact fptosi_nat _ (by omega)

/-! ## The size -/

/-- A size that is at most 15 is the one the kernel looks up. -/
theorem size_eq (s e : BitVec 32) (h : (IntOp.maxsi (IntOp.addi (IntOp.subi e s) 1#32) 1#32).toInt ≤ 15) :
    IntOp.maxsi (IntOp.addi (IntOp.subi e s) 1#32) 1#32 = sizeW s e := by
  unfold sizeW
  generalize IntOp.addi (IntOp.subi e s) 1#32 = x at h ⊢
  have h15 : (15#32 : BitVec 32).toInt = 15 := by decide
  have h1 : (1#32 : BitVec 32).toInt = 1 := by decide
  unfold IntOp.maxsi IntOp.minsi at *
  simp only [BitVec.sle_iff_toInt_le, BitVec.slt_iff_toInt_lt] at *
  apply BitVec.eq_of_toInt_eq
  split_ifs at * <;> omega

/-- The lines of a bin are at most four, wherever it starts. -/
theorem clip_near (lo hi s : BitVec 32) (h : hi.toNat ≤ lo.toNat + 4) (h' : lo.toNat ≤ hi.toNat)
    (h'' : lo.toNat ≤ 15) :
    (clip14 (IntOp.addi hi s)).toNat ≤ (clip14 (IntOp.addi lo s)).toNat + 4 := by
  have c (w : BitVec 32) : ((clip14 w).toNat : ℤ) = min 14 (max 0 w.toInt) := by
    have h14 : (14#32 : BitVec 32).toInt = 14 := by decide
    have h0 : (0#32 : BitVec 32).toInt = 0 := by decide
    have e : (clip14 w).toInt = min 14 (max 0 w.toInt) := by
      unfold clip14 IntOp.minsi IntOp.maxsi
      simp only [BitVec.sle_iff_toInt_le, BitVec.slt_iff_toInt_lt]
      split_ifs <;> omega
    have := BitVec.toInt_eq_toNat_cond (clip14 w)
    have := clip14_le w
    split at * <;> omega
  have a1 := c (IntOp.addi hi s)
  have a2 := c (IntOp.addi lo s)
  have b1 := BitVec.toInt_eq_toNat_cond (IntOp.addi hi s)
  have b2 := BitVec.toInt_eq_toNat_cond (IntOp.addi lo s)
  have d1 : (IntOp.addi hi s).toNat = (hi.toNat + s.toNat) % 2 ^ 32 := BitVec.toNat_add hi s
  have d2 : (IntOp.addi lo s).toNat = (lo.toNat + s.toNat) % 2 ^ 32 := BitVec.toNat_add lo s
  have hs := s.isLt
  split at b1 <;> split at b2 <;> omega

end Cert.Proof.Tile
-- ==== Proof.RefBounds.lean ====
module

public import proofs.«01_k».proof.Proof.RefAt
public import proofs.«01_k».proof.Proof.Bounds
public import proofs.«01_k».proof.Proof.Gen.ReferenceIdeal.Run
public import proofs.«01_k».proof.Proof.Gen.On_tables_hold
public import proofs.«01_k».proof.Proof.Gen.Pre_batch_not_negative

@[expose] public section

/-! The reference's bounds of a bin, and the mask under which the kernel's tables give them. -/

noncomputable section

namespace Cert.Proof.Ref

open Cert.ReferenceIdeal Cert.ReferenceIdeal.Gen Cert.ReferenceIdeal.Value
open Idealize.ShloMosaic Idealize.SL.Sem
open Cert.Proof.Tile (cnv bat sizeW clip14 tab tabLo tabHi)

/-- An RoI's size from its start and its end. -/
abbrev size (s e : BitVec 32) : BitVec 32 := IntOp.maxsi (IntOp.addi (IntOp.subi e s) 1#32) 1#32

/-- The start of bin `k`. -/
def lo (s e : BitVec 32) (k : Fin 7) : BitVec 32 :=
  clip14 (IntOp.addi (FloatOps.fptosi 32 (FloatOps.hostUnary HostUnaryOp.floor (FloatOps.mulf
    (FloatOps.sitofp (F := Ideal) .f32 (BitVec.ofNat 32 k.val))
    (FloatOps.hostDivf (FloatOps.sitofp (F := Ideal) .f32 (size s e)) (FloatOps.ofBits .f32 0x40E00000#32))))) s)

/-- The end of bin `k`. -/
def hi (s e : BitVec 32) (k : Fin 7) : BitVec 32 :=
  clip14 (IntOp.addi (FloatOps.fptosi 32 (FloatOps.hostUnary HostUnaryOp.ceil (FloatOps.mulf
    (FloatOps.addf (FloatOps.sitofp (F := Ideal) .f32 (BitVec.ofNat 32 k.val)) (FloatOps.ofBits .f32 0x3F800000#32))
    (FloatOps.hostDivf (FloatOps.sitofp (F := Ideal) .f32 (size s e)) (FloatOps.ofBits .f32 0x40E00000#32))))) s)

/-- Whether the tables hold at bin `k`, as a word. -/
def holdsW (s e : BitVec 32) (k : Fin 7) : BitVec 1 :=
  IntOp.andi
    (IntOp.andi (IntOp.cmpi .sle (size s e) 15#32)
      (~~~ IntOp.andi (IntOp.ori (IntOp.cmpi .eq (size s e) 7#32) (IntOp.cmpi .eq (size s e) 14#32))
        (IntOp.ori (IntOp.cmpi .eq (BitVec.ofNat 32 k.val) 2#32) (IntOp.cmpi .eq (BitVec.ofNat 32 k.val) 5#32))))
    (~~~ IntOp.andi (IntOp.andi (IntOp.cmpi .eq (size s e) 15#32) (IntOp.cmpi .eq (BitVec.ofNat 32 k.val) 6#32))
      (IntOp.ori (IntOp.cmpi .slt s 0#32) (IntOp.cmpi .sgt s 14#32)))

theorem andi_one : ∀ a b : BitVec 1, IntOp.andi a b = 1#1 ↔ a = 1#1 ∧ b = 1#1 := by decide
theorem ori_one : ∀ a b : BitVec 1, IntOp.ori a b = 1#1 ↔ a = 1#1 ∨ b = 1#1 := by decide
theorem noti_one : ∀ a : BitVec 1, ~~~ a = 1#1 ↔ ¬ a = 1#1 := by decide
theorem ofBool_one (p : Bool) : BitVec.ofBool p = 1#1 ↔ p = true := by cases p <;> decide

/-- Where the mask holds: the size is one of the tables', the bin is not raised, and the one end cut short is beyond the
    image. -/
theorem holdsW_elim (s e : BitVec 32) (k : Fin 7) (h : holdsW s e k = 1#1) :
    (size s e).toInt ≤ 15 ∧ ¬ Tile.raised k.val (size s e).toNat
      ∧ (size s e = 15#32 → k = 6 → 0 ≤ s.toInt ∧ s.toInt ≤ 14) := by
  unfold holdsW at h
  generalize size s e = z at h ⊢
  simp only [andi_one, ori_one, noti_one, IntOp.cmpi, ofBool_one, BitVec.sle_iff_toInt_le, BitVec.slt_iff_toInt_lt,
    beq_iff_eq, not_and, not_or] at h
  have h15 : (15#32 : BitVec 32).toInt = 15 := by decide
  have h14 : (14#32 : BitVec 32).toInt = 14 := by decide
  have h0 : (0#32 : BitVec 32).toInt = 0 := by decide
  obtain ⟨⟨h1, h2⟩, h3⟩ := h
  refine ⟨by omega, ?_, fun hz hk6 => ?_⟩
  · rintro ⟨hz, hk'⟩
    have hz' : z = 7#32 ∨ z = 14#32 := hz.imp (fun q => BitVec.eq_of_toNat_eq q) (fun q => BitVec.eq_of_toNat_eq q)
    have := h2 hz'
    rcases hk' with q | q <;> rw [q] at this <;> simp at this
  · have := h3 ⟨hz, by rw [hk6]; rfl⟩
    omega

theorem size_nat (s e : BitVec 32) (hz : (size s e).toInt ≤ 15) :
    sizeW s e = size s e ∧ 1 ≤ (size s e).toNat ∧ (size s e).toNat ≤ 15 ∧ (size s e).toInt = (size s e).toNat := by
  have e1 := Tile.size_eq s e hz
  have b : 1 ≤ (size s e).toNat ∧ (size s e).toNat ≤ 15 := by
    have b' := Tile.sizeW_bounds s e
    rw [← e1] at b'
    exact b'
  have := BitVec.toInt_eq_toNat_cond (size s e)
  refine ⟨e1.symm, b.1, b.2, ?_⟩
  split at this <;> omega

theorem bin_int (k : Fin 7) : (BitVec.ofNat 32 k.val).toInt = (k.val : ℤ) := by revert k; decide

theorem lo_eq (s e : BitVec 32) (k : Fin 7) (hz : (size s e).toInt ≤ 15) :
    lo s e k = clip14 (IntOp.addi (tab tabLo k (sizeW s e)) s) := by
  obtain ⟨e1, b1, b2, e2⟩ := size_nat s e hz
  have hk := k.2
  unfold lo
  rw [e1]
  refine congrArg (fun x => clip14 (IntOp.addi x s)) ?_
  show Ideal.fptosi 32 (Ideal.liftRound Int.floor ((((BitVec.ofNat 32 k.val).toInt : ℝ) : EReal)
    * Ideal.div (((size s e).toInt : ℝ) : EReal) (Ideal.ofBits .f32 0x40E00000#32))) = _
  rw [Tile.seven, bin_int, e2]
  refine (Tile.floor_bin k.val (size s e).toNat hk b2).trans ?_
  unfold tab
  rw [Tile.tabLo_eq k ⟨min (size s e).toNat 15, by omega⟩ (by show 1 ≤ min _ 15; omega)]
  show _ = BitVec.ofNat 32 (k.val * min (size s e).toNat 15 / 7)
  rw [Nat.min_eq_left b2]

theorem hi_eq (s e : BitVec 32) (k : Fin 7) (hm : holdsW s e k = 1#1) :
    hi s e k = clip14 (IntOp.addi (tab tabHi k (sizeW s e)) s) := by
  obtain ⟨hz, hr, hx⟩ := holdsW_elim s e k hm
  obtain ⟨e1, b1, b2, e2⟩ := size_nat s e hz
  have hk := k.2
  unfold hi
  rw [e1]
  have er : FloatOps.fptosi 32 (FloatOps.hostUnary HostUnaryOp.ceil (FloatOps.mulf
      (FloatOps.addf (FloatOps.sitofp (F := Ideal) .f32 (BitVec.ofNat 32 k.val)) (FloatOps.ofBits .f32 0x3F800000#32))
      (FloatOps.hostDivf (FloatOps.sitofp (F := Ideal) .f32 (size s e)) (FloatOps.ofBits .f32 0x40E00000#32))))
      = BitVec.ofNat 32 (((k.val + 1) * (size s e).toNat + 6) / 7) := by
    show Ideal.fptosi 32 (Ideal.liftRound Int.ceil (((((BitVec.ofNat 32 k.val).toInt : ℝ) : EReal) + Ideal.ofBits .f32 0x3F800000#32)
      * Ideal.div (((size s e).toInt : ℝ) : EReal) (Ideal.ofBits .f32 0x40E00000#32))) = _
    rw [Tile.seven, Tile.one, bin_int, e2]
    exact Tile.ceil_bin k.val (size s e).toNat hk b2
  rw [er]
  unfold tab
  by_cases hc : k.val = 6 ∧ (size s e).toNat = 15
  · have hk6 : k = 6 := Fin.ext hc.1
    have hz15 : size s e = 15#32 := BitVec.eq_of_toNat_eq hc.2
    have hs := hx hz15 hk6
    have ht : tabHi (ix2 k ⟨min (size s e).toNat 15, by omega⟩) = 14#32 := by
      have q : ∀ (a : Fin 7) (j : Fin 16), a.val = 6 → j.val = 15 → tabHi (ix2 a j) = 14#32 := fun a j ha hj => by
        rw [show a = 6 from Fin.ext ha, show j = 15 from Fin.ext hj]
        exact Tile.tabHi_edge
      exact q _ _ hc.1 (by show min _ 15 = 15; omega)
    rw [ht, hz15, hk6]
    show clip14 (IntOp.addi 15#32 s) = clip14 (IntOp.addi 14#32 s)
    have c : ∀ a : BitVec 32, 14 ≤ a.toInt → clip14 a = 14#32 := fun a ha => by
      have h14 : (14#32 : BitVec 32).toInt = 14 := by decide
      have h0 : (0#32 : BitVec 32).toInt = 0 := by decide
      apply BitVec.eq_of_toInt_eq
      unfold clip14 IntOp.minsi IntOp.maxsi
      simp only [BitVec.sle_iff_toInt_le, BitVec.slt_iff_toInt_lt]
      split_ifs <;> omega
    have d : ∀ a : ℕ, a ≤ 15 → (IntOp.addi (BitVec.ofNat 32 a) s).toInt = a + s.toInt := fun a ha => by
      have q := BitVec.toInt_eq_toNat_cond (IntOp.addi (BitVec.ofNat 32 a) s)
      have q' := BitVec.toInt_eq_toNat_cond s
      have q'' : (IntOp.addi (BitVec.ofNat 32 a) s).toNat = ((BitVec.ofNat 32 a).toNat + s.toNat) % 2 ^ 32 := BitVec.toNat_add _ _
      rw [BitVec.toNat_ofNat] at q''
      have hsl := s.isLt
      split at q <;> split at q' <;> omega
    rw [c _ (by rw [show (15#32 : BitVec 32) = BitVec.ofNat 32 15 from rfl, d 15 (by omega)]; omega),
      c _ (by rw [show (14#32 : BitVec 32) = BitVec.ofNat 32 14 from rfl, d 14 (by omega)]; omega)]
  · have hmin : min (size s e).toNat 15 = (size s e).toNat := Nat.min_eq_left b2
    rw [Tile.tabHi_eq k ⟨min (size s e).toNat 15, by omega⟩ (by show 1 ≤ min _ 15; omega)
      (by show ¬ Tile.raised k.val (min _ 15); rw [hmin]; exact hr) (by show ¬ (k.val = 6 ∧ min _ 15 = 15); rw [hmin]; exact hc)]
    show _ = clip14 (IntOp.addi (BitVec.ofNat 32 (((k.val + 1) * min (size s e).toNat 15 + 6) / 7)) s)
    rw [hmin]

variable (V : Valuation τ sig (Elt Ideal)) (n : Fin 1000)

/-- The RoIs, of the reference's arguments. -/
abbrev rois : S1000x5.Idx → Ideal .f32 := V (Proc.devRef .tc main_arg1)

theorem v2_at : (res_main_v2 V : IVec S1000 32) (ix1 n) = bat (rois V) (ix1 n) := by
  unfold res_main_v2
  pointwise
  rfl

theorem v8_at : (res_main_v8 V : IVec S1000 32) (ix1 n) = cnv (rois V) 1 n := by
  unfold res_main_v8
  pointwise
  rfl

theorem v14_at : (res_main_v14 V : IVec S1000 32) (ix1 n) = cnv (rois V) 2 n := by
  unfold res_main_v14
  pointwise
  rfl

theorem v34_at : (res_main_v34 V : FVec Ideal S1000 .f32) (ix1 n)
    = FloatOps.hostDivf (FloatOps.sitofp (F := Ideal) .f32 (size (cnv (rois V) 1 n) (cnv (rois V) 3 n))) (FloatOps.ofBits .f32 0x40E00000#32) := by
  unfold res_main_v34
  pointwise
  rw [v8_at]
  rfl

theorem v42_at : (res_main_v42 V : FVec Ideal S1000 .f32) (ix1 n)
    = FloatOps.hostDivf (FloatOps.sitofp (F := Ideal) .f32 (size (cnv (rois V) 2 n) (cnv (rois V) 4 n))) (FloatOps.ofBits .f32 0x40E00000#32) := by
  unfold res_main_v42
  pointwise
  rw [v14_at]
  rfl

theorem v45_at (k : Fin 7) : (res_main_v45 V : FVec Ideal S1x7 .f32) (ix2 0 k) = FloatOps.sitofp (F := Ideal) .f32 (BitVec.ofNat 32 k.val) := by
  unfold res_main_v45
  pointwise

theorem v66_at (k : Fin 7) : (res_main_v66 V : IVec S1000x7 32) (ix2 n k) = lo (cnv (rois V) 2 n) (cnv (rois V) 4 n) k := by
  unfold res_main_v66
  pointwise
  rw [v42_at, v45_at, v14_at]
  rfl

theorem one_f32 : (FloatOps.ofBits (F := Ideal) .f32 0x3F800000#32 : EReal) = 1 := Tile.one.trans EReal.coe_one

theorem v67_at (k : Fin 7) : (res_main_v67 V : IVec S1000x7 32) (ix2 n k) = hi (cnv (rois V) 2 n) (cnv (rois V) 4 n) k := by
  unfold res_main_v67
  pointwise
  rw [v42_at, v45_at, v14_at]
  unfold hi
  rw [one_f32]
  rfl

theorem v88_at (k : Fin 7) : (res_main_v88 V : IVec S1000x7 32) (ix2 n k) = lo (cnv (rois V) 1 n) (cnv (rois V) 3 n) k := by
  unfold res_main_v88
  pointwise
  rw [v34_at, v45_at, v8_at]
  rfl

theorem v89_at (k : Fin 7) : (res_main_v89 V : IVec S1000x7 32) (ix2 n k) = hi (cnv (rois V) 1 n) (cnv (rois V) 3 n) k := by
  unfold res_main_v89
  pointwise
  rw [v34_at, v45_at, v8_at]
  unfold hi
  rw [one_f32]
  rfl

theorem mask_at (img : FVec Ideal S2x768x14x14 .f32) (A : S1000x5.Idx → Ideal .f32) (c : Fin 768) (h w : Fin 7) :
    Cert.On_tables_hold.fn (F := Ideal) img A (ix4 n c h w)
      = IntOp.andi (holdsW (cnv A 2 n) (cnv A 4 n) h) (holdsW (cnv A 1 n) (cnv A 3 n) w) := by
  unfold Cert.On_tables_hold.fn Cert.On_tables_hold.fn_part1 Cert.On_tables_hold.fn_part2 Cert.On_tables_hold.fn_part3
    Cert.On_tables_hold.fn_part4 Cert.On_tables_hold.fn_part5 Cert.On_tables_hold.fn_round
  dsimp only
  pointwise
  rfl

theorem pre_at (img : FVec Ideal S2x768x14x14 .f32) (A : S1000x5.Idx → Ideal .f32)
    (hp : Cert.Pre_batch_not_negative.fn (F := Ideal) img A = fun _ => 1#1) : 0 ≤ (bat A (ix1 n)).toInt := by
  have e := congrFun hp (ix1 n)
  revert e
  unfold Cert.Pre_batch_not_negative.fn
  dsimp only
  pointwise
  have h0 : (0#32 : BitVec 32).toInt = 0 := by decide
  intro e
  have e' : IntOp.cmpi .sge (bat A (ix1 n)) 0#32 = 1#1 := e
  generalize bat A (ix1 n) = b at e' ⊢
  simp only [IntOp.cmpi, ofBool_one, BitVec.sle_iff_toInt_le] at e'
  omega

end Cert.Proof.Ref
-- ==== Proof.Batch.lean ====
module

public import proofs.«01_k».proof.Proof.Params

@[expose] public section

/-! Where no batch number is negative, the rows the kernel takes over image 0 are those that name it: the sort puts
    them first, and the program counts them. -/

noncomputable section

namespace Cert.Proof.Tile

open Cert.KernelIdeal Cert.KernelIdeal.Gen
open Idealize.ShloMosaic

/-- A set of places that holds every place before one it holds is the first so many. -/
theorem mem_iff_lt_card {n : ℕ} (S : Finset (Fin n)) (h : ∀ a b : Fin n, a < b → b ∈ S → a ∈ S) (r : Fin n) :
    r ∈ S ↔ r.val < S.card := by
  constructor
  · intro hr
    have hs : Finset.Iic r ⊆ S := fun a ha => by
      rcases (Finset.mem_Iic.mp ha).lt_or_eq with hlt | rfl
      · exact h a r hlt hr
      · exact hr
    have := Finset.card_le_card hs
    rw [Fin.card_Iic] at this
    omega
  · intro hlt
    by_contra hr
    have hs : S ⊆ Finset.Iio r := fun a ha => by
      rw [Finset.mem_Iio]
      by_contra hge
      rcases (not_lt.mp hge).lt_or_eq with hlt' | rfl
      · exact hr (h r a hlt' ha)
      · exact hr ha
    have := Finset.card_le_card hs
    rw [Fin.card_Iio] at this
    omega

variable (b : S1000.Idx → BitVec 32)

/-- The rows that name image 0. -/
def zeros : Finset (Fin 1000) := Finset.univ.filter fun n => b (ix1 n) = 0#32

theorem zerosW_eq : zerosW b = BitVec.ofNat 32 (zeros b).card := by
  unfold zerosW
  have hx : ∀ i : Fin 1000, extui 32 (cmpi .eq b (fun _ => 0#32)) (by decide) (ix1 i)
      = BitVec.ofNat 32 ((fun n : ℕ => if h : n < 1000 then (if b (ix1 ⟨n, h⟩) = 0#32 then 1 else 0) else 0) i.val) := by
    intro i
    show BitVec.setWidth 32 (IntOp.cmpi .eq (b (ix1 i)) 0#32) = _
    dsimp only
    rw [dif_pos i.2]
    show BitVec.setWidth 32 (BitVec.ofBool (b (ix1 i) == 0#32)) = BitVec.ofNat 32 (if b (ix1 i) = 0#32 then 1 else 0)
    by_cases h : b (ix1 i) = 0#32
    · rw [if_pos h, h]; rfl
    · rw [if_neg h, beq_eq_false_iff_ne.mpr h]; rfl
  refine (Routing.reduce_sum (N := 1000) _ (fun n : ℕ => if h : n < 1000 then (if b (ix1 ⟨n, h⟩) = 0#32 then 1 else 0) else 0)
    (fun i => hx i) _ _).trans (congrArg (BitVec.ofNat 32) ?_)
  rw [← List.sum_toFinset _ (List.nodup_range), List.toFinset_range, Finset.sum_range]
  unfold zeros
  rw [Finset.card_filter]
  refine Finset.sum_congr rfl fun i _ => ?_
  rw [dif_pos i.2]

/-- The sort puts the rows that name image 0 first. -/
theorem srt_zero_iff (hb : ∀ n : Fin 1000, 0 ≤ (b (ix1 n)).toInt) (r : Fin 1000) :
    b (ix1 (srt b r)) = 0#32 ↔ r.val < (zeros b).card := by
  have zero : (0#32 : BitVec 32).toInt = 0 := by decide
  have less : ∀ x y : Fin 1000, (IntOp.cmpi .slt (b (ix1 x)) (b (ix1 y)) == 1#1) = true ↔ (b (ix1 x)).toInt < (b (ix1 y)).toInt := by
    intro x y
    rw [beq_iff_eq, ← BitVec.slt_iff_toInt_lt]
    show BitVec.ofBool ((b (ix1 x)).slt (b (ix1 y))) = 1#1 ↔ _
    cases (b (ix1 x)).slt (b (ix1 y)) <;> decide
  have key : ∀ i j : Fin 1000, i < j → b (ix1 (srt b j)) = 0#32 → b (ix1 (srt b i)) = 0#32 := by
    intro i j hij h0
    have h := sortedFrom_noInversion (fun k k' => IntOp.cmpi .slt (b (ix1 k)) (b (ix1 k')) == 1#1)
      (fun k k' => IntOp.cmpi .slt (b (ix1 k)) (b (ix1 k')) == 1#1)
      (fun x y h => by rw [less] at h; rw [← Bool.not_eq_true, less]; omega)
      (fun _ _ h => h)
      (fun x y z h h' => by rw [← Bool.not_eq_true, less] at h h' ⊢; omega)
      i j hij
    unfold srt at h0 ⊢
    rw [← Bool.not_eq_true, less, h0, zero] at h
    exact BitVec.eq_of_toInt_eq (by rw [zero]; have := hb (sortedFrom (fun k k' => IntOp.cmpi .slt (b (ix1 k)) (b (ix1 k')) == 1#1) i); omega)
  have hc : ((Finset.univ.filter fun r => b (ix1 (srt b r)) = 0#32) : Finset (Fin 1000)).card = (zeros b).card := by
    refine Finset.card_bij (fun r _ => srt b r) (fun r hr => ?_) (fun r _ r' _ e => (srt_bij b).1 e) (fun n hn => ?_)
    · exact Finset.mem_filter.mpr ⟨Finset.mem_univ _, (Finset.mem_filter.mp hr).2⟩
    · obtain ⟨r, rfl⟩ := (srt_bij b).2 n
      exact ⟨r, Finset.mem_filter.mpr ⟨Finset.mem_univ _, (Finset.mem_filter.mp hn).2⟩, rfl⟩
  have hm := mem_iff_lt_card ((Finset.univ.filter fun r => b (ix1 (srt b r)) = 0#32) : Finset (Fin 1000))
    (fun a c hac hc => Finset.mem_filter.mpr ⟨Finset.mem_univ _, key a c hac (Finset.mem_filter.mp hc).2⟩) r
  rw [hc] at hm
  rw [← hm, Finset.mem_filter]
  exact ⟨fun h => ⟨Finset.mem_univ _, h⟩, fun h => h.2⟩

variable {F : FTy → Type} [FloatOps F]
variable (m : (ℓ : Loc nD τ sig) → Buf (Elt F) ℓ) (d : Dev nD)

theorem tileNum_eq {t : ℕ} (ht : t < 32) : tileNum (tileAt t) (Pe m d) = zerosW (bat (roisOf m d)) := by
  have hw : wid (tileAt t) = t := by
    show 2 * (t / 2 % 16) + t % 2 = t
    omega
  unfold tileNum
  rw [tileRows_at (tileAt t) (Pe m d) (by omega) 7 1, hw, Nat.add_zero]
  by_cases h : 32 * t < 1000
  · exact (congrArg (Pe m d) (atQ_ix ⟨32 * t, by omega⟩ 7 1)).trans (Pe_count m d ⟨32 * t, h⟩)
  · omega

/-- Over which image the kernel takes sorted row `r`. -/
theorem first_iff (hb : ∀ n : Fin 1000, 0 ≤ (bat (roisOf m d) (ix1 n)).toInt) (r : Fin 1000) :
    r.val % 32 < firstRows (Pe m d) (r.val / 32) ↔ bat (roisOf m d) (ix1 (rowAt m d r)) = 0#32 := by
  have hr := r.2
  have hw : wid (tileAt (r.val / 32)) = r.val / 32 := by
    show 2 * (r.val / 32 / 2 % 16) + r.val / 32 % 2 = r.val / 32
    omega
  have hz : (zeros (bat (roisOf m d))).card ≤ 1000 := (Finset.card_le_univ _).trans_eq (Fintype.card_fin 1000)
  have hzn : (zerosW (bat (roisOf m d))).toNat = (zeros (bat (roisOf m d))).card := by
    rw [zerosW_eq, BitVec.toNat_ofNat, Nat.mod_eq_of_lt (by omega)]
  unfold firstRows
  rw [tileNum_eq m d (by omega), bnd_iff (tileAt (r.val / 32)) (by omega)
    (show r.val % 32 < min 32 (1000 - 32 * wid (tileAt (r.val / 32))) by rw [hw]; omega), hw, hzn,
    srt_zero_iff _ hb r]
  omega

end Cert.Proof.Tile
-- ==== Proof.Out.lean ====
module

public import proofs.«01_k».proof.Proof.Batch
public import proofs.«01_k».proof.Proof.Frames

@[expose] public section

/-! The kernel's result, entry by entry: the maximum of one RoI's bin over one channel of the image that the RoI names. -/

noncomputable section

namespace Cert.Proof.Tile

open Cert.KernelIdeal Cert.KernelIdeal.Gen
open Idealize.ShloMosaic Idealize.SL.Sem
open Idealize.ShloMosaic.StableHlo (after)

variable {F : FTy → Type} [FloatOps F]

/-- Image `b`'s channels of group `g`, the positions in one row. -/
def imgSlab (img : S2x768x14x14.Idx → F .f32) (b g : Fin 2) : S196x384.Idx → F .f32 := fun x =>
  have h0 : (x 0).val < 196 := (x 0).isLt
  have h1 : (x 1).val < 384 := (x 1).isLt
  img (ix4 b ⟨g * 384 + (x 1).val, by omega⟩ ⟨(x 0).val / 14, by omega⟩ ⟨(x 0).val % 14, by omega⟩)

/-- The image that RoI `n` names. -/
def imageOf (A : S1000x5.Idx → F .f32) (n : Fin 1000) : Fin 2 := if bat A (ix1 n) = 0#32 then 0 else 1

/-- One entry of the result. -/
def binOf (img : S2x768x14x14.Idx → F .f32) (A : S1000x5.Idx → F .f32) (n : Fin 1000) (c : Fin 768) (h w : Fin 7) : F .f32 :=
  blk (imgSlab img (imageOf A n) ⟨c / 384, by omega⟩) (hsW A n h) (heW A n h) (wsW A n w) (weW A n w) (c % 384 / 16) (lane (c % 384))

variable (m : (ℓ : Loc nD τ sig) → Buf (Elt F) ℓ) (d : Dev nD)

theorem slab_imgSlab (b g : Fin 2) : slab (Fe m d) b g = imgSlab (imgOf m d) b g := by
  funext x
  have h0 : (x 0).val < 196 := (x 0).isLt
  have h1 : (x 1).val < 384 := (x 1).isLt
  have e : at4 b g x = ix4 b g ⟨(x 0).val, h0⟩ ⟨(x 1).val, h1⟩ := by
    funext a
    match a with
    | ⟨0, _⟩ => exact Fin.ext (Nat.mod_eq_of_lt b.2)
    | ⟨1, _⟩ => exact Fin.ext (Nat.mod_eq_of_lt g.2)
    | ⟨2, _⟩ => rfl
    | ⟨3, _⟩ => rfl
  exact (congrArg (Fe m d) e).trans (Fe_at m d b g _ _)

theorem reshaped (n : Fin 1000) (c : Fin 768) (h w : Fin 7) :
    (V3 m (posD m) d (Proc.devRef .tc main_v134) : S1000x768x7x7.Idx → F .f32) (ix4 n c h w)
      = rowOut (Fe m d) (Pe m d) (posD m d n.val) (c * 49 + h * 7 + w) := by
  show (after [reshapeOp] (V2 m (posD m) d) (Proc.devRef .tc main_v134) : S1000x768x7x7.Idx → F .f32) (ix4 n c h w) = _
  unfold reshapeOp
  after_reads_at
  exact congrFun (V2_out m (posD m) d) _

/-- An entry of the result is its bin's maximum. -/
theorem out_at (hb : ∀ n : Fin 1000, 0 ≤ (bat (roisOf m d) (ix1 n)).toInt)
    (n : Fin 1000) (c : Fin 768) (h w : Fin 7) :
    (V3 m (posD m) d (Proc.devRef .tc main_v134) : S1000x768x7x7.Idx → F .f32) (ix4 n c h w)
      = binOf (imgOf m d) (roisOf m d) n c h w := by
  rw [reshaped]
  obtain ⟨r, hr, hn⟩ := srt_posOf (bat (roisOf m d)) n
  have hrow : rowAt m d r = n := hn
  have hc := c.2
  have hh := h.2
  have hw := w.2
  have hr' := r.2
  have q : ∀ (k : ℕ) (hk : k < 16), atQ r.val h.val k = ix3 ⟨r, by omega⟩ ⟨h, by omega⟩ ⟨k, hk⟩ := fun k hk =>
    atQ_ix ⟨r, by omega⟩ ⟨h, by omega⟩ ⟨k, hk⟩
  unfold rowOut
  rw [show posD m d n.val = r.val from hr]
  have hp : (c.val * 49 + h.val * 7 + w.val) / 18816 = c.val / 384 := by omega
  have hq : (c.val * 49 + h.val * 7 + w.val) % 18816 = c.val % 384 * 49 + h.val * 7 + w.val := by omega
  rw [hp, hq]
  unfold tgt
  rw [show (c.val % 384 * 49 + h.val * 7 + w.val) % 49 / 7 = h.val by omega,
    show (c.val % 384 * 49 + h.val * 7 + w.val) % 49 % 7 = w.val by omega,
    show (c.val % 384 * 49 + h.val * 7 + w.val) / 784 = c.val % 384 / 16 by omega,
    show (c.val % 384 * 49 + h.val * 7 + w.val) / 49 = c.val % 384 by omega]
  dsimp only
  rw [q 0 (by omega), q 1 (by omega), q (2 + w.val) (by omega), q (9 + w.val) (by omega)]
  have e0 : Pe m d (ix3 ⟨r, by omega⟩ ⟨h, by omega⟩ ⟨0, by omega⟩) = hsW (roisOf m d) n h := hrow ▸ Pe_hs m d r h
  have e1 : Pe m d (ix3 ⟨r, by omega⟩ ⟨h, by omega⟩ ⟨1, by omega⟩) = heW (roisOf m d) n h := hrow ▸ Pe_he m d r h
  have e2 : Pe m d (ix3 ⟨r, by omega⟩ ⟨h, by omega⟩ ⟨2 + w, by omega⟩) = wsW (roisOf m d) n w := hrow ▸ Pe_ws m d r h w
  have e3 : Pe m d (ix3 ⟨r, by omega⟩ ⟨h, by omega⟩ ⟨9 + w, by omega⟩) = weW (roisOf m d) n w := hrow ▸ Pe_we m d r h w
  rw [e0, e1, e2, e3]
  have hf := first_iff m d hb r
  rw [hrow] at hf
  have hs : slab (Fe m d) (if r.val % 32 < firstRows (Pe m d) (r.val / 32) then 0 else 1) (c.val / 384)
      = imgSlab (imgOf m d) (imageOf (roisOf m d) n) ⟨c / 384, by omega⟩ := by
    rw [← slab_imgSlab]
    unfold imageOf
    by_cases h0 : bat (roisOf m d) (ix1 n) = 0#32
    · rw [if_pos (hf.mpr h0), if_pos h0]; rfl
    · rw [if_neg (fun hlt => h0 (hf.mp hlt)), if_neg h0]; rfl
  rw [hs]
  rfl

end Cert.Proof.Tile
-- ==== Proof.Peak.lean ====
module

public import proofs.«01_k».proof.Proof.Out
public import Idealize.ShloMosaic.PureOps.Ideal

@[expose] public section

/-! The kernel's running maximum in the ideal floats: what it lies below. -/

noncomputable section

namespace Cert.Proof.Tile

open Cert.KernelIdeal Cert.KernelIdeal.Gen
open Idealize.ShloMosaic

/-- The start of every maximum, as an extended real. -/
abbrev lowest : EReal := Ideal.ofBits .f32 0xFF7FFFFF#32

theorem accW_le (f : S196x384.Idx → Ideal .f32) (j r c n : ℕ) (a : FVec Ideal S16 .f32) (l : S16.Idx) (z : EReal) :
    (accW f j r c n a l : EReal) ≤ z ↔ (a l : EReal) ≤ z ∧ ∀ k < n, (ldv f (r * 14 + (c + k)) j l : EReal) ≤ z := by
  induction n with
  | zero => exact ⟨fun h => ⟨h, fun k hk => absurd hk (Nat.not_lt_zero k)⟩, fun h => h.1⟩
  | succ n ih =>
    have e : (accW f j r c (n + 1) a l : EReal) = max (accW f j r c n a l : EReal) (ldv f (r * 14 + (c + n)) j l : EReal) := rfl
    rw [e, max_le_iff, ih]
    constructor
    · rintro ⟨⟨h1, h2⟩, h3⟩
      refine ⟨h1, fun k hk => ?_⟩
      rcases Nat.lt_succ_iff_lt_or_eq.mp hk with h | h
      · exact h2 k h
      · exact h ▸ h3
    · rintro ⟨h1, h2⟩
      exact ⟨⟨h1, fun k hk => h2 k (by omega)⟩, h2 n (by omega)⟩

theorem accH_le (f : S196x384.Idx → Ideal .f32) (j r c m n : ℕ) (l : S16.Idx) (z : EReal) :
    (accH f j r c m n l : EReal) ≤ z
      ↔ lowest ≤ z ∧ ∀ a < n, ∀ k < m, (ldv f ((r + a) * 14 + (c + k)) j l : EReal) ≤ z := by
  induction n with
  | zero => exact ⟨fun h => ⟨h, fun k hk => absurd hk (Nat.not_lt_zero k)⟩, fun h => h.1⟩
  | succ n ih =>
    have e : (accH f j r c m (n + 1) l : EReal) = accW f j (r + n) c m (accH f j r c m n) l := rfl
    rw [e, accW_le, ih]
    constructor
    · rintro ⟨⟨h1, h2⟩, h3⟩
      refine ⟨h1, fun a ha => ?_⟩
      rcases Nat.lt_succ_iff_lt_or_eq.mp ha with h | h
      · exact h2 a h
      · exact h ▸ h3
    · rintro ⟨h1, h2⟩
      exact ⟨⟨h1, fun a ha => h2 a (by omega)⟩, h2 n (by omega)⟩

/-- A load of the staged image at a position of the window. -/
theorem ldv_img (img : S2x768x14x14.Idx → Ideal .f32) (b : Fin 2) (c : Fin 768) (y x : Fin 14) :
    ldv (imgSlab img b ⟨c.val / 384, by omega⟩) (y.val * 14 + x.val) (c.val % 384 / 16) (lane (c.val % 384)) = img (ix4 b c y x) := by
  have hc := c.2
  have hy := y.2
  have hx := x.2
  unfold ldv imgSlab
  have e0 : (at2 (y.val * 14 + x.val) (16 * (c.val % 384 / 16) + (lane (c.val % 384) 0).val) 0).val = y.val * 14 + x.val :=
    Nat.mod_eq_of_lt (by omega)
  have e1 : (at2 (y.val * 14 + x.val) (16 * (c.val % 384 / 16) + (lane (c.val % 384) 0).val) 1).val = c.val % 384 := by
    show (16 * (c.val % 384 / 16) + c.val % 384 % 16) % 384 = _
    omega
  refine congrArg img ?_
  funext a
  match a with
  | ⟨0, _⟩ => rfl
  | ⟨1, _⟩ => exact Fin.ext (by show c.val / 384 * 384 + (at2 _ _ 1).val = c.val; rw [e1]; omega)
  | ⟨2, _⟩ => exact Fin.ext (by show (at2 _ _ 0).val / 14 = y.val; rw [e0]; omega)
  | ⟨3, _⟩ => exact Fin.ext (by show (at2 _ _ 0).val % 14 = x.val; rw [e0]; omega)

/-- A bin's maximum lies below what the start and every position of its window lie below. -/
theorem peak_le (img : S2x768x14x14.Idx → Ideal .f32) (b : Fin 2) (c : Fin 768) (hs he ws we : ℕ) (hh : he ≤ 14) (hw : we ≤ 14)
    (z : EReal) :
    (accH (imgSlab img b ⟨c.val / 384, by omega⟩) (c.val % 384 / 16) hs ws (we - ws) (he - hs) (lane (c.val % 384)) : EReal) ≤ z
      ↔ lowest ≤ z ∧ ∀ y x : Fin 14, hs ≤ y.val → y.val < he → ws ≤ x.val → x.val < we → (img (ix4 b c y x) : EReal) ≤ z := by
  rw [accH_le]
  refine and_congr_right fun _ => ⟨fun H y x h1 h2 h3 h4 => ?_, fun H a ha k hk => ?_⟩
  · have := H (y.val - hs) (by omega) (x.val - ws) (by omega)
    rw [show hs + (y.val - hs) = y.val by omega, show ws + (x.val - ws) = x.val by omega, ldv_img img b c y x] at this
    exact this
  · have := H ⟨hs + a, by omega⟩ ⟨ws + k, by omega⟩ (by simp) (by simp; omega) (by simp) (by simp; omega)
    rw [← ldv_img img b c] at this
    exact this

end Cert.Proof.Tile
-- ==== Proof.Agree.lean ====
module

public import proofs.«01_k».proof.Proof.RefBounds
public import proofs.«01_k».proof.Proof.Peak

@[expose] public section

/-! The two programs' results agree, entry by entry, where the mask holds. -/

noncomputable section

namespace Cert.Proof.Ref

open Cert.ReferenceIdeal Cert.ReferenceIdeal.Gen Cert.ReferenceIdeal.Value
open Idealize.ShloMosaic Idealize.SL.Sem
open Cert.Proof (accH lane blk)
open Cert.Proof.Tile (imgSlab cnv bat sizeW clip14 tab tabLo tabHi hsW heW wsW weW imageOf binOf lowest)

/-- A position lies in the window of two small bounds. -/
theorem between (a b : BitVec 32) (ha : a.toNat ≤ 14) (hb : b.toNat ≤ 14) (y : Fin 14) :
    IntOp.andi (IntOp.cmpi .sge (BitVec.ofNat 32 y.val) a) (IntOp.cmpi .slt (BitVec.ofNat 32 y.val) b) = 1#1
      ↔ a.toNat ≤ y.val ∧ y.val < b.toNat := by
  have hy := y.2
  have e1 := BitVec.toInt_eq_toNat_cond a
  have e2 := BitVec.toInt_eq_toNat_cond b
  have e3 := BitVec.toInt_eq_toNat_cond (BitVec.ofNat 32 y.val)
  have e4 : (BitVec.ofNat 32 y.val).toNat = y.val := by rw [BitVec.toNat_ofNat]; omega
  simp only [andi_one, IntOp.cmpi, ofBool_one, BitVec.sle_iff_toInt_le, BitVec.slt_iff_toInt_lt]
  split at e1 <;> split at e2 <;> split at e3 <;> omega

/-- A bin's window spans at most four rows. -/
theorem spans (s e : BitVec 32) (k : Fin 7) :
    (clip14 (IntOp.addi (tab tabHi k (sizeW s e)) s)).toNat ≤ (clip14 (IntOp.addi (tab tabLo k (sizeW s e)) s)).toNat + 4 := by
  unfold tab
  generalize (⟨min (sizeW s e).toNat 15, by omega⟩ : Fin 16) = z
  obtain ⟨h1, h2, h3⟩ := Tile.tab_near k z
  exact Tile.clip_near _ _ s h1 h2 h3

/-- The maximum over all positions, those outside of the window read as the lowest number, is the window's maximum. -/
theorem max_agree (img : S2x768x14x14.Idx → Ideal .f32) (rows : FVec Ideal S1000x768x14x14 .f32) (hs he ws we : IVec S1000x7 32)
    (n : Fin 1000) (c : Fin 768) (h w : Fin 7) (b : Fin 2) (hrows : ∀ y x, rows (ix4 n c y x) = img (ix4 b c y x))
    (h1 : (hs (ix2 n h)).toNat ≤ 14) (h2 : (he (ix2 n h)).toNat ≤ 14) (h3 : (ws (ix2 n w)).toNat ≤ 14) (h4 : (we (ix2 n w)).toNat ≤ 14)
    (hnear : (he (ix2 n h)).toNat ≤ (hs (ix2 n h)).toNat + 4) :
    (accH (imgSlab img b ⟨c.val / 384, by omega⟩) (c.val % 384 / 16) (hs (ix2 n h)).toNat (ws (ix2 n w)).toNat
        ((we (ix2 n w)).toNat - (ws (ix2 n w)).toNat) ((he (ix2 n h)).toNat - (hs (ix2 n h)).toNat) (lane (c.val % 384)) : EReal)
      = Host.reduce (FloatOps.maximumf (F := Ideal) (φ := .f32)) (shown rows hs he ws we) (constant (F := Ideal) S_ .f32 0xFF800000#32)
          reducesTo_S1000x768x7x7x14x14_S1000x768x7x7_d4_5 h_S_ (ix4 n c h w) := by
  refine eq_of_forall_ge_iff fun z => ?_
  rw [Tile.peak_le img b c _ _ _ _ h2 h4 z]
  refine Iff.trans ?_ (reduce_le (shown rows hs he ws we) n c h w z).symm
  have inside_iff : ∀ y x : Fin 14, inside hs he ws we (ix6 n c h w y x) = 1#1
      ↔ ((hs (ix2 n h)).toNat ≤ y.val ∧ y.val < (he (ix2 n h)).toNat) ∧ ((ws (ix2 n w)).toNat ≤ x.val ∧ x.val < (we (ix2 n w)).toNat) :=
    fun y x => by rw [inside_at, andi_one, between _ _ h1 h2, between _ _ h3 h4]
  have at_in : ∀ y x : Fin 14, inside hs he ws we (ix6 n c h w y x) = 1#1 →
      (shown rows hs he ws we (ix6 n c h w y x) : EReal) = img (ix4 b c y x) := fun y x hy => by
    rw [shown_at, hy, ← hrows y x]; rfl
  have at_out : ∀ y x : Fin 14, ¬ inside hs he ws we (ix6 n c h w y x) = 1#1 →
      (shown rows hs he ws we (ix6 n c h w y x) : EReal) = lowest := fun y x hy => by
    rw [shown_at]; exact if_neg hy
  constructor
  · rintro ⟨hl, H⟩ y x
    by_cases hy : inside hs he ws we (ix6 n c h w y x) = 1#1
    · rw [at_in y x hy]
      obtain ⟨⟨a1, a2⟩, a3, a4⟩ := (inside_iff y x).mp hy
      exact H y x a1 a2 a3 a4
    · rw [at_out y x hy]; exact hl
  · intro H
    refine ⟨?_, fun y x a1 a2 a3 a4 => ?_⟩
    · have out : ∃ y : Fin 14, ¬ ((hs (ix2 n h)).toNat ≤ y.val ∧ y.val < (he (ix2 n h)).toNat) := by
        by_cases h0 : (hs (ix2 n h)).toNat = 0
        · exact ⟨13, fun q => by have := q.2; rw [show ((13 : Fin 14)).val = 13 from rfl] at this; omega⟩
        · exact ⟨0, fun q => by have := q.1; rw [show ((0 : Fin 14)).val = 0 from rfl] at this; omega⟩
      obtain ⟨y, hy⟩ := out
      have := H y 0
      rwa [at_out y 0 fun q => hy ((inside_iff y 0).mp q).1] at this
    · have hy := (inside_iff y x).mpr ⟨⟨a1, a2⟩, a3, a4⟩
      have := H y x
      rwa [at_in y x hy] at this

/-- The image that RoI `n` names, as the reference reads it. -/
theorem rows_at (V : Valuation τ sig (Elt Ideal)) (img : FVec Ideal S2x768x14x14 .f32) (n : Fin 1000)
    (hb : 0 ≤ (bat (rois V) (ix1 n)).toInt) (c : Fin 768) (y x : Fin 14) :
    Host.gather gather_S2x768x14x14_S1000x1_S1000x768x14x14_123_0_n_n_0_1_17681414 img
      (broadcastInDim S1000x1 ![0] bcast_S1000_S1000x1_0
        (select (cmpi .slt (res_main_v2 V) (broadcastInDim S1000 ![] bcast_S_S1000 (constantI S_ 32 0#32)))
          (addi (res_main_v2 V) (broadcastInDim S1000 ![] bcast_S_S1000 (constantI S_ 32 2#32))) (res_main_v2 V))) (ix4 n c y x)
      = img (ix4 (imageOf (rois V) n) c y x) := by
  refine gather_at img _ n c y x _ ?_
  pointwise
  rw [v2_at]
  unfold imageOf
  generalize bat (rois V) (ix1 n) = b at hb ⊢
  have zero : (0#32 : BitVec 32).toInt = 0 := by decide
  rw [show Scalar.select (IntOp.cmpi .slt b 0#32) (IntOp.addi b 2#32) b = b from if_neg fun q => by
    have q' := (ofBool_one (b.slt 0#32)).mp q
    rw [BitVec.slt_iff_toInt_lt, zero] at q'
    omega]
  by_cases h : b = 0#32
  · rw [h]; rfl
  · rw [if_neg h]
    have : b.toInt ≠ 0 := fun q => h (BitVec.eq_of_toInt_eq (q.trans zero.symm))
    show min b.toInt.toNat 1 = 1
    omega

/-- Where the mask holds, the kernel's entry is the reference's. -/
theorem agree (V : Valuation τ sig (Elt Ideal)) (n : Fin 1000) (c : Fin 768) (h w : Fin 7)
    (hb : 0 ≤ (bat (rois V) (ix1 n)).toInt)
    (hm : IntOp.andi (holdsW (cnv (rois V) 2 n) (cnv (rois V) 4 n) h) (holdsW (cnv (rois V) 1 n) (cnv (rois V) 3 n) w) = 1#1) :
    binOf (V (Proc.devRef .tc main_arg0)) (rois V) n c h w
      = outRef (Host.gather gather_S2x768x14x14_S1000x1_S1000x768x14x14_123_0_n_n_0_1_17681414 (V (Proc.devRef .tc main_arg0))
          (broadcastInDim S1000x1 ![0] bcast_S1000_S1000x1_0
            (select (cmpi .slt (res_main_v2 V) (broadcastInDim S1000 ![] bcast_S_S1000 (constantI S_ 32 0#32)))
              (addi (res_main_v2 V) (broadcastInDim S1000 ![] bcast_S_S1000 (constantI S_ 32 2#32))) (res_main_v2 V))))
          (res_main_v66 V) (res_main_v67 V) (res_main_v88 V) (res_main_v89 V) (ix4 n c h w) := by
  obtain ⟨mh, mw⟩ := (andi_one _ _).mp hm
  have e66 : (res_main_v66 V : IVec S1000x7 32) (ix2 n h) = hsW (rois V) n h := (v66_at V n h).trans (lo_eq _ _ h (holdsW_elim _ _ h mh).1)
  have e67 : (res_main_v67 V : IVec S1000x7 32) (ix2 n h) = heW (rois V) n h := (v67_at V n h).trans (hi_eq _ _ h mh)
  have e88 : (res_main_v88 V : IVec S1000x7 32) (ix2 n w) = wsW (rois V) n w := (v88_at V n w).trans (lo_eq _ _ w (holdsW_elim _ _ w mw).1)
  have e89 : (res_main_v89 V : IVec S1000x7 32) (ix2 n w) = weW (rois V) n w := (v89_at V n w).trans (hi_eq _ _ w mw)
  rw [outRef_at, e66, e67, e88, e89]
  unfold binOf blk
  by_cases hc : IntOp.ori (IntOp.cmpi .sle (heW (rois V) n h) (hsW (rois V) n h)) (IntOp.cmpi .sle (weW (rois V) n w) (wsW (rois V) n w)) = 1#1
  · have ek : ∀ a b : FVec Ideal Cert.KernelIdeal.S16 .f32,
        Scalar.select (Scalar.ori (Scalar.cmpi .sle (heW (rois V) n h) (hsW (rois V) n h)) (Scalar.cmpi .sle (weW (rois V) n w) (wsW (rois V) n w))) a b = a :=
      fun a b => if_pos hc
    have er : ∀ a b : Ideal .f32,
        Scalar.select (IntOp.ori (IntOp.cmpi .sle (heW (rois V) n h) (hsW (rois V) n h)) (IntOp.cmpi .sle (weW (rois V) n w) (wsW (rois V) n w))) a b = a :=
      fun a b => if_pos hc
    rw [ek, er]
    rfl
  · have ek : ∀ a b : FVec Ideal Cert.KernelIdeal.S16 .f32,
        Scalar.select (Scalar.ori (Scalar.cmpi .sle (heW (rois V) n h) (hsW (rois V) n h)) (Scalar.cmpi .sle (weW (rois V) n w) (wsW (rois V) n w))) a b = b :=
      fun a b => if_neg hc
    have er : ∀ a b : Ideal .f32,
        Scalar.select (IntOp.ori (IntOp.cmpi .sle (heW (rois V) n h) (hsW (rois V) n h)) (IntOp.cmpi .sle (weW (rois V) n w) (wsW (rois V) n w))) a b = b :=
      fun a b => if_neg hc
    rw [ek, er]
    have hmax := max_agree (V (Proc.devRef .tc main_arg0)) _ (res_main_v66 V) (res_main_v67 V) (res_main_v88 V) (res_main_v89 V) n c h w
      (imageOf (rois V) n) (fun y x => rows_at V (V (Proc.devRef .tc main_arg0)) n hb c y x)
      (e66 ▸ Tile.clip14_le _) (e67 ▸ Tile.clip14_le _) (e88 ▸ Tile.clip14_le _) (e89 ▸ Tile.clip14_le _)
      (by rw [e66, e67]; exact spans _ _ h)
    rw [e66, e67, e88, e89] at hmax
    exact hmax

end Cert.Proof.Ref
-- ==== Proof.Value.lean ====
module

public import proofs.«01_k».proof.Proof.Agree
public import proofs.«01_k».proof.Proof.Frames

@[expose] public section

/-! The value claim: where the mask holds, the two programs' results are equal as real numbers. -/

noncomputable section

namespace Cert.Proof.Ref

open Cert.ReferenceIdeal Cert.ReferenceIdeal.Gen Cert.ReferenceIdeal.Value
open Idealize.ShloMosaic Idealize.ShloMosaic.StableHlo Idealize.SL.Sem
open Cert.Proof.Tile (V3 posD imgOf roisOf run_main paramsOk V3_arg0 V3_arg1 bat binOf)

/-- An index of the result from its four coordinates. -/
theorem ix4_eta (i : S1000x768x7x7.Idx) : i = ix4 (i 0) (i 1) (i 2) (i 3) := by
  funext a
  match a with
  | ⟨0, _⟩ => rfl
  | ⟨1, _⟩ => rfl
  | ⟨2, _⟩ => rfl
  | ⟨3, _⟩ => rfl

/-- Where the mask holds, the reference's result is the kernel's bin. -/
theorem masked (V : Valuation τ sig (Elt Ideal))
    (hp : Cert.Pre_batch_not_negative.fn (F := Ideal) (V (Proc.devRef .tc main_arg0)) (rois V) = fun _ => 1#1)
    (n : Fin 1000) (c : Fin 768) (h w : Fin 7)
    (hm : Cert.On_tables_hold.fn (F := Ideal) (V (Proc.devRef .tc main_arg0)) (rois V) (ix4 n c h w) = 1#1) :
    outRef (Host.gather gather_S2x768x14x14_S1000x1_S1000x768x14x14_123_0_n_n_0_1_17681414
        (V (Proc.devRef .tc main_arg0) : FVec Ideal S2x768x14x14 .f32)
        (broadcastInDim S1000x1 ![0] bcast_S1000_S1000x1_0
          (select (cmpi .slt (res_main_v2 V) (broadcastInDim S1000 ![] bcast_S_S1000 (constantI S_ 32 0#32)))
            (addi (res_main_v2 V) (broadcastInDim S1000 ![] bcast_S_S1000 (constantI S_ 32 2#32))) (res_main_v2 V))))
        (res_main_v66 V) (res_main_v67 V) (res_main_v88 V) (res_main_v89 V) (ix4 n c h w)
      = binOf (V (Proc.devRef .tc main_arg0)) (rois V) n c h w :=
  (agree V n c h w (pre_at n _ _ hp) ((mask_at n _ _ c h w).symm.trans hm)).symm

theorem algebraic : Cert.algebraic_KernelIdeal_ReferenceIdeal_on_tables_hold_pre_batch_not_negative := by
  intro m g m' g' hp hargs
  refine ⟨fun c => V3 m (posD m) c (Proc.devRef .tc Cert.KernelIdeal.main_v134), ?_, ?_⟩
  · refine (θ_run Cert.KernelIdeal.defs _ _).mono (fun r h c => ?_) (run_main (F := Ideal) m g (posD m) fun d => paramsOk m d)
    exact ⟨fun i _ => congrFun (h.1 c).2.2 i, (h.1 c).1.trans (V3_arg0 m c _), (h.1 c).2.1.trans (V3_arg1 m c _)⟩
  · refine (θ_run Cert.ReferenceIdeal.defs _ _).mono (fun r h c => ?_) (Cert.ReferenceIdeal.Value.run (F := Ideal) m' g')
    refine ⟨fun i hi => ?_, (h c).2⟩
    have e0 : (launchContents m' c (Proc.devRef .tc main_arg0) : FVec Ideal S2x768x14x14 .f32) = imgOf m c := (hargs c).1
    have e1 : rois (launchContents m' c) = roisOf m c := (hargs c).2
    have hp' : Cert.Pre_batch_not_negative.fn (F := Ideal) (imgOf m c) (roisOf m c) = fun _ => 1#1 := hp c
    have hi' : Cert.On_tables_hold.fn (F := Ideal) (imgOf m c) (roisOf m c) i = 1#1 := hi
    obtain ⟨n, k, x, y, rfl⟩ : ∃ (n : Fin 1000) (k : Fin 768) (x y : Fin 7), i = ix4 n k x y := ⟨i 0, i 1, i 2, i 3, ix4_eta i⟩
    have kern := Tile.out_at m c (fun n => pre_at n (imgOf m c) (roisOf m c) hp') n k x y
    have refr := masked (launchContents m' c) ((congrArg₂ (Cert.Pre_batch_not_negative.fn (F := Ideal)) e0 e1).trans hp') n k x y ((congrFun (congrArg₂ (Cert.On_tables_hold.fn (F := Ideal)) e0 e1) _).trans hi')
    refine (congrFun (h c).1 _).trans (Eq.trans (congrFun ?_ _) (refr.trans ((congrArg₂ (fun I A => binOf I A n k x y) e0 e1).trans kern.symm)))
    unfold outRef shown inside res_main_v90
    with_reducible rfl

end Cert.Proof.Ref
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_batch_not_negative
public import proofs.«01_k».proof.Proof.Gen.On_tables_hold
public import proofs.«01_k».proof.Proof.FrameBits
public import proofs.«01_k».proof.Proof.RefFrame
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_batch_not_negative.Gen.facts,
    Cert.On_tables_hold.Gen.facts, Tile.frame_kernel, Tile.frame_kernelideal,
    fun m g _ => Tile.frame_kernelideal m g trivial, Ref.frame_referenceideal,
    fun m g _ => Ref.frame_referenceideal m g trivial, trivial, Ref.algebraic⟩

end Cert.Proof

end
